-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_classes [hPre_classes : Cert.Pre_classes.Facts] (m : (ℓ : Loc Cert.KernelIdeal.nD Cert.KernelIdeal.τ Cert.KernelIdeal.sig) → Buf (Elt Ideal) ℓ) : Prop :=
  ∀ c : Dev Cert.KernelIdeal.nD,
    (Cert.Pre_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes [hPre_classes : Cert.Pre_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_classes [hKernelIdeal : Cert.KernelIdeal.Facts] [hPre_classes : Cert.Pre_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_classes [hReferenceIdeal : Cert.ReferenceIdeal.Facts] [hPre_classes : Cert.Pre_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_step" .f32 0x40A00000#32 ((67108864 / 13421773 : ℝ) : EReal)

def algebraic_KernelIdeal_ReferenceIdeal_pre_classes [hKernelIdeal : Cert.KernelIdeal.Facts] [hReferenceIdeal : Cert.ReferenceIdeal.Facts] [hPre_classes : Cert.Pre_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_classes : Cert.Pre_classes.Facts),
    quiescent_Kernel (hKernel := hKernel)
    ∧ quiescent_KernelIdeal (hKernelIdeal := hKernelIdeal)
    ∧ quiescent_KernelIdeal_pre_classes (hKernelIdeal := hKernelIdeal) (hPre_classes := hPre_classes)
    ∧ quiescent_ReferenceIdeal (hReferenceIdeal := hReferenceIdeal)
    ∧ quiescent_ReferenceIdeal_pre_classes (hReferenceIdeal := hReferenceIdeal) (hPre_classes := hPre_classes)
    ∧ preserves_Kernel_KernelIdeal
    ∧ algebraic_KernelIdeal_ReferenceIdeal_pre_classes (hKernelIdeal := hKernelIdeal) (hReferenceIdeal := hReferenceIdeal) (hPre_classes := hPre_classes)
-- ==== Pre_classes.lean ====
abbrev S8x32768 : Shape := ⟨2, ![8, 32768]⟩
abbrev S32768x4 : Shape := ⟨2, ![32768, 4]⟩
abbrev S_ : Shape := ⟨0, ![]⟩

class Facts : Prop where
  bcast_S_S8x32768 : S_.BroadcastsInDim S8x32768 (![] : Fin 0 → Fin S8x32768.rank)
  reducesTo_S8x32768_S_d0_1 : S8x32768.ReducesTo [0, 1] S_
  h_S_ : 0 < S_.numel

variable [Facts]

def fn {F : FTy → Type} [FloatOps F] (main_arg0 : IVec S8x32768 32) (main_arg1 : FVec F S32768x4 .f32) : IVec S_ 1 :=
  let main_c : IVec S_ 32 := constantI S_ 32 0#32
  let main_v0 : IVec S8x32768 32 := broadcastInDim S8x32768 ![] bcast_S_S8x32768 main_c
  let main_v1 : IVec S8x32768 1 := cmpi .sge main_arg0 main_v0
  let main_c_0 : IVec S_ 32 := constantI S_ 32 3#32
  let main_v2 : IVec S8x32768 32 := broadcastInDim S8x32768 ![] bcast_S_S8x32768 main_c_0
  let main_v3 : IVec S8x32768 1 := cmpi .sle main_arg0 main_v2
  let main_v4 : IVec S8x32768 1 := andi main_v1 main_v3
  let main_c_1 : IVec S_ 1 := constantI S_ 1 1#1
  let main_v5 : IVec S_ 1 := (fun x v => Host.reduce IntOp.andi x v reducesTo_S8x32768_S_d0_1 h_S_) main_v4 main_c_1
  main_v5
-- ==== Kernel.lean ====
abbrev S8x32768 : Shape := ⟨2, ![8, 32768]⟩
abbrev S32768x4 : Shape := ⟨2, ![32768, 4]⟩
abbrev S_ : Shape := ⟨0, ![]⟩
abbrev S1 : Shape := ⟨1, ![1]⟩
abbrev S2 : Shape := ⟨1, ![2]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S1x1x1 : Shape := ⟨3, ![1, 1, 1]⟩
abbrev S8x32768x4 : Shape := ⟨3, ![8, 32768, 4]⟩
abbrev S8 : Shape := ⟨1, ![8]⟩
abbrev S1x8x32768x4 : Shape := ⟨4, ![1, 8, 32768, 4]⟩
abbrev S10x8x32768x4 : Shape := ⟨4, ![10, 8, 32768, 4]⟩
abbrev S10x4x8x32768 : Shape := ⟨4, ![10, 4, 8, 32768]⟩
abbrev S1x8 : Shape := ⟨2, ![1, 8]⟩
abbrev S10x8 : Shape := ⟨2, ![10, 8]⟩
abbrev S10x8x1 : Shape := ⟨3, ![10, 8, 1]⟩
abbrev S4x32768 : Shape := ⟨2, ![4, 32768]⟩
abbrev S1x4x8x32768 : Shape := ⟨4, ![1, 4, 8, 32768]⟩
abbrev S1x8x1 : Shape := ⟨3, ![1, 8, 1]⟩
abbrev S1x32768 : Shape := ⟨2, ![1, 32768]⟩
abbrev S8x1 : Shape := ⟨2, ![8, 1]⟩
abbrev S1x1x8x32768 : Shape := ⟨4, ![1, 1, 8, 32768]⟩
abbrev S1x1 : Shape := ⟨2, ![1, 1]⟩

abbrev nBuf : Space → Nat
  | .hbm => 7791
  | .vmem => 7
  | .smem => 0
  | _ => 0

abbrev hbmTy0_0 (i : Nat) : BufTy := match i % 128 with
  | 0 => ⟨S8x32768, .i32⟩
  | 1 => ⟨S32768x4, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S3, .i64⟩
  | 17 => ⟨S_, .i64⟩
  | 18 => ⟨S3, .i64⟩
  | 19 => ⟨S3, .i64⟩
  | 20 => ⟨S_, .i64⟩
  | 21 => ⟨S3, .i64⟩
  | 22 => ⟨S3, .i64⟩
  | 23 => ⟨S3, .i32⟩
  | 24 => ⟨S3, .i32⟩
  | 25 => ⟨S_, .i32⟩
  | 26 => ⟨S_, .i32⟩
  | 27 => ⟨S_, .i32⟩
  | 28 => ⟨S3, .i32⟩
  | 29 => ⟨S3, .i32⟩
  | 30 => ⟨S3, .i32⟩
  | 31 => ⟨S3, .i32⟩
  | 32 => ⟨S3, .i32⟩
  | 33 => ⟨S_, .i32⟩
  | 34 => ⟨S3, .i32⟩
  | 35 => ⟨S3, .i32⟩
  | 36 => ⟨S_, .i32⟩
  | 37 => ⟨S3, .i32⟩
  | 38 => ⟨S3, .i32⟩
  | 39 => ⟨S3, .i32⟩
  | 40 => ⟨S3, .i32⟩
  | 41 => ⟨S3, .i32⟩
  | 42 => ⟨S_, .i32⟩
  | 43 => ⟨S3, .i32⟩
  | 44 => ⟨S3, .i32⟩
  | 45 => ⟨S_, .i32⟩
  | 46 => ⟨S3, .i32⟩
  | 47 => ⟨S3, .i32⟩
  | 48 => ⟨S3, .i32⟩
  | 49 => ⟨S3, .i32⟩
  | 50 => ⟨S3, .i32⟩
  | 51 => ⟨S_, .i32⟩
  | 52 => ⟨S3, .i32⟩
  | 53 => ⟨S3, .i32⟩
  | 54 => ⟨S_, .i32⟩
  | 55 => ⟨S3, .i32⟩
  | 56 => ⟨S3, .i32⟩
  | 57 => ⟨S3, .i32⟩
  | 58 => ⟨S3, .i32⟩
  | 59 => ⟨S3, .i32⟩
  | 60 => ⟨S_, .i32⟩
  | 61 => ⟨S3, .i32⟩
  | 62 => ⟨S3, .i32⟩
  | 63 => ⟨S_, .i32⟩
  | 64 => ⟨S3, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S3, .i32⟩
  | 76 => ⟨S_, .i32⟩
  | 77 => ⟨S3, .i32⟩
  | 78 => ⟨S3, .i32⟩
  | 79 => ⟨S_, .i32⟩
  | 80 => ⟨S3, .i32⟩
  | 81 => ⟨S3, .i32⟩
  | 82 => ⟨S3, .i32⟩
  | 83 => ⟨S3, .i32⟩
  | 84 => ⟨S3, .i32⟩
  | 85 => ⟨S_, .i32⟩
  | 86 => ⟨S3, .i32⟩
  | 87 => ⟨S3, .i32⟩
  | 88 => ⟨S_, .i32⟩
  | 89 => ⟨S3, .i32⟩
  | 90 => ⟨S3, .i32⟩
  | 91 => ⟨S3, .i32⟩
  | 92 => ⟨S3, .i32⟩
  | 93 => ⟨S3, .i32⟩
  | 94 => ⟨S_, .i32⟩
  | 95 => ⟨S3, .i32⟩
  | 96 => ⟨S3, .i32⟩
  | 97 => ⟨S_, .i32⟩
  | 98 => ⟨S3, .i32⟩
  | 99 => ⟨S3, .i32⟩
  | 100 => ⟨S3, .i32⟩
  | 101 => ⟨S3, .i32⟩
  | 102 => ⟨S3, .i32⟩
  | 103 => ⟨S_, .i32⟩
  | 104 => ⟨S3, .i32⟩
  | 105 => ⟨S3, .i32⟩
  | 106 => ⟨S_, .i32⟩
  | 107 => ⟨S3, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S3, .i32⟩
  | 119 => ⟨S_, .i32⟩
  | 120 => ⟨S3, .i32⟩
  | 121 => ⟨S3, .i32⟩
  | 122 => ⟨S_, .i32⟩
  | 123 => ⟨S3, .i32⟩
  | 124 => ⟨S3, .i32⟩
  | 125 => ⟨S3, .i32⟩
  | 126 => ⟨S3, .i32⟩
  | 127 => ⟨S3, .i32⟩
  | _ => ⟨S8x32768, .i32⟩

abbrev hbmTy0_1 (i : Nat) : BufTy := match i % 128 with
  | 0 => ⟨S_, .i32⟩
  | 1 => ⟨S3, .i32⟩
  | 2 => ⟨S3, .i32⟩
  | 3 => ⟨S_, .i32⟩
  | 4 => ⟨S3, .i32⟩
  | 5 => ⟨S3, .i32⟩
  | 6 => ⟨S3, .i32⟩
  | 7 => ⟨S3, .i32⟩
  | 8 => ⟨S3, .i32⟩
  | 9 => ⟨S_, .i32⟩
  | 10 => ⟨S3, .i32⟩
  | 11 => ⟨S3, .i32⟩
  | 12 => ⟨S_, .i32⟩
  | 13 => ⟨S3, .i32⟩
  | 14 => ⟨S3, .i32⟩
  | 15 => ⟨S3, .i32⟩
  | 16 => ⟨S3, .i32⟩
  | 17 => ⟨S3, .i32⟩
  | 18 => ⟨S_, .i32⟩
  | 19 => ⟨S3, .i32⟩
  | 20 => ⟨S3, .i32⟩
  | 21 => ⟨S_, .i32⟩
  | 22 => ⟨S3, .i32⟩
  | 23 => ⟨S3, .i32⟩
  | 24 => ⟨S3, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S3, .i32⟩
  | 34 => ⟨S_, .i32⟩
  | 35 => ⟨S3, .i32⟩
  | 36 => ⟨S3, .i32⟩
  | 37 => ⟨S_, .i32⟩
  | 38 => ⟨S3, .i32⟩
  | 39 => ⟨S3, .i32⟩
  | 40 => ⟨S3, .i32⟩
  | 41 => ⟨S3, .i32⟩
  | 42 => ⟨S3, .i32⟩
  | 43 => ⟨S_, .i32⟩
  | 44 => ⟨S3, .i32⟩
  | 45 => ⟨S3, .i32⟩
  | 46 => ⟨S_, .i32⟩
  | 47 => ⟨S3, .i32⟩
  | 48 => ⟨S3, .i32⟩
  | 49 => ⟨S3, .i32⟩
  | 50 => ⟨S3, .i32⟩
  | 51 => ⟨S3, .i32⟩
  | 52 => ⟨S_, .i32⟩
  | 53 => ⟨S3, .i32⟩
  | 54 => ⟨S3, .i32⟩
  | 55 => ⟨S_, .i32⟩
  | 56 => ⟨S3, .i32⟩
  | 57 => ⟨S3, .i32⟩
  | 58 => ⟨S3, .i32⟩
  | 59 => ⟨S3, .i32⟩
  | 60 => ⟨S3, .i32⟩
  | 61 => ⟨S_, .i32⟩
  | 62 => ⟨S3, .i32⟩
  | 63 => ⟨S3, .i32⟩
  | 64 => ⟨S_, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S3, .i32⟩
  | 77 => ⟨S_, .i32⟩
  | 78 => ⟨S3, .i32⟩
  | 79 => ⟨S3, .i32⟩
  | 80 => ⟨S_, .i32⟩
  | 81 => ⟨S3, .i32⟩
  | 82 => ⟨S3, .i32⟩
  | 83 => ⟨S3, .i32⟩
  | 84 => ⟨S3, .i32⟩
  | 85 => ⟨S3, .i32⟩
  | 86 => ⟨S_, .i32⟩
  | 87 => ⟨S3, .i32⟩
  | 88 => ⟨S3, .i32⟩
  | 89 => ⟨S_, .i32⟩
  | 90 => ⟨S3, .i32⟩
  | 91 => ⟨S3, .i32⟩
  | 92 => ⟨S3, .i32⟩
  | 93 => ⟨S3, .i32⟩
  | 94 => ⟨S3, .i32⟩
  | 95 => ⟨S_, .i32⟩
  | 96 => ⟨S3, .i32⟩
  | 97 => ⟨S3, .i32⟩
  | 98 => ⟨S_, .i32⟩
  | 99 => ⟨S3, .i32⟩
  | 100 => ⟨S3, .i32⟩
  | 101 => ⟨S3, .i32⟩
  | 102 => ⟨S3, .i32⟩
  | 103 => ⟨S3, .i32⟩
  | 104 => ⟨S_, .i32⟩
  | 105 => ⟨S3, .i32⟩
  | 106 => ⟨S3, .i32⟩
  | 107 => ⟨S_, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S3x1, .i32⟩
  | 120 => ⟨S3x1, .i32⟩
  | 121 => ⟨S3x2, .i32⟩
  | 122 => ⟨S1x2, .i32⟩
  | 123 => ⟨S2, .i32⟩
  | 124 => ⟨S1x2, .i32⟩
  | 125 => ⟨S2, .i32⟩
  | 126 => ⟨S1x2, .i32⟩
  | 127 => ⟨S2, .i32⟩
  | _ => ⟨S8x32768, .i32⟩

abbrev hbmTy0_2 (i : Nat) : BufTy := match i % 128 with
  | 0 => ⟨S_, .f32⟩
  | 1 => ⟨S_, .f32⟩
  | 2 => ⟨S_, .f32⟩
  | 3 => ⟨S1x1x1, .f32⟩
  | 4 => ⟨S1x1x1, .f32⟩
  | 5 => ⟨S1, .i32⟩
  | 6 => ⟨S_, .i32⟩
  | 7 => ⟨S1, .i32⟩
  | 8 => ⟨S_, .i32⟩
  | 9 => ⟨S8x32768x4, .i64⟩
  | 10 => ⟨S8x32768x4, .i64⟩
  | 11 => ⟨S8x32768x4, .i64⟩
  | 12 => ⟨S_, .i64⟩
  | 13 => ⟨S8x32768x4, .i64⟩
  | 14 => ⟨S8x32768x4, .i64⟩
  | 15 => ⟨S_, .i64⟩
  | 16 => ⟨S8x32768x4, .i64⟩
  | 17 => ⟨S8x32768x4, .i64⟩
  | 18 => ⟨S_, .i64⟩
  | 19 => ⟨S8x32768x4, .i64⟩
  | 20 => ⟨S8x32768x4, .i64⟩
  | 21 => ⟨S8x32768x4, .i64⟩
  | 22 => ⟨S8x32768x4, .i64⟩
  | 23 => ⟨S_, .i64⟩
  | 24 => ⟨S8x32768x4, .i64⟩
  | 25 => ⟨S8x32768x4, .i64⟩
  | 26 => ⟨S8x32768x4, .i32⟩
  | 27 => ⟨S8x32768x4, .i32⟩
  | 28 => ⟨S_, .i32⟩
  | 29 => ⟨S_, .i32⟩
  | 30 => ⟨S_, .i32⟩
  | 31 => ⟨S8x32768x4, .i32⟩
  | 32 => ⟨S8x32768x4, .i32⟩
  | 33 => ⟨S8x32768x4, .i32⟩
  | 34 => ⟨S8x32768x4, .i32⟩
  | 35 => ⟨S8x32768x4, .i32⟩
  | 36 => ⟨S_, .i32⟩
  | 37 => ⟨S8x32768x4, .i32⟩
  | 38 => ⟨S8x32768x4, .i32⟩
  | 39 => ⟨S_, .i32⟩
  | 40 => ⟨S8x32768x4, .i32⟩
  | 41 => ⟨S8x32768x4, .i32⟩
  | 42 => ⟨S8x32768x4, .i32⟩
  | 43 => ⟨S8x32768x4, .i32⟩
  | 44 => ⟨S8x32768x4, .i32⟩
  | 45 => ⟨S_, .i32⟩
  | 46 => ⟨S8x32768x4, .i32⟩
  | 47 => ⟨S8x32768x4, .i32⟩
  | 48 => ⟨S_, .i32⟩
  | 49 => ⟨S8x32768x4, .i32⟩
  | 50 => ⟨S8x32768x4, .i32⟩
  | 51 => ⟨S8x32768x4, .i32⟩
  | 52 => ⟨S8x32768x4, .i32⟩
  | 53 => ⟨S8x32768x4, .i32⟩
  | 54 => ⟨S_, .i32⟩
  | 55 => ⟨S8x32768x4, .i32⟩
  | 56 => ⟨S8x32768x4, .i32⟩
  | 57 => ⟨S_, .i32⟩
  | 58 => ⟨S8x32768x4, .i32⟩
  | 59 => ⟨S8x32768x4, .i32⟩
  | 60 => ⟨S8x32768x4, .i32⟩
  | 61 => ⟨S8x32768x4, .i32⟩
  | 62 => ⟨S8x32768x4, .i32⟩
  | 63 => ⟨S_, .i32⟩
  | 64 => ⟨S8x32768x4, .i32⟩
  | 65 => ⟨S8x32768x4, .i32⟩
  | 66 => ⟨S_, .i32⟩
  | 67 => ⟨S8x32768x4, .i32⟩
  | 68 => ⟨S8x32768x4, .i32⟩
  | 69 => ⟨S8x32768x4, .i32⟩
  | 70 => ⟨S8x32768x4, .i32⟩
  | 71 => ⟨S8x32768x4, .i32⟩
  | 72 => ⟨S8x32768x4, .i32⟩
  | 73 => ⟨S8x32768x4, .i32⟩
  | 74 => ⟨S8x32768x4, .i32⟩
  | 75 => ⟨S_, .i32⟩
  | 76 => ⟨S8x32768x4, .i32⟩
  | 77 => ⟨S8x32768x4, .i32⟩
  | 78 => ⟨S8x32768x4, .i32⟩
  | 79 => ⟨S_, .i32⟩
  | 80 => ⟨S8x32768x4, .i32⟩
  | 81 => ⟨S8x32768x4, .i32⟩
  | 82 => ⟨S_, .i32⟩
  | 83 => ⟨S8x32768x4, .i32⟩
  | 84 => ⟨S8x32768x4, .i32⟩
  | 85 => ⟨S8x32768x4, .i32⟩
  | 86 => ⟨S8x32768x4, .i32⟩
  | 87 => ⟨S8x32768x4, .i32⟩
  | 88 => ⟨S_, .i32⟩
  | 89 => ⟨S8x32768x4, .i32⟩
  | 90 => ⟨S8x32768x4, .i32⟩
  | 91 => ⟨S_, .i32⟩
  | 92 => ⟨S8x32768x4, .i32⟩
  | 93 => ⟨S8x32768x4, .i32⟩
  | 94 => ⟨S8x32768x4, .i32⟩
  | 95 => ⟨S8x32768x4, .i32⟩
  | 96 => ⟨S8x32768x4, .i32⟩
  | 97 => ⟨S_, .i32⟩
  | 98 => ⟨S8x32768x4, .i32⟩
  | 99 => ⟨S8x32768x4, .i32⟩
  | 100 => ⟨S_, .i32⟩
  | 101 => ⟨S8x32768x4, .i32⟩
  | 102 => ⟨S8x32768x4, .i32⟩
  | 103 => ⟨S8x32768x4, .i32⟩
  | 104 => ⟨S8x32768x4, .i32⟩
  | 105 => ⟨S8x32768x4, .i32⟩
  | 106 => ⟨S_, .i32⟩
  | 107 => ⟨S8x32768x4, .i32⟩
  | 108 => ⟨S8x32768x4, .i32⟩
  | 109 => ⟨S_, .i32⟩
  | 110 => ⟨S8x32768x4, .i32⟩
  | 111 => ⟨S8x32768x4, .i32⟩
  | 112 => ⟨S8x32768x4, .i32⟩
  | 113 => ⟨S8x32768x4, .i32⟩
  | 114 => ⟨S8x32768x4, .i32⟩
  | 115 => ⟨S8x32768x4, .i32⟩
  | 116 => ⟨S8x32768x4, .i32⟩
  | 117 => ⟨S8x32768x4, .i32⟩
  | 118 => ⟨S_, .i32⟩
  | 119 => ⟨S8x32768x4, .i32⟩
  | 120 => ⟨S8x32768x4, .i32⟩
  | 121 => ⟨S8x32768x4, .i32⟩
  | 122 => ⟨S_, .i32⟩
  | 123 => ⟨S8x32768x4, .i32⟩
  | 124 => ⟨S8x32768x4, .i32⟩
  | 125 => ⟨S_, .i32⟩
  | 126 => ⟨S8x32768x4, .i32⟩
  | 127 => ⟨S8x32768x4, .i32⟩
  | _ => ⟨S8x32768, .i32⟩

abbrev hbmTy0_3 (i : Nat) : BufTy := match i % 128 with
  | 0 => ⟨S8x32768x4, .i32⟩
  | 1 => ⟨S8x32768x4, .i32⟩
  | 2 => ⟨S8x32768x4, .i32⟩
  | 3 => ⟨S_, .i32⟩
  | 4 => ⟨S8x32768x4, .i32⟩
  | 5 => ⟨S8x32768x4, .i32⟩
  | 6 => ⟨S_, .i32⟩
  | 7 => ⟨S8x32768x4, .i32⟩
  | 8 => ⟨S8x32768x4, .i32⟩
  | 9 => ⟨S8x32768x4, .i32⟩
  | 10 => ⟨S8x32768x4, .i32⟩
  | 11 => ⟨S8x32768x4, .i32⟩
  | 12 => ⟨S_, .i32⟩
  | 13 => ⟨S8x32768x4, .i32⟩
  | 14 => ⟨S8x32768x4, .i32⟩
  | 15 => ⟨S_, .i32⟩
  | 16 => ⟨S8x32768x4, .i32⟩
  | 17 => ⟨S8x32768x4, .i32⟩
  | 18 => ⟨S8x32768x4, .i32⟩
  | 19 => ⟨S8x32768x4, .i32⟩
  | 20 => ⟨S8x32768x4, .i32⟩
  | 21 => ⟨S_, .i32⟩
  | 22 => ⟨S8x32768x4, .i32⟩
  | 23 => ⟨S8x32768x4, .i32⟩
  | 24 => ⟨S_, .i32⟩
  | 25 => ⟨S8x32768x4, .i32⟩
  | 26 => ⟨S8x32768x4, .i32⟩
  | 27 => ⟨S8x32768x4, .i32⟩
  | 28 => ⟨S8x32768x4, .i32⟩
  | 29 => ⟨S8x32768x4, .i32⟩
  | 30 => ⟨S8x32768x4, .i32⟩
  | 31 => ⟨S8x32768x4, .i32⟩
  | 32 => ⟨S8x32768x4, .i32⟩
  | 33 => ⟨S_, .i32⟩
  | 34 => ⟨S8x32768x4, .i32⟩
  | 35 => ⟨S8x32768x4, .i32⟩
  | 36 => ⟨S8x32768x4, .i32⟩
  | 37 => ⟨S_, .i32⟩
  | 38 => ⟨S8x32768x4, .i32⟩
  | 39 => ⟨S8x32768x4, .i32⟩
  | 40 => ⟨S_, .i32⟩
  | 41 => ⟨S8x32768x4, .i32⟩
  | 42 => ⟨S8x32768x4, .i32⟩
  | 43 => ⟨S8x32768x4, .i32⟩
  | 44 => ⟨S8x32768x4, .i32⟩
  | 45 => ⟨S8x32768x4, .i32⟩
  | 46 => ⟨S_, .i32⟩
  | 47 => ⟨S8x32768x4, .i32⟩
  | 48 => ⟨S8x32768x4, .i32⟩
  | 49 => ⟨S_, .i32⟩
  | 50 => ⟨S8x32768x4, .i32⟩
  | 51 => ⟨S8x32768x4, .i32⟩
  | 52 => ⟨S8x32768x4, .i32⟩
  | 53 => ⟨S8x32768x4, .i32⟩
  | 54 => ⟨S8x32768x4, .i32⟩
  | 55 => ⟨S_, .i32⟩
  | 56 => ⟨S8x32768x4, .i32⟩
  | 57 => ⟨S8x32768x4, .i32⟩
  | 58 => ⟨S_, .i32⟩
  | 59 => ⟨S8x32768x4, .i32⟩
  | 60 => ⟨S8x32768x4, .i32⟩
  | 61 => ⟨S8x32768x4, .i32⟩
  | 62 => ⟨S8x32768x4, .i32⟩
  | 63 => ⟨S8x32768x4, .i32⟩
  | 64 => ⟨S_, .i32⟩
  | 65 => ⟨S8x32768x4, .i32⟩
  | 66 => ⟨S8x32768x4, .i32⟩
  | 67 => ⟨S_, .i32⟩
  | 68 => ⟨S8x32768x4, .i32⟩
  | 69 => ⟨S8x32768x4, .i32⟩
  | 70 => ⟨S8x32768x4, .i32⟩
  | 71 => ⟨S8x32768x4, .i32⟩
  | 72 => ⟨S8x32768x4, .i32⟩
  | 73 => ⟨S8x32768x4, .i32⟩
  | 74 => ⟨S8x32768x4, .i32⟩
  | 75 => ⟨S8x32768x4, .i32⟩
  | 76 => ⟨S_, .i32⟩
  | 77 => ⟨S8x32768x4, .i32⟩
  | 78 => ⟨S8x32768x4, .i32⟩
  | 79 => ⟨S8x32768x4, .i32⟩
  | 80 => ⟨S_, .i32⟩
  | 81 => ⟨S8x32768x4, .i32⟩
  | 82 => ⟨S8x32768x4, .i32⟩
  | 83 => ⟨S_, .i32⟩
  | 84 => ⟨S8x32768x4, .i32⟩
  | 85 => ⟨S8x32768x4, .i32⟩
  | 86 => ⟨S8x32768x4, .i32⟩
  | 87 => ⟨S8x32768x4, .i32⟩
  | 88 => ⟨S8x32768x4, .i32⟩
  | 89 => ⟨S_, .i32⟩
  | 90 => ⟨S8x32768x4, .i32⟩
  | 91 => ⟨S8x32768x4, .i32⟩
  | 92 => ⟨S_, .i32⟩
  | 93 => ⟨S8x32768x4, .i32⟩
  | 94 => ⟨S8x32768x4, .i32⟩
  | 95 => ⟨S8x32768x4, .i32⟩
  | 96 => ⟨S8x32768x4, .i32⟩
  | 97 => ⟨S8x32768x4, .i32⟩
  | 98 => ⟨S_, .i32⟩
  | 99 => ⟨S8x32768x4, .i32⟩
  | 100 => ⟨S8x32768x4, .i32⟩
  | 101 => ⟨S_, .i32⟩
  | 102 => ⟨S8x32768x4, .i32⟩
  | 103 => ⟨S8x32768x4, .i32⟩
  | 104 => ⟨S8x32768x4, .i32⟩
  | 105 => ⟨S8x32768x4, .i32⟩
  | 106 => ⟨S8x32768x4, .i32⟩
  | 107 => ⟨S_, .i32⟩
  | 108 => ⟨S8x32768x4, .i32⟩
  | 109 => ⟨S8x32768x4, .i32⟩
  | 110 => ⟨S_, .i32⟩
  | 111 => ⟨S8x32768x4, .i32⟩
  | 112 => ⟨S8x32768x4, .i32⟩
  | 113 => ⟨S8x32768x4, .i32⟩
  | 114 => ⟨S8x32768x4, .i32⟩
  | 115 => ⟨S8x32768x4, .i32⟩
  | 116 => ⟨S8x32768x4, .i32⟩
  | 117 => ⟨S8x32768x4, .i32⟩
  | 118 => ⟨S8x32768x4, .i32⟩
  | 119 => ⟨S_, .i32⟩
  | 120 => ⟨S8x32768x4, .i32⟩
  | 121 => ⟨S8x32768x4, .i32⟩
  | 122 => ⟨S8x32768x4, .i32⟩
  | 123 => ⟨S_, .i32⟩
  | 124 => ⟨S8x32768x4, .i32⟩
  | 125 => ⟨S8x32768x4, .i32⟩
  | 126 => ⟨S_, .i32⟩
  | 127 => ⟨S8x32768x4, .i32⟩
  | _ => ⟨S8x32768, .i32⟩

abbrev hbmTy0_4 (i : Nat) : BufTy := match i % 128 with
  | 0 => ⟨S8x32768x4, .i32⟩
  | 1 => ⟨S8x32768x4, .f32⟩
  | 2 => ⟨S_, .f32⟩
  | 3 => ⟨S8x32768x4, .f32⟩
  | 4 => ⟨S8x32768x4, .f32⟩
  | 5 => ⟨S1x1x1, .f32⟩
  | 6 => ⟨S8x32768x4, .f32⟩
  | 7 => ⟨S8x32768x4, .f32⟩
  | 8 => ⟨S8x32768x4, .f32⟩
  | 9 => ⟨S8x32768x4, .f32⟩
  | 10 => ⟨S8x32768x4, .f32⟩
  | 11 => ⟨S8x32768x4, .f32⟩
  | 12 => ⟨S8x32768x4, .f32⟩
  | 13 => ⟨S8x32768x4, .f32⟩
  | 14 => ⟨S8x32768x4, .f32⟩
  | 15 => ⟨S8x32768x4, .f32⟩
  | 16 => ⟨S_, .f32⟩
  | 17 => ⟨S_, .f32⟩
  | 18 => ⟨S_, .f32⟩
  | 19 => ⟨S_, .f32⟩
  | 20 => ⟨S1, .f32⟩
  | 21 => ⟨S1, .f32⟩
  | 22 => ⟨S1, .i32⟩
  | 23 => ⟨S_, .i32⟩
  | 24 => ⟨S1, .i32⟩
  | 25 => ⟨S_, .i32⟩
  | 26 => ⟨S8, .i64⟩
  | 27 => ⟨S_, .i64⟩
  | 28 => ⟨S8, .i64⟩
  | 29 => ⟨S8, .i64⟩
  | 30 => ⟨S_, .i64⟩
  | 31 => ⟨S8, .i64⟩
  | 32 => ⟨S8, .i64⟩
  | 33 => ⟨S8, .i32⟩
  | 34 => ⟨S8, .i32⟩
  | 35 => ⟨S_, .i32⟩
  | 36 => ⟨S_, .i32⟩
  | 37 => ⟨S_, .i32⟩
  | 38 => ⟨S8, .i32⟩
  | 39 => ⟨S8, .i32⟩
  | 40 => ⟨S8, .i32⟩
  | 41 => ⟨S8, .i32⟩
  | 42 => ⟨S8, .i32⟩
  | 43 => ⟨S_, .i32⟩
  | 44 => ⟨S8, .i32⟩
  | 45 => ⟨S8, .i32⟩
  | 46 => ⟨S_, .i32⟩
  | 47 => ⟨S8, .i32⟩
  | 48 => ⟨S8, .i32⟩
  | 49 => ⟨S8, .i32⟩
  | 50 => ⟨S8, .i32⟩
  | 51 => ⟨S8, .i32⟩
  | 52 => ⟨S_, .i32⟩
  | 53 => ⟨S8, .i32⟩
  | 54 => ⟨S8, .i32⟩
  | 55 => ⟨S_, .i32⟩
  | 56 => ⟨S8, .i32⟩
  | 57 => ⟨S8, .i32⟩
  | 58 => ⟨S8, .i32⟩
  | 59 => ⟨S8, .i32⟩
  | 60 => ⟨S8, .i32⟩
  | 61 => ⟨S_, .i32⟩
  | 62 => ⟨S8, .i32⟩
  | 63 => ⟨S8, .i32⟩
  | 64 => ⟨S_, .i32⟩
  | 65 => ⟨S8, .i32⟩
  | 66 => ⟨S8, .i32⟩
  | 67 => ⟨S8, .i32⟩
  | 68 => ⟨S8, .i32⟩
  | 69 => ⟨S8, .i32⟩
  | 70 => ⟨S_, .i32⟩
  | 71 => ⟨S8, .i32⟩
  | 72 => ⟨S8, .i32⟩
  | 73 => ⟨S_, .i32⟩
  | 74 => ⟨S8, .i32⟩
  | 75 => ⟨S8, .i32⟩
  | 76 => ⟨S8, .i32⟩
  | 77 => ⟨S8, .i32⟩
  | 78 => ⟨S8, .i32⟩
  | 79 => ⟨S8, .i32⟩
  | 80 => ⟨S8, .i32⟩
  | 81 => ⟨S8, .i32⟩
  | 82 => ⟨S_, .i32⟩
  | 83 => ⟨S8, .i32⟩
  | 84 => ⟨S8, .i32⟩
  | 85 => ⟨S8, .i32⟩
  | 86 => ⟨S_, .i32⟩
  | 87 => ⟨S8, .i32⟩
  | 88 => ⟨S8, .i32⟩
  | 89 => ⟨S_, .i32⟩
  | 90 => ⟨S8, .i32⟩
  | 91 => ⟨S8, .i32⟩
  | 92 => ⟨S8, .i32⟩
  | 93 => ⟨S8, .i32⟩
  | 94 => ⟨S8, .i32⟩
  | 95 => ⟨S_, .i32⟩
  | 96 => ⟨S8, .i32⟩
  | 97 => ⟨S8, .i32⟩
  | 98 => ⟨S_, .i32⟩
  | 99 => ⟨S8, .i32⟩
  | 100 => ⟨S8, .i32⟩
  | 101 => ⟨S8, .i32⟩
  | 102 => ⟨S8, .i32⟩
  | 103 => ⟨S8, .i32⟩
  | 104 => ⟨S_, .i32⟩
  | 105 => ⟨S8, .i32⟩
  | 106 => ⟨S8, .i32⟩
  | 107 => ⟨S_, .i32⟩
  | 108 => ⟨S8, .i32⟩
  | 109 => ⟨S8, .i32⟩
  | 110 => ⟨S8, .i32⟩
  | 111 => ⟨S8, .i32⟩
  | 112 => ⟨S8, .i32⟩
  | 113 => ⟨S_, .i32⟩
  | 114 => ⟨S8, .i32⟩
  | 115 => ⟨S8, .i32⟩
  | 116 => ⟨S_, .i32⟩
  | 117 => ⟨S8, .i32⟩
  | 118 => ⟨S8, .i32⟩
  | 119 => ⟨S8, .i32⟩
  | 120 => ⟨S8, .i32⟩
  | 121 => ⟨S8, .i32⟩
  | 122 => ⟨S8, .i32⟩
  | 123 => ⟨S8, .i32⟩
  | 124 => ⟨S8, .i32⟩
  | 125 => ⟨S_, .i32⟩
  | 126 => ⟨S8, .i32⟩
  | 127 => ⟨S8, .i32⟩
  | _ => ⟨S8x32768, .i32⟩

abbrev hbmTy0_5 (i : Nat) : BufTy := match i % 128 with
  | 0 => ⟨S8, .i32⟩
  | 1 => ⟨S_, .i32⟩
  | 2 => ⟨S8, .i32⟩
  | 3 => ⟨S8, .i32⟩
  | 4 => ⟨S_, .i32⟩
  | 5 => ⟨S8, .i32⟩
  | 6 => ⟨S8, .i32⟩
  | 7 => ⟨S8, .i32⟩
  | 8 => ⟨S8, .i32⟩
  | 9 => ⟨S8, .i32⟩
  | 10 => ⟨S_, .i32⟩
  | 11 => ⟨S8, .i32⟩
  | 12 => ⟨S8, .i32⟩
  | 13 => ⟨S_, .i32⟩
  | 14 => ⟨S8, .i32⟩
  | 15 => ⟨S8, .i32⟩
  | 16 => ⟨S8, .i32⟩
  | 17 => ⟨S8, .i32⟩
  | 18 => ⟨S8, .i32⟩
  | 19 => ⟨S_, .i32⟩
  | 20 => ⟨S8, .i32⟩
  | 21 => ⟨S8, .i32⟩
  | 22 => ⟨S_, .i32⟩
  | 23 => ⟨S8, .i32⟩
  | 24 => ⟨S8, .i32⟩
  | 25 => ⟨S8, .i32⟩
  | 26 => ⟨S8, .i32⟩
  | 27 => ⟨S8, .i32⟩
  | 28 => ⟨S_, .i32⟩
  | 29 => ⟨S8, .i32⟩
  | 30 => ⟨S8, .i32⟩
  | 31 => ⟨S_, .i32⟩
  | 32 => ⟨S8, .i32⟩
  | 33 => ⟨S8, .i32⟩
  | 34 => ⟨S8, .i32⟩
  | 35 => ⟨S8, .i32⟩
  | 36 => ⟨S8, .i32⟩
  | 37 => ⟨S8, .i32⟩
  | 38 => ⟨S8, .i32⟩
  | 39 => ⟨S8, .i32⟩
  | 40 => ⟨S_, .i32⟩
  | 41 => ⟨S8, .i32⟩
  | 42 => ⟨S8, .i32⟩
  | 43 => ⟨S8, .i32⟩
  | 44 => ⟨S_, .i32⟩
  | 45 => ⟨S8, .i32⟩
  | 46 => ⟨S8, .i32⟩
  | 47 => ⟨S_, .i32⟩
  | 48 => ⟨S8, .i32⟩
  | 49 => ⟨S8, .i32⟩
  | 50 => ⟨S8, .i32⟩
  | 51 => ⟨S8, .i32⟩
  | 52 => ⟨S8, .i32⟩
  | 53 => ⟨S_, .i32⟩
  | 54 => ⟨S8, .i32⟩
  | 55 => ⟨S8, .i32⟩
  | 56 => ⟨S_, .i32⟩
  | 57 => ⟨S8, .i32⟩
  | 58 => ⟨S8, .i32⟩
  | 59 => ⟨S8, .i32⟩
  | 60 => ⟨S8, .i32⟩
  | 61 => ⟨S8, .i32⟩
  | 62 => ⟨S_, .i32⟩
  | 63 => ⟨S8, .i32⟩
  | 64 => ⟨S8, .i32⟩
  | 65 => ⟨S_, .i32⟩
  | 66 => ⟨S8, .i32⟩
  | 67 => ⟨S8, .i32⟩
  | 68 => ⟨S8, .i32⟩
  | 69 => ⟨S8, .i32⟩
  | 70 => ⟨S8, .i32⟩
  | 71 => ⟨S_, .i32⟩
  | 72 => ⟨S8, .i32⟩
  | 73 => ⟨S8, .i32⟩
  | 74 => ⟨S_, .i32⟩
  | 75 => ⟨S8, .i32⟩
  | 76 => ⟨S8, .i32⟩
  | 77 => ⟨S8, .i32⟩
  | 78 => ⟨S8, .i32⟩
  | 79 => ⟨S8, .i32⟩
  | 80 => ⟨S8, .i32⟩
  | 81 => ⟨S8, .i32⟩
  | 82 => ⟨S8, .i32⟩
  | 83 => ⟨S_, .i32⟩
  | 84 => ⟨S8, .i32⟩
  | 85 => ⟨S8, .i32⟩
  | 86 => ⟨S8, .i32⟩
  | 87 => ⟨S_, .i32⟩
  | 88 => ⟨S8, .i32⟩
  | 89 => ⟨S8, .i32⟩
  | 90 => ⟨S_, .i32⟩
  | 91 => ⟨S8, .i32⟩
  | 92 => ⟨S8, .i32⟩
  | 93 => ⟨S8, .i32⟩
  | 94 => ⟨S8, .i32⟩
  | 95 => ⟨S8, .i32⟩
  | 96 => ⟨S_, .i32⟩
  | 97 => ⟨S8, .i32⟩
  | 98 => ⟨S8, .i32⟩
  | 99 => ⟨S_, .i32⟩
  | 100 => ⟨S8, .i32⟩
  | 101 => ⟨S8, .i32⟩
  | 102 => ⟨S8, .i32⟩
  | 103 => ⟨S8, .i32⟩
  | 104 => ⟨S8, .i32⟩
  | 105 => ⟨S_, .i32⟩
  | 106 => ⟨S8, .i32⟩
  | 107 => ⟨S8, .i32⟩
  | 108 => ⟨S_, .i32⟩
  | 109 => ⟨S8, .i32⟩
  | 110 => ⟨S8, .i32⟩
  | 111 => ⟨S8, .i32⟩
  | 112 => ⟨S8, .i32⟩
  | 113 => ⟨S8, .i32⟩
  | 114 => ⟨S_, .i32⟩
  | 115 => ⟨S8, .i32⟩
  | 116 => ⟨S8, .i32⟩
  | 117 => ⟨S_, .i32⟩
  | 118 => ⟨S8, .i32⟩
  | 119 => ⟨S8, .i32⟩
  | 120 => ⟨S8, .i32⟩
  | 121 => ⟨S8, .i32⟩
  | 122 => ⟨S8, .i32⟩
  | 123 => ⟨S8, .i32⟩
  | 124 => ⟨S8, .i32⟩
  | 125 => ⟨S8, .i32⟩
  | 126 => ⟨S_, .i32⟩
  | 127 => ⟨S8, .i32⟩
  | _ => ⟨S8x32768, .i32⟩

abbrev hbmTy0_6 (i : Nat) : BufTy := match i % 128 with
  | 0 => ⟨S8, .i32⟩
  | 1 => ⟨S8, .i32⟩
  | 2 => ⟨S_, .i32⟩
  | 3 => ⟨S8, .i32⟩
  | 4 => ⟨S8, .i32⟩
  | 5 => ⟨S_, .i32⟩
  | 6 => ⟨S8, .i32⟩
  | 7 => ⟨S8, .i32⟩
  | 8 => ⟨S8, .f32⟩
  | 9 => ⟨S_, .f32⟩
  | 10 => ⟨S8, .f32⟩
  | 11 => ⟨S8, .f32⟩
  | 12 => ⟨S1, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S1, .i32⟩
  | 20 => ⟨S_, .i32⟩
  | 21 => ⟨S1, .i32⟩
  | 22 => ⟨S_, .i32⟩
  | 23 => ⟨S3, .i64⟩
  | 24 => ⟨S_, .i64⟩
  | 25 => ⟨S3, .i64⟩
  | 26 => ⟨S3, .i64⟩
  | 27 => ⟨S_, .i64⟩
  | 28 => ⟨S3, .i64⟩
  | 29 => ⟨S3, .i64⟩
  | 30 => ⟨S3, .i32⟩
  | 31 => ⟨S3, .i32⟩
  | 32 => ⟨S_, .i32⟩
  | 33 => ⟨S_, .i32⟩
  | 34 => ⟨S_, .i32⟩
  | 35 => ⟨S3, .i32⟩
  | 36 => ⟨S3, .i32⟩
  | 37 => ⟨S3, .i32⟩
  | 38 => ⟨S3, .i32⟩
  | 39 => ⟨S3, .i32⟩
  | 40 => ⟨S_, .i32⟩
  | 41 => ⟨S3, .i32⟩
  | 42 => ⟨S3, .i32⟩
  | 43 => ⟨S_, .i32⟩
  | 44 => ⟨S3, .i32⟩
  | 45 => ⟨S3, .i32⟩
  | 46 => ⟨S3, .i32⟩
  | 47 => ⟨S3, .i32⟩
  | 48 => ⟨S3, .i32⟩
  | 49 => ⟨S_, .i32⟩
  | 50 => ⟨S3, .i32⟩
  | 51 => ⟨S3, .i32⟩
  | 52 => ⟨S_, .i32⟩
  | 53 => ⟨S3, .i32⟩
  | 54 => ⟨S3, .i32⟩
  | 55 => ⟨S3, .i32⟩
  | 56 => ⟨S3, .i32⟩
  | 57 => ⟨S3, .i32⟩
  | 58 => ⟨S_, .i32⟩
  | 59 => ⟨S3, .i32⟩
  | 60 => ⟨S3, .i32⟩
  | 61 => ⟨S_, .i32⟩
  | 62 => ⟨S3, .i32⟩
  | 63 => ⟨S3, .i32⟩
  | 64 => ⟨S3, .i32⟩
  | 65 => ⟨S3, .i32⟩
  | 66 => ⟨S3, .i32⟩
  | 67 => ⟨S_, .i32⟩
  | 68 => ⟨S3, .i32⟩
  | 69 => ⟨S3, .i32⟩
  | 70 => ⟨S_, .i32⟩
  | 71 => ⟨S3, .i32⟩
  | 72 => ⟨S3, .i32⟩
  | 73 => ⟨S3, .i32⟩
  | 74 => ⟨S3, .i32⟩
  | 75 => ⟨S3, .i32⟩
  | 76 => ⟨S3, .i32⟩
  | 77 => ⟨S3, .i32⟩
  | 78 => ⟨S3, .i32⟩
  | 79 => ⟨S_, .i32⟩
  | 80 => ⟨S3, .i32⟩
  | 81 => ⟨S3, .i32⟩
  | 82 => ⟨S3, .i32⟩
  | 83 => ⟨S_, .i32⟩
  | 84 => ⟨S3, .i32⟩
  | 85 => ⟨S3, .i32⟩
  | 86 => ⟨S_, .i32⟩
  | 87 => ⟨S3, .i32⟩
  | 88 => ⟨S3, .i32⟩
  | 89 => ⟨S3, .i32⟩
  | 90 => ⟨S3, .i32⟩
  | 91 => ⟨S3, .i32⟩
  | 92 => ⟨S_, .i32⟩
  | 93 => ⟨S3, .i32⟩
  | 94 => ⟨S3, .i32⟩
  | 95 => ⟨S_, .i32⟩
  | 96 => ⟨S3, .i32⟩
  | 97 => ⟨S3, .i32⟩
  | 98 => ⟨S3, .i32⟩
  | 99 => ⟨S3, .i32⟩
  | 100 => ⟨S3, .i32⟩
  | 101 => ⟨S_, .i32⟩
  | 102 => ⟨S3, .i32⟩
  | 103 => ⟨S3, .i32⟩
  | 104 => ⟨S_, .i32⟩
  | 105 => ⟨S3, .i32⟩
  | 106 => ⟨S3, .i32⟩
  | 107 => ⟨S3, .i32⟩
  | 108 => ⟨S3, .i32⟩
  | 109 => ⟨S3, .i32⟩
  | 110 => ⟨S_, .i32⟩
  | 111 => ⟨S3, .i32⟩
  | 112 => ⟨S3, .i32⟩
  | 113 => ⟨S_, .i32⟩
  | 114 => ⟨S3, .i32⟩
  | 115 => ⟨S3, .i32⟩
  | 116 => ⟨S3, .i32⟩
  | 117 => ⟨S3, .i32⟩
  | 118 => ⟨S3, .i32⟩
  | 119 => ⟨S3, .i32⟩
  | 120 => ⟨S3, .i32⟩
  | 121 => ⟨S3, .i32⟩
  | 122 => ⟨S_, .i32⟩
  | 123 => ⟨S3, .i32⟩
  | 124 => ⟨S3, .i32⟩
  | 125 => ⟨S3, .i32⟩
  | 126 => ⟨S_, .i32⟩
  | 127 => ⟨S3, .i32⟩
  | _ => ⟨S8x32768, .i32⟩

abbrev hbmTy0_7 (i : Nat) : BufTy := match i % 128 with
  | 0 => ⟨S3, .i32⟩
  | 1 => ⟨S_, .i32⟩
  | 2 => ⟨S3, .i32⟩
  | 3 => ⟨S3, .i32⟩
  | 4 => ⟨S3, .i32⟩
  | 5 => ⟨S3, .i32⟩
  | 6 => ⟨S3, .i32⟩
  | 7 => ⟨S_, .i32⟩
  | 8 => ⟨S3, .i32⟩
  | 9 => ⟨S3, .i32⟩
  | 10 => ⟨S_, .i32⟩
  | 11 => ⟨S3, .i32⟩
  | 12 => ⟨S3, .i32⟩
  | 13 => ⟨S3, .i32⟩
  | 14 => ⟨S3, .i32⟩
  | 15 => ⟨S3, .i32⟩
  | 16 => ⟨S_, .i32⟩
  | 17 => ⟨S3, .i32⟩
  | 18 => ⟨S3, .i32⟩
  | 19 => ⟨S_, .i32⟩
  | 20 => ⟨S3, .i32⟩
  | 21 => ⟨S3, .i32⟩
  | 22 => ⟨S3, .i32⟩
  | 23 => ⟨S3, .i32⟩
  | 24 => ⟨S3, .i32⟩
  | 25 => ⟨S_, .i32⟩
  | 26 => ⟨S3, .i32⟩
  | 27 => ⟨S3, .i32⟩
  | 28 => ⟨S_, .i32⟩
  | 29 => ⟨S3, .i32⟩
  | 30 => ⟨S3, .i32⟩
  | 31 => ⟨S3, .i32⟩
  | 32 => ⟨S3, .i32⟩
  | 33 => ⟨S3, .i32⟩
  | 34 => ⟨S3, .i32⟩
  | 35 => ⟨S3, .i32⟩
  | 36 => ⟨S3, .i32⟩
  | 37 => ⟨S_, .i32⟩
  | 38 => ⟨S3, .i32⟩
  | 39 => ⟨S3, .i32⟩
  | 40 => ⟨S3, .i32⟩
  | 41 => ⟨S_, .i32⟩
  | 42 => ⟨S3, .i32⟩
  | 43 => ⟨S3, .i32⟩
  | 44 => ⟨S_, .i32⟩
  | 45 => ⟨S3, .i32⟩
  | 46 => ⟨S3, .i32⟩
  | 47 => ⟨S3, .i32⟩
  | 48 => ⟨S3, .i32⟩
  | 49 => ⟨S3, .i32⟩
  | 50 => ⟨S_, .i32⟩
  | 51 => ⟨S3, .i32⟩
  | 52 => ⟨S3, .i32⟩
  | 53 => ⟨S_, .i32⟩
  | 54 => ⟨S3, .i32⟩
  | 55 => ⟨S3, .i32⟩
  | 56 => ⟨S3, .i32⟩
  | 57 => ⟨S3, .i32⟩
  | 58 => ⟨S3, .i32⟩
  | 59 => ⟨S_, .i32⟩
  | 60 => ⟨S3, .i32⟩
  | 61 => ⟨S3, .i32⟩
  | 62 => ⟨S_, .i32⟩
  | 63 => ⟨S3, .i32⟩
  | 64 => ⟨S3, .i32⟩
  | 65 => ⟨S3, .i32⟩
  | 66 => ⟨S3, .i32⟩
  | 67 => ⟨S3, .i32⟩
  | 68 => ⟨S_, .i32⟩
  | 69 => ⟨S3, .i32⟩
  | 70 => ⟨S3, .i32⟩
  | 71 => ⟨S_, .i32⟩
  | 72 => ⟨S3, .i32⟩
  | 73 => ⟨S3, .i32⟩
  | 74 => ⟨S3, .i32⟩
  | 75 => ⟨S3, .i32⟩
  | 76 => ⟨S3, .i32⟩
  | 77 => ⟨S3, .i32⟩
  | 78 => ⟨S3, .i32⟩
  | 79 => ⟨S3, .i32⟩
  | 80 => ⟨S_, .i32⟩
  | 81 => ⟨S3, .i32⟩
  | 82 => ⟨S3, .i32⟩
  | 83 => ⟨S3, .i32⟩
  | 84 => ⟨S_, .i32⟩
  | 85 => ⟨S3, .i32⟩
  | 86 => ⟨S3, .i32⟩
  | 87 => ⟨S_, .i32⟩
  | 88 => ⟨S3, .i32⟩
  | 89 => ⟨S3, .i32⟩
  | 90 => ⟨S3, .i32⟩
  | 91 => ⟨S3, .i32⟩
  | 92 => ⟨S3, .i32⟩
  | 93 => ⟨S_, .i32⟩
  | 94 => ⟨S3, .i32⟩
  | 95 => ⟨S3, .i32⟩
  | 96 => ⟨S_, .i32⟩
  | 97 => ⟨S3, .i32⟩
  | 98 => ⟨S3, .i32⟩
  | 99 => ⟨S3, .i32⟩
  | 100 => ⟨S3, .i32⟩
  | 101 => ⟨S3, .i32⟩
  | 102 => ⟨S_, .i32⟩
  | 103 => ⟨S3, .i32⟩
  | 104 => ⟨S3, .i32⟩
  | 105 => ⟨S_, .i32⟩
  | 106 => ⟨S3, .i32⟩
  | 107 => ⟨S3, .i32⟩
  | 108 => ⟨S3, .i32⟩
  | 109 => ⟨S3, .i32⟩
  | 110 => ⟨S3, .i32⟩
  | 111 => ⟨S_, .i32⟩
  | 112 => ⟨S3, .i32⟩
  | 113 => ⟨S3, .i32⟩
  | 114 => ⟨S_, .i32⟩
  | 115 => ⟨S3, .i32⟩
  | 116 => ⟨S3, .i32⟩
  | 117 => ⟨S3, .i32⟩
  | 118 => ⟨S3, .i32⟩
  | 119 => ⟨S3, .i32⟩
  | 120 => ⟨S3, .i32⟩
  | 121 => ⟨S3, .i32⟩
  | 122 => ⟨S3, .i32⟩
  | 123 => ⟨S_, .i32⟩
  | 124 => ⟨S3, .i32⟩
  | 125 => ⟨S3, .i32⟩
  | 126 => ⟨S3x1, .i32⟩
  | 127 => ⟨S3x1, .i32⟩
  | _ => ⟨S8x32768, .i32⟩

abbrev hbmTy0_8 (i : Nat) : BufTy := match i % 128 with
  | 0 => ⟨S3x2, .i32⟩
  | 1 => ⟨S1x2, .i32⟩
  | 2 => ⟨S2, .i32⟩
  | 3 => ⟨S1x2, .i32⟩
  | 4 => ⟨S2, .i32⟩
  | 5 => ⟨S1x2, .i32⟩
  | 6 => ⟨S2, .i32⟩
  | 7 => ⟨S_, .f32⟩
  | 8 => ⟨S_, .f32⟩
  | 9 => ⟨S_, .f32⟩
  | 10 => ⟨S1x1x1, .f32⟩
  | 11 => ⟨S1x1x1, .f32⟩
  | 12 => ⟨S1, .i32⟩
  | 13 => ⟨S_, .i32⟩
  | 14 => ⟨S1, .i32⟩
  | 15 => ⟨S_, .i32⟩
  | 16 => ⟨S8x32768x4, .i64⟩
  | 17 => ⟨S8x32768x4, .i64⟩
  | 18 => ⟨S8x32768x4, .i64⟩
  | 19 => ⟨S_, .i64⟩
  | 20 => ⟨S8x32768x4, .i64⟩
  | 21 => ⟨S8x32768x4, .i64⟩
  | 22 => ⟨S_, .i64⟩
  | 23 => ⟨S8x32768x4, .i64⟩
  | 24 => ⟨S8x32768x4, .i64⟩
  | 25 => ⟨S_, .i64⟩
  | 26 => ⟨S8x32768x4, .i64⟩
  | 27 => ⟨S8x32768x4, .i64⟩
  | 28 => ⟨S8x32768x4, .i64⟩
  | 29 => ⟨S8x32768x4, .i64⟩
  | 30 => ⟨S_, .i64⟩
  | 31 => ⟨S8x32768x4, .i64⟩
  | 32 => ⟨S8x32768x4, .i64⟩
  | 33 => ⟨S8x32768x4, .i32⟩
  | 34 => ⟨S8x32768x4, .i32⟩
  | 35 => ⟨S_, .i32⟩
  | 36 => ⟨S_, .i32⟩
  | 37 => ⟨S_, .i32⟩
  | 38 => ⟨S8x32768x4, .i32⟩
  | 39 => ⟨S8x32768x4, .i32⟩
  | 40 => ⟨S8x32768x4, .i32⟩
  | 41 => ⟨S8x32768x4, .i32⟩
  | 42 => ⟨S8x32768x4, .i32⟩
  | 43 => ⟨S_, .i32⟩
  | 44 => ⟨S8x32768x4, .i32⟩
  | 45 => ⟨S8x32768x4, .i32⟩
  | 46 => ⟨S_, .i32⟩
  | 47 => ⟨S8x32768x4, .i32⟩
  | 48 => ⟨S8x32768x4, .i32⟩
  | 49 => ⟨S8x32768x4, .i32⟩
  | 50 => ⟨S8x32768x4, .i32⟩
  | 51 => ⟨S8x32768x4, .i32⟩
  | 52 => ⟨S_, .i32⟩
  | 53 => ⟨S8x32768x4, .i32⟩
  | 54 => ⟨S8x32768x4, .i32⟩
  | 55 => ⟨S_, .i32⟩
  | 56 => ⟨S8x32768x4, .i32⟩
  | 57 => ⟨S8x32768x4, .i32⟩
  | 58 => ⟨S8x32768x4, .i32⟩
  | 59 => ⟨S8x32768x4, .i32⟩
  | 60 => ⟨S8x32768x4, .i32⟩
  | 61 => ⟨S_, .i32⟩
  | 62 => ⟨S8x32768x4, .i32⟩
  | 63 => ⟨S8x32768x4, .i32⟩
  | 64 => ⟨S_, .i32⟩
  | 65 => ⟨S8x32768x4, .i32⟩
  | 66 => ⟨S8x32768x4, .i32⟩
  | 67 => ⟨S8x32768x4, .i32⟩
  | 68 => ⟨S8x32768x4, .i32⟩
  | 69 => ⟨S8x32768x4, .i32⟩
  | 70 => ⟨S_, .i32⟩
  | 71 => ⟨S8x32768x4, .i32⟩
  | 72 => ⟨S8x32768x4, .i32⟩
  | 73 => ⟨S_, .i32⟩
  | 74 => ⟨S8x32768x4, .i32⟩
  | 75 => ⟨S8x32768x4, .i32⟩
  | 76 => ⟨S8x32768x4, .i32⟩
  | 77 => ⟨S8x32768x4, .i32⟩
  | 78 => ⟨S8x32768x4, .i32⟩
  | 79 => ⟨S8x32768x4, .i32⟩
  | 80 => ⟨S8x32768x4, .i32⟩
  | 81 => ⟨S8x32768x4, .i32⟩
  | 82 => ⟨S_, .i32⟩
  | 83 => ⟨S8x32768x4, .i32⟩
  | 84 => ⟨S8x32768x4, .i32⟩
  | 85 => ⟨S8x32768x4, .i32⟩
  | 86 => ⟨S_, .i32⟩
  | 87 => ⟨S8x32768x4, .i32⟩
  | 88 => ⟨S8x32768x4, .i32⟩
  | 89 => ⟨S_, .i32⟩
  | 90 => ⟨S8x32768x4, .i32⟩
  | 91 => ⟨S8x32768x4, .i32⟩
  | 92 => ⟨S8x32768x4, .i32⟩
  | 93 => ⟨S8x32768x4, .i32⟩
  | 94 => ⟨S8x32768x4, .i32⟩
  | 95 => ⟨S_, .i32⟩
  | 96 => ⟨S8x32768x4, .i32⟩
  | 97 => ⟨S8x32768x4, .i32⟩
  | 98 => ⟨S_, .i32⟩
  | 99 => ⟨S8x32768x4, .i32⟩
  | 100 => ⟨S8x32768x4, .i32⟩
  | 101 => ⟨S8x32768x4, .i32⟩
  | 102 => ⟨S8x32768x4, .i32⟩
  | 103 => ⟨S8x32768x4, .i32⟩
  | 104 => ⟨S_, .i32⟩
  | 105 => ⟨S8x32768x4, .i32⟩
  | 106 => ⟨S8x32768x4, .i32⟩
  | 107 => ⟨S_, .i32⟩
  | 108 => ⟨S8x32768x4, .i32⟩
  | 109 => ⟨S8x32768x4, .i32⟩
  | 110 => ⟨S8x32768x4, .i32⟩
  | 111 => ⟨S8x32768x4, .i32⟩
  | 112 => ⟨S8x32768x4, .i32⟩
  | 113 => ⟨S_, .i32⟩
  | 114 => ⟨S8x32768x4, .i32⟩
  | 115 => ⟨S8x32768x4, .i32⟩
  | 116 => ⟨S_, .i32⟩
  | 117 => ⟨S8x32768x4, .i32⟩
  | 118 => ⟨S8x32768x4, .i32⟩
  | 119 => ⟨S8x32768x4, .i32⟩
  | 120 => ⟨S8x32768x4, .i32⟩
  | 121 => ⟨S8x32768x4, .i32⟩
  | 122 => ⟨S8x32768x4, .i32⟩
  | 123 => ⟨S8x32768x4, .i32⟩
  | 124 => ⟨S8x32768x4, .i32⟩
  | 125 => ⟨S_, .i32⟩
  | 126 => ⟨S8x32768x4, .i32⟩
  | 127 => ⟨S8x32768x4, .i32⟩
  | _ => ⟨S8x32768, .i32⟩

abbrev hbmTy0_9 (i : Nat) : BufTy := match i % 128 with
  | 0 => ⟨S8x32768x4, .i32⟩
  | 1 => ⟨S_, .i32⟩
  | 2 => ⟨S8x32768x4, .i32⟩
  | 3 => ⟨S8x32768x4, .i32⟩
  | 4 => ⟨S_, .i32⟩
  | 5 => ⟨S8x32768x4, .i32⟩
  | 6 => ⟨S8x32768x4, .i32⟩
  | 7 => ⟨S8x32768x4, .i32⟩
  | 8 => ⟨S8x32768x4, .i32⟩
  | 9 => ⟨S8x32768x4, .i32⟩
  | 10 => ⟨S_, .i32⟩
  | 11 => ⟨S8x32768x4, .i32⟩
  | 12 => ⟨S8x32768x4, .i32⟩
  | 13 => ⟨S_, .i32⟩
  | 14 => ⟨S8x32768x4, .i32⟩
  | 15 => ⟨S8x32768x4, .i32⟩
  | 16 => ⟨S8x32768x4, .i32⟩
  | 17 => ⟨S8x32768x4, .i32⟩
  | 18 => ⟨S8x32768x4, .i32⟩
  | 19 => ⟨S_, .i32⟩
  | 20 => ⟨S8x32768x4, .i32⟩
  | 21 => ⟨S8x32768x4, .i32⟩
  | 22 => ⟨S_, .i32⟩
  | 23 => ⟨S8x32768x4, .i32⟩
  | 24 => ⟨S8x32768x4, .i32⟩
  | 25 => ⟨S8x32768x4, .i32⟩
  | 26 => ⟨S8x32768x4, .i32⟩
  | 27 => ⟨S8x32768x4, .i32⟩
  | 28 => ⟨S_, .i32⟩
  | 29 => ⟨S8x32768x4, .i32⟩
  | 30 => ⟨S8x32768x4, .i32⟩
  | 31 => ⟨S_, .i32⟩
  | 32 => ⟨S8x32768x4, .i32⟩
  | 33 => ⟨S8x32768x4, .i32⟩
  | 34 => ⟨S8x32768x4, .i32⟩
  | 35 => ⟨S8x32768x4, .i32⟩
  | 36 => ⟨S8x32768x4, .i32⟩
  | 37 => ⟨S8x32768x4, .i32⟩
  | 38 => ⟨S8x32768x4, .i32⟩
  | 39 => ⟨S8x32768x4, .i32⟩
  | 40 => ⟨S_, .i32⟩
  | 41 => ⟨S8x32768x4, .i32⟩
  | 42 => ⟨S8x32768x4, .i32⟩
  | 43 => ⟨S8x32768x4, .i32⟩
  | 44 => ⟨S_, .i32⟩
  | 45 => ⟨S8x32768x4, .i32⟩
  | 46 => ⟨S8x32768x4, .i32⟩
  | 47 => ⟨S_, .i32⟩
  | 48 => ⟨S8x32768x4, .i32⟩
  | 49 => ⟨S8x32768x4, .i32⟩
  | 50 => ⟨S8x32768x4, .i32⟩
  | 51 => ⟨S8x32768x4, .i32⟩
  | 52 => ⟨S8x32768x4, .i32⟩
  | 53 => ⟨S_, .i32⟩
  | 54 => ⟨S8x32768x4, .i32⟩
  | 55 => ⟨S8x32768x4, .i32⟩
  | 56 => ⟨S_, .i32⟩
  | 57 => ⟨S8x32768x4, .i32⟩
  | 58 => ⟨S8x32768x4, .i32⟩
  | 59 => ⟨S8x32768x4, .i32⟩
  | 60 => ⟨S8x32768x4, .i32⟩
  | 61 => ⟨S8x32768x4, .i32⟩
  | 62 => ⟨S_, .i32⟩
  | 63 => ⟨S8x32768x4, .i32⟩
  | 64 => ⟨S8x32768x4, .i32⟩
  | 65 => ⟨S_, .i32⟩
  | 66 => ⟨S8x32768x4, .i32⟩
  | 67 => ⟨S8x32768x4, .i32⟩
  | 68 => ⟨S8x32768x4, .i32⟩
  | 69 => ⟨S8x32768x4, .i32⟩
  | 70 => ⟨S8x32768x4, .i32⟩
  | 71 => ⟨S_, .i32⟩
  | 72 => ⟨S8x32768x4, .i32⟩
  | 73 => ⟨S8x32768x4, .i32⟩
  | 74 => ⟨S_, .i32⟩
  | 75 => ⟨S8x32768x4, .i32⟩
  | 76 => ⟨S8x32768x4, .i32⟩
  | 77 => ⟨S8x32768x4, .i32⟩
  | 78 => ⟨S8x32768x4, .i32⟩
  | 79 => ⟨S8x32768x4, .i32⟩
  | 80 => ⟨S8x32768x4, .i32⟩
  | 81 => ⟨S8x32768x4, .i32⟩
  | 82 => ⟨S8x32768x4, .i32⟩
  | 83 => ⟨S_, .i32⟩
  | 84 => ⟨S8x32768x4, .i32⟩
  | 85 => ⟨S8x32768x4, .i32⟩
  | 86 => ⟨S8x32768x4, .i32⟩
  | 87 => ⟨S_, .i32⟩
  | 88 => ⟨S8x32768x4, .i32⟩
  | 89 => ⟨S8x32768x4, .i32⟩
  | 90 => ⟨S_, .i32⟩
  | 91 => ⟨S8x32768x4, .i32⟩
  | 92 => ⟨S8x32768x4, .i32⟩
  | 93 => ⟨S8x32768x4, .i32⟩
  | 94 => ⟨S8x32768x4, .i32⟩
  | 95 => ⟨S8x32768x4, .i32⟩
  | 96 => ⟨S_, .i32⟩
  | 97 => ⟨S8x32768x4, .i32⟩
  | 98 => ⟨S8x32768x4, .i32⟩
  | 99 => ⟨S_, .i32⟩
  | 100 => ⟨S8x32768x4, .i32⟩
  | 101 => ⟨S8x32768x4, .i32⟩
  | 102 => ⟨S8x32768x4, .i32⟩
  | 103 => ⟨S8x32768x4, .i32⟩
  | 104 => ⟨S8x32768x4, .i32⟩
  | 105 => ⟨S_, .i32⟩
  | 106 => ⟨S8x32768x4, .i32⟩
  | 107 => ⟨S8x32768x4, .i32⟩
  | 108 => ⟨S_, .i32⟩
  | 109 => ⟨S8x32768x4, .i32⟩
  | 110 => ⟨S8x32768x4, .i32⟩
  | 111 => ⟨S8x32768x4, .i32⟩
  | 112 => ⟨S8x32768x4, .i32⟩
  | 113 => ⟨S8x32768x4, .i32⟩
  | 114 => ⟨S_, .i32⟩
  | 115 => ⟨S8x32768x4, .i32⟩
  | 116 => ⟨S8x32768x4, .i32⟩
  | 117 => ⟨S_, .i32⟩
  | 118 => ⟨S8x32768x4, .i32⟩
  | 119 => ⟨S8x32768x4, .i32⟩
  | 120 => ⟨S8x32768x4, .i32⟩
  | 121 => ⟨S8x32768x4, .i32⟩
  | 122 => ⟨S8x32768x4, .i32⟩
  | 123 => ⟨S8x32768x4, .i32⟩
  | 124 => ⟨S8x32768x4, .i32⟩
  | 125 => ⟨S8x32768x4, .i32⟩
  | 126 => ⟨S_, .i32⟩
  | 127 => ⟨S8x32768x4, .i32⟩
  | _ => ⟨S8x32768, .i32⟩

abbrev hbmTy0_10 (i : Nat) : BufTy := match i % 128 with
  | 0 => ⟨S8x32768x4, .i32⟩
  | 1 => ⟨S8x32768x4, .i32⟩
  | 2 => ⟨S_, .i32⟩
  | 3 => ⟨S8x32768x4, .i32⟩
  | 4 => ⟨S8x32768x4, .i32⟩
  | 5 => ⟨S_, .i32⟩
  | 6 => ⟨S8x32768x4, .i32⟩
  | 7 => ⟨S8x32768x4, .i32⟩
  | 8 => ⟨S8x32768x4, .f32⟩
  | 9 => ⟨S_, .f32⟩
  | 10 => ⟨S8x32768x4, .f32⟩
  | 11 => ⟨S8x32768x4, .f32⟩
  | 12 => ⟨S1x1x1, .f32⟩
  | 13 => ⟨S8x32768x4, .f32⟩
  | 14 => ⟨S8x32768x4, .f32⟩
  | 15 => ⟨S8x32768x4, .f32⟩
  | 16 => ⟨S8x32768x4, .f32⟩
  | 17 => ⟨S8x32768x4, .f32⟩
  | 18 => ⟨S8x32768x4, .f32⟩
  | 19 => ⟨S8x32768x4, .f32⟩
  | 20 => ⟨S8x32768x4, .f32⟩
  | 21 => ⟨S8x32768x4, .f32⟩
  | 22 => ⟨S8x32768x4, .f32⟩
  | 23 => ⟨S_, .f32⟩
  | 24 => ⟨S_, .f32⟩
  | 25 => ⟨S_, .f32⟩
  | 26 => ⟨S_, .f32⟩
  | 27 => ⟨S1, .f32⟩
  | 28 => ⟨S1, .f32⟩
  | 29 => ⟨S1, .i32⟩
  | 30 => ⟨S_, .i32⟩
  | 31 => ⟨S1, .i32⟩
  | 32 => ⟨S_, .i32⟩
  | 33 => ⟨S8, .i64⟩
  | 34 => ⟨S_, .i64⟩
  | 35 => ⟨S8, .i64⟩
  | 36 => ⟨S8, .i64⟩
  | 37 => ⟨S_, .i64⟩
  | 38 => ⟨S8, .i64⟩
  | 39 => ⟨S8, .i64⟩
  | 40 => ⟨S8, .i32⟩
  | 41 => ⟨S8, .i32⟩
  | 42 => ⟨S_, .i32⟩
  | 43 => ⟨S_, .i32⟩
  | 44 => ⟨S_, .i32⟩
  | 45 => ⟨S8, .i32⟩
  | 46 => ⟨S8, .i32⟩
  | 47 => ⟨S8, .i32⟩
  | 48 => ⟨S8, .i32⟩
  | 49 => ⟨S8, .i32⟩
  | 50 => ⟨S_, .i32⟩
  | 51 => ⟨S8, .i32⟩
  | 52 => ⟨S8, .i32⟩
  | 53 => ⟨S_, .i32⟩
  | 54 => ⟨S8, .i32⟩
  | 55 => ⟨S8, .i32⟩
  | 56 => ⟨S8, .i32⟩
  | 57 => ⟨S8, .i32⟩
  | 58 => ⟨S8, .i32⟩
  | 59 => ⟨S_, .i32⟩
  | 60 => ⟨S8, .i32⟩
  | 61 => ⟨S8, .i32⟩
  | 62 => ⟨S_, .i32⟩
  | 63 => ⟨S8, .i32⟩
  | 64 => ⟨S8, .i32⟩
  | 65 => ⟨S8, .i32⟩
  | 66 => ⟨S8, .i32⟩
  | 67 => ⟨S8, .i32⟩
  | 68 => ⟨S_, .i32⟩
  | 69 => ⟨S8, .i32⟩
  | 70 => ⟨S8, .i32⟩
  | 71 => ⟨S_, .i32⟩
  | 72 => ⟨S8, .i32⟩
  | 73 => ⟨S8, .i32⟩
  | 74 => ⟨S8, .i32⟩
  | 75 => ⟨S8, .i32⟩
  | 76 => ⟨S8, .i32⟩
  | 77 => ⟨S_, .i32⟩
  | 78 => ⟨S8, .i32⟩
  | 79 => ⟨S8, .i32⟩
  | 80 => ⟨S_, .i32⟩
  | 81 => ⟨S8, .i32⟩
  | 82 => ⟨S8, .i32⟩
  | 83 => ⟨S8, .i32⟩
  | 84 => ⟨S8, .i32⟩
  | 85 => ⟨S8, .i32⟩
  | 86 => ⟨S8, .i32⟩
  | 87 => ⟨S8, .i32⟩
  | 88 => ⟨S8, .i32⟩
  | 89 => ⟨S_, .i32⟩
  | 90 => ⟨S8, .i32⟩
  | 91 => ⟨S8, .i32⟩
  | 92 => ⟨S8, .i32⟩
  | 93 => ⟨S_, .i32⟩
  | 94 => ⟨S8, .i32⟩
  | 95 => ⟨S8, .i32⟩
  | 96 => ⟨S_, .i32⟩
  | 97 => ⟨S8, .i32⟩
  | 98 => ⟨S8, .i32⟩
  | 99 => ⟨S8, .i32⟩
  | 100 => ⟨S8, .i32⟩
  | 101 => ⟨S8, .i32⟩
  | 102 => ⟨S_, .i32⟩
  | 103 => ⟨S8, .i32⟩
  | 104 => ⟨S8, .i32⟩
  | 105 => ⟨S_, .i32⟩
  | 106 => ⟨S8, .i32⟩
  | 107 => ⟨S8, .i32⟩
  | 108 => ⟨S8, .i32⟩
  | 109 => ⟨S8, .i32⟩
  | 110 => ⟨S8, .i32⟩
  | 111 => ⟨S_, .i32⟩
  | 112 => ⟨S8, .i32⟩
  | 113 => ⟨S8, .i32⟩
  | 114 => ⟨S_, .i32⟩
  | 115 => ⟨S8, .i32⟩
  | 116 => ⟨S8, .i32⟩
  | 117 => ⟨S8, .i32⟩
  | 118 => ⟨S8, .i32⟩
  | 119 => ⟨S8, .i32⟩
  | 120 => ⟨S_, .i32⟩
  | 121 => ⟨S8, .i32⟩
  | 122 => ⟨S8, .i32⟩
  | 123 => ⟨S_, .i32⟩
  | 124 => ⟨S8, .i32⟩
  | 125 => ⟨S8, .i32⟩
  | 126 => ⟨S8, .i32⟩
  | 127 => ⟨S8, .i32⟩
  | _ => ⟨S8x32768, .i32⟩

abbrev hbmTy0_11 (i : Nat) : BufTy := match i % 128 with
  | 0 => ⟨S8, .i32⟩
  | 1 => ⟨S8, .i32⟩
  | 2 => ⟨S8, .i32⟩
  | 3 => ⟨S8, .i32⟩
  | 4 => ⟨S_, .i32⟩
  | 5 => ⟨S8, .i32⟩
  | 6 => ⟨S8, .i32⟩
  | 7 => ⟨S8, .i32⟩
  | 8 => ⟨S_, .i32⟩
  | 9 => ⟨S8, .i32⟩
  | 10 => ⟨S8, .i32⟩
  | 11 => ⟨S_, .i32⟩
  | 12 => ⟨S8, .i32⟩
  | 13 => ⟨S8, .i32⟩
  | 14 => ⟨S8, .i32⟩
  | 15 => ⟨S8, .i32⟩
  | 16 => ⟨S8, .i32⟩
  | 17 => ⟨S_, .i32⟩
  | 18 => ⟨S8, .i32⟩
  | 19 => ⟨S8, .i32⟩
  | 20 => ⟨S_, .i32⟩
  | 21 => ⟨S8, .i32⟩
  | 22 => ⟨S8, .i32⟩
  | 23 => ⟨S8, .i32⟩
  | 24 => ⟨S8, .i32⟩
  | 25 => ⟨S8, .i32⟩
  | 26 => ⟨S_, .i32⟩
  | 27 => ⟨S8, .i32⟩
  | 28 => ⟨S8, .i32⟩
  | 29 => ⟨S_, .i32⟩
  | 30 => ⟨S8, .i32⟩
  | 31 => ⟨S8, .i32⟩
  | 32 => ⟨S8, .i32⟩
  | 33 => ⟨S8, .i32⟩
  | 34 => ⟨S8, .i32⟩
  | 35 => ⟨S_, .i32⟩
  | 36 => ⟨S8, .i32⟩
  | 37 => ⟨S8, .i32⟩
  | 38 => ⟨S_, .i32⟩
  | 39 => ⟨S8, .i32⟩
  | 40 => ⟨S8, .i32⟩
  | 41 => ⟨S8, .i32⟩
  | 42 => ⟨S8, .i32⟩
  | 43 => ⟨S8, .i32⟩
  | 44 => ⟨S8, .i32⟩
  | 45 => ⟨S8, .i32⟩
  | 46 => ⟨S8, .i32⟩
  | 47 => ⟨S_, .i32⟩
  | 48 => ⟨S8, .i32⟩
  | 49 => ⟨S8, .i32⟩
  | 50 => ⟨S8, .i32⟩
  | 51 => ⟨S_, .i32⟩
  | 52 => ⟨S8, .i32⟩
  | 53 => ⟨S8, .i32⟩
  | 54 => ⟨S_, .i32⟩
  | 55 => ⟨S8, .i32⟩
  | 56 => ⟨S8, .i32⟩
  | 57 => ⟨S8, .i32⟩
  | 58 => ⟨S8, .i32⟩
  | 59 => ⟨S8, .i32⟩
  | 60 => ⟨S_, .i32⟩
  | 61 => ⟨S8, .i32⟩
  | 62 => ⟨S8, .i32⟩
  | 63 => ⟨S_, .i32⟩
  | 64 => ⟨S8, .i32⟩
  | 65 => ⟨S8, .i32⟩
  | 66 => ⟨S8, .i32⟩
  | 67 => ⟨S8, .i32⟩
  | 68 => ⟨S8, .i32⟩
  | 69 => ⟨S_, .i32⟩
  | 70 => ⟨S8, .i32⟩
  | 71 => ⟨S8, .i32⟩
  | 72 => ⟨S_, .i32⟩
  | 73 => ⟨S8, .i32⟩
  | 74 => ⟨S8, .i32⟩
  | 75 => ⟨S8, .i32⟩
  | 76 => ⟨S8, .i32⟩
  | 77 => ⟨S8, .i32⟩
  | 78 => ⟨S_, .i32⟩
  | 79 => ⟨S8, .i32⟩
  | 80 => ⟨S8, .i32⟩
  | 81 => ⟨S_, .i32⟩
  | 82 => ⟨S8, .i32⟩
  | 83 => ⟨S8, .i32⟩
  | 84 => ⟨S8, .i32⟩
  | 85 => ⟨S8, .i32⟩
  | 86 => ⟨S8, .i32⟩
  | 87 => ⟨S8, .i32⟩
  | 88 => ⟨S8, .i32⟩
  | 89 => ⟨S8, .i32⟩
  | 90 => ⟨S_, .i32⟩
  | 91 => ⟨S8, .i32⟩
  | 92 => ⟨S8, .i32⟩
  | 93 => ⟨S8, .i32⟩
  | 94 => ⟨S_, .i32⟩
  | 95 => ⟨S8, .i32⟩
  | 96 => ⟨S8, .i32⟩
  | 97 => ⟨S_, .i32⟩
  | 98 => ⟨S8, .i32⟩
  | 99 => ⟨S8, .i32⟩
  | 100 => ⟨S8, .i32⟩
  | 101 => ⟨S8, .i32⟩
  | 102 => ⟨S8, .i32⟩
  | 103 => ⟨S_, .i32⟩
  | 104 => ⟨S8, .i32⟩
  | 105 => ⟨S8, .i32⟩
  | 106 => ⟨S_, .i32⟩
  | 107 => ⟨S8, .i32⟩
  | 108 => ⟨S8, .i32⟩
  | 109 => ⟨S8, .i32⟩
  | 110 => ⟨S8, .i32⟩
  | 111 => ⟨S8, .i32⟩
  | 112 => ⟨S_, .i32⟩
  | 113 => ⟨S8, .i32⟩
  | 114 => ⟨S8, .i32⟩
  | 115 => ⟨S_, .i32⟩
  | 116 => ⟨S8, .i32⟩
  | 117 => ⟨S8, .i32⟩
  | 118 => ⟨S8, .i32⟩
  | 119 => ⟨S8, .i32⟩
  | 120 => ⟨S8, .i32⟩
  | 121 => ⟨S_, .i32⟩
  | 122 => ⟨S8, .i32⟩
  | 123 => ⟨S8, .i32⟩
  | 124 => ⟨S_, .i32⟩
  | 125 => ⟨S8, .i32⟩
  | 126 => ⟨S8, .i32⟩
  | 127 => ⟨S8, .i32⟩
  | _ => ⟨S8x32768, .i32⟩

abbrev hbmTy0_12 (i : Nat) : BufTy := match i % 128 with
  | 0 => ⟨S8, .i32⟩
  | 1 => ⟨S8, .i32⟩
  | 2 => ⟨S8, .i32⟩
  | 3 => ⟨S8, .i32⟩
  | 4 => ⟨S8, .i32⟩
  | 5 => ⟨S_, .i32⟩
  | 6 => ⟨S8, .i32⟩
  | 7 => ⟨S8, .i32⟩
  | 8 => ⟨S8, .i32⟩
  | 9 => ⟨S_, .i32⟩
  | 10 => ⟨S8, .i32⟩
  | 11 => ⟨S8, .i32⟩
  | 12 => ⟨S_, .i32⟩
  | 13 => ⟨S8, .i32⟩
  | 14 => ⟨S8, .i32⟩
  | 15 => ⟨S8, .f32⟩
  | 16 => ⟨S_, .f32⟩
  | 17 => ⟨S8, .f32⟩
  | 18 => ⟨S8, .f32⟩
  | 19 => ⟨S1, .f32⟩
  | 20 => ⟨S8, .f32⟩
  | 21 => ⟨S8, .f32⟩
  | 22 => ⟨S8, .f32⟩
  | 23 => ⟨S8, .f32⟩
  | 24 => ⟨S8, .f32⟩
  | 25 => ⟨S8, .f32⟩
  | 26 => ⟨S1, .i32⟩
  | 27 => ⟨S_, .i32⟩
  | 28 => ⟨S1, .i32⟩
  | 29 => ⟨S_, .i32⟩
  | 30 => ⟨S3, .i64⟩
  | 31 => ⟨S_, .i64⟩
  | 32 => ⟨S3, .i64⟩
  | 33 => ⟨S3, .i64⟩
  | 34 => ⟨S_, .i64⟩
  | 35 => ⟨S3, .i64⟩
  | 36 => ⟨S3, .i64⟩
  | 37 => ⟨S3, .i32⟩
  | 38 => ⟨S3, .i32⟩
  | 39 => ⟨S_, .i32⟩
  | 40 => ⟨S_, .i32⟩
  | 41 => ⟨S_, .i32⟩
  | 42 => ⟨S3, .i32⟩
  | 43 => ⟨S3, .i32⟩
  | 44 => ⟨S3, .i32⟩
  | 45 => ⟨S3, .i32⟩
  | 46 => ⟨S3, .i32⟩
  | 47 => ⟨S_, .i32⟩
  | 48 => ⟨S3, .i32⟩
  | 49 => ⟨S3, .i32⟩
  | 50 => ⟨S_, .i32⟩
  | 51 => ⟨S3, .i32⟩
  | 52 => ⟨S3, .i32⟩
  | 53 => ⟨S3, .i32⟩
  | 54 => ⟨S3, .i32⟩
  | 55 => ⟨S3, .i32⟩
  | 56 => ⟨S_, .i32⟩
  | 57 => ⟨S3, .i32⟩
  | 58 => ⟨S3, .i32⟩
  | 59 => ⟨S_, .i32⟩
  | 60 => ⟨S3, .i32⟩
  | 61 => ⟨S3, .i32⟩
  | 62 => ⟨S3, .i32⟩
  | 63 => ⟨S3, .i32⟩
  | 64 => ⟨S3, .i32⟩
  | 65 => ⟨S_, .i32⟩
  | 66 => ⟨S3, .i32⟩
  | 67 => ⟨S3, .i32⟩
  | 68 => ⟨S_, .i32⟩
  | 69 => ⟨S3, .i32⟩
  | 70 => ⟨S3, .i32⟩
  | 71 => ⟨S3, .i32⟩
  | 72 => ⟨S3, .i32⟩
  | 73 => ⟨S3, .i32⟩
  | 74 => ⟨S_, .i32⟩
  | 75 => ⟨S3, .i32⟩
  | 76 => ⟨S3, .i32⟩
  | 77 => ⟨S_, .i32⟩
  | 78 => ⟨S3, .i32⟩
  | 79 => ⟨S3, .i32⟩
  | 80 => ⟨S3, .i32⟩
  | 81 => ⟨S3, .i32⟩
  | 82 => ⟨S3, .i32⟩
  | 83 => ⟨S3, .i32⟩
  | 84 => ⟨S3, .i32⟩
  | 85 => ⟨S3, .i32⟩
  | 86 => ⟨S_, .i32⟩
  | 87 => ⟨S3, .i32⟩
  | 88 => ⟨S3, .i32⟩
  | 89 => ⟨S3, .i32⟩
  | 90 => ⟨S_, .i32⟩
  | 91 => ⟨S3, .i32⟩
  | 92 => ⟨S3, .i32⟩
  | 93 => ⟨S_, .i32⟩
  | 94 => ⟨S3, .i32⟩
  | 95 => ⟨S3, .i32⟩
  | 96 => ⟨S3, .i32⟩
  | 97 => ⟨S3, .i32⟩
  | 98 => ⟨S3, .i32⟩
  | 99 => ⟨S_, .i32⟩
  | 100 => ⟨S3, .i32⟩
  | 101 => ⟨S3, .i32⟩
  | 102 => ⟨S_, .i32⟩
  | 103 => ⟨S3, .i32⟩
  | 104 => ⟨S3, .i32⟩
  | 105 => ⟨S3, .i32⟩
  | 106 => ⟨S3, .i32⟩
  | 107 => ⟨S3, .i32⟩
  | 108 => ⟨S_, .i32⟩
  | 109 => ⟨S3, .i32⟩
  | 110 => ⟨S3, .i32⟩
  | 111 => ⟨S_, .i32⟩
  | 112 => ⟨S3, .i32⟩
  | 113 => ⟨S3, .i32⟩
  | 114 => ⟨S3, .i32⟩
  | 115 => ⟨S3, .i32⟩
  | 116 => ⟨S3, .i32⟩
  | 117 => ⟨S_, .i32⟩
  | 118 => ⟨S3, .i32⟩
  | 119 => ⟨S3, .i32⟩
  | 120 => ⟨S_, .i32⟩
  | 121 => ⟨S3, .i32⟩
  | 122 => ⟨S3, .i32⟩
  | 123 => ⟨S3, .i32⟩
  | 124 => ⟨S3, .i32⟩
  | 125 => ⟨S3, .i32⟩
  | 126 => ⟨S3, .i32⟩
  | 127 => ⟨S3, .i32⟩
  | _ => ⟨S8x32768, .i32⟩

abbrev hbmTy0_13 (i : Nat) : BufTy := match i % 128 with
  | 0 => ⟨S3, .i32⟩
  | 1 => ⟨S_, .i32⟩
  | 2 => ⟨S3, .i32⟩
  | 3 => ⟨S3, .i32⟩
  | 4 => ⟨S3, .i32⟩
  | 5 => ⟨S_, .i32⟩
  | 6 => ⟨S3, .i32⟩
  | 7 => ⟨S3, .i32⟩
  | 8 => ⟨S_, .i32⟩
  | 9 => ⟨S3, .i32⟩
  | 10 => ⟨S3, .i32⟩
  | 11 => ⟨S3, .i32⟩
  | 12 => ⟨S3, .i32⟩
  | 13 => ⟨S3, .i32⟩
  | 14 => ⟨S_, .i32⟩
  | 15 => ⟨S3, .i32⟩
  | 16 => ⟨S3, .i32⟩
  | 17 => ⟨S_, .i32⟩
  | 18 => ⟨S3, .i32⟩
  | 19 => ⟨S3, .i32⟩
  | 20 => ⟨S3, .i32⟩
  | 21 => ⟨S3, .i32⟩
  | 22 => ⟨S3, .i32⟩
  | 23 => ⟨S_, .i32⟩
  | 24 => ⟨S3, .i32⟩
  | 25 => ⟨S3, .i32⟩
  | 26 => ⟨S_, .i32⟩
  | 27 => ⟨S3, .i32⟩
  | 28 => ⟨S3, .i32⟩
  | 29 => ⟨S3, .i32⟩
  | 30 => ⟨S3, .i32⟩
  | 31 => ⟨S3, .i32⟩
  | 32 => ⟨S_, .i32⟩
  | 33 => ⟨S3, .i32⟩
  | 34 => ⟨S3, .i32⟩
  | 35 => ⟨S_, .i32⟩
  | 36 => ⟨S3, .i32⟩
  | 37 => ⟨S3, .i32⟩
  | 38 => ⟨S3, .i32⟩
  | 39 => ⟨S3, .i32⟩
  | 40 => ⟨S3, .i32⟩
  | 41 => ⟨S3, .i32⟩
  | 42 => ⟨S3, .i32⟩
  | 43 => ⟨S3, .i32⟩
  | 44 => ⟨S_, .i32⟩
  | 45 => ⟨S3, .i32⟩
  | 46 => ⟨S3, .i32⟩
  | 47 => ⟨S3, .i32⟩
  | 48 => ⟨S_, .i32⟩
  | 49 => ⟨S3, .i32⟩
  | 50 => ⟨S3, .i32⟩
  | 51 => ⟨S_, .i32⟩
  | 52 => ⟨S3, .i32⟩
  | 53 => ⟨S3, .i32⟩
  | 54 => ⟨S3, .i32⟩
  | 55 => ⟨S3, .i32⟩
  | 56 => ⟨S3, .i32⟩
  | 57 => ⟨S_, .i32⟩
  | 58 => ⟨S3, .i32⟩
  | 59 => ⟨S3, .i32⟩
  | 60 => ⟨S_, .i32⟩
  | 61 => ⟨S3, .i32⟩
  | 62 => ⟨S3, .i32⟩
  | 63 => ⟨S3, .i32⟩
  | 64 => ⟨S3, .i32⟩
  | 65 => ⟨S3, .i32⟩
  | 66 => ⟨S_, .i32⟩
  | 67 => ⟨S3, .i32⟩
  | 68 => ⟨S3, .i32⟩
  | 69 => ⟨S_, .i32⟩
  | 70 => ⟨S3, .i32⟩
  | 71 => ⟨S3, .i32⟩
  | 72 => ⟨S3, .i32⟩
  | 73 => ⟨S3, .i32⟩
  | 74 => ⟨S3, .i32⟩
  | 75 => ⟨S_, .i32⟩
  | 76 => ⟨S3, .i32⟩
  | 77 => ⟨S3, .i32⟩
  | 78 => ⟨S_, .i32⟩
  | 79 => ⟨S3, .i32⟩
  | 80 => ⟨S3, .i32⟩
  | 81 => ⟨S3, .i32⟩
  | 82 => ⟨S3, .i32⟩
  | 83 => ⟨S3, .i32⟩
  | 84 => ⟨S3, .i32⟩
  | 85 => ⟨S3, .i32⟩
  | 86 => ⟨S3, .i32⟩
  | 87 => ⟨S_, .i32⟩
  | 88 => ⟨S3, .i32⟩
  | 89 => ⟨S3, .i32⟩
  | 90 => ⟨S3, .i32⟩
  | 91 => ⟨S_, .i32⟩
  | 92 => ⟨S3, .i32⟩
  | 93 => ⟨S3, .i32⟩
  | 94 => ⟨S_, .i32⟩
  | 95 => ⟨S3, .i32⟩
  | 96 => ⟨S3, .i32⟩
  | 97 => ⟨S3, .i32⟩
  | 98 => ⟨S3, .i32⟩
  | 99 => ⟨S3, .i32⟩
  | 100 => ⟨S_, .i32⟩
  | 101 => ⟨S3, .i32⟩
  | 102 => ⟨S3, .i32⟩
  | 103 => ⟨S_, .i32⟩
  | 104 => ⟨S3, .i32⟩
  | 105 => ⟨S3, .i32⟩
  | 106 => ⟨S3, .i32⟩
  | 107 => ⟨S3, .i32⟩
  | 108 => ⟨S3, .i32⟩
  | 109 => ⟨S_, .i32⟩
  | 110 => ⟨S3, .i32⟩
  | 111 => ⟨S3, .i32⟩
  | 112 => ⟨S_, .i32⟩
  | 113 => ⟨S3, .i32⟩
  | 114 => ⟨S3, .i32⟩
  | 115 => ⟨S3, .i32⟩
  | 116 => ⟨S3, .i32⟩
  | 117 => ⟨S3, .i32⟩
  | 118 => ⟨S_, .i32⟩
  | 119 => ⟨S3, .i32⟩
  | 120 => ⟨S3, .i32⟩
  | 121 => ⟨S_, .i32⟩
  | 122 => ⟨S3, .i32⟩
  | 123 => ⟨S3, .i32⟩
  | 124 => ⟨S3, .i32⟩
  | 125 => ⟨S3, .i32⟩
  | 126 => ⟨S3, .i32⟩
  | 127 => ⟨S3, .i32⟩
  | _ => ⟨S8x32768, .i32⟩

abbrev hbmTy0_14 (i : Nat) : BufTy := match i % 128 with
  | 0 => ⟨S3, .i32⟩
  | 1 => ⟨S3, .i32⟩
  | 2 => ⟨S_, .i32⟩
  | 3 => ⟨S3, .i32⟩
  | 4 => ⟨S3, .i32⟩
  | 5 => ⟨S3x1, .i32⟩
  | 6 => ⟨S3x1, .i32⟩
  | 7 => ⟨S3x2, .i32⟩
  | 8 => ⟨S1x2, .i32⟩
  | 9 => ⟨S2, .i32⟩
  | 10 => ⟨S1x2, .i32⟩
  | 11 => ⟨S2, .i32⟩
  | 12 => ⟨S1x2, .i32⟩
  | 13 => ⟨S2, .i32⟩
  | 14 => ⟨S_, .f32⟩
  | 15 => ⟨S_, .f32⟩
  | 16 => ⟨S_, .f32⟩
  | 17 => ⟨S1x1x1, .f32⟩
  | 18 => ⟨S1x1x1, .f32⟩
  | 19 => ⟨S1, .i32⟩
  | 20 => ⟨S_, .i32⟩
  | 21 => ⟨S1, .i32⟩
  | 22 => ⟨S_, .i32⟩
  | 23 => ⟨S8x32768x4, .i64⟩
  | 24 => ⟨S8x32768x4, .i64⟩
  | 25 => ⟨S8x32768x4, .i64⟩
  | 26 => ⟨S_, .i64⟩
  | 27 => ⟨S8x32768x4, .i64⟩
  | 28 => ⟨S8x32768x4, .i64⟩
  | 29 => ⟨S_, .i64⟩
  | 30 => ⟨S8x32768x4, .i64⟩
  | 31 => ⟨S8x32768x4, .i64⟩
  | 32 => ⟨S_, .i64⟩
  | 33 => ⟨S8x32768x4, .i64⟩
  | 34 => ⟨S8x32768x4, .i64⟩
  | 35 => ⟨S8x32768x4, .i64⟩
  | 36 => ⟨S8x32768x4, .i64⟩
  | 37 => ⟨S_, .i64⟩
  | 38 => ⟨S8x32768x4, .i64⟩
  | 39 => ⟨S8x32768x4, .i64⟩
  | 40 => ⟨S8x32768x4, .i32⟩
  | 41 => ⟨S8x32768x4, .i32⟩
  | 42 => ⟨S_, .i32⟩
  | 43 => ⟨S_, .i32⟩
  | 44 => ⟨S_, .i32⟩
  | 45 => ⟨S8x32768x4, .i32⟩
  | 46 => ⟨S8x32768x4, .i32⟩
  | 47 => ⟨S8x32768x4, .i32⟩
  | 48 => ⟨S8x32768x4, .i32⟩
  | 49 => ⟨S8x32768x4, .i32⟩
  | 50 => ⟨S_, .i32⟩
  | 51 => ⟨S8x32768x4, .i32⟩
  | 52 => ⟨S8x32768x4, .i32⟩
  | 53 => ⟨S_, .i32⟩
  | 54 => ⟨S8x32768x4, .i32⟩
  | 55 => ⟨S8x32768x4, .i32⟩
  | 56 => ⟨S8x32768x4, .i32⟩
  | 57 => ⟨S8x32768x4, .i32⟩
  | 58 => ⟨S8x32768x4, .i32⟩
  | 59 => ⟨S_, .i32⟩
  | 60 => ⟨S8x32768x4, .i32⟩
  | 61 => ⟨S8x32768x4, .i32⟩
  | 62 => ⟨S_, .i32⟩
  | 63 => ⟨S8x32768x4, .i32⟩
  | 64 => ⟨S8x32768x4, .i32⟩
  | 65 => ⟨S8x32768x4, .i32⟩
  | 66 => ⟨S8x32768x4, .i32⟩
  | 67 => ⟨S8x32768x4, .i32⟩
  | 68 => ⟨S_, .i32⟩
  | 69 => ⟨S8x32768x4, .i32⟩
  | 70 => ⟨S8x32768x4, .i32⟩
  | 71 => ⟨S_, .i32⟩
  | 72 => ⟨S8x32768x4, .i32⟩
  | 73 => ⟨S8x32768x4, .i32⟩
  | 74 => ⟨S8x32768x4, .i32⟩
  | 75 => ⟨S8x32768x4, .i32⟩
  | 76 => ⟨S8x32768x4, .i32⟩
  | 77 => ⟨S_, .i32⟩
  | 78 => ⟨S8x32768x4, .i32⟩
  | 79 => ⟨S8x32768x4, .i32⟩
  | 80 => ⟨S_, .i32⟩
  | 81 => ⟨S8x32768x4, .i32⟩
  | 82 => ⟨S8x32768x4, .i32⟩
  | 83 => ⟨S8x32768x4, .i32⟩
  | 84 => ⟨S8x32768x4, .i32⟩
  | 85 => ⟨S8x32768x4, .i32⟩
  | 86 => ⟨S8x32768x4, .i32⟩
  | 87 => ⟨S8x32768x4, .i32⟩
  | 88 => ⟨S8x32768x4, .i32⟩
  | 89 => ⟨S_, .i32⟩
  | 90 => ⟨S8x32768x4, .i32⟩
  | 91 => ⟨S8x32768x4, .i32⟩
  | 92 => ⟨S8x32768x4, .i32⟩
  | 93 => ⟨S_, .i32⟩
  | 94 => ⟨S8x32768x4, .i32⟩
  | 95 => ⟨S8x32768x4, .i32⟩
  | 96 => ⟨S_, .i32⟩
  | 97 => ⟨S8x32768x4, .i32⟩
  | 98 => ⟨S8x32768x4, .i32⟩
  | 99 => ⟨S8x32768x4, .i32⟩
  | 100 => ⟨S8x32768x4, .i32⟩
  | 101 => ⟨S8x32768x4, .i32⟩
  | 102 => ⟨S_, .i32⟩
  | 103 => ⟨S8x32768x4, .i32⟩
  | 104 => ⟨S8x32768x4, .i32⟩
  | 105 => ⟨S_, .i32⟩
  | 106 => ⟨S8x32768x4, .i32⟩
  | 107 => ⟨S8x32768x4, .i32⟩
  | 108 => ⟨S8x32768x4, .i32⟩
  | 109 => ⟨S8x32768x4, .i32⟩
  | 110 => ⟨S8x32768x4, .i32⟩
  | 111 => ⟨S_, .i32⟩
  | 112 => ⟨S8x32768x4, .i32⟩
  | 113 => ⟨S8x32768x4, .i32⟩
  | 114 => ⟨S_, .i32⟩
  | 115 => ⟨S8x32768x4, .i32⟩
  | 116 => ⟨S8x32768x4, .i32⟩
  | 117 => ⟨S8x32768x4, .i32⟩
  | 118 => ⟨S8x32768x4, .i32⟩
  | 119 => ⟨S8x32768x4, .i32⟩
  | 120 => ⟨S_, .i32⟩
  | 121 => ⟨S8x32768x4, .i32⟩
  | 122 => ⟨S8x32768x4, .i32⟩
  | 123 => ⟨S_, .i32⟩
  | 124 => ⟨S8x32768x4, .i32⟩
  | 125 => ⟨S8x32768x4, .i32⟩
  | 126 => ⟨S8x32768x4, .i32⟩
  | 127 => ⟨S8x32768x4, .i32⟩
  | _ => ⟨S8x32768, .i32⟩

abbrev hbmTy0_15 (i : Nat) : BufTy := match i % 128 with
  | 0 => ⟨S8x32768x4, .i32⟩
  | 1 => ⟨S8x32768x4, .i32⟩
  | 2 => ⟨S8x32768x4, .i32⟩
  | 3 => ⟨S8x32768x4, .i32⟩
  | 4 => ⟨S_, .i32⟩
  | 5 => ⟨S8x32768x4, .i32⟩
  | 6 => ⟨S8x32768x4, .i32⟩
  | 7 => ⟨S8x32768x4, .i32⟩
  | 8 => ⟨S_, .i32⟩
  | 9 => ⟨S8x32768x4, .i32⟩
  | 10 => ⟨S8x32768x4, .i32⟩
  | 11 => ⟨S_, .i32⟩
  | 12 => ⟨S8x32768x4, .i32⟩
  | 13 => ⟨S8x32768x4, .i32⟩
  | 14 => ⟨S8x32768x4, .i32⟩
  | 15 => ⟨S8x32768x4, .i32⟩
  | 16 => ⟨S8x32768x4, .i32⟩
  | 17 => ⟨S_, .i32⟩
  | 18 => ⟨S8x32768x4, .i32⟩
  | 19 => ⟨S8x32768x4, .i32⟩
  | 20 => ⟨S_, .i32⟩
  | 21 => ⟨S8x32768x4, .i32⟩
  | 22 => ⟨S8x32768x4, .i32⟩
  | 23 => ⟨S8x32768x4, .i32⟩
  | 24 => ⟨S8x32768x4, .i32⟩
  | 25 => ⟨S8x32768x4, .i32⟩
  | 26 => ⟨S_, .i32⟩
  | 27 => ⟨S8x32768x4, .i32⟩
  | 28 => ⟨S8x32768x4, .i32⟩
  | 29 => ⟨S_, .i32⟩
  | 30 => ⟨S8x32768x4, .i32⟩
  | 31 => ⟨S8x32768x4, .i32⟩
  | 32 => ⟨S8x32768x4, .i32⟩
  | 33 => ⟨S8x32768x4, .i32⟩
  | 34 => ⟨S8x32768x4, .i32⟩
  | 35 => ⟨S_, .i32⟩
  | 36 => ⟨S8x32768x4, .i32⟩
  | 37 => ⟨S8x32768x4, .i32⟩
  | 38 => ⟨S_, .i32⟩
  | 39 => ⟨S8x32768x4, .i32⟩
  | 40 => ⟨S8x32768x4, .i32⟩
  | 41 => ⟨S8x32768x4, .i32⟩
  | 42 => ⟨S8x32768x4, .i32⟩
  | 43 => ⟨S8x32768x4, .i32⟩
  | 44 => ⟨S8x32768x4, .i32⟩
  | 45 => ⟨S8x32768x4, .i32⟩
  | 46 => ⟨S8x32768x4, .i32⟩
  | 47 => ⟨S_, .i32⟩
  | 48 => ⟨S8x32768x4, .i32⟩
  | 49 => ⟨S8x32768x4, .i32⟩
  | 50 => ⟨S8x32768x4, .i32⟩
  | 51 => ⟨S_, .i32⟩
  | 52 => ⟨S8x32768x4, .i32⟩
  | 53 => ⟨S8x32768x4, .i32⟩
  | 54 => ⟨S_, .i32⟩
  | 55 => ⟨S8x32768x4, .i32⟩
  | 56 => ⟨S8x32768x4, .i32⟩
  | 57 => ⟨S8x32768x4, .i32⟩
  | 58 => ⟨S8x32768x4, .i32⟩
  | 59 => ⟨S8x32768x4, .i32⟩
  | 60 => ⟨S_, .i32⟩
  | 61 => ⟨S8x32768x4, .i32⟩
  | 62 => ⟨S8x32768x4, .i32⟩
  | 63 => ⟨S_, .i32⟩
  | 64 => ⟨S8x32768x4, .i32⟩
  | 65 => ⟨S8x32768x4, .i32⟩
  | 66 => ⟨S8x32768x4, .i32⟩
  | 67 => ⟨S8x32768x4, .i32⟩
  | 68 => ⟨S8x32768x4, .i32⟩
  | 69 => ⟨S_, .i32⟩
  | 70 => ⟨S8x32768x4, .i32⟩
  | 71 => ⟨S8x32768x4, .i32⟩
  | 72 => ⟨S_, .i32⟩
  | 73 => ⟨S8x32768x4, .i32⟩
  | 74 => ⟨S8x32768x4, .i32⟩
  | 75 => ⟨S8x32768x4, .i32⟩
  | 76 => ⟨S8x32768x4, .i32⟩
  | 77 => ⟨S8x32768x4, .i32⟩
  | 78 => ⟨S_, .i32⟩
  | 79 => ⟨S8x32768x4, .i32⟩
  | 80 => ⟨S8x32768x4, .i32⟩
  | 81 => ⟨S_, .i32⟩
  | 82 => ⟨S8x32768x4, .i32⟩
  | 83 => ⟨S8x32768x4, .i32⟩
  | 84 => ⟨S8x32768x4, .i32⟩
  | 85 => ⟨S8x32768x4, .i32⟩
  | 86 => ⟨S8x32768x4, .i32⟩
  | 87 => ⟨S8x32768x4, .i32⟩
  | 88 => ⟨S8x32768x4, .i32⟩
  | 89 => ⟨S8x32768x4, .i32⟩
  | 90 => ⟨S_, .i32⟩
  | 91 => ⟨S8x32768x4, .i32⟩
  | 92 => ⟨S8x32768x4, .i32⟩
  | 93 => ⟨S8x32768x4, .i32⟩
  | 94 => ⟨S_, .i32⟩
  | 95 => ⟨S8x32768x4, .i32⟩
  | 96 => ⟨S8x32768x4, .i32⟩
  | 97 => ⟨S_, .i32⟩
  | 98 => ⟨S8x32768x4, .i32⟩
  | 99 => ⟨S8x32768x4, .i32⟩
  | 100 => ⟨S8x32768x4, .i32⟩
  | 101 => ⟨S8x32768x4, .i32⟩
  | 102 => ⟨S8x32768x4, .i32⟩
  | 103 => ⟨S_, .i32⟩
  | 104 => ⟨S8x32768x4, .i32⟩
  | 105 => ⟨S8x32768x4, .i32⟩
  | 106 => ⟨S_, .i32⟩
  | 107 => ⟨S8x32768x4, .i32⟩
  | 108 => ⟨S8x32768x4, .i32⟩
  | 109 => ⟨S8x32768x4, .i32⟩
  | 110 => ⟨S8x32768x4, .i32⟩
  | 111 => ⟨S8x32768x4, .i32⟩
  | 112 => ⟨S_, .i32⟩
  | 113 => ⟨S8x32768x4, .i32⟩
  | 114 => ⟨S8x32768x4, .i32⟩
  | 115 => ⟨S_, .i32⟩
  | 116 => ⟨S8x32768x4, .i32⟩
  | 117 => ⟨S8x32768x4, .i32⟩
  | 118 => ⟨S8x32768x4, .i32⟩
  | 119 => ⟨S8x32768x4, .i32⟩
  | 120 => ⟨S8x32768x4, .i32⟩
  | 121 => ⟨S_, .i32⟩
  | 122 => ⟨S8x32768x4, .i32⟩
  | 123 => ⟨S8x32768x4, .i32⟩
  | 124 => ⟨S_, .i32⟩
  | 125 => ⟨S8x32768x4, .i32⟩
  | 126 => ⟨S8x32768x4, .i32⟩
  | 127 => ⟨S8x32768x4, .i32⟩
  | _ => ⟨S8x32768, .i32⟩

abbrev hbmTy0_16 (i : Nat) : BufTy := match i % 128 with
  | 0 => ⟨S8x32768x4, .i32⟩
  | 1 => ⟨S8x32768x4, .i32⟩
  | 2 => ⟨S8x32768x4, .i32⟩
  | 3 => ⟨S8x32768x4, .i32⟩
  | 4 => ⟨S8x32768x4, .i32⟩
  | 5 => ⟨S_, .i32⟩
  | 6 => ⟨S8x32768x4, .i32⟩
  | 7 => ⟨S8x32768x4, .i32⟩
  | 8 => ⟨S8x32768x4, .i32⟩
  | 9 => ⟨S_, .i32⟩
  | 10 => ⟨S8x32768x4, .i32⟩
  | 11 => ⟨S8x32768x4, .i32⟩
  | 12 => ⟨S_, .i32⟩
  | 13 => ⟨S8x32768x4, .i32⟩
  | 14 => ⟨S8x32768x4, .i32⟩
  | 15 => ⟨S8x32768x4, .f32⟩
  | 16 => ⟨S_, .f32⟩
  | 17 => ⟨S8x32768x4, .f32⟩
  | 18 => ⟨S8x32768x4, .f32⟩
  | 19 => ⟨S1x1x1, .f32⟩
  | 20 => ⟨S8x32768x4, .f32⟩
  | 21 => ⟨S8x32768x4, .f32⟩
  | 22 => ⟨S8x32768x4, .f32⟩
  | 23 => ⟨S8x32768x4, .f32⟩
  | 24 => ⟨S8x32768x4, .f32⟩
  | 25 => ⟨S8x32768x4, .f32⟩
  | 26 => ⟨S8x32768x4, .f32⟩
  | 27 => ⟨S8x32768x4, .f32⟩
  | 28 => ⟨S8x32768x4, .f32⟩
  | 29 => ⟨S8x32768x4, .f32⟩
  | 30 => ⟨S_, .f32⟩
  | 31 => ⟨S_, .f32⟩
  | 32 => ⟨S_, .f32⟩
  | 33 => ⟨S_, .f32⟩
  | 34 => ⟨S1, .f32⟩
  | 35 => ⟨S1, .f32⟩
  | 36 => ⟨S1, .i32⟩
  | 37 => ⟨S_, .i32⟩
  | 38 => ⟨S1, .i32⟩
  | 39 => ⟨S_, .i32⟩
  | 40 => ⟨S8, .i64⟩
  | 41 => ⟨S_, .i64⟩
  | 42 => ⟨S8, .i64⟩
  | 43 => ⟨S8, .i64⟩
  | 44 => ⟨S_, .i64⟩
  | 45 => ⟨S8, .i64⟩
  | 46 => ⟨S8, .i64⟩
  | 47 => ⟨S8, .i32⟩
  | 48 => ⟨S8, .i32⟩
  | 49 => ⟨S_, .i32⟩
  | 50 => ⟨S_, .i32⟩
  | 51 => ⟨S_, .i32⟩
  | 52 => ⟨S8, .i32⟩
  | 53 => ⟨S8, .i32⟩
  | 54 => ⟨S8, .i32⟩
  | 55 => ⟨S8, .i32⟩
  | 56 => ⟨S8, .i32⟩
  | 57 => ⟨S_, .i32⟩
  | 58 => ⟨S8, .i32⟩
  | 59 => ⟨S8, .i32⟩
  | 60 => ⟨S_, .i32⟩
  | 61 => ⟨S8, .i32⟩
  | 62 => ⟨S8, .i32⟩
  | 63 => ⟨S8, .i32⟩
  | 64 => ⟨S8, .i32⟩
  | 65 => ⟨S8, .i32⟩
  | 66 => ⟨S_, .i32⟩
  | 67 => ⟨S8, .i32⟩
  | 68 => ⟨S8, .i32⟩
  | 69 => ⟨S_, .i32⟩
  | 70 => ⟨S8, .i32⟩
  | 71 => ⟨S8, .i32⟩
  | 72 => ⟨S8, .i32⟩
  | 73 => ⟨S8, .i32⟩
  | 74 => ⟨S8, .i32⟩
  | 75 => ⟨S_, .i32⟩
  | 76 => ⟨S8, .i32⟩
  | 77 => ⟨S8, .i32⟩
  | 78 => ⟨S_, .i32⟩
  | 79 => ⟨S8, .i32⟩
  | 80 => ⟨S8, .i32⟩
  | 81 => ⟨S8, .i32⟩
  | 82 => ⟨S8, .i32⟩
  | 83 => ⟨S8, .i32⟩
  | 84 => ⟨S_, .i32⟩
  | 85 => ⟨S8, .i32⟩
  | 86 => ⟨S8, .i32⟩
  | 87 => ⟨S_, .i32⟩
  | 88 => ⟨S8, .i32⟩
  | 89 => ⟨S8, .i32⟩
  | 90 => ⟨S8, .i32⟩
  | 91 => ⟨S8, .i32⟩
  | 92 => ⟨S8, .i32⟩
  | 93 => ⟨S8, .i32⟩
  | 94 => ⟨S8, .i32⟩
  | 95 => ⟨S8, .i32⟩
  | 96 => ⟨S_, .i32⟩
  | 97 => ⟨S8, .i32⟩
  | 98 => ⟨S8, .i32⟩
  | 99 => ⟨S8, .i32⟩
  | 100 => ⟨S_, .i32⟩
  | 101 => ⟨S8, .i32⟩
  | 102 => ⟨S8, .i32⟩
  | 103 => ⟨S_, .i32⟩
  | 104 => ⟨S8, .i32⟩
  | 105 => ⟨S8, .i32⟩
  | 106 => ⟨S8, .i32⟩
  | 107 => ⟨S8, .i32⟩
  | 108 => ⟨S8, .i32⟩
  | 109 => ⟨S_, .i32⟩
  | 110 => ⟨S8, .i32⟩
  | 111 => ⟨S8, .i32⟩
  | 112 => ⟨S_, .i32⟩
  | 113 => ⟨S8, .i32⟩
  | 114 => ⟨S8, .i32⟩
  | 115 => ⟨S8, .i32⟩
  | 116 => ⟨S8, .i32⟩
  | 117 => ⟨S8, .i32⟩
  | 118 => ⟨S_, .i32⟩
  | 119 => ⟨S8, .i32⟩
  | 120 => ⟨S8, .i32⟩
  | 121 => ⟨S_, .i32⟩
  | 122 => ⟨S8, .i32⟩
  | 123 => ⟨S8, .i32⟩
  | 124 => ⟨S8, .i32⟩
  | 125 => ⟨S8, .i32⟩
  | 126 => ⟨S8, .i32⟩
  | 127 => ⟨S_, .i32⟩
  | _ => ⟨S8x32768, .i32⟩

abbrev hbmTy0_17 (i : Nat) : BufTy := match i % 128 with
  | 0 => ⟨S8, .i32⟩
  | 1 => ⟨S8, .i32⟩
  | 2 => ⟨S_, .i32⟩
  | 3 => ⟨S8, .i32⟩
  | 4 => ⟨S8, .i32⟩
  | 5 => ⟨S8, .i32⟩
  | 6 => ⟨S8, .i32⟩
  | 7 => ⟨S8, .i32⟩
  | 8 => ⟨S8, .i32⟩
  | 9 => ⟨S8, .i32⟩
  | 10 => ⟨S8, .i32⟩
  | 11 => ⟨S_, .i32⟩
  | 12 => ⟨S8, .i32⟩
  | 13 => ⟨S8, .i32⟩
  | 14 => ⟨S8, .i32⟩
  | 15 => ⟨S_, .i32⟩
  | 16 => ⟨S8, .i32⟩
  | 17 => ⟨S8, .i32⟩
  | 18 => ⟨S_, .i32⟩
  | 19 => ⟨S8, .i32⟩
  | 20 => ⟨S8, .i32⟩
  | 21 => ⟨S8, .i32⟩
  | 22 => ⟨S8, .i32⟩
  | 23 => ⟨S8, .i32⟩
  | 24 => ⟨S_, .i32⟩
  | 25 => ⟨S8, .i32⟩
  | 26 => ⟨S8, .i32⟩
  | 27 => ⟨S_, .i32⟩
  | 28 => ⟨S8, .i32⟩
  | 29 => ⟨S8, .i32⟩
  | 30 => ⟨S8, .i32⟩
  | 31 => ⟨S8, .i32⟩
  | 32 => ⟨S8, .i32⟩
  | 33 => ⟨S_, .i32⟩
  | 34 => ⟨S8, .i32⟩
  | 35 => ⟨S8, .i32⟩
  | 36 => ⟨S_, .i32⟩
  | 37 => ⟨S8, .i32⟩
  | 38 => ⟨S8, .i32⟩
  | 39 => ⟨S8, .i32⟩
  | 40 => ⟨S8, .i32⟩
  | 41 => ⟨S8, .i32⟩
  | 42 => ⟨S_, .i32⟩
  | 43 => ⟨S8, .i32⟩
  | 44 => ⟨S8, .i32⟩
  | 45 => ⟨S_, .i32⟩
  | 46 => ⟨S8, .i32⟩
  | 47 => ⟨S8, .i32⟩
  | 48 => ⟨S8, .i32⟩
  | 49 => ⟨S8, .i32⟩
  | 50 => ⟨S8, .i32⟩
  | 51 => ⟨S8, .i32⟩
  | 52 => ⟨S8, .i32⟩
  | 53 => ⟨S8, .i32⟩
  | 54 => ⟨S_, .i32⟩
  | 55 => ⟨S8, .i32⟩
  | 56 => ⟨S8, .i32⟩
  | 57 => ⟨S8, .i32⟩
  | 58 => ⟨S_, .i32⟩
  | 59 => ⟨S8, .i32⟩
  | 60 => ⟨S8, .i32⟩
  | 61 => ⟨S_, .i32⟩
  | 62 => ⟨S8, .i32⟩
  | 63 => ⟨S8, .i32⟩
  | 64 => ⟨S8, .i32⟩
  | 65 => ⟨S8, .i32⟩
  | 66 => ⟨S8, .i32⟩
  | 67 => ⟨S_, .i32⟩
  | 68 => ⟨S8, .i32⟩
  | 69 => ⟨S8, .i32⟩
  | 70 => ⟨S_, .i32⟩
  | 71 => ⟨S8, .i32⟩
  | 72 => ⟨S8, .i32⟩
  | 73 => ⟨S8, .i32⟩
  | 74 => ⟨S8, .i32⟩
  | 75 => ⟨S8, .i32⟩
  | 76 => ⟨S_, .i32⟩
  | 77 => ⟨S8, .i32⟩
  | 78 => ⟨S8, .i32⟩
  | 79 => ⟨S_, .i32⟩
  | 80 => ⟨S8, .i32⟩
  | 81 => ⟨S8, .i32⟩
  | 82 => ⟨S8, .i32⟩
  | 83 => ⟨S8, .i32⟩
  | 84 => ⟨S8, .i32⟩
  | 85 => ⟨S_, .i32⟩
  | 86 => ⟨S8, .i32⟩
  | 87 => ⟨S8, .i32⟩
  | 88 => ⟨S_, .i32⟩
  | 89 => ⟨S8, .i32⟩
  | 90 => ⟨S8, .i32⟩
  | 91 => ⟨S8, .i32⟩
  | 92 => ⟨S8, .i32⟩
  | 93 => ⟨S8, .i32⟩
  | 94 => ⟨S8, .i32⟩
  | 95 => ⟨S8, .i32⟩
  | 96 => ⟨S8, .i32⟩
  | 97 => ⟨S_, .i32⟩
  | 98 => ⟨S8, .i32⟩
  | 99 => ⟨S8, .i32⟩
  | 100 => ⟨S8, .i32⟩
  | 101 => ⟨S_, .i32⟩
  | 102 => ⟨S8, .i32⟩
  | 103 => ⟨S8, .i32⟩
  | 104 => ⟨S_, .i32⟩
  | 105 => ⟨S8, .i32⟩
  | 106 => ⟨S8, .i32⟩
  | 107 => ⟨S8, .i32⟩
  | 108 => ⟨S8, .i32⟩
  | 109 => ⟨S8, .i32⟩
  | 110 => ⟨S_, .i32⟩
  | 111 => ⟨S8, .i32⟩
  | 112 => ⟨S8, .i32⟩
  | 113 => ⟨S_, .i32⟩
  | 114 => ⟨S8, .i32⟩
  | 115 => ⟨S8, .i32⟩
  | 116 => ⟨S8, .i32⟩
  | 117 => ⟨S8, .i32⟩
  | 118 => ⟨S8, .i32⟩
  | 119 => ⟨S_, .i32⟩
  | 120 => ⟨S8, .i32⟩
  | 121 => ⟨S8, .i32⟩
  | 122 => ⟨S_, .i32⟩
  | 123 => ⟨S8, .i32⟩
  | 124 => ⟨S8, .i32⟩
  | 125 => ⟨S8, .i32⟩
  | 126 => ⟨S8, .i32⟩
  | 127 => ⟨S8, .i32⟩
  | _ => ⟨S8x32768, .i32⟩

abbrev hbmTy0_18 (i : Nat) : BufTy := match i % 128 with
  | 0 => ⟨S_, .i32⟩
  | 1 => ⟨S8, .i32⟩
  | 2 => ⟨S8, .i32⟩
  | 3 => ⟨S_, .i32⟩
  | 4 => ⟨S8, .i32⟩
  | 5 => ⟨S8, .i32⟩
  | 6 => ⟨S8, .i32⟩
  | 7 => ⟨S8, .i32⟩
  | 8 => ⟨S8, .i32⟩
  | 9 => ⟨S8, .i32⟩
  | 10 => ⟨S8, .i32⟩
  | 11 => ⟨S8, .i32⟩
  | 12 => ⟨S_, .i32⟩
  | 13 => ⟨S8, .i32⟩
  | 14 => ⟨S8, .i32⟩
  | 15 => ⟨S8, .i32⟩
  | 16 => ⟨S_, .i32⟩
  | 17 => ⟨S8, .i32⟩
  | 18 => ⟨S8, .i32⟩
  | 19 => ⟨S_, .i32⟩
  | 20 => ⟨S8, .i32⟩
  | 21 => ⟨S8, .i32⟩
  | 22 => ⟨S8, .f32⟩
  | 23 => ⟨S_, .f32⟩
  | 24 => ⟨S8, .f32⟩
  | 25 => ⟨S8, .f32⟩
  | 26 => ⟨S1, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S1, .i32⟩
  | 34 => ⟨S_, .i32⟩
  | 35 => ⟨S1, .i32⟩
  | 36 => ⟨S_, .i32⟩
  | 37 => ⟨S3, .i64⟩
  | 38 => ⟨S_, .i64⟩
  | 39 => ⟨S3, .i64⟩
  | 40 => ⟨S3, .i64⟩
  | 41 => ⟨S_, .i64⟩
  | 42 => ⟨S3, .i64⟩
  | 43 => ⟨S3, .i64⟩
  | 44 => ⟨S3, .i32⟩
  | 45 => ⟨S3, .i32⟩
  | 46 => ⟨S_, .i32⟩
  | 47 => ⟨S_, .i32⟩
  | 48 => ⟨S_, .i32⟩
  | 49 => ⟨S3, .i32⟩
  | 50 => ⟨S3, .i32⟩
  | 51 => ⟨S3, .i32⟩
  | 52 => ⟨S3, .i32⟩
  | 53 => ⟨S3, .i32⟩
  | 54 => ⟨S_, .i32⟩
  | 55 => ⟨S3, .i32⟩
  | 56 => ⟨S3, .i32⟩
  | 57 => ⟨S_, .i32⟩
  | 58 => ⟨S3, .i32⟩
  | 59 => ⟨S3, .i32⟩
  | 60 => ⟨S3, .i32⟩
  | 61 => ⟨S3, .i32⟩
  | 62 => ⟨S3, .i32⟩
  | 63 => ⟨S_, .i32⟩
  | 64 => ⟨S3, .i32⟩
  | 65 => ⟨S3, .i32⟩
  | 66 => ⟨S_, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S_, .i32⟩
  | 76 => ⟨S3, .i32⟩
  | 77 => ⟨S3, .i32⟩
  | 78 => ⟨S3, .i32⟩
  | 79 => ⟨S3, .i32⟩
  | 80 => ⟨S3, .i32⟩
  | 81 => ⟨S_, .i32⟩
  | 82 => ⟨S3, .i32⟩
  | 83 => ⟨S3, .i32⟩
  | 84 => ⟨S_, .i32⟩
  | 85 => ⟨S3, .i32⟩
  | 86 => ⟨S3, .i32⟩
  | 87 => ⟨S3, .i32⟩
  | 88 => ⟨S3, .i32⟩
  | 89 => ⟨S3, .i32⟩
  | 90 => ⟨S3, .i32⟩
  | 91 => ⟨S3, .i32⟩
  | 92 => ⟨S3, .i32⟩
  | 93 => ⟨S_, .i32⟩
  | 94 => ⟨S3, .i32⟩
  | 95 => ⟨S3, .i32⟩
  | 96 => ⟨S3, .i32⟩
  | 97 => ⟨S_, .i32⟩
  | 98 => ⟨S3, .i32⟩
  | 99 => ⟨S3, .i32⟩
  | 100 => ⟨S_, .i32⟩
  | 101 => ⟨S3, .i32⟩
  | 102 => ⟨S3, .i32⟩
  | 103 => ⟨S3, .i32⟩
  | 104 => ⟨S3, .i32⟩
  | 105 => ⟨S3, .i32⟩
  | 106 => ⟨S_, .i32⟩
  | 107 => ⟨S3, .i32⟩
  | 108 => ⟨S3, .i32⟩
  | 109 => ⟨S_, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S_, .i32⟩
  | 119 => ⟨S3, .i32⟩
  | 120 => ⟨S3, .i32⟩
  | 121 => ⟨S3, .i32⟩
  | 122 => ⟨S3, .i32⟩
  | 123 => ⟨S3, .i32⟩
  | 124 => ⟨S_, .i32⟩
  | 125 => ⟨S3, .i32⟩
  | 126 => ⟨S3, .i32⟩
  | 127 => ⟨S_, .i32⟩
  | _ => ⟨S8x32768, .i32⟩

abbrev hbmTy0_19 (i : Nat) : BufTy := match i % 128 with
  | 0 => ⟨S3, .i32⟩
  | 1 => ⟨S3, .i32⟩
  | 2 => ⟨S3, .i32⟩
  | 3 => ⟨S3, .i32⟩
  | 4 => ⟨S3, .i32⟩
  | 5 => ⟨S3, .i32⟩
  | 6 => ⟨S3, .i32⟩
  | 7 => ⟨S3, .i32⟩
  | 8 => ⟨S_, .i32⟩
  | 9 => ⟨S3, .i32⟩
  | 10 => ⟨S3, .i32⟩
  | 11 => ⟨S3, .i32⟩
  | 12 => ⟨S_, .i32⟩
  | 13 => ⟨S3, .i32⟩
  | 14 => ⟨S3, .i32⟩
  | 15 => ⟨S_, .i32⟩
  | 16 => ⟨S3, .i32⟩
  | 17 => ⟨S3, .i32⟩
  | 18 => ⟨S3, .i32⟩
  | 19 => ⟨S3, .i32⟩
  | 20 => ⟨S3, .i32⟩
  | 21 => ⟨S_, .i32⟩
  | 22 => ⟨S3, .i32⟩
  | 23 => ⟨S3, .i32⟩
  | 24 => ⟨S_, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S_, .i32⟩
  | 34 => ⟨S3, .i32⟩
  | 35 => ⟨S3, .i32⟩
  | 36 => ⟨S3, .i32⟩
  | 37 => ⟨S3, .i32⟩
  | 38 => ⟨S3, .i32⟩
  | 39 => ⟨S_, .i32⟩
  | 40 => ⟨S3, .i32⟩
  | 41 => ⟨S3, .i32⟩
  | 42 => ⟨S_, .i32⟩
  | 43 => ⟨S3, .i32⟩
  | 44 => ⟨S3, .i32⟩
  | 45 => ⟨S3, .i32⟩
  | 46 => ⟨S3, .i32⟩
  | 47 => ⟨S3, .i32⟩
  | 48 => ⟨S3, .i32⟩
  | 49 => ⟨S3, .i32⟩
  | 50 => ⟨S3, .i32⟩
  | 51 => ⟨S_, .i32⟩
  | 52 => ⟨S3, .i32⟩
  | 53 => ⟨S3, .i32⟩
  | 54 => ⟨S3, .i32⟩
  | 55 => ⟨S_, .i32⟩
  | 56 => ⟨S3, .i32⟩
  | 57 => ⟨S3, .i32⟩
  | 58 => ⟨S_, .i32⟩
  | 59 => ⟨S3, .i32⟩
  | 60 => ⟨S3, .i32⟩
  | 61 => ⟨S3, .i32⟩
  | 62 => ⟨S3, .i32⟩
  | 63 => ⟨S3, .i32⟩
  | 64 => ⟨S_, .i32⟩
  | 65 => ⟨S3, .i32⟩
  | 66 => ⟨S3, .i32⟩
  | 67 => ⟨S_, .i32⟩
  | 68 => ⟨S3, .i32⟩
  | 69 => ⟨S3, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S_, .i32⟩
  | 77 => ⟨S3, .i32⟩
  | 78 => ⟨S3, .i32⟩
  | 79 => ⟨S3, .i32⟩
  | 80 => ⟨S3, .i32⟩
  | 81 => ⟨S3, .i32⟩
  | 82 => ⟨S_, .i32⟩
  | 83 => ⟨S3, .i32⟩
  | 84 => ⟨S3, .i32⟩
  | 85 => ⟨S_, .i32⟩
  | 86 => ⟨S3, .i32⟩
  | 87 => ⟨S3, .i32⟩
  | 88 => ⟨S3, .i32⟩
  | 89 => ⟨S3, .i32⟩
  | 90 => ⟨S3, .i32⟩
  | 91 => ⟨S3, .i32⟩
  | 92 => ⟨S3, .i32⟩
  | 93 => ⟨S3, .i32⟩
  | 94 => ⟨S_, .i32⟩
  | 95 => ⟨S3, .i32⟩
  | 96 => ⟨S3, .i32⟩
  | 97 => ⟨S3, .i32⟩
  | 98 => ⟨S_, .i32⟩
  | 99 => ⟨S3, .i32⟩
  | 100 => ⟨S3, .i32⟩
  | 101 => ⟨S_, .i32⟩
  | 102 => ⟨S3, .i32⟩
  | 103 => ⟨S3, .i32⟩
  | 104 => ⟨S3, .i32⟩
  | 105 => ⟨S3, .i32⟩
  | 106 => ⟨S3, .i32⟩
  | 107 => ⟨S_, .i32⟩
  | 108 => ⟨S3, .i32⟩
  | 109 => ⟨S3, .i32⟩
  | 110 => ⟨S_, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S_, .i32⟩
  | 120 => ⟨S3, .i32⟩
  | 121 => ⟨S3, .i32⟩
  | 122 => ⟨S3, .i32⟩
  | 123 => ⟨S3, .i32⟩
  | 124 => ⟨S3, .i32⟩
  | 125 => ⟨S_, .i32⟩
  | 126 => ⟨S3, .i32⟩
  | 127 => ⟨S3, .i32⟩
  | _ => ⟨S8x32768, .i32⟩

abbrev hbmTy0_20 (i : Nat) : BufTy := match i % 128 with
  | 0 => ⟨S_, .i32⟩
  | 1 => ⟨S3, .i32⟩
  | 2 => ⟨S3, .i32⟩
  | 3 => ⟨S3, .i32⟩
  | 4 => ⟨S3, .i32⟩
  | 5 => ⟨S3, .i32⟩
  | 6 => ⟨S3, .i32⟩
  | 7 => ⟨S3, .i32⟩
  | 8 => ⟨S3, .i32⟩
  | 9 => ⟨S_, .i32⟩
  | 10 => ⟨S3, .i32⟩
  | 11 => ⟨S3, .i32⟩
  | 12 => ⟨S3x1, .i32⟩
  | 13 => ⟨S3x1, .i32⟩
  | 14 => ⟨S3x2, .i32⟩
  | 15 => ⟨S1x2, .i32⟩
  | 16 => ⟨S2, .i32⟩
  | 17 => ⟨S1x2, .i32⟩
  | 18 => ⟨S2, .i32⟩
  | 19 => ⟨S1x2, .i32⟩
  | 20 => ⟨S2, .i32⟩
  | 21 => ⟨S_, .f32⟩
  | 22 => ⟨S_, .f32⟩
  | 23 => ⟨S_, .f32⟩
  | 24 => ⟨S1x1x1, .f32⟩
  | 25 => ⟨S1x1x1, .f32⟩
  | 26 => ⟨S1, .i32⟩
  | 27 => ⟨S_, .i32⟩
  | 28 => ⟨S1, .i32⟩
  | 29 => ⟨S_, .i32⟩
  | 30 => ⟨S8x32768x4, .i64⟩
  | 31 => ⟨S8x32768x4, .i64⟩
  | 32 => ⟨S8x32768x4, .i64⟩
  | 33 => ⟨S_, .i64⟩
  | 34 => ⟨S8x32768x4, .i64⟩
  | 35 => ⟨S8x32768x4, .i64⟩
  | 36 => ⟨S_, .i64⟩
  | 37 => ⟨S8x32768x4, .i64⟩
  | 38 => ⟨S8x32768x4, .i64⟩
  | 39 => ⟨S_, .i64⟩
  | 40 => ⟨S8x32768x4, .i64⟩
  | 41 => ⟨S8x32768x4, .i64⟩
  | 42 => ⟨S8x32768x4, .i64⟩
  | 43 => ⟨S8x32768x4, .i64⟩
  | 44 => ⟨S_, .i64⟩
  | 45 => ⟨S8x32768x4, .i64⟩
  | 46 => ⟨S8x32768x4, .i64⟩
  | 47 => ⟨S8x32768x4, .i32⟩
  | 48 => ⟨S8x32768x4, .i32⟩
  | 49 => ⟨S_, .i32⟩
  | 50 => ⟨S_, .i32⟩
  | 51 => ⟨S_, .i32⟩
  | 52 => ⟨S8x32768x4, .i32⟩
  | 53 => ⟨S8x32768x4, .i32⟩
  | 54 => ⟨S8x32768x4, .i32⟩
  | 55 => ⟨S8x32768x4, .i32⟩
  | 56 => ⟨S8x32768x4, .i32⟩
  | 57 => ⟨S_, .i32⟩
  | 58 => ⟨S8x32768x4, .i32⟩
  | 59 => ⟨S8x32768x4, .i32⟩
  | 60 => ⟨S_, .i32⟩
  | 61 => ⟨S8x32768x4, .i32⟩
  | 62 => ⟨S8x32768x4, .i32⟩
  | 63 => ⟨S8x32768x4, .i32⟩
  | 64 => ⟨S8x32768x4, .i32⟩
  | 65 => ⟨S8x32768x4, .i32⟩
  | 66 => ⟨S_, .i32⟩
  | 67 => ⟨S8x32768x4, .i32⟩
  | 68 => ⟨S8x32768x4, .i32⟩
  | 69 => ⟨S_, .i32⟩
  | 70 => ⟨S8x32768x4, .i32⟩
  | 71 => ⟨S8x32768x4, .i32⟩
  | 72 => ⟨S8x32768x4, .i32⟩
  | 73 => ⟨S8x32768x4, .i32⟩
  | 74 => ⟨S8x32768x4, .i32⟩
  | 75 => ⟨S_, .i32⟩
  | 76 => ⟨S8x32768x4, .i32⟩
  | 77 => ⟨S8x32768x4, .i32⟩
  | 78 => ⟨S_, .i32⟩
  | 79 => ⟨S8x32768x4, .i32⟩
  | 80 => ⟨S8x32768x4, .i32⟩
  | 81 => ⟨S8x32768x4, .i32⟩
  | 82 => ⟨S8x32768x4, .i32⟩
  | 83 => ⟨S8x32768x4, .i32⟩
  | 84 => ⟨S_, .i32⟩
  | 85 => ⟨S8x32768x4, .i32⟩
  | 86 => ⟨S8x32768x4, .i32⟩
  | 87 => ⟨S_, .i32⟩
  | 88 => ⟨S8x32768x4, .i32⟩
  | 89 => ⟨S8x32768x4, .i32⟩
  | 90 => ⟨S8x32768x4, .i32⟩
  | 91 => ⟨S8x32768x4, .i32⟩
  | 92 => ⟨S8x32768x4, .i32⟩
  | 93 => ⟨S8x32768x4, .i32⟩
  | 94 => ⟨S8x32768x4, .i32⟩
  | 95 => ⟨S8x32768x4, .i32⟩
  | 96 => ⟨S_, .i32⟩
  | 97 => ⟨S8x32768x4, .i32⟩
  | 98 => ⟨S8x32768x4, .i32⟩
  | 99 => ⟨S8x32768x4, .i32⟩
  | 100 => ⟨S_, .i32⟩
  | 101 => ⟨S8x32768x4, .i32⟩
  | 102 => ⟨S8x32768x4, .i32⟩
  | 103 => ⟨S_, .i32⟩
  | 104 => ⟨S8x32768x4, .i32⟩
  | 105 => ⟨S8x32768x4, .i32⟩
  | 106 => ⟨S8x32768x4, .i32⟩
  | 107 => ⟨S8x32768x4, .i32⟩
  | 108 => ⟨S8x32768x4, .i32⟩
  | 109 => ⟨S_, .i32⟩
  | 110 => ⟨S8x32768x4, .i32⟩
  | 111 => ⟨S8x32768x4, .i32⟩
  | 112 => ⟨S_, .i32⟩
  | 113 => ⟨S8x32768x4, .i32⟩
  | 114 => ⟨S8x32768x4, .i32⟩
  | 115 => ⟨S8x32768x4, .i32⟩
  | 116 => ⟨S8x32768x4, .i32⟩
  | 117 => ⟨S8x32768x4, .i32⟩
  | 118 => ⟨S_, .i32⟩
  | 119 => ⟨S8x32768x4, .i32⟩
  | 120 => ⟨S8x32768x4, .i32⟩
  | 121 => ⟨S_, .i32⟩
  | 122 => ⟨S8x32768x4, .i32⟩
  | 123 => ⟨S8x32768x4, .i32⟩
  | 124 => ⟨S8x32768x4, .i32⟩
  | 125 => ⟨S8x32768x4, .i32⟩
  | 126 => ⟨S8x32768x4, .i32⟩
  | 127 => ⟨S_, .i32⟩
  | _ => ⟨S8x32768, .i32⟩

abbrev hbmTy0_21 (i : Nat) : BufTy := match i % 128 with
  | 0 => ⟨S8x32768x4, .i32⟩
  | 1 => ⟨S8x32768x4, .i32⟩
  | 2 => ⟨S_, .i32⟩
  | 3 => ⟨S8x32768x4, .i32⟩
  | 4 => ⟨S8x32768x4, .i32⟩
  | 5 => ⟨S8x32768x4, .i32⟩
  | 6 => ⟨S8x32768x4, .i32⟩
  | 7 => ⟨S8x32768x4, .i32⟩
  | 8 => ⟨S8x32768x4, .i32⟩
  | 9 => ⟨S8x32768x4, .i32⟩
  | 10 => ⟨S8x32768x4, .i32⟩
  | 11 => ⟨S_, .i32⟩
  | 12 => ⟨S8x32768x4, .i32⟩
  | 13 => ⟨S8x32768x4, .i32⟩
  | 14 => ⟨S8x32768x4, .i32⟩
  | 15 => ⟨S_, .i32⟩
  | 16 => ⟨S8x32768x4, .i32⟩
  | 17 => ⟨S8x32768x4, .i32⟩
  | 18 => ⟨S_, .i32⟩
  | 19 => ⟨S8x32768x4, .i32⟩
  | 20 => ⟨S8x32768x4, .i32⟩
  | 21 => ⟨S8x32768x4, .i32⟩
  | 22 => ⟨S8x32768x4, .i32⟩
  | 23 => ⟨S8x32768x4, .i32⟩
  | 24 => ⟨S_, .i32⟩
  | 25 => ⟨S8x32768x4, .i32⟩
  | 26 => ⟨S8x32768x4, .i32⟩
  | 27 => ⟨S_, .i32⟩
  | 28 => ⟨S8x32768x4, .i32⟩
  | 29 => ⟨S8x32768x4, .i32⟩
  | 30 => ⟨S8x32768x4, .i32⟩
  | 31 => ⟨S8x32768x4, .i32⟩
  | 32 => ⟨S8x32768x4, .i32⟩
  | 33 => ⟨S_, .i32⟩
  | 34 => ⟨S8x32768x4, .i32⟩
  | 35 => ⟨S8x32768x4, .i32⟩
  | 36 => ⟨S_, .i32⟩
  | 37 => ⟨S8x32768x4, .i32⟩
  | 38 => ⟨S8x32768x4, .i32⟩
  | 39 => ⟨S8x32768x4, .i32⟩
  | 40 => ⟨S8x32768x4, .i32⟩
  | 41 => ⟨S8x32768x4, .i32⟩
  | 42 => ⟨S_, .i32⟩
  | 43 => ⟨S8x32768x4, .i32⟩
  | 44 => ⟨S8x32768x4, .i32⟩
  | 45 => ⟨S_, .i32⟩
  | 46 => ⟨S8x32768x4, .i32⟩
  | 47 => ⟨S8x32768x4, .i32⟩
  | 48 => ⟨S8x32768x4, .i32⟩
  | 49 => ⟨S8x32768x4, .i32⟩
  | 50 => ⟨S8x32768x4, .i32⟩
  | 51 => ⟨S8x32768x4, .i32⟩
  | 52 => ⟨S8x32768x4, .i32⟩
  | 53 => ⟨S8x32768x4, .i32⟩
  | 54 => ⟨S_, .i32⟩
  | 55 => ⟨S8x32768x4, .i32⟩
  | 56 => ⟨S8x32768x4, .i32⟩
  | 57 => ⟨S8x32768x4, .i32⟩
  | 58 => ⟨S_, .i32⟩
  | 59 => ⟨S8x32768x4, .i32⟩
  | 60 => ⟨S8x32768x4, .i32⟩
  | 61 => ⟨S_, .i32⟩
  | 62 => ⟨S8x32768x4, .i32⟩
  | 63 => ⟨S8x32768x4, .i32⟩
  | 64 => ⟨S8x32768x4, .i32⟩
  | 65 => ⟨S8x32768x4, .i32⟩
  | 66 => ⟨S8x32768x4, .i32⟩
  | 67 => ⟨S_, .i32⟩
  | 68 => ⟨S8x32768x4, .i32⟩
  | 69 => ⟨S8x32768x4, .i32⟩
  | 70 => ⟨S_, .i32⟩
  | 71 => ⟨S8x32768x4, .i32⟩
  | 72 => ⟨S8x32768x4, .i32⟩
  | 73 => ⟨S8x32768x4, .i32⟩
  | 74 => ⟨S8x32768x4, .i32⟩
  | 75 => ⟨S8x32768x4, .i32⟩
  | 76 => ⟨S_, .i32⟩
  | 77 => ⟨S8x32768x4, .i32⟩
  | 78 => ⟨S8x32768x4, .i32⟩
  | 79 => ⟨S_, .i32⟩
  | 80 => ⟨S8x32768x4, .i32⟩
  | 81 => ⟨S8x32768x4, .i32⟩
  | 82 => ⟨S8x32768x4, .i32⟩
  | 83 => ⟨S8x32768x4, .i32⟩
  | 84 => ⟨S8x32768x4, .i32⟩
  | 85 => ⟨S_, .i32⟩
  | 86 => ⟨S8x32768x4, .i32⟩
  | 87 => ⟨S8x32768x4, .i32⟩
  | 88 => ⟨S_, .i32⟩
  | 89 => ⟨S8x32768x4, .i32⟩
  | 90 => ⟨S8x32768x4, .i32⟩
  | 91 => ⟨S8x32768x4, .i32⟩
  | 92 => ⟨S8x32768x4, .i32⟩
  | 93 => ⟨S8x32768x4, .i32⟩
  | 94 => ⟨S8x32768x4, .i32⟩
  | 95 => ⟨S8x32768x4, .i32⟩
  | 96 => ⟨S8x32768x4, .i32⟩
  | 97 => ⟨S_, .i32⟩
  | 98 => ⟨S8x32768x4, .i32⟩
  | 99 => ⟨S8x32768x4, .i32⟩
  | 100 => ⟨S8x32768x4, .i32⟩
  | 101 => ⟨S_, .i32⟩
  | 102 => ⟨S8x32768x4, .i32⟩
  | 103 => ⟨S8x32768x4, .i32⟩
  | 104 => ⟨S_, .i32⟩
  | 105 => ⟨S8x32768x4, .i32⟩
  | 106 => ⟨S8x32768x4, .i32⟩
  | 107 => ⟨S8x32768x4, .i32⟩
  | 108 => ⟨S8x32768x4, .i32⟩
  | 109 => ⟨S8x32768x4, .i32⟩
  | 110 => ⟨S_, .i32⟩
  | 111 => ⟨S8x32768x4, .i32⟩
  | 112 => ⟨S8x32768x4, .i32⟩
  | 113 => ⟨S_, .i32⟩
  | 114 => ⟨S8x32768x4, .i32⟩
  | 115 => ⟨S8x32768x4, .i32⟩
  | 116 => ⟨S8x32768x4, .i32⟩
  | 117 => ⟨S8x32768x4, .i32⟩
  | 118 => ⟨S8x32768x4, .i32⟩
  | 119 => ⟨S_, .i32⟩
  | 120 => ⟨S8x32768x4, .i32⟩
  | 121 => ⟨S8x32768x4, .i32⟩
  | 122 => ⟨S_, .i32⟩
  | 123 => ⟨S8x32768x4, .i32⟩
  | 124 => ⟨S8x32768x4, .i32⟩
  | 125 => ⟨S8x32768x4, .i32⟩
  | 126 => ⟨S8x32768x4, .i32⟩
  | 127 => ⟨S8x32768x4, .i32⟩
  | _ => ⟨S8x32768, .i32⟩

abbrev hbmTy0_22 (i : Nat) : BufTy := match i % 128 with
  | 0 => ⟨S_, .i32⟩
  | 1 => ⟨S8x32768x4, .i32⟩
  | 2 => ⟨S8x32768x4, .i32⟩
  | 3 => ⟨S_, .i32⟩
  | 4 => ⟨S8x32768x4, .i32⟩
  | 5 => ⟨S8x32768x4, .i32⟩
  | 6 => ⟨S8x32768x4, .i32⟩
  | 7 => ⟨S8x32768x4, .i32⟩
  | 8 => ⟨S8x32768x4, .i32⟩
  | 9 => ⟨S8x32768x4, .i32⟩
  | 10 => ⟨S8x32768x4, .i32⟩
  | 11 => ⟨S8x32768x4, .i32⟩
  | 12 => ⟨S_, .i32⟩
  | 13 => ⟨S8x32768x4, .i32⟩
  | 14 => ⟨S8x32768x4, .i32⟩
  | 15 => ⟨S8x32768x4, .i32⟩
  | 16 => ⟨S_, .i32⟩
  | 17 => ⟨S8x32768x4, .i32⟩
  | 18 => ⟨S8x32768x4, .i32⟩
  | 19 => ⟨S_, .i32⟩
  | 20 => ⟨S8x32768x4, .i32⟩
  | 21 => ⟨S8x32768x4, .i32⟩
  | 22 => ⟨S8x32768x4, .f32⟩
  | 23 => ⟨S_, .f32⟩
  | 24 => ⟨S8x32768x4, .f32⟩
  | 25 => ⟨S8x32768x4, .f32⟩
  | 26 => ⟨S1x1x1, .f32⟩
  | 27 => ⟨S8x32768x4, .f32⟩
  | 28 => ⟨S8x32768x4, .f32⟩
  | 29 => ⟨S8x32768x4, .f32⟩
  | 30 => ⟨S8x32768x4, .f32⟩
  | 31 => ⟨S8x32768x4, .f32⟩
  | 32 => ⟨S8x32768x4, .f32⟩
  | 33 => ⟨S8x32768x4, .f32⟩
  | 34 => ⟨S8x32768x4, .f32⟩
  | 35 => ⟨S8x32768x4, .f32⟩
  | 36 => ⟨S8x32768x4, .f32⟩
  | 37 => ⟨S_, .f32⟩
  | 38 => ⟨S_, .f32⟩
  | 39 => ⟨S_, .f32⟩
  | 40 => ⟨S_, .f32⟩
  | 41 => ⟨S1, .f32⟩
  | 42 => ⟨S1, .f32⟩
  | 43 => ⟨S1, .i32⟩
  | 44 => ⟨S_, .i32⟩
  | 45 => ⟨S1, .i32⟩
  | 46 => ⟨S_, .i32⟩
  | 47 => ⟨S8, .i64⟩
  | 48 => ⟨S_, .i64⟩
  | 49 => ⟨S8, .i64⟩
  | 50 => ⟨S8, .i64⟩
  | 51 => ⟨S_, .i64⟩
  | 52 => ⟨S8, .i64⟩
  | 53 => ⟨S8, .i64⟩
  | 54 => ⟨S8, .i32⟩
  | 55 => ⟨S8, .i32⟩
  | 56 => ⟨S_, .i32⟩
  | 57 => ⟨S_, .i32⟩
  | 58 => ⟨S_, .i32⟩
  | 59 => ⟨S8, .i32⟩
  | 60 => ⟨S8, .i32⟩
  | 61 => ⟨S8, .i32⟩
  | 62 => ⟨S8, .i32⟩
  | 63 => ⟨S8, .i32⟩
  | 64 => ⟨S_, .i32⟩
  | 65 => ⟨S8, .i32⟩
  | 66 => ⟨S8, .i32⟩
  | 67 => ⟨S_, .i32⟩
  | 68 => ⟨S8, .i32⟩
  | 69 => ⟨S8, .i32⟩
  | 70 => ⟨S8, .i32⟩
  | 71 => ⟨S8, .i32⟩
  | 72 => ⟨S8, .i32⟩
  | 73 => ⟨S_, .i32⟩
  | 74 => ⟨S8, .i32⟩
  | 75 => ⟨S8, .i32⟩
  | 76 => ⟨S_, .i32⟩
  | 77 => ⟨S8, .i32⟩
  | 78 => ⟨S8, .i32⟩
  | 79 => ⟨S8, .i32⟩
  | 80 => ⟨S8, .i32⟩
  | 81 => ⟨S8, .i32⟩
  | 82 => ⟨S_, .i32⟩
  | 83 => ⟨S8, .i32⟩
  | 84 => ⟨S8, .i32⟩
  | 85 => ⟨S_, .i32⟩
  | 86 => ⟨S8, .i32⟩
  | 87 => ⟨S8, .i32⟩
  | 88 => ⟨S8, .i32⟩
  | 89 => ⟨S8, .i32⟩
  | 90 => ⟨S8, .i32⟩
  | 91 => ⟨S_, .i32⟩
  | 92 => ⟨S8, .i32⟩
  | 93 => ⟨S8, .i32⟩
  | 94 => ⟨S_, .i32⟩
  | 95 => ⟨S8, .i32⟩
  | 96 => ⟨S8, .i32⟩
  | 97 => ⟨S8, .i32⟩
  | 98 => ⟨S8, .i32⟩
  | 99 => ⟨S8, .i32⟩
  | 100 => ⟨S8, .i32⟩
  | 101 => ⟨S8, .i32⟩
  | 102 => ⟨S8, .i32⟩
  | 103 => ⟨S_, .i32⟩
  | 104 => ⟨S8, .i32⟩
  | 105 => ⟨S8, .i32⟩
  | 106 => ⟨S8, .i32⟩
  | 107 => ⟨S_, .i32⟩
  | 108 => ⟨S8, .i32⟩
  | 109 => ⟨S8, .i32⟩
  | 110 => ⟨S_, .i32⟩
  | 111 => ⟨S8, .i32⟩
  | 112 => ⟨S8, .i32⟩
  | 113 => ⟨S8, .i32⟩
  | 114 => ⟨S8, .i32⟩
  | 115 => ⟨S8, .i32⟩
  | 116 => ⟨S_, .i32⟩
  | 117 => ⟨S8, .i32⟩
  | 118 => ⟨S8, .i32⟩
  | 119 => ⟨S_, .i32⟩
  | 120 => ⟨S8, .i32⟩
  | 121 => ⟨S8, .i32⟩
  | 122 => ⟨S8, .i32⟩
  | 123 => ⟨S8, .i32⟩
  | 124 => ⟨S8, .i32⟩
  | 125 => ⟨S_, .i32⟩
  | 126 => ⟨S8, .i32⟩
  | 127 => ⟨S8, .i32⟩
  | _ => ⟨S8x32768, .i32⟩

abbrev hbmTy0_23 (i : Nat) : BufTy := match i % 128 with
  | 0 => ⟨S_, .i32⟩
  | 1 => ⟨S8, .i32⟩
  | 2 => ⟨S8, .i32⟩
  | 3 => ⟨S8, .i32⟩
  | 4 => ⟨S8, .i32⟩
  | 5 => ⟨S8, .i32⟩
  | 6 => ⟨S_, .i32⟩
  | 7 => ⟨S8, .i32⟩
  | 8 => ⟨S8, .i32⟩
  | 9 => ⟨S_, .i32⟩
  | 10 => ⟨S8, .i32⟩
  | 11 => ⟨S8, .i32⟩
  | 12 => ⟨S8, .i32⟩
  | 13 => ⟨S8, .i32⟩
  | 14 => ⟨S8, .i32⟩
  | 15 => ⟨S8, .i32⟩
  | 16 => ⟨S8, .i32⟩
  | 17 => ⟨S8, .i32⟩
  | 18 => ⟨S_, .i32⟩
  | 19 => ⟨S8, .i32⟩
  | 20 => ⟨S8, .i32⟩
  | 21 => ⟨S8, .i32⟩
  | 22 => ⟨S_, .i32⟩
  | 23 => ⟨S8, .i32⟩
  | 24 => ⟨S8, .i32⟩
  | 25 => ⟨S_, .i32⟩
  | 26 => ⟨S8, .i32⟩
  | 27 => ⟨S8, .i32⟩
  | 28 => ⟨S8, .i32⟩
  | 29 => ⟨S8, .i32⟩
  | 30 => ⟨S8, .i32⟩
  | 31 => ⟨S_, .i32⟩
  | 32 => ⟨S8, .i32⟩
  | 33 => ⟨S8, .i32⟩
  | 34 => ⟨S_, .i32⟩
  | 35 => ⟨S8, .i32⟩
  | 36 => ⟨S8, .i32⟩
  | 37 => ⟨S8, .i32⟩
  | 38 => ⟨S8, .i32⟩
  | 39 => ⟨S8, .i32⟩
  | 40 => ⟨S_, .i32⟩
  | 41 => ⟨S8, .i32⟩
  | 42 => ⟨S8, .i32⟩
  | 43 => ⟨S_, .i32⟩
  | 44 => ⟨S8, .i32⟩
  | 45 => ⟨S8, .i32⟩
  | 46 => ⟨S8, .i32⟩
  | 47 => ⟨S8, .i32⟩
  | 48 => ⟨S8, .i32⟩
  | 49 => ⟨S_, .i32⟩
  | 50 => ⟨S8, .i32⟩
  | 51 => ⟨S8, .i32⟩
  | 52 => ⟨S_, .i32⟩
  | 53 => ⟨S8, .i32⟩
  | 54 => ⟨S8, .i32⟩
  | 55 => ⟨S8, .i32⟩
  | 56 => ⟨S8, .i32⟩
  | 57 => ⟨S8, .i32⟩
  | 58 => ⟨S8, .i32⟩
  | 59 => ⟨S8, .i32⟩
  | 60 => ⟨S8, .i32⟩
  | 61 => ⟨S_, .i32⟩
  | 62 => ⟨S8, .i32⟩
  | 63 => ⟨S8, .i32⟩
  | 64 => ⟨S8, .i32⟩
  | 65 => ⟨S_, .i32⟩
  | 66 => ⟨S8, .i32⟩
  | 67 => ⟨S8, .i32⟩
  | 68 => ⟨S_, .i32⟩
  | 69 => ⟨S8, .i32⟩
  | 70 => ⟨S8, .i32⟩
  | 71 => ⟨S8, .i32⟩
  | 72 => ⟨S8, .i32⟩
  | 73 => ⟨S8, .i32⟩
  | 74 => ⟨S_, .i32⟩
  | 75 => ⟨S8, .i32⟩
  | 76 => ⟨S8, .i32⟩
  | 77 => ⟨S_, .i32⟩
  | 78 => ⟨S8, .i32⟩
  | 79 => ⟨S8, .i32⟩
  | 80 => ⟨S8, .i32⟩
  | 81 => ⟨S8, .i32⟩
  | 82 => ⟨S8, .i32⟩
  | 83 => ⟨S_, .i32⟩
  | 84 => ⟨S8, .i32⟩
  | 85 => ⟨S8, .i32⟩
  | 86 => ⟨S_, .i32⟩
  | 87 => ⟨S8, .i32⟩
  | 88 => ⟨S8, .i32⟩
  | 89 => ⟨S8, .i32⟩
  | 90 => ⟨S8, .i32⟩
  | 91 => ⟨S8, .i32⟩
  | 92 => ⟨S_, .i32⟩
  | 93 => ⟨S8, .i32⟩
  | 94 => ⟨S8, .i32⟩
  | 95 => ⟨S_, .i32⟩
  | 96 => ⟨S8, .i32⟩
  | 97 => ⟨S8, .i32⟩
  | 98 => ⟨S8, .i32⟩
  | 99 => ⟨S8, .i32⟩
  | 100 => ⟨S8, .i32⟩
  | 101 => ⟨S8, .i32⟩
  | 102 => ⟨S8, .i32⟩
  | 103 => ⟨S8, .i32⟩
  | 104 => ⟨S_, .i32⟩
  | 105 => ⟨S8, .i32⟩
  | 106 => ⟨S8, .i32⟩
  | 107 => ⟨S8, .i32⟩
  | 108 => ⟨S_, .i32⟩
  | 109 => ⟨S8, .i32⟩
  | 110 => ⟨S8, .i32⟩
  | 111 => ⟨S_, .i32⟩
  | 112 => ⟨S8, .i32⟩
  | 113 => ⟨S8, .i32⟩
  | 114 => ⟨S8, .i32⟩
  | 115 => ⟨S8, .i32⟩
  | 116 => ⟨S8, .i32⟩
  | 117 => ⟨S_, .i32⟩
  | 118 => ⟨S8, .i32⟩
  | 119 => ⟨S8, .i32⟩
  | 120 => ⟨S_, .i32⟩
  | 121 => ⟨S8, .i32⟩
  | 122 => ⟨S8, .i32⟩
  | 123 => ⟨S8, .i32⟩
  | 124 => ⟨S8, .i32⟩
  | 125 => ⟨S8, .i32⟩
  | 126 => ⟨S_, .i32⟩
  | 127 => ⟨S8, .i32⟩
  | _ => ⟨S8x32768, .i32⟩

abbrev hbmTy0_24 (i : Nat) : BufTy := match i % 128 with
  | 0 => ⟨S8, .i32⟩
  | 1 => ⟨S_, .i32⟩
  | 2 => ⟨S8, .i32⟩
  | 3 => ⟨S8, .i32⟩
  | 4 => ⟨S8, .i32⟩
  | 5 => ⟨S8, .i32⟩
  | 6 => ⟨S8, .i32⟩
  | 7 => ⟨S_, .i32⟩
  | 8 => ⟨S8, .i32⟩
  | 9 => ⟨S8, .i32⟩
  | 10 => ⟨S_, .i32⟩
  | 11 => ⟨S8, .i32⟩
  | 12 => ⟨S8, .i32⟩
  | 13 => ⟨S8, .i32⟩
  | 14 => ⟨S8, .i32⟩
  | 15 => ⟨S8, .i32⟩
  | 16 => ⟨S8, .i32⟩
  | 17 => ⟨S8, .i32⟩
  | 18 => ⟨S8, .i32⟩
  | 19 => ⟨S_, .i32⟩
  | 20 => ⟨S8, .i32⟩
  | 21 => ⟨S8, .i32⟩
  | 22 => ⟨S8, .i32⟩
  | 23 => ⟨S_, .i32⟩
  | 24 => ⟨S8, .i32⟩
  | 25 => ⟨S8, .i32⟩
  | 26 => ⟨S_, .i32⟩
  | 27 => ⟨S8, .i32⟩
  | 28 => ⟨S8, .i32⟩
  | 29 => ⟨S8, .f32⟩
  | 30 => ⟨S_, .f32⟩
  | 31 => ⟨S8, .f32⟩
  | 32 => ⟨S8, .f32⟩
  | 33 => ⟨S1, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S1, .i32⟩
  | 41 => ⟨S_, .i32⟩
  | 42 => ⟨S1, .i32⟩
  | 43 => ⟨S_, .i32⟩
  | 44 => ⟨S3, .i64⟩
  | 45 => ⟨S_, .i64⟩
  | 46 => ⟨S3, .i64⟩
  | 47 => ⟨S3, .i64⟩
  | 48 => ⟨S_, .i64⟩
  | 49 => ⟨S3, .i64⟩
  | 50 => ⟨S3, .i64⟩
  | 51 => ⟨S3, .i32⟩
  | 52 => ⟨S3, .i32⟩
  | 53 => ⟨S_, .i32⟩
  | 54 => ⟨S_, .i32⟩
  | 55 => ⟨S_, .i32⟩
  | 56 => ⟨S3, .i32⟩
  | 57 => ⟨S3, .i32⟩
  | 58 => ⟨S3, .i32⟩
  | 59 => ⟨S3, .i32⟩
  | 60 => ⟨S3, .i32⟩
  | 61 => ⟨S_, .i32⟩
  | 62 => ⟨S3, .i32⟩
  | 63 => ⟨S3, .i32⟩
  | 64 => ⟨S_, .i32⟩
  | 65 => ⟨S3, .i32⟩
  | 66 => ⟨S3, .i32⟩
  | 67 => ⟨S3, .i32⟩
  | 68 => ⟨S3, .i32⟩
  | 69 => ⟨S3, .i32⟩
  | 70 => ⟨S_, .i32⟩
  | 71 => ⟨S3, .i32⟩
  | 72 => ⟨S3, .i32⟩
  | 73 => ⟨S_, .i32⟩
  | 74 => ⟨S3, .i32⟩
  | 75 => ⟨S3, .i32⟩
  | 76 => ⟨S3, .i32⟩
  | 77 => ⟨S3, .i32⟩
  | 78 => ⟨S3, .i32⟩
  | 79 => ⟨S_, .i32⟩
  | 80 => ⟨S3, .i32⟩
  | 81 => ⟨S3, .i32⟩
  | 82 => ⟨S_, .i32⟩
  | 83 => ⟨S3, .i32⟩
  | 84 => ⟨S3, .i32⟩
  | 85 => ⟨S3, .i32⟩
  | 86 => ⟨S3, .i32⟩
  | 87 => ⟨S3, .i32⟩
  | 88 => ⟨S_, .i32⟩
  | 89 => ⟨S3, .i32⟩
  | 90 => ⟨S3, .i32⟩
  | 91 => ⟨S_, .i32⟩
  | 92 => ⟨S3, .i32⟩
  | 93 => ⟨S3, .i32⟩
  | 94 => ⟨S3, .i32⟩
  | 95 => ⟨S3, .i32⟩
  | 96 => ⟨S3, .i32⟩
  | 97 => ⟨S3, .i32⟩
  | 98 => ⟨S3, .i32⟩
  | 99 => ⟨S3, .i32⟩
  | 100 => ⟨S_, .i32⟩
  | 101 => ⟨S3, .i32⟩
  | 102 => ⟨S3, .i32⟩
  | 103 => ⟨S3, .i32⟩
  | 104 => ⟨S_, .i32⟩
  | 105 => ⟨S3, .i32⟩
  | 106 => ⟨S3, .i32⟩
  | 107 => ⟨S_, .i32⟩
  | 108 => ⟨S3, .i32⟩
  | 109 => ⟨S3, .i32⟩
  | 110 => ⟨S3, .i32⟩
  | 111 => ⟨S3, .i32⟩
  | 112 => ⟨S3, .i32⟩
  | 113 => ⟨S_, .i32⟩
  | 114 => ⟨S3, .i32⟩
  | 115 => ⟨S3, .i32⟩
  | 116 => ⟨S_, .i32⟩
  | 117 => ⟨S3, .i32⟩
  | 118 => ⟨S3, .i32⟩
  | 119 => ⟨S3, .i32⟩
  | 120 => ⟨S3, .i32⟩
  | 121 => ⟨S3, .i32⟩
  | 122 => ⟨S_, .i32⟩
  | 123 => ⟨S3, .i32⟩
  | 124 => ⟨S3, .i32⟩
  | 125 => ⟨S_, .i32⟩
  | 126 => ⟨S3, .i32⟩
  | 127 => ⟨S3, .i32⟩
  | _ => ⟨S8x32768, .i32⟩

abbrev hbmTy0_25 (i : Nat) : BufTy := match i % 128 with
  | 0 => ⟨S3, .i32⟩
  | 1 => ⟨S3, .i32⟩
  | 2 => ⟨S3, .i32⟩
  | 3 => ⟨S_, .i32⟩
  | 4 => ⟨S3, .i32⟩
  | 5 => ⟨S3, .i32⟩
  | 6 => ⟨S_, .i32⟩
  | 7 => ⟨S3, .i32⟩
  | 8 => ⟨S3, .i32⟩
  | 9 => ⟨S3, .i32⟩
  | 10 => ⟨S3, .i32⟩
  | 11 => ⟨S3, .i32⟩
  | 12 => ⟨S3, .i32⟩
  | 13 => ⟨S3, .i32⟩
  | 14 => ⟨S3, .i32⟩
  | 15 => ⟨S_, .i32⟩
  | 16 => ⟨S3, .i32⟩
  | 17 => ⟨S3, .i32⟩
  | 18 => ⟨S3, .i32⟩
  | 19 => ⟨S_, .i32⟩
  | 20 => ⟨S3, .i32⟩
  | 21 => ⟨S3, .i32⟩
  | 22 => ⟨S_, .i32⟩
  | 23 => ⟨S3, .i32⟩
  | 24 => ⟨S3, .i32⟩
  | 25 => ⟨S3, .i32⟩
  | 26 => ⟨S3, .i32⟩
  | 27 => ⟨S3, .i32⟩
  | 28 => ⟨S_, .i32⟩
  | 29 => ⟨S3, .i32⟩
  | 30 => ⟨S3, .i32⟩
  | 31 => ⟨S_, .i32⟩
  | 32 => ⟨S3, .i32⟩
  | 33 => ⟨S3, .i32⟩
  | 34 => ⟨S3, .i32⟩
  | 35 => ⟨S3, .i32⟩
  | 36 => ⟨S3, .i32⟩
  | 37 => ⟨S_, .i32⟩
  | 38 => ⟨S3, .i32⟩
  | 39 => ⟨S3, .i32⟩
  | 40 => ⟨S_, .i32⟩
  | 41 => ⟨S3, .i32⟩
  | 42 => ⟨S3, .i32⟩
  | 43 => ⟨S3, .i32⟩
  | 44 => ⟨S3, .i32⟩
  | 45 => ⟨S3, .i32⟩
  | 46 => ⟨S_, .i32⟩
  | 47 => ⟨S3, .i32⟩
  | 48 => ⟨S3, .i32⟩
  | 49 => ⟨S_, .i32⟩
  | 50 => ⟨S3, .i32⟩
  | 51 => ⟨S3, .i32⟩
  | 52 => ⟨S3, .i32⟩
  | 53 => ⟨S3, .i32⟩
  | 54 => ⟨S3, .i32⟩
  | 55 => ⟨S3, .i32⟩
  | 56 => ⟨S3, .i32⟩
  | 57 => ⟨S3, .i32⟩
  | 58 => ⟨S_, .i32⟩
  | 59 => ⟨S3, .i32⟩
  | 60 => ⟨S3, .i32⟩
  | 61 => ⟨S3, .i32⟩
  | 62 => ⟨S_, .i32⟩
  | 63 => ⟨S3, .i32⟩
  | 64 => ⟨S3, .i32⟩
  | 65 => ⟨S_, .i32⟩
  | 66 => ⟨S3, .i32⟩
  | 67 => ⟨S3, .i32⟩
  | 68 => ⟨S3, .i32⟩
  | 69 => ⟨S3, .i32⟩
  | 70 => ⟨S3, .i32⟩
  | 71 => ⟨S_, .i32⟩
  | 72 => ⟨S3, .i32⟩
  | 73 => ⟨S3, .i32⟩
  | 74 => ⟨S_, .i32⟩
  | 75 => ⟨S3, .i32⟩
  | 76 => ⟨S3, .i32⟩
  | 77 => ⟨S3, .i32⟩
  | 78 => ⟨S3, .i32⟩
  | 79 => ⟨S3, .i32⟩
  | 80 => ⟨S_, .i32⟩
  | 81 => ⟨S3, .i32⟩
  | 82 => ⟨S3, .i32⟩
  | 83 => ⟨S_, .i32⟩
  | 84 => ⟨S3, .i32⟩
  | 85 => ⟨S3, .i32⟩
  | 86 => ⟨S3, .i32⟩
  | 87 => ⟨S3, .i32⟩
  | 88 => ⟨S3, .i32⟩
  | 89 => ⟨S_, .i32⟩
  | 90 => ⟨S3, .i32⟩
  | 91 => ⟨S3, .i32⟩
  | 92 => ⟨S_, .i32⟩
  | 93 => ⟨S3, .i32⟩
  | 94 => ⟨S3, .i32⟩
  | 95 => ⟨S3, .i32⟩
  | 96 => ⟨S3, .i32⟩
  | 97 => ⟨S3, .i32⟩
  | 98 => ⟨S3, .i32⟩
  | 99 => ⟨S3, .i32⟩
  | 100 => ⟨S3, .i32⟩
  | 101 => ⟨S_, .i32⟩
  | 102 => ⟨S3, .i32⟩
  | 103 => ⟨S3, .i32⟩
  | 104 => ⟨S3, .i32⟩
  | 105 => ⟨S_, .i32⟩
  | 106 => ⟨S3, .i32⟩
  | 107 => ⟨S3, .i32⟩
  | 108 => ⟨S_, .i32⟩
  | 109 => ⟨S3, .i32⟩
  | 110 => ⟨S3, .i32⟩
  | 111 => ⟨S3, .i32⟩
  | 112 => ⟨S3, .i32⟩
  | 113 => ⟨S3, .i32⟩
  | 114 => ⟨S_, .i32⟩
  | 115 => ⟨S3, .i32⟩
  | 116 => ⟨S3, .i32⟩
  | 117 => ⟨S_, .i32⟩
  | 118 => ⟨S3, .i32⟩
  | 119 => ⟨S3, .i32⟩
  | 120 => ⟨S3, .i32⟩
  | 121 => ⟨S3, .i32⟩
  | 122 => ⟨S3, .i32⟩
  | 123 => ⟨S_, .i32⟩
  | 124 => ⟨S3, .i32⟩
  | 125 => ⟨S3, .i32⟩
  | 126 => ⟨S_, .i32⟩
  | 127 => ⟨S3, .i32⟩
  | _ => ⟨S8x32768, .i32⟩

abbrev hbmTy0_26 (i : Nat) : BufTy := match i % 128 with
  | 0 => ⟨S3, .i32⟩
  | 1 => ⟨S3, .i32⟩
  | 2 => ⟨S3, .i32⟩
  | 3 => ⟨S3, .i32⟩
  | 4 => ⟨S_, .i32⟩
  | 5 => ⟨S3, .i32⟩
  | 6 => ⟨S3, .i32⟩
  | 7 => ⟨S_, .i32⟩
  | 8 => ⟨S3, .i32⟩
  | 9 => ⟨S3, .i32⟩
  | 10 => ⟨S3, .i32⟩
  | 11 => ⟨S3, .i32⟩
  | 12 => ⟨S3, .i32⟩
  | 13 => ⟨S3, .i32⟩
  | 14 => ⟨S3, .i32⟩
  | 15 => ⟨S3, .i32⟩
  | 16 => ⟨S_, .i32⟩
  | 17 => ⟨S3, .i32⟩
  | 18 => ⟨S3, .i32⟩
  | 19 => ⟨S3x1, .i32⟩
  | 20 => ⟨S3x1, .i32⟩
  | 21 => ⟨S3x2, .i32⟩
  | 22 => ⟨S1x2, .i32⟩
  | 23 => ⟨S2, .i32⟩
  | 24 => ⟨S1x2, .i32⟩
  | 25 => ⟨S2, .i32⟩
  | 26 => ⟨S1x2, .i32⟩
  | 27 => ⟨S2, .i32⟩
  | 28 => ⟨S_, .f32⟩
  | 29 => ⟨S_, .f32⟩
  | 30 => ⟨S_, .f32⟩
  | 31 => ⟨S1x1x1, .f32⟩
  | 32 => ⟨S1x1x1, .f32⟩
  | 33 => ⟨S1, .i32⟩
  | 34 => ⟨S_, .i32⟩
  | 35 => ⟨S1, .i32⟩
  | 36 => ⟨S_, .i32⟩
  | 37 => ⟨S8x32768x4, .i64⟩
  | 38 => ⟨S8x32768x4, .i64⟩
  | 39 => ⟨S8x32768x4, .i64⟩
  | 40 => ⟨S_, .i64⟩
  | 41 => ⟨S8x32768x4, .i64⟩
  | 42 => ⟨S8x32768x4, .i64⟩
  | 43 => ⟨S_, .i64⟩
  | 44 => ⟨S8x32768x4, .i64⟩
  | 45 => ⟨S8x32768x4, .i64⟩
  | 46 => ⟨S_, .i64⟩
  | 47 => ⟨S8x32768x4, .i64⟩
  | 48 => ⟨S8x32768x4, .i64⟩
  | 49 => ⟨S8x32768x4, .i64⟩
  | 50 => ⟨S8x32768x4, .i64⟩
  | 51 => ⟨S_, .i64⟩
  | 52 => ⟨S8x32768x4, .i64⟩
  | 53 => ⟨S8x32768x4, .i64⟩
  | 54 => ⟨S8x32768x4, .i32⟩
  | 55 => ⟨S8x32768x4, .i32⟩
  | 56 => ⟨S_, .i32⟩
  | 57 => ⟨S_, .i32⟩
  | 58 => ⟨S_, .i32⟩
  | 59 => ⟨S8x32768x4, .i32⟩
  | 60 => ⟨S8x32768x4, .i32⟩
  | 61 => ⟨S8x32768x4, .i32⟩
  | 62 => ⟨S8x32768x4, .i32⟩
  | 63 => ⟨S8x32768x4, .i32⟩
  | 64 => ⟨S_, .i32⟩
  | 65 => ⟨S8x32768x4, .i32⟩
  | 66 => ⟨S8x32768x4, .i32⟩
  | 67 => ⟨S_, .i32⟩
  | 68 => ⟨S8x32768x4, .i32⟩
  | 69 => ⟨S8x32768x4, .i32⟩
  | 70 => ⟨S8x32768x4, .i32⟩
  | 71 => ⟨S8x32768x4, .i32⟩
  | 72 => ⟨S8x32768x4, .i32⟩
  | 73 => ⟨S_, .i32⟩
  | 74 => ⟨S8x32768x4, .i32⟩
  | 75 => ⟨S8x32768x4, .i32⟩
  | 76 => ⟨S_, .i32⟩
  | 77 => ⟨S8x32768x4, .i32⟩
  | 78 => ⟨S8x32768x4, .i32⟩
  | 79 => ⟨S8x32768x4, .i32⟩
  | 80 => ⟨S8x32768x4, .i32⟩
  | 81 => ⟨S8x32768x4, .i32⟩
  | 82 => ⟨S_, .i32⟩
  | 83 => ⟨S8x32768x4, .i32⟩
  | 84 => ⟨S8x32768x4, .i32⟩
  | 85 => ⟨S_, .i32⟩
  | 86 => ⟨S8x32768x4, .i32⟩
  | 87 => ⟨S8x32768x4, .i32⟩
  | 88 => ⟨S8x32768x4, .i32⟩
  | 89 => ⟨S8x32768x4, .i32⟩
  | 90 => ⟨S8x32768x4, .i32⟩
  | 91 => ⟨S_, .i32⟩
  | 92 => ⟨S8x32768x4, .i32⟩
  | 93 => ⟨S8x32768x4, .i32⟩
  | 94 => ⟨S_, .i32⟩
  | 95 => ⟨S8x32768x4, .i32⟩
  | 96 => ⟨S8x32768x4, .i32⟩
  | 97 => ⟨S8x32768x4, .i32⟩
  | 98 => ⟨S8x32768x4, .i32⟩
  | 99 => ⟨S8x32768x4, .i32⟩
  | 100 => ⟨S8x32768x4, .i32⟩
  | 101 => ⟨S8x32768x4, .i32⟩
  | 102 => ⟨S8x32768x4, .i32⟩
  | 103 => ⟨S_, .i32⟩
  | 104 => ⟨S8x32768x4, .i32⟩
  | 105 => ⟨S8x32768x4, .i32⟩
  | 106 => ⟨S8x32768x4, .i32⟩
  | 107 => ⟨S_, .i32⟩
  | 108 => ⟨S8x32768x4, .i32⟩
  | 109 => ⟨S8x32768x4, .i32⟩
  | 110 => ⟨S_, .i32⟩
  | 111 => ⟨S8x32768x4, .i32⟩
  | 112 => ⟨S8x32768x4, .i32⟩
  | 113 => ⟨S8x32768x4, .i32⟩
  | 114 => ⟨S8x32768x4, .i32⟩
  | 115 => ⟨S8x32768x4, .i32⟩
  | 116 => ⟨S_, .i32⟩
  | 117 => ⟨S8x32768x4, .i32⟩
  | 118 => ⟨S8x32768x4, .i32⟩
  | 119 => ⟨S_, .i32⟩
  | 120 => ⟨S8x32768x4, .i32⟩
  | 121 => ⟨S8x32768x4, .i32⟩
  | 122 => ⟨S8x32768x4, .i32⟩
  | 123 => ⟨S8x32768x4, .i32⟩
  | 124 => ⟨S8x32768x4, .i32⟩
  | 125 => ⟨S_, .i32⟩
  | 126 => ⟨S8x32768x4, .i32⟩
  | 127 => ⟨S8x32768x4, .i32⟩
  | _ => ⟨S8x32768, .i32⟩

abbrev hbmTy0_27 (i : Nat) : BufTy := match i % 128 with
  | 0 => ⟨S_, .i32⟩
  | 1 => ⟨S8x32768x4, .i32⟩
  | 2 => ⟨S8x32768x4, .i32⟩
  | 3 => ⟨S8x32768x4, .i32⟩
  | 4 => ⟨S8x32768x4, .i32⟩
  | 5 => ⟨S8x32768x4, .i32⟩
  | 6 => ⟨S_, .i32⟩
  | 7 => ⟨S8x32768x4, .i32⟩
  | 8 => ⟨S8x32768x4, .i32⟩
  | 9 => ⟨S_, .i32⟩
  | 10 => ⟨S8x32768x4, .i32⟩
  | 11 => ⟨S8x32768x4, .i32⟩
  | 12 => ⟨S8x32768x4, .i32⟩
  | 13 => ⟨S8x32768x4, .i32⟩
  | 14 => ⟨S8x32768x4, .i32⟩
  | 15 => ⟨S8x32768x4, .i32⟩
  | 16 => ⟨S8x32768x4, .i32⟩
  | 17 => ⟨S8x32768x4, .i32⟩
  | 18 => ⟨S_, .i32⟩
  | 19 => ⟨S8x32768x4, .i32⟩
  | 20 => ⟨S8x32768x4, .i32⟩
  | 21 => ⟨S8x32768x4, .i32⟩
  | 22 => ⟨S_, .i32⟩
  | 23 => ⟨S8x32768x4, .i32⟩
  | 24 => ⟨S8x32768x4, .i32⟩
  | 25 => ⟨S_, .i32⟩
  | 26 => ⟨S8x32768x4, .i32⟩
  | 27 => ⟨S8x32768x4, .i32⟩
  | 28 => ⟨S8x32768x4, .i32⟩
  | 29 => ⟨S8x32768x4, .i32⟩
  | 30 => ⟨S8x32768x4, .i32⟩
  | 31 => ⟨S_, .i32⟩
  | 32 => ⟨S8x32768x4, .i32⟩
  | 33 => ⟨S8x32768x4, .i32⟩
  | 34 => ⟨S_, .i32⟩
  | 35 => ⟨S8x32768x4, .i32⟩
  | 36 => ⟨S8x32768x4, .i32⟩
  | 37 => ⟨S8x32768x4, .i32⟩
  | 38 => ⟨S8x32768x4, .i32⟩
  | 39 => ⟨S8x32768x4, .i32⟩
  | 40 => ⟨S_, .i32⟩
  | 41 => ⟨S8x32768x4, .i32⟩
  | 42 => ⟨S8x32768x4, .i32⟩
  | 43 => ⟨S_, .i32⟩
  | 44 => ⟨S8x32768x4, .i32⟩
  | 45 => ⟨S8x32768x4, .i32⟩
  | 46 => ⟨S8x32768x4, .i32⟩
  | 47 => ⟨S8x32768x4, .i32⟩
  | 48 => ⟨S8x32768x4, .i32⟩
  | 49 => ⟨S_, .i32⟩
  | 50 => ⟨S8x32768x4, .i32⟩
  | 51 => ⟨S8x32768x4, .i32⟩
  | 52 => ⟨S_, .i32⟩
  | 53 => ⟨S8x32768x4, .i32⟩
  | 54 => ⟨S8x32768x4, .i32⟩
  | 55 => ⟨S8x32768x4, .i32⟩
  | 56 => ⟨S8x32768x4, .i32⟩
  | 57 => ⟨S8x32768x4, .i32⟩
  | 58 => ⟨S8x32768x4, .i32⟩
  | 59 => ⟨S8x32768x4, .i32⟩
  | 60 => ⟨S8x32768x4, .i32⟩
  | 61 => ⟨S_, .i32⟩
  | 62 => ⟨S8x32768x4, .i32⟩
  | 63 => ⟨S8x32768x4, .i32⟩
  | 64 => ⟨S8x32768x4, .i32⟩
  | 65 => ⟨S_, .i32⟩
  | 66 => ⟨S8x32768x4, .i32⟩
  | 67 => ⟨S8x32768x4, .i32⟩
  | 68 => ⟨S_, .i32⟩
  | 69 => ⟨S8x32768x4, .i32⟩
  | 70 => ⟨S8x32768x4, .i32⟩
  | 71 => ⟨S8x32768x4, .i32⟩
  | 72 => ⟨S8x32768x4, .i32⟩
  | 73 => ⟨S8x32768x4, .i32⟩
  | 74 => ⟨S_, .i32⟩
  | 75 => ⟨S8x32768x4, .i32⟩
  | 76 => ⟨S8x32768x4, .i32⟩
  | 77 => ⟨S_, .i32⟩
  | 78 => ⟨S8x32768x4, .i32⟩
  | 79 => ⟨S8x32768x4, .i32⟩
  | 80 => ⟨S8x32768x4, .i32⟩
  | 81 => ⟨S8x32768x4, .i32⟩
  | 82 => ⟨S8x32768x4, .i32⟩
  | 83 => ⟨S_, .i32⟩
  | 84 => ⟨S8x32768x4, .i32⟩
  | 85 => ⟨S8x32768x4, .i32⟩
  | 86 => ⟨S_, .i32⟩
  | 87 => ⟨S8x32768x4, .i32⟩
  | 88 => ⟨S8x32768x4, .i32⟩
  | 89 => ⟨S8x32768x4, .i32⟩
  | 90 => ⟨S8x32768x4, .i32⟩
  | 91 => ⟨S8x32768x4, .i32⟩
  | 92 => ⟨S_, .i32⟩
  | 93 => ⟨S8x32768x4, .i32⟩
  | 94 => ⟨S8x32768x4, .i32⟩
  | 95 => ⟨S_, .i32⟩
  | 96 => ⟨S8x32768x4, .i32⟩
  | 97 => ⟨S8x32768x4, .i32⟩
  | 98 => ⟨S8x32768x4, .i32⟩
  | 99 => ⟨S8x32768x4, .i32⟩
  | 100 => ⟨S8x32768x4, .i32⟩
  | 101 => ⟨S8x32768x4, .i32⟩
  | 102 => ⟨S8x32768x4, .i32⟩
  | 103 => ⟨S8x32768x4, .i32⟩
  | 104 => ⟨S_, .i32⟩
  | 105 => ⟨S8x32768x4, .i32⟩
  | 106 => ⟨S8x32768x4, .i32⟩
  | 107 => ⟨S8x32768x4, .i32⟩
  | 108 => ⟨S_, .i32⟩
  | 109 => ⟨S8x32768x4, .i32⟩
  | 110 => ⟨S8x32768x4, .i32⟩
  | 111 => ⟨S_, .i32⟩
  | 112 => ⟨S8x32768x4, .i32⟩
  | 113 => ⟨S8x32768x4, .i32⟩
  | 114 => ⟨S8x32768x4, .i32⟩
  | 115 => ⟨S8x32768x4, .i32⟩
  | 116 => ⟨S8x32768x4, .i32⟩
  | 117 => ⟨S_, .i32⟩
  | 118 => ⟨S8x32768x4, .i32⟩
  | 119 => ⟨S8x32768x4, .i32⟩
  | 120 => ⟨S_, .i32⟩
  | 121 => ⟨S8x32768x4, .i32⟩
  | 122 => ⟨S8x32768x4, .i32⟩
  | 123 => ⟨S8x32768x4, .i32⟩
  | 124 => ⟨S8x32768x4, .i32⟩
  | 125 => ⟨S8x32768x4, .i32⟩
  | 126 => ⟨S_, .i32⟩
  | 127 => ⟨S8x32768x4, .i32⟩
  | _ => ⟨S8x32768, .i32⟩

abbrev hbmTy0_28 (i : Nat) : BufTy := match i % 128 with
  | 0 => ⟨S8x32768x4, .i32⟩
  | 1 => ⟨S_, .i32⟩
  | 2 => ⟨S8x32768x4, .i32⟩
  | 3 => ⟨S8x32768x4, .i32⟩
  | 4 => ⟨S8x32768x4, .i32⟩
  | 5 => ⟨S8x32768x4, .i32⟩
  | 6 => ⟨S8x32768x4, .i32⟩
  | 7 => ⟨S_, .i32⟩
  | 8 => ⟨S8x32768x4, .i32⟩
  | 9 => ⟨S8x32768x4, .i32⟩
  | 10 => ⟨S_, .i32⟩
  | 11 => ⟨S8x32768x4, .i32⟩
  | 12 => ⟨S8x32768x4, .i32⟩
  | 13 => ⟨S8x32768x4, .i32⟩
  | 14 => ⟨S8x32768x4, .i32⟩
  | 15 => ⟨S8x32768x4, .i32⟩
  | 16 => ⟨S8x32768x4, .i32⟩
  | 17 => ⟨S8x32768x4, .i32⟩
  | 18 => ⟨S8x32768x4, .i32⟩
  | 19 => ⟨S_, .i32⟩
  | 20 => ⟨S8x32768x4, .i32⟩
  | 21 => ⟨S8x32768x4, .i32⟩
  | 22 => ⟨S8x32768x4, .i32⟩
  | 23 => ⟨S_, .i32⟩
  | 24 => ⟨S8x32768x4, .i32⟩
  | 25 => ⟨S8x32768x4, .i32⟩
  | 26 => ⟨S_, .i32⟩
  | 27 => ⟨S8x32768x4, .i32⟩
  | 28 => ⟨S8x32768x4, .i32⟩
  | 29 => ⟨S8x32768x4, .f32⟩
  | 30 => ⟨S_, .f32⟩
  | 31 => ⟨S8x32768x4, .f32⟩
  | 32 => ⟨S8x32768x4, .f32⟩
  | 33 => ⟨S1x1x1, .f32⟩
  | 34 => ⟨S8x32768x4, .f32⟩
  | 35 => ⟨S8x32768x4, .f32⟩
  | 36 => ⟨S8x32768x4, .f32⟩
  | 37 => ⟨S8x32768x4, .f32⟩
  | 38 => ⟨S8x32768x4, .f32⟩
  | 39 => ⟨S8x32768x4, .f32⟩
  | 40 => ⟨S8x32768x4, .f32⟩
  | 41 => ⟨S8x32768x4, .f32⟩
  | 42 => ⟨S8x32768x4, .f32⟩
  | 43 => ⟨S8x32768x4, .f32⟩
  | 44 => ⟨S_, .f32⟩
  | 45 => ⟨S_, .f32⟩
  | 46 => ⟨S_, .f32⟩
  | 47 => ⟨S_, .f32⟩
  | 48 => ⟨S1, .f32⟩
  | 49 => ⟨S1, .f32⟩
  | 50 => ⟨S1, .i32⟩
  | 51 => ⟨S_, .i32⟩
  | 52 => ⟨S1, .i32⟩
  | 53 => ⟨S_, .i32⟩
  | 54 => ⟨S8, .i64⟩
  | 55 => ⟨S_, .i64⟩
  | 56 => ⟨S8, .i64⟩
  | 57 => ⟨S8, .i64⟩
  | 58 => ⟨S_, .i64⟩
  | 59 => ⟨S8, .i64⟩
  | 60 => ⟨S8, .i64⟩
  | 61 => ⟨S8, .i32⟩
  | 62 => ⟨S8, .i32⟩
  | 63 => ⟨S_, .i32⟩
  | 64 => ⟨S_, .i32⟩
  | 65 => ⟨S_, .i32⟩
  | 66 => ⟨S8, .i32⟩
  | 67 => ⟨S8, .i32⟩
  | 68 => ⟨S8, .i32⟩
  | 69 => ⟨S8, .i32⟩
  | 70 => ⟨S8, .i32⟩
  | 71 => ⟨S_, .i32⟩
  | 72 => ⟨S8, .i32⟩
  | 73 => ⟨S8, .i32⟩
  | 74 => ⟨S_, .i32⟩
  | 75 => ⟨S8, .i32⟩
  | 76 => ⟨S8, .i32⟩
  | 77 => ⟨S8, .i32⟩
  | 78 => ⟨S8, .i32⟩
  | 79 => ⟨S8, .i32⟩
  | 80 => ⟨S_, .i32⟩
  | 81 => ⟨S8, .i32⟩
  | 82 => ⟨S8, .i32⟩
  | 83 => ⟨S_, .i32⟩
  | 84 => ⟨S8, .i32⟩
  | 85 => ⟨S8, .i32⟩
  | 86 => ⟨S8, .i32⟩
  | 87 => ⟨S8, .i32⟩
  | 88 => ⟨S8, .i32⟩
  | 89 => ⟨S_, .i32⟩
  | 90 => ⟨S8, .i32⟩
  | 91 => ⟨S8, .i32⟩
  | 92 => ⟨S_, .i32⟩
  | 93 => ⟨S8, .i32⟩
  | 94 => ⟨S8, .i32⟩
  | 95 => ⟨S8, .i32⟩
  | 96 => ⟨S8, .i32⟩
  | 97 => ⟨S8, .i32⟩
  | 98 => ⟨S_, .i32⟩
  | 99 => ⟨S8, .i32⟩
  | 100 => ⟨S8, .i32⟩
  | 101 => ⟨S_, .i32⟩
  | 102 => ⟨S8, .i32⟩
  | 103 => ⟨S8, .i32⟩
  | 104 => ⟨S8, .i32⟩
  | 105 => ⟨S8, .i32⟩
  | 106 => ⟨S8, .i32⟩
  | 107 => ⟨S8, .i32⟩
  | 108 => ⟨S8, .i32⟩
  | 109 => ⟨S8, .i32⟩
  | 110 => ⟨S_, .i32⟩
  | 111 => ⟨S8, .i32⟩
  | 112 => ⟨S8, .i32⟩
  | 113 => ⟨S8, .i32⟩
  | 114 => ⟨S_, .i32⟩
  | 115 => ⟨S8, .i32⟩
  | 116 => ⟨S8, .i32⟩
  | 117 => ⟨S_, .i32⟩
  | 118 => ⟨S8, .i32⟩
  | 119 => ⟨S8, .i32⟩
  | 120 => ⟨S8, .i32⟩
  | 121 => ⟨S8, .i32⟩
  | 122 => ⟨S8, .i32⟩
  | 123 => ⟨S_, .i32⟩
  | 124 => ⟨S8, .i32⟩
  | 125 => ⟨S8, .i32⟩
  | 126 => ⟨S_, .i32⟩
  | 127 => ⟨S8, .i32⟩
  | _ => ⟨S8x32768, .i32⟩

abbrev hbmTy0_29 (i : Nat) : BufTy := match i % 128 with
  | 0 => ⟨S8, .i32⟩
  | 1 => ⟨S8, .i32⟩
  | 2 => ⟨S8, .i32⟩
  | 3 => ⟨S8, .i32⟩
  | 4 => ⟨S_, .i32⟩
  | 5 => ⟨S8, .i32⟩
  | 6 => ⟨S8, .i32⟩
  | 7 => ⟨S_, .i32⟩
  | 8 => ⟨S8, .i32⟩
  | 9 => ⟨S8, .i32⟩
  | 10 => ⟨S8, .i32⟩
  | 11 => ⟨S8, .i32⟩
  | 12 => ⟨S8, .i32⟩
  | 13 => ⟨S_, .i32⟩
  | 14 => ⟨S8, .i32⟩
  | 15 => ⟨S8, .i32⟩
  | 16 => ⟨S_, .i32⟩
  | 17 => ⟨S8, .i32⟩
  | 18 => ⟨S8, .i32⟩
  | 19 => ⟨S8, .i32⟩
  | 20 => ⟨S8, .i32⟩
  | 21 => ⟨S8, .i32⟩
  | 22 => ⟨S8, .i32⟩
  | 23 => ⟨S8, .i32⟩
  | 24 => ⟨S8, .i32⟩
  | 25 => ⟨S_, .i32⟩
  | 26 => ⟨S8, .i32⟩
  | 27 => ⟨S8, .i32⟩
  | 28 => ⟨S8, .i32⟩
  | 29 => ⟨S_, .i32⟩
  | 30 => ⟨S8, .i32⟩
  | 31 => ⟨S8, .i32⟩
  | 32 => ⟨S_, .i32⟩
  | 33 => ⟨S8, .i32⟩
  | 34 => ⟨S8, .i32⟩
  | 35 => ⟨S8, .i32⟩
  | 36 => ⟨S8, .i32⟩
  | 37 => ⟨S8, .i32⟩
  | 38 => ⟨S_, .i32⟩
  | 39 => ⟨S8, .i32⟩
  | 40 => ⟨S8, .i32⟩
  | 41 => ⟨S_, .i32⟩
  | 42 => ⟨S8, .i32⟩
  | 43 => ⟨S8, .i32⟩
  | 44 => ⟨S8, .i32⟩
  | 45 => ⟨S8, .i32⟩
  | 46 => ⟨S8, .i32⟩
  | 47 => ⟨S_, .i32⟩
  | 48 => ⟨S8, .i32⟩
  | 49 => ⟨S8, .i32⟩
  | 50 => ⟨S_, .i32⟩
  | 51 => ⟨S8, .i32⟩
  | 52 => ⟨S8, .i32⟩
  | 53 => ⟨S8, .i32⟩
  | 54 => ⟨S8, .i32⟩
  | 55 => ⟨S8, .i32⟩
  | 56 => ⟨S_, .i32⟩
  | 57 => ⟨S8, .i32⟩
  | 58 => ⟨S8, .i32⟩
  | 59 => ⟨S_, .i32⟩
  | 60 => ⟨S8, .i32⟩
  | 61 => ⟨S8, .i32⟩
  | 62 => ⟨S8, .i32⟩
  | 63 => ⟨S8, .i32⟩
  | 64 => ⟨S8, .i32⟩
  | 65 => ⟨S8, .i32⟩
  | 66 => ⟨S8, .i32⟩
  | 67 => ⟨S8, .i32⟩
  | 68 => ⟨S_, .i32⟩
  | 69 => ⟨S8, .i32⟩
  | 70 => ⟨S8, .i32⟩
  | 71 => ⟨S8, .i32⟩
  | 72 => ⟨S_, .i32⟩
  | 73 => ⟨S8, .i32⟩
  | 74 => ⟨S8, .i32⟩
  | 75 => ⟨S_, .i32⟩
  | 76 => ⟨S8, .i32⟩
  | 77 => ⟨S8, .i32⟩
  | 78 => ⟨S8, .i32⟩
  | 79 => ⟨S8, .i32⟩
  | 80 => ⟨S8, .i32⟩
  | 81 => ⟨S_, .i32⟩
  | 82 => ⟨S8, .i32⟩
  | 83 => ⟨S8, .i32⟩
  | 84 => ⟨S_, .i32⟩
  | 85 => ⟨S8, .i32⟩
  | 86 => ⟨S8, .i32⟩
  | 87 => ⟨S8, .i32⟩
  | 88 => ⟨S8, .i32⟩
  | 89 => ⟨S8, .i32⟩
  | 90 => ⟨S_, .i32⟩
  | 91 => ⟨S8, .i32⟩
  | 92 => ⟨S8, .i32⟩
  | 93 => ⟨S_, .i32⟩
  | 94 => ⟨S8, .i32⟩
  | 95 => ⟨S8, .i32⟩
  | 96 => ⟨S8, .i32⟩
  | 97 => ⟨S8, .i32⟩
  | 98 => ⟨S8, .i32⟩
  | 99 => ⟨S_, .i32⟩
  | 100 => ⟨S8, .i32⟩
  | 101 => ⟨S8, .i32⟩
  | 102 => ⟨S_, .i32⟩
  | 103 => ⟨S8, .i32⟩
  | 104 => ⟨S8, .i32⟩
  | 105 => ⟨S8, .i32⟩
  | 106 => ⟨S8, .i32⟩
  | 107 => ⟨S8, .i32⟩
  | 108 => ⟨S8, .i32⟩
  | 109 => ⟨S8, .i32⟩
  | 110 => ⟨S8, .i32⟩
  | 111 => ⟨S_, .i32⟩
  | 112 => ⟨S8, .i32⟩
  | 113 => ⟨S8, .i32⟩
  | 114 => ⟨S8, .i32⟩
  | 115 => ⟨S_, .i32⟩
  | 116 => ⟨S8, .i32⟩
  | 117 => ⟨S8, .i32⟩
  | 118 => ⟨S_, .i32⟩
  | 119 => ⟨S8, .i32⟩
  | 120 => ⟨S8, .i32⟩
  | 121 => ⟨S8, .i32⟩
  | 122 => ⟨S8, .i32⟩
  | 123 => ⟨S8, .i32⟩
  | 124 => ⟨S_, .i32⟩
  | 125 => ⟨S8, .i32⟩
  | 126 => ⟨S8, .i32⟩
  | 127 => ⟨S_, .i32⟩
  | _ => ⟨S8x32768, .i32⟩

abbrev hbmTy0_30 (i : Nat) : BufTy := match i % 128 with
  | 0 => ⟨S8, .i32⟩
  | 1 => ⟨S8, .i32⟩
  | 2 => ⟨S8, .i32⟩
  | 3 => ⟨S8, .i32⟩
  | 4 => ⟨S8, .i32⟩
  | 5 => ⟨S_, .i32⟩
  | 6 => ⟨S8, .i32⟩
  | 7 => ⟨S8, .i32⟩
  | 8 => ⟨S_, .i32⟩
  | 9 => ⟨S8, .i32⟩
  | 10 => ⟨S8, .i32⟩
  | 11 => ⟨S8, .i32⟩
  | 12 => ⟨S8, .i32⟩
  | 13 => ⟨S8, .i32⟩
  | 14 => ⟨S_, .i32⟩
  | 15 => ⟨S8, .i32⟩
  | 16 => ⟨S8, .i32⟩
  | 17 => ⟨S_, .i32⟩
  | 18 => ⟨S8, .i32⟩
  | 19 => ⟨S8, .i32⟩
  | 20 => ⟨S8, .i32⟩
  | 21 => ⟨S8, .i32⟩
  | 22 => ⟨S8, .i32⟩
  | 23 => ⟨S8, .i32⟩
  | 24 => ⟨S8, .i32⟩
  | 25 => ⟨S8, .i32⟩
  | 26 => ⟨S_, .i32⟩
  | 27 => ⟨S8, .i32⟩
  | 28 => ⟨S8, .i32⟩
  | 29 => ⟨S8, .i32⟩
  | 30 => ⟨S_, .i32⟩
  | 31 => ⟨S8, .i32⟩
  | 32 => ⟨S8, .i32⟩
  | 33 => ⟨S_, .i32⟩
  | 34 => ⟨S8, .i32⟩
  | 35 => ⟨S8, .i32⟩
  | 36 => ⟨S8, .f32⟩
  | 37 => ⟨S_, .f32⟩
  | 38 => ⟨S8, .f32⟩
  | 39 => ⟨S8, .f32⟩
  | 40 => ⟨S1, .f32⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S1, .i32⟩
  | 48 => ⟨S_, .i32⟩
  | 49 => ⟨S1, .i32⟩
  | 50 => ⟨S_, .i32⟩
  | 51 => ⟨S3, .i64⟩
  | 52 => ⟨S_, .i64⟩
  | 53 => ⟨S3, .i64⟩
  | 54 => ⟨S3, .i64⟩
  | 55 => ⟨S_, .i64⟩
  | 56 => ⟨S3, .i64⟩
  | 57 => ⟨S3, .i64⟩
  | 58 => ⟨S3, .i32⟩
  | 59 => ⟨S3, .i32⟩
  | 60 => ⟨S_, .i32⟩
  | 61 => ⟨S_, .i32⟩
  | 62 => ⟨S_, .i32⟩
  | 63 => ⟨S3, .i32⟩
  | 64 => ⟨S3, .i32⟩
  | 65 => ⟨S3, .i32⟩
  | 66 => ⟨S3, .i32⟩
  | 67 => ⟨S3, .i32⟩
  | 68 => ⟨S_, .i32⟩
  | 69 => ⟨S3, .i32⟩
  | 70 => ⟨S3, .i32⟩
  | 71 => ⟨S_, .i32⟩
  | 72 => ⟨S3, .i32⟩
  | 73 => ⟨S3, .i32⟩
  | 74 => ⟨S3, .i32⟩
  | 75 => ⟨S3, .i32⟩
  | 76 => ⟨S3, .i32⟩
  | 77 => ⟨S_, .i32⟩
  | 78 => ⟨S3, .i32⟩
  | 79 => ⟨S3, .i32⟩
  | 80 => ⟨S_, .i32⟩
  | 81 => ⟨S3, .i32⟩
  | 82 => ⟨S3, .i32⟩
  | 83 => ⟨S3, .i32⟩
  | 84 => ⟨S3, .i32⟩
  | 85 => ⟨S3, .i32⟩
  | 86 => ⟨S_, .i32⟩
  | 87 => ⟨S3, .i32⟩
  | 88 => ⟨S3, .i32⟩
  | 89 => ⟨S_, .i32⟩
  | 90 => ⟨S3, .i32⟩
  | 91 => ⟨S3, .i32⟩
  | 92 => ⟨S3, .i32⟩
  | 93 => ⟨S3, .i32⟩
  | 94 => ⟨S3, .i32⟩
  | 95 => ⟨S_, .i32⟩
  | 96 => ⟨S3, .i32⟩
  | 97 => ⟨S3, .i32⟩
  | 98 => ⟨S_, .i32⟩
  | 99 => ⟨S3, .i32⟩
  | 100 => ⟨S3, .i32⟩
  | 101 => ⟨S3, .i32⟩
  | 102 => ⟨S3, .i32⟩
  | 103 => ⟨S3, .i32⟩
  | 104 => ⟨S3, .i32⟩
  | 105 => ⟨S3, .i32⟩
  | 106 => ⟨S3, .i32⟩
  | 107 => ⟨S_, .i32⟩
  | 108 => ⟨S3, .i32⟩
  | 109 => ⟨S3, .i32⟩
  | 110 => ⟨S3, .i32⟩
  | 111 => ⟨S_, .i32⟩
  | 112 => ⟨S3, .i32⟩
  | 113 => ⟨S3, .i32⟩
  | 114 => ⟨S_, .i32⟩
  | 115 => ⟨S3, .i32⟩
  | 116 => ⟨S3, .i32⟩
  | 117 => ⟨S3, .i32⟩
  | 118 => ⟨S3, .i32⟩
  | 119 => ⟨S3, .i32⟩
  | 120 => ⟨S_, .i32⟩
  | 121 => ⟨S3, .i32⟩
  | 122 => ⟨S3, .i32⟩
  | 123 => ⟨S_, .i32⟩
  | 124 => ⟨S3, .i32⟩
  | 125 => ⟨S3, .i32⟩
  | 126 => ⟨S3, .i32⟩
  | 127 => ⟨S3, .i32⟩
  | _ => ⟨S8x32768, .i32⟩

abbrev hbmTy0_31 (i : Nat) : BufTy := match i % 128 with
  | 0 => ⟨S3, .i32⟩
  | 1 => ⟨S_, .i32⟩
  | 2 => ⟨S3, .i32⟩
  | 3 => ⟨S3, .i32⟩
  | 4 => ⟨S_, .i32⟩
  | 5 => ⟨S3, .i32⟩
  | 6 => ⟨S3, .i32⟩
  | 7 => ⟨S3, .i32⟩
  | 8 => ⟨S3, .i32⟩
  | 9 => ⟨S3, .i32⟩
  | 10 => ⟨S_, .i32⟩
  | 11 => ⟨S3, .i32⟩
  | 12 => ⟨S3, .i32⟩
  | 13 => ⟨S_, .i32⟩
  | 14 => ⟨S3, .i32⟩
  | 15 => ⟨S3, .i32⟩
  | 16 => ⟨S3, .i32⟩
  | 17 => ⟨S3, .i32⟩
  | 18 => ⟨S3, .i32⟩
  | 19 => ⟨S3, .i32⟩
  | 20 => ⟨S3, .i32⟩
  | 21 => ⟨S3, .i32⟩
  | 22 => ⟨S_, .i32⟩
  | 23 => ⟨S3, .i32⟩
  | 24 => ⟨S3, .i32⟩
  | 25 => ⟨S3, .i32⟩
  | 26 => ⟨S_, .i32⟩
  | 27 => ⟨S3, .i32⟩
  | 28 => ⟨S3, .i32⟩
  | 29 => ⟨S_, .i32⟩
  | 30 => ⟨S3, .i32⟩
  | 31 => ⟨S3, .i32⟩
  | 32 => ⟨S3, .i32⟩
  | 33 => ⟨S3, .i32⟩
  | 34 => ⟨S3, .i32⟩
  | 35 => ⟨S_, .i32⟩
  | 36 => ⟨S3, .i32⟩
  | 37 => ⟨S3, .i32⟩
  | 38 => ⟨S_, .i32⟩
  | 39 => ⟨S3, .i32⟩
  | 40 => ⟨S3, .i32⟩
  | 41 => ⟨S3, .i32⟩
  | 42 => ⟨S3, .i32⟩
  | 43 => ⟨S3, .i32⟩
  | 44 => ⟨S_, .i32⟩
  | 45 => ⟨S3, .i32⟩
  | 46 => ⟨S3, .i32⟩
  | 47 => ⟨S_, .i32⟩
  | 48 => ⟨S3, .i32⟩
  | 49 => ⟨S3, .i32⟩
  | 50 => ⟨S3, .i32⟩
  | 51 => ⟨S3, .i32⟩
  | 52 => ⟨S3, .i32⟩
  | 53 => ⟨S_, .i32⟩
  | 54 => ⟨S3, .i32⟩
  | 55 => ⟨S3, .i32⟩
  | 56 => ⟨S_, .i32⟩
  | 57 => ⟨S3, .i32⟩
  | 58 => ⟨S3, .i32⟩
  | 59 => ⟨S3, .i32⟩
  | 60 => ⟨S3, .i32⟩
  | 61 => ⟨S3, .i32⟩
  | 62 => ⟨S3, .i32⟩
  | 63 => ⟨S3, .i32⟩
  | 64 => ⟨S3, .i32⟩
  | 65 => ⟨S_, .i32⟩
  | 66 => ⟨S3, .i32⟩
  | 67 => ⟨S3, .i32⟩
  | 68 => ⟨S3, .i32⟩
  | 69 => ⟨S_, .i32⟩
  | 70 => ⟨S3, .i32⟩
  | 71 => ⟨S3, .i32⟩
  | 72 => ⟨S_, .i32⟩
  | 73 => ⟨S3, .i32⟩
  | 74 => ⟨S3, .i32⟩
  | 75 => ⟨S3, .i32⟩
  | 76 => ⟨S3, .i32⟩
  | 77 => ⟨S3, .i32⟩
  | 78 => ⟨S_, .i32⟩
  | 79 => ⟨S3, .i32⟩
  | 80 => ⟨S3, .i32⟩
  | 81 => ⟨S_, .i32⟩
  | 82 => ⟨S3, .i32⟩
  | 83 => ⟨S3, .i32⟩
  | 84 => ⟨S3, .i32⟩
  | 85 => ⟨S3, .i32⟩
  | 86 => ⟨S3, .i32⟩
  | 87 => ⟨S_, .i32⟩
  | 88 => ⟨S3, .i32⟩
  | 89 => ⟨S3, .i32⟩
  | 90 => ⟨S_, .i32⟩
  | 91 => ⟨S3, .i32⟩
  | 92 => ⟨S3, .i32⟩
  | 93 => ⟨S3, .i32⟩
  | 94 => ⟨S3, .i32⟩
  | 95 => ⟨S3, .i32⟩
  | 96 => ⟨S_, .i32⟩
  | 97 => ⟨S3, .i32⟩
  | 98 => ⟨S3, .i32⟩
  | 99 => ⟨S_, .i32⟩
  | 100 => ⟨S3, .i32⟩
  | 101 => ⟨S3, .i32⟩
  | 102 => ⟨S3, .i32⟩
  | 103 => ⟨S3, .i32⟩
  | 104 => ⟨S3, .i32⟩
  | 105 => ⟨S3, .i32⟩
  | 106 => ⟨S3, .i32⟩
  | 107 => ⟨S3, .i32⟩
  | 108 => ⟨S_, .i32⟩
  | 109 => ⟨S3, .i32⟩
  | 110 => ⟨S3, .i32⟩
  | 111 => ⟨S3, .i32⟩
  | 112 => ⟨S_, .i32⟩
  | 113 => ⟨S3, .i32⟩
  | 114 => ⟨S3, .i32⟩
  | 115 => ⟨S_, .i32⟩
  | 116 => ⟨S3, .i32⟩
  | 117 => ⟨S3, .i32⟩
  | 118 => ⟨S3, .i32⟩
  | 119 => ⟨S3, .i32⟩
  | 120 => ⟨S3, .i32⟩
  | 121 => ⟨S_, .i32⟩
  | 122 => ⟨S3, .i32⟩
  | 123 => ⟨S3, .i32⟩
  | 124 => ⟨S_, .i32⟩
  | 125 => ⟨S3, .i32⟩
  | 126 => ⟨S3, .i32⟩
  | 127 => ⟨S3, .i32⟩
  | _ => ⟨S8x32768, .i32⟩

abbrev hbmTy0_32 (i : Nat) : BufTy := match i % 128 with
  | 0 => ⟨S3, .i32⟩
  | 1 => ⟨S3, .i32⟩
  | 2 => ⟨S_, .i32⟩
  | 3 => ⟨S3, .i32⟩
  | 4 => ⟨S3, .i32⟩
  | 5 => ⟨S_, .i32⟩
  | 6 => ⟨S3, .i32⟩
  | 7 => ⟨S3, .i32⟩
  | 8 => ⟨S3, .i32⟩
  | 9 => ⟨S3, .i32⟩
  | 10 => ⟨S3, .i32⟩
  | 11 => ⟨S_, .i32⟩
  | 12 => ⟨S3, .i32⟩
  | 13 => ⟨S3, .i32⟩
  | 14 => ⟨S_, .i32⟩
  | 15 => ⟨S3, .i32⟩
  | 16 => ⟨S3, .i32⟩
  | 17 => ⟨S3, .i32⟩
  | 18 => ⟨S3, .i32⟩
  | 19 => ⟨S3, .i32⟩
  | 20 => ⟨S3, .i32⟩
  | 21 => ⟨S3, .i32⟩
  | 22 => ⟨S3, .i32⟩
  | 23 => ⟨S_, .i32⟩
  | 24 => ⟨S3, .i32⟩
  | 25 => ⟨S3, .i32⟩
  | 26 => ⟨S3x1, .i32⟩
  | 27 => ⟨S3x1, .i32⟩
  | 28 => ⟨S3x2, .i32⟩
  | 29 => ⟨S1x2, .i32⟩
  | 30 => ⟨S2, .i32⟩
  | 31 => ⟨S1x2, .i32⟩
  | 32 => ⟨S2, .i32⟩
  | 33 => ⟨S1x2, .i32⟩
  | 34 => ⟨S2, .i32⟩
  | 35 => ⟨S_, .f32⟩
  | 36 => ⟨S_, .f32⟩
  | 37 => ⟨S_, .f32⟩
  | 38 => ⟨S1x1x1, .f32⟩
  | 39 => ⟨S1x1x1, .f32⟩
  | 40 => ⟨S1, .i32⟩
  | 41 => ⟨S_, .i32⟩
  | 42 => ⟨S1, .i32⟩
  | 43 => ⟨S_, .i32⟩
  | 44 => ⟨S8x32768x4, .i64⟩
  | 45 => ⟨S8x32768x4, .i64⟩
  | 46 => ⟨S8x32768x4, .i64⟩
  | 47 => ⟨S_, .i64⟩
  | 48 => ⟨S8x32768x4, .i64⟩
  | 49 => ⟨S8x32768x4, .i64⟩
  | 50 => ⟨S_, .i64⟩
  | 51 => ⟨S8x32768x4, .i64⟩
  | 52 => ⟨S8x32768x4, .i64⟩
  | 53 => ⟨S_, .i64⟩
  | 54 => ⟨S8x32768x4, .i64⟩
  | 55 => ⟨S8x32768x4, .i64⟩
  | 56 => ⟨S8x32768x4, .i64⟩
  | 57 => ⟨S8x32768x4, .i64⟩
  | 58 => ⟨S_, .i64⟩
  | 59 => ⟨S8x32768x4, .i64⟩
  | 60 => ⟨S8x32768x4, .i64⟩
  | 61 => ⟨S8x32768x4, .i32⟩
  | 62 => ⟨S8x32768x4, .i32⟩
  | 63 => ⟨S_, .i32⟩
  | 64 => ⟨S_, .i32⟩
  | 65 => ⟨S_, .i32⟩
  | 66 => ⟨S8x32768x4, .i32⟩
  | 67 => ⟨S8x32768x4, .i32⟩
  | 68 => ⟨S8x32768x4, .i32⟩
  | 69 => ⟨S8x32768x4, .i32⟩
  | 70 => ⟨S8x32768x4, .i32⟩
  | 71 => ⟨S_, .i32⟩
  | 72 => ⟨S8x32768x4, .i32⟩
  | 73 => ⟨S8x32768x4, .i32⟩
  | 74 => ⟨S_, .i32⟩
  | 75 => ⟨S8x32768x4, .i32⟩
  | 76 => ⟨S8x32768x4, .i32⟩
  | 77 => ⟨S8x32768x4, .i32⟩
  | 78 => ⟨S8x32768x4, .i32⟩
  | 79 => ⟨S8x32768x4, .i32⟩
  | 80 => ⟨S_, .i32⟩
  | 81 => ⟨S8x32768x4, .i32⟩
  | 82 => ⟨S8x32768x4, .i32⟩
  | 83 => ⟨S_, .i32⟩
  | 84 => ⟨S8x32768x4, .i32⟩
  | 85 => ⟨S8x32768x4, .i32⟩
  | 86 => ⟨S8x32768x4, .i32⟩
  | 87 => ⟨S8x32768x4, .i32⟩
  | 88 => ⟨S8x32768x4, .i32⟩
  | 89 => ⟨S_, .i32⟩
  | 90 => ⟨S8x32768x4, .i32⟩
  | 91 => ⟨S8x32768x4, .i32⟩
  | 92 => ⟨S_, .i32⟩
  | 93 => ⟨S8x32768x4, .i32⟩
  | 94 => ⟨S8x32768x4, .i32⟩
  | 95 => ⟨S8x32768x4, .i32⟩
  | 96 => ⟨S8x32768x4, .i32⟩
  | 97 => ⟨S8x32768x4, .i32⟩
  | 98 => ⟨S_, .i32⟩
  | 99 => ⟨S8x32768x4, .i32⟩
  | 100 => ⟨S8x32768x4, .i32⟩
  | 101 => ⟨S_, .i32⟩
  | 102 => ⟨S8x32768x4, .i32⟩
  | 103 => ⟨S8x32768x4, .i32⟩
  | 104 => ⟨S8x32768x4, .i32⟩
  | 105 => ⟨S8x32768x4, .i32⟩
  | 106 => ⟨S8x32768x4, .i32⟩
  | 107 => ⟨S8x32768x4, .i32⟩
  | 108 => ⟨S8x32768x4, .i32⟩
  | 109 => ⟨S8x32768x4, .i32⟩
  | 110 => ⟨S_, .i32⟩
  | 111 => ⟨S8x32768x4, .i32⟩
  | 112 => ⟨S8x32768x4, .i32⟩
  | 113 => ⟨S8x32768x4, .i32⟩
  | 114 => ⟨S_, .i32⟩
  | 115 => ⟨S8x32768x4, .i32⟩
  | 116 => ⟨S8x32768x4, .i32⟩
  | 117 => ⟨S_, .i32⟩
  | 118 => ⟨S8x32768x4, .i32⟩
  | 119 => ⟨S8x32768x4, .i32⟩
  | 120 => ⟨S8x32768x4, .i32⟩
  | 121 => ⟨S8x32768x4, .i32⟩
  | 122 => ⟨S8x32768x4, .i32⟩
  | 123 => ⟨S_, .i32⟩
  | 124 => ⟨S8x32768x4, .i32⟩
  | 125 => ⟨S8x32768x4, .i32⟩
  | 126 => ⟨S_, .i32⟩
  | 127 => ⟨S8x32768x4, .i32⟩
  | _ => ⟨S8x32768, .i32⟩

abbrev hbmTy0_33 (i : Nat) : BufTy := match i % 128 with
  | 0 => ⟨S8x32768x4, .i32⟩
  | 1 => ⟨S8x32768x4, .i32⟩
  | 2 => ⟨S8x32768x4, .i32⟩
  | 3 => ⟨S8x32768x4, .i32⟩
  | 4 => ⟨S_, .i32⟩
  | 5 => ⟨S8x32768x4, .i32⟩
  | 6 => ⟨S8x32768x4, .i32⟩
  | 7 => ⟨S_, .i32⟩
  | 8 => ⟨S8x32768x4, .i32⟩
  | 9 => ⟨S8x32768x4, .i32⟩
  | 10 => ⟨S8x32768x4, .i32⟩
  | 11 => ⟨S8x32768x4, .i32⟩
  | 12 => ⟨S8x32768x4, .i32⟩
  | 13 => ⟨S_, .i32⟩
  | 14 => ⟨S8x32768x4, .i32⟩
  | 15 => ⟨S8x32768x4, .i32⟩
  | 16 => ⟨S_, .i32⟩
  | 17 => ⟨S8x32768x4, .i32⟩
  | 18 => ⟨S8x32768x4, .i32⟩
  | 19 => ⟨S8x32768x4, .i32⟩
  | 20 => ⟨S8x32768x4, .i32⟩
  | 21 => ⟨S8x32768x4, .i32⟩
  | 22 => ⟨S8x32768x4, .i32⟩
  | 23 => ⟨S8x32768x4, .i32⟩
  | 24 => ⟨S8x32768x4, .i32⟩
  | 25 => ⟨S_, .i32⟩
  | 26 => ⟨S8x32768x4, .i32⟩
  | 27 => ⟨S8x32768x4, .i32⟩
  | 28 => ⟨S8x32768x4, .i32⟩
  | 29 => ⟨S_, .i32⟩
  | 30 => ⟨S8x32768x4, .i32⟩
  | 31 => ⟨S8x32768x4, .i32⟩
  | 32 => ⟨S_, .i32⟩
  | 33 => ⟨S8x32768x4, .i32⟩
  | 34 => ⟨S8x32768x4, .i32⟩
  | 35 => ⟨S8x32768x4, .i32⟩
  | 36 => ⟨S8x32768x4, .i32⟩
  | 37 => ⟨S8x32768x4, .i32⟩
  | 38 => ⟨S_, .i32⟩
  | 39 => ⟨S8x32768x4, .i32⟩
  | 40 => ⟨S8x32768x4, .i32⟩
  | 41 => ⟨S_, .i32⟩
  | 42 => ⟨S8x32768x4, .i32⟩
  | 43 => ⟨S8x32768x4, .i32⟩
  | 44 => ⟨S8x32768x4, .i32⟩
  | 45 => ⟨S8x32768x4, .i32⟩
  | 46 => ⟨S8x32768x4, .i32⟩
  | 47 => ⟨S_, .i32⟩
  | 48 => ⟨S8x32768x4, .i32⟩
  | 49 => ⟨S8x32768x4, .i32⟩
  | 50 => ⟨S_, .i32⟩
  | 51 => ⟨S8x32768x4, .i32⟩
  | 52 => ⟨S8x32768x4, .i32⟩
  | 53 => ⟨S8x32768x4, .i32⟩
  | 54 => ⟨S8x32768x4, .i32⟩
  | 55 => ⟨S8x32768x4, .i32⟩
  | 56 => ⟨S_, .i32⟩
  | 57 => ⟨S8x32768x4, .i32⟩
  | 58 => ⟨S8x32768x4, .i32⟩
  | 59 => ⟨S_, .i32⟩
  | 60 => ⟨S8x32768x4, .i32⟩
  | 61 => ⟨S8x32768x4, .i32⟩
  | 62 => ⟨S8x32768x4, .i32⟩
  | 63 => ⟨S8x32768x4, .i32⟩
  | 64 => ⟨S8x32768x4, .i32⟩
  | 65 => ⟨S8x32768x4, .i32⟩
  | 66 => ⟨S8x32768x4, .i32⟩
  | 67 => ⟨S8x32768x4, .i32⟩
  | 68 => ⟨S_, .i32⟩
  | 69 => ⟨S8x32768x4, .i32⟩
  | 70 => ⟨S8x32768x4, .i32⟩
  | 71 => ⟨S8x32768x4, .i32⟩
  | 72 => ⟨S_, .i32⟩
  | 73 => ⟨S8x32768x4, .i32⟩
  | 74 => ⟨S8x32768x4, .i32⟩
  | 75 => ⟨S_, .i32⟩
  | 76 => ⟨S8x32768x4, .i32⟩
  | 77 => ⟨S8x32768x4, .i32⟩
  | 78 => ⟨S8x32768x4, .i32⟩
  | 79 => ⟨S8x32768x4, .i32⟩
  | 80 => ⟨S8x32768x4, .i32⟩
  | 81 => ⟨S_, .i32⟩
  | 82 => ⟨S8x32768x4, .i32⟩
  | 83 => ⟨S8x32768x4, .i32⟩
  | 84 => ⟨S_, .i32⟩
  | 85 => ⟨S8x32768x4, .i32⟩
  | 86 => ⟨S8x32768x4, .i32⟩
  | 87 => ⟨S8x32768x4, .i32⟩
  | 88 => ⟨S8x32768x4, .i32⟩
  | 89 => ⟨S8x32768x4, .i32⟩
  | 90 => ⟨S_, .i32⟩
  | 91 => ⟨S8x32768x4, .i32⟩
  | 92 => ⟨S8x32768x4, .i32⟩
  | 93 => ⟨S_, .i32⟩
  | 94 => ⟨S8x32768x4, .i32⟩
  | 95 => ⟨S8x32768x4, .i32⟩
  | 96 => ⟨S8x32768x4, .i32⟩
  | 97 => ⟨S8x32768x4, .i32⟩
  | 98 => ⟨S8x32768x4, .i32⟩
  | 99 => ⟨S_, .i32⟩
  | 100 => ⟨S8x32768x4, .i32⟩
  | 101 => ⟨S8x32768x4, .i32⟩
  | 102 => ⟨S_, .i32⟩
  | 103 => ⟨S8x32768x4, .i32⟩
  | 104 => ⟨S8x32768x4, .i32⟩
  | 105 => ⟨S8x32768x4, .i32⟩
  | 106 => ⟨S8x32768x4, .i32⟩
  | 107 => ⟨S8x32768x4, .i32⟩
  | 108 => ⟨S8x32768x4, .i32⟩
  | 109 => ⟨S8x32768x4, .i32⟩
  | 110 => ⟨S8x32768x4, .i32⟩
  | 111 => ⟨S_, .i32⟩
  | 112 => ⟨S8x32768x4, .i32⟩
  | 113 => ⟨S8x32768x4, .i32⟩
  | 114 => ⟨S8x32768x4, .i32⟩
  | 115 => ⟨S_, .i32⟩
  | 116 => ⟨S8x32768x4, .i32⟩
  | 117 => ⟨S8x32768x4, .i32⟩
  | 118 => ⟨S_, .i32⟩
  | 119 => ⟨S8x32768x4, .i32⟩
  | 120 => ⟨S8x32768x4, .i32⟩
  | 121 => ⟨S8x32768x4, .i32⟩
  | 122 => ⟨S8x32768x4, .i32⟩
  | 123 => ⟨S8x32768x4, .i32⟩
  | 124 => ⟨S_, .i32⟩
  | 125 => ⟨S8x32768x4, .i32⟩
  | 126 => ⟨S8x32768x4, .i32⟩
  | 127 => ⟨S_, .i32⟩
  | _ => ⟨S8x32768, .i32⟩

abbrev hbmTy0_34 (i : Nat) : BufTy := match i % 128 with
  | 0 => ⟨S8x32768x4, .i32⟩
  | 1 => ⟨S8x32768x4, .i32⟩
  | 2 => ⟨S8x32768x4, .i32⟩
  | 3 => ⟨S8x32768x4, .i32⟩
  | 4 => ⟨S8x32768x4, .i32⟩
  | 5 => ⟨S_, .i32⟩
  | 6 => ⟨S8x32768x4, .i32⟩
  | 7 => ⟨S8x32768x4, .i32⟩
  | 8 => ⟨S_, .i32⟩
  | 9 => ⟨S8x32768x4, .i32⟩
  | 10 => ⟨S8x32768x4, .i32⟩
  | 11 => ⟨S8x32768x4, .i32⟩
  | 12 => ⟨S8x32768x4, .i32⟩
  | 13 => ⟨S8x32768x4, .i32⟩
  | 14 => ⟨S_, .i32⟩
  | 15 => ⟨S8x32768x4, .i32⟩
  | 16 => ⟨S8x32768x4, .i32⟩
  | 17 => ⟨S_, .i32⟩
  | 18 => ⟨S8x32768x4, .i32⟩
  | 19 => ⟨S8x32768x4, .i32⟩
  | 20 => ⟨S8x32768x4, .i32⟩
  | 21 => ⟨S8x32768x4, .i32⟩
  | 22 => ⟨S8x32768x4, .i32⟩
  | 23 => ⟨S8x32768x4, .i32⟩
  | 24 => ⟨S8x32768x4, .i32⟩
  | 25 => ⟨S8x32768x4, .i32⟩
  | 26 => ⟨S_, .i32⟩
  | 27 => ⟨S8x32768x4, .i32⟩
  | 28 => ⟨S8x32768x4, .i32⟩
  | 29 => ⟨S8x32768x4, .i32⟩
  | 30 => ⟨S_, .i32⟩
  | 31 => ⟨S8x32768x4, .i32⟩
  | 32 => ⟨S8x32768x4, .i32⟩
  | 33 => ⟨S_, .i32⟩
  | 34 => ⟨S8x32768x4, .i32⟩
  | 35 => ⟨S8x32768x4, .i32⟩
  | 36 => ⟨S8x32768x4, .f32⟩
  | 37 => ⟨S_, .f32⟩
  | 38 => ⟨S8x32768x4, .f32⟩
  | 39 => ⟨S8x32768x4, .f32⟩
  | 40 => ⟨S1x1x1, .f32⟩
  | 41 => ⟨S8x32768x4, .f32⟩
  | 42 => ⟨S8x32768x4, .f32⟩
  | 43 => ⟨S8x32768x4, .f32⟩
  | 44 => ⟨S8x32768x4, .f32⟩
  | 45 => ⟨S8x32768x4, .f32⟩
  | 46 => ⟨S8x32768x4, .f32⟩
  | 47 => ⟨S8x32768x4, .f32⟩
  | 48 => ⟨S8x32768x4, .f32⟩
  | 49 => ⟨S8x32768x4, .f32⟩
  | 50 => ⟨S8x32768x4, .f32⟩
  | 51 => ⟨S_, .f32⟩
  | 52 => ⟨S_, .f32⟩
  | 53 => ⟨S_, .f32⟩
  | 54 => ⟨S_, .f32⟩
  | 55 => ⟨S1, .f32⟩
  | 56 => ⟨S1, .f32⟩
  | 57 => ⟨S1, .i32⟩
  | 58 => ⟨S_, .i32⟩
  | 59 => ⟨S1, .i32⟩
  | 60 => ⟨S_, .i32⟩
  | 61 => ⟨S8, .i64⟩
  | 62 => ⟨S_, .i64⟩
  | 63 => ⟨S8, .i64⟩
  | 64 => ⟨S8, .i64⟩
  | 65 => ⟨S_, .i64⟩
  | 66 => ⟨S8, .i64⟩
  | 67 => ⟨S8, .i64⟩
  | 68 => ⟨S8, .i32⟩
  | 69 => ⟨S8, .i32⟩
  | 70 => ⟨S_, .i32⟩
  | 71 => ⟨S_, .i32⟩
  | 72 => ⟨S_, .i32⟩
  | 73 => ⟨S8, .i32⟩
  | 74 => ⟨S8, .i32⟩
  | 75 => ⟨S8, .i32⟩
  | 76 => ⟨S8, .i32⟩
  | 77 => ⟨S8, .i32⟩
  | 78 => ⟨S_, .i32⟩
  | 79 => ⟨S8, .i32⟩
  | 80 => ⟨S8, .i32⟩
  | 81 => ⟨S_, .i32⟩
  | 82 => ⟨S8, .i32⟩
  | 83 => ⟨S8, .i32⟩
  | 84 => ⟨S8, .i32⟩
  | 85 => ⟨S8, .i32⟩
  | 86 => ⟨S8, .i32⟩
  | 87 => ⟨S_, .i32⟩
  | 88 => ⟨S8, .i32⟩
  | 89 => ⟨S8, .i32⟩
  | 90 => ⟨S_, .i32⟩
  | 91 => ⟨S8, .i32⟩
  | 92 => ⟨S8, .i32⟩
  | 93 => ⟨S8, .i32⟩
  | 94 => ⟨S8, .i32⟩
  | 95 => ⟨S8, .i32⟩
  | 96 => ⟨S_, .i32⟩
  | 97 => ⟨S8, .i32⟩
  | 98 => ⟨S8, .i32⟩
  | 99 => ⟨S_, .i32⟩
  | 100 => ⟨S8, .i32⟩
  | 101 => ⟨S8, .i32⟩
  | 102 => ⟨S8, .i32⟩
  | 103 => ⟨S8, .i32⟩
  | 104 => ⟨S8, .i32⟩
  | 105 => ⟨S_, .i32⟩
  | 106 => ⟨S8, .i32⟩
  | 107 => ⟨S8, .i32⟩
  | 108 => ⟨S_, .i32⟩
  | 109 => ⟨S8, .i32⟩
  | 110 => ⟨S8, .i32⟩
  | 111 => ⟨S8, .i32⟩
  | 112 => ⟨S8, .i32⟩
  | 113 => ⟨S8, .i32⟩
  | 114 => ⟨S8, .i32⟩
  | 115 => ⟨S8, .i32⟩
  | 116 => ⟨S8, .i32⟩
  | 117 => ⟨S_, .i32⟩
  | 118 => ⟨S8, .i32⟩
  | 119 => ⟨S8, .i32⟩
  | 120 => ⟨S8, .i32⟩
  | 121 => ⟨S_, .i32⟩
  | 122 => ⟨S8, .i32⟩
  | 123 => ⟨S8, .i32⟩
  | 124 => ⟨S_, .i32⟩
  | 125 => ⟨S8, .i32⟩
  | 126 => ⟨S8, .i32⟩
  | 127 => ⟨S8, .i32⟩
  | _ => ⟨S8x32768, .i32⟩

abbrev hbmTy0_35 (i : Nat) : BufTy := match i % 128 with
  | 0 => ⟨S8, .i32⟩
  | 1 => ⟨S8, .i32⟩
  | 2 => ⟨S_, .i32⟩
  | 3 => ⟨S8, .i32⟩
  | 4 => ⟨S8, .i32⟩
  | 5 => ⟨S_, .i32⟩
  | 6 => ⟨S8, .i32⟩
  | 7 => ⟨S8, .i32⟩
  | 8 => ⟨S8, .i32⟩
  | 9 => ⟨S8, .i32⟩
  | 10 => ⟨S8, .i32⟩
  | 11 => ⟨S_, .i32⟩
  | 12 => ⟨S8, .i32⟩
  | 13 => ⟨S8, .i32⟩
  | 14 => ⟨S_, .i32⟩
  | 15 => ⟨S8, .i32⟩
  | 16 => ⟨S8, .i32⟩
  | 17 => ⟨S8, .i32⟩
  | 18 => ⟨S8, .i32⟩
  | 19 => ⟨S8, .i32⟩
  | 20 => ⟨S_, .i32⟩
  | 21 => ⟨S8, .i32⟩
  | 22 => ⟨S8, .i32⟩
  | 23 => ⟨S_, .i32⟩
  | 24 => ⟨S8, .i32⟩
  | 25 => ⟨S8, .i32⟩
  | 26 => ⟨S8, .i32⟩
  | 27 => ⟨S8, .i32⟩
  | 28 => ⟨S8, .i32⟩
  | 29 => ⟨S8, .i32⟩
  | 30 => ⟨S8, .i32⟩
  | 31 => ⟨S8, .i32⟩
  | 32 => ⟨S_, .i32⟩
  | 33 => ⟨S8, .i32⟩
  | 34 => ⟨S8, .i32⟩
  | 35 => ⟨S8, .i32⟩
  | 36 => ⟨S_, .i32⟩
  | 37 => ⟨S8, .i32⟩
  | 38 => ⟨S8, .i32⟩
  | 39 => ⟨S_, .i32⟩
  | 40 => ⟨S8, .i32⟩
  | 41 => ⟨S8, .i32⟩
  | 42 => ⟨S8, .i32⟩
  | 43 => ⟨S8, .i32⟩
  | 44 => ⟨S8, .i32⟩
  | 45 => ⟨S_, .i32⟩
  | 46 => ⟨S8, .i32⟩
  | 47 => ⟨S8, .i32⟩
  | 48 => ⟨S_, .i32⟩
  | 49 => ⟨S8, .i32⟩
  | 50 => ⟨S8, .i32⟩
  | 51 => ⟨S8, .i32⟩
  | 52 => ⟨S8, .i32⟩
  | 53 => ⟨S8, .i32⟩
  | 54 => ⟨S_, .i32⟩
  | 55 => ⟨S8, .i32⟩
  | 56 => ⟨S8, .i32⟩
  | 57 => ⟨S_, .i32⟩
  | 58 => ⟨S8, .i32⟩
  | 59 => ⟨S8, .i32⟩
  | 60 => ⟨S8, .i32⟩
  | 61 => ⟨S8, .i32⟩
  | 62 => ⟨S8, .i32⟩
  | 63 => ⟨S_, .i32⟩
  | 64 => ⟨S8, .i32⟩
  | 65 => ⟨S8, .i32⟩
  | 66 => ⟨S_, .i32⟩
  | 67 => ⟨S8, .i32⟩
  | 68 => ⟨S8, .i32⟩
  | 69 => ⟨S8, .i32⟩
  | 70 => ⟨S8, .i32⟩
  | 71 => ⟨S8, .i32⟩
  | 72 => ⟨S8, .i32⟩
  | 73 => ⟨S8, .i32⟩
  | 74 => ⟨S8, .i32⟩
  | 75 => ⟨S_, .i32⟩
  | 76 => ⟨S8, .i32⟩
  | 77 => ⟨S8, .i32⟩
  | 78 => ⟨S8, .i32⟩
  | 79 => ⟨S_, .i32⟩
  | 80 => ⟨S8, .i32⟩
  | 81 => ⟨S8, .i32⟩
  | 82 => ⟨S_, .i32⟩
  | 83 => ⟨S8, .i32⟩
  | 84 => ⟨S8, .i32⟩
  | 85 => ⟨S8, .i32⟩
  | 86 => ⟨S8, .i32⟩
  | 87 => ⟨S8, .i32⟩
  | 88 => ⟨S_, .i32⟩
  | 89 => ⟨S8, .i32⟩
  | 90 => ⟨S8, .i32⟩
  | 91 => ⟨S_, .i32⟩
  | 92 => ⟨S8, .i32⟩
  | 93 => ⟨S8, .i32⟩
  | 94 => ⟨S8, .i32⟩
  | 95 => ⟨S8, .i32⟩
  | 96 => ⟨S8, .i32⟩
  | 97 => ⟨S_, .i32⟩
  | 98 => ⟨S8, .i32⟩
  | 99 => ⟨S8, .i32⟩
  | 100 => ⟨S_, .i32⟩
  | 101 => ⟨S8, .i32⟩
  | 102 => ⟨S8, .i32⟩
  | 103 => ⟨S8, .i32⟩
  | 104 => ⟨S8, .i32⟩
  | 105 => ⟨S8, .i32⟩
  | 106 => ⟨S_, .i32⟩
  | 107 => ⟨S8, .i32⟩
  | 108 => ⟨S8, .i32⟩
  | 109 => ⟨S_, .i32⟩
  | 110 => ⟨S8, .i32⟩
  | 111 => ⟨S8, .i32⟩
  | 112 => ⟨S8, .i32⟩
  | 113 => ⟨S8, .i32⟩
  | 114 => ⟨S8, .i32⟩
  | 115 => ⟨S8, .i32⟩
  | 116 => ⟨S8, .i32⟩
  | 117 => ⟨S8, .i32⟩
  | 118 => ⟨S_, .i32⟩
  | 119 => ⟨S8, .i32⟩
  | 120 => ⟨S8, .i32⟩
  | 121 => ⟨S8, .i32⟩
  | 122 => ⟨S_, .i32⟩
  | 123 => ⟨S8, .i32⟩
  | 124 => ⟨S8, .i32⟩
  | 125 => ⟨S_, .i32⟩
  | 126 => ⟨S8, .i32⟩
  | 127 => ⟨S8, .i32⟩
  | _ => ⟨S8x32768, .i32⟩

abbrev hbmTy0_36 (i : Nat) : BufTy := match i % 128 with
  | 0 => ⟨S8, .i32⟩
  | 1 => ⟨S8, .i32⟩
  | 2 => ⟨S8, .i32⟩
  | 3 => ⟨S_, .i32⟩
  | 4 => ⟨S8, .i32⟩
  | 5 => ⟨S8, .i32⟩
  | 6 => ⟨S_, .i32⟩
  | 7 => ⟨S8, .i32⟩
  | 8 => ⟨S8, .i32⟩
  | 9 => ⟨S8, .i32⟩
  | 10 => ⟨S8, .i32⟩
  | 11 => ⟨S8, .i32⟩
  | 12 => ⟨S_, .i32⟩
  | 13 => ⟨S8, .i32⟩
  | 14 => ⟨S8, .i32⟩
  | 15 => ⟨S_, .i32⟩
  | 16 => ⟨S8, .i32⟩
  | 17 => ⟨S8, .i32⟩
  | 18 => ⟨S8, .i32⟩
  | 19 => ⟨S8, .i32⟩
  | 20 => ⟨S8, .i32⟩
  | 21 => ⟨S_, .i32⟩
  | 22 => ⟨S8, .i32⟩
  | 23 => ⟨S8, .i32⟩
  | 24 => ⟨S_, .i32⟩
  | 25 => ⟨S8, .i32⟩
  | 26 => ⟨S8, .i32⟩
  | 27 => ⟨S8, .i32⟩
  | 28 => ⟨S8, .i32⟩
  | 29 => ⟨S8, .i32⟩
  | 30 => ⟨S8, .i32⟩
  | 31 => ⟨S8, .i32⟩
  | 32 => ⟨S8, .i32⟩
  | 33 => ⟨S_, .i32⟩
  | 34 => ⟨S8, .i32⟩
  | 35 => ⟨S8, .i32⟩
  | 36 => ⟨S8, .i32⟩
  | 37 => ⟨S_, .i32⟩
  | 38 => ⟨S8, .i32⟩
  | 39 => ⟨S8, .i32⟩
  | 40 => ⟨S_, .i32⟩
  | 41 => ⟨S8, .i32⟩
  | 42 => ⟨S8, .i32⟩
  | 43 => ⟨S8, .f32⟩
  | 44 => ⟨S_, .f32⟩
  | 45 => ⟨S8, .f32⟩
  | 46 => ⟨S8, .f32⟩
  | 47 => ⟨S1, .f32⟩
  | 48 => ⟨S8, .f32⟩
  | 49 => ⟨S8, .f32⟩
  | 50 => ⟨S8, .f32⟩
  | 51 => ⟨S8, .f32⟩
  | 52 => ⟨S8, .f32⟩
  | 53 => ⟨S8, .f32⟩
  | 54 => ⟨S1, .i32⟩
  | 55 => ⟨S_, .i32⟩
  | 56 => ⟨S1, .i32⟩
  | 57 => ⟨S_, .i32⟩
  | 58 => ⟨S3, .i64⟩
  | 59 => ⟨S_, .i64⟩
  | 60 => ⟨S3, .i64⟩
  | 61 => ⟨S3, .i64⟩
  | 62 => ⟨S_, .i64⟩
  | 63 => ⟨S3, .i64⟩
  | 64 => ⟨S3, .i64⟩
  | 65 => ⟨S3, .i32⟩
  | 66 => ⟨S3, .i32⟩
  | 67 => ⟨S_, .i32⟩
  | 68 => ⟨S_, .i32⟩
  | 69 => ⟨S_, .i32⟩
  | 70 => ⟨S3, .i32⟩
  | 71 => ⟨S3, .i32⟩
  | 72 => ⟨S3, .i32⟩
  | 73 => ⟨S3, .i32⟩
  | 74 => ⟨S3, .i32⟩
  | 75 => ⟨S_, .i32⟩
  | 76 => ⟨S3, .i32⟩
  | 77 => ⟨S3, .i32⟩
  | 78 => ⟨S_, .i32⟩
  | 79 => ⟨S3, .i32⟩
  | 80 => ⟨S3, .i32⟩
  | 81 => ⟨S3, .i32⟩
  | 82 => ⟨S3, .i32⟩
  | 83 => ⟨S3, .i32⟩
  | 84 => ⟨S_, .i32⟩
  | 85 => ⟨S3, .i32⟩
  | 86 => ⟨S3, .i32⟩
  | 87 => ⟨S_, .i32⟩
  | 88 => ⟨S3, .i32⟩
  | 89 => ⟨S3, .i32⟩
  | 90 => ⟨S3, .i32⟩
  | 91 => ⟨S3, .i32⟩
  | 92 => ⟨S3, .i32⟩
  | 93 => ⟨S_, .i32⟩
  | 94 => ⟨S3, .i32⟩
  | 95 => ⟨S3, .i32⟩
  | 96 => ⟨S_, .i32⟩
  | 97 => ⟨S3, .i32⟩
  | 98 => ⟨S3, .i32⟩
  | 99 => ⟨S3, .i32⟩
  | 100 => ⟨S3, .i32⟩
  | 101 => ⟨S3, .i32⟩
  | 102 => ⟨S_, .i32⟩
  | 103 => ⟨S3, .i32⟩
  | 104 => ⟨S3, .i32⟩
  | 105 => ⟨S_, .i32⟩
  | 106 => ⟨S3, .i32⟩
  | 107 => ⟨S3, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S_, .i32⟩
  | 115 => ⟨S3, .i32⟩
  | 116 => ⟨S3, .i32⟩
  | 117 => ⟨S3, .i32⟩
  | 118 => ⟨S_, .i32⟩
  | 119 => ⟨S3, .i32⟩
  | 120 => ⟨S3, .i32⟩
  | 121 => ⟨S_, .i32⟩
  | 122 => ⟨S3, .i32⟩
  | 123 => ⟨S3, .i32⟩
  | 124 => ⟨S3, .i32⟩
  | 125 => ⟨S3, .i32⟩
  | 126 => ⟨S3, .i32⟩
  | 127 => ⟨S_, .i32⟩
  | _ => ⟨S8x32768, .i32⟩

abbrev hbmTy0_37 (i : Nat) : BufTy := match i % 128 with
  | 0 => ⟨S3, .i32⟩
  | 1 => ⟨S3, .i32⟩
  | 2 => ⟨S_, .i32⟩
  | 3 => ⟨S3, .i32⟩
  | 4 => ⟨S3, .i32⟩
  | 5 => ⟨S3, .i32⟩
  | 6 => ⟨S3, .i32⟩
  | 7 => ⟨S3, .i32⟩
  | 8 => ⟨S_, .i32⟩
  | 9 => ⟨S3, .i32⟩
  | 10 => ⟨S3, .i32⟩
  | 11 => ⟨S_, .i32⟩
  | 12 => ⟨S3, .i32⟩
  | 13 => ⟨S3, .i32⟩
  | 14 => ⟨S3, .i32⟩
  | 15 => ⟨S3, .i32⟩
  | 16 => ⟨S3, .i32⟩
  | 17 => ⟨S_, .i32⟩
  | 18 => ⟨S3, .i32⟩
  | 19 => ⟨S3, .i32⟩
  | 20 => ⟨S_, .i32⟩
  | 21 => ⟨S3, .i32⟩
  | 22 => ⟨S3, .i32⟩
  | 23 => ⟨S3, .i32⟩
  | 24 => ⟨S3, .i32⟩
  | 25 => ⟨S3, .i32⟩
  | 26 => ⟨S3, .i32⟩
  | 27 => ⟨S3, .i32⟩
  | 28 => ⟨S3, .i32⟩
  | 29 => ⟨S_, .i32⟩
  | 30 => ⟨S3, .i32⟩
  | 31 => ⟨S3, .i32⟩
  | 32 => ⟨S3, .i32⟩
  | 33 => ⟨S_, .i32⟩
  | 34 => ⟨S3, .i32⟩
  | 35 => ⟨S3, .i32⟩
  | 36 => ⟨S_, .i32⟩
  | 37 => ⟨S3, .i32⟩
  | 38 => ⟨S3, .i32⟩
  | 39 => ⟨S3, .i32⟩
  | 40 => ⟨S3, .i32⟩
  | 41 => ⟨S3, .i32⟩
  | 42 => ⟨S_, .i32⟩
  | 43 => ⟨S3, .i32⟩
  | 44 => ⟨S3, .i32⟩
  | 45 => ⟨S_, .i32⟩
  | 46 => ⟨S3, .i32⟩
  | 47 => ⟨S3, .i32⟩
  | 48 => ⟨S3, .i32⟩
  | 49 => ⟨S3, .i32⟩
  | 50 => ⟨S3, .i32⟩
  | 51 => ⟨S_, .i32⟩
  | 52 => ⟨S3, .i32⟩
  | 53 => ⟨S3, .i32⟩
  | 54 => ⟨S_, .i32⟩
  | 55 => ⟨S3, .i32⟩
  | 56 => ⟨S3, .i32⟩
  | 57 => ⟨S3, .i32⟩
  | 58 => ⟨S3, .i32⟩
  | 59 => ⟨S3, .i32⟩
  | 60 => ⟨S_, .i32⟩
  | 61 => ⟨S3, .i32⟩
  | 62 => ⟨S3, .i32⟩
  | 63 => ⟨S_, .i32⟩
  | 64 => ⟨S3, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S3, .i32⟩
  | 76 => ⟨S_, .i32⟩
  | 77 => ⟨S3, .i32⟩
  | 78 => ⟨S3, .i32⟩
  | 79 => ⟨S_, .i32⟩
  | 80 => ⟨S3, .i32⟩
  | 81 => ⟨S3, .i32⟩
  | 82 => ⟨S3, .i32⟩
  | 83 => ⟨S3, .i32⟩
  | 84 => ⟨S3, .i32⟩
  | 85 => ⟨S_, .i32⟩
  | 86 => ⟨S3, .i32⟩
  | 87 => ⟨S3, .i32⟩
  | 88 => ⟨S_, .i32⟩
  | 89 => ⟨S3, .i32⟩
  | 90 => ⟨S3, .i32⟩
  | 91 => ⟨S3, .i32⟩
  | 92 => ⟨S3, .i32⟩
  | 93 => ⟨S3, .i32⟩
  | 94 => ⟨S_, .i32⟩
  | 95 => ⟨S3, .i32⟩
  | 96 => ⟨S3, .i32⟩
  | 97 => ⟨S_, .i32⟩
  | 98 => ⟨S3, .i32⟩
  | 99 => ⟨S3, .i32⟩
  | 100 => ⟨S3, .i32⟩
  | 101 => ⟨S3, .i32⟩
  | 102 => ⟨S3, .i32⟩
  | 103 => ⟨S_, .i32⟩
  | 104 => ⟨S3, .i32⟩
  | 105 => ⟨S3, .i32⟩
  | 106 => ⟨S_, .i32⟩
  | 107 => ⟨S3, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S3, .i32⟩
  | 119 => ⟨S_, .i32⟩
  | 120 => ⟨S3, .i32⟩
  | 121 => ⟨S3, .i32⟩
  | 122 => ⟨S_, .i32⟩
  | 123 => ⟨S3, .i32⟩
  | 124 => ⟨S3, .i32⟩
  | 125 => ⟨S3, .i32⟩
  | 126 => ⟨S3, .i32⟩
  | 127 => ⟨S3, .i32⟩
  | _ => ⟨S8x32768, .i32⟩

abbrev hbmTy0_38 (i : Nat) : BufTy := match i % 128 with
  | 0 => ⟨S_, .i32⟩
  | 1 => ⟨S3, .i32⟩
  | 2 => ⟨S3, .i32⟩
  | 3 => ⟨S_, .i32⟩
  | 4 => ⟨S3, .i32⟩
  | 5 => ⟨S3, .i32⟩
  | 6 => ⟨S3, .i32⟩
  | 7 => ⟨S3, .i32⟩
  | 8 => ⟨S3, .i32⟩
  | 9 => ⟨S_, .i32⟩
  | 10 => ⟨S3, .i32⟩
  | 11 => ⟨S3, .i32⟩
  | 12 => ⟨S_, .i32⟩
  | 13 => ⟨S3, .i32⟩
  | 14 => ⟨S3, .i32⟩
  | 15 => ⟨S3, .i32⟩
  | 16 => ⟨S3, .i32⟩
  | 17 => ⟨S3, .i32⟩
  | 18 => ⟨S_, .i32⟩
  | 19 => ⟨S3, .i32⟩
  | 20 => ⟨S3, .i32⟩
  | 21 => ⟨S_, .i32⟩
  | 22 => ⟨S3, .i32⟩
  | 23 => ⟨S3, .i32⟩
  | 24 => ⟨S3, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S3x1, .i32⟩
  | 34 => ⟨S3x1, .i32⟩
  | 35 => ⟨S3x2, .i32⟩
  | 36 => ⟨S1x2, .i32⟩
  | 37 => ⟨S2, .i32⟩
  | 38 => ⟨S1x2, .i32⟩
  | 39 => ⟨S2, .i32⟩
  | 40 => ⟨S1x2, .i32⟩
  | 41 => ⟨S2, .i32⟩
  | 42 => ⟨S_, .f32⟩
  | 43 => ⟨S_, .f32⟩
  | 44 => ⟨S_, .f32⟩
  | 45 => ⟨S1x1x1, .f32⟩
  | 46 => ⟨S1x1x1, .f32⟩
  | 47 => ⟨S1, .i32⟩
  | 48 => ⟨S_, .i32⟩
  | 49 => ⟨S1, .i32⟩
  | 50 => ⟨S_, .i32⟩
  | 51 => ⟨S8x32768x4, .i64⟩
  | 52 => ⟨S8x32768x4, .i64⟩
  | 53 => ⟨S8x32768x4, .i64⟩
  | 54 => ⟨S_, .i64⟩
  | 55 => ⟨S8x32768x4, .i64⟩
  | 56 => ⟨S8x32768x4, .i64⟩
  | 57 => ⟨S_, .i64⟩
  | 58 => ⟨S8x32768x4, .i64⟩
  | 59 => ⟨S8x32768x4, .i64⟩
  | 60 => ⟨S_, .i64⟩
  | 61 => ⟨S8x32768x4, .i64⟩
  | 62 => ⟨S8x32768x4, .i64⟩
  | 63 => ⟨S8x32768x4, .i64⟩
  | 64 => ⟨S8x32768x4, .i64⟩
  | 65 => ⟨S_, .i64⟩
  | 66 => ⟨S8x32768x4, .i64⟩
  | 67 => ⟨S8x32768x4, .i64⟩
  | 68 => ⟨S8x32768x4, .i32⟩
  | 69 => ⟨S8x32768x4, .i32⟩
  | 70 => ⟨S_, .i32⟩
  | 71 => ⟨S_, .i32⟩
  | 72 => ⟨S_, .i32⟩
  | 73 => ⟨S8x32768x4, .i32⟩
  | 74 => ⟨S8x32768x4, .i32⟩
  | 75 => ⟨S8x32768x4, .i32⟩
  | 76 => ⟨S8x32768x4, .i32⟩
  | 77 => ⟨S8x32768x4, .i32⟩
  | 78 => ⟨S_, .i32⟩
  | 79 => ⟨S8x32768x4, .i32⟩
  | 80 => ⟨S8x32768x4, .i32⟩
  | 81 => ⟨S_, .i32⟩
  | 82 => ⟨S8x32768x4, .i32⟩
  | 83 => ⟨S8x32768x4, .i32⟩
  | 84 => ⟨S8x32768x4, .i32⟩
  | 85 => ⟨S8x32768x4, .i32⟩
  | 86 => ⟨S8x32768x4, .i32⟩
  | 87 => ⟨S_, .i32⟩
  | 88 => ⟨S8x32768x4, .i32⟩
  | 89 => ⟨S8x32768x4, .i32⟩
  | 90 => ⟨S_, .i32⟩
  | 91 => ⟨S8x32768x4, .i32⟩
  | 92 => ⟨S8x32768x4, .i32⟩
  | 93 => ⟨S8x32768x4, .i32⟩
  | 94 => ⟨S8x32768x4, .i32⟩
  | 95 => ⟨S8x32768x4, .i32⟩
  | 96 => ⟨S_, .i32⟩
  | 97 => ⟨S8x32768x4, .i32⟩
  | 98 => ⟨S8x32768x4, .i32⟩
  | 99 => ⟨S_, .i32⟩
  | 100 => ⟨S8x32768x4, .i32⟩
  | 101 => ⟨S8x32768x4, .i32⟩
  | 102 => ⟨S8x32768x4, .i32⟩
  | 103 => ⟨S8x32768x4, .i32⟩
  | 104 => ⟨S8x32768x4, .i32⟩
  | 105 => ⟨S_, .i32⟩
  | 106 => ⟨S8x32768x4, .i32⟩
  | 107 => ⟨S8x32768x4, .i32⟩
  | 108 => ⟨S_, .i32⟩
  | 109 => ⟨S8x32768x4, .i32⟩
  | 110 => ⟨S8x32768x4, .i32⟩
  | 111 => ⟨S8x32768x4, .i32⟩
  | 112 => ⟨S8x32768x4, .i32⟩
  | 113 => ⟨S8x32768x4, .i32⟩
  | 114 => ⟨S8x32768x4, .i32⟩
  | 115 => ⟨S8x32768x4, .i32⟩
  | 116 => ⟨S8x32768x4, .i32⟩
  | 117 => ⟨S_, .i32⟩
  | 118 => ⟨S8x32768x4, .i32⟩
  | 119 => ⟨S8x32768x4, .i32⟩
  | 120 => ⟨S8x32768x4, .i32⟩
  | 121 => ⟨S_, .i32⟩
  | 122 => ⟨S8x32768x4, .i32⟩
  | 123 => ⟨S8x32768x4, .i32⟩
  | 124 => ⟨S_, .i32⟩
  | 125 => ⟨S8x32768x4, .i32⟩
  | 126 => ⟨S8x32768x4, .i32⟩
  | 127 => ⟨S8x32768x4, .i32⟩
  | _ => ⟨S8x32768, .i32⟩

abbrev hbmTy0_39 (i : Nat) : BufTy := match i % 128 with
  | 0 => ⟨S8x32768x4, .i32⟩
  | 1 => ⟨S8x32768x4, .i32⟩
  | 2 => ⟨S_, .i32⟩
  | 3 => ⟨S8x32768x4, .i32⟩
  | 4 => ⟨S8x32768x4, .i32⟩
  | 5 => ⟨S_, .i32⟩
  | 6 => ⟨S8x32768x4, .i32⟩
  | 7 => ⟨S8x32768x4, .i32⟩
  | 8 => ⟨S8x32768x4, .i32⟩
  | 9 => ⟨S8x32768x4, .i32⟩
  | 10 => ⟨S8x32768x4, .i32⟩
  | 11 => ⟨S_, .i32⟩
  | 12 => ⟨S8x32768x4, .i32⟩
  | 13 => ⟨S8x32768x4, .i32⟩
  | 14 => ⟨S_, .i32⟩
  | 15 => ⟨S8x32768x4, .i32⟩
  | 16 => ⟨S8x32768x4, .i32⟩
  | 17 => ⟨S8x32768x4, .i32⟩
  | 18 => ⟨S8x32768x4, .i32⟩
  | 19 => ⟨S8x32768x4, .i32⟩
  | 20 => ⟨S_, .i32⟩
  | 21 => ⟨S8x32768x4, .i32⟩
  | 22 => ⟨S8x32768x4, .i32⟩
  | 23 => ⟨S_, .i32⟩
  | 24 => ⟨S8x32768x4, .i32⟩
  | 25 => ⟨S8x32768x4, .i32⟩
  | 26 => ⟨S8x32768x4, .i32⟩
  | 27 => ⟨S8x32768x4, .i32⟩
  | 28 => ⟨S8x32768x4, .i32⟩
  | 29 => ⟨S8x32768x4, .i32⟩
  | 30 => ⟨S8x32768x4, .i32⟩
  | 31 => ⟨S8x32768x4, .i32⟩
  | 32 => ⟨S_, .i32⟩
  | 33 => ⟨S8x32768x4, .i32⟩
  | 34 => ⟨S8x32768x4, .i32⟩
  | 35 => ⟨S8x32768x4, .i32⟩
  | 36 => ⟨S_, .i32⟩
  | 37 => ⟨S8x32768x4, .i32⟩
  | 38 => ⟨S8x32768x4, .i32⟩
  | 39 => ⟨S_, .i32⟩
  | 40 => ⟨S8x32768x4, .i32⟩
  | 41 => ⟨S8x32768x4, .i32⟩
  | 42 => ⟨S8x32768x4, .i32⟩
  | 43 => ⟨S8x32768x4, .i32⟩
  | 44 => ⟨S8x32768x4, .i32⟩
  | 45 => ⟨S_, .i32⟩
  | 46 => ⟨S8x32768x4, .i32⟩
  | 47 => ⟨S8x32768x4, .i32⟩
  | 48 => ⟨S_, .i32⟩
  | 49 => ⟨S8x32768x4, .i32⟩
  | 50 => ⟨S8x32768x4, .i32⟩
  | 51 => ⟨S8x32768x4, .i32⟩
  | 52 => ⟨S8x32768x4, .i32⟩
  | 53 => ⟨S8x32768x4, .i32⟩
  | 54 => ⟨S_, .i32⟩
  | 55 => ⟨S8x32768x4, .i32⟩
  | 56 => ⟨S8x32768x4, .i32⟩
  | 57 => ⟨S_, .i32⟩
  | 58 => ⟨S8x32768x4, .i32⟩
  | 59 => ⟨S8x32768x4, .i32⟩
  | 60 => ⟨S8x32768x4, .i32⟩
  | 61 => ⟨S8x32768x4, .i32⟩
  | 62 => ⟨S8x32768x4, .i32⟩
  | 63 => ⟨S_, .i32⟩
  | 64 => ⟨S8x32768x4, .i32⟩
  | 65 => ⟨S8x32768x4, .i32⟩
  | 66 => ⟨S_, .i32⟩
  | 67 => ⟨S8x32768x4, .i32⟩
  | 68 => ⟨S8x32768x4, .i32⟩
  | 69 => ⟨S8x32768x4, .i32⟩
  | 70 => ⟨S8x32768x4, .i32⟩
  | 71 => ⟨S8x32768x4, .i32⟩
  | 72 => ⟨S8x32768x4, .i32⟩
  | 73 => ⟨S8x32768x4, .i32⟩
  | 74 => ⟨S8x32768x4, .i32⟩
  | 75 => ⟨S_, .i32⟩
  | 76 => ⟨S8x32768x4, .i32⟩
  | 77 => ⟨S8x32768x4, .i32⟩
  | 78 => ⟨S8x32768x4, .i32⟩
  | 79 => ⟨S_, .i32⟩
  | 80 => ⟨S8x32768x4, .i32⟩
  | 81 => ⟨S8x32768x4, .i32⟩
  | 82 => ⟨S_, .i32⟩
  | 83 => ⟨S8x32768x4, .i32⟩
  | 84 => ⟨S8x32768x4, .i32⟩
  | 85 => ⟨S8x32768x4, .i32⟩
  | 86 => ⟨S8x32768x4, .i32⟩
  | 87 => ⟨S8x32768x4, .i32⟩
  | 88 => ⟨S_, .i32⟩
  | 89 => ⟨S8x32768x4, .i32⟩
  | 90 => ⟨S8x32768x4, .i32⟩
  | 91 => ⟨S_, .i32⟩
  | 92 => ⟨S8x32768x4, .i32⟩
  | 93 => ⟨S8x32768x4, .i32⟩
  | 94 => ⟨S8x32768x4, .i32⟩
  | 95 => ⟨S8x32768x4, .i32⟩
  | 96 => ⟨S8x32768x4, .i32⟩
  | 97 => ⟨S_, .i32⟩
  | 98 => ⟨S8x32768x4, .i32⟩
  | 99 => ⟨S8x32768x4, .i32⟩
  | 100 => ⟨S_, .i32⟩
  | 101 => ⟨S8x32768x4, .i32⟩
  | 102 => ⟨S8x32768x4, .i32⟩
  | 103 => ⟨S8x32768x4, .i32⟩
  | 104 => ⟨S8x32768x4, .i32⟩
  | 105 => ⟨S8x32768x4, .i32⟩
  | 106 => ⟨S_, .i32⟩
  | 107 => ⟨S8x32768x4, .i32⟩
  | 108 => ⟨S8x32768x4, .i32⟩
  | 109 => ⟨S_, .i32⟩
  | 110 => ⟨S8x32768x4, .i32⟩
  | 111 => ⟨S8x32768x4, .i32⟩
  | 112 => ⟨S8x32768x4, .i32⟩
  | 113 => ⟨S8x32768x4, .i32⟩
  | 114 => ⟨S8x32768x4, .i32⟩
  | 115 => ⟨S8x32768x4, .i32⟩
  | 116 => ⟨S8x32768x4, .i32⟩
  | 117 => ⟨S8x32768x4, .i32⟩
  | 118 => ⟨S_, .i32⟩
  | 119 => ⟨S8x32768x4, .i32⟩
  | 120 => ⟨S8x32768x4, .i32⟩
  | 121 => ⟨S8x32768x4, .i32⟩
  | 122 => ⟨S_, .i32⟩
  | 123 => ⟨S8x32768x4, .i32⟩
  | 124 => ⟨S8x32768x4, .i32⟩
  | 125 => ⟨S_, .i32⟩
  | 126 => ⟨S8x32768x4, .i32⟩
  | 127 => ⟨S8x32768x4, .i32⟩
  | _ => ⟨S8x32768, .i32⟩

abbrev hbmTy0_40 (i : Nat) : BufTy := match i % 128 with
  | 0 => ⟨S8x32768x4, .i32⟩
  | 1 => ⟨S8x32768x4, .i32⟩
  | 2 => ⟨S8x32768x4, .i32⟩
  | 3 => ⟨S_, .i32⟩
  | 4 => ⟨S8x32768x4, .i32⟩
  | 5 => ⟨S8x32768x4, .i32⟩
  | 6 => ⟨S_, .i32⟩
  | 7 => ⟨S8x32768x4, .i32⟩
  | 8 => ⟨S8x32768x4, .i32⟩
  | 9 => ⟨S8x32768x4, .i32⟩
  | 10 => ⟨S8x32768x4, .i32⟩
  | 11 => ⟨S8x32768x4, .i32⟩
  | 12 => ⟨S_, .i32⟩
  | 13 => ⟨S8x32768x4, .i32⟩
  | 14 => ⟨S8x32768x4, .i32⟩
  | 15 => ⟨S_, .i32⟩
  | 16 => ⟨S8x32768x4, .i32⟩
  | 17 => ⟨S8x32768x4, .i32⟩
  | 18 => ⟨S8x32768x4, .i32⟩
  | 19 => ⟨S8x32768x4, .i32⟩
  | 20 => ⟨S8x32768x4, .i32⟩
  | 21 => ⟨S_, .i32⟩
  | 22 => ⟨S8x32768x4, .i32⟩
  | 23 => ⟨S8x32768x4, .i32⟩
  | 24 => ⟨S_, .i32⟩
  | 25 => ⟨S8x32768x4, .i32⟩
  | 26 => ⟨S8x32768x4, .i32⟩
  | 27 => ⟨S8x32768x4, .i32⟩
  | 28 => ⟨S8x32768x4, .i32⟩
  | 29 => ⟨S8x32768x4, .i32⟩
  | 30 => ⟨S8x32768x4, .i32⟩
  | 31 => ⟨S8x32768x4, .i32⟩
  | 32 => ⟨S8x32768x4, .i32⟩
  | 33 => ⟨S_, .i32⟩
  | 34 => ⟨S8x32768x4, .i32⟩
  | 35 => ⟨S8x32768x4, .i32⟩
  | 36 => ⟨S8x32768x4, .i32⟩
  | 37 => ⟨S_, .i32⟩
  | 38 => ⟨S8x32768x4, .i32⟩
  | 39 => ⟨S8x32768x4, .i32⟩
  | 40 => ⟨S_, .i32⟩
  | 41 => ⟨S8x32768x4, .i32⟩
  | 42 => ⟨S8x32768x4, .i32⟩
  | 43 => ⟨S8x32768x4, .f32⟩
  | 44 => ⟨S_, .f32⟩
  | 45 => ⟨S8x32768x4, .f32⟩
  | 46 => ⟨S8x32768x4, .f32⟩
  | 47 => ⟨S1x1x1, .f32⟩
  | 48 => ⟨S8x32768x4, .f32⟩
  | 49 => ⟨S8x32768x4, .f32⟩
  | 50 => ⟨S8x32768x4, .f32⟩
  | 51 => ⟨S8x32768x4, .f32⟩
  | 52 => ⟨S8x32768x4, .f32⟩
  | 53 => ⟨S8x32768x4, .f32⟩
  | 54 => ⟨S8x32768x4, .f32⟩
  | 55 => ⟨S8x32768x4, .f32⟩
  | 56 => ⟨S8x32768x4, .f32⟩
  | 57 => ⟨S8x32768x4, .f32⟩
  | 58 => ⟨S_, .f32⟩
  | 59 => ⟨S_, .f32⟩
  | 60 => ⟨S_, .f32⟩
  | 61 => ⟨S_, .f32⟩
  | 62 => ⟨S1, .f32⟩
  | 63 => ⟨S1, .f32⟩
  | 64 => ⟨S1, .i32⟩
  | 65 => ⟨S_, .i32⟩
  | 66 => ⟨S1, .i32⟩
  | 67 => ⟨S_, .i32⟩
  | 68 => ⟨S8, .i64⟩
  | 69 => ⟨S_, .i64⟩
  | 70 => ⟨S8, .i64⟩
  | 71 => ⟨S8, .i64⟩
  | 72 => ⟨S_, .i64⟩
  | 73 => ⟨S8, .i64⟩
  | 74 => ⟨S8, .i64⟩
  | 75 => ⟨S8, .i32⟩
  | 76 => ⟨S8, .i32⟩
  | 77 => ⟨S_, .i32⟩
  | 78 => ⟨S_, .i32⟩
  | 79 => ⟨S_, .i32⟩
  | 80 => ⟨S8, .i32⟩
  | 81 => ⟨S8, .i32⟩
  | 82 => ⟨S8, .i32⟩
  | 83 => ⟨S8, .i32⟩
  | 84 => ⟨S8, .i32⟩
  | 85 => ⟨S_, .i32⟩
  | 86 => ⟨S8, .i32⟩
  | 87 => ⟨S8, .i32⟩
  | 88 => ⟨S_, .i32⟩
  | 89 => ⟨S8, .i32⟩
  | 90 => ⟨S8, .i32⟩
  | 91 => ⟨S8, .i32⟩
  | 92 => ⟨S8, .i32⟩
  | 93 => ⟨S8, .i32⟩
  | 94 => ⟨S_, .i32⟩
  | 95 => ⟨S8, .i32⟩
  | 96 => ⟨S8, .i32⟩
  | 97 => ⟨S_, .i32⟩
  | 98 => ⟨S8, .i32⟩
  | 99 => ⟨S8, .i32⟩
  | 100 => ⟨S8, .i32⟩
  | 101 => ⟨S8, .i32⟩
  | 102 => ⟨S8, .i32⟩
  | 103 => ⟨S_, .i32⟩
  | 104 => ⟨S8, .i32⟩
  | 105 => ⟨S8, .i32⟩
  | 106 => ⟨S_, .i32⟩
  | 107 => ⟨S8, .i32⟩
  | 108 => ⟨S8, .i32⟩
  | 109 => ⟨S8, .i32⟩
  | 110 => ⟨S8, .i32⟩
  | 111 => ⟨S8, .i32⟩
  | 112 => ⟨S_, .i32⟩
  | 113 => ⟨S8, .i32⟩
  | 114 => ⟨S8, .i32⟩
  | 115 => ⟨S_, .i32⟩
  | 116 => ⟨S8, .i32⟩
  | 117 => ⟨S8, .i32⟩
  | 118 => ⟨S8, .i32⟩
  | 119 => ⟨S8, .i32⟩
  | 120 => ⟨S8, .i32⟩
  | 121 => ⟨S8, .i32⟩
  | 122 => ⟨S8, .i32⟩
  | 123 => ⟨S8, .i32⟩
  | 124 => ⟨S_, .i32⟩
  | 125 => ⟨S8, .i32⟩
  | 126 => ⟨S8, .i32⟩
  | 127 => ⟨S8, .i32⟩
  | _ => ⟨S8x32768, .i32⟩

abbrev hbmTy0_41 (i : Nat) : BufTy := match i % 128 with
  | 0 => ⟨S_, .i32⟩
  | 1 => ⟨S8, .i32⟩
  | 2 => ⟨S8, .i32⟩
  | 3 => ⟨S_, .i32⟩
  | 4 => ⟨S8, .i32⟩
  | 5 => ⟨S8, .i32⟩
  | 6 => ⟨S8, .i32⟩
  | 7 => ⟨S8, .i32⟩
  | 8 => ⟨S8, .i32⟩
  | 9 => ⟨S_, .i32⟩
  | 10 => ⟨S8, .i32⟩
  | 11 => ⟨S8, .i32⟩
  | 12 => ⟨S_, .i32⟩
  | 13 => ⟨S8, .i32⟩
  | 14 => ⟨S8, .i32⟩
  | 15 => ⟨S8, .i32⟩
  | 16 => ⟨S8, .i32⟩
  | 17 => ⟨S8, .i32⟩
  | 18 => ⟨S_, .i32⟩
  | 19 => ⟨S8, .i32⟩
  | 20 => ⟨S8, .i32⟩
  | 21 => ⟨S_, .i32⟩
  | 22 => ⟨S8, .i32⟩
  | 23 => ⟨S8, .i32⟩
  | 24 => ⟨S8, .i32⟩
  | 25 => ⟨S8, .i32⟩
  | 26 => ⟨S8, .i32⟩
  | 27 => ⟨S_, .i32⟩
  | 28 => ⟨S8, .i32⟩
  | 29 => ⟨S8, .i32⟩
  | 30 => ⟨S_, .i32⟩
  | 31 => ⟨S8, .i32⟩
  | 32 => ⟨S8, .i32⟩
  | 33 => ⟨S8, .i32⟩
  | 34 => ⟨S8, .i32⟩
  | 35 => ⟨S8, .i32⟩
  | 36 => ⟨S8, .i32⟩
  | 37 => ⟨S8, .i32⟩
  | 38 => ⟨S8, .i32⟩
  | 39 => ⟨S_, .i32⟩
  | 40 => ⟨S8, .i32⟩
  | 41 => ⟨S8, .i32⟩
  | 42 => ⟨S8, .i32⟩
  | 43 => ⟨S_, .i32⟩
  | 44 => ⟨S8, .i32⟩
  | 45 => ⟨S8, .i32⟩
  | 46 => ⟨S_, .i32⟩
  | 47 => ⟨S8, .i32⟩
  | 48 => ⟨S8, .i32⟩
  | 49 => ⟨S8, .i32⟩
  | 50 => ⟨S8, .i32⟩
  | 51 => ⟨S8, .i32⟩
  | 52 => ⟨S_, .i32⟩
  | 53 => ⟨S8, .i32⟩
  | 54 => ⟨S8, .i32⟩
  | 55 => ⟨S_, .i32⟩
  | 56 => ⟨S8, .i32⟩
  | 57 => ⟨S8, .i32⟩
  | 58 => ⟨S8, .i32⟩
  | 59 => ⟨S8, .i32⟩
  | 60 => ⟨S8, .i32⟩
  | 61 => ⟨S_, .i32⟩
  | 62 => ⟨S8, .i32⟩
  | 63 => ⟨S8, .i32⟩
  | 64 => ⟨S_, .i32⟩
  | 65 => ⟨S8, .i32⟩
  | 66 => ⟨S8, .i32⟩
  | 67 => ⟨S8, .i32⟩
  | 68 => ⟨S8, .i32⟩
  | 69 => ⟨S8, .i32⟩
  | 70 => ⟨S_, .i32⟩
  | 71 => ⟨S8, .i32⟩
  | 72 => ⟨S8, .i32⟩
  | 73 => ⟨S_, .i32⟩
  | 74 => ⟨S8, .i32⟩
  | 75 => ⟨S8, .i32⟩
  | 76 => ⟨S8, .i32⟩
  | 77 => ⟨S8, .i32⟩
  | 78 => ⟨S8, .i32⟩
  | 79 => ⟨S8, .i32⟩
  | 80 => ⟨S8, .i32⟩
  | 81 => ⟨S8, .i32⟩
  | 82 => ⟨S_, .i32⟩
  | 83 => ⟨S8, .i32⟩
  | 84 => ⟨S8, .i32⟩
  | 85 => ⟨S8, .i32⟩
  | 86 => ⟨S_, .i32⟩
  | 87 => ⟨S8, .i32⟩
  | 88 => ⟨S8, .i32⟩
  | 89 => ⟨S_, .i32⟩
  | 90 => ⟨S8, .i32⟩
  | 91 => ⟨S8, .i32⟩
  | 92 => ⟨S8, .i32⟩
  | 93 => ⟨S8, .i32⟩
  | 94 => ⟨S8, .i32⟩
  | 95 => ⟨S_, .i32⟩
  | 96 => ⟨S8, .i32⟩
  | 97 => ⟨S8, .i32⟩
  | 98 => ⟨S_, .i32⟩
  | 99 => ⟨S8, .i32⟩
  | 100 => ⟨S8, .i32⟩
  | 101 => ⟨S8, .i32⟩
  | 102 => ⟨S8, .i32⟩
  | 103 => ⟨S8, .i32⟩
  | 104 => ⟨S_, .i32⟩
  | 105 => ⟨S8, .i32⟩
  | 106 => ⟨S8, .i32⟩
  | 107 => ⟨S_, .i32⟩
  | 108 => ⟨S8, .i32⟩
  | 109 => ⟨S8, .i32⟩
  | 110 => ⟨S8, .i32⟩
  | 111 => ⟨S8, .i32⟩
  | 112 => ⟨S8, .i32⟩
  | 113 => ⟨S_, .i32⟩
  | 114 => ⟨S8, .i32⟩
  | 115 => ⟨S8, .i32⟩
  | 116 => ⟨S_, .i32⟩
  | 117 => ⟨S8, .i32⟩
  | 118 => ⟨S8, .i32⟩
  | 119 => ⟨S8, .i32⟩
  | 120 => ⟨S8, .i32⟩
  | 121 => ⟨S8, .i32⟩
  | 122 => ⟨S8, .i32⟩
  | 123 => ⟨S8, .i32⟩
  | 124 => ⟨S8, .i32⟩
  | 125 => ⟨S_, .i32⟩
  | 126 => ⟨S8, .i32⟩
  | 127 => ⟨S8, .i32⟩
  | _ => ⟨S8x32768, .i32⟩

abbrev hbmTy0_42 (i : Nat) : BufTy := match i % 128 with
  | 0 => ⟨S8, .i32⟩
  | 1 => ⟨S_, .i32⟩
  | 2 => ⟨S8, .i32⟩
  | 3 => ⟨S8, .i32⟩
  | 4 => ⟨S_, .i32⟩
  | 5 => ⟨S8, .i32⟩
  | 6 => ⟨S8, .i32⟩
  | 7 => ⟨S8, .i32⟩
  | 8 => ⟨S8, .i32⟩
  | 9 => ⟨S8, .i32⟩
  | 10 => ⟨S_, .i32⟩
  | 11 => ⟨S8, .i32⟩
  | 12 => ⟨S8, .i32⟩
  | 13 => ⟨S_, .i32⟩
  | 14 => ⟨S8, .i32⟩
  | 15 => ⟨S8, .i32⟩
  | 16 => ⟨S8, .i32⟩
  | 17 => ⟨S8, .i32⟩
  | 18 => ⟨S8, .i32⟩
  | 19 => ⟨S_, .i32⟩
  | 20 => ⟨S8, .i32⟩
  | 21 => ⟨S8, .i32⟩
  | 22 => ⟨S_, .i32⟩
  | 23 => ⟨S8, .i32⟩
  | 24 => ⟨S8, .i32⟩
  | 25 => ⟨S8, .i32⟩
  | 26 => ⟨S8, .i32⟩
  | 27 => ⟨S8, .i32⟩
  | 28 => ⟨S_, .i32⟩
  | 29 => ⟨S8, .i32⟩
  | 30 => ⟨S8, .i32⟩
  | 31 => ⟨S_, .i32⟩
  | 32 => ⟨S8, .i32⟩
  | 33 => ⟨S8, .i32⟩
  | 34 => ⟨S8, .i32⟩
  | 35 => ⟨S8, .i32⟩
  | 36 => ⟨S8, .i32⟩
  | 37 => ⟨S8, .i32⟩
  | 38 => ⟨S8, .i32⟩
  | 39 => ⟨S8, .i32⟩
  | 40 => ⟨S_, .i32⟩
  | 41 => ⟨S8, .i32⟩
  | 42 => ⟨S8, .i32⟩
  | 43 => ⟨S8, .i32⟩
  | 44 => ⟨S_, .i32⟩
  | 45 => ⟨S8, .i32⟩
  | 46 => ⟨S8, .i32⟩
  | 47 => ⟨S_, .i32⟩
  | 48 => ⟨S8, .i32⟩
  | 49 => ⟨S8, .i32⟩
  | 50 => ⟨S8, .f32⟩
  | 51 => ⟨S_, .f32⟩
  | 52 => ⟨S8, .f32⟩
  | 53 => ⟨S8, .f32⟩
  | 54 => ⟨S1, .f32⟩
  | 55 => ⟨S8, .f32⟩
  | 56 => ⟨S8, .f32⟩
  | 57 => ⟨S8, .f32⟩
  | 58 => ⟨S8, .f32⟩
  | 59 => ⟨S8, .f32⟩
  | 60 => ⟨S8, .f32⟩
  | 61 => ⟨S1, .i32⟩
  | 62 => ⟨S_, .i32⟩
  | 63 => ⟨S1, .i32⟩
  | 64 => ⟨S_, .i32⟩
  | 65 => ⟨S3, .i64⟩
  | 66 => ⟨S_, .i64⟩
  | 67 => ⟨S3, .i64⟩
  | 68 => ⟨S3, .i64⟩
  | 69 => ⟨S_, .i64⟩
  | 70 => ⟨S3, .i64⟩
  | 71 => ⟨S3, .i64⟩
  | 72 => ⟨S3, .i32⟩
  | 73 => ⟨S3, .i32⟩
  | 74 => ⟨S_, .i32⟩
  | 75 => ⟨S_, .i32⟩
  | 76 => ⟨S_, .i32⟩
  | 77 => ⟨S3, .i32⟩
  | 78 => ⟨S3, .i32⟩
  | 79 => ⟨S3, .i32⟩
  | 80 => ⟨S3, .i32⟩
  | 81 => ⟨S3, .i32⟩
  | 82 => ⟨S_, .i32⟩
  | 83 => ⟨S3, .i32⟩
  | 84 => ⟨S3, .i32⟩
  | 85 => ⟨S_, .i32⟩
  | 86 => ⟨S3, .i32⟩
  | 87 => ⟨S3, .i32⟩
  | 88 => ⟨S3, .i32⟩
  | 89 => ⟨S3, .i32⟩
  | 90 => ⟨S3, .i32⟩
  | 91 => ⟨S_, .i32⟩
  | 92 => ⟨S3, .i32⟩
  | 93 => ⟨S3, .i32⟩
  | 94 => ⟨S_, .i32⟩
  | 95 => ⟨S3, .i32⟩
  | 96 => ⟨S3, .i32⟩
  | 97 => ⟨S3, .i32⟩
  | 98 => ⟨S3, .i32⟩
  | 99 => ⟨S3, .i32⟩
  | 100 => ⟨S_, .i32⟩
  | 101 => ⟨S3, .i32⟩
  | 102 => ⟨S3, .i32⟩
  | 103 => ⟨S_, .i32⟩
  | 104 => ⟨S3, .i32⟩
  | 105 => ⟨S3, .i32⟩
  | 106 => ⟨S3, .i32⟩
  | 107 => ⟨S3, .i32⟩
  | 108 => ⟨S3, .i32⟩
  | 109 => ⟨S_, .i32⟩
  | 110 => ⟨S3, .i32⟩
  | 111 => ⟨S3, .i32⟩
  | 112 => ⟨S_, .i32⟩
  | 113 => ⟨S3, .i32⟩
  | 114 => ⟨S3, .i32⟩
  | 115 => ⟨S3, .i32⟩
  | 116 => ⟨S3, .i32⟩
  | 117 => ⟨S3, .i32⟩
  | 118 => ⟨S3, .i32⟩
  | 119 => ⟨S3, .i32⟩
  | 120 => ⟨S3, .i32⟩
  | 121 => ⟨S_, .i32⟩
  | 122 => ⟨S3, .i32⟩
  | 123 => ⟨S3, .i32⟩
  | 124 => ⟨S3, .i32⟩
  | 125 => ⟨S_, .i32⟩
  | 126 => ⟨S3, .i32⟩
  | 127 => ⟨S3, .i32⟩
  | _ => ⟨S8x32768, .i32⟩

abbrev hbmTy0_43 (i : Nat) : BufTy := match i % 128 with
  | 0 => ⟨S_, .i32⟩
  | 1 => ⟨S3, .i32⟩
  | 2 => ⟨S3, .i32⟩
  | 3 => ⟨S3, .i32⟩
  | 4 => ⟨S3, .i32⟩
  | 5 => ⟨S3, .i32⟩
  | 6 => ⟨S_, .i32⟩
  | 7 => ⟨S3, .i32⟩
  | 8 => ⟨S3, .i32⟩
  | 9 => ⟨S_, .i32⟩
  | 10 => ⟨S3, .i32⟩
  | 11 => ⟨S3, .i32⟩
  | 12 => ⟨S3, .i32⟩
  | 13 => ⟨S3, .i32⟩
  | 14 => ⟨S3, .i32⟩
  | 15 => ⟨S_, .i32⟩
  | 16 => ⟨S3, .i32⟩
  | 17 => ⟨S3, .i32⟩
  | 18 => ⟨S_, .i32⟩
  | 19 => ⟨S3, .i32⟩
  | 20 => ⟨S3, .i32⟩
  | 21 => ⟨S3, .i32⟩
  | 22 => ⟨S3, .i32⟩
  | 23 => ⟨S3, .i32⟩
  | 24 => ⟨S_, .i32⟩
  | 25 => ⟨S3, .i32⟩
  | 26 => ⟨S3, .i32⟩
  | 27 => ⟨S_, .i32⟩
  | 28 => ⟨S3, .i32⟩
  | 29 => ⟨S3, .i32⟩
  | 30 => ⟨S3, .i32⟩
  | 31 => ⟨S3, .i32⟩
  | 32 => ⟨S3, .i32⟩
  | 33 => ⟨S3, .i32⟩
  | 34 => ⟨S3, .i32⟩
  | 35 => ⟨S3, .i32⟩
  | 36 => ⟨S_, .i32⟩
  | 37 => ⟨S3, .i32⟩
  | 38 => ⟨S3, .i32⟩
  | 39 => ⟨S3, .i32⟩
  | 40 => ⟨S_, .i32⟩
  | 41 => ⟨S3, .i32⟩
  | 42 => ⟨S3, .i32⟩
  | 43 => ⟨S_, .i32⟩
  | 44 => ⟨S3, .i32⟩
  | 45 => ⟨S3, .i32⟩
  | 46 => ⟨S3, .i32⟩
  | 47 => ⟨S3, .i32⟩
  | 48 => ⟨S3, .i32⟩
  | 49 => ⟨S_, .i32⟩
  | 50 => ⟨S3, .i32⟩
  | 51 => ⟨S3, .i32⟩
  | 52 => ⟨S_, .i32⟩
  | 53 => ⟨S3, .i32⟩
  | 54 => ⟨S3, .i32⟩
  | 55 => ⟨S3, .i32⟩
  | 56 => ⟨S3, .i32⟩
  | 57 => ⟨S3, .i32⟩
  | 58 => ⟨S_, .i32⟩
  | 59 => ⟨S3, .i32⟩
  | 60 => ⟨S3, .i32⟩
  | 61 => ⟨S_, .i32⟩
  | 62 => ⟨S3, .i32⟩
  | 63 => ⟨S3, .i32⟩
  | 64 => ⟨S3, .i32⟩
  | 65 => ⟨S3, .i32⟩
  | 66 => ⟨S3, .i32⟩
  | 67 => ⟨S_, .i32⟩
  | 68 => ⟨S3, .i32⟩
  | 69 => ⟨S3, .i32⟩
  | 70 => ⟨S_, .i32⟩
  | 71 => ⟨S3, .i32⟩
  | 72 => ⟨S3, .i32⟩
  | 73 => ⟨S3, .i32⟩
  | 74 => ⟨S3, .i32⟩
  | 75 => ⟨S3, .i32⟩
  | 76 => ⟨S3, .i32⟩
  | 77 => ⟨S3, .i32⟩
  | 78 => ⟨S3, .i32⟩
  | 79 => ⟨S_, .i32⟩
  | 80 => ⟨S3, .i32⟩
  | 81 => ⟨S3, .i32⟩
  | 82 => ⟨S3, .i32⟩
  | 83 => ⟨S_, .i32⟩
  | 84 => ⟨S3, .i32⟩
  | 85 => ⟨S3, .i32⟩
  | 86 => ⟨S_, .i32⟩
  | 87 => ⟨S3, .i32⟩
  | 88 => ⟨S3, .i32⟩
  | 89 => ⟨S3, .i32⟩
  | 90 => ⟨S3, .i32⟩
  | 91 => ⟨S3, .i32⟩
  | 92 => ⟨S_, .i32⟩
  | 93 => ⟨S3, .i32⟩
  | 94 => ⟨S3, .i32⟩
  | 95 => ⟨S_, .i32⟩
  | 96 => ⟨S3, .i32⟩
  | 97 => ⟨S3, .i32⟩
  | 98 => ⟨S3, .i32⟩
  | 99 => ⟨S3, .i32⟩
  | 100 => ⟨S3, .i32⟩
  | 101 => ⟨S_, .i32⟩
  | 102 => ⟨S3, .i32⟩
  | 103 => ⟨S3, .i32⟩
  | 104 => ⟨S_, .i32⟩
  | 105 => ⟨S3, .i32⟩
  | 106 => ⟨S3, .i32⟩
  | 107 => ⟨S3, .i32⟩
  | 108 => ⟨S3, .i32⟩
  | 109 => ⟨S3, .i32⟩
  | 110 => ⟨S_, .i32⟩
  | 111 => ⟨S3, .i32⟩
  | 112 => ⟨S3, .i32⟩
  | 113 => ⟨S_, .i32⟩
  | 114 => ⟨S3, .i32⟩
  | 115 => ⟨S3, .i32⟩
  | 116 => ⟨S3, .i32⟩
  | 117 => ⟨S3, .i32⟩
  | 118 => ⟨S3, .i32⟩
  | 119 => ⟨S3, .i32⟩
  | 120 => ⟨S3, .i32⟩
  | 121 => ⟨S3, .i32⟩
  | 122 => ⟨S_, .i32⟩
  | 123 => ⟨S3, .i32⟩
  | 124 => ⟨S3, .i32⟩
  | 125 => ⟨S3, .i32⟩
  | 126 => ⟨S_, .i32⟩
  | 127 => ⟨S3, .i32⟩
  | _ => ⟨S8x32768, .i32⟩

abbrev hbmTy0_44 (i : Nat) : BufTy := match i % 128 with
  | 0 => ⟨S3, .i32⟩
  | 1 => ⟨S_, .i32⟩
  | 2 => ⟨S3, .i32⟩
  | 3 => ⟨S3, .i32⟩
  | 4 => ⟨S3, .i32⟩
  | 5 => ⟨S3, .i32⟩
  | 6 => ⟨S3, .i32⟩
  | 7 => ⟨S_, .i32⟩
  | 8 => ⟨S3, .i32⟩
  | 9 => ⟨S3, .i32⟩
  | 10 => ⟨S_, .i32⟩
  | 11 => ⟨S3, .i32⟩
  | 12 => ⟨S3, .i32⟩
  | 13 => ⟨S3, .i32⟩
  | 14 => ⟨S3, .i32⟩
  | 15 => ⟨S3, .i32⟩
  | 16 => ⟨S_, .i32⟩
  | 17 => ⟨S3, .i32⟩
  | 18 => ⟨S3, .i32⟩
  | 19 => ⟨S_, .i32⟩
  | 20 => ⟨S3, .i32⟩
  | 21 => ⟨S3, .i32⟩
  | 22 => ⟨S3, .i32⟩
  | 23 => ⟨S3, .i32⟩
  | 24 => ⟨S3, .i32⟩
  | 25 => ⟨S_, .i32⟩
  | 26 => ⟨S3, .i32⟩
  | 27 => ⟨S3, .i32⟩
  | 28 => ⟨S_, .i32⟩
  | 29 => ⟨S3, .i32⟩
  | 30 => ⟨S3, .i32⟩
  | 31 => ⟨S3, .i32⟩
  | 32 => ⟨S3, .i32⟩
  | 33 => ⟨S3, .i32⟩
  | 34 => ⟨S3, .i32⟩
  | 35 => ⟨S3, .i32⟩
  | 36 => ⟨S3, .i32⟩
  | 37 => ⟨S_, .i32⟩
  | 38 => ⟨S3, .i32⟩
  | 39 => ⟨S3, .i32⟩
  | 40 => ⟨S3x1, .i32⟩
  | 41 => ⟨S3x1, .i32⟩
  | 42 => ⟨S3x2, .i32⟩
  | 43 => ⟨S1x2, .i32⟩
  | 44 => ⟨S2, .i32⟩
  | 45 => ⟨S1x2, .i32⟩
  | 46 => ⟨S2, .i32⟩
  | 47 => ⟨S1x2, .i32⟩
  | 48 => ⟨S2, .i32⟩
  | 49 => ⟨S_, .f32⟩
  | 50 => ⟨S_, .f32⟩
  | 51 => ⟨S_, .f32⟩
  | 52 => ⟨S1x1x1, .f32⟩
  | 53 => ⟨S1x1x1, .f32⟩
  | 54 => ⟨S1, .i32⟩
  | 55 => ⟨S_, .i32⟩
  | 56 => ⟨S1, .i32⟩
  | 57 => ⟨S_, .i32⟩
  | 58 => ⟨S8x32768x4, .i64⟩
  | 59 => ⟨S8x32768x4, .i64⟩
  | 60 => ⟨S8x32768x4, .i64⟩
  | 61 => ⟨S_, .i64⟩
  | 62 => ⟨S8x32768x4, .i64⟩
  | 63 => ⟨S8x32768x4, .i64⟩
  | 64 => ⟨S_, .i64⟩
  | 65 => ⟨S8x32768x4, .i64⟩
  | 66 => ⟨S8x32768x4, .i64⟩
  | 67 => ⟨S_, .i64⟩
  | 68 => ⟨S8x32768x4, .i64⟩
  | 69 => ⟨S8x32768x4, .i64⟩
  | 70 => ⟨S8x32768x4, .i64⟩
  | 71 => ⟨S8x32768x4, .i64⟩
  | 72 => ⟨S_, .i64⟩
  | 73 => ⟨S8x32768x4, .i64⟩
  | 74 => ⟨S8x32768x4, .i64⟩
  | 75 => ⟨S8x32768x4, .i32⟩
  | 76 => ⟨S8x32768x4, .i32⟩
  | 77 => ⟨S_, .i32⟩
  | 78 => ⟨S_, .i32⟩
  | 79 => ⟨S_, .i32⟩
  | 80 => ⟨S8x32768x4, .i32⟩
  | 81 => ⟨S8x32768x4, .i32⟩
  | 82 => ⟨S8x32768x4, .i32⟩
  | 83 => ⟨S8x32768x4, .i32⟩
  | 84 => ⟨S8x32768x4, .i32⟩
  | 85 => ⟨S_, .i32⟩
  | 86 => ⟨S8x32768x4, .i32⟩
  | 87 => ⟨S8x32768x4, .i32⟩
  | 88 => ⟨S_, .i32⟩
  | 89 => ⟨S8x32768x4, .i32⟩
  | 90 => ⟨S8x32768x4, .i32⟩
  | 91 => ⟨S8x32768x4, .i32⟩
  | 92 => ⟨S8x32768x4, .i32⟩
  | 93 => ⟨S8x32768x4, .i32⟩
  | 94 => ⟨S_, .i32⟩
  | 95 => ⟨S8x32768x4, .i32⟩
  | 96 => ⟨S8x32768x4, .i32⟩
  | 97 => ⟨S_, .i32⟩
  | 98 => ⟨S8x32768x4, .i32⟩
  | 99 => ⟨S8x32768x4, .i32⟩
  | 100 => ⟨S8x32768x4, .i32⟩
  | 101 => ⟨S8x32768x4, .i32⟩
  | 102 => ⟨S8x32768x4, .i32⟩
  | 103 => ⟨S_, .i32⟩
  | 104 => ⟨S8x32768x4, .i32⟩
  | 105 => ⟨S8x32768x4, .i32⟩
  | 106 => ⟨S_, .i32⟩
  | 107 => ⟨S8x32768x4, .i32⟩
  | 108 => ⟨S8x32768x4, .i32⟩
  | 109 => ⟨S8x32768x4, .i32⟩
  | 110 => ⟨S8x32768x4, .i32⟩
  | 111 => ⟨S8x32768x4, .i32⟩
  | 112 => ⟨S_, .i32⟩
  | 113 => ⟨S8x32768x4, .i32⟩
  | 114 => ⟨S8x32768x4, .i32⟩
  | 115 => ⟨S_, .i32⟩
  | 116 => ⟨S8x32768x4, .i32⟩
  | 117 => ⟨S8x32768x4, .i32⟩
  | 118 => ⟨S8x32768x4, .i32⟩
  | 119 => ⟨S8x32768x4, .i32⟩
  | 120 => ⟨S8x32768x4, .i32⟩
  | 121 => ⟨S8x32768x4, .i32⟩
  | 122 => ⟨S8x32768x4, .i32⟩
  | 123 => ⟨S8x32768x4, .i32⟩
  | 124 => ⟨S_, .i32⟩
  | 125 => ⟨S8x32768x4, .i32⟩
  | 126 => ⟨S8x32768x4, .i32⟩
  | 127 => ⟨S8x32768x4, .i32⟩
  | _ => ⟨S8x32768, .i32⟩

abbrev hbmTy0_45 (i : Nat) : BufTy := match i % 128 with
  | 0 => ⟨S_, .i32⟩
  | 1 => ⟨S8x32768x4, .i32⟩
  | 2 => ⟨S8x32768x4, .i32⟩
  | 3 => ⟨S_, .i32⟩
  | 4 => ⟨S8x32768x4, .i32⟩
  | 5 => ⟨S8x32768x4, .i32⟩
  | 6 => ⟨S8x32768x4, .i32⟩
  | 7 => ⟨S8x32768x4, .i32⟩
  | 8 => ⟨S8x32768x4, .i32⟩
  | 9 => ⟨S_, .i32⟩
  | 10 => ⟨S8x32768x4, .i32⟩
  | 11 => ⟨S8x32768x4, .i32⟩
  | 12 => ⟨S_, .i32⟩
  | 13 => ⟨S8x32768x4, .i32⟩
  | 14 => ⟨S8x32768x4, .i32⟩
  | 15 => ⟨S8x32768x4, .i32⟩
  | 16 => ⟨S8x32768x4, .i32⟩
  | 17 => ⟨S8x32768x4, .i32⟩
  | 18 => ⟨S_, .i32⟩
  | 19 => ⟨S8x32768x4, .i32⟩
  | 20 => ⟨S8x32768x4, .i32⟩
  | 21 => ⟨S_, .i32⟩
  | 22 => ⟨S8x32768x4, .i32⟩
  | 23 => ⟨S8x32768x4, .i32⟩
  | 24 => ⟨S8x32768x4, .i32⟩
  | 25 => ⟨S8x32768x4, .i32⟩
  | 26 => ⟨S8x32768x4, .i32⟩
  | 27 => ⟨S_, .i32⟩
  | 28 => ⟨S8x32768x4, .i32⟩
  | 29 => ⟨S8x32768x4, .i32⟩
  | 30 => ⟨S_, .i32⟩
  | 31 => ⟨S8x32768x4, .i32⟩
  | 32 => ⟨S8x32768x4, .i32⟩
  | 33 => ⟨S8x32768x4, .i32⟩
  | 34 => ⟨S8x32768x4, .i32⟩
  | 35 => ⟨S8x32768x4, .i32⟩
  | 36 => ⟨S8x32768x4, .i32⟩
  | 37 => ⟨S8x32768x4, .i32⟩
  | 38 => ⟨S8x32768x4, .i32⟩
  | 39 => ⟨S_, .i32⟩
  | 40 => ⟨S8x32768x4, .i32⟩
  | 41 => ⟨S8x32768x4, .i32⟩
  | 42 => ⟨S8x32768x4, .i32⟩
  | 43 => ⟨S_, .i32⟩
  | 44 => ⟨S8x32768x4, .i32⟩
  | 45 => ⟨S8x32768x4, .i32⟩
  | 46 => ⟨S_, .i32⟩
  | 47 => ⟨S8x32768x4, .i32⟩
  | 48 => ⟨S8x32768x4, .i32⟩
  | 49 => ⟨S8x32768x4, .i32⟩
  | 50 => ⟨S8x32768x4, .i32⟩
  | 51 => ⟨S8x32768x4, .i32⟩
  | 52 => ⟨S_, .i32⟩
  | 53 => ⟨S8x32768x4, .i32⟩
  | 54 => ⟨S8x32768x4, .i32⟩
  | 55 => ⟨S_, .i32⟩
  | 56 => ⟨S8x32768x4, .i32⟩
  | 57 => ⟨S8x32768x4, .i32⟩
  | 58 => ⟨S8x32768x4, .i32⟩
  | 59 => ⟨S8x32768x4, .i32⟩
  | 60 => ⟨S8x32768x4, .i32⟩
  | 61 => ⟨S_, .i32⟩
  | 62 => ⟨S8x32768x4, .i32⟩
  | 63 => ⟨S8x32768x4, .i32⟩
  | 64 => ⟨S_, .i32⟩
  | 65 => ⟨S8x32768x4, .i32⟩
  | 66 => ⟨S8x32768x4, .i32⟩
  | 67 => ⟨S8x32768x4, .i32⟩
  | 68 => ⟨S8x32768x4, .i32⟩
  | 69 => ⟨S8x32768x4, .i32⟩
  | 70 => ⟨S_, .i32⟩
  | 71 => ⟨S8x32768x4, .i32⟩
  | 72 => ⟨S8x32768x4, .i32⟩
  | 73 => ⟨S_, .i32⟩
  | 74 => ⟨S8x32768x4, .i32⟩
  | 75 => ⟨S8x32768x4, .i32⟩
  | 76 => ⟨S8x32768x4, .i32⟩
  | 77 => ⟨S8x32768x4, .i32⟩
  | 78 => ⟨S8x32768x4, .i32⟩
  | 79 => ⟨S8x32768x4, .i32⟩
  | 80 => ⟨S8x32768x4, .i32⟩
  | 81 => ⟨S8x32768x4, .i32⟩
  | 82 => ⟨S_, .i32⟩
  | 83 => ⟨S8x32768x4, .i32⟩
  | 84 => ⟨S8x32768x4, .i32⟩
  | 85 => ⟨S8x32768x4, .i32⟩
  | 86 => ⟨S_, .i32⟩
  | 87 => ⟨S8x32768x4, .i32⟩
  | 88 => ⟨S8x32768x4, .i32⟩
  | 89 => ⟨S_, .i32⟩
  | 90 => ⟨S8x32768x4, .i32⟩
  | 91 => ⟨S8x32768x4, .i32⟩
  | 92 => ⟨S8x32768x4, .i32⟩
  | 93 => ⟨S8x32768x4, .i32⟩
  | 94 => ⟨S8x32768x4, .i32⟩
  | 95 => ⟨S_, .i32⟩
  | 96 => ⟨S8x32768x4, .i32⟩
  | 97 => ⟨S8x32768x4, .i32⟩
  | 98 => ⟨S_, .i32⟩
  | 99 => ⟨S8x32768x4, .i32⟩
  | 100 => ⟨S8x32768x4, .i32⟩
  | 101 => ⟨S8x32768x4, .i32⟩
  | 102 => ⟨S8x32768x4, .i32⟩
  | 103 => ⟨S8x32768x4, .i32⟩
  | 104 => ⟨S_, .i32⟩
  | 105 => ⟨S8x32768x4, .i32⟩
  | 106 => ⟨S8x32768x4, .i32⟩
  | 107 => ⟨S_, .i32⟩
  | 108 => ⟨S8x32768x4, .i32⟩
  | 109 => ⟨S8x32768x4, .i32⟩
  | 110 => ⟨S8x32768x4, .i32⟩
  | 111 => ⟨S8x32768x4, .i32⟩
  | 112 => ⟨S8x32768x4, .i32⟩
  | 113 => ⟨S_, .i32⟩
  | 114 => ⟨S8x32768x4, .i32⟩
  | 115 => ⟨S8x32768x4, .i32⟩
  | 116 => ⟨S_, .i32⟩
  | 117 => ⟨S8x32768x4, .i32⟩
  | 118 => ⟨S8x32768x4, .i32⟩
  | 119 => ⟨S8x32768x4, .i32⟩
  | 120 => ⟨S8x32768x4, .i32⟩
  | 121 => ⟨S8x32768x4, .i32⟩
  | 122 => ⟨S8x32768x4, .i32⟩
  | 123 => ⟨S8x32768x4, .i32⟩
  | 124 => ⟨S8x32768x4, .i32⟩
  | 125 => ⟨S_, .i32⟩
  | 126 => ⟨S8x32768x4, .i32⟩
  | 127 => ⟨S8x32768x4, .i32⟩
  | _ => ⟨S8x32768, .i32⟩

abbrev hbmTy0_46 (i : Nat) : BufTy := match i % 128 with
  | 0 => ⟨S8x32768x4, .i32⟩
  | 1 => ⟨S_, .i32⟩
  | 2 => ⟨S8x32768x4, .i32⟩
  | 3 => ⟨S8x32768x4, .i32⟩
  | 4 => ⟨S_, .i32⟩
  | 5 => ⟨S8x32768x4, .i32⟩
  | 6 => ⟨S8x32768x4, .i32⟩
  | 7 => ⟨S8x32768x4, .i32⟩
  | 8 => ⟨S8x32768x4, .i32⟩
  | 9 => ⟨S8x32768x4, .i32⟩
  | 10 => ⟨S_, .i32⟩
  | 11 => ⟨S8x32768x4, .i32⟩
  | 12 => ⟨S8x32768x4, .i32⟩
  | 13 => ⟨S_, .i32⟩
  | 14 => ⟨S8x32768x4, .i32⟩
  | 15 => ⟨S8x32768x4, .i32⟩
  | 16 => ⟨S8x32768x4, .i32⟩
  | 17 => ⟨S8x32768x4, .i32⟩
  | 18 => ⟨S8x32768x4, .i32⟩
  | 19 => ⟨S_, .i32⟩
  | 20 => ⟨S8x32768x4, .i32⟩
  | 21 => ⟨S8x32768x4, .i32⟩
  | 22 => ⟨S_, .i32⟩
  | 23 => ⟨S8x32768x4, .i32⟩
  | 24 => ⟨S8x32768x4, .i32⟩
  | 25 => ⟨S8x32768x4, .i32⟩
  | 26 => ⟨S8x32768x4, .i32⟩
  | 27 => ⟨S8x32768x4, .i32⟩
  | 28 => ⟨S_, .i32⟩
  | 29 => ⟨S8x32768x4, .i32⟩
  | 30 => ⟨S8x32768x4, .i32⟩
  | 31 => ⟨S_, .i32⟩
  | 32 => ⟨S8x32768x4, .i32⟩
  | 33 => ⟨S8x32768x4, .i32⟩
  | 34 => ⟨S8x32768x4, .i32⟩
  | 35 => ⟨S8x32768x4, .i32⟩
  | 36 => ⟨S8x32768x4, .i32⟩
  | 37 => ⟨S8x32768x4, .i32⟩
  | 38 => ⟨S8x32768x4, .i32⟩
  | 39 => ⟨S8x32768x4, .i32⟩
  | 40 => ⟨S_, .i32⟩
  | 41 => ⟨S8x32768x4, .i32⟩
  | 42 => ⟨S8x32768x4, .i32⟩
  | 43 => ⟨S8x32768x4, .i32⟩
  | 44 => ⟨S_, .i32⟩
  | 45 => ⟨S8x32768x4, .i32⟩
  | 46 => ⟨S8x32768x4, .i32⟩
  | 47 => ⟨S_, .i32⟩
  | 48 => ⟨S8x32768x4, .i32⟩
  | 49 => ⟨S8x32768x4, .i32⟩
  | 50 => ⟨S8x32768x4, .f32⟩
  | 51 => ⟨S_, .f32⟩
  | 52 => ⟨S8x32768x4, .f32⟩
  | 53 => ⟨S8x32768x4, .f32⟩
  | 54 => ⟨S1x1x1, .f32⟩
  | 55 => ⟨S8x32768x4, .f32⟩
  | 56 => ⟨S8x32768x4, .f32⟩
  | 57 => ⟨S8x32768x4, .f32⟩
  | 58 => ⟨S8x32768x4, .f32⟩
  | 59 => ⟨S8x32768x4, .f32⟩
  | 60 => ⟨S8x32768x4, .f32⟩
  | 61 => ⟨S8x32768x4, .f32⟩
  | 62 => ⟨S8x32768x4, .f32⟩
  | 63 => ⟨S8x32768x4, .f32⟩
  | 64 => ⟨S8x32768x4, .f32⟩
  | 65 => ⟨S_, .f32⟩
  | 66 => ⟨S_, .f32⟩
  | 67 => ⟨S_, .f32⟩
  | 68 => ⟨S_, .f32⟩
  | 69 => ⟨S1, .f32⟩
  | 70 => ⟨S1, .f32⟩
  | 71 => ⟨S1, .i32⟩
  | 72 => ⟨S_, .i32⟩
  | 73 => ⟨S1, .i32⟩
  | 74 => ⟨S_, .i32⟩
  | 75 => ⟨S8, .i64⟩
  | 76 => ⟨S_, .i64⟩
  | 77 => ⟨S8, .i64⟩
  | 78 => ⟨S8, .i64⟩
  | 79 => ⟨S_, .i64⟩
  | 80 => ⟨S8, .i64⟩
  | 81 => ⟨S8, .i64⟩
  | 82 => ⟨S8, .i32⟩
  | 83 => ⟨S8, .i32⟩
  | 84 => ⟨S_, .i32⟩
  | 85 => ⟨S_, .i32⟩
  | 86 => ⟨S_, .i32⟩
  | 87 => ⟨S8, .i32⟩
  | 88 => ⟨S8, .i32⟩
  | 89 => ⟨S8, .i32⟩
  | 90 => ⟨S8, .i32⟩
  | 91 => ⟨S8, .i32⟩
  | 92 => ⟨S_, .i32⟩
  | 93 => ⟨S8, .i32⟩
  | 94 => ⟨S8, .i32⟩
  | 95 => ⟨S_, .i32⟩
  | 96 => ⟨S8, .i32⟩
  | 97 => ⟨S8, .i32⟩
  | 98 => ⟨S8, .i32⟩
  | 99 => ⟨S8, .i32⟩
  | 100 => ⟨S8, .i32⟩
  | 101 => ⟨S_, .i32⟩
  | 102 => ⟨S8, .i32⟩
  | 103 => ⟨S8, .i32⟩
  | 104 => ⟨S_, .i32⟩
  | 105 => ⟨S8, .i32⟩
  | 106 => ⟨S8, .i32⟩
  | 107 => ⟨S8, .i32⟩
  | 108 => ⟨S8, .i32⟩
  | 109 => ⟨S8, .i32⟩
  | 110 => ⟨S_, .i32⟩
  | 111 => ⟨S8, .i32⟩
  | 112 => ⟨S8, .i32⟩
  | 113 => ⟨S_, .i32⟩
  | 114 => ⟨S8, .i32⟩
  | 115 => ⟨S8, .i32⟩
  | 116 => ⟨S8, .i32⟩
  | 117 => ⟨S8, .i32⟩
  | 118 => ⟨S8, .i32⟩
  | 119 => ⟨S_, .i32⟩
  | 120 => ⟨S8, .i32⟩
  | 121 => ⟨S8, .i32⟩
  | 122 => ⟨S_, .i32⟩
  | 123 => ⟨S8, .i32⟩
  | 124 => ⟨S8, .i32⟩
  | 125 => ⟨S8, .i32⟩
  | 126 => ⟨S8, .i32⟩
  | 127 => ⟨S8, .i32⟩
  | _ => ⟨S8x32768, .i32⟩

abbrev hbmTy0_47 (i : Nat) : BufTy := match i % 128 with
  | 0 => ⟨S8, .i32⟩
  | 1 => ⟨S8, .i32⟩
  | 2 => ⟨S8, .i32⟩
  | 3 => ⟨S_, .i32⟩
  | 4 => ⟨S8, .i32⟩
  | 5 => ⟨S8, .i32⟩
  | 6 => ⟨S8, .i32⟩
  | 7 => ⟨S_, .i32⟩
  | 8 => ⟨S8, .i32⟩
  | 9 => ⟨S8, .i32⟩
  | 10 => ⟨S_, .i32⟩
  | 11 => ⟨S8, .i32⟩
  | 12 => ⟨S8, .i32⟩
  | 13 => ⟨S8, .i32⟩
  | 14 => ⟨S8, .i32⟩
  | 15 => ⟨S8, .i32⟩
  | 16 => ⟨S_, .i32⟩
  | 17 => ⟨S8, .i32⟩
  | 18 => ⟨S8, .i32⟩
  | 19 => ⟨S_, .i32⟩
  | 20 => ⟨S8, .i32⟩
  | 21 => ⟨S8, .i32⟩
  | 22 => ⟨S8, .i32⟩
  | 23 => ⟨S8, .i32⟩
  | 24 => ⟨S8, .i32⟩
  | 25 => ⟨S_, .i32⟩
  | 26 => ⟨S8, .i32⟩
  | 27 => ⟨S8, .i32⟩
  | 28 => ⟨S_, .i32⟩
  | 29 => ⟨S8, .i32⟩
  | 30 => ⟨S8, .i32⟩
  | 31 => ⟨S8, .i32⟩
  | 32 => ⟨S8, .i32⟩
  | 33 => ⟨S8, .i32⟩
  | 34 => ⟨S_, .i32⟩
  | 35 => ⟨S8, .i32⟩
  | 36 => ⟨S8, .i32⟩
  | 37 => ⟨S_, .i32⟩
  | 38 => ⟨S8, .i32⟩
  | 39 => ⟨S8, .i32⟩
  | 40 => ⟨S8, .i32⟩
  | 41 => ⟨S8, .i32⟩
  | 42 => ⟨S8, .i32⟩
  | 43 => ⟨S8, .i32⟩
  | 44 => ⟨S8, .i32⟩
  | 45 => ⟨S8, .i32⟩
  | 46 => ⟨S_, .i32⟩
  | 47 => ⟨S8, .i32⟩
  | 48 => ⟨S8, .i32⟩
  | 49 => ⟨S8, .i32⟩
  | 50 => ⟨S_, .i32⟩
  | 51 => ⟨S8, .i32⟩
  | 52 => ⟨S8, .i32⟩
  | 53 => ⟨S_, .i32⟩
  | 54 => ⟨S8, .i32⟩
  | 55 => ⟨S8, .i32⟩
  | 56 => ⟨S8, .i32⟩
  | 57 => ⟨S8, .i32⟩
  | 58 => ⟨S8, .i32⟩
  | 59 => ⟨S_, .i32⟩
  | 60 => ⟨S8, .i32⟩
  | 61 => ⟨S8, .i32⟩
  | 62 => ⟨S_, .i32⟩
  | 63 => ⟨S8, .i32⟩
  | 64 => ⟨S8, .i32⟩
  | 65 => ⟨S8, .i32⟩
  | 66 => ⟨S8, .i32⟩
  | 67 => ⟨S8, .i32⟩
  | 68 => ⟨S_, .i32⟩
  | 69 => ⟨S8, .i32⟩
  | 70 => ⟨S8, .i32⟩
  | 71 => ⟨S_, .i32⟩
  | 72 => ⟨S8, .i32⟩
  | 73 => ⟨S8, .i32⟩
  | 74 => ⟨S8, .i32⟩
  | 75 => ⟨S8, .i32⟩
  | 76 => ⟨S8, .i32⟩
  | 77 => ⟨S_, .i32⟩
  | 78 => ⟨S8, .i32⟩
  | 79 => ⟨S8, .i32⟩
  | 80 => ⟨S_, .i32⟩
  | 81 => ⟨S8, .i32⟩
  | 82 => ⟨S8, .i32⟩
  | 83 => ⟨S8, .i32⟩
  | 84 => ⟨S8, .i32⟩
  | 85 => ⟨S8, .i32⟩
  | 86 => ⟨S8, .i32⟩
  | 87 => ⟨S8, .i32⟩
  | 88 => ⟨S8, .i32⟩
  | 89 => ⟨S_, .i32⟩
  | 90 => ⟨S8, .i32⟩
  | 91 => ⟨S8, .i32⟩
  | 92 => ⟨S8, .i32⟩
  | 93 => ⟨S_, .i32⟩
  | 94 => ⟨S8, .i32⟩
  | 95 => ⟨S8, .i32⟩
  | 96 => ⟨S_, .i32⟩
  | 97 => ⟨S8, .i32⟩
  | 98 => ⟨S8, .i32⟩
  | 99 => ⟨S8, .i32⟩
  | 100 => ⟨S8, .i32⟩
  | 101 => ⟨S8, .i32⟩
  | 102 => ⟨S_, .i32⟩
  | 103 => ⟨S8, .i32⟩
  | 104 => ⟨S8, .i32⟩
  | 105 => ⟨S_, .i32⟩
  | 106 => ⟨S8, .i32⟩
  | 107 => ⟨S8, .i32⟩
  | 108 => ⟨S8, .i32⟩
  | 109 => ⟨S8, .i32⟩
  | 110 => ⟨S8, .i32⟩
  | 111 => ⟨S_, .i32⟩
  | 112 => ⟨S8, .i32⟩
  | 113 => ⟨S8, .i32⟩
  | 114 => ⟨S_, .i32⟩
  | 115 => ⟨S8, .i32⟩
  | 116 => ⟨S8, .i32⟩
  | 117 => ⟨S8, .i32⟩
  | 118 => ⟨S8, .i32⟩
  | 119 => ⟨S8, .i32⟩
  | 120 => ⟨S_, .i32⟩
  | 121 => ⟨S8, .i32⟩
  | 122 => ⟨S8, .i32⟩
  | 123 => ⟨S_, .i32⟩
  | 124 => ⟨S8, .i32⟩
  | 125 => ⟨S8, .i32⟩
  | 126 => ⟨S8, .i32⟩
  | 127 => ⟨S8, .i32⟩
  | _ => ⟨S8x32768, .i32⟩

abbrev hbmTy0_48 (i : Nat) : BufTy := match i % 128 with
  | 0 => ⟨S8, .i32⟩
  | 1 => ⟨S8, .i32⟩
  | 2 => ⟨S8, .i32⟩
  | 3 => ⟨S8, .i32⟩
  | 4 => ⟨S_, .i32⟩
  | 5 => ⟨S8, .i32⟩
  | 6 => ⟨S8, .i32⟩
  | 7 => ⟨S8, .i32⟩
  | 8 => ⟨S_, .i32⟩
  | 9 => ⟨S8, .i32⟩
  | 10 => ⟨S8, .i32⟩
  | 11 => ⟨S_, .i32⟩
  | 12 => ⟨S8, .i32⟩
  | 13 => ⟨S8, .i32⟩
  | 14 => ⟨S8, .i32⟩
  | 15 => ⟨S8, .i32⟩
  | 16 => ⟨S8, .i32⟩
  | 17 => ⟨S_, .i32⟩
  | 18 => ⟨S8, .i32⟩
  | 19 => ⟨S8, .i32⟩
  | 20 => ⟨S_, .i32⟩
  | 21 => ⟨S8, .i32⟩
  | 22 => ⟨S8, .i32⟩
  | 23 => ⟨S8, .i32⟩
  | 24 => ⟨S8, .i32⟩
  | 25 => ⟨S8, .i32⟩
  | 26 => ⟨S_, .i32⟩
  | 27 => ⟨S8, .i32⟩
  | 28 => ⟨S8, .i32⟩
  | 29 => ⟨S_, .i32⟩
  | 30 => ⟨S8, .i32⟩
  | 31 => ⟨S8, .i32⟩
  | 32 => ⟨S8, .i32⟩
  | 33 => ⟨S8, .i32⟩
  | 34 => ⟨S8, .i32⟩
  | 35 => ⟨S_, .i32⟩
  | 36 => ⟨S8, .i32⟩
  | 37 => ⟨S8, .i32⟩
  | 38 => ⟨S_, .i32⟩
  | 39 => ⟨S8, .i32⟩
  | 40 => ⟨S8, .i32⟩
  | 41 => ⟨S8, .i32⟩
  | 42 => ⟨S8, .i32⟩
  | 43 => ⟨S8, .i32⟩
  | 44 => ⟨S8, .i32⟩
  | 45 => ⟨S8, .i32⟩
  | 46 => ⟨S8, .i32⟩
  | 47 => ⟨S_, .i32⟩
  | 48 => ⟨S8, .i32⟩
  | 49 => ⟨S8, .i32⟩
  | 50 => ⟨S8, .i32⟩
  | 51 => ⟨S_, .i32⟩
  | 52 => ⟨S8, .i32⟩
  | 53 => ⟨S8, .i32⟩
  | 54 => ⟨S_, .i32⟩
  | 55 => ⟨S8, .i32⟩
  | 56 => ⟨S8, .i32⟩
  | 57 => ⟨S8, .f32⟩
  | 58 => ⟨S_, .f32⟩
  | 59 => ⟨S8, .f32⟩
  | 60 => ⟨S8, .f32⟩
  | 61 => ⟨S1, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S1, .i32⟩
  | 69 => ⟨S_, .i32⟩
  | 70 => ⟨S1, .i32⟩
  | 71 => ⟨S_, .i32⟩
  | 72 => ⟨S3, .i64⟩
  | 73 => ⟨S_, .i64⟩
  | 74 => ⟨S3, .i64⟩
  | 75 => ⟨S3, .i64⟩
  | 76 => ⟨S_, .i64⟩
  | 77 => ⟨S3, .i64⟩
  | 78 => ⟨S3, .i64⟩
  | 79 => ⟨S3, .i32⟩
  | 80 => ⟨S3, .i32⟩
  | 81 => ⟨S_, .i32⟩
  | 82 => ⟨S_, .i32⟩
  | 83 => ⟨S_, .i32⟩
  | 84 => ⟨S3, .i32⟩
  | 85 => ⟨S3, .i32⟩
  | 86 => ⟨S3, .i32⟩
  | 87 => ⟨S3, .i32⟩
  | 88 => ⟨S3, .i32⟩
  | 89 => ⟨S_, .i32⟩
  | 90 => ⟨S3, .i32⟩
  | 91 => ⟨S3, .i32⟩
  | 92 => ⟨S_, .i32⟩
  | 93 => ⟨S3, .i32⟩
  | 94 => ⟨S3, .i32⟩
  | 95 => ⟨S3, .i32⟩
  | 96 => ⟨S3, .i32⟩
  | 97 => ⟨S3, .i32⟩
  | 98 => ⟨S_, .i32⟩
  | 99 => ⟨S3, .i32⟩
  | 100 => ⟨S3, .i32⟩
  | 101 => ⟨S_, .i32⟩
  | 102 => ⟨S3, .i32⟩
  | 103 => ⟨S3, .i32⟩
  | 104 => ⟨S3, .i32⟩
  | 105 => ⟨S3, .i32⟩
  | 106 => ⟨S3, .i32⟩
  | 107 => ⟨S_, .i32⟩
  | 108 => ⟨S3, .i32⟩
  | 109 => ⟨S3, .i32⟩
  | 110 => ⟨S_, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S_, .i32⟩
  | 120 => ⟨S3, .i32⟩
  | 121 => ⟨S3, .i32⟩
  | 122 => ⟨S3, .i32⟩
  | 123 => ⟨S3, .i32⟩
  | 124 => ⟨S3, .i32⟩
  | 125 => ⟨S3, .i32⟩
  | 126 => ⟨S3, .i32⟩
  | 127 => ⟨S3, .i32⟩
  | _ => ⟨S8x32768, .i32⟩

abbrev hbmTy0_49 (i : Nat) : BufTy := match i % 128 with
  | 0 => ⟨S_, .i32⟩
  | 1 => ⟨S3, .i32⟩
  | 2 => ⟨S3, .i32⟩
  | 3 => ⟨S3, .i32⟩
  | 4 => ⟨S_, .i32⟩
  | 5 => ⟨S3, .i32⟩
  | 6 => ⟨S3, .i32⟩
  | 7 => ⟨S_, .i32⟩
  | 8 => ⟨S3, .i32⟩
  | 9 => ⟨S3, .i32⟩
  | 10 => ⟨S3, .i32⟩
  | 11 => ⟨S3, .i32⟩
  | 12 => ⟨S3, .i32⟩
  | 13 => ⟨S_, .i32⟩
  | 14 => ⟨S3, .i32⟩
  | 15 => ⟨S3, .i32⟩
  | 16 => ⟨S_, .i32⟩
  | 17 => ⟨S3, .i32⟩
  | 18 => ⟨S3, .i32⟩
  | 19 => ⟨S3, .i32⟩
  | 20 => ⟨S3, .i32⟩
  | 21 => ⟨S3, .i32⟩
  | 22 => ⟨S_, .i32⟩
  | 23 => ⟨S3, .i32⟩
  | 24 => ⟨S3, .i32⟩
  | 25 => ⟨S_, .i32⟩
  | 26 => ⟨S3, .i32⟩
  | 27 => ⟨S3, .i32⟩
  | 28 => ⟨S3, .i32⟩
  | 29 => ⟨S3, .i32⟩
  | 30 => ⟨S3, .i32⟩
  | 31 => ⟨S_, .i32⟩
  | 32 => ⟨S3, .i32⟩
  | 33 => ⟨S3, .i32⟩
  | 34 => ⟨S_, .i32⟩
  | 35 => ⟨S3, .i32⟩
  | 36 => ⟨S3, .i32⟩
  | 37 => ⟨S3, .i32⟩
  | 38 => ⟨S3, .i32⟩
  | 39 => ⟨S3, .i32⟩
  | 40 => ⟨S3, .i32⟩
  | 41 => ⟨S3, .i32⟩
  | 42 => ⟨S3, .i32⟩
  | 43 => ⟨S_, .i32⟩
  | 44 => ⟨S3, .i32⟩
  | 45 => ⟨S3, .i32⟩
  | 46 => ⟨S3, .i32⟩
  | 47 => ⟨S_, .i32⟩
  | 48 => ⟨S3, .i32⟩
  | 49 => ⟨S3, .i32⟩
  | 50 => ⟨S_, .i32⟩
  | 51 => ⟨S3, .i32⟩
  | 52 => ⟨S3, .i32⟩
  | 53 => ⟨S3, .i32⟩
  | 54 => ⟨S3, .i32⟩
  | 55 => ⟨S3, .i32⟩
  | 56 => ⟨S_, .i32⟩
  | 57 => ⟨S3, .i32⟩
  | 58 => ⟨S3, .i32⟩
  | 59 => ⟨S_, .i32⟩
  | 60 => ⟨S3, .i32⟩
  | 61 => ⟨S3, .i32⟩
  | 62 => ⟨S3, .i32⟩
  | 63 => ⟨S3, .i32⟩
  | 64 => ⟨S3, .i32⟩
  | 65 => ⟨S_, .i32⟩
  | 66 => ⟨S3, .i32⟩
  | 67 => ⟨S3, .i32⟩
  | 68 => ⟨S_, .i32⟩
  | 69 => ⟨S3, .i32⟩
  | 70 => ⟨S3, .i32⟩
  | 71 => ⟨S3, .i32⟩
  | 72 => ⟨S3, .i32⟩
  | 73 => ⟨S3, .i32⟩
  | 74 => ⟨S_, .i32⟩
  | 75 => ⟨S3, .i32⟩
  | 76 => ⟨S3, .i32⟩
  | 77 => ⟨S_, .i32⟩
  | 78 => ⟨S3, .i32⟩
  | 79 => ⟨S3, .i32⟩
  | 80 => ⟨S3, .i32⟩
  | 81 => ⟨S3, .i32⟩
  | 82 => ⟨S3, .i32⟩
  | 83 => ⟨S3, .i32⟩
  | 84 => ⟨S3, .i32⟩
  | 85 => ⟨S3, .i32⟩
  | 86 => ⟨S_, .i32⟩
  | 87 => ⟨S3, .i32⟩
  | 88 => ⟨S3, .i32⟩
  | 89 => ⟨S3, .i32⟩
  | 90 => ⟨S_, .i32⟩
  | 91 => ⟨S3, .i32⟩
  | 92 => ⟨S3, .i32⟩
  | 93 => ⟨S_, .i32⟩
  | 94 => ⟨S3, .i32⟩
  | 95 => ⟨S3, .i32⟩
  | 96 => ⟨S3, .i32⟩
  | 97 => ⟨S3, .i32⟩
  | 98 => ⟨S3, .i32⟩
  | 99 => ⟨S_, .i32⟩
  | 100 => ⟨S3, .i32⟩
  | 101 => ⟨S3, .i32⟩
  | 102 => ⟨S_, .i32⟩
  | 103 => ⟨S3, .i32⟩
  | 104 => ⟨S3, .i32⟩
  | 105 => ⟨S3, .i32⟩
  | 106 => ⟨S3, .i32⟩
  | 107 => ⟨S3, .i32⟩
  | 108 => ⟨S_, .i32⟩
  | 109 => ⟨S3, .i32⟩
  | 110 => ⟨S3, .i32⟩
  | 111 => ⟨S_, .i32⟩
  | 112 => ⟨S3, .i32⟩
  | 113 => ⟨S3, .i32⟩
  | 114 => ⟨S3, .i32⟩
  | 115 => ⟨S3, .i32⟩
  | 116 => ⟨S3, .i32⟩
  | 117 => ⟨S_, .i32⟩
  | 118 => ⟨S3, .i32⟩
  | 119 => ⟨S3, .i32⟩
  | 120 => ⟨S_, .i32⟩
  | 121 => ⟨S3, .i32⟩
  | 122 => ⟨S3, .i32⟩
  | 123 => ⟨S3, .i32⟩
  | 124 => ⟨S3, .i32⟩
  | 125 => ⟨S3, .i32⟩
  | 126 => ⟨S3, .i32⟩
  | 127 => ⟨S3, .i32⟩
  | _ => ⟨S8x32768, .i32⟩

abbrev hbmTy0_50 (i : Nat) : BufTy := match i % 128 with
  | 0 => ⟨S3, .i32⟩
  | 1 => ⟨S_, .i32⟩
  | 2 => ⟨S3, .i32⟩
  | 3 => ⟨S3, .i32⟩
  | 4 => ⟨S3, .i32⟩
  | 5 => ⟨S_, .i32⟩
  | 6 => ⟨S3, .i32⟩
  | 7 => ⟨S3, .i32⟩
  | 8 => ⟨S_, .i32⟩
  | 9 => ⟨S3, .i32⟩
  | 10 => ⟨S3, .i32⟩
  | 11 => ⟨S3, .i32⟩
  | 12 => ⟨S3, .i32⟩
  | 13 => ⟨S3, .i32⟩
  | 14 => ⟨S_, .i32⟩
  | 15 => ⟨S3, .i32⟩
  | 16 => ⟨S3, .i32⟩
  | 17 => ⟨S_, .i32⟩
  | 18 => ⟨S3, .i32⟩
  | 19 => ⟨S3, .i32⟩
  | 20 => ⟨S3, .i32⟩
  | 21 => ⟨S3, .i32⟩
  | 22 => ⟨S3, .i32⟩
  | 23 => ⟨S_, .i32⟩
  | 24 => ⟨S3, .i32⟩
  | 25 => ⟨S3, .i32⟩
  | 26 => ⟨S_, .i32⟩
  | 27 => ⟨S3, .i32⟩
  | 28 => ⟨S3, .i32⟩
  | 29 => ⟨S3, .i32⟩
  | 30 => ⟨S3, .i32⟩
  | 31 => ⟨S3, .i32⟩
  | 32 => ⟨S_, .i32⟩
  | 33 => ⟨S3, .i32⟩
  | 34 => ⟨S3, .i32⟩
  | 35 => ⟨S_, .i32⟩
  | 36 => ⟨S3, .i32⟩
  | 37 => ⟨S3, .i32⟩
  | 38 => ⟨S3, .i32⟩
  | 39 => ⟨S3, .i32⟩
  | 40 => ⟨S3, .i32⟩
  | 41 => ⟨S3, .i32⟩
  | 42 => ⟨S3, .i32⟩
  | 43 => ⟨S3, .i32⟩
  | 44 => ⟨S_, .i32⟩
  | 45 => ⟨S3, .i32⟩
  | 46 => ⟨S3, .i32⟩
  | 47 => ⟨S3x1, .i32⟩
  | 48 => ⟨S3x1, .i32⟩
  | 49 => ⟨S3x2, .i32⟩
  | 50 => ⟨S1x2, .i32⟩
  | 51 => ⟨S2, .i32⟩
  | 52 => ⟨S1x2, .i32⟩
  | 53 => ⟨S2, .i32⟩
  | 54 => ⟨S1x2, .i32⟩
  | 55 => ⟨S2, .i32⟩
  | 56 => ⟨S_, .f32⟩
  | 57 => ⟨S_, .f32⟩
  | 58 => ⟨S_, .f32⟩
  | 59 => ⟨S1x1x1, .f32⟩
  | 60 => ⟨S1x1x1, .f32⟩
  | 61 => ⟨S1, .i32⟩
  | 62 => ⟨S_, .i32⟩
  | 63 => ⟨S1, .i32⟩
  | 64 => ⟨S_, .i32⟩
  | 65 => ⟨S8x32768x4, .i64⟩
  | 66 => ⟨S8x32768x4, .i64⟩
  | 67 => ⟨S8x32768x4, .i64⟩
  | 68 => ⟨S_, .i64⟩
  | 69 => ⟨S8x32768x4, .i64⟩
  | 70 => ⟨S8x32768x4, .i64⟩
  | 71 => ⟨S_, .i64⟩
  | 72 => ⟨S8x32768x4, .i64⟩
  | 73 => ⟨S8x32768x4, .i64⟩
  | 74 => ⟨S_, .i64⟩
  | 75 => ⟨S8x32768x4, .i64⟩
  | 76 => ⟨S8x32768x4, .i64⟩
  | 77 => ⟨S8x32768x4, .i64⟩
  | 78 => ⟨S8x32768x4, .i64⟩
  | 79 => ⟨S_, .i64⟩
  | 80 => ⟨S8x32768x4, .i64⟩
  | 81 => ⟨S8x32768x4, .i64⟩
  | 82 => ⟨S8x32768x4, .i32⟩
  | 83 => ⟨S8x32768x4, .i32⟩
  | 84 => ⟨S_, .i32⟩
  | 85 => ⟨S_, .i32⟩
  | 86 => ⟨S_, .i32⟩
  | 87 => ⟨S8x32768x4, .i32⟩
  | 88 => ⟨S8x32768x4, .i32⟩
  | 89 => ⟨S8x32768x4, .i32⟩
  | 90 => ⟨S8x32768x4, .i32⟩
  | 91 => ⟨S8x32768x4, .i32⟩
  | 92 => ⟨S_, .i32⟩
  | 93 => ⟨S8x32768x4, .i32⟩
  | 94 => ⟨S8x32768x4, .i32⟩
  | 95 => ⟨S_, .i32⟩
  | 96 => ⟨S8x32768x4, .i32⟩
  | 97 => ⟨S8x32768x4, .i32⟩
  | 98 => ⟨S8x32768x4, .i32⟩
  | 99 => ⟨S8x32768x4, .i32⟩
  | 100 => ⟨S8x32768x4, .i32⟩
  | 101 => ⟨S_, .i32⟩
  | 102 => ⟨S8x32768x4, .i32⟩
  | 103 => ⟨S8x32768x4, .i32⟩
  | 104 => ⟨S_, .i32⟩
  | 105 => ⟨S8x32768x4, .i32⟩
  | 106 => ⟨S8x32768x4, .i32⟩
  | 107 => ⟨S8x32768x4, .i32⟩
  | 108 => ⟨S8x32768x4, .i32⟩
  | 109 => ⟨S8x32768x4, .i32⟩
  | 110 => ⟨S_, .i32⟩
  | 111 => ⟨S8x32768x4, .i32⟩
  | 112 => ⟨S8x32768x4, .i32⟩
  | 113 => ⟨S_, .i32⟩
  | 114 => ⟨S8x32768x4, .i32⟩
  | 115 => ⟨S8x32768x4, .i32⟩
  | 116 => ⟨S8x32768x4, .i32⟩
  | 117 => ⟨S8x32768x4, .i32⟩
  | 118 => ⟨S8x32768x4, .i32⟩
  | 119 => ⟨S_, .i32⟩
  | 120 => ⟨S8x32768x4, .i32⟩
  | 121 => ⟨S8x32768x4, .i32⟩
  | 122 => ⟨S_, .i32⟩
  | 123 => ⟨S8x32768x4, .i32⟩
  | 124 => ⟨S8x32768x4, .i32⟩
  | 125 => ⟨S8x32768x4, .i32⟩
  | 126 => ⟨S8x32768x4, .i32⟩
  | 127 => ⟨S8x32768x4, .i32⟩
  | _ => ⟨S8x32768, .i32⟩

abbrev hbmTy0_51 (i : Nat) : BufTy := match i % 128 with
  | 0 => ⟨S8x32768x4, .i32⟩
  | 1 => ⟨S8x32768x4, .i32⟩
  | 2 => ⟨S8x32768x4, .i32⟩
  | 3 => ⟨S_, .i32⟩
  | 4 => ⟨S8x32768x4, .i32⟩
  | 5 => ⟨S8x32768x4, .i32⟩
  | 6 => ⟨S8x32768x4, .i32⟩
  | 7 => ⟨S_, .i32⟩
  | 8 => ⟨S8x32768x4, .i32⟩
  | 9 => ⟨S8x32768x4, .i32⟩
  | 10 => ⟨S_, .i32⟩
  | 11 => ⟨S8x32768x4, .i32⟩
  | 12 => ⟨S8x32768x4, .i32⟩
  | 13 => ⟨S8x32768x4, .i32⟩
  | 14 => ⟨S8x32768x4, .i32⟩
  | 15 => ⟨S8x32768x4, .i32⟩
  | 16 => ⟨S_, .i32⟩
  | 17 => ⟨S8x32768x4, .i32⟩
  | 18 => ⟨S8x32768x4, .i32⟩
  | 19 => ⟨S_, .i32⟩
  | 20 => ⟨S8x32768x4, .i32⟩
  | 21 => ⟨S8x32768x4, .i32⟩
  | 22 => ⟨S8x32768x4, .i32⟩
  | 23 => ⟨S8x32768x4, .i32⟩
  | 24 => ⟨S8x32768x4, .i32⟩
  | 25 => ⟨S_, .i32⟩
  | 26 => ⟨S8x32768x4, .i32⟩
  | 27 => ⟨S8x32768x4, .i32⟩
  | 28 => ⟨S_, .i32⟩
  | 29 => ⟨S8x32768x4, .i32⟩
  | 30 => ⟨S8x32768x4, .i32⟩
  | 31 => ⟨S8x32768x4, .i32⟩
  | 32 => ⟨S8x32768x4, .i32⟩
  | 33 => ⟨S8x32768x4, .i32⟩
  | 34 => ⟨S_, .i32⟩
  | 35 => ⟨S8x32768x4, .i32⟩
  | 36 => ⟨S8x32768x4, .i32⟩
  | 37 => ⟨S_, .i32⟩
  | 38 => ⟨S8x32768x4, .i32⟩
  | 39 => ⟨S8x32768x4, .i32⟩
  | 40 => ⟨S8x32768x4, .i32⟩
  | 41 => ⟨S8x32768x4, .i32⟩
  | 42 => ⟨S8x32768x4, .i32⟩
  | 43 => ⟨S8x32768x4, .i32⟩
  | 44 => ⟨S8x32768x4, .i32⟩
  | 45 => ⟨S8x32768x4, .i32⟩
  | 46 => ⟨S_, .i32⟩
  | 47 => ⟨S8x32768x4, .i32⟩
  | 48 => ⟨S8x32768x4, .i32⟩
  | 49 => ⟨S8x32768x4, .i32⟩
  | 50 => ⟨S_, .i32⟩
  | 51 => ⟨S8x32768x4, .i32⟩
  | 52 => ⟨S8x32768x4, .i32⟩
  | 53 => ⟨S_, .i32⟩
  | 54 => ⟨S8x32768x4, .i32⟩
  | 55 => ⟨S8x32768x4, .i32⟩
  | 56 => ⟨S8x32768x4, .i32⟩
  | 57 => ⟨S8x32768x4, .i32⟩
  | 58 => ⟨S8x32768x4, .i32⟩
  | 59 => ⟨S_, .i32⟩
  | 60 => ⟨S8x32768x4, .i32⟩
  | 61 => ⟨S8x32768x4, .i32⟩
  | 62 => ⟨S_, .i32⟩
  | 63 => ⟨S8x32768x4, .i32⟩
  | 64 => ⟨S8x32768x4, .i32⟩
  | 65 => ⟨S8x32768x4, .i32⟩
  | 66 => ⟨S8x32768x4, .i32⟩
  | 67 => ⟨S8x32768x4, .i32⟩
  | 68 => ⟨S_, .i32⟩
  | 69 => ⟨S8x32768x4, .i32⟩
  | 70 => ⟨S8x32768x4, .i32⟩
  | 71 => ⟨S_, .i32⟩
  | 72 => ⟨S8x32768x4, .i32⟩
  | 73 => ⟨S8x32768x4, .i32⟩
  | 74 => ⟨S8x32768x4, .i32⟩
  | 75 => ⟨S8x32768x4, .i32⟩
  | 76 => ⟨S8x32768x4, .i32⟩
  | 77 => ⟨S_, .i32⟩
  | 78 => ⟨S8x32768x4, .i32⟩
  | 79 => ⟨S8x32768x4, .i32⟩
  | 80 => ⟨S_, .i32⟩
  | 81 => ⟨S8x32768x4, .i32⟩
  | 82 => ⟨S8x32768x4, .i32⟩
  | 83 => ⟨S8x32768x4, .i32⟩
  | 84 => ⟨S8x32768x4, .i32⟩
  | 85 => ⟨S8x32768x4, .i32⟩
  | 86 => ⟨S8x32768x4, .i32⟩
  | 87 => ⟨S8x32768x4, .i32⟩
  | 88 => ⟨S8x32768x4, .i32⟩
  | 89 => ⟨S_, .i32⟩
  | 90 => ⟨S8x32768x4, .i32⟩
  | 91 => ⟨S8x32768x4, .i32⟩
  | 92 => ⟨S8x32768x4, .i32⟩
  | 93 => ⟨S_, .i32⟩
  | 94 => ⟨S8x32768x4, .i32⟩
  | 95 => ⟨S8x32768x4, .i32⟩
  | 96 => ⟨S_, .i32⟩
  | 97 => ⟨S8x32768x4, .i32⟩
  | 98 => ⟨S8x32768x4, .i32⟩
  | 99 => ⟨S8x32768x4, .i32⟩
  | 100 => ⟨S8x32768x4, .i32⟩
  | 101 => ⟨S8x32768x4, .i32⟩
  | 102 => ⟨S_, .i32⟩
  | 103 => ⟨S8x32768x4, .i32⟩
  | 104 => ⟨S8x32768x4, .i32⟩
  | 105 => ⟨S_, .i32⟩
  | 106 => ⟨S8x32768x4, .i32⟩
  | 107 => ⟨S8x32768x4, .i32⟩
  | 108 => ⟨S8x32768x4, .i32⟩
  | 109 => ⟨S8x32768x4, .i32⟩
  | 110 => ⟨S8x32768x4, .i32⟩
  | 111 => ⟨S_, .i32⟩
  | 112 => ⟨S8x32768x4, .i32⟩
  | 113 => ⟨S8x32768x4, .i32⟩
  | 114 => ⟨S_, .i32⟩
  | 115 => ⟨S8x32768x4, .i32⟩
  | 116 => ⟨S8x32768x4, .i32⟩
  | 117 => ⟨S8x32768x4, .i32⟩
  | 118 => ⟨S8x32768x4, .i32⟩
  | 119 => ⟨S8x32768x4, .i32⟩
  | 120 => ⟨S_, .i32⟩
  | 121 => ⟨S8x32768x4, .i32⟩
  | 122 => ⟨S8x32768x4, .i32⟩
  | 123 => ⟨S_, .i32⟩
  | 124 => ⟨S8x32768x4, .i32⟩
  | 125 => ⟨S8x32768x4, .i32⟩
  | 126 => ⟨S8x32768x4, .i32⟩
  | 127 => ⟨S8x32768x4, .i32⟩
  | _ => ⟨S8x32768, .i32⟩

abbrev hbmTy0_52 (i : Nat) : BufTy := match i % 128 with
  | 0 => ⟨S8x32768x4, .i32⟩
  | 1 => ⟨S8x32768x4, .i32⟩
  | 2 => ⟨S8x32768x4, .i32⟩
  | 3 => ⟨S8x32768x4, .i32⟩
  | 4 => ⟨S_, .i32⟩
  | 5 => ⟨S8x32768x4, .i32⟩
  | 6 => ⟨S8x32768x4, .i32⟩
  | 7 => ⟨S8x32768x4, .i32⟩
  | 8 => ⟨S_, .i32⟩
  | 9 => ⟨S8x32768x4, .i32⟩
  | 10 => ⟨S8x32768x4, .i32⟩
  | 11 => ⟨S_, .i32⟩
  | 12 => ⟨S8x32768x4, .i32⟩
  | 13 => ⟨S8x32768x4, .i32⟩
  | 14 => ⟨S8x32768x4, .i32⟩
  | 15 => ⟨S8x32768x4, .i32⟩
  | 16 => ⟨S8x32768x4, .i32⟩
  | 17 => ⟨S_, .i32⟩
  | 18 => ⟨S8x32768x4, .i32⟩
  | 19 => ⟨S8x32768x4, .i32⟩
  | 20 => ⟨S_, .i32⟩
  | 21 => ⟨S8x32768x4, .i32⟩
  | 22 => ⟨S8x32768x4, .i32⟩
  | 23 => ⟨S8x32768x4, .i32⟩
  | 24 => ⟨S8x32768x4, .i32⟩
  | 25 => ⟨S8x32768x4, .i32⟩
  | 26 => ⟨S_, .i32⟩
  | 27 => ⟨S8x32768x4, .i32⟩
  | 28 => ⟨S8x32768x4, .i32⟩
  | 29 => ⟨S_, .i32⟩
  | 30 => ⟨S8x32768x4, .i32⟩
  | 31 => ⟨S8x32768x4, .i32⟩
  | 32 => ⟨S8x32768x4, .i32⟩
  | 33 => ⟨S8x32768x4, .i32⟩
  | 34 => ⟨S8x32768x4, .i32⟩
  | 35 => ⟨S_, .i32⟩
  | 36 => ⟨S8x32768x4, .i32⟩
  | 37 => ⟨S8x32768x4, .i32⟩
  | 38 => ⟨S_, .i32⟩
  | 39 => ⟨S8x32768x4, .i32⟩
  | 40 => ⟨S8x32768x4, .i32⟩
  | 41 => ⟨S8x32768x4, .i32⟩
  | 42 => ⟨S8x32768x4, .i32⟩
  | 43 => ⟨S8x32768x4, .i32⟩
  | 44 => ⟨S8x32768x4, .i32⟩
  | 45 => ⟨S8x32768x4, .i32⟩
  | 46 => ⟨S8x32768x4, .i32⟩
  | 47 => ⟨S_, .i32⟩
  | 48 => ⟨S8x32768x4, .i32⟩
  | 49 => ⟨S8x32768x4, .i32⟩
  | 50 => ⟨S8x32768x4, .i32⟩
  | 51 => ⟨S_, .i32⟩
  | 52 => ⟨S8x32768x4, .i32⟩
  | 53 => ⟨S8x32768x4, .i32⟩
  | 54 => ⟨S_, .i32⟩
  | 55 => ⟨S8x32768x4, .i32⟩
  | 56 => ⟨S8x32768x4, .i32⟩
  | 57 => ⟨S8x32768x4, .f32⟩
  | 58 => ⟨S_, .f32⟩
  | 59 => ⟨S8x32768x4, .f32⟩
  | 60 => ⟨S8x32768x4, .f32⟩
  | 61 => ⟨S1x1x1, .f32⟩
  | 62 => ⟨S8x32768x4, .f32⟩
  | 63 => ⟨S8x32768x4, .f32⟩
  | 64 => ⟨S8x32768x4, .f32⟩
  | 65 => ⟨S8x32768x4, .f32⟩
  | 66 => ⟨S8x32768x4, .f32⟩
  | 67 => ⟨S8x32768x4, .f32⟩
  | 68 => ⟨S8x32768x4, .f32⟩
  | 69 => ⟨S8x32768x4, .f32⟩
  | 70 => ⟨S8x32768x4, .f32⟩
  | 71 => ⟨S8x32768x4, .f32⟩
  | 72 => ⟨S_, .f32⟩
  | 73 => ⟨S_, .f32⟩
  | 74 => ⟨S_, .f32⟩
  | 75 => ⟨S_, .f32⟩
  | 76 => ⟨S1, .f32⟩
  | 77 => ⟨S1, .f32⟩
  | 78 => ⟨S1, .i32⟩
  | 79 => ⟨S_, .i32⟩
  | 80 => ⟨S1, .i32⟩
  | 81 => ⟨S_, .i32⟩
  | 82 => ⟨S8, .i64⟩
  | 83 => ⟨S_, .i64⟩
  | 84 => ⟨S8, .i64⟩
  | 85 => ⟨S8, .i64⟩
  | 86 => ⟨S_, .i64⟩
  | 87 => ⟨S8, .i64⟩
  | 88 => ⟨S8, .i64⟩
  | 89 => ⟨S8, .i32⟩
  | 90 => ⟨S8, .i32⟩
  | 91 => ⟨S_, .i32⟩
  | 92 => ⟨S_, .i32⟩
  | 93 => ⟨S_, .i32⟩
  | 94 => ⟨S8, .i32⟩
  | 95 => ⟨S8, .i32⟩
  | 96 => ⟨S8, .i32⟩
  | 97 => ⟨S8, .i32⟩
  | 98 => ⟨S8, .i32⟩
  | 99 => ⟨S_, .i32⟩
  | 100 => ⟨S8, .i32⟩
  | 101 => ⟨S8, .i32⟩
  | 102 => ⟨S_, .i32⟩
  | 103 => ⟨S8, .i32⟩
  | 104 => ⟨S8, .i32⟩
  | 105 => ⟨S8, .i32⟩
  | 106 => ⟨S8, .i32⟩
  | 107 => ⟨S8, .i32⟩
  | 108 => ⟨S_, .i32⟩
  | 109 => ⟨S8, .i32⟩
  | 110 => ⟨S8, .i32⟩
  | 111 => ⟨S_, .i32⟩
  | 112 => ⟨S8, .i32⟩
  | 113 => ⟨S8, .i32⟩
  | 114 => ⟨S8, .i32⟩
  | 115 => ⟨S8, .i32⟩
  | 116 => ⟨S8, .i32⟩
  | 117 => ⟨S_, .i32⟩
  | 118 => ⟨S8, .i32⟩
  | 119 => ⟨S8, .i32⟩
  | 120 => ⟨S_, .i32⟩
  | 121 => ⟨S8, .i32⟩
  | 122 => ⟨S8, .i32⟩
  | 123 => ⟨S8, .i32⟩
  | 124 => ⟨S8, .i32⟩
  | 125 => ⟨S8, .i32⟩
  | 126 => ⟨S_, .i32⟩
  | 127 => ⟨S8, .i32⟩
  | _ => ⟨S8x32768, .i32⟩

abbrev hbmTy0_53 (i : Nat) : BufTy := match i % 128 with
  | 0 => ⟨S8, .i32⟩
  | 1 => ⟨S_, .i32⟩
  | 2 => ⟨S8, .i32⟩
  | 3 => ⟨S8, .i32⟩
  | 4 => ⟨S8, .i32⟩
  | 5 => ⟨S8, .i32⟩
  | 6 => ⟨S8, .i32⟩
  | 7 => ⟨S8, .i32⟩
  | 8 => ⟨S8, .i32⟩
  | 9 => ⟨S8, .i32⟩
  | 10 => ⟨S_, .i32⟩
  | 11 => ⟨S8, .i32⟩
  | 12 => ⟨S8, .i32⟩
  | 13 => ⟨S8, .i32⟩
  | 14 => ⟨S_, .i32⟩
  | 15 => ⟨S8, .i32⟩
  | 16 => ⟨S8, .i32⟩
  | 17 => ⟨S_, .i32⟩
  | 18 => ⟨S8, .i32⟩
  | 19 => ⟨S8, .i32⟩
  | 20 => ⟨S8, .i32⟩
  | 21 => ⟨S8, .i32⟩
  | 22 => ⟨S8, .i32⟩
  | 23 => ⟨S_, .i32⟩
  | 24 => ⟨S8, .i32⟩
  | 25 => ⟨S8, .i32⟩
  | 26 => ⟨S_, .i32⟩
  | 27 => ⟨S8, .i32⟩
  | 28 => ⟨S8, .i32⟩
  | 29 => ⟨S8, .i32⟩
  | 30 => ⟨S8, .i32⟩
  | 31 => ⟨S8, .i32⟩
  | 32 => ⟨S_, .i32⟩
  | 33 => ⟨S8, .i32⟩
  | 34 => ⟨S8, .i32⟩
  | 35 => ⟨S_, .i32⟩
  | 36 => ⟨S8, .i32⟩
  | 37 => ⟨S8, .i32⟩
  | 38 => ⟨S8, .i32⟩
  | 39 => ⟨S8, .i32⟩
  | 40 => ⟨S8, .i32⟩
  | 41 => ⟨S_, .i32⟩
  | 42 => ⟨S8, .i32⟩
  | 43 => ⟨S8, .i32⟩
  | 44 => ⟨S_, .i32⟩
  | 45 => ⟨S8, .i32⟩
  | 46 => ⟨S8, .i32⟩
  | 47 => ⟨S8, .i32⟩
  | 48 => ⟨S8, .i32⟩
  | 49 => ⟨S8, .i32⟩
  | 50 => ⟨S8, .i32⟩
  | 51 => ⟨S8, .i32⟩
  | 52 => ⟨S8, .i32⟩
  | 53 => ⟨S_, .i32⟩
  | 54 => ⟨S8, .i32⟩
  | 55 => ⟨S8, .i32⟩
  | 56 => ⟨S8, .i32⟩
  | 57 => ⟨S_, .i32⟩
  | 58 => ⟨S8, .i32⟩
  | 59 => ⟨S8, .i32⟩
  | 60 => ⟨S_, .i32⟩
  | 61 => ⟨S8, .i32⟩
  | 62 => ⟨S8, .i32⟩
  | 63 => ⟨S8, .i32⟩
  | 64 => ⟨S8, .i32⟩
  | 65 => ⟨S8, .i32⟩
  | 66 => ⟨S_, .i32⟩
  | 67 => ⟨S8, .i32⟩
  | 68 => ⟨S8, .i32⟩
  | 69 => ⟨S_, .i32⟩
  | 70 => ⟨S8, .i32⟩
  | 71 => ⟨S8, .i32⟩
  | 72 => ⟨S8, .i32⟩
  | 73 => ⟨S8, .i32⟩
  | 74 => ⟨S8, .i32⟩
  | 75 => ⟨S_, .i32⟩
  | 76 => ⟨S8, .i32⟩
  | 77 => ⟨S8, .i32⟩
  | 78 => ⟨S_, .i32⟩
  | 79 => ⟨S8, .i32⟩
  | 80 => ⟨S8, .i32⟩
  | 81 => ⟨S8, .i32⟩
  | 82 => ⟨S8, .i32⟩
  | 83 => ⟨S8, .i32⟩
  | 84 => ⟨S_, .i32⟩
  | 85 => ⟨S8, .i32⟩
  | 86 => ⟨S8, .i32⟩
  | 87 => ⟨S_, .i32⟩
  | 88 => ⟨S8, .i32⟩
  | 89 => ⟨S8, .i32⟩
  | 90 => ⟨S8, .i32⟩
  | 91 => ⟨S8, .i32⟩
  | 92 => ⟨S8, .i32⟩
  | 93 => ⟨S8, .i32⟩
  | 94 => ⟨S8, .i32⟩
  | 95 => ⟨S8, .i32⟩
  | 96 => ⟨S_, .i32⟩
  | 97 => ⟨S8, .i32⟩
  | 98 => ⟨S8, .i32⟩
  | 99 => ⟨S8, .i32⟩
  | 100 => ⟨S_, .i32⟩
  | 101 => ⟨S8, .i32⟩
  | 102 => ⟨S8, .i32⟩
  | 103 => ⟨S_, .i32⟩
  | 104 => ⟨S8, .i32⟩
  | 105 => ⟨S8, .i32⟩
  | 106 => ⟨S8, .i32⟩
  | 107 => ⟨S8, .i32⟩
  | 108 => ⟨S8, .i32⟩
  | 109 => ⟨S_, .i32⟩
  | 110 => ⟨S8, .i32⟩
  | 111 => ⟨S8, .i32⟩
  | 112 => ⟨S_, .i32⟩
  | 113 => ⟨S8, .i32⟩
  | 114 => ⟨S8, .i32⟩
  | 115 => ⟨S8, .i32⟩
  | 116 => ⟨S8, .i32⟩
  | 117 => ⟨S8, .i32⟩
  | 118 => ⟨S_, .i32⟩
  | 119 => ⟨S8, .i32⟩
  | 120 => ⟨S8, .i32⟩
  | 121 => ⟨S_, .i32⟩
  | 122 => ⟨S8, .i32⟩
  | 123 => ⟨S8, .i32⟩
  | 124 => ⟨S8, .i32⟩
  | 125 => ⟨S8, .i32⟩
  | 126 => ⟨S8, .i32⟩
  | 127 => ⟨S_, .i32⟩
  | _ => ⟨S8x32768, .i32⟩

abbrev hbmTy0_54 (i : Nat) : BufTy := match i % 128 with
  | 0 => ⟨S8, .i32⟩
  | 1 => ⟨S8, .i32⟩
  | 2 => ⟨S_, .i32⟩
  | 3 => ⟨S8, .i32⟩
  | 4 => ⟨S8, .i32⟩
  | 5 => ⟨S8, .i32⟩
  | 6 => ⟨S8, .i32⟩
  | 7 => ⟨S8, .i32⟩
  | 8 => ⟨S8, .i32⟩
  | 9 => ⟨S8, .i32⟩
  | 10 => ⟨S8, .i32⟩
  | 11 => ⟨S_, .i32⟩
  | 12 => ⟨S8, .i32⟩
  | 13 => ⟨S8, .i32⟩
  | 14 => ⟨S8, .i32⟩
  | 15 => ⟨S_, .i32⟩
  | 16 => ⟨S8, .i32⟩
  | 17 => ⟨S8, .i32⟩
  | 18 => ⟨S_, .i32⟩
  | 19 => ⟨S8, .i32⟩
  | 20 => ⟨S8, .i32⟩
  | 21 => ⟨S8, .i32⟩
  | 22 => ⟨S8, .i32⟩
  | 23 => ⟨S8, .i32⟩
  | 24 => ⟨S_, .i32⟩
  | 25 => ⟨S8, .i32⟩
  | 26 => ⟨S8, .i32⟩
  | 27 => ⟨S_, .i32⟩
  | 28 => ⟨S8, .i32⟩
  | 29 => ⟨S8, .i32⟩
  | 30 => ⟨S8, .i32⟩
  | 31 => ⟨S8, .i32⟩
  | 32 => ⟨S8, .i32⟩
  | 33 => ⟨S_, .i32⟩
  | 34 => ⟨S8, .i32⟩
  | 35 => ⟨S8, .i32⟩
  | 36 => ⟨S_, .i32⟩
  | 37 => ⟨S8, .i32⟩
  | 38 => ⟨S8, .i32⟩
  | 39 => ⟨S8, .i32⟩
  | 40 => ⟨S8, .i32⟩
  | 41 => ⟨S8, .i32⟩
  | 42 => ⟨S_, .i32⟩
  | 43 => ⟨S8, .i32⟩
  | 44 => ⟨S8, .i32⟩
  | 45 => ⟨S_, .i32⟩
  | 46 => ⟨S8, .i32⟩
  | 47 => ⟨S8, .i32⟩
  | 48 => ⟨S8, .i32⟩
  | 49 => ⟨S8, .i32⟩
  | 50 => ⟨S8, .i32⟩
  | 51 => ⟨S8, .i32⟩
  | 52 => ⟨S8, .i32⟩
  | 53 => ⟨S8, .i32⟩
  | 54 => ⟨S_, .i32⟩
  | 55 => ⟨S8, .i32⟩
  | 56 => ⟨S8, .i32⟩
  | 57 => ⟨S8, .i32⟩
  | 58 => ⟨S_, .i32⟩
  | 59 => ⟨S8, .i32⟩
  | 60 => ⟨S8, .i32⟩
  | 61 => ⟨S_, .i32⟩
  | 62 => ⟨S8, .i32⟩
  | 63 => ⟨S8, .i32⟩
  | 64 => ⟨S8, .f32⟩
  | 65 => ⟨S_, .f32⟩
  | 66 => ⟨S8, .f32⟩
  | 67 => ⟨S8, .f32⟩
  | 68 => ⟨S1, .f32⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S1, .i32⟩
  | 76 => ⟨S_, .i32⟩
  | 77 => ⟨S1, .i32⟩
  | 78 => ⟨S_, .i32⟩
  | 79 => ⟨S3, .i64⟩
  | 80 => ⟨S_, .i64⟩
  | 81 => ⟨S3, .i64⟩
  | 82 => ⟨S3, .i64⟩
  | 83 => ⟨S_, .i64⟩
  | 84 => ⟨S3, .i64⟩
  | 85 => ⟨S3, .i64⟩
  | 86 => ⟨S3, .i32⟩
  | 87 => ⟨S3, .i32⟩
  | 88 => ⟨S_, .i32⟩
  | 89 => ⟨S_, .i32⟩
  | 90 => ⟨S_, .i32⟩
  | 91 => ⟨S3, .i32⟩
  | 92 => ⟨S3, .i32⟩
  | 93 => ⟨S3, .i32⟩
  | 94 => ⟨S3, .i32⟩
  | 95 => ⟨S3, .i32⟩
  | 96 => ⟨S_, .i32⟩
  | 97 => ⟨S3, .i32⟩
  | 98 => ⟨S3, .i32⟩
  | 99 => ⟨S_, .i32⟩
  | 100 => ⟨S3, .i32⟩
  | 101 => ⟨S3, .i32⟩
  | 102 => ⟨S3, .i32⟩
  | 103 => ⟨S3, .i32⟩
  | 104 => ⟨S3, .i32⟩
  | 105 => ⟨S_, .i32⟩
  | 106 => ⟨S3, .i32⟩
  | 107 => ⟨S3, .i32⟩
  | 108 => ⟨S_, .i32⟩
  | 109 => ⟨S3, .i32⟩
  | 110 => ⟨S3, .i32⟩
  | 111 => ⟨S3, .i32⟩
  | 112 => ⟨S3, .i32⟩
  | 113 => ⟨S3, .i32⟩
  | 114 => ⟨S_, .i32⟩
  | 115 => ⟨S3, .i32⟩
  | 116 => ⟨S3, .i32⟩
  | 117 => ⟨S_, .i32⟩
  | 118 => ⟨S3, .i32⟩
  | 119 => ⟨S3, .i32⟩
  | 120 => ⟨S3, .i32⟩
  | 121 => ⟨S3, .i32⟩
  | 122 => ⟨S3, .i32⟩
  | 123 => ⟨S_, .i32⟩
  | 124 => ⟨S3, .i32⟩
  | 125 => ⟨S3, .i32⟩
  | 126 => ⟨S_, .i32⟩
  | 127 => ⟨S3, .i32⟩
  | _ => ⟨S8x32768, .i32⟩

abbrev hbmTy0_55 (i : Nat) : BufTy := match i % 128 with
  | 0 => ⟨S3, .i32⟩
  | 1 => ⟨S3, .i32⟩
  | 2 => ⟨S3, .i32⟩
  | 3 => ⟨S3, .i32⟩
  | 4 => ⟨S3, .i32⟩
  | 5 => ⟨S3, .i32⟩
  | 6 => ⟨S3, .i32⟩
  | 7 => ⟨S_, .i32⟩
  | 8 => ⟨S3, .i32⟩
  | 9 => ⟨S3, .i32⟩
  | 10 => ⟨S3, .i32⟩
  | 11 => ⟨S_, .i32⟩
  | 12 => ⟨S3, .i32⟩
  | 13 => ⟨S3, .i32⟩
  | 14 => ⟨S_, .i32⟩
  | 15 => ⟨S3, .i32⟩
  | 16 => ⟨S3, .i32⟩
  | 17 => ⟨S3, .i32⟩
  | 18 => ⟨S3, .i32⟩
  | 19 => ⟨S3, .i32⟩
  | 20 => ⟨S_, .i32⟩
  | 21 => ⟨S3, .i32⟩
  | 22 => ⟨S3, .i32⟩
  | 23 => ⟨S_, .i32⟩
  | 24 => ⟨S3, .i32⟩
  | 25 => ⟨S3, .i32⟩
  | 26 => ⟨S3, .i32⟩
  | 27 => ⟨S3, .i32⟩
  | 28 => ⟨S3, .i32⟩
  | 29 => ⟨S_, .i32⟩
  | 30 => ⟨S3, .i32⟩
  | 31 => ⟨S3, .i32⟩
  | 32 => ⟨S_, .i32⟩
  | 33 => ⟨S3, .i32⟩
  | 34 => ⟨S3, .i32⟩
  | 35 => ⟨S3, .i32⟩
  | 36 => ⟨S3, .i32⟩
  | 37 => ⟨S3, .i32⟩
  | 38 => ⟨S_, .i32⟩
  | 39 => ⟨S3, .i32⟩
  | 40 => ⟨S3, .i32⟩
  | 41 => ⟨S_, .i32⟩
  | 42 => ⟨S3, .i32⟩
  | 43 => ⟨S3, .i32⟩
  | 44 => ⟨S3, .i32⟩
  | 45 => ⟨S3, .i32⟩
  | 46 => ⟨S3, .i32⟩
  | 47 => ⟨S3, .i32⟩
  | 48 => ⟨S3, .i32⟩
  | 49 => ⟨S3, .i32⟩
  | 50 => ⟨S_, .i32⟩
  | 51 => ⟨S3, .i32⟩
  | 52 => ⟨S3, .i32⟩
  | 53 => ⟨S3, .i32⟩
  | 54 => ⟨S_, .i32⟩
  | 55 => ⟨S3, .i32⟩
  | 56 => ⟨S3, .i32⟩
  | 57 => ⟨S_, .i32⟩
  | 58 => ⟨S3, .i32⟩
  | 59 => ⟨S3, .i32⟩
  | 60 => ⟨S3, .i32⟩
  | 61 => ⟨S3, .i32⟩
  | 62 => ⟨S3, .i32⟩
  | 63 => ⟨S_, .i32⟩
  | 64 => ⟨S3, .i32⟩
  | 65 => ⟨S3, .i32⟩
  | 66 => ⟨S_, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S_, .i32⟩
  | 76 => ⟨S3, .i32⟩
  | 77 => ⟨S3, .i32⟩
  | 78 => ⟨S3, .i32⟩
  | 79 => ⟨S3, .i32⟩
  | 80 => ⟨S3, .i32⟩
  | 81 => ⟨S_, .i32⟩
  | 82 => ⟨S3, .i32⟩
  | 83 => ⟨S3, .i32⟩
  | 84 => ⟨S_, .i32⟩
  | 85 => ⟨S3, .i32⟩
  | 86 => ⟨S3, .i32⟩
  | 87 => ⟨S3, .i32⟩
  | 88 => ⟨S3, .i32⟩
  | 89 => ⟨S3, .i32⟩
  | 90 => ⟨S3, .i32⟩
  | 91 => ⟨S3, .i32⟩
  | 92 => ⟨S3, .i32⟩
  | 93 => ⟨S_, .i32⟩
  | 94 => ⟨S3, .i32⟩
  | 95 => ⟨S3, .i32⟩
  | 96 => ⟨S3, .i32⟩
  | 97 => ⟨S_, .i32⟩
  | 98 => ⟨S3, .i32⟩
  | 99 => ⟨S3, .i32⟩
  | 100 => ⟨S_, .i32⟩
  | 101 => ⟨S3, .i32⟩
  | 102 => ⟨S3, .i32⟩
  | 103 => ⟨S3, .i32⟩
  | 104 => ⟨S3, .i32⟩
  | 105 => ⟨S3, .i32⟩
  | 106 => ⟨S_, .i32⟩
  | 107 => ⟨S3, .i32⟩
  | 108 => ⟨S3, .i32⟩
  | 109 => ⟨S_, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S_, .i32⟩
  | 119 => ⟨S3, .i32⟩
  | 120 => ⟨S3, .i32⟩
  | 121 => ⟨S3, .i32⟩
  | 122 => ⟨S3, .i32⟩
  | 123 => ⟨S3, .i32⟩
  | 124 => ⟨S_, .i32⟩
  | 125 => ⟨S3, .i32⟩
  | 126 => ⟨S3, .i32⟩
  | 127 => ⟨S_, .i32⟩
  | _ => ⟨S8x32768, .i32⟩

abbrev hbmTy0_56 (i : Nat) : BufTy := match i % 128 with
  | 0 => ⟨S3, .i32⟩
  | 1 => ⟨S3, .i32⟩
  | 2 => ⟨S3, .i32⟩
  | 3 => ⟨S3, .i32⟩
  | 4 => ⟨S3, .i32⟩
  | 5 => ⟨S3, .i32⟩
  | 6 => ⟨S3, .i32⟩
  | 7 => ⟨S3, .i32⟩
  | 8 => ⟨S_, .i32⟩
  | 9 => ⟨S3, .i32⟩
  | 10 => ⟨S3, .i32⟩
  | 11 => ⟨S3, .i32⟩
  | 12 => ⟨S_, .i32⟩
  | 13 => ⟨S3, .i32⟩
  | 14 => ⟨S3, .i32⟩
  | 15 => ⟨S_, .i32⟩
  | 16 => ⟨S3, .i32⟩
  | 17 => ⟨S3, .i32⟩
  | 18 => ⟨S3, .i32⟩
  | 19 => ⟨S3, .i32⟩
  | 20 => ⟨S3, .i32⟩
  | 21 => ⟨S_, .i32⟩
  | 22 => ⟨S3, .i32⟩
  | 23 => ⟨S3, .i32⟩
  | 24 => ⟨S_, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S_, .i32⟩
  | 34 => ⟨S3, .i32⟩
  | 35 => ⟨S3, .i32⟩
  | 36 => ⟨S3, .i32⟩
  | 37 => ⟨S3, .i32⟩
  | 38 => ⟨S3, .i32⟩
  | 39 => ⟨S_, .i32⟩
  | 40 => ⟨S3, .i32⟩
  | 41 => ⟨S3, .i32⟩
  | 42 => ⟨S_, .i32⟩
  | 43 => ⟨S3, .i32⟩
  | 44 => ⟨S3, .i32⟩
  | 45 => ⟨S3, .i32⟩
  | 46 => ⟨S3, .i32⟩
  | 47 => ⟨S3, .i32⟩
  | 48 => ⟨S3, .i32⟩
  | 49 => ⟨S3, .i32⟩
  | 50 => ⟨S3, .i32⟩
  | 51 => ⟨S_, .i32⟩
  | 52 => ⟨S3, .i32⟩
  | 53 => ⟨S3, .i32⟩
  | 54 => ⟨S3x1, .i32⟩
  | 55 => ⟨S3x1, .i32⟩
  | 56 => ⟨S3x2, .i32⟩
  | 57 => ⟨S1x2, .i32⟩
  | 58 => ⟨S2, .i32⟩
  | 59 => ⟨S1x2, .i32⟩
  | 60 => ⟨S2, .i32⟩
  | 61 => ⟨S1x2, .i32⟩
  | 62 => ⟨S2, .i32⟩
  | 63 => ⟨S_, .f32⟩
  | 64 => ⟨S_, .f32⟩
  | 65 => ⟨S_, .f32⟩
  | 66 => ⟨S1x1x1, .f32⟩
  | 67 => ⟨S1x1x1, .f32⟩
  | 68 => ⟨S1, .i32⟩
  | 69 => ⟨S_, .i32⟩
  | 70 => ⟨S1, .i32⟩
  | 71 => ⟨S_, .i32⟩
  | 72 => ⟨S8x32768x4, .i64⟩
  | 73 => ⟨S8x32768x4, .i64⟩
  | 74 => ⟨S8x32768x4, .i64⟩
  | 75 => ⟨S_, .i64⟩
  | 76 => ⟨S8x32768x4, .i64⟩
  | 77 => ⟨S8x32768x4, .i64⟩
  | 78 => ⟨S_, .i64⟩
  | 79 => ⟨S8x32768x4, .i64⟩
  | 80 => ⟨S8x32768x4, .i64⟩
  | 81 => ⟨S_, .i64⟩
  | 82 => ⟨S8x32768x4, .i64⟩
  | 83 => ⟨S8x32768x4, .i64⟩
  | 84 => ⟨S8x32768x4, .i64⟩
  | 85 => ⟨S8x32768x4, .i64⟩
  | 86 => ⟨S_, .i64⟩
  | 87 => ⟨S8x32768x4, .i64⟩
  | 88 => ⟨S8x32768x4, .i64⟩
  | 89 => ⟨S8x32768x4, .i32⟩
  | 90 => ⟨S8x32768x4, .i32⟩
  | 91 => ⟨S_, .i32⟩
  | 92 => ⟨S_, .i32⟩
  | 93 => ⟨S_, .i32⟩
  | 94 => ⟨S8x32768x4, .i32⟩
  | 95 => ⟨S8x32768x4, .i32⟩
  | 96 => ⟨S8x32768x4, .i32⟩
  | 97 => ⟨S8x32768x4, .i32⟩
  | 98 => ⟨S8x32768x4, .i32⟩
  | 99 => ⟨S_, .i32⟩
  | 100 => ⟨S8x32768x4, .i32⟩
  | 101 => ⟨S8x32768x4, .i32⟩
  | 102 => ⟨S_, .i32⟩
  | 103 => ⟨S8x32768x4, .i32⟩
  | 104 => ⟨S8x32768x4, .i32⟩
  | 105 => ⟨S8x32768x4, .i32⟩
  | 106 => ⟨S8x32768x4, .i32⟩
  | 107 => ⟨S8x32768x4, .i32⟩
  | 108 => ⟨S_, .i32⟩
  | 109 => ⟨S8x32768x4, .i32⟩
  | 110 => ⟨S8x32768x4, .i32⟩
  | 111 => ⟨S_, .i32⟩
  | 112 => ⟨S8x32768x4, .i32⟩
  | 113 => ⟨S8x32768x4, .i32⟩
  | 114 => ⟨S8x32768x4, .i32⟩
  | 115 => ⟨S8x32768x4, .i32⟩
  | 116 => ⟨S8x32768x4, .i32⟩
  | 117 => ⟨S_, .i32⟩
  | 118 => ⟨S8x32768x4, .i32⟩
  | 119 => ⟨S8x32768x4, .i32⟩
  | 120 => ⟨S_, .i32⟩
  | 121 => ⟨S8x32768x4, .i32⟩
  | 122 => ⟨S8x32768x4, .i32⟩
  | 123 => ⟨S8x32768x4, .i32⟩
  | 124 => ⟨S8x32768x4, .i32⟩
  | 125 => ⟨S8x32768x4, .i32⟩
  | 126 => ⟨S_, .i32⟩
  | 127 => ⟨S8x32768x4, .i32⟩
  | _ => ⟨S8x32768, .i32⟩

abbrev hbmTy0_57 (i : Nat) : BufTy := match i % 128 with
  | 0 => ⟨S8x32768x4, .i32⟩
  | 1 => ⟨S_, .i32⟩
  | 2 => ⟨S8x32768x4, .i32⟩
  | 3 => ⟨S8x32768x4, .i32⟩
  | 4 => ⟨S8x32768x4, .i32⟩
  | 5 => ⟨S8x32768x4, .i32⟩
  | 6 => ⟨S8x32768x4, .i32⟩
  | 7 => ⟨S8x32768x4, .i32⟩
  | 8 => ⟨S8x32768x4, .i32⟩
  | 9 => ⟨S8x32768x4, .i32⟩
  | 10 => ⟨S_, .i32⟩
  | 11 => ⟨S8x32768x4, .i32⟩
  | 12 => ⟨S8x32768x4, .i32⟩
  | 13 => ⟨S8x32768x4, .i32⟩
  | 14 => ⟨S_, .i32⟩
  | 15 => ⟨S8x32768x4, .i32⟩
  | 16 => ⟨S8x32768x4, .i32⟩
  | 17 => ⟨S_, .i32⟩
  | 18 => ⟨S8x32768x4, .i32⟩
  | 19 => ⟨S8x32768x4, .i32⟩
  | 20 => ⟨S8x32768x4, .i32⟩
  | 21 => ⟨S8x32768x4, .i32⟩
  | 22 => ⟨S8x32768x4, .i32⟩
  | 23 => ⟨S_, .i32⟩
  | 24 => ⟨S8x32768x4, .i32⟩
  | 25 => ⟨S8x32768x4, .i32⟩
  | 26 => ⟨S_, .i32⟩
  | 27 => ⟨S8x32768x4, .i32⟩
  | 28 => ⟨S8x32768x4, .i32⟩
  | 29 => ⟨S8x32768x4, .i32⟩
  | 30 => ⟨S8x32768x4, .i32⟩
  | 31 => ⟨S8x32768x4, .i32⟩
  | 32 => ⟨S_, .i32⟩
  | 33 => ⟨S8x32768x4, .i32⟩
  | 34 => ⟨S8x32768x4, .i32⟩
  | 35 => ⟨S_, .i32⟩
  | 36 => ⟨S8x32768x4, .i32⟩
  | 37 => ⟨S8x32768x4, .i32⟩
  | 38 => ⟨S8x32768x4, .i32⟩
  | 39 => ⟨S8x32768x4, .i32⟩
  | 40 => ⟨S8x32768x4, .i32⟩
  | 41 => ⟨S_, .i32⟩
  | 42 => ⟨S8x32768x4, .i32⟩
  | 43 => ⟨S8x32768x4, .i32⟩
  | 44 => ⟨S_, .i32⟩
  | 45 => ⟨S8x32768x4, .i32⟩
  | 46 => ⟨S8x32768x4, .i32⟩
  | 47 => ⟨S8x32768x4, .i32⟩
  | 48 => ⟨S8x32768x4, .i32⟩
  | 49 => ⟨S8x32768x4, .i32⟩
  | 50 => ⟨S8x32768x4, .i32⟩
  | 51 => ⟨S8x32768x4, .i32⟩
  | 52 => ⟨S8x32768x4, .i32⟩
  | 53 => ⟨S_, .i32⟩
  | 54 => ⟨S8x32768x4, .i32⟩
  | 55 => ⟨S8x32768x4, .i32⟩
  | 56 => ⟨S8x32768x4, .i32⟩
  | 57 => ⟨S_, .i32⟩
  | 58 => ⟨S8x32768x4, .i32⟩
  | 59 => ⟨S8x32768x4, .i32⟩
  | 60 => ⟨S_, .i32⟩
  | 61 => ⟨S8x32768x4, .i32⟩
  | 62 => ⟨S8x32768x4, .i32⟩
  | 63 => ⟨S8x32768x4, .i32⟩
  | 64 => ⟨S8x32768x4, .i32⟩
  | 65 => ⟨S8x32768x4, .i32⟩
  | 66 => ⟨S_, .i32⟩
  | 67 => ⟨S8x32768x4, .i32⟩
  | 68 => ⟨S8x32768x4, .i32⟩
  | 69 => ⟨S_, .i32⟩
  | 70 => ⟨S8x32768x4, .i32⟩
  | 71 => ⟨S8x32768x4, .i32⟩
  | 72 => ⟨S8x32768x4, .i32⟩
  | 73 => ⟨S8x32768x4, .i32⟩
  | 74 => ⟨S8x32768x4, .i32⟩
  | 75 => ⟨S_, .i32⟩
  | 76 => ⟨S8x32768x4, .i32⟩
  | 77 => ⟨S8x32768x4, .i32⟩
  | 78 => ⟨S_, .i32⟩
  | 79 => ⟨S8x32768x4, .i32⟩
  | 80 => ⟨S8x32768x4, .i32⟩
  | 81 => ⟨S8x32768x4, .i32⟩
  | 82 => ⟨S8x32768x4, .i32⟩
  | 83 => ⟨S8x32768x4, .i32⟩
  | 84 => ⟨S_, .i32⟩
  | 85 => ⟨S8x32768x4, .i32⟩
  | 86 => ⟨S8x32768x4, .i32⟩
  | 87 => ⟨S_, .i32⟩
  | 88 => ⟨S8x32768x4, .i32⟩
  | 89 => ⟨S8x32768x4, .i32⟩
  | 90 => ⟨S8x32768x4, .i32⟩
  | 91 => ⟨S8x32768x4, .i32⟩
  | 92 => ⟨S8x32768x4, .i32⟩
  | 93 => ⟨S8x32768x4, .i32⟩
  | 94 => ⟨S8x32768x4, .i32⟩
  | 95 => ⟨S8x32768x4, .i32⟩
  | 96 => ⟨S_, .i32⟩
  | 97 => ⟨S8x32768x4, .i32⟩
  | 98 => ⟨S8x32768x4, .i32⟩
  | 99 => ⟨S8x32768x4, .i32⟩
  | 100 => ⟨S_, .i32⟩
  | 101 => ⟨S8x32768x4, .i32⟩
  | 102 => ⟨S8x32768x4, .i32⟩
  | 103 => ⟨S_, .i32⟩
  | 104 => ⟨S8x32768x4, .i32⟩
  | 105 => ⟨S8x32768x4, .i32⟩
  | 106 => ⟨S8x32768x4, .i32⟩
  | 107 => ⟨S8x32768x4, .i32⟩
  | 108 => ⟨S8x32768x4, .i32⟩
  | 109 => ⟨S_, .i32⟩
  | 110 => ⟨S8x32768x4, .i32⟩
  | 111 => ⟨S8x32768x4, .i32⟩
  | 112 => ⟨S_, .i32⟩
  | 113 => ⟨S8x32768x4, .i32⟩
  | 114 => ⟨S8x32768x4, .i32⟩
  | 115 => ⟨S8x32768x4, .i32⟩
  | 116 => ⟨S8x32768x4, .i32⟩
  | 117 => ⟨S8x32768x4, .i32⟩
  | 118 => ⟨S_, .i32⟩
  | 119 => ⟨S8x32768x4, .i32⟩
  | 120 => ⟨S8x32768x4, .i32⟩
  | 121 => ⟨S_, .i32⟩
  | 122 => ⟨S8x32768x4, .i32⟩
  | 123 => ⟨S8x32768x4, .i32⟩
  | 124 => ⟨S8x32768x4, .i32⟩
  | 125 => ⟨S8x32768x4, .i32⟩
  | 126 => ⟨S8x32768x4, .i32⟩
  | 127 => ⟨S_, .i32⟩
  | _ => ⟨S8x32768, .i32⟩

abbrev hbmTy0_58 (i : Nat) : BufTy := match i % 128 with
  | 0 => ⟨S8x32768x4, .i32⟩
  | 1 => ⟨S8x32768x4, .i32⟩
  | 2 => ⟨S_, .i32⟩
  | 3 => ⟨S8x32768x4, .i32⟩
  | 4 => ⟨S8x32768x4, .i32⟩
  | 5 => ⟨S8x32768x4, .i32⟩
  | 6 => ⟨S8x32768x4, .i32⟩
  | 7 => ⟨S8x32768x4, .i32⟩
  | 8 => ⟨S8x32768x4, .i32⟩
  | 9 => ⟨S8x32768x4, .i32⟩
  | 10 => ⟨S8x32768x4, .i32⟩
  | 11 => ⟨S_, .i32⟩
  | 12 => ⟨S8x32768x4, .i32⟩
  | 13 => ⟨S8x32768x4, .i32⟩
  | 14 => ⟨S8x32768x4, .i32⟩
  | 15 => ⟨S_, .i32⟩
  | 16 => ⟨S8x32768x4, .i32⟩
  | 17 => ⟨S8x32768x4, .i32⟩
  | 18 => ⟨S_, .i32⟩
  | 19 => ⟨S8x32768x4, .i32⟩
  | 20 => ⟨S8x32768x4, .i32⟩
  | 21 => ⟨S8x32768x4, .i32⟩
  | 22 => ⟨S8x32768x4, .i32⟩
  | 23 => ⟨S8x32768x4, .i32⟩
  | 24 => ⟨S_, .i32⟩
  | 25 => ⟨S8x32768x4, .i32⟩
  | 26 => ⟨S8x32768x4, .i32⟩
  | 27 => ⟨S_, .i32⟩
  | 28 => ⟨S8x32768x4, .i32⟩
  | 29 => ⟨S8x32768x4, .i32⟩
  | 30 => ⟨S8x32768x4, .i32⟩
  | 31 => ⟨S8x32768x4, .i32⟩
  | 32 => ⟨S8x32768x4, .i32⟩
  | 33 => ⟨S_, .i32⟩
  | 34 => ⟨S8x32768x4, .i32⟩
  | 35 => ⟨S8x32768x4, .i32⟩
  | 36 => ⟨S_, .i32⟩
  | 37 => ⟨S8x32768x4, .i32⟩
  | 38 => ⟨S8x32768x4, .i32⟩
  | 39 => ⟨S8x32768x4, .i32⟩
  | 40 => ⟨S8x32768x4, .i32⟩
  | 41 => ⟨S8x32768x4, .i32⟩
  | 42 => ⟨S_, .i32⟩
  | 43 => ⟨S8x32768x4, .i32⟩
  | 44 => ⟨S8x32768x4, .i32⟩
  | 45 => ⟨S_, .i32⟩
  | 46 => ⟨S8x32768x4, .i32⟩
  | 47 => ⟨S8x32768x4, .i32⟩
  | 48 => ⟨S8x32768x4, .i32⟩
  | 49 => ⟨S8x32768x4, .i32⟩
  | 50 => ⟨S8x32768x4, .i32⟩
  | 51 => ⟨S8x32768x4, .i32⟩
  | 52 => ⟨S8x32768x4, .i32⟩
  | 53 => ⟨S8x32768x4, .i32⟩
  | 54 => ⟨S_, .i32⟩
  | 55 => ⟨S8x32768x4, .i32⟩
  | 56 => ⟨S8x32768x4, .i32⟩
  | 57 => ⟨S8x32768x4, .i32⟩
  | 58 => ⟨S_, .i32⟩
  | 59 => ⟨S8x32768x4, .i32⟩
  | 60 => ⟨S8x32768x4, .i32⟩
  | 61 => ⟨S_, .i32⟩
  | 62 => ⟨S8x32768x4, .i32⟩
  | 63 => ⟨S8x32768x4, .i32⟩
  | 64 => ⟨S8x32768x4, .f32⟩
  | 65 => ⟨S_, .f32⟩
  | 66 => ⟨S8x32768x4, .f32⟩
  | 67 => ⟨S8x32768x4, .f32⟩
  | 68 => ⟨S1x1x1, .f32⟩
  | 69 => ⟨S8x32768x4, .f32⟩
  | 70 => ⟨S8x32768x4, .f32⟩
  | 71 => ⟨S8x32768x4, .f32⟩
  | 72 => ⟨S8x32768x4, .f32⟩
  | 73 => ⟨S8x32768x4, .f32⟩
  | 74 => ⟨S8x32768x4, .f32⟩
  | 75 => ⟨S8x32768x4, .f32⟩
  | 76 => ⟨S8x32768x4, .f32⟩
  | 77 => ⟨S8x32768x4, .f32⟩
  | 78 => ⟨S8x32768x4, .f32⟩
  | 79 => ⟨S_, .f32⟩
  | 80 => ⟨S_, .f32⟩
  | 81 => ⟨S_, .f32⟩
  | 82 => ⟨S_, .f32⟩
  | 83 => ⟨S1, .f32⟩
  | 84 => ⟨S1, .f32⟩
  | 85 => ⟨S1, .i32⟩
  | 86 => ⟨S_, .i32⟩
  | 87 => ⟨S1, .i32⟩
  | 88 => ⟨S_, .i32⟩
  | 89 => ⟨S8, .i64⟩
  | 90 => ⟨S_, .i64⟩
  | 91 => ⟨S8, .i64⟩
  | 92 => ⟨S8, .i64⟩
  | 93 => ⟨S_, .i64⟩
  | 94 => ⟨S8, .i64⟩
  | 95 => ⟨S8, .i64⟩
  | 96 => ⟨S8, .i32⟩
  | 97 => ⟨S8, .i32⟩
  | 98 => ⟨S_, .i32⟩
  | 99 => ⟨S_, .i32⟩
  | 100 => ⟨S_, .i32⟩
  | 101 => ⟨S8, .i32⟩
  | 102 => ⟨S8, .i32⟩
  | 103 => ⟨S8, .i32⟩
  | 104 => ⟨S8, .i32⟩
  | 105 => ⟨S8, .i32⟩
  | 106 => ⟨S_, .i32⟩
  | 107 => ⟨S8, .i32⟩
  | 108 => ⟨S8, .i32⟩
  | 109 => ⟨S_, .i32⟩
  | 110 => ⟨S8, .i32⟩
  | 111 => ⟨S8, .i32⟩
  | 112 => ⟨S8, .i32⟩
  | 113 => ⟨S8, .i32⟩
  | 114 => ⟨S8, .i32⟩
  | 115 => ⟨S_, .i32⟩
  | 116 => ⟨S8, .i32⟩
  | 117 => ⟨S8, .i32⟩
  | 118 => ⟨S_, .i32⟩
  | 119 => ⟨S8, .i32⟩
  | 120 => ⟨S8, .i32⟩
  | 121 => ⟨S8, .i32⟩
  | 122 => ⟨S8, .i32⟩
  | 123 => ⟨S8, .i32⟩
  | 124 => ⟨S_, .i32⟩
  | 125 => ⟨S8, .i32⟩
  | 126 => ⟨S8, .i32⟩
  | 127 => ⟨S_, .i32⟩
  | _ => ⟨S8x32768, .i32⟩

abbrev hbmTy0_59 (i : Nat) : BufTy := match i % 128 with
  | 0 => ⟨S8, .i32⟩
  | 1 => ⟨S8, .i32⟩
  | 2 => ⟨S8, .i32⟩
  | 3 => ⟨S8, .i32⟩
  | 4 => ⟨S8, .i32⟩
  | 5 => ⟨S_, .i32⟩
  | 6 => ⟨S8, .i32⟩
  | 7 => ⟨S8, .i32⟩
  | 8 => ⟨S_, .i32⟩
  | 9 => ⟨S8, .i32⟩
  | 10 => ⟨S8, .i32⟩
  | 11 => ⟨S8, .i32⟩
  | 12 => ⟨S8, .i32⟩
  | 13 => ⟨S8, .i32⟩
  | 14 => ⟨S8, .i32⟩
  | 15 => ⟨S8, .i32⟩
  | 16 => ⟨S8, .i32⟩
  | 17 => ⟨S_, .i32⟩
  | 18 => ⟨S8, .i32⟩
  | 19 => ⟨S8, .i32⟩
  | 20 => ⟨S8, .i32⟩
  | 21 => ⟨S_, .i32⟩
  | 22 => ⟨S8, .i32⟩
  | 23 => ⟨S8, .i32⟩
  | 24 => ⟨S_, .i32⟩
  | 25 => ⟨S8, .i32⟩
  | 26 => ⟨S8, .i32⟩
  | 27 => ⟨S8, .i32⟩
  | 28 => ⟨S8, .i32⟩
  | 29 => ⟨S8, .i32⟩
  | 30 => ⟨S_, .i32⟩
  | 31 => ⟨S8, .i32⟩
  | 32 => ⟨S8, .i32⟩
  | 33 => ⟨S_, .i32⟩
  | 34 => ⟨S8, .i32⟩
  | 35 => ⟨S8, .i32⟩
  | 36 => ⟨S8, .i32⟩
  | 37 => ⟨S8, .i32⟩
  | 38 => ⟨S8, .i32⟩
  | 39 => ⟨S_, .i32⟩
  | 40 => ⟨S8, .i32⟩
  | 41 => ⟨S8, .i32⟩
  | 42 => ⟨S_, .i32⟩
  | 43 => ⟨S8, .i32⟩
  | 44 => ⟨S8, .i32⟩
  | 45 => ⟨S8, .i32⟩
  | 46 => ⟨S8, .i32⟩
  | 47 => ⟨S8, .i32⟩
  | 48 => ⟨S_, .i32⟩
  | 49 => ⟨S8, .i32⟩
  | 50 => ⟨S8, .i32⟩
  | 51 => ⟨S_, .i32⟩
  | 52 => ⟨S8, .i32⟩
  | 53 => ⟨S8, .i32⟩
  | 54 => ⟨S8, .i32⟩
  | 55 => ⟨S8, .i32⟩
  | 56 => ⟨S8, .i32⟩
  | 57 => ⟨S8, .i32⟩
  | 58 => ⟨S8, .i32⟩
  | 59 => ⟨S8, .i32⟩
  | 60 => ⟨S_, .i32⟩
  | 61 => ⟨S8, .i32⟩
  | 62 => ⟨S8, .i32⟩
  | 63 => ⟨S8, .i32⟩
  | 64 => ⟨S_, .i32⟩
  | 65 => ⟨S8, .i32⟩
  | 66 => ⟨S8, .i32⟩
  | 67 => ⟨S_, .i32⟩
  | 68 => ⟨S8, .i32⟩
  | 69 => ⟨S8, .i32⟩
  | 70 => ⟨S8, .i32⟩
  | 71 => ⟨S8, .i32⟩
  | 72 => ⟨S8, .i32⟩
  | 73 => ⟨S_, .i32⟩
  | 74 => ⟨S8, .i32⟩
  | 75 => ⟨S8, .i32⟩
  | 76 => ⟨S_, .i32⟩
  | 77 => ⟨S8, .i32⟩
  | 78 => ⟨S8, .i32⟩
  | 79 => ⟨S8, .i32⟩
  | 80 => ⟨S8, .i32⟩
  | 81 => ⟨S8, .i32⟩
  | 82 => ⟨S_, .i32⟩
  | 83 => ⟨S8, .i32⟩
  | 84 => ⟨S8, .i32⟩
  | 85 => ⟨S_, .i32⟩
  | 86 => ⟨S8, .i32⟩
  | 87 => ⟨S8, .i32⟩
  | 88 => ⟨S8, .i32⟩
  | 89 => ⟨S8, .i32⟩
  | 90 => ⟨S8, .i32⟩
  | 91 => ⟨S_, .i32⟩
  | 92 => ⟨S8, .i32⟩
  | 93 => ⟨S8, .i32⟩
  | 94 => ⟨S_, .i32⟩
  | 95 => ⟨S8, .i32⟩
  | 96 => ⟨S8, .i32⟩
  | 97 => ⟨S8, .i32⟩
  | 98 => ⟨S8, .i32⟩
  | 99 => ⟨S8, .i32⟩
  | 100 => ⟨S8, .i32⟩
  | 101 => ⟨S8, .i32⟩
  | 102 => ⟨S8, .i32⟩
  | 103 => ⟨S_, .i32⟩
  | 104 => ⟨S8, .i32⟩
  | 105 => ⟨S8, .i32⟩
  | 106 => ⟨S8, .i32⟩
  | 107 => ⟨S_, .i32⟩
  | 108 => ⟨S8, .i32⟩
  | 109 => ⟨S8, .i32⟩
  | 110 => ⟨S_, .i32⟩
  | 111 => ⟨S8, .i32⟩
  | 112 => ⟨S8, .i32⟩
  | 113 => ⟨S8, .i32⟩
  | 114 => ⟨S8, .i32⟩
  | 115 => ⟨S8, .i32⟩
  | 116 => ⟨S_, .i32⟩
  | 117 => ⟨S8, .i32⟩
  | 118 => ⟨S8, .i32⟩
  | 119 => ⟨S_, .i32⟩
  | 120 => ⟨S8, .i32⟩
  | 121 => ⟨S8, .i32⟩
  | 122 => ⟨S8, .i32⟩
  | 123 => ⟨S8, .i32⟩
  | 124 => ⟨S8, .i32⟩
  | 125 => ⟨S_, .i32⟩
  | 126 => ⟨S8, .i32⟩
  | 127 => ⟨S8, .i32⟩
  | _ => ⟨S8x32768, .i32⟩

abbrev hbmTy0_60 (i : Nat) : BufTy := match i % 128 with
  | 0 => ⟨S_, .i32⟩
  | 1 => ⟨S8, .i32⟩
  | 2 => ⟨S8, .i32⟩
  | 3 => ⟨S8, .i32⟩
  | 4 => ⟨S8, .i32⟩
  | 5 => ⟨S8, .i32⟩
  | 6 => ⟨S_, .i32⟩
  | 7 => ⟨S8, .i32⟩
  | 8 => ⟨S8, .i32⟩
  | 9 => ⟨S_, .i32⟩
  | 10 => ⟨S8, .i32⟩
  | 11 => ⟨S8, .i32⟩
  | 12 => ⟨S8, .i32⟩
  | 13 => ⟨S8, .i32⟩
  | 14 => ⟨S8, .i32⟩
  | 15 => ⟨S8, .i32⟩
  | 16 => ⟨S8, .i32⟩
  | 17 => ⟨S8, .i32⟩
  | 18 => ⟨S_, .i32⟩
  | 19 => ⟨S8, .i32⟩
  | 20 => ⟨S8, .i32⟩
  | 21 => ⟨S8, .i32⟩
  | 22 => ⟨S_, .i32⟩
  | 23 => ⟨S8, .i32⟩
  | 24 => ⟨S8, .i32⟩
  | 25 => ⟨S_, .i32⟩
  | 26 => ⟨S8, .i32⟩
  | 27 => ⟨S8, .i32⟩
  | 28 => ⟨S8, .i32⟩
  | 29 => ⟨S8, .i32⟩
  | 30 => ⟨S8, .i32⟩
  | 31 => ⟨S_, .i32⟩
  | 32 => ⟨S8, .i32⟩
  | 33 => ⟨S8, .i32⟩
  | 34 => ⟨S_, .i32⟩
  | 35 => ⟨S8, .i32⟩
  | 36 => ⟨S8, .i32⟩
  | 37 => ⟨S8, .i32⟩
  | 38 => ⟨S8, .i32⟩
  | 39 => ⟨S8, .i32⟩
  | 40 => ⟨S_, .i32⟩
  | 41 => ⟨S8, .i32⟩
  | 42 => ⟨S8, .i32⟩
  | 43 => ⟨S_, .i32⟩
  | 44 => ⟨S8, .i32⟩
  | 45 => ⟨S8, .i32⟩
  | 46 => ⟨S8, .i32⟩
  | 47 => ⟨S8, .i32⟩
  | 48 => ⟨S8, .i32⟩
  | 49 => ⟨S_, .i32⟩
  | 50 => ⟨S8, .i32⟩
  | 51 => ⟨S8, .i32⟩
  | 52 => ⟨S_, .i32⟩
  | 53 => ⟨S8, .i32⟩
  | 54 => ⟨S8, .i32⟩
  | 55 => ⟨S8, .i32⟩
  | 56 => ⟨S8, .i32⟩
  | 57 => ⟨S8, .i32⟩
  | 58 => ⟨S8, .i32⟩
  | 59 => ⟨S8, .i32⟩
  | 60 => ⟨S8, .i32⟩
  | 61 => ⟨S_, .i32⟩
  | 62 => ⟨S8, .i32⟩
  | 63 => ⟨S8, .i32⟩
  | 64 => ⟨S8, .i32⟩
  | 65 => ⟨S_, .i32⟩
  | 66 => ⟨S8, .i32⟩
  | 67 => ⟨S8, .i32⟩
  | 68 => ⟨S_, .i32⟩
  | 69 => ⟨S8, .i32⟩
  | 70 => ⟨S8, .i32⟩
  | 71 => ⟨S8, .f32⟩
  | 72 => ⟨S_, .f32⟩
  | 73 => ⟨S8, .f32⟩
  | 74 => ⟨S8, .f32⟩
  | 75 => ⟨S1, .f32⟩
  | 76 => ⟨S8, .f32⟩
  | 77 => ⟨S8, .f32⟩
  | 78 => ⟨S8, .f32⟩
  | 79 => ⟨S8, .f32⟩
  | 80 => ⟨S8, .f32⟩
  | 81 => ⟨S8, .f32⟩
  | 82 => ⟨S1x8x32768x4, .f32⟩
  | 83 => ⟨S1x8x32768x4, .f32⟩
  | 84 => ⟨S1x8x32768x4, .f32⟩
  | 85 => ⟨S1x8x32768x4, .f32⟩
  | 86 => ⟨S1x8x32768x4, .f32⟩
  | 87 => ⟨S1x8x32768x4, .f32⟩
  | 88 => ⟨S1x8x32768x4, .f32⟩
  | 89 => ⟨S1x8x32768x4, .f32⟩
  | 90 => ⟨S1x8x32768x4, .f32⟩
  | 91 => ⟨S1x8x32768x4, .f32⟩
  | 92 => ⟨S10x8x32768x4, .f32⟩
  | 93 => ⟨S10x4x8x32768, .f32⟩
  | 94 => ⟨S1x8, .f32⟩
  | 95 => ⟨S1x8, .f32⟩
  | 96 => ⟨S1x8, .f32⟩
  | 97 => ⟨S1x8, .f32⟩
  | 98 => ⟨S1x8, .f32⟩
  | 99 => ⟨S1x8, .f32⟩
  | 100 => ⟨S1x8, .f32⟩
  | 101 => ⟨S1x8, .f32⟩
  | 102 => ⟨S1x8, .f32⟩
  | 103 => ⟨S1x8, .f32⟩
  | 104 => ⟨S10x8, .f32⟩
  | 105 => ⟨S10x8x1, .f32⟩
  | 106 => ⟨S4x32768, .f32⟩
  | 107 => ⟨S_, .f32⟩
  | 108 => ⟨S4x32768, .f32⟩
  | 109 => ⟨S8x32768, .f32⟩
  | 110 => ⟨S8x32768, .i32⟩
  | _ => ⟨S8x32768, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | 36 => hbmTy0_36 i
  | 37 => hbmTy0_37 i
  | 38 => hbmTy0_38 i
  | 39 => hbmTy0_39 i
  | 40 => hbmTy0_40 i
  | 41 => hbmTy0_41 i
  | 42 => hbmTy0_42 i
  | 43 => hbmTy0_43 i
  | 44 => hbmTy0_44 i
  | 45 => hbmTy0_45 i
  | 46 => hbmTy0_46 i
  | 47 => hbmTy0_47 i
  | 48 => hbmTy0_48 i
  | 49 => hbmTy0_49 i
  | 50 => hbmTy0_50 i
  | 51 => hbmTy0_51 i
  | 52 => hbmTy0_52 i
  | 53 => hbmTy0_53 i
  | 54 => hbmTy0_54 i
  | 55 => hbmTy0_55 i
  | 56 => hbmTy0_56 i
  | 57 => hbmTy0_57 i
  | 58 => hbmTy0_58 i
  | 59 => hbmTy0_59 i
  | 60 => hbmTy0_60 i
  | _ => ⟨S8x32768, .i32⟩

abbrev bufTy : (tb : Table) → Fin (tcTables nBuf tb) → BufTy
  | .hbm, ⟨i, _⟩ => hbmTy i
  | .local _ .vmem, ⟨0, _⟩ => ⟨S1x4x8x32768, .f32⟩
  | .local _ .vmem, ⟨1, _⟩ => ⟨S1x4x8x32768, .f32⟩
  | .local _ .vmem, ⟨2, _⟩ => ⟨S1x8x1, .f32⟩
  | .local _ .vmem, ⟨3, _⟩ => ⟨S1x8x1, .f32⟩
  | .local _ .vmem, ⟨4, _⟩ => ⟨S8x32768, .f32⟩
  | .local _ .vmem, ⟨5, _⟩ => ⟨S8x32768, .i32⟩
  | .local _ .vmem, ⟨6, _⟩ => ⟨S8x32768, .i32⟩
  | _, _ => ⟨S8x32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_v5 : Ref sig .tc := ⟨.hbm, 18, rfl⟩
abbrev main_call0_v6 : Ref sig .tc := ⟨.hbm, 19, rfl⟩
abbrev main_call0_c_0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_call0_v12 : Ref sig .tc := ⟨.hbm, 247, rfl⟩
abbrev main_call0_v13 : Ref sig .tc := ⟨.hbm, 248, rfl⟩
abbrev main_v7 : Ref sig .tc := ⟨.hbm, 249, rfl⟩
abbrev main_v8 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_v12 : Ref sig .tc := ⟨.hbm, 254, rfl⟩
abbrev main_v13 : Ref sig .tc := ⟨.hbm, 255, rfl⟩
abbrev main_call1_cst : Ref sig .tc := ⟨.hbm, 256, rfl⟩
abbrev main_call1_cst_0 : Ref sig .tc := ⟨.hbm, 257, rfl⟩
abbrev main_call1_call0_v0 : Ref sig .tc := ⟨.hbm, 258, rfl⟩
abbrev main_call1_call0_v1 : Ref sig .tc := ⟨.hbm, 259, rfl⟩
abbrev main_call1_call0_v2 : Ref sig .tc := ⟨.hbm, 260, rfl⟩
abbrev main_call1_call0_v3 : Ref sig .tc := ⟨.hbm, 261, rfl⟩
abbrev main_call1_call0_v4 : Ref sig .tc := ⟨.hbm, 262, rfl⟩
abbrev main_call1_call0_v5 : Ref sig .tc := ⟨.hbm, 263, rfl⟩
abbrev main_call1_call0_v6 : Ref sig .tc := ⟨.hbm, 264, rfl⟩
abbrev main_call1_call0_v7 : Ref sig .tc := ⟨.hbm, 265, rfl⟩
abbrev main_call1_call0_v8 : Ref sig .tc := ⟨.hbm, 266, rfl⟩
abbrev main_call1_call0_v9 : Ref sig .tc := ⟨.hbm, 267, rfl⟩
abbrev main_call1_call0_c : Ref sig .tc := ⟨.hbm, 268, rfl⟩
abbrev main_call1_call0_v10 : Ref sig .tc := ⟨.hbm, 269, rfl⟩
abbrev main_call1_call0_v11 : Ref sig .tc := ⟨.hbm, 270, rfl⟩
abbrev main_call1_call0_c_0 : Ref sig .tc := ⟨.hbm, 271, rfl⟩
abbrev main_call1_call0_v12 : Ref sig .tc := ⟨.hbm, 272, rfl⟩
abbrev main_call1_call0_v13 : Ref sig .tc := ⟨.hbm, 273, rfl⟩
abbrev main_call1_call0_c_1 : Ref sig .tc := ⟨.hbm, 274, rfl⟩
abbrev main_call1_call0_v14 : Ref sig .tc := ⟨.hbm, 275, rfl⟩
abbrev main_call1_call0_v15 : Ref sig .tc := ⟨.hbm, 276, rfl⟩
abbrev main_call1_call0_v16 : Ref sig .tc := ⟨.hbm, 277, rfl⟩
abbrev main_call1_call0_v17 : Ref sig .tc := ⟨.hbm, 278, rfl⟩
abbrev main_call1_call0_c_2 : Ref sig .tc := ⟨.hbm, 279, rfl⟩
abbrev main_call1_call0_v18 : Ref sig .tc := ⟨.hbm, 280, rfl⟩
abbrev main_call1_call0_v19 : Ref sig .tc := ⟨.hbm, 281, rfl⟩
abbrev main_call1_call0_v20 : Ref sig .tc := ⟨.hbm, 282, rfl⟩
abbrev main_call1_call0_v21 : Ref sig .tc := ⟨.hbm, 283, rfl⟩
abbrev main_call1_call0_call0_v0 : Ref sig .tc := ⟨.hbm, 284, rfl⟩
abbrev main_call1_call0_call0_c : Ref sig .tc := ⟨.hbm, 285, rfl⟩
abbrev main_call1_call0_call0_v1 : Ref sig .tc := ⟨.hbm, 286, rfl⟩
abbrev main_call1_call0_call0_v2 : Ref sig .tc := ⟨.hbm, 287, rfl⟩
abbrev main_call1_call0_call0_v3 : Ref sig .tc := ⟨.hbm, 288, rfl⟩
abbrev main_call1_call0_call0_v4 : Ref sig .tc := ⟨.hbm, 289, rfl⟩
abbrev main_call1_call0_call0_v5 : Ref sig .tc := ⟨.hbm, 290, rfl⟩
abbrev main_call1_call0_call0_v6 : Ref sig .tc := ⟨.hbm, 291, rfl⟩
abbrev main_call1_call0_call0_c_0 : Ref sig .tc := ⟨.hbm, 292, rfl⟩
abbrev main_call1_call0_call0_v7 : Ref sig .tc := ⟨.hbm, 293, rfl⟩
abbrev main_call1_call0_call0_v8 : Ref sig .tc := ⟨.hbm, 294, rfl⟩
abbrev main_call1_call0_call0_c_1 : Ref sig .tc := ⟨.hbm, 295, rfl⟩
abbrev main_call1_call0_call0_v9 : Ref sig .tc := ⟨.hbm, 296, rfl⟩
abbrev main_call1_call0_call0_v10 : Ref sig .tc := ⟨.hbm, 297, rfl⟩
abbrev main_call1_call0_call0_v11 : Ref sig .tc := ⟨.hbm, 298, rfl⟩
abbrev main_call1_call0_call0_v12 : Ref sig .tc := ⟨.hbm, 299, rfl⟩
abbrev main_call1_call0_call0_v13 : Ref sig .tc := ⟨.hbm, 300, rfl⟩
abbrev main_call1_call0_call0_c_2 : Ref sig .tc := ⟨.hbm, 301, rfl⟩
abbrev main_call1_call0_call0_v14 : Ref sig .tc := ⟨.hbm, 302, rfl⟩
abbrev main_call1_call0_call0_v15 : Ref sig .tc := ⟨.hbm, 303, rfl⟩
abbrev main_call1_call0_call0_c_3 : Ref sig .tc := ⟨.hbm, 304, rfl⟩
abbrev main_call1_call0_call0_v16 : Ref sig .tc := ⟨.hbm, 305, rfl⟩
abbrev main_call1_call0_call0_v17 : Ref sig .tc := ⟨.hbm, 306, rfl⟩
abbrev main_call1_call0_call0_v18 : Ref sig .tc := ⟨.hbm, 307, rfl⟩
abbrev main_call1_call0_call0_v19 : Ref sig .tc := ⟨.hbm, 308, rfl⟩
abbrev main_call1_call0_call0_v20 : Ref sig .tc := ⟨.hbm, 309, rfl⟩
abbrev main_call1_call0_call0_c_4 : Ref sig .tc := ⟨.hbm, 310, rfl⟩
abbrev main_call1_call0_call0_v21 : Ref sig .tc := ⟨.hbm, 311, rfl⟩
abbrev main_call1_call0_call0_v22 : Ref sig .tc := ⟨.hbm, 312, rfl⟩
abbrev main_call1_call0_call0_c_5 : Ref sig .tc := ⟨.hbm, 313, rfl⟩
abbrev main_call1_call0_call0_v23 : Ref sig .tc := ⟨.hbm, 314, rfl⟩
abbrev main_call1_call0_call0_v24 : Ref sig .tc := ⟨.hbm, 315, rfl⟩
abbrev main_call1_call0_call0_v25 : Ref sig .tc := ⟨.hbm, 316, rfl⟩
abbrev main_call1_call0_call0_v26 : Ref sig .tc := ⟨.hbm, 317, rfl⟩
abbrev main_call1_call0_call0_v27 : Ref sig .tc := ⟨.hbm, 318, rfl⟩
abbrev main_call1_call0_call0_c_6 : Ref sig .tc := ⟨.hbm, 319, rfl⟩
abbrev main_call1_call0_call0_v28 : Ref sig .tc := ⟨.hbm, 320, rfl⟩
abbrev main_call1_call0_call0_v29 : Ref sig .tc := ⟨.hbm, 321, rfl⟩
abbrev main_call1_call0_call0_c_7 : Ref sig .tc := ⟨.hbm, 322, rfl⟩
abbrev main_call1_call0_call0_v30 : Ref sig .tc := ⟨.hbm, 323, rfl⟩
abbrev main_call1_call0_call0_v31 : Ref sig .tc := ⟨.hbm, 324, rfl⟩
abbrev main_call1_call0_call0_v32 : Ref sig .tc := ⟨.hbm, 325, rfl⟩
abbrev main_call1_call0_call0_v33 : Ref sig .tc := ⟨.hbm, 326, rfl⟩
abbrev main_call1_call0_call0_v34 : Ref sig .tc := ⟨.hbm, 327, rfl⟩
abbrev main_call1_call0_call0_v35 : Ref sig .tc := ⟨.hbm, 328, rfl⟩
abbrev main_call1_call0_call0_v36 : Ref sig .tc := ⟨.hbm, 329, rfl⟩
abbrev main_call1_call0_call0_v37 : Ref sig .tc := ⟨.hbm, 330, rfl⟩
abbrev main_call1_call0_call0_c_8 : Ref sig .tc := ⟨.hbm, 331, rfl⟩
abbrev main_call1_call0_call0_v38 : Ref sig .tc := ⟨.hbm, 332, rfl⟩
abbrev main_call1_call0_call0_v39 : Ref sig .tc := ⟨.hbm, 333, rfl⟩
abbrev main_call1_call0_call0_v40 : Ref sig .tc := ⟨.hbm, 334, rfl⟩
abbrev main_call1_call0_call0_c_9 : Ref sig .tc := ⟨.hbm, 335, rfl⟩
abbrev main_call1_call0_call0_v41 : Ref sig .tc := ⟨.hbm, 336, rfl⟩
abbrev main_call1_call0_call0_v42 : Ref sig .tc := ⟨.hbm, 337, rfl⟩
abbrev main_call1_call0_call0_c_10 : Ref sig .tc := ⟨.hbm, 338, rfl⟩
abbrev main_call1_call0_call0_v43 : Ref sig .tc := ⟨.hbm, 339, rfl⟩
abbrev main_call1_call0_call0_v44 : Ref sig .tc := ⟨.hbm, 340, rfl⟩
abbrev main_call1_call0_call0_v45 : Ref sig .tc := ⟨.hbm, 341, rfl⟩
abbrev main_call1_call0_call0_v46 : Ref sig .tc := ⟨.hbm, 342, rfl⟩
abbrev main_call1_call0_call0_v47 : Ref sig .tc := ⟨.hbm, 343, rfl⟩
abbrev main_call1_call0_call0_c_11 : Ref sig .tc := ⟨.hbm, 344, rfl⟩
abbrev main_call1_call0_call0_v48 : Ref sig .tc := ⟨.hbm, 345, rfl⟩
abbrev main_call1_call0_call0_v49 : Ref sig .tc := ⟨.hbm, 346, rfl⟩
abbrev main_call1_call0_call0_c_12 : Ref sig .tc := ⟨.hbm, 347, rfl⟩
abbrev main_call1_call0_call0_v50 : Ref sig .tc := ⟨.hbm, 348, rfl⟩
abbrev main_call1_call0_call0_v51 : Ref sig .tc := ⟨.hbm, 349, rfl⟩
abbrev main_call1_call0_call0_v52 : Ref sig .tc := ⟨.hbm, 350, rfl⟩
abbrev main_call1_call0_call0_v53 : Ref sig .tc := ⟨.hbm, 351, rfl⟩
abbrev main_call1_call0_call0_v54 : Ref sig .tc := ⟨.hbm, 352, rfl⟩
abbrev main_call1_call0_call0_c_13 : Ref sig .tc := ⟨.hbm, 353, rfl⟩
abbrev main_call1_call0_call0_v55 : Ref sig .tc := ⟨.hbm, 354, rfl⟩
abbrev main_call1_call0_call0_v56 : Ref sig .tc := ⟨.hbm, 355, rfl⟩
abbrev main_call1_call0_call0_c_14 : Ref sig .tc := ⟨.hbm, 356, rfl⟩
abbrev main_call1_call0_call0_v57 : Ref sig .tc := ⟨.hbm, 357, rfl⟩
abbrev main_call1_call0_call0_v58 : Ref sig .tc := ⟨.hbm, 358, rfl⟩
abbrev main_call1_call0_call0_v59 : Ref sig .tc := ⟨.hbm, 359, rfl⟩
abbrev main_call1_call0_call0_v60 : Ref sig .tc := ⟨.hbm, 360, rfl⟩
abbrev main_call1_call0_call0_v61 : Ref sig .tc := ⟨.hbm, 361, rfl⟩
abbrev main_call1_call0_call0_c_15 : Ref sig .tc := ⟨.hbm, 362, rfl⟩
abbrev main_call1_call0_call0_v62 : Ref sig .tc := ⟨.hbm, 363, rfl⟩
abbrev main_call1_call0_call0_v63 : Ref sig .tc := ⟨.hbm, 364, rfl⟩
abbrev main_call1_call0_call0_c_16 : Ref sig .tc := ⟨.hbm, 365, rfl⟩
abbrev main_call1_call0_call0_v64 : Ref sig .tc := ⟨.hbm, 366, rfl⟩
abbrev main_call1_call0_call0_v65 : Ref sig .tc := ⟨.hbm, 367, rfl⟩
abbrev main_call1_call0_call0_v66 : Ref sig .tc := ⟨.hbm, 368, rfl⟩
abbrev main_call1_call0_call0_v67 : Ref sig .tc := ⟨.hbm, 369, rfl⟩
abbrev main_call1_call0_call0_v68 : Ref sig .tc := ⟨.hbm, 370, rfl⟩
abbrev main_call1_call0_call0_v69 : Ref sig .tc := ⟨.hbm, 371, rfl⟩
abbrev main_call1_call0_call0_v70 : Ref sig .tc := ⟨.hbm, 372, rfl⟩
abbrev main_call1_call0_call0_v71 : Ref sig .tc := ⟨.hbm, 373, rfl⟩
abbrev main_call1_call0_call0_c_17 : Ref sig .tc := ⟨.hbm, 374, rfl⟩
abbrev main_call1_call0_call0_v72 : Ref sig .tc := ⟨.hbm, 375, rfl⟩
abbrev main_call1_call0_call0_v73 : Ref sig .tc := ⟨.hbm, 376, rfl⟩
abbrev main_call1_call0_call0_v74 : Ref sig .tc := ⟨.hbm, 377, rfl⟩
abbrev main_call1_call0_call0_c_18 : Ref sig .tc := ⟨.hbm, 378, rfl⟩
abbrev main_call1_call0_call0_v75 : Ref sig .tc := ⟨.hbm, 379, rfl⟩
abbrev main_call1_call0_call0_v76 : Ref sig .tc := ⟨.hbm, 380, rfl⟩
abbrev main_call1_call0_call0_c_19 : Ref sig .tc := ⟨.hbm, 381, rfl⟩
abbrev main_call1_call0_call0_v77 : Ref sig .tc := ⟨.hbm, 382, rfl⟩
abbrev main_call1_call0_call0_v78 : Ref sig .tc := ⟨.hbm, 383, rfl⟩
abbrev main_call1_call0_call0_v79 : Ref sig .tc := ⟨.hbm, 384, rfl⟩
abbrev main_call1_call0_call0_v80 : Ref sig .tc := ⟨.hbm, 385, rfl⟩
abbrev main_call1_call0_call0_v81 : Ref sig .tc := ⟨.hbm, 386, rfl⟩
abbrev main_call1_call0_call0_c_20 : Ref sig .tc := ⟨.hbm, 387, rfl⟩
abbrev main_call1_call0_call0_v82 : Ref sig .tc := ⟨.hbm, 388, rfl⟩
abbrev main_call1_call0_call0_v83 : Ref sig .tc := ⟨.hbm, 389, rfl⟩
abbrev main_call1_call0_call0_c_21 : Ref sig .tc := ⟨.hbm, 390, rfl⟩
abbrev main_call1_call0_call0_v84 : Ref sig .tc := ⟨.hbm, 391, rfl⟩
abbrev main_call1_call0_call0_v85 : Ref sig .tc := ⟨.hbm, 392, rfl⟩
abbrev main_call1_call0_call0_v86 : Ref sig .tc := ⟨.hbm, 393, rfl⟩
abbrev main_call1_call0_call0_v87 : Ref sig .tc := ⟨.hbm, 394, rfl⟩
abbrev main_call1_call0_call0_v88 : Ref sig .tc := ⟨.hbm, 395, rfl⟩
abbrev main_call1_call0_call0_c_22 : Ref sig .tc := ⟨.hbm, 396, rfl⟩
abbrev main_call1_call0_call0_v89 : Ref sig .tc := ⟨.hbm, 397, rfl⟩
abbrev main_call1_call0_call0_v90 : Ref sig .tc := ⟨.hbm, 398, rfl⟩
abbrev main_call1_call0_call0_c_23 : Ref sig .tc := ⟨.hbm, 399, rfl⟩
abbrev main_call1_call0_call0_v91 : Ref sig .tc := ⟨.hbm, 400, rfl⟩
abbrev main_call1_call0_call0_v92 : Ref sig .tc := ⟨.hbm, 401, rfl⟩
abbrev main_call1_call0_call0_v93 : Ref sig .tc := ⟨.hbm, 402, rfl⟩
abbrev main_call1_call0_call0_v94 : Ref sig .tc := ⟨.hbm, 403, rfl⟩
abbrev main_call1_call0_call0_v95 : Ref sig .tc := ⟨.hbm, 404, rfl⟩
abbrev main_call1_call0_call0_c_24 : Ref sig .tc := ⟨.hbm, 405, rfl⟩
abbrev main_call1_call0_call0_v96 : Ref sig .tc := ⟨.hbm, 406, rfl⟩
abbrev main_call1_call0_call0_v97 : Ref sig .tc := ⟨.hbm, 407, rfl⟩
abbrev main_call1_call0_call0_c_25 : Ref sig .tc := ⟨.hbm, 408, rfl⟩
abbrev main_call1_call0_call0_v98 : Ref sig .tc := ⟨.hbm, 409, rfl⟩
abbrev main_call1_call0_call0_v99 : Ref sig .tc := ⟨.hbm, 410, rfl⟩
abbrev main_call1_call0_call0_v100 : Ref sig .tc := ⟨.hbm, 411, rfl⟩
abbrev main_call1_call0_call0_v101 : Ref sig .tc := ⟨.hbm, 412, rfl⟩
abbrev main_call1_call0_call0_v102 : Ref sig .tc := ⟨.hbm, 413, rfl⟩
abbrev main_call1_call0_call0_v103 : Ref sig .tc := ⟨.hbm, 414, rfl⟩
abbrev main_call1_call0_call0_v104 : Ref sig .tc := ⟨.hbm, 415, rfl⟩
abbrev main_call1_call0_call0_v105 : Ref sig .tc := ⟨.hbm, 416, rfl⟩
abbrev main_call1_call0_call0_c_26 : Ref sig .tc := ⟨.hbm, 417, rfl⟩
abbrev main_call1_call0_call0_v106 : Ref sig .tc := ⟨.hbm, 418, rfl⟩
abbrev main_call1_call0_call0_v107 : Ref sig .tc := ⟨.hbm, 419, rfl⟩
abbrev main_call1_call0_call0_v108 : Ref sig .tc := ⟨.hbm, 420, rfl⟩
abbrev main_call1_call0_call0_c_27 : Ref sig .tc := ⟨.hbm, 421, rfl⟩
abbrev main_call1_call0_call0_v109 : Ref sig .tc := ⟨.hbm, 422, rfl⟩
abbrev main_call1_call0_call0_v110 : Ref sig .tc := ⟨.hbm, 423, rfl⟩
abbrev main_call1_call0_call0_c_28 : Ref sig .tc := ⟨.hbm, 424, rfl⟩
abbrev main_call1_call0_call0_v111 : Ref sig .tc := ⟨.hbm, 425, rfl⟩
abbrev main_call1_call0_call0_v112 : Ref sig .tc := ⟨.hbm, 426, rfl⟩
abbrev main_call1_call0_call0_v113 : Ref sig .tc := ⟨.hbm, 427, rfl⟩
abbrev main_call1_call0_call0_v114 : Ref sig .tc := ⟨.hbm, 428, rfl⟩
abbrev main_call1_call0_call0_v115 : Ref sig .tc := ⟨.hbm, 429, rfl⟩
abbrev main_call1_call0_call0_c_29 : Ref sig .tc := ⟨.hbm, 430, rfl⟩
abbrev main_call1_call0_call0_v116 : Ref sig .tc := ⟨.hbm, 431, rfl⟩
abbrev main_call1_call0_call0_v117 : Ref sig .tc := ⟨.hbm, 432, rfl⟩
abbrev main_call1_call0_call0_c_30 : Ref sig .tc := ⟨.hbm, 433, rfl⟩
abbrev main_call1_call0_call0_v118 : Ref sig .tc := ⟨.hbm, 434, rfl⟩
abbrev main_call1_call0_call0_v119 : Ref sig .tc := ⟨.hbm, 435, rfl⟩
abbrev main_call1_call0_call0_v120 : Ref sig .tc := ⟨.hbm, 436, rfl⟩
abbrev main_call1_call0_call0_v121 : Ref sig .tc := ⟨.hbm, 437, rfl⟩
abbrev main_call1_call0_call0_v122 : Ref sig .tc := ⟨.hbm, 438, rfl⟩
abbrev main_call1_call0_call0_c_31 : Ref sig .tc := ⟨.hbm, 439, rfl⟩
abbrev main_call1_call0_call0_v123 : Ref sig .tc := ⟨.hbm, 440, rfl⟩
abbrev main_call1_call0_call0_v124 : Ref sig .tc := ⟨.hbm, 441, rfl⟩
abbrev main_call1_call0_call0_c_32 : Ref sig .tc := ⟨.hbm, 442, rfl⟩
abbrev main_call1_call0_call0_v125 : Ref sig .tc := ⟨.hbm, 443, rfl⟩
abbrev main_call1_call0_call0_v126 : Ref sig .tc := ⟨.hbm, 444, rfl⟩
abbrev main_call1_call0_call0_v127 : Ref sig .tc := ⟨.hbm, 445, rfl⟩
abbrev main_call1_call0_call0_v128 : Ref sig .tc := ⟨.hbm, 446, rfl⟩
abbrev main_call1_call0_call0_v129 : Ref sig .tc := ⟨.hbm, 447, rfl⟩
abbrev main_call1_call0_call0_c_33 : Ref sig .tc := ⟨.hbm, 448, rfl⟩
abbrev main_call1_call0_call0_v130 : Ref sig .tc := ⟨.hbm, 449, rfl⟩
abbrev main_call1_call0_call0_v131 : Ref sig .tc := ⟨.hbm, 450, rfl⟩
abbrev main_call1_call0_call0_c_34 : Ref sig .tc := ⟨.hbm, 451, rfl⟩
abbrev main_call1_call0_call0_v132 : Ref sig .tc := ⟨.hbm, 452, rfl⟩
abbrev main_call1_call0_call0_v133 : Ref sig .tc := ⟨.hbm, 453, rfl⟩
abbrev main_call1_call0_call0_v134 : Ref sig .tc := ⟨.hbm, 454, rfl⟩
abbrev main_call1_call0_call0_v135 : Ref sig .tc := ⟨.hbm, 455, rfl⟩
abbrev main_call1_call0_call0_v136 : Ref sig .tc := ⟨.hbm, 456, rfl⟩
abbrev main_call1_call0_call0_v137 : Ref sig .tc := ⟨.hbm, 457, rfl⟩
abbrev main_call1_call0_call0_v138 : Ref sig .tc := ⟨.hbm, 458, rfl⟩
abbrev main_call1_call0_call0_v139 : Ref sig .tc := ⟨.hbm, 459, rfl⟩
abbrev main_call1_call0_call0_c_35 : Ref sig .tc := ⟨.hbm, 460, rfl⟩
abbrev main_call1_call0_call0_v140 : Ref sig .tc := ⟨.hbm, 461, rfl⟩
abbrev main_call1_call0_call0_v141 : Ref sig .tc := ⟨.hbm, 462, rfl⟩
abbrev main_call1_call0_call0_v142 : Ref sig .tc := ⟨.hbm, 463, rfl⟩
abbrev main_call1_call0_call0_c_36 : Ref sig .tc := ⟨.hbm, 464, rfl⟩
abbrev main_call1_call0_call0_v143 : Ref sig .tc := ⟨.hbm, 465, rfl⟩
abbrev main_call1_call0_call0_v144 : Ref sig .tc := ⟨.hbm, 466, rfl⟩
abbrev main_call1_call0_call0_c_37 : Ref sig .tc := ⟨.hbm, 467, rfl⟩
abbrev main_call1_call0_call0_v145 : Ref sig .tc := ⟨.hbm, 468, rfl⟩
abbrev main_call1_call0_call0_v146 : Ref sig .tc := ⟨.hbm, 469, rfl⟩
abbrev main_call1_call0_call0_v147 : Ref sig .tc := ⟨.hbm, 470, rfl⟩
abbrev main_call1_call0_call0_v148 : Ref sig .tc := ⟨.hbm, 471, rfl⟩
abbrev main_call1_call0_call0_v149 : Ref sig .tc := ⟨.hbm, 472, rfl⟩
abbrev main_call1_call0_call0_c_38 : Ref sig .tc := ⟨.hbm, 473, rfl⟩
abbrev main_call1_call0_call0_v150 : Ref sig .tc := ⟨.hbm, 474, rfl⟩
abbrev main_call1_call0_call0_v151 : Ref sig .tc := ⟨.hbm, 475, rfl⟩
abbrev main_call1_call0_call0_c_39 : Ref sig .tc := ⟨.hbm, 476, rfl⟩
abbrev main_call1_call0_call0_v152 : Ref sig .tc := ⟨.hbm, 477, rfl⟩
abbrev main_call1_call0_call0_v153 : Ref sig .tc := ⟨.hbm, 478, rfl⟩
abbrev main_call1_call0_call0_v154 : Ref sig .tc := ⟨.hbm, 479, rfl⟩
abbrev main_call1_call0_call0_v155 : Ref sig .tc := ⟨.hbm, 480, rfl⟩
abbrev main_call1_call0_call0_v156 : Ref sig .tc := ⟨.hbm, 481, rfl⟩
abbrev main_call1_call0_call0_c_40 : Ref sig .tc := ⟨.hbm, 482, rfl⟩
abbrev main_call1_call0_call0_v157 : Ref sig .tc := ⟨.hbm, 483, rfl⟩
abbrev main_call1_call0_call0_v158 : Ref sig .tc := ⟨.hbm, 484, rfl⟩
abbrev main_call1_call0_call0_c_41 : Ref sig .tc := ⟨.hbm, 485, rfl⟩
abbrev main_call1_call0_call0_v159 : Ref sig .tc := ⟨.hbm, 486, rfl⟩
abbrev main_call1_call0_call0_v160 : Ref sig .tc := ⟨.hbm, 487, rfl⟩
abbrev main_call1_call0_call0_v161 : Ref sig .tc := ⟨.hbm, 488, rfl⟩
abbrev main_call1_call0_call0_v162 : Ref sig .tc := ⟨.hbm, 489, rfl⟩
abbrev main_call1_call0_call0_v163 : Ref sig .tc := ⟨.hbm, 490, rfl⟩
abbrev main_call1_call0_call0_c_42 : Ref sig .tc := ⟨.hbm, 491, rfl⟩
abbrev main_call1_call0_call0_v164 : Ref sig .tc := ⟨.hbm, 492, rfl⟩
abbrev main_call1_call0_call0_v165 : Ref sig .tc := ⟨.hbm, 493, rfl⟩
abbrev main_call1_call0_call0_c_43 : Ref sig .tc := ⟨.hbm, 494, rfl⟩
abbrev main_call1_call0_call0_v166 : Ref sig .tc := ⟨.hbm, 495, rfl⟩
abbrev main_call1_call0_call0_v167 : Ref sig .tc := ⟨.hbm, 496, rfl⟩
abbrev main_call1_call0_call0_v168 : Ref sig .tc := ⟨.hbm, 497, rfl⟩
abbrev main_call1_call0_call0_v169 : Ref sig .tc := ⟨.hbm, 498, rfl⟩
abbrev main_call1_call0_call0_v170 : Ref sig .tc := ⟨.hbm, 499, rfl⟩
abbrev main_call1_call0_v22_0 : Ref sig .tc := ⟨.hbm, 500, rfl⟩
abbrev main_call1_call0_call0_v172 : Ref sig .tc := ⟨.hbm, 501, rfl⟩
abbrev main_call1_call0_call0_v173 : Ref sig .tc := ⟨.hbm, 502, rfl⟩
abbrev main_call1_call0_call0_c_44 : Ref sig .tc := ⟨.hbm, 503, rfl⟩
abbrev main_call1_call0_call0_v174 : Ref sig .tc := ⟨.hbm, 504, rfl⟩
abbrev main_call1_call0_v22_1 : Ref sig .tc := ⟨.hbm, 505, rfl⟩
abbrev main_call1_call0_v23 : Ref sig .tc := ⟨.hbm, 506, rfl⟩
abbrev main_call1_call0_c_3 : Ref sig .tc := ⟨.hbm, 507, rfl⟩
abbrev main_call1_call0_v24 : Ref sig .tc := ⟨.hbm, 508, rfl⟩
abbrev main_call1_call0_v25 : Ref sig .tc := ⟨.hbm, 509, rfl⟩
abbrev main_call1_call0_c_4 : Ref sig .tc := ⟨.hbm, 510, rfl⟩
abbrev main_call1_call0_v26 : Ref sig .tc := ⟨.hbm, 511, rfl⟩
abbrev main_call1_call0_v27 : Ref sig .tc := ⟨.hbm, 512, rfl⟩
abbrev main_call1_call0_v28 : Ref sig .tc := ⟨.hbm, 513, rfl⟩
abbrev main_call1_call0_cst : Ref sig .tc := ⟨.hbm, 514, rfl⟩
abbrev main_call1_call0_v29 : Ref sig .tc := ⟨.hbm, 515, rfl⟩
abbrev main_call1_call0_v30 : Ref sig .tc := ⟨.hbm, 516, rfl⟩
abbrev main_call1_call0_v31 : Ref sig .tc := ⟨.hbm, 517, rfl⟩
abbrev main_call1_call0_v32 : Ref sig .tc := ⟨.hbm, 518, rfl⟩
abbrev main_call1_call0_v33 : Ref sig .tc := ⟨.hbm, 519, rfl⟩
abbrev main_call1_call0_v34 : Ref sig .tc := ⟨.hbm, 520, rfl⟩
abbrev main_call1_call0_v35 : Ref sig .tc := ⟨.hbm, 521, rfl⟩
abbrev main_call1_call0_v36 : Ref sig .tc := ⟨.hbm, 522, rfl⟩
abbrev main_call1_v0 : Ref sig .tc := ⟨.hbm, 523, rfl⟩
abbrev main_call1_v1 : Ref sig .tc := ⟨.hbm, 524, rfl⟩
abbrev main_call1_v2 : Ref sig .tc := ⟨.hbm, 525, rfl⟩
abbrev main_call1_v3 : Ref sig .tc := ⟨.hbm, 526, rfl⟩
abbrev main_v14 : Ref sig .tc := ⟨.hbm, 527, rfl⟩
abbrev main_cst : Ref sig .tc := ⟨.hbm, 528, rfl⟩
abbrev main_cst_2 : Ref sig .tc := ⟨.hbm, 529, rfl⟩
abbrev main_call2_v0 : Ref sig .tc := ⟨.hbm, 530, rfl⟩
abbrev main_call2_v1 : Ref sig .tc := ⟨.hbm, 531, rfl⟩
abbrev main_call2_v2 : Ref sig .tc := ⟨.hbm, 532, rfl⟩
abbrev main_call2_v3 : Ref sig .tc := ⟨.hbm, 533, rfl⟩
abbrev main_call2_v4 : Ref sig .tc := ⟨.hbm, 534, rfl⟩
abbrev main_call2_v5 : Ref sig .tc := ⟨.hbm, 535, rfl⟩
abbrev main_call2_v6 : Ref sig .tc := ⟨.hbm, 536, rfl⟩
abbrev main_call2_v7 : Ref sig .tc := ⟨.hbm, 537, rfl⟩
abbrev main_call2_v8 : Ref sig .tc := ⟨.hbm, 538, rfl⟩
abbrev main_call2_c : Ref sig .tc := ⟨.hbm, 539, rfl⟩
abbrev main_call2_v9 : Ref sig .tc := ⟨.hbm, 540, rfl⟩
abbrev main_call2_v10 : Ref sig .tc := ⟨.hbm, 541, rfl⟩
abbrev main_call2_c_0 : Ref sig .tc := ⟨.hbm, 542, rfl⟩
abbrev main_call2_v11 : Ref sig .tc := ⟨.hbm, 543, rfl⟩
abbrev main_call2_v12 : Ref sig .tc := ⟨.hbm, 544, rfl⟩
abbrev main_call2_v13 : Ref sig .tc := ⟨.hbm, 545, rfl⟩
abbrev main_call2_v14 : Ref sig .tc := ⟨.hbm, 546, rfl⟩
abbrev main_call2_call0_v0 : Ref sig .tc := ⟨.hbm, 547, rfl⟩
abbrev main_call2_call0_c : Ref sig .tc := ⟨.hbm, 548, rfl⟩
abbrev main_call2_call0_v1 : Ref sig .tc := ⟨.hbm, 549, rfl⟩
abbrev main_call2_call0_v2 : Ref sig .tc := ⟨.hbm, 550, rfl⟩
abbrev main_call2_call0_v3 : Ref sig .tc := ⟨.hbm, 551, rfl⟩
abbrev main_call2_call0_v4 : Ref sig .tc := ⟨.hbm, 552, rfl⟩
abbrev main_call2_call0_v5 : Ref sig .tc := ⟨.hbm, 553, rfl⟩
abbrev main_call2_call0_v6 : Ref sig .tc := ⟨.hbm, 554, rfl⟩
abbrev main_call2_call0_c_0 : Ref sig .tc := ⟨.hbm, 555, rfl⟩
abbrev main_call2_call0_v7 : Ref sig .tc := ⟨.hbm, 556, rfl⟩
abbrev main_call2_call0_v8 : Ref sig .tc := ⟨.hbm, 557, rfl⟩
abbrev main_call2_call0_c_1 : Ref sig .tc := ⟨.hbm, 558, rfl⟩
abbrev main_call2_call0_v9 : Ref sig .tc := ⟨.hbm, 559, rfl⟩
abbrev main_call2_call0_v10 : Ref sig .tc := ⟨.hbm, 560, rfl⟩
abbrev main_call2_call0_v11 : Ref sig .tc := ⟨.hbm, 561, rfl⟩
abbrev main_call2_call0_v12 : Ref sig .tc := ⟨.hbm, 562, rfl⟩
abbrev main_call2_call0_v13 : Ref sig .tc := ⟨.hbm, 563, rfl⟩
abbrev main_call2_call0_c_2 : Ref sig .tc := ⟨.hbm, 564, rfl⟩
abbrev main_call2_call0_v14 : Ref sig .tc := ⟨.hbm, 565, rfl⟩
abbrev main_call2_call0_v15 : Ref sig .tc := ⟨.hbm, 566, rfl⟩
abbrev main_call2_call0_c_3 : Ref sig .tc := ⟨.hbm, 567, rfl⟩
abbrev main_call2_call0_v16 : Ref sig .tc := ⟨.hbm, 568, rfl⟩
abbrev main_call2_call0_v17 : Ref sig .tc := ⟨.hbm, 569, rfl⟩
abbrev main_call2_call0_v18 : Ref sig .tc := ⟨.hbm, 570, rfl⟩
abbrev main_call2_call0_v19 : Ref sig .tc := ⟨.hbm, 571, rfl⟩
abbrev main_call2_call0_v20 : Ref sig .tc := ⟨.hbm, 572, rfl⟩
abbrev main_call2_call0_c_4 : Ref sig .tc := ⟨.hbm, 573, rfl⟩
abbrev main_call2_call0_v21 : Ref sig .tc := ⟨.hbm, 574, rfl⟩
abbrev main_call2_call0_v22 : Ref sig .tc := ⟨.hbm, 575, rfl⟩
abbrev main_call2_call0_c_5 : Ref sig .tc := ⟨.hbm, 576, rfl⟩
abbrev main_call2_call0_v23 : Ref sig .tc := ⟨.hbm, 577, rfl⟩
abbrev main_call2_call0_v24 : Ref sig .tc := ⟨.hbm, 578, rfl⟩
abbrev main_call2_call0_v25 : Ref sig .tc := ⟨.hbm, 579, rfl⟩
abbrev main_call2_call0_v26 : Ref sig .tc := ⟨.hbm, 580, rfl⟩
abbrev main_call2_call0_v27 : Ref sig .tc := ⟨.hbm, 581, rfl⟩
abbrev main_call2_call0_c_6 : Ref sig .tc := ⟨.hbm, 582, rfl⟩
abbrev main_call2_call0_v28 : Ref sig .tc := ⟨.hbm, 583, rfl⟩
abbrev main_call2_call0_v29 : Ref sig .tc := ⟨.hbm, 584, rfl⟩
abbrev main_call2_call0_c_7 : Ref sig .tc := ⟨.hbm, 585, rfl⟩
abbrev main_call2_call0_v30 : Ref sig .tc := ⟨.hbm, 586, rfl⟩
abbrev main_call2_call0_v31 : Ref sig .tc := ⟨.hbm, 587, rfl⟩
abbrev main_call2_call0_v32 : Ref sig .tc := ⟨.hbm, 588, rfl⟩
abbrev main_call2_call0_v33 : Ref sig .tc := ⟨.hbm, 589, rfl⟩
abbrev main_call2_call0_v34 : Ref sig .tc := ⟨.hbm, 590, rfl⟩
abbrev main_call2_call0_v35 : Ref sig .tc := ⟨.hbm, 591, rfl⟩
abbrev main_call2_call0_v36 : Ref sig .tc := ⟨.hbm, 592, rfl⟩
abbrev main_call2_call0_v37 : Ref sig .tc := ⟨.hbm, 593, rfl⟩
abbrev main_call2_call0_c_8 : Ref sig .tc := ⟨.hbm, 594, rfl⟩
abbrev main_call2_call0_v38 : Ref sig .tc := ⟨.hbm, 595, rfl⟩
abbrev main_call2_call0_v39 : Ref sig .tc := ⟨.hbm, 596, rfl⟩
abbrev main_call2_call0_v40 : Ref sig .tc := ⟨.hbm, 597, rfl⟩
abbrev main_call2_call0_c_9 : Ref sig .tc := ⟨.hbm, 598, rfl⟩
abbrev main_call2_call0_v41 : Ref sig .tc := ⟨.hbm, 599, rfl⟩
abbrev main_call2_call0_v42 : Ref sig .tc := ⟨.hbm, 600, rfl⟩
abbrev main_call2_call0_c_10 : Ref sig .tc := ⟨.hbm, 601, rfl⟩
abbrev main_call2_call0_v43 : Ref sig .tc := ⟨.hbm, 602, rfl⟩
abbrev main_call2_call0_v44 : Ref sig .tc := ⟨.hbm, 603, rfl⟩
abbrev main_call2_call0_v45 : Ref sig .tc := ⟨.hbm, 604, rfl⟩
abbrev main_call2_call0_v46 : Ref sig .tc := ⟨.hbm, 605, rfl⟩
abbrev main_call2_call0_v47 : Ref sig .tc := ⟨.hbm, 606, rfl⟩
abbrev main_call2_call0_c_11 : Ref sig .tc := ⟨.hbm, 607, rfl⟩
abbrev main_call2_call0_v48 : Ref sig .tc := ⟨.hbm, 608, rfl⟩
abbrev main_call2_call0_v49 : Ref sig .tc := ⟨.hbm, 609, rfl⟩
abbrev main_call2_call0_c_12 : Ref sig .tc := ⟨.hbm, 610, rfl⟩
abbrev main_call2_call0_v50 : Ref sig .tc := ⟨.hbm, 611, rfl⟩
abbrev main_call2_call0_v51 : Ref sig .tc := ⟨.hbm, 612, rfl⟩
abbrev main_call2_call0_v52 : Ref sig .tc := ⟨.hbm, 613, rfl⟩
abbrev main_call2_call0_v53 : Ref sig .tc := ⟨.hbm, 614, rfl⟩
abbrev main_call2_call0_v54 : Ref sig .tc := ⟨.hbm, 615, rfl⟩
abbrev main_call2_call0_c_13 : Ref sig .tc := ⟨.hbm, 616, rfl⟩
abbrev main_call2_call0_v55 : Ref sig .tc := ⟨.hbm, 617, rfl⟩
abbrev main_call2_call0_v56 : Ref sig .tc := ⟨.hbm, 618, rfl⟩
abbrev main_call2_call0_c_14 : Ref sig .tc := ⟨.hbm, 619, rfl⟩
abbrev main_call2_call0_v57 : Ref sig .tc := ⟨.hbm, 620, rfl⟩
abbrev main_call2_call0_v58 : Ref sig .tc := ⟨.hbm, 621, rfl⟩
abbrev main_call2_call0_v59 : Ref sig .tc := ⟨.hbm, 622, rfl⟩
abbrev main_call2_call0_v60 : Ref sig .tc := ⟨.hbm, 623, rfl⟩
abbrev main_call2_call0_v61 : Ref sig .tc := ⟨.hbm, 624, rfl⟩
abbrev main_call2_call0_c_15 : Ref sig .tc := ⟨.hbm, 625, rfl⟩
abbrev main_call2_call0_v62 : Ref sig .tc := ⟨.hbm, 626, rfl⟩
abbrev main_call2_call0_v63 : Ref sig .tc := ⟨.hbm, 627, rfl⟩
abbrev main_call2_call0_c_16 : Ref sig .tc := ⟨.hbm, 628, rfl⟩
abbrev main_call2_call0_v64 : Ref sig .tc := ⟨.hbm, 629, rfl⟩
abbrev main_call2_call0_v65 : Ref sig .tc := ⟨.hbm, 630, rfl⟩
abbrev main_call2_call0_v66 : Ref sig .tc := ⟨.hbm, 631, rfl⟩
abbrev main_call2_call0_v67 : Ref sig .tc := ⟨.hbm, 632, rfl⟩
abbrev main_call2_call0_v68 : Ref sig .tc := ⟨.hbm, 633, rfl⟩
abbrev main_call2_call0_v69 : Ref sig .tc := ⟨.hbm, 634, rfl⟩
abbrev main_call2_call0_v70 : Ref sig .tc := ⟨.hbm, 635, rfl⟩
abbrev main_call2_call0_v71 : Ref sig .tc := ⟨.hbm, 636, rfl⟩
abbrev main_call2_call0_c_17 : Ref sig .tc := ⟨.hbm, 637, rfl⟩
abbrev main_call2_call0_v72 : Ref sig .tc := ⟨.hbm, 638, rfl⟩
abbrev main_call2_call0_v73 : Ref sig .tc := ⟨.hbm, 639, rfl⟩
abbrev main_call2_call0_v74 : Ref sig .tc := ⟨.hbm, 640, rfl⟩
abbrev main_call2_call0_c_18 : Ref sig .tc := ⟨.hbm, 641, rfl⟩
abbrev main_call2_call0_v75 : Ref sig .tc := ⟨.hbm, 642, rfl⟩
abbrev main_call2_call0_v76 : Ref sig .tc := ⟨.hbm, 643, rfl⟩
abbrev main_call2_call0_c_19 : Ref sig .tc := ⟨.hbm, 644, rfl⟩
abbrev main_call2_call0_v77 : Ref sig .tc := ⟨.hbm, 645, rfl⟩
abbrev main_call2_call0_v78 : Ref sig .tc := ⟨.hbm, 646, rfl⟩
abbrev main_call2_call0_v79 : Ref sig .tc := ⟨.hbm, 647, rfl⟩
abbrev main_call2_call0_v80 : Ref sig .tc := ⟨.hbm, 648, rfl⟩
abbrev main_call2_call0_v81 : Ref sig .tc := ⟨.hbm, 649, rfl⟩
abbrev main_call2_call0_c_20 : Ref sig .tc := ⟨.hbm, 650, rfl⟩
abbrev main_call2_call0_v82 : Ref sig .tc := ⟨.hbm, 651, rfl⟩
abbrev main_call2_call0_v83 : Ref sig .tc := ⟨.hbm, 652, rfl⟩
abbrev main_call2_call0_c_21 : Ref sig .tc := ⟨.hbm, 653, rfl⟩
abbrev main_call2_call0_v84 : Ref sig .tc := ⟨.hbm, 654, rfl⟩
abbrev main_call2_call0_v85 : Ref sig .tc := ⟨.hbm, 655, rfl⟩
abbrev main_call2_call0_v86 : Ref sig .tc := ⟨.hbm, 656, rfl⟩
abbrev main_call2_call0_v87 : Ref sig .tc := ⟨.hbm, 657, rfl⟩
abbrev main_call2_call0_v88 : Ref sig .tc := ⟨.hbm, 658, rfl⟩
abbrev main_call2_call0_c_22 : Ref sig .tc := ⟨.hbm, 659, rfl⟩
abbrev main_call2_call0_v89 : Ref sig .tc := ⟨.hbm, 660, rfl⟩
abbrev main_call2_call0_v90 : Ref sig .tc := ⟨.hbm, 661, rfl⟩
abbrev main_call2_call0_c_23 : Ref sig .tc := ⟨.hbm, 662, rfl⟩
abbrev main_call2_call0_v91 : Ref sig .tc := ⟨.hbm, 663, rfl⟩
abbrev main_call2_call0_v92 : Ref sig .tc := ⟨.hbm, 664, rfl⟩
abbrev main_call2_call0_v93 : Ref sig .tc := ⟨.hbm, 665, rfl⟩
abbrev main_call2_call0_v94 : Ref sig .tc := ⟨.hbm, 666, rfl⟩
abbrev main_call2_call0_v95 : Ref sig .tc := ⟨.hbm, 667, rfl⟩
abbrev main_call2_call0_c_24 : Ref sig .tc := ⟨.hbm, 668, rfl⟩
abbrev main_call2_call0_v96 : Ref sig .tc := ⟨.hbm, 669, rfl⟩
abbrev main_call2_call0_v97 : Ref sig .tc := ⟨.hbm, 670, rfl⟩
abbrev main_call2_call0_c_25 : Ref sig .tc := ⟨.hbm, 671, rfl⟩
abbrev main_call2_call0_v98 : Ref sig .tc := ⟨.hbm, 672, rfl⟩
abbrev main_call2_call0_v99 : Ref sig .tc := ⟨.hbm, 673, rfl⟩
abbrev main_call2_call0_v100 : Ref sig .tc := ⟨.hbm, 674, rfl⟩
abbrev main_call2_call0_v101 : Ref sig .tc := ⟨.hbm, 675, rfl⟩
abbrev main_call2_call0_v102 : Ref sig .tc := ⟨.hbm, 676, rfl⟩
abbrev main_call2_call0_v103 : Ref sig .tc := ⟨.hbm, 677, rfl⟩
abbrev main_call2_call0_v104 : Ref sig .tc := ⟨.hbm, 678, rfl⟩
abbrev main_call2_call0_v105 : Ref sig .tc := ⟨.hbm, 679, rfl⟩
abbrev main_call2_call0_c_26 : Ref sig .tc := ⟨.hbm, 680, rfl⟩
abbrev main_call2_call0_v106 : Ref sig .tc := ⟨.hbm, 681, rfl⟩
abbrev main_call2_call0_v107 : Ref sig .tc := ⟨.hbm, 682, rfl⟩
abbrev main_call2_call0_v108 : Ref sig .tc := ⟨.hbm, 683, rfl⟩
abbrev main_call2_call0_c_27 : Ref sig .tc := ⟨.hbm, 684, rfl⟩
abbrev main_call2_call0_v109 : Ref sig .tc := ⟨.hbm, 685, rfl⟩
abbrev main_call2_call0_v110 : Ref sig .tc := ⟨.hbm, 686, rfl⟩
abbrev main_call2_call0_c_28 : Ref sig .tc := ⟨.hbm, 687, rfl⟩
abbrev main_call2_call0_v111 : Ref sig .tc := ⟨.hbm, 688, rfl⟩
abbrev main_call2_call0_v112 : Ref sig .tc := ⟨.hbm, 689, rfl⟩
abbrev main_call2_call0_v113 : Ref sig .tc := ⟨.hbm, 690, rfl⟩
abbrev main_call2_call0_v114 : Ref sig .tc := ⟨.hbm, 691, rfl⟩
abbrev main_call2_call0_v115 : Ref sig .tc := ⟨.hbm, 692, rfl⟩
abbrev main_call2_call0_c_29 : Ref sig .tc := ⟨.hbm, 693, rfl⟩
abbrev main_call2_call0_v116 : Ref sig .tc := ⟨.hbm, 694, rfl⟩
abbrev main_call2_call0_v117 : Ref sig .tc := ⟨.hbm, 695, rfl⟩
abbrev main_call2_call0_c_30 : Ref sig .tc := ⟨.hbm, 696, rfl⟩
abbrev main_call2_call0_v118 : Ref sig .tc := ⟨.hbm, 697, rfl⟩
abbrev main_call2_call0_v119 : Ref sig .tc := ⟨.hbm, 698, rfl⟩
abbrev main_call2_call0_v120 : Ref sig .tc := ⟨.hbm, 699, rfl⟩
abbrev main_call2_call0_v121 : Ref sig .tc := ⟨.hbm, 700, rfl⟩
abbrev main_call2_call0_v122 : Ref sig .tc := ⟨.hbm, 701, rfl⟩
abbrev main_call2_call0_c_31 : Ref sig .tc := ⟨.hbm, 702, rfl⟩
abbrev main_call2_call0_v123 : Ref sig .tc := ⟨.hbm, 703, rfl⟩
abbrev main_call2_call0_v124 : Ref sig .tc := ⟨.hbm, 704, rfl⟩
abbrev main_call2_call0_c_32 : Ref sig .tc := ⟨.hbm, 705, rfl⟩
abbrev main_call2_call0_v125 : Ref sig .tc := ⟨.hbm, 706, rfl⟩
abbrev main_call2_call0_v126 : Ref sig .tc := ⟨.hbm, 707, rfl⟩
abbrev main_call2_call0_v127 : Ref sig .tc := ⟨.hbm, 708, rfl⟩
abbrev main_call2_call0_v128 : Ref sig .tc := ⟨.hbm, 709, rfl⟩
abbrev main_call2_call0_v129 : Ref sig .tc := ⟨.hbm, 710, rfl⟩
abbrev main_call2_call0_c_33 : Ref sig .tc := ⟨.hbm, 711, rfl⟩
abbrev main_call2_call0_v130 : Ref sig .tc := ⟨.hbm, 712, rfl⟩
abbrev main_call2_call0_v131 : Ref sig .tc := ⟨.hbm, 713, rfl⟩
abbrev main_call2_call0_c_34 : Ref sig .tc := ⟨.hbm, 714, rfl⟩
abbrev main_call2_call0_v132 : Ref sig .tc := ⟨.hbm, 715, rfl⟩
abbrev main_call2_call0_v133 : Ref sig .tc := ⟨.hbm, 716, rfl⟩
abbrev main_call2_call0_v134 : Ref sig .tc := ⟨.hbm, 717, rfl⟩
abbrev main_call2_call0_v135 : Ref sig .tc := ⟨.hbm, 718, rfl⟩
abbrev main_call2_call0_v136 : Ref sig .tc := ⟨.hbm, 719, rfl⟩
abbrev main_call2_call0_v137 : Ref sig .tc := ⟨.hbm, 720, rfl⟩
abbrev main_call2_call0_v138 : Ref sig .tc := ⟨.hbm, 721, rfl⟩
abbrev main_call2_call0_v139 : Ref sig .tc := ⟨.hbm, 722, rfl⟩
abbrev main_call2_call0_c_35 : Ref sig .tc := ⟨.hbm, 723, rfl⟩
abbrev main_call2_call0_v140 : Ref sig .tc := ⟨.hbm, 724, rfl⟩
abbrev main_call2_call0_v141 : Ref sig .tc := ⟨.hbm, 725, rfl⟩
abbrev main_call2_call0_v142 : Ref sig .tc := ⟨.hbm, 726, rfl⟩
abbrev main_call2_call0_c_36 : Ref sig .tc := ⟨.hbm, 727, rfl⟩
abbrev main_call2_call0_v143 : Ref sig .tc := ⟨.hbm, 728, rfl⟩
abbrev main_call2_call0_v144 : Ref sig .tc := ⟨.hbm, 729, rfl⟩
abbrev main_call2_call0_c_37 : Ref sig .tc := ⟨.hbm, 730, rfl⟩
abbrev main_call2_call0_v145 : Ref sig .tc := ⟨.hbm, 731, rfl⟩
abbrev main_call2_call0_v146 : Ref sig .tc := ⟨.hbm, 732, rfl⟩
abbrev main_call2_call0_v147 : Ref sig .tc := ⟨.hbm, 733, rfl⟩
abbrev main_call2_call0_v148 : Ref sig .tc := ⟨.hbm, 734, rfl⟩
abbrev main_call2_call0_v149 : Ref sig .tc := ⟨.hbm, 735, rfl⟩
abbrev main_call2_call0_c_38 : Ref sig .tc := ⟨.hbm, 736, rfl⟩
abbrev main_call2_call0_v150 : Ref sig .tc := ⟨.hbm, 737, rfl⟩
abbrev main_call2_call0_v151 : Ref sig .tc := ⟨.hbm, 738, rfl⟩
abbrev main_call2_call0_c_39 : Ref sig .tc := ⟨.hbm, 739, rfl⟩
abbrev main_call2_call0_v152 : Ref sig .tc := ⟨.hbm, 740, rfl⟩
abbrev main_call2_call0_v153 : Ref sig .tc := ⟨.hbm, 741, rfl⟩
abbrev main_call2_call0_v154 : Ref sig .tc := ⟨.hbm, 742, rfl⟩
abbrev main_call2_call0_v155 : Ref sig .tc := ⟨.hbm, 743, rfl⟩
abbrev main_call2_call0_v156 : Ref sig .tc := ⟨.hbm, 744, rfl⟩
abbrev main_call2_call0_c_40 : Ref sig .tc := ⟨.hbm, 745, rfl⟩
abbrev main_call2_call0_v157 : Ref sig .tc := ⟨.hbm, 746, rfl⟩
abbrev main_call2_call0_v158 : Ref sig .tc := ⟨.hbm, 747, rfl⟩
abbrev main_call2_call0_c_41 : Ref sig .tc := ⟨.hbm, 748, rfl⟩
abbrev main_call2_call0_v159 : Ref sig .tc := ⟨.hbm, 749, rfl⟩
abbrev main_call2_call0_v160 : Ref sig .tc := ⟨.hbm, 750, rfl⟩
abbrev main_call2_call0_v161 : Ref sig .tc := ⟨.hbm, 751, rfl⟩
abbrev main_call2_call0_v162 : Ref sig .tc := ⟨.hbm, 752, rfl⟩
abbrev main_call2_call0_v163 : Ref sig .tc := ⟨.hbm, 753, rfl⟩
abbrev main_call2_call0_c_42 : Ref sig .tc := ⟨.hbm, 754, rfl⟩
abbrev main_call2_call0_v164 : Ref sig .tc := ⟨.hbm, 755, rfl⟩
abbrev main_call2_call0_v165 : Ref sig .tc := ⟨.hbm, 756, rfl⟩
abbrev main_call2_call0_c_43 : Ref sig .tc := ⟨.hbm, 757, rfl⟩
abbrev main_call2_call0_v166 : Ref sig .tc := ⟨.hbm, 758, rfl⟩
abbrev main_call2_call0_v167 : Ref sig .tc := ⟨.hbm, 759, rfl⟩
abbrev main_call2_call0_v168 : Ref sig .tc := ⟨.hbm, 760, rfl⟩
abbrev main_call2_call0_v169 : Ref sig .tc := ⟨.hbm, 761, rfl⟩
abbrev main_call2_call0_v170 : Ref sig .tc := ⟨.hbm, 762, rfl⟩
abbrev main_call2_v15_0 : Ref sig .tc := ⟨.hbm, 763, rfl⟩
abbrev main_call2_call0_v172 : Ref sig .tc := ⟨.hbm, 764, rfl⟩
abbrev main_call2_call0_v173 : Ref sig .tc := ⟨.hbm, 765, rfl⟩
abbrev main_call2_call0_c_44 : Ref sig .tc := ⟨.hbm, 766, rfl⟩
abbrev main_call2_call0_v174 : Ref sig .tc := ⟨.hbm, 767, rfl⟩
abbrev main_call2_v15_1 : Ref sig .tc := ⟨.hbm, 768, rfl⟩
abbrev main_call2_v16 : Ref sig .tc := ⟨.hbm, 769, rfl⟩
abbrev main_call2_c_1 : Ref sig .tc := ⟨.hbm, 770, rfl⟩
abbrev main_call2_v17 : Ref sig .tc := ⟨.hbm, 771, rfl⟩
abbrev main_call2_v18 : Ref sig .tc := ⟨.hbm, 772, rfl⟩
abbrev main_call2_c_2 : Ref sig .tc := ⟨.hbm, 773, rfl⟩
abbrev main_call2_v19 : Ref sig .tc := ⟨.hbm, 774, rfl⟩
abbrev main_call2_v20 : Ref sig .tc := ⟨.hbm, 775, rfl⟩
abbrev main_call2_v21 : Ref sig .tc := ⟨.hbm, 776, rfl⟩
abbrev main_call2_cst : Ref sig .tc := ⟨.hbm, 777, rfl⟩
abbrev main_call2_v22 : Ref sig .tc := ⟨.hbm, 778, rfl⟩
abbrev main_call2_v23 : Ref sig .tc := ⟨.hbm, 779, rfl⟩
abbrev main_call2_v24 : Ref sig .tc := ⟨.hbm, 780, rfl⟩
abbrev main_call2_v25 : Ref sig .tc := ⟨.hbm, 781, rfl⟩
abbrev main_call2_v26 : Ref sig .tc := ⟨.hbm, 782, rfl⟩
abbrev main_call2_v27 : Ref sig .tc := ⟨.hbm, 783, rfl⟩
abbrev main_call2_v28 : Ref sig .tc := ⟨.hbm, 784, rfl⟩
abbrev main_call2_v29 : Ref sig .tc := ⟨.hbm, 785, rfl⟩
abbrev main_v15 : Ref sig .tc := ⟨.hbm, 786, rfl⟩
abbrev main_call3_v0 : Ref sig .tc := ⟨.hbm, 787, rfl⟩
abbrev main_call3_v1 : Ref sig .tc := ⟨.hbm, 788, rfl⟩
abbrev main_call3_v2 : Ref sig .tc := ⟨.hbm, 789, rfl⟩
abbrev main_call3_v3 : Ref sig .tc := ⟨.hbm, 790, rfl⟩
abbrev main_call3_v4 : Ref sig .tc := ⟨.hbm, 791, rfl⟩
abbrev main_call3_c : Ref sig .tc := ⟨.hbm, 792, rfl⟩
abbrev main_call3_v5 : Ref sig .tc := ⟨.hbm, 793, rfl⟩
abbrev main_call3_v6 : Ref sig .tc := ⟨.hbm, 794, rfl⟩
abbrev main_call3_c_0 : Ref sig .tc := ⟨.hbm, 795, rfl⟩
abbrev main_call3_v7 : Ref sig .tc := ⟨.hbm, 796, rfl⟩
abbrev main_call3_v8 : Ref sig .tc := ⟨.hbm, 797, rfl⟩
abbrev main_call3_v9 : Ref sig .tc := ⟨.hbm, 798, rfl⟩
abbrev main_call3_v10 : Ref sig .tc := ⟨.hbm, 799, rfl⟩
abbrev main_call3_call0_v0 : Ref sig .tc := ⟨.hbm, 800, rfl⟩
abbrev main_call3_call0_c : Ref sig .tc := ⟨.hbm, 801, rfl⟩
abbrev main_call3_call0_v1 : Ref sig .tc := ⟨.hbm, 802, rfl⟩
abbrev main_call3_call0_v2 : Ref sig .tc := ⟨.hbm, 803, rfl⟩
abbrev main_call3_call0_v3 : Ref sig .tc := ⟨.hbm, 804, rfl⟩
abbrev main_call3_call0_v4 : Ref sig .tc := ⟨.hbm, 805, rfl⟩
abbrev main_call3_call0_v5 : Ref sig .tc := ⟨.hbm, 806, rfl⟩
abbrev main_call3_call0_v6 : Ref sig .tc := ⟨.hbm, 807, rfl⟩
abbrev main_call3_call0_c_0 : Ref sig .tc := ⟨.hbm, 808, rfl⟩
abbrev main_call3_call0_v7 : Ref sig .tc := ⟨.hbm, 809, rfl⟩
abbrev main_call3_call0_v8 : Ref sig .tc := ⟨.hbm, 810, rfl⟩
abbrev main_call3_call0_c_1 : Ref sig .tc := ⟨.hbm, 811, rfl⟩
abbrev main_call3_call0_v9 : Ref sig .tc := ⟨.hbm, 812, rfl⟩
abbrev main_call3_call0_v10 : Ref sig .tc := ⟨.hbm, 813, rfl⟩
abbrev main_call3_call0_v11 : Ref sig .tc := ⟨.hbm, 814, rfl⟩
abbrev main_call3_call0_v12 : Ref sig .tc := ⟨.hbm, 815, rfl⟩
abbrev main_call3_call0_v13 : Ref sig .tc := ⟨.hbm, 816, rfl⟩
abbrev main_call3_call0_c_2 : Ref sig .tc := ⟨.hbm, 817, rfl⟩
abbrev main_call3_call0_v14 : Ref sig .tc := ⟨.hbm, 818, rfl⟩
abbrev main_call3_call0_v15 : Ref sig .tc := ⟨.hbm, 819, rfl⟩
abbrev main_call3_call0_c_3 : Ref sig .tc := ⟨.hbm, 820, rfl⟩
abbrev main_call3_call0_v16 : Ref sig .tc := ⟨.hbm, 821, rfl⟩
abbrev main_call3_call0_v17 : Ref sig .tc := ⟨.hbm, 822, rfl⟩
abbrev main_call3_call0_v18 : Ref sig .tc := ⟨.hbm, 823, rfl⟩
abbrev main_call3_call0_v19 : Ref sig .tc := ⟨.hbm, 824, rfl⟩
abbrev main_call3_call0_v20 : Ref sig .tc := ⟨.hbm, 825, rfl⟩
abbrev main_call3_call0_c_4 : Ref sig .tc := ⟨.hbm, 826, rfl⟩
abbrev main_call3_call0_v21 : Ref sig .tc := ⟨.hbm, 827, rfl⟩
abbrev main_call3_call0_v22 : Ref sig .tc := ⟨.hbm, 828, rfl⟩
abbrev main_call3_call0_c_5 : Ref sig .tc := ⟨.hbm, 829, rfl⟩
abbrev main_call3_call0_v23 : Ref sig .tc := ⟨.hbm, 830, rfl⟩
abbrev main_call3_call0_v24 : Ref sig .tc := ⟨.hbm, 831, rfl⟩
abbrev main_call3_call0_v25 : Ref sig .tc := ⟨.hbm, 832, rfl⟩
abbrev main_call3_call0_v26 : Ref sig .tc := ⟨.hbm, 833, rfl⟩
abbrev main_call3_call0_v27 : Ref sig .tc := ⟨.hbm, 834, rfl⟩
abbrev main_call3_call0_c_6 : Ref sig .tc := ⟨.hbm, 835, rfl⟩
abbrev main_call3_call0_v28 : Ref sig .tc := ⟨.hbm, 836, rfl⟩
abbrev main_call3_call0_v29 : Ref sig .tc := ⟨.hbm, 837, rfl⟩
abbrev main_call3_call0_c_7 : Ref sig .tc := ⟨.hbm, 838, rfl⟩
abbrev main_call3_call0_v30 : Ref sig .tc := ⟨.hbm, 839, rfl⟩
abbrev main_call3_call0_v31 : Ref sig .tc := ⟨.hbm, 840, rfl⟩
abbrev main_call3_call0_v32 : Ref sig .tc := ⟨.hbm, 841, rfl⟩
abbrev main_call3_call0_v33 : Ref sig .tc := ⟨.hbm, 842, rfl⟩
abbrev main_call3_call0_v34 : Ref sig .tc := ⟨.hbm, 843, rfl⟩
abbrev main_call3_call0_v35 : Ref sig .tc := ⟨.hbm, 844, rfl⟩
abbrev main_call3_call0_v36 : Ref sig .tc := ⟨.hbm, 845, rfl⟩
abbrev main_call3_call0_v37 : Ref sig .tc := ⟨.hbm, 846, rfl⟩
abbrev main_call3_call0_c_8 : Ref sig .tc := ⟨.hbm, 847, rfl⟩
abbrev main_call3_call0_v38 : Ref sig .tc := ⟨.hbm, 848, rfl⟩
abbrev main_call3_call0_v39 : Ref sig .tc := ⟨.hbm, 849, rfl⟩
abbrev main_call3_call0_v40 : Ref sig .tc := ⟨.hbm, 850, rfl⟩
abbrev main_call3_call0_c_9 : Ref sig .tc := ⟨.hbm, 851, rfl⟩
abbrev main_call3_call0_v41 : Ref sig .tc := ⟨.hbm, 852, rfl⟩
abbrev main_call3_call0_v42 : Ref sig .tc := ⟨.hbm, 853, rfl⟩
abbrev main_call3_call0_c_10 : Ref sig .tc := ⟨.hbm, 854, rfl⟩
abbrev main_call3_call0_v43 : Ref sig .tc := ⟨.hbm, 855, rfl⟩
abbrev main_call3_call0_v44 : Ref sig .tc := ⟨.hbm, 856, rfl⟩
abbrev main_call3_call0_v45 : Ref sig .tc := ⟨.hbm, 857, rfl⟩
abbrev main_call3_call0_v46 : Ref sig .tc := ⟨.hbm, 858, rfl⟩
abbrev main_call3_call0_v47 : Ref sig .tc := ⟨.hbm, 859, rfl⟩
abbrev main_call3_call0_c_11 : Ref sig .tc := ⟨.hbm, 860, rfl⟩
abbrev main_call3_call0_v48 : Ref sig .tc := ⟨.hbm, 861, rfl⟩
abbrev main_call3_call0_v49 : Ref sig .tc := ⟨.hbm, 862, rfl⟩
abbrev main_call3_call0_c_12 : Ref sig .tc := ⟨.hbm, 863, rfl⟩
abbrev main_call3_call0_v50 : Ref sig .tc := ⟨.hbm, 864, rfl⟩
abbrev main_call3_call0_v51 : Ref sig .tc := ⟨.hbm, 865, rfl⟩
abbrev main_call3_call0_v52 : Ref sig .tc := ⟨.hbm, 866, rfl⟩
abbrev main_call3_call0_v53 : Ref sig .tc := ⟨.hbm, 867, rfl⟩
abbrev main_call3_call0_v54 : Ref sig .tc := ⟨.hbm, 868, rfl⟩
abbrev main_call3_call0_c_13 : Ref sig .tc := ⟨.hbm, 869, rfl⟩
abbrev main_call3_call0_v55 : Ref sig .tc := ⟨.hbm, 870, rfl⟩
abbrev main_call3_call0_v56 : Ref sig .tc := ⟨.hbm, 871, rfl⟩
abbrev main_call3_call0_c_14 : Ref sig .tc := ⟨.hbm, 872, rfl⟩
abbrev main_call3_call0_v57 : Ref sig .tc := ⟨.hbm, 873, rfl⟩
abbrev main_call3_call0_v58 : Ref sig .tc := ⟨.hbm, 874, rfl⟩
abbrev main_call3_call0_v59 : Ref sig .tc := ⟨.hbm, 875, rfl⟩
abbrev main_call3_call0_v60 : Ref sig .tc := ⟨.hbm, 876, rfl⟩
abbrev main_call3_call0_v61 : Ref sig .tc := ⟨.hbm, 877, rfl⟩
abbrev main_call3_call0_c_15 : Ref sig .tc := ⟨.hbm, 878, rfl⟩
abbrev main_call3_call0_v62 : Ref sig .tc := ⟨.hbm, 879, rfl⟩
abbrev main_call3_call0_v63 : Ref sig .tc := ⟨.hbm, 880, rfl⟩
abbrev main_call3_call0_c_16 : Ref sig .tc := ⟨.hbm, 881, rfl⟩
abbrev main_call3_call0_v64 : Ref sig .tc := ⟨.hbm, 882, rfl⟩
abbrev main_call3_call0_v65 : Ref sig .tc := ⟨.hbm, 883, rfl⟩
abbrev main_call3_call0_v66 : Ref sig .tc := ⟨.hbm, 884, rfl⟩
abbrev main_call3_call0_v67 : Ref sig .tc := ⟨.hbm, 885, rfl⟩
abbrev main_call3_call0_v68 : Ref sig .tc := ⟨.hbm, 886, rfl⟩
abbrev main_call3_call0_v69 : Ref sig .tc := ⟨.hbm, 887, rfl⟩
abbrev main_call3_call0_v70 : Ref sig .tc := ⟨.hbm, 888, rfl⟩
abbrev main_call3_call0_v71 : Ref sig .tc := ⟨.hbm, 889, rfl⟩
abbrev main_call3_call0_c_17 : Ref sig .tc := ⟨.hbm, 890, rfl⟩
abbrev main_call3_call0_v72 : Ref sig .tc := ⟨.hbm, 891, rfl⟩
abbrev main_call3_call0_v73 : Ref sig .tc := ⟨.hbm, 892, rfl⟩
abbrev main_call3_call0_v74 : Ref sig .tc := ⟨.hbm, 893, rfl⟩
abbrev main_call3_call0_c_18 : Ref sig .tc := ⟨.hbm, 894, rfl⟩
abbrev main_call3_call0_v75 : Ref sig .tc := ⟨.hbm, 895, rfl⟩
abbrev main_call3_call0_v76 : Ref sig .tc := ⟨.hbm, 896, rfl⟩
abbrev main_call3_call0_c_19 : Ref sig .tc := ⟨.hbm, 897, rfl⟩
abbrev main_call3_call0_v77 : Ref sig .tc := ⟨.hbm, 898, rfl⟩
abbrev main_call3_call0_v78 : Ref sig .tc := ⟨.hbm, 899, rfl⟩
abbrev main_call3_call0_v79 : Ref sig .tc := ⟨.hbm, 900, rfl⟩
abbrev main_call3_call0_v80 : Ref sig .tc := ⟨.hbm, 901, rfl⟩
abbrev main_call3_call0_v81 : Ref sig .tc := ⟨.hbm, 902, rfl⟩
abbrev main_call3_call0_c_20 : Ref sig .tc := ⟨.hbm, 903, rfl⟩
abbrev main_call3_call0_v82 : Ref sig .tc := ⟨.hbm, 904, rfl⟩
abbrev main_call3_call0_v83 : Ref sig .tc := ⟨.hbm, 905, rfl⟩
abbrev main_call3_call0_c_21 : Ref sig .tc := ⟨.hbm, 906, rfl⟩
abbrev main_call3_call0_v84 : Ref sig .tc := ⟨.hbm, 907, rfl⟩
abbrev main_call3_call0_v85 : Ref sig .tc := ⟨.hbm, 908, rfl⟩
abbrev main_call3_call0_v86 : Ref sig .tc := ⟨.hbm, 909, rfl⟩
abbrev main_call3_call0_v87 : Ref sig .tc := ⟨.hbm, 910, rfl⟩
abbrev main_call3_call0_v88 : Ref sig .tc := ⟨.hbm, 911, rfl⟩
abbrev main_call3_call0_c_22 : Ref sig .tc := ⟨.hbm, 912, rfl⟩
abbrev main_call3_call0_v89 : Ref sig .tc := ⟨.hbm, 913, rfl⟩
abbrev main_call3_call0_v90 : Ref sig .tc := ⟨.hbm, 914, rfl⟩
abbrev main_call3_call0_c_23 : Ref sig .tc := ⟨.hbm, 915, rfl⟩
abbrev main_call3_call0_v91 : Ref sig .tc := ⟨.hbm, 916, rfl⟩
abbrev main_call3_call0_v92 : Ref sig .tc := ⟨.hbm, 917, rfl⟩
abbrev main_call3_call0_v93 : Ref sig .tc := ⟨.hbm, 918, rfl⟩
abbrev main_call3_call0_v94 : Ref sig .tc := ⟨.hbm, 919, rfl⟩
abbrev main_call3_call0_v95 : Ref sig .tc := ⟨.hbm, 920, rfl⟩
abbrev main_call3_call0_c_24 : Ref sig .tc := ⟨.hbm, 921, rfl⟩
abbrev main_call3_call0_v96 : Ref sig .tc := ⟨.hbm, 922, rfl⟩
abbrev main_call3_call0_v97 : Ref sig .tc := ⟨.hbm, 923, rfl⟩
abbrev main_call3_call0_c_25 : Ref sig .tc := ⟨.hbm, 924, rfl⟩
abbrev main_call3_call0_v98 : Ref sig .tc := ⟨.hbm, 925, rfl⟩
abbrev main_call3_call0_v99 : Ref sig .tc := ⟨.hbm, 926, rfl⟩
abbrev main_call3_call0_v100 : Ref sig .tc := ⟨.hbm, 927, rfl⟩
abbrev main_call3_call0_v101 : Ref sig .tc := ⟨.hbm, 928, rfl⟩
abbrev main_call3_call0_v102 : Ref sig .tc := ⟨.hbm, 929, rfl⟩
abbrev main_call3_call0_v103 : Ref sig .tc := ⟨.hbm, 930, rfl⟩
abbrev main_call3_call0_v104 : Ref sig .tc := ⟨.hbm, 931, rfl⟩
abbrev main_call3_call0_v105 : Ref sig .tc := ⟨.hbm, 932, rfl⟩
abbrev main_call3_call0_c_26 : Ref sig .tc := ⟨.hbm, 933, rfl⟩
abbrev main_call3_call0_v106 : Ref sig .tc := ⟨.hbm, 934, rfl⟩
abbrev main_call3_call0_v107 : Ref sig .tc := ⟨.hbm, 935, rfl⟩
abbrev main_call3_call0_v108 : Ref sig .tc := ⟨.hbm, 936, rfl⟩
abbrev main_call3_call0_c_27 : Ref sig .tc := ⟨.hbm, 937, rfl⟩
abbrev main_call3_call0_v109 : Ref sig .tc := ⟨.hbm, 938, rfl⟩
abbrev main_call3_call0_v110 : Ref sig .tc := ⟨.hbm, 939, rfl⟩
abbrev main_call3_call0_c_28 : Ref sig .tc := ⟨.hbm, 940, rfl⟩
abbrev main_call3_call0_v111 : Ref sig .tc := ⟨.hbm, 941, rfl⟩
abbrev main_call3_call0_v112 : Ref sig .tc := ⟨.hbm, 942, rfl⟩
abbrev main_call3_call0_v113 : Ref sig .tc := ⟨.hbm, 943, rfl⟩
abbrev main_call3_call0_v114 : Ref sig .tc := ⟨.hbm, 944, rfl⟩
abbrev main_call3_call0_v115 : Ref sig .tc := ⟨.hbm, 945, rfl⟩
abbrev main_call3_call0_c_29 : Ref sig .tc := ⟨.hbm, 946, rfl⟩
abbrev main_call3_call0_v116 : Ref sig .tc := ⟨.hbm, 947, rfl⟩
abbrev main_call3_call0_v117 : Ref sig .tc := ⟨.hbm, 948, rfl⟩
abbrev main_call3_call0_c_30 : Ref sig .tc := ⟨.hbm, 949, rfl⟩
abbrev main_call3_call0_v118 : Ref sig .tc := ⟨.hbm, 950, rfl⟩
abbrev main_call3_call0_v119 : Ref sig .tc := ⟨.hbm, 951, rfl⟩
abbrev main_call3_call0_v120 : Ref sig .tc := ⟨.hbm, 952, rfl⟩
abbrev main_call3_call0_v121 : Ref sig .tc := ⟨.hbm, 953, rfl⟩
abbrev main_call3_call0_v122 : Ref sig .tc := ⟨.hbm, 954, rfl⟩
abbrev main_call3_call0_c_31 : Ref sig .tc := ⟨.hbm, 955, rfl⟩
abbrev main_call3_call0_v123 : Ref sig .tc := ⟨.hbm, 956, rfl⟩
abbrev main_call3_call0_v124 : Ref sig .tc := ⟨.hbm, 957, rfl⟩
abbrev main_call3_call0_c_32 : Ref sig .tc := ⟨.hbm, 958, rfl⟩
abbrev main_call3_call0_v125 : Ref sig .tc := ⟨.hbm, 959, rfl⟩
abbrev main_call3_call0_v126 : Ref sig .tc := ⟨.hbm, 960, rfl⟩
abbrev main_call3_call0_v127 : Ref sig .tc := ⟨.hbm, 961, rfl⟩
abbrev main_call3_call0_v128 : Ref sig .tc := ⟨.hbm, 962, rfl⟩
abbrev main_call3_call0_v129 : Ref sig .tc := ⟨.hbm, 963, rfl⟩
abbrev main_call3_call0_c_33 : Ref sig .tc := ⟨.hbm, 964, rfl⟩
abbrev main_call3_call0_v130 : Ref sig .tc := ⟨.hbm, 965, rfl⟩
abbrev main_call3_call0_v131 : Ref sig .tc := ⟨.hbm, 966, rfl⟩
abbrev main_call3_call0_c_34 : Ref sig .tc := ⟨.hbm, 967, rfl⟩
abbrev main_call3_call0_v132 : Ref sig .tc := ⟨.hbm, 968, rfl⟩
abbrev main_call3_call0_v133 : Ref sig .tc := ⟨.hbm, 969, rfl⟩
abbrev main_call3_call0_v134 : Ref sig .tc := ⟨.hbm, 970, rfl⟩
abbrev main_call3_call0_v135 : Ref sig .tc := ⟨.hbm, 971, rfl⟩
abbrev main_call3_call0_v136 : Ref sig .tc := ⟨.hbm, 972, rfl⟩
abbrev main_call3_call0_v137 : Ref sig .tc := ⟨.hbm, 973, rfl⟩
abbrev main_call3_call0_v138 : Ref sig .tc := ⟨.hbm, 974, rfl⟩
abbrev main_call3_call0_v139 : Ref sig .tc := ⟨.hbm, 975, rfl⟩
abbrev main_call3_call0_c_35 : Ref sig .tc := ⟨.hbm, 976, rfl⟩
abbrev main_call3_call0_v140 : Ref sig .tc := ⟨.hbm, 977, rfl⟩
abbrev main_call3_call0_v141 : Ref sig .tc := ⟨.hbm, 978, rfl⟩
abbrev main_call3_call0_v142 : Ref sig .tc := ⟨.hbm, 979, rfl⟩
abbrev main_call3_call0_c_36 : Ref sig .tc := ⟨.hbm, 980, rfl⟩
abbrev main_call3_call0_v143 : Ref sig .tc := ⟨.hbm, 981, rfl⟩
abbrev main_call3_call0_v144 : Ref sig .tc := ⟨.hbm, 982, rfl⟩
abbrev main_call3_call0_c_37 : Ref sig .tc := ⟨.hbm, 983, rfl⟩
abbrev main_call3_call0_v145 : Ref sig .tc := ⟨.hbm, 984, rfl⟩
abbrev main_call3_call0_v146 : Ref sig .tc := ⟨.hbm, 985, rfl⟩
abbrev main_call3_call0_v147 : Ref sig .tc := ⟨.hbm, 986, rfl⟩
abbrev main_call3_call0_v148 : Ref sig .tc := ⟨.hbm, 987, rfl⟩
abbrev main_call3_call0_v149 : Ref sig .tc := ⟨.hbm, 988, rfl⟩
abbrev main_call3_call0_c_38 : Ref sig .tc := ⟨.hbm, 989, rfl⟩
abbrev main_call3_call0_v150 : Ref sig .tc := ⟨.hbm, 990, rfl⟩
abbrev main_call3_call0_v151 : Ref sig .tc := ⟨.hbm, 991, rfl⟩
abbrev main_call3_call0_c_39 : Ref sig .tc := ⟨.hbm, 992, rfl⟩
abbrev main_call3_call0_v152 : Ref sig .tc := ⟨.hbm, 993, rfl⟩
abbrev main_call3_call0_v153 : Ref sig .tc := ⟨.hbm, 994, rfl⟩
abbrev main_call3_call0_v154 : Ref sig .tc := ⟨.hbm, 995, rfl⟩
abbrev main_call3_call0_v155 : Ref sig .tc := ⟨.hbm, 996, rfl⟩
abbrev main_call3_call0_v156 : Ref sig .tc := ⟨.hbm, 997, rfl⟩
abbrev main_call3_call0_c_40 : Ref sig .tc := ⟨.hbm, 998, rfl⟩
abbrev main_call3_call0_v157 : Ref sig .tc := ⟨.hbm, 999, rfl⟩
abbrev main_call3_call0_v158 : Ref sig .tc := ⟨.hbm, 1000, rfl⟩
abbrev main_call3_call0_c_41 : Ref sig .tc := ⟨.hbm, 1001, rfl⟩
abbrev main_call3_call0_v159 : Ref sig .tc := ⟨.hbm, 1002, rfl⟩
abbrev main_call3_call0_v160 : Ref sig .tc := ⟨.hbm, 1003, rfl⟩
abbrev main_call3_call0_v161 : Ref sig .tc := ⟨.hbm, 1004, rfl⟩
abbrev main_call3_call0_v162 : Ref sig .tc := ⟨.hbm, 1005, rfl⟩
abbrev main_call3_call0_v163 : Ref sig .tc := ⟨.hbm, 1006, rfl⟩
abbrev main_call3_call0_c_42 : Ref sig .tc := ⟨.hbm, 1007, rfl⟩
abbrev main_call3_call0_v164 : Ref sig .tc := ⟨.hbm, 1008, rfl⟩
abbrev main_call3_call0_v165 : Ref sig .tc := ⟨.hbm, 1009, rfl⟩
abbrev main_call3_call0_c_43 : Ref sig .tc := ⟨.hbm, 1010, rfl⟩
abbrev main_call3_call0_v166 : Ref sig .tc := ⟨.hbm, 1011, rfl⟩
abbrev main_call3_call0_v167 : Ref sig .tc := ⟨.hbm, 1012, rfl⟩
abbrev main_call3_call0_v168 : Ref sig .tc := ⟨.hbm, 1013, rfl⟩
abbrev main_call3_call0_v169 : Ref sig .tc := ⟨.hbm, 1014, rfl⟩
abbrev main_call3_call0_v170 : Ref sig .tc := ⟨.hbm, 1015, rfl⟩
abbrev main_call3_v11_0 : Ref sig .tc := ⟨.hbm, 1016, rfl⟩
abbrev main_call3_call0_v172 : Ref sig .tc := ⟨.hbm, 1017, rfl⟩
abbrev main_call3_call0_v173 : Ref sig .tc := ⟨.hbm, 1018, rfl⟩
abbrev main_call3_call0_c_44 : Ref sig .tc := ⟨.hbm, 1019, rfl⟩
abbrev main_call3_call0_v174 : Ref sig .tc := ⟨.hbm, 1020, rfl⟩
abbrev main_call3_v11_1 : Ref sig .tc := ⟨.hbm, 1021, rfl⟩
abbrev main_call3_v12 : Ref sig .tc := ⟨.hbm, 1022, rfl⟩
abbrev main_call3_v13 : Ref sig .tc := ⟨.hbm, 1023, rfl⟩
abbrev main_v16 : Ref sig .tc := ⟨.hbm, 1024, rfl⟩
abbrev main_v17 : Ref sig .tc := ⟨.hbm, 1025, rfl⟩
abbrev main_v18 : Ref sig .tc := ⟨.hbm, 1026, rfl⟩
abbrev main_v19 : Ref sig .tc := ⟨.hbm, 1027, rfl⟩
abbrev main_v20 : Ref sig .tc := ⟨.hbm, 1028, rfl⟩
abbrev main_v21 : Ref sig .tc := ⟨.hbm, 1029, rfl⟩
abbrev main_v22 : Ref sig .tc := ⟨.hbm, 1030, rfl⟩
abbrev main_call4_cst : Ref sig .tc := ⟨.hbm, 1031, rfl⟩
abbrev main_call4_cst_0 : Ref sig .tc := ⟨.hbm, 1032, rfl⟩
abbrev main_call4_call0_v0 : Ref sig .tc := ⟨.hbm, 1033, rfl⟩
abbrev main_call4_call0_v1 : Ref sig .tc := ⟨.hbm, 1034, rfl⟩
abbrev main_call4_call0_v2 : Ref sig .tc := ⟨.hbm, 1035, rfl⟩
abbrev main_call4_call0_v3 : Ref sig .tc := ⟨.hbm, 1036, rfl⟩
abbrev main_call4_call0_v4 : Ref sig .tc := ⟨.hbm, 1037, rfl⟩
abbrev main_call4_call0_v5 : Ref sig .tc := ⟨.hbm, 1038, rfl⟩
abbrev main_call4_call0_v6 : Ref sig .tc := ⟨.hbm, 1039, rfl⟩
abbrev main_call4_call0_v7 : Ref sig .tc := ⟨.hbm, 1040, rfl⟩
abbrev main_call4_call0_v8 : Ref sig .tc := ⟨.hbm, 1041, rfl⟩
abbrev main_call4_call0_v9 : Ref sig .tc := ⟨.hbm, 1042, rfl⟩
abbrev main_call4_call0_c : Ref sig .tc := ⟨.hbm, 1043, rfl⟩
abbrev main_call4_call0_v10 : Ref sig .tc := ⟨.hbm, 1044, rfl⟩
abbrev main_call4_call0_v11 : Ref sig .tc := ⟨.hbm, 1045, rfl⟩
abbrev main_call4_call0_c_0 : Ref sig .tc := ⟨.hbm, 1046, rfl⟩
abbrev main_call4_call0_v12 : Ref sig .tc := ⟨.hbm, 1047, rfl⟩
abbrev main_call4_call0_v13 : Ref sig .tc := ⟨.hbm, 1048, rfl⟩
abbrev main_call4_call0_c_1 : Ref sig .tc := ⟨.hbm, 1049, rfl⟩
abbrev main_call4_call0_v14 : Ref sig .tc := ⟨.hbm, 1050, rfl⟩
abbrev main_call4_call0_v15 : Ref sig .tc := ⟨.hbm, 1051, rfl⟩
abbrev main_call4_call0_v16 : Ref sig .tc := ⟨.hbm, 1052, rfl⟩
abbrev main_call4_call0_v17 : Ref sig .tc := ⟨.hbm, 1053, rfl⟩
abbrev main_call4_call0_c_2 : Ref sig .tc := ⟨.hbm, 1054, rfl⟩
abbrev main_call4_call0_v18 : Ref sig .tc := ⟨.hbm, 1055, rfl⟩
abbrev main_call4_call0_v19 : Ref sig .tc := ⟨.hbm, 1056, rfl⟩
abbrev main_call4_call0_v20 : Ref sig .tc := ⟨.hbm, 1057, rfl⟩
abbrev main_call4_call0_v21 : Ref sig .tc := ⟨.hbm, 1058, rfl⟩
abbrev main_call4_call0_call0_v0 : Ref sig .tc := ⟨.hbm, 1059, rfl⟩
abbrev main_call4_call0_call0_c : Ref sig .tc := ⟨.hbm, 1060, rfl⟩
abbrev main_call4_call0_call0_v1 : Ref sig .tc := ⟨.hbm, 1061, rfl⟩
abbrev main_call4_call0_call0_v2 : Ref sig .tc := ⟨.hbm, 1062, rfl⟩
abbrev main_call4_call0_call0_v3 : Ref sig .tc := ⟨.hbm, 1063, rfl⟩
abbrev main_call4_call0_call0_v4 : Ref sig .tc := ⟨.hbm, 1064, rfl⟩
abbrev main_call4_call0_call0_v5 : Ref sig .tc := ⟨.hbm, 1065, rfl⟩
abbrev main_call4_call0_call0_v6 : Ref sig .tc := ⟨.hbm, 1066, rfl⟩
abbrev main_call4_call0_call0_c_0 : Ref sig .tc := ⟨.hbm, 1067, rfl⟩
abbrev main_call4_call0_call0_v7 : Ref sig .tc := ⟨.hbm, 1068, rfl⟩
abbrev main_call4_call0_call0_v8 : Ref sig .tc := ⟨.hbm, 1069, rfl⟩
abbrev main_call4_call0_call0_c_1 : Ref sig .tc := ⟨.hbm, 1070, rfl⟩
abbrev main_call4_call0_call0_v9 : Ref sig .tc := ⟨.hbm, 1071, rfl⟩
abbrev main_call4_call0_call0_v10 : Ref sig .tc := ⟨.hbm, 1072, rfl⟩
abbrev main_call4_call0_call0_v11 : Ref sig .tc := ⟨.hbm, 1073, rfl⟩
abbrev main_call4_call0_call0_v12 : Ref sig .tc := ⟨.hbm, 1074, rfl⟩
abbrev main_call4_call0_call0_v13 : Ref sig .tc := ⟨.hbm, 1075, rfl⟩
abbrev main_call4_call0_call0_c_2 : Ref sig .tc := ⟨.hbm, 1076, rfl⟩
abbrev main_call4_call0_call0_v14 : Ref sig .tc := ⟨.hbm, 1077, rfl⟩
abbrev main_call4_call0_call0_v15 : Ref sig .tc := ⟨.hbm, 1078, rfl⟩
abbrev main_call4_call0_call0_c_3 : Ref sig .tc := ⟨.hbm, 1079, rfl⟩
abbrev main_call4_call0_call0_v16 : Ref sig .tc := ⟨.hbm, 1080, rfl⟩
abbrev main_call4_call0_call0_v17 : Ref sig .tc := ⟨.hbm, 1081, rfl⟩
abbrev main_call4_call0_call0_v18 : Ref sig .tc := ⟨.hbm, 1082, rfl⟩
abbrev main_call4_call0_call0_v19 : Ref sig .tc := ⟨.hbm, 1083, rfl⟩
abbrev main_call4_call0_call0_v20 : Ref sig .tc := ⟨.hbm, 1084, rfl⟩
abbrev main_call4_call0_call0_c_4 : Ref sig .tc := ⟨.hbm, 1085, rfl⟩
abbrev main_call4_call0_call0_v21 : Ref sig .tc := ⟨.hbm, 1086, rfl⟩
abbrev main_call4_call0_call0_v22 : Ref sig .tc := ⟨.hbm, 1087, rfl⟩
abbrev main_call4_call0_call0_c_5 : Ref sig .tc := ⟨.hbm, 1088, rfl⟩
abbrev main_call4_call0_call0_v23 : Ref sig .tc := ⟨.hbm, 1089, rfl⟩
abbrev main_call4_call0_call0_v24 : Ref sig .tc := ⟨.hbm, 1090, rfl⟩
abbrev main_call4_call0_call0_v25 : Ref sig .tc := ⟨.hbm, 1091, rfl⟩
abbrev main_call4_call0_call0_v26 : Ref sig .tc := ⟨.hbm, 1092, rfl⟩
abbrev main_call4_call0_call0_v27 : Ref sig .tc := ⟨.hbm, 1093, rfl⟩
abbrev main_call4_call0_call0_c_6 : Ref sig .tc := ⟨.hbm, 1094, rfl⟩
abbrev main_call4_call0_call0_v28 : Ref sig .tc := ⟨.hbm, 1095, rfl⟩
abbrev main_call4_call0_call0_v29 : Ref sig .tc := ⟨.hbm, 1096, rfl⟩
abbrev main_call4_call0_call0_c_7 : Ref sig .tc := ⟨.hbm, 1097, rfl⟩
abbrev main_call4_call0_call0_v30 : Ref sig .tc := ⟨.hbm, 1098, rfl⟩
abbrev main_call4_call0_call0_v31 : Ref sig .tc := ⟨.hbm, 1099, rfl⟩
abbrev main_call4_call0_call0_v32 : Ref sig .tc := ⟨.hbm, 1100, rfl⟩
abbrev main_call4_call0_call0_v33 : Ref sig .tc := ⟨.hbm, 1101, rfl⟩
abbrev main_call4_call0_call0_v34 : Ref sig .tc := ⟨.hbm, 1102, rfl⟩
abbrev main_call4_call0_call0_v35 : Ref sig .tc := ⟨.hbm, 1103, rfl⟩
abbrev main_call4_call0_call0_v36 : Ref sig .tc := ⟨.hbm, 1104, rfl⟩
abbrev main_call4_call0_call0_v37 : Ref sig .tc := ⟨.hbm, 1105, rfl⟩
abbrev main_call4_call0_call0_c_8 : Ref sig .tc := ⟨.hbm, 1106, rfl⟩
abbrev main_call4_call0_call0_v38 : Ref sig .tc := ⟨.hbm, 1107, rfl⟩
abbrev main_call4_call0_call0_v39 : Ref sig .tc := ⟨.hbm, 1108, rfl⟩
abbrev main_call4_call0_call0_v40 : Ref sig .tc := ⟨.hbm, 1109, rfl⟩
abbrev main_call4_call0_call0_c_9 : Ref sig .tc := ⟨.hbm, 1110, rfl⟩
abbrev main_call4_call0_call0_v41 : Ref sig .tc := ⟨.hbm, 1111, rfl⟩
abbrev main_call4_call0_call0_v42 : Ref sig .tc := ⟨.hbm, 1112, rfl⟩
abbrev main_call4_call0_call0_c_10 : Ref sig .tc := ⟨.hbm, 1113, rfl⟩
abbrev main_call4_call0_call0_v43 : Ref sig .tc := ⟨.hbm, 1114, rfl⟩
abbrev main_call4_call0_call0_v44 : Ref sig .tc := ⟨.hbm, 1115, rfl⟩
abbrev main_call4_call0_call0_v45 : Ref sig .tc := ⟨.hbm, 1116, rfl⟩
abbrev main_call4_call0_call0_v46 : Ref sig .tc := ⟨.hbm, 1117, rfl⟩
abbrev main_call4_call0_call0_v47 : Ref sig .tc := ⟨.hbm, 1118, rfl⟩
abbrev main_call4_call0_call0_c_11 : Ref sig .tc := ⟨.hbm, 1119, rfl⟩
abbrev main_call4_call0_call0_v48 : Ref sig .tc := ⟨.hbm, 1120, rfl⟩
abbrev main_call4_call0_call0_v49 : Ref sig .tc := ⟨.hbm, 1121, rfl⟩
abbrev main_call4_call0_call0_c_12 : Ref sig .tc := ⟨.hbm, 1122, rfl⟩
abbrev main_call4_call0_call0_v50 : Ref sig .tc := ⟨.hbm, 1123, rfl⟩
abbrev main_call4_call0_call0_v51 : Ref sig .tc := ⟨.hbm, 1124, rfl⟩
abbrev main_call4_call0_call0_v52 : Ref sig .tc := ⟨.hbm, 1125, rfl⟩
abbrev main_call4_call0_call0_v53 : Ref sig .tc := ⟨.hbm, 1126, rfl⟩
abbrev main_call4_call0_call0_v54 : Ref sig .tc := ⟨.hbm, 1127, rfl⟩
abbrev main_call4_call0_call0_c_13 : Ref sig .tc := ⟨.hbm, 1128, rfl⟩
abbrev main_call4_call0_call0_v55 : Ref sig .tc := ⟨.hbm, 1129, rfl⟩
abbrev main_call4_call0_call0_v56 : Ref sig .tc := ⟨.hbm, 1130, rfl⟩
abbrev main_call4_call0_call0_c_14 : Ref sig .tc := ⟨.hbm, 1131, rfl⟩
abbrev main_call4_call0_call0_v57 : Ref sig .tc := ⟨.hbm, 1132, rfl⟩
abbrev main_call4_call0_call0_v58 : Ref sig .tc := ⟨.hbm, 1133, rfl⟩
abbrev main_call4_call0_call0_v59 : Ref sig .tc := ⟨.hbm, 1134, rfl⟩
abbrev main_call4_call0_call0_v60 : Ref sig .tc := ⟨.hbm, 1135, rfl⟩
abbrev main_call4_call0_call0_v61 : Ref sig .tc := ⟨.hbm, 1136, rfl⟩
abbrev main_call4_call0_call0_c_15 : Ref sig .tc := ⟨.hbm, 1137, rfl⟩
abbrev main_call4_call0_call0_v62 : Ref sig .tc := ⟨.hbm, 1138, rfl⟩
abbrev main_call4_call0_call0_v63 : Ref sig .tc := ⟨.hbm, 1139, rfl⟩
abbrev main_call4_call0_call0_c_16 : Ref sig .tc := ⟨.hbm, 1140, rfl⟩
abbrev main_call4_call0_call0_v64 : Ref sig .tc := ⟨.hbm, 1141, rfl⟩
abbrev main_call4_call0_call0_v65 : Ref sig .tc := ⟨.hbm, 1142, rfl⟩
abbrev main_call4_call0_call0_v66 : Ref sig .tc := ⟨.hbm, 1143, rfl⟩
abbrev main_call4_call0_call0_v67 : Ref sig .tc := ⟨.hbm, 1144, rfl⟩
abbrev main_call4_call0_call0_v68 : Ref sig .tc := ⟨.hbm, 1145, rfl⟩
abbrev main_call4_call0_call0_v69 : Ref sig .tc := ⟨.hbm, 1146, rfl⟩
abbrev main_call4_call0_call0_v70 : Ref sig .tc := ⟨.hbm, 1147, rfl⟩
abbrev main_call4_call0_call0_v71 : Ref sig .tc := ⟨.hbm, 1148, rfl⟩
abbrev main_call4_call0_call0_c_17 : Ref sig .tc := ⟨.hbm, 1149, rfl⟩
abbrev main_call4_call0_call0_v72 : Ref sig .tc := ⟨.hbm, 1150, rfl⟩
abbrev main_call4_call0_call0_v73 : Ref sig .tc := ⟨.hbm, 1151, rfl⟩
abbrev main_call4_call0_call0_v74 : Ref sig .tc := ⟨.hbm, 1152, rfl⟩
abbrev main_call4_call0_call0_c_18 : Ref sig .tc := ⟨.hbm, 1153, rfl⟩
abbrev main_call4_call0_call0_v75 : Ref sig .tc := ⟨.hbm, 1154, rfl⟩
abbrev main_call4_call0_call0_v76 : Ref sig .tc := ⟨.hbm, 1155, rfl⟩
abbrev main_call4_call0_call0_c_19 : Ref sig .tc := ⟨.hbm, 1156, rfl⟩
abbrev main_call4_call0_call0_v77 : Ref sig .tc := ⟨.hbm, 1157, rfl⟩
abbrev main_call4_call0_call0_v78 : Ref sig .tc := ⟨.hbm, 1158, rfl⟩
abbrev main_call4_call0_call0_v79 : Ref sig .tc := ⟨.hbm, 1159, rfl⟩
abbrev main_call4_call0_call0_v80 : Ref sig .tc := ⟨.hbm, 1160, rfl⟩
abbrev main_call4_call0_call0_v81 : Ref sig .tc := ⟨.hbm, 1161, rfl⟩
abbrev main_call4_call0_call0_c_20 : Ref sig .tc := ⟨.hbm, 1162, rfl⟩
abbrev main_call4_call0_call0_v82 : Ref sig .tc := ⟨.hbm, 1163, rfl⟩
abbrev main_call4_call0_call0_v83 : Ref sig .tc := ⟨.hbm, 1164, rfl⟩
abbrev main_call4_call0_call0_c_21 : Ref sig .tc := ⟨.hbm, 1165, rfl⟩
abbrev main_call4_call0_call0_v84 : Ref sig .tc := ⟨.hbm, 1166, rfl⟩
abbrev main_call4_call0_call0_v85 : Ref sig .tc := ⟨.hbm, 1167, rfl⟩
abbrev main_call4_call0_call0_v86 : Ref sig .tc := ⟨.hbm, 1168, rfl⟩
abbrev main_call4_call0_call0_v87 : Ref sig .tc := ⟨.hbm, 1169, rfl⟩
abbrev main_call4_call0_call0_v88 : Ref sig .tc := ⟨.hbm, 1170, rfl⟩
abbrev main_call4_call0_call0_c_22 : Ref sig .tc := ⟨.hbm, 1171, rfl⟩
abbrev main_call4_call0_call0_v89 : Ref sig .tc := ⟨.hbm, 1172, rfl⟩
abbrev main_call4_call0_call0_v90 : Ref sig .tc := ⟨.hbm, 1173, rfl⟩
abbrev main_call4_call0_call0_c_23 : Ref sig .tc := ⟨.hbm, 1174, rfl⟩
abbrev main_call4_call0_call0_v91 : Ref sig .tc := ⟨.hbm, 1175, rfl⟩
abbrev main_call4_call0_call0_v92 : Ref sig .tc := ⟨.hbm, 1176, rfl⟩
abbrev main_call4_call0_call0_v93 : Ref sig .tc := ⟨.hbm, 1177, rfl⟩
abbrev main_call4_call0_call0_v94 : Ref sig .tc := ⟨.hbm, 1178, rfl⟩
abbrev main_call4_call0_call0_v95 : Ref sig .tc := ⟨.hbm, 1179, rfl⟩
abbrev main_call4_call0_call0_c_24 : Ref sig .tc := ⟨.hbm, 1180, rfl⟩
abbrev main_call4_call0_call0_v96 : Ref sig .tc := ⟨.hbm, 1181, rfl⟩
abbrev main_call4_call0_call0_v97 : Ref sig .tc := ⟨.hbm, 1182, rfl⟩
abbrev main_call4_call0_call0_c_25 : Ref sig .tc := ⟨.hbm, 1183, rfl⟩
abbrev main_call4_call0_call0_v98 : Ref sig .tc := ⟨.hbm, 1184, rfl⟩
abbrev main_call4_call0_call0_v99 : Ref sig .tc := ⟨.hbm, 1185, rfl⟩
abbrev main_call4_call0_call0_v100 : Ref sig .tc := ⟨.hbm, 1186, rfl⟩
abbrev main_call4_call0_call0_v101 : Ref sig .tc := ⟨.hbm, 1187, rfl⟩
abbrev main_call4_call0_call0_v102 : Ref sig .tc := ⟨.hbm, 1188, rfl⟩
abbrev main_call4_call0_call0_v103 : Ref sig .tc := ⟨.hbm, 1189, rfl⟩
abbrev main_call4_call0_call0_v104 : Ref sig .tc := ⟨.hbm, 1190, rfl⟩
abbrev main_call4_call0_call0_v105 : Ref sig .tc := ⟨.hbm, 1191, rfl⟩
abbrev main_call4_call0_call0_c_26 : Ref sig .tc := ⟨.hbm, 1192, rfl⟩
abbrev main_call4_call0_call0_v106 : Ref sig .tc := ⟨.hbm, 1193, rfl⟩
abbrev main_call4_call0_call0_v107 : Ref sig .tc := ⟨.hbm, 1194, rfl⟩
abbrev main_call4_call0_call0_v108 : Ref sig .tc := ⟨.hbm, 1195, rfl⟩
abbrev main_call4_call0_call0_c_27 : Ref sig .tc := ⟨.hbm, 1196, rfl⟩
abbrev main_call4_call0_call0_v109 : Ref sig .tc := ⟨.hbm, 1197, rfl⟩
abbrev main_call4_call0_call0_v110 : Ref sig .tc := ⟨.hbm, 1198, rfl⟩
abbrev main_call4_call0_call0_c_28 : Ref sig .tc := ⟨.hbm, 1199, rfl⟩
abbrev main_call4_call0_call0_v111 : Ref sig .tc := ⟨.hbm, 1200, rfl⟩
abbrev main_call4_call0_call0_v112 : Ref sig .tc := ⟨.hbm, 1201, rfl⟩
abbrev main_call4_call0_call0_v113 : Ref sig .tc := ⟨.hbm, 1202, rfl⟩
abbrev main_call4_call0_call0_v114 : Ref sig .tc := ⟨.hbm, 1203, rfl⟩
abbrev main_call4_call0_call0_v115 : Ref sig .tc := ⟨.hbm, 1204, rfl⟩
abbrev main_call4_call0_call0_c_29 : Ref sig .tc := ⟨.hbm, 1205, rfl⟩
abbrev main_call4_call0_call0_v116 : Ref sig .tc := ⟨.hbm, 1206, rfl⟩
abbrev main_call4_call0_call0_v117 : Ref sig .tc := ⟨.hbm, 1207, rfl⟩
abbrev main_call4_call0_call0_c_30 : Ref sig .tc := ⟨.hbm, 1208, rfl⟩
abbrev main_call4_call0_call0_v118 : Ref sig .tc := ⟨.hbm, 1209, rfl⟩
abbrev main_call4_call0_call0_v119 : Ref sig .tc := ⟨.hbm, 1210, rfl⟩
abbrev main_call4_call0_call0_v120 : Ref sig .tc := ⟨.hbm, 1211, rfl⟩
abbrev main_call4_call0_call0_v121 : Ref sig .tc := ⟨.hbm, 1212, rfl⟩
abbrev main_call4_call0_call0_v122 : Ref sig .tc := ⟨.hbm, 1213, rfl⟩
abbrev main_call4_call0_call0_c_31 : Ref sig .tc := ⟨.hbm, 1214, rfl⟩
abbrev main_call4_call0_call0_v123 : Ref sig .tc := ⟨.hbm, 1215, rfl⟩
abbrev main_call4_call0_call0_v124 : Ref sig .tc := ⟨.hbm, 1216, rfl⟩
abbrev main_call4_call0_call0_c_32 : Ref sig .tc := ⟨.hbm, 1217, rfl⟩
abbrev main_call4_call0_call0_v125 : Ref sig .tc := ⟨.hbm, 1218, rfl⟩
abbrev main_call4_call0_call0_v126 : Ref sig .tc := ⟨.hbm, 1219, rfl⟩
abbrev main_call4_call0_call0_v127 : Ref sig .tc := ⟨.hbm, 1220, rfl⟩
abbrev main_call4_call0_call0_v128 : Ref sig .tc := ⟨.hbm, 1221, rfl⟩
abbrev main_call4_call0_call0_v129 : Ref sig .tc := ⟨.hbm, 1222, rfl⟩
abbrev main_call4_call0_call0_c_33 : Ref sig .tc := ⟨.hbm, 1223, rfl⟩
abbrev main_call4_call0_call0_v130 : Ref sig .tc := ⟨.hbm, 1224, rfl⟩
abbrev main_call4_call0_call0_v131 : Ref sig .tc := ⟨.hbm, 1225, rfl⟩
abbrev main_call4_call0_call0_c_34 : Ref sig .tc := ⟨.hbm, 1226, rfl⟩
abbrev main_call4_call0_call0_v132 : Ref sig .tc := ⟨.hbm, 1227, rfl⟩
abbrev main_call4_call0_call0_v133 : Ref sig .tc := ⟨.hbm, 1228, rfl⟩
abbrev main_call4_call0_call0_v134 : Ref sig .tc := ⟨.hbm, 1229, rfl⟩
abbrev main_call4_call0_call0_v135 : Ref sig .tc := ⟨.hbm, 1230, rfl⟩
abbrev main_call4_call0_call0_v136 : Ref sig .tc := ⟨.hbm, 1231, rfl⟩
abbrev main_call4_call0_call0_v137 : Ref sig .tc := ⟨.hbm, 1232, rfl⟩
abbrev main_call4_call0_call0_v138 : Ref sig .tc := ⟨.hbm, 1233, rfl⟩
abbrev main_call4_call0_call0_v139 : Ref sig .tc := ⟨.hbm, 1234, rfl⟩
abbrev main_call4_call0_call0_c_35 : Ref sig .tc := ⟨.hbm, 1235, rfl⟩
abbrev main_call4_call0_call0_v140 : Ref sig .tc := ⟨.hbm, 1236, rfl⟩
abbrev main_call4_call0_call0_v141 : Ref sig .tc := ⟨.hbm, 1237, rfl⟩
abbrev main_call4_call0_call0_v142 : Ref sig .tc := ⟨.hbm, 1238, rfl⟩
abbrev main_call4_call0_call0_c_36 : Ref sig .tc := ⟨.hbm, 1239, rfl⟩
abbrev main_call4_call0_call0_v143 : Ref sig .tc := ⟨.hbm, 1240, rfl⟩
abbrev main_call4_call0_call0_v144 : Ref sig .tc := ⟨.hbm, 1241, rfl⟩
abbrev main_call4_call0_call0_c_37 : Ref sig .tc := ⟨.hbm, 1242, rfl⟩
abbrev main_call4_call0_call0_v145 : Ref sig .tc := ⟨.hbm, 1243, rfl⟩
abbrev main_call4_call0_call0_v146 : Ref sig .tc := ⟨.hbm, 1244, rfl⟩
abbrev main_call4_call0_call0_v147 : Ref sig .tc := ⟨.hbm, 1245, rfl⟩
abbrev main_call4_call0_call0_v148 : Ref sig .tc := ⟨.hbm, 1246, rfl⟩
abbrev main_call4_call0_call0_v149 : Ref sig .tc := ⟨.hbm, 1247, rfl⟩
abbrev main_call4_call0_call0_c_38 : Ref sig .tc := ⟨.hbm, 1248, rfl⟩
abbrev main_call4_call0_call0_v150 : Ref sig .tc := ⟨.hbm, 1249, rfl⟩
abbrev main_call4_call0_call0_v151 : Ref sig .tc := ⟨.hbm, 1250, rfl⟩
abbrev main_call4_call0_call0_c_39 : Ref sig .tc := ⟨.hbm, 1251, rfl⟩
abbrev main_call4_call0_call0_v152 : Ref sig .tc := ⟨.hbm, 1252, rfl⟩
abbrev main_call4_call0_call0_v153 : Ref sig .tc := ⟨.hbm, 1253, rfl⟩
abbrev main_call4_call0_call0_v154 : Ref sig .tc := ⟨.hbm, 1254, rfl⟩
abbrev main_call4_call0_call0_v155 : Ref sig .tc := ⟨.hbm, 1255, rfl⟩
abbrev main_call4_call0_call0_v156 : Ref sig .tc := ⟨.hbm, 1256, rfl⟩
abbrev main_call4_call0_call0_c_40 : Ref sig .tc := ⟨.hbm, 1257, rfl⟩
abbrev main_call4_call0_call0_v157 : Ref sig .tc := ⟨.hbm, 1258, rfl⟩
abbrev main_call4_call0_call0_v158 : Ref sig .tc := ⟨.hbm, 1259, rfl⟩
abbrev main_call4_call0_call0_c_41 : Ref sig .tc := ⟨.hbm, 1260, rfl⟩
abbrev main_call4_call0_call0_v159 : Ref sig .tc := ⟨.hbm, 1261, rfl⟩
abbrev main_call4_call0_call0_v160 : Ref sig .tc := ⟨.hbm, 1262, rfl⟩
abbrev main_call4_call0_call0_v161 : Ref sig .tc := ⟨.hbm, 1263, rfl⟩
abbrev main_call4_call0_call0_v162 : Ref sig .tc := ⟨.hbm, 1264, rfl⟩
abbrev main_call4_call0_call0_v163 : Ref sig .tc := ⟨.hbm, 1265, rfl⟩
abbrev main_call4_call0_call0_c_42 : Ref sig .tc := ⟨.hbm, 1266, rfl⟩
abbrev main_call4_call0_call0_v164 : Ref sig .tc := ⟨.hbm, 1267, rfl⟩
abbrev main_call4_call0_call0_v165 : Ref sig .tc := ⟨.hbm, 1268, rfl⟩
abbrev main_call4_call0_call0_c_43 : Ref sig .tc := ⟨.hbm, 1269, rfl⟩
abbrev main_call4_call0_call0_v166 : Ref sig .tc := ⟨.hbm, 1270, rfl⟩
abbrev main_call4_call0_call0_v167 : Ref sig .tc := ⟨.hbm, 1271, rfl⟩
abbrev main_call4_call0_call0_v168 : Ref sig .tc := ⟨.hbm, 1272, rfl⟩
abbrev main_call4_call0_call0_v169 : Ref sig .tc := ⟨.hbm, 1273, rfl⟩
abbrev main_call4_call0_call0_v170 : Ref sig .tc := ⟨.hbm, 1274, rfl⟩
abbrev main_call4_call0_v22_0 : Ref sig .tc := ⟨.hbm, 1275, rfl⟩
abbrev main_call4_call0_call0_v172 : Ref sig .tc := ⟨.hbm, 1276, rfl⟩
abbrev main_call4_call0_call0_v173 : Ref sig .tc := ⟨.hbm, 1277, rfl⟩
abbrev main_call4_call0_call0_c_44 : Ref sig .tc := ⟨.hbm, 1278, rfl⟩
abbrev main_call4_call0_call0_v174 : Ref sig .tc := ⟨.hbm, 1279, rfl⟩
abbrev main_call4_call0_v22_1 : Ref sig .tc := ⟨.hbm, 1280, rfl⟩
abbrev main_call4_call0_v23 : Ref sig .tc := ⟨.hbm, 1281, rfl⟩
abbrev main_call4_call0_c_3 : Ref sig .tc := ⟨.hbm, 1282, rfl⟩
abbrev main_call4_call0_v24 : Ref sig .tc := ⟨.hbm, 1283, rfl⟩
abbrev main_call4_call0_v25 : Ref sig .tc := ⟨.hbm, 1284, rfl⟩
abbrev main_call4_call0_c_4 : Ref sig .tc := ⟨.hbm, 1285, rfl⟩
abbrev main_call4_call0_v26 : Ref sig .tc := ⟨.hbm, 1286, rfl⟩
abbrev main_call4_call0_v27 : Ref sig .tc := ⟨.hbm, 1287, rfl⟩
abbrev main_call4_call0_v28 : Ref sig .tc := ⟨.hbm, 1288, rfl⟩
abbrev main_call4_call0_cst : Ref sig .tc := ⟨.hbm, 1289, rfl⟩
abbrev main_call4_call0_v29 : Ref sig .tc := ⟨.hbm, 1290, rfl⟩
abbrev main_call4_call0_v30 : Ref sig .tc := ⟨.hbm, 1291, rfl⟩
abbrev main_call4_call0_v31 : Ref sig .tc := ⟨.hbm, 1292, rfl⟩
abbrev main_call4_call0_v32 : Ref sig .tc := ⟨.hbm, 1293, rfl⟩
abbrev main_call4_call0_v33 : Ref sig .tc := ⟨.hbm, 1294, rfl⟩
abbrev main_call4_call0_v34 : Ref sig .tc := ⟨.hbm, 1295, rfl⟩
abbrev main_call4_call0_v35 : Ref sig .tc := ⟨.hbm, 1296, rfl⟩
abbrev main_call4_call0_v36 : Ref sig .tc := ⟨.hbm, 1297, rfl⟩
abbrev main_call4_v0 : Ref sig .tc := ⟨.hbm, 1298, rfl⟩
abbrev main_call4_v1 : Ref sig .tc := ⟨.hbm, 1299, rfl⟩
abbrev main_call4_v2 : Ref sig .tc := ⟨.hbm, 1300, rfl⟩
abbrev main_call4_v3 : Ref sig .tc := ⟨.hbm, 1301, rfl⟩
abbrev main_v23 : Ref sig .tc := ⟨.hbm, 1302, rfl⟩
abbrev main_cst_3 : Ref sig .tc := ⟨.hbm, 1303, rfl⟩
abbrev main_cst_4 : Ref sig .tc := ⟨.hbm, 1304, rfl⟩
abbrev main_call5_v0 : Ref sig .tc := ⟨.hbm, 1305, rfl⟩
abbrev main_call5_v1 : Ref sig .tc := ⟨.hbm, 1306, rfl⟩
abbrev main_call5_v2 : Ref sig .tc := ⟨.hbm, 1307, rfl⟩
abbrev main_call5_v3 : Ref sig .tc := ⟨.hbm, 1308, rfl⟩
abbrev main_call5_v4 : Ref sig .tc := ⟨.hbm, 1309, rfl⟩
abbrev main_call5_v5 : Ref sig .tc := ⟨.hbm, 1310, rfl⟩
abbrev main_call5_v6 : Ref sig .tc := ⟨.hbm, 1311, rfl⟩
abbrev main_call5_v7 : Ref sig .tc := ⟨.hbm, 1312, rfl⟩
abbrev main_call5_v8 : Ref sig .tc := ⟨.hbm, 1313, rfl⟩
abbrev main_call5_c : Ref sig .tc := ⟨.hbm, 1314, rfl⟩
abbrev main_call5_v9 : Ref sig .tc := ⟨.hbm, 1315, rfl⟩
abbrev main_call5_v10 : Ref sig .tc := ⟨.hbm, 1316, rfl⟩
abbrev main_call5_c_0 : Ref sig .tc := ⟨.hbm, 1317, rfl⟩
abbrev main_call5_v11 : Ref sig .tc := ⟨.hbm, 1318, rfl⟩
abbrev main_call5_v12 : Ref sig .tc := ⟨.hbm, 1319, rfl⟩
abbrev main_call5_v13 : Ref sig .tc := ⟨.hbm, 1320, rfl⟩
abbrev main_call5_v14 : Ref sig .tc := ⟨.hbm, 1321, rfl⟩
abbrev main_call5_call0_v0 : Ref sig .tc := ⟨.hbm, 1322, rfl⟩
abbrev main_call5_call0_c : Ref sig .tc := ⟨.hbm, 1323, rfl⟩
abbrev main_call5_call0_v1 : Ref sig .tc := ⟨.hbm, 1324, rfl⟩
abbrev main_call5_call0_v2 : Ref sig .tc := ⟨.hbm, 1325, rfl⟩
abbrev main_call5_call0_v3 : Ref sig .tc := ⟨.hbm, 1326, rfl⟩
abbrev main_call5_call0_v4 : Ref sig .tc := ⟨.hbm, 1327, rfl⟩
abbrev main_call5_call0_v5 : Ref sig .tc := ⟨.hbm, 1328, rfl⟩
abbrev main_call5_call0_v6 : Ref sig .tc := ⟨.hbm, 1329, rfl⟩
abbrev main_call5_call0_c_0 : Ref sig .tc := ⟨.hbm, 1330, rfl⟩
abbrev main_call5_call0_v7 : Ref sig .tc := ⟨.hbm, 1331, rfl⟩
abbrev main_call5_call0_v8 : Ref sig .tc := ⟨.hbm, 1332, rfl⟩
abbrev main_call5_call0_c_1 : Ref sig .tc := ⟨.hbm, 1333, rfl⟩
abbrev main_call5_call0_v9 : Ref sig .tc := ⟨.hbm, 1334, rfl⟩
abbrev main_call5_call0_v10 : Ref sig .tc := ⟨.hbm, 1335, rfl⟩
abbrev main_call5_call0_v11 : Ref sig .tc := ⟨.hbm, 1336, rfl⟩
abbrev main_call5_call0_v12 : Ref sig .tc := ⟨.hbm, 1337, rfl⟩
abbrev main_call5_call0_v13 : Ref sig .tc := ⟨.hbm, 1338, rfl⟩
abbrev main_call5_call0_c_2 : Ref sig .tc := ⟨.hbm, 1339, rfl⟩
abbrev main_call5_call0_v14 : Ref sig .tc := ⟨.hbm, 1340, rfl⟩
abbrev main_call5_call0_v15 : Ref sig .tc := ⟨.hbm, 1341, rfl⟩
abbrev main_call5_call0_c_3 : Ref sig .tc := ⟨.hbm, 1342, rfl⟩
abbrev main_call5_call0_v16 : Ref sig .tc := ⟨.hbm, 1343, rfl⟩
abbrev main_call5_call0_v17 : Ref sig .tc := ⟨.hbm, 1344, rfl⟩
abbrev main_call5_call0_v18 : Ref sig .tc := ⟨.hbm, 1345, rfl⟩
abbrev main_call5_call0_v19 : Ref sig .tc := ⟨.hbm, 1346, rfl⟩
abbrev main_call5_call0_v20 : Ref sig .tc := ⟨.hbm, 1347, rfl⟩
abbrev main_call5_call0_c_4 : Ref sig .tc := ⟨.hbm, 1348, rfl⟩
abbrev main_call5_call0_v21 : Ref sig .tc := ⟨.hbm, 1349, rfl⟩
abbrev main_call5_call0_v22 : Ref sig .tc := ⟨.hbm, 1350, rfl⟩
abbrev main_call5_call0_c_5 : Ref sig .tc := ⟨.hbm, 1351, rfl⟩
abbrev main_call5_call0_v23 : Ref sig .tc := ⟨.hbm, 1352, rfl⟩
abbrev main_call5_call0_v24 : Ref sig .tc := ⟨.hbm, 1353, rfl⟩
abbrev main_call5_call0_v25 : Ref sig .tc := ⟨.hbm, 1354, rfl⟩
abbrev main_call5_call0_v26 : Ref sig .tc := ⟨.hbm, 1355, rfl⟩
abbrev main_call5_call0_v27 : Ref sig .tc := ⟨.hbm, 1356, rfl⟩
abbrev main_call5_call0_c_6 : Ref sig .tc := ⟨.hbm, 1357, rfl⟩
abbrev main_call5_call0_v28 : Ref sig .tc := ⟨.hbm, 1358, rfl⟩
abbrev main_call5_call0_v29 : Ref sig .tc := ⟨.hbm, 1359, rfl⟩
abbrev main_call5_call0_c_7 : Ref sig .tc := ⟨.hbm, 1360, rfl⟩
abbrev main_call5_call0_v30 : Ref sig .tc := ⟨.hbm, 1361, rfl⟩
abbrev main_call5_call0_v31 : Ref sig .tc := ⟨.hbm, 1362, rfl⟩
abbrev main_call5_call0_v32 : Ref sig .tc := ⟨.hbm, 1363, rfl⟩
abbrev main_call5_call0_v33 : Ref sig .tc := ⟨.hbm, 1364, rfl⟩
abbrev main_call5_call0_v34 : Ref sig .tc := ⟨.hbm, 1365, rfl⟩
abbrev main_call5_call0_v35 : Ref sig .tc := ⟨.hbm, 1366, rfl⟩
abbrev main_call5_call0_v36 : Ref sig .tc := ⟨.hbm, 1367, rfl⟩
abbrev main_call5_call0_v37 : Ref sig .tc := ⟨.hbm, 1368, rfl⟩
abbrev main_call5_call0_c_8 : Ref sig .tc := ⟨.hbm, 1369, rfl⟩
abbrev main_call5_call0_v38 : Ref sig .tc := ⟨.hbm, 1370, rfl⟩
abbrev main_call5_call0_v39 : Ref sig .tc := ⟨.hbm, 1371, rfl⟩
abbrev main_call5_call0_v40 : Ref sig .tc := ⟨.hbm, 1372, rfl⟩
abbrev main_call5_call0_c_9 : Ref sig .tc := ⟨.hbm, 1373, rfl⟩
abbrev main_call5_call0_v41 : Ref sig .tc := ⟨.hbm, 1374, rfl⟩
abbrev main_call5_call0_v42 : Ref sig .tc := ⟨.hbm, 1375, rfl⟩
abbrev main_call5_call0_c_10 : Ref sig .tc := ⟨.hbm, 1376, rfl⟩
abbrev main_call5_call0_v43 : Ref sig .tc := ⟨.hbm, 1377, rfl⟩
abbrev main_call5_call0_v44 : Ref sig .tc := ⟨.hbm, 1378, rfl⟩
abbrev main_call5_call0_v45 : Ref sig .tc := ⟨.hbm, 1379, rfl⟩
abbrev main_call5_call0_v46 : Ref sig .tc := ⟨.hbm, 1380, rfl⟩
abbrev main_call5_call0_v47 : Ref sig .tc := ⟨.hbm, 1381, rfl⟩
abbrev main_call5_call0_c_11 : Ref sig .tc := ⟨.hbm, 1382, rfl⟩
abbrev main_call5_call0_v48 : Ref sig .tc := ⟨.hbm, 1383, rfl⟩
abbrev main_call5_call0_v49 : Ref sig .tc := ⟨.hbm, 1384, rfl⟩
abbrev main_call5_call0_c_12 : Ref sig .tc := ⟨.hbm, 1385, rfl⟩
abbrev main_call5_call0_v50 : Ref sig .tc := ⟨.hbm, 1386, rfl⟩
abbrev main_call5_call0_v51 : Ref sig .tc := ⟨.hbm, 1387, rfl⟩
abbrev main_call5_call0_v52 : Ref sig .tc := ⟨.hbm, 1388, rfl⟩
abbrev main_call5_call0_v53 : Ref sig .tc := ⟨.hbm, 1389, rfl⟩
abbrev main_call5_call0_v54 : Ref sig .tc := ⟨.hbm, 1390, rfl⟩
abbrev main_call5_call0_c_13 : Ref sig .tc := ⟨.hbm, 1391, rfl⟩
abbrev main_call5_call0_v55 : Ref sig .tc := ⟨.hbm, 1392, rfl⟩
abbrev main_call5_call0_v56 : Ref sig .tc := ⟨.hbm, 1393, rfl⟩
abbrev main_call5_call0_c_14 : Ref sig .tc := ⟨.hbm, 1394, rfl⟩
abbrev main_call5_call0_v57 : Ref sig .tc := ⟨.hbm, 1395, rfl⟩
abbrev main_call5_call0_v58 : Ref sig .tc := ⟨.hbm, 1396, rfl⟩
abbrev main_call5_call0_v59 : Ref sig .tc := ⟨.hbm, 1397, rfl⟩
abbrev main_call5_call0_v60 : Ref sig .tc := ⟨.hbm, 1398, rfl⟩
abbrev main_call5_call0_v61 : Ref sig .tc := ⟨.hbm, 1399, rfl⟩
abbrev main_call5_call0_c_15 : Ref sig .tc := ⟨.hbm, 1400, rfl⟩
abbrev main_call5_call0_v62 : Ref sig .tc := ⟨.hbm, 1401, rfl⟩
abbrev main_call5_call0_v63 : Ref sig .tc := ⟨.hbm, 1402, rfl⟩
abbrev main_call5_call0_c_16 : Ref sig .tc := ⟨.hbm, 1403, rfl⟩
abbrev main_call5_call0_v64 : Ref sig .tc := ⟨.hbm, 1404, rfl⟩
abbrev main_call5_call0_v65 : Ref sig .tc := ⟨.hbm, 1405, rfl⟩
abbrev main_call5_call0_v66 : Ref sig .tc := ⟨.hbm, 1406, rfl⟩
abbrev main_call5_call0_v67 : Ref sig .tc := ⟨.hbm, 1407, rfl⟩
abbrev main_call5_call0_v68 : Ref sig .tc := ⟨.hbm, 1408, rfl⟩
abbrev main_call5_call0_v69 : Ref sig .tc := ⟨.hbm, 1409, rfl⟩
abbrev main_call5_call0_v70 : Ref sig .tc := ⟨.hbm, 1410, rfl⟩
abbrev main_call5_call0_v71 : Ref sig .tc := ⟨.hbm, 1411, rfl⟩
abbrev main_call5_call0_c_17 : Ref sig .tc := ⟨.hbm, 1412, rfl⟩
abbrev main_call5_call0_v72 : Ref sig .tc := ⟨.hbm, 1413, rfl⟩
abbrev main_call5_call0_v73 : Ref sig .tc := ⟨.hbm, 1414, rfl⟩
abbrev main_call5_call0_v74 : Ref sig .tc := ⟨.hbm, 1415, rfl⟩
abbrev main_call5_call0_c_18 : Ref sig .tc := ⟨.hbm, 1416, rfl⟩
abbrev main_call5_call0_v75 : Ref sig .tc := ⟨.hbm, 1417, rfl⟩
abbrev main_call5_call0_v76 : Ref sig .tc := ⟨.hbm, 1418, rfl⟩
abbrev main_call5_call0_c_19 : Ref sig .tc := ⟨.hbm, 1419, rfl⟩
abbrev main_call5_call0_v77 : Ref sig .tc := ⟨.hbm, 1420, rfl⟩
abbrev main_call5_call0_v78 : Ref sig .tc := ⟨.hbm, 1421, rfl⟩
abbrev main_call5_call0_v79 : Ref sig .tc := ⟨.hbm, 1422, rfl⟩
abbrev main_call5_call0_v80 : Ref sig .tc := ⟨.hbm, 1423, rfl⟩
abbrev main_call5_call0_v81 : Ref sig .tc := ⟨.hbm, 1424, rfl⟩
abbrev main_call5_call0_c_20 : Ref sig .tc := ⟨.hbm, 1425, rfl⟩
abbrev main_call5_call0_v82 : Ref sig .tc := ⟨.hbm, 1426, rfl⟩
abbrev main_call5_call0_v83 : Ref sig .tc := ⟨.hbm, 1427, rfl⟩
abbrev main_call5_call0_c_21 : Ref sig .tc := ⟨.hbm, 1428, rfl⟩
abbrev main_call5_call0_v84 : Ref sig .tc := ⟨.hbm, 1429, rfl⟩
abbrev main_call5_call0_v85 : Ref sig .tc := ⟨.hbm, 1430, rfl⟩
abbrev main_call5_call0_v86 : Ref sig .tc := ⟨.hbm, 1431, rfl⟩
abbrev main_call5_call0_v87 : Ref sig .tc := ⟨.hbm, 1432, rfl⟩
abbrev main_call5_call0_v88 : Ref sig .tc := ⟨.hbm, 1433, rfl⟩
abbrev main_call5_call0_c_22 : Ref sig .tc := ⟨.hbm, 1434, rfl⟩
abbrev main_call5_call0_v89 : Ref sig .tc := ⟨.hbm, 1435, rfl⟩
abbrev main_call5_call0_v90 : Ref sig .tc := ⟨.hbm, 1436, rfl⟩
abbrev main_call5_call0_c_23 : Ref sig .tc := ⟨.hbm, 1437, rfl⟩
abbrev main_call5_call0_v91 : Ref sig .tc := ⟨.hbm, 1438, rfl⟩
abbrev main_call5_call0_v92 : Ref sig .tc := ⟨.hbm, 1439, rfl⟩
abbrev main_call5_call0_v93 : Ref sig .tc := ⟨.hbm, 1440, rfl⟩
abbrev main_call5_call0_v94 : Ref sig .tc := ⟨.hbm, 1441, rfl⟩
abbrev main_call5_call0_v95 : Ref sig .tc := ⟨.hbm, 1442, rfl⟩
abbrev main_call5_call0_c_24 : Ref sig .tc := ⟨.hbm, 1443, rfl⟩
abbrev main_call5_call0_v96 : Ref sig .tc := ⟨.hbm, 1444, rfl⟩
abbrev main_call5_call0_v97 : Ref sig .tc := ⟨.hbm, 1445, rfl⟩
abbrev main_call5_call0_c_25 : Ref sig .tc := ⟨.hbm, 1446, rfl⟩
abbrev main_call5_call0_v98 : Ref sig .tc := ⟨.hbm, 1447, rfl⟩
abbrev main_call5_call0_v99 : Ref sig .tc := ⟨.hbm, 1448, rfl⟩
abbrev main_call5_call0_v100 : Ref sig .tc := ⟨.hbm, 1449, rfl⟩
abbrev main_call5_call0_v101 : Ref sig .tc := ⟨.hbm, 1450, rfl⟩
abbrev main_call5_call0_v102 : Ref sig .tc := ⟨.hbm, 1451, rfl⟩
abbrev main_call5_call0_v103 : Ref sig .tc := ⟨.hbm, 1452, rfl⟩
abbrev main_call5_call0_v104 : Ref sig .tc := ⟨.hbm, 1453, rfl⟩
abbrev main_call5_call0_v105 : Ref sig .tc := ⟨.hbm, 1454, rfl⟩
abbrev main_call5_call0_c_26 : Ref sig .tc := ⟨.hbm, 1455, rfl⟩
abbrev main_call5_call0_v106 : Ref sig .tc := ⟨.hbm, 1456, rfl⟩
abbrev main_call5_call0_v107 : Ref sig .tc := ⟨.hbm, 1457, rfl⟩
abbrev main_call5_call0_v108 : Ref sig .tc := ⟨.hbm, 1458, rfl⟩
abbrev main_call5_call0_c_27 : Ref sig .tc := ⟨.hbm, 1459, rfl⟩
abbrev main_call5_call0_v109 : Ref sig .tc := ⟨.hbm, 1460, rfl⟩
abbrev main_call5_call0_v110 : Ref sig .tc := ⟨.hbm, 1461, rfl⟩
abbrev main_call5_call0_c_28 : Ref sig .tc := ⟨.hbm, 1462, rfl⟩
abbrev main_call5_call0_v111 : Ref sig .tc := ⟨.hbm, 1463, rfl⟩
abbrev main_call5_call0_v112 : Ref sig .tc := ⟨.hbm, 1464, rfl⟩
abbrev main_call5_call0_v113 : Ref sig .tc := ⟨.hbm, 1465, rfl⟩
abbrev main_call5_call0_v114 : Ref sig .tc := ⟨.hbm, 1466, rfl⟩
abbrev main_call5_call0_v115 : Ref sig .tc := ⟨.hbm, 1467, rfl⟩
abbrev main_call5_call0_c_29 : Ref sig .tc := ⟨.hbm, 1468, rfl⟩
abbrev main_call5_call0_v116 : Ref sig .tc := ⟨.hbm, 1469, rfl⟩
abbrev main_call5_call0_v117 : Ref sig .tc := ⟨.hbm, 1470, rfl⟩
abbrev main_call5_call0_c_30 : Ref sig .tc := ⟨.hbm, 1471, rfl⟩
abbrev main_call5_call0_v118 : Ref sig .tc := ⟨.hbm, 1472, rfl⟩
abbrev main_call5_call0_v119 : Ref sig .tc := ⟨.hbm, 1473, rfl⟩
abbrev main_call5_call0_v120 : Ref sig .tc := ⟨.hbm, 1474, rfl⟩
abbrev main_call5_call0_v121 : Ref sig .tc := ⟨.hbm, 1475, rfl⟩
abbrev main_call5_call0_v122 : Ref sig .tc := ⟨.hbm, 1476, rfl⟩
abbrev main_call5_call0_c_31 : Ref sig .tc := ⟨.hbm, 1477, rfl⟩
abbrev main_call5_call0_v123 : Ref sig .tc := ⟨.hbm, 1478, rfl⟩
abbrev main_call5_call0_v124 : Ref sig .tc := ⟨.hbm, 1479, rfl⟩
abbrev main_call5_call0_c_32 : Ref sig .tc := ⟨.hbm, 1480, rfl⟩
abbrev main_call5_call0_v125 : Ref sig .tc := ⟨.hbm, 1481, rfl⟩
abbrev main_call5_call0_v126 : Ref sig .tc := ⟨.hbm, 1482, rfl⟩
abbrev main_call5_call0_v127 : Ref sig .tc := ⟨.hbm, 1483, rfl⟩
abbrev main_call5_call0_v128 : Ref sig .tc := ⟨.hbm, 1484, rfl⟩
abbrev main_call5_call0_v129 : Ref sig .tc := ⟨.hbm, 1485, rfl⟩
abbrev main_call5_call0_c_33 : Ref sig .tc := ⟨.hbm, 1486, rfl⟩
abbrev main_call5_call0_v130 : Ref sig .tc := ⟨.hbm, 1487, rfl⟩
abbrev main_call5_call0_v131 : Ref sig .tc := ⟨.hbm, 1488, rfl⟩
abbrev main_call5_call0_c_34 : Ref sig .tc := ⟨.hbm, 1489, rfl⟩
abbrev main_call5_call0_v132 : Ref sig .tc := ⟨.hbm, 1490, rfl⟩
abbrev main_call5_call0_v133 : Ref sig .tc := ⟨.hbm, 1491, rfl⟩
abbrev main_call5_call0_v134 : Ref sig .tc := ⟨.hbm, 1492, rfl⟩
abbrev main_call5_call0_v135 : Ref sig .tc := ⟨.hbm, 1493, rfl⟩
abbrev main_call5_call0_v136 : Ref sig .tc := ⟨.hbm, 1494, rfl⟩
abbrev main_call5_call0_v137 : Ref sig .tc := ⟨.hbm, 1495, rfl⟩
abbrev main_call5_call0_v138 : Ref sig .tc := ⟨.hbm, 1496, rfl⟩
abbrev main_call5_call0_v139 : Ref sig .tc := ⟨.hbm, 1497, rfl⟩
abbrev main_call5_call0_c_35 : Ref sig .tc := ⟨.hbm, 1498, rfl⟩
abbrev main_call5_call0_v140 : Ref sig .tc := ⟨.hbm, 1499, rfl⟩
abbrev main_call5_call0_v141 : Ref sig .tc := ⟨.hbm, 1500, rfl⟩
abbrev main_call5_call0_v142 : Ref sig .tc := ⟨.hbm, 1501, rfl⟩
abbrev main_call5_call0_c_36 : Ref sig .tc := ⟨.hbm, 1502, rfl⟩
abbrev main_call5_call0_v143 : Ref sig .tc := ⟨.hbm, 1503, rfl⟩
abbrev main_call5_call0_v144 : Ref sig .tc := ⟨.hbm, 1504, rfl⟩
abbrev main_call5_call0_c_37 : Ref sig .tc := ⟨.hbm, 1505, rfl⟩
abbrev main_call5_call0_v145 : Ref sig .tc := ⟨.hbm, 1506, rfl⟩
abbrev main_call5_call0_v146 : Ref sig .tc := ⟨.hbm, 1507, rfl⟩
abbrev main_call5_call0_v147 : Ref sig .tc := ⟨.hbm, 1508, rfl⟩
abbrev main_call5_call0_v148 : Ref sig .tc := ⟨.hbm, 1509, rfl⟩
abbrev main_call5_call0_v149 : Ref sig .tc := ⟨.hbm, 1510, rfl⟩
abbrev main_call5_call0_c_38 : Ref sig .tc := ⟨.hbm, 1511, rfl⟩
abbrev main_call5_call0_v150 : Ref sig .tc := ⟨.hbm, 1512, rfl⟩
abbrev main_call5_call0_v151 : Ref sig .tc := ⟨.hbm, 1513, rfl⟩
abbrev main_call5_call0_c_39 : Ref sig .tc := ⟨.hbm, 1514, rfl⟩
abbrev main_call5_call0_v152 : Ref sig .tc := ⟨.hbm, 1515, rfl⟩
abbrev main_call5_call0_v153 : Ref sig .tc := ⟨.hbm, 1516, rfl⟩
abbrev main_call5_call0_v154 : Ref sig .tc := ⟨.hbm, 1517, rfl⟩
abbrev main_call5_call0_v155 : Ref sig .tc := ⟨.hbm, 1518, rfl⟩
abbrev main_call5_call0_v156 : Ref sig .tc := ⟨.hbm, 1519, rfl⟩
abbrev main_call5_call0_c_40 : Ref sig .tc := ⟨.hbm, 1520, rfl⟩
abbrev main_call5_call0_v157 : Ref sig .tc := ⟨.hbm, 1521, rfl⟩
abbrev main_call5_call0_v158 : Ref sig .tc := ⟨.hbm, 1522, rfl⟩
abbrev main_call5_call0_c_41 : Ref sig .tc := ⟨.hbm, 1523, rfl⟩
abbrev main_call5_call0_v159 : Ref sig .tc := ⟨.hbm, 1524, rfl⟩
abbrev main_call5_call0_v160 : Ref sig .tc := ⟨.hbm, 1525, rfl⟩
abbrev main_call5_call0_v161 : Ref sig .tc := ⟨.hbm, 1526, rfl⟩
abbrev main_call5_call0_v162 : Ref sig .tc := ⟨.hbm, 1527, rfl⟩
abbrev main_call5_call0_v163 : Ref sig .tc := ⟨.hbm, 1528, rfl⟩
abbrev main_call5_call0_c_42 : Ref sig .tc := ⟨.hbm, 1529, rfl⟩
abbrev main_call5_call0_v164 : Ref sig .tc := ⟨.hbm, 1530, rfl⟩
abbrev main_call5_call0_v165 : Ref sig .tc := ⟨.hbm, 1531, rfl⟩
abbrev main_call5_call0_c_43 : Ref sig .tc := ⟨.hbm, 1532, rfl⟩
abbrev main_call5_call0_v166 : Ref sig .tc := ⟨.hbm, 1533, rfl⟩
abbrev main_call5_call0_v167 : Ref sig .tc := ⟨.hbm, 1534, rfl⟩
abbrev main_call5_call0_v168 : Ref sig .tc := ⟨.hbm, 1535, rfl⟩
abbrev main_call5_call0_v169 : Ref sig .tc := ⟨.hbm, 1536, rfl⟩
abbrev main_call5_call0_v170 : Ref sig .tc := ⟨.hbm, 1537, rfl⟩
abbrev main_call5_v15_0 : Ref sig .tc := ⟨.hbm, 1538, rfl⟩
abbrev main_call5_call0_v172 : Ref sig .tc := ⟨.hbm, 1539, rfl⟩
abbrev main_call5_call0_v173 : Ref sig .tc := ⟨.hbm, 1540, rfl⟩
abbrev main_call5_call0_c_44 : Ref sig .tc := ⟨.hbm, 1541, rfl⟩
abbrev main_call5_call0_v174 : Ref sig .tc := ⟨.hbm, 1542, rfl⟩
abbrev main_call5_v15_1 : Ref sig .tc := ⟨.hbm, 1543, rfl⟩
abbrev main_call5_v16 : Ref sig .tc := ⟨.hbm, 1544, rfl⟩
abbrev main_call5_c_1 : Ref sig .tc := ⟨.hbm, 1545, rfl⟩
abbrev main_call5_v17 : Ref sig .tc := ⟨.hbm, 1546, rfl⟩
abbrev main_call5_v18 : Ref sig .tc := ⟨.hbm, 1547, rfl⟩
abbrev main_call5_c_2 : Ref sig .tc := ⟨.hbm, 1548, rfl⟩
abbrev main_call5_v19 : Ref sig .tc := ⟨.hbm, 1549, rfl⟩
abbrev main_call5_v20 : Ref sig .tc := ⟨.hbm, 1550, rfl⟩
abbrev main_call5_v21 : Ref sig .tc := ⟨.hbm, 1551, rfl⟩
abbrev main_call5_cst : Ref sig .tc := ⟨.hbm, 1552, rfl⟩
abbrev main_call5_v22 : Ref sig .tc := ⟨.hbm, 1553, rfl⟩
abbrev main_call5_v23 : Ref sig .tc := ⟨.hbm, 1554, rfl⟩
abbrev main_call5_v24 : Ref sig .tc := ⟨.hbm, 1555, rfl⟩
abbrev main_call5_v25 : Ref sig .tc := ⟨.hbm, 1556, rfl⟩
abbrev main_call5_v26 : Ref sig .tc := ⟨.hbm, 1557, rfl⟩
abbrev main_call5_v27 : Ref sig .tc := ⟨.hbm, 1558, rfl⟩
abbrev main_call5_v28 : Ref sig .tc := ⟨.hbm, 1559, rfl⟩
abbrev main_call5_v29 : Ref sig .tc := ⟨.hbm, 1560, rfl⟩
abbrev main_v24 : Ref sig .tc := ⟨.hbm, 1561, rfl⟩
abbrev main_call6_v0 : Ref sig .tc := ⟨.hbm, 1562, rfl⟩
abbrev main_call6_v1 : Ref sig .tc := ⟨.hbm, 1563, rfl⟩
abbrev main_call6_v2 : Ref sig .tc := ⟨.hbm, 1564, rfl⟩
abbrev main_call6_v3 : Ref sig .tc := ⟨.hbm, 1565, rfl⟩
abbrev main_call6_v4 : Ref sig .tc := ⟨.hbm, 1566, rfl⟩
abbrev main_call6_c : Ref sig .tc := ⟨.hbm, 1567, rfl⟩
abbrev main_call6_v5 : Ref sig .tc := ⟨.hbm, 1568, rfl⟩
abbrev main_call6_v6 : Ref sig .tc := ⟨.hbm, 1569, rfl⟩
abbrev main_call6_c_0 : Ref sig .tc := ⟨.hbm, 1570, rfl⟩
abbrev main_call6_v7 : Ref sig .tc := ⟨.hbm, 1571, rfl⟩
abbrev main_call6_v8 : Ref sig .tc := ⟨.hbm, 1572, rfl⟩
abbrev main_call6_v9 : Ref sig .tc := ⟨.hbm, 1573, rfl⟩
abbrev main_call6_v10 : Ref sig .tc := ⟨.hbm, 1574, rfl⟩
abbrev main_call6_call0_v0 : Ref sig .tc := ⟨.hbm, 1575, rfl⟩
abbrev main_call6_call0_c : Ref sig .tc := ⟨.hbm, 1576, rfl⟩
abbrev main_call6_call0_v1 : Ref sig .tc := ⟨.hbm, 1577, rfl⟩
abbrev main_call6_call0_v2 : Ref sig .tc := ⟨.hbm, 1578, rfl⟩
abbrev main_call6_call0_v3 : Ref sig .tc := ⟨.hbm, 1579, rfl⟩
abbrev main_call6_call0_v4 : Ref sig .tc := ⟨.hbm, 1580, rfl⟩
abbrev main_call6_call0_v5 : Ref sig .tc := ⟨.hbm, 1581, rfl⟩
abbrev main_call6_call0_v6 : Ref sig .tc := ⟨.hbm, 1582, rfl⟩
abbrev main_call6_call0_c_0 : Ref sig .tc := ⟨.hbm, 1583, rfl⟩
abbrev main_call6_call0_v7 : Ref sig .tc := ⟨.hbm, 1584, rfl⟩
abbrev main_call6_call0_v8 : Ref sig .tc := ⟨.hbm, 1585, rfl⟩
abbrev main_call6_call0_c_1 : Ref sig .tc := ⟨.hbm, 1586, rfl⟩
abbrev main_call6_call0_v9 : Ref sig .tc := ⟨.hbm, 1587, rfl⟩
abbrev main_call6_call0_v10 : Ref sig .tc := ⟨.hbm, 1588, rfl⟩
abbrev main_call6_call0_v11 : Ref sig .tc := ⟨.hbm, 1589, rfl⟩
abbrev main_call6_call0_v12 : Ref sig .tc := ⟨.hbm, 1590, rfl⟩
abbrev main_call6_call0_v13 : Ref sig .tc := ⟨.hbm, 1591, rfl⟩
abbrev main_call6_call0_c_2 : Ref sig .tc := ⟨.hbm, 1592, rfl⟩
abbrev main_call6_call0_v14 : Ref sig .tc := ⟨.hbm, 1593, rfl⟩
abbrev main_call6_call0_v15 : Ref sig .tc := ⟨.hbm, 1594, rfl⟩
abbrev main_call6_call0_c_3 : Ref sig .tc := ⟨.hbm, 1595, rfl⟩
abbrev main_call6_call0_v16 : Ref sig .tc := ⟨.hbm, 1596, rfl⟩
abbrev main_call6_call0_v17 : Ref sig .tc := ⟨.hbm, 1597, rfl⟩
abbrev main_call6_call0_v18 : Ref sig .tc := ⟨.hbm, 1598, rfl⟩
abbrev main_call6_call0_v19 : Ref sig .tc := ⟨.hbm, 1599, rfl⟩
abbrev main_call6_call0_v20 : Ref sig .tc := ⟨.hbm, 1600, rfl⟩
abbrev main_call6_call0_c_4 : Ref sig .tc := ⟨.hbm, 1601, rfl⟩
abbrev main_call6_call0_v21 : Ref sig .tc := ⟨.hbm, 1602, rfl⟩
abbrev main_call6_call0_v22 : Ref sig .tc := ⟨.hbm, 1603, rfl⟩
abbrev main_call6_call0_c_5 : Ref sig .tc := ⟨.hbm, 1604, rfl⟩
abbrev main_call6_call0_v23 : Ref sig .tc := ⟨.hbm, 1605, rfl⟩
abbrev main_call6_call0_v24 : Ref sig .tc := ⟨.hbm, 1606, rfl⟩
abbrev main_call6_call0_v25 : Ref sig .tc := ⟨.hbm, 1607, rfl⟩
abbrev main_call6_call0_v26 : Ref sig .tc := ⟨.hbm, 1608, rfl⟩
abbrev main_call6_call0_v27 : Ref sig .tc := ⟨.hbm, 1609, rfl⟩
abbrev main_call6_call0_c_6 : Ref sig .tc := ⟨.hbm, 1610, rfl⟩
abbrev main_call6_call0_v28 : Ref sig .tc := ⟨.hbm, 1611, rfl⟩
abbrev main_call6_call0_v29 : Ref sig .tc := ⟨.hbm, 1612, rfl⟩
abbrev main_call6_call0_c_7 : Ref sig .tc := ⟨.hbm, 1613, rfl⟩
abbrev main_call6_call0_v30 : Ref sig .tc := ⟨.hbm, 1614, rfl⟩
abbrev main_call6_call0_v31 : Ref sig .tc := ⟨.hbm, 1615, rfl⟩
abbrev main_call6_call0_v32 : Ref sig .tc := ⟨.hbm, 1616, rfl⟩
abbrev main_call6_call0_v33 : Ref sig .tc := ⟨.hbm, 1617, rfl⟩
abbrev main_call6_call0_v34 : Ref sig .tc := ⟨.hbm, 1618, rfl⟩
abbrev main_call6_call0_v35 : Ref sig .tc := ⟨.hbm, 1619, rfl⟩
abbrev main_call6_call0_v36 : Ref sig .tc := ⟨.hbm, 1620, rfl⟩
abbrev main_call6_call0_v37 : Ref sig .tc := ⟨.hbm, 1621, rfl⟩
abbrev main_call6_call0_c_8 : Ref sig .tc := ⟨.hbm, 1622, rfl⟩
abbrev main_call6_call0_v38 : Ref sig .tc := ⟨.hbm, 1623, rfl⟩
abbrev main_call6_call0_v39 : Ref sig .tc := ⟨.hbm, 1624, rfl⟩
abbrev main_call6_call0_v40 : Ref sig .tc := ⟨.hbm, 1625, rfl⟩
abbrev main_call6_call0_c_9 : Ref sig .tc := ⟨.hbm, 1626, rfl⟩
abbrev main_call6_call0_v41 : Ref sig .tc := ⟨.hbm, 1627, rfl⟩
abbrev main_call6_call0_v42 : Ref sig .tc := ⟨.hbm, 1628, rfl⟩
abbrev main_call6_call0_c_10 : Ref sig .tc := ⟨.hbm, 1629, rfl⟩
abbrev main_call6_call0_v43 : Ref sig .tc := ⟨.hbm, 1630, rfl⟩
abbrev main_call6_call0_v44 : Ref sig .tc := ⟨.hbm, 1631, rfl⟩
abbrev main_call6_call0_v45 : Ref sig .tc := ⟨.hbm, 1632, rfl⟩
abbrev main_call6_call0_v46 : Ref sig .tc := ⟨.hbm, 1633, rfl⟩
abbrev main_call6_call0_v47 : Ref sig .tc := ⟨.hbm, 1634, rfl⟩
abbrev main_call6_call0_c_11 : Ref sig .tc := ⟨.hbm, 1635, rfl⟩
abbrev main_call6_call0_v48 : Ref sig .tc := ⟨.hbm, 1636, rfl⟩
abbrev main_call6_call0_v49 : Ref sig .tc := ⟨.hbm, 1637, rfl⟩
abbrev main_call6_call0_c_12 : Ref sig .tc := ⟨.hbm, 1638, rfl⟩
abbrev main_call6_call0_v50 : Ref sig .tc := ⟨.hbm, 1639, rfl⟩
abbrev main_call6_call0_v51 : Ref sig .tc := ⟨.hbm, 1640, rfl⟩
abbrev main_call6_call0_v52 : Ref sig .tc := ⟨.hbm, 1641, rfl⟩
abbrev main_call6_call0_v53 : Ref sig .tc := ⟨.hbm, 1642, rfl⟩
abbrev main_call6_call0_v54 : Ref sig .tc := ⟨.hbm, 1643, rfl⟩
abbrev main_call6_call0_c_13 : Ref sig .tc := ⟨.hbm, 1644, rfl⟩
abbrev main_call6_call0_v55 : Ref sig .tc := ⟨.hbm, 1645, rfl⟩
abbrev main_call6_call0_v56 : Ref sig .tc := ⟨.hbm, 1646, rfl⟩
abbrev main_call6_call0_c_14 : Ref sig .tc := ⟨.hbm, 1647, rfl⟩
abbrev main_call6_call0_v57 : Ref sig .tc := ⟨.hbm, 1648, rfl⟩
abbrev main_call6_call0_v58 : Ref sig .tc := ⟨.hbm, 1649, rfl⟩
abbrev main_call6_call0_v59 : Ref sig .tc := ⟨.hbm, 1650, rfl⟩
abbrev main_call6_call0_v60 : Ref sig .tc := ⟨.hbm, 1651, rfl⟩
abbrev main_call6_call0_v61 : Ref sig .tc := ⟨.hbm, 1652, rfl⟩
abbrev main_call6_call0_c_15 : Ref sig .tc := ⟨.hbm, 1653, rfl⟩
abbrev main_call6_call0_v62 : Ref sig .tc := ⟨.hbm, 1654, rfl⟩
abbrev main_call6_call0_v63 : Ref sig .tc := ⟨.hbm, 1655, rfl⟩
abbrev main_call6_call0_c_16 : Ref sig .tc := ⟨.hbm, 1656, rfl⟩
abbrev main_call6_call0_v64 : Ref sig .tc := ⟨.hbm, 1657, rfl⟩
abbrev main_call6_call0_v65 : Ref sig .tc := ⟨.hbm, 1658, rfl⟩
abbrev main_call6_call0_v66 : Ref sig .tc := ⟨.hbm, 1659, rfl⟩
abbrev main_call6_call0_v67 : Ref sig .tc := ⟨.hbm, 1660, rfl⟩
abbrev main_call6_call0_v68 : Ref sig .tc := ⟨.hbm, 1661, rfl⟩
abbrev main_call6_call0_v69 : Ref sig .tc := ⟨.hbm, 1662, rfl⟩
abbrev main_call6_call0_v70 : Ref sig .tc := ⟨.hbm, 1663, rfl⟩
abbrev main_call6_call0_v71 : Ref sig .tc := ⟨.hbm, 1664, rfl⟩
abbrev main_call6_call0_c_17 : Ref sig .tc := ⟨.hbm, 1665, rfl⟩
abbrev main_call6_call0_v72 : Ref sig .tc := ⟨.hbm, 1666, rfl⟩
abbrev main_call6_call0_v73 : Ref sig .tc := ⟨.hbm, 1667, rfl⟩
abbrev main_call6_call0_v74 : Ref sig .tc := ⟨.hbm, 1668, rfl⟩
abbrev main_call6_call0_c_18 : Ref sig .tc := ⟨.hbm, 1669, rfl⟩
abbrev main_call6_call0_v75 : Ref sig .tc := ⟨.hbm, 1670, rfl⟩
abbrev main_call6_call0_v76 : Ref sig .tc := ⟨.hbm, 1671, rfl⟩
abbrev main_call6_call0_c_19 : Ref sig .tc := ⟨.hbm, 1672, rfl⟩
abbrev main_call6_call0_v77 : Ref sig .tc := ⟨.hbm, 1673, rfl⟩
abbrev main_call6_call0_v78 : Ref sig .tc := ⟨.hbm, 1674, rfl⟩
abbrev main_call6_call0_v79 : Ref sig .tc := ⟨.hbm, 1675, rfl⟩
abbrev main_call6_call0_v80 : Ref sig .tc := ⟨.hbm, 1676, rfl⟩
abbrev main_call6_call0_v81 : Ref sig .tc := ⟨.hbm, 1677, rfl⟩
abbrev main_call6_call0_c_20 : Ref sig .tc := ⟨.hbm, 1678, rfl⟩
abbrev main_call6_call0_v82 : Ref sig .tc := ⟨.hbm, 1679, rfl⟩
abbrev main_call6_call0_v83 : Ref sig .tc := ⟨.hbm, 1680, rfl⟩
abbrev main_call6_call0_c_21 : Ref sig .tc := ⟨.hbm, 1681, rfl⟩
abbrev main_call6_call0_v84 : Ref sig .tc := ⟨.hbm, 1682, rfl⟩
abbrev main_call6_call0_v85 : Ref sig .tc := ⟨.hbm, 1683, rfl⟩
abbrev main_call6_call0_v86 : Ref sig .tc := ⟨.hbm, 1684, rfl⟩
abbrev main_call6_call0_v87 : Ref sig .tc := ⟨.hbm, 1685, rfl⟩
abbrev main_call6_call0_v88 : Ref sig .tc := ⟨.hbm, 1686, rfl⟩
abbrev main_call6_call0_c_22 : Ref sig .tc := ⟨.hbm, 1687, rfl⟩
abbrev main_call6_call0_v89 : Ref sig .tc := ⟨.hbm, 1688, rfl⟩
abbrev main_call6_call0_v90 : Ref sig .tc := ⟨.hbm, 1689, rfl⟩
abbrev main_call6_call0_c_23 : Ref sig .tc := ⟨.hbm, 1690, rfl⟩
abbrev main_call6_call0_v91 : Ref sig .tc := ⟨.hbm, 1691, rfl⟩
abbrev main_call6_call0_v92 : Ref sig .tc := ⟨.hbm, 1692, rfl⟩
abbrev main_call6_call0_v93 : Ref sig .tc := ⟨.hbm, 1693, rfl⟩
abbrev main_call6_call0_v94 : Ref sig .tc := ⟨.hbm, 1694, rfl⟩
abbrev main_call6_call0_v95 : Ref sig .tc := ⟨.hbm, 1695, rfl⟩
abbrev main_call6_call0_c_24 : Ref sig .tc := ⟨.hbm, 1696, rfl⟩
abbrev main_call6_call0_v96 : Ref sig .tc := ⟨.hbm, 1697, rfl⟩
abbrev main_call6_call0_v97 : Ref sig .tc := ⟨.hbm, 1698, rfl⟩
abbrev main_call6_call0_c_25 : Ref sig .tc := ⟨.hbm, 1699, rfl⟩
abbrev main_call6_call0_v98 : Ref sig .tc := ⟨.hbm, 1700, rfl⟩
abbrev main_call6_call0_v99 : Ref sig .tc := ⟨.hbm, 1701, rfl⟩
abbrev main_call6_call0_v100 : Ref sig .tc := ⟨.hbm, 1702, rfl⟩
abbrev main_call6_call0_v101 : Ref sig .tc := ⟨.hbm, 1703, rfl⟩
abbrev main_call6_call0_v102 : Ref sig .tc := ⟨.hbm, 1704, rfl⟩
abbrev main_call6_call0_v103 : Ref sig .tc := ⟨.hbm, 1705, rfl⟩
abbrev main_call6_call0_v104 : Ref sig .tc := ⟨.hbm, 1706, rfl⟩
abbrev main_call6_call0_v105 : Ref sig .tc := ⟨.hbm, 1707, rfl⟩
abbrev main_call6_call0_c_26 : Ref sig .tc := ⟨.hbm, 1708, rfl⟩
abbrev main_call6_call0_v106 : Ref sig .tc := ⟨.hbm, 1709, rfl⟩
abbrev main_call6_call0_v107 : Ref sig .tc := ⟨.hbm, 1710, rfl⟩
abbrev main_call6_call0_v108 : Ref sig .tc := ⟨.hbm, 1711, rfl⟩
abbrev main_call6_call0_c_27 : Ref sig .tc := ⟨.hbm, 1712, rfl⟩
abbrev main_call6_call0_v109 : Ref sig .tc := ⟨.hbm, 1713, rfl⟩
abbrev main_call6_call0_v110 : Ref sig .tc := ⟨.hbm, 1714, rfl⟩
abbrev main_call6_call0_c_28 : Ref sig .tc := ⟨.hbm, 1715, rfl⟩
abbrev main_call6_call0_v111 : Ref sig .tc := ⟨.hbm, 1716, rfl⟩
abbrev main_call6_call0_v112 : Ref sig .tc := ⟨.hbm, 1717, rfl⟩
abbrev main_call6_call0_v113 : Ref sig .tc := ⟨.hbm, 1718, rfl⟩
abbrev main_call6_call0_v114 : Ref sig .tc := ⟨.hbm, 1719, rfl⟩
abbrev main_call6_call0_v115 : Ref sig .tc := ⟨.hbm, 1720, rfl⟩
abbrev main_call6_call0_c_29 : Ref sig .tc := ⟨.hbm, 1721, rfl⟩
abbrev main_call6_call0_v116 : Ref sig .tc := ⟨.hbm, 1722, rfl⟩
abbrev main_call6_call0_v117 : Ref sig .tc := ⟨.hbm, 1723, rfl⟩
abbrev main_call6_call0_c_30 : Ref sig .tc := ⟨.hbm, 1724, rfl⟩
abbrev main_call6_call0_v118 : Ref sig .tc := ⟨.hbm, 1725, rfl⟩
abbrev main_call6_call0_v119 : Ref sig .tc := ⟨.hbm, 1726, rfl⟩
abbrev main_call6_call0_v120 : Ref sig .tc := ⟨.hbm, 1727, rfl⟩
abbrev main_call6_call0_v121 : Ref sig .tc := ⟨.hbm, 1728, rfl⟩
abbrev main_call6_call0_v122 : Ref sig .tc := ⟨.hbm, 1729, rfl⟩
abbrev main_call6_call0_c_31 : Ref sig .tc := ⟨.hbm, 1730, rfl⟩
abbrev main_call6_call0_v123 : Ref sig .tc := ⟨.hbm, 1731, rfl⟩
abbrev main_call6_call0_v124 : Ref sig .tc := ⟨.hbm, 1732, rfl⟩
abbrev main_call6_call0_c_32 : Ref sig .tc := ⟨.hbm, 1733, rfl⟩
abbrev main_call6_call0_v125 : Ref sig .tc := ⟨.hbm, 1734, rfl⟩
abbrev main_call6_call0_v126 : Ref sig .tc := ⟨.hbm, 1735, rfl⟩
abbrev main_call6_call0_v127 : Ref sig .tc := ⟨.hbm, 1736, rfl⟩
abbrev main_call6_call0_v128 : Ref sig .tc := ⟨.hbm, 1737, rfl⟩
abbrev main_call6_call0_v129 : Ref sig .tc := ⟨.hbm, 1738, rfl⟩
abbrev main_call6_call0_c_33 : Ref sig .tc := ⟨.hbm, 1739, rfl⟩
abbrev main_call6_call0_v130 : Ref sig .tc := ⟨.hbm, 1740, rfl⟩
abbrev main_call6_call0_v131 : Ref sig .tc := ⟨.hbm, 1741, rfl⟩
abbrev main_call6_call0_c_34 : Ref sig .tc := ⟨.hbm, 1742, rfl⟩
abbrev main_call6_call0_v132 : Ref sig .tc := ⟨.hbm, 1743, rfl⟩
abbrev main_call6_call0_v133 : Ref sig .tc := ⟨.hbm, 1744, rfl⟩
abbrev main_call6_call0_v134 : Ref sig .tc := ⟨.hbm, 1745, rfl⟩
abbrev main_call6_call0_v135 : Ref sig .tc := ⟨.hbm, 1746, rfl⟩
abbrev main_call6_call0_v136 : Ref sig .tc := ⟨.hbm, 1747, rfl⟩
abbrev main_call6_call0_v137 : Ref sig .tc := ⟨.hbm, 1748, rfl⟩
abbrev main_call6_call0_v138 : Ref sig .tc := ⟨.hbm, 1749, rfl⟩
abbrev main_call6_call0_v139 : Ref sig .tc := ⟨.hbm, 1750, rfl⟩
abbrev main_call6_call0_c_35 : Ref sig .tc := ⟨.hbm, 1751, rfl⟩
abbrev main_call6_call0_v140 : Ref sig .tc := ⟨.hbm, 1752, rfl⟩
abbrev main_call6_call0_v141 : Ref sig .tc := ⟨.hbm, 1753, rfl⟩
abbrev main_call6_call0_v142 : Ref sig .tc := ⟨.hbm, 1754, rfl⟩
abbrev main_call6_call0_c_36 : Ref sig .tc := ⟨.hbm, 1755, rfl⟩
abbrev main_call6_call0_v143 : Ref sig .tc := ⟨.hbm, 1756, rfl⟩
abbrev main_call6_call0_v144 : Ref sig .tc := ⟨.hbm, 1757, rfl⟩
abbrev main_call6_call0_c_37 : Ref sig .tc := ⟨.hbm, 1758, rfl⟩
abbrev main_call6_call0_v145 : Ref sig .tc := ⟨.hbm, 1759, rfl⟩
abbrev main_call6_call0_v146 : Ref sig .tc := ⟨.hbm, 1760, rfl⟩
abbrev main_call6_call0_v147 : Ref sig .tc := ⟨.hbm, 1761, rfl⟩
abbrev main_call6_call0_v148 : Ref sig .tc := ⟨.hbm, 1762, rfl⟩
abbrev main_call6_call0_v149 : Ref sig .tc := ⟨.hbm, 1763, rfl⟩
abbrev main_call6_call0_c_38 : Ref sig .tc := ⟨.hbm, 1764, rfl⟩
abbrev main_call6_call0_v150 : Ref sig .tc := ⟨.hbm, 1765, rfl⟩
abbrev main_call6_call0_v151 : Ref sig .tc := ⟨.hbm, 1766, rfl⟩
abbrev main_call6_call0_c_39 : Ref sig .tc := ⟨.hbm, 1767, rfl⟩
abbrev main_call6_call0_v152 : Ref sig .tc := ⟨.hbm, 1768, rfl⟩
abbrev main_call6_call0_v153 : Ref sig .tc := ⟨.hbm, 1769, rfl⟩
abbrev main_call6_call0_v154 : Ref sig .tc := ⟨.hbm, 1770, rfl⟩
abbrev main_call6_call0_v155 : Ref sig .tc := ⟨.hbm, 1771, rfl⟩
abbrev main_call6_call0_v156 : Ref sig .tc := ⟨.hbm, 1772, rfl⟩
abbrev main_call6_call0_c_40 : Ref sig .tc := ⟨.hbm, 1773, rfl⟩
abbrev main_call6_call0_v157 : Ref sig .tc := ⟨.hbm, 1774, rfl⟩
abbrev main_call6_call0_v158 : Ref sig .tc := ⟨.hbm, 1775, rfl⟩
abbrev main_call6_call0_c_41 : Ref sig .tc := ⟨.hbm, 1776, rfl⟩
abbrev main_call6_call0_v159 : Ref sig .tc := ⟨.hbm, 1777, rfl⟩
abbrev main_call6_call0_v160 : Ref sig .tc := ⟨.hbm, 1778, rfl⟩
abbrev main_call6_call0_v161 : Ref sig .tc := ⟨.hbm, 1779, rfl⟩
abbrev main_call6_call0_v162 : Ref sig .tc := ⟨.hbm, 1780, rfl⟩
abbrev main_call6_call0_v163 : Ref sig .tc := ⟨.hbm, 1781, rfl⟩
abbrev main_call6_call0_c_42 : Ref sig .tc := ⟨.hbm, 1782, rfl⟩
abbrev main_call6_call0_v164 : Ref sig .tc := ⟨.hbm, 1783, rfl⟩
abbrev main_call6_call0_v165 : Ref sig .tc := ⟨.hbm, 1784, rfl⟩
abbrev main_call6_call0_c_43 : Ref sig .tc := ⟨.hbm, 1785, rfl⟩
abbrev main_call6_call0_v166 : Ref sig .tc := ⟨.hbm, 1786, rfl⟩
abbrev main_call6_call0_v167 : Ref sig .tc := ⟨.hbm, 1787, rfl⟩
abbrev main_call6_call0_v168 : Ref sig .tc := ⟨.hbm, 1788, rfl⟩
abbrev main_call6_call0_v169 : Ref sig .tc := ⟨.hbm, 1789, rfl⟩
abbrev main_call6_call0_v170 : Ref sig .tc := ⟨.hbm, 1790, rfl⟩
abbrev main_call6_v11_0 : Ref sig .tc := ⟨.hbm, 1791, rfl⟩
abbrev main_call6_call0_v172 : Ref sig .tc := ⟨.hbm, 1792, rfl⟩
abbrev main_call6_call0_v173 : Ref sig .tc := ⟨.hbm, 1793, rfl⟩
abbrev main_call6_call0_c_44 : Ref sig .tc := ⟨.hbm, 1794, rfl⟩
abbrev main_call6_call0_v174 : Ref sig .tc := ⟨.hbm, 1795, rfl⟩
abbrev main_call6_v11_1 : Ref sig .tc := ⟨.hbm, 1796, rfl⟩
abbrev main_call6_v12 : Ref sig .tc := ⟨.hbm, 1797, rfl⟩
abbrev main_call6_v13 : Ref sig .tc := ⟨.hbm, 1798, rfl⟩
abbrev main_v25 : Ref sig .tc := ⟨.hbm, 1799, rfl⟩
abbrev main_v26 : Ref sig .tc := ⟨.hbm, 1800, rfl⟩
abbrev main_v27 : Ref sig .tc := ⟨.hbm, 1801, rfl⟩
abbrev main_v28 : Ref sig .tc := ⟨.hbm, 1802, rfl⟩
abbrev main_v29 : Ref sig .tc := ⟨.hbm, 1803, rfl⟩
abbrev main_v30 : Ref sig .tc := ⟨.hbm, 1804, rfl⟩
abbrev main_v31 : Ref sig .tc := ⟨.hbm, 1805, rfl⟩
abbrev main_call7_cst : Ref sig .tc := ⟨.hbm, 1806, rfl⟩
abbrev main_call7_cst_0 : Ref sig .tc := ⟨.hbm, 1807, rfl⟩
abbrev main_call7_call0_v0 : Ref sig .tc := ⟨.hbm, 1808, rfl⟩
abbrev main_call7_call0_v1 : Ref sig .tc := ⟨.hbm, 1809, rfl⟩
abbrev main_call7_call0_v2 : Ref sig .tc := ⟨.hbm, 1810, rfl⟩
abbrev main_call7_call0_v3 : Ref sig .tc := ⟨.hbm, 1811, rfl⟩
abbrev main_call7_call0_v4 : Ref sig .tc := ⟨.hbm, 1812, rfl⟩
abbrev main_call7_call0_v5 : Ref sig .tc := ⟨.hbm, 1813, rfl⟩
abbrev main_call7_call0_v6 : Ref sig .tc := ⟨.hbm, 1814, rfl⟩
abbrev main_call7_call0_v7 : Ref sig .tc := ⟨.hbm, 1815, rfl⟩
abbrev main_call7_call0_v8 : Ref sig .tc := ⟨.hbm, 1816, rfl⟩
abbrev main_call7_call0_v9 : Ref sig .tc := ⟨.hbm, 1817, rfl⟩
abbrev main_call7_call0_c : Ref sig .tc := ⟨.hbm, 1818, rfl⟩
abbrev main_call7_call0_v10 : Ref sig .tc := ⟨.hbm, 1819, rfl⟩
abbrev main_call7_call0_v11 : Ref sig .tc := ⟨.hbm, 1820, rfl⟩
abbrev main_call7_call0_c_0 : Ref sig .tc := ⟨.hbm, 1821, rfl⟩
abbrev main_call7_call0_v12 : Ref sig .tc := ⟨.hbm, 1822, rfl⟩
abbrev main_call7_call0_v13 : Ref sig .tc := ⟨.hbm, 1823, rfl⟩
abbrev main_call7_call0_c_1 : Ref sig .tc := ⟨.hbm, 1824, rfl⟩
abbrev main_call7_call0_v14 : Ref sig .tc := ⟨.hbm, 1825, rfl⟩
abbrev main_call7_call0_v15 : Ref sig .tc := ⟨.hbm, 1826, rfl⟩
abbrev main_call7_call0_v16 : Ref sig .tc := ⟨.hbm, 1827, rfl⟩
abbrev main_call7_call0_v17 : Ref sig .tc := ⟨.hbm, 1828, rfl⟩
abbrev main_call7_call0_c_2 : Ref sig .tc := ⟨.hbm, 1829, rfl⟩
abbrev main_call7_call0_v18 : Ref sig .tc := ⟨.hbm, 1830, rfl⟩
abbrev main_call7_call0_v19 : Ref sig .tc := ⟨.hbm, 1831, rfl⟩
abbrev main_call7_call0_v20 : Ref sig .tc := ⟨.hbm, 1832, rfl⟩
abbrev main_call7_call0_v21 : Ref sig .tc := ⟨.hbm, 1833, rfl⟩
abbrev main_call7_call0_call0_v0 : Ref sig .tc := ⟨.hbm, 1834, rfl⟩
abbrev main_call7_call0_call0_c : Ref sig .tc := ⟨.hbm, 1835, rfl⟩
abbrev main_call7_call0_call0_v1 : Ref sig .tc := ⟨.hbm, 1836, rfl⟩
abbrev main_call7_call0_call0_v2 : Ref sig .tc := ⟨.hbm, 1837, rfl⟩
abbrev main_call7_call0_call0_v3 : Ref sig .tc := ⟨.hbm, 1838, rfl⟩
abbrev main_call7_call0_call0_v4 : Ref sig .tc := ⟨.hbm, 1839, rfl⟩
abbrev main_call7_call0_call0_v5 : Ref sig .tc := ⟨.hbm, 1840, rfl⟩
abbrev main_call7_call0_call0_v6 : Ref sig .tc := ⟨.hbm, 1841, rfl⟩
abbrev main_call7_call0_call0_c_0 : Ref sig .tc := ⟨.hbm, 1842, rfl⟩
abbrev main_call7_call0_call0_v7 : Ref sig .tc := ⟨.hbm, 1843, rfl⟩
abbrev main_call7_call0_call0_v8 : Ref sig .tc := ⟨.hbm, 1844, rfl⟩
abbrev main_call7_call0_call0_c_1 : Ref sig .tc := ⟨.hbm, 1845, rfl⟩
abbrev main_call7_call0_call0_v9 : Ref sig .tc := ⟨.hbm, 1846, rfl⟩
abbrev main_call7_call0_call0_v10 : Ref sig .tc := ⟨.hbm, 1847, rfl⟩
abbrev main_call7_call0_call0_v11 : Ref sig .tc := ⟨.hbm, 1848, rfl⟩
abbrev main_call7_call0_call0_v12 : Ref sig .tc := ⟨.hbm, 1849, rfl⟩
abbrev main_call7_call0_call0_v13 : Ref sig .tc := ⟨.hbm, 1850, rfl⟩
abbrev main_call7_call0_call0_c_2 : Ref sig .tc := ⟨.hbm, 1851, rfl⟩
abbrev main_call7_call0_call0_v14 : Ref sig .tc := ⟨.hbm, 1852, rfl⟩
abbrev main_call7_call0_call0_v15 : Ref sig .tc := ⟨.hbm, 1853, rfl⟩
abbrev main_call7_call0_call0_c_3 : Ref sig .tc := ⟨.hbm, 1854, rfl⟩
abbrev main_call7_call0_call0_v16 : Ref sig .tc := ⟨.hbm, 1855, rfl⟩
abbrev main_call7_call0_call0_v17 : Ref sig .tc := ⟨.hbm, 1856, rfl⟩
abbrev main_call7_call0_call0_v18 : Ref sig .tc := ⟨.hbm, 1857, rfl⟩
abbrev main_call7_call0_call0_v19 : Ref sig .tc := ⟨.hbm, 1858, rfl⟩
abbrev main_call7_call0_call0_v20 : Ref sig .tc := ⟨.hbm, 1859, rfl⟩
abbrev main_call7_call0_call0_c_4 : Ref sig .tc := ⟨.hbm, 1860, rfl⟩
abbrev main_call7_call0_call0_v21 : Ref sig .tc := ⟨.hbm, 1861, rfl⟩
abbrev main_call7_call0_call0_v22 : Ref sig .tc := ⟨.hbm, 1862, rfl⟩
abbrev main_call7_call0_call0_c_5 : Ref sig .tc := ⟨.hbm, 1863, rfl⟩
abbrev main_call7_call0_call0_v23 : Ref sig .tc := ⟨.hbm, 1864, rfl⟩
abbrev main_call7_call0_call0_v24 : Ref sig .tc := ⟨.hbm, 1865, rfl⟩
abbrev main_call7_call0_call0_v25 : Ref sig .tc := ⟨.hbm, 1866, rfl⟩
abbrev main_call7_call0_call0_v26 : Ref sig .tc := ⟨.hbm, 1867, rfl⟩
abbrev main_call7_call0_call0_v27 : Ref sig .tc := ⟨.hbm, 1868, rfl⟩
abbrev main_call7_call0_call0_c_6 : Ref sig .tc := ⟨.hbm, 1869, rfl⟩
abbrev main_call7_call0_call0_v28 : Ref sig .tc := ⟨.hbm, 1870, rfl⟩
abbrev main_call7_call0_call0_v29 : Ref sig .tc := ⟨.hbm, 1871, rfl⟩
abbrev main_call7_call0_call0_c_7 : Ref sig .tc := ⟨.hbm, 1872, rfl⟩
abbrev main_call7_call0_call0_v30 : Ref sig .tc := ⟨.hbm, 1873, rfl⟩
abbrev main_call7_call0_call0_v31 : Ref sig .tc := ⟨.hbm, 1874, rfl⟩
abbrev main_call7_call0_call0_v32 : Ref sig .tc := ⟨.hbm, 1875, rfl⟩
abbrev main_call7_call0_call0_v33 : Ref sig .tc := ⟨.hbm, 1876, rfl⟩
abbrev main_call7_call0_call0_v34 : Ref sig .tc := ⟨.hbm, 1877, rfl⟩
abbrev main_call7_call0_call0_v35 : Ref sig .tc := ⟨.hbm, 1878, rfl⟩
abbrev main_call7_call0_call0_v36 : Ref sig .tc := ⟨.hbm, 1879, rfl⟩
abbrev main_call7_call0_call0_v37 : Ref sig .tc := ⟨.hbm, 1880, rfl⟩
abbrev main_call7_call0_call0_c_8 : Ref sig .tc := ⟨.hbm, 1881, rfl⟩
abbrev main_call7_call0_call0_v38 : Ref sig .tc := ⟨.hbm, 1882, rfl⟩
abbrev main_call7_call0_call0_v39 : Ref sig .tc := ⟨.hbm, 1883, rfl⟩
abbrev main_call7_call0_call0_v40 : Ref sig .tc := ⟨.hbm, 1884, rfl⟩
abbrev main_call7_call0_call0_c_9 : Ref sig .tc := ⟨.hbm, 1885, rfl⟩
abbrev main_call7_call0_call0_v41 : Ref sig .tc := ⟨.hbm, 1886, rfl⟩
abbrev main_call7_call0_call0_v42 : Ref sig .tc := ⟨.hbm, 1887, rfl⟩
abbrev main_call7_call0_call0_c_10 : Ref sig .tc := ⟨.hbm, 1888, rfl⟩
abbrev main_call7_call0_call0_v43 : Ref sig .tc := ⟨.hbm, 1889, rfl⟩
abbrev main_call7_call0_call0_v44 : Ref sig .tc := ⟨.hbm, 1890, rfl⟩
abbrev main_call7_call0_call0_v45 : Ref sig .tc := ⟨.hbm, 1891, rfl⟩
abbrev main_call7_call0_call0_v46 : Ref sig .tc := ⟨.hbm, 1892, rfl⟩
abbrev main_call7_call0_call0_v47 : Ref sig .tc := ⟨.hbm, 1893, rfl⟩
abbrev main_call7_call0_call0_c_11 : Ref sig .tc := ⟨.hbm, 1894, rfl⟩
abbrev main_call7_call0_call0_v48 : Ref sig .tc := ⟨.hbm, 1895, rfl⟩
abbrev main_call7_call0_call0_v49 : Ref sig .tc := ⟨.hbm, 1896, rfl⟩
abbrev main_call7_call0_call0_c_12 : Ref sig .tc := ⟨.hbm, 1897, rfl⟩
abbrev main_call7_call0_call0_v50 : Ref sig .tc := ⟨.hbm, 1898, rfl⟩
abbrev main_call7_call0_call0_v51 : Ref sig .tc := ⟨.hbm, 1899, rfl⟩
abbrev main_call7_call0_call0_v52 : Ref sig .tc := ⟨.hbm, 1900, rfl⟩
abbrev main_call7_call0_call0_v53 : Ref sig .tc := ⟨.hbm, 1901, rfl⟩
abbrev main_call7_call0_call0_v54 : Ref sig .tc := ⟨.hbm, 1902, rfl⟩
abbrev main_call7_call0_call0_c_13 : Ref sig .tc := ⟨.hbm, 1903, rfl⟩
abbrev main_call7_call0_call0_v55 : Ref sig .tc := ⟨.hbm, 1904, rfl⟩
abbrev main_call7_call0_call0_v56 : Ref sig .tc := ⟨.hbm, 1905, rfl⟩
abbrev main_call7_call0_call0_c_14 : Ref sig .tc := ⟨.hbm, 1906, rfl⟩
abbrev main_call7_call0_call0_v57 : Ref sig .tc := ⟨.hbm, 1907, rfl⟩
abbrev main_call7_call0_call0_v58 : Ref sig .tc := ⟨.hbm, 1908, rfl⟩
abbrev main_call7_call0_call0_v59 : Ref sig .tc := ⟨.hbm, 1909, rfl⟩
abbrev main_call7_call0_call0_v60 : Ref sig .tc := ⟨.hbm, 1910, rfl⟩
abbrev main_call7_call0_call0_v61 : Ref sig .tc := ⟨.hbm, 1911, rfl⟩
abbrev main_call7_call0_call0_c_15 : Ref sig .tc := ⟨.hbm, 1912, rfl⟩
abbrev main_call7_call0_call0_v62 : Ref sig .tc := ⟨.hbm, 1913, rfl⟩
abbrev main_call7_call0_call0_v63 : Ref sig .tc := ⟨.hbm, 1914, rfl⟩
abbrev main_call7_call0_call0_c_16 : Ref sig .tc := ⟨.hbm, 1915, rfl⟩
abbrev main_call7_call0_call0_v64 : Ref sig .tc := ⟨.hbm, 1916, rfl⟩
abbrev main_call7_call0_call0_v65 : Ref sig .tc := ⟨.hbm, 1917, rfl⟩
abbrev main_call7_call0_call0_v66 : Ref sig .tc := ⟨.hbm, 1918, rfl⟩
abbrev main_call7_call0_call0_v67 : Ref sig .tc := ⟨.hbm, 1919, rfl⟩
abbrev main_call7_call0_call0_v68 : Ref sig .tc := ⟨.hbm, 1920, rfl⟩
abbrev main_call7_call0_call0_v69 : Ref sig .tc := ⟨.hbm, 1921, rfl⟩
abbrev main_call7_call0_call0_v70 : Ref sig .tc := ⟨.hbm, 1922, rfl⟩
abbrev main_call7_call0_call0_v71 : Ref sig .tc := ⟨.hbm, 1923, rfl⟩
abbrev main_call7_call0_call0_c_17 : Ref sig .tc := ⟨.hbm, 1924, rfl⟩
abbrev main_call7_call0_call0_v72 : Ref sig .tc := ⟨.hbm, 1925, rfl⟩
abbrev main_call7_call0_call0_v73 : Ref sig .tc := ⟨.hbm, 1926, rfl⟩
abbrev main_call7_call0_call0_v74 : Ref sig .tc := ⟨.hbm, 1927, rfl⟩
abbrev main_call7_call0_call0_c_18 : Ref sig .tc := ⟨.hbm, 1928, rfl⟩
abbrev main_call7_call0_call0_v75 : Ref sig .tc := ⟨.hbm, 1929, rfl⟩
abbrev main_call7_call0_call0_v76 : Ref sig .tc := ⟨.hbm, 1930, rfl⟩
abbrev main_call7_call0_call0_c_19 : Ref sig .tc := ⟨.hbm, 1931, rfl⟩
abbrev main_call7_call0_call0_v77 : Ref sig .tc := ⟨.hbm, 1932, rfl⟩
abbrev main_call7_call0_call0_v78 : Ref sig .tc := ⟨.hbm, 1933, rfl⟩
abbrev main_call7_call0_call0_v79 : Ref sig .tc := ⟨.hbm, 1934, rfl⟩
abbrev main_call7_call0_call0_v80 : Ref sig .tc := ⟨.hbm, 1935, rfl⟩
abbrev main_call7_call0_call0_v81 : Ref sig .tc := ⟨.hbm, 1936, rfl⟩
abbrev main_call7_call0_call0_c_20 : Ref sig .tc := ⟨.hbm, 1937, rfl⟩
abbrev main_call7_call0_call0_v82 : Ref sig .tc := ⟨.hbm, 1938, rfl⟩
abbrev main_call7_call0_call0_v83 : Ref sig .tc := ⟨.hbm, 1939, rfl⟩
abbrev main_call7_call0_call0_c_21 : Ref sig .tc := ⟨.hbm, 1940, rfl⟩
abbrev main_call7_call0_call0_v84 : Ref sig .tc := ⟨.hbm, 1941, rfl⟩
abbrev main_call7_call0_call0_v85 : Ref sig .tc := ⟨.hbm, 1942, rfl⟩
abbrev main_call7_call0_call0_v86 : Ref sig .tc := ⟨.hbm, 1943, rfl⟩
abbrev main_call7_call0_call0_v87 : Ref sig .tc := ⟨.hbm, 1944, rfl⟩
abbrev main_call7_call0_call0_v88 : Ref sig .tc := ⟨.hbm, 1945, rfl⟩
abbrev main_call7_call0_call0_c_22 : Ref sig .tc := ⟨.hbm, 1946, rfl⟩
abbrev main_call7_call0_call0_v89 : Ref sig .tc := ⟨.hbm, 1947, rfl⟩
abbrev main_call7_call0_call0_v90 : Ref sig .tc := ⟨.hbm, 1948, rfl⟩
abbrev main_call7_call0_call0_c_23 : Ref sig .tc := ⟨.hbm, 1949, rfl⟩
abbrev main_call7_call0_call0_v91 : Ref sig .tc := ⟨.hbm, 1950, rfl⟩
abbrev main_call7_call0_call0_v92 : Ref sig .tc := ⟨.hbm, 1951, rfl⟩
abbrev main_call7_call0_call0_v93 : Ref sig .tc := ⟨.hbm, 1952, rfl⟩
abbrev main_call7_call0_call0_v94 : Ref sig .tc := ⟨.hbm, 1953, rfl⟩
abbrev main_call7_call0_call0_v95 : Ref sig .tc := ⟨.hbm, 1954, rfl⟩
abbrev main_call7_call0_call0_c_24 : Ref sig .tc := ⟨.hbm, 1955, rfl⟩
abbrev main_call7_call0_call0_v96 : Ref sig .tc := ⟨.hbm, 1956, rfl⟩
abbrev main_call7_call0_call0_v97 : Ref sig .tc := ⟨.hbm, 1957, rfl⟩
abbrev main_call7_call0_call0_c_25 : Ref sig .tc := ⟨.hbm, 1958, rfl⟩
abbrev main_call7_call0_call0_v98 : Ref sig .tc := ⟨.hbm, 1959, rfl⟩
abbrev main_call7_call0_call0_v99 : Ref sig .tc := ⟨.hbm, 1960, rfl⟩
abbrev main_call7_call0_call0_v100 : Ref sig .tc := ⟨.hbm, 1961, rfl⟩
abbrev main_call7_call0_call0_v101 : Ref sig .tc := ⟨.hbm, 1962, rfl⟩
abbrev main_call7_call0_call0_v102 : Ref sig .tc := ⟨.hbm, 1963, rfl⟩
abbrev main_call7_call0_call0_v103 : Ref sig .tc := ⟨.hbm, 1964, rfl⟩
abbrev main_call7_call0_call0_v104 : Ref sig .tc := ⟨.hbm, 1965, rfl⟩
abbrev main_call7_call0_call0_v105 : Ref sig .tc := ⟨.hbm, 1966, rfl⟩
abbrev main_call7_call0_call0_c_26 : Ref sig .tc := ⟨.hbm, 1967, rfl⟩
abbrev main_call7_call0_call0_v106 : Ref sig .tc := ⟨.hbm, 1968, rfl⟩
abbrev main_call7_call0_call0_v107 : Ref sig .tc := ⟨.hbm, 1969, rfl⟩
abbrev main_call7_call0_call0_v108 : Ref sig .tc := ⟨.hbm, 1970, rfl⟩
abbrev main_call7_call0_call0_c_27 : Ref sig .tc := ⟨.hbm, 1971, rfl⟩
abbrev main_call7_call0_call0_v109 : Ref sig .tc := ⟨.hbm, 1972, rfl⟩
abbrev main_call7_call0_call0_v110 : Ref sig .tc := ⟨.hbm, 1973, rfl⟩
abbrev main_call7_call0_call0_c_28 : Ref sig .tc := ⟨.hbm, 1974, rfl⟩
abbrev main_call7_call0_call0_v111 : Ref sig .tc := ⟨.hbm, 1975, rfl⟩
abbrev main_call7_call0_call0_v112 : Ref sig .tc := ⟨.hbm, 1976, rfl⟩
abbrev main_call7_call0_call0_v113 : Ref sig .tc := ⟨.hbm, 1977, rfl⟩
abbrev main_call7_call0_call0_v114 : Ref sig .tc := ⟨.hbm, 1978, rfl⟩
abbrev main_call7_call0_call0_v115 : Ref sig .tc := ⟨.hbm, 1979, rfl⟩
abbrev main_call7_call0_call0_c_29 : Ref sig .tc := ⟨.hbm, 1980, rfl⟩
abbrev main_call7_call0_call0_v116 : Ref sig .tc := ⟨.hbm, 1981, rfl⟩
abbrev main_call7_call0_call0_v117 : Ref sig .tc := ⟨.hbm, 1982, rfl⟩
abbrev main_call7_call0_call0_c_30 : Ref sig .tc := ⟨.hbm, 1983, rfl⟩
abbrev main_call7_call0_call0_v118 : Ref sig .tc := ⟨.hbm, 1984, rfl⟩
abbrev main_call7_call0_call0_v119 : Ref sig .tc := ⟨.hbm, 1985, rfl⟩
abbrev main_call7_call0_call0_v120 : Ref sig .tc := ⟨.hbm, 1986, rfl⟩
abbrev main_call7_call0_call0_v121 : Ref sig .tc := ⟨.hbm, 1987, rfl⟩
abbrev main_call7_call0_call0_v122 : Ref sig .tc := ⟨.hbm, 1988, rfl⟩
abbrev main_call7_call0_call0_c_31 : Ref sig .tc := ⟨.hbm, 1989, rfl⟩
abbrev main_call7_call0_call0_v123 : Ref sig .tc := ⟨.hbm, 1990, rfl⟩
abbrev main_call7_call0_call0_v124 : Ref sig .tc := ⟨.hbm, 1991, rfl⟩
abbrev main_call7_call0_call0_c_32 : Ref sig .tc := ⟨.hbm, 1992, rfl⟩
abbrev main_call7_call0_call0_v125 : Ref sig .tc := ⟨.hbm, 1993, rfl⟩
abbrev main_call7_call0_call0_v126 : Ref sig .tc := ⟨.hbm, 1994, rfl⟩
abbrev main_call7_call0_call0_v127 : Ref sig .tc := ⟨.hbm, 1995, rfl⟩
abbrev main_call7_call0_call0_v128 : Ref sig .tc := ⟨.hbm, 1996, rfl⟩
abbrev main_call7_call0_call0_v129 : Ref sig .tc := ⟨.hbm, 1997, rfl⟩
abbrev main_call7_call0_call0_c_33 : Ref sig .tc := ⟨.hbm, 1998, rfl⟩
abbrev main_call7_call0_call0_v130 : Ref sig .tc := ⟨.hbm, 1999, rfl⟩
abbrev main_call7_call0_call0_v131 : Ref sig .tc := ⟨.hbm, 2000, rfl⟩
abbrev main_call7_call0_call0_c_34 : Ref sig .tc := ⟨.hbm, 2001, rfl⟩
abbrev main_call7_call0_call0_v132 : Ref sig .tc := ⟨.hbm, 2002, rfl⟩
abbrev main_call7_call0_call0_v133 : Ref sig .tc := ⟨.hbm, 2003, rfl⟩
abbrev main_call7_call0_call0_v134 : Ref sig .tc := ⟨.hbm, 2004, rfl⟩
abbrev main_call7_call0_call0_v135 : Ref sig .tc := ⟨.hbm, 2005, rfl⟩
abbrev main_call7_call0_call0_v136 : Ref sig .tc := ⟨.hbm, 2006, rfl⟩
abbrev main_call7_call0_call0_v137 : Ref sig .tc := ⟨.hbm, 2007, rfl⟩
abbrev main_call7_call0_call0_v138 : Ref sig .tc := ⟨.hbm, 2008, rfl⟩
abbrev main_call7_call0_call0_v139 : Ref sig .tc := ⟨.hbm, 2009, rfl⟩
abbrev main_call7_call0_call0_c_35 : Ref sig .tc := ⟨.hbm, 2010, rfl⟩
abbrev main_call7_call0_call0_v140 : Ref sig .tc := ⟨.hbm, 2011, rfl⟩
abbrev main_call7_call0_call0_v141 : Ref sig .tc := ⟨.hbm, 2012, rfl⟩
abbrev main_call7_call0_call0_v142 : Ref sig .tc := ⟨.hbm, 2013, rfl⟩
abbrev main_call7_call0_call0_c_36 : Ref sig .tc := ⟨.hbm, 2014, rfl⟩
abbrev main_call7_call0_call0_v143 : Ref sig .tc := ⟨.hbm, 2015, rfl⟩
abbrev main_call7_call0_call0_v144 : Ref sig .tc := ⟨.hbm, 2016, rfl⟩
abbrev main_call7_call0_call0_c_37 : Ref sig .tc := ⟨.hbm, 2017, rfl⟩
abbrev main_call7_call0_call0_v145 : Ref sig .tc := ⟨.hbm, 2018, rfl⟩
abbrev main_call7_call0_call0_v146 : Ref sig .tc := ⟨.hbm, 2019, rfl⟩
abbrev main_call7_call0_call0_v147 : Ref sig .tc := ⟨.hbm, 2020, rfl⟩
abbrev main_call7_call0_call0_v148 : Ref sig .tc := ⟨.hbm, 2021, rfl⟩
abbrev main_call7_call0_call0_v149 : Ref sig .tc := ⟨.hbm, 2022, rfl⟩
abbrev main_call7_call0_call0_c_38 : Ref sig .tc := ⟨.hbm, 2023, rfl⟩
abbrev main_call7_call0_call0_v150 : Ref sig .tc := ⟨.hbm, 2024, rfl⟩
abbrev main_call7_call0_call0_v151 : Ref sig .tc := ⟨.hbm, 2025, rfl⟩
abbrev main_call7_call0_call0_c_39 : Ref sig .tc := ⟨.hbm, 2026, rfl⟩
abbrev main_call7_call0_call0_v152 : Ref sig .tc := ⟨.hbm, 2027, rfl⟩
abbrev main_call7_call0_call0_v153 : Ref sig .tc := ⟨.hbm, 2028, rfl⟩
abbrev main_call7_call0_call0_v154 : Ref sig .tc := ⟨.hbm, 2029, rfl⟩
abbrev main_call7_call0_call0_v155 : Ref sig .tc := ⟨.hbm, 2030, rfl⟩
abbrev main_call7_call0_call0_v156 : Ref sig .tc := ⟨.hbm, 2031, rfl⟩
abbrev main_call7_call0_call0_c_40 : Ref sig .tc := ⟨.hbm, 2032, rfl⟩
abbrev main_call7_call0_call0_v157 : Ref sig .tc := ⟨.hbm, 2033, rfl⟩
abbrev main_call7_call0_call0_v158 : Ref sig .tc := ⟨.hbm, 2034, rfl⟩
abbrev main_call7_call0_call0_c_41 : Ref sig .tc := ⟨.hbm, 2035, rfl⟩
abbrev main_call7_call0_call0_v159 : Ref sig .tc := ⟨.hbm, 2036, rfl⟩
abbrev main_call7_call0_call0_v160 : Ref sig .tc := ⟨.hbm, 2037, rfl⟩
abbrev main_call7_call0_call0_v161 : Ref sig .tc := ⟨.hbm, 2038, rfl⟩
abbrev main_call7_call0_call0_v162 : Ref sig .tc := ⟨.hbm, 2039, rfl⟩
abbrev main_call7_call0_call0_v163 : Ref sig .tc := ⟨.hbm, 2040, rfl⟩
abbrev main_call7_call0_call0_c_42 : Ref sig .tc := ⟨.hbm, 2041, rfl⟩
abbrev main_call7_call0_call0_v164 : Ref sig .tc := ⟨.hbm, 2042, rfl⟩
abbrev main_call7_call0_call0_v165 : Ref sig .tc := ⟨.hbm, 2043, rfl⟩
abbrev main_call7_call0_call0_c_43 : Ref sig .tc := ⟨.hbm, 2044, rfl⟩
abbrev main_call7_call0_call0_v166 : Ref sig .tc := ⟨.hbm, 2045, rfl⟩
abbrev main_call7_call0_call0_v167 : Ref sig .tc := ⟨.hbm, 2046, rfl⟩
abbrev main_call7_call0_call0_v168 : Ref sig .tc := ⟨.hbm, 2047, rfl⟩
abbrev main_call7_call0_call0_v169 : Ref sig .tc := ⟨.hbm, 2048, rfl⟩
abbrev main_call7_call0_call0_v170 : Ref sig .tc := ⟨.hbm, 2049, rfl⟩
abbrev main_call7_call0_v22_0 : Ref sig .tc := ⟨.hbm, 2050, rfl⟩
abbrev main_call7_call0_call0_v172 : Ref sig .tc := ⟨.hbm, 2051, rfl⟩
abbrev main_call7_call0_call0_v173 : Ref sig .tc := ⟨.hbm, 2052, rfl⟩
abbrev main_call7_call0_call0_c_44 : Ref sig .tc := ⟨.hbm, 2053, rfl⟩
abbrev main_call7_call0_call0_v174 : Ref sig .tc := ⟨.hbm, 2054, rfl⟩
abbrev main_call7_call0_v22_1 : Ref sig .tc := ⟨.hbm, 2055, rfl⟩
abbrev main_call7_call0_v23 : Ref sig .tc := ⟨.hbm, 2056, rfl⟩
abbrev main_call7_call0_c_3 : Ref sig .tc := ⟨.hbm, 2057, rfl⟩
abbrev main_call7_call0_v24 : Ref sig .tc := ⟨.hbm, 2058, rfl⟩
abbrev main_call7_call0_v25 : Ref sig .tc := ⟨.hbm, 2059, rfl⟩
abbrev main_call7_call0_c_4 : Ref sig .tc := ⟨.hbm, 2060, rfl⟩
abbrev main_call7_call0_v26 : Ref sig .tc := ⟨.hbm, 2061, rfl⟩
abbrev main_call7_call0_v27 : Ref sig .tc := ⟨.hbm, 2062, rfl⟩
abbrev main_call7_call0_v28 : Ref sig .tc := ⟨.hbm, 2063, rfl⟩
abbrev main_call7_call0_cst : Ref sig .tc := ⟨.hbm, 2064, rfl⟩
abbrev main_call7_call0_v29 : Ref sig .tc := ⟨.hbm, 2065, rfl⟩
abbrev main_call7_call0_v30 : Ref sig .tc := ⟨.hbm, 2066, rfl⟩
abbrev main_call7_call0_v31 : Ref sig .tc := ⟨.hbm, 2067, rfl⟩
abbrev main_call7_call0_v32 : Ref sig .tc := ⟨.hbm, 2068, rfl⟩
abbrev main_call7_call0_v33 : Ref sig .tc := ⟨.hbm, 2069, rfl⟩
abbrev main_call7_call0_v34 : Ref sig .tc := ⟨.hbm, 2070, rfl⟩
abbrev main_call7_call0_v35 : Ref sig .tc := ⟨.hbm, 2071, rfl⟩
abbrev main_call7_call0_v36 : Ref sig .tc := ⟨.hbm, 2072, rfl⟩
abbrev main_call7_v0 : Ref sig .tc := ⟨.hbm, 2073, rfl⟩
abbrev main_call7_v1 : Ref sig .tc := ⟨.hbm, 2074, rfl⟩
abbrev main_call7_v2 : Ref sig .tc := ⟨.hbm, 2075, rfl⟩
abbrev main_call7_v3 : Ref sig .tc := ⟨.hbm, 2076, rfl⟩
abbrev main_v32 : Ref sig .tc := ⟨.hbm, 2077, rfl⟩
abbrev main_cst_5 : Ref sig .tc := ⟨.hbm, 2078, rfl⟩
abbrev main_cst_6 : Ref sig .tc := ⟨.hbm, 2079, rfl⟩
abbrev main_call8_v0 : Ref sig .tc := ⟨.hbm, 2080, rfl⟩
abbrev main_call8_v1 : Ref sig .tc := ⟨.hbm, 2081, rfl⟩
abbrev main_call8_v2 : Ref sig .tc := ⟨.hbm, 2082, rfl⟩
abbrev main_call8_v3 : Ref sig .tc := ⟨.hbm, 2083, rfl⟩
abbrev main_call8_v4 : Ref sig .tc := ⟨.hbm, 2084, rfl⟩
abbrev main_call8_v5 : Ref sig .tc := ⟨.hbm, 2085, rfl⟩
abbrev main_call8_v6 : Ref sig .tc := ⟨.hbm, 2086, rfl⟩
abbrev main_call8_v7 : Ref sig .tc := ⟨.hbm, 2087, rfl⟩
abbrev main_call8_v8 : Ref sig .tc := ⟨.hbm, 2088, rfl⟩
abbrev main_call8_c : Ref sig .tc := ⟨.hbm, 2089, rfl⟩
abbrev main_call8_v9 : Ref sig .tc := ⟨.hbm, 2090, rfl⟩
abbrev main_call8_v10 : Ref sig .tc := ⟨.hbm, 2091, rfl⟩
abbrev main_call8_c_0 : Ref sig .tc := ⟨.hbm, 2092, rfl⟩
abbrev main_call8_v11 : Ref sig .tc := ⟨.hbm, 2093, rfl⟩
abbrev main_call8_v12 : Ref sig .tc := ⟨.hbm, 2094, rfl⟩
abbrev main_call8_v13 : Ref sig .tc := ⟨.hbm, 2095, rfl⟩
abbrev main_call8_v14 : Ref sig .tc := ⟨.hbm, 2096, rfl⟩
abbrev main_call8_call0_v0 : Ref sig .tc := ⟨.hbm, 2097, rfl⟩
abbrev main_call8_call0_c : Ref sig .tc := ⟨.hbm, 2098, rfl⟩
abbrev main_call8_call0_v1 : Ref sig .tc := ⟨.hbm, 2099, rfl⟩
abbrev main_call8_call0_v2 : Ref sig .tc := ⟨.hbm, 2100, rfl⟩
abbrev main_call8_call0_v3 : Ref sig .tc := ⟨.hbm, 2101, rfl⟩
abbrev main_call8_call0_v4 : Ref sig .tc := ⟨.hbm, 2102, rfl⟩
abbrev main_call8_call0_v5 : Ref sig .tc := ⟨.hbm, 2103, rfl⟩
abbrev main_call8_call0_v6 : Ref sig .tc := ⟨.hbm, 2104, rfl⟩
abbrev main_call8_call0_c_0 : Ref sig .tc := ⟨.hbm, 2105, rfl⟩
abbrev main_call8_call0_v7 : Ref sig .tc := ⟨.hbm, 2106, rfl⟩
abbrev main_call8_call0_v8 : Ref sig .tc := ⟨.hbm, 2107, rfl⟩
abbrev main_call8_call0_c_1 : Ref sig .tc := ⟨.hbm, 2108, rfl⟩
abbrev main_call8_call0_v9 : Ref sig .tc := ⟨.hbm, 2109, rfl⟩
abbrev main_call8_call0_v10 : Ref sig .tc := ⟨.hbm, 2110, rfl⟩
abbrev main_call8_call0_v11 : Ref sig .tc := ⟨.hbm, 2111, rfl⟩
abbrev main_call8_call0_v12 : Ref sig .tc := ⟨.hbm, 2112, rfl⟩
abbrev main_call8_call0_v13 : Ref sig .tc := ⟨.hbm, 2113, rfl⟩
abbrev main_call8_call0_c_2 : Ref sig .tc := ⟨.hbm, 2114, rfl⟩
abbrev main_call8_call0_v14 : Ref sig .tc := ⟨.hbm, 2115, rfl⟩
abbrev main_call8_call0_v15 : Ref sig .tc := ⟨.hbm, 2116, rfl⟩
abbrev main_call8_call0_c_3 : Ref sig .tc := ⟨.hbm, 2117, rfl⟩
abbrev main_call8_call0_v16 : Ref sig .tc := ⟨.hbm, 2118, rfl⟩
abbrev main_call8_call0_v17 : Ref sig .tc := ⟨.hbm, 2119, rfl⟩
abbrev main_call8_call0_v18 : Ref sig .tc := ⟨.hbm, 2120, rfl⟩
abbrev main_call8_call0_v19 : Ref sig .tc := ⟨.hbm, 2121, rfl⟩
abbrev main_call8_call0_v20 : Ref sig .tc := ⟨.hbm, 2122, rfl⟩
abbrev main_call8_call0_c_4 : Ref sig .tc := ⟨.hbm, 2123, rfl⟩
abbrev main_call8_call0_v21 : Ref sig .tc := ⟨.hbm, 2124, rfl⟩
abbrev main_call8_call0_v22 : Ref sig .tc := ⟨.hbm, 2125, rfl⟩
abbrev main_call8_call0_c_5 : Ref sig .tc := ⟨.hbm, 2126, rfl⟩
abbrev main_call8_call0_v23 : Ref sig .tc := ⟨.hbm, 2127, rfl⟩
abbrev main_call8_call0_v24 : Ref sig .tc := ⟨.hbm, 2128, rfl⟩
abbrev main_call8_call0_v25 : Ref sig .tc := ⟨.hbm, 2129, rfl⟩
abbrev main_call8_call0_v26 : Ref sig .tc := ⟨.hbm, 2130, rfl⟩
abbrev main_call8_call0_v27 : Ref sig .tc := ⟨.hbm, 2131, rfl⟩
abbrev main_call8_call0_c_6 : Ref sig .tc := ⟨.hbm, 2132, rfl⟩
abbrev main_call8_call0_v28 : Ref sig .tc := ⟨.hbm, 2133, rfl⟩
abbrev main_call8_call0_v29 : Ref sig .tc := ⟨.hbm, 2134, rfl⟩
abbrev main_call8_call0_c_7 : Ref sig .tc := ⟨.hbm, 2135, rfl⟩
abbrev main_call8_call0_v30 : Ref sig .tc := ⟨.hbm, 2136, rfl⟩
abbrev main_call8_call0_v31 : Ref sig .tc := ⟨.hbm, 2137, rfl⟩
abbrev main_call8_call0_v32 : Ref sig .tc := ⟨.hbm, 2138, rfl⟩
abbrev main_call8_call0_v33 : Ref sig .tc := ⟨.hbm, 2139, rfl⟩
abbrev main_call8_call0_v34 : Ref sig .tc := ⟨.hbm, 2140, rfl⟩
abbrev main_call8_call0_v35 : Ref sig .tc := ⟨.hbm, 2141, rfl⟩
abbrev main_call8_call0_v36 : Ref sig .tc := ⟨.hbm, 2142, rfl⟩
abbrev main_call8_call0_v37 : Ref sig .tc := ⟨.hbm, 2143, rfl⟩
abbrev main_call8_call0_c_8 : Ref sig .tc := ⟨.hbm, 2144, rfl⟩
abbrev main_call8_call0_v38 : Ref sig .tc := ⟨.hbm, 2145, rfl⟩
abbrev main_call8_call0_v39 : Ref sig .tc := ⟨.hbm, 2146, rfl⟩
abbrev main_call8_call0_v40 : Ref sig .tc := ⟨.hbm, 2147, rfl⟩
abbrev main_call8_call0_c_9 : Ref sig .tc := ⟨.hbm, 2148, rfl⟩
abbrev main_call8_call0_v41 : Ref sig .tc := ⟨.hbm, 2149, rfl⟩
abbrev main_call8_call0_v42 : Ref sig .tc := ⟨.hbm, 2150, rfl⟩
abbrev main_call8_call0_c_10 : Ref sig .tc := ⟨.hbm, 2151, rfl⟩
abbrev main_call8_call0_v43 : Ref sig .tc := ⟨.hbm, 2152, rfl⟩
abbrev main_call8_call0_v44 : Ref sig .tc := ⟨.hbm, 2153, rfl⟩
abbrev main_call8_call0_v45 : Ref sig .tc := ⟨.hbm, 2154, rfl⟩
abbrev main_call8_call0_v46 : Ref sig .tc := ⟨.hbm, 2155, rfl⟩
abbrev main_call8_call0_v47 : Ref sig .tc := ⟨.hbm, 2156, rfl⟩
abbrev main_call8_call0_c_11 : Ref sig .tc := ⟨.hbm, 2157, rfl⟩
abbrev main_call8_call0_v48 : Ref sig .tc := ⟨.hbm, 2158, rfl⟩
abbrev main_call8_call0_v49 : Ref sig .tc := ⟨.hbm, 2159, rfl⟩
abbrev main_call8_call0_c_12 : Ref sig .tc := ⟨.hbm, 2160, rfl⟩
abbrev main_call8_call0_v50 : Ref sig .tc := ⟨.hbm, 2161, rfl⟩
abbrev main_call8_call0_v51 : Ref sig .tc := ⟨.hbm, 2162, rfl⟩
abbrev main_call8_call0_v52 : Ref sig .tc := ⟨.hbm, 2163, rfl⟩
abbrev main_call8_call0_v53 : Ref sig .tc := ⟨.hbm, 2164, rfl⟩
abbrev main_call8_call0_v54 : Ref sig .tc := ⟨.hbm, 2165, rfl⟩
abbrev main_call8_call0_c_13 : Ref sig .tc := ⟨.hbm, 2166, rfl⟩
abbrev main_call8_call0_v55 : Ref sig .tc := ⟨.hbm, 2167, rfl⟩
abbrev main_call8_call0_v56 : Ref sig .tc := ⟨.hbm, 2168, rfl⟩
abbrev main_call8_call0_c_14 : Ref sig .tc := ⟨.hbm, 2169, rfl⟩
abbrev main_call8_call0_v57 : Ref sig .tc := ⟨.hbm, 2170, rfl⟩
abbrev main_call8_call0_v58 : Ref sig .tc := ⟨.hbm, 2171, rfl⟩
abbrev main_call8_call0_v59 : Ref sig .tc := ⟨.hbm, 2172, rfl⟩
abbrev main_call8_call0_v60 : Ref sig .tc := ⟨.hbm, 2173, rfl⟩
abbrev main_call8_call0_v61 : Ref sig .tc := ⟨.hbm, 2174, rfl⟩
abbrev main_call8_call0_c_15 : Ref sig .tc := ⟨.hbm, 2175, rfl⟩
abbrev main_call8_call0_v62 : Ref sig .tc := ⟨.hbm, 2176, rfl⟩
abbrev main_call8_call0_v63 : Ref sig .tc := ⟨.hbm, 2177, rfl⟩
abbrev main_call8_call0_c_16 : Ref sig .tc := ⟨.hbm, 2178, rfl⟩
abbrev main_call8_call0_v64 : Ref sig .tc := ⟨.hbm, 2179, rfl⟩
abbrev main_call8_call0_v65 : Ref sig .tc := ⟨.hbm, 2180, rfl⟩
abbrev main_call8_call0_v66 : Ref sig .tc := ⟨.hbm, 2181, rfl⟩
abbrev main_call8_call0_v67 : Ref sig .tc := ⟨.hbm, 2182, rfl⟩
abbrev main_call8_call0_v68 : Ref sig .tc := ⟨.hbm, 2183, rfl⟩
abbrev main_call8_call0_v69 : Ref sig .tc := ⟨.hbm, 2184, rfl⟩
abbrev main_call8_call0_v70 : Ref sig .tc := ⟨.hbm, 2185, rfl⟩
abbrev main_call8_call0_v71 : Ref sig .tc := ⟨.hbm, 2186, rfl⟩
abbrev main_call8_call0_c_17 : Ref sig .tc := ⟨.hbm, 2187, rfl⟩
abbrev main_call8_call0_v72 : Ref sig .tc := ⟨.hbm, 2188, rfl⟩
abbrev main_call8_call0_v73 : Ref sig .tc := ⟨.hbm, 2189, rfl⟩
abbrev main_call8_call0_v74 : Ref sig .tc := ⟨.hbm, 2190, rfl⟩
abbrev main_call8_call0_c_18 : Ref sig .tc := ⟨.hbm, 2191, rfl⟩
abbrev main_call8_call0_v75 : Ref sig .tc := ⟨.hbm, 2192, rfl⟩
abbrev main_call8_call0_v76 : Ref sig .tc := ⟨.hbm, 2193, rfl⟩
abbrev main_call8_call0_c_19 : Ref sig .tc := ⟨.hbm, 2194, rfl⟩
abbrev main_call8_call0_v77 : Ref sig .tc := ⟨.hbm, 2195, rfl⟩
abbrev main_call8_call0_v78 : Ref sig .tc := ⟨.hbm, 2196, rfl⟩
abbrev main_call8_call0_v79 : Ref sig .tc := ⟨.hbm, 2197, rfl⟩
abbrev main_call8_call0_v80 : Ref sig .tc := ⟨.hbm, 2198, rfl⟩
abbrev main_call8_call0_v81 : Ref sig .tc := ⟨.hbm, 2199, rfl⟩
abbrev main_call8_call0_c_20 : Ref sig .tc := ⟨.hbm, 2200, rfl⟩
abbrev main_call8_call0_v82 : Ref sig .tc := ⟨.hbm, 2201, rfl⟩
abbrev main_call8_call0_v83 : Ref sig .tc := ⟨.hbm, 2202, rfl⟩
abbrev main_call8_call0_c_21 : Ref sig .tc := ⟨.hbm, 2203, rfl⟩
abbrev main_call8_call0_v84 : Ref sig .tc := ⟨.hbm, 2204, rfl⟩
abbrev main_call8_call0_v85 : Ref sig .tc := ⟨.hbm, 2205, rfl⟩
abbrev main_call8_call0_v86 : Ref sig .tc := ⟨.hbm, 2206, rfl⟩
abbrev main_call8_call0_v87 : Ref sig .tc := ⟨.hbm, 2207, rfl⟩
abbrev main_call8_call0_v88 : Ref sig .tc := ⟨.hbm, 2208, rfl⟩
abbrev main_call8_call0_c_22 : Ref sig .tc := ⟨.hbm, 2209, rfl⟩
abbrev main_call8_call0_v89 : Ref sig .tc := ⟨.hbm, 2210, rfl⟩
abbrev main_call8_call0_v90 : Ref sig .tc := ⟨.hbm, 2211, rfl⟩
abbrev main_call8_call0_c_23 : Ref sig .tc := ⟨.hbm, 2212, rfl⟩
abbrev main_call8_call0_v91 : Ref sig .tc := ⟨.hbm, 2213, rfl⟩
abbrev main_call8_call0_v92 : Ref sig .tc := ⟨.hbm, 2214, rfl⟩
abbrev main_call8_call0_v93 : Ref sig .tc := ⟨.hbm, 2215, rfl⟩
abbrev main_call8_call0_v94 : Ref sig .tc := ⟨.hbm, 2216, rfl⟩
abbrev main_call8_call0_v95 : Ref sig .tc := ⟨.hbm, 2217, rfl⟩
abbrev main_call8_call0_c_24 : Ref sig .tc := ⟨.hbm, 2218, rfl⟩
abbrev main_call8_call0_v96 : Ref sig .tc := ⟨.hbm, 2219, rfl⟩
abbrev main_call8_call0_v97 : Ref sig .tc := ⟨.hbm, 2220, rfl⟩
abbrev main_call8_call0_c_25 : Ref sig .tc := ⟨.hbm, 2221, rfl⟩
abbrev main_call8_call0_v98 : Ref sig .tc := ⟨.hbm, 2222, rfl⟩
abbrev main_call8_call0_v99 : Ref sig .tc := ⟨.hbm, 2223, rfl⟩
abbrev main_call8_call0_v100 : Ref sig .tc := ⟨.hbm, 2224, rfl⟩
abbrev main_call8_call0_v101 : Ref sig .tc := ⟨.hbm, 2225, rfl⟩
abbrev main_call8_call0_v102 : Ref sig .tc := ⟨.hbm, 2226, rfl⟩
abbrev main_call8_call0_v103 : Ref sig .tc := ⟨.hbm, 2227, rfl⟩
abbrev main_call8_call0_v104 : Ref sig .tc := ⟨.hbm, 2228, rfl⟩
abbrev main_call8_call0_v105 : Ref sig .tc := ⟨.hbm, 2229, rfl⟩
abbrev main_call8_call0_c_26 : Ref sig .tc := ⟨.hbm, 2230, rfl⟩
abbrev main_call8_call0_v106 : Ref sig .tc := ⟨.hbm, 2231, rfl⟩
abbrev main_call8_call0_v107 : Ref sig .tc := ⟨.hbm, 2232, rfl⟩
abbrev main_call8_call0_v108 : Ref sig .tc := ⟨.hbm, 2233, rfl⟩
abbrev main_call8_call0_c_27 : Ref sig .tc := ⟨.hbm, 2234, rfl⟩
abbrev main_call8_call0_v109 : Ref sig .tc := ⟨.hbm, 2235, rfl⟩
abbrev main_call8_call0_v110 : Ref sig .tc := ⟨.hbm, 2236, rfl⟩
abbrev main_call8_call0_c_28 : Ref sig .tc := ⟨.hbm, 2237, rfl⟩
abbrev main_call8_call0_v111 : Ref sig .tc := ⟨.hbm, 2238, rfl⟩
abbrev main_call8_call0_v112 : Ref sig .tc := ⟨.hbm, 2239, rfl⟩
abbrev main_call8_call0_v113 : Ref sig .tc := ⟨.hbm, 2240, rfl⟩
abbrev main_call8_call0_v114 : Ref sig .tc := ⟨.hbm, 2241, rfl⟩
abbrev main_call8_call0_v115 : Ref sig .tc := ⟨.hbm, 2242, rfl⟩
abbrev main_call8_call0_c_29 : Ref sig .tc := ⟨.hbm, 2243, rfl⟩
abbrev main_call8_call0_v116 : Ref sig .tc := ⟨.hbm, 2244, rfl⟩
abbrev main_call8_call0_v117 : Ref sig .tc := ⟨.hbm, 2245, rfl⟩
abbrev main_call8_call0_c_30 : Ref sig .tc := ⟨.hbm, 2246, rfl⟩
abbrev main_call8_call0_v118 : Ref sig .tc := ⟨.hbm, 2247, rfl⟩
abbrev main_call8_call0_v119 : Ref sig .tc := ⟨.hbm, 2248, rfl⟩
abbrev main_call8_call0_v120 : Ref sig .tc := ⟨.hbm, 2249, rfl⟩
abbrev main_call8_call0_v121 : Ref sig .tc := ⟨.hbm, 2250, rfl⟩
abbrev main_call8_call0_v122 : Ref sig .tc := ⟨.hbm, 2251, rfl⟩
abbrev main_call8_call0_c_31 : Ref sig .tc := ⟨.hbm, 2252, rfl⟩
abbrev main_call8_call0_v123 : Ref sig .tc := ⟨.hbm, 2253, rfl⟩
abbrev main_call8_call0_v124 : Ref sig .tc := ⟨.hbm, 2254, rfl⟩
abbrev main_call8_call0_c_32 : Ref sig .tc := ⟨.hbm, 2255, rfl⟩
abbrev main_call8_call0_v125 : Ref sig .tc := ⟨.hbm, 2256, rfl⟩
abbrev main_call8_call0_v126 : Ref sig .tc := ⟨.hbm, 2257, rfl⟩
abbrev main_call8_call0_v127 : Ref sig .tc := ⟨.hbm, 2258, rfl⟩
abbrev main_call8_call0_v128 : Ref sig .tc := ⟨.hbm, 2259, rfl⟩
abbrev main_call8_call0_v129 : Ref sig .tc := ⟨.hbm, 2260, rfl⟩
abbrev main_call8_call0_c_33 : Ref sig .tc := ⟨.hbm, 2261, rfl⟩
abbrev main_call8_call0_v130 : Ref sig .tc := ⟨.hbm, 2262, rfl⟩
abbrev main_call8_call0_v131 : Ref sig .tc := ⟨.hbm, 2263, rfl⟩
abbrev main_call8_call0_c_34 : Ref sig .tc := ⟨.hbm, 2264, rfl⟩
abbrev main_call8_call0_v132 : Ref sig .tc := ⟨.hbm, 2265, rfl⟩
abbrev main_call8_call0_v133 : Ref sig .tc := ⟨.hbm, 2266, rfl⟩
abbrev main_call8_call0_v134 : Ref sig .tc := ⟨.hbm, 2267, rfl⟩
abbrev main_call8_call0_v135 : Ref sig .tc := ⟨.hbm, 2268, rfl⟩
abbrev main_call8_call0_v136 : Ref sig .tc := ⟨.hbm, 2269, rfl⟩
abbrev main_call8_call0_v137 : Ref sig .tc := ⟨.hbm, 2270, rfl⟩
abbrev main_call8_call0_v138 : Ref sig .tc := ⟨.hbm, 2271, rfl⟩
abbrev main_call8_call0_v139 : Ref sig .tc := ⟨.hbm, 2272, rfl⟩
abbrev main_call8_call0_c_35 : Ref sig .tc := ⟨.hbm, 2273, rfl⟩
abbrev main_call8_call0_v140 : Ref sig .tc := ⟨.hbm, 2274, rfl⟩
abbrev main_call8_call0_v141 : Ref sig .tc := ⟨.hbm, 2275, rfl⟩
abbrev main_call8_call0_v142 : Ref sig .tc := ⟨.hbm, 2276, rfl⟩
abbrev main_call8_call0_c_36 : Ref sig .tc := ⟨.hbm, 2277, rfl⟩
abbrev main_call8_call0_v143 : Ref sig .tc := ⟨.hbm, 2278, rfl⟩
abbrev main_call8_call0_v144 : Ref sig .tc := ⟨.hbm, 2279, rfl⟩
abbrev main_call8_call0_c_37 : Ref sig .tc := ⟨.hbm, 2280, rfl⟩
abbrev main_call8_call0_v145 : Ref sig .tc := ⟨.hbm, 2281, rfl⟩
abbrev main_call8_call0_v146 : Ref sig .tc := ⟨.hbm, 2282, rfl⟩
abbrev main_call8_call0_v147 : Ref sig .tc := ⟨.hbm, 2283, rfl⟩
abbrev main_call8_call0_v148 : Ref sig .tc := ⟨.hbm, 2284, rfl⟩
abbrev main_call8_call0_v149 : Ref sig .tc := ⟨.hbm, 2285, rfl⟩
abbrev main_call8_call0_c_38 : Ref sig .tc := ⟨.hbm, 2286, rfl⟩
abbrev main_call8_call0_v150 : Ref sig .tc := ⟨.hbm, 2287, rfl⟩
abbrev main_call8_call0_v151 : Ref sig .tc := ⟨.hbm, 2288, rfl⟩
abbrev main_call8_call0_c_39 : Ref sig .tc := ⟨.hbm, 2289, rfl⟩
abbrev main_call8_call0_v152 : Ref sig .tc := ⟨.hbm, 2290, rfl⟩
abbrev main_call8_call0_v153 : Ref sig .tc := ⟨.hbm, 2291, rfl⟩
abbrev main_call8_call0_v154 : Ref sig .tc := ⟨.hbm, 2292, rfl⟩
abbrev main_call8_call0_v155 : Ref sig .tc := ⟨.hbm, 2293, rfl⟩
abbrev main_call8_call0_v156 : Ref sig .tc := ⟨.hbm, 2294, rfl⟩
abbrev main_call8_call0_c_40 : Ref sig .tc := ⟨.hbm, 2295, rfl⟩
abbrev main_call8_call0_v157 : Ref sig .tc := ⟨.hbm, 2296, rfl⟩
abbrev main_call8_call0_v158 : Ref sig .tc := ⟨.hbm, 2297, rfl⟩
abbrev main_call8_call0_c_41 : Ref sig .tc := ⟨.hbm, 2298, rfl⟩
abbrev main_call8_call0_v159 : Ref sig .tc := ⟨.hbm, 2299, rfl⟩
abbrev main_call8_call0_v160 : Ref sig .tc := ⟨.hbm, 2300, rfl⟩
abbrev main_call8_call0_v161 : Ref sig .tc := ⟨.hbm, 2301, rfl⟩
abbrev main_call8_call0_v162 : Ref sig .tc := ⟨.hbm, 2302, rfl⟩
abbrev main_call8_call0_v163 : Ref sig .tc := ⟨.hbm, 2303, rfl⟩
abbrev main_call8_call0_c_42 : Ref sig .tc := ⟨.hbm, 2304, rfl⟩
abbrev main_call8_call0_v164 : Ref sig .tc := ⟨.hbm, 2305, rfl⟩
abbrev main_call8_call0_v165 : Ref sig .tc := ⟨.hbm, 2306, rfl⟩
abbrev main_call8_call0_c_43 : Ref sig .tc := ⟨.hbm, 2307, rfl⟩
abbrev main_call8_call0_v166 : Ref sig .tc := ⟨.hbm, 2308, rfl⟩
abbrev main_call8_call0_v167 : Ref sig .tc := ⟨.hbm, 2309, rfl⟩
abbrev main_call8_call0_v168 : Ref sig .tc := ⟨.hbm, 2310, rfl⟩
abbrev main_call8_call0_v169 : Ref sig .tc := ⟨.hbm, 2311, rfl⟩
abbrev main_call8_call0_v170 : Ref sig .tc := ⟨.hbm, 2312, rfl⟩
abbrev main_call8_v15_0 : Ref sig .tc := ⟨.hbm, 2313, rfl⟩
abbrev main_call8_call0_v172 : Ref sig .tc := ⟨.hbm, 2314, rfl⟩
abbrev main_call8_call0_v173 : Ref sig .tc := ⟨.hbm, 2315, rfl⟩
abbrev main_call8_call0_c_44 : Ref sig .tc := ⟨.hbm, 2316, rfl⟩
abbrev main_call8_call0_v174 : Ref sig .tc := ⟨.hbm, 2317, rfl⟩
abbrev main_call8_v15_1 : Ref sig .tc := ⟨.hbm, 2318, rfl⟩
abbrev main_call8_v16 : Ref sig .tc := ⟨.hbm, 2319, rfl⟩
abbrev main_call8_c_1 : Ref sig .tc := ⟨.hbm, 2320, rfl⟩
abbrev main_call8_v17 : Ref sig .tc := ⟨.hbm, 2321, rfl⟩
abbrev main_call8_v18 : Ref sig .tc := ⟨.hbm, 2322, rfl⟩
abbrev main_call8_c_2 : Ref sig .tc := ⟨.hbm, 2323, rfl⟩
abbrev main_call8_v19 : Ref sig .tc := ⟨.hbm, 2324, rfl⟩
abbrev main_call8_v20 : Ref sig .tc := ⟨.hbm, 2325, rfl⟩
abbrev main_call8_v21 : Ref sig .tc := ⟨.hbm, 2326, rfl⟩
abbrev main_call8_cst : Ref sig .tc := ⟨.hbm, 2327, rfl⟩
abbrev main_call8_v22 : Ref sig .tc := ⟨.hbm, 2328, rfl⟩
abbrev main_call8_v23 : Ref sig .tc := ⟨.hbm, 2329, rfl⟩
abbrev main_call8_v24 : Ref sig .tc := ⟨.hbm, 2330, rfl⟩
abbrev main_call8_v25 : Ref sig .tc := ⟨.hbm, 2331, rfl⟩
abbrev main_call8_v26 : Ref sig .tc := ⟨.hbm, 2332, rfl⟩
abbrev main_call8_v27 : Ref sig .tc := ⟨.hbm, 2333, rfl⟩
abbrev main_call8_v28 : Ref sig .tc := ⟨.hbm, 2334, rfl⟩
abbrev main_call8_v29 : Ref sig .tc := ⟨.hbm, 2335, rfl⟩
abbrev main_v33 : Ref sig .tc := ⟨.hbm, 2336, rfl⟩
abbrev main_call9_v0 : Ref sig .tc := ⟨.hbm, 2337, rfl⟩
abbrev main_call9_v1 : Ref sig .tc := ⟨.hbm, 2338, rfl⟩
abbrev main_call9_v2 : Ref sig .tc := ⟨.hbm, 2339, rfl⟩
abbrev main_call9_v3 : Ref sig .tc := ⟨.hbm, 2340, rfl⟩
abbrev main_call9_v4 : Ref sig .tc := ⟨.hbm, 2341, rfl⟩
abbrev main_call9_c : Ref sig .tc := ⟨.hbm, 2342, rfl⟩
abbrev main_call9_v5 : Ref sig .tc := ⟨.hbm, 2343, rfl⟩
abbrev main_call9_v6 : Ref sig .tc := ⟨.hbm, 2344, rfl⟩
abbrev main_call9_c_0 : Ref sig .tc := ⟨.hbm, 2345, rfl⟩
abbrev main_call9_v7 : Ref sig .tc := ⟨.hbm, 2346, rfl⟩
abbrev main_call9_v8 : Ref sig .tc := ⟨.hbm, 2347, rfl⟩
abbrev main_call9_v9 : Ref sig .tc := ⟨.hbm, 2348, rfl⟩
abbrev main_call9_v10 : Ref sig .tc := ⟨.hbm, 2349, rfl⟩
abbrev main_call9_call0_v0 : Ref sig .tc := ⟨.hbm, 2350, rfl⟩
abbrev main_call9_call0_c : Ref sig .tc := ⟨.hbm, 2351, rfl⟩
abbrev main_call9_call0_v1 : Ref sig .tc := ⟨.hbm, 2352, rfl⟩
abbrev main_call9_call0_v2 : Ref sig .tc := ⟨.hbm, 2353, rfl⟩
abbrev main_call9_call0_v3 : Ref sig .tc := ⟨.hbm, 2354, rfl⟩
abbrev main_call9_call0_v4 : Ref sig .tc := ⟨.hbm, 2355, rfl⟩
abbrev main_call9_call0_v5 : Ref sig .tc := ⟨.hbm, 2356, rfl⟩
abbrev main_call9_call0_v6 : Ref sig .tc := ⟨.hbm, 2357, rfl⟩
abbrev main_call9_call0_c_0 : Ref sig .tc := ⟨.hbm, 2358, rfl⟩
abbrev main_call9_call0_v7 : Ref sig .tc := ⟨.hbm, 2359, rfl⟩
abbrev main_call9_call0_v8 : Ref sig .tc := ⟨.hbm, 2360, rfl⟩
abbrev main_call9_call0_c_1 : Ref sig .tc := ⟨.hbm, 2361, rfl⟩
abbrev main_call9_call0_v9 : Ref sig .tc := ⟨.hbm, 2362, rfl⟩
abbrev main_call9_call0_v10 : Ref sig .tc := ⟨.hbm, 2363, rfl⟩
abbrev main_call9_call0_v11 : Ref sig .tc := ⟨.hbm, 2364, rfl⟩
abbrev main_call9_call0_v12 : Ref sig .tc := ⟨.hbm, 2365, rfl⟩
abbrev main_call9_call0_v13 : Ref sig .tc := ⟨.hbm, 2366, rfl⟩
abbrev main_call9_call0_c_2 : Ref sig .tc := ⟨.hbm, 2367, rfl⟩
abbrev main_call9_call0_v14 : Ref sig .tc := ⟨.hbm, 2368, rfl⟩
abbrev main_call9_call0_v15 : Ref sig .tc := ⟨.hbm, 2369, rfl⟩
abbrev main_call9_call0_c_3 : Ref sig .tc := ⟨.hbm, 2370, rfl⟩
abbrev main_call9_call0_v16 : Ref sig .tc := ⟨.hbm, 2371, rfl⟩
abbrev main_call9_call0_v17 : Ref sig .tc := ⟨.hbm, 2372, rfl⟩
abbrev main_call9_call0_v18 : Ref sig .tc := ⟨.hbm, 2373, rfl⟩
abbrev main_call9_call0_v19 : Ref sig .tc := ⟨.hbm, 2374, rfl⟩
abbrev main_call9_call0_v20 : Ref sig .tc := ⟨.hbm, 2375, rfl⟩
abbrev main_call9_call0_c_4 : Ref sig .tc := ⟨.hbm, 2376, rfl⟩
abbrev main_call9_call0_v21 : Ref sig .tc := ⟨.hbm, 2377, rfl⟩
abbrev main_call9_call0_v22 : Ref sig .tc := ⟨.hbm, 2378, rfl⟩
abbrev main_call9_call0_c_5 : Ref sig .tc := ⟨.hbm, 2379, rfl⟩
abbrev main_call9_call0_v23 : Ref sig .tc := ⟨.hbm, 2380, rfl⟩
abbrev main_call9_call0_v24 : Ref sig .tc := ⟨.hbm, 2381, rfl⟩
abbrev main_call9_call0_v25 : Ref sig .tc := ⟨.hbm, 2382, rfl⟩
abbrev main_call9_call0_v26 : Ref sig .tc := ⟨.hbm, 2383, rfl⟩
abbrev main_call9_call0_v27 : Ref sig .tc := ⟨.hbm, 2384, rfl⟩
abbrev main_call9_call0_c_6 : Ref sig .tc := ⟨.hbm, 2385, rfl⟩
abbrev main_call9_call0_v28 : Ref sig .tc := ⟨.hbm, 2386, rfl⟩
abbrev main_call9_call0_v29 : Ref sig .tc := ⟨.hbm, 2387, rfl⟩
abbrev main_call9_call0_c_7 : Ref sig .tc := ⟨.hbm, 2388, rfl⟩
abbrev main_call9_call0_v30 : Ref sig .tc := ⟨.hbm, 2389, rfl⟩
abbrev main_call9_call0_v31 : Ref sig .tc := ⟨.hbm, 2390, rfl⟩
abbrev main_call9_call0_v32 : Ref sig .tc := ⟨.hbm, 2391, rfl⟩
abbrev main_call9_call0_v33 : Ref sig .tc := ⟨.hbm, 2392, rfl⟩
abbrev main_call9_call0_v34 : Ref sig .tc := ⟨.hbm, 2393, rfl⟩
abbrev main_call9_call0_v35 : Ref sig .tc := ⟨.hbm, 2394, rfl⟩
abbrev main_call9_call0_v36 : Ref sig .tc := ⟨.hbm, 2395, rfl⟩
abbrev main_call9_call0_v37 : Ref sig .tc := ⟨.hbm, 2396, rfl⟩
abbrev main_call9_call0_c_8 : Ref sig .tc := ⟨.hbm, 2397, rfl⟩
abbrev main_call9_call0_v38 : Ref sig .tc := ⟨.hbm, 2398, rfl⟩
abbrev main_call9_call0_v39 : Ref sig .tc := ⟨.hbm, 2399, rfl⟩
abbrev main_call9_call0_v40 : Ref sig .tc := ⟨.hbm, 2400, rfl⟩
abbrev main_call9_call0_c_9 : Ref sig .tc := ⟨.hbm, 2401, rfl⟩
abbrev main_call9_call0_v41 : Ref sig .tc := ⟨.hbm, 2402, rfl⟩
abbrev main_call9_call0_v42 : Ref sig .tc := ⟨.hbm, 2403, rfl⟩
abbrev main_call9_call0_c_10 : Ref sig .tc := ⟨.hbm, 2404, rfl⟩
abbrev main_call9_call0_v43 : Ref sig .tc := ⟨.hbm, 2405, rfl⟩
abbrev main_call9_call0_v44 : Ref sig .tc := ⟨.hbm, 2406, rfl⟩
abbrev main_call9_call0_v45 : Ref sig .tc := ⟨.hbm, 2407, rfl⟩
abbrev main_call9_call0_v46 : Ref sig .tc := ⟨.hbm, 2408, rfl⟩
abbrev main_call9_call0_v47 : Ref sig .tc := ⟨.hbm, 2409, rfl⟩
abbrev main_call9_call0_c_11 : Ref sig .tc := ⟨.hbm, 2410, rfl⟩
abbrev main_call9_call0_v48 : Ref sig .tc := ⟨.hbm, 2411, rfl⟩
abbrev main_call9_call0_v49 : Ref sig .tc := ⟨.hbm, 2412, rfl⟩
abbrev main_call9_call0_c_12 : Ref sig .tc := ⟨.hbm, 2413, rfl⟩
abbrev main_call9_call0_v50 : Ref sig .tc := ⟨.hbm, 2414, rfl⟩
abbrev main_call9_call0_v51 : Ref sig .tc := ⟨.hbm, 2415, rfl⟩
abbrev main_call9_call0_v52 : Ref sig .tc := ⟨.hbm, 2416, rfl⟩
abbrev main_call9_call0_v53 : Ref sig .tc := ⟨.hbm, 2417, rfl⟩
abbrev main_call9_call0_v54 : Ref sig .tc := ⟨.hbm, 2418, rfl⟩
abbrev main_call9_call0_c_13 : Ref sig .tc := ⟨.hbm, 2419, rfl⟩
abbrev main_call9_call0_v55 : Ref sig .tc := ⟨.hbm, 2420, rfl⟩
abbrev main_call9_call0_v56 : Ref sig .tc := ⟨.hbm, 2421, rfl⟩
abbrev main_call9_call0_c_14 : Ref sig .tc := ⟨.hbm, 2422, rfl⟩
abbrev main_call9_call0_v57 : Ref sig .tc := ⟨.hbm, 2423, rfl⟩
abbrev main_call9_call0_v58 : Ref sig .tc := ⟨.hbm, 2424, rfl⟩
abbrev main_call9_call0_v59 : Ref sig .tc := ⟨.hbm, 2425, rfl⟩
abbrev main_call9_call0_v60 : Ref sig .tc := ⟨.hbm, 2426, rfl⟩
abbrev main_call9_call0_v61 : Ref sig .tc := ⟨.hbm, 2427, rfl⟩
abbrev main_call9_call0_c_15 : Ref sig .tc := ⟨.hbm, 2428, rfl⟩
abbrev main_call9_call0_v62 : Ref sig .tc := ⟨.hbm, 2429, rfl⟩
abbrev main_call9_call0_v63 : Ref sig .tc := ⟨.hbm, 2430, rfl⟩
abbrev main_call9_call0_c_16 : Ref sig .tc := ⟨.hbm, 2431, rfl⟩
abbrev main_call9_call0_v64 : Ref sig .tc := ⟨.hbm, 2432, rfl⟩
abbrev main_call9_call0_v65 : Ref sig .tc := ⟨.hbm, 2433, rfl⟩
abbrev main_call9_call0_v66 : Ref sig .tc := ⟨.hbm, 2434, rfl⟩
abbrev main_call9_call0_v67 : Ref sig .tc := ⟨.hbm, 2435, rfl⟩
abbrev main_call9_call0_v68 : Ref sig .tc := ⟨.hbm, 2436, rfl⟩
abbrev main_call9_call0_v69 : Ref sig .tc := ⟨.hbm, 2437, rfl⟩
abbrev main_call9_call0_v70 : Ref sig .tc := ⟨.hbm, 2438, rfl⟩
abbrev main_call9_call0_v71 : Ref sig .tc := ⟨.hbm, 2439, rfl⟩
abbrev main_call9_call0_c_17 : Ref sig .tc := ⟨.hbm, 2440, rfl⟩
abbrev main_call9_call0_v72 : Ref sig .tc := ⟨.hbm, 2441, rfl⟩
abbrev main_call9_call0_v73 : Ref sig .tc := ⟨.hbm, 2442, rfl⟩
abbrev main_call9_call0_v74 : Ref sig .tc := ⟨.hbm, 2443, rfl⟩
abbrev main_call9_call0_c_18 : Ref sig .tc := ⟨.hbm, 2444, rfl⟩
abbrev main_call9_call0_v75 : Ref sig .tc := ⟨.hbm, 2445, rfl⟩
abbrev main_call9_call0_v76 : Ref sig .tc := ⟨.hbm, 2446, rfl⟩
abbrev main_call9_call0_c_19 : Ref sig .tc := ⟨.hbm, 2447, rfl⟩
abbrev main_call9_call0_v77 : Ref sig .tc := ⟨.hbm, 2448, rfl⟩
abbrev main_call9_call0_v78 : Ref sig .tc := ⟨.hbm, 2449, rfl⟩
abbrev main_call9_call0_v79 : Ref sig .tc := ⟨.hbm, 2450, rfl⟩
abbrev main_call9_call0_v80 : Ref sig .tc := ⟨.hbm, 2451, rfl⟩
abbrev main_call9_call0_v81 : Ref sig .tc := ⟨.hbm, 2452, rfl⟩
abbrev main_call9_call0_c_20 : Ref sig .tc := ⟨.hbm, 2453, rfl⟩
abbrev main_call9_call0_v82 : Ref sig .tc := ⟨.hbm, 2454, rfl⟩
abbrev main_call9_call0_v83 : Ref sig .tc := ⟨.hbm, 2455, rfl⟩
abbrev main_call9_call0_c_21 : Ref sig .tc := ⟨.hbm, 2456, rfl⟩
abbrev main_call9_call0_v84 : Ref sig .tc := ⟨.hbm, 2457, rfl⟩
abbrev main_call9_call0_v85 : Ref sig .tc := ⟨.hbm, 2458, rfl⟩
abbrev main_call9_call0_v86 : Ref sig .tc := ⟨.hbm, 2459, rfl⟩
abbrev main_call9_call0_v87 : Ref sig .tc := ⟨.hbm, 2460, rfl⟩
abbrev main_call9_call0_v88 : Ref sig .tc := ⟨.hbm, 2461, rfl⟩
abbrev main_call9_call0_c_22 : Ref sig .tc := ⟨.hbm, 2462, rfl⟩
abbrev main_call9_call0_v89 : Ref sig .tc := ⟨.hbm, 2463, rfl⟩
abbrev main_call9_call0_v90 : Ref sig .tc := ⟨.hbm, 2464, rfl⟩
abbrev main_call9_call0_c_23 : Ref sig .tc := ⟨.hbm, 2465, rfl⟩
abbrev main_call9_call0_v91 : Ref sig .tc := ⟨.hbm, 2466, rfl⟩
abbrev main_call9_call0_v92 : Ref sig .tc := ⟨.hbm, 2467, rfl⟩
abbrev main_call9_call0_v93 : Ref sig .tc := ⟨.hbm, 2468, rfl⟩
abbrev main_call9_call0_v94 : Ref sig .tc := ⟨.hbm, 2469, rfl⟩
abbrev main_call9_call0_v95 : Ref sig .tc := ⟨.hbm, 2470, rfl⟩
abbrev main_call9_call0_c_24 : Ref sig .tc := ⟨.hbm, 2471, rfl⟩
abbrev main_call9_call0_v96 : Ref sig .tc := ⟨.hbm, 2472, rfl⟩
abbrev main_call9_call0_v97 : Ref sig .tc := ⟨.hbm, 2473, rfl⟩
abbrev main_call9_call0_c_25 : Ref sig .tc := ⟨.hbm, 2474, rfl⟩
abbrev main_call9_call0_v98 : Ref sig .tc := ⟨.hbm, 2475, rfl⟩
abbrev main_call9_call0_v99 : Ref sig .tc := ⟨.hbm, 2476, rfl⟩
abbrev main_call9_call0_v100 : Ref sig .tc := ⟨.hbm, 2477, rfl⟩
abbrev main_call9_call0_v101 : Ref sig .tc := ⟨.hbm, 2478, rfl⟩
abbrev main_call9_call0_v102 : Ref sig .tc := ⟨.hbm, 2479, rfl⟩
abbrev main_call9_call0_v103 : Ref sig .tc := ⟨.hbm, 2480, rfl⟩
abbrev main_call9_call0_v104 : Ref sig .tc := ⟨.hbm, 2481, rfl⟩
abbrev main_call9_call0_v105 : Ref sig .tc := ⟨.hbm, 2482, rfl⟩
abbrev main_call9_call0_c_26 : Ref sig .tc := ⟨.hbm, 2483, rfl⟩
abbrev main_call9_call0_v106 : Ref sig .tc := ⟨.hbm, 2484, rfl⟩
abbrev main_call9_call0_v107 : Ref sig .tc := ⟨.hbm, 2485, rfl⟩
abbrev main_call9_call0_v108 : Ref sig .tc := ⟨.hbm, 2486, rfl⟩
abbrev main_call9_call0_c_27 : Ref sig .tc := ⟨.hbm, 2487, rfl⟩
abbrev main_call9_call0_v109 : Ref sig .tc := ⟨.hbm, 2488, rfl⟩
abbrev main_call9_call0_v110 : Ref sig .tc := ⟨.hbm, 2489, rfl⟩
abbrev main_call9_call0_c_28 : Ref sig .tc := ⟨.hbm, 2490, rfl⟩
abbrev main_call9_call0_v111 : Ref sig .tc := ⟨.hbm, 2491, rfl⟩
abbrev main_call9_call0_v112 : Ref sig .tc := ⟨.hbm, 2492, rfl⟩
abbrev main_call9_call0_v113 : Ref sig .tc := ⟨.hbm, 2493, rfl⟩
abbrev main_call9_call0_v114 : Ref sig .tc := ⟨.hbm, 2494, rfl⟩
abbrev main_call9_call0_v115 : Ref sig .tc := ⟨.hbm, 2495, rfl⟩
abbrev main_call9_call0_c_29 : Ref sig .tc := ⟨.hbm, 2496, rfl⟩
abbrev main_call9_call0_v116 : Ref sig .tc := ⟨.hbm, 2497, rfl⟩
abbrev main_call9_call0_v117 : Ref sig .tc := ⟨.hbm, 2498, rfl⟩
abbrev main_call9_call0_c_30 : Ref sig .tc := ⟨.hbm, 2499, rfl⟩
abbrev main_call9_call0_v118 : Ref sig .tc := ⟨.hbm, 2500, rfl⟩
abbrev main_call9_call0_v119 : Ref sig .tc := ⟨.hbm, 2501, rfl⟩
abbrev main_call9_call0_v120 : Ref sig .tc := ⟨.hbm, 2502, rfl⟩
abbrev main_call9_call0_v121 : Ref sig .tc := ⟨.hbm, 2503, rfl⟩
abbrev main_call9_call0_v122 : Ref sig .tc := ⟨.hbm, 2504, rfl⟩
abbrev main_call9_call0_c_31 : Ref sig .tc := ⟨.hbm, 2505, rfl⟩
abbrev main_call9_call0_v123 : Ref sig .tc := ⟨.hbm, 2506, rfl⟩
abbrev main_call9_call0_v124 : Ref sig .tc := ⟨.hbm, 2507, rfl⟩
abbrev main_call9_call0_c_32 : Ref sig .tc := ⟨.hbm, 2508, rfl⟩
abbrev main_call9_call0_v125 : Ref sig .tc := ⟨.hbm, 2509, rfl⟩
abbrev main_call9_call0_v126 : Ref sig .tc := ⟨.hbm, 2510, rfl⟩
abbrev main_call9_call0_v127 : Ref sig .tc := ⟨.hbm, 2511, rfl⟩
abbrev main_call9_call0_v128 : Ref sig .tc := ⟨.hbm, 2512, rfl⟩
abbrev main_call9_call0_v129 : Ref sig .tc := ⟨.hbm, 2513, rfl⟩
abbrev main_call9_call0_c_33 : Ref sig .tc := ⟨.hbm, 2514, rfl⟩
abbrev main_call9_call0_v130 : Ref sig .tc := ⟨.hbm, 2515, rfl⟩
abbrev main_call9_call0_v131 : Ref sig .tc := ⟨.hbm, 2516, rfl⟩
abbrev main_call9_call0_c_34 : Ref sig .tc := ⟨.hbm, 2517, rfl⟩
abbrev main_call9_call0_v132 : Ref sig .tc := ⟨.hbm, 2518, rfl⟩
abbrev main_call9_call0_v133 : Ref sig .tc := ⟨.hbm, 2519, rfl⟩
abbrev main_call9_call0_v134 : Ref sig .tc := ⟨.hbm, 2520, rfl⟩
abbrev main_call9_call0_v135 : Ref sig .tc := ⟨.hbm, 2521, rfl⟩
abbrev main_call9_call0_v136 : Ref sig .tc := ⟨.hbm, 2522, rfl⟩
abbrev main_call9_call0_v137 : Ref sig .tc := ⟨.hbm, 2523, rfl⟩
abbrev main_call9_call0_v138 : Ref sig .tc := ⟨.hbm, 2524, rfl⟩
abbrev main_call9_call0_v139 : Ref sig .tc := ⟨.hbm, 2525, rfl⟩
abbrev main_call9_call0_c_35 : Ref sig .tc := ⟨.hbm, 2526, rfl⟩
abbrev main_call9_call0_v140 : Ref sig .tc := ⟨.hbm, 2527, rfl⟩
abbrev main_call9_call0_v141 : Ref sig .tc := ⟨.hbm, 2528, rfl⟩
abbrev main_call9_call0_v142 : Ref sig .tc := ⟨.hbm, 2529, rfl⟩
abbrev main_call9_call0_c_36 : Ref sig .tc := ⟨.hbm, 2530, rfl⟩
abbrev main_call9_call0_v143 : Ref sig .tc := ⟨.hbm, 2531, rfl⟩
abbrev main_call9_call0_v144 : Ref sig .tc := ⟨.hbm, 2532, rfl⟩
abbrev main_call9_call0_c_37 : Ref sig .tc := ⟨.hbm, 2533, rfl⟩
abbrev main_call9_call0_v145 : Ref sig .tc := ⟨.hbm, 2534, rfl⟩
abbrev main_call9_call0_v146 : Ref sig .tc := ⟨.hbm, 2535, rfl⟩
abbrev main_call9_call0_v147 : Ref sig .tc := ⟨.hbm, 2536, rfl⟩
abbrev main_call9_call0_v148 : Ref sig .tc := ⟨.hbm, 2537, rfl⟩
abbrev main_call9_call0_v149 : Ref sig .tc := ⟨.hbm, 2538, rfl⟩
abbrev main_call9_call0_c_38 : Ref sig .tc := ⟨.hbm, 2539, rfl⟩
abbrev main_call9_call0_v150 : Ref sig .tc := ⟨.hbm, 2540, rfl⟩
abbrev main_call9_call0_v151 : Ref sig .tc := ⟨.hbm, 2541, rfl⟩
abbrev main_call9_call0_c_39 : Ref sig .tc := ⟨.hbm, 2542, rfl⟩
abbrev main_call9_call0_v152 : Ref sig .tc := ⟨.hbm, 2543, rfl⟩
abbrev main_call9_call0_v153 : Ref sig .tc := ⟨.hbm, 2544, rfl⟩
abbrev main_call9_call0_v154 : Ref sig .tc := ⟨.hbm, 2545, rfl⟩
abbrev main_call9_call0_v155 : Ref sig .tc := ⟨.hbm, 2546, rfl⟩
abbrev main_call9_call0_v156 : Ref sig .tc := ⟨.hbm, 2547, rfl⟩
abbrev main_call9_call0_c_40 : Ref sig .tc := ⟨.hbm, 2548, rfl⟩
abbrev main_call9_call0_v157 : Ref sig .tc := ⟨.hbm, 2549, rfl⟩
abbrev main_call9_call0_v158 : Ref sig .tc := ⟨.hbm, 2550, rfl⟩
abbrev main_call9_call0_c_41 : Ref sig .tc := ⟨.hbm, 2551, rfl⟩
abbrev main_call9_call0_v159 : Ref sig .tc := ⟨.hbm, 2552, rfl⟩
abbrev main_call9_call0_v160 : Ref sig .tc := ⟨.hbm, 2553, rfl⟩
abbrev main_call9_call0_v161 : Ref sig .tc := ⟨.hbm, 2554, rfl⟩
abbrev main_call9_call0_v162 : Ref sig .tc := ⟨.hbm, 2555, rfl⟩
abbrev main_call9_call0_v163 : Ref sig .tc := ⟨.hbm, 2556, rfl⟩
abbrev main_call9_call0_c_42 : Ref sig .tc := ⟨.hbm, 2557, rfl⟩
abbrev main_call9_call0_v164 : Ref sig .tc := ⟨.hbm, 2558, rfl⟩
abbrev main_call9_call0_v165 : Ref sig .tc := ⟨.hbm, 2559, rfl⟩
abbrev main_call9_call0_c_43 : Ref sig .tc := ⟨.hbm, 2560, rfl⟩
abbrev main_call9_call0_v166 : Ref sig .tc := ⟨.hbm, 2561, rfl⟩
abbrev main_call9_call0_v167 : Ref sig .tc := ⟨.hbm, 2562, rfl⟩
abbrev main_call9_call0_v168 : Ref sig .tc := ⟨.hbm, 2563, rfl⟩
abbrev main_call9_call0_v169 : Ref sig .tc := ⟨.hbm, 2564, rfl⟩
abbrev main_call9_call0_v170 : Ref sig .tc := ⟨.hbm, 2565, rfl⟩
abbrev main_call9_v11_0 : Ref sig .tc := ⟨.hbm, 2566, rfl⟩
abbrev main_call9_call0_v172 : Ref sig .tc := ⟨.hbm, 2567, rfl⟩
abbrev main_call9_call0_v173 : Ref sig .tc := ⟨.hbm, 2568, rfl⟩
abbrev main_call9_call0_c_44 : Ref sig .tc := ⟨.hbm, 2569, rfl⟩
abbrev main_call9_call0_v174 : Ref sig .tc := ⟨.hbm, 2570, rfl⟩
abbrev main_call9_v11_1 : Ref sig .tc := ⟨.hbm, 2571, rfl⟩
abbrev main_call9_v12 : Ref sig .tc := ⟨.hbm, 2572, rfl⟩
abbrev main_call9_v13 : Ref sig .tc := ⟨.hbm, 2573, rfl⟩
abbrev main_v34 : Ref sig .tc := ⟨.hbm, 2574, rfl⟩
abbrev main_v35 : Ref sig .tc := ⟨.hbm, 2575, rfl⟩
abbrev main_v36 : Ref sig .tc := ⟨.hbm, 2576, rfl⟩
abbrev main_v37 : Ref sig .tc := ⟨.hbm, 2577, rfl⟩
abbrev main_v38 : Ref sig .tc := ⟨.hbm, 2578, rfl⟩
abbrev main_v39 : Ref sig .tc := ⟨.hbm, 2579, rfl⟩
abbrev main_v40 : Ref sig .tc := ⟨.hbm, 2580, rfl⟩
abbrev main_call10_cst : Ref sig .tc := ⟨.hbm, 2581, rfl⟩
abbrev main_call10_cst_0 : Ref sig .tc := ⟨.hbm, 2582, rfl⟩
abbrev main_call10_call0_v0 : Ref sig .tc := ⟨.hbm, 2583, rfl⟩
abbrev main_call10_call0_v1 : Ref sig .tc := ⟨.hbm, 2584, rfl⟩
abbrev main_call10_call0_v2 : Ref sig .tc := ⟨.hbm, 2585, rfl⟩
abbrev main_call10_call0_v3 : Ref sig .tc := ⟨.hbm, 2586, rfl⟩
abbrev main_call10_call0_v4 : Ref sig .tc := ⟨.hbm, 2587, rfl⟩
abbrev main_call10_call0_v5 : Ref sig .tc := ⟨.hbm, 2588, rfl⟩
abbrev main_call10_call0_v6 : Ref sig .tc := ⟨.hbm, 2589, rfl⟩
abbrev main_call10_call0_v7 : Ref sig .tc := ⟨.hbm, 2590, rfl⟩
abbrev main_call10_call0_v8 : Ref sig .tc := ⟨.hbm, 2591, rfl⟩
abbrev main_call10_call0_v9 : Ref sig .tc := ⟨.hbm, 2592, rfl⟩
abbrev main_call10_call0_c : Ref sig .tc := ⟨.hbm, 2593, rfl⟩
abbrev main_call10_call0_v10 : Ref sig .tc := ⟨.hbm, 2594, rfl⟩
abbrev main_call10_call0_v11 : Ref sig .tc := ⟨.hbm, 2595, rfl⟩
abbrev main_call10_call0_c_0 : Ref sig .tc := ⟨.hbm, 2596, rfl⟩
abbrev main_call10_call0_v12 : Ref sig .tc := ⟨.hbm, 2597, rfl⟩
abbrev main_call10_call0_v13 : Ref sig .tc := ⟨.hbm, 2598, rfl⟩
abbrev main_call10_call0_c_1 : Ref sig .tc := ⟨.hbm, 2599, rfl⟩
abbrev main_call10_call0_v14 : Ref sig .tc := ⟨.hbm, 2600, rfl⟩
abbrev main_call10_call0_v15 : Ref sig .tc := ⟨.hbm, 2601, rfl⟩
abbrev main_call10_call0_v16 : Ref sig .tc := ⟨.hbm, 2602, rfl⟩
abbrev main_call10_call0_v17 : Ref sig .tc := ⟨.hbm, 2603, rfl⟩
abbrev main_call10_call0_c_2 : Ref sig .tc := ⟨.hbm, 2604, rfl⟩
abbrev main_call10_call0_v18 : Ref sig .tc := ⟨.hbm, 2605, rfl⟩
abbrev main_call10_call0_v19 : Ref sig .tc := ⟨.hbm, 2606, rfl⟩
abbrev main_call10_call0_v20 : Ref sig .tc := ⟨.hbm, 2607, rfl⟩
abbrev main_call10_call0_v21 : Ref sig .tc := ⟨.hbm, 2608, rfl⟩
abbrev main_call10_call0_call0_v0 : Ref sig .tc := ⟨.hbm, 2609, rfl⟩
abbrev main_call10_call0_call0_c : Ref sig .tc := ⟨.hbm, 2610, rfl⟩
abbrev main_call10_call0_call0_v1 : Ref sig .tc := ⟨.hbm, 2611, rfl⟩
abbrev main_call10_call0_call0_v2 : Ref sig .tc := ⟨.hbm, 2612, rfl⟩
abbrev main_call10_call0_call0_v3 : Ref sig .tc := ⟨.hbm, 2613, rfl⟩
abbrev main_call10_call0_call0_v4 : Ref sig .tc := ⟨.hbm, 2614, rfl⟩
abbrev main_call10_call0_call0_v5 : Ref sig .tc := ⟨.hbm, 2615, rfl⟩
abbrev main_call10_call0_call0_v6 : Ref sig .tc := ⟨.hbm, 2616, rfl⟩
abbrev main_call10_call0_call0_c_0 : Ref sig .tc := ⟨.hbm, 2617, rfl⟩
abbrev main_call10_call0_call0_v7 : Ref sig .tc := ⟨.hbm, 2618, rfl⟩
abbrev main_call10_call0_call0_v8 : Ref sig .tc := ⟨.hbm, 2619, rfl⟩
abbrev main_call10_call0_call0_c_1 : Ref sig .tc := ⟨.hbm, 2620, rfl⟩
abbrev main_call10_call0_call0_v9 : Ref sig .tc := ⟨.hbm, 2621, rfl⟩
abbrev main_call10_call0_call0_v10 : Ref sig .tc := ⟨.hbm, 2622, rfl⟩
abbrev main_call10_call0_call0_v11 : Ref sig .tc := ⟨.hbm, 2623, rfl⟩
abbrev main_call10_call0_call0_v12 : Ref sig .tc := ⟨.hbm, 2624, rfl⟩
abbrev main_call10_call0_call0_v13 : Ref sig .tc := ⟨.hbm, 2625, rfl⟩
abbrev main_call10_call0_call0_c_2 : Ref sig .tc := ⟨.hbm, 2626, rfl⟩
abbrev main_call10_call0_call0_v14 : Ref sig .tc := ⟨.hbm, 2627, rfl⟩
abbrev main_call10_call0_call0_v15 : Ref sig .tc := ⟨.hbm, 2628, rfl⟩
abbrev main_call10_call0_call0_c_3 : Ref sig .tc := ⟨.hbm, 2629, rfl⟩
abbrev main_call10_call0_call0_v16 : Ref sig .tc := ⟨.hbm, 2630, rfl⟩
abbrev main_call10_call0_call0_v17 : Ref sig .tc := ⟨.hbm, 2631, rfl⟩
abbrev main_call10_call0_call0_v18 : Ref sig .tc := ⟨.hbm, 2632, rfl⟩
abbrev main_call10_call0_call0_v19 : Ref sig .tc := ⟨.hbm, 2633, rfl⟩
abbrev main_call10_call0_call0_v20 : Ref sig .tc := ⟨.hbm, 2634, rfl⟩
abbrev main_call10_call0_call0_c_4 : Ref sig .tc := ⟨.hbm, 2635, rfl⟩
abbrev main_call10_call0_call0_v21 : Ref sig .tc := ⟨.hbm, 2636, rfl⟩
abbrev main_call10_call0_call0_v22 : Ref sig .tc := ⟨.hbm, 2637, rfl⟩
abbrev main_call10_call0_call0_c_5 : Ref sig .tc := ⟨.hbm, 2638, rfl⟩
abbrev main_call10_call0_call0_v23 : Ref sig .tc := ⟨.hbm, 2639, rfl⟩
abbrev main_call10_call0_call0_v24 : Ref sig .tc := ⟨.hbm, 2640, rfl⟩
abbrev main_call10_call0_call0_v25 : Ref sig .tc := ⟨.hbm, 2641, rfl⟩
abbrev main_call10_call0_call0_v26 : Ref sig .tc := ⟨.hbm, 2642, rfl⟩
abbrev main_call10_call0_call0_v27 : Ref sig .tc := ⟨.hbm, 2643, rfl⟩
abbrev main_call10_call0_call0_c_6 : Ref sig .tc := ⟨.hbm, 2644, rfl⟩
abbrev main_call10_call0_call0_v28 : Ref sig .tc := ⟨.hbm, 2645, rfl⟩
abbrev main_call10_call0_call0_v29 : Ref sig .tc := ⟨.hbm, 2646, rfl⟩
abbrev main_call10_call0_call0_c_7 : Ref sig .tc := ⟨.hbm, 2647, rfl⟩
abbrev main_call10_call0_call0_v30 : Ref sig .tc := ⟨.hbm, 2648, rfl⟩
abbrev main_call10_call0_call0_v31 : Ref sig .tc := ⟨.hbm, 2649, rfl⟩
abbrev main_call10_call0_call0_v32 : Ref sig .tc := ⟨.hbm, 2650, rfl⟩
abbrev main_call10_call0_call0_v33 : Ref sig .tc := ⟨.hbm, 2651, rfl⟩
abbrev main_call10_call0_call0_v34 : Ref sig .tc := ⟨.hbm, 2652, rfl⟩
abbrev main_call10_call0_call0_v35 : Ref sig .tc := ⟨.hbm, 2653, rfl⟩
abbrev main_call10_call0_call0_v36 : Ref sig .tc := ⟨.hbm, 2654, rfl⟩
abbrev main_call10_call0_call0_v37 : Ref sig .tc := ⟨.hbm, 2655, rfl⟩
abbrev main_call10_call0_call0_c_8 : Ref sig .tc := ⟨.hbm, 2656, rfl⟩
abbrev main_call10_call0_call0_v38 : Ref sig .tc := ⟨.hbm, 2657, rfl⟩
abbrev main_call10_call0_call0_v39 : Ref sig .tc := ⟨.hbm, 2658, rfl⟩
abbrev main_call10_call0_call0_v40 : Ref sig .tc := ⟨.hbm, 2659, rfl⟩
abbrev main_call10_call0_call0_c_9 : Ref sig .tc := ⟨.hbm, 2660, rfl⟩
abbrev main_call10_call0_call0_v41 : Ref sig .tc := ⟨.hbm, 2661, rfl⟩
abbrev main_call10_call0_call0_v42 : Ref sig .tc := ⟨.hbm, 2662, rfl⟩
abbrev main_call10_call0_call0_c_10 : Ref sig .tc := ⟨.hbm, 2663, rfl⟩
abbrev main_call10_call0_call0_v43 : Ref sig .tc := ⟨.hbm, 2664, rfl⟩
abbrev main_call10_call0_call0_v44 : Ref sig .tc := ⟨.hbm, 2665, rfl⟩
abbrev main_call10_call0_call0_v45 : Ref sig .tc := ⟨.hbm, 2666, rfl⟩
abbrev main_call10_call0_call0_v46 : Ref sig .tc := ⟨.hbm, 2667, rfl⟩
abbrev main_call10_call0_call0_v47 : Ref sig .tc := ⟨.hbm, 2668, rfl⟩
abbrev main_call10_call0_call0_c_11 : Ref sig .tc := ⟨.hbm, 2669, rfl⟩
abbrev main_call10_call0_call0_v48 : Ref sig .tc := ⟨.hbm, 2670, rfl⟩
abbrev main_call10_call0_call0_v49 : Ref sig .tc := ⟨.hbm, 2671, rfl⟩
abbrev main_call10_call0_call0_c_12 : Ref sig .tc := ⟨.hbm, 2672, rfl⟩
abbrev main_call10_call0_call0_v50 : Ref sig .tc := ⟨.hbm, 2673, rfl⟩
abbrev main_call10_call0_call0_v51 : Ref sig .tc := ⟨.hbm, 2674, rfl⟩
abbrev main_call10_call0_call0_v52 : Ref sig .tc := ⟨.hbm, 2675, rfl⟩
abbrev main_call10_call0_call0_v53 : Ref sig .tc := ⟨.hbm, 2676, rfl⟩
abbrev main_call10_call0_call0_v54 : Ref sig .tc := ⟨.hbm, 2677, rfl⟩
abbrev main_call10_call0_call0_c_13 : Ref sig .tc := ⟨.hbm, 2678, rfl⟩
abbrev main_call10_call0_call0_v55 : Ref sig .tc := ⟨.hbm, 2679, rfl⟩
abbrev main_call10_call0_call0_v56 : Ref sig .tc := ⟨.hbm, 2680, rfl⟩
abbrev main_call10_call0_call0_c_14 : Ref sig .tc := ⟨.hbm, 2681, rfl⟩
abbrev main_call10_call0_call0_v57 : Ref sig .tc := ⟨.hbm, 2682, rfl⟩
abbrev main_call10_call0_call0_v58 : Ref sig .tc := ⟨.hbm, 2683, rfl⟩
abbrev main_call10_call0_call0_v59 : Ref sig .tc := ⟨.hbm, 2684, rfl⟩
abbrev main_call10_call0_call0_v60 : Ref sig .tc := ⟨.hbm, 2685, rfl⟩
abbrev main_call10_call0_call0_v61 : Ref sig .tc := ⟨.hbm, 2686, rfl⟩
abbrev main_call10_call0_call0_c_15 : Ref sig .tc := ⟨.hbm, 2687, rfl⟩
abbrev main_call10_call0_call0_v62 : Ref sig .tc := ⟨.hbm, 2688, rfl⟩
abbrev main_call10_call0_call0_v63 : Ref sig .tc := ⟨.hbm, 2689, rfl⟩
abbrev main_call10_call0_call0_c_16 : Ref sig .tc := ⟨.hbm, 2690, rfl⟩
abbrev main_call10_call0_call0_v64 : Ref sig .tc := ⟨.hbm, 2691, rfl⟩
abbrev main_call10_call0_call0_v65 : Ref sig .tc := ⟨.hbm, 2692, rfl⟩
abbrev main_call10_call0_call0_v66 : Ref sig .tc := ⟨.hbm, 2693, rfl⟩
abbrev main_call10_call0_call0_v67 : Ref sig .tc := ⟨.hbm, 2694, rfl⟩
abbrev main_call10_call0_call0_v68 : Ref sig .tc := ⟨.hbm, 2695, rfl⟩
abbrev main_call10_call0_call0_v69 : Ref sig .tc := ⟨.hbm, 2696, rfl⟩
abbrev main_call10_call0_call0_v70 : Ref sig .tc := ⟨.hbm, 2697, rfl⟩
abbrev main_call10_call0_call0_v71 : Ref sig .tc := ⟨.hbm, 2698, rfl⟩
abbrev main_call10_call0_call0_c_17 : Ref sig .tc := ⟨.hbm, 2699, rfl⟩
abbrev main_call10_call0_call0_v72 : Ref sig .tc := ⟨.hbm, 2700, rfl⟩
abbrev main_call10_call0_call0_v73 : Ref sig .tc := ⟨.hbm, 2701, rfl⟩
abbrev main_call10_call0_call0_v74 : Ref sig .tc := ⟨.hbm, 2702, rfl⟩
abbrev main_call10_call0_call0_c_18 : Ref sig .tc := ⟨.hbm, 2703, rfl⟩
abbrev main_call10_call0_call0_v75 : Ref sig .tc := ⟨.hbm, 2704, rfl⟩
abbrev main_call10_call0_call0_v76 : Ref sig .tc := ⟨.hbm, 2705, rfl⟩
abbrev main_call10_call0_call0_c_19 : Ref sig .tc := ⟨.hbm, 2706, rfl⟩
abbrev main_call10_call0_call0_v77 : Ref sig .tc := ⟨.hbm, 2707, rfl⟩
abbrev main_call10_call0_call0_v78 : Ref sig .tc := ⟨.hbm, 2708, rfl⟩
abbrev main_call10_call0_call0_v79 : Ref sig .tc := ⟨.hbm, 2709, rfl⟩
abbrev main_call10_call0_call0_v80 : Ref sig .tc := ⟨.hbm, 2710, rfl⟩
abbrev main_call10_call0_call0_v81 : Ref sig .tc := ⟨.hbm, 2711, rfl⟩
abbrev main_call10_call0_call0_c_20 : Ref sig .tc := ⟨.hbm, 2712, rfl⟩
abbrev main_call10_call0_call0_v82 : Ref sig .tc := ⟨.hbm, 2713, rfl⟩
abbrev main_call10_call0_call0_v83 : Ref sig .tc := ⟨.hbm, 2714, rfl⟩
abbrev main_call10_call0_call0_c_21 : Ref sig .tc := ⟨.hbm, 2715, rfl⟩
abbrev main_call10_call0_call0_v84 : Ref sig .tc := ⟨.hbm, 2716, rfl⟩
abbrev main_call10_call0_call0_v85 : Ref sig .tc := ⟨.hbm, 2717, rfl⟩
abbrev main_call10_call0_call0_v86 : Ref sig .tc := ⟨.hbm, 2718, rfl⟩
abbrev main_call10_call0_call0_v87 : Ref sig .tc := ⟨.hbm, 2719, rfl⟩
abbrev main_call10_call0_call0_v88 : Ref sig .tc := ⟨.hbm, 2720, rfl⟩
abbrev main_call10_call0_call0_c_22 : Ref sig .tc := ⟨.hbm, 2721, rfl⟩
abbrev main_call10_call0_call0_v89 : Ref sig .tc := ⟨.hbm, 2722, rfl⟩
abbrev main_call10_call0_call0_v90 : Ref sig .tc := ⟨.hbm, 2723, rfl⟩
abbrev main_call10_call0_call0_c_23 : Ref sig .tc := ⟨.hbm, 2724, rfl⟩
abbrev main_call10_call0_call0_v91 : Ref sig .tc := ⟨.hbm, 2725, rfl⟩
abbrev main_call10_call0_call0_v92 : Ref sig .tc := ⟨.hbm, 2726, rfl⟩
abbrev main_call10_call0_call0_v93 : Ref sig .tc := ⟨.hbm, 2727, rfl⟩
abbrev main_call10_call0_call0_v94 : Ref sig .tc := ⟨.hbm, 2728, rfl⟩
abbrev main_call10_call0_call0_v95 : Ref sig .tc := ⟨.hbm, 2729, rfl⟩
abbrev main_call10_call0_call0_c_24 : Ref sig .tc := ⟨.hbm, 2730, rfl⟩
abbrev main_call10_call0_call0_v96 : Ref sig .tc := ⟨.hbm, 2731, rfl⟩
abbrev main_call10_call0_call0_v97 : Ref sig .tc := ⟨.hbm, 2732, rfl⟩
abbrev main_call10_call0_call0_c_25 : Ref sig .tc := ⟨.hbm, 2733, rfl⟩
abbrev main_call10_call0_call0_v98 : Ref sig .tc := ⟨.hbm, 2734, rfl⟩
abbrev main_call10_call0_call0_v99 : Ref sig .tc := ⟨.hbm, 2735, rfl⟩
abbrev main_call10_call0_call0_v100 : Ref sig .tc := ⟨.hbm, 2736, rfl⟩
abbrev main_call10_call0_call0_v101 : Ref sig .tc := ⟨.hbm, 2737, rfl⟩
abbrev main_call10_call0_call0_v102 : Ref sig .tc := ⟨.hbm, 2738, rfl⟩
abbrev main_call10_call0_call0_v103 : Ref sig .tc := ⟨.hbm, 2739, rfl⟩
abbrev main_call10_call0_call0_v104 : Ref sig .tc := ⟨.hbm, 2740, rfl⟩
abbrev main_call10_call0_call0_v105 : Ref sig .tc := ⟨.hbm, 2741, rfl⟩
abbrev main_call10_call0_call0_c_26 : Ref sig .tc := ⟨.hbm, 2742, rfl⟩
abbrev main_call10_call0_call0_v106 : Ref sig .tc := ⟨.hbm, 2743, rfl⟩
abbrev main_call10_call0_call0_v107 : Ref sig .tc := ⟨.hbm, 2744, rfl⟩
abbrev main_call10_call0_call0_v108 : Ref sig .tc := ⟨.hbm, 2745, rfl⟩
abbrev main_call10_call0_call0_c_27 : Ref sig .tc := ⟨.hbm, 2746, rfl⟩
abbrev main_call10_call0_call0_v109 : Ref sig .tc := ⟨.hbm, 2747, rfl⟩
abbrev main_call10_call0_call0_v110 : Ref sig .tc := ⟨.hbm, 2748, rfl⟩
abbrev main_call10_call0_call0_c_28 : Ref sig .tc := ⟨.hbm, 2749, rfl⟩
abbrev main_call10_call0_call0_v111 : Ref sig .tc := ⟨.hbm, 2750, rfl⟩
abbrev main_call10_call0_call0_v112 : Ref sig .tc := ⟨.hbm, 2751, rfl⟩
abbrev main_call10_call0_call0_v113 : Ref sig .tc := ⟨.hbm, 2752, rfl⟩
abbrev main_call10_call0_call0_v114 : Ref sig .tc := ⟨.hbm, 2753, rfl⟩
abbrev main_call10_call0_call0_v115 : Ref sig .tc := ⟨.hbm, 2754, rfl⟩
abbrev main_call10_call0_call0_c_29 : Ref sig .tc := ⟨.hbm, 2755, rfl⟩
abbrev main_call10_call0_call0_v116 : Ref sig .tc := ⟨.hbm, 2756, rfl⟩
abbrev main_call10_call0_call0_v117 : Ref sig .tc := ⟨.hbm, 2757, rfl⟩
abbrev main_call10_call0_call0_c_30 : Ref sig .tc := ⟨.hbm, 2758, rfl⟩
abbrev main_call10_call0_call0_v118 : Ref sig .tc := ⟨.hbm, 2759, rfl⟩
abbrev main_call10_call0_call0_v119 : Ref sig .tc := ⟨.hbm, 2760, rfl⟩
abbrev main_call10_call0_call0_v120 : Ref sig .tc := ⟨.hbm, 2761, rfl⟩
abbrev main_call10_call0_call0_v121 : Ref sig .tc := ⟨.hbm, 2762, rfl⟩
abbrev main_call10_call0_call0_v122 : Ref sig .tc := ⟨.hbm, 2763, rfl⟩
abbrev main_call10_call0_call0_c_31 : Ref sig .tc := ⟨.hbm, 2764, rfl⟩
abbrev main_call10_call0_call0_v123 : Ref sig .tc := ⟨.hbm, 2765, rfl⟩
abbrev main_call10_call0_call0_v124 : Ref sig .tc := ⟨.hbm, 2766, rfl⟩
abbrev main_call10_call0_call0_c_32 : Ref sig .tc := ⟨.hbm, 2767, rfl⟩
abbrev main_call10_call0_call0_v125 : Ref sig .tc := ⟨.hbm, 2768, rfl⟩
abbrev main_call10_call0_call0_v126 : Ref sig .tc := ⟨.hbm, 2769, rfl⟩
abbrev main_call10_call0_call0_v127 : Ref sig .tc := ⟨.hbm, 2770, rfl⟩
abbrev main_call10_call0_call0_v128 : Ref sig .tc := ⟨.hbm, 2771, rfl⟩
abbrev main_call10_call0_call0_v129 : Ref sig .tc := ⟨.hbm, 2772, rfl⟩
abbrev main_call10_call0_call0_c_33 : Ref sig .tc := ⟨.hbm, 2773, rfl⟩
abbrev main_call10_call0_call0_v130 : Ref sig .tc := ⟨.hbm, 2774, rfl⟩
abbrev main_call10_call0_call0_v131 : Ref sig .tc := ⟨.hbm, 2775, rfl⟩
abbrev main_call10_call0_call0_c_34 : Ref sig .tc := ⟨.hbm, 2776, rfl⟩
abbrev main_call10_call0_call0_v132 : Ref sig .tc := ⟨.hbm, 2777, rfl⟩
abbrev main_call10_call0_call0_v133 : Ref sig .tc := ⟨.hbm, 2778, rfl⟩
abbrev main_call10_call0_call0_v134 : Ref sig .tc := ⟨.hbm, 2779, rfl⟩
abbrev main_call10_call0_call0_v135 : Ref sig .tc := ⟨.hbm, 2780, rfl⟩
abbrev main_call10_call0_call0_v136 : Ref sig .tc := ⟨.hbm, 2781, rfl⟩
abbrev main_call10_call0_call0_v137 : Ref sig .tc := ⟨.hbm, 2782, rfl⟩
abbrev main_call10_call0_call0_v138 : Ref sig .tc := ⟨.hbm, 2783, rfl⟩
abbrev main_call10_call0_call0_v139 : Ref sig .tc := ⟨.hbm, 2784, rfl⟩
abbrev main_call10_call0_call0_c_35 : Ref sig .tc := ⟨.hbm, 2785, rfl⟩
abbrev main_call10_call0_call0_v140 : Ref sig .tc := ⟨.hbm, 2786, rfl⟩
abbrev main_call10_call0_call0_v141 : Ref sig .tc := ⟨.hbm, 2787, rfl⟩
abbrev main_call10_call0_call0_v142 : Ref sig .tc := ⟨.hbm, 2788, rfl⟩
abbrev main_call10_call0_call0_c_36 : Ref sig .tc := ⟨.hbm, 2789, rfl⟩
abbrev main_call10_call0_call0_v143 : Ref sig .tc := ⟨.hbm, 2790, rfl⟩
abbrev main_call10_call0_call0_v144 : Ref sig .tc := ⟨.hbm, 2791, rfl⟩
abbrev main_call10_call0_call0_c_37 : Ref sig .tc := ⟨.hbm, 2792, rfl⟩
abbrev main_call10_call0_call0_v145 : Ref sig .tc := ⟨.hbm, 2793, rfl⟩
abbrev main_call10_call0_call0_v146 : Ref sig .tc := ⟨.hbm, 2794, rfl⟩
abbrev main_call10_call0_call0_v147 : Ref sig .tc := ⟨.hbm, 2795, rfl⟩
abbrev main_call10_call0_call0_v148 : Ref sig .tc := ⟨.hbm, 2796, rfl⟩
abbrev main_call10_call0_call0_v149 : Ref sig .tc := ⟨.hbm, 2797, rfl⟩
abbrev main_call10_call0_call0_c_38 : Ref sig .tc := ⟨.hbm, 2798, rfl⟩
abbrev main_call10_call0_call0_v150 : Ref sig .tc := ⟨.hbm, 2799, rfl⟩
abbrev main_call10_call0_call0_v151 : Ref sig .tc := ⟨.hbm, 2800, rfl⟩
abbrev main_call10_call0_call0_c_39 : Ref sig .tc := ⟨.hbm, 2801, rfl⟩
abbrev main_call10_call0_call0_v152 : Ref sig .tc := ⟨.hbm, 2802, rfl⟩
abbrev main_call10_call0_call0_v153 : Ref sig .tc := ⟨.hbm, 2803, rfl⟩
abbrev main_call10_call0_call0_v154 : Ref sig .tc := ⟨.hbm, 2804, rfl⟩
abbrev main_call10_call0_call0_v155 : Ref sig .tc := ⟨.hbm, 2805, rfl⟩
abbrev main_call10_call0_call0_v156 : Ref sig .tc := ⟨.hbm, 2806, rfl⟩
abbrev main_call10_call0_call0_c_40 : Ref sig .tc := ⟨.hbm, 2807, rfl⟩
abbrev main_call10_call0_call0_v157 : Ref sig .tc := ⟨.hbm, 2808, rfl⟩
abbrev main_call10_call0_call0_v158 : Ref sig .tc := ⟨.hbm, 2809, rfl⟩
abbrev main_call10_call0_call0_c_41 : Ref sig .tc := ⟨.hbm, 2810, rfl⟩
abbrev main_call10_call0_call0_v159 : Ref sig .tc := ⟨.hbm, 2811, rfl⟩
abbrev main_call10_call0_call0_v160 : Ref sig .tc := ⟨.hbm, 2812, rfl⟩
abbrev main_call10_call0_call0_v161 : Ref sig .tc := ⟨.hbm, 2813, rfl⟩
abbrev main_call10_call0_call0_v162 : Ref sig .tc := ⟨.hbm, 2814, rfl⟩
abbrev main_call10_call0_call0_v163 : Ref sig .tc := ⟨.hbm, 2815, rfl⟩
abbrev main_call10_call0_call0_c_42 : Ref sig .tc := ⟨.hbm, 2816, rfl⟩
abbrev main_call10_call0_call0_v164 : Ref sig .tc := ⟨.hbm, 2817, rfl⟩
abbrev main_call10_call0_call0_v165 : Ref sig .tc := ⟨.hbm, 2818, rfl⟩
abbrev main_call10_call0_call0_c_43 : Ref sig .tc := ⟨.hbm, 2819, rfl⟩
abbrev main_call10_call0_call0_v166 : Ref sig .tc := ⟨.hbm, 2820, rfl⟩
abbrev main_call10_call0_call0_v167 : Ref sig .tc := ⟨.hbm, 2821, rfl⟩
abbrev main_call10_call0_call0_v168 : Ref sig .tc := ⟨.hbm, 2822, rfl⟩
abbrev main_call10_call0_call0_v169 : Ref sig .tc := ⟨.hbm, 2823, rfl⟩
abbrev main_call10_call0_call0_v170 : Ref sig .tc := ⟨.hbm, 2824, rfl⟩
abbrev main_call10_call0_v22_0 : Ref sig .tc := ⟨.hbm, 2825, rfl⟩
abbrev main_call10_call0_call0_v172 : Ref sig .tc := ⟨.hbm, 2826, rfl⟩
abbrev main_call10_call0_call0_v173 : Ref sig .tc := ⟨.hbm, 2827, rfl⟩
abbrev main_call10_call0_call0_c_44 : Ref sig .tc := ⟨.hbm, 2828, rfl⟩
abbrev main_call10_call0_call0_v174 : Ref sig .tc := ⟨.hbm, 2829, rfl⟩
abbrev main_call10_call0_v22_1 : Ref sig .tc := ⟨.hbm, 2830, rfl⟩
abbrev main_call10_call0_v23 : Ref sig .tc := ⟨.hbm, 2831, rfl⟩
abbrev main_call10_call0_c_3 : Ref sig .tc := ⟨.hbm, 2832, rfl⟩
abbrev main_call10_call0_v24 : Ref sig .tc := ⟨.hbm, 2833, rfl⟩
abbrev main_call10_call0_v25 : Ref sig .tc := ⟨.hbm, 2834, rfl⟩
abbrev main_call10_call0_c_4 : Ref sig .tc := ⟨.hbm, 2835, rfl⟩
abbrev main_call10_call0_v26 : Ref sig .tc := ⟨.hbm, 2836, rfl⟩
abbrev main_call10_call0_v27 : Ref sig .tc := ⟨.hbm, 2837, rfl⟩
abbrev main_call10_call0_v28 : Ref sig .tc := ⟨.hbm, 2838, rfl⟩
abbrev main_call10_call0_cst : Ref sig .tc := ⟨.hbm, 2839, rfl⟩
abbrev main_call10_call0_v29 : Ref sig .tc := ⟨.hbm, 2840, rfl⟩
abbrev main_call10_call0_v30 : Ref sig .tc := ⟨.hbm, 2841, rfl⟩
abbrev main_call10_call0_v31 : Ref sig .tc := ⟨.hbm, 2842, rfl⟩
abbrev main_call10_call0_v32 : Ref sig .tc := ⟨.hbm, 2843, rfl⟩
abbrev main_call10_call0_v33 : Ref sig .tc := ⟨.hbm, 2844, rfl⟩
abbrev main_call10_call0_v34 : Ref sig .tc := ⟨.hbm, 2845, rfl⟩
abbrev main_call10_call0_v35 : Ref sig .tc := ⟨.hbm, 2846, rfl⟩
abbrev main_call10_call0_v36 : Ref sig .tc := ⟨.hbm, 2847, rfl⟩
abbrev main_call10_v0 : Ref sig .tc := ⟨.hbm, 2848, rfl⟩
abbrev main_call10_v1 : Ref sig .tc := ⟨.hbm, 2849, rfl⟩
abbrev main_call10_v2 : Ref sig .tc := ⟨.hbm, 2850, rfl⟩
abbrev main_call10_v3 : Ref sig .tc := ⟨.hbm, 2851, rfl⟩
abbrev main_v41 : Ref sig .tc := ⟨.hbm, 2852, rfl⟩
abbrev main_cst_7 : Ref sig .tc := ⟨.hbm, 2853, rfl⟩
abbrev main_cst_8 : Ref sig .tc := ⟨.hbm, 2854, rfl⟩
abbrev main_call11_v0 : Ref sig .tc := ⟨.hbm, 2855, rfl⟩
abbrev main_call11_v1 : Ref sig .tc := ⟨.hbm, 2856, rfl⟩
abbrev main_call11_v2 : Ref sig .tc := ⟨.hbm, 2857, rfl⟩
abbrev main_call11_v3 : Ref sig .tc := ⟨.hbm, 2858, rfl⟩
abbrev main_call11_v4 : Ref sig .tc := ⟨.hbm, 2859, rfl⟩
abbrev main_call11_v5 : Ref sig .tc := ⟨.hbm, 2860, rfl⟩
abbrev main_call11_v6 : Ref sig .tc := ⟨.hbm, 2861, rfl⟩
abbrev main_call11_v7 : Ref sig .tc := ⟨.hbm, 2862, rfl⟩
abbrev main_call11_v8 : Ref sig .tc := ⟨.hbm, 2863, rfl⟩
abbrev main_call11_c : Ref sig .tc := ⟨.hbm, 2864, rfl⟩
abbrev main_call11_v9 : Ref sig .tc := ⟨.hbm, 2865, rfl⟩
abbrev main_call11_v10 : Ref sig .tc := ⟨.hbm, 2866, rfl⟩
abbrev main_call11_c_0 : Ref sig .tc := ⟨.hbm, 2867, rfl⟩
abbrev main_call11_v11 : Ref sig .tc := ⟨.hbm, 2868, rfl⟩
abbrev main_call11_v12 : Ref sig .tc := ⟨.hbm, 2869, rfl⟩
abbrev main_call11_v13 : Ref sig .tc := ⟨.hbm, 2870, rfl⟩
abbrev main_call11_v14 : Ref sig .tc := ⟨.hbm, 2871, rfl⟩
abbrev main_call11_call0_v0 : Ref sig .tc := ⟨.hbm, 2872, rfl⟩
abbrev main_call11_call0_c : Ref sig .tc := ⟨.hbm, 2873, rfl⟩
abbrev main_call11_call0_v1 : Ref sig .tc := ⟨.hbm, 2874, rfl⟩
abbrev main_call11_call0_v2 : Ref sig .tc := ⟨.hbm, 2875, rfl⟩
abbrev main_call11_call0_v3 : Ref sig .tc := ⟨.hbm, 2876, rfl⟩
abbrev main_call11_call0_v4 : Ref sig .tc := ⟨.hbm, 2877, rfl⟩
abbrev main_call11_call0_v5 : Ref sig .tc := ⟨.hbm, 2878, rfl⟩
abbrev main_call11_call0_v6 : Ref sig .tc := ⟨.hbm, 2879, rfl⟩
abbrev main_call11_call0_c_0 : Ref sig .tc := ⟨.hbm, 2880, rfl⟩
abbrev main_call11_call0_v7 : Ref sig .tc := ⟨.hbm, 2881, rfl⟩
abbrev main_call11_call0_v8 : Ref sig .tc := ⟨.hbm, 2882, rfl⟩
abbrev main_call11_call0_c_1 : Ref sig .tc := ⟨.hbm, 2883, rfl⟩
abbrev main_call11_call0_v9 : Ref sig .tc := ⟨.hbm, 2884, rfl⟩
abbrev main_call11_call0_v10 : Ref sig .tc := ⟨.hbm, 2885, rfl⟩
abbrev main_call11_call0_v11 : Ref sig .tc := ⟨.hbm, 2886, rfl⟩
abbrev main_call11_call0_v12 : Ref sig .tc := ⟨.hbm, 2887, rfl⟩
abbrev main_call11_call0_v13 : Ref sig .tc := ⟨.hbm, 2888, rfl⟩
abbrev main_call11_call0_c_2 : Ref sig .tc := ⟨.hbm, 2889, rfl⟩
abbrev main_call11_call0_v14 : Ref sig .tc := ⟨.hbm, 2890, rfl⟩
abbrev main_call11_call0_v15 : Ref sig .tc := ⟨.hbm, 2891, rfl⟩
abbrev main_call11_call0_c_3 : Ref sig .tc := ⟨.hbm, 2892, rfl⟩
abbrev main_call11_call0_v16 : Ref sig .tc := ⟨.hbm, 2893, rfl⟩
abbrev main_call11_call0_v17 : Ref sig .tc := ⟨.hbm, 2894, rfl⟩
abbrev main_call11_call0_v18 : Ref sig .tc := ⟨.hbm, 2895, rfl⟩
abbrev main_call11_call0_v19 : Ref sig .tc := ⟨.hbm, 2896, rfl⟩
abbrev main_call11_call0_v20 : Ref sig .tc := ⟨.hbm, 2897, rfl⟩
abbrev main_call11_call0_c_4 : Ref sig .tc := ⟨.hbm, 2898, rfl⟩
abbrev main_call11_call0_v21 : Ref sig .tc := ⟨.hbm, 2899, rfl⟩
abbrev main_call11_call0_v22 : Ref sig .tc := ⟨.hbm, 2900, rfl⟩
abbrev main_call11_call0_c_5 : Ref sig .tc := ⟨.hbm, 2901, rfl⟩
abbrev main_call11_call0_v23 : Ref sig .tc := ⟨.hbm, 2902, rfl⟩
abbrev main_call11_call0_v24 : Ref sig .tc := ⟨.hbm, 2903, rfl⟩
abbrev main_call11_call0_v25 : Ref sig .tc := ⟨.hbm, 2904, rfl⟩
abbrev main_call11_call0_v26 : Ref sig .tc := ⟨.hbm, 2905, rfl⟩
abbrev main_call11_call0_v27 : Ref sig .tc := ⟨.hbm, 2906, rfl⟩
abbrev main_call11_call0_c_6 : Ref sig .tc := ⟨.hbm, 2907, rfl⟩
abbrev main_call11_call0_v28 : Ref sig .tc := ⟨.hbm, 2908, rfl⟩
abbrev main_call11_call0_v29 : Ref sig .tc := ⟨.hbm, 2909, rfl⟩
abbrev main_call11_call0_c_7 : Ref sig .tc := ⟨.hbm, 2910, rfl⟩
abbrev main_call11_call0_v30 : Ref sig .tc := ⟨.hbm, 2911, rfl⟩
abbrev main_call11_call0_v31 : Ref sig .tc := ⟨.hbm, 2912, rfl⟩
abbrev main_call11_call0_v32 : Ref sig .tc := ⟨.hbm, 2913, rfl⟩
abbrev main_call11_call0_v33 : Ref sig .tc := ⟨.hbm, 2914, rfl⟩
abbrev main_call11_call0_v34 : Ref sig .tc := ⟨.hbm, 2915, rfl⟩
abbrev main_call11_call0_v35 : Ref sig .tc := ⟨.hbm, 2916, rfl⟩
abbrev main_call11_call0_v36 : Ref sig .tc := ⟨.hbm, 2917, rfl⟩
abbrev main_call11_call0_v37 : Ref sig .tc := ⟨.hbm, 2918, rfl⟩
abbrev main_call11_call0_c_8 : Ref sig .tc := ⟨.hbm, 2919, rfl⟩
abbrev main_call11_call0_v38 : Ref sig .tc := ⟨.hbm, 2920, rfl⟩
abbrev main_call11_call0_v39 : Ref sig .tc := ⟨.hbm, 2921, rfl⟩
abbrev main_call11_call0_v40 : Ref sig .tc := ⟨.hbm, 2922, rfl⟩
abbrev main_call11_call0_c_9 : Ref sig .tc := ⟨.hbm, 2923, rfl⟩
abbrev main_call11_call0_v41 : Ref sig .tc := ⟨.hbm, 2924, rfl⟩
abbrev main_call11_call0_v42 : Ref sig .tc := ⟨.hbm, 2925, rfl⟩
abbrev main_call11_call0_c_10 : Ref sig .tc := ⟨.hbm, 2926, rfl⟩
abbrev main_call11_call0_v43 : Ref sig .tc := ⟨.hbm, 2927, rfl⟩
abbrev main_call11_call0_v44 : Ref sig .tc := ⟨.hbm, 2928, rfl⟩
abbrev main_call11_call0_v45 : Ref sig .tc := ⟨.hbm, 2929, rfl⟩
abbrev main_call11_call0_v46 : Ref sig .tc := ⟨.hbm, 2930, rfl⟩
abbrev main_call11_call0_v47 : Ref sig .tc := ⟨.hbm, 2931, rfl⟩
abbrev main_call11_call0_c_11 : Ref sig .tc := ⟨.hbm, 2932, rfl⟩
abbrev main_call11_call0_v48 : Ref sig .tc := ⟨.hbm, 2933, rfl⟩
abbrev main_call11_call0_v49 : Ref sig .tc := ⟨.hbm, 2934, rfl⟩
abbrev main_call11_call0_c_12 : Ref sig .tc := ⟨.hbm, 2935, rfl⟩
abbrev main_call11_call0_v50 : Ref sig .tc := ⟨.hbm, 2936, rfl⟩
abbrev main_call11_call0_v51 : Ref sig .tc := ⟨.hbm, 2937, rfl⟩
abbrev main_call11_call0_v52 : Ref sig .tc := ⟨.hbm, 2938, rfl⟩
abbrev main_call11_call0_v53 : Ref sig .tc := ⟨.hbm, 2939, rfl⟩
abbrev main_call11_call0_v54 : Ref sig .tc := ⟨.hbm, 2940, rfl⟩
abbrev main_call11_call0_c_13 : Ref sig .tc := ⟨.hbm, 2941, rfl⟩
abbrev main_call11_call0_v55 : Ref sig .tc := ⟨.hbm, 2942, rfl⟩
abbrev main_call11_call0_v56 : Ref sig .tc := ⟨.hbm, 2943, rfl⟩
abbrev main_call11_call0_c_14 : Ref sig .tc := ⟨.hbm, 2944, rfl⟩
abbrev main_call11_call0_v57 : Ref sig .tc := ⟨.hbm, 2945, rfl⟩
abbrev main_call11_call0_v58 : Ref sig .tc := ⟨.hbm, 2946, rfl⟩
abbrev main_call11_call0_v59 : Ref sig .tc := ⟨.hbm, 2947, rfl⟩
abbrev main_call11_call0_v60 : Ref sig .tc := ⟨.hbm, 2948, rfl⟩
abbrev main_call11_call0_v61 : Ref sig .tc := ⟨.hbm, 2949, rfl⟩
abbrev main_call11_call0_c_15 : Ref sig .tc := ⟨.hbm, 2950, rfl⟩
abbrev main_call11_call0_v62 : Ref sig .tc := ⟨.hbm, 2951, rfl⟩
abbrev main_call11_call0_v63 : Ref sig .tc := ⟨.hbm, 2952, rfl⟩
abbrev main_call11_call0_c_16 : Ref sig .tc := ⟨.hbm, 2953, rfl⟩
abbrev main_call11_call0_v64 : Ref sig .tc := ⟨.hbm, 2954, rfl⟩
abbrev main_call11_call0_v65 : Ref sig .tc := ⟨.hbm, 2955, rfl⟩
abbrev main_call11_call0_v66 : Ref sig .tc := ⟨.hbm, 2956, rfl⟩
abbrev main_call11_call0_v67 : Ref sig .tc := ⟨.hbm, 2957, rfl⟩
abbrev main_call11_call0_v68 : Ref sig .tc := ⟨.hbm, 2958, rfl⟩
abbrev main_call11_call0_v69 : Ref sig .tc := ⟨.hbm, 2959, rfl⟩
abbrev main_call11_call0_v70 : Ref sig .tc := ⟨.hbm, 2960, rfl⟩
abbrev main_call11_call0_v71 : Ref sig .tc := ⟨.hbm, 2961, rfl⟩
abbrev main_call11_call0_c_17 : Ref sig .tc := ⟨.hbm, 2962, rfl⟩
abbrev main_call11_call0_v72 : Ref sig .tc := ⟨.hbm, 2963, rfl⟩
abbrev main_call11_call0_v73 : Ref sig .tc := ⟨.hbm, 2964, rfl⟩
abbrev main_call11_call0_v74 : Ref sig .tc := ⟨.hbm, 2965, rfl⟩
abbrev main_call11_call0_c_18 : Ref sig .tc := ⟨.hbm, 2966, rfl⟩
abbrev main_call11_call0_v75 : Ref sig .tc := ⟨.hbm, 2967, rfl⟩
abbrev main_call11_call0_v76 : Ref sig .tc := ⟨.hbm, 2968, rfl⟩
abbrev main_call11_call0_c_19 : Ref sig .tc := ⟨.hbm, 2969, rfl⟩
abbrev main_call11_call0_v77 : Ref sig .tc := ⟨.hbm, 2970, rfl⟩
abbrev main_call11_call0_v78 : Ref sig .tc := ⟨.hbm, 2971, rfl⟩
abbrev main_call11_call0_v79 : Ref sig .tc := ⟨.hbm, 2972, rfl⟩
abbrev main_call11_call0_v80 : Ref sig .tc := ⟨.hbm, 2973, rfl⟩
abbrev main_call11_call0_v81 : Ref sig .tc := ⟨.hbm, 2974, rfl⟩
abbrev main_call11_call0_c_20 : Ref sig .tc := ⟨.hbm, 2975, rfl⟩
abbrev main_call11_call0_v82 : Ref sig .tc := ⟨.hbm, 2976, rfl⟩
abbrev main_call11_call0_v83 : Ref sig .tc := ⟨.hbm, 2977, rfl⟩
abbrev main_call11_call0_c_21 : Ref sig .tc := ⟨.hbm, 2978, rfl⟩
abbrev main_call11_call0_v84 : Ref sig .tc := ⟨.hbm, 2979, rfl⟩
abbrev main_call11_call0_v85 : Ref sig .tc := ⟨.hbm, 2980, rfl⟩
abbrev main_call11_call0_v86 : Ref sig .tc := ⟨.hbm, 2981, rfl⟩
abbrev main_call11_call0_v87 : Ref sig .tc := ⟨.hbm, 2982, rfl⟩
abbrev main_call11_call0_v88 : Ref sig .tc := ⟨.hbm, 2983, rfl⟩
abbrev main_call11_call0_c_22 : Ref sig .tc := ⟨.hbm, 2984, rfl⟩
abbrev main_call11_call0_v89 : Ref sig .tc := ⟨.hbm, 2985, rfl⟩
abbrev main_call11_call0_v90 : Ref sig .tc := ⟨.hbm, 2986, rfl⟩
abbrev main_call11_call0_c_23 : Ref sig .tc := ⟨.hbm, 2987, rfl⟩
abbrev main_call11_call0_v91 : Ref sig .tc := ⟨.hbm, 2988, rfl⟩
abbrev main_call11_call0_v92 : Ref sig .tc := ⟨.hbm, 2989, rfl⟩
abbrev main_call11_call0_v93 : Ref sig .tc := ⟨.hbm, 2990, rfl⟩
abbrev main_call11_call0_v94 : Ref sig .tc := ⟨.hbm, 2991, rfl⟩
abbrev main_call11_call0_v95 : Ref sig .tc := ⟨.hbm, 2992, rfl⟩
abbrev main_call11_call0_c_24 : Ref sig .tc := ⟨.hbm, 2993, rfl⟩
abbrev main_call11_call0_v96 : Ref sig .tc := ⟨.hbm, 2994, rfl⟩
abbrev main_call11_call0_v97 : Ref sig .tc := ⟨.hbm, 2995, rfl⟩
abbrev main_call11_call0_c_25 : Ref sig .tc := ⟨.hbm, 2996, rfl⟩
abbrev main_call11_call0_v98 : Ref sig .tc := ⟨.hbm, 2997, rfl⟩
abbrev main_call11_call0_v99 : Ref sig .tc := ⟨.hbm, 2998, rfl⟩
abbrev main_call11_call0_v100 : Ref sig .tc := ⟨.hbm, 2999, rfl⟩
abbrev main_call11_call0_v101 : Ref sig .tc := ⟨.hbm, 3000, rfl⟩
abbrev main_call11_call0_v102 : Ref sig .tc := ⟨.hbm, 3001, rfl⟩
abbrev main_call11_call0_v103 : Ref sig .tc := ⟨.hbm, 3002, rfl⟩
abbrev main_call11_call0_v104 : Ref sig .tc := ⟨.hbm, 3003, rfl⟩
abbrev main_call11_call0_v105 : Ref sig .tc := ⟨.hbm, 3004, rfl⟩
abbrev main_call11_call0_c_26 : Ref sig .tc := ⟨.hbm, 3005, rfl⟩
abbrev main_call11_call0_v106 : Ref sig .tc := ⟨.hbm, 3006, rfl⟩
abbrev main_call11_call0_v107 : Ref sig .tc := ⟨.hbm, 3007, rfl⟩
abbrev main_call11_call0_v108 : Ref sig .tc := ⟨.hbm, 3008, rfl⟩
abbrev main_call11_call0_c_27 : Ref sig .tc := ⟨.hbm, 3009, rfl⟩
abbrev main_call11_call0_v109 : Ref sig .tc := ⟨.hbm, 3010, rfl⟩
abbrev main_call11_call0_v110 : Ref sig .tc := ⟨.hbm, 3011, rfl⟩
abbrev main_call11_call0_c_28 : Ref sig .tc := ⟨.hbm, 3012, rfl⟩
abbrev main_call11_call0_v111 : Ref sig .tc := ⟨.hbm, 3013, rfl⟩
abbrev main_call11_call0_v112 : Ref sig .tc := ⟨.hbm, 3014, rfl⟩
abbrev main_call11_call0_v113 : Ref sig .tc := ⟨.hbm, 3015, rfl⟩
abbrev main_call11_call0_v114 : Ref sig .tc := ⟨.hbm, 3016, rfl⟩
abbrev main_call11_call0_v115 : Ref sig .tc := ⟨.hbm, 3017, rfl⟩
abbrev main_call11_call0_c_29 : Ref sig .tc := ⟨.hbm, 3018, rfl⟩
abbrev main_call11_call0_v116 : Ref sig .tc := ⟨.hbm, 3019, rfl⟩
abbrev main_call11_call0_v117 : Ref sig .tc := ⟨.hbm, 3020, rfl⟩
abbrev main_call11_call0_c_30 : Ref sig .tc := ⟨.hbm, 3021, rfl⟩
abbrev main_call11_call0_v118 : Ref sig .tc := ⟨.hbm, 3022, rfl⟩
abbrev main_call11_call0_v119 : Ref sig .tc := ⟨.hbm, 3023, rfl⟩
abbrev main_call11_call0_v120 : Ref sig .tc := ⟨.hbm, 3024, rfl⟩
abbrev main_call11_call0_v121 : Ref sig .tc := ⟨.hbm, 3025, rfl⟩
abbrev main_call11_call0_v122 : Ref sig .tc := ⟨.hbm, 3026, rfl⟩
abbrev main_call11_call0_c_31 : Ref sig .tc := ⟨.hbm, 3027, rfl⟩
abbrev main_call11_call0_v123 : Ref sig .tc := ⟨.hbm, 3028, rfl⟩
abbrev main_call11_call0_v124 : Ref sig .tc := ⟨.hbm, 3029, rfl⟩
abbrev main_call11_call0_c_32 : Ref sig .tc := ⟨.hbm, 3030, rfl⟩
abbrev main_call11_call0_v125 : Ref sig .tc := ⟨.hbm, 3031, rfl⟩
abbrev main_call11_call0_v126 : Ref sig .tc := ⟨.hbm, 3032, rfl⟩
abbrev main_call11_call0_v127 : Ref sig .tc := ⟨.hbm, 3033, rfl⟩
abbrev main_call11_call0_v128 : Ref sig .tc := ⟨.hbm, 3034, rfl⟩
abbrev main_call11_call0_v129 : Ref sig .tc := ⟨.hbm, 3035, rfl⟩
abbrev main_call11_call0_c_33 : Ref sig .tc := ⟨.hbm, 3036, rfl⟩
abbrev main_call11_call0_v130 : Ref sig .tc := ⟨.hbm, 3037, rfl⟩
abbrev main_call11_call0_v131 : Ref sig .tc := ⟨.hbm, 3038, rfl⟩
abbrev main_call11_call0_c_34 : Ref sig .tc := ⟨.hbm, 3039, rfl⟩
abbrev main_call11_call0_v132 : Ref sig .tc := ⟨.hbm, 3040, rfl⟩
abbrev main_call11_call0_v133 : Ref sig .tc := ⟨.hbm, 3041, rfl⟩
abbrev main_call11_call0_v134 : Ref sig .tc := ⟨.hbm, 3042, rfl⟩
abbrev main_call11_call0_v135 : Ref sig .tc := ⟨.hbm, 3043, rfl⟩
abbrev main_call11_call0_v136 : Ref sig .tc := ⟨.hbm, 3044, rfl⟩
abbrev main_call11_call0_v137 : Ref sig .tc := ⟨.hbm, 3045, rfl⟩
abbrev main_call11_call0_v138 : Ref sig .tc := ⟨.hbm, 3046, rfl⟩
abbrev main_call11_call0_v139 : Ref sig .tc := ⟨.hbm, 3047, rfl⟩
abbrev main_call11_call0_c_35 : Ref sig .tc := ⟨.hbm, 3048, rfl⟩
abbrev main_call11_call0_v140 : Ref sig .tc := ⟨.hbm, 3049, rfl⟩
abbrev main_call11_call0_v141 : Ref sig .tc := ⟨.hbm, 3050, rfl⟩
abbrev main_call11_call0_v142 : Ref sig .tc := ⟨.hbm, 3051, rfl⟩
abbrev main_call11_call0_c_36 : Ref sig .tc := ⟨.hbm, 3052, rfl⟩
abbrev main_call11_call0_v143 : Ref sig .tc := ⟨.hbm, 3053, rfl⟩
abbrev main_call11_call0_v144 : Ref sig .tc := ⟨.hbm, 3054, rfl⟩
abbrev main_call11_call0_c_37 : Ref sig .tc := ⟨.hbm, 3055, rfl⟩
abbrev main_call11_call0_v145 : Ref sig .tc := ⟨.hbm, 3056, rfl⟩
abbrev main_call11_call0_v146 : Ref sig .tc := ⟨.hbm, 3057, rfl⟩
abbrev main_call11_call0_v147 : Ref sig .tc := ⟨.hbm, 3058, rfl⟩
abbrev main_call11_call0_v148 : Ref sig .tc := ⟨.hbm, 3059, rfl⟩
abbrev main_call11_call0_v149 : Ref sig .tc := ⟨.hbm, 3060, rfl⟩
abbrev main_call11_call0_c_38 : Ref sig .tc := ⟨.hbm, 3061, rfl⟩
abbrev main_call11_call0_v150 : Ref sig .tc := ⟨.hbm, 3062, rfl⟩
abbrev main_call11_call0_v151 : Ref sig .tc := ⟨.hbm, 3063, rfl⟩
abbrev main_call11_call0_c_39 : Ref sig .tc := ⟨.hbm, 3064, rfl⟩
abbrev main_call11_call0_v152 : Ref sig .tc := ⟨.hbm, 3065, rfl⟩
abbrev main_call11_call0_v153 : Ref sig .tc := ⟨.hbm, 3066, rfl⟩
abbrev main_call11_call0_v154 : Ref sig .tc := ⟨.hbm, 3067, rfl⟩
abbrev main_call11_call0_v155 : Ref sig .tc := ⟨.hbm, 3068, rfl⟩
abbrev main_call11_call0_v156 : Ref sig .tc := ⟨.hbm, 3069, rfl⟩
abbrev main_call11_call0_c_40 : Ref sig .tc := ⟨.hbm, 3070, rfl⟩
abbrev main_call11_call0_v157 : Ref sig .tc := ⟨.hbm, 3071, rfl⟩
abbrev main_call11_call0_v158 : Ref sig .tc := ⟨.hbm, 3072, rfl⟩
abbrev main_call11_call0_c_41 : Ref sig .tc := ⟨.hbm, 3073, rfl⟩
abbrev main_call11_call0_v159 : Ref sig .tc := ⟨.hbm, 3074, rfl⟩
abbrev main_call11_call0_v160 : Ref sig .tc := ⟨.hbm, 3075, rfl⟩
abbrev main_call11_call0_v161 : Ref sig .tc := ⟨.hbm, 3076, rfl⟩
abbrev main_call11_call0_v162 : Ref sig .tc := ⟨.hbm, 3077, rfl⟩
abbrev main_call11_call0_v163 : Ref sig .tc := ⟨.hbm, 3078, rfl⟩
abbrev main_call11_call0_c_42 : Ref sig .tc := ⟨.hbm, 3079, rfl⟩
abbrev main_call11_call0_v164 : Ref sig .tc := ⟨.hbm, 3080, rfl⟩
abbrev main_call11_call0_v165 : Ref sig .tc := ⟨.hbm, 3081, rfl⟩
abbrev main_call11_call0_c_43 : Ref sig .tc := ⟨.hbm, 3082, rfl⟩
abbrev main_call11_call0_v166 : Ref sig .tc := ⟨.hbm, 3083, rfl⟩
abbrev main_call11_call0_v167 : Ref sig .tc := ⟨.hbm, 3084, rfl⟩
abbrev main_call11_call0_v168 : Ref sig .tc := ⟨.hbm, 3085, rfl⟩
abbrev main_call11_call0_v169 : Ref sig .tc := ⟨.hbm, 3086, rfl⟩
abbrev main_call11_call0_v170 : Ref sig .tc := ⟨.hbm, 3087, rfl⟩
abbrev main_call11_v15_0 : Ref sig .tc := ⟨.hbm, 3088, rfl⟩
abbrev main_call11_call0_v172 : Ref sig .tc := ⟨.hbm, 3089, rfl⟩
abbrev main_call11_call0_v173 : Ref sig .tc := ⟨.hbm, 3090, rfl⟩
abbrev main_call11_call0_c_44 : Ref sig .tc := ⟨.hbm, 3091, rfl⟩
abbrev main_call11_call0_v174 : Ref sig .tc := ⟨.hbm, 3092, rfl⟩
abbrev main_call11_v15_1 : Ref sig .tc := ⟨.hbm, 3093, rfl⟩
abbrev main_call11_v16 : Ref sig .tc := ⟨.hbm, 3094, rfl⟩
abbrev main_call11_c_1 : Ref sig .tc := ⟨.hbm, 3095, rfl⟩
abbrev main_call11_v17 : Ref sig .tc := ⟨.hbm, 3096, rfl⟩
abbrev main_call11_v18 : Ref sig .tc := ⟨.hbm, 3097, rfl⟩
abbrev main_call11_c_2 : Ref sig .tc := ⟨.hbm, 3098, rfl⟩
abbrev main_call11_v19 : Ref sig .tc := ⟨.hbm, 3099, rfl⟩
abbrev main_call11_v20 : Ref sig .tc := ⟨.hbm, 3100, rfl⟩
abbrev main_call11_v21 : Ref sig .tc := ⟨.hbm, 3101, rfl⟩
abbrev main_call11_cst : Ref sig .tc := ⟨.hbm, 3102, rfl⟩
abbrev main_call11_v22 : Ref sig .tc := ⟨.hbm, 3103, rfl⟩
abbrev main_call11_v23 : Ref sig .tc := ⟨.hbm, 3104, rfl⟩
abbrev main_call11_v24 : Ref sig .tc := ⟨.hbm, 3105, rfl⟩
abbrev main_call11_v25 : Ref sig .tc := ⟨.hbm, 3106, rfl⟩
abbrev main_call11_v26 : Ref sig .tc := ⟨.hbm, 3107, rfl⟩
abbrev main_call11_v27 : Ref sig .tc := ⟨.hbm, 3108, rfl⟩
abbrev main_call11_v28 : Ref sig .tc := ⟨.hbm, 3109, rfl⟩
abbrev main_call11_v29 : Ref sig .tc := ⟨.hbm, 3110, rfl⟩
abbrev main_v42 : Ref sig .tc := ⟨.hbm, 3111, rfl⟩
abbrev main_call12_v0 : Ref sig .tc := ⟨.hbm, 3112, rfl⟩
abbrev main_call12_v1 : Ref sig .tc := ⟨.hbm, 3113, rfl⟩
abbrev main_call12_v2 : Ref sig .tc := ⟨.hbm, 3114, rfl⟩
abbrev main_call12_v3 : Ref sig .tc := ⟨.hbm, 3115, rfl⟩
abbrev main_call12_v4 : Ref sig .tc := ⟨.hbm, 3116, rfl⟩
abbrev main_call12_c : Ref sig .tc := ⟨.hbm, 3117, rfl⟩
abbrev main_call12_v5 : Ref sig .tc := ⟨.hbm, 3118, rfl⟩
abbrev main_call12_v6 : Ref sig .tc := ⟨.hbm, 3119, rfl⟩
abbrev main_call12_c_0 : Ref sig .tc := ⟨.hbm, 3120, rfl⟩
abbrev main_call12_v7 : Ref sig .tc := ⟨.hbm, 3121, rfl⟩
abbrev main_call12_v8 : Ref sig .tc := ⟨.hbm, 3122, rfl⟩
abbrev main_call12_v9 : Ref sig .tc := ⟨.hbm, 3123, rfl⟩
abbrev main_call12_v10 : Ref sig .tc := ⟨.hbm, 3124, rfl⟩
abbrev main_call12_call0_v0 : Ref sig .tc := ⟨.hbm, 3125, rfl⟩
abbrev main_call12_call0_c : Ref sig .tc := ⟨.hbm, 3126, rfl⟩
abbrev main_call12_call0_v1 : Ref sig .tc := ⟨.hbm, 3127, rfl⟩
abbrev main_call12_call0_v2 : Ref sig .tc := ⟨.hbm, 3128, rfl⟩
abbrev main_call12_call0_v3 : Ref sig .tc := ⟨.hbm, 3129, rfl⟩
abbrev main_call12_call0_v4 : Ref sig .tc := ⟨.hbm, 3130, rfl⟩
abbrev main_call12_call0_v5 : Ref sig .tc := ⟨.hbm, 3131, rfl⟩
abbrev main_call12_call0_v6 : Ref sig .tc := ⟨.hbm, 3132, rfl⟩
abbrev main_call12_call0_c_0 : Ref sig .tc := ⟨.hbm, 3133, rfl⟩
abbrev main_call12_call0_v7 : Ref sig .tc := ⟨.hbm, 3134, rfl⟩
abbrev main_call12_call0_v8 : Ref sig .tc := ⟨.hbm, 3135, rfl⟩
abbrev main_call12_call0_c_1 : Ref sig .tc := ⟨.hbm, 3136, rfl⟩
abbrev main_call12_call0_v9 : Ref sig .tc := ⟨.hbm, 3137, rfl⟩
abbrev main_call12_call0_v10 : Ref sig .tc := ⟨.hbm, 3138, rfl⟩
abbrev main_call12_call0_v11 : Ref sig .tc := ⟨.hbm, 3139, rfl⟩
abbrev main_call12_call0_v12 : Ref sig .tc := ⟨.hbm, 3140, rfl⟩
abbrev main_call12_call0_v13 : Ref sig .tc := ⟨.hbm, 3141, rfl⟩
abbrev main_call12_call0_c_2 : Ref sig .tc := ⟨.hbm, 3142, rfl⟩
abbrev main_call12_call0_v14 : Ref sig .tc := ⟨.hbm, 3143, rfl⟩
abbrev main_call12_call0_v15 : Ref sig .tc := ⟨.hbm, 3144, rfl⟩
abbrev main_call12_call0_c_3 : Ref sig .tc := ⟨.hbm, 3145, rfl⟩
abbrev main_call12_call0_v16 : Ref sig .tc := ⟨.hbm, 3146, rfl⟩
abbrev main_call12_call0_v17 : Ref sig .tc := ⟨.hbm, 3147, rfl⟩
abbrev main_call12_call0_v18 : Ref sig .tc := ⟨.hbm, 3148, rfl⟩
abbrev main_call12_call0_v19 : Ref sig .tc := ⟨.hbm, 3149, rfl⟩
abbrev main_call12_call0_v20 : Ref sig .tc := ⟨.hbm, 3150, rfl⟩
abbrev main_call12_call0_c_4 : Ref sig .tc := ⟨.hbm, 3151, rfl⟩
abbrev main_call12_call0_v21 : Ref sig .tc := ⟨.hbm, 3152, rfl⟩
abbrev main_call12_call0_v22 : Ref sig .tc := ⟨.hbm, 3153, rfl⟩
abbrev main_call12_call0_c_5 : Ref sig .tc := ⟨.hbm, 3154, rfl⟩
abbrev main_call12_call0_v23 : Ref sig .tc := ⟨.hbm, 3155, rfl⟩
abbrev main_call12_call0_v24 : Ref sig .tc := ⟨.hbm, 3156, rfl⟩
abbrev main_call12_call0_v25 : Ref sig .tc := ⟨.hbm, 3157, rfl⟩
abbrev main_call12_call0_v26 : Ref sig .tc := ⟨.hbm, 3158, rfl⟩
abbrev main_call12_call0_v27 : Ref sig .tc := ⟨.hbm, 3159, rfl⟩
abbrev main_call12_call0_c_6 : Ref sig .tc := ⟨.hbm, 3160, rfl⟩
abbrev main_call12_call0_v28 : Ref sig .tc := ⟨.hbm, 3161, rfl⟩
abbrev main_call12_call0_v29 : Ref sig .tc := ⟨.hbm, 3162, rfl⟩
abbrev main_call12_call0_c_7 : Ref sig .tc := ⟨.hbm, 3163, rfl⟩
abbrev main_call12_call0_v30 : Ref sig .tc := ⟨.hbm, 3164, rfl⟩
abbrev main_call12_call0_v31 : Ref sig .tc := ⟨.hbm, 3165, rfl⟩
abbrev main_call12_call0_v32 : Ref sig .tc := ⟨.hbm, 3166, rfl⟩
abbrev main_call12_call0_v33 : Ref sig .tc := ⟨.hbm, 3167, rfl⟩
abbrev main_call12_call0_v34 : Ref sig .tc := ⟨.hbm, 3168, rfl⟩
abbrev main_call12_call0_v35 : Ref sig .tc := ⟨.hbm, 3169, rfl⟩
abbrev main_call12_call0_v36 : Ref sig .tc := ⟨.hbm, 3170, rfl⟩
abbrev main_call12_call0_v37 : Ref sig .tc := ⟨.hbm, 3171, rfl⟩
abbrev main_call12_call0_c_8 : Ref sig .tc := ⟨.hbm, 3172, rfl⟩
abbrev main_call12_call0_v38 : Ref sig .tc := ⟨.hbm, 3173, rfl⟩
abbrev main_call12_call0_v39 : Ref sig .tc := ⟨.hbm, 3174, rfl⟩
abbrev main_call12_call0_v40 : Ref sig .tc := ⟨.hbm, 3175, rfl⟩
abbrev main_call12_call0_c_9 : Ref sig .tc := ⟨.hbm, 3176, rfl⟩
abbrev main_call12_call0_v41 : Ref sig .tc := ⟨.hbm, 3177, rfl⟩
abbrev main_call12_call0_v42 : Ref sig .tc := ⟨.hbm, 3178, rfl⟩
abbrev main_call12_call0_c_10 : Ref sig .tc := ⟨.hbm, 3179, rfl⟩
abbrev main_call12_call0_v43 : Ref sig .tc := ⟨.hbm, 3180, rfl⟩
abbrev main_call12_call0_v44 : Ref sig .tc := ⟨.hbm, 3181, rfl⟩
abbrev main_call12_call0_v45 : Ref sig .tc := ⟨.hbm, 3182, rfl⟩
abbrev main_call12_call0_v46 : Ref sig .tc := ⟨.hbm, 3183, rfl⟩
abbrev main_call12_call0_v47 : Ref sig .tc := ⟨.hbm, 3184, rfl⟩
abbrev main_call12_call0_c_11 : Ref sig .tc := ⟨.hbm, 3185, rfl⟩
abbrev main_call12_call0_v48 : Ref sig .tc := ⟨.hbm, 3186, rfl⟩
abbrev main_call12_call0_v49 : Ref sig .tc := ⟨.hbm, 3187, rfl⟩
abbrev main_call12_call0_c_12 : Ref sig .tc := ⟨.hbm, 3188, rfl⟩
abbrev main_call12_call0_v50 : Ref sig .tc := ⟨.hbm, 3189, rfl⟩
abbrev main_call12_call0_v51 : Ref sig .tc := ⟨.hbm, 3190, rfl⟩
abbrev main_call12_call0_v52 : Ref sig .tc := ⟨.hbm, 3191, rfl⟩
abbrev main_call12_call0_v53 : Ref sig .tc := ⟨.hbm, 3192, rfl⟩
abbrev main_call12_call0_v54 : Ref sig .tc := ⟨.hbm, 3193, rfl⟩
abbrev main_call12_call0_c_13 : Ref sig .tc := ⟨.hbm, 3194, rfl⟩
abbrev main_call12_call0_v55 : Ref sig .tc := ⟨.hbm, 3195, rfl⟩
abbrev main_call12_call0_v56 : Ref sig .tc := ⟨.hbm, 3196, rfl⟩
abbrev main_call12_call0_c_14 : Ref sig .tc := ⟨.hbm, 3197, rfl⟩
abbrev main_call12_call0_v57 : Ref sig .tc := ⟨.hbm, 3198, rfl⟩
abbrev main_call12_call0_v58 : Ref sig .tc := ⟨.hbm, 3199, rfl⟩
abbrev main_call12_call0_v59 : Ref sig .tc := ⟨.hbm, 3200, rfl⟩
abbrev main_call12_call0_v60 : Ref sig .tc := ⟨.hbm, 3201, rfl⟩
abbrev main_call12_call0_v61 : Ref sig .tc := ⟨.hbm, 3202, rfl⟩
abbrev main_call12_call0_c_15 : Ref sig .tc := ⟨.hbm, 3203, rfl⟩
abbrev main_call12_call0_v62 : Ref sig .tc := ⟨.hbm, 3204, rfl⟩
abbrev main_call12_call0_v63 : Ref sig .tc := ⟨.hbm, 3205, rfl⟩
abbrev main_call12_call0_c_16 : Ref sig .tc := ⟨.hbm, 3206, rfl⟩
abbrev main_call12_call0_v64 : Ref sig .tc := ⟨.hbm, 3207, rfl⟩
abbrev main_call12_call0_v65 : Ref sig .tc := ⟨.hbm, 3208, rfl⟩
abbrev main_call12_call0_v66 : Ref sig .tc := ⟨.hbm, 3209, rfl⟩
abbrev main_call12_call0_v67 : Ref sig .tc := ⟨.hbm, 3210, rfl⟩
abbrev main_call12_call0_v68 : Ref sig .tc := ⟨.hbm, 3211, rfl⟩
abbrev main_call12_call0_v69 : Ref sig .tc := ⟨.hbm, 3212, rfl⟩
abbrev main_call12_call0_v70 : Ref sig .tc := ⟨.hbm, 3213, rfl⟩
abbrev main_call12_call0_v71 : Ref sig .tc := ⟨.hbm, 3214, rfl⟩
abbrev main_call12_call0_c_17 : Ref sig .tc := ⟨.hbm, 3215, rfl⟩
abbrev main_call12_call0_v72 : Ref sig .tc := ⟨.hbm, 3216, rfl⟩
abbrev main_call12_call0_v73 : Ref sig .tc := ⟨.hbm, 3217, rfl⟩
abbrev main_call12_call0_v74 : Ref sig .tc := ⟨.hbm, 3218, rfl⟩
abbrev main_call12_call0_c_18 : Ref sig .tc := ⟨.hbm, 3219, rfl⟩
abbrev main_call12_call0_v75 : Ref sig .tc := ⟨.hbm, 3220, rfl⟩
abbrev main_call12_call0_v76 : Ref sig .tc := ⟨.hbm, 3221, rfl⟩
abbrev main_call12_call0_c_19 : Ref sig .tc := ⟨.hbm, 3222, rfl⟩
abbrev main_call12_call0_v77 : Ref sig .tc := ⟨.hbm, 3223, rfl⟩
abbrev main_call12_call0_v78 : Ref sig .tc := ⟨.hbm, 3224, rfl⟩
abbrev main_call12_call0_v79 : Ref sig .tc := ⟨.hbm, 3225, rfl⟩
abbrev main_call12_call0_v80 : Ref sig .tc := ⟨.hbm, 3226, rfl⟩
abbrev main_call12_call0_v81 : Ref sig .tc := ⟨.hbm, 3227, rfl⟩
abbrev main_call12_call0_c_20 : Ref sig .tc := ⟨.hbm, 3228, rfl⟩
abbrev main_call12_call0_v82 : Ref sig .tc := ⟨.hbm, 3229, rfl⟩
abbrev main_call12_call0_v83 : Ref sig .tc := ⟨.hbm, 3230, rfl⟩
abbrev main_call12_call0_c_21 : Ref sig .tc := ⟨.hbm, 3231, rfl⟩
abbrev main_call12_call0_v84 : Ref sig .tc := ⟨.hbm, 3232, rfl⟩
abbrev main_call12_call0_v85 : Ref sig .tc := ⟨.hbm, 3233, rfl⟩
abbrev main_call12_call0_v86 : Ref sig .tc := ⟨.hbm, 3234, rfl⟩
abbrev main_call12_call0_v87 : Ref sig .tc := ⟨.hbm, 3235, rfl⟩
abbrev main_call12_call0_v88 : Ref sig .tc := ⟨.hbm, 3236, rfl⟩
abbrev main_call12_call0_c_22 : Ref sig .tc := ⟨.hbm, 3237, rfl⟩
abbrev main_call12_call0_v89 : Ref sig .tc := ⟨.hbm, 3238, rfl⟩
abbrev main_call12_call0_v90 : Ref sig .tc := ⟨.hbm, 3239, rfl⟩
abbrev main_call12_call0_c_23 : Ref sig .tc := ⟨.hbm, 3240, rfl⟩
abbrev main_call12_call0_v91 : Ref sig .tc := ⟨.hbm, 3241, rfl⟩
abbrev main_call12_call0_v92 : Ref sig .tc := ⟨.hbm, 3242, rfl⟩
abbrev main_call12_call0_v93 : Ref sig .tc := ⟨.hbm, 3243, rfl⟩
abbrev main_call12_call0_v94 : Ref sig .tc := ⟨.hbm, 3244, rfl⟩
abbrev main_call12_call0_v95 : Ref sig .tc := ⟨.hbm, 3245, rfl⟩
abbrev main_call12_call0_c_24 : Ref sig .tc := ⟨.hbm, 3246, rfl⟩
abbrev main_call12_call0_v96 : Ref sig .tc := ⟨.hbm, 3247, rfl⟩
abbrev main_call12_call0_v97 : Ref sig .tc := ⟨.hbm, 3248, rfl⟩
abbrev main_call12_call0_c_25 : Ref sig .tc := ⟨.hbm, 3249, rfl⟩
abbrev main_call12_call0_v98 : Ref sig .tc := ⟨.hbm, 3250, rfl⟩
abbrev main_call12_call0_v99 : Ref sig .tc := ⟨.hbm, 3251, rfl⟩
abbrev main_call12_call0_v100 : Ref sig .tc := ⟨.hbm, 3252, rfl⟩
abbrev main_call12_call0_v101 : Ref sig .tc := ⟨.hbm, 3253, rfl⟩
abbrev main_call12_call0_v102 : Ref sig .tc := ⟨.hbm, 3254, rfl⟩
abbrev main_call12_call0_v103 : Ref sig .tc := ⟨.hbm, 3255, rfl⟩
abbrev main_call12_call0_v104 : Ref sig .tc := ⟨.hbm, 3256, rfl⟩
abbrev main_call12_call0_v105 : Ref sig .tc := ⟨.hbm, 3257, rfl⟩
abbrev main_call12_call0_c_26 : Ref sig .tc := ⟨.hbm, 3258, rfl⟩
abbrev main_call12_call0_v106 : Ref sig .tc := ⟨.hbm, 3259, rfl⟩
abbrev main_call12_call0_v107 : Ref sig .tc := ⟨.hbm, 3260, rfl⟩
abbrev main_call12_call0_v108 : Ref sig .tc := ⟨.hbm, 3261, rfl⟩
abbrev main_call12_call0_c_27 : Ref sig .tc := ⟨.hbm, 3262, rfl⟩
abbrev main_call12_call0_v109 : Ref sig .tc := ⟨.hbm, 3263, rfl⟩
abbrev main_call12_call0_v110 : Ref sig .tc := ⟨.hbm, 3264, rfl⟩
abbrev main_call12_call0_c_28 : Ref sig .tc := ⟨.hbm, 3265, rfl⟩
abbrev main_call12_call0_v111 : Ref sig .tc := ⟨.hbm, 3266, rfl⟩
abbrev main_call12_call0_v112 : Ref sig .tc := ⟨.hbm, 3267, rfl⟩
abbrev main_call12_call0_v113 : Ref sig .tc := ⟨.hbm, 3268, rfl⟩
abbrev main_call12_call0_v114 : Ref sig .tc := ⟨.hbm, 3269, rfl⟩
abbrev main_call12_call0_v115 : Ref sig .tc := ⟨.hbm, 3270, rfl⟩
abbrev main_call12_call0_c_29 : Ref sig .tc := ⟨.hbm, 3271, rfl⟩
abbrev main_call12_call0_v116 : Ref sig .tc := ⟨.hbm, 3272, rfl⟩
abbrev main_call12_call0_v117 : Ref sig .tc := ⟨.hbm, 3273, rfl⟩
abbrev main_call12_call0_c_30 : Ref sig .tc := ⟨.hbm, 3274, rfl⟩
abbrev main_call12_call0_v118 : Ref sig .tc := ⟨.hbm, 3275, rfl⟩
abbrev main_call12_call0_v119 : Ref sig .tc := ⟨.hbm, 3276, rfl⟩
abbrev main_call12_call0_v120 : Ref sig .tc := ⟨.hbm, 3277, rfl⟩
abbrev main_call12_call0_v121 : Ref sig .tc := ⟨.hbm, 3278, rfl⟩
abbrev main_call12_call0_v122 : Ref sig .tc := ⟨.hbm, 3279, rfl⟩
abbrev main_call12_call0_c_31 : Ref sig .tc := ⟨.hbm, 3280, rfl⟩
abbrev main_call12_call0_v123 : Ref sig .tc := ⟨.hbm, 3281, rfl⟩
abbrev main_call12_call0_v124 : Ref sig .tc := ⟨.hbm, 3282, rfl⟩
abbrev main_call12_call0_c_32 : Ref sig .tc := ⟨.hbm, 3283, rfl⟩
abbrev main_call12_call0_v125 : Ref sig .tc := ⟨.hbm, 3284, rfl⟩
abbrev main_call12_call0_v126 : Ref sig .tc := ⟨.hbm, 3285, rfl⟩
abbrev main_call12_call0_v127 : Ref sig .tc := ⟨.hbm, 3286, rfl⟩
abbrev main_call12_call0_v128 : Ref sig .tc := ⟨.hbm, 3287, rfl⟩
abbrev main_call12_call0_v129 : Ref sig .tc := ⟨.hbm, 3288, rfl⟩
abbrev main_call12_call0_c_33 : Ref sig .tc := ⟨.hbm, 3289, rfl⟩
abbrev main_call12_call0_v130 : Ref sig .tc := ⟨.hbm, 3290, rfl⟩
abbrev main_call12_call0_v131 : Ref sig .tc := ⟨.hbm, 3291, rfl⟩
abbrev main_call12_call0_c_34 : Ref sig .tc := ⟨.hbm, 3292, rfl⟩
abbrev main_call12_call0_v132 : Ref sig .tc := ⟨.hbm, 3293, rfl⟩
abbrev main_call12_call0_v133 : Ref sig .tc := ⟨.hbm, 3294, rfl⟩
abbrev main_call12_call0_v134 : Ref sig .tc := ⟨.hbm, 3295, rfl⟩
abbrev main_call12_call0_v135 : Ref sig .tc := ⟨.hbm, 3296, rfl⟩
abbrev main_call12_call0_v136 : Ref sig .tc := ⟨.hbm, 3297, rfl⟩
abbrev main_call12_call0_v137 : Ref sig .tc := ⟨.hbm, 3298, rfl⟩
abbrev main_call12_call0_v138 : Ref sig .tc := ⟨.hbm, 3299, rfl⟩
abbrev main_call12_call0_v139 : Ref sig .tc := ⟨.hbm, 3300, rfl⟩
abbrev main_call12_call0_c_35 : Ref sig .tc := ⟨.hbm, 3301, rfl⟩
abbrev main_call12_call0_v140 : Ref sig .tc := ⟨.hbm, 3302, rfl⟩
abbrev main_call12_call0_v141 : Ref sig .tc := ⟨.hbm, 3303, rfl⟩
abbrev main_call12_call0_v142 : Ref sig .tc := ⟨.hbm, 3304, rfl⟩
abbrev main_call12_call0_c_36 : Ref sig .tc := ⟨.hbm, 3305, rfl⟩
abbrev main_call12_call0_v143 : Ref sig .tc := ⟨.hbm, 3306, rfl⟩
abbrev main_call12_call0_v144 : Ref sig .tc := ⟨.hbm, 3307, rfl⟩
abbrev main_call12_call0_c_37 : Ref sig .tc := ⟨.hbm, 3308, rfl⟩
abbrev main_call12_call0_v145 : Ref sig .tc := ⟨.hbm, 3309, rfl⟩
abbrev main_call12_call0_v146 : Ref sig .tc := ⟨.hbm, 3310, rfl⟩
abbrev main_call12_call0_v147 : Ref sig .tc := ⟨.hbm, 3311, rfl⟩
abbrev main_call12_call0_v148 : Ref sig .tc := ⟨.hbm, 3312, rfl⟩
abbrev main_call12_call0_v149 : Ref sig .tc := ⟨.hbm, 3313, rfl⟩
abbrev main_call12_call0_c_38 : Ref sig .tc := ⟨.hbm, 3314, rfl⟩
abbrev main_call12_call0_v150 : Ref sig .tc := ⟨.hbm, 3315, rfl⟩
abbrev main_call12_call0_v151 : Ref sig .tc := ⟨.hbm, 3316, rfl⟩
abbrev main_call12_call0_c_39 : Ref sig .tc := ⟨.hbm, 3317, rfl⟩
abbrev main_call12_call0_v152 : Ref sig .tc := ⟨.hbm, 3318, rfl⟩
abbrev main_call12_call0_v153 : Ref sig .tc := ⟨.hbm, 3319, rfl⟩
abbrev main_call12_call0_v154 : Ref sig .tc := ⟨.hbm, 3320, rfl⟩
abbrev main_call12_call0_v155 : Ref sig .tc := ⟨.hbm, 3321, rfl⟩
abbrev main_call12_call0_v156 : Ref sig .tc := ⟨.hbm, 3322, rfl⟩
abbrev main_call12_call0_c_40 : Ref sig .tc := ⟨.hbm, 3323, rfl⟩
abbrev main_call12_call0_v157 : Ref sig .tc := ⟨.hbm, 3324, rfl⟩
abbrev main_call12_call0_v158 : Ref sig .tc := ⟨.hbm, 3325, rfl⟩
abbrev main_call12_call0_c_41 : Ref sig .tc := ⟨.hbm, 3326, rfl⟩
abbrev main_call12_call0_v159 : Ref sig .tc := ⟨.hbm, 3327, rfl⟩
abbrev main_call12_call0_v160 : Ref sig .tc := ⟨.hbm, 3328, rfl⟩
abbrev main_call12_call0_v161 : Ref sig .tc := ⟨.hbm, 3329, rfl⟩
abbrev main_call12_call0_v162 : Ref sig .tc := ⟨.hbm, 3330, rfl⟩
abbrev main_call12_call0_v163 : Ref sig .tc := ⟨.hbm, 3331, rfl⟩
abbrev main_call12_call0_c_42 : Ref sig .tc := ⟨.hbm, 3332, rfl⟩
abbrev main_call12_call0_v164 : Ref sig .tc := ⟨.hbm, 3333, rfl⟩
abbrev main_call12_call0_v165 : Ref sig .tc := ⟨.hbm, 3334, rfl⟩
abbrev main_call12_call0_c_43 : Ref sig .tc := ⟨.hbm, 3335, rfl⟩
abbrev main_call12_call0_v166 : Ref sig .tc := ⟨.hbm, 3336, rfl⟩
abbrev main_call12_call0_v167 : Ref sig .tc := ⟨.hbm, 3337, rfl⟩
abbrev main_call12_call0_v168 : Ref sig .tc := ⟨.hbm, 3338, rfl⟩
abbrev main_call12_call0_v169 : Ref sig .tc := ⟨.hbm, 3339, rfl⟩
abbrev main_call12_call0_v170 : Ref sig .tc := ⟨.hbm, 3340, rfl⟩
abbrev main_call12_v11_0 : Ref sig .tc := ⟨.hbm, 3341, rfl⟩
abbrev main_call12_call0_v172 : Ref sig .tc := ⟨.hbm, 3342, rfl⟩
abbrev main_call12_call0_v173 : Ref sig .tc := ⟨.hbm, 3343, rfl⟩
abbrev main_call12_call0_c_44 : Ref sig .tc := ⟨.hbm, 3344, rfl⟩
abbrev main_call12_call0_v174 : Ref sig .tc := ⟨.hbm, 3345, rfl⟩
abbrev main_call12_v11_1 : Ref sig .tc := ⟨.hbm, 3346, rfl⟩
abbrev main_call12_v12 : Ref sig .tc := ⟨.hbm, 3347, rfl⟩
abbrev main_call12_v13 : Ref sig .tc := ⟨.hbm, 3348, rfl⟩
abbrev main_v43 : Ref sig .tc := ⟨.hbm, 3349, rfl⟩
abbrev main_v44 : Ref sig .tc := ⟨.hbm, 3350, rfl⟩
abbrev main_v45 : Ref sig .tc := ⟨.hbm, 3351, rfl⟩
abbrev main_v46 : Ref sig .tc := ⟨.hbm, 3352, rfl⟩
abbrev main_v47 : Ref sig .tc := ⟨.hbm, 3353, rfl⟩
abbrev main_v48 : Ref sig .tc := ⟨.hbm, 3354, rfl⟩
abbrev main_v49 : Ref sig .tc := ⟨.hbm, 3355, rfl⟩
abbrev main_call13_cst : Ref sig .tc := ⟨.hbm, 3356, rfl⟩
abbrev main_call13_cst_0 : Ref sig .tc := ⟨.hbm, 3357, rfl⟩
abbrev main_call13_call0_v0 : Ref sig .tc := ⟨.hbm, 3358, rfl⟩
abbrev main_call13_call0_v1 : Ref sig .tc := ⟨.hbm, 3359, rfl⟩
abbrev main_call13_call0_v2 : Ref sig .tc := ⟨.hbm, 3360, rfl⟩
abbrev main_call13_call0_v3 : Ref sig .tc := ⟨.hbm, 3361, rfl⟩
abbrev main_call13_call0_v4 : Ref sig .tc := ⟨.hbm, 3362, rfl⟩
abbrev main_call13_call0_v5 : Ref sig .tc := ⟨.hbm, 3363, rfl⟩
abbrev main_call13_call0_v6 : Ref sig .tc := ⟨.hbm, 3364, rfl⟩
abbrev main_call13_call0_v7 : Ref sig .tc := ⟨.hbm, 3365, rfl⟩
abbrev main_call13_call0_v8 : Ref sig .tc := ⟨.hbm, 3366, rfl⟩
abbrev main_call13_call0_v9 : Ref sig .tc := ⟨.hbm, 3367, rfl⟩
abbrev main_call13_call0_c : Ref sig .tc := ⟨.hbm, 3368, rfl⟩
abbrev main_call13_call0_v10 : Ref sig .tc := ⟨.hbm, 3369, rfl⟩
abbrev main_call13_call0_v11 : Ref sig .tc := ⟨.hbm, 3370, rfl⟩
abbrev main_call13_call0_c_0 : Ref sig .tc := ⟨.hbm, 3371, rfl⟩
abbrev main_call13_call0_v12 : Ref sig .tc := ⟨.hbm, 3372, rfl⟩
abbrev main_call13_call0_v13 : Ref sig .tc := ⟨.hbm, 3373, rfl⟩
abbrev main_call13_call0_c_1 : Ref sig .tc := ⟨.hbm, 3374, rfl⟩
abbrev main_call13_call0_v14 : Ref sig .tc := ⟨.hbm, 3375, rfl⟩
abbrev main_call13_call0_v15 : Ref sig .tc := ⟨.hbm, 3376, rfl⟩
abbrev main_call13_call0_v16 : Ref sig .tc := ⟨.hbm, 3377, rfl⟩
abbrev main_call13_call0_v17 : Ref sig .tc := ⟨.hbm, 3378, rfl⟩
abbrev main_call13_call0_c_2 : Ref sig .tc := ⟨.hbm, 3379, rfl⟩
abbrev main_call13_call0_v18 : Ref sig .tc := ⟨.hbm, 3380, rfl⟩
abbrev main_call13_call0_v19 : Ref sig .tc := ⟨.hbm, 3381, rfl⟩
abbrev main_call13_call0_v20 : Ref sig .tc := ⟨.hbm, 3382, rfl⟩
abbrev main_call13_call0_v21 : Ref sig .tc := ⟨.hbm, 3383, rfl⟩
abbrev main_call13_call0_call0_v0 : Ref sig .tc := ⟨.hbm, 3384, rfl⟩
abbrev main_call13_call0_call0_c : Ref sig .tc := ⟨.hbm, 3385, rfl⟩
abbrev main_call13_call0_call0_v1 : Ref sig .tc := ⟨.hbm, 3386, rfl⟩
abbrev main_call13_call0_call0_v2 : Ref sig .tc := ⟨.hbm, 3387, rfl⟩
abbrev main_call13_call0_call0_v3 : Ref sig .tc := ⟨.hbm, 3388, rfl⟩
abbrev main_call13_call0_call0_v4 : Ref sig .tc := ⟨.hbm, 3389, rfl⟩
abbrev main_call13_call0_call0_v5 : Ref sig .tc := ⟨.hbm, 3390, rfl⟩
abbrev main_call13_call0_call0_v6 : Ref sig .tc := ⟨.hbm, 3391, rfl⟩
abbrev main_call13_call0_call0_c_0 : Ref sig .tc := ⟨.hbm, 3392, rfl⟩
abbrev main_call13_call0_call0_v7 : Ref sig .tc := ⟨.hbm, 3393, rfl⟩
abbrev main_call13_call0_call0_v8 : Ref sig .tc := ⟨.hbm, 3394, rfl⟩
abbrev main_call13_call0_call0_c_1 : Ref sig .tc := ⟨.hbm, 3395, rfl⟩
abbrev main_call13_call0_call0_v9 : Ref sig .tc := ⟨.hbm, 3396, rfl⟩
abbrev main_call13_call0_call0_v10 : Ref sig .tc := ⟨.hbm, 3397, rfl⟩
abbrev main_call13_call0_call0_v11 : Ref sig .tc := ⟨.hbm, 3398, rfl⟩
abbrev main_call13_call0_call0_v12 : Ref sig .tc := ⟨.hbm, 3399, rfl⟩
abbrev main_call13_call0_call0_v13 : Ref sig .tc := ⟨.hbm, 3400, rfl⟩
abbrev main_call13_call0_call0_c_2 : Ref sig .tc := ⟨.hbm, 3401, rfl⟩
abbrev main_call13_call0_call0_v14 : Ref sig .tc := ⟨.hbm, 3402, rfl⟩
abbrev main_call13_call0_call0_v15 : Ref sig .tc := ⟨.hbm, 3403, rfl⟩
abbrev main_call13_call0_call0_c_3 : Ref sig .tc := ⟨.hbm, 3404, rfl⟩
abbrev main_call13_call0_call0_v16 : Ref sig .tc := ⟨.hbm, 3405, rfl⟩
abbrev main_call13_call0_call0_v17 : Ref sig .tc := ⟨.hbm, 3406, rfl⟩
abbrev main_call13_call0_call0_v18 : Ref sig .tc := ⟨.hbm, 3407, rfl⟩
abbrev main_call13_call0_call0_v19 : Ref sig .tc := ⟨.hbm, 3408, rfl⟩
abbrev main_call13_call0_call0_v20 : Ref sig .tc := ⟨.hbm, 3409, rfl⟩
abbrev main_call13_call0_call0_c_4 : Ref sig .tc := ⟨.hbm, 3410, rfl⟩
abbrev main_call13_call0_call0_v21 : Ref sig .tc := ⟨.hbm, 3411, rfl⟩
abbrev main_call13_call0_call0_v22 : Ref sig .tc := ⟨.hbm, 3412, rfl⟩
abbrev main_call13_call0_call0_c_5 : Ref sig .tc := ⟨.hbm, 3413, rfl⟩
abbrev main_call13_call0_call0_v23 : Ref sig .tc := ⟨.hbm, 3414, rfl⟩
abbrev main_call13_call0_call0_v24 : Ref sig .tc := ⟨.hbm, 3415, rfl⟩
abbrev main_call13_call0_call0_v25 : Ref sig .tc := ⟨.hbm, 3416, rfl⟩
abbrev main_call13_call0_call0_v26 : Ref sig .tc := ⟨.hbm, 3417, rfl⟩
abbrev main_call13_call0_call0_v27 : Ref sig .tc := ⟨.hbm, 3418, rfl⟩
abbrev main_call13_call0_call0_c_6 : Ref sig .tc := ⟨.hbm, 3419, rfl⟩
abbrev main_call13_call0_call0_v28 : Ref sig .tc := ⟨.hbm, 3420, rfl⟩
abbrev main_call13_call0_call0_v29 : Ref sig .tc := ⟨.hbm, 3421, rfl⟩
abbrev main_call13_call0_call0_c_7 : Ref sig .tc := ⟨.hbm, 3422, rfl⟩
abbrev main_call13_call0_call0_v30 : Ref sig .tc := ⟨.hbm, 3423, rfl⟩
abbrev main_call13_call0_call0_v31 : Ref sig .tc := ⟨.hbm, 3424, rfl⟩
abbrev main_call13_call0_call0_v32 : Ref sig .tc := ⟨.hbm, 3425, rfl⟩
abbrev main_call13_call0_call0_v33 : Ref sig .tc := ⟨.hbm, 3426, rfl⟩
abbrev main_call13_call0_call0_v34 : Ref sig .tc := ⟨.hbm, 3427, rfl⟩
abbrev main_call13_call0_call0_v35 : Ref sig .tc := ⟨.hbm, 3428, rfl⟩
abbrev main_call13_call0_call0_v36 : Ref sig .tc := ⟨.hbm, 3429, rfl⟩
abbrev main_call13_call0_call0_v37 : Ref sig .tc := ⟨.hbm, 3430, rfl⟩
abbrev main_call13_call0_call0_c_8 : Ref sig .tc := ⟨.hbm, 3431, rfl⟩
abbrev main_call13_call0_call0_v38 : Ref sig .tc := ⟨.hbm, 3432, rfl⟩
abbrev main_call13_call0_call0_v39 : Ref sig .tc := ⟨.hbm, 3433, rfl⟩
abbrev main_call13_call0_call0_v40 : Ref sig .tc := ⟨.hbm, 3434, rfl⟩
abbrev main_call13_call0_call0_c_9 : Ref sig .tc := ⟨.hbm, 3435, rfl⟩
abbrev main_call13_call0_call0_v41 : Ref sig .tc := ⟨.hbm, 3436, rfl⟩
abbrev main_call13_call0_call0_v42 : Ref sig .tc := ⟨.hbm, 3437, rfl⟩
abbrev main_call13_call0_call0_c_10 : Ref sig .tc := ⟨.hbm, 3438, rfl⟩
abbrev main_call13_call0_call0_v43 : Ref sig .tc := ⟨.hbm, 3439, rfl⟩
abbrev main_call13_call0_call0_v44 : Ref sig .tc := ⟨.hbm, 3440, rfl⟩
abbrev main_call13_call0_call0_v45 : Ref sig .tc := ⟨.hbm, 3441, rfl⟩
abbrev main_call13_call0_call0_v46 : Ref sig .tc := ⟨.hbm, 3442, rfl⟩
abbrev main_call13_call0_call0_v47 : Ref sig .tc := ⟨.hbm, 3443, rfl⟩
abbrev main_call13_call0_call0_c_11 : Ref sig .tc := ⟨.hbm, 3444, rfl⟩
abbrev main_call13_call0_call0_v48 : Ref sig .tc := ⟨.hbm, 3445, rfl⟩
abbrev main_call13_call0_call0_v49 : Ref sig .tc := ⟨.hbm, 3446, rfl⟩
abbrev main_call13_call0_call0_c_12 : Ref sig .tc := ⟨.hbm, 3447, rfl⟩
abbrev main_call13_call0_call0_v50 : Ref sig .tc := ⟨.hbm, 3448, rfl⟩
abbrev main_call13_call0_call0_v51 : Ref sig .tc := ⟨.hbm, 3449, rfl⟩
abbrev main_call13_call0_call0_v52 : Ref sig .tc := ⟨.hbm, 3450, rfl⟩
abbrev main_call13_call0_call0_v53 : Ref sig .tc := ⟨.hbm, 3451, rfl⟩
abbrev main_call13_call0_call0_v54 : Ref sig .tc := ⟨.hbm, 3452, rfl⟩
abbrev main_call13_call0_call0_c_13 : Ref sig .tc := ⟨.hbm, 3453, rfl⟩
abbrev main_call13_call0_call0_v55 : Ref sig .tc := ⟨.hbm, 3454, rfl⟩
abbrev main_call13_call0_call0_v56 : Ref sig .tc := ⟨.hbm, 3455, rfl⟩
abbrev main_call13_call0_call0_c_14 : Ref sig .tc := ⟨.hbm, 3456, rfl⟩
abbrev main_call13_call0_call0_v57 : Ref sig .tc := ⟨.hbm, 3457, rfl⟩
abbrev main_call13_call0_call0_v58 : Ref sig .tc := ⟨.hbm, 3458, rfl⟩
abbrev main_call13_call0_call0_v59 : Ref sig .tc := ⟨.hbm, 3459, rfl⟩
abbrev main_call13_call0_call0_v60 : Ref sig .tc := ⟨.hbm, 3460, rfl⟩
abbrev main_call13_call0_call0_v61 : Ref sig .tc := ⟨.hbm, 3461, rfl⟩
abbrev main_call13_call0_call0_c_15 : Ref sig .tc := ⟨.hbm, 3462, rfl⟩
abbrev main_call13_call0_call0_v62 : Ref sig .tc := ⟨.hbm, 3463, rfl⟩
abbrev main_call13_call0_call0_v63 : Ref sig .tc := ⟨.hbm, 3464, rfl⟩
abbrev main_call13_call0_call0_c_16 : Ref sig .tc := ⟨.hbm, 3465, rfl⟩
abbrev main_call13_call0_call0_v64 : Ref sig .tc := ⟨.hbm, 3466, rfl⟩
abbrev main_call13_call0_call0_v65 : Ref sig .tc := ⟨.hbm, 3467, rfl⟩
abbrev main_call13_call0_call0_v66 : Ref sig .tc := ⟨.hbm, 3468, rfl⟩
abbrev main_call13_call0_call0_v67 : Ref sig .tc := ⟨.hbm, 3469, rfl⟩
abbrev main_call13_call0_call0_v68 : Ref sig .tc := ⟨.hbm, 3470, rfl⟩
abbrev main_call13_call0_call0_v69 : Ref sig .tc := ⟨.hbm, 3471, rfl⟩
abbrev main_call13_call0_call0_v70 : Ref sig .tc := ⟨.hbm, 3472, rfl⟩
abbrev main_call13_call0_call0_v71 : Ref sig .tc := ⟨.hbm, 3473, rfl⟩
abbrev main_call13_call0_call0_c_17 : Ref sig .tc := ⟨.hbm, 3474, rfl⟩
abbrev main_call13_call0_call0_v72 : Ref sig .tc := ⟨.hbm, 3475, rfl⟩
abbrev main_call13_call0_call0_v73 : Ref sig .tc := ⟨.hbm, 3476, rfl⟩
abbrev main_call13_call0_call0_v74 : Ref sig .tc := ⟨.hbm, 3477, rfl⟩
abbrev main_call13_call0_call0_c_18 : Ref sig .tc := ⟨.hbm, 3478, rfl⟩
abbrev main_call13_call0_call0_v75 : Ref sig .tc := ⟨.hbm, 3479, rfl⟩
abbrev main_call13_call0_call0_v76 : Ref sig .tc := ⟨.hbm, 3480, rfl⟩
abbrev main_call13_call0_call0_c_19 : Ref sig .tc := ⟨.hbm, 3481, rfl⟩
abbrev main_call13_call0_call0_v77 : Ref sig .tc := ⟨.hbm, 3482, rfl⟩
abbrev main_call13_call0_call0_v78 : Ref sig .tc := ⟨.hbm, 3483, rfl⟩
abbrev main_call13_call0_call0_v79 : Ref sig .tc := ⟨.hbm, 3484, rfl⟩
abbrev main_call13_call0_call0_v80 : Ref sig .tc := ⟨.hbm, 3485, rfl⟩
abbrev main_call13_call0_call0_v81 : Ref sig .tc := ⟨.hbm, 3486, rfl⟩
abbrev main_call13_call0_call0_c_20 : Ref sig .tc := ⟨.hbm, 3487, rfl⟩
abbrev main_call13_call0_call0_v82 : Ref sig .tc := ⟨.hbm, 3488, rfl⟩
abbrev main_call13_call0_call0_v83 : Ref sig .tc := ⟨.hbm, 3489, rfl⟩
abbrev main_call13_call0_call0_c_21 : Ref sig .tc := ⟨.hbm, 3490, rfl⟩
abbrev main_call13_call0_call0_v84 : Ref sig .tc := ⟨.hbm, 3491, rfl⟩
abbrev main_call13_call0_call0_v85 : Ref sig .tc := ⟨.hbm, 3492, rfl⟩
abbrev main_call13_call0_call0_v86 : Ref sig .tc := ⟨.hbm, 3493, rfl⟩
abbrev main_call13_call0_call0_v87 : Ref sig .tc := ⟨.hbm, 3494, rfl⟩
abbrev main_call13_call0_call0_v88 : Ref sig .tc := ⟨.hbm, 3495, rfl⟩
abbrev main_call13_call0_call0_c_22 : Ref sig .tc := ⟨.hbm, 3496, rfl⟩
abbrev main_call13_call0_call0_v89 : Ref sig .tc := ⟨.hbm, 3497, rfl⟩
abbrev main_call13_call0_call0_v90 : Ref sig .tc := ⟨.hbm, 3498, rfl⟩
abbrev main_call13_call0_call0_c_23 : Ref sig .tc := ⟨.hbm, 3499, rfl⟩
abbrev main_call13_call0_call0_v91 : Ref sig .tc := ⟨.hbm, 3500, rfl⟩
abbrev main_call13_call0_call0_v92 : Ref sig .tc := ⟨.hbm, 3501, rfl⟩
abbrev main_call13_call0_call0_v93 : Ref sig .tc := ⟨.hbm, 3502, rfl⟩
abbrev main_call13_call0_call0_v94 : Ref sig .tc := ⟨.hbm, 3503, rfl⟩
abbrev main_call13_call0_call0_v95 : Ref sig .tc := ⟨.hbm, 3504, rfl⟩
abbrev main_call13_call0_call0_c_24 : Ref sig .tc := ⟨.hbm, 3505, rfl⟩
abbrev main_call13_call0_call0_v96 : Ref sig .tc := ⟨.hbm, 3506, rfl⟩
abbrev main_call13_call0_call0_v97 : Ref sig .tc := ⟨.hbm, 3507, rfl⟩
abbrev main_call13_call0_call0_c_25 : Ref sig .tc := ⟨.hbm, 3508, rfl⟩
abbrev main_call13_call0_call0_v98 : Ref sig .tc := ⟨.hbm, 3509, rfl⟩
abbrev main_call13_call0_call0_v99 : Ref sig .tc := ⟨.hbm, 3510, rfl⟩
abbrev main_call13_call0_call0_v100 : Ref sig .tc := ⟨.hbm, 3511, rfl⟩
abbrev main_call13_call0_call0_v101 : Ref sig .tc := ⟨.hbm, 3512, rfl⟩
abbrev main_call13_call0_call0_v102 : Ref sig .tc := ⟨.hbm, 3513, rfl⟩
abbrev main_call13_call0_call0_v103 : Ref sig .tc := ⟨.hbm, 3514, rfl⟩
abbrev main_call13_call0_call0_v104 : Ref sig .tc := ⟨.hbm, 3515, rfl⟩
abbrev main_call13_call0_call0_v105 : Ref sig .tc := ⟨.hbm, 3516, rfl⟩
abbrev main_call13_call0_call0_c_26 : Ref sig .tc := ⟨.hbm, 3517, rfl⟩
abbrev main_call13_call0_call0_v106 : Ref sig .tc := ⟨.hbm, 3518, rfl⟩
abbrev main_call13_call0_call0_v107 : Ref sig .tc := ⟨.hbm, 3519, rfl⟩
abbrev main_call13_call0_call0_v108 : Ref sig .tc := ⟨.hbm, 3520, rfl⟩
abbrev main_call13_call0_call0_c_27 : Ref sig .tc := ⟨.hbm, 3521, rfl⟩
abbrev main_call13_call0_call0_v109 : Ref sig .tc := ⟨.hbm, 3522, rfl⟩
abbrev main_call13_call0_call0_v110 : Ref sig .tc := ⟨.hbm, 3523, rfl⟩
abbrev main_call13_call0_call0_c_28 : Ref sig .tc := ⟨.hbm, 3524, rfl⟩
abbrev main_call13_call0_call0_v111 : Ref sig .tc := ⟨.hbm, 3525, rfl⟩
abbrev main_call13_call0_call0_v112 : Ref sig .tc := ⟨.hbm, 3526, rfl⟩
abbrev main_call13_call0_call0_v113 : Ref sig .tc := ⟨.hbm, 3527, rfl⟩
abbrev main_call13_call0_call0_v114 : Ref sig .tc := ⟨.hbm, 3528, rfl⟩
abbrev main_call13_call0_call0_v115 : Ref sig .tc := ⟨.hbm, 3529, rfl⟩
abbrev main_call13_call0_call0_c_29 : Ref sig .tc := ⟨.hbm, 3530, rfl⟩
abbrev main_call13_call0_call0_v116 : Ref sig .tc := ⟨.hbm, 3531, rfl⟩
abbrev main_call13_call0_call0_v117 : Ref sig .tc := ⟨.hbm, 3532, rfl⟩
abbrev main_call13_call0_call0_c_30 : Ref sig .tc := ⟨.hbm, 3533, rfl⟩
abbrev main_call13_call0_call0_v118 : Ref sig .tc := ⟨.hbm, 3534, rfl⟩
abbrev main_call13_call0_call0_v119 : Ref sig .tc := ⟨.hbm, 3535, rfl⟩
abbrev main_call13_call0_call0_v120 : Ref sig .tc := ⟨.hbm, 3536, rfl⟩
abbrev main_call13_call0_call0_v121 : Ref sig .tc := ⟨.hbm, 3537, rfl⟩
abbrev main_call13_call0_call0_v122 : Ref sig .tc := ⟨.hbm, 3538, rfl⟩
abbrev main_call13_call0_call0_c_31 : Ref sig .tc := ⟨.hbm, 3539, rfl⟩
abbrev main_call13_call0_call0_v123 : Ref sig .tc := ⟨.hbm, 3540, rfl⟩
abbrev main_call13_call0_call0_v124 : Ref sig .tc := ⟨.hbm, 3541, rfl⟩
abbrev main_call13_call0_call0_c_32 : Ref sig .tc := ⟨.hbm, 3542, rfl⟩
abbrev main_call13_call0_call0_v125 : Ref sig .tc := ⟨.hbm, 3543, rfl⟩
abbrev main_call13_call0_call0_v126 : Ref sig .tc := ⟨.hbm, 3544, rfl⟩
abbrev main_call13_call0_call0_v127 : Ref sig .tc := ⟨.hbm, 3545, rfl⟩
abbrev main_call13_call0_call0_v128 : Ref sig .tc := ⟨.hbm, 3546, rfl⟩
abbrev main_call13_call0_call0_v129 : Ref sig .tc := ⟨.hbm, 3547, rfl⟩
abbrev main_call13_call0_call0_c_33 : Ref sig .tc := ⟨.hbm, 3548, rfl⟩
abbrev main_call13_call0_call0_v130 : Ref sig .tc := ⟨.hbm, 3549, rfl⟩
abbrev main_call13_call0_call0_v131 : Ref sig .tc := ⟨.hbm, 3550, rfl⟩
abbrev main_call13_call0_call0_c_34 : Ref sig .tc := ⟨.hbm, 3551, rfl⟩
abbrev main_call13_call0_call0_v132 : Ref sig .tc := ⟨.hbm, 3552, rfl⟩
abbrev main_call13_call0_call0_v133 : Ref sig .tc := ⟨.hbm, 3553, rfl⟩
abbrev main_call13_call0_call0_v134 : Ref sig .tc := ⟨.hbm, 3554, rfl⟩
abbrev main_call13_call0_call0_v135 : Ref sig .tc := ⟨.hbm, 3555, rfl⟩
abbrev main_call13_call0_call0_v136 : Ref sig .tc := ⟨.hbm, 3556, rfl⟩
abbrev main_call13_call0_call0_v137 : Ref sig .tc := ⟨.hbm, 3557, rfl⟩
abbrev main_call13_call0_call0_v138 : Ref sig .tc := ⟨.hbm, 3558, rfl⟩
abbrev main_call13_call0_call0_v139 : Ref sig .tc := ⟨.hbm, 3559, rfl⟩
abbrev main_call13_call0_call0_c_35 : Ref sig .tc := ⟨.hbm, 3560, rfl⟩
abbrev main_call13_call0_call0_v140 : Ref sig .tc := ⟨.hbm, 3561, rfl⟩
abbrev main_call13_call0_call0_v141 : Ref sig .tc := ⟨.hbm, 3562, rfl⟩
abbrev main_call13_call0_call0_v142 : Ref sig .tc := ⟨.hbm, 3563, rfl⟩
abbrev main_call13_call0_call0_c_36 : Ref sig .tc := ⟨.hbm, 3564, rfl⟩
abbrev main_call13_call0_call0_v143 : Ref sig .tc := ⟨.hbm, 3565, rfl⟩
abbrev main_call13_call0_call0_v144 : Ref sig .tc := ⟨.hbm, 3566, rfl⟩
abbrev main_call13_call0_call0_c_37 : Ref sig .tc := ⟨.hbm, 3567, rfl⟩
abbrev main_call13_call0_call0_v145 : Ref sig .tc := ⟨.hbm, 3568, rfl⟩
abbrev main_call13_call0_call0_v146 : Ref sig .tc := ⟨.hbm, 3569, rfl⟩
abbrev main_call13_call0_call0_v147 : Ref sig .tc := ⟨.hbm, 3570, rfl⟩
abbrev main_call13_call0_call0_v148 : Ref sig .tc := ⟨.hbm, 3571, rfl⟩
abbrev main_call13_call0_call0_v149 : Ref sig .tc := ⟨.hbm, 3572, rfl⟩
abbrev main_call13_call0_call0_c_38 : Ref sig .tc := ⟨.hbm, 3573, rfl⟩
abbrev main_call13_call0_call0_v150 : Ref sig .tc := ⟨.hbm, 3574, rfl⟩
abbrev main_call13_call0_call0_v151 : Ref sig .tc := ⟨.hbm, 3575, rfl⟩
abbrev main_call13_call0_call0_c_39 : Ref sig .tc := ⟨.hbm, 3576, rfl⟩
abbrev main_call13_call0_call0_v152 : Ref sig .tc := ⟨.hbm, 3577, rfl⟩
abbrev main_call13_call0_call0_v153 : Ref sig .tc := ⟨.hbm, 3578, rfl⟩
abbrev main_call13_call0_call0_v154 : Ref sig .tc := ⟨.hbm, 3579, rfl⟩
abbrev main_call13_call0_call0_v155 : Ref sig .tc := ⟨.hbm, 3580, rfl⟩
abbrev main_call13_call0_call0_v156 : Ref sig .tc := ⟨.hbm, 3581, rfl⟩
abbrev main_call13_call0_call0_c_40 : Ref sig .tc := ⟨.hbm, 3582, rfl⟩
abbrev main_call13_call0_call0_v157 : Ref sig .tc := ⟨.hbm, 3583, rfl⟩
abbrev main_call13_call0_call0_v158 : Ref sig .tc := ⟨.hbm, 3584, rfl⟩
abbrev main_call13_call0_call0_c_41 : Ref sig .tc := ⟨.hbm, 3585, rfl⟩
abbrev main_call13_call0_call0_v159 : Ref sig .tc := ⟨.hbm, 3586, rfl⟩
abbrev main_call13_call0_call0_v160 : Ref sig .tc := ⟨.hbm, 3587, rfl⟩
abbrev main_call13_call0_call0_v161 : Ref sig .tc := ⟨.hbm, 3588, rfl⟩
abbrev main_call13_call0_call0_v162 : Ref sig .tc := ⟨.hbm, 3589, rfl⟩
abbrev main_call13_call0_call0_v163 : Ref sig .tc := ⟨.hbm, 3590, rfl⟩
abbrev main_call13_call0_call0_c_42 : Ref sig .tc := ⟨.hbm, 3591, rfl⟩
abbrev main_call13_call0_call0_v164 : Ref sig .tc := ⟨.hbm, 3592, rfl⟩
abbrev main_call13_call0_call0_v165 : Ref sig .tc := ⟨.hbm, 3593, rfl⟩
abbrev main_call13_call0_call0_c_43 : Ref sig .tc := ⟨.hbm, 3594, rfl⟩
abbrev main_call13_call0_call0_v166 : Ref sig .tc := ⟨.hbm, 3595, rfl⟩
abbrev main_call13_call0_call0_v167 : Ref sig .tc := ⟨.hbm, 3596, rfl⟩
abbrev main_call13_call0_call0_v168 : Ref sig .tc := ⟨.hbm, 3597, rfl⟩
abbrev main_call13_call0_call0_v169 : Ref sig .tc := ⟨.hbm, 3598, rfl⟩
abbrev main_call13_call0_call0_v170 : Ref sig .tc := ⟨.hbm, 3599, rfl⟩
abbrev main_call13_call0_v22_0 : Ref sig .tc := ⟨.hbm, 3600, rfl⟩
abbrev main_call13_call0_call0_v172 : Ref sig .tc := ⟨.hbm, 3601, rfl⟩
abbrev main_call13_call0_call0_v173 : Ref sig .tc := ⟨.hbm, 3602, rfl⟩
abbrev main_call13_call0_call0_c_44 : Ref sig .tc := ⟨.hbm, 3603, rfl⟩
abbrev main_call13_call0_call0_v174 : Ref sig .tc := ⟨.hbm, 3604, rfl⟩
abbrev main_call13_call0_v22_1 : Ref sig .tc := ⟨.hbm, 3605, rfl⟩
abbrev main_call13_call0_v23 : Ref sig .tc := ⟨.hbm, 3606, rfl⟩
abbrev main_call13_call0_c_3 : Ref sig .tc := ⟨.hbm, 3607, rfl⟩
abbrev main_call13_call0_v24 : Ref sig .tc := ⟨.hbm, 3608, rfl⟩
abbrev main_call13_call0_v25 : Ref sig .tc := ⟨.hbm, 3609, rfl⟩
abbrev main_call13_call0_c_4 : Ref sig .tc := ⟨.hbm, 3610, rfl⟩
abbrev main_call13_call0_v26 : Ref sig .tc := ⟨.hbm, 3611, rfl⟩
abbrev main_call13_call0_v27 : Ref sig .tc := ⟨.hbm, 3612, rfl⟩
abbrev main_call13_call0_v28 : Ref sig .tc := ⟨.hbm, 3613, rfl⟩
abbrev main_call13_call0_cst : Ref sig .tc := ⟨.hbm, 3614, rfl⟩
abbrev main_call13_call0_v29 : Ref sig .tc := ⟨.hbm, 3615, rfl⟩
abbrev main_call13_call0_v30 : Ref sig .tc := ⟨.hbm, 3616, rfl⟩
abbrev main_call13_call0_v31 : Ref sig .tc := ⟨.hbm, 3617, rfl⟩
abbrev main_call13_call0_v32 : Ref sig .tc := ⟨.hbm, 3618, rfl⟩
abbrev main_call13_call0_v33 : Ref sig .tc := ⟨.hbm, 3619, rfl⟩
abbrev main_call13_call0_v34 : Ref sig .tc := ⟨.hbm, 3620, rfl⟩
abbrev main_call13_call0_v35 : Ref sig .tc := ⟨.hbm, 3621, rfl⟩
abbrev main_call13_call0_v36 : Ref sig .tc := ⟨.hbm, 3622, rfl⟩
abbrev main_call13_v0 : Ref sig .tc := ⟨.hbm, 3623, rfl⟩
abbrev main_call13_v1 : Ref sig .tc := ⟨.hbm, 3624, rfl⟩
abbrev main_call13_v2 : Ref sig .tc := ⟨.hbm, 3625, rfl⟩
abbrev main_call13_v3 : Ref sig .tc := ⟨.hbm, 3626, rfl⟩
abbrev main_v50 : Ref sig .tc := ⟨.hbm, 3627, rfl⟩
abbrev main_cst_9 : Ref sig .tc := ⟨.hbm, 3628, rfl⟩
abbrev main_cst_10 : Ref sig .tc := ⟨.hbm, 3629, rfl⟩
abbrev main_call14_v0 : Ref sig .tc := ⟨.hbm, 3630, rfl⟩
abbrev main_call14_v1 : Ref sig .tc := ⟨.hbm, 3631, rfl⟩
abbrev main_call14_v2 : Ref sig .tc := ⟨.hbm, 3632, rfl⟩
abbrev main_call14_v3 : Ref sig .tc := ⟨.hbm, 3633, rfl⟩
abbrev main_call14_v4 : Ref sig .tc := ⟨.hbm, 3634, rfl⟩
abbrev main_call14_v5 : Ref sig .tc := ⟨.hbm, 3635, rfl⟩
abbrev main_call14_v6 : Ref sig .tc := ⟨.hbm, 3636, rfl⟩
abbrev main_call14_v7 : Ref sig .tc := ⟨.hbm, 3637, rfl⟩
abbrev main_call14_v8 : Ref sig .tc := ⟨.hbm, 3638, rfl⟩
abbrev main_call14_c : Ref sig .tc := ⟨.hbm, 3639, rfl⟩
abbrev main_call14_v9 : Ref sig .tc := ⟨.hbm, 3640, rfl⟩
abbrev main_call14_v10 : Ref sig .tc := ⟨.hbm, 3641, rfl⟩
abbrev main_call14_c_0 : Ref sig .tc := ⟨.hbm, 3642, rfl⟩
abbrev main_call14_v11 : Ref sig .tc := ⟨.hbm, 3643, rfl⟩
abbrev main_call14_v12 : Ref sig .tc := ⟨.hbm, 3644, rfl⟩
abbrev main_call14_v13 : Ref sig .tc := ⟨.hbm, 3645, rfl⟩
abbrev main_call14_v14 : Ref sig .tc := ⟨.hbm, 3646, rfl⟩
abbrev main_call14_call0_v0 : Ref sig .tc := ⟨.hbm, 3647, rfl⟩
abbrev main_call14_call0_c : Ref sig .tc := ⟨.hbm, 3648, rfl⟩
abbrev main_call14_call0_v1 : Ref sig .tc := ⟨.hbm, 3649, rfl⟩
abbrev main_call14_call0_v2 : Ref sig .tc := ⟨.hbm, 3650, rfl⟩
abbrev main_call14_call0_v3 : Ref sig .tc := ⟨.hbm, 3651, rfl⟩
abbrev main_call14_call0_v4 : Ref sig .tc := ⟨.hbm, 3652, rfl⟩
abbrev main_call14_call0_v5 : Ref sig .tc := ⟨.hbm, 3653, rfl⟩
abbrev main_call14_call0_v6 : Ref sig .tc := ⟨.hbm, 3654, rfl⟩
abbrev main_call14_call0_c_0 : Ref sig .tc := ⟨.hbm, 3655, rfl⟩
abbrev main_call14_call0_v7 : Ref sig .tc := ⟨.hbm, 3656, rfl⟩
abbrev main_call14_call0_v8 : Ref sig .tc := ⟨.hbm, 3657, rfl⟩
abbrev main_call14_call0_c_1 : Ref sig .tc := ⟨.hbm, 3658, rfl⟩
abbrev main_call14_call0_v9 : Ref sig .tc := ⟨.hbm, 3659, rfl⟩
abbrev main_call14_call0_v10 : Ref sig .tc := ⟨.hbm, 3660, rfl⟩
abbrev main_call14_call0_v11 : Ref sig .tc := ⟨.hbm, 3661, rfl⟩
abbrev main_call14_call0_v12 : Ref sig .tc := ⟨.hbm, 3662, rfl⟩
abbrev main_call14_call0_v13 : Ref sig .tc := ⟨.hbm, 3663, rfl⟩
abbrev main_call14_call0_c_2 : Ref sig .tc := ⟨.hbm, 3664, rfl⟩
abbrev main_call14_call0_v14 : Ref sig .tc := ⟨.hbm, 3665, rfl⟩
abbrev main_call14_call0_v15 : Ref sig .tc := ⟨.hbm, 3666, rfl⟩
abbrev main_call14_call0_c_3 : Ref sig .tc := ⟨.hbm, 3667, rfl⟩
abbrev main_call14_call0_v16 : Ref sig .tc := ⟨.hbm, 3668, rfl⟩
abbrev main_call14_call0_v17 : Ref sig .tc := ⟨.hbm, 3669, rfl⟩
abbrev main_call14_call0_v18 : Ref sig .tc := ⟨.hbm, 3670, rfl⟩
abbrev main_call14_call0_v19 : Ref sig .tc := ⟨.hbm, 3671, rfl⟩
abbrev main_call14_call0_v20 : Ref sig .tc := ⟨.hbm, 3672, rfl⟩
abbrev main_call14_call0_c_4 : Ref sig .tc := ⟨.hbm, 3673, rfl⟩
abbrev main_call14_call0_v21 : Ref sig .tc := ⟨.hbm, 3674, rfl⟩
abbrev main_call14_call0_v22 : Ref sig .tc := ⟨.hbm, 3675, rfl⟩
abbrev main_call14_call0_c_5 : Ref sig .tc := ⟨.hbm, 3676, rfl⟩
abbrev main_call14_call0_v23 : Ref sig .tc := ⟨.hbm, 3677, rfl⟩
abbrev main_call14_call0_v24 : Ref sig .tc := ⟨.hbm, 3678, rfl⟩
abbrev main_call14_call0_v25 : Ref sig .tc := ⟨.hbm, 3679, rfl⟩
abbrev main_call14_call0_v26 : Ref sig .tc := ⟨.hbm, 3680, rfl⟩
abbrev main_call14_call0_v27 : Ref sig .tc := ⟨.hbm, 3681, rfl⟩
abbrev main_call14_call0_c_6 : Ref sig .tc := ⟨.hbm, 3682, rfl⟩
abbrev main_call14_call0_v28 : Ref sig .tc := ⟨.hbm, 3683, rfl⟩
abbrev main_call14_call0_v29 : Ref sig .tc := ⟨.hbm, 3684, rfl⟩
abbrev main_call14_call0_c_7 : Ref sig .tc := ⟨.hbm, 3685, rfl⟩
abbrev main_call14_call0_v30 : Ref sig .tc := ⟨.hbm, 3686, rfl⟩
abbrev main_call14_call0_v31 : Ref sig .tc := ⟨.hbm, 3687, rfl⟩
abbrev main_call14_call0_v32 : Ref sig .tc := ⟨.hbm, 3688, rfl⟩
abbrev main_call14_call0_v33 : Ref sig .tc := ⟨.hbm, 3689, rfl⟩
abbrev main_call14_call0_v34 : Ref sig .tc := ⟨.hbm, 3690, rfl⟩
abbrev main_call14_call0_v35 : Ref sig .tc := ⟨.hbm, 3691, rfl⟩
abbrev main_call14_call0_v36 : Ref sig .tc := ⟨.hbm, 3692, rfl⟩
abbrev main_call14_call0_v37 : Ref sig .tc := ⟨.hbm, 3693, rfl⟩
abbrev main_call14_call0_c_8 : Ref sig .tc := ⟨.hbm, 3694, rfl⟩
abbrev main_call14_call0_v38 : Ref sig .tc := ⟨.hbm, 3695, rfl⟩
abbrev main_call14_call0_v39 : Ref sig .tc := ⟨.hbm, 3696, rfl⟩
abbrev main_call14_call0_v40 : Ref sig .tc := ⟨.hbm, 3697, rfl⟩
abbrev main_call14_call0_c_9 : Ref sig .tc := ⟨.hbm, 3698, rfl⟩
abbrev main_call14_call0_v41 : Ref sig .tc := ⟨.hbm, 3699, rfl⟩
abbrev main_call14_call0_v42 : Ref sig .tc := ⟨.hbm, 3700, rfl⟩
abbrev main_call14_call0_c_10 : Ref sig .tc := ⟨.hbm, 3701, rfl⟩
abbrev main_call14_call0_v43 : Ref sig .tc := ⟨.hbm, 3702, rfl⟩
abbrev main_call14_call0_v44 : Ref sig .tc := ⟨.hbm, 3703, rfl⟩
abbrev main_call14_call0_v45 : Ref sig .tc := ⟨.hbm, 3704, rfl⟩
abbrev main_call14_call0_v46 : Ref sig .tc := ⟨.hbm, 3705, rfl⟩
abbrev main_call14_call0_v47 : Ref sig .tc := ⟨.hbm, 3706, rfl⟩
abbrev main_call14_call0_c_11 : Ref sig .tc := ⟨.hbm, 3707, rfl⟩
abbrev main_call14_call0_v48 : Ref sig .tc := ⟨.hbm, 3708, rfl⟩
abbrev main_call14_call0_v49 : Ref sig .tc := ⟨.hbm, 3709, rfl⟩
abbrev main_call14_call0_c_12 : Ref sig .tc := ⟨.hbm, 3710, rfl⟩
abbrev main_call14_call0_v50 : Ref sig .tc := ⟨.hbm, 3711, rfl⟩
abbrev main_call14_call0_v51 : Ref sig .tc := ⟨.hbm, 3712, rfl⟩
abbrev main_call14_call0_v52 : Ref sig .tc := ⟨.hbm, 3713, rfl⟩
abbrev main_call14_call0_v53 : Ref sig .tc := ⟨.hbm, 3714, rfl⟩
abbrev main_call14_call0_v54 : Ref sig .tc := ⟨.hbm, 3715, rfl⟩
abbrev main_call14_call0_c_13 : Ref sig .tc := ⟨.hbm, 3716, rfl⟩
abbrev main_call14_call0_v55 : Ref sig .tc := ⟨.hbm, 3717, rfl⟩
abbrev main_call14_call0_v56 : Ref sig .tc := ⟨.hbm, 3718, rfl⟩
abbrev main_call14_call0_c_14 : Ref sig .tc := ⟨.hbm, 3719, rfl⟩
abbrev main_call14_call0_v57 : Ref sig .tc := ⟨.hbm, 3720, rfl⟩
abbrev main_call14_call0_v58 : Ref sig .tc := ⟨.hbm, 3721, rfl⟩
abbrev main_call14_call0_v59 : Ref sig .tc := ⟨.hbm, 3722, rfl⟩
abbrev main_call14_call0_v60 : Ref sig .tc := ⟨.hbm, 3723, rfl⟩
abbrev main_call14_call0_v61 : Ref sig .tc := ⟨.hbm, 3724, rfl⟩
abbrev main_call14_call0_c_15 : Ref sig .tc := ⟨.hbm, 3725, rfl⟩
abbrev main_call14_call0_v62 : Ref sig .tc := ⟨.hbm, 3726, rfl⟩
abbrev main_call14_call0_v63 : Ref sig .tc := ⟨.hbm, 3727, rfl⟩
abbrev main_call14_call0_c_16 : Ref sig .tc := ⟨.hbm, 3728, rfl⟩
abbrev main_call14_call0_v64 : Ref sig .tc := ⟨.hbm, 3729, rfl⟩
abbrev main_call14_call0_v65 : Ref sig .tc := ⟨.hbm, 3730, rfl⟩
abbrev main_call14_call0_v66 : Ref sig .tc := ⟨.hbm, 3731, rfl⟩
abbrev main_call14_call0_v67 : Ref sig .tc := ⟨.hbm, 3732, rfl⟩
abbrev main_call14_call0_v68 : Ref sig .tc := ⟨.hbm, 3733, rfl⟩
abbrev main_call14_call0_v69 : Ref sig .tc := ⟨.hbm, 3734, rfl⟩
abbrev main_call14_call0_v70 : Ref sig .tc := ⟨.hbm, 3735, rfl⟩
abbrev main_call14_call0_v71 : Ref sig .tc := ⟨.hbm, 3736, rfl⟩
abbrev main_call14_call0_c_17 : Ref sig .tc := ⟨.hbm, 3737, rfl⟩
abbrev main_call14_call0_v72 : Ref sig .tc := ⟨.hbm, 3738, rfl⟩
abbrev main_call14_call0_v73 : Ref sig .tc := ⟨.hbm, 3739, rfl⟩
abbrev main_call14_call0_v74 : Ref sig .tc := ⟨.hbm, 3740, rfl⟩
abbrev main_call14_call0_c_18 : Ref sig .tc := ⟨.hbm, 3741, rfl⟩
abbrev main_call14_call0_v75 : Ref sig .tc := ⟨.hbm, 3742, rfl⟩
abbrev main_call14_call0_v76 : Ref sig .tc := ⟨.hbm, 3743, rfl⟩
abbrev main_call14_call0_c_19 : Ref sig .tc := ⟨.hbm, 3744, rfl⟩
abbrev main_call14_call0_v77 : Ref sig .tc := ⟨.hbm, 3745, rfl⟩
abbrev main_call14_call0_v78 : Ref sig .tc := ⟨.hbm, 3746, rfl⟩
abbrev main_call14_call0_v79 : Ref sig .tc := ⟨.hbm, 3747, rfl⟩
abbrev main_call14_call0_v80 : Ref sig .tc := ⟨.hbm, 3748, rfl⟩
abbrev main_call14_call0_v81 : Ref sig .tc := ⟨.hbm, 3749, rfl⟩
abbrev main_call14_call0_c_20 : Ref sig .tc := ⟨.hbm, 3750, rfl⟩
abbrev main_call14_call0_v82 : Ref sig .tc := ⟨.hbm, 3751, rfl⟩
abbrev main_call14_call0_v83 : Ref sig .tc := ⟨.hbm, 3752, rfl⟩
abbrev main_call14_call0_c_21 : Ref sig .tc := ⟨.hbm, 3753, rfl⟩
abbrev main_call14_call0_v84 : Ref sig .tc := ⟨.hbm, 3754, rfl⟩
abbrev main_call14_call0_v85 : Ref sig .tc := ⟨.hbm, 3755, rfl⟩
abbrev main_call14_call0_v86 : Ref sig .tc := ⟨.hbm, 3756, rfl⟩
abbrev main_call14_call0_v87 : Ref sig .tc := ⟨.hbm, 3757, rfl⟩
abbrev main_call14_call0_v88 : Ref sig .tc := ⟨.hbm, 3758, rfl⟩
abbrev main_call14_call0_c_22 : Ref sig .tc := ⟨.hbm, 3759, rfl⟩
abbrev main_call14_call0_v89 : Ref sig .tc := ⟨.hbm, 3760, rfl⟩
abbrev main_call14_call0_v90 : Ref sig .tc := ⟨.hbm, 3761, rfl⟩
abbrev main_call14_call0_c_23 : Ref sig .tc := ⟨.hbm, 3762, rfl⟩
abbrev main_call14_call0_v91 : Ref sig .tc := ⟨.hbm, 3763, rfl⟩
abbrev main_call14_call0_v92 : Ref sig .tc := ⟨.hbm, 3764, rfl⟩
abbrev main_call14_call0_v93 : Ref sig .tc := ⟨.hbm, 3765, rfl⟩
abbrev main_call14_call0_v94 : Ref sig .tc := ⟨.hbm, 3766, rfl⟩
abbrev main_call14_call0_v95 : Ref sig .tc := ⟨.hbm, 3767, rfl⟩
abbrev main_call14_call0_c_24 : Ref sig .tc := ⟨.hbm, 3768, rfl⟩
abbrev main_call14_call0_v96 : Ref sig .tc := ⟨.hbm, 3769, rfl⟩
abbrev main_call14_call0_v97 : Ref sig .tc := ⟨.hbm, 3770, rfl⟩
abbrev main_call14_call0_c_25 : Ref sig .tc := ⟨.hbm, 3771, rfl⟩
abbrev main_call14_call0_v98 : Ref sig .tc := ⟨.hbm, 3772, rfl⟩
abbrev main_call14_call0_v99 : Ref sig .tc := ⟨.hbm, 3773, rfl⟩
abbrev main_call14_call0_v100 : Ref sig .tc := ⟨.hbm, 3774, rfl⟩
abbrev main_call14_call0_v101 : Ref sig .tc := ⟨.hbm, 3775, rfl⟩
abbrev main_call14_call0_v102 : Ref sig .tc := ⟨.hbm, 3776, rfl⟩
abbrev main_call14_call0_v103 : Ref sig .tc := ⟨.hbm, 3777, rfl⟩
abbrev main_call14_call0_v104 : Ref sig .tc := ⟨.hbm, 3778, rfl⟩
abbrev main_call14_call0_v105 : Ref sig .tc := ⟨.hbm, 3779, rfl⟩
abbrev main_call14_call0_c_26 : Ref sig .tc := ⟨.hbm, 3780, rfl⟩
abbrev main_call14_call0_v106 : Ref sig .tc := ⟨.hbm, 3781, rfl⟩
abbrev main_call14_call0_v107 : Ref sig .tc := ⟨.hbm, 3782, rfl⟩
abbrev main_call14_call0_v108 : Ref sig .tc := ⟨.hbm, 3783, rfl⟩
abbrev main_call14_call0_c_27 : Ref sig .tc := ⟨.hbm, 3784, rfl⟩
abbrev main_call14_call0_v109 : Ref sig .tc := ⟨.hbm, 3785, rfl⟩
abbrev main_call14_call0_v110 : Ref sig .tc := ⟨.hbm, 3786, rfl⟩
abbrev main_call14_call0_c_28 : Ref sig .tc := ⟨.hbm, 3787, rfl⟩
abbrev main_call14_call0_v111 : Ref sig .tc := ⟨.hbm, 3788, rfl⟩
abbrev main_call14_call0_v112 : Ref sig .tc := ⟨.hbm, 3789, rfl⟩
abbrev main_call14_call0_v113 : Ref sig .tc := ⟨.hbm, 3790, rfl⟩
abbrev main_call14_call0_v114 : Ref sig .tc := ⟨.hbm, 3791, rfl⟩
abbrev main_call14_call0_v115 : Ref sig .tc := ⟨.hbm, 3792, rfl⟩
abbrev main_call14_call0_c_29 : Ref sig .tc := ⟨.hbm, 3793, rfl⟩
abbrev main_call14_call0_v116 : Ref sig .tc := ⟨.hbm, 3794, rfl⟩
abbrev main_call14_call0_v117 : Ref sig .tc := ⟨.hbm, 3795, rfl⟩
abbrev main_call14_call0_c_30 : Ref sig .tc := ⟨.hbm, 3796, rfl⟩
abbrev main_call14_call0_v118 : Ref sig .tc := ⟨.hbm, 3797, rfl⟩
abbrev main_call14_call0_v119 : Ref sig .tc := ⟨.hbm, 3798, rfl⟩
abbrev main_call14_call0_v120 : Ref sig .tc := ⟨.hbm, 3799, rfl⟩
abbrev main_call14_call0_v121 : Ref sig .tc := ⟨.hbm, 3800, rfl⟩
abbrev main_call14_call0_v122 : Ref sig .tc := ⟨.hbm, 3801, rfl⟩
abbrev main_call14_call0_c_31 : Ref sig .tc := ⟨.hbm, 3802, rfl⟩
abbrev main_call14_call0_v123 : Ref sig .tc := ⟨.hbm, 3803, rfl⟩
abbrev main_call14_call0_v124 : Ref sig .tc := ⟨.hbm, 3804, rfl⟩
abbrev main_call14_call0_c_32 : Ref sig .tc := ⟨.hbm, 3805, rfl⟩
abbrev main_call14_call0_v125 : Ref sig .tc := ⟨.hbm, 3806, rfl⟩
abbrev main_call14_call0_v126 : Ref sig .tc := ⟨.hbm, 3807, rfl⟩
abbrev main_call14_call0_v127 : Ref sig .tc := ⟨.hbm, 3808, rfl⟩
abbrev main_call14_call0_v128 : Ref sig .tc := ⟨.hbm, 3809, rfl⟩
abbrev main_call14_call0_v129 : Ref sig .tc := ⟨.hbm, 3810, rfl⟩
abbrev main_call14_call0_c_33 : Ref sig .tc := ⟨.hbm, 3811, rfl⟩
abbrev main_call14_call0_v130 : Ref sig .tc := ⟨.hbm, 3812, rfl⟩
abbrev main_call14_call0_v131 : Ref sig .tc := ⟨.hbm, 3813, rfl⟩
abbrev main_call14_call0_c_34 : Ref sig .tc := ⟨.hbm, 3814, rfl⟩
abbrev main_call14_call0_v132 : Ref sig .tc := ⟨.hbm, 3815, rfl⟩
abbrev main_call14_call0_v133 : Ref sig .tc := ⟨.hbm, 3816, rfl⟩
abbrev main_call14_call0_v134 : Ref sig .tc := ⟨.hbm, 3817, rfl⟩
abbrev main_call14_call0_v135 : Ref sig .tc := ⟨.hbm, 3818, rfl⟩
abbrev main_call14_call0_v136 : Ref sig .tc := ⟨.hbm, 3819, rfl⟩
abbrev main_call14_call0_v137 : Ref sig .tc := ⟨.hbm, 3820, rfl⟩
abbrev main_call14_call0_v138 : Ref sig .tc := ⟨.hbm, 3821, rfl⟩
abbrev main_call14_call0_v139 : Ref sig .tc := ⟨.hbm, 3822, rfl⟩
abbrev main_call14_call0_c_35 : Ref sig .tc := ⟨.hbm, 3823, rfl⟩
abbrev main_call14_call0_v140 : Ref sig .tc := ⟨.hbm, 3824, rfl⟩
abbrev main_call14_call0_v141 : Ref sig .tc := ⟨.hbm, 3825, rfl⟩
abbrev main_call14_call0_v142 : Ref sig .tc := ⟨.hbm, 3826, rfl⟩
abbrev main_call14_call0_c_36 : Ref sig .tc := ⟨.hbm, 3827, rfl⟩
abbrev main_call14_call0_v143 : Ref sig .tc := ⟨.hbm, 3828, rfl⟩
abbrev main_call14_call0_v144 : Ref sig .tc := ⟨.hbm, 3829, rfl⟩
abbrev main_call14_call0_c_37 : Ref sig .tc := ⟨.hbm, 3830, rfl⟩
abbrev main_call14_call0_v145 : Ref sig .tc := ⟨.hbm, 3831, rfl⟩
abbrev main_call14_call0_v146 : Ref sig .tc := ⟨.hbm, 3832, rfl⟩
abbrev main_call14_call0_v147 : Ref sig .tc := ⟨.hbm, 3833, rfl⟩
abbrev main_call14_call0_v148 : Ref sig .tc := ⟨.hbm, 3834, rfl⟩
abbrev main_call14_call0_v149 : Ref sig .tc := ⟨.hbm, 3835, rfl⟩
abbrev main_call14_call0_c_38 : Ref sig .tc := ⟨.hbm, 3836, rfl⟩
abbrev main_call14_call0_v150 : Ref sig .tc := ⟨.hbm, 3837, rfl⟩
abbrev main_call14_call0_v151 : Ref sig .tc := ⟨.hbm, 3838, rfl⟩
abbrev main_call14_call0_c_39 : Ref sig .tc := ⟨.hbm, 3839, rfl⟩
abbrev main_call14_call0_v152 : Ref sig .tc := ⟨.hbm, 3840, rfl⟩
abbrev main_call14_call0_v153 : Ref sig .tc := ⟨.hbm, 3841, rfl⟩
abbrev main_call14_call0_v154 : Ref sig .tc := ⟨.hbm, 3842, rfl⟩
abbrev main_call14_call0_v155 : Ref sig .tc := ⟨.hbm, 3843, rfl⟩
abbrev main_call14_call0_v156 : Ref sig .tc := ⟨.hbm, 3844, rfl⟩
abbrev main_call14_call0_c_40 : Ref sig .tc := ⟨.hbm, 3845, rfl⟩
abbrev main_call14_call0_v157 : Ref sig .tc := ⟨.hbm, 3846, rfl⟩
abbrev main_call14_call0_v158 : Ref sig .tc := ⟨.hbm, 3847, rfl⟩
abbrev main_call14_call0_c_41 : Ref sig .tc := ⟨.hbm, 3848, rfl⟩
abbrev main_call14_call0_v159 : Ref sig .tc := ⟨.hbm, 3849, rfl⟩
abbrev main_call14_call0_v160 : Ref sig .tc := ⟨.hbm, 3850, rfl⟩
abbrev main_call14_call0_v161 : Ref sig .tc := ⟨.hbm, 3851, rfl⟩
abbrev main_call14_call0_v162 : Ref sig .tc := ⟨.hbm, 3852, rfl⟩
abbrev main_call14_call0_v163 : Ref sig .tc := ⟨.hbm, 3853, rfl⟩
abbrev main_call14_call0_c_42 : Ref sig .tc := ⟨.hbm, 3854, rfl⟩
abbrev main_call14_call0_v164 : Ref sig .tc := ⟨.hbm, 3855, rfl⟩
abbrev main_call14_call0_v165 : Ref sig .tc := ⟨.hbm, 3856, rfl⟩
abbrev main_call14_call0_c_43 : Ref sig .tc := ⟨.hbm, 3857, rfl⟩
abbrev main_call14_call0_v166 : Ref sig .tc := ⟨.hbm, 3858, rfl⟩
abbrev main_call14_call0_v167 : Ref sig .tc := ⟨.hbm, 3859, rfl⟩
abbrev main_call14_call0_v168 : Ref sig .tc := ⟨.hbm, 3860, rfl⟩
abbrev main_call14_call0_v169 : Ref sig .tc := ⟨.hbm, 3861, rfl⟩
abbrev main_call14_call0_v170 : Ref sig .tc := ⟨.hbm, 3862, rfl⟩
abbrev main_call14_v15_0 : Ref sig .tc := ⟨.hbm, 3863, rfl⟩
abbrev main_call14_call0_v172 : Ref sig .tc := ⟨.hbm, 3864, rfl⟩
abbrev main_call14_call0_v173 : Ref sig .tc := ⟨.hbm, 3865, rfl⟩
abbrev main_call14_call0_c_44 : Ref sig .tc := ⟨.hbm, 3866, rfl⟩
abbrev main_call14_call0_v174 : Ref sig .tc := ⟨.hbm, 3867, rfl⟩
abbrev main_call14_v15_1 : Ref sig .tc := ⟨.hbm, 3868, rfl⟩
abbrev main_call14_v16 : Ref sig .tc := ⟨.hbm, 3869, rfl⟩
abbrev main_call14_c_1 : Ref sig .tc := ⟨.hbm, 3870, rfl⟩
abbrev main_call14_v17 : Ref sig .tc := ⟨.hbm, 3871, rfl⟩
abbrev main_call14_v18 : Ref sig .tc := ⟨.hbm, 3872, rfl⟩
abbrev main_call14_c_2 : Ref sig .tc := ⟨.hbm, 3873, rfl⟩
abbrev main_call14_v19 : Ref sig .tc := ⟨.hbm, 3874, rfl⟩
abbrev main_call14_v20 : Ref sig .tc := ⟨.hbm, 3875, rfl⟩
abbrev main_call14_v21 : Ref sig .tc := ⟨.hbm, 3876, rfl⟩
abbrev main_call14_cst : Ref sig .tc := ⟨.hbm, 3877, rfl⟩
abbrev main_call14_v22 : Ref sig .tc := ⟨.hbm, 3878, rfl⟩
abbrev main_call14_v23 : Ref sig .tc := ⟨.hbm, 3879, rfl⟩
abbrev main_call14_v24 : Ref sig .tc := ⟨.hbm, 3880, rfl⟩
abbrev main_call14_v25 : Ref sig .tc := ⟨.hbm, 3881, rfl⟩
abbrev main_call14_v26 : Ref sig .tc := ⟨.hbm, 3882, rfl⟩
abbrev main_call14_v27 : Ref sig .tc := ⟨.hbm, 3883, rfl⟩
abbrev main_call14_v28 : Ref sig .tc := ⟨.hbm, 3884, rfl⟩
abbrev main_call14_v29 : Ref sig .tc := ⟨.hbm, 3885, rfl⟩
abbrev main_v51 : Ref sig .tc := ⟨.hbm, 3886, rfl⟩
abbrev main_call15_v0 : Ref sig .tc := ⟨.hbm, 3887, rfl⟩
abbrev main_call15_v1 : Ref sig .tc := ⟨.hbm, 3888, rfl⟩
abbrev main_call15_v2 : Ref sig .tc := ⟨.hbm, 3889, rfl⟩
abbrev main_call15_v3 : Ref sig .tc := ⟨.hbm, 3890, rfl⟩
abbrev main_call15_v4 : Ref sig .tc := ⟨.hbm, 3891, rfl⟩
abbrev main_call15_c : Ref sig .tc := ⟨.hbm, 3892, rfl⟩
abbrev main_call15_v5 : Ref sig .tc := ⟨.hbm, 3893, rfl⟩
abbrev main_call15_v6 : Ref sig .tc := ⟨.hbm, 3894, rfl⟩
abbrev main_call15_c_0 : Ref sig .tc := ⟨.hbm, 3895, rfl⟩
abbrev main_call15_v7 : Ref sig .tc := ⟨.hbm, 3896, rfl⟩
abbrev main_call15_v8 : Ref sig .tc := ⟨.hbm, 3897, rfl⟩
abbrev main_call15_v9 : Ref sig .tc := ⟨.hbm, 3898, rfl⟩
abbrev main_call15_v10 : Ref sig .tc := ⟨.hbm, 3899, rfl⟩
abbrev main_call15_call0_v0 : Ref sig .tc := ⟨.hbm, 3900, rfl⟩
abbrev main_call15_call0_c : Ref sig .tc := ⟨.hbm, 3901, rfl⟩
abbrev main_call15_call0_v1 : Ref sig .tc := ⟨.hbm, 3902, rfl⟩
abbrev main_call15_call0_v2 : Ref sig .tc := ⟨.hbm, 3903, rfl⟩
abbrev main_call15_call0_v3 : Ref sig .tc := ⟨.hbm, 3904, rfl⟩
abbrev main_call15_call0_v4 : Ref sig .tc := ⟨.hbm, 3905, rfl⟩
abbrev main_call15_call0_v5 : Ref sig .tc := ⟨.hbm, 3906, rfl⟩
abbrev main_call15_call0_v6 : Ref sig .tc := ⟨.hbm, 3907, rfl⟩
abbrev main_call15_call0_c_0 : Ref sig .tc := ⟨.hbm, 3908, rfl⟩
abbrev main_call15_call0_v7 : Ref sig .tc := ⟨.hbm, 3909, rfl⟩
abbrev main_call15_call0_v8 : Ref sig .tc := ⟨.hbm, 3910, rfl⟩
abbrev main_call15_call0_c_1 : Ref sig .tc := ⟨.hbm, 3911, rfl⟩
abbrev main_call15_call0_v9 : Ref sig .tc := ⟨.hbm, 3912, rfl⟩
abbrev main_call15_call0_v10 : Ref sig .tc := ⟨.hbm, 3913, rfl⟩
abbrev main_call15_call0_v11 : Ref sig .tc := ⟨.hbm, 3914, rfl⟩
abbrev main_call15_call0_v12 : Ref sig .tc := ⟨.hbm, 3915, rfl⟩
abbrev main_call15_call0_v13 : Ref sig .tc := ⟨.hbm, 3916, rfl⟩
abbrev main_call15_call0_c_2 : Ref sig .tc := ⟨.hbm, 3917, rfl⟩
abbrev main_call15_call0_v14 : Ref sig .tc := ⟨.hbm, 3918, rfl⟩
abbrev main_call15_call0_v15 : Ref sig .tc := ⟨.hbm, 3919, rfl⟩
abbrev main_call15_call0_c_3 : Ref sig .tc := ⟨.hbm, 3920, rfl⟩
abbrev main_call15_call0_v16 : Ref sig .tc := ⟨.hbm, 3921, rfl⟩
abbrev main_call15_call0_v17 : Ref sig .tc := ⟨.hbm, 3922, rfl⟩
abbrev main_call15_call0_v18 : Ref sig .tc := ⟨.hbm, 3923, rfl⟩
abbrev main_call15_call0_v19 : Ref sig .tc := ⟨.hbm, 3924, rfl⟩
abbrev main_call15_call0_v20 : Ref sig .tc := ⟨.hbm, 3925, rfl⟩
abbrev main_call15_call0_c_4 : Ref sig .tc := ⟨.hbm, 3926, rfl⟩
abbrev main_call15_call0_v21 : Ref sig .tc := ⟨.hbm, 3927, rfl⟩
abbrev main_call15_call0_v22 : Ref sig .tc := ⟨.hbm, 3928, rfl⟩
abbrev main_call15_call0_c_5 : Ref sig .tc := ⟨.hbm, 3929, rfl⟩
abbrev main_call15_call0_v23 : Ref sig .tc := ⟨.hbm, 3930, rfl⟩
abbrev main_call15_call0_v24 : Ref sig .tc := ⟨.hbm, 3931, rfl⟩
abbrev main_call15_call0_v25 : Ref sig .tc := ⟨.hbm, 3932, rfl⟩
abbrev main_call15_call0_v26 : Ref sig .tc := ⟨.hbm, 3933, rfl⟩
abbrev main_call15_call0_v27 : Ref sig .tc := ⟨.hbm, 3934, rfl⟩
abbrev main_call15_call0_c_6 : Ref sig .tc := ⟨.hbm, 3935, rfl⟩
abbrev main_call15_call0_v28 : Ref sig .tc := ⟨.hbm, 3936, rfl⟩
abbrev main_call15_call0_v29 : Ref sig .tc := ⟨.hbm, 3937, rfl⟩
abbrev main_call15_call0_c_7 : Ref sig .tc := ⟨.hbm, 3938, rfl⟩
abbrev main_call15_call0_v30 : Ref sig .tc := ⟨.hbm, 3939, rfl⟩
abbrev main_call15_call0_v31 : Ref sig .tc := ⟨.hbm, 3940, rfl⟩
abbrev main_call15_call0_v32 : Ref sig .tc := ⟨.hbm, 3941, rfl⟩
abbrev main_call15_call0_v33 : Ref sig .tc := ⟨.hbm, 3942, rfl⟩
abbrev main_call15_call0_v34 : Ref sig .tc := ⟨.hbm, 3943, rfl⟩
abbrev main_call15_call0_v35 : Ref sig .tc := ⟨.hbm, 3944, rfl⟩
abbrev main_call15_call0_v36 : Ref sig .tc := ⟨.hbm, 3945, rfl⟩
abbrev main_call15_call0_v37 : Ref sig .tc := ⟨.hbm, 3946, rfl⟩
abbrev main_call15_call0_c_8 : Ref sig .tc := ⟨.hbm, 3947, rfl⟩
abbrev main_call15_call0_v38 : Ref sig .tc := ⟨.hbm, 3948, rfl⟩
abbrev main_call15_call0_v39 : Ref sig .tc := ⟨.hbm, 3949, rfl⟩
abbrev main_call15_call0_v40 : Ref sig .tc := ⟨.hbm, 3950, rfl⟩
abbrev main_call15_call0_c_9 : Ref sig .tc := ⟨.hbm, 3951, rfl⟩
abbrev main_call15_call0_v41 : Ref sig .tc := ⟨.hbm, 3952, rfl⟩
abbrev main_call15_call0_v42 : Ref sig .tc := ⟨.hbm, 3953, rfl⟩
abbrev main_call15_call0_c_10 : Ref sig .tc := ⟨.hbm, 3954, rfl⟩
abbrev main_call15_call0_v43 : Ref sig .tc := ⟨.hbm, 3955, rfl⟩
abbrev main_call15_call0_v44 : Ref sig .tc := ⟨.hbm, 3956, rfl⟩
abbrev main_call15_call0_v45 : Ref sig .tc := ⟨.hbm, 3957, rfl⟩
abbrev main_call15_call0_v46 : Ref sig .tc := ⟨.hbm, 3958, rfl⟩
abbrev main_call15_call0_v47 : Ref sig .tc := ⟨.hbm, 3959, rfl⟩
abbrev main_call15_call0_c_11 : Ref sig .tc := ⟨.hbm, 3960, rfl⟩
abbrev main_call15_call0_v48 : Ref sig .tc := ⟨.hbm, 3961, rfl⟩
abbrev main_call15_call0_v49 : Ref sig .tc := ⟨.hbm, 3962, rfl⟩
abbrev main_call15_call0_c_12 : Ref sig .tc := ⟨.hbm, 3963, rfl⟩
abbrev main_call15_call0_v50 : Ref sig .tc := ⟨.hbm, 3964, rfl⟩
abbrev main_call15_call0_v51 : Ref sig .tc := ⟨.hbm, 3965, rfl⟩
abbrev main_call15_call0_v52 : Ref sig .tc := ⟨.hbm, 3966, rfl⟩
abbrev main_call15_call0_v53 : Ref sig .tc := ⟨.hbm, 3967, rfl⟩
abbrev main_call15_call0_v54 : Ref sig .tc := ⟨.hbm, 3968, rfl⟩
abbrev main_call15_call0_c_13 : Ref sig .tc := ⟨.hbm, 3969, rfl⟩
abbrev main_call15_call0_v55 : Ref sig .tc := ⟨.hbm, 3970, rfl⟩
abbrev main_call15_call0_v56 : Ref sig .tc := ⟨.hbm, 3971, rfl⟩
abbrev main_call15_call0_c_14 : Ref sig .tc := ⟨.hbm, 3972, rfl⟩
abbrev main_call15_call0_v57 : Ref sig .tc := ⟨.hbm, 3973, rfl⟩
abbrev main_call15_call0_v58 : Ref sig .tc := ⟨.hbm, 3974, rfl⟩
abbrev main_call15_call0_v59 : Ref sig .tc := ⟨.hbm, 3975, rfl⟩
abbrev main_call15_call0_v60 : Ref sig .tc := ⟨.hbm, 3976, rfl⟩
abbrev main_call15_call0_v61 : Ref sig .tc := ⟨.hbm, 3977, rfl⟩
abbrev main_call15_call0_c_15 : Ref sig .tc := ⟨.hbm, 3978, rfl⟩
abbrev main_call15_call0_v62 : Ref sig .tc := ⟨.hbm, 3979, rfl⟩
abbrev main_call15_call0_v63 : Ref sig .tc := ⟨.hbm, 3980, rfl⟩
abbrev main_call15_call0_c_16 : Ref sig .tc := ⟨.hbm, 3981, rfl⟩
abbrev main_call15_call0_v64 : Ref sig .tc := ⟨.hbm, 3982, rfl⟩
abbrev main_call15_call0_v65 : Ref sig .tc := ⟨.hbm, 3983, rfl⟩
abbrev main_call15_call0_v66 : Ref sig .tc := ⟨.hbm, 3984, rfl⟩
abbrev main_call15_call0_v67 : Ref sig .tc := ⟨.hbm, 3985, rfl⟩
abbrev main_call15_call0_v68 : Ref sig .tc := ⟨.hbm, 3986, rfl⟩
abbrev main_call15_call0_v69 : Ref sig .tc := ⟨.hbm, 3987, rfl⟩
abbrev main_call15_call0_v70 : Ref sig .tc := ⟨.hbm, 3988, rfl⟩
abbrev main_call15_call0_v71 : Ref sig .tc := ⟨.hbm, 3989, rfl⟩
abbrev main_call15_call0_c_17 : Ref sig .tc := ⟨.hbm, 3990, rfl⟩
abbrev main_call15_call0_v72 : Ref sig .tc := ⟨.hbm, 3991, rfl⟩
abbrev main_call15_call0_v73 : Ref sig .tc := ⟨.hbm, 3992, rfl⟩
abbrev main_call15_call0_v74 : Ref sig .tc := ⟨.hbm, 3993, rfl⟩
abbrev main_call15_call0_c_18 : Ref sig .tc := ⟨.hbm, 3994, rfl⟩
abbrev main_call15_call0_v75 : Ref sig .tc := ⟨.hbm, 3995, rfl⟩
abbrev main_call15_call0_v76 : Ref sig .tc := ⟨.hbm, 3996, rfl⟩
abbrev main_call15_call0_c_19 : Ref sig .tc := ⟨.hbm, 3997, rfl⟩
abbrev main_call15_call0_v77 : Ref sig .tc := ⟨.hbm, 3998, rfl⟩
abbrev main_call15_call0_v78 : Ref sig .tc := ⟨.hbm, 3999, rfl⟩
abbrev main_call15_call0_v79 : Ref sig .tc := ⟨.hbm, 4000, rfl⟩
abbrev main_call15_call0_v80 : Ref sig .tc := ⟨.hbm, 4001, rfl⟩
abbrev main_call15_call0_v81 : Ref sig .tc := ⟨.hbm, 4002, rfl⟩
abbrev main_call15_call0_c_20 : Ref sig .tc := ⟨.hbm, 4003, rfl⟩
abbrev main_call15_call0_v82 : Ref sig .tc := ⟨.hbm, 4004, rfl⟩
abbrev main_call15_call0_v83 : Ref sig .tc := ⟨.hbm, 4005, rfl⟩
abbrev main_call15_call0_c_21 : Ref sig .tc := ⟨.hbm, 4006, rfl⟩
abbrev main_call15_call0_v84 : Ref sig .tc := ⟨.hbm, 4007, rfl⟩
abbrev main_call15_call0_v85 : Ref sig .tc := ⟨.hbm, 4008, rfl⟩
abbrev main_call15_call0_v86 : Ref sig .tc := ⟨.hbm, 4009, rfl⟩
abbrev main_call15_call0_v87 : Ref sig .tc := ⟨.hbm, 4010, rfl⟩
abbrev main_call15_call0_v88 : Ref sig .tc := ⟨.hbm, 4011, rfl⟩
abbrev main_call15_call0_c_22 : Ref sig .tc := ⟨.hbm, 4012, rfl⟩
abbrev main_call15_call0_v89 : Ref sig .tc := ⟨.hbm, 4013, rfl⟩
abbrev main_call15_call0_v90 : Ref sig .tc := ⟨.hbm, 4014, rfl⟩
abbrev main_call15_call0_c_23 : Ref sig .tc := ⟨.hbm, 4015, rfl⟩
abbrev main_call15_call0_v91 : Ref sig .tc := ⟨.hbm, 4016, rfl⟩
abbrev main_call15_call0_v92 : Ref sig .tc := ⟨.hbm, 4017, rfl⟩
abbrev main_call15_call0_v93 : Ref sig .tc := ⟨.hbm, 4018, rfl⟩
abbrev main_call15_call0_v94 : Ref sig .tc := ⟨.hbm, 4019, rfl⟩
abbrev main_call15_call0_v95 : Ref sig .tc := ⟨.hbm, 4020, rfl⟩
abbrev main_call15_call0_c_24 : Ref sig .tc := ⟨.hbm, 4021, rfl⟩
abbrev main_call15_call0_v96 : Ref sig .tc := ⟨.hbm, 4022, rfl⟩
abbrev main_call15_call0_v97 : Ref sig .tc := ⟨.hbm, 4023, rfl⟩
abbrev main_call15_call0_c_25 : Ref sig .tc := ⟨.hbm, 4024, rfl⟩
abbrev main_call15_call0_v98 : Ref sig .tc := ⟨.hbm, 4025, rfl⟩
abbrev main_call15_call0_v99 : Ref sig .tc := ⟨.hbm, 4026, rfl⟩
abbrev main_call15_call0_v100 : Ref sig .tc := ⟨.hbm, 4027, rfl⟩
abbrev main_call15_call0_v101 : Ref sig .tc := ⟨.hbm, 4028, rfl⟩
abbrev main_call15_call0_v102 : Ref sig .tc := ⟨.hbm, 4029, rfl⟩
abbrev main_call15_call0_v103 : Ref sig .tc := ⟨.hbm, 4030, rfl⟩
abbrev main_call15_call0_v104 : Ref sig .tc := ⟨.hbm, 4031, rfl⟩
abbrev main_call15_call0_v105 : Ref sig .tc := ⟨.hbm, 4032, rfl⟩
abbrev main_call15_call0_c_26 : Ref sig .tc := ⟨.hbm, 4033, rfl⟩
abbrev main_call15_call0_v106 : Ref sig .tc := ⟨.hbm, 4034, rfl⟩
abbrev main_call15_call0_v107 : Ref sig .tc := ⟨.hbm, 4035, rfl⟩
abbrev main_call15_call0_v108 : Ref sig .tc := ⟨.hbm, 4036, rfl⟩
abbrev main_call15_call0_c_27 : Ref sig .tc := ⟨.hbm, 4037, rfl⟩
abbrev main_call15_call0_v109 : Ref sig .tc := ⟨.hbm, 4038, rfl⟩
abbrev main_call15_call0_v110 : Ref sig .tc := ⟨.hbm, 4039, rfl⟩
abbrev main_call15_call0_c_28 : Ref sig .tc := ⟨.hbm, 4040, rfl⟩
abbrev main_call15_call0_v111 : Ref sig .tc := ⟨.hbm, 4041, rfl⟩
abbrev main_call15_call0_v112 : Ref sig .tc := ⟨.hbm, 4042, rfl⟩
abbrev main_call15_call0_v113 : Ref sig .tc := ⟨.hbm, 4043, rfl⟩
abbrev main_call15_call0_v114 : Ref sig .tc := ⟨.hbm, 4044, rfl⟩
abbrev main_call15_call0_v115 : Ref sig .tc := ⟨.hbm, 4045, rfl⟩
abbrev main_call15_call0_c_29 : Ref sig .tc := ⟨.hbm, 4046, rfl⟩
abbrev main_call15_call0_v116 : Ref sig .tc := ⟨.hbm, 4047, rfl⟩
abbrev main_call15_call0_v117 : Ref sig .tc := ⟨.hbm, 4048, rfl⟩
abbrev main_call15_call0_c_30 : Ref sig .tc := ⟨.hbm, 4049, rfl⟩
abbrev main_call15_call0_v118 : Ref sig .tc := ⟨.hbm, 4050, rfl⟩
abbrev main_call15_call0_v119 : Ref sig .tc := ⟨.hbm, 4051, rfl⟩
abbrev main_call15_call0_v120 : Ref sig .tc := ⟨.hbm, 4052, rfl⟩
abbrev main_call15_call0_v121 : Ref sig .tc := ⟨.hbm, 4053, rfl⟩
abbrev main_call15_call0_v122 : Ref sig .tc := ⟨.hbm, 4054, rfl⟩
abbrev main_call15_call0_c_31 : Ref sig .tc := ⟨.hbm, 4055, rfl⟩
abbrev main_call15_call0_v123 : Ref sig .tc := ⟨.hbm, 4056, rfl⟩
abbrev main_call15_call0_v124 : Ref sig .tc := ⟨.hbm, 4057, rfl⟩
abbrev main_call15_call0_c_32 : Ref sig .tc := ⟨.hbm, 4058, rfl⟩
abbrev main_call15_call0_v125 : Ref sig .tc := ⟨.hbm, 4059, rfl⟩
abbrev main_call15_call0_v126 : Ref sig .tc := ⟨.hbm, 4060, rfl⟩
abbrev main_call15_call0_v127 : Ref sig .tc := ⟨.hbm, 4061, rfl⟩
abbrev main_call15_call0_v128 : Ref sig .tc := ⟨.hbm, 4062, rfl⟩
abbrev main_call15_call0_v129 : Ref sig .tc := ⟨.hbm, 4063, rfl⟩
abbrev main_call15_call0_c_33 : Ref sig .tc := ⟨.hbm, 4064, rfl⟩
abbrev main_call15_call0_v130 : Ref sig .tc := ⟨.hbm, 4065, rfl⟩
abbrev main_call15_call0_v131 : Ref sig .tc := ⟨.hbm, 4066, rfl⟩
abbrev main_call15_call0_c_34 : Ref sig .tc := ⟨.hbm, 4067, rfl⟩
abbrev main_call15_call0_v132 : Ref sig .tc := ⟨.hbm, 4068, rfl⟩
abbrev main_call15_call0_v133 : Ref sig .tc := ⟨.hbm, 4069, rfl⟩
abbrev main_call15_call0_v134 : Ref sig .tc := ⟨.hbm, 4070, rfl⟩
abbrev main_call15_call0_v135 : Ref sig .tc := ⟨.hbm, 4071, rfl⟩
abbrev main_call15_call0_v136 : Ref sig .tc := ⟨.hbm, 4072, rfl⟩
abbrev main_call15_call0_v137 : Ref sig .tc := ⟨.hbm, 4073, rfl⟩
abbrev main_call15_call0_v138 : Ref sig .tc := ⟨.hbm, 4074, rfl⟩
abbrev main_call15_call0_v139 : Ref sig .tc := ⟨.hbm, 4075, rfl⟩
abbrev main_call15_call0_c_35 : Ref sig .tc := ⟨.hbm, 4076, rfl⟩
abbrev main_call15_call0_v140 : Ref sig .tc := ⟨.hbm, 4077, rfl⟩
abbrev main_call15_call0_v141 : Ref sig .tc := ⟨.hbm, 4078, rfl⟩
abbrev main_call15_call0_v142 : Ref sig .tc := ⟨.hbm, 4079, rfl⟩
abbrev main_call15_call0_c_36 : Ref sig .tc := ⟨.hbm, 4080, rfl⟩
abbrev main_call15_call0_v143 : Ref sig .tc := ⟨.hbm, 4081, rfl⟩
abbrev main_call15_call0_v144 : Ref sig .tc := ⟨.hbm, 4082, rfl⟩
abbrev main_call15_call0_c_37 : Ref sig .tc := ⟨.hbm, 4083, rfl⟩
abbrev main_call15_call0_v145 : Ref sig .tc := ⟨.hbm, 4084, rfl⟩
abbrev main_call15_call0_v146 : Ref sig .tc := ⟨.hbm, 4085, rfl⟩
abbrev main_call15_call0_v147 : Ref sig .tc := ⟨.hbm, 4086, rfl⟩
abbrev main_call15_call0_v148 : Ref sig .tc := ⟨.hbm, 4087, rfl⟩
abbrev main_call15_call0_v149 : Ref sig .tc := ⟨.hbm, 4088, rfl⟩
abbrev main_call15_call0_c_38 : Ref sig .tc := ⟨.hbm, 4089, rfl⟩
abbrev main_call15_call0_v150 : Ref sig .tc := ⟨.hbm, 4090, rfl⟩
abbrev main_call15_call0_v151 : Ref sig .tc := ⟨.hbm, 4091, rfl⟩
abbrev main_call15_call0_c_39 : Ref sig .tc := ⟨.hbm, 4092, rfl⟩
abbrev main_call15_call0_v152 : Ref sig .tc := ⟨.hbm, 4093, rfl⟩
abbrev main_call15_call0_v153 : Ref sig .tc := ⟨.hbm, 4094, rfl⟩
abbrev main_call15_call0_v154 : Ref sig .tc := ⟨.hbm, 4095, rfl⟩

abbrev main_call15_call0_v155 : Ref sig .tc := ⟨.hbm, 4096, rfl⟩
abbrev main_call15_call0_v156 : Ref sig .tc := ⟨.hbm, 4097, rfl⟩
abbrev main_call15_call0_c_40 : Ref sig .tc := ⟨.hbm, 4098, rfl⟩
abbrev main_call15_call0_v157 : Ref sig .tc := ⟨.hbm, 4099, rfl⟩
abbrev main_call15_call0_v158 : Ref sig .tc := ⟨.hbm, 4100, rfl⟩
abbrev main_call15_call0_c_41 : Ref sig .tc := ⟨.hbm, 4101, rfl⟩
abbrev main_call15_call0_v159 : Ref sig .tc := ⟨.hbm, 4102, rfl⟩
abbrev main_call15_call0_v160 : Ref sig .tc := ⟨.hbm, 4103, rfl⟩
abbrev main_call15_call0_v161 : Ref sig .tc := ⟨.hbm, 4104, rfl⟩
abbrev main_call15_call0_v162 : Ref sig .tc := ⟨.hbm, 4105, rfl⟩
abbrev main_call15_call0_v163 : Ref sig .tc := ⟨.hbm, 4106, rfl⟩
abbrev main_call15_call0_c_42 : Ref sig .tc := ⟨.hbm, 4107, rfl⟩
abbrev main_call15_call0_v164 : Ref sig .tc := ⟨.hbm, 4108, rfl⟩
abbrev main_call15_call0_v165 : Ref sig .tc := ⟨.hbm, 4109, rfl⟩
abbrev main_call15_call0_c_43 : Ref sig .tc := ⟨.hbm, 4110, rfl⟩
abbrev main_call15_call0_v166 : Ref sig .tc := ⟨.hbm, 4111, rfl⟩
abbrev main_call15_call0_v167 : Ref sig .tc := ⟨.hbm, 4112, rfl⟩
abbrev main_call15_call0_v168 : Ref sig .tc := ⟨.hbm, 4113, rfl⟩
abbrev main_call15_call0_v169 : Ref sig .tc := ⟨.hbm, 4114, rfl⟩
abbrev main_call15_call0_v170 : Ref sig .tc := ⟨.hbm, 4115, rfl⟩
abbrev main_call15_v11_0 : Ref sig .tc := ⟨.hbm, 4116, rfl⟩
abbrev main_call15_call0_v172 : Ref sig .tc := ⟨.hbm, 4117, rfl⟩
abbrev main_call15_call0_v173 : Ref sig .tc := ⟨.hbm, 4118, rfl⟩
abbrev main_call15_call0_c_44 : Ref sig .tc := ⟨.hbm, 4119, rfl⟩
abbrev main_call15_call0_v174 : Ref sig .tc := ⟨.hbm, 4120, rfl⟩
abbrev main_call15_v11_1 : Ref sig .tc := ⟨.hbm, 4121, rfl⟩
abbrev main_call15_v12 : Ref sig .tc := ⟨.hbm, 4122, rfl⟩
abbrev main_call15_v13 : Ref sig .tc := ⟨.hbm, 4123, rfl⟩
abbrev main_v52 : Ref sig .tc := ⟨.hbm, 4124, rfl⟩
abbrev main_v53 : Ref sig .tc := ⟨.hbm, 4125, rfl⟩
abbrev main_v54 : Ref sig .tc := ⟨.hbm, 4126, rfl⟩
abbrev main_v55 : Ref sig .tc := ⟨.hbm, 4127, rfl⟩
abbrev main_v56 : Ref sig .tc := ⟨.hbm, 4128, rfl⟩
abbrev main_v57 : Ref sig .tc := ⟨.hbm, 4129, rfl⟩
abbrev main_v58 : Ref sig .tc := ⟨.hbm, 4130, rfl⟩
abbrev main_call16_cst : Ref sig .tc := ⟨.hbm, 4131, rfl⟩
abbrev main_call16_cst_0 : Ref sig .tc := ⟨.hbm, 4132, rfl⟩
abbrev main_call16_call0_v0 : Ref sig .tc := ⟨.hbm, 4133, rfl⟩
abbrev main_call16_call0_v1 : Ref sig .tc := ⟨.hbm, 4134, rfl⟩
abbrev main_call16_call0_v2 : Ref sig .tc := ⟨.hbm, 4135, rfl⟩
abbrev main_call16_call0_v3 : Ref sig .tc := ⟨.hbm, 4136, rfl⟩
abbrev main_call16_call0_v4 : Ref sig .tc := ⟨.hbm, 4137, rfl⟩
abbrev main_call16_call0_v5 : Ref sig .tc := ⟨.hbm, 4138, rfl⟩
abbrev main_call16_call0_v6 : Ref sig .tc := ⟨.hbm, 4139, rfl⟩
abbrev main_call16_call0_v7 : Ref sig .tc := ⟨.hbm, 4140, rfl⟩
abbrev main_call16_call0_v8 : Ref sig .tc := ⟨.hbm, 4141, rfl⟩
abbrev main_call16_call0_v9 : Ref sig .tc := ⟨.hbm, 4142, rfl⟩
abbrev main_call16_call0_c : Ref sig .tc := ⟨.hbm, 4143, rfl⟩
abbrev main_call16_call0_v10 : Ref sig .tc := ⟨.hbm, 4144, rfl⟩
abbrev main_call16_call0_v11 : Ref sig .tc := ⟨.hbm, 4145, rfl⟩
abbrev main_call16_call0_c_0 : Ref sig .tc := ⟨.hbm, 4146, rfl⟩
abbrev main_call16_call0_v12 : Ref sig .tc := ⟨.hbm, 4147, rfl⟩
abbrev main_call16_call0_v13 : Ref sig .tc := ⟨.hbm, 4148, rfl⟩
abbrev main_call16_call0_c_1 : Ref sig .tc := ⟨.hbm, 4149, rfl⟩
abbrev main_call16_call0_v14 : Ref sig .tc := ⟨.hbm, 4150, rfl⟩
abbrev main_call16_call0_v15 : Ref sig .tc := ⟨.hbm, 4151, rfl⟩
abbrev main_call16_call0_v16 : Ref sig .tc := ⟨.hbm, 4152, rfl⟩
abbrev main_call16_call0_v17 : Ref sig .tc := ⟨.hbm, 4153, rfl⟩
abbrev main_call16_call0_c_2 : Ref sig .tc := ⟨.hbm, 4154, rfl⟩
abbrev main_call16_call0_v18 : Ref sig .tc := ⟨.hbm, 4155, rfl⟩
abbrev main_call16_call0_v19 : Ref sig .tc := ⟨.hbm, 4156, rfl⟩
abbrev main_call16_call0_v20 : Ref sig .tc := ⟨.hbm, 4157, rfl⟩
abbrev main_call16_call0_v21 : Ref sig .tc := ⟨.hbm, 4158, rfl⟩
abbrev main_call16_call0_call0_v0 : Ref sig .tc := ⟨.hbm, 4159, rfl⟩
abbrev main_call16_call0_call0_c : Ref sig .tc := ⟨.hbm, 4160, rfl⟩
abbrev main_call16_call0_call0_v1 : Ref sig .tc := ⟨.hbm, 4161, rfl⟩
abbrev main_call16_call0_call0_v2 : Ref sig .tc := ⟨.hbm, 4162, rfl⟩
abbrev main_call16_call0_call0_v3 : Ref sig .tc := ⟨.hbm, 4163, rfl⟩
abbrev main_call16_call0_call0_v4 : Ref sig .tc := ⟨.hbm, 4164, rfl⟩
abbrev main_call16_call0_call0_v5 : Ref sig .tc := ⟨.hbm, 4165, rfl⟩
abbrev main_call16_call0_call0_v6 : Ref sig .tc := ⟨.hbm, 4166, rfl⟩
abbrev main_call16_call0_call0_c_0 : Ref sig .tc := ⟨.hbm, 4167, rfl⟩
abbrev main_call16_call0_call0_v7 : Ref sig .tc := ⟨.hbm, 4168, rfl⟩
abbrev main_call16_call0_call0_v8 : Ref sig .tc := ⟨.hbm, 4169, rfl⟩
abbrev main_call16_call0_call0_c_1 : Ref sig .tc := ⟨.hbm, 4170, rfl⟩
abbrev main_call16_call0_call0_v9 : Ref sig .tc := ⟨.hbm, 4171, rfl⟩
abbrev main_call16_call0_call0_v10 : Ref sig .tc := ⟨.hbm, 4172, rfl⟩
abbrev main_call16_call0_call0_v11 : Ref sig .tc := ⟨.hbm, 4173, rfl⟩
abbrev main_call16_call0_call0_v12 : Ref sig .tc := ⟨.hbm, 4174, rfl⟩
abbrev main_call16_call0_call0_v13 : Ref sig .tc := ⟨.hbm, 4175, rfl⟩
abbrev main_call16_call0_call0_c_2 : Ref sig .tc := ⟨.hbm, 4176, rfl⟩
abbrev main_call16_call0_call0_v14 : Ref sig .tc := ⟨.hbm, 4177, rfl⟩
abbrev main_call16_call0_call0_v15 : Ref sig .tc := ⟨.hbm, 4178, rfl⟩
abbrev main_call16_call0_call0_c_3 : Ref sig .tc := ⟨.hbm, 4179, rfl⟩
abbrev main_call16_call0_call0_v16 : Ref sig .tc := ⟨.hbm, 4180, rfl⟩
abbrev main_call16_call0_call0_v17 : Ref sig .tc := ⟨.hbm, 4181, rfl⟩
abbrev main_call16_call0_call0_v18 : Ref sig .tc := ⟨.hbm, 4182, rfl⟩
abbrev main_call16_call0_call0_v19 : Ref sig .tc := ⟨.hbm, 4183, rfl⟩
abbrev main_call16_call0_call0_v20 : Ref sig .tc := ⟨.hbm, 4184, rfl⟩
abbrev main_call16_call0_call0_c_4 : Ref sig .tc := ⟨.hbm, 4185, rfl⟩
abbrev main_call16_call0_call0_v21 : Ref sig .tc := ⟨.hbm, 4186, rfl⟩
abbrev main_call16_call0_call0_v22 : Ref sig .tc := ⟨.hbm, 4187, rfl⟩
abbrev main_call16_call0_call0_c_5 : Ref sig .tc := ⟨.hbm, 4188, rfl⟩
abbrev main_call16_call0_call0_v23 : Ref sig .tc := ⟨.hbm, 4189, rfl⟩
abbrev main_call16_call0_call0_v24 : Ref sig .tc := ⟨.hbm, 4190, rfl⟩
abbrev main_call16_call0_call0_v25 : Ref sig .tc := ⟨.hbm, 4191, rfl⟩
abbrev main_call16_call0_call0_v26 : Ref sig .tc := ⟨.hbm, 4192, rfl⟩
abbrev main_call16_call0_call0_v27 : Ref sig .tc := ⟨.hbm, 4193, rfl⟩
abbrev main_call16_call0_call0_c_6 : Ref sig .tc := ⟨.hbm, 4194, rfl⟩
abbrev main_call16_call0_call0_v28 : Ref sig .tc := ⟨.hbm, 4195, rfl⟩
abbrev main_call16_call0_call0_v29 : Ref sig .tc := ⟨.hbm, 4196, rfl⟩
abbrev main_call16_call0_call0_c_7 : Ref sig .tc := ⟨.hbm, 4197, rfl⟩
abbrev main_call16_call0_call0_v30 : Ref sig .tc := ⟨.hbm, 4198, rfl⟩
abbrev main_call16_call0_call0_v31 : Ref sig .tc := ⟨.hbm, 4199, rfl⟩
abbrev main_call16_call0_call0_v32 : Ref sig .tc := ⟨.hbm, 4200, rfl⟩
abbrev main_call16_call0_call0_v33 : Ref sig .tc := ⟨.hbm, 4201, rfl⟩
abbrev main_call16_call0_call0_v34 : Ref sig .tc := ⟨.hbm, 4202, rfl⟩
abbrev main_call16_call0_call0_v35 : Ref sig .tc := ⟨.hbm, 4203, rfl⟩
abbrev main_call16_call0_call0_v36 : Ref sig .tc := ⟨.hbm, 4204, rfl⟩
abbrev main_call16_call0_call0_v37 : Ref sig .tc := ⟨.hbm, 4205, rfl⟩
abbrev main_call16_call0_call0_c_8 : Ref sig .tc := ⟨.hbm, 4206, rfl⟩
abbrev main_call16_call0_call0_v38 : Ref sig .tc := ⟨.hbm, 4207, rfl⟩
abbrev main_call16_call0_call0_v39 : Ref sig .tc := ⟨.hbm, 4208, rfl⟩
abbrev main_call16_call0_call0_v40 : Ref sig .tc := ⟨.hbm, 4209, rfl⟩
abbrev main_call16_call0_call0_c_9 : Ref sig .tc := ⟨.hbm, 4210, rfl⟩
abbrev main_call16_call0_call0_v41 : Ref sig .tc := ⟨.hbm, 4211, rfl⟩
abbrev main_call16_call0_call0_v42 : Ref sig .tc := ⟨.hbm, 4212, rfl⟩
abbrev main_call16_call0_call0_c_10 : Ref sig .tc := ⟨.hbm, 4213, rfl⟩
abbrev main_call16_call0_call0_v43 : Ref sig .tc := ⟨.hbm, 4214, rfl⟩
abbrev main_call16_call0_call0_v44 : Ref sig .tc := ⟨.hbm, 4215, rfl⟩
abbrev main_call16_call0_call0_v45 : Ref sig .tc := ⟨.hbm, 4216, rfl⟩
abbrev main_call16_call0_call0_v46 : Ref sig .tc := ⟨.hbm, 4217, rfl⟩
abbrev main_call16_call0_call0_v47 : Ref sig .tc := ⟨.hbm, 4218, rfl⟩
abbrev main_call16_call0_call0_c_11 : Ref sig .tc := ⟨.hbm, 4219, rfl⟩
abbrev main_call16_call0_call0_v48 : Ref sig .tc := ⟨.hbm, 4220, rfl⟩
abbrev main_call16_call0_call0_v49 : Ref sig .tc := ⟨.hbm, 4221, rfl⟩
abbrev main_call16_call0_call0_c_12 : Ref sig .tc := ⟨.hbm, 4222, rfl⟩
abbrev main_call16_call0_call0_v50 : Ref sig .tc := ⟨.hbm, 4223, rfl⟩
abbrev main_call16_call0_call0_v51 : Ref sig .tc := ⟨.hbm, 4224, rfl⟩
abbrev main_call16_call0_call0_v52 : Ref sig .tc := ⟨.hbm, 4225, rfl⟩
abbrev main_call16_call0_call0_v53 : Ref sig .tc := ⟨.hbm, 4226, rfl⟩
abbrev main_call16_call0_call0_v54 : Ref sig .tc := ⟨.hbm, 4227, rfl⟩
abbrev main_call16_call0_call0_c_13 : Ref sig .tc := ⟨.hbm, 4228, rfl⟩
abbrev main_call16_call0_call0_v55 : Ref sig .tc := ⟨.hbm, 4229, rfl⟩
abbrev main_call16_call0_call0_v56 : Ref sig .tc := ⟨.hbm, 4230, rfl⟩
abbrev main_call16_call0_call0_c_14 : Ref sig .tc := ⟨.hbm, 4231, rfl⟩
abbrev main_call16_call0_call0_v57 : Ref sig .tc := ⟨.hbm, 4232, rfl⟩
abbrev main_call16_call0_call0_v58 : Ref sig .tc := ⟨.hbm, 4233, rfl⟩
abbrev main_call16_call0_call0_v59 : Ref sig .tc := ⟨.hbm, 4234, rfl⟩
abbrev main_call16_call0_call0_v60 : Ref sig .tc := ⟨.hbm, 4235, rfl⟩
abbrev main_call16_call0_call0_v61 : Ref sig .tc := ⟨.hbm, 4236, rfl⟩
abbrev main_call16_call0_call0_c_15 : Ref sig .tc := ⟨.hbm, 4237, rfl⟩
abbrev main_call16_call0_call0_v62 : Ref sig .tc := ⟨.hbm, 4238, rfl⟩
abbrev main_call16_call0_call0_v63 : Ref sig .tc := ⟨.hbm, 4239, rfl⟩
abbrev main_call16_call0_call0_c_16 : Ref sig .tc := ⟨.hbm, 4240, rfl⟩
abbrev main_call16_call0_call0_v64 : Ref sig .tc := ⟨.hbm, 4241, rfl⟩
abbrev main_call16_call0_call0_v65 : Ref sig .tc := ⟨.hbm, 4242, rfl⟩
abbrev main_call16_call0_call0_v66 : Ref sig .tc := ⟨.hbm, 4243, rfl⟩
abbrev main_call16_call0_call0_v67 : Ref sig .tc := ⟨.hbm, 4244, rfl⟩
abbrev main_call16_call0_call0_v68 : Ref sig .tc := ⟨.hbm, 4245, rfl⟩
abbrev main_call16_call0_call0_v69 : Ref sig .tc := ⟨.hbm, 4246, rfl⟩
abbrev main_call16_call0_call0_v70 : Ref sig .tc := ⟨.hbm, 4247, rfl⟩
abbrev main_call16_call0_call0_v71 : Ref sig .tc := ⟨.hbm, 4248, rfl⟩
abbrev main_call16_call0_call0_c_17 : Ref sig .tc := ⟨.hbm, 4249, rfl⟩
abbrev main_call16_call0_call0_v72 : Ref sig .tc := ⟨.hbm, 4250, rfl⟩
abbrev main_call16_call0_call0_v73 : Ref sig .tc := ⟨.hbm, 4251, rfl⟩
abbrev main_call16_call0_call0_v74 : Ref sig .tc := ⟨.hbm, 4252, rfl⟩
abbrev main_call16_call0_call0_c_18 : Ref sig .tc := ⟨.hbm, 4253, rfl⟩
abbrev main_call16_call0_call0_v75 : Ref sig .tc := ⟨.hbm, 4254, rfl⟩
abbrev main_call16_call0_call0_v76 : Ref sig .tc := ⟨.hbm, 4255, rfl⟩
abbrev main_call16_call0_call0_c_19 : Ref sig .tc := ⟨.hbm, 4256, rfl⟩
abbrev main_call16_call0_call0_v77 : Ref sig .tc := ⟨.hbm, 4257, rfl⟩
abbrev main_call16_call0_call0_v78 : Ref sig .tc := ⟨.hbm, 4258, rfl⟩
abbrev main_call16_call0_call0_v79 : Ref sig .tc := ⟨.hbm, 4259, rfl⟩
abbrev main_call16_call0_call0_v80 : Ref sig .tc := ⟨.hbm, 4260, rfl⟩
abbrev main_call16_call0_call0_v81 : Ref sig .tc := ⟨.hbm, 4261, rfl⟩
abbrev main_call16_call0_call0_c_20 : Ref sig .tc := ⟨.hbm, 4262, rfl⟩
abbrev main_call16_call0_call0_v82 : Ref sig .tc := ⟨.hbm, 4263, rfl⟩
abbrev main_call16_call0_call0_v83 : Ref sig .tc := ⟨.hbm, 4264, rfl⟩
abbrev main_call16_call0_call0_c_21 : Ref sig .tc := ⟨.hbm, 4265, rfl⟩
abbrev main_call16_call0_call0_v84 : Ref sig .tc := ⟨.hbm, 4266, rfl⟩
abbrev main_call16_call0_call0_v85 : Ref sig .tc := ⟨.hbm, 4267, rfl⟩
abbrev main_call16_call0_call0_v86 : Ref sig .tc := ⟨.hbm, 4268, rfl⟩
abbrev main_call16_call0_call0_v87 : Ref sig .tc := ⟨.hbm, 4269, rfl⟩
abbrev main_call16_call0_call0_v88 : Ref sig .tc := ⟨.hbm, 4270, rfl⟩
abbrev main_call16_call0_call0_c_22 : Ref sig .tc := ⟨.hbm, 4271, rfl⟩
abbrev main_call16_call0_call0_v89 : Ref sig .tc := ⟨.hbm, 4272, rfl⟩
abbrev main_call16_call0_call0_v90 : Ref sig .tc := ⟨.hbm, 4273, rfl⟩
abbrev main_call16_call0_call0_c_23 : Ref sig .tc := ⟨.hbm, 4274, rfl⟩
abbrev main_call16_call0_call0_v91 : Ref sig .tc := ⟨.hbm, 4275, rfl⟩
abbrev main_call16_call0_call0_v92 : Ref sig .tc := ⟨.hbm, 4276, rfl⟩
abbrev main_call16_call0_call0_v93 : Ref sig .tc := ⟨.hbm, 4277, rfl⟩
abbrev main_call16_call0_call0_v94 : Ref sig .tc := ⟨.hbm, 4278, rfl⟩
abbrev main_call16_call0_call0_v95 : Ref sig .tc := ⟨.hbm, 4279, rfl⟩
abbrev main_call16_call0_call0_c_24 : Ref sig .tc := ⟨.hbm, 4280, rfl⟩
abbrev main_call16_call0_call0_v96 : Ref sig .tc := ⟨.hbm, 4281, rfl⟩
abbrev main_call16_call0_call0_v97 : Ref sig .tc := ⟨.hbm, 4282, rfl⟩
abbrev main_call16_call0_call0_c_25 : Ref sig .tc := ⟨.hbm, 4283, rfl⟩
abbrev main_call16_call0_call0_v98 : Ref sig .tc := ⟨.hbm, 4284, rfl⟩
abbrev main_call16_call0_call0_v99 : Ref sig .tc := ⟨.hbm, 4285, rfl⟩
abbrev main_call16_call0_call0_v100 : Ref sig .tc := ⟨.hbm, 4286, rfl⟩
abbrev main_call16_call0_call0_v101 : Ref sig .tc := ⟨.hbm, 4287, rfl⟩
abbrev main_call16_call0_call0_v102 : Ref sig .tc := ⟨.hbm, 4288, rfl⟩
abbrev main_call16_call0_call0_v103 : Ref sig .tc := ⟨.hbm, 4289, rfl⟩
abbrev main_call16_call0_call0_v104 : Ref sig .tc := ⟨.hbm, 4290, rfl⟩
abbrev main_call16_call0_call0_v105 : Ref sig .tc := ⟨.hbm, 4291, rfl⟩
abbrev main_call16_call0_call0_c_26 : Ref sig .tc := ⟨.hbm, 4292, rfl⟩
abbrev main_call16_call0_call0_v106 : Ref sig .tc := ⟨.hbm, 4293, rfl⟩
abbrev main_call16_call0_call0_v107 : Ref sig .tc := ⟨.hbm, 4294, rfl⟩
abbrev main_call16_call0_call0_v108 : Ref sig .tc := ⟨.hbm, 4295, rfl⟩
abbrev main_call16_call0_call0_c_27 : Ref sig .tc := ⟨.hbm, 4296, rfl⟩
abbrev main_call16_call0_call0_v109 : Ref sig .tc := ⟨.hbm, 4297, rfl⟩
abbrev main_call16_call0_call0_v110 : Ref sig .tc := ⟨.hbm, 4298, rfl⟩
abbrev main_call16_call0_call0_c_28 : Ref sig .tc := ⟨.hbm, 4299, rfl⟩
abbrev main_call16_call0_call0_v111 : Ref sig .tc := ⟨.hbm, 4300, rfl⟩
abbrev main_call16_call0_call0_v112 : Ref sig .tc := ⟨.hbm, 4301, rfl⟩
abbrev main_call16_call0_call0_v113 : Ref sig .tc := ⟨.hbm, 4302, rfl⟩
abbrev main_call16_call0_call0_v114 : Ref sig .tc := ⟨.hbm, 4303, rfl⟩
abbrev main_call16_call0_call0_v115 : Ref sig .tc := ⟨.hbm, 4304, rfl⟩
abbrev main_call16_call0_call0_c_29 : Ref sig .tc := ⟨.hbm, 4305, rfl⟩
abbrev main_call16_call0_call0_v116 : Ref sig .tc := ⟨.hbm, 4306, rfl⟩
abbrev main_call16_call0_call0_v117 : Ref sig .tc := ⟨.hbm, 4307, rfl⟩
abbrev main_call16_call0_call0_c_30 : Ref sig .tc := ⟨.hbm, 4308, rfl⟩
abbrev main_call16_call0_call0_v118 : Ref sig .tc := ⟨.hbm, 4309, rfl⟩
abbrev main_call16_call0_call0_v119 : Ref sig .tc := ⟨.hbm, 4310, rfl⟩
abbrev main_call16_call0_call0_v120 : Ref sig .tc := ⟨.hbm, 4311, rfl⟩
abbrev main_call16_call0_call0_v121 : Ref sig .tc := ⟨.hbm, 4312, rfl⟩
abbrev main_call16_call0_call0_v122 : Ref sig .tc := ⟨.hbm, 4313, rfl⟩
abbrev main_call16_call0_call0_c_31 : Ref sig .tc := ⟨.hbm, 4314, rfl⟩
abbrev main_call16_call0_call0_v123 : Ref sig .tc := ⟨.hbm, 4315, rfl⟩
abbrev main_call16_call0_call0_v124 : Ref sig .tc := ⟨.hbm, 4316, rfl⟩
abbrev main_call16_call0_call0_c_32 : Ref sig .tc := ⟨.hbm, 4317, rfl⟩
abbrev main_call16_call0_call0_v125 : Ref sig .tc := ⟨.hbm, 4318, rfl⟩
abbrev main_call16_call0_call0_v126 : Ref sig .tc := ⟨.hbm, 4319, rfl⟩
abbrev main_call16_call0_call0_v127 : Ref sig .tc := ⟨.hbm, 4320, rfl⟩
abbrev main_call16_call0_call0_v128 : Ref sig .tc := ⟨.hbm, 4321, rfl⟩
abbrev main_call16_call0_call0_v129 : Ref sig .tc := ⟨.hbm, 4322, rfl⟩
abbrev main_call16_call0_call0_c_33 : Ref sig .tc := ⟨.hbm, 4323, rfl⟩
abbrev main_call16_call0_call0_v130 : Ref sig .tc := ⟨.hbm, 4324, rfl⟩
abbrev main_call16_call0_call0_v131 : Ref sig .tc := ⟨.hbm, 4325, rfl⟩
abbrev main_call16_call0_call0_c_34 : Ref sig .tc := ⟨.hbm, 4326, rfl⟩
abbrev main_call16_call0_call0_v132 : Ref sig .tc := ⟨.hbm, 4327, rfl⟩
abbrev main_call16_call0_call0_v133 : Ref sig .tc := ⟨.hbm, 4328, rfl⟩
abbrev main_call16_call0_call0_v134 : Ref sig .tc := ⟨.hbm, 4329, rfl⟩
abbrev main_call16_call0_call0_v135 : Ref sig .tc := ⟨.hbm, 4330, rfl⟩
abbrev main_call16_call0_call0_v136 : Ref sig .tc := ⟨.hbm, 4331, rfl⟩
abbrev main_call16_call0_call0_v137 : Ref sig .tc := ⟨.hbm, 4332, rfl⟩
abbrev main_call16_call0_call0_v138 : Ref sig .tc := ⟨.hbm, 4333, rfl⟩
abbrev main_call16_call0_call0_v139 : Ref sig .tc := ⟨.hbm, 4334, rfl⟩
abbrev main_call16_call0_call0_c_35 : Ref sig .tc := ⟨.hbm, 4335, rfl⟩
abbrev main_call16_call0_call0_v140 : Ref sig .tc := ⟨.hbm, 4336, rfl⟩
abbrev main_call16_call0_call0_v141 : Ref sig .tc := ⟨.hbm, 4337, rfl⟩
abbrev main_call16_call0_call0_v142 : Ref sig .tc := ⟨.hbm, 4338, rfl⟩
abbrev main_call16_call0_call0_c_36 : Ref sig .tc := ⟨.hbm, 4339, rfl⟩
abbrev main_call16_call0_call0_v143 : Ref sig .tc := ⟨.hbm, 4340, rfl⟩
abbrev main_call16_call0_call0_v144 : Ref sig .tc := ⟨.hbm, 4341, rfl⟩
abbrev main_call16_call0_call0_c_37 : Ref sig .tc := ⟨.hbm, 4342, rfl⟩
abbrev main_call16_call0_call0_v145 : Ref sig .tc := ⟨.hbm, 4343, rfl⟩
abbrev main_call16_call0_call0_v146 : Ref sig .tc := ⟨.hbm, 4344, rfl⟩
abbrev main_call16_call0_call0_v147 : Ref sig .tc := ⟨.hbm, 4345, rfl⟩
abbrev main_call16_call0_call0_v148 : Ref sig .tc := ⟨.hbm, 4346, rfl⟩
abbrev main_call16_call0_call0_v149 : Ref sig .tc := ⟨.hbm, 4347, rfl⟩
abbrev main_call16_call0_call0_c_38 : Ref sig .tc := ⟨.hbm, 4348, rfl⟩
abbrev main_call16_call0_call0_v150 : Ref sig .tc := ⟨.hbm, 4349, rfl⟩
abbrev main_call16_call0_call0_v151 : Ref sig .tc := ⟨.hbm, 4350, rfl⟩
abbrev main_call16_call0_call0_c_39 : Ref sig .tc := ⟨.hbm, 4351, rfl⟩
abbrev main_call16_call0_call0_v152 : Ref sig .tc := ⟨.hbm, 4352, rfl⟩
abbrev main_call16_call0_call0_v153 : Ref sig .tc := ⟨.hbm, 4353, rfl⟩
abbrev main_call16_call0_call0_v154 : Ref sig .tc := ⟨.hbm, 4354, rfl⟩
abbrev main_call16_call0_call0_v155 : Ref sig .tc := ⟨.hbm, 4355, rfl⟩
abbrev main_call16_call0_call0_v156 : Ref sig .tc := ⟨.hbm, 4356, rfl⟩
abbrev main_call16_call0_call0_c_40 : Ref sig .tc := ⟨.hbm, 4357, rfl⟩
abbrev main_call16_call0_call0_v157 : Ref sig .tc := ⟨.hbm, 4358, rfl⟩
abbrev main_call16_call0_call0_v158 : Ref sig .tc := ⟨.hbm, 4359, rfl⟩
abbrev main_call16_call0_call0_c_41 : Ref sig .tc := ⟨.hbm, 4360, rfl⟩
abbrev main_call16_call0_call0_v159 : Ref sig .tc := ⟨.hbm, 4361, rfl⟩
abbrev main_call16_call0_call0_v160 : Ref sig .tc := ⟨.hbm, 4362, rfl⟩
abbrev main_call16_call0_call0_v161 : Ref sig .tc := ⟨.hbm, 4363, rfl⟩
abbrev main_call16_call0_call0_v162 : Ref sig .tc := ⟨.hbm, 4364, rfl⟩
abbrev main_call16_call0_call0_v163 : Ref sig .tc := ⟨.hbm, 4365, rfl⟩
abbrev main_call16_call0_call0_c_42 : Ref sig .tc := ⟨.hbm, 4366, rfl⟩
abbrev main_call16_call0_call0_v164 : Ref sig .tc := ⟨.hbm, 4367, rfl⟩
abbrev main_call16_call0_call0_v165 : Ref sig .tc := ⟨.hbm, 4368, rfl⟩
abbrev main_call16_call0_call0_c_43 : Ref sig .tc := ⟨.hbm, 4369, rfl⟩
abbrev main_call16_call0_call0_v166 : Ref sig .tc := ⟨.hbm, 4370, rfl⟩
abbrev main_call16_call0_call0_v167 : Ref sig .tc := ⟨.hbm, 4371, rfl⟩
abbrev main_call16_call0_call0_v168 : Ref sig .tc := ⟨.hbm, 4372, rfl⟩
abbrev main_call16_call0_call0_v169 : Ref sig .tc := ⟨.hbm, 4373, rfl⟩
abbrev main_call16_call0_call0_v170 : Ref sig .tc := ⟨.hbm, 4374, rfl⟩
abbrev main_call16_call0_v22_0 : Ref sig .tc := ⟨.hbm, 4375, rfl⟩
abbrev main_call16_call0_call0_v172 : Ref sig .tc := ⟨.hbm, 4376, rfl⟩
abbrev main_call16_call0_call0_v173 : Ref sig .tc := ⟨.hbm, 4377, rfl⟩
abbrev main_call16_call0_call0_c_44 : Ref sig .tc := ⟨.hbm, 4378, rfl⟩
abbrev main_call16_call0_call0_v174 : Ref sig .tc := ⟨.hbm, 4379, rfl⟩
abbrev main_call16_call0_v22_1 : Ref sig .tc := ⟨.hbm, 4380, rfl⟩
abbrev main_call16_call0_v23 : Ref sig .tc := ⟨.hbm, 4381, rfl⟩
abbrev main_call16_call0_c_3 : Ref sig .tc := ⟨.hbm, 4382, rfl⟩
abbrev main_call16_call0_v24 : Ref sig .tc := ⟨.hbm, 4383, rfl⟩
abbrev main_call16_call0_v25 : Ref sig .tc := ⟨.hbm, 4384, rfl⟩
abbrev main_call16_call0_c_4 : Ref sig .tc := ⟨.hbm, 4385, rfl⟩
abbrev main_call16_call0_v26 : Ref sig .tc := ⟨.hbm, 4386, rfl⟩
abbrev main_call16_call0_v27 : Ref sig .tc := ⟨.hbm, 4387, rfl⟩
abbrev main_call16_call0_v28 : Ref sig .tc := ⟨.hbm, 4388, rfl⟩
abbrev main_call16_call0_cst : Ref sig .tc := ⟨.hbm, 4389, rfl⟩
abbrev main_call16_call0_v29 : Ref sig .tc := ⟨.hbm, 4390, rfl⟩
abbrev main_call16_call0_v30 : Ref sig .tc := ⟨.hbm, 4391, rfl⟩
abbrev main_call16_call0_v31 : Ref sig .tc := ⟨.hbm, 4392, rfl⟩
abbrev main_call16_call0_v32 : Ref sig .tc := ⟨.hbm, 4393, rfl⟩
abbrev main_call16_call0_v33 : Ref sig .tc := ⟨.hbm, 4394, rfl⟩
abbrev main_call16_call0_v34 : Ref sig .tc := ⟨.hbm, 4395, rfl⟩
abbrev main_call16_call0_v35 : Ref sig .tc := ⟨.hbm, 4396, rfl⟩
abbrev main_call16_call0_v36 : Ref sig .tc := ⟨.hbm, 4397, rfl⟩
abbrev main_call16_v0 : Ref sig .tc := ⟨.hbm, 4398, rfl⟩
abbrev main_call16_v1 : Ref sig .tc := ⟨.hbm, 4399, rfl⟩
abbrev main_call16_v2 : Ref sig .tc := ⟨.hbm, 4400, rfl⟩
abbrev main_call16_v3 : Ref sig .tc := ⟨.hbm, 4401, rfl⟩
abbrev main_v59 : Ref sig .tc := ⟨.hbm, 4402, rfl⟩
abbrev main_cst_11 : Ref sig .tc := ⟨.hbm, 4403, rfl⟩
abbrev main_cst_12 : Ref sig .tc := ⟨.hbm, 4404, rfl⟩
abbrev main_call17_v0 : Ref sig .tc := ⟨.hbm, 4405, rfl⟩
abbrev main_call17_v1 : Ref sig .tc := ⟨.hbm, 4406, rfl⟩
abbrev main_call17_v2 : Ref sig .tc := ⟨.hbm, 4407, rfl⟩
abbrev main_call17_v3 : Ref sig .tc := ⟨.hbm, 4408, rfl⟩
abbrev main_call17_v4 : Ref sig .tc := ⟨.hbm, 4409, rfl⟩
abbrev main_call17_v5 : Ref sig .tc := ⟨.hbm, 4410, rfl⟩
abbrev main_call17_v6 : Ref sig .tc := ⟨.hbm, 4411, rfl⟩
abbrev main_call17_v7 : Ref sig .tc := ⟨.hbm, 4412, rfl⟩
abbrev main_call17_v8 : Ref sig .tc := ⟨.hbm, 4413, rfl⟩
abbrev main_call17_c : Ref sig .tc := ⟨.hbm, 4414, rfl⟩
abbrev main_call17_v9 : Ref sig .tc := ⟨.hbm, 4415, rfl⟩
abbrev main_call17_v10 : Ref sig .tc := ⟨.hbm, 4416, rfl⟩
abbrev main_call17_c_0 : Ref sig .tc := ⟨.hbm, 4417, rfl⟩
abbrev main_call17_v11 : Ref sig .tc := ⟨.hbm, 4418, rfl⟩
abbrev main_call17_v12 : Ref sig .tc := ⟨.hbm, 4419, rfl⟩
abbrev main_call17_v13 : Ref sig .tc := ⟨.hbm, 4420, rfl⟩
abbrev main_call17_v14 : Ref sig .tc := ⟨.hbm, 4421, rfl⟩
abbrev main_call17_call0_v0 : Ref sig .tc := ⟨.hbm, 4422, rfl⟩
abbrev main_call17_call0_c : Ref sig .tc := ⟨.hbm, 4423, rfl⟩
abbrev main_call17_call0_v1 : Ref sig .tc := ⟨.hbm, 4424, rfl⟩
abbrev main_call17_call0_v2 : Ref sig .tc := ⟨.hbm, 4425, rfl⟩
abbrev main_call17_call0_v3 : Ref sig .tc := ⟨.hbm, 4426, rfl⟩
abbrev main_call17_call0_v4 : Ref sig .tc := ⟨.hbm, 4427, rfl⟩
abbrev main_call17_call0_v5 : Ref sig .tc := ⟨.hbm, 4428, rfl⟩
abbrev main_call17_call0_v6 : Ref sig .tc := ⟨.hbm, 4429, rfl⟩
abbrev main_call17_call0_c_0 : Ref sig .tc := ⟨.hbm, 4430, rfl⟩
abbrev main_call17_call0_v7 : Ref sig .tc := ⟨.hbm, 4431, rfl⟩
abbrev main_call17_call0_v8 : Ref sig .tc := ⟨.hbm, 4432, rfl⟩
abbrev main_call17_call0_c_1 : Ref sig .tc := ⟨.hbm, 4433, rfl⟩
abbrev main_call17_call0_v9 : Ref sig .tc := ⟨.hbm, 4434, rfl⟩
abbrev main_call17_call0_v10 : Ref sig .tc := ⟨.hbm, 4435, rfl⟩
abbrev main_call17_call0_v11 : Ref sig .tc := ⟨.hbm, 4436, rfl⟩
abbrev main_call17_call0_v12 : Ref sig .tc := ⟨.hbm, 4437, rfl⟩
abbrev main_call17_call0_v13 : Ref sig .tc := ⟨.hbm, 4438, rfl⟩
abbrev main_call17_call0_c_2 : Ref sig .tc := ⟨.hbm, 4439, rfl⟩
abbrev main_call17_call0_v14 : Ref sig .tc := ⟨.hbm, 4440, rfl⟩
abbrev main_call17_call0_v15 : Ref sig .tc := ⟨.hbm, 4441, rfl⟩
abbrev main_call17_call0_c_3 : Ref sig .tc := ⟨.hbm, 4442, rfl⟩
abbrev main_call17_call0_v16 : Ref sig .tc := ⟨.hbm, 4443, rfl⟩
abbrev main_call17_call0_v17 : Ref sig .tc := ⟨.hbm, 4444, rfl⟩
abbrev main_call17_call0_v18 : Ref sig .tc := ⟨.hbm, 4445, rfl⟩
abbrev main_call17_call0_v19 : Ref sig .tc := ⟨.hbm, 4446, rfl⟩
abbrev main_call17_call0_v20 : Ref sig .tc := ⟨.hbm, 4447, rfl⟩
abbrev main_call17_call0_c_4 : Ref sig .tc := ⟨.hbm, 4448, rfl⟩
abbrev main_call17_call0_v21 : Ref sig .tc := ⟨.hbm, 4449, rfl⟩
abbrev main_call17_call0_v22 : Ref sig .tc := ⟨.hbm, 4450, rfl⟩
abbrev main_call17_call0_c_5 : Ref sig .tc := ⟨.hbm, 4451, rfl⟩
abbrev main_call17_call0_v23 : Ref sig .tc := ⟨.hbm, 4452, rfl⟩
abbrev main_call17_call0_v24 : Ref sig .tc := ⟨.hbm, 4453, rfl⟩
abbrev main_call17_call0_v25 : Ref sig .tc := ⟨.hbm, 4454, rfl⟩
abbrev main_call17_call0_v26 : Ref sig .tc := ⟨.hbm, 4455, rfl⟩
abbrev main_call17_call0_v27 : Ref sig .tc := ⟨.hbm, 4456, rfl⟩
abbrev main_call17_call0_c_6 : Ref sig .tc := ⟨.hbm, 4457, rfl⟩
abbrev main_call17_call0_v28 : Ref sig .tc := ⟨.hbm, 4458, rfl⟩
abbrev main_call17_call0_v29 : Ref sig .tc := ⟨.hbm, 4459, rfl⟩
abbrev main_call17_call0_c_7 : Ref sig .tc := ⟨.hbm, 4460, rfl⟩
abbrev main_call17_call0_v30 : Ref sig .tc := ⟨.hbm, 4461, rfl⟩
abbrev main_call17_call0_v31 : Ref sig .tc := ⟨.hbm, 4462, rfl⟩
abbrev main_call17_call0_v32 : Ref sig .tc := ⟨.hbm, 4463, rfl⟩
abbrev main_call17_call0_v33 : Ref sig .tc := ⟨.hbm, 4464, rfl⟩
abbrev main_call17_call0_v34 : Ref sig .tc := ⟨.hbm, 4465, rfl⟩
abbrev main_call17_call0_v35 : Ref sig .tc := ⟨.hbm, 4466, rfl⟩
abbrev main_call17_call0_v36 : Ref sig .tc := ⟨.hbm, 4467, rfl⟩
abbrev main_call17_call0_v37 : Ref sig .tc := ⟨.hbm, 4468, rfl⟩
abbrev main_call17_call0_c_8 : Ref sig .tc := ⟨.hbm, 4469, rfl⟩
abbrev main_call17_call0_v38 : Ref sig .tc := ⟨.hbm, 4470, rfl⟩
abbrev main_call17_call0_v39 : Ref sig .tc := ⟨.hbm, 4471, rfl⟩
abbrev main_call17_call0_v40 : Ref sig .tc := ⟨.hbm, 4472, rfl⟩
abbrev main_call17_call0_c_9 : Ref sig .tc := ⟨.hbm, 4473, rfl⟩
abbrev main_call17_call0_v41 : Ref sig .tc := ⟨.hbm, 4474, rfl⟩
abbrev main_call17_call0_v42 : Ref sig .tc := ⟨.hbm, 4475, rfl⟩
abbrev main_call17_call0_c_10 : Ref sig .tc := ⟨.hbm, 4476, rfl⟩
abbrev main_call17_call0_v43 : Ref sig .tc := ⟨.hbm, 4477, rfl⟩
abbrev main_call17_call0_v44 : Ref sig .tc := ⟨.hbm, 4478, rfl⟩
abbrev main_call17_call0_v45 : Ref sig .tc := ⟨.hbm, 4479, rfl⟩
abbrev main_call17_call0_v46 : Ref sig .tc := ⟨.hbm, 4480, rfl⟩
abbrev main_call17_call0_v47 : Ref sig .tc := ⟨.hbm, 4481, rfl⟩
abbrev main_call17_call0_c_11 : Ref sig .tc := ⟨.hbm, 4482, rfl⟩
abbrev main_call17_call0_v48 : Ref sig .tc := ⟨.hbm, 4483, rfl⟩
abbrev main_call17_call0_v49 : Ref sig .tc := ⟨.hbm, 4484, rfl⟩
abbrev main_call17_call0_c_12 : Ref sig .tc := ⟨.hbm, 4485, rfl⟩
abbrev main_call17_call0_v50 : Ref sig .tc := ⟨.hbm, 4486, rfl⟩
abbrev main_call17_call0_v51 : Ref sig .tc := ⟨.hbm, 4487, rfl⟩
abbrev main_call17_call0_v52 : Ref sig .tc := ⟨.hbm, 4488, rfl⟩
abbrev main_call17_call0_v53 : Ref sig .tc := ⟨.hbm, 4489, rfl⟩
abbrev main_call17_call0_v54 : Ref sig .tc := ⟨.hbm, 4490, rfl⟩
abbrev main_call17_call0_c_13 : Ref sig .tc := ⟨.hbm, 4491, rfl⟩
abbrev main_call17_call0_v55 : Ref sig .tc := ⟨.hbm, 4492, rfl⟩
abbrev main_call17_call0_v56 : Ref sig .tc := ⟨.hbm, 4493, rfl⟩
abbrev main_call17_call0_c_14 : Ref sig .tc := ⟨.hbm, 4494, rfl⟩
abbrev main_call17_call0_v57 : Ref sig .tc := ⟨.hbm, 4495, rfl⟩
abbrev main_call17_call0_v58 : Ref sig .tc := ⟨.hbm, 4496, rfl⟩
abbrev main_call17_call0_v59 : Ref sig .tc := ⟨.hbm, 4497, rfl⟩
abbrev main_call17_call0_v60 : Ref sig .tc := ⟨.hbm, 4498, rfl⟩
abbrev main_call17_call0_v61 : Ref sig .tc := ⟨.hbm, 4499, rfl⟩
abbrev main_call17_call0_c_15 : Ref sig .tc := ⟨.hbm, 4500, rfl⟩
abbrev main_call17_call0_v62 : Ref sig .tc := ⟨.hbm, 4501, rfl⟩
abbrev main_call17_call0_v63 : Ref sig .tc := ⟨.hbm, 4502, rfl⟩
abbrev main_call17_call0_c_16 : Ref sig .tc := ⟨.hbm, 4503, rfl⟩
abbrev main_call17_call0_v64 : Ref sig .tc := ⟨.hbm, 4504, rfl⟩
abbrev main_call17_call0_v65 : Ref sig .tc := ⟨.hbm, 4505, rfl⟩
abbrev main_call17_call0_v66 : Ref sig .tc := ⟨.hbm, 4506, rfl⟩
abbrev main_call17_call0_v67 : Ref sig .tc := ⟨.hbm, 4507, rfl⟩
abbrev main_call17_call0_v68 : Ref sig .tc := ⟨.hbm, 4508, rfl⟩
abbrev main_call17_call0_v69 : Ref sig .tc := ⟨.hbm, 4509, rfl⟩
abbrev main_call17_call0_v70 : Ref sig .tc := ⟨.hbm, 4510, rfl⟩
abbrev main_call17_call0_v71 : Ref sig .tc := ⟨.hbm, 4511, rfl⟩
abbrev main_call17_call0_c_17 : Ref sig .tc := ⟨.hbm, 4512, rfl⟩
abbrev main_call17_call0_v72 : Ref sig .tc := ⟨.hbm, 4513, rfl⟩
abbrev main_call17_call0_v73 : Ref sig .tc := ⟨.hbm, 4514, rfl⟩
abbrev main_call17_call0_v74 : Ref sig .tc := ⟨.hbm, 4515, rfl⟩
abbrev main_call17_call0_c_18 : Ref sig .tc := ⟨.hbm, 4516, rfl⟩
abbrev main_call17_call0_v75 : Ref sig .tc := ⟨.hbm, 4517, rfl⟩
abbrev main_call17_call0_v76 : Ref sig .tc := ⟨.hbm, 4518, rfl⟩
abbrev main_call17_call0_c_19 : Ref sig .tc := ⟨.hbm, 4519, rfl⟩
abbrev main_call17_call0_v77 : Ref sig .tc := ⟨.hbm, 4520, rfl⟩
abbrev main_call17_call0_v78 : Ref sig .tc := ⟨.hbm, 4521, rfl⟩
abbrev main_call17_call0_v79 : Ref sig .tc := ⟨.hbm, 4522, rfl⟩
abbrev main_call17_call0_v80 : Ref sig .tc := ⟨.hbm, 4523, rfl⟩
abbrev main_call17_call0_v81 : Ref sig .tc := ⟨.hbm, 4524, rfl⟩
abbrev main_call17_call0_c_20 : Ref sig .tc := ⟨.hbm, 4525, rfl⟩
abbrev main_call17_call0_v82 : Ref sig .tc := ⟨.hbm, 4526, rfl⟩
abbrev main_call17_call0_v83 : Ref sig .tc := ⟨.hbm, 4527, rfl⟩
abbrev main_call17_call0_c_21 : Ref sig .tc := ⟨.hbm, 4528, rfl⟩
abbrev main_call17_call0_v84 : Ref sig .tc := ⟨.hbm, 4529, rfl⟩
abbrev main_call17_call0_v85 : Ref sig .tc := ⟨.hbm, 4530, rfl⟩
abbrev main_call17_call0_v86 : Ref sig .tc := ⟨.hbm, 4531, rfl⟩
abbrev main_call17_call0_v87 : Ref sig .tc := ⟨.hbm, 4532, rfl⟩
abbrev main_call17_call0_v88 : Ref sig .tc := ⟨.hbm, 4533, rfl⟩
abbrev main_call17_call0_c_22 : Ref sig .tc := ⟨.hbm, 4534, rfl⟩
abbrev main_call17_call0_v89 : Ref sig .tc := ⟨.hbm, 4535, rfl⟩
abbrev main_call17_call0_v90 : Ref sig .tc := ⟨.hbm, 4536, rfl⟩
abbrev main_call17_call0_c_23 : Ref sig .tc := ⟨.hbm, 4537, rfl⟩
abbrev main_call17_call0_v91 : Ref sig .tc := ⟨.hbm, 4538, rfl⟩
abbrev main_call17_call0_v92 : Ref sig .tc := ⟨.hbm, 4539, rfl⟩
abbrev main_call17_call0_v93 : Ref sig .tc := ⟨.hbm, 4540, rfl⟩
abbrev main_call17_call0_v94 : Ref sig .tc := ⟨.hbm, 4541, rfl⟩
abbrev main_call17_call0_v95 : Ref sig .tc := ⟨.hbm, 4542, rfl⟩
abbrev main_call17_call0_c_24 : Ref sig .tc := ⟨.hbm, 4543, rfl⟩
abbrev main_call17_call0_v96 : Ref sig .tc := ⟨.hbm, 4544, rfl⟩
abbrev main_call17_call0_v97 : Ref sig .tc := ⟨.hbm, 4545, rfl⟩
abbrev main_call17_call0_c_25 : Ref sig .tc := ⟨.hbm, 4546, rfl⟩
abbrev main_call17_call0_v98 : Ref sig .tc := ⟨.hbm, 4547, rfl⟩
abbrev main_call17_call0_v99 : Ref sig .tc := ⟨.hbm, 4548, rfl⟩
abbrev main_call17_call0_v100 : Ref sig .tc := ⟨.hbm, 4549, rfl⟩
abbrev main_call17_call0_v101 : Ref sig .tc := ⟨.hbm, 4550, rfl⟩
abbrev main_call17_call0_v102 : Ref sig .tc := ⟨.hbm, 4551, rfl⟩
abbrev main_call17_call0_v103 : Ref sig .tc := ⟨.hbm, 4552, rfl⟩
abbrev main_call17_call0_v104 : Ref sig .tc := ⟨.hbm, 4553, rfl⟩
abbrev main_call17_call0_v105 : Ref sig .tc := ⟨.hbm, 4554, rfl⟩
abbrev main_call17_call0_c_26 : Ref sig .tc := ⟨.hbm, 4555, rfl⟩
abbrev main_call17_call0_v106 : Ref sig .tc := ⟨.hbm, 4556, rfl⟩
abbrev main_call17_call0_v107 : Ref sig .tc := ⟨.hbm, 4557, rfl⟩
abbrev main_call17_call0_v108 : Ref sig .tc := ⟨.hbm, 4558, rfl⟩
abbrev main_call17_call0_c_27 : Ref sig .tc := ⟨.hbm, 4559, rfl⟩
abbrev main_call17_call0_v109 : Ref sig .tc := ⟨.hbm, 4560, rfl⟩
abbrev main_call17_call0_v110 : Ref sig .tc := ⟨.hbm, 4561, rfl⟩
abbrev main_call17_call0_c_28 : Ref sig .tc := ⟨.hbm, 4562, rfl⟩
abbrev main_call17_call0_v111 : Ref sig .tc := ⟨.hbm, 4563, rfl⟩
abbrev main_call17_call0_v112 : Ref sig .tc := ⟨.hbm, 4564, rfl⟩
abbrev main_call17_call0_v113 : Ref sig .tc := ⟨.hbm, 4565, rfl⟩
abbrev main_call17_call0_v114 : Ref sig .tc := ⟨.hbm, 4566, rfl⟩
abbrev main_call17_call0_v115 : Ref sig .tc := ⟨.hbm, 4567, rfl⟩
abbrev main_call17_call0_c_29 : Ref sig .tc := ⟨.hbm, 4568, rfl⟩
abbrev main_call17_call0_v116 : Ref sig .tc := ⟨.hbm, 4569, rfl⟩
abbrev main_call17_call0_v117 : Ref sig .tc := ⟨.hbm, 4570, rfl⟩
abbrev main_call17_call0_c_30 : Ref sig .tc := ⟨.hbm, 4571, rfl⟩
abbrev main_call17_call0_v118 : Ref sig .tc := ⟨.hbm, 4572, rfl⟩
abbrev main_call17_call0_v119 : Ref sig .tc := ⟨.hbm, 4573, rfl⟩
abbrev main_call17_call0_v120 : Ref sig .tc := ⟨.hbm, 4574, rfl⟩
abbrev main_call17_call0_v121 : Ref sig .tc := ⟨.hbm, 4575, rfl⟩
abbrev main_call17_call0_v122 : Ref sig .tc := ⟨.hbm, 4576, rfl⟩
abbrev main_call17_call0_c_31 : Ref sig .tc := ⟨.hbm, 4577, rfl⟩
abbrev main_call17_call0_v123 : Ref sig .tc := ⟨.hbm, 4578, rfl⟩
abbrev main_call17_call0_v124 : Ref sig .tc := ⟨.hbm, 4579, rfl⟩
abbrev main_call17_call0_c_32 : Ref sig .tc := ⟨.hbm, 4580, rfl⟩
abbrev main_call17_call0_v125 : Ref sig .tc := ⟨.hbm, 4581, rfl⟩
abbrev main_call17_call0_v126 : Ref sig .tc := ⟨.hbm, 4582, rfl⟩
abbrev main_call17_call0_v127 : Ref sig .tc := ⟨.hbm, 4583, rfl⟩
abbrev main_call17_call0_v128 : Ref sig .tc := ⟨.hbm, 4584, rfl⟩
abbrev main_call17_call0_v129 : Ref sig .tc := ⟨.hbm, 4585, rfl⟩
abbrev main_call17_call0_c_33 : Ref sig .tc := ⟨.hbm, 4586, rfl⟩
abbrev main_call17_call0_v130 : Ref sig .tc := ⟨.hbm, 4587, rfl⟩
abbrev main_call17_call0_v131 : Ref sig .tc := ⟨.hbm, 4588, rfl⟩
abbrev main_call17_call0_c_34 : Ref sig .tc := ⟨.hbm, 4589, rfl⟩
abbrev main_call17_call0_v132 : Ref sig .tc := ⟨.hbm, 4590, rfl⟩
abbrev main_call17_call0_v133 : Ref sig .tc := ⟨.hbm, 4591, rfl⟩
abbrev main_call17_call0_v134 : Ref sig .tc := ⟨.hbm, 4592, rfl⟩
abbrev main_call17_call0_v135 : Ref sig .tc := ⟨.hbm, 4593, rfl⟩
abbrev main_call17_call0_v136 : Ref sig .tc := ⟨.hbm, 4594, rfl⟩
abbrev main_call17_call0_v137 : Ref sig .tc := ⟨.hbm, 4595, rfl⟩
abbrev main_call17_call0_v138 : Ref sig .tc := ⟨.hbm, 4596, rfl⟩
abbrev main_call17_call0_v139 : Ref sig .tc := ⟨.hbm, 4597, rfl⟩
abbrev main_call17_call0_c_35 : Ref sig .tc := ⟨.hbm, 4598, rfl⟩
abbrev main_call17_call0_v140 : Ref sig .tc := ⟨.hbm, 4599, rfl⟩
abbrev main_call17_call0_v141 : Ref sig .tc := ⟨.hbm, 4600, rfl⟩
abbrev main_call17_call0_v142 : Ref sig .tc := ⟨.hbm, 4601, rfl⟩
abbrev main_call17_call0_c_36 : Ref sig .tc := ⟨.hbm, 4602, rfl⟩
abbrev main_call17_call0_v143 : Ref sig .tc := ⟨.hbm, 4603, rfl⟩
abbrev main_call17_call0_v144 : Ref sig .tc := ⟨.hbm, 4604, rfl⟩
abbrev main_call17_call0_c_37 : Ref sig .tc := ⟨.hbm, 4605, rfl⟩
abbrev main_call17_call0_v145 : Ref sig .tc := ⟨.hbm, 4606, rfl⟩
abbrev main_call17_call0_v146 : Ref sig .tc := ⟨.hbm, 4607, rfl⟩
abbrev main_call17_call0_v147 : Ref sig .tc := ⟨.hbm, 4608, rfl⟩
abbrev main_call17_call0_v148 : Ref sig .tc := ⟨.hbm, 4609, rfl⟩
abbrev main_call17_call0_v149 : Ref sig .tc := ⟨.hbm, 4610, rfl⟩
abbrev main_call17_call0_c_38 : Ref sig .tc := ⟨.hbm, 4611, rfl⟩
abbrev main_call17_call0_v150 : Ref sig .tc := ⟨.hbm, 4612, rfl⟩
abbrev main_call17_call0_v151 : Ref sig .tc := ⟨.hbm, 4613, rfl⟩
abbrev main_call17_call0_c_39 : Ref sig .tc := ⟨.hbm, 4614, rfl⟩
abbrev main_call17_call0_v152 : Ref sig .tc := ⟨.hbm, 4615, rfl⟩
abbrev main_call17_call0_v153 : Ref sig .tc := ⟨.hbm, 4616, rfl⟩
abbrev main_call17_call0_v154 : Ref sig .tc := ⟨.hbm, 4617, rfl⟩
abbrev main_call17_call0_v155 : Ref sig .tc := ⟨.hbm, 4618, rfl⟩
abbrev main_call17_call0_v156 : Ref sig .tc := ⟨.hbm, 4619, rfl⟩
abbrev main_call17_call0_c_40 : Ref sig .tc := ⟨.hbm, 4620, rfl⟩
abbrev main_call17_call0_v157 : Ref sig .tc := ⟨.hbm, 4621, rfl⟩
abbrev main_call17_call0_v158 : Ref sig .tc := ⟨.hbm, 4622, rfl⟩
abbrev main_call17_call0_c_41 : Ref sig .tc := ⟨.hbm, 4623, rfl⟩
abbrev main_call17_call0_v159 : Ref sig .tc := ⟨.hbm, 4624, rfl⟩
abbrev main_call17_call0_v160 : Ref sig .tc := ⟨.hbm, 4625, rfl⟩
abbrev main_call17_call0_v161 : Ref sig .tc := ⟨.hbm, 4626, rfl⟩
abbrev main_call17_call0_v162 : Ref sig .tc := ⟨.hbm, 4627, rfl⟩
abbrev main_call17_call0_v163 : Ref sig .tc := ⟨.hbm, 4628, rfl⟩
abbrev main_call17_call0_c_42 : Ref sig .tc := ⟨.hbm, 4629, rfl⟩
abbrev main_call17_call0_v164 : Ref sig .tc := ⟨.hbm, 4630, rfl⟩
abbrev main_call17_call0_v165 : Ref sig .tc := ⟨.hbm, 4631, rfl⟩
abbrev main_call17_call0_c_43 : Ref sig .tc := ⟨.hbm, 4632, rfl⟩
abbrev main_call17_call0_v166 : Ref sig .tc := ⟨.hbm, 4633, rfl⟩
abbrev main_call17_call0_v167 : Ref sig .tc := ⟨.hbm, 4634, rfl⟩
abbrev main_call17_call0_v168 : Ref sig .tc := ⟨.hbm, 4635, rfl⟩
abbrev main_call17_call0_v169 : Ref sig .tc := ⟨.hbm, 4636, rfl⟩
abbrev main_call17_call0_v170 : Ref sig .tc := ⟨.hbm, 4637, rfl⟩
abbrev main_call17_v15_0 : Ref sig .tc := ⟨.hbm, 4638, rfl⟩
abbrev main_call17_call0_v172 : Ref sig .tc := ⟨.hbm, 4639, rfl⟩
abbrev main_call17_call0_v173 : Ref sig .tc := ⟨.hbm, 4640, rfl⟩
abbrev main_call17_call0_c_44 : Ref sig .tc := ⟨.hbm, 4641, rfl⟩
abbrev main_call17_call0_v174 : Ref sig .tc := ⟨.hbm, 4642, rfl⟩
abbrev main_call17_v15_1 : Ref sig .tc := ⟨.hbm, 4643, rfl⟩
abbrev main_call17_v16 : Ref sig .tc := ⟨.hbm, 4644, rfl⟩
abbrev main_call17_c_1 : Ref sig .tc := ⟨.hbm, 4645, rfl⟩
abbrev main_call17_v17 : Ref sig .tc := ⟨.hbm, 4646, rfl⟩
abbrev main_call17_v18 : Ref sig .tc := ⟨.hbm, 4647, rfl⟩
abbrev main_call17_c_2 : Ref sig .tc := ⟨.hbm, 4648, rfl⟩
abbrev main_call17_v19 : Ref sig .tc := ⟨.hbm, 4649, rfl⟩
abbrev main_call17_v20 : Ref sig .tc := ⟨.hbm, 4650, rfl⟩
abbrev main_call17_v21 : Ref sig .tc := ⟨.hbm, 4651, rfl⟩
abbrev main_call17_cst : Ref sig .tc := ⟨.hbm, 4652, rfl⟩
abbrev main_call17_v22 : Ref sig .tc := ⟨.hbm, 4653, rfl⟩
abbrev main_call17_v23 : Ref sig .tc := ⟨.hbm, 4654, rfl⟩
abbrev main_call17_v24 : Ref sig .tc := ⟨.hbm, 4655, rfl⟩
abbrev main_call17_v25 : Ref sig .tc := ⟨.hbm, 4656, rfl⟩
abbrev main_call17_v26 : Ref sig .tc := ⟨.hbm, 4657, rfl⟩
abbrev main_call17_v27 : Ref sig .tc := ⟨.hbm, 4658, rfl⟩
abbrev main_call17_v28 : Ref sig .tc := ⟨.hbm, 4659, rfl⟩
abbrev main_call17_v29 : Ref sig .tc := ⟨.hbm, 4660, rfl⟩
abbrev main_v60 : Ref sig .tc := ⟨.hbm, 4661, rfl⟩
abbrev main_call18_v0 : Ref sig .tc := ⟨.hbm, 4662, rfl⟩
abbrev main_call18_v1 : Ref sig .tc := ⟨.hbm, 4663, rfl⟩
abbrev main_call18_v2 : Ref sig .tc := ⟨.hbm, 4664, rfl⟩
abbrev main_call18_v3 : Ref sig .tc := ⟨.hbm, 4665, rfl⟩
abbrev main_call18_v4 : Ref sig .tc := ⟨.hbm, 4666, rfl⟩
abbrev main_call18_c : Ref sig .tc := ⟨.hbm, 4667, rfl⟩
abbrev main_call18_v5 : Ref sig .tc := ⟨.hbm, 4668, rfl⟩
abbrev main_call18_v6 : Ref sig .tc := ⟨.hbm, 4669, rfl⟩
abbrev main_call18_c_0 : Ref sig .tc := ⟨.hbm, 4670, rfl⟩
abbrev main_call18_v7 : Ref sig .tc := ⟨.hbm, 4671, rfl⟩
abbrev main_call18_v8 : Ref sig .tc := ⟨.hbm, 4672, rfl⟩
abbrev main_call18_v9 : Ref sig .tc := ⟨.hbm, 4673, rfl⟩
abbrev main_call18_v10 : Ref sig .tc := ⟨.hbm, 4674, rfl⟩
abbrev main_call18_call0_v0 : Ref sig .tc := ⟨.hbm, 4675, rfl⟩
abbrev main_call18_call0_c : Ref sig .tc := ⟨.hbm, 4676, rfl⟩
abbrev main_call18_call0_v1 : Ref sig .tc := ⟨.hbm, 4677, rfl⟩
abbrev main_call18_call0_v2 : Ref sig .tc := ⟨.hbm, 4678, rfl⟩
abbrev main_call18_call0_v3 : Ref sig .tc := ⟨.hbm, 4679, rfl⟩
abbrev main_call18_call0_v4 : Ref sig .tc := ⟨.hbm, 4680, rfl⟩
abbrev main_call18_call0_v5 : Ref sig .tc := ⟨.hbm, 4681, rfl⟩
abbrev main_call18_call0_v6 : Ref sig .tc := ⟨.hbm, 4682, rfl⟩
abbrev main_call18_call0_c_0 : Ref sig .tc := ⟨.hbm, 4683, rfl⟩
abbrev main_call18_call0_v7 : Ref sig .tc := ⟨.hbm, 4684, rfl⟩
abbrev main_call18_call0_v8 : Ref sig .tc := ⟨.hbm, 4685, rfl⟩
abbrev main_call18_call0_c_1 : Ref sig .tc := ⟨.hbm, 4686, rfl⟩
abbrev main_call18_call0_v9 : Ref sig .tc := ⟨.hbm, 4687, rfl⟩
abbrev main_call18_call0_v10 : Ref sig .tc := ⟨.hbm, 4688, rfl⟩
abbrev main_call18_call0_v11 : Ref sig .tc := ⟨.hbm, 4689, rfl⟩
abbrev main_call18_call0_v12 : Ref sig .tc := ⟨.hbm, 4690, rfl⟩
abbrev main_call18_call0_v13 : Ref sig .tc := ⟨.hbm, 4691, rfl⟩
abbrev main_call18_call0_c_2 : Ref sig .tc := ⟨.hbm, 4692, rfl⟩
abbrev main_call18_call0_v14 : Ref sig .tc := ⟨.hbm, 4693, rfl⟩
abbrev main_call18_call0_v15 : Ref sig .tc := ⟨.hbm, 4694, rfl⟩
abbrev main_call18_call0_c_3 : Ref sig .tc := ⟨.hbm, 4695, rfl⟩
abbrev main_call18_call0_v16 : Ref sig .tc := ⟨.hbm, 4696, rfl⟩
abbrev main_call18_call0_v17 : Ref sig .tc := ⟨.hbm, 4697, rfl⟩
abbrev main_call18_call0_v18 : Ref sig .tc := ⟨.hbm, 4698, rfl⟩
abbrev main_call18_call0_v19 : Ref sig .tc := ⟨.hbm, 4699, rfl⟩
abbrev main_call18_call0_v20 : Ref sig .tc := ⟨.hbm, 4700, rfl⟩
abbrev main_call18_call0_c_4 : Ref sig .tc := ⟨.hbm, 4701, rfl⟩
abbrev main_call18_call0_v21 : Ref sig .tc := ⟨.hbm, 4702, rfl⟩
abbrev main_call18_call0_v22 : Ref sig .tc := ⟨.hbm, 4703, rfl⟩
abbrev main_call18_call0_c_5 : Ref sig .tc := ⟨.hbm, 4704, rfl⟩
abbrev main_call18_call0_v23 : Ref sig .tc := ⟨.hbm, 4705, rfl⟩
abbrev main_call18_call0_v24 : Ref sig .tc := ⟨.hbm, 4706, rfl⟩
abbrev main_call18_call0_v25 : Ref sig .tc := ⟨.hbm, 4707, rfl⟩
abbrev main_call18_call0_v26 : Ref sig .tc := ⟨.hbm, 4708, rfl⟩
abbrev main_call18_call0_v27 : Ref sig .tc := ⟨.hbm, 4709, rfl⟩
abbrev main_call18_call0_c_6 : Ref sig .tc := ⟨.hbm, 4710, rfl⟩
abbrev main_call18_call0_v28 : Ref sig .tc := ⟨.hbm, 4711, rfl⟩
abbrev main_call18_call0_v29 : Ref sig .tc := ⟨.hbm, 4712, rfl⟩
abbrev main_call18_call0_c_7 : Ref sig .tc := ⟨.hbm, 4713, rfl⟩
abbrev main_call18_call0_v30 : Ref sig .tc := ⟨.hbm, 4714, rfl⟩
abbrev main_call18_call0_v31 : Ref sig .tc := ⟨.hbm, 4715, rfl⟩
abbrev main_call18_call0_v32 : Ref sig .tc := ⟨.hbm, 4716, rfl⟩
abbrev main_call18_call0_v33 : Ref sig .tc := ⟨.hbm, 4717, rfl⟩
abbrev main_call18_call0_v34 : Ref sig .tc := ⟨.hbm, 4718, rfl⟩
abbrev main_call18_call0_v35 : Ref sig .tc := ⟨.hbm, 4719, rfl⟩
abbrev main_call18_call0_v36 : Ref sig .tc := ⟨.hbm, 4720, rfl⟩
abbrev main_call18_call0_v37 : Ref sig .tc := ⟨.hbm, 4721, rfl⟩
abbrev main_call18_call0_c_8 : Ref sig .tc := ⟨.hbm, 4722, rfl⟩
abbrev main_call18_call0_v38 : Ref sig .tc := ⟨.hbm, 4723, rfl⟩
abbrev main_call18_call0_v39 : Ref sig .tc := ⟨.hbm, 4724, rfl⟩
abbrev main_call18_call0_v40 : Ref sig .tc := ⟨.hbm, 4725, rfl⟩
abbrev main_call18_call0_c_9 : Ref sig .tc := ⟨.hbm, 4726, rfl⟩
abbrev main_call18_call0_v41 : Ref sig .tc := ⟨.hbm, 4727, rfl⟩
abbrev main_call18_call0_v42 : Ref sig .tc := ⟨.hbm, 4728, rfl⟩
abbrev main_call18_call0_c_10 : Ref sig .tc := ⟨.hbm, 4729, rfl⟩
abbrev main_call18_call0_v43 : Ref sig .tc := ⟨.hbm, 4730, rfl⟩
abbrev main_call18_call0_v44 : Ref sig .tc := ⟨.hbm, 4731, rfl⟩
abbrev main_call18_call0_v45 : Ref sig .tc := ⟨.hbm, 4732, rfl⟩
abbrev main_call18_call0_v46 : Ref sig .tc := ⟨.hbm, 4733, rfl⟩
abbrev main_call18_call0_v47 : Ref sig .tc := ⟨.hbm, 4734, rfl⟩
abbrev main_call18_call0_c_11 : Ref sig .tc := ⟨.hbm, 4735, rfl⟩
abbrev main_call18_call0_v48 : Ref sig .tc := ⟨.hbm, 4736, rfl⟩
abbrev main_call18_call0_v49 : Ref sig .tc := ⟨.hbm, 4737, rfl⟩
abbrev main_call18_call0_c_12 : Ref sig .tc := ⟨.hbm, 4738, rfl⟩
abbrev main_call18_call0_v50 : Ref sig .tc := ⟨.hbm, 4739, rfl⟩
abbrev main_call18_call0_v51 : Ref sig .tc := ⟨.hbm, 4740, rfl⟩
abbrev main_call18_call0_v52 : Ref sig .tc := ⟨.hbm, 4741, rfl⟩
abbrev main_call18_call0_v53 : Ref sig .tc := ⟨.hbm, 4742, rfl⟩
abbrev main_call18_call0_v54 : Ref sig .tc := ⟨.hbm, 4743, rfl⟩
abbrev main_call18_call0_c_13 : Ref sig .tc := ⟨.hbm, 4744, rfl⟩
abbrev main_call18_call0_v55 : Ref sig .tc := ⟨.hbm, 4745, rfl⟩
abbrev main_call18_call0_v56 : Ref sig .tc := ⟨.hbm, 4746, rfl⟩
abbrev main_call18_call0_c_14 : Ref sig .tc := ⟨.hbm, 4747, rfl⟩
abbrev main_call18_call0_v57 : Ref sig .tc := ⟨.hbm, 4748, rfl⟩
abbrev main_call18_call0_v58 : Ref sig .tc := ⟨.hbm, 4749, rfl⟩
abbrev main_call18_call0_v59 : Ref sig .tc := ⟨.hbm, 4750, rfl⟩
abbrev main_call18_call0_v60 : Ref sig .tc := ⟨.hbm, 4751, rfl⟩
abbrev main_call18_call0_v61 : Ref sig .tc := ⟨.hbm, 4752, rfl⟩
abbrev main_call18_call0_c_15 : Ref sig .tc := ⟨.hbm, 4753, rfl⟩
abbrev main_call18_call0_v62 : Ref sig .tc := ⟨.hbm, 4754, rfl⟩
abbrev main_call18_call0_v63 : Ref sig .tc := ⟨.hbm, 4755, rfl⟩
abbrev main_call18_call0_c_16 : Ref sig .tc := ⟨.hbm, 4756, rfl⟩
abbrev main_call18_call0_v64 : Ref sig .tc := ⟨.hbm, 4757, rfl⟩
abbrev main_call18_call0_v65 : Ref sig .tc := ⟨.hbm, 4758, rfl⟩
abbrev main_call18_call0_v66 : Ref sig .tc := ⟨.hbm, 4759, rfl⟩
abbrev main_call18_call0_v67 : Ref sig .tc := ⟨.hbm, 4760, rfl⟩
abbrev main_call18_call0_v68 : Ref sig .tc := ⟨.hbm, 4761, rfl⟩
abbrev main_call18_call0_v69 : Ref sig .tc := ⟨.hbm, 4762, rfl⟩
abbrev main_call18_call0_v70 : Ref sig .tc := ⟨.hbm, 4763, rfl⟩
abbrev main_call18_call0_v71 : Ref sig .tc := ⟨.hbm, 4764, rfl⟩
abbrev main_call18_call0_c_17 : Ref sig .tc := ⟨.hbm, 4765, rfl⟩
abbrev main_call18_call0_v72 : Ref sig .tc := ⟨.hbm, 4766, rfl⟩
abbrev main_call18_call0_v73 : Ref sig .tc := ⟨.hbm, 4767, rfl⟩
abbrev main_call18_call0_v74 : Ref sig .tc := ⟨.hbm, 4768, rfl⟩
abbrev main_call18_call0_c_18 : Ref sig .tc := ⟨.hbm, 4769, rfl⟩
abbrev main_call18_call0_v75 : Ref sig .tc := ⟨.hbm, 4770, rfl⟩
abbrev main_call18_call0_v76 : Ref sig .tc := ⟨.hbm, 4771, rfl⟩
abbrev main_call18_call0_c_19 : Ref sig .tc := ⟨.hbm, 4772, rfl⟩
abbrev main_call18_call0_v77 : Ref sig .tc := ⟨.hbm, 4773, rfl⟩
abbrev main_call18_call0_v78 : Ref sig .tc := ⟨.hbm, 4774, rfl⟩
abbrev main_call18_call0_v79 : Ref sig .tc := ⟨.hbm, 4775, rfl⟩
abbrev main_call18_call0_v80 : Ref sig .tc := ⟨.hbm, 4776, rfl⟩
abbrev main_call18_call0_v81 : Ref sig .tc := ⟨.hbm, 4777, rfl⟩
abbrev main_call18_call0_c_20 : Ref sig .tc := ⟨.hbm, 4778, rfl⟩
abbrev main_call18_call0_v82 : Ref sig .tc := ⟨.hbm, 4779, rfl⟩
abbrev main_call18_call0_v83 : Ref sig .tc := ⟨.hbm, 4780, rfl⟩
abbrev main_call18_call0_c_21 : Ref sig .tc := ⟨.hbm, 4781, rfl⟩
abbrev main_call18_call0_v84 : Ref sig .tc := ⟨.hbm, 4782, rfl⟩
abbrev main_call18_call0_v85 : Ref sig .tc := ⟨.hbm, 4783, rfl⟩
abbrev main_call18_call0_v86 : Ref sig .tc := ⟨.hbm, 4784, rfl⟩
abbrev main_call18_call0_v87 : Ref sig .tc := ⟨.hbm, 4785, rfl⟩
abbrev main_call18_call0_v88 : Ref sig .tc := ⟨.hbm, 4786, rfl⟩
abbrev main_call18_call0_c_22 : Ref sig .tc := ⟨.hbm, 4787, rfl⟩
abbrev main_call18_call0_v89 : Ref sig .tc := ⟨.hbm, 4788, rfl⟩
abbrev main_call18_call0_v90 : Ref sig .tc := ⟨.hbm, 4789, rfl⟩
abbrev main_call18_call0_c_23 : Ref sig .tc := ⟨.hbm, 4790, rfl⟩
abbrev main_call18_call0_v91 : Ref sig .tc := ⟨.hbm, 4791, rfl⟩
abbrev main_call18_call0_v92 : Ref sig .tc := ⟨.hbm, 4792, rfl⟩
abbrev main_call18_call0_v93 : Ref sig .tc := ⟨.hbm, 4793, rfl⟩
abbrev main_call18_call0_v94 : Ref sig .tc := ⟨.hbm, 4794, rfl⟩
abbrev main_call18_call0_v95 : Ref sig .tc := ⟨.hbm, 4795, rfl⟩
abbrev main_call18_call0_c_24 : Ref sig .tc := ⟨.hbm, 4796, rfl⟩
abbrev main_call18_call0_v96 : Ref sig .tc := ⟨.hbm, 4797, rfl⟩
abbrev main_call18_call0_v97 : Ref sig .tc := ⟨.hbm, 4798, rfl⟩
abbrev main_call18_call0_c_25 : Ref sig .tc := ⟨.hbm, 4799, rfl⟩
abbrev main_call18_call0_v98 : Ref sig .tc := ⟨.hbm, 4800, rfl⟩
abbrev main_call18_call0_v99 : Ref sig .tc := ⟨.hbm, 4801, rfl⟩
abbrev main_call18_call0_v100 : Ref sig .tc := ⟨.hbm, 4802, rfl⟩
abbrev main_call18_call0_v101 : Ref sig .tc := ⟨.hbm, 4803, rfl⟩
abbrev main_call18_call0_v102 : Ref sig .tc := ⟨.hbm, 4804, rfl⟩
abbrev main_call18_call0_v103 : Ref sig .tc := ⟨.hbm, 4805, rfl⟩
abbrev main_call18_call0_v104 : Ref sig .tc := ⟨.hbm, 4806, rfl⟩
abbrev main_call18_call0_v105 : Ref sig .tc := ⟨.hbm, 4807, rfl⟩
abbrev main_call18_call0_c_26 : Ref sig .tc := ⟨.hbm, 4808, rfl⟩
abbrev main_call18_call0_v106 : Ref sig .tc := ⟨.hbm, 4809, rfl⟩
abbrev main_call18_call0_v107 : Ref sig .tc := ⟨.hbm, 4810, rfl⟩
abbrev main_call18_call0_v108 : Ref sig .tc := ⟨.hbm, 4811, rfl⟩
abbrev main_call18_call0_c_27 : Ref sig .tc := ⟨.hbm, 4812, rfl⟩
abbrev main_call18_call0_v109 : Ref sig .tc := ⟨.hbm, 4813, rfl⟩
abbrev main_call18_call0_v110 : Ref sig .tc := ⟨.hbm, 4814, rfl⟩
abbrev main_call18_call0_c_28 : Ref sig .tc := ⟨.hbm, 4815, rfl⟩
abbrev main_call18_call0_v111 : Ref sig .tc := ⟨.hbm, 4816, rfl⟩
abbrev main_call18_call0_v112 : Ref sig .tc := ⟨.hbm, 4817, rfl⟩
abbrev main_call18_call0_v113 : Ref sig .tc := ⟨.hbm, 4818, rfl⟩
abbrev main_call18_call0_v114 : Ref sig .tc := ⟨.hbm, 4819, rfl⟩
abbrev main_call18_call0_v115 : Ref sig .tc := ⟨.hbm, 4820, rfl⟩
abbrev main_call18_call0_c_29 : Ref sig .tc := ⟨.hbm, 4821, rfl⟩
abbrev main_call18_call0_v116 : Ref sig .tc := ⟨.hbm, 4822, rfl⟩
abbrev main_call18_call0_v117 : Ref sig .tc := ⟨.hbm, 4823, rfl⟩
abbrev main_call18_call0_c_30 : Ref sig .tc := ⟨.hbm, 4824, rfl⟩
abbrev main_call18_call0_v118 : Ref sig .tc := ⟨.hbm, 4825, rfl⟩
abbrev main_call18_call0_v119 : Ref sig .tc := ⟨.hbm, 4826, rfl⟩
abbrev main_call18_call0_v120 : Ref sig .tc := ⟨.hbm, 4827, rfl⟩
abbrev main_call18_call0_v121 : Ref sig .tc := ⟨.hbm, 4828, rfl⟩
abbrev main_call18_call0_v122 : Ref sig .tc := ⟨.hbm, 4829, rfl⟩
abbrev main_call18_call0_c_31 : Ref sig .tc := ⟨.hbm, 4830, rfl⟩
abbrev main_call18_call0_v123 : Ref sig .tc := ⟨.hbm, 4831, rfl⟩
abbrev main_call18_call0_v124 : Ref sig .tc := ⟨.hbm, 4832, rfl⟩
abbrev main_call18_call0_c_32 : Ref sig .tc := ⟨.hbm, 4833, rfl⟩
abbrev main_call18_call0_v125 : Ref sig .tc := ⟨.hbm, 4834, rfl⟩
abbrev main_call18_call0_v126 : Ref sig .tc := ⟨.hbm, 4835, rfl⟩
abbrev main_call18_call0_v127 : Ref sig .tc := ⟨.hbm, 4836, rfl⟩
abbrev main_call18_call0_v128 : Ref sig .tc := ⟨.hbm, 4837, rfl⟩
abbrev main_call18_call0_v129 : Ref sig .tc := ⟨.hbm, 4838, rfl⟩
abbrev main_call18_call0_c_33 : Ref sig .tc := ⟨.hbm, 4839, rfl⟩
abbrev main_call18_call0_v130 : Ref sig .tc := ⟨.hbm, 4840, rfl⟩
abbrev main_call18_call0_v131 : Ref sig .tc := ⟨.hbm, 4841, rfl⟩
abbrev main_call18_call0_c_34 : Ref sig .tc := ⟨.hbm, 4842, rfl⟩
abbrev main_call18_call0_v132 : Ref sig .tc := ⟨.hbm, 4843, rfl⟩
abbrev main_call18_call0_v133 : Ref sig .tc := ⟨.hbm, 4844, rfl⟩
abbrev main_call18_call0_v134 : Ref sig .tc := ⟨.hbm, 4845, rfl⟩
abbrev main_call18_call0_v135 : Ref sig .tc := ⟨.hbm, 4846, rfl⟩
abbrev main_call18_call0_v136 : Ref sig .tc := ⟨.hbm, 4847, rfl⟩
abbrev main_call18_call0_v137 : Ref sig .tc := ⟨.hbm, 4848, rfl⟩
abbrev main_call18_call0_v138 : Ref sig .tc := ⟨.hbm, 4849, rfl⟩
abbrev main_call18_call0_v139 : Ref sig .tc := ⟨.hbm, 4850, rfl⟩
abbrev main_call18_call0_c_35 : Ref sig .tc := ⟨.hbm, 4851, rfl⟩
abbrev main_call18_call0_v140 : Ref sig .tc := ⟨.hbm, 4852, rfl⟩
abbrev main_call18_call0_v141 : Ref sig .tc := ⟨.hbm, 4853, rfl⟩
abbrev main_call18_call0_v142 : Ref sig .tc := ⟨.hbm, 4854, rfl⟩
abbrev main_call18_call0_c_36 : Ref sig .tc := ⟨.hbm, 4855, rfl⟩
abbrev main_call18_call0_v143 : Ref sig .tc := ⟨.hbm, 4856, rfl⟩
abbrev main_call18_call0_v144 : Ref sig .tc := ⟨.hbm, 4857, rfl⟩
abbrev main_call18_call0_c_37 : Ref sig .tc := ⟨.hbm, 4858, rfl⟩
abbrev main_call18_call0_v145 : Ref sig .tc := ⟨.hbm, 4859, rfl⟩
abbrev main_call18_call0_v146 : Ref sig .tc := ⟨.hbm, 4860, rfl⟩
abbrev main_call18_call0_v147 : Ref sig .tc := ⟨.hbm, 4861, rfl⟩
abbrev main_call18_call0_v148 : Ref sig .tc := ⟨.hbm, 4862, rfl⟩
abbrev main_call18_call0_v149 : Ref sig .tc := ⟨.hbm, 4863, rfl⟩
abbrev main_call18_call0_c_38 : Ref sig .tc := ⟨.hbm, 4864, rfl⟩
abbrev main_call18_call0_v150 : Ref sig .tc := ⟨.hbm, 4865, rfl⟩
abbrev main_call18_call0_v151 : Ref sig .tc := ⟨.hbm, 4866, rfl⟩
abbrev main_call18_call0_c_39 : Ref sig .tc := ⟨.hbm, 4867, rfl⟩
abbrev main_call18_call0_v152 : Ref sig .tc := ⟨.hbm, 4868, rfl⟩
abbrev main_call18_call0_v153 : Ref sig .tc := ⟨.hbm, 4869, rfl⟩
abbrev main_call18_call0_v154 : Ref sig .tc := ⟨.hbm, 4870, rfl⟩
abbrev main_call18_call0_v155 : Ref sig .tc := ⟨.hbm, 4871, rfl⟩
abbrev main_call18_call0_v156 : Ref sig .tc := ⟨.hbm, 4872, rfl⟩
abbrev main_call18_call0_c_40 : Ref sig .tc := ⟨.hbm, 4873, rfl⟩
abbrev main_call18_call0_v157 : Ref sig .tc := ⟨.hbm, 4874, rfl⟩
abbrev main_call18_call0_v158 : Ref sig .tc := ⟨.hbm, 4875, rfl⟩
abbrev main_call18_call0_c_41 : Ref sig .tc := ⟨.hbm, 4876, rfl⟩
abbrev main_call18_call0_v159 : Ref sig .tc := ⟨.hbm, 4877, rfl⟩
abbrev main_call18_call0_v160 : Ref sig .tc := ⟨.hbm, 4878, rfl⟩
abbrev main_call18_call0_v161 : Ref sig .tc := ⟨.hbm, 4879, rfl⟩
abbrev main_call18_call0_v162 : Ref sig .tc := ⟨.hbm, 4880, rfl⟩
abbrev main_call18_call0_v163 : Ref sig .tc := ⟨.hbm, 4881, rfl⟩
abbrev main_call18_call0_c_42 : Ref sig .tc := ⟨.hbm, 4882, rfl⟩
abbrev main_call18_call0_v164 : Ref sig .tc := ⟨.hbm, 4883, rfl⟩
abbrev main_call18_call0_v165 : Ref sig .tc := ⟨.hbm, 4884, rfl⟩
abbrev main_call18_call0_c_43 : Ref sig .tc := ⟨.hbm, 4885, rfl⟩
abbrev main_call18_call0_v166 : Ref sig .tc := ⟨.hbm, 4886, rfl⟩
abbrev main_call18_call0_v167 : Ref sig .tc := ⟨.hbm, 4887, rfl⟩
abbrev main_call18_call0_v168 : Ref sig .tc := ⟨.hbm, 4888, rfl⟩
abbrev main_call18_call0_v169 : Ref sig .tc := ⟨.hbm, 4889, rfl⟩
abbrev main_call18_call0_v170 : Ref sig .tc := ⟨.hbm, 4890, rfl⟩
abbrev main_call18_v11_0 : Ref sig .tc := ⟨.hbm, 4891, rfl⟩
abbrev main_call18_call0_v172 : Ref sig .tc := ⟨.hbm, 4892, rfl⟩
abbrev main_call18_call0_v173 : Ref sig .tc := ⟨.hbm, 4893, rfl⟩
abbrev main_call18_call0_c_44 : Ref sig .tc := ⟨.hbm, 4894, rfl⟩
abbrev main_call18_call0_v174 : Ref sig .tc := ⟨.hbm, 4895, rfl⟩
abbrev main_call18_v11_1 : Ref sig .tc := ⟨.hbm, 4896, rfl⟩
abbrev main_call18_v12 : Ref sig .tc := ⟨.hbm, 4897, rfl⟩
abbrev main_call18_v13 : Ref sig .tc := ⟨.hbm, 4898, rfl⟩
abbrev main_v61 : Ref sig .tc := ⟨.hbm, 4899, rfl⟩
abbrev main_v62 : Ref sig .tc := ⟨.hbm, 4900, rfl⟩
abbrev main_v63 : Ref sig .tc := ⟨.hbm, 4901, rfl⟩
abbrev main_v64 : Ref sig .tc := ⟨.hbm, 4902, rfl⟩
abbrev main_v65 : Ref sig .tc := ⟨.hbm, 4903, rfl⟩
abbrev main_v66 : Ref sig .tc := ⟨.hbm, 4904, rfl⟩
abbrev main_v67 : Ref sig .tc := ⟨.hbm, 4905, rfl⟩
abbrev main_call19_cst : Ref sig .tc := ⟨.hbm, 4906, rfl⟩
abbrev main_call19_cst_0 : Ref sig .tc := ⟨.hbm, 4907, rfl⟩
abbrev main_call19_call0_v0 : Ref sig .tc := ⟨.hbm, 4908, rfl⟩
abbrev main_call19_call0_v1 : Ref sig .tc := ⟨.hbm, 4909, rfl⟩
abbrev main_call19_call0_v2 : Ref sig .tc := ⟨.hbm, 4910, rfl⟩
abbrev main_call19_call0_v3 : Ref sig .tc := ⟨.hbm, 4911, rfl⟩
abbrev main_call19_call0_v4 : Ref sig .tc := ⟨.hbm, 4912, rfl⟩
abbrev main_call19_call0_v5 : Ref sig .tc := ⟨.hbm, 4913, rfl⟩
abbrev main_call19_call0_v6 : Ref sig .tc := ⟨.hbm, 4914, rfl⟩
abbrev main_call19_call0_v7 : Ref sig .tc := ⟨.hbm, 4915, rfl⟩
abbrev main_call19_call0_v8 : Ref sig .tc := ⟨.hbm, 4916, rfl⟩
abbrev main_call19_call0_v9 : Ref sig .tc := ⟨.hbm, 4917, rfl⟩
abbrev main_call19_call0_c : Ref sig .tc := ⟨.hbm, 4918, rfl⟩
abbrev main_call19_call0_v10 : Ref sig .tc := ⟨.hbm, 4919, rfl⟩
abbrev main_call19_call0_v11 : Ref sig .tc := ⟨.hbm, 4920, rfl⟩
abbrev main_call19_call0_c_0 : Ref sig .tc := ⟨.hbm, 4921, rfl⟩
abbrev main_call19_call0_v12 : Ref sig .tc := ⟨.hbm, 4922, rfl⟩
abbrev main_call19_call0_v13 : Ref sig .tc := ⟨.hbm, 4923, rfl⟩
abbrev main_call19_call0_c_1 : Ref sig .tc := ⟨.hbm, 4924, rfl⟩
abbrev main_call19_call0_v14 : Ref sig .tc := ⟨.hbm, 4925, rfl⟩
abbrev main_call19_call0_v15 : Ref sig .tc := ⟨.hbm, 4926, rfl⟩
abbrev main_call19_call0_v16 : Ref sig .tc := ⟨.hbm, 4927, rfl⟩
abbrev main_call19_call0_v17 : Ref sig .tc := ⟨.hbm, 4928, rfl⟩
abbrev main_call19_call0_c_2 : Ref sig .tc := ⟨.hbm, 4929, rfl⟩
abbrev main_call19_call0_v18 : Ref sig .tc := ⟨.hbm, 4930, rfl⟩
abbrev main_call19_call0_v19 : Ref sig .tc := ⟨.hbm, 4931, rfl⟩
abbrev main_call19_call0_v20 : Ref sig .tc := ⟨.hbm, 4932, rfl⟩
abbrev main_call19_call0_v21 : Ref sig .tc := ⟨.hbm, 4933, rfl⟩
abbrev main_call19_call0_call0_v0 : Ref sig .tc := ⟨.hbm, 4934, rfl⟩
abbrev main_call19_call0_call0_c : Ref sig .tc := ⟨.hbm, 4935, rfl⟩
abbrev main_call19_call0_call0_v1 : Ref sig .tc := ⟨.hbm, 4936, rfl⟩
abbrev main_call19_call0_call0_v2 : Ref sig .tc := ⟨.hbm, 4937, rfl⟩
abbrev main_call19_call0_call0_v3 : Ref sig .tc := ⟨.hbm, 4938, rfl⟩
abbrev main_call19_call0_call0_v4 : Ref sig .tc := ⟨.hbm, 4939, rfl⟩
abbrev main_call19_call0_call0_v5 : Ref sig .tc := ⟨.hbm, 4940, rfl⟩
abbrev main_call19_call0_call0_v6 : Ref sig .tc := ⟨.hbm, 4941, rfl⟩
abbrev main_call19_call0_call0_c_0 : Ref sig .tc := ⟨.hbm, 4942, rfl⟩
abbrev main_call19_call0_call0_v7 : Ref sig .tc := ⟨.hbm, 4943, rfl⟩
abbrev main_call19_call0_call0_v8 : Ref sig .tc := ⟨.hbm, 4944, rfl⟩
abbrev main_call19_call0_call0_c_1 : Ref sig .tc := ⟨.hbm, 4945, rfl⟩
abbrev main_call19_call0_call0_v9 : Ref sig .tc := ⟨.hbm, 4946, rfl⟩
abbrev main_call19_call0_call0_v10 : Ref sig .tc := ⟨.hbm, 4947, rfl⟩
abbrev main_call19_call0_call0_v11 : Ref sig .tc := ⟨.hbm, 4948, rfl⟩
abbrev main_call19_call0_call0_v12 : Ref sig .tc := ⟨.hbm, 4949, rfl⟩
abbrev main_call19_call0_call0_v13 : Ref sig .tc := ⟨.hbm, 4950, rfl⟩
abbrev main_call19_call0_call0_c_2 : Ref sig .tc := ⟨.hbm, 4951, rfl⟩
abbrev main_call19_call0_call0_v14 : Ref sig .tc := ⟨.hbm, 4952, rfl⟩
abbrev main_call19_call0_call0_v15 : Ref sig .tc := ⟨.hbm, 4953, rfl⟩
abbrev main_call19_call0_call0_c_3 : Ref sig .tc := ⟨.hbm, 4954, rfl⟩
abbrev main_call19_call0_call0_v16 : Ref sig .tc := ⟨.hbm, 4955, rfl⟩
abbrev main_call19_call0_call0_v17 : Ref sig .tc := ⟨.hbm, 4956, rfl⟩
abbrev main_call19_call0_call0_v18 : Ref sig .tc := ⟨.hbm, 4957, rfl⟩
abbrev main_call19_call0_call0_v19 : Ref sig .tc := ⟨.hbm, 4958, rfl⟩
abbrev main_call19_call0_call0_v20 : Ref sig .tc := ⟨.hbm, 4959, rfl⟩
abbrev main_call19_call0_call0_c_4 : Ref sig .tc := ⟨.hbm, 4960, rfl⟩
abbrev main_call19_call0_call0_v21 : Ref sig .tc := ⟨.hbm, 4961, rfl⟩
abbrev main_call19_call0_call0_v22 : Ref sig .tc := ⟨.hbm, 4962, rfl⟩
abbrev main_call19_call0_call0_c_5 : Ref sig .tc := ⟨.hbm, 4963, rfl⟩
abbrev main_call19_call0_call0_v23 : Ref sig .tc := ⟨.hbm, 4964, rfl⟩
abbrev main_call19_call0_call0_v24 : Ref sig .tc := ⟨.hbm, 4965, rfl⟩
abbrev main_call19_call0_call0_v25 : Ref sig .tc := ⟨.hbm, 4966, rfl⟩
abbrev main_call19_call0_call0_v26 : Ref sig .tc := ⟨.hbm, 4967, rfl⟩
abbrev main_call19_call0_call0_v27 : Ref sig .tc := ⟨.hbm, 4968, rfl⟩
abbrev main_call19_call0_call0_c_6 : Ref sig .tc := ⟨.hbm, 4969, rfl⟩
abbrev main_call19_call0_call0_v28 : Ref sig .tc := ⟨.hbm, 4970, rfl⟩
abbrev main_call19_call0_call0_v29 : Ref sig .tc := ⟨.hbm, 4971, rfl⟩
abbrev main_call19_call0_call0_c_7 : Ref sig .tc := ⟨.hbm, 4972, rfl⟩
abbrev main_call19_call0_call0_v30 : Ref sig .tc := ⟨.hbm, 4973, rfl⟩
abbrev main_call19_call0_call0_v31 : Ref sig .tc := ⟨.hbm, 4974, rfl⟩
abbrev main_call19_call0_call0_v32 : Ref sig .tc := ⟨.hbm, 4975, rfl⟩
abbrev main_call19_call0_call0_v33 : Ref sig .tc := ⟨.hbm, 4976, rfl⟩
abbrev main_call19_call0_call0_v34 : Ref sig .tc := ⟨.hbm, 4977, rfl⟩
abbrev main_call19_call0_call0_v35 : Ref sig .tc := ⟨.hbm, 4978, rfl⟩
abbrev main_call19_call0_call0_v36 : Ref sig .tc := ⟨.hbm, 4979, rfl⟩
abbrev main_call19_call0_call0_v37 : Ref sig .tc := ⟨.hbm, 4980, rfl⟩
abbrev main_call19_call0_call0_c_8 : Ref sig .tc := ⟨.hbm, 4981, rfl⟩
abbrev main_call19_call0_call0_v38 : Ref sig .tc := ⟨.hbm, 4982, rfl⟩
abbrev main_call19_call0_call0_v39 : Ref sig .tc := ⟨.hbm, 4983, rfl⟩
abbrev main_call19_call0_call0_v40 : Ref sig .tc := ⟨.hbm, 4984, rfl⟩
abbrev main_call19_call0_call0_c_9 : Ref sig .tc := ⟨.hbm, 4985, rfl⟩
abbrev main_call19_call0_call0_v41 : Ref sig .tc := ⟨.hbm, 4986, rfl⟩
abbrev main_call19_call0_call0_v42 : Ref sig .tc := ⟨.hbm, 4987, rfl⟩
abbrev main_call19_call0_call0_c_10 : Ref sig .tc := ⟨.hbm, 4988, rfl⟩
abbrev main_call19_call0_call0_v43 : Ref sig .tc := ⟨.hbm, 4989, rfl⟩
abbrev main_call19_call0_call0_v44 : Ref sig .tc := ⟨.hbm, 4990, rfl⟩
abbrev main_call19_call0_call0_v45 : Ref sig .tc := ⟨.hbm, 4991, rfl⟩
abbrev main_call19_call0_call0_v46 : Ref sig .tc := ⟨.hbm, 4992, rfl⟩
abbrev main_call19_call0_call0_v47 : Ref sig .tc := ⟨.hbm, 4993, rfl⟩
abbrev main_call19_call0_call0_c_11 : Ref sig .tc := ⟨.hbm, 4994, rfl⟩
abbrev main_call19_call0_call0_v48 : Ref sig .tc := ⟨.hbm, 4995, rfl⟩
abbrev main_call19_call0_call0_v49 : Ref sig .tc := ⟨.hbm, 4996, rfl⟩
abbrev main_call19_call0_call0_c_12 : Ref sig .tc := ⟨.hbm, 4997, rfl⟩
abbrev main_call19_call0_call0_v50 : Ref sig .tc := ⟨.hbm, 4998, rfl⟩
abbrev main_call19_call0_call0_v51 : Ref sig .tc := ⟨.hbm, 4999, rfl⟩
abbrev main_call19_call0_call0_v52 : Ref sig .tc := ⟨.hbm, 5000, rfl⟩
abbrev main_call19_call0_call0_v53 : Ref sig .tc := ⟨.hbm, 5001, rfl⟩
abbrev main_call19_call0_call0_v54 : Ref sig .tc := ⟨.hbm, 5002, rfl⟩
abbrev main_call19_call0_call0_c_13 : Ref sig .tc := ⟨.hbm, 5003, rfl⟩
abbrev main_call19_call0_call0_v55 : Ref sig .tc := ⟨.hbm, 5004, rfl⟩
abbrev main_call19_call0_call0_v56 : Ref sig .tc := ⟨.hbm, 5005, rfl⟩
abbrev main_call19_call0_call0_c_14 : Ref sig .tc := ⟨.hbm, 5006, rfl⟩
abbrev main_call19_call0_call0_v57 : Ref sig .tc := ⟨.hbm, 5007, rfl⟩
abbrev main_call19_call0_call0_v58 : Ref sig .tc := ⟨.hbm, 5008, rfl⟩
abbrev main_call19_call0_call0_v59 : Ref sig .tc := ⟨.hbm, 5009, rfl⟩
abbrev main_call19_call0_call0_v60 : Ref sig .tc := ⟨.hbm, 5010, rfl⟩
abbrev main_call19_call0_call0_v61 : Ref sig .tc := ⟨.hbm, 5011, rfl⟩
abbrev main_call19_call0_call0_c_15 : Ref sig .tc := ⟨.hbm, 5012, rfl⟩
abbrev main_call19_call0_call0_v62 : Ref sig .tc := ⟨.hbm, 5013, rfl⟩
abbrev main_call19_call0_call0_v63 : Ref sig .tc := ⟨.hbm, 5014, rfl⟩
abbrev main_call19_call0_call0_c_16 : Ref sig .tc := ⟨.hbm, 5015, rfl⟩
abbrev main_call19_call0_call0_v64 : Ref sig .tc := ⟨.hbm, 5016, rfl⟩
abbrev main_call19_call0_call0_v65 : Ref sig .tc := ⟨.hbm, 5017, rfl⟩
abbrev main_call19_call0_call0_v66 : Ref sig .tc := ⟨.hbm, 5018, rfl⟩
abbrev main_call19_call0_call0_v67 : Ref sig .tc := ⟨.hbm, 5019, rfl⟩
abbrev main_call19_call0_call0_v68 : Ref sig .tc := ⟨.hbm, 5020, rfl⟩
abbrev main_call19_call0_call0_v69 : Ref sig .tc := ⟨.hbm, 5021, rfl⟩
abbrev main_call19_call0_call0_v70 : Ref sig .tc := ⟨.hbm, 5022, rfl⟩
abbrev main_call19_call0_call0_v71 : Ref sig .tc := ⟨.hbm, 5023, rfl⟩
abbrev main_call19_call0_call0_c_17 : Ref sig .tc := ⟨.hbm, 5024, rfl⟩
abbrev main_call19_call0_call0_v72 : Ref sig .tc := ⟨.hbm, 5025, rfl⟩
abbrev main_call19_call0_call0_v73 : Ref sig .tc := ⟨.hbm, 5026, rfl⟩
abbrev main_call19_call0_call0_v74 : Ref sig .tc := ⟨.hbm, 5027, rfl⟩
abbrev main_call19_call0_call0_c_18 : Ref sig .tc := ⟨.hbm, 5028, rfl⟩
abbrev main_call19_call0_call0_v75 : Ref sig .tc := ⟨.hbm, 5029, rfl⟩
abbrev main_call19_call0_call0_v76 : Ref sig .tc := ⟨.hbm, 5030, rfl⟩
abbrev main_call19_call0_call0_c_19 : Ref sig .tc := ⟨.hbm, 5031, rfl⟩
abbrev main_call19_call0_call0_v77 : Ref sig .tc := ⟨.hbm, 5032, rfl⟩
abbrev main_call19_call0_call0_v78 : Ref sig .tc := ⟨.hbm, 5033, rfl⟩
abbrev main_call19_call0_call0_v79 : Ref sig .tc := ⟨.hbm, 5034, rfl⟩
abbrev main_call19_call0_call0_v80 : Ref sig .tc := ⟨.hbm, 5035, rfl⟩
abbrev main_call19_call0_call0_v81 : Ref sig .tc := ⟨.hbm, 5036, rfl⟩
abbrev main_call19_call0_call0_c_20 : Ref sig .tc := ⟨.hbm, 5037, rfl⟩
abbrev main_call19_call0_call0_v82 : Ref sig .tc := ⟨.hbm, 5038, rfl⟩
abbrev main_call19_call0_call0_v83 : Ref sig .tc := ⟨.hbm, 5039, rfl⟩
abbrev main_call19_call0_call0_c_21 : Ref sig .tc := ⟨.hbm, 5040, rfl⟩
abbrev main_call19_call0_call0_v84 : Ref sig .tc := ⟨.hbm, 5041, rfl⟩
abbrev main_call19_call0_call0_v85 : Ref sig .tc := ⟨.hbm, 5042, rfl⟩
abbrev main_call19_call0_call0_v86 : Ref sig .tc := ⟨.hbm, 5043, rfl⟩
abbrev main_call19_call0_call0_v87 : Ref sig .tc := ⟨.hbm, 5044, rfl⟩
abbrev main_call19_call0_call0_v88 : Ref sig .tc := ⟨.hbm, 5045, rfl⟩
abbrev main_call19_call0_call0_c_22 : Ref sig .tc := ⟨.hbm, 5046, rfl⟩
abbrev main_call19_call0_call0_v89 : Ref sig .tc := ⟨.hbm, 5047, rfl⟩
abbrev main_call19_call0_call0_v90 : Ref sig .tc := ⟨.hbm, 5048, rfl⟩
abbrev main_call19_call0_call0_c_23 : Ref sig .tc := ⟨.hbm, 5049, rfl⟩
abbrev main_call19_call0_call0_v91 : Ref sig .tc := ⟨.hbm, 5050, rfl⟩
abbrev main_call19_call0_call0_v92 : Ref sig .tc := ⟨.hbm, 5051, rfl⟩
abbrev main_call19_call0_call0_v93 : Ref sig .tc := ⟨.hbm, 5052, rfl⟩
abbrev main_call19_call0_call0_v94 : Ref sig .tc := ⟨.hbm, 5053, rfl⟩
abbrev main_call19_call0_call0_v95 : Ref sig .tc := ⟨.hbm, 5054, rfl⟩
abbrev main_call19_call0_call0_c_24 : Ref sig .tc := ⟨.hbm, 5055, rfl⟩
abbrev main_call19_call0_call0_v96 : Ref sig .tc := ⟨.hbm, 5056, rfl⟩
abbrev main_call19_call0_call0_v97 : Ref sig .tc := ⟨.hbm, 5057, rfl⟩
abbrev main_call19_call0_call0_c_25 : Ref sig .tc := ⟨.hbm, 5058, rfl⟩
abbrev main_call19_call0_call0_v98 : Ref sig .tc := ⟨.hbm, 5059, rfl⟩
abbrev main_call19_call0_call0_v99 : Ref sig .tc := ⟨.hbm, 5060, rfl⟩
abbrev main_call19_call0_call0_v100 : Ref sig .tc := ⟨.hbm, 5061, rfl⟩
abbrev main_call19_call0_call0_v101 : Ref sig .tc := ⟨.hbm, 5062, rfl⟩
abbrev main_call19_call0_call0_v102 : Ref sig .tc := ⟨.hbm, 5063, rfl⟩
abbrev main_call19_call0_call0_v103 : Ref sig .tc := ⟨.hbm, 5064, rfl⟩
abbrev main_call19_call0_call0_v104 : Ref sig .tc := ⟨.hbm, 5065, rfl⟩
abbrev main_call19_call0_call0_v105 : Ref sig .tc := ⟨.hbm, 5066, rfl⟩
abbrev main_call19_call0_call0_c_26 : Ref sig .tc := ⟨.hbm, 5067, rfl⟩
abbrev main_call19_call0_call0_v106 : Ref sig .tc := ⟨.hbm, 5068, rfl⟩
abbrev main_call19_call0_call0_v107 : Ref sig .tc := ⟨.hbm, 5069, rfl⟩
abbrev main_call19_call0_call0_v108 : Ref sig .tc := ⟨.hbm, 5070, rfl⟩
abbrev main_call19_call0_call0_c_27 : Ref sig .tc := ⟨.hbm, 5071, rfl⟩
abbrev main_call19_call0_call0_v109 : Ref sig .tc := ⟨.hbm, 5072, rfl⟩
abbrev main_call19_call0_call0_v110 : Ref sig .tc := ⟨.hbm, 5073, rfl⟩
abbrev main_call19_call0_call0_c_28 : Ref sig .tc := ⟨.hbm, 5074, rfl⟩
abbrev main_call19_call0_call0_v111 : Ref sig .tc := ⟨.hbm, 5075, rfl⟩
abbrev main_call19_call0_call0_v112 : Ref sig .tc := ⟨.hbm, 5076, rfl⟩
abbrev main_call19_call0_call0_v113 : Ref sig .tc := ⟨.hbm, 5077, rfl⟩
abbrev main_call19_call0_call0_v114 : Ref sig .tc := ⟨.hbm, 5078, rfl⟩
abbrev main_call19_call0_call0_v115 : Ref sig .tc := ⟨.hbm, 5079, rfl⟩
abbrev main_call19_call0_call0_c_29 : Ref sig .tc := ⟨.hbm, 5080, rfl⟩
abbrev main_call19_call0_call0_v116 : Ref sig .tc := ⟨.hbm, 5081, rfl⟩
abbrev main_call19_call0_call0_v117 : Ref sig .tc := ⟨.hbm, 5082, rfl⟩
abbrev main_call19_call0_call0_c_30 : Ref sig .tc := ⟨.hbm, 5083, rfl⟩
abbrev main_call19_call0_call0_v118 : Ref sig .tc := ⟨.hbm, 5084, rfl⟩
abbrev main_call19_call0_call0_v119 : Ref sig .tc := ⟨.hbm, 5085, rfl⟩
abbrev main_call19_call0_call0_v120 : Ref sig .tc := ⟨.hbm, 5086, rfl⟩
abbrev main_call19_call0_call0_v121 : Ref sig .tc := ⟨.hbm, 5087, rfl⟩
abbrev main_call19_call0_call0_v122 : Ref sig .tc := ⟨.hbm, 5088, rfl⟩
abbrev main_call19_call0_call0_c_31 : Ref sig .tc := ⟨.hbm, 5089, rfl⟩
abbrev main_call19_call0_call0_v123 : Ref sig .tc := ⟨.hbm, 5090, rfl⟩
abbrev main_call19_call0_call0_v124 : Ref sig .tc := ⟨.hbm, 5091, rfl⟩
abbrev main_call19_call0_call0_c_32 : Ref sig .tc := ⟨.hbm, 5092, rfl⟩
abbrev main_call19_call0_call0_v125 : Ref sig .tc := ⟨.hbm, 5093, rfl⟩
abbrev main_call19_call0_call0_v126 : Ref sig .tc := ⟨.hbm, 5094, rfl⟩
abbrev main_call19_call0_call0_v127 : Ref sig .tc := ⟨.hbm, 5095, rfl⟩
abbrev main_call19_call0_call0_v128 : Ref sig .tc := ⟨.hbm, 5096, rfl⟩
abbrev main_call19_call0_call0_v129 : Ref sig .tc := ⟨.hbm, 5097, rfl⟩
abbrev main_call19_call0_call0_c_33 : Ref sig .tc := ⟨.hbm, 5098, rfl⟩
abbrev main_call19_call0_call0_v130 : Ref sig .tc := ⟨.hbm, 5099, rfl⟩
abbrev main_call19_call0_call0_v131 : Ref sig .tc := ⟨.hbm, 5100, rfl⟩
abbrev main_call19_call0_call0_c_34 : Ref sig .tc := ⟨.hbm, 5101, rfl⟩
abbrev main_call19_call0_call0_v132 : Ref sig .tc := ⟨.hbm, 5102, rfl⟩
abbrev main_call19_call0_call0_v133 : Ref sig .tc := ⟨.hbm, 5103, rfl⟩
abbrev main_call19_call0_call0_v134 : Ref sig .tc := ⟨.hbm, 5104, rfl⟩
abbrev main_call19_call0_call0_v135 : Ref sig .tc := ⟨.hbm, 5105, rfl⟩
abbrev main_call19_call0_call0_v136 : Ref sig .tc := ⟨.hbm, 5106, rfl⟩
abbrev main_call19_call0_call0_v137 : Ref sig .tc := ⟨.hbm, 5107, rfl⟩
abbrev main_call19_call0_call0_v138 : Ref sig .tc := ⟨.hbm, 5108, rfl⟩
abbrev main_call19_call0_call0_v139 : Ref sig .tc := ⟨.hbm, 5109, rfl⟩
abbrev main_call19_call0_call0_c_35 : Ref sig .tc := ⟨.hbm, 5110, rfl⟩
abbrev main_call19_call0_call0_v140 : Ref sig .tc := ⟨.hbm, 5111, rfl⟩
abbrev main_call19_call0_call0_v141 : Ref sig .tc := ⟨.hbm, 5112, rfl⟩
abbrev main_call19_call0_call0_v142 : Ref sig .tc := ⟨.hbm, 5113, rfl⟩
abbrev main_call19_call0_call0_c_36 : Ref sig .tc := ⟨.hbm, 5114, rfl⟩
abbrev main_call19_call0_call0_v143 : Ref sig .tc := ⟨.hbm, 5115, rfl⟩
abbrev main_call19_call0_call0_v144 : Ref sig .tc := ⟨.hbm, 5116, rfl⟩
abbrev main_call19_call0_call0_c_37 : Ref sig .tc := ⟨.hbm, 5117, rfl⟩
abbrev main_call19_call0_call0_v145 : Ref sig .tc := ⟨.hbm, 5118, rfl⟩
abbrev main_call19_call0_call0_v146 : Ref sig .tc := ⟨.hbm, 5119, rfl⟩
abbrev main_call19_call0_call0_v147 : Ref sig .tc := ⟨.hbm, 5120, rfl⟩
abbrev main_call19_call0_call0_v148 : Ref sig .tc := ⟨.hbm, 5121, rfl⟩
abbrev main_call19_call0_call0_v149 : Ref sig .tc := ⟨.hbm, 5122, rfl⟩
abbrev main_call19_call0_call0_c_38 : Ref sig .tc := ⟨.hbm, 5123, rfl⟩
abbrev main_call19_call0_call0_v150 : Ref sig .tc := ⟨.hbm, 5124, rfl⟩
abbrev main_call19_call0_call0_v151 : Ref sig .tc := ⟨.hbm, 5125, rfl⟩
abbrev main_call19_call0_call0_c_39 : Ref sig .tc := ⟨.hbm, 5126, rfl⟩
abbrev main_call19_call0_call0_v152 : Ref sig .tc := ⟨.hbm, 5127, rfl⟩
abbrev main_call19_call0_call0_v153 : Ref sig .tc := ⟨.hbm, 5128, rfl⟩
abbrev main_call19_call0_call0_v154 : Ref sig .tc := ⟨.hbm, 5129, rfl⟩
abbrev main_call19_call0_call0_v155 : Ref sig .tc := ⟨.hbm, 5130, rfl⟩
abbrev main_call19_call0_call0_v156 : Ref sig .tc := ⟨.hbm, 5131, rfl⟩
abbrev main_call19_call0_call0_c_40 : Ref sig .tc := ⟨.hbm, 5132, rfl⟩
abbrev main_call19_call0_call0_v157 : Ref sig .tc := ⟨.hbm, 5133, rfl⟩
abbrev main_call19_call0_call0_v158 : Ref sig .tc := ⟨.hbm, 5134, rfl⟩
abbrev main_call19_call0_call0_c_41 : Ref sig .tc := ⟨.hbm, 5135, rfl⟩
abbrev main_call19_call0_call0_v159 : Ref sig .tc := ⟨.hbm, 5136, rfl⟩
abbrev main_call19_call0_call0_v160 : Ref sig .tc := ⟨.hbm, 5137, rfl⟩
abbrev main_call19_call0_call0_v161 : Ref sig .tc := ⟨.hbm, 5138, rfl⟩
abbrev main_call19_call0_call0_v162 : Ref sig .tc := ⟨.hbm, 5139, rfl⟩
abbrev main_call19_call0_call0_v163 : Ref sig .tc := ⟨.hbm, 5140, rfl⟩
abbrev main_call19_call0_call0_c_42 : Ref sig .tc := ⟨.hbm, 5141, rfl⟩
abbrev main_call19_call0_call0_v164 : Ref sig .tc := ⟨.hbm, 5142, rfl⟩
abbrev main_call19_call0_call0_v165 : Ref sig .tc := ⟨.hbm, 5143, rfl⟩
abbrev main_call19_call0_call0_c_43 : Ref sig .tc := ⟨.hbm, 5144, rfl⟩
abbrev main_call19_call0_call0_v166 : Ref sig .tc := ⟨.hbm, 5145, rfl⟩
abbrev main_call19_call0_call0_v167 : Ref sig .tc := ⟨.hbm, 5146, rfl⟩
abbrev main_call19_call0_call0_v168 : Ref sig .tc := ⟨.hbm, 5147, rfl⟩
abbrev main_call19_call0_call0_v169 : Ref sig .tc := ⟨.hbm, 5148, rfl⟩
abbrev main_call19_call0_call0_v170 : Ref sig .tc := ⟨.hbm, 5149, rfl⟩
abbrev main_call19_call0_v22_0 : Ref sig .tc := ⟨.hbm, 5150, rfl⟩
abbrev main_call19_call0_call0_v172 : Ref sig .tc := ⟨.hbm, 5151, rfl⟩
abbrev main_call19_call0_call0_v173 : Ref sig .tc := ⟨.hbm, 5152, rfl⟩
abbrev main_call19_call0_call0_c_44 : Ref sig .tc := ⟨.hbm, 5153, rfl⟩
abbrev main_call19_call0_call0_v174 : Ref sig .tc := ⟨.hbm, 5154, rfl⟩
abbrev main_call19_call0_v22_1 : Ref sig .tc := ⟨.hbm, 5155, rfl⟩
abbrev main_call19_call0_v23 : Ref sig .tc := ⟨.hbm, 5156, rfl⟩
abbrev main_call19_call0_c_3 : Ref sig .tc := ⟨.hbm, 5157, rfl⟩
abbrev main_call19_call0_v24 : Ref sig .tc := ⟨.hbm, 5158, rfl⟩
abbrev main_call19_call0_v25 : Ref sig .tc := ⟨.hbm, 5159, rfl⟩
abbrev main_call19_call0_c_4 : Ref sig .tc := ⟨.hbm, 5160, rfl⟩
abbrev main_call19_call0_v26 : Ref sig .tc := ⟨.hbm, 5161, rfl⟩
abbrev main_call19_call0_v27 : Ref sig .tc := ⟨.hbm, 5162, rfl⟩
abbrev main_call19_call0_v28 : Ref sig .tc := ⟨.hbm, 5163, rfl⟩
abbrev main_call19_call0_cst : Ref sig .tc := ⟨.hbm, 5164, rfl⟩
abbrev main_call19_call0_v29 : Ref sig .tc := ⟨.hbm, 5165, rfl⟩
abbrev main_call19_call0_v30 : Ref sig .tc := ⟨.hbm, 5166, rfl⟩
abbrev main_call19_call0_v31 : Ref sig .tc := ⟨.hbm, 5167, rfl⟩
abbrev main_call19_call0_v32 : Ref sig .tc := ⟨.hbm, 5168, rfl⟩
abbrev main_call19_call0_v33 : Ref sig .tc := ⟨.hbm, 5169, rfl⟩
abbrev main_call19_call0_v34 : Ref sig .tc := ⟨.hbm, 5170, rfl⟩
abbrev main_call19_call0_v35 : Ref sig .tc := ⟨.hbm, 5171, rfl⟩
abbrev main_call19_call0_v36 : Ref sig .tc := ⟨.hbm, 5172, rfl⟩
abbrev main_call19_v0 : Ref sig .tc := ⟨.hbm, 5173, rfl⟩
abbrev main_call19_v1 : Ref sig .tc := ⟨.hbm, 5174, rfl⟩
abbrev main_call19_v2 : Ref sig .tc := ⟨.hbm, 5175, rfl⟩
abbrev main_call19_v3 : Ref sig .tc := ⟨.hbm, 5176, rfl⟩
abbrev main_v68 : Ref sig .tc := ⟨.hbm, 5177, rfl⟩
abbrev main_cst_13 : Ref sig .tc := ⟨.hbm, 5178, rfl⟩
abbrev main_cst_14 : Ref sig .tc := ⟨.hbm, 5179, rfl⟩
abbrev main_call20_v0 : Ref sig .tc := ⟨.hbm, 5180, rfl⟩
abbrev main_call20_v1 : Ref sig .tc := ⟨.hbm, 5181, rfl⟩
abbrev main_call20_v2 : Ref sig .tc := ⟨.hbm, 5182, rfl⟩
abbrev main_call20_v3 : Ref sig .tc := ⟨.hbm, 5183, rfl⟩
abbrev main_call20_v4 : Ref sig .tc := ⟨.hbm, 5184, rfl⟩
abbrev main_call20_v5 : Ref sig .tc := ⟨.hbm, 5185, rfl⟩
abbrev main_call20_v6 : Ref sig .tc := ⟨.hbm, 5186, rfl⟩
abbrev main_call20_v7 : Ref sig .tc := ⟨.hbm, 5187, rfl⟩
abbrev main_call20_v8 : Ref sig .tc := ⟨.hbm, 5188, rfl⟩
abbrev main_call20_c : Ref sig .tc := ⟨.hbm, 5189, rfl⟩
abbrev main_call20_v9 : Ref sig .tc := ⟨.hbm, 5190, rfl⟩
abbrev main_call20_v10 : Ref sig .tc := ⟨.hbm, 5191, rfl⟩
abbrev main_call20_c_0 : Ref sig .tc := ⟨.hbm, 5192, rfl⟩
abbrev main_call20_v11 : Ref sig .tc := ⟨.hbm, 5193, rfl⟩
abbrev main_call20_v12 : Ref sig .tc := ⟨.hbm, 5194, rfl⟩
abbrev main_call20_v13 : Ref sig .tc := ⟨.hbm, 5195, rfl⟩
abbrev main_call20_v14 : Ref sig .tc := ⟨.hbm, 5196, rfl⟩
abbrev main_call20_call0_v0 : Ref sig .tc := ⟨.hbm, 5197, rfl⟩
abbrev main_call20_call0_c : Ref sig .tc := ⟨.hbm, 5198, rfl⟩
abbrev main_call20_call0_v1 : Ref sig .tc := ⟨.hbm, 5199, rfl⟩
abbrev main_call20_call0_v2 : Ref sig .tc := ⟨.hbm, 5200, rfl⟩
abbrev main_call20_call0_v3 : Ref sig .tc := ⟨.hbm, 5201, rfl⟩
abbrev main_call20_call0_v4 : Ref sig .tc := ⟨.hbm, 5202, rfl⟩
abbrev main_call20_call0_v5 : Ref sig .tc := ⟨.hbm, 5203, rfl⟩
abbrev main_call20_call0_v6 : Ref sig .tc := ⟨.hbm, 5204, rfl⟩
abbrev main_call20_call0_c_0 : Ref sig .tc := ⟨.hbm, 5205, rfl⟩
abbrev main_call20_call0_v7 : Ref sig .tc := ⟨.hbm, 5206, rfl⟩
abbrev main_call20_call0_v8 : Ref sig .tc := ⟨.hbm, 5207, rfl⟩
abbrev main_call20_call0_c_1 : Ref sig .tc := ⟨.hbm, 5208, rfl⟩
abbrev main_call20_call0_v9 : Ref sig .tc := ⟨.hbm, 5209, rfl⟩
abbrev main_call20_call0_v10 : Ref sig .tc := ⟨.hbm, 5210, rfl⟩
abbrev main_call20_call0_v11 : Ref sig .tc := ⟨.hbm, 5211, rfl⟩
abbrev main_call20_call0_v12 : Ref sig .tc := ⟨.hbm, 5212, rfl⟩
abbrev main_call20_call0_v13 : Ref sig .tc := ⟨.hbm, 5213, rfl⟩
abbrev main_call20_call0_c_2 : Ref sig .tc := ⟨.hbm, 5214, rfl⟩
abbrev main_call20_call0_v14 : Ref sig .tc := ⟨.hbm, 5215, rfl⟩
abbrev main_call20_call0_v15 : Ref sig .tc := ⟨.hbm, 5216, rfl⟩
abbrev main_call20_call0_c_3 : Ref sig .tc := ⟨.hbm, 5217, rfl⟩
abbrev main_call20_call0_v16 : Ref sig .tc := ⟨.hbm, 5218, rfl⟩
abbrev main_call20_call0_v17 : Ref sig .tc := ⟨.hbm, 5219, rfl⟩
abbrev main_call20_call0_v18 : Ref sig .tc := ⟨.hbm, 5220, rfl⟩
abbrev main_call20_call0_v19 : Ref sig .tc := ⟨.hbm, 5221, rfl⟩
abbrev main_call20_call0_v20 : Ref sig .tc := ⟨.hbm, 5222, rfl⟩
abbrev main_call20_call0_c_4 : Ref sig .tc := ⟨.hbm, 5223, rfl⟩
abbrev main_call20_call0_v21 : Ref sig .tc := ⟨.hbm, 5224, rfl⟩
abbrev main_call20_call0_v22 : Ref sig .tc := ⟨.hbm, 5225, rfl⟩
abbrev main_call20_call0_c_5 : Ref sig .tc := ⟨.hbm, 5226, rfl⟩
abbrev main_call20_call0_v23 : Ref sig .tc := ⟨.hbm, 5227, rfl⟩
abbrev main_call20_call0_v24 : Ref sig .tc := ⟨.hbm, 5228, rfl⟩
abbrev main_call20_call0_v25 : Ref sig .tc := ⟨.hbm, 5229, rfl⟩
abbrev main_call20_call0_v26 : Ref sig .tc := ⟨.hbm, 5230, rfl⟩
abbrev main_call20_call0_v27 : Ref sig .tc := ⟨.hbm, 5231, rfl⟩
abbrev main_call20_call0_c_6 : Ref sig .tc := ⟨.hbm, 5232, rfl⟩
abbrev main_call20_call0_v28 : Ref sig .tc := ⟨.hbm, 5233, rfl⟩
abbrev main_call20_call0_v29 : Ref sig .tc := ⟨.hbm, 5234, rfl⟩
abbrev main_call20_call0_c_7 : Ref sig .tc := ⟨.hbm, 5235, rfl⟩
abbrev main_call20_call0_v30 : Ref sig .tc := ⟨.hbm, 5236, rfl⟩
abbrev main_call20_call0_v31 : Ref sig .tc := ⟨.hbm, 5237, rfl⟩
abbrev main_call20_call0_v32 : Ref sig .tc := ⟨.hbm, 5238, rfl⟩
abbrev main_call20_call0_v33 : Ref sig .tc := ⟨.hbm, 5239, rfl⟩
abbrev main_call20_call0_v34 : Ref sig .tc := ⟨.hbm, 5240, rfl⟩
abbrev main_call20_call0_v35 : Ref sig .tc := ⟨.hbm, 5241, rfl⟩
abbrev main_call20_call0_v36 : Ref sig .tc := ⟨.hbm, 5242, rfl⟩
abbrev main_call20_call0_v37 : Ref sig .tc := ⟨.hbm, 5243, rfl⟩
abbrev main_call20_call0_c_8 : Ref sig .tc := ⟨.hbm, 5244, rfl⟩
abbrev main_call20_call0_v38 : Ref sig .tc := ⟨.hbm, 5245, rfl⟩
abbrev main_call20_call0_v39 : Ref sig .tc := ⟨.hbm, 5246, rfl⟩
abbrev main_call20_call0_v40 : Ref sig .tc := ⟨.hbm, 5247, rfl⟩
abbrev main_call20_call0_c_9 : Ref sig .tc := ⟨.hbm, 5248, rfl⟩
abbrev main_call20_call0_v41 : Ref sig .tc := ⟨.hbm, 5249, rfl⟩
abbrev main_call20_call0_v42 : Ref sig .tc := ⟨.hbm, 5250, rfl⟩
abbrev main_call20_call0_c_10 : Ref sig .tc := ⟨.hbm, 5251, rfl⟩
abbrev main_call20_call0_v43 : Ref sig .tc := ⟨.hbm, 5252, rfl⟩
abbrev main_call20_call0_v44 : Ref sig .tc := ⟨.hbm, 5253, rfl⟩
abbrev main_call20_call0_v45 : Ref sig .tc := ⟨.hbm, 5254, rfl⟩
abbrev main_call20_call0_v46 : Ref sig .tc := ⟨.hbm, 5255, rfl⟩
abbrev main_call20_call0_v47 : Ref sig .tc := ⟨.hbm, 5256, rfl⟩
abbrev main_call20_call0_c_11 : Ref sig .tc := ⟨.hbm, 5257, rfl⟩
abbrev main_call20_call0_v48 : Ref sig .tc := ⟨.hbm, 5258, rfl⟩
abbrev main_call20_call0_v49 : Ref sig .tc := ⟨.hbm, 5259, rfl⟩
abbrev main_call20_call0_c_12 : Ref sig .tc := ⟨.hbm, 5260, rfl⟩
abbrev main_call20_call0_v50 : Ref sig .tc := ⟨.hbm, 5261, rfl⟩
abbrev main_call20_call0_v51 : Ref sig .tc := ⟨.hbm, 5262, rfl⟩
abbrev main_call20_call0_v52 : Ref sig .tc := ⟨.hbm, 5263, rfl⟩
abbrev main_call20_call0_v53 : Ref sig .tc := ⟨.hbm, 5264, rfl⟩
abbrev main_call20_call0_v54 : Ref sig .tc := ⟨.hbm, 5265, rfl⟩
abbrev main_call20_call0_c_13 : Ref sig .tc := ⟨.hbm, 5266, rfl⟩
abbrev main_call20_call0_v55 : Ref sig .tc := ⟨.hbm, 5267, rfl⟩
abbrev main_call20_call0_v56 : Ref sig .tc := ⟨.hbm, 5268, rfl⟩
abbrev main_call20_call0_c_14 : Ref sig .tc := ⟨.hbm, 5269, rfl⟩
abbrev main_call20_call0_v57 : Ref sig .tc := ⟨.hbm, 5270, rfl⟩
abbrev main_call20_call0_v58 : Ref sig .tc := ⟨.hbm, 5271, rfl⟩
abbrev main_call20_call0_v59 : Ref sig .tc := ⟨.hbm, 5272, rfl⟩
abbrev main_call20_call0_v60 : Ref sig .tc := ⟨.hbm, 5273, rfl⟩
abbrev main_call20_call0_v61 : Ref sig .tc := ⟨.hbm, 5274, rfl⟩
abbrev main_call20_call0_c_15 : Ref sig .tc := ⟨.hbm, 5275, rfl⟩
abbrev main_call20_call0_v62 : Ref sig .tc := ⟨.hbm, 5276, rfl⟩
abbrev main_call20_call0_v63 : Ref sig .tc := ⟨.hbm, 5277, rfl⟩
abbrev main_call20_call0_c_16 : Ref sig .tc := ⟨.hbm, 5278, rfl⟩
abbrev main_call20_call0_v64 : Ref sig .tc := ⟨.hbm, 5279, rfl⟩
abbrev main_call20_call0_v65 : Ref sig .tc := ⟨.hbm, 5280, rfl⟩
abbrev main_call20_call0_v66 : Ref sig .tc := ⟨.hbm, 5281, rfl⟩
abbrev main_call20_call0_v67 : Ref sig .tc := ⟨.hbm, 5282, rfl⟩
abbrev main_call20_call0_v68 : Ref sig .tc := ⟨.hbm, 5283, rfl⟩
abbrev main_call20_call0_v69 : Ref sig .tc := ⟨.hbm, 5284, rfl⟩
abbrev main_call20_call0_v70 : Ref sig .tc := ⟨.hbm, 5285, rfl⟩
abbrev main_call20_call0_v71 : Ref sig .tc := ⟨.hbm, 5286, rfl⟩
abbrev main_call20_call0_c_17 : Ref sig .tc := ⟨.hbm, 5287, rfl⟩
abbrev main_call20_call0_v72 : Ref sig .tc := ⟨.hbm, 5288, rfl⟩
abbrev main_call20_call0_v73 : Ref sig .tc := ⟨.hbm, 5289, rfl⟩
abbrev main_call20_call0_v74 : Ref sig .tc := ⟨.hbm, 5290, rfl⟩
abbrev main_call20_call0_c_18 : Ref sig .tc := ⟨.hbm, 5291, rfl⟩
abbrev main_call20_call0_v75 : Ref sig .tc := ⟨.hbm, 5292, rfl⟩
abbrev main_call20_call0_v76 : Ref sig .tc := ⟨.hbm, 5293, rfl⟩
abbrev main_call20_call0_c_19 : Ref sig .tc := ⟨.hbm, 5294, rfl⟩
abbrev main_call20_call0_v77 : Ref sig .tc := ⟨.hbm, 5295, rfl⟩
abbrev main_call20_call0_v78 : Ref sig .tc := ⟨.hbm, 5296, rfl⟩
abbrev main_call20_call0_v79 : Ref sig .tc := ⟨.hbm, 5297, rfl⟩
abbrev main_call20_call0_v80 : Ref sig .tc := ⟨.hbm, 5298, rfl⟩
abbrev main_call20_call0_v81 : Ref sig .tc := ⟨.hbm, 5299, rfl⟩
abbrev main_call20_call0_c_20 : Ref sig .tc := ⟨.hbm, 5300, rfl⟩
abbrev main_call20_call0_v82 : Ref sig .tc := ⟨.hbm, 5301, rfl⟩
abbrev main_call20_call0_v83 : Ref sig .tc := ⟨.hbm, 5302, rfl⟩
abbrev main_call20_call0_c_21 : Ref sig .tc := ⟨.hbm, 5303, rfl⟩
abbrev main_call20_call0_v84 : Ref sig .tc := ⟨.hbm, 5304, rfl⟩
abbrev main_call20_call0_v85 : Ref sig .tc := ⟨.hbm, 5305, rfl⟩
abbrev main_call20_call0_v86 : Ref sig .tc := ⟨.hbm, 5306, rfl⟩
abbrev main_call20_call0_v87 : Ref sig .tc := ⟨.hbm, 5307, rfl⟩
abbrev main_call20_call0_v88 : Ref sig .tc := ⟨.hbm, 5308, rfl⟩
abbrev main_call20_call0_c_22 : Ref sig .tc := ⟨.hbm, 5309, rfl⟩
abbrev main_call20_call0_v89 : Ref sig .tc := ⟨.hbm, 5310, rfl⟩
abbrev main_call20_call0_v90 : Ref sig .tc := ⟨.hbm, 5311, rfl⟩
abbrev main_call20_call0_c_23 : Ref sig .tc := ⟨.hbm, 5312, rfl⟩
abbrev main_call20_call0_v91 : Ref sig .tc := ⟨.hbm, 5313, rfl⟩
abbrev main_call20_call0_v92 : Ref sig .tc := ⟨.hbm, 5314, rfl⟩
abbrev main_call20_call0_v93 : Ref sig .tc := ⟨.hbm, 5315, rfl⟩
abbrev main_call20_call0_v94 : Ref sig .tc := ⟨.hbm, 5316, rfl⟩
abbrev main_call20_call0_v95 : Ref sig .tc := ⟨.hbm, 5317, rfl⟩
abbrev main_call20_call0_c_24 : Ref sig .tc := ⟨.hbm, 5318, rfl⟩
abbrev main_call20_call0_v96 : Ref sig .tc := ⟨.hbm, 5319, rfl⟩
abbrev main_call20_call0_v97 : Ref sig .tc := ⟨.hbm, 5320, rfl⟩
abbrev main_call20_call0_c_25 : Ref sig .tc := ⟨.hbm, 5321, rfl⟩
abbrev main_call20_call0_v98 : Ref sig .tc := ⟨.hbm, 5322, rfl⟩
abbrev main_call20_call0_v99 : Ref sig .tc := ⟨.hbm, 5323, rfl⟩
abbrev main_call20_call0_v100 : Ref sig .tc := ⟨.hbm, 5324, rfl⟩
abbrev main_call20_call0_v101 : Ref sig .tc := ⟨.hbm, 5325, rfl⟩
abbrev main_call20_call0_v102 : Ref sig .tc := ⟨.hbm, 5326, rfl⟩
abbrev main_call20_call0_v103 : Ref sig .tc := ⟨.hbm, 5327, rfl⟩
abbrev main_call20_call0_v104 : Ref sig .tc := ⟨.hbm, 5328, rfl⟩
abbrev main_call20_call0_v105 : Ref sig .tc := ⟨.hbm, 5329, rfl⟩
abbrev main_call20_call0_c_26 : Ref sig .tc := ⟨.hbm, 5330, rfl⟩
abbrev main_call20_call0_v106 : Ref sig .tc := ⟨.hbm, 5331, rfl⟩
abbrev main_call20_call0_v107 : Ref sig .tc := ⟨.hbm, 5332, rfl⟩
abbrev main_call20_call0_v108 : Ref sig .tc := ⟨.hbm, 5333, rfl⟩
abbrev main_call20_call0_c_27 : Ref sig .tc := ⟨.hbm, 5334, rfl⟩
abbrev main_call20_call0_v109 : Ref sig .tc := ⟨.hbm, 5335, rfl⟩
abbrev main_call20_call0_v110 : Ref sig .tc := ⟨.hbm, 5336, rfl⟩
abbrev main_call20_call0_c_28 : Ref sig .tc := ⟨.hbm, 5337, rfl⟩
abbrev main_call20_call0_v111 : Ref sig .tc := ⟨.hbm, 5338, rfl⟩
abbrev main_call20_call0_v112 : Ref sig .tc := ⟨.hbm, 5339, rfl⟩
abbrev main_call20_call0_v113 : Ref sig .tc := ⟨.hbm, 5340, rfl⟩
abbrev main_call20_call0_v114 : Ref sig .tc := ⟨.hbm, 5341, rfl⟩
abbrev main_call20_call0_v115 : Ref sig .tc := ⟨.hbm, 5342, rfl⟩
abbrev main_call20_call0_c_29 : Ref sig .tc := ⟨.hbm, 5343, rfl⟩
abbrev main_call20_call0_v116 : Ref sig .tc := ⟨.hbm, 5344, rfl⟩
abbrev main_call20_call0_v117 : Ref sig .tc := ⟨.hbm, 5345, rfl⟩
abbrev main_call20_call0_c_30 : Ref sig .tc := ⟨.hbm, 5346, rfl⟩
abbrev main_call20_call0_v118 : Ref sig .tc := ⟨.hbm, 5347, rfl⟩
abbrev main_call20_call0_v119 : Ref sig .tc := ⟨.hbm, 5348, rfl⟩
abbrev main_call20_call0_v120 : Ref sig .tc := ⟨.hbm, 5349, rfl⟩
abbrev main_call20_call0_v121 : Ref sig .tc := ⟨.hbm, 5350, rfl⟩
abbrev main_call20_call0_v122 : Ref sig .tc := ⟨.hbm, 5351, rfl⟩
abbrev main_call20_call0_c_31 : Ref sig .tc := ⟨.hbm, 5352, rfl⟩
abbrev main_call20_call0_v123 : Ref sig .tc := ⟨.hbm, 5353, rfl⟩
abbrev main_call20_call0_v124 : Ref sig .tc := ⟨.hbm, 5354, rfl⟩
abbrev main_call20_call0_c_32 : Ref sig .tc := ⟨.hbm, 5355, rfl⟩
abbrev main_call20_call0_v125 : Ref sig .tc := ⟨.hbm, 5356, rfl⟩
abbrev main_call20_call0_v126 : Ref sig .tc := ⟨.hbm, 5357, rfl⟩
abbrev main_call20_call0_v127 : Ref sig .tc := ⟨.hbm, 5358, rfl⟩
abbrev main_call20_call0_v128 : Ref sig .tc := ⟨.hbm, 5359, rfl⟩
abbrev main_call20_call0_v129 : Ref sig .tc := ⟨.hbm, 5360, rfl⟩
abbrev main_call20_call0_c_33 : Ref sig .tc := ⟨.hbm, 5361, rfl⟩
abbrev main_call20_call0_v130 : Ref sig .tc := ⟨.hbm, 5362, rfl⟩
abbrev main_call20_call0_v131 : Ref sig .tc := ⟨.hbm, 5363, rfl⟩
abbrev main_call20_call0_c_34 : Ref sig .tc := ⟨.hbm, 5364, rfl⟩
abbrev main_call20_call0_v132 : Ref sig .tc := ⟨.hbm, 5365, rfl⟩
abbrev main_call20_call0_v133 : Ref sig .tc := ⟨.hbm, 5366, rfl⟩
abbrev main_call20_call0_v134 : Ref sig .tc := ⟨.hbm, 5367, rfl⟩
abbrev main_call20_call0_v135 : Ref sig .tc := ⟨.hbm, 5368, rfl⟩
abbrev main_call20_call0_v136 : Ref sig .tc := ⟨.hbm, 5369, rfl⟩
abbrev main_call20_call0_v137 : Ref sig .tc := ⟨.hbm, 5370, rfl⟩
abbrev main_call20_call0_v138 : Ref sig .tc := ⟨.hbm, 5371, rfl⟩
abbrev main_call20_call0_v139 : Ref sig .tc := ⟨.hbm, 5372, rfl⟩
abbrev main_call20_call0_c_35 : Ref sig .tc := ⟨.hbm, 5373, rfl⟩
abbrev main_call20_call0_v140 : Ref sig .tc := ⟨.hbm, 5374, rfl⟩
abbrev main_call20_call0_v141 : Ref sig .tc := ⟨.hbm, 5375, rfl⟩
abbrev main_call20_call0_v142 : Ref sig .tc := ⟨.hbm, 5376, rfl⟩
abbrev main_call20_call0_c_36 : Ref sig .tc := ⟨.hbm, 5377, rfl⟩
abbrev main_call20_call0_v143 : Ref sig .tc := ⟨.hbm, 5378, rfl⟩
abbrev main_call20_call0_v144 : Ref sig .tc := ⟨.hbm, 5379, rfl⟩
abbrev main_call20_call0_c_37 : Ref sig .tc := ⟨.hbm, 5380, rfl⟩
abbrev main_call20_call0_v145 : Ref sig .tc := ⟨.hbm, 5381, rfl⟩
abbrev main_call20_call0_v146 : Ref sig .tc := ⟨.hbm, 5382, rfl⟩
abbrev main_call20_call0_v147 : Ref sig .tc := ⟨.hbm, 5383, rfl⟩
abbrev main_call20_call0_v148 : Ref sig .tc := ⟨.hbm, 5384, rfl⟩
abbrev main_call20_call0_v149 : Ref sig .tc := ⟨.hbm, 5385, rfl⟩
abbrev main_call20_call0_c_38 : Ref sig .tc := ⟨.hbm, 5386, rfl⟩
abbrev main_call20_call0_v150 : Ref sig .tc := ⟨.hbm, 5387, rfl⟩
abbrev main_call20_call0_v151 : Ref sig .tc := ⟨.hbm, 5388, rfl⟩
abbrev main_call20_call0_c_39 : Ref sig .tc := ⟨.hbm, 5389, rfl⟩
abbrev main_call20_call0_v152 : Ref sig .tc := ⟨.hbm, 5390, rfl⟩
abbrev main_call20_call0_v153 : Ref sig .tc := ⟨.hbm, 5391, rfl⟩
abbrev main_call20_call0_v154 : Ref sig .tc := ⟨.hbm, 5392, rfl⟩
abbrev main_call20_call0_v155 : Ref sig .tc := ⟨.hbm, 5393, rfl⟩
abbrev main_call20_call0_v156 : Ref sig .tc := ⟨.hbm, 5394, rfl⟩
abbrev main_call20_call0_c_40 : Ref sig .tc := ⟨.hbm, 5395, rfl⟩
abbrev main_call20_call0_v157 : Ref sig .tc := ⟨.hbm, 5396, rfl⟩
abbrev main_call20_call0_v158 : Ref sig .tc := ⟨.hbm, 5397, rfl⟩
abbrev main_call20_call0_c_41 : Ref sig .tc := ⟨.hbm, 5398, rfl⟩
abbrev main_call20_call0_v159 : Ref sig .tc := ⟨.hbm, 5399, rfl⟩
abbrev main_call20_call0_v160 : Ref sig .tc := ⟨.hbm, 5400, rfl⟩
abbrev main_call20_call0_v161 : Ref sig .tc := ⟨.hbm, 5401, rfl⟩
abbrev main_call20_call0_v162 : Ref sig .tc := ⟨.hbm, 5402, rfl⟩
abbrev main_call20_call0_v163 : Ref sig .tc := ⟨.hbm, 5403, rfl⟩
abbrev main_call20_call0_c_42 : Ref sig .tc := ⟨.hbm, 5404, rfl⟩
abbrev main_call20_call0_v164 : Ref sig .tc := ⟨.hbm, 5405, rfl⟩
abbrev main_call20_call0_v165 : Ref sig .tc := ⟨.hbm, 5406, rfl⟩
abbrev main_call20_call0_c_43 : Ref sig .tc := ⟨.hbm, 5407, rfl⟩
abbrev main_call20_call0_v166 : Ref sig .tc := ⟨.hbm, 5408, rfl⟩
abbrev main_call20_call0_v167 : Ref sig .tc := ⟨.hbm, 5409, rfl⟩
abbrev main_call20_call0_v168 : Ref sig .tc := ⟨.hbm, 5410, rfl⟩
abbrev main_call20_call0_v169 : Ref sig .tc := ⟨.hbm, 5411, rfl⟩
abbrev main_call20_call0_v170 : Ref sig .tc := ⟨.hbm, 5412, rfl⟩
abbrev main_call20_v15_0 : Ref sig .tc := ⟨.hbm, 5413, rfl⟩
abbrev main_call20_call0_v172 : Ref sig .tc := ⟨.hbm, 5414, rfl⟩
abbrev main_call20_call0_v173 : Ref sig .tc := ⟨.hbm, 5415, rfl⟩
abbrev main_call20_call0_c_44 : Ref sig .tc := ⟨.hbm, 5416, rfl⟩
abbrev main_call20_call0_v174 : Ref sig .tc := ⟨.hbm, 5417, rfl⟩
abbrev main_call20_v15_1 : Ref sig .tc := ⟨.hbm, 5418, rfl⟩
abbrev main_call20_v16 : Ref sig .tc := ⟨.hbm, 5419, rfl⟩
abbrev main_call20_c_1 : Ref sig .tc := ⟨.hbm, 5420, rfl⟩
abbrev main_call20_v17 : Ref sig .tc := ⟨.hbm, 5421, rfl⟩
abbrev main_call20_v18 : Ref sig .tc := ⟨.hbm, 5422, rfl⟩
abbrev main_call20_c_2 : Ref sig .tc := ⟨.hbm, 5423, rfl⟩
abbrev main_call20_v19 : Ref sig .tc := ⟨.hbm, 5424, rfl⟩
abbrev main_call20_v20 : Ref sig .tc := ⟨.hbm, 5425, rfl⟩
abbrev main_call20_v21 : Ref sig .tc := ⟨.hbm, 5426, rfl⟩
abbrev main_call20_cst : Ref sig .tc := ⟨.hbm, 5427, rfl⟩
abbrev main_call20_v22 : Ref sig .tc := ⟨.hbm, 5428, rfl⟩
abbrev main_call20_v23 : Ref sig .tc := ⟨.hbm, 5429, rfl⟩
abbrev main_call20_v24 : Ref sig .tc := ⟨.hbm, 5430, rfl⟩
abbrev main_call20_v25 : Ref sig .tc := ⟨.hbm, 5431, rfl⟩
abbrev main_call20_v26 : Ref sig .tc := ⟨.hbm, 5432, rfl⟩
abbrev main_call20_v27 : Ref sig .tc := ⟨.hbm, 5433, rfl⟩
abbrev main_call20_v28 : Ref sig .tc := ⟨.hbm, 5434, rfl⟩
abbrev main_call20_v29 : Ref sig .tc := ⟨.hbm, 5435, rfl⟩
abbrev main_v69 : Ref sig .tc := ⟨.hbm, 5436, rfl⟩
abbrev main_call21_v0 : Ref sig .tc := ⟨.hbm, 5437, rfl⟩
abbrev main_call21_v1 : Ref sig .tc := ⟨.hbm, 5438, rfl⟩
abbrev main_call21_v2 : Ref sig .tc := ⟨.hbm, 5439, rfl⟩
abbrev main_call21_v3 : Ref sig .tc := ⟨.hbm, 5440, rfl⟩
abbrev main_call21_v4 : Ref sig .tc := ⟨.hbm, 5441, rfl⟩
abbrev main_call21_c : Ref sig .tc := ⟨.hbm, 5442, rfl⟩
abbrev main_call21_v5 : Ref sig .tc := ⟨.hbm, 5443, rfl⟩
abbrev main_call21_v6 : Ref sig .tc := ⟨.hbm, 5444, rfl⟩
abbrev main_call21_c_0 : Ref sig .tc := ⟨.hbm, 5445, rfl⟩
abbrev main_call21_v7 : Ref sig .tc := ⟨.hbm, 5446, rfl⟩
abbrev main_call21_v8 : Ref sig .tc := ⟨.hbm, 5447, rfl⟩
abbrev main_call21_v9 : Ref sig .tc := ⟨.hbm, 5448, rfl⟩
abbrev main_call21_v10 : Ref sig .tc := ⟨.hbm, 5449, rfl⟩
abbrev main_call21_call0_v0 : Ref sig .tc := ⟨.hbm, 5450, rfl⟩
abbrev main_call21_call0_c : Ref sig .tc := ⟨.hbm, 5451, rfl⟩
abbrev main_call21_call0_v1 : Ref sig .tc := ⟨.hbm, 5452, rfl⟩
abbrev main_call21_call0_v2 : Ref sig .tc := ⟨.hbm, 5453, rfl⟩
abbrev main_call21_call0_v3 : Ref sig .tc := ⟨.hbm, 5454, rfl⟩
abbrev main_call21_call0_v4 : Ref sig .tc := ⟨.hbm, 5455, rfl⟩
abbrev main_call21_call0_v5 : Ref sig .tc := ⟨.hbm, 5456, rfl⟩
abbrev main_call21_call0_v6 : Ref sig .tc := ⟨.hbm, 5457, rfl⟩
abbrev main_call21_call0_c_0 : Ref sig .tc := ⟨.hbm, 5458, rfl⟩
abbrev main_call21_call0_v7 : Ref sig .tc := ⟨.hbm, 5459, rfl⟩
abbrev main_call21_call0_v8 : Ref sig .tc := ⟨.hbm, 5460, rfl⟩
abbrev main_call21_call0_c_1 : Ref sig .tc := ⟨.hbm, 5461, rfl⟩
abbrev main_call21_call0_v9 : Ref sig .tc := ⟨.hbm, 5462, rfl⟩
abbrev main_call21_call0_v10 : Ref sig .tc := ⟨.hbm, 5463, rfl⟩
abbrev main_call21_call0_v11 : Ref sig .tc := ⟨.hbm, 5464, rfl⟩
abbrev main_call21_call0_v12 : Ref sig .tc := ⟨.hbm, 5465, rfl⟩
abbrev main_call21_call0_v13 : Ref sig .tc := ⟨.hbm, 5466, rfl⟩
abbrev main_call21_call0_c_2 : Ref sig .tc := ⟨.hbm, 5467, rfl⟩
abbrev main_call21_call0_v14 : Ref sig .tc := ⟨.hbm, 5468, rfl⟩
abbrev main_call21_call0_v15 : Ref sig .tc := ⟨.hbm, 5469, rfl⟩
abbrev main_call21_call0_c_3 : Ref sig .tc := ⟨.hbm, 5470, rfl⟩
abbrev main_call21_call0_v16 : Ref sig .tc := ⟨.hbm, 5471, rfl⟩
abbrev main_call21_call0_v17 : Ref sig .tc := ⟨.hbm, 5472, rfl⟩
abbrev main_call21_call0_v18 : Ref sig .tc := ⟨.hbm, 5473, rfl⟩
abbrev main_call21_call0_v19 : Ref sig .tc := ⟨.hbm, 5474, rfl⟩
abbrev main_call21_call0_v20 : Ref sig .tc := ⟨.hbm, 5475, rfl⟩
abbrev main_call21_call0_c_4 : Ref sig .tc := ⟨.hbm, 5476, rfl⟩
abbrev main_call21_call0_v21 : Ref sig .tc := ⟨.hbm, 5477, rfl⟩
abbrev main_call21_call0_v22 : Ref sig .tc := ⟨.hbm, 5478, rfl⟩
abbrev main_call21_call0_c_5 : Ref sig .tc := ⟨.hbm, 5479, rfl⟩
abbrev main_call21_call0_v23 : Ref sig .tc := ⟨.hbm, 5480, rfl⟩
abbrev main_call21_call0_v24 : Ref sig .tc := ⟨.hbm, 5481, rfl⟩
abbrev main_call21_call0_v25 : Ref sig .tc := ⟨.hbm, 5482, rfl⟩
abbrev main_call21_call0_v26 : Ref sig .tc := ⟨.hbm, 5483, rfl⟩
abbrev main_call21_call0_v27 : Ref sig .tc := ⟨.hbm, 5484, rfl⟩
abbrev main_call21_call0_c_6 : Ref sig .tc := ⟨.hbm, 5485, rfl⟩
abbrev main_call21_call0_v28 : Ref sig .tc := ⟨.hbm, 5486, rfl⟩
abbrev main_call21_call0_v29 : Ref sig .tc := ⟨.hbm, 5487, rfl⟩
abbrev main_call21_call0_c_7 : Ref sig .tc := ⟨.hbm, 5488, rfl⟩
abbrev main_call21_call0_v30 : Ref sig .tc := ⟨.hbm, 5489, rfl⟩
abbrev main_call21_call0_v31 : Ref sig .tc := ⟨.hbm, 5490, rfl⟩
abbrev main_call21_call0_v32 : Ref sig .tc := ⟨.hbm, 5491, rfl⟩
abbrev main_call21_call0_v33 : Ref sig .tc := ⟨.hbm, 5492, rfl⟩
abbrev main_call21_call0_v34 : Ref sig .tc := ⟨.hbm, 5493, rfl⟩
abbrev main_call21_call0_v35 : Ref sig .tc := ⟨.hbm, 5494, rfl⟩
abbrev main_call21_call0_v36 : Ref sig .tc := ⟨.hbm, 5495, rfl⟩
abbrev main_call21_call0_v37 : Ref sig .tc := ⟨.hbm, 5496, rfl⟩
abbrev main_call21_call0_c_8 : Ref sig .tc := ⟨.hbm, 5497, rfl⟩
abbrev main_call21_call0_v38 : Ref sig .tc := ⟨.hbm, 5498, rfl⟩
abbrev main_call21_call0_v39 : Ref sig .tc := ⟨.hbm, 5499, rfl⟩
abbrev main_call21_call0_v40 : Ref sig .tc := ⟨.hbm, 5500, rfl⟩
abbrev main_call21_call0_c_9 : Ref sig .tc := ⟨.hbm, 5501, rfl⟩
abbrev main_call21_call0_v41 : Ref sig .tc := ⟨.hbm, 5502, rfl⟩
abbrev main_call21_call0_v42 : Ref sig .tc := ⟨.hbm, 5503, rfl⟩
abbrev main_call21_call0_c_10 : Ref sig .tc := ⟨.hbm, 5504, rfl⟩
abbrev main_call21_call0_v43 : Ref sig .tc := ⟨.hbm, 5505, rfl⟩
abbrev main_call21_call0_v44 : Ref sig .tc := ⟨.hbm, 5506, rfl⟩
abbrev main_call21_call0_v45 : Ref sig .tc := ⟨.hbm, 5507, rfl⟩
abbrev main_call21_call0_v46 : Ref sig .tc := ⟨.hbm, 5508, rfl⟩
abbrev main_call21_call0_v47 : Ref sig .tc := ⟨.hbm, 5509, rfl⟩
abbrev main_call21_call0_c_11 : Ref sig .tc := ⟨.hbm, 5510, rfl⟩
abbrev main_call21_call0_v48 : Ref sig .tc := ⟨.hbm, 5511, rfl⟩
abbrev main_call21_call0_v49 : Ref sig .tc := ⟨.hbm, 5512, rfl⟩
abbrev main_call21_call0_c_12 : Ref sig .tc := ⟨.hbm, 5513, rfl⟩
abbrev main_call21_call0_v50 : Ref sig .tc := ⟨.hbm, 5514, rfl⟩
abbrev main_call21_call0_v51 : Ref sig .tc := ⟨.hbm, 5515, rfl⟩
abbrev main_call21_call0_v52 : Ref sig .tc := ⟨.hbm, 5516, rfl⟩
abbrev main_call21_call0_v53 : Ref sig .tc := ⟨.hbm, 5517, rfl⟩
abbrev main_call21_call0_v54 : Ref sig .tc := ⟨.hbm, 5518, rfl⟩
abbrev main_call21_call0_c_13 : Ref sig .tc := ⟨.hbm, 5519, rfl⟩
abbrev main_call21_call0_v55 : Ref sig .tc := ⟨.hbm, 5520, rfl⟩
abbrev main_call21_call0_v56 : Ref sig .tc := ⟨.hbm, 5521, rfl⟩
abbrev main_call21_call0_c_14 : Ref sig .tc := ⟨.hbm, 5522, rfl⟩
abbrev main_call21_call0_v57 : Ref sig .tc := ⟨.hbm, 5523, rfl⟩
abbrev main_call21_call0_v58 : Ref sig .tc := ⟨.hbm, 5524, rfl⟩
abbrev main_call21_call0_v59 : Ref sig .tc := ⟨.hbm, 5525, rfl⟩
abbrev main_call21_call0_v60 : Ref sig .tc := ⟨.hbm, 5526, rfl⟩
abbrev main_call21_call0_v61 : Ref sig .tc := ⟨.hbm, 5527, rfl⟩
abbrev main_call21_call0_c_15 : Ref sig .tc := ⟨.hbm, 5528, rfl⟩
abbrev main_call21_call0_v62 : Ref sig .tc := ⟨.hbm, 5529, rfl⟩
abbrev main_call21_call0_v63 : Ref sig .tc := ⟨.hbm, 5530, rfl⟩
abbrev main_call21_call0_c_16 : Ref sig .tc := ⟨.hbm, 5531, rfl⟩
abbrev main_call21_call0_v64 : Ref sig .tc := ⟨.hbm, 5532, rfl⟩
abbrev main_call21_call0_v65 : Ref sig .tc := ⟨.hbm, 5533, rfl⟩
abbrev main_call21_call0_v66 : Ref sig .tc := ⟨.hbm, 5534, rfl⟩
abbrev main_call21_call0_v67 : Ref sig .tc := ⟨.hbm, 5535, rfl⟩
abbrev main_call21_call0_v68 : Ref sig .tc := ⟨.hbm, 5536, rfl⟩
abbrev main_call21_call0_v69 : Ref sig .tc := ⟨.hbm, 5537, rfl⟩
abbrev main_call21_call0_v70 : Ref sig .tc := ⟨.hbm, 5538, rfl⟩
abbrev main_call21_call0_v71 : Ref sig .tc := ⟨.hbm, 5539, rfl⟩
abbrev main_call21_call0_c_17 : Ref sig .tc := ⟨.hbm, 5540, rfl⟩
abbrev main_call21_call0_v72 : Ref sig .tc := ⟨.hbm, 5541, rfl⟩
abbrev main_call21_call0_v73 : Ref sig .tc := ⟨.hbm, 5542, rfl⟩
abbrev main_call21_call0_v74 : Ref sig .tc := ⟨.hbm, 5543, rfl⟩
abbrev main_call21_call0_c_18 : Ref sig .tc := ⟨.hbm, 5544, rfl⟩
abbrev main_call21_call0_v75 : Ref sig .tc := ⟨.hbm, 5545, rfl⟩
abbrev main_call21_call0_v76 : Ref sig .tc := ⟨.hbm, 5546, rfl⟩
abbrev main_call21_call0_c_19 : Ref sig .tc := ⟨.hbm, 5547, rfl⟩
abbrev main_call21_call0_v77 : Ref sig .tc := ⟨.hbm, 5548, rfl⟩
abbrev main_call21_call0_v78 : Ref sig .tc := ⟨.hbm, 5549, rfl⟩
abbrev main_call21_call0_v79 : Ref sig .tc := ⟨.hbm, 5550, rfl⟩
abbrev main_call21_call0_v80 : Ref sig .tc := ⟨.hbm, 5551, rfl⟩
abbrev main_call21_call0_v81 : Ref sig .tc := ⟨.hbm, 5552, rfl⟩
abbrev main_call21_call0_c_20 : Ref sig .tc := ⟨.hbm, 5553, rfl⟩
abbrev main_call21_call0_v82 : Ref sig .tc := ⟨.hbm, 5554, rfl⟩
abbrev main_call21_call0_v83 : Ref sig .tc := ⟨.hbm, 5555, rfl⟩
abbrev main_call21_call0_c_21 : Ref sig .tc := ⟨.hbm, 5556, rfl⟩
abbrev main_call21_call0_v84 : Ref sig .tc := ⟨.hbm, 5557, rfl⟩
abbrev main_call21_call0_v85 : Ref sig .tc := ⟨.hbm, 5558, rfl⟩
abbrev main_call21_call0_v86 : Ref sig .tc := ⟨.hbm, 5559, rfl⟩
abbrev main_call21_call0_v87 : Ref sig .tc := ⟨.hbm, 5560, rfl⟩
abbrev main_call21_call0_v88 : Ref sig .tc := ⟨.hbm, 5561, rfl⟩
abbrev main_call21_call0_c_22 : Ref sig .tc := ⟨.hbm, 5562, rfl⟩
abbrev main_call21_call0_v89 : Ref sig .tc := ⟨.hbm, 5563, rfl⟩
abbrev main_call21_call0_v90 : Ref sig .tc := ⟨.hbm, 5564, rfl⟩
abbrev main_call21_call0_c_23 : Ref sig .tc := ⟨.hbm, 5565, rfl⟩
abbrev main_call21_call0_v91 : Ref sig .tc := ⟨.hbm, 5566, rfl⟩
abbrev main_call21_call0_v92 : Ref sig .tc := ⟨.hbm, 5567, rfl⟩
abbrev main_call21_call0_v93 : Ref sig .tc := ⟨.hbm, 5568, rfl⟩
abbrev main_call21_call0_v94 : Ref sig .tc := ⟨.hbm, 5569, rfl⟩
abbrev main_call21_call0_v95 : Ref sig .tc := ⟨.hbm, 5570, rfl⟩
abbrev main_call21_call0_c_24 : Ref sig .tc := ⟨.hbm, 5571, rfl⟩
abbrev main_call21_call0_v96 : Ref sig .tc := ⟨.hbm, 5572, rfl⟩
abbrev main_call21_call0_v97 : Ref sig .tc := ⟨.hbm, 5573, rfl⟩
abbrev main_call21_call0_c_25 : Ref sig .tc := ⟨.hbm, 5574, rfl⟩
abbrev main_call21_call0_v98 : Ref sig .tc := ⟨.hbm, 5575, rfl⟩
abbrev main_call21_call0_v99 : Ref sig .tc := ⟨.hbm, 5576, rfl⟩
abbrev main_call21_call0_v100 : Ref sig .tc := ⟨.hbm, 5577, rfl⟩
abbrev main_call21_call0_v101 : Ref sig .tc := ⟨.hbm, 5578, rfl⟩
abbrev main_call21_call0_v102 : Ref sig .tc := ⟨.hbm, 5579, rfl⟩
abbrev main_call21_call0_v103 : Ref sig .tc := ⟨.hbm, 5580, rfl⟩
abbrev main_call21_call0_v104 : Ref sig .tc := ⟨.hbm, 5581, rfl⟩
abbrev main_call21_call0_v105 : Ref sig .tc := ⟨.hbm, 5582, rfl⟩
abbrev main_call21_call0_c_26 : Ref sig .tc := ⟨.hbm, 5583, rfl⟩
abbrev main_call21_call0_v106 : Ref sig .tc := ⟨.hbm, 5584, rfl⟩
abbrev main_call21_call0_v107 : Ref sig .tc := ⟨.hbm, 5585, rfl⟩
abbrev main_call21_call0_v108 : Ref sig .tc := ⟨.hbm, 5586, rfl⟩
abbrev main_call21_call0_c_27 : Ref sig .tc := ⟨.hbm, 5587, rfl⟩
abbrev main_call21_call0_v109 : Ref sig .tc := ⟨.hbm, 5588, rfl⟩
abbrev main_call21_call0_v110 : Ref sig .tc := ⟨.hbm, 5589, rfl⟩
abbrev main_call21_call0_c_28 : Ref sig .tc := ⟨.hbm, 5590, rfl⟩
abbrev main_call21_call0_v111 : Ref sig .tc := ⟨.hbm, 5591, rfl⟩
abbrev main_call21_call0_v112 : Ref sig .tc := ⟨.hbm, 5592, rfl⟩
abbrev main_call21_call0_v113 : Ref sig .tc := ⟨.hbm, 5593, rfl⟩
abbrev main_call21_call0_v114 : Ref sig .tc := ⟨.hbm, 5594, rfl⟩
abbrev main_call21_call0_v115 : Ref sig .tc := ⟨.hbm, 5595, rfl⟩
abbrev main_call21_call0_c_29 : Ref sig .tc := ⟨.hbm, 5596, rfl⟩
abbrev main_call21_call0_v116 : Ref sig .tc := ⟨.hbm, 5597, rfl⟩
abbrev main_call21_call0_v117 : Ref sig .tc := ⟨.hbm, 5598, rfl⟩
abbrev main_call21_call0_c_30 : Ref sig .tc := ⟨.hbm, 5599, rfl⟩
abbrev main_call21_call0_v118 : Ref sig .tc := ⟨.hbm, 5600, rfl⟩
abbrev main_call21_call0_v119 : Ref sig .tc := ⟨.hbm, 5601, rfl⟩
abbrev main_call21_call0_v120 : Ref sig .tc := ⟨.hbm, 5602, rfl⟩
abbrev main_call21_call0_v121 : Ref sig .tc := ⟨.hbm, 5603, rfl⟩
abbrev main_call21_call0_v122 : Ref sig .tc := ⟨.hbm, 5604, rfl⟩
abbrev main_call21_call0_c_31 : Ref sig .tc := ⟨.hbm, 5605, rfl⟩
abbrev main_call21_call0_v123 : Ref sig .tc := ⟨.hbm, 5606, rfl⟩
abbrev main_call21_call0_v124 : Ref sig .tc := ⟨.hbm, 5607, rfl⟩
abbrev main_call21_call0_c_32 : Ref sig .tc := ⟨.hbm, 5608, rfl⟩
abbrev main_call21_call0_v125 : Ref sig .tc := ⟨.hbm, 5609, rfl⟩
abbrev main_call21_call0_v126 : Ref sig .tc := ⟨.hbm, 5610, rfl⟩
abbrev main_call21_call0_v127 : Ref sig .tc := ⟨.hbm, 5611, rfl⟩
abbrev main_call21_call0_v128 : Ref sig .tc := ⟨.hbm, 5612, rfl⟩
abbrev main_call21_call0_v129 : Ref sig .tc := ⟨.hbm, 5613, rfl⟩
abbrev main_call21_call0_c_33 : Ref sig .tc := ⟨.hbm, 5614, rfl⟩
abbrev main_call21_call0_v130 : Ref sig .tc := ⟨.hbm, 5615, rfl⟩
abbrev main_call21_call0_v131 : Ref sig .tc := ⟨.hbm, 5616, rfl⟩
abbrev main_call21_call0_c_34 : Ref sig .tc := ⟨.hbm, 5617, rfl⟩
abbrev main_call21_call0_v132 : Ref sig .tc := ⟨.hbm, 5618, rfl⟩
abbrev main_call21_call0_v133 : Ref sig .tc := ⟨.hbm, 5619, rfl⟩
abbrev main_call21_call0_v134 : Ref sig .tc := ⟨.hbm, 5620, rfl⟩
abbrev main_call21_call0_v135 : Ref sig .tc := ⟨.hbm, 5621, rfl⟩
abbrev main_call21_call0_v136 : Ref sig .tc := ⟨.hbm, 5622, rfl⟩
abbrev main_call21_call0_v137 : Ref sig .tc := ⟨.hbm, 5623, rfl⟩
abbrev main_call21_call0_v138 : Ref sig .tc := ⟨.hbm, 5624, rfl⟩
abbrev main_call21_call0_v139 : Ref sig .tc := ⟨.hbm, 5625, rfl⟩
abbrev main_call21_call0_c_35 : Ref sig .tc := ⟨.hbm, 5626, rfl⟩
abbrev main_call21_call0_v140 : Ref sig .tc := ⟨.hbm, 5627, rfl⟩
abbrev main_call21_call0_v141 : Ref sig .tc := ⟨.hbm, 5628, rfl⟩
abbrev main_call21_call0_v142 : Ref sig .tc := ⟨.hbm, 5629, rfl⟩
abbrev main_call21_call0_c_36 : Ref sig .tc := ⟨.hbm, 5630, rfl⟩
abbrev main_call21_call0_v143 : Ref sig .tc := ⟨.hbm, 5631, rfl⟩
abbrev main_call21_call0_v144 : Ref sig .tc := ⟨.hbm, 5632, rfl⟩
abbrev main_call21_call0_c_37 : Ref sig .tc := ⟨.hbm, 5633, rfl⟩
abbrev main_call21_call0_v145 : Ref sig .tc := ⟨.hbm, 5634, rfl⟩
abbrev main_call21_call0_v146 : Ref sig .tc := ⟨.hbm, 5635, rfl⟩
abbrev main_call21_call0_v147 : Ref sig .tc := ⟨.hbm, 5636, rfl⟩
abbrev main_call21_call0_v148 : Ref sig .tc := ⟨.hbm, 5637, rfl⟩
abbrev main_call21_call0_v149 : Ref sig .tc := ⟨.hbm, 5638, rfl⟩
abbrev main_call21_call0_c_38 : Ref sig .tc := ⟨.hbm, 5639, rfl⟩
abbrev main_call21_call0_v150 : Ref sig .tc := ⟨.hbm, 5640, rfl⟩
abbrev main_call21_call0_v151 : Ref sig .tc := ⟨.hbm, 5641, rfl⟩
abbrev main_call21_call0_c_39 : Ref sig .tc := ⟨.hbm, 5642, rfl⟩
abbrev main_call21_call0_v152 : Ref sig .tc := ⟨.hbm, 5643, rfl⟩
abbrev main_call21_call0_v153 : Ref sig .tc := ⟨.hbm, 5644, rfl⟩
abbrev main_call21_call0_v154 : Ref sig .tc := ⟨.hbm, 5645, rfl⟩
abbrev main_call21_call0_v155 : Ref sig .tc := ⟨.hbm, 5646, rfl⟩
abbrev main_call21_call0_v156 : Ref sig .tc := ⟨.hbm, 5647, rfl⟩
abbrev main_call21_call0_c_40 : Ref sig .tc := ⟨.hbm, 5648, rfl⟩
abbrev main_call21_call0_v157 : Ref sig .tc := ⟨.hbm, 5649, rfl⟩
abbrev main_call21_call0_v158 : Ref sig .tc := ⟨.hbm, 5650, rfl⟩
abbrev main_call21_call0_c_41 : Ref sig .tc := ⟨.hbm, 5651, rfl⟩
abbrev main_call21_call0_v159 : Ref sig .tc := ⟨.hbm, 5652, rfl⟩
abbrev main_call21_call0_v160 : Ref sig .tc := ⟨.hbm, 5653, rfl⟩
abbrev main_call21_call0_v161 : Ref sig .tc := ⟨.hbm, 5654, rfl⟩
abbrev main_call21_call0_v162 : Ref sig .tc := ⟨.hbm, 5655, rfl⟩
abbrev main_call21_call0_v163 : Ref sig .tc := ⟨.hbm, 5656, rfl⟩
abbrev main_call21_call0_c_42 : Ref sig .tc := ⟨.hbm, 5657, rfl⟩
abbrev main_call21_call0_v164 : Ref sig .tc := ⟨.hbm, 5658, rfl⟩
abbrev main_call21_call0_v165 : Ref sig .tc := ⟨.hbm, 5659, rfl⟩
abbrev main_call21_call0_c_43 : Ref sig .tc := ⟨.hbm, 5660, rfl⟩
abbrev main_call21_call0_v166 : Ref sig .tc := ⟨.hbm, 5661, rfl⟩
abbrev main_call21_call0_v167 : Ref sig .tc := ⟨.hbm, 5662, rfl⟩
abbrev main_call21_call0_v168 : Ref sig .tc := ⟨.hbm, 5663, rfl⟩
abbrev main_call21_call0_v169 : Ref sig .tc := ⟨.hbm, 5664, rfl⟩
abbrev main_call21_call0_v170 : Ref sig .tc := ⟨.hbm, 5665, rfl⟩
abbrev main_call21_v11_0 : Ref sig .tc := ⟨.hbm, 5666, rfl⟩
abbrev main_call21_call0_v172 : Ref sig .tc := ⟨.hbm, 5667, rfl⟩
abbrev main_call21_call0_v173 : Ref sig .tc := ⟨.hbm, 5668, rfl⟩
abbrev main_call21_call0_c_44 : Ref sig .tc := ⟨.hbm, 5669, rfl⟩
abbrev main_call21_call0_v174 : Ref sig .tc := ⟨.hbm, 5670, rfl⟩
abbrev main_call21_v11_1 : Ref sig .tc := ⟨.hbm, 5671, rfl⟩
abbrev main_call21_v12 : Ref sig .tc := ⟨.hbm, 5672, rfl⟩
abbrev main_call21_v13 : Ref sig .tc := ⟨.hbm, 5673, rfl⟩
abbrev main_v70 : Ref sig .tc := ⟨.hbm, 5674, rfl⟩
abbrev main_v71 : Ref sig .tc := ⟨.hbm, 5675, rfl⟩
abbrev main_v72 : Ref sig .tc := ⟨.hbm, 5676, rfl⟩
abbrev main_v73 : Ref sig .tc := ⟨.hbm, 5677, rfl⟩
abbrev main_v74 : Ref sig .tc := ⟨.hbm, 5678, rfl⟩
abbrev main_v75 : Ref sig .tc := ⟨.hbm, 5679, rfl⟩
abbrev main_v76 : Ref sig .tc := ⟨.hbm, 5680, rfl⟩
abbrev main_call22_cst : Ref sig .tc := ⟨.hbm, 5681, rfl⟩
abbrev main_call22_cst_0 : Ref sig .tc := ⟨.hbm, 5682, rfl⟩
abbrev main_call22_call0_v0 : Ref sig .tc := ⟨.hbm, 5683, rfl⟩
abbrev main_call22_call0_v1 : Ref sig .tc := ⟨.hbm, 5684, rfl⟩
abbrev main_call22_call0_v2 : Ref sig .tc := ⟨.hbm, 5685, rfl⟩
abbrev main_call22_call0_v3 : Ref sig .tc := ⟨.hbm, 5686, rfl⟩
abbrev main_call22_call0_v4 : Ref sig .tc := ⟨.hbm, 5687, rfl⟩
abbrev main_call22_call0_v5 : Ref sig .tc := ⟨.hbm, 5688, rfl⟩
abbrev main_call22_call0_v6 : Ref sig .tc := ⟨.hbm, 5689, rfl⟩
abbrev main_call22_call0_v7 : Ref sig .tc := ⟨.hbm, 5690, rfl⟩
abbrev main_call22_call0_v8 : Ref sig .tc := ⟨.hbm, 5691, rfl⟩
abbrev main_call22_call0_v9 : Ref sig .tc := ⟨.hbm, 5692, rfl⟩
abbrev main_call22_call0_c : Ref sig .tc := ⟨.hbm, 5693, rfl⟩
abbrev main_call22_call0_v10 : Ref sig .tc := ⟨.hbm, 5694, rfl⟩
abbrev main_call22_call0_v11 : Ref sig .tc := ⟨.hbm, 5695, rfl⟩
abbrev main_call22_call0_c_0 : Ref sig .tc := ⟨.hbm, 5696, rfl⟩
abbrev main_call22_call0_v12 : Ref sig .tc := ⟨.hbm, 5697, rfl⟩
abbrev main_call22_call0_v13 : Ref sig .tc := ⟨.hbm, 5698, rfl⟩
abbrev main_call22_call0_c_1 : Ref sig .tc := ⟨.hbm, 5699, rfl⟩
abbrev main_call22_call0_v14 : Ref sig .tc := ⟨.hbm, 5700, rfl⟩
abbrev main_call22_call0_v15 : Ref sig .tc := ⟨.hbm, 5701, rfl⟩
abbrev main_call22_call0_v16 : Ref sig .tc := ⟨.hbm, 5702, rfl⟩
abbrev main_call22_call0_v17 : Ref sig .tc := ⟨.hbm, 5703, rfl⟩
abbrev main_call22_call0_c_2 : Ref sig .tc := ⟨.hbm, 5704, rfl⟩
abbrev main_call22_call0_v18 : Ref sig .tc := ⟨.hbm, 5705, rfl⟩
abbrev main_call22_call0_v19 : Ref sig .tc := ⟨.hbm, 5706, rfl⟩
abbrev main_call22_call0_v20 : Ref sig .tc := ⟨.hbm, 5707, rfl⟩
abbrev main_call22_call0_v21 : Ref sig .tc := ⟨.hbm, 5708, rfl⟩
abbrev main_call22_call0_call0_v0 : Ref sig .tc := ⟨.hbm, 5709, rfl⟩
abbrev main_call22_call0_call0_c : Ref sig .tc := ⟨.hbm, 5710, rfl⟩
abbrev main_call22_call0_call0_v1 : Ref sig .tc := ⟨.hbm, 5711, rfl⟩
abbrev main_call22_call0_call0_v2 : Ref sig .tc := ⟨.hbm, 5712, rfl⟩
abbrev main_call22_call0_call0_v3 : Ref sig .tc := ⟨.hbm, 5713, rfl⟩
abbrev main_call22_call0_call0_v4 : Ref sig .tc := ⟨.hbm, 5714, rfl⟩
abbrev main_call22_call0_call0_v5 : Ref sig .tc := ⟨.hbm, 5715, rfl⟩
abbrev main_call22_call0_call0_v6 : Ref sig .tc := ⟨.hbm, 5716, rfl⟩
abbrev main_call22_call0_call0_c_0 : Ref sig .tc := ⟨.hbm, 5717, rfl⟩
abbrev main_call22_call0_call0_v7 : Ref sig .tc := ⟨.hbm, 5718, rfl⟩
abbrev main_call22_call0_call0_v8 : Ref sig .tc := ⟨.hbm, 5719, rfl⟩
abbrev main_call22_call0_call0_c_1 : Ref sig .tc := ⟨.hbm, 5720, rfl⟩
abbrev main_call22_call0_call0_v9 : Ref sig .tc := ⟨.hbm, 5721, rfl⟩
abbrev main_call22_call0_call0_v10 : Ref sig .tc := ⟨.hbm, 5722, rfl⟩
abbrev main_call22_call0_call0_v11 : Ref sig .tc := ⟨.hbm, 5723, rfl⟩
abbrev main_call22_call0_call0_v12 : Ref sig .tc := ⟨.hbm, 5724, rfl⟩
abbrev main_call22_call0_call0_v13 : Ref sig .tc := ⟨.hbm, 5725, rfl⟩
abbrev main_call22_call0_call0_c_2 : Ref sig .tc := ⟨.hbm, 5726, rfl⟩
abbrev main_call22_call0_call0_v14 : Ref sig .tc := ⟨.hbm, 5727, rfl⟩
abbrev main_call22_call0_call0_v15 : Ref sig .tc := ⟨.hbm, 5728, rfl⟩
abbrev main_call22_call0_call0_c_3 : Ref sig .tc := ⟨.hbm, 5729, rfl⟩
abbrev main_call22_call0_call0_v16 : Ref sig .tc := ⟨.hbm, 5730, rfl⟩
abbrev main_call22_call0_call0_v17 : Ref sig .tc := ⟨.hbm, 5731, rfl⟩
abbrev main_call22_call0_call0_v18 : Ref sig .tc := ⟨.hbm, 5732, rfl⟩
abbrev main_call22_call0_call0_v19 : Ref sig .tc := ⟨.hbm, 5733, rfl⟩
abbrev main_call22_call0_call0_v20 : Ref sig .tc := ⟨.hbm, 5734, rfl⟩
abbrev main_call22_call0_call0_c_4 : Ref sig .tc := ⟨.hbm, 5735, rfl⟩
abbrev main_call22_call0_call0_v21 : Ref sig .tc := ⟨.hbm, 5736, rfl⟩
abbrev main_call22_call0_call0_v22 : Ref sig .tc := ⟨.hbm, 5737, rfl⟩
abbrev main_call22_call0_call0_c_5 : Ref sig .tc := ⟨.hbm, 5738, rfl⟩
abbrev main_call22_call0_call0_v23 : Ref sig .tc := ⟨.hbm, 5739, rfl⟩
abbrev main_call22_call0_call0_v24 : Ref sig .tc := ⟨.hbm, 5740, rfl⟩
abbrev main_call22_call0_call0_v25 : Ref sig .tc := ⟨.hbm, 5741, rfl⟩
abbrev main_call22_call0_call0_v26 : Ref sig .tc := ⟨.hbm, 5742, rfl⟩
abbrev main_call22_call0_call0_v27 : Ref sig .tc := ⟨.hbm, 5743, rfl⟩
abbrev main_call22_call0_call0_c_6 : Ref sig .tc := ⟨.hbm, 5744, rfl⟩
abbrev main_call22_call0_call0_v28 : Ref sig .tc := ⟨.hbm, 5745, rfl⟩
abbrev main_call22_call0_call0_v29 : Ref sig .tc := ⟨.hbm, 5746, rfl⟩
abbrev main_call22_call0_call0_c_7 : Ref sig .tc := ⟨.hbm, 5747, rfl⟩
abbrev main_call22_call0_call0_v30 : Ref sig .tc := ⟨.hbm, 5748, rfl⟩
abbrev main_call22_call0_call0_v31 : Ref sig .tc := ⟨.hbm, 5749, rfl⟩
abbrev main_call22_call0_call0_v32 : Ref sig .tc := ⟨.hbm, 5750, rfl⟩
abbrev main_call22_call0_call0_v33 : Ref sig .tc := ⟨.hbm, 5751, rfl⟩
abbrev main_call22_call0_call0_v34 : Ref sig .tc := ⟨.hbm, 5752, rfl⟩
abbrev main_call22_call0_call0_v35 : Ref sig .tc := ⟨.hbm, 5753, rfl⟩
abbrev main_call22_call0_call0_v36 : Ref sig .tc := ⟨.hbm, 5754, rfl⟩
abbrev main_call22_call0_call0_v37 : Ref sig .tc := ⟨.hbm, 5755, rfl⟩
abbrev main_call22_call0_call0_c_8 : Ref sig .tc := ⟨.hbm, 5756, rfl⟩
abbrev main_call22_call0_call0_v38 : Ref sig .tc := ⟨.hbm, 5757, rfl⟩
abbrev main_call22_call0_call0_v39 : Ref sig .tc := ⟨.hbm, 5758, rfl⟩
abbrev main_call22_call0_call0_v40 : Ref sig .tc := ⟨.hbm, 5759, rfl⟩
abbrev main_call22_call0_call0_c_9 : Ref sig .tc := ⟨.hbm, 5760, rfl⟩
abbrev main_call22_call0_call0_v41 : Ref sig .tc := ⟨.hbm, 5761, rfl⟩
abbrev main_call22_call0_call0_v42 : Ref sig .tc := ⟨.hbm, 5762, rfl⟩
abbrev main_call22_call0_call0_c_10 : Ref sig .tc := ⟨.hbm, 5763, rfl⟩
abbrev main_call22_call0_call0_v43 : Ref sig .tc := ⟨.hbm, 5764, rfl⟩
abbrev main_call22_call0_call0_v44 : Ref sig .tc := ⟨.hbm, 5765, rfl⟩
abbrev main_call22_call0_call0_v45 : Ref sig .tc := ⟨.hbm, 5766, rfl⟩
abbrev main_call22_call0_call0_v46 : Ref sig .tc := ⟨.hbm, 5767, rfl⟩
abbrev main_call22_call0_call0_v47 : Ref sig .tc := ⟨.hbm, 5768, rfl⟩
abbrev main_call22_call0_call0_c_11 : Ref sig .tc := ⟨.hbm, 5769, rfl⟩
abbrev main_call22_call0_call0_v48 : Ref sig .tc := ⟨.hbm, 5770, rfl⟩
abbrev main_call22_call0_call0_v49 : Ref sig .tc := ⟨.hbm, 5771, rfl⟩
abbrev main_call22_call0_call0_c_12 : Ref sig .tc := ⟨.hbm, 5772, rfl⟩
abbrev main_call22_call0_call0_v50 : Ref sig .tc := ⟨.hbm, 5773, rfl⟩
abbrev main_call22_call0_call0_v51 : Ref sig .tc := ⟨.hbm, 5774, rfl⟩
abbrev main_call22_call0_call0_v52 : Ref sig .tc := ⟨.hbm, 5775, rfl⟩
abbrev main_call22_call0_call0_v53 : Ref sig .tc := ⟨.hbm, 5776, rfl⟩
abbrev main_call22_call0_call0_v54 : Ref sig .tc := ⟨.hbm, 5777, rfl⟩
abbrev main_call22_call0_call0_c_13 : Ref sig .tc := ⟨.hbm, 5778, rfl⟩
abbrev main_call22_call0_call0_v55 : Ref sig .tc := ⟨.hbm, 5779, rfl⟩
abbrev main_call22_call0_call0_v56 : Ref sig .tc := ⟨.hbm, 5780, rfl⟩
abbrev main_call22_call0_call0_c_14 : Ref sig .tc := ⟨.hbm, 5781, rfl⟩
abbrev main_call22_call0_call0_v57 : Ref sig .tc := ⟨.hbm, 5782, rfl⟩
abbrev main_call22_call0_call0_v58 : Ref sig .tc := ⟨.hbm, 5783, rfl⟩
abbrev main_call22_call0_call0_v59 : Ref sig .tc := ⟨.hbm, 5784, rfl⟩
abbrev main_call22_call0_call0_v60 : Ref sig .tc := ⟨.hbm, 5785, rfl⟩
abbrev main_call22_call0_call0_v61 : Ref sig .tc := ⟨.hbm, 5786, rfl⟩
abbrev main_call22_call0_call0_c_15 : Ref sig .tc := ⟨.hbm, 5787, rfl⟩
abbrev main_call22_call0_call0_v62 : Ref sig .tc := ⟨.hbm, 5788, rfl⟩
abbrev main_call22_call0_call0_v63 : Ref sig .tc := ⟨.hbm, 5789, rfl⟩
abbrev main_call22_call0_call0_c_16 : Ref sig .tc := ⟨.hbm, 5790, rfl⟩
abbrev main_call22_call0_call0_v64 : Ref sig .tc := ⟨.hbm, 5791, rfl⟩
abbrev main_call22_call0_call0_v65 : Ref sig .tc := ⟨.hbm, 5792, rfl⟩
abbrev main_call22_call0_call0_v66 : Ref sig .tc := ⟨.hbm, 5793, rfl⟩
abbrev main_call22_call0_call0_v67 : Ref sig .tc := ⟨.hbm, 5794, rfl⟩
abbrev main_call22_call0_call0_v68 : Ref sig .tc := ⟨.hbm, 5795, rfl⟩
abbrev main_call22_call0_call0_v69 : Ref sig .tc := ⟨.hbm, 5796, rfl⟩
abbrev main_call22_call0_call0_v70 : Ref sig .tc := ⟨.hbm, 5797, rfl⟩
abbrev main_call22_call0_call0_v71 : Ref sig .tc := ⟨.hbm, 5798, rfl⟩
abbrev main_call22_call0_call0_c_17 : Ref sig .tc := ⟨.hbm, 5799, rfl⟩
abbrev main_call22_call0_call0_v72 : Ref sig .tc := ⟨.hbm, 5800, rfl⟩
abbrev main_call22_call0_call0_v73 : Ref sig .tc := ⟨.hbm, 5801, rfl⟩
abbrev main_call22_call0_call0_v74 : Ref sig .tc := ⟨.hbm, 5802, rfl⟩
abbrev main_call22_call0_call0_c_18 : Ref sig .tc := ⟨.hbm, 5803, rfl⟩
abbrev main_call22_call0_call0_v75 : Ref sig .tc := ⟨.hbm, 5804, rfl⟩
abbrev main_call22_call0_call0_v76 : Ref sig .tc := ⟨.hbm, 5805, rfl⟩
abbrev main_call22_call0_call0_c_19 : Ref sig .tc := ⟨.hbm, 5806, rfl⟩
abbrev main_call22_call0_call0_v77 : Ref sig .tc := ⟨.hbm, 5807, rfl⟩
abbrev main_call22_call0_call0_v78 : Ref sig .tc := ⟨.hbm, 5808, rfl⟩
abbrev main_call22_call0_call0_v79 : Ref sig .tc := ⟨.hbm, 5809, rfl⟩
abbrev main_call22_call0_call0_v80 : Ref sig .tc := ⟨.hbm, 5810, rfl⟩
abbrev main_call22_call0_call0_v81 : Ref sig .tc := ⟨.hbm, 5811, rfl⟩
abbrev main_call22_call0_call0_c_20 : Ref sig .tc := ⟨.hbm, 5812, rfl⟩
abbrev main_call22_call0_call0_v82 : Ref sig .tc := ⟨.hbm, 5813, rfl⟩
abbrev main_call22_call0_call0_v83 : Ref sig .tc := ⟨.hbm, 5814, rfl⟩
abbrev main_call22_call0_call0_c_21 : Ref sig .tc := ⟨.hbm, 5815, rfl⟩
abbrev main_call22_call0_call0_v84 : Ref sig .tc := ⟨.hbm, 5816, rfl⟩
abbrev main_call22_call0_call0_v85 : Ref sig .tc := ⟨.hbm, 5817, rfl⟩
abbrev main_call22_call0_call0_v86 : Ref sig .tc := ⟨.hbm, 5818, rfl⟩
abbrev main_call22_call0_call0_v87 : Ref sig .tc := ⟨.hbm, 5819, rfl⟩
abbrev main_call22_call0_call0_v88 : Ref sig .tc := ⟨.hbm, 5820, rfl⟩
abbrev main_call22_call0_call0_c_22 : Ref sig .tc := ⟨.hbm, 5821, rfl⟩
abbrev main_call22_call0_call0_v89 : Ref sig .tc := ⟨.hbm, 5822, rfl⟩
abbrev main_call22_call0_call0_v90 : Ref sig .tc := ⟨.hbm, 5823, rfl⟩
abbrev main_call22_call0_call0_c_23 : Ref sig .tc := ⟨.hbm, 5824, rfl⟩
abbrev main_call22_call0_call0_v91 : Ref sig .tc := ⟨.hbm, 5825, rfl⟩
abbrev main_call22_call0_call0_v92 : Ref sig .tc := ⟨.hbm, 5826, rfl⟩
abbrev main_call22_call0_call0_v93 : Ref sig .tc := ⟨.hbm, 5827, rfl⟩
abbrev main_call22_call0_call0_v94 : Ref sig .tc := ⟨.hbm, 5828, rfl⟩
abbrev main_call22_call0_call0_v95 : Ref sig .tc := ⟨.hbm, 5829, rfl⟩
abbrev main_call22_call0_call0_c_24 : Ref sig .tc := ⟨.hbm, 5830, rfl⟩
abbrev main_call22_call0_call0_v96 : Ref sig .tc := ⟨.hbm, 5831, rfl⟩
abbrev main_call22_call0_call0_v97 : Ref sig .tc := ⟨.hbm, 5832, rfl⟩
abbrev main_call22_call0_call0_c_25 : Ref sig .tc := ⟨.hbm, 5833, rfl⟩
abbrev main_call22_call0_call0_v98 : Ref sig .tc := ⟨.hbm, 5834, rfl⟩
abbrev main_call22_call0_call0_v99 : Ref sig .tc := ⟨.hbm, 5835, rfl⟩
abbrev main_call22_call0_call0_v100 : Ref sig .tc := ⟨.hbm, 5836, rfl⟩
abbrev main_call22_call0_call0_v101 : Ref sig .tc := ⟨.hbm, 5837, rfl⟩
abbrev main_call22_call0_call0_v102 : Ref sig .tc := ⟨.hbm, 5838, rfl⟩
abbrev main_call22_call0_call0_v103 : Ref sig .tc := ⟨.hbm, 5839, rfl⟩
abbrev main_call22_call0_call0_v104 : Ref sig .tc := ⟨.hbm, 5840, rfl⟩
abbrev main_call22_call0_call0_v105 : Ref sig .tc := ⟨.hbm, 5841, rfl⟩
abbrev main_call22_call0_call0_c_26 : Ref sig .tc := ⟨.hbm, 5842, rfl⟩
abbrev main_call22_call0_call0_v106 : Ref sig .tc := ⟨.hbm, 5843, rfl⟩
abbrev main_call22_call0_call0_v107 : Ref sig .tc := ⟨.hbm, 5844, rfl⟩
abbrev main_call22_call0_call0_v108 : Ref sig .tc := ⟨.hbm, 5845, rfl⟩
abbrev main_call22_call0_call0_c_27 : Ref sig .tc := ⟨.hbm, 5846, rfl⟩
abbrev main_call22_call0_call0_v109 : Ref sig .tc := ⟨.hbm, 5847, rfl⟩
abbrev main_call22_call0_call0_v110 : Ref sig .tc := ⟨.hbm, 5848, rfl⟩
abbrev main_call22_call0_call0_c_28 : Ref sig .tc := ⟨.hbm, 5849, rfl⟩
abbrev main_call22_call0_call0_v111 : Ref sig .tc := ⟨.hbm, 5850, rfl⟩
abbrev main_call22_call0_call0_v112 : Ref sig .tc := ⟨.hbm, 5851, rfl⟩
abbrev main_call22_call0_call0_v113 : Ref sig .tc := ⟨.hbm, 5852, rfl⟩
abbrev main_call22_call0_call0_v114 : Ref sig .tc := ⟨.hbm, 5853, rfl⟩
abbrev main_call22_call0_call0_v115 : Ref sig .tc := ⟨.hbm, 5854, rfl⟩
abbrev main_call22_call0_call0_c_29 : Ref sig .tc := ⟨.hbm, 5855, rfl⟩
abbrev main_call22_call0_call0_v116 : Ref sig .tc := ⟨.hbm, 5856, rfl⟩
abbrev main_call22_call0_call0_v117 : Ref sig .tc := ⟨.hbm, 5857, rfl⟩
abbrev main_call22_call0_call0_c_30 : Ref sig .tc := ⟨.hbm, 5858, rfl⟩
abbrev main_call22_call0_call0_v118 : Ref sig .tc := ⟨.hbm, 5859, rfl⟩
abbrev main_call22_call0_call0_v119 : Ref sig .tc := ⟨.hbm, 5860, rfl⟩
abbrev main_call22_call0_call0_v120 : Ref sig .tc := ⟨.hbm, 5861, rfl⟩
abbrev main_call22_call0_call0_v121 : Ref sig .tc := ⟨.hbm, 5862, rfl⟩
abbrev main_call22_call0_call0_v122 : Ref sig .tc := ⟨.hbm, 5863, rfl⟩
abbrev main_call22_call0_call0_c_31 : Ref sig .tc := ⟨.hbm, 5864, rfl⟩
abbrev main_call22_call0_call0_v123 : Ref sig .tc := ⟨.hbm, 5865, rfl⟩
abbrev main_call22_call0_call0_v124 : Ref sig .tc := ⟨.hbm, 5866, rfl⟩
abbrev main_call22_call0_call0_c_32 : Ref sig .tc := ⟨.hbm, 5867, rfl⟩
abbrev main_call22_call0_call0_v125 : Ref sig .tc := ⟨.hbm, 5868, rfl⟩
abbrev main_call22_call0_call0_v126 : Ref sig .tc := ⟨.hbm, 5869, rfl⟩
abbrev main_call22_call0_call0_v127 : Ref sig .tc := ⟨.hbm, 5870, rfl⟩
abbrev main_call22_call0_call0_v128 : Ref sig .tc := ⟨.hbm, 5871, rfl⟩
abbrev main_call22_call0_call0_v129 : Ref sig .tc := ⟨.hbm, 5872, rfl⟩
abbrev main_call22_call0_call0_c_33 : Ref sig .tc := ⟨.hbm, 5873, rfl⟩
abbrev main_call22_call0_call0_v130 : Ref sig .tc := ⟨.hbm, 5874, rfl⟩
abbrev main_call22_call0_call0_v131 : Ref sig .tc := ⟨.hbm, 5875, rfl⟩
abbrev main_call22_call0_call0_c_34 : Ref sig .tc := ⟨.hbm, 5876, rfl⟩
abbrev main_call22_call0_call0_v132 : Ref sig .tc := ⟨.hbm, 5877, rfl⟩
abbrev main_call22_call0_call0_v133 : Ref sig .tc := ⟨.hbm, 5878, rfl⟩
abbrev main_call22_call0_call0_v134 : Ref sig .tc := ⟨.hbm, 5879, rfl⟩
abbrev main_call22_call0_call0_v135 : Ref sig .tc := ⟨.hbm, 5880, rfl⟩
abbrev main_call22_call0_call0_v136 : Ref sig .tc := ⟨.hbm, 5881, rfl⟩
abbrev main_call22_call0_call0_v137 : Ref sig .tc := ⟨.hbm, 5882, rfl⟩
abbrev main_call22_call0_call0_v138 : Ref sig .tc := ⟨.hbm, 5883, rfl⟩
abbrev main_call22_call0_call0_v139 : Ref sig .tc := ⟨.hbm, 5884, rfl⟩
abbrev main_call22_call0_call0_c_35 : Ref sig .tc := ⟨.hbm, 5885, rfl⟩
abbrev main_call22_call0_call0_v140 : Ref sig .tc := ⟨.hbm, 5886, rfl⟩
abbrev main_call22_call0_call0_v141 : Ref sig .tc := ⟨.hbm, 5887, rfl⟩
abbrev main_call22_call0_call0_v142 : Ref sig .tc := ⟨.hbm, 5888, rfl⟩
abbrev main_call22_call0_call0_c_36 : Ref sig .tc := ⟨.hbm, 5889, rfl⟩
abbrev main_call22_call0_call0_v143 : Ref sig .tc := ⟨.hbm, 5890, rfl⟩
abbrev main_call22_call0_call0_v144 : Ref sig .tc := ⟨.hbm, 5891, rfl⟩
abbrev main_call22_call0_call0_c_37 : Ref sig .tc := ⟨.hbm, 5892, rfl⟩
abbrev main_call22_call0_call0_v145 : Ref sig .tc := ⟨.hbm, 5893, rfl⟩
abbrev main_call22_call0_call0_v146 : Ref sig .tc := ⟨.hbm, 5894, rfl⟩
abbrev main_call22_call0_call0_v147 : Ref sig .tc := ⟨.hbm, 5895, rfl⟩
abbrev main_call22_call0_call0_v148 : Ref sig .tc := ⟨.hbm, 5896, rfl⟩
abbrev main_call22_call0_call0_v149 : Ref sig .tc := ⟨.hbm, 5897, rfl⟩
abbrev main_call22_call0_call0_c_38 : Ref sig .tc := ⟨.hbm, 5898, rfl⟩
abbrev main_call22_call0_call0_v150 : Ref sig .tc := ⟨.hbm, 5899, rfl⟩
abbrev main_call22_call0_call0_v151 : Ref sig .tc := ⟨.hbm, 5900, rfl⟩
abbrev main_call22_call0_call0_c_39 : Ref sig .tc := ⟨.hbm, 5901, rfl⟩
abbrev main_call22_call0_call0_v152 : Ref sig .tc := ⟨.hbm, 5902, rfl⟩
abbrev main_call22_call0_call0_v153 : Ref sig .tc := ⟨.hbm, 5903, rfl⟩
abbrev main_call22_call0_call0_v154 : Ref sig .tc := ⟨.hbm, 5904, rfl⟩
abbrev main_call22_call0_call0_v155 : Ref sig .tc := ⟨.hbm, 5905, rfl⟩
abbrev main_call22_call0_call0_v156 : Ref sig .tc := ⟨.hbm, 5906, rfl⟩
abbrev main_call22_call0_call0_c_40 : Ref sig .tc := ⟨.hbm, 5907, rfl⟩
abbrev main_call22_call0_call0_v157 : Ref sig .tc := ⟨.hbm, 5908, rfl⟩
abbrev main_call22_call0_call0_v158 : Ref sig .tc := ⟨.hbm, 5909, rfl⟩
abbrev main_call22_call0_call0_c_41 : Ref sig .tc := ⟨.hbm, 5910, rfl⟩
abbrev main_call22_call0_call0_v159 : Ref sig .tc := ⟨.hbm, 5911, rfl⟩
abbrev main_call22_call0_call0_v160 : Ref sig .tc := ⟨.hbm, 5912, rfl⟩
abbrev main_call22_call0_call0_v161 : Ref sig .tc := ⟨.hbm, 5913, rfl⟩
abbrev main_call22_call0_call0_v162 : Ref sig .tc := ⟨.hbm, 5914, rfl⟩
abbrev main_call22_call0_call0_v163 : Ref sig .tc := ⟨.hbm, 5915, rfl⟩
abbrev main_call22_call0_call0_c_42 : Ref sig .tc := ⟨.hbm, 5916, rfl⟩
abbrev main_call22_call0_call0_v164 : Ref sig .tc := ⟨.hbm, 5917, rfl⟩
abbrev main_call22_call0_call0_v165 : Ref sig .tc := ⟨.hbm, 5918, rfl⟩
abbrev main_call22_call0_call0_c_43 : Ref sig .tc := ⟨.hbm, 5919, rfl⟩
abbrev main_call22_call0_call0_v166 : Ref sig .tc := ⟨.hbm, 5920, rfl⟩
abbrev main_call22_call0_call0_v167 : Ref sig .tc := ⟨.hbm, 5921, rfl⟩
abbrev main_call22_call0_call0_v168 : Ref sig .tc := ⟨.hbm, 5922, rfl⟩
abbrev main_call22_call0_call0_v169 : Ref sig .tc := ⟨.hbm, 5923, rfl⟩
abbrev main_call22_call0_call0_v170 : Ref sig .tc := ⟨.hbm, 5924, rfl⟩
abbrev main_call22_call0_v22_0 : Ref sig .tc := ⟨.hbm, 5925, rfl⟩
abbrev main_call22_call0_call0_v172 : Ref sig .tc := ⟨.hbm, 5926, rfl⟩
abbrev main_call22_call0_call0_v173 : Ref sig .tc := ⟨.hbm, 5927, rfl⟩
abbrev main_call22_call0_call0_c_44 : Ref sig .tc := ⟨.hbm, 5928, rfl⟩
abbrev main_call22_call0_call0_v174 : Ref sig .tc := ⟨.hbm, 5929, rfl⟩
abbrev main_call22_call0_v22_1 : Ref sig .tc := ⟨.hbm, 5930, rfl⟩
abbrev main_call22_call0_v23 : Ref sig .tc := ⟨.hbm, 5931, rfl⟩
abbrev main_call22_call0_c_3 : Ref sig .tc := ⟨.hbm, 5932, rfl⟩
abbrev main_call22_call0_v24 : Ref sig .tc := ⟨.hbm, 5933, rfl⟩
abbrev main_call22_call0_v25 : Ref sig .tc := ⟨.hbm, 5934, rfl⟩
abbrev main_call22_call0_c_4 : Ref sig .tc := ⟨.hbm, 5935, rfl⟩
abbrev main_call22_call0_v26 : Ref sig .tc := ⟨.hbm, 5936, rfl⟩
abbrev main_call22_call0_v27 : Ref sig .tc := ⟨.hbm, 5937, rfl⟩
abbrev main_call22_call0_v28 : Ref sig .tc := ⟨.hbm, 5938, rfl⟩
abbrev main_call22_call0_cst : Ref sig .tc := ⟨.hbm, 5939, rfl⟩
abbrev main_call22_call0_v29 : Ref sig .tc := ⟨.hbm, 5940, rfl⟩
abbrev main_call22_call0_v30 : Ref sig .tc := ⟨.hbm, 5941, rfl⟩
abbrev main_call22_call0_v31 : Ref sig .tc := ⟨.hbm, 5942, rfl⟩
abbrev main_call22_call0_v32 : Ref sig .tc := ⟨.hbm, 5943, rfl⟩
abbrev main_call22_call0_v33 : Ref sig .tc := ⟨.hbm, 5944, rfl⟩
abbrev main_call22_call0_v34 : Ref sig .tc := ⟨.hbm, 5945, rfl⟩
abbrev main_call22_call0_v35 : Ref sig .tc := ⟨.hbm, 5946, rfl⟩
abbrev main_call22_call0_v36 : Ref sig .tc := ⟨.hbm, 5947, rfl⟩
abbrev main_call22_v0 : Ref sig .tc := ⟨.hbm, 5948, rfl⟩
abbrev main_call22_v1 : Ref sig .tc := ⟨.hbm, 5949, rfl⟩
abbrev main_call22_v2 : Ref sig .tc := ⟨.hbm, 5950, rfl⟩
abbrev main_call22_v3 : Ref sig .tc := ⟨.hbm, 5951, rfl⟩
abbrev main_v77 : Ref sig .tc := ⟨.hbm, 5952, rfl⟩
abbrev main_cst_15 : Ref sig .tc := ⟨.hbm, 5953, rfl⟩
abbrev main_cst_16 : Ref sig .tc := ⟨.hbm, 5954, rfl⟩
abbrev main_call23_v0 : Ref sig .tc := ⟨.hbm, 5955, rfl⟩
abbrev main_call23_v1 : Ref sig .tc := ⟨.hbm, 5956, rfl⟩
abbrev main_call23_v2 : Ref sig .tc := ⟨.hbm, 5957, rfl⟩
abbrev main_call23_v3 : Ref sig .tc := ⟨.hbm, 5958, rfl⟩
abbrev main_call23_v4 : Ref sig .tc := ⟨.hbm, 5959, rfl⟩
abbrev main_call23_v5 : Ref sig .tc := ⟨.hbm, 5960, rfl⟩
abbrev main_call23_v6 : Ref sig .tc := ⟨.hbm, 5961, rfl⟩
abbrev main_call23_v7 : Ref sig .tc := ⟨.hbm, 5962, rfl⟩
abbrev main_call23_v8 : Ref sig .tc := ⟨.hbm, 5963, rfl⟩
abbrev main_call23_c : Ref sig .tc := ⟨.hbm, 5964, rfl⟩
abbrev main_call23_v9 : Ref sig .tc := ⟨.hbm, 5965, rfl⟩
abbrev main_call23_v10 : Ref sig .tc := ⟨.hbm, 5966, rfl⟩
abbrev main_call23_c_0 : Ref sig .tc := ⟨.hbm, 5967, rfl⟩
abbrev main_call23_v11 : Ref sig .tc := ⟨.hbm, 5968, rfl⟩
abbrev main_call23_v12 : Ref sig .tc := ⟨.hbm, 5969, rfl⟩
abbrev main_call23_v13 : Ref sig .tc := ⟨.hbm, 5970, rfl⟩
abbrev main_call23_v14 : Ref sig .tc := ⟨.hbm, 5971, rfl⟩
abbrev main_call23_call0_v0 : Ref sig .tc := ⟨.hbm, 5972, rfl⟩
abbrev main_call23_call0_c : Ref sig .tc := ⟨.hbm, 5973, rfl⟩
abbrev main_call23_call0_v1 : Ref sig .tc := ⟨.hbm, 5974, rfl⟩
abbrev main_call23_call0_v2 : Ref sig .tc := ⟨.hbm, 5975, rfl⟩
abbrev main_call23_call0_v3 : Ref sig .tc := ⟨.hbm, 5976, rfl⟩
abbrev main_call23_call0_v4 : Ref sig .tc := ⟨.hbm, 5977, rfl⟩
abbrev main_call23_call0_v5 : Ref sig .tc := ⟨.hbm, 5978, rfl⟩
abbrev main_call23_call0_v6 : Ref sig .tc := ⟨.hbm, 5979, rfl⟩
abbrev main_call23_call0_c_0 : Ref sig .tc := ⟨.hbm, 5980, rfl⟩
abbrev main_call23_call0_v7 : Ref sig .tc := ⟨.hbm, 5981, rfl⟩
abbrev main_call23_call0_v8 : Ref sig .tc := ⟨.hbm, 5982, rfl⟩
abbrev main_call23_call0_c_1 : Ref sig .tc := ⟨.hbm, 5983, rfl⟩
abbrev main_call23_call0_v9 : Ref sig .tc := ⟨.hbm, 5984, rfl⟩
abbrev main_call23_call0_v10 : Ref sig .tc := ⟨.hbm, 5985, rfl⟩
abbrev main_call23_call0_v11 : Ref sig .tc := ⟨.hbm, 5986, rfl⟩
abbrev main_call23_call0_v12 : Ref sig .tc := ⟨.hbm, 5987, rfl⟩
abbrev main_call23_call0_v13 : Ref sig .tc := ⟨.hbm, 5988, rfl⟩
abbrev main_call23_call0_c_2 : Ref sig .tc := ⟨.hbm, 5989, rfl⟩
abbrev main_call23_call0_v14 : Ref sig .tc := ⟨.hbm, 5990, rfl⟩
abbrev main_call23_call0_v15 : Ref sig .tc := ⟨.hbm, 5991, rfl⟩
abbrev main_call23_call0_c_3 : Ref sig .tc := ⟨.hbm, 5992, rfl⟩
abbrev main_call23_call0_v16 : Ref sig .tc := ⟨.hbm, 5993, rfl⟩
abbrev main_call23_call0_v17 : Ref sig .tc := ⟨.hbm, 5994, rfl⟩
abbrev main_call23_call0_v18 : Ref sig .tc := ⟨.hbm, 5995, rfl⟩
abbrev main_call23_call0_v19 : Ref sig .tc := ⟨.hbm, 5996, rfl⟩
abbrev main_call23_call0_v20 : Ref sig .tc := ⟨.hbm, 5997, rfl⟩
abbrev main_call23_call0_c_4 : Ref sig .tc := ⟨.hbm, 5998, rfl⟩
abbrev main_call23_call0_v21 : Ref sig .tc := ⟨.hbm, 5999, rfl⟩
abbrev main_call23_call0_v22 : Ref sig .tc := ⟨.hbm, 6000, rfl⟩
abbrev main_call23_call0_c_5 : Ref sig .tc := ⟨.hbm, 6001, rfl⟩
abbrev main_call23_call0_v23 : Ref sig .tc := ⟨.hbm, 6002, rfl⟩
abbrev main_call23_call0_v24 : Ref sig .tc := ⟨.hbm, 6003, rfl⟩
abbrev main_call23_call0_v25 : Ref sig .tc := ⟨.hbm, 6004, rfl⟩
abbrev main_call23_call0_v26 : Ref sig .tc := ⟨.hbm, 6005, rfl⟩
abbrev main_call23_call0_v27 : Ref sig .tc := ⟨.hbm, 6006, rfl⟩
abbrev main_call23_call0_c_6 : Ref sig .tc := ⟨.hbm, 6007, rfl⟩
abbrev main_call23_call0_v28 : Ref sig .tc := ⟨.hbm, 6008, rfl⟩
abbrev main_call23_call0_v29 : Ref sig .tc := ⟨.hbm, 6009, rfl⟩
abbrev main_call23_call0_c_7 : Ref sig .tc := ⟨.hbm, 6010, rfl⟩
abbrev main_call23_call0_v30 : Ref sig .tc := ⟨.hbm, 6011, rfl⟩
abbrev main_call23_call0_v31 : Ref sig .tc := ⟨.hbm, 6012, rfl⟩
abbrev main_call23_call0_v32 : Ref sig .tc := ⟨.hbm, 6013, rfl⟩
abbrev main_call23_call0_v33 : Ref sig .tc := ⟨.hbm, 6014, rfl⟩
abbrev main_call23_call0_v34 : Ref sig .tc := ⟨.hbm, 6015, rfl⟩
abbrev main_call23_call0_v35 : Ref sig .tc := ⟨.hbm, 6016, rfl⟩
abbrev main_call23_call0_v36 : Ref sig .tc := ⟨.hbm, 6017, rfl⟩
abbrev main_call23_call0_v37 : Ref sig .tc := ⟨.hbm, 6018, rfl⟩
abbrev main_call23_call0_c_8 : Ref sig .tc := ⟨.hbm, 6019, rfl⟩
abbrev main_call23_call0_v38 : Ref sig .tc := ⟨.hbm, 6020, rfl⟩
abbrev main_call23_call0_v39 : Ref sig .tc := ⟨.hbm, 6021, rfl⟩
abbrev main_call23_call0_v40 : Ref sig .tc := ⟨.hbm, 6022, rfl⟩
abbrev main_call23_call0_c_9 : Ref sig .tc := ⟨.hbm, 6023, rfl⟩
abbrev main_call23_call0_v41 : Ref sig .tc := ⟨.hbm, 6024, rfl⟩
abbrev main_call23_call0_v42 : Ref sig .tc := ⟨.hbm, 6025, rfl⟩
abbrev main_call23_call0_c_10 : Ref sig .tc := ⟨.hbm, 6026, rfl⟩
abbrev main_call23_call0_v43 : Ref sig .tc := ⟨.hbm, 6027, rfl⟩
abbrev main_call23_call0_v44 : Ref sig .tc := ⟨.hbm, 6028, rfl⟩
abbrev main_call23_call0_v45 : Ref sig .tc := ⟨.hbm, 6029, rfl⟩
abbrev main_call23_call0_v46 : Ref sig .tc := ⟨.hbm, 6030, rfl⟩
abbrev main_call23_call0_v47 : Ref sig .tc := ⟨.hbm, 6031, rfl⟩
abbrev main_call23_call0_c_11 : Ref sig .tc := ⟨.hbm, 6032, rfl⟩
abbrev main_call23_call0_v48 : Ref sig .tc := ⟨.hbm, 6033, rfl⟩
abbrev main_call23_call0_v49 : Ref sig .tc := ⟨.hbm, 6034, rfl⟩
abbrev main_call23_call0_c_12 : Ref sig .tc := ⟨.hbm, 6035, rfl⟩
abbrev main_call23_call0_v50 : Ref sig .tc := ⟨.hbm, 6036, rfl⟩
abbrev main_call23_call0_v51 : Ref sig .tc := ⟨.hbm, 6037, rfl⟩
abbrev main_call23_call0_v52 : Ref sig .tc := ⟨.hbm, 6038, rfl⟩
abbrev main_call23_call0_v53 : Ref sig .tc := ⟨.hbm, 6039, rfl⟩
abbrev main_call23_call0_v54 : Ref sig .tc := ⟨.hbm, 6040, rfl⟩
abbrev main_call23_call0_c_13 : Ref sig .tc := ⟨.hbm, 6041, rfl⟩
abbrev main_call23_call0_v55 : Ref sig .tc := ⟨.hbm, 6042, rfl⟩
abbrev main_call23_call0_v56 : Ref sig .tc := ⟨.hbm, 6043, rfl⟩
abbrev main_call23_call0_c_14 : Ref sig .tc := ⟨.hbm, 6044, rfl⟩
abbrev main_call23_call0_v57 : Ref sig .tc := ⟨.hbm, 6045, rfl⟩
abbrev main_call23_call0_v58 : Ref sig .tc := ⟨.hbm, 6046, rfl⟩
abbrev main_call23_call0_v59 : Ref sig .tc := ⟨.hbm, 6047, rfl⟩
abbrev main_call23_call0_v60 : Ref sig .tc := ⟨.hbm, 6048, rfl⟩
abbrev main_call23_call0_v61 : Ref sig .tc := ⟨.hbm, 6049, rfl⟩
abbrev main_call23_call0_c_15 : Ref sig .tc := ⟨.hbm, 6050, rfl⟩
abbrev main_call23_call0_v62 : Ref sig .tc := ⟨.hbm, 6051, rfl⟩
abbrev main_call23_call0_v63 : Ref sig .tc := ⟨.hbm, 6052, rfl⟩
abbrev main_call23_call0_c_16 : Ref sig .tc := ⟨.hbm, 6053, rfl⟩
abbrev main_call23_call0_v64 : Ref sig .tc := ⟨.hbm, 6054, rfl⟩
abbrev main_call23_call0_v65 : Ref sig .tc := ⟨.hbm, 6055, rfl⟩
abbrev main_call23_call0_v66 : Ref sig .tc := ⟨.hbm, 6056, rfl⟩
abbrev main_call23_call0_v67 : Ref sig .tc := ⟨.hbm, 6057, rfl⟩
abbrev main_call23_call0_v68 : Ref sig .tc := ⟨.hbm, 6058, rfl⟩
abbrev main_call23_call0_v69 : Ref sig .tc := ⟨.hbm, 6059, rfl⟩
abbrev main_call23_call0_v70 : Ref sig .tc := ⟨.hbm, 6060, rfl⟩
abbrev main_call23_call0_v71 : Ref sig .tc := ⟨.hbm, 6061, rfl⟩
abbrev main_call23_call0_c_17 : Ref sig .tc := ⟨.hbm, 6062, rfl⟩
abbrev main_call23_call0_v72 : Ref sig .tc := ⟨.hbm, 6063, rfl⟩
abbrev main_call23_call0_v73 : Ref sig .tc := ⟨.hbm, 6064, rfl⟩
abbrev main_call23_call0_v74 : Ref sig .tc := ⟨.hbm, 6065, rfl⟩
abbrev main_call23_call0_c_18 : Ref sig .tc := ⟨.hbm, 6066, rfl⟩
abbrev main_call23_call0_v75 : Ref sig .tc := ⟨.hbm, 6067, rfl⟩
abbrev main_call23_call0_v76 : Ref sig .tc := ⟨.hbm, 6068, rfl⟩
abbrev main_call23_call0_c_19 : Ref sig .tc := ⟨.hbm, 6069, rfl⟩
abbrev main_call23_call0_v77 : Ref sig .tc := ⟨.hbm, 6070, rfl⟩
abbrev main_call23_call0_v78 : Ref sig .tc := ⟨.hbm, 6071, rfl⟩
abbrev main_call23_call0_v79 : Ref sig .tc := ⟨.hbm, 6072, rfl⟩
abbrev main_call23_call0_v80 : Ref sig .tc := ⟨.hbm, 6073, rfl⟩
abbrev main_call23_call0_v81 : Ref sig .tc := ⟨.hbm, 6074, rfl⟩
abbrev main_call23_call0_c_20 : Ref sig .tc := ⟨.hbm, 6075, rfl⟩
abbrev main_call23_call0_v82 : Ref sig .tc := ⟨.hbm, 6076, rfl⟩
abbrev main_call23_call0_v83 : Ref sig .tc := ⟨.hbm, 6077, rfl⟩
abbrev main_call23_call0_c_21 : Ref sig .tc := ⟨.hbm, 6078, rfl⟩
abbrev main_call23_call0_v84 : Ref sig .tc := ⟨.hbm, 6079, rfl⟩
abbrev main_call23_call0_v85 : Ref sig .tc := ⟨.hbm, 6080, rfl⟩
abbrev main_call23_call0_v86 : Ref sig .tc := ⟨.hbm, 6081, rfl⟩
abbrev main_call23_call0_v87 : Ref sig .tc := ⟨.hbm, 6082, rfl⟩
abbrev main_call23_call0_v88 : Ref sig .tc := ⟨.hbm, 6083, rfl⟩
abbrev main_call23_call0_c_22 : Ref sig .tc := ⟨.hbm, 6084, rfl⟩
abbrev main_call23_call0_v89 : Ref sig .tc := ⟨.hbm, 6085, rfl⟩
abbrev main_call23_call0_v90 : Ref sig .tc := ⟨.hbm, 6086, rfl⟩
abbrev main_call23_call0_c_23 : Ref sig .tc := ⟨.hbm, 6087, rfl⟩
abbrev main_call23_call0_v91 : Ref sig .tc := ⟨.hbm, 6088, rfl⟩
abbrev main_call23_call0_v92 : Ref sig .tc := ⟨.hbm, 6089, rfl⟩
abbrev main_call23_call0_v93 : Ref sig .tc := ⟨.hbm, 6090, rfl⟩
abbrev main_call23_call0_v94 : Ref sig .tc := ⟨.hbm, 6091, rfl⟩
abbrev main_call23_call0_v95 : Ref sig .tc := ⟨.hbm, 6092, rfl⟩
abbrev main_call23_call0_c_24 : Ref sig .tc := ⟨.hbm, 6093, rfl⟩
abbrev main_call23_call0_v96 : Ref sig .tc := ⟨.hbm, 6094, rfl⟩
abbrev main_call23_call0_v97 : Ref sig .tc := ⟨.hbm, 6095, rfl⟩
abbrev main_call23_call0_c_25 : Ref sig .tc := ⟨.hbm, 6096, rfl⟩
abbrev main_call23_call0_v98 : Ref sig .tc := ⟨.hbm, 6097, rfl⟩
abbrev main_call23_call0_v99 : Ref sig .tc := ⟨.hbm, 6098, rfl⟩
abbrev main_call23_call0_v100 : Ref sig .tc := ⟨.hbm, 6099, rfl⟩
abbrev main_call23_call0_v101 : Ref sig .tc := ⟨.hbm, 6100, rfl⟩
abbrev main_call23_call0_v102 : Ref sig .tc := ⟨.hbm, 6101, rfl⟩
abbrev main_call23_call0_v103 : Ref sig .tc := ⟨.hbm, 6102, rfl⟩
abbrev main_call23_call0_v104 : Ref sig .tc := ⟨.hbm, 6103, rfl⟩
abbrev main_call23_call0_v105 : Ref sig .tc := ⟨.hbm, 6104, rfl⟩
abbrev main_call23_call0_c_26 : Ref sig .tc := ⟨.hbm, 6105, rfl⟩
abbrev main_call23_call0_v106 : Ref sig .tc := ⟨.hbm, 6106, rfl⟩
abbrev main_call23_call0_v107 : Ref sig .tc := ⟨.hbm, 6107, rfl⟩
abbrev main_call23_call0_v108 : Ref sig .tc := ⟨.hbm, 6108, rfl⟩
abbrev main_call23_call0_c_27 : Ref sig .tc := ⟨.hbm, 6109, rfl⟩
abbrev main_call23_call0_v109 : Ref sig .tc := ⟨.hbm, 6110, rfl⟩
abbrev main_call23_call0_v110 : Ref sig .tc := ⟨.hbm, 6111, rfl⟩
abbrev main_call23_call0_c_28 : Ref sig .tc := ⟨.hbm, 6112, rfl⟩
abbrev main_call23_call0_v111 : Ref sig .tc := ⟨.hbm, 6113, rfl⟩
abbrev main_call23_call0_v112 : Ref sig .tc := ⟨.hbm, 6114, rfl⟩
abbrev main_call23_call0_v113 : Ref sig .tc := ⟨.hbm, 6115, rfl⟩
abbrev main_call23_call0_v114 : Ref sig .tc := ⟨.hbm, 6116, rfl⟩
abbrev main_call23_call0_v115 : Ref sig .tc := ⟨.hbm, 6117, rfl⟩
abbrev main_call23_call0_c_29 : Ref sig .tc := ⟨.hbm, 6118, rfl⟩
abbrev main_call23_call0_v116 : Ref sig .tc := ⟨.hbm, 6119, rfl⟩
abbrev main_call23_call0_v117 : Ref sig .tc := ⟨.hbm, 6120, rfl⟩
abbrev main_call23_call0_c_30 : Ref sig .tc := ⟨.hbm, 6121, rfl⟩
abbrev main_call23_call0_v118 : Ref sig .tc := ⟨.hbm, 6122, rfl⟩
abbrev main_call23_call0_v119 : Ref sig .tc := ⟨.hbm, 6123, rfl⟩
abbrev main_call23_call0_v120 : Ref sig .tc := ⟨.hbm, 6124, rfl⟩
abbrev main_call23_call0_v121 : Ref sig .tc := ⟨.hbm, 6125, rfl⟩
abbrev main_call23_call0_v122 : Ref sig .tc := ⟨.hbm, 6126, rfl⟩
abbrev main_call23_call0_c_31 : Ref sig .tc := ⟨.hbm, 6127, rfl⟩
abbrev main_call23_call0_v123 : Ref sig .tc := ⟨.hbm, 6128, rfl⟩
abbrev main_call23_call0_v124 : Ref sig .tc := ⟨.hbm, 6129, rfl⟩
abbrev main_call23_call0_c_32 : Ref sig .tc := ⟨.hbm, 6130, rfl⟩
abbrev main_call23_call0_v125 : Ref sig .tc := ⟨.hbm, 6131, rfl⟩
abbrev main_call23_call0_v126 : Ref sig .tc := ⟨.hbm, 6132, rfl⟩
abbrev main_call23_call0_v127 : Ref sig .tc := ⟨.hbm, 6133, rfl⟩
abbrev main_call23_call0_v128 : Ref sig .tc := ⟨.hbm, 6134, rfl⟩
abbrev main_call23_call0_v129 : Ref sig .tc := ⟨.hbm, 6135, rfl⟩
abbrev main_call23_call0_c_33 : Ref sig .tc := ⟨.hbm, 6136, rfl⟩
abbrev main_call23_call0_v130 : Ref sig .tc := ⟨.hbm, 6137, rfl⟩
abbrev main_call23_call0_v131 : Ref sig .tc := ⟨.hbm, 6138, rfl⟩
abbrev main_call23_call0_c_34 : Ref sig .tc := ⟨.hbm, 6139, rfl⟩
abbrev main_call23_call0_v132 : Ref sig .tc := ⟨.hbm, 6140, rfl⟩
abbrev main_call23_call0_v133 : Ref sig .tc := ⟨.hbm, 6141, rfl⟩
abbrev main_call23_call0_v134 : Ref sig .tc := ⟨.hbm, 6142, rfl⟩
abbrev main_call23_call0_v135 : Ref sig .tc := ⟨.hbm, 6143, rfl⟩
abbrev main_call23_call0_v136 : Ref sig .tc := ⟨.hbm, 6144, rfl⟩
abbrev main_call23_call0_v137 : Ref sig .tc := ⟨.hbm, 6145, rfl⟩
abbrev main_call23_call0_v138 : Ref sig .tc := ⟨.hbm, 6146, rfl⟩
abbrev main_call23_call0_v139 : Ref sig .tc := ⟨.hbm, 6147, rfl⟩
abbrev main_call23_call0_c_35 : Ref sig .tc := ⟨.hbm, 6148, rfl⟩
abbrev main_call23_call0_v140 : Ref sig .tc := ⟨.hbm, 6149, rfl⟩
abbrev main_call23_call0_v141 : Ref sig .tc := ⟨.hbm, 6150, rfl⟩
abbrev main_call23_call0_v142 : Ref sig .tc := ⟨.hbm, 6151, rfl⟩
abbrev main_call23_call0_c_36 : Ref sig .tc := ⟨.hbm, 6152, rfl⟩
abbrev main_call23_call0_v143 : Ref sig .tc := ⟨.hbm, 6153, rfl⟩
abbrev main_call23_call0_v144 : Ref sig .tc := ⟨.hbm, 6154, rfl⟩
abbrev main_call23_call0_c_37 : Ref sig .tc := ⟨.hbm, 6155, rfl⟩
abbrev main_call23_call0_v145 : Ref sig .tc := ⟨.hbm, 6156, rfl⟩
abbrev main_call23_call0_v146 : Ref sig .tc := ⟨.hbm, 6157, rfl⟩
abbrev main_call23_call0_v147 : Ref sig .tc := ⟨.hbm, 6158, rfl⟩
abbrev main_call23_call0_v148 : Ref sig .tc := ⟨.hbm, 6159, rfl⟩
abbrev main_call23_call0_v149 : Ref sig .tc := ⟨.hbm, 6160, rfl⟩
abbrev main_call23_call0_c_38 : Ref sig .tc := ⟨.hbm, 6161, rfl⟩
abbrev main_call23_call0_v150 : Ref sig .tc := ⟨.hbm, 6162, rfl⟩
abbrev main_call23_call0_v151 : Ref sig .tc := ⟨.hbm, 6163, rfl⟩
abbrev main_call23_call0_c_39 : Ref sig .tc := ⟨.hbm, 6164, rfl⟩
abbrev main_call23_call0_v152 : Ref sig .tc := ⟨.hbm, 6165, rfl⟩
abbrev main_call23_call0_v153 : Ref sig .tc := ⟨.hbm, 6166, rfl⟩
abbrev main_call23_call0_v154 : Ref sig .tc := ⟨.hbm, 6167, rfl⟩
abbrev main_call23_call0_v155 : Ref sig .tc := ⟨.hbm, 6168, rfl⟩
abbrev main_call23_call0_v156 : Ref sig .tc := ⟨.hbm, 6169, rfl⟩
abbrev main_call23_call0_c_40 : Ref sig .tc := ⟨.hbm, 6170, rfl⟩
abbrev main_call23_call0_v157 : Ref sig .tc := ⟨.hbm, 6171, rfl⟩
abbrev main_call23_call0_v158 : Ref sig .tc := ⟨.hbm, 6172, rfl⟩
abbrev main_call23_call0_c_41 : Ref sig .tc := ⟨.hbm, 6173, rfl⟩
abbrev main_call23_call0_v159 : Ref sig .tc := ⟨.hbm, 6174, rfl⟩
abbrev main_call23_call0_v160 : Ref sig .tc := ⟨.hbm, 6175, rfl⟩
abbrev main_call23_call0_v161 : Ref sig .tc := ⟨.hbm, 6176, rfl⟩
abbrev main_call23_call0_v162 : Ref sig .tc := ⟨.hbm, 6177, rfl⟩
abbrev main_call23_call0_v163 : Ref sig .tc := ⟨.hbm, 6178, rfl⟩
abbrev main_call23_call0_c_42 : Ref sig .tc := ⟨.hbm, 6179, rfl⟩
abbrev main_call23_call0_v164 : Ref sig .tc := ⟨.hbm, 6180, rfl⟩
abbrev main_call23_call0_v165 : Ref sig .tc := ⟨.hbm, 6181, rfl⟩
abbrev main_call23_call0_c_43 : Ref sig .tc := ⟨.hbm, 6182, rfl⟩
abbrev main_call23_call0_v166 : Ref sig .tc := ⟨.hbm, 6183, rfl⟩
abbrev main_call23_call0_v167 : Ref sig .tc := ⟨.hbm, 6184, rfl⟩
abbrev main_call23_call0_v168 : Ref sig .tc := ⟨.hbm, 6185, rfl⟩
abbrev main_call23_call0_v169 : Ref sig .tc := ⟨.hbm, 6186, rfl⟩
abbrev main_call23_call0_v170 : Ref sig .tc := ⟨.hbm, 6187, rfl⟩
abbrev main_call23_v15_0 : Ref sig .tc := ⟨.hbm, 6188, rfl⟩
abbrev main_call23_call0_v172 : Ref sig .tc := ⟨.hbm, 6189, rfl⟩
abbrev main_call23_call0_v173 : Ref sig .tc := ⟨.hbm, 6190, rfl⟩
abbrev main_call23_call0_c_44 : Ref sig .tc := ⟨.hbm, 6191, rfl⟩
abbrev main_call23_call0_v174 : Ref sig .tc := ⟨.hbm, 6192, rfl⟩
abbrev main_call23_v15_1 : Ref sig .tc := ⟨.hbm, 6193, rfl⟩
abbrev main_call23_v16 : Ref sig .tc := ⟨.hbm, 6194, rfl⟩
abbrev main_call23_c_1 : Ref sig .tc := ⟨.hbm, 6195, rfl⟩
abbrev main_call23_v17 : Ref sig .tc := ⟨.hbm, 6196, rfl⟩
abbrev main_call23_v18 : Ref sig .tc := ⟨.hbm, 6197, rfl⟩
abbrev main_call23_c_2 : Ref sig .tc := ⟨.hbm, 6198, rfl⟩
abbrev main_call23_v19 : Ref sig .tc := ⟨.hbm, 6199, rfl⟩
abbrev main_call23_v20 : Ref sig .tc := ⟨.hbm, 6200, rfl⟩
abbrev main_call23_v21 : Ref sig .tc := ⟨.hbm, 6201, rfl⟩
abbrev main_call23_cst : Ref sig .tc := ⟨.hbm, 6202, rfl⟩
abbrev main_call23_v22 : Ref sig .tc := ⟨.hbm, 6203, rfl⟩
abbrev main_call23_v23 : Ref sig .tc := ⟨.hbm, 6204, rfl⟩
abbrev main_call23_v24 : Ref sig .tc := ⟨.hbm, 6205, rfl⟩
abbrev main_call23_v25 : Ref sig .tc := ⟨.hbm, 6206, rfl⟩
abbrev main_call23_v26 : Ref sig .tc := ⟨.hbm, 6207, rfl⟩
abbrev main_call23_v27 : Ref sig .tc := ⟨.hbm, 6208, rfl⟩
abbrev main_call23_v28 : Ref sig .tc := ⟨.hbm, 6209, rfl⟩
abbrev main_call23_v29 : Ref sig .tc := ⟨.hbm, 6210, rfl⟩
abbrev main_v78 : Ref sig .tc := ⟨.hbm, 6211, rfl⟩
abbrev main_call24_v0 : Ref sig .tc := ⟨.hbm, 6212, rfl⟩
abbrev main_call24_v1 : Ref sig .tc := ⟨.hbm, 6213, rfl⟩
abbrev main_call24_v2 : Ref sig .tc := ⟨.hbm, 6214, rfl⟩
abbrev main_call24_v3 : Ref sig .tc := ⟨.hbm, 6215, rfl⟩
abbrev main_call24_v4 : Ref sig .tc := ⟨.hbm, 6216, rfl⟩
abbrev main_call24_c : Ref sig .tc := ⟨.hbm, 6217, rfl⟩
abbrev main_call24_v5 : Ref sig .tc := ⟨.hbm, 6218, rfl⟩
abbrev main_call24_v6 : Ref sig .tc := ⟨.hbm, 6219, rfl⟩
abbrev main_call24_c_0 : Ref sig .tc := ⟨.hbm, 6220, rfl⟩
abbrev main_call24_v7 : Ref sig .tc := ⟨.hbm, 6221, rfl⟩
abbrev main_call24_v8 : Ref sig .tc := ⟨.hbm, 6222, rfl⟩
abbrev main_call24_v9 : Ref sig .tc := ⟨.hbm, 6223, rfl⟩
abbrev main_call24_v10 : Ref sig .tc := ⟨.hbm, 6224, rfl⟩
abbrev main_call24_call0_v0 : Ref sig .tc := ⟨.hbm, 6225, rfl⟩
abbrev main_call24_call0_c : Ref sig .tc := ⟨.hbm, 6226, rfl⟩
abbrev main_call24_call0_v1 : Ref sig .tc := ⟨.hbm, 6227, rfl⟩
abbrev main_call24_call0_v2 : Ref sig .tc := ⟨.hbm, 6228, rfl⟩
abbrev main_call24_call0_v3 : Ref sig .tc := ⟨.hbm, 6229, rfl⟩
abbrev main_call24_call0_v4 : Ref sig .tc := ⟨.hbm, 6230, rfl⟩
abbrev main_call24_call0_v5 : Ref sig .tc := ⟨.hbm, 6231, rfl⟩
abbrev main_call24_call0_v6 : Ref sig .tc := ⟨.hbm, 6232, rfl⟩
abbrev main_call24_call0_c_0 : Ref sig .tc := ⟨.hbm, 6233, rfl⟩
abbrev main_call24_call0_v7 : Ref sig .tc := ⟨.hbm, 6234, rfl⟩
abbrev main_call24_call0_v8 : Ref sig .tc := ⟨.hbm, 6235, rfl⟩
abbrev main_call24_call0_c_1 : Ref sig .tc := ⟨.hbm, 6236, rfl⟩
abbrev main_call24_call0_v9 : Ref sig .tc := ⟨.hbm, 6237, rfl⟩
abbrev main_call24_call0_v10 : Ref sig .tc := ⟨.hbm, 6238, rfl⟩
abbrev main_call24_call0_v11 : Ref sig .tc := ⟨.hbm, 6239, rfl⟩
abbrev main_call24_call0_v12 : Ref sig .tc := ⟨.hbm, 6240, rfl⟩
abbrev main_call24_call0_v13 : Ref sig .tc := ⟨.hbm, 6241, rfl⟩
abbrev main_call24_call0_c_2 : Ref sig .tc := ⟨.hbm, 6242, rfl⟩
abbrev main_call24_call0_v14 : Ref sig .tc := ⟨.hbm, 6243, rfl⟩
abbrev main_call24_call0_v15 : Ref sig .tc := ⟨.hbm, 6244, rfl⟩
abbrev main_call24_call0_c_3 : Ref sig .tc := ⟨.hbm, 6245, rfl⟩
abbrev main_call24_call0_v16 : Ref sig .tc := ⟨.hbm, 6246, rfl⟩
abbrev main_call24_call0_v17 : Ref sig .tc := ⟨.hbm, 6247, rfl⟩
abbrev main_call24_call0_v18 : Ref sig .tc := ⟨.hbm, 6248, rfl⟩
abbrev main_call24_call0_v19 : Ref sig .tc := ⟨.hbm, 6249, rfl⟩
abbrev main_call24_call0_v20 : Ref sig .tc := ⟨.hbm, 6250, rfl⟩
abbrev main_call24_call0_c_4 : Ref sig .tc := ⟨.hbm, 6251, rfl⟩
abbrev main_call24_call0_v21 : Ref sig .tc := ⟨.hbm, 6252, rfl⟩
abbrev main_call24_call0_v22 : Ref sig .tc := ⟨.hbm, 6253, rfl⟩
abbrev main_call24_call0_c_5 : Ref sig .tc := ⟨.hbm, 6254, rfl⟩
abbrev main_call24_call0_v23 : Ref sig .tc := ⟨.hbm, 6255, rfl⟩
abbrev main_call24_call0_v24 : Ref sig .tc := ⟨.hbm, 6256, rfl⟩
abbrev main_call24_call0_v25 : Ref sig .tc := ⟨.hbm, 6257, rfl⟩
abbrev main_call24_call0_v26 : Ref sig .tc := ⟨.hbm, 6258, rfl⟩
abbrev main_call24_call0_v27 : Ref sig .tc := ⟨.hbm, 6259, rfl⟩
abbrev main_call24_call0_c_6 : Ref sig .tc := ⟨.hbm, 6260, rfl⟩
abbrev main_call24_call0_v28 : Ref sig .tc := ⟨.hbm, 6261, rfl⟩
abbrev main_call24_call0_v29 : Ref sig .tc := ⟨.hbm, 6262, rfl⟩
abbrev main_call24_call0_c_7 : Ref sig .tc := ⟨.hbm, 6263, rfl⟩
abbrev main_call24_call0_v30 : Ref sig .tc := ⟨.hbm, 6264, rfl⟩
abbrev main_call24_call0_v31 : Ref sig .tc := ⟨.hbm, 6265, rfl⟩
abbrev main_call24_call0_v32 : Ref sig .tc := ⟨.hbm, 6266, rfl⟩
abbrev main_call24_call0_v33 : Ref sig .tc := ⟨.hbm, 6267, rfl⟩
abbrev main_call24_call0_v34 : Ref sig .tc := ⟨.hbm, 6268, rfl⟩
abbrev main_call24_call0_v35 : Ref sig .tc := ⟨.hbm, 6269, rfl⟩
abbrev main_call24_call0_v36 : Ref sig .tc := ⟨.hbm, 6270, rfl⟩
abbrev main_call24_call0_v37 : Ref sig .tc := ⟨.hbm, 6271, rfl⟩
abbrev main_call24_call0_c_8 : Ref sig .tc := ⟨.hbm, 6272, rfl⟩
abbrev main_call24_call0_v38 : Ref sig .tc := ⟨.hbm, 6273, rfl⟩
abbrev main_call24_call0_v39 : Ref sig .tc := ⟨.hbm, 6274, rfl⟩
abbrev main_call24_call0_v40 : Ref sig .tc := ⟨.hbm, 6275, rfl⟩
abbrev main_call24_call0_c_9 : Ref sig .tc := ⟨.hbm, 6276, rfl⟩
abbrev main_call24_call0_v41 : Ref sig .tc := ⟨.hbm, 6277, rfl⟩
abbrev main_call24_call0_v42 : Ref sig .tc := ⟨.hbm, 6278, rfl⟩
abbrev main_call24_call0_c_10 : Ref sig .tc := ⟨.hbm, 6279, rfl⟩
abbrev main_call24_call0_v43 : Ref sig .tc := ⟨.hbm, 6280, rfl⟩
abbrev main_call24_call0_v44 : Ref sig .tc := ⟨.hbm, 6281, rfl⟩
abbrev main_call24_call0_v45 : Ref sig .tc := ⟨.hbm, 6282, rfl⟩
abbrev main_call24_call0_v46 : Ref sig .tc := ⟨.hbm, 6283, rfl⟩
abbrev main_call24_call0_v47 : Ref sig .tc := ⟨.hbm, 6284, rfl⟩
abbrev main_call24_call0_c_11 : Ref sig .tc := ⟨.hbm, 6285, rfl⟩
abbrev main_call24_call0_v48 : Ref sig .tc := ⟨.hbm, 6286, rfl⟩
abbrev main_call24_call0_v49 : Ref sig .tc := ⟨.hbm, 6287, rfl⟩
abbrev main_call24_call0_c_12 : Ref sig .tc := ⟨.hbm, 6288, rfl⟩
abbrev main_call24_call0_v50 : Ref sig .tc := ⟨.hbm, 6289, rfl⟩
abbrev main_call24_call0_v51 : Ref sig .tc := ⟨.hbm, 6290, rfl⟩
abbrev main_call24_call0_v52 : Ref sig .tc := ⟨.hbm, 6291, rfl⟩
abbrev main_call24_call0_v53 : Ref sig .tc := ⟨.hbm, 6292, rfl⟩
abbrev main_call24_call0_v54 : Ref sig .tc := ⟨.hbm, 6293, rfl⟩
abbrev main_call24_call0_c_13 : Ref sig .tc := ⟨.hbm, 6294, rfl⟩
abbrev main_call24_call0_v55 : Ref sig .tc := ⟨.hbm, 6295, rfl⟩
abbrev main_call24_call0_v56 : Ref sig .tc := ⟨.hbm, 6296, rfl⟩
abbrev main_call24_call0_c_14 : Ref sig .tc := ⟨.hbm, 6297, rfl⟩
abbrev main_call24_call0_v57 : Ref sig .tc := ⟨.hbm, 6298, rfl⟩
abbrev main_call24_call0_v58 : Ref sig .tc := ⟨.hbm, 6299, rfl⟩
abbrev main_call24_call0_v59 : Ref sig .tc := ⟨.hbm, 6300, rfl⟩
abbrev main_call24_call0_v60 : Ref sig .tc := ⟨.hbm, 6301, rfl⟩
abbrev main_call24_call0_v61 : Ref sig .tc := ⟨.hbm, 6302, rfl⟩
abbrev main_call24_call0_c_15 : Ref sig .tc := ⟨.hbm, 6303, rfl⟩
abbrev main_call24_call0_v62 : Ref sig .tc := ⟨.hbm, 6304, rfl⟩
abbrev main_call24_call0_v63 : Ref sig .tc := ⟨.hbm, 6305, rfl⟩
abbrev main_call24_call0_c_16 : Ref sig .tc := ⟨.hbm, 6306, rfl⟩
abbrev main_call24_call0_v64 : Ref sig .tc := ⟨.hbm, 6307, rfl⟩
abbrev main_call24_call0_v65 : Ref sig .tc := ⟨.hbm, 6308, rfl⟩
abbrev main_call24_call0_v66 : Ref sig .tc := ⟨.hbm, 6309, rfl⟩
abbrev main_call24_call0_v67 : Ref sig .tc := ⟨.hbm, 6310, rfl⟩
abbrev main_call24_call0_v68 : Ref sig .tc := ⟨.hbm, 6311, rfl⟩
abbrev main_call24_call0_v69 : Ref sig .tc := ⟨.hbm, 6312, rfl⟩
abbrev main_call24_call0_v70 : Ref sig .tc := ⟨.hbm, 6313, rfl⟩
abbrev main_call24_call0_v71 : Ref sig .tc := ⟨.hbm, 6314, rfl⟩
abbrev main_call24_call0_c_17 : Ref sig .tc := ⟨.hbm, 6315, rfl⟩
abbrev main_call24_call0_v72 : Ref sig .tc := ⟨.hbm, 6316, rfl⟩
abbrev main_call24_call0_v73 : Ref sig .tc := ⟨.hbm, 6317, rfl⟩
abbrev main_call24_call0_v74 : Ref sig .tc := ⟨.hbm, 6318, rfl⟩
abbrev main_call24_call0_c_18 : Ref sig .tc := ⟨.hbm, 6319, rfl⟩
abbrev main_call24_call0_v75 : Ref sig .tc := ⟨.hbm, 6320, rfl⟩
abbrev main_call24_call0_v76 : Ref sig .tc := ⟨.hbm, 6321, rfl⟩
abbrev main_call24_call0_c_19 : Ref sig .tc := ⟨.hbm, 6322, rfl⟩
abbrev main_call24_call0_v77 : Ref sig .tc := ⟨.hbm, 6323, rfl⟩
abbrev main_call24_call0_v78 : Ref sig .tc := ⟨.hbm, 6324, rfl⟩
abbrev main_call24_call0_v79 : Ref sig .tc := ⟨.hbm, 6325, rfl⟩
abbrev main_call24_call0_v80 : Ref sig .tc := ⟨.hbm, 6326, rfl⟩
abbrev main_call24_call0_v81 : Ref sig .tc := ⟨.hbm, 6327, rfl⟩
abbrev main_call24_call0_c_20 : Ref sig .tc := ⟨.hbm, 6328, rfl⟩
abbrev main_call24_call0_v82 : Ref sig .tc := ⟨.hbm, 6329, rfl⟩
abbrev main_call24_call0_v83 : Ref sig .tc := ⟨.hbm, 6330, rfl⟩
abbrev main_call24_call0_c_21 : Ref sig .tc := ⟨.hbm, 6331, rfl⟩
abbrev main_call24_call0_v84 : Ref sig .tc := ⟨.hbm, 6332, rfl⟩
abbrev main_call24_call0_v85 : Ref sig .tc := ⟨.hbm, 6333, rfl⟩
abbrev main_call24_call0_v86 : Ref sig .tc := ⟨.hbm, 6334, rfl⟩
abbrev main_call24_call0_v87 : Ref sig .tc := ⟨.hbm, 6335, rfl⟩
abbrev main_call24_call0_v88 : Ref sig .tc := ⟨.hbm, 6336, rfl⟩
abbrev main_call24_call0_c_22 : Ref sig .tc := ⟨.hbm, 6337, rfl⟩
abbrev main_call24_call0_v89 : Ref sig .tc := ⟨.hbm, 6338, rfl⟩
abbrev main_call24_call0_v90 : Ref sig .tc := ⟨.hbm, 6339, rfl⟩
abbrev main_call24_call0_c_23 : Ref sig .tc := ⟨.hbm, 6340, rfl⟩
abbrev main_call24_call0_v91 : Ref sig .tc := ⟨.hbm, 6341, rfl⟩
abbrev main_call24_call0_v92 : Ref sig .tc := ⟨.hbm, 6342, rfl⟩
abbrev main_call24_call0_v93 : Ref sig .tc := ⟨.hbm, 6343, rfl⟩
abbrev main_call24_call0_v94 : Ref sig .tc := ⟨.hbm, 6344, rfl⟩
abbrev main_call24_call0_v95 : Ref sig .tc := ⟨.hbm, 6345, rfl⟩
abbrev main_call24_call0_c_24 : Ref sig .tc := ⟨.hbm, 6346, rfl⟩
abbrev main_call24_call0_v96 : Ref sig .tc := ⟨.hbm, 6347, rfl⟩
abbrev main_call24_call0_v97 : Ref sig .tc := ⟨.hbm, 6348, rfl⟩
abbrev main_call24_call0_c_25 : Ref sig .tc := ⟨.hbm, 6349, rfl⟩
abbrev main_call24_call0_v98 : Ref sig .tc := ⟨.hbm, 6350, rfl⟩
abbrev main_call24_call0_v99 : Ref sig .tc := ⟨.hbm, 6351, rfl⟩
abbrev main_call24_call0_v100 : Ref sig .tc := ⟨.hbm, 6352, rfl⟩
abbrev main_call24_call0_v101 : Ref sig .tc := ⟨.hbm, 6353, rfl⟩
abbrev main_call24_call0_v102 : Ref sig .tc := ⟨.hbm, 6354, rfl⟩
abbrev main_call24_call0_v103 : Ref sig .tc := ⟨.hbm, 6355, rfl⟩
abbrev main_call24_call0_v104 : Ref sig .tc := ⟨.hbm, 6356, rfl⟩
abbrev main_call24_call0_v105 : Ref sig .tc := ⟨.hbm, 6357, rfl⟩
abbrev main_call24_call0_c_26 : Ref sig .tc := ⟨.hbm, 6358, rfl⟩
abbrev main_call24_call0_v106 : Ref sig .tc := ⟨.hbm, 6359, rfl⟩
abbrev main_call24_call0_v107 : Ref sig .tc := ⟨.hbm, 6360, rfl⟩
abbrev main_call24_call0_v108 : Ref sig .tc := ⟨.hbm, 6361, rfl⟩
abbrev main_call24_call0_c_27 : Ref sig .tc := ⟨.hbm, 6362, rfl⟩
abbrev main_call24_call0_v109 : Ref sig .tc := ⟨.hbm, 6363, rfl⟩
abbrev main_call24_call0_v110 : Ref sig .tc := ⟨.hbm, 6364, rfl⟩
abbrev main_call24_call0_c_28 : Ref sig .tc := ⟨.hbm, 6365, rfl⟩
abbrev main_call24_call0_v111 : Ref sig .tc := ⟨.hbm, 6366, rfl⟩
abbrev main_call24_call0_v112 : Ref sig .tc := ⟨.hbm, 6367, rfl⟩
abbrev main_call24_call0_v113 : Ref sig .tc := ⟨.hbm, 6368, rfl⟩
abbrev main_call24_call0_v114 : Ref sig .tc := ⟨.hbm, 6369, rfl⟩
abbrev main_call24_call0_v115 : Ref sig .tc := ⟨.hbm, 6370, rfl⟩
abbrev main_call24_call0_c_29 : Ref sig .tc := ⟨.hbm, 6371, rfl⟩
abbrev main_call24_call0_v116 : Ref sig .tc := ⟨.hbm, 6372, rfl⟩
abbrev main_call24_call0_v117 : Ref sig .tc := ⟨.hbm, 6373, rfl⟩
abbrev main_call24_call0_c_30 : Ref sig .tc := ⟨.hbm, 6374, rfl⟩
abbrev main_call24_call0_v118 : Ref sig .tc := ⟨.hbm, 6375, rfl⟩
abbrev main_call24_call0_v119 : Ref sig .tc := ⟨.hbm, 6376, rfl⟩
abbrev main_call24_call0_v120 : Ref sig .tc := ⟨.hbm, 6377, rfl⟩
abbrev main_call24_call0_v121 : Ref sig .tc := ⟨.hbm, 6378, rfl⟩
abbrev main_call24_call0_v122 : Ref sig .tc := ⟨.hbm, 6379, rfl⟩
abbrev main_call24_call0_c_31 : Ref sig .tc := ⟨.hbm, 6380, rfl⟩
abbrev main_call24_call0_v123 : Ref sig .tc := ⟨.hbm, 6381, rfl⟩
abbrev main_call24_call0_v124 : Ref sig .tc := ⟨.hbm, 6382, rfl⟩
abbrev main_call24_call0_c_32 : Ref sig .tc := ⟨.hbm, 6383, rfl⟩
abbrev main_call24_call0_v125 : Ref sig .tc := ⟨.hbm, 6384, rfl⟩
abbrev main_call24_call0_v126 : Ref sig .tc := ⟨.hbm, 6385, rfl⟩
abbrev main_call24_call0_v127 : Ref sig .tc := ⟨.hbm, 6386, rfl⟩
abbrev main_call24_call0_v128 : Ref sig .tc := ⟨.hbm, 6387, rfl⟩
abbrev main_call24_call0_v129 : Ref sig .tc := ⟨.hbm, 6388, rfl⟩
abbrev main_call24_call0_c_33 : Ref sig .tc := ⟨.hbm, 6389, rfl⟩
abbrev main_call24_call0_v130 : Ref sig .tc := ⟨.hbm, 6390, rfl⟩
abbrev main_call24_call0_v131 : Ref sig .tc := ⟨.hbm, 6391, rfl⟩
abbrev main_call24_call0_c_34 : Ref sig .tc := ⟨.hbm, 6392, rfl⟩
abbrev main_call24_call0_v132 : Ref sig .tc := ⟨.hbm, 6393, rfl⟩
abbrev main_call24_call0_v133 : Ref sig .tc := ⟨.hbm, 6394, rfl⟩
abbrev main_call24_call0_v134 : Ref sig .tc := ⟨.hbm, 6395, rfl⟩
abbrev main_call24_call0_v135 : Ref sig .tc := ⟨.hbm, 6396, rfl⟩
abbrev main_call24_call0_v136 : Ref sig .tc := ⟨.hbm, 6397, rfl⟩
abbrev main_call24_call0_v137 : Ref sig .tc := ⟨.hbm, 6398, rfl⟩
abbrev main_call24_call0_v138 : Ref sig .tc := ⟨.hbm, 6399, rfl⟩
abbrev main_call24_call0_v139 : Ref sig .tc := ⟨.hbm, 6400, rfl⟩
abbrev main_call24_call0_c_35 : Ref sig .tc := ⟨.hbm, 6401, rfl⟩
abbrev main_call24_call0_v140 : Ref sig .tc := ⟨.hbm, 6402, rfl⟩
abbrev main_call24_call0_v141 : Ref sig .tc := ⟨.hbm, 6403, rfl⟩
abbrev main_call24_call0_v142 : Ref sig .tc := ⟨.hbm, 6404, rfl⟩
abbrev main_call24_call0_c_36 : Ref sig .tc := ⟨.hbm, 6405, rfl⟩
abbrev main_call24_call0_v143 : Ref sig .tc := ⟨.hbm, 6406, rfl⟩
abbrev main_call24_call0_v144 : Ref sig .tc := ⟨.hbm, 6407, rfl⟩
abbrev main_call24_call0_c_37 : Ref sig .tc := ⟨.hbm, 6408, rfl⟩
abbrev main_call24_call0_v145 : Ref sig .tc := ⟨.hbm, 6409, rfl⟩
abbrev main_call24_call0_v146 : Ref sig .tc := ⟨.hbm, 6410, rfl⟩
abbrev main_call24_call0_v147 : Ref sig .tc := ⟨.hbm, 6411, rfl⟩
abbrev main_call24_call0_v148 : Ref sig .tc := ⟨.hbm, 6412, rfl⟩
abbrev main_call24_call0_v149 : Ref sig .tc := ⟨.hbm, 6413, rfl⟩
abbrev main_call24_call0_c_38 : Ref sig .tc := ⟨.hbm, 6414, rfl⟩
abbrev main_call24_call0_v150 : Ref sig .tc := ⟨.hbm, 6415, rfl⟩
abbrev main_call24_call0_v151 : Ref sig .tc := ⟨.hbm, 6416, rfl⟩
abbrev main_call24_call0_c_39 : Ref sig .tc := ⟨.hbm, 6417, rfl⟩
abbrev main_call24_call0_v152 : Ref sig .tc := ⟨.hbm, 6418, rfl⟩
abbrev main_call24_call0_v153 : Ref sig .tc := ⟨.hbm, 6419, rfl⟩
abbrev main_call24_call0_v154 : Ref sig .tc := ⟨.hbm, 6420, rfl⟩
abbrev main_call24_call0_v155 : Ref sig .tc := ⟨.hbm, 6421, rfl⟩
abbrev main_call24_call0_v156 : Ref sig .tc := ⟨.hbm, 6422, rfl⟩
abbrev main_call24_call0_c_40 : Ref sig .tc := ⟨.hbm, 6423, rfl⟩
abbrev main_call24_call0_v157 : Ref sig .tc := ⟨.hbm, 6424, rfl⟩
abbrev main_call24_call0_v158 : Ref sig .tc := ⟨.hbm, 6425, rfl⟩
abbrev main_call24_call0_c_41 : Ref sig .tc := ⟨.hbm, 6426, rfl⟩
abbrev main_call24_call0_v159 : Ref sig .tc := ⟨.hbm, 6427, rfl⟩
abbrev main_call24_call0_v160 : Ref sig .tc := ⟨.hbm, 6428, rfl⟩
abbrev main_call24_call0_v161 : Ref sig .tc := ⟨.hbm, 6429, rfl⟩
abbrev main_call24_call0_v162 : Ref sig .tc := ⟨.hbm, 6430, rfl⟩
abbrev main_call24_call0_v163 : Ref sig .tc := ⟨.hbm, 6431, rfl⟩
abbrev main_call24_call0_c_42 : Ref sig .tc := ⟨.hbm, 6432, rfl⟩
abbrev main_call24_call0_v164 : Ref sig .tc := ⟨.hbm, 6433, rfl⟩
abbrev main_call24_call0_v165 : Ref sig .tc := ⟨.hbm, 6434, rfl⟩
abbrev main_call24_call0_c_43 : Ref sig .tc := ⟨.hbm, 6435, rfl⟩
abbrev main_call24_call0_v166 : Ref sig .tc := ⟨.hbm, 6436, rfl⟩
abbrev main_call24_call0_v167 : Ref sig .tc := ⟨.hbm, 6437, rfl⟩
abbrev main_call24_call0_v168 : Ref sig .tc := ⟨.hbm, 6438, rfl⟩
abbrev main_call24_call0_v169 : Ref sig .tc := ⟨.hbm, 6439, rfl⟩
abbrev main_call24_call0_v170 : Ref sig .tc := ⟨.hbm, 6440, rfl⟩
abbrev main_call24_v11_0 : Ref sig .tc := ⟨.hbm, 6441, rfl⟩
abbrev main_call24_call0_v172 : Ref sig .tc := ⟨.hbm, 6442, rfl⟩
abbrev main_call24_call0_v173 : Ref sig .tc := ⟨.hbm, 6443, rfl⟩
abbrev main_call24_call0_c_44 : Ref sig .tc := ⟨.hbm, 6444, rfl⟩
abbrev main_call24_call0_v174 : Ref sig .tc := ⟨.hbm, 6445, rfl⟩
abbrev main_call24_v11_1 : Ref sig .tc := ⟨.hbm, 6446, rfl⟩
abbrev main_call24_v12 : Ref sig .tc := ⟨.hbm, 6447, rfl⟩
abbrev main_call24_v13 : Ref sig .tc := ⟨.hbm, 6448, rfl⟩
abbrev main_v79 : Ref sig .tc := ⟨.hbm, 6449, rfl⟩
abbrev main_v80 : Ref sig .tc := ⟨.hbm, 6450, rfl⟩
abbrev main_v81 : Ref sig .tc := ⟨.hbm, 6451, rfl⟩
abbrev main_v82 : Ref sig .tc := ⟨.hbm, 6452, rfl⟩
abbrev main_v83 : Ref sig .tc := ⟨.hbm, 6453, rfl⟩
abbrev main_v84 : Ref sig .tc := ⟨.hbm, 6454, rfl⟩
abbrev main_v85 : Ref sig .tc := ⟨.hbm, 6455, rfl⟩
abbrev main_call25_cst : Ref sig .tc := ⟨.hbm, 6456, rfl⟩
abbrev main_call25_cst_0 : Ref sig .tc := ⟨.hbm, 6457, rfl⟩
abbrev main_call25_call0_v0 : Ref sig .tc := ⟨.hbm, 6458, rfl⟩
abbrev main_call25_call0_v1 : Ref sig .tc := ⟨.hbm, 6459, rfl⟩
abbrev main_call25_call0_v2 : Ref sig .tc := ⟨.hbm, 6460, rfl⟩
abbrev main_call25_call0_v3 : Ref sig .tc := ⟨.hbm, 6461, rfl⟩
abbrev main_call25_call0_v4 : Ref sig .tc := ⟨.hbm, 6462, rfl⟩
abbrev main_call25_call0_v5 : Ref sig .tc := ⟨.hbm, 6463, rfl⟩
abbrev main_call25_call0_v6 : Ref sig .tc := ⟨.hbm, 6464, rfl⟩
abbrev main_call25_call0_v7 : Ref sig .tc := ⟨.hbm, 6465, rfl⟩
abbrev main_call25_call0_v8 : Ref sig .tc := ⟨.hbm, 6466, rfl⟩
abbrev main_call25_call0_v9 : Ref sig .tc := ⟨.hbm, 6467, rfl⟩
abbrev main_call25_call0_c : Ref sig .tc := ⟨.hbm, 6468, rfl⟩
abbrev main_call25_call0_v10 : Ref sig .tc := ⟨.hbm, 6469, rfl⟩
abbrev main_call25_call0_v11 : Ref sig .tc := ⟨.hbm, 6470, rfl⟩
abbrev main_call25_call0_c_0 : Ref sig .tc := ⟨.hbm, 6471, rfl⟩
abbrev main_call25_call0_v12 : Ref sig .tc := ⟨.hbm, 6472, rfl⟩
abbrev main_call25_call0_v13 : Ref sig .tc := ⟨.hbm, 6473, rfl⟩
abbrev main_call25_call0_c_1 : Ref sig .tc := ⟨.hbm, 6474, rfl⟩
abbrev main_call25_call0_v14 : Ref sig .tc := ⟨.hbm, 6475, rfl⟩
abbrev main_call25_call0_v15 : Ref sig .tc := ⟨.hbm, 6476, rfl⟩
abbrev main_call25_call0_v16 : Ref sig .tc := ⟨.hbm, 6477, rfl⟩
abbrev main_call25_call0_v17 : Ref sig .tc := ⟨.hbm, 6478, rfl⟩
abbrev main_call25_call0_c_2 : Ref sig .tc := ⟨.hbm, 6479, rfl⟩
abbrev main_call25_call0_v18 : Ref sig .tc := ⟨.hbm, 6480, rfl⟩
abbrev main_call25_call0_v19 : Ref sig .tc := ⟨.hbm, 6481, rfl⟩
abbrev main_call25_call0_v20 : Ref sig .tc := ⟨.hbm, 6482, rfl⟩
abbrev main_call25_call0_v21 : Ref sig .tc := ⟨.hbm, 6483, rfl⟩
abbrev main_call25_call0_call0_v0 : Ref sig .tc := ⟨.hbm, 6484, rfl⟩
abbrev main_call25_call0_call0_c : Ref sig .tc := ⟨.hbm, 6485, rfl⟩
abbrev main_call25_call0_call0_v1 : Ref sig .tc := ⟨.hbm, 6486, rfl⟩
abbrev main_call25_call0_call0_v2 : Ref sig .tc := ⟨.hbm, 6487, rfl⟩
abbrev main_call25_call0_call0_v3 : Ref sig .tc := ⟨.hbm, 6488, rfl⟩
abbrev main_call25_call0_call0_v4 : Ref sig .tc := ⟨.hbm, 6489, rfl⟩
abbrev main_call25_call0_call0_v5 : Ref sig .tc := ⟨.hbm, 6490, rfl⟩
abbrev main_call25_call0_call0_v6 : Ref sig .tc := ⟨.hbm, 6491, rfl⟩
abbrev main_call25_call0_call0_c_0 : Ref sig .tc := ⟨.hbm, 6492, rfl⟩
abbrev main_call25_call0_call0_v7 : Ref sig .tc := ⟨.hbm, 6493, rfl⟩
abbrev main_call25_call0_call0_v8 : Ref sig .tc := ⟨.hbm, 6494, rfl⟩
abbrev main_call25_call0_call0_c_1 : Ref sig .tc := ⟨.hbm, 6495, rfl⟩
abbrev main_call25_call0_call0_v9 : Ref sig .tc := ⟨.hbm, 6496, rfl⟩
abbrev main_call25_call0_call0_v10 : Ref sig .tc := ⟨.hbm, 6497, rfl⟩
abbrev main_call25_call0_call0_v11 : Ref sig .tc := ⟨.hbm, 6498, rfl⟩
abbrev main_call25_call0_call0_v12 : Ref sig .tc := ⟨.hbm, 6499, rfl⟩
abbrev main_call25_call0_call0_v13 : Ref sig .tc := ⟨.hbm, 6500, rfl⟩
abbrev main_call25_call0_call0_c_2 : Ref sig .tc := ⟨.hbm, 6501, rfl⟩
abbrev main_call25_call0_call0_v14 : Ref sig .tc := ⟨.hbm, 6502, rfl⟩
abbrev main_call25_call0_call0_v15 : Ref sig .tc := ⟨.hbm, 6503, rfl⟩
abbrev main_call25_call0_call0_c_3 : Ref sig .tc := ⟨.hbm, 6504, rfl⟩
abbrev main_call25_call0_call0_v16 : Ref sig .tc := ⟨.hbm, 6505, rfl⟩
abbrev main_call25_call0_call0_v17 : Ref sig .tc := ⟨.hbm, 6506, rfl⟩
abbrev main_call25_call0_call0_v18 : Ref sig .tc := ⟨.hbm, 6507, rfl⟩
abbrev main_call25_call0_call0_v19 : Ref sig .tc := ⟨.hbm, 6508, rfl⟩
abbrev main_call25_call0_call0_v20 : Ref sig .tc := ⟨.hbm, 6509, rfl⟩
abbrev main_call25_call0_call0_c_4 : Ref sig .tc := ⟨.hbm, 6510, rfl⟩
abbrev main_call25_call0_call0_v21 : Ref sig .tc := ⟨.hbm, 6511, rfl⟩
abbrev main_call25_call0_call0_v22 : Ref sig .tc := ⟨.hbm, 6512, rfl⟩
abbrev main_call25_call0_call0_c_5 : Ref sig .tc := ⟨.hbm, 6513, rfl⟩
abbrev main_call25_call0_call0_v23 : Ref sig .tc := ⟨.hbm, 6514, rfl⟩
abbrev main_call25_call0_call0_v24 : Ref sig .tc := ⟨.hbm, 6515, rfl⟩
abbrev main_call25_call0_call0_v25 : Ref sig .tc := ⟨.hbm, 6516, rfl⟩
abbrev main_call25_call0_call0_v26 : Ref sig .tc := ⟨.hbm, 6517, rfl⟩
abbrev main_call25_call0_call0_v27 : Ref sig .tc := ⟨.hbm, 6518, rfl⟩
abbrev main_call25_call0_call0_c_6 : Ref sig .tc := ⟨.hbm, 6519, rfl⟩
abbrev main_call25_call0_call0_v28 : Ref sig .tc := ⟨.hbm, 6520, rfl⟩
abbrev main_call25_call0_call0_v29 : Ref sig .tc := ⟨.hbm, 6521, rfl⟩
abbrev main_call25_call0_call0_c_7 : Ref sig .tc := ⟨.hbm, 6522, rfl⟩
abbrev main_call25_call0_call0_v30 : Ref sig .tc := ⟨.hbm, 6523, rfl⟩
abbrev main_call25_call0_call0_v31 : Ref sig .tc := ⟨.hbm, 6524, rfl⟩
abbrev main_call25_call0_call0_v32 : Ref sig .tc := ⟨.hbm, 6525, rfl⟩
abbrev main_call25_call0_call0_v33 : Ref sig .tc := ⟨.hbm, 6526, rfl⟩
abbrev main_call25_call0_call0_v34 : Ref sig .tc := ⟨.hbm, 6527, rfl⟩
abbrev main_call25_call0_call0_v35 : Ref sig .tc := ⟨.hbm, 6528, rfl⟩
abbrev main_call25_call0_call0_v36 : Ref sig .tc := ⟨.hbm, 6529, rfl⟩
abbrev main_call25_call0_call0_v37 : Ref sig .tc := ⟨.hbm, 6530, rfl⟩
abbrev main_call25_call0_call0_c_8 : Ref sig .tc := ⟨.hbm, 6531, rfl⟩
abbrev main_call25_call0_call0_v38 : Ref sig .tc := ⟨.hbm, 6532, rfl⟩
abbrev main_call25_call0_call0_v39 : Ref sig .tc := ⟨.hbm, 6533, rfl⟩
abbrev main_call25_call0_call0_v40 : Ref sig .tc := ⟨.hbm, 6534, rfl⟩
abbrev main_call25_call0_call0_c_9 : Ref sig .tc := ⟨.hbm, 6535, rfl⟩
abbrev main_call25_call0_call0_v41 : Ref sig .tc := ⟨.hbm, 6536, rfl⟩
abbrev main_call25_call0_call0_v42 : Ref sig .tc := ⟨.hbm, 6537, rfl⟩
abbrev main_call25_call0_call0_c_10 : Ref sig .tc := ⟨.hbm, 6538, rfl⟩
abbrev main_call25_call0_call0_v43 : Ref sig .tc := ⟨.hbm, 6539, rfl⟩
abbrev main_call25_call0_call0_v44 : Ref sig .tc := ⟨.hbm, 6540, rfl⟩
abbrev main_call25_call0_call0_v45 : Ref sig .tc := ⟨.hbm, 6541, rfl⟩
abbrev main_call25_call0_call0_v46 : Ref sig .tc := ⟨.hbm, 6542, rfl⟩
abbrev main_call25_call0_call0_v47 : Ref sig .tc := ⟨.hbm, 6543, rfl⟩
abbrev main_call25_call0_call0_c_11 : Ref sig .tc := ⟨.hbm, 6544, rfl⟩
abbrev main_call25_call0_call0_v48 : Ref sig .tc := ⟨.hbm, 6545, rfl⟩
abbrev main_call25_call0_call0_v49 : Ref sig .tc := ⟨.hbm, 6546, rfl⟩
abbrev main_call25_call0_call0_c_12 : Ref sig .tc := ⟨.hbm, 6547, rfl⟩
abbrev main_call25_call0_call0_v50 : Ref sig .tc := ⟨.hbm, 6548, rfl⟩
abbrev main_call25_call0_call0_v51 : Ref sig .tc := ⟨.hbm, 6549, rfl⟩
abbrev main_call25_call0_call0_v52 : Ref sig .tc := ⟨.hbm, 6550, rfl⟩
abbrev main_call25_call0_call0_v53 : Ref sig .tc := ⟨.hbm, 6551, rfl⟩
abbrev main_call25_call0_call0_v54 : Ref sig .tc := ⟨.hbm, 6552, rfl⟩
abbrev main_call25_call0_call0_c_13 : Ref sig .tc := ⟨.hbm, 6553, rfl⟩
abbrev main_call25_call0_call0_v55 : Ref sig .tc := ⟨.hbm, 6554, rfl⟩
abbrev main_call25_call0_call0_v56 : Ref sig .tc := ⟨.hbm, 6555, rfl⟩
abbrev main_call25_call0_call0_c_14 : Ref sig .tc := ⟨.hbm, 6556, rfl⟩
abbrev main_call25_call0_call0_v57 : Ref sig .tc := ⟨.hbm, 6557, rfl⟩
abbrev main_call25_call0_call0_v58 : Ref sig .tc := ⟨.hbm, 6558, rfl⟩
abbrev main_call25_call0_call0_v59 : Ref sig .tc := ⟨.hbm, 6559, rfl⟩
abbrev main_call25_call0_call0_v60 : Ref sig .tc := ⟨.hbm, 6560, rfl⟩
abbrev main_call25_call0_call0_v61 : Ref sig .tc := ⟨.hbm, 6561, rfl⟩
abbrev main_call25_call0_call0_c_15 : Ref sig .tc := ⟨.hbm, 6562, rfl⟩
abbrev main_call25_call0_call0_v62 : Ref sig .tc := ⟨.hbm, 6563, rfl⟩
abbrev main_call25_call0_call0_v63 : Ref sig .tc := ⟨.hbm, 6564, rfl⟩
abbrev main_call25_call0_call0_c_16 : Ref sig .tc := ⟨.hbm, 6565, rfl⟩
abbrev main_call25_call0_call0_v64 : Ref sig .tc := ⟨.hbm, 6566, rfl⟩
abbrev main_call25_call0_call0_v65 : Ref sig .tc := ⟨.hbm, 6567, rfl⟩
abbrev main_call25_call0_call0_v66 : Ref sig .tc := ⟨.hbm, 6568, rfl⟩
abbrev main_call25_call0_call0_v67 : Ref sig .tc := ⟨.hbm, 6569, rfl⟩
abbrev main_call25_call0_call0_v68 : Ref sig .tc := ⟨.hbm, 6570, rfl⟩
abbrev main_call25_call0_call0_v69 : Ref sig .tc := ⟨.hbm, 6571, rfl⟩
abbrev main_call25_call0_call0_v70 : Ref sig .tc := ⟨.hbm, 6572, rfl⟩
abbrev main_call25_call0_call0_v71 : Ref sig .tc := ⟨.hbm, 6573, rfl⟩
abbrev main_call25_call0_call0_c_17 : Ref sig .tc := ⟨.hbm, 6574, rfl⟩
abbrev main_call25_call0_call0_v72 : Ref sig .tc := ⟨.hbm, 6575, rfl⟩
abbrev main_call25_call0_call0_v73 : Ref sig .tc := ⟨.hbm, 6576, rfl⟩
abbrev main_call25_call0_call0_v74 : Ref sig .tc := ⟨.hbm, 6577, rfl⟩
abbrev main_call25_call0_call0_c_18 : Ref sig .tc := ⟨.hbm, 6578, rfl⟩
abbrev main_call25_call0_call0_v75 : Ref sig .tc := ⟨.hbm, 6579, rfl⟩
abbrev main_call25_call0_call0_v76 : Ref sig .tc := ⟨.hbm, 6580, rfl⟩
abbrev main_call25_call0_call0_c_19 : Ref sig .tc := ⟨.hbm, 6581, rfl⟩
abbrev main_call25_call0_call0_v77 : Ref sig .tc := ⟨.hbm, 6582, rfl⟩
abbrev main_call25_call0_call0_v78 : Ref sig .tc := ⟨.hbm, 6583, rfl⟩
abbrev main_call25_call0_call0_v79 : Ref sig .tc := ⟨.hbm, 6584, rfl⟩
abbrev main_call25_call0_call0_v80 : Ref sig .tc := ⟨.hbm, 6585, rfl⟩
abbrev main_call25_call0_call0_v81 : Ref sig .tc := ⟨.hbm, 6586, rfl⟩
abbrev main_call25_call0_call0_c_20 : Ref sig .tc := ⟨.hbm, 6587, rfl⟩
abbrev main_call25_call0_call0_v82 : Ref sig .tc := ⟨.hbm, 6588, rfl⟩
abbrev main_call25_call0_call0_v83 : Ref sig .tc := ⟨.hbm, 6589, rfl⟩
abbrev main_call25_call0_call0_c_21 : Ref sig .tc := ⟨.hbm, 6590, rfl⟩
abbrev main_call25_call0_call0_v84 : Ref sig .tc := ⟨.hbm, 6591, rfl⟩
abbrev main_call25_call0_call0_v85 : Ref sig .tc := ⟨.hbm, 6592, rfl⟩
abbrev main_call25_call0_call0_v86 : Ref sig .tc := ⟨.hbm, 6593, rfl⟩
abbrev main_call25_call0_call0_v87 : Ref sig .tc := ⟨.hbm, 6594, rfl⟩
abbrev main_call25_call0_call0_v88 : Ref sig .tc := ⟨.hbm, 6595, rfl⟩
abbrev main_call25_call0_call0_c_22 : Ref sig .tc := ⟨.hbm, 6596, rfl⟩
abbrev main_call25_call0_call0_v89 : Ref sig .tc := ⟨.hbm, 6597, rfl⟩
abbrev main_call25_call0_call0_v90 : Ref sig .tc := ⟨.hbm, 6598, rfl⟩
abbrev main_call25_call0_call0_c_23 : Ref sig .tc := ⟨.hbm, 6599, rfl⟩
abbrev main_call25_call0_call0_v91 : Ref sig .tc := ⟨.hbm, 6600, rfl⟩
abbrev main_call25_call0_call0_v92 : Ref sig .tc := ⟨.hbm, 6601, rfl⟩
abbrev main_call25_call0_call0_v93 : Ref sig .tc := ⟨.hbm, 6602, rfl⟩
abbrev main_call25_call0_call0_v94 : Ref sig .tc := ⟨.hbm, 6603, rfl⟩
abbrev main_call25_call0_call0_v95 : Ref sig .tc := ⟨.hbm, 6604, rfl⟩
abbrev main_call25_call0_call0_c_24 : Ref sig .tc := ⟨.hbm, 6605, rfl⟩
abbrev main_call25_call0_call0_v96 : Ref sig .tc := ⟨.hbm, 6606, rfl⟩
abbrev main_call25_call0_call0_v97 : Ref sig .tc := ⟨.hbm, 6607, rfl⟩
abbrev main_call25_call0_call0_c_25 : Ref sig .tc := ⟨.hbm, 6608, rfl⟩
abbrev main_call25_call0_call0_v98 : Ref sig .tc := ⟨.hbm, 6609, rfl⟩
abbrev main_call25_call0_call0_v99 : Ref sig .tc := ⟨.hbm, 6610, rfl⟩
abbrev main_call25_call0_call0_v100 : Ref sig .tc := ⟨.hbm, 6611, rfl⟩
abbrev main_call25_call0_call0_v101 : Ref sig .tc := ⟨.hbm, 6612, rfl⟩
abbrev main_call25_call0_call0_v102 : Ref sig .tc := ⟨.hbm, 6613, rfl⟩
abbrev main_call25_call0_call0_v103 : Ref sig .tc := ⟨.hbm, 6614, rfl⟩
abbrev main_call25_call0_call0_v104 : Ref sig .tc := ⟨.hbm, 6615, rfl⟩
abbrev main_call25_call0_call0_v105 : Ref sig .tc := ⟨.hbm, 6616, rfl⟩
abbrev main_call25_call0_call0_c_26 : Ref sig .tc := ⟨.hbm, 6617, rfl⟩
abbrev main_call25_call0_call0_v106 : Ref sig .tc := ⟨.hbm, 6618, rfl⟩
abbrev main_call25_call0_call0_v107 : Ref sig .tc := ⟨.hbm, 6619, rfl⟩
abbrev main_call25_call0_call0_v108 : Ref sig .tc := ⟨.hbm, 6620, rfl⟩
abbrev main_call25_call0_call0_c_27 : Ref sig .tc := ⟨.hbm, 6621, rfl⟩
abbrev main_call25_call0_call0_v109 : Ref sig .tc := ⟨.hbm, 6622, rfl⟩
abbrev main_call25_call0_call0_v110 : Ref sig .tc := ⟨.hbm, 6623, rfl⟩
abbrev main_call25_call0_call0_c_28 : Ref sig .tc := ⟨.hbm, 6624, rfl⟩
abbrev main_call25_call0_call0_v111 : Ref sig .tc := ⟨.hbm, 6625, rfl⟩
abbrev main_call25_call0_call0_v112 : Ref sig .tc := ⟨.hbm, 6626, rfl⟩
abbrev main_call25_call0_call0_v113 : Ref sig .tc := ⟨.hbm, 6627, rfl⟩
abbrev main_call25_call0_call0_v114 : Ref sig .tc := ⟨.hbm, 6628, rfl⟩
abbrev main_call25_call0_call0_v115 : Ref sig .tc := ⟨.hbm, 6629, rfl⟩
abbrev main_call25_call0_call0_c_29 : Ref sig .tc := ⟨.hbm, 6630, rfl⟩
abbrev main_call25_call0_call0_v116 : Ref sig .tc := ⟨.hbm, 6631, rfl⟩
abbrev main_call25_call0_call0_v117 : Ref sig .tc := ⟨.hbm, 6632, rfl⟩
abbrev main_call25_call0_call0_c_30 : Ref sig .tc := ⟨.hbm, 6633, rfl⟩
abbrev main_call25_call0_call0_v118 : Ref sig .tc := ⟨.hbm, 6634, rfl⟩
abbrev main_call25_call0_call0_v119 : Ref sig .tc := ⟨.hbm, 6635, rfl⟩
abbrev main_call25_call0_call0_v120 : Ref sig .tc := ⟨.hbm, 6636, rfl⟩
abbrev main_call25_call0_call0_v121 : Ref sig .tc := ⟨.hbm, 6637, rfl⟩
abbrev main_call25_call0_call0_v122 : Ref sig .tc := ⟨.hbm, 6638, rfl⟩
abbrev main_call25_call0_call0_c_31 : Ref sig .tc := ⟨.hbm, 6639, rfl⟩
abbrev main_call25_call0_call0_v123 : Ref sig .tc := ⟨.hbm, 6640, rfl⟩
abbrev main_call25_call0_call0_v124 : Ref sig .tc := ⟨.hbm, 6641, rfl⟩
abbrev main_call25_call0_call0_c_32 : Ref sig .tc := ⟨.hbm, 6642, rfl⟩
abbrev main_call25_call0_call0_v125 : Ref sig .tc := ⟨.hbm, 6643, rfl⟩
abbrev main_call25_call0_call0_v126 : Ref sig .tc := ⟨.hbm, 6644, rfl⟩
abbrev main_call25_call0_call0_v127 : Ref sig .tc := ⟨.hbm, 6645, rfl⟩
abbrev main_call25_call0_call0_v128 : Ref sig .tc := ⟨.hbm, 6646, rfl⟩
abbrev main_call25_call0_call0_v129 : Ref sig .tc := ⟨.hbm, 6647, rfl⟩
abbrev main_call25_call0_call0_c_33 : Ref sig .tc := ⟨.hbm, 6648, rfl⟩
abbrev main_call25_call0_call0_v130 : Ref sig .tc := ⟨.hbm, 6649, rfl⟩
abbrev main_call25_call0_call0_v131 : Ref sig .tc := ⟨.hbm, 6650, rfl⟩
abbrev main_call25_call0_call0_c_34 : Ref sig .tc := ⟨.hbm, 6651, rfl⟩
abbrev main_call25_call0_call0_v132 : Ref sig .tc := ⟨.hbm, 6652, rfl⟩
abbrev main_call25_call0_call0_v133 : Ref sig .tc := ⟨.hbm, 6653, rfl⟩
abbrev main_call25_call0_call0_v134 : Ref sig .tc := ⟨.hbm, 6654, rfl⟩
abbrev main_call25_call0_call0_v135 : Ref sig .tc := ⟨.hbm, 6655, rfl⟩
abbrev main_call25_call0_call0_v136 : Ref sig .tc := ⟨.hbm, 6656, rfl⟩
abbrev main_call25_call0_call0_v137 : Ref sig .tc := ⟨.hbm, 6657, rfl⟩
abbrev main_call25_call0_call0_v138 : Ref sig .tc := ⟨.hbm, 6658, rfl⟩
abbrev main_call25_call0_call0_v139 : Ref sig .tc := ⟨.hbm, 6659, rfl⟩
abbrev main_call25_call0_call0_c_35 : Ref sig .tc := ⟨.hbm, 6660, rfl⟩
abbrev main_call25_call0_call0_v140 : Ref sig .tc := ⟨.hbm, 6661, rfl⟩
abbrev main_call25_call0_call0_v141 : Ref sig .tc := ⟨.hbm, 6662, rfl⟩
abbrev main_call25_call0_call0_v142 : Ref sig .tc := ⟨.hbm, 6663, rfl⟩
abbrev main_call25_call0_call0_c_36 : Ref sig .tc := ⟨.hbm, 6664, rfl⟩
abbrev main_call25_call0_call0_v143 : Ref sig .tc := ⟨.hbm, 6665, rfl⟩
abbrev main_call25_call0_call0_v144 : Ref sig .tc := ⟨.hbm, 6666, rfl⟩
abbrev main_call25_call0_call0_c_37 : Ref sig .tc := ⟨.hbm, 6667, rfl⟩
abbrev main_call25_call0_call0_v145 : Ref sig .tc := ⟨.hbm, 6668, rfl⟩
abbrev main_call25_call0_call0_v146 : Ref sig .tc := ⟨.hbm, 6669, rfl⟩
abbrev main_call25_call0_call0_v147 : Ref sig .tc := ⟨.hbm, 6670, rfl⟩
abbrev main_call25_call0_call0_v148 : Ref sig .tc := ⟨.hbm, 6671, rfl⟩
abbrev main_call25_call0_call0_v149 : Ref sig .tc := ⟨.hbm, 6672, rfl⟩
abbrev main_call25_call0_call0_c_38 : Ref sig .tc := ⟨.hbm, 6673, rfl⟩
abbrev main_call25_call0_call0_v150 : Ref sig .tc := ⟨.hbm, 6674, rfl⟩
abbrev main_call25_call0_call0_v151 : Ref sig .tc := ⟨.hbm, 6675, rfl⟩
abbrev main_call25_call0_call0_c_39 : Ref sig .tc := ⟨.hbm, 6676, rfl⟩
abbrev main_call25_call0_call0_v152 : Ref sig .tc := ⟨.hbm, 6677, rfl⟩
abbrev main_call25_call0_call0_v153 : Ref sig .tc := ⟨.hbm, 6678, rfl⟩
abbrev main_call25_call0_call0_v154 : Ref sig .tc := ⟨.hbm, 6679, rfl⟩
abbrev main_call25_call0_call0_v155 : Ref sig .tc := ⟨.hbm, 6680, rfl⟩
abbrev main_call25_call0_call0_v156 : Ref sig .tc := ⟨.hbm, 6681, rfl⟩
abbrev main_call25_call0_call0_c_40 : Ref sig .tc := ⟨.hbm, 6682, rfl⟩
abbrev main_call25_call0_call0_v157 : Ref sig .tc := ⟨.hbm, 6683, rfl⟩
abbrev main_call25_call0_call0_v158 : Ref sig .tc := ⟨.hbm, 6684, rfl⟩
abbrev main_call25_call0_call0_c_41 : Ref sig .tc := ⟨.hbm, 6685, rfl⟩
abbrev main_call25_call0_call0_v159 : Ref sig .tc := ⟨.hbm, 6686, rfl⟩
abbrev main_call25_call0_call0_v160 : Ref sig .tc := ⟨.hbm, 6687, rfl⟩
abbrev main_call25_call0_call0_v161 : Ref sig .tc := ⟨.hbm, 6688, rfl⟩
abbrev main_call25_call0_call0_v162 : Ref sig .tc := ⟨.hbm, 6689, rfl⟩
abbrev main_call25_call0_call0_v163 : Ref sig .tc := ⟨.hbm, 6690, rfl⟩
abbrev main_call25_call0_call0_c_42 : Ref sig .tc := ⟨.hbm, 6691, rfl⟩
abbrev main_call25_call0_call0_v164 : Ref sig .tc := ⟨.hbm, 6692, rfl⟩
abbrev main_call25_call0_call0_v165 : Ref sig .tc := ⟨.hbm, 6693, rfl⟩
abbrev main_call25_call0_call0_c_43 : Ref sig .tc := ⟨.hbm, 6694, rfl⟩
abbrev main_call25_call0_call0_v166 : Ref sig .tc := ⟨.hbm, 6695, rfl⟩
abbrev main_call25_call0_call0_v167 : Ref sig .tc := ⟨.hbm, 6696, rfl⟩
abbrev main_call25_call0_call0_v168 : Ref sig .tc := ⟨.hbm, 6697, rfl⟩
abbrev main_call25_call0_call0_v169 : Ref sig .tc := ⟨.hbm, 6698, rfl⟩
abbrev main_call25_call0_call0_v170 : Ref sig .tc := ⟨.hbm, 6699, rfl⟩
abbrev main_call25_call0_v22_0 : Ref sig .tc := ⟨.hbm, 6700, rfl⟩
abbrev main_call25_call0_call0_v172 : Ref sig .tc := ⟨.hbm, 6701, rfl⟩
abbrev main_call25_call0_call0_v173 : Ref sig .tc := ⟨.hbm, 6702, rfl⟩
abbrev main_call25_call0_call0_c_44 : Ref sig .tc := ⟨.hbm, 6703, rfl⟩
abbrev main_call25_call0_call0_v174 : Ref sig .tc := ⟨.hbm, 6704, rfl⟩
abbrev main_call25_call0_v22_1 : Ref sig .tc := ⟨.hbm, 6705, rfl⟩
abbrev main_call25_call0_v23 : Ref sig .tc := ⟨.hbm, 6706, rfl⟩
abbrev main_call25_call0_c_3 : Ref sig .tc := ⟨.hbm, 6707, rfl⟩
abbrev main_call25_call0_v24 : Ref sig .tc := ⟨.hbm, 6708, rfl⟩
abbrev main_call25_call0_v25 : Ref sig .tc := ⟨.hbm, 6709, rfl⟩
abbrev main_call25_call0_c_4 : Ref sig .tc := ⟨.hbm, 6710, rfl⟩
abbrev main_call25_call0_v26 : Ref sig .tc := ⟨.hbm, 6711, rfl⟩
abbrev main_call25_call0_v27 : Ref sig .tc := ⟨.hbm, 6712, rfl⟩
abbrev main_call25_call0_v28 : Ref sig .tc := ⟨.hbm, 6713, rfl⟩
abbrev main_call25_call0_cst : Ref sig .tc := ⟨.hbm, 6714, rfl⟩
abbrev main_call25_call0_v29 : Ref sig .tc := ⟨.hbm, 6715, rfl⟩
abbrev main_call25_call0_v30 : Ref sig .tc := ⟨.hbm, 6716, rfl⟩
abbrev main_call25_call0_v31 : Ref sig .tc := ⟨.hbm, 6717, rfl⟩
abbrev main_call25_call0_v32 : Ref sig .tc := ⟨.hbm, 6718, rfl⟩
abbrev main_call25_call0_v33 : Ref sig .tc := ⟨.hbm, 6719, rfl⟩
abbrev main_call25_call0_v34 : Ref sig .tc := ⟨.hbm, 6720, rfl⟩
abbrev main_call25_call0_v35 : Ref sig .tc := ⟨.hbm, 6721, rfl⟩
abbrev main_call25_call0_v36 : Ref sig .tc := ⟨.hbm, 6722, rfl⟩
abbrev main_call25_v0 : Ref sig .tc := ⟨.hbm, 6723, rfl⟩
abbrev main_call25_v1 : Ref sig .tc := ⟨.hbm, 6724, rfl⟩
abbrev main_call25_v2 : Ref sig .tc := ⟨.hbm, 6725, rfl⟩
abbrev main_call25_v3 : Ref sig .tc := ⟨.hbm, 6726, rfl⟩
abbrev main_v86 : Ref sig .tc := ⟨.hbm, 6727, rfl⟩
abbrev main_cst_17 : Ref sig .tc := ⟨.hbm, 6728, rfl⟩
abbrev main_cst_18 : Ref sig .tc := ⟨.hbm, 6729, rfl⟩
abbrev main_call26_v0 : Ref sig .tc := ⟨.hbm, 6730, rfl⟩
abbrev main_call26_v1 : Ref sig .tc := ⟨.hbm, 6731, rfl⟩
abbrev main_call26_v2 : Ref sig .tc := ⟨.hbm, 6732, rfl⟩
abbrev main_call26_v3 : Ref sig .tc := ⟨.hbm, 6733, rfl⟩
abbrev main_call26_v4 : Ref sig .tc := ⟨.hbm, 6734, rfl⟩
abbrev main_call26_v5 : Ref sig .tc := ⟨.hbm, 6735, rfl⟩
abbrev main_call26_v6 : Ref sig .tc := ⟨.hbm, 6736, rfl⟩
abbrev main_call26_v7 : Ref sig .tc := ⟨.hbm, 6737, rfl⟩
abbrev main_call26_v8 : Ref sig .tc := ⟨.hbm, 6738, rfl⟩
abbrev main_call26_c : Ref sig .tc := ⟨.hbm, 6739, rfl⟩
abbrev main_call26_v9 : Ref sig .tc := ⟨.hbm, 6740, rfl⟩
abbrev main_call26_v10 : Ref sig .tc := ⟨.hbm, 6741, rfl⟩
abbrev main_call26_c_0 : Ref sig .tc := ⟨.hbm, 6742, rfl⟩
abbrev main_call26_v11 : Ref sig .tc := ⟨.hbm, 6743, rfl⟩
abbrev main_call26_v12 : Ref sig .tc := ⟨.hbm, 6744, rfl⟩
abbrev main_call26_v13 : Ref sig .tc := ⟨.hbm, 6745, rfl⟩
abbrev main_call26_v14 : Ref sig .tc := ⟨.hbm, 6746, rfl⟩
abbrev main_call26_call0_v0 : Ref sig .tc := ⟨.hbm, 6747, rfl⟩
abbrev main_call26_call0_c : Ref sig .tc := ⟨.hbm, 6748, rfl⟩
abbrev main_call26_call0_v1 : Ref sig .tc := ⟨.hbm, 6749, rfl⟩
abbrev main_call26_call0_v2 : Ref sig .tc := ⟨.hbm, 6750, rfl⟩
abbrev main_call26_call0_v3 : Ref sig .tc := ⟨.hbm, 6751, rfl⟩
abbrev main_call26_call0_v4 : Ref sig .tc := ⟨.hbm, 6752, rfl⟩
abbrev main_call26_call0_v5 : Ref sig .tc := ⟨.hbm, 6753, rfl⟩
abbrev main_call26_call0_v6 : Ref sig .tc := ⟨.hbm, 6754, rfl⟩
abbrev main_call26_call0_c_0 : Ref sig .tc := ⟨.hbm, 6755, rfl⟩
abbrev main_call26_call0_v7 : Ref sig .tc := ⟨.hbm, 6756, rfl⟩
abbrev main_call26_call0_v8 : Ref sig .tc := ⟨.hbm, 6757, rfl⟩
abbrev main_call26_call0_c_1 : Ref sig .tc := ⟨.hbm, 6758, rfl⟩
abbrev main_call26_call0_v9 : Ref sig .tc := ⟨.hbm, 6759, rfl⟩
abbrev main_call26_call0_v10 : Ref sig .tc := ⟨.hbm, 6760, rfl⟩
abbrev main_call26_call0_v11 : Ref sig .tc := ⟨.hbm, 6761, rfl⟩
abbrev main_call26_call0_v12 : Ref sig .tc := ⟨.hbm, 6762, rfl⟩
abbrev main_call26_call0_v13 : Ref sig .tc := ⟨.hbm, 6763, rfl⟩
abbrev main_call26_call0_c_2 : Ref sig .tc := ⟨.hbm, 6764, rfl⟩
abbrev main_call26_call0_v14 : Ref sig .tc := ⟨.hbm, 6765, rfl⟩
abbrev main_call26_call0_v15 : Ref sig .tc := ⟨.hbm, 6766, rfl⟩
abbrev main_call26_call0_c_3 : Ref sig .tc := ⟨.hbm, 6767, rfl⟩
abbrev main_call26_call0_v16 : Ref sig .tc := ⟨.hbm, 6768, rfl⟩
abbrev main_call26_call0_v17 : Ref sig .tc := ⟨.hbm, 6769, rfl⟩
abbrev main_call26_call0_v18 : Ref sig .tc := ⟨.hbm, 6770, rfl⟩
abbrev main_call26_call0_v19 : Ref sig .tc := ⟨.hbm, 6771, rfl⟩
abbrev main_call26_call0_v20 : Ref sig .tc := ⟨.hbm, 6772, rfl⟩
abbrev main_call26_call0_c_4 : Ref sig .tc := ⟨.hbm, 6773, rfl⟩
abbrev main_call26_call0_v21 : Ref sig .tc := ⟨.hbm, 6774, rfl⟩
abbrev main_call26_call0_v22 : Ref sig .tc := ⟨.hbm, 6775, rfl⟩
abbrev main_call26_call0_c_5 : Ref sig .tc := ⟨.hbm, 6776, rfl⟩
abbrev main_call26_call0_v23 : Ref sig .tc := ⟨.hbm, 6777, rfl⟩
abbrev main_call26_call0_v24 : Ref sig .tc := ⟨.hbm, 6778, rfl⟩
abbrev main_call26_call0_v25 : Ref sig .tc := ⟨.hbm, 6779, rfl⟩
abbrev main_call26_call0_v26 : Ref sig .tc := ⟨.hbm, 6780, rfl⟩
abbrev main_call26_call0_v27 : Ref sig .tc := ⟨.hbm, 6781, rfl⟩
abbrev main_call26_call0_c_6 : Ref sig .tc := ⟨.hbm, 6782, rfl⟩
abbrev main_call26_call0_v28 : Ref sig .tc := ⟨.hbm, 6783, rfl⟩
abbrev main_call26_call0_v29 : Ref sig .tc := ⟨.hbm, 6784, rfl⟩
abbrev main_call26_call0_c_7 : Ref sig .tc := ⟨.hbm, 6785, rfl⟩
abbrev main_call26_call0_v30 : Ref sig .tc := ⟨.hbm, 6786, rfl⟩
abbrev main_call26_call0_v31 : Ref sig .tc := ⟨.hbm, 6787, rfl⟩
abbrev main_call26_call0_v32 : Ref sig .tc := ⟨.hbm, 6788, rfl⟩
abbrev main_call26_call0_v33 : Ref sig .tc := ⟨.hbm, 6789, rfl⟩
abbrev main_call26_call0_v34 : Ref sig .tc := ⟨.hbm, 6790, rfl⟩
abbrev main_call26_call0_v35 : Ref sig .tc := ⟨.hbm, 6791, rfl⟩
abbrev main_call26_call0_v36 : Ref sig .tc := ⟨.hbm, 6792, rfl⟩
abbrev main_call26_call0_v37 : Ref sig .tc := ⟨.hbm, 6793, rfl⟩
abbrev main_call26_call0_c_8 : Ref sig .tc := ⟨.hbm, 6794, rfl⟩
abbrev main_call26_call0_v38 : Ref sig .tc := ⟨.hbm, 6795, rfl⟩
abbrev main_call26_call0_v39 : Ref sig .tc := ⟨.hbm, 6796, rfl⟩
abbrev main_call26_call0_v40 : Ref sig .tc := ⟨.hbm, 6797, rfl⟩
abbrev main_call26_call0_c_9 : Ref sig .tc := ⟨.hbm, 6798, rfl⟩
abbrev main_call26_call0_v41 : Ref sig .tc := ⟨.hbm, 6799, rfl⟩
abbrev main_call26_call0_v42 : Ref sig .tc := ⟨.hbm, 6800, rfl⟩
abbrev main_call26_call0_c_10 : Ref sig .tc := ⟨.hbm, 6801, rfl⟩
abbrev main_call26_call0_v43 : Ref sig .tc := ⟨.hbm, 6802, rfl⟩
abbrev main_call26_call0_v44 : Ref sig .tc := ⟨.hbm, 6803, rfl⟩
abbrev main_call26_call0_v45 : Ref sig .tc := ⟨.hbm, 6804, rfl⟩
abbrev main_call26_call0_v46 : Ref sig .tc := ⟨.hbm, 6805, rfl⟩
abbrev main_call26_call0_v47 : Ref sig .tc := ⟨.hbm, 6806, rfl⟩
abbrev main_call26_call0_c_11 : Ref sig .tc := ⟨.hbm, 6807, rfl⟩
abbrev main_call26_call0_v48 : Ref sig .tc := ⟨.hbm, 6808, rfl⟩
abbrev main_call26_call0_v49 : Ref sig .tc := ⟨.hbm, 6809, rfl⟩
abbrev main_call26_call0_c_12 : Ref sig .tc := ⟨.hbm, 6810, rfl⟩
abbrev main_call26_call0_v50 : Ref sig .tc := ⟨.hbm, 6811, rfl⟩
abbrev main_call26_call0_v51 : Ref sig .tc := ⟨.hbm, 6812, rfl⟩
abbrev main_call26_call0_v52 : Ref sig .tc := ⟨.hbm, 6813, rfl⟩
abbrev main_call26_call0_v53 : Ref sig .tc := ⟨.hbm, 6814, rfl⟩
abbrev main_call26_call0_v54 : Ref sig .tc := ⟨.hbm, 6815, rfl⟩
abbrev main_call26_call0_c_13 : Ref sig .tc := ⟨.hbm, 6816, rfl⟩
abbrev main_call26_call0_v55 : Ref sig .tc := ⟨.hbm, 6817, rfl⟩
abbrev main_call26_call0_v56 : Ref sig .tc := ⟨.hbm, 6818, rfl⟩
abbrev main_call26_call0_c_14 : Ref sig .tc := ⟨.hbm, 6819, rfl⟩
abbrev main_call26_call0_v57 : Ref sig .tc := ⟨.hbm, 6820, rfl⟩
abbrev main_call26_call0_v58 : Ref sig .tc := ⟨.hbm, 6821, rfl⟩
abbrev main_call26_call0_v59 : Ref sig .tc := ⟨.hbm, 6822, rfl⟩
abbrev main_call26_call0_v60 : Ref sig .tc := ⟨.hbm, 6823, rfl⟩
abbrev main_call26_call0_v61 : Ref sig .tc := ⟨.hbm, 6824, rfl⟩
abbrev main_call26_call0_c_15 : Ref sig .tc := ⟨.hbm, 6825, rfl⟩
abbrev main_call26_call0_v62 : Ref sig .tc := ⟨.hbm, 6826, rfl⟩
abbrev main_call26_call0_v63 : Ref sig .tc := ⟨.hbm, 6827, rfl⟩
abbrev main_call26_call0_c_16 : Ref sig .tc := ⟨.hbm, 6828, rfl⟩
abbrev main_call26_call0_v64 : Ref sig .tc := ⟨.hbm, 6829, rfl⟩
abbrev main_call26_call0_v65 : Ref sig .tc := ⟨.hbm, 6830, rfl⟩
abbrev main_call26_call0_v66 : Ref sig .tc := ⟨.hbm, 6831, rfl⟩
abbrev main_call26_call0_v67 : Ref sig .tc := ⟨.hbm, 6832, rfl⟩
abbrev main_call26_call0_v68 : Ref sig .tc := ⟨.hbm, 6833, rfl⟩
abbrev main_call26_call0_v69 : Ref sig .tc := ⟨.hbm, 6834, rfl⟩
abbrev main_call26_call0_v70 : Ref sig .tc := ⟨.hbm, 6835, rfl⟩
abbrev main_call26_call0_v71 : Ref sig .tc := ⟨.hbm, 6836, rfl⟩
abbrev main_call26_call0_c_17 : Ref sig .tc := ⟨.hbm, 6837, rfl⟩
abbrev main_call26_call0_v72 : Ref sig .tc := ⟨.hbm, 6838, rfl⟩
abbrev main_call26_call0_v73 : Ref sig .tc := ⟨.hbm, 6839, rfl⟩
abbrev main_call26_call0_v74 : Ref sig .tc := ⟨.hbm, 6840, rfl⟩
abbrev main_call26_call0_c_18 : Ref sig .tc := ⟨.hbm, 6841, rfl⟩
abbrev main_call26_call0_v75 : Ref sig .tc := ⟨.hbm, 6842, rfl⟩
abbrev main_call26_call0_v76 : Ref sig .tc := ⟨.hbm, 6843, rfl⟩
abbrev main_call26_call0_c_19 : Ref sig .tc := ⟨.hbm, 6844, rfl⟩
abbrev main_call26_call0_v77 : Ref sig .tc := ⟨.hbm, 6845, rfl⟩
abbrev main_call26_call0_v78 : Ref sig .tc := ⟨.hbm, 6846, rfl⟩
abbrev main_call26_call0_v79 : Ref sig .tc := ⟨.hbm, 6847, rfl⟩
abbrev main_call26_call0_v80 : Ref sig .tc := ⟨.hbm, 6848, rfl⟩
abbrev main_call26_call0_v81 : Ref sig .tc := ⟨.hbm, 6849, rfl⟩
abbrev main_call26_call0_c_20 : Ref sig .tc := ⟨.hbm, 6850, rfl⟩
abbrev main_call26_call0_v82 : Ref sig .tc := ⟨.hbm, 6851, rfl⟩
abbrev main_call26_call0_v83 : Ref sig .tc := ⟨.hbm, 6852, rfl⟩
abbrev main_call26_call0_c_21 : Ref sig .tc := ⟨.hbm, 6853, rfl⟩
abbrev main_call26_call0_v84 : Ref sig .tc := ⟨.hbm, 6854, rfl⟩
abbrev main_call26_call0_v85 : Ref sig .tc := ⟨.hbm, 6855, rfl⟩
abbrev main_call26_call0_v86 : Ref sig .tc := ⟨.hbm, 6856, rfl⟩
abbrev main_call26_call0_v87 : Ref sig .tc := ⟨.hbm, 6857, rfl⟩
abbrev main_call26_call0_v88 : Ref sig .tc := ⟨.hbm, 6858, rfl⟩
abbrev main_call26_call0_c_22 : Ref sig .tc := ⟨.hbm, 6859, rfl⟩
abbrev main_call26_call0_v89 : Ref sig .tc := ⟨.hbm, 6860, rfl⟩
abbrev main_call26_call0_v90 : Ref sig .tc := ⟨.hbm, 6861, rfl⟩
abbrev main_call26_call0_c_23 : Ref sig .tc := ⟨.hbm, 6862, rfl⟩
abbrev main_call26_call0_v91 : Ref sig .tc := ⟨.hbm, 6863, rfl⟩
abbrev main_call26_call0_v92 : Ref sig .tc := ⟨.hbm, 6864, rfl⟩
abbrev main_call26_call0_v93 : Ref sig .tc := ⟨.hbm, 6865, rfl⟩
abbrev main_call26_call0_v94 : Ref sig .tc := ⟨.hbm, 6866, rfl⟩
abbrev main_call26_call0_v95 : Ref sig .tc := ⟨.hbm, 6867, rfl⟩
abbrev main_call26_call0_c_24 : Ref sig .tc := ⟨.hbm, 6868, rfl⟩
abbrev main_call26_call0_v96 : Ref sig .tc := ⟨.hbm, 6869, rfl⟩
abbrev main_call26_call0_v97 : Ref sig .tc := ⟨.hbm, 6870, rfl⟩
abbrev main_call26_call0_c_25 : Ref sig .tc := ⟨.hbm, 6871, rfl⟩
abbrev main_call26_call0_v98 : Ref sig .tc := ⟨.hbm, 6872, rfl⟩
abbrev main_call26_call0_v99 : Ref sig .tc := ⟨.hbm, 6873, rfl⟩
abbrev main_call26_call0_v100 : Ref sig .tc := ⟨.hbm, 6874, rfl⟩
abbrev main_call26_call0_v101 : Ref sig .tc := ⟨.hbm, 6875, rfl⟩
abbrev main_call26_call0_v102 : Ref sig .tc := ⟨.hbm, 6876, rfl⟩
abbrev main_call26_call0_v103 : Ref sig .tc := ⟨.hbm, 6877, rfl⟩
abbrev main_call26_call0_v104 : Ref sig .tc := ⟨.hbm, 6878, rfl⟩
abbrev main_call26_call0_v105 : Ref sig .tc := ⟨.hbm, 6879, rfl⟩
abbrev main_call26_call0_c_26 : Ref sig .tc := ⟨.hbm, 6880, rfl⟩
abbrev main_call26_call0_v106 : Ref sig .tc := ⟨.hbm, 6881, rfl⟩
abbrev main_call26_call0_v107 : Ref sig .tc := ⟨.hbm, 6882, rfl⟩
abbrev main_call26_call0_v108 : Ref sig .tc := ⟨.hbm, 6883, rfl⟩
abbrev main_call26_call0_c_27 : Ref sig .tc := ⟨.hbm, 6884, rfl⟩
abbrev main_call26_call0_v109 : Ref sig .tc := ⟨.hbm, 6885, rfl⟩
abbrev main_call26_call0_v110 : Ref sig .tc := ⟨.hbm, 6886, rfl⟩
abbrev main_call26_call0_c_28 : Ref sig .tc := ⟨.hbm, 6887, rfl⟩
abbrev main_call26_call0_v111 : Ref sig .tc := ⟨.hbm, 6888, rfl⟩
abbrev main_call26_call0_v112 : Ref sig .tc := ⟨.hbm, 6889, rfl⟩
abbrev main_call26_call0_v113 : Ref sig .tc := ⟨.hbm, 6890, rfl⟩
abbrev main_call26_call0_v114 : Ref sig .tc := ⟨.hbm, 6891, rfl⟩
abbrev main_call26_call0_v115 : Ref sig .tc := ⟨.hbm, 6892, rfl⟩
abbrev main_call26_call0_c_29 : Ref sig .tc := ⟨.hbm, 6893, rfl⟩
abbrev main_call26_call0_v116 : Ref sig .tc := ⟨.hbm, 6894, rfl⟩
abbrev main_call26_call0_v117 : Ref sig .tc := ⟨.hbm, 6895, rfl⟩
abbrev main_call26_call0_c_30 : Ref sig .tc := ⟨.hbm, 6896, rfl⟩
abbrev main_call26_call0_v118 : Ref sig .tc := ⟨.hbm, 6897, rfl⟩
abbrev main_call26_call0_v119 : Ref sig .tc := ⟨.hbm, 6898, rfl⟩
abbrev main_call26_call0_v120 : Ref sig .tc := ⟨.hbm, 6899, rfl⟩
abbrev main_call26_call0_v121 : Ref sig .tc := ⟨.hbm, 6900, rfl⟩
abbrev main_call26_call0_v122 : Ref sig .tc := ⟨.hbm, 6901, rfl⟩
abbrev main_call26_call0_c_31 : Ref sig .tc := ⟨.hbm, 6902, rfl⟩
abbrev main_call26_call0_v123 : Ref sig .tc := ⟨.hbm, 6903, rfl⟩
abbrev main_call26_call0_v124 : Ref sig .tc := ⟨.hbm, 6904, rfl⟩
abbrev main_call26_call0_c_32 : Ref sig .tc := ⟨.hbm, 6905, rfl⟩
abbrev main_call26_call0_v125 : Ref sig .tc := ⟨.hbm, 6906, rfl⟩
abbrev main_call26_call0_v126 : Ref sig .tc := ⟨.hbm, 6907, rfl⟩
abbrev main_call26_call0_v127 : Ref sig .tc := ⟨.hbm, 6908, rfl⟩
abbrev main_call26_call0_v128 : Ref sig .tc := ⟨.hbm, 6909, rfl⟩
abbrev main_call26_call0_v129 : Ref sig .tc := ⟨.hbm, 6910, rfl⟩
abbrev main_call26_call0_c_33 : Ref sig .tc := ⟨.hbm, 6911, rfl⟩
abbrev main_call26_call0_v130 : Ref sig .tc := ⟨.hbm, 6912, rfl⟩
abbrev main_call26_call0_v131 : Ref sig .tc := ⟨.hbm, 6913, rfl⟩
abbrev main_call26_call0_c_34 : Ref sig .tc := ⟨.hbm, 6914, rfl⟩
abbrev main_call26_call0_v132 : Ref sig .tc := ⟨.hbm, 6915, rfl⟩
abbrev main_call26_call0_v133 : Ref sig .tc := ⟨.hbm, 6916, rfl⟩
abbrev main_call26_call0_v134 : Ref sig .tc := ⟨.hbm, 6917, rfl⟩
abbrev main_call26_call0_v135 : Ref sig .tc := ⟨.hbm, 6918, rfl⟩
abbrev main_call26_call0_v136 : Ref sig .tc := ⟨.hbm, 6919, rfl⟩
abbrev main_call26_call0_v137 : Ref sig .tc := ⟨.hbm, 6920, rfl⟩
abbrev main_call26_call0_v138 : Ref sig .tc := ⟨.hbm, 6921, rfl⟩
abbrev main_call26_call0_v139 : Ref sig .tc := ⟨.hbm, 6922, rfl⟩
abbrev main_call26_call0_c_35 : Ref sig .tc := ⟨.hbm, 6923, rfl⟩
abbrev main_call26_call0_v140 : Ref sig .tc := ⟨.hbm, 6924, rfl⟩
abbrev main_call26_call0_v141 : Ref sig .tc := ⟨.hbm, 6925, rfl⟩
abbrev main_call26_call0_v142 : Ref sig .tc := ⟨.hbm, 6926, rfl⟩
abbrev main_call26_call0_c_36 : Ref sig .tc := ⟨.hbm, 6927, rfl⟩
abbrev main_call26_call0_v143 : Ref sig .tc := ⟨.hbm, 6928, rfl⟩
abbrev main_call26_call0_v144 : Ref sig .tc := ⟨.hbm, 6929, rfl⟩
abbrev main_call26_call0_c_37 : Ref sig .tc := ⟨.hbm, 6930, rfl⟩
abbrev main_call26_call0_v145 : Ref sig .tc := ⟨.hbm, 6931, rfl⟩
abbrev main_call26_call0_v146 : Ref sig .tc := ⟨.hbm, 6932, rfl⟩
abbrev main_call26_call0_v147 : Ref sig .tc := ⟨.hbm, 6933, rfl⟩
abbrev main_call26_call0_v148 : Ref sig .tc := ⟨.hbm, 6934, rfl⟩
abbrev main_call26_call0_v149 : Ref sig .tc := ⟨.hbm, 6935, rfl⟩
abbrev main_call26_call0_c_38 : Ref sig .tc := ⟨.hbm, 6936, rfl⟩
abbrev main_call26_call0_v150 : Ref sig .tc := ⟨.hbm, 6937, rfl⟩
abbrev main_call26_call0_v151 : Ref sig .tc := ⟨.hbm, 6938, rfl⟩
abbrev main_call26_call0_c_39 : Ref sig .tc := ⟨.hbm, 6939, rfl⟩
abbrev main_call26_call0_v152 : Ref sig .tc := ⟨.hbm, 6940, rfl⟩
abbrev main_call26_call0_v153 : Ref sig .tc := ⟨.hbm, 6941, rfl⟩
abbrev main_call26_call0_v154 : Ref sig .tc := ⟨.hbm, 6942, rfl⟩
abbrev main_call26_call0_v155 : Ref sig .tc := ⟨.hbm, 6943, rfl⟩
abbrev main_call26_call0_v156 : Ref sig .tc := ⟨.hbm, 6944, rfl⟩
abbrev main_call26_call0_c_40 : Ref sig .tc := ⟨.hbm, 6945, rfl⟩
abbrev main_call26_call0_v157 : Ref sig .tc := ⟨.hbm, 6946, rfl⟩
abbrev main_call26_call0_v158 : Ref sig .tc := ⟨.hbm, 6947, rfl⟩
abbrev main_call26_call0_c_41 : Ref sig .tc := ⟨.hbm, 6948, rfl⟩
abbrev main_call26_call0_v159 : Ref sig .tc := ⟨.hbm, 6949, rfl⟩
abbrev main_call26_call0_v160 : Ref sig .tc := ⟨.hbm, 6950, rfl⟩
abbrev main_call26_call0_v161 : Ref sig .tc := ⟨.hbm, 6951, rfl⟩
abbrev main_call26_call0_v162 : Ref sig .tc := ⟨.hbm, 6952, rfl⟩
abbrev main_call26_call0_v163 : Ref sig .tc := ⟨.hbm, 6953, rfl⟩
abbrev main_call26_call0_c_42 : Ref sig .tc := ⟨.hbm, 6954, rfl⟩
abbrev main_call26_call0_v164 : Ref sig .tc := ⟨.hbm, 6955, rfl⟩
abbrev main_call26_call0_v165 : Ref sig .tc := ⟨.hbm, 6956, rfl⟩
abbrev main_call26_call0_c_43 : Ref sig .tc := ⟨.hbm, 6957, rfl⟩
abbrev main_call26_call0_v166 : Ref sig .tc := ⟨.hbm, 6958, rfl⟩
abbrev main_call26_call0_v167 : Ref sig .tc := ⟨.hbm, 6959, rfl⟩
abbrev main_call26_call0_v168 : Ref sig .tc := ⟨.hbm, 6960, rfl⟩
abbrev main_call26_call0_v169 : Ref sig .tc := ⟨.hbm, 6961, rfl⟩
abbrev main_call26_call0_v170 : Ref sig .tc := ⟨.hbm, 6962, rfl⟩
abbrev main_call26_v15_0 : Ref sig .tc := ⟨.hbm, 6963, rfl⟩
abbrev main_call26_call0_v172 : Ref sig .tc := ⟨.hbm, 6964, rfl⟩
abbrev main_call26_call0_v173 : Ref sig .tc := ⟨.hbm, 6965, rfl⟩
abbrev main_call26_call0_c_44 : Ref sig .tc := ⟨.hbm, 6966, rfl⟩
abbrev main_call26_call0_v174 : Ref sig .tc := ⟨.hbm, 6967, rfl⟩
abbrev main_call26_v15_1 : Ref sig .tc := ⟨.hbm, 6968, rfl⟩
abbrev main_call26_v16 : Ref sig .tc := ⟨.hbm, 6969, rfl⟩
abbrev main_call26_c_1 : Ref sig .tc := ⟨.hbm, 6970, rfl⟩
abbrev main_call26_v17 : Ref sig .tc := ⟨.hbm, 6971, rfl⟩
abbrev main_call26_v18 : Ref sig .tc := ⟨.hbm, 6972, rfl⟩
abbrev main_call26_c_2 : Ref sig .tc := ⟨.hbm, 6973, rfl⟩
abbrev main_call26_v19 : Ref sig .tc := ⟨.hbm, 6974, rfl⟩
abbrev main_call26_v20 : Ref sig .tc := ⟨.hbm, 6975, rfl⟩
abbrev main_call26_v21 : Ref sig .tc := ⟨.hbm, 6976, rfl⟩
abbrev main_call26_cst : Ref sig .tc := ⟨.hbm, 6977, rfl⟩
abbrev main_call26_v22 : Ref sig .tc := ⟨.hbm, 6978, rfl⟩
abbrev main_call26_v23 : Ref sig .tc := ⟨.hbm, 6979, rfl⟩
abbrev main_call26_v24 : Ref sig .tc := ⟨.hbm, 6980, rfl⟩
abbrev main_call26_v25 : Ref sig .tc := ⟨.hbm, 6981, rfl⟩
abbrev main_call26_v26 : Ref sig .tc := ⟨.hbm, 6982, rfl⟩
abbrev main_call26_v27 : Ref sig .tc := ⟨.hbm, 6983, rfl⟩
abbrev main_call26_v28 : Ref sig .tc := ⟨.hbm, 6984, rfl⟩
abbrev main_call26_v29 : Ref sig .tc := ⟨.hbm, 6985, rfl⟩
abbrev main_v87 : Ref sig .tc := ⟨.hbm, 6986, rfl⟩
abbrev main_call27_v0 : Ref sig .tc := ⟨.hbm, 6987, rfl⟩
abbrev main_call27_v1 : Ref sig .tc := ⟨.hbm, 6988, rfl⟩
abbrev main_call27_v2 : Ref sig .tc := ⟨.hbm, 6989, rfl⟩
abbrev main_call27_v3 : Ref sig .tc := ⟨.hbm, 6990, rfl⟩
abbrev main_call27_v4 : Ref sig .tc := ⟨.hbm, 6991, rfl⟩
abbrev main_call27_c : Ref sig .tc := ⟨.hbm, 6992, rfl⟩
abbrev main_call27_v5 : Ref sig .tc := ⟨.hbm, 6993, rfl⟩
abbrev main_call27_v6 : Ref sig .tc := ⟨.hbm, 6994, rfl⟩
abbrev main_call27_c_0 : Ref sig .tc := ⟨.hbm, 6995, rfl⟩
abbrev main_call27_v7 : Ref sig .tc := ⟨.hbm, 6996, rfl⟩
abbrev main_call27_v8 : Ref sig .tc := ⟨.hbm, 6997, rfl⟩
abbrev main_call27_v9 : Ref sig .tc := ⟨.hbm, 6998, rfl⟩
abbrev main_call27_v10 : Ref sig .tc := ⟨.hbm, 6999, rfl⟩
abbrev main_call27_call0_v0 : Ref sig .tc := ⟨.hbm, 7000, rfl⟩
abbrev main_call27_call0_c : Ref sig .tc := ⟨.hbm, 7001, rfl⟩
abbrev main_call27_call0_v1 : Ref sig .tc := ⟨.hbm, 7002, rfl⟩
abbrev main_call27_call0_v2 : Ref sig .tc := ⟨.hbm, 7003, rfl⟩
abbrev main_call27_call0_v3 : Ref sig .tc := ⟨.hbm, 7004, rfl⟩
abbrev main_call27_call0_v4 : Ref sig .tc := ⟨.hbm, 7005, rfl⟩
abbrev main_call27_call0_v5 : Ref sig .tc := ⟨.hbm, 7006, rfl⟩
abbrev main_call27_call0_v6 : Ref sig .tc := ⟨.hbm, 7007, rfl⟩
abbrev main_call27_call0_c_0 : Ref sig .tc := ⟨.hbm, 7008, rfl⟩
abbrev main_call27_call0_v7 : Ref sig .tc := ⟨.hbm, 7009, rfl⟩
abbrev main_call27_call0_v8 : Ref sig .tc := ⟨.hbm, 7010, rfl⟩
abbrev main_call27_call0_c_1 : Ref sig .tc := ⟨.hbm, 7011, rfl⟩
abbrev main_call27_call0_v9 : Ref sig .tc := ⟨.hbm, 7012, rfl⟩
abbrev main_call27_call0_v10 : Ref sig .tc := ⟨.hbm, 7013, rfl⟩
abbrev main_call27_call0_v11 : Ref sig .tc := ⟨.hbm, 7014, rfl⟩
abbrev main_call27_call0_v12 : Ref sig .tc := ⟨.hbm, 7015, rfl⟩
abbrev main_call27_call0_v13 : Ref sig .tc := ⟨.hbm, 7016, rfl⟩
abbrev main_call27_call0_c_2 : Ref sig .tc := ⟨.hbm, 7017, rfl⟩
abbrev main_call27_call0_v14 : Ref sig .tc := ⟨.hbm, 7018, rfl⟩
abbrev main_call27_call0_v15 : Ref sig .tc := ⟨.hbm, 7019, rfl⟩
abbrev main_call27_call0_c_3 : Ref sig .tc := ⟨.hbm, 7020, rfl⟩
abbrev main_call27_call0_v16 : Ref sig .tc := ⟨.hbm, 7021, rfl⟩
abbrev main_call27_call0_v17 : Ref sig .tc := ⟨.hbm, 7022, rfl⟩
abbrev main_call27_call0_v18 : Ref sig .tc := ⟨.hbm, 7023, rfl⟩
abbrev main_call27_call0_v19 : Ref sig .tc := ⟨.hbm, 7024, rfl⟩
abbrev main_call27_call0_v20 : Ref sig .tc := ⟨.hbm, 7025, rfl⟩
abbrev main_call27_call0_c_4 : Ref sig .tc := ⟨.hbm, 7026, rfl⟩
abbrev main_call27_call0_v21 : Ref sig .tc := ⟨.hbm, 7027, rfl⟩
abbrev main_call27_call0_v22 : Ref sig .tc := ⟨.hbm, 7028, rfl⟩
abbrev main_call27_call0_c_5 : Ref sig .tc := ⟨.hbm, 7029, rfl⟩
abbrev main_call27_call0_v23 : Ref sig .tc := ⟨.hbm, 7030, rfl⟩
abbrev main_call27_call0_v24 : Ref sig .tc := ⟨.hbm, 7031, rfl⟩
abbrev main_call27_call0_v25 : Ref sig .tc := ⟨.hbm, 7032, rfl⟩
abbrev main_call27_call0_v26 : Ref sig .tc := ⟨.hbm, 7033, rfl⟩
abbrev main_call27_call0_v27 : Ref sig .tc := ⟨.hbm, 7034, rfl⟩
abbrev main_call27_call0_c_6 : Ref sig .tc := ⟨.hbm, 7035, rfl⟩
abbrev main_call27_call0_v28 : Ref sig .tc := ⟨.hbm, 7036, rfl⟩
abbrev main_call27_call0_v29 : Ref sig .tc := ⟨.hbm, 7037, rfl⟩
abbrev main_call27_call0_c_7 : Ref sig .tc := ⟨.hbm, 7038, rfl⟩
abbrev main_call27_call0_v30 : Ref sig .tc := ⟨.hbm, 7039, rfl⟩
abbrev main_call27_call0_v31 : Ref sig .tc := ⟨.hbm, 7040, rfl⟩
abbrev main_call27_call0_v32 : Ref sig .tc := ⟨.hbm, 7041, rfl⟩
abbrev main_call27_call0_v33 : Ref sig .tc := ⟨.hbm, 7042, rfl⟩
abbrev main_call27_call0_v34 : Ref sig .tc := ⟨.hbm, 7043, rfl⟩
abbrev main_call27_call0_v35 : Ref sig .tc := ⟨.hbm, 7044, rfl⟩
abbrev main_call27_call0_v36 : Ref sig .tc := ⟨.hbm, 7045, rfl⟩
abbrev main_call27_call0_v37 : Ref sig .tc := ⟨.hbm, 7046, rfl⟩
abbrev main_call27_call0_c_8 : Ref sig .tc := ⟨.hbm, 7047, rfl⟩
abbrev main_call27_call0_v38 : Ref sig .tc := ⟨.hbm, 7048, rfl⟩
abbrev main_call27_call0_v39 : Ref sig .tc := ⟨.hbm, 7049, rfl⟩
abbrev main_call27_call0_v40 : Ref sig .tc := ⟨.hbm, 7050, rfl⟩
abbrev main_call27_call0_c_9 : Ref sig .tc := ⟨.hbm, 7051, rfl⟩
abbrev main_call27_call0_v41 : Ref sig .tc := ⟨.hbm, 7052, rfl⟩
abbrev main_call27_call0_v42 : Ref sig .tc := ⟨.hbm, 7053, rfl⟩
abbrev main_call27_call0_c_10 : Ref sig .tc := ⟨.hbm, 7054, rfl⟩
abbrev main_call27_call0_v43 : Ref sig .tc := ⟨.hbm, 7055, rfl⟩
abbrev main_call27_call0_v44 : Ref sig .tc := ⟨.hbm, 7056, rfl⟩
abbrev main_call27_call0_v45 : Ref sig .tc := ⟨.hbm, 7057, rfl⟩
abbrev main_call27_call0_v46 : Ref sig .tc := ⟨.hbm, 7058, rfl⟩
abbrev main_call27_call0_v47 : Ref sig .tc := ⟨.hbm, 7059, rfl⟩
abbrev main_call27_call0_c_11 : Ref sig .tc := ⟨.hbm, 7060, rfl⟩
abbrev main_call27_call0_v48 : Ref sig .tc := ⟨.hbm, 7061, rfl⟩
abbrev main_call27_call0_v49 : Ref sig .tc := ⟨.hbm, 7062, rfl⟩
abbrev main_call27_call0_c_12 : Ref sig .tc := ⟨.hbm, 7063, rfl⟩
abbrev main_call27_call0_v50 : Ref sig .tc := ⟨.hbm, 7064, rfl⟩
abbrev main_call27_call0_v51 : Ref sig .tc := ⟨.hbm, 7065, rfl⟩
abbrev main_call27_call0_v52 : Ref sig .tc := ⟨.hbm, 7066, rfl⟩
abbrev main_call27_call0_v53 : Ref sig .tc := ⟨.hbm, 7067, rfl⟩
abbrev main_call27_call0_v54 : Ref sig .tc := ⟨.hbm, 7068, rfl⟩
abbrev main_call27_call0_c_13 : Ref sig .tc := ⟨.hbm, 7069, rfl⟩
abbrev main_call27_call0_v55 : Ref sig .tc := ⟨.hbm, 7070, rfl⟩
abbrev main_call27_call0_v56 : Ref sig .tc := ⟨.hbm, 7071, rfl⟩
abbrev main_call27_call0_c_14 : Ref sig .tc := ⟨.hbm, 7072, rfl⟩
abbrev main_call27_call0_v57 : Ref sig .tc := ⟨.hbm, 7073, rfl⟩
abbrev main_call27_call0_v58 : Ref sig .tc := ⟨.hbm, 7074, rfl⟩
abbrev main_call27_call0_v59 : Ref sig .tc := ⟨.hbm, 7075, rfl⟩
abbrev main_call27_call0_v60 : Ref sig .tc := ⟨.hbm, 7076, rfl⟩
abbrev main_call27_call0_v61 : Ref sig .tc := ⟨.hbm, 7077, rfl⟩
abbrev main_call27_call0_c_15 : Ref sig .tc := ⟨.hbm, 7078, rfl⟩
abbrev main_call27_call0_v62 : Ref sig .tc := ⟨.hbm, 7079, rfl⟩
abbrev main_call27_call0_v63 : Ref sig .tc := ⟨.hbm, 7080, rfl⟩
abbrev main_call27_call0_c_16 : Ref sig .tc := ⟨.hbm, 7081, rfl⟩
abbrev main_call27_call0_v64 : Ref sig .tc := ⟨.hbm, 7082, rfl⟩
abbrev main_call27_call0_v65 : Ref sig .tc := ⟨.hbm, 7083, rfl⟩
abbrev main_call27_call0_v66 : Ref sig .tc := ⟨.hbm, 7084, rfl⟩
abbrev main_call27_call0_v67 : Ref sig .tc := ⟨.hbm, 7085, rfl⟩
abbrev main_call27_call0_v68 : Ref sig .tc := ⟨.hbm, 7086, rfl⟩
abbrev main_call27_call0_v69 : Ref sig .tc := ⟨.hbm, 7087, rfl⟩
abbrev main_call27_call0_v70 : Ref sig .tc := ⟨.hbm, 7088, rfl⟩
abbrev main_call27_call0_v71 : Ref sig .tc := ⟨.hbm, 7089, rfl⟩
abbrev main_call27_call0_c_17 : Ref sig .tc := ⟨.hbm, 7090, rfl⟩
abbrev main_call27_call0_v72 : Ref sig .tc := ⟨.hbm, 7091, rfl⟩
abbrev main_call27_call0_v73 : Ref sig .tc := ⟨.hbm, 7092, rfl⟩
abbrev main_call27_call0_v74 : Ref sig .tc := ⟨.hbm, 7093, rfl⟩
abbrev main_call27_call0_c_18 : Ref sig .tc := ⟨.hbm, 7094, rfl⟩
abbrev main_call27_call0_v75 : Ref sig .tc := ⟨.hbm, 7095, rfl⟩
abbrev main_call27_call0_v76 : Ref sig .tc := ⟨.hbm, 7096, rfl⟩
abbrev main_call27_call0_c_19 : Ref sig .tc := ⟨.hbm, 7097, rfl⟩
abbrev main_call27_call0_v77 : Ref sig .tc := ⟨.hbm, 7098, rfl⟩
abbrev main_call27_call0_v78 : Ref sig .tc := ⟨.hbm, 7099, rfl⟩
abbrev main_call27_call0_v79 : Ref sig .tc := ⟨.hbm, 7100, rfl⟩
abbrev main_call27_call0_v80 : Ref sig .tc := ⟨.hbm, 7101, rfl⟩
abbrev main_call27_call0_v81 : Ref sig .tc := ⟨.hbm, 7102, rfl⟩
abbrev main_call27_call0_c_20 : Ref sig .tc := ⟨.hbm, 7103, rfl⟩
abbrev main_call27_call0_v82 : Ref sig .tc := ⟨.hbm, 7104, rfl⟩
abbrev main_call27_call0_v83 : Ref sig .tc := ⟨.hbm, 7105, rfl⟩
abbrev main_call27_call0_c_21 : Ref sig .tc := ⟨.hbm, 7106, rfl⟩
abbrev main_call27_call0_v84 : Ref sig .tc := ⟨.hbm, 7107, rfl⟩
abbrev main_call27_call0_v85 : Ref sig .tc := ⟨.hbm, 7108, rfl⟩
abbrev main_call27_call0_v86 : Ref sig .tc := ⟨.hbm, 7109, rfl⟩
abbrev main_call27_call0_v87 : Ref sig .tc := ⟨.hbm, 7110, rfl⟩
abbrev main_call27_call0_v88 : Ref sig .tc := ⟨.hbm, 7111, rfl⟩
abbrev main_call27_call0_c_22 : Ref sig .tc := ⟨.hbm, 7112, rfl⟩
abbrev main_call27_call0_v89 : Ref sig .tc := ⟨.hbm, 7113, rfl⟩
abbrev main_call27_call0_v90 : Ref sig .tc := ⟨.hbm, 7114, rfl⟩
abbrev main_call27_call0_c_23 : Ref sig .tc := ⟨.hbm, 7115, rfl⟩
abbrev main_call27_call0_v91 : Ref sig .tc := ⟨.hbm, 7116, rfl⟩
abbrev main_call27_call0_v92 : Ref sig .tc := ⟨.hbm, 7117, rfl⟩
abbrev main_call27_call0_v93 : Ref sig .tc := ⟨.hbm, 7118, rfl⟩
abbrev main_call27_call0_v94 : Ref sig .tc := ⟨.hbm, 7119, rfl⟩
abbrev main_call27_call0_v95 : Ref sig .tc := ⟨.hbm, 7120, rfl⟩
abbrev main_call27_call0_c_24 : Ref sig .tc := ⟨.hbm, 7121, rfl⟩
abbrev main_call27_call0_v96 : Ref sig .tc := ⟨.hbm, 7122, rfl⟩
abbrev main_call27_call0_v97 : Ref sig .tc := ⟨.hbm, 7123, rfl⟩
abbrev main_call27_call0_c_25 : Ref sig .tc := ⟨.hbm, 7124, rfl⟩
abbrev main_call27_call0_v98 : Ref sig .tc := ⟨.hbm, 7125, rfl⟩
abbrev main_call27_call0_v99 : Ref sig .tc := ⟨.hbm, 7126, rfl⟩
abbrev main_call27_call0_v100 : Ref sig .tc := ⟨.hbm, 7127, rfl⟩
abbrev main_call27_call0_v101 : Ref sig .tc := ⟨.hbm, 7128, rfl⟩
abbrev main_call27_call0_v102 : Ref sig .tc := ⟨.hbm, 7129, rfl⟩
abbrev main_call27_call0_v103 : Ref sig .tc := ⟨.hbm, 7130, rfl⟩
abbrev main_call27_call0_v104 : Ref sig .tc := ⟨.hbm, 7131, rfl⟩
abbrev main_call27_call0_v105 : Ref sig .tc := ⟨.hbm, 7132, rfl⟩
abbrev main_call27_call0_c_26 : Ref sig .tc := ⟨.hbm, 7133, rfl⟩
abbrev main_call27_call0_v106 : Ref sig .tc := ⟨.hbm, 7134, rfl⟩
abbrev main_call27_call0_v107 : Ref sig .tc := ⟨.hbm, 7135, rfl⟩
abbrev main_call27_call0_v108 : Ref sig .tc := ⟨.hbm, 7136, rfl⟩
abbrev main_call27_call0_c_27 : Ref sig .tc := ⟨.hbm, 7137, rfl⟩
abbrev main_call27_call0_v109 : Ref sig .tc := ⟨.hbm, 7138, rfl⟩
abbrev main_call27_call0_v110 : Ref sig .tc := ⟨.hbm, 7139, rfl⟩
abbrev main_call27_call0_c_28 : Ref sig .tc := ⟨.hbm, 7140, rfl⟩
abbrev main_call27_call0_v111 : Ref sig .tc := ⟨.hbm, 7141, rfl⟩
abbrev main_call27_call0_v112 : Ref sig .tc := ⟨.hbm, 7142, rfl⟩
abbrev main_call27_call0_v113 : Ref sig .tc := ⟨.hbm, 7143, rfl⟩
abbrev main_call27_call0_v114 : Ref sig .tc := ⟨.hbm, 7144, rfl⟩
abbrev main_call27_call0_v115 : Ref sig .tc := ⟨.hbm, 7145, rfl⟩
abbrev main_call27_call0_c_29 : Ref sig .tc := ⟨.hbm, 7146, rfl⟩
abbrev main_call27_call0_v116 : Ref sig .tc := ⟨.hbm, 7147, rfl⟩
abbrev main_call27_call0_v117 : Ref sig .tc := ⟨.hbm, 7148, rfl⟩
abbrev main_call27_call0_c_30 : Ref sig .tc := ⟨.hbm, 7149, rfl⟩
abbrev main_call27_call0_v118 : Ref sig .tc := ⟨.hbm, 7150, rfl⟩
abbrev main_call27_call0_v119 : Ref sig .tc := ⟨.hbm, 7151, rfl⟩
abbrev main_call27_call0_v120 : Ref sig .tc := ⟨.hbm, 7152, rfl⟩
abbrev main_call27_call0_v121 : Ref sig .tc := ⟨.hbm, 7153, rfl⟩
abbrev main_call27_call0_v122 : Ref sig .tc := ⟨.hbm, 7154, rfl⟩
abbrev main_call27_call0_c_31 : Ref sig .tc := ⟨.hbm, 7155, rfl⟩
abbrev main_call27_call0_v123 : Ref sig .tc := ⟨.hbm, 7156, rfl⟩
abbrev main_call27_call0_v124 : Ref sig .tc := ⟨.hbm, 7157, rfl⟩
abbrev main_call27_call0_c_32 : Ref sig .tc := ⟨.hbm, 7158, rfl⟩
abbrev main_call27_call0_v125 : Ref sig .tc := ⟨.hbm, 7159, rfl⟩
abbrev main_call27_call0_v126 : Ref sig .tc := ⟨.hbm, 7160, rfl⟩
abbrev main_call27_call0_v127 : Ref sig .tc := ⟨.hbm, 7161, rfl⟩
abbrev main_call27_call0_v128 : Ref sig .tc := ⟨.hbm, 7162, rfl⟩
abbrev main_call27_call0_v129 : Ref sig .tc := ⟨.hbm, 7163, rfl⟩
abbrev main_call27_call0_c_33 : Ref sig .tc := ⟨.hbm, 7164, rfl⟩
abbrev main_call27_call0_v130 : Ref sig .tc := ⟨.hbm, 7165, rfl⟩
abbrev main_call27_call0_v131 : Ref sig .tc := ⟨.hbm, 7166, rfl⟩
abbrev main_call27_call0_c_34 : Ref sig .tc := ⟨.hbm, 7167, rfl⟩
abbrev main_call27_call0_v132 : Ref sig .tc := ⟨.hbm, 7168, rfl⟩
abbrev main_call27_call0_v133 : Ref sig .tc := ⟨.hbm, 7169, rfl⟩
abbrev main_call27_call0_v134 : Ref sig .tc := ⟨.hbm, 7170, rfl⟩
abbrev main_call27_call0_v135 : Ref sig .tc := ⟨.hbm, 7171, rfl⟩
abbrev main_call27_call0_v136 : Ref sig .tc := ⟨.hbm, 7172, rfl⟩
abbrev main_call27_call0_v137 : Ref sig .tc := ⟨.hbm, 7173, rfl⟩
abbrev main_call27_call0_v138 : Ref sig .tc := ⟨.hbm, 7174, rfl⟩
abbrev main_call27_call0_v139 : Ref sig .tc := ⟨.hbm, 7175, rfl⟩
abbrev main_call27_call0_c_35 : Ref sig .tc := ⟨.hbm, 7176, rfl⟩
abbrev main_call27_call0_v140 : Ref sig .tc := ⟨.hbm, 7177, rfl⟩
abbrev main_call27_call0_v141 : Ref sig .tc := ⟨.hbm, 7178, rfl⟩
abbrev main_call27_call0_v142 : Ref sig .tc := ⟨.hbm, 7179, rfl⟩
abbrev main_call27_call0_c_36 : Ref sig .tc := ⟨.hbm, 7180, rfl⟩
abbrev main_call27_call0_v143 : Ref sig .tc := ⟨.hbm, 7181, rfl⟩
abbrev main_call27_call0_v144 : Ref sig .tc := ⟨.hbm, 7182, rfl⟩
abbrev main_call27_call0_c_37 : Ref sig .tc := ⟨.hbm, 7183, rfl⟩
abbrev main_call27_call0_v145 : Ref sig .tc := ⟨.hbm, 7184, rfl⟩
abbrev main_call27_call0_v146 : Ref sig .tc := ⟨.hbm, 7185, rfl⟩
abbrev main_call27_call0_v147 : Ref sig .tc := ⟨.hbm, 7186, rfl⟩
abbrev main_call27_call0_v148 : Ref sig .tc := ⟨.hbm, 7187, rfl⟩
abbrev main_call27_call0_v149 : Ref sig .tc := ⟨.hbm, 7188, rfl⟩
abbrev main_call27_call0_c_38 : Ref sig .tc := ⟨.hbm, 7189, rfl⟩
abbrev main_call27_call0_v150 : Ref sig .tc := ⟨.hbm, 7190, rfl⟩
abbrev main_call27_call0_v151 : Ref sig .tc := ⟨.hbm, 7191, rfl⟩
abbrev main_call27_call0_c_39 : Ref sig .tc := ⟨.hbm, 7192, rfl⟩
abbrev main_call27_call0_v152 : Ref sig .tc := ⟨.hbm, 7193, rfl⟩
abbrev main_call27_call0_v153 : Ref sig .tc := ⟨.hbm, 7194, rfl⟩
abbrev main_call27_call0_v154 : Ref sig .tc := ⟨.hbm, 7195, rfl⟩
abbrev main_call27_call0_v155 : Ref sig .tc := ⟨.hbm, 7196, rfl⟩
abbrev main_call27_call0_v156 : Ref sig .tc := ⟨.hbm, 7197, rfl⟩
abbrev main_call27_call0_c_40 : Ref sig .tc := ⟨.hbm, 7198, rfl⟩
abbrev main_call27_call0_v157 : Ref sig .tc := ⟨.hbm, 7199, rfl⟩
abbrev main_call27_call0_v158 : Ref sig .tc := ⟨.hbm, 7200, rfl⟩
abbrev main_call27_call0_c_41 : Ref sig .tc := ⟨.hbm, 7201, rfl⟩
abbrev main_call27_call0_v159 : Ref sig .tc := ⟨.hbm, 7202, rfl⟩
abbrev main_call27_call0_v160 : Ref sig .tc := ⟨.hbm, 7203, rfl⟩
abbrev main_call27_call0_v161 : Ref sig .tc := ⟨.hbm, 7204, rfl⟩
abbrev main_call27_call0_v162 : Ref sig .tc := ⟨.hbm, 7205, rfl⟩
abbrev main_call27_call0_v163 : Ref sig .tc := ⟨.hbm, 7206, rfl⟩
abbrev main_call27_call0_c_42 : Ref sig .tc := ⟨.hbm, 7207, rfl⟩
abbrev main_call27_call0_v164 : Ref sig .tc := ⟨.hbm, 7208, rfl⟩
abbrev main_call27_call0_v165 : Ref sig .tc := ⟨.hbm, 7209, rfl⟩
abbrev main_call27_call0_c_43 : Ref sig .tc := ⟨.hbm, 7210, rfl⟩
abbrev main_call27_call0_v166 : Ref sig .tc := ⟨.hbm, 7211, rfl⟩
abbrev main_call27_call0_v167 : Ref sig .tc := ⟨.hbm, 7212, rfl⟩
abbrev main_call27_call0_v168 : Ref sig .tc := ⟨.hbm, 7213, rfl⟩
abbrev main_call27_call0_v169 : Ref sig .tc := ⟨.hbm, 7214, rfl⟩
abbrev main_call27_call0_v170 : Ref sig .tc := ⟨.hbm, 7215, rfl⟩
abbrev main_call27_v11_0 : Ref sig .tc := ⟨.hbm, 7216, rfl⟩
abbrev main_call27_call0_v172 : Ref sig .tc := ⟨.hbm, 7217, rfl⟩
abbrev main_call27_call0_v173 : Ref sig .tc := ⟨.hbm, 7218, rfl⟩
abbrev main_call27_call0_c_44 : Ref sig .tc := ⟨.hbm, 7219, rfl⟩
abbrev main_call27_call0_v174 : Ref sig .tc := ⟨.hbm, 7220, rfl⟩
abbrev main_call27_v11_1 : Ref sig .tc := ⟨.hbm, 7221, rfl⟩
abbrev main_call27_v12 : Ref sig .tc := ⟨.hbm, 7222, rfl⟩
abbrev main_call27_v13 : Ref sig .tc := ⟨.hbm, 7223, rfl⟩
abbrev main_v88 : Ref sig .tc := ⟨.hbm, 7224, rfl⟩
abbrev main_v89 : Ref sig .tc := ⟨.hbm, 7225, rfl⟩
abbrev main_v90 : Ref sig .tc := ⟨.hbm, 7226, rfl⟩
abbrev main_v91 : Ref sig .tc := ⟨.hbm, 7227, rfl⟩
abbrev main_v92 : Ref sig .tc := ⟨.hbm, 7228, rfl⟩
abbrev main_v93 : Ref sig .tc := ⟨.hbm, 7229, rfl⟩
abbrev main_v94 : Ref sig .tc := ⟨.hbm, 7230, rfl⟩
abbrev main_call28_cst : Ref sig .tc := ⟨.hbm, 7231, rfl⟩
abbrev main_call28_cst_0 : Ref sig .tc := ⟨.hbm, 7232, rfl⟩
abbrev main_call28_call0_v0 : Ref sig .tc := ⟨.hbm, 7233, rfl⟩
abbrev main_call28_call0_v1 : Ref sig .tc := ⟨.hbm, 7234, rfl⟩
abbrev main_call28_call0_v2 : Ref sig .tc := ⟨.hbm, 7235, rfl⟩
abbrev main_call28_call0_v3 : Ref sig .tc := ⟨.hbm, 7236, rfl⟩
abbrev main_call28_call0_v4 : Ref sig .tc := ⟨.hbm, 7237, rfl⟩
abbrev main_call28_call0_v5 : Ref sig .tc := ⟨.hbm, 7238, rfl⟩
abbrev main_call28_call0_v6 : Ref sig .tc := ⟨.hbm, 7239, rfl⟩
abbrev main_call28_call0_v7 : Ref sig .tc := ⟨.hbm, 7240, rfl⟩
abbrev main_call28_call0_v8 : Ref sig .tc := ⟨.hbm, 7241, rfl⟩
abbrev main_call28_call0_v9 : Ref sig .tc := ⟨.hbm, 7242, rfl⟩
abbrev main_call28_call0_c : Ref sig .tc := ⟨.hbm, 7243, rfl⟩
abbrev main_call28_call0_v10 : Ref sig .tc := ⟨.hbm, 7244, rfl⟩
abbrev main_call28_call0_v11 : Ref sig .tc := ⟨.hbm, 7245, rfl⟩
abbrev main_call28_call0_c_0 : Ref sig .tc := ⟨.hbm, 7246, rfl⟩
abbrev main_call28_call0_v12 : Ref sig .tc := ⟨.hbm, 7247, rfl⟩
abbrev main_call28_call0_v13 : Ref sig .tc := ⟨.hbm, 7248, rfl⟩
abbrev main_call28_call0_c_1 : Ref sig .tc := ⟨.hbm, 7249, rfl⟩
abbrev main_call28_call0_v14 : Ref sig .tc := ⟨.hbm, 7250, rfl⟩
abbrev main_call28_call0_v15 : Ref sig .tc := ⟨.hbm, 7251, rfl⟩
abbrev main_call28_call0_v16 : Ref sig .tc := ⟨.hbm, 7252, rfl⟩
abbrev main_call28_call0_v17 : Ref sig .tc := ⟨.hbm, 7253, rfl⟩
abbrev main_call28_call0_c_2 : Ref sig .tc := ⟨.hbm, 7254, rfl⟩
abbrev main_call28_call0_v18 : Ref sig .tc := ⟨.hbm, 7255, rfl⟩
abbrev main_call28_call0_v19 : Ref sig .tc := ⟨.hbm, 7256, rfl⟩
abbrev main_call28_call0_v20 : Ref sig .tc := ⟨.hbm, 7257, rfl⟩
abbrev main_call28_call0_v21 : Ref sig .tc := ⟨.hbm, 7258, rfl⟩
abbrev main_call28_call0_call0_v0 : Ref sig .tc := ⟨.hbm, 7259, rfl⟩
abbrev main_call28_call0_call0_c : Ref sig .tc := ⟨.hbm, 7260, rfl⟩
abbrev main_call28_call0_call0_v1 : Ref sig .tc := ⟨.hbm, 7261, rfl⟩
abbrev main_call28_call0_call0_v2 : Ref sig .tc := ⟨.hbm, 7262, rfl⟩
abbrev main_call28_call0_call0_v3 : Ref sig .tc := ⟨.hbm, 7263, rfl⟩
abbrev main_call28_call0_call0_v4 : Ref sig .tc := ⟨.hbm, 7264, rfl⟩
abbrev main_call28_call0_call0_v5 : Ref sig .tc := ⟨.hbm, 7265, rfl⟩
abbrev main_call28_call0_call0_v6 : Ref sig .tc := ⟨.hbm, 7266, rfl⟩
abbrev main_call28_call0_call0_c_0 : Ref sig .tc := ⟨.hbm, 7267, rfl⟩
abbrev main_call28_call0_call0_v7 : Ref sig .tc := ⟨.hbm, 7268, rfl⟩
abbrev main_call28_call0_call0_v8 : Ref sig .tc := ⟨.hbm, 7269, rfl⟩
abbrev main_call28_call0_call0_c_1 : Ref sig .tc := ⟨.hbm, 7270, rfl⟩
abbrev main_call28_call0_call0_v9 : Ref sig .tc := ⟨.hbm, 7271, rfl⟩
abbrev main_call28_call0_call0_v10 : Ref sig .tc := ⟨.hbm, 7272, rfl⟩
abbrev main_call28_call0_call0_v11 : Ref sig .tc := ⟨.hbm, 7273, rfl⟩
abbrev main_call28_call0_call0_v12 : Ref sig .tc := ⟨.hbm, 7274, rfl⟩
abbrev main_call28_call0_call0_v13 : Ref sig .tc := ⟨.hbm, 7275, rfl⟩
abbrev main_call28_call0_call0_c_2 : Ref sig .tc := ⟨.hbm, 7276, rfl⟩
abbrev main_call28_call0_call0_v14 : Ref sig .tc := ⟨.hbm, 7277, rfl⟩
abbrev main_call28_call0_call0_v15 : Ref sig .tc := ⟨.hbm, 7278, rfl⟩
abbrev main_call28_call0_call0_c_3 : Ref sig .tc := ⟨.hbm, 7279, rfl⟩
abbrev main_call28_call0_call0_v16 : Ref sig .tc := ⟨.hbm, 7280, rfl⟩
abbrev main_call28_call0_call0_v17 : Ref sig .tc := ⟨.hbm, 7281, rfl⟩
abbrev main_call28_call0_call0_v18 : Ref sig .tc := ⟨.hbm, 7282, rfl⟩
abbrev main_call28_call0_call0_v19 : Ref sig .tc := ⟨.hbm, 7283, rfl⟩
abbrev main_call28_call0_call0_v20 : Ref sig .tc := ⟨.hbm, 7284, rfl⟩
abbrev main_call28_call0_call0_c_4 : Ref sig .tc := ⟨.hbm, 7285, rfl⟩
abbrev main_call28_call0_call0_v21 : Ref sig .tc := ⟨.hbm, 7286, rfl⟩
abbrev main_call28_call0_call0_v22 : Ref sig .tc := ⟨.hbm, 7287, rfl⟩
abbrev main_call28_call0_call0_c_5 : Ref sig .tc := ⟨.hbm, 7288, rfl⟩
abbrev main_call28_call0_call0_v23 : Ref sig .tc := ⟨.hbm, 7289, rfl⟩
abbrev main_call28_call0_call0_v24 : Ref sig .tc := ⟨.hbm, 7290, rfl⟩
abbrev main_call28_call0_call0_v25 : Ref sig .tc := ⟨.hbm, 7291, rfl⟩
abbrev main_call28_call0_call0_v26 : Ref sig .tc := ⟨.hbm, 7292, rfl⟩
abbrev main_call28_call0_call0_v27 : Ref sig .tc := ⟨.hbm, 7293, rfl⟩
abbrev main_call28_call0_call0_c_6 : Ref sig .tc := ⟨.hbm, 7294, rfl⟩
abbrev main_call28_call0_call0_v28 : Ref sig .tc := ⟨.hbm, 7295, rfl⟩
abbrev main_call28_call0_call0_v29 : Ref sig .tc := ⟨.hbm, 7296, rfl⟩
abbrev main_call28_call0_call0_c_7 : Ref sig .tc := ⟨.hbm, 7297, rfl⟩
abbrev main_call28_call0_call0_v30 : Ref sig .tc := ⟨.hbm, 7298, rfl⟩
abbrev main_call28_call0_call0_v31 : Ref sig .tc := ⟨.hbm, 7299, rfl⟩
abbrev main_call28_call0_call0_v32 : Ref sig .tc := ⟨.hbm, 7300, rfl⟩
abbrev main_call28_call0_call0_v33 : Ref sig .tc := ⟨.hbm, 7301, rfl⟩
abbrev main_call28_call0_call0_v34 : Ref sig .tc := ⟨.hbm, 7302, rfl⟩
abbrev main_call28_call0_call0_v35 : Ref sig .tc := ⟨.hbm, 7303, rfl⟩
abbrev main_call28_call0_call0_v36 : Ref sig .tc := ⟨.hbm, 7304, rfl⟩
abbrev main_call28_call0_call0_v37 : Ref sig .tc := ⟨.hbm, 7305, rfl⟩
abbrev main_call28_call0_call0_c_8 : Ref sig .tc := ⟨.hbm, 7306, rfl⟩
abbrev main_call28_call0_call0_v38 : Ref sig .tc := ⟨.hbm, 7307, rfl⟩
abbrev main_call28_call0_call0_v39 : Ref sig .tc := ⟨.hbm, 7308, rfl⟩
abbrev main_call28_call0_call0_v40 : Ref sig .tc := ⟨.hbm, 7309, rfl⟩
abbrev main_call28_call0_call0_c_9 : Ref sig .tc := ⟨.hbm, 7310, rfl⟩
abbrev main_call28_call0_call0_v41 : Ref sig .tc := ⟨.hbm, 7311, rfl⟩
abbrev main_call28_call0_call0_v42 : Ref sig .tc := ⟨.hbm, 7312, rfl⟩
abbrev main_call28_call0_call0_c_10 : Ref sig .tc := ⟨.hbm, 7313, rfl⟩
abbrev main_call28_call0_call0_v43 : Ref sig .tc := ⟨.hbm, 7314, rfl⟩
abbrev main_call28_call0_call0_v44 : Ref sig .tc := ⟨.hbm, 7315, rfl⟩
abbrev main_call28_call0_call0_v45 : Ref sig .tc := ⟨.hbm, 7316, rfl⟩
abbrev main_call28_call0_call0_v46 : Ref sig .tc := ⟨.hbm, 7317, rfl⟩
abbrev main_call28_call0_call0_v47 : Ref sig .tc := ⟨.hbm, 7318, rfl⟩
abbrev main_call28_call0_call0_c_11 : Ref sig .tc := ⟨.hbm, 7319, rfl⟩
abbrev main_call28_call0_call0_v48 : Ref sig .tc := ⟨.hbm, 7320, rfl⟩
abbrev main_call28_call0_call0_v49 : Ref sig .tc := ⟨.hbm, 7321, rfl⟩
abbrev main_call28_call0_call0_c_12 : Ref sig .tc := ⟨.hbm, 7322, rfl⟩
abbrev main_call28_call0_call0_v50 : Ref sig .tc := ⟨.hbm, 7323, rfl⟩
abbrev main_call28_call0_call0_v51 : Ref sig .tc := ⟨.hbm, 7324, rfl⟩
abbrev main_call28_call0_call0_v52 : Ref sig .tc := ⟨.hbm, 7325, rfl⟩
abbrev main_call28_call0_call0_v53 : Ref sig .tc := ⟨.hbm, 7326, rfl⟩
abbrev main_call28_call0_call0_v54 : Ref sig .tc := ⟨.hbm, 7327, rfl⟩
abbrev main_call28_call0_call0_c_13 : Ref sig .tc := ⟨.hbm, 7328, rfl⟩
abbrev main_call28_call0_call0_v55 : Ref sig .tc := ⟨.hbm, 7329, rfl⟩
abbrev main_call28_call0_call0_v56 : Ref sig .tc := ⟨.hbm, 7330, rfl⟩
abbrev main_call28_call0_call0_c_14 : Ref sig .tc := ⟨.hbm, 7331, rfl⟩
abbrev main_call28_call0_call0_v57 : Ref sig .tc := ⟨.hbm, 7332, rfl⟩
abbrev main_call28_call0_call0_v58 : Ref sig .tc := ⟨.hbm, 7333, rfl⟩
abbrev main_call28_call0_call0_v59 : Ref sig .tc := ⟨.hbm, 7334, rfl⟩
abbrev main_call28_call0_call0_v60 : Ref sig .tc := ⟨.hbm, 7335, rfl⟩
abbrev main_call28_call0_call0_v61 : Ref sig .tc := ⟨.hbm, 7336, rfl⟩
abbrev main_call28_call0_call0_c_15 : Ref sig .tc := ⟨.hbm, 7337, rfl⟩
abbrev main_call28_call0_call0_v62 : Ref sig .tc := ⟨.hbm, 7338, rfl⟩
abbrev main_call28_call0_call0_v63 : Ref sig .tc := ⟨.hbm, 7339, rfl⟩
abbrev main_call28_call0_call0_c_16 : Ref sig .tc := ⟨.hbm, 7340, rfl⟩
abbrev main_call28_call0_call0_v64 : Ref sig .tc := ⟨.hbm, 7341, rfl⟩
abbrev main_call28_call0_call0_v65 : Ref sig .tc := ⟨.hbm, 7342, rfl⟩
abbrev main_call28_call0_call0_v66 : Ref sig .tc := ⟨.hbm, 7343, rfl⟩
abbrev main_call28_call0_call0_v67 : Ref sig .tc := ⟨.hbm, 7344, rfl⟩
abbrev main_call28_call0_call0_v68 : Ref sig .tc := ⟨.hbm, 7345, rfl⟩
abbrev main_call28_call0_call0_v69 : Ref sig .tc := ⟨.hbm, 7346, rfl⟩
abbrev main_call28_call0_call0_v70 : Ref sig .tc := ⟨.hbm, 7347, rfl⟩
abbrev main_call28_call0_call0_v71 : Ref sig .tc := ⟨.hbm, 7348, rfl⟩
abbrev main_call28_call0_call0_c_17 : Ref sig .tc := ⟨.hbm, 7349, rfl⟩
abbrev main_call28_call0_call0_v72 : Ref sig .tc := ⟨.hbm, 7350, rfl⟩
abbrev main_call28_call0_call0_v73 : Ref sig .tc := ⟨.hbm, 7351, rfl⟩
abbrev main_call28_call0_call0_v74 : Ref sig .tc := ⟨.hbm, 7352, rfl⟩
abbrev main_call28_call0_call0_c_18 : Ref sig .tc := ⟨.hbm, 7353, rfl⟩
abbrev main_call28_call0_call0_v75 : Ref sig .tc := ⟨.hbm, 7354, rfl⟩
abbrev main_call28_call0_call0_v76 : Ref sig .tc := ⟨.hbm, 7355, rfl⟩
abbrev main_call28_call0_call0_c_19 : Ref sig .tc := ⟨.hbm, 7356, rfl⟩
abbrev main_call28_call0_call0_v77 : Ref sig .tc := ⟨.hbm, 7357, rfl⟩
abbrev main_call28_call0_call0_v78 : Ref sig .tc := ⟨.hbm, 7358, rfl⟩
abbrev main_call28_call0_call0_v79 : Ref sig .tc := ⟨.hbm, 7359, rfl⟩
abbrev main_call28_call0_call0_v80 : Ref sig .tc := ⟨.hbm, 7360, rfl⟩
abbrev main_call28_call0_call0_v81 : Ref sig .tc := ⟨.hbm, 7361, rfl⟩
abbrev main_call28_call0_call0_c_20 : Ref sig .tc := ⟨.hbm, 7362, rfl⟩
abbrev main_call28_call0_call0_v82 : Ref sig .tc := ⟨.hbm, 7363, rfl⟩
abbrev main_call28_call0_call0_v83 : Ref sig .tc := ⟨.hbm, 7364, rfl⟩
abbrev main_call28_call0_call0_c_21 : Ref sig .tc := ⟨.hbm, 7365, rfl⟩
abbrev main_call28_call0_call0_v84 : Ref sig .tc := ⟨.hbm, 7366, rfl⟩
abbrev main_call28_call0_call0_v85 : Ref sig .tc := ⟨.hbm, 7367, rfl⟩
abbrev main_call28_call0_call0_v86 : Ref sig .tc := ⟨.hbm, 7368, rfl⟩
abbrev main_call28_call0_call0_v87 : Ref sig .tc := ⟨.hbm, 7369, rfl⟩
abbrev main_call28_call0_call0_v88 : Ref sig .tc := ⟨.hbm, 7370, rfl⟩
abbrev main_call28_call0_call0_c_22 : Ref sig .tc := ⟨.hbm, 7371, rfl⟩
abbrev main_call28_call0_call0_v89 : Ref sig .tc := ⟨.hbm, 7372, rfl⟩
abbrev main_call28_call0_call0_v90 : Ref sig .tc := ⟨.hbm, 7373, rfl⟩
abbrev main_call28_call0_call0_c_23 : Ref sig .tc := ⟨.hbm, 7374, rfl⟩
abbrev main_call28_call0_call0_v91 : Ref sig .tc := ⟨.hbm, 7375, rfl⟩
abbrev main_call28_call0_call0_v92 : Ref sig .tc := ⟨.hbm, 7376, rfl⟩
abbrev main_call28_call0_call0_v93 : Ref sig .tc := ⟨.hbm, 7377, rfl⟩
abbrev main_call28_call0_call0_v94 : Ref sig .tc := ⟨.hbm, 7378, rfl⟩
abbrev main_call28_call0_call0_v95 : Ref sig .tc := ⟨.hbm, 7379, rfl⟩
abbrev main_call28_call0_call0_c_24 : Ref sig .tc := ⟨.hbm, 7380, rfl⟩
abbrev main_call28_call0_call0_v96 : Ref sig .tc := ⟨.hbm, 7381, rfl⟩
abbrev main_call28_call0_call0_v97 : Ref sig .tc := ⟨.hbm, 7382, rfl⟩
abbrev main_call28_call0_call0_c_25 : Ref sig .tc := ⟨.hbm, 7383, rfl⟩
abbrev main_call28_call0_call0_v98 : Ref sig .tc := ⟨.hbm, 7384, rfl⟩
abbrev main_call28_call0_call0_v99 : Ref sig .tc := ⟨.hbm, 7385, rfl⟩
abbrev main_call28_call0_call0_v100 : Ref sig .tc := ⟨.hbm, 7386, rfl⟩
abbrev main_call28_call0_call0_v101 : Ref sig .tc := ⟨.hbm, 7387, rfl⟩
abbrev main_call28_call0_call0_v102 : Ref sig .tc := ⟨.hbm, 7388, rfl⟩
abbrev main_call28_call0_call0_v103 : Ref sig .tc := ⟨.hbm, 7389, rfl⟩
abbrev main_call28_call0_call0_v104 : Ref sig .tc := ⟨.hbm, 7390, rfl⟩
abbrev main_call28_call0_call0_v105 : Ref sig .tc := ⟨.hbm, 7391, rfl⟩
abbrev main_call28_call0_call0_c_26 : Ref sig .tc := ⟨.hbm, 7392, rfl⟩
abbrev main_call28_call0_call0_v106 : Ref sig .tc := ⟨.hbm, 7393, rfl⟩
abbrev main_call28_call0_call0_v107 : Ref sig .tc := ⟨.hbm, 7394, rfl⟩
abbrev main_call28_call0_call0_v108 : Ref sig .tc := ⟨.hbm, 7395, rfl⟩
abbrev main_call28_call0_call0_c_27 : Ref sig .tc := ⟨.hbm, 7396, rfl⟩
abbrev main_call28_call0_call0_v109 : Ref sig .tc := ⟨.hbm, 7397, rfl⟩
abbrev main_call28_call0_call0_v110 : Ref sig .tc := ⟨.hbm, 7398, rfl⟩
abbrev main_call28_call0_call0_c_28 : Ref sig .tc := ⟨.hbm, 7399, rfl⟩
abbrev main_call28_call0_call0_v111 : Ref sig .tc := ⟨.hbm, 7400, rfl⟩
abbrev main_call28_call0_call0_v112 : Ref sig .tc := ⟨.hbm, 7401, rfl⟩
abbrev main_call28_call0_call0_v113 : Ref sig .tc := ⟨.hbm, 7402, rfl⟩
abbrev main_call28_call0_call0_v114 : Ref sig .tc := ⟨.hbm, 7403, rfl⟩
abbrev main_call28_call0_call0_v115 : Ref sig .tc := ⟨.hbm, 7404, rfl⟩
abbrev main_call28_call0_call0_c_29 : Ref sig .tc := ⟨.hbm, 7405, rfl⟩
abbrev main_call28_call0_call0_v116 : Ref sig .tc := ⟨.hbm, 7406, rfl⟩
abbrev main_call28_call0_call0_v117 : Ref sig .tc := ⟨.hbm, 7407, rfl⟩
abbrev main_call28_call0_call0_c_30 : Ref sig .tc := ⟨.hbm, 7408, rfl⟩
abbrev main_call28_call0_call0_v118 : Ref sig .tc := ⟨.hbm, 7409, rfl⟩
abbrev main_call28_call0_call0_v119 : Ref sig .tc := ⟨.hbm, 7410, rfl⟩
abbrev main_call28_call0_call0_v120 : Ref sig .tc := ⟨.hbm, 7411, rfl⟩
abbrev main_call28_call0_call0_v121 : Ref sig .tc := ⟨.hbm, 7412, rfl⟩
abbrev main_call28_call0_call0_v122 : Ref sig .tc := ⟨.hbm, 7413, rfl⟩
abbrev main_call28_call0_call0_c_31 : Ref sig .tc := ⟨.hbm, 7414, rfl⟩
abbrev main_call28_call0_call0_v123 : Ref sig .tc := ⟨.hbm, 7415, rfl⟩
abbrev main_call28_call0_call0_v124 : Ref sig .tc := ⟨.hbm, 7416, rfl⟩
abbrev main_call28_call0_call0_c_32 : Ref sig .tc := ⟨.hbm, 7417, rfl⟩
abbrev main_call28_call0_call0_v125 : Ref sig .tc := ⟨.hbm, 7418, rfl⟩
abbrev main_call28_call0_call0_v126 : Ref sig .tc := ⟨.hbm, 7419, rfl⟩
abbrev main_call28_call0_call0_v127 : Ref sig .tc := ⟨.hbm, 7420, rfl⟩
abbrev main_call28_call0_call0_v128 : Ref sig .tc := ⟨.hbm, 7421, rfl⟩
abbrev main_call28_call0_call0_v129 : Ref sig .tc := ⟨.hbm, 7422, rfl⟩
abbrev main_call28_call0_call0_c_33 : Ref sig .tc := ⟨.hbm, 7423, rfl⟩
abbrev main_call28_call0_call0_v130 : Ref sig .tc := ⟨.hbm, 7424, rfl⟩
abbrev main_call28_call0_call0_v131 : Ref sig .tc := ⟨.hbm, 7425, rfl⟩
abbrev main_call28_call0_call0_c_34 : Ref sig .tc := ⟨.hbm, 7426, rfl⟩
abbrev main_call28_call0_call0_v132 : Ref sig .tc := ⟨.hbm, 7427, rfl⟩
abbrev main_call28_call0_call0_v133 : Ref sig .tc := ⟨.hbm, 7428, rfl⟩
abbrev main_call28_call0_call0_v134 : Ref sig .tc := ⟨.hbm, 7429, rfl⟩
abbrev main_call28_call0_call0_v135 : Ref sig .tc := ⟨.hbm, 7430, rfl⟩
abbrev main_call28_call0_call0_v136 : Ref sig .tc := ⟨.hbm, 7431, rfl⟩
abbrev main_call28_call0_call0_v137 : Ref sig .tc := ⟨.hbm, 7432, rfl⟩
abbrev main_call28_call0_call0_v138 : Ref sig .tc := ⟨.hbm, 7433, rfl⟩
abbrev main_call28_call0_call0_v139 : Ref sig .tc := ⟨.hbm, 7434, rfl⟩
abbrev main_call28_call0_call0_c_35 : Ref sig .tc := ⟨.hbm, 7435, rfl⟩
abbrev main_call28_call0_call0_v140 : Ref sig .tc := ⟨.hbm, 7436, rfl⟩
abbrev main_call28_call0_call0_v141 : Ref sig .tc := ⟨.hbm, 7437, rfl⟩
abbrev main_call28_call0_call0_v142 : Ref sig .tc := ⟨.hbm, 7438, rfl⟩
abbrev main_call28_call0_call0_c_36 : Ref sig .tc := ⟨.hbm, 7439, rfl⟩
abbrev main_call28_call0_call0_v143 : Ref sig .tc := ⟨.hbm, 7440, rfl⟩
abbrev main_call28_call0_call0_v144 : Ref sig .tc := ⟨.hbm, 7441, rfl⟩
abbrev main_call28_call0_call0_c_37 : Ref sig .tc := ⟨.hbm, 7442, rfl⟩
abbrev main_call28_call0_call0_v145 : Ref sig .tc := ⟨.hbm, 7443, rfl⟩
abbrev main_call28_call0_call0_v146 : Ref sig .tc := ⟨.hbm, 7444, rfl⟩
abbrev main_call28_call0_call0_v147 : Ref sig .tc := ⟨.hbm, 7445, rfl⟩
abbrev main_call28_call0_call0_v148 : Ref sig .tc := ⟨.hbm, 7446, rfl⟩
abbrev main_call28_call0_call0_v149 : Ref sig .tc := ⟨.hbm, 7447, rfl⟩
abbrev main_call28_call0_call0_c_38 : Ref sig .tc := ⟨.hbm, 7448, rfl⟩
abbrev main_call28_call0_call0_v150 : Ref sig .tc := ⟨.hbm, 7449, rfl⟩
abbrev main_call28_call0_call0_v151 : Ref sig .tc := ⟨.hbm, 7450, rfl⟩
abbrev main_call28_call0_call0_c_39 : Ref sig .tc := ⟨.hbm, 7451, rfl⟩
abbrev main_call28_call0_call0_v152 : Ref sig .tc := ⟨.hbm, 7452, rfl⟩
abbrev main_call28_call0_call0_v153 : Ref sig .tc := ⟨.hbm, 7453, rfl⟩
abbrev main_call28_call0_call0_v154 : Ref sig .tc := ⟨.hbm, 7454, rfl⟩
abbrev main_call28_call0_call0_v155 : Ref sig .tc := ⟨.hbm, 7455, rfl⟩
abbrev main_call28_call0_call0_v156 : Ref sig .tc := ⟨.hbm, 7456, rfl⟩
abbrev main_call28_call0_call0_c_40 : Ref sig .tc := ⟨.hbm, 7457, rfl⟩
abbrev main_call28_call0_call0_v157 : Ref sig .tc := ⟨.hbm, 7458, rfl⟩
abbrev main_call28_call0_call0_v158 : Ref sig .tc := ⟨.hbm, 7459, rfl⟩
abbrev main_call28_call0_call0_c_41 : Ref sig .tc := ⟨.hbm, 7460, rfl⟩
abbrev main_call28_call0_call0_v159 : Ref sig .tc := ⟨.hbm, 7461, rfl⟩
abbrev main_call28_call0_call0_v160 : Ref sig .tc := ⟨.hbm, 7462, rfl⟩
abbrev main_call28_call0_call0_v161 : Ref sig .tc := ⟨.hbm, 7463, rfl⟩
abbrev main_call28_call0_call0_v162 : Ref sig .tc := ⟨.hbm, 7464, rfl⟩
abbrev main_call28_call0_call0_v163 : Ref sig .tc := ⟨.hbm, 7465, rfl⟩
abbrev main_call28_call0_call0_c_42 : Ref sig .tc := ⟨.hbm, 7466, rfl⟩
abbrev main_call28_call0_call0_v164 : Ref sig .tc := ⟨.hbm, 7467, rfl⟩
abbrev main_call28_call0_call0_v165 : Ref sig .tc := ⟨.hbm, 7468, rfl⟩
abbrev main_call28_call0_call0_c_43 : Ref sig .tc := ⟨.hbm, 7469, rfl⟩
abbrev main_call28_call0_call0_v166 : Ref sig .tc := ⟨.hbm, 7470, rfl⟩
abbrev main_call28_call0_call0_v167 : Ref sig .tc := ⟨.hbm, 7471, rfl⟩
abbrev main_call28_call0_call0_v168 : Ref sig .tc := ⟨.hbm, 7472, rfl⟩
abbrev main_call28_call0_call0_v169 : Ref sig .tc := ⟨.hbm, 7473, rfl⟩
abbrev main_call28_call0_call0_v170 : Ref sig .tc := ⟨.hbm, 7474, rfl⟩
abbrev main_call28_call0_v22_0 : Ref sig .tc := ⟨.hbm, 7475, rfl⟩
abbrev main_call28_call0_call0_v172 : Ref sig .tc := ⟨.hbm, 7476, rfl⟩
abbrev main_call28_call0_call0_v173 : Ref sig .tc := ⟨.hbm, 7477, rfl⟩
abbrev main_call28_call0_call0_c_44 : Ref sig .tc := ⟨.hbm, 7478, rfl⟩
abbrev main_call28_call0_call0_v174 : Ref sig .tc := ⟨.hbm, 7479, rfl⟩
abbrev main_call28_call0_v22_1 : Ref sig .tc := ⟨.hbm, 7480, rfl⟩
abbrev main_call28_call0_v23 : Ref sig .tc := ⟨.hbm, 7481, rfl⟩
abbrev main_call28_call0_c_3 : Ref sig .tc := ⟨.hbm, 7482, rfl⟩
abbrev main_call28_call0_v24 : Ref sig .tc := ⟨.hbm, 7483, rfl⟩
abbrev main_call28_call0_v25 : Ref sig .tc := ⟨.hbm, 7484, rfl⟩
abbrev main_call28_call0_c_4 : Ref sig .tc := ⟨.hbm, 7485, rfl⟩
abbrev main_call28_call0_v26 : Ref sig .tc := ⟨.hbm, 7486, rfl⟩
abbrev main_call28_call0_v27 : Ref sig .tc := ⟨.hbm, 7487, rfl⟩
abbrev main_call28_call0_v28 : Ref sig .tc := ⟨.hbm, 7488, rfl⟩
abbrev main_call28_call0_cst : Ref sig .tc := ⟨.hbm, 7489, rfl⟩
abbrev main_call28_call0_v29 : Ref sig .tc := ⟨.hbm, 7490, rfl⟩
abbrev main_call28_call0_v30 : Ref sig .tc := ⟨.hbm, 7491, rfl⟩
abbrev main_call28_call0_v31 : Ref sig .tc := ⟨.hbm, 7492, rfl⟩
abbrev main_call28_call0_v32 : Ref sig .tc := ⟨.hbm, 7493, rfl⟩
abbrev main_call28_call0_v33 : Ref sig .tc := ⟨.hbm, 7494, rfl⟩
abbrev main_call28_call0_v34 : Ref sig .tc := ⟨.hbm, 7495, rfl⟩
abbrev main_call28_call0_v35 : Ref sig .tc := ⟨.hbm, 7496, rfl⟩
abbrev main_call28_call0_v36 : Ref sig .tc := ⟨.hbm, 7497, rfl⟩
abbrev main_call28_v0 : Ref sig .tc := ⟨.hbm, 7498, rfl⟩
abbrev main_call28_v1 : Ref sig .tc := ⟨.hbm, 7499, rfl⟩
abbrev main_call28_v2 : Ref sig .tc := ⟨.hbm, 7500, rfl⟩
abbrev main_call28_v3 : Ref sig .tc := ⟨.hbm, 7501, rfl⟩
abbrev main_v95 : Ref sig .tc := ⟨.hbm, 7502, rfl⟩
abbrev main_cst_19 : Ref sig .tc := ⟨.hbm, 7503, rfl⟩
abbrev main_cst_20 : Ref sig .tc := ⟨.hbm, 7504, rfl⟩
abbrev main_call29_v0 : Ref sig .tc := ⟨.hbm, 7505, rfl⟩
abbrev main_call29_v1 : Ref sig .tc := ⟨.hbm, 7506, rfl⟩
abbrev main_call29_v2 : Ref sig .tc := ⟨.hbm, 7507, rfl⟩
abbrev main_call29_v3 : Ref sig .tc := ⟨.hbm, 7508, rfl⟩
abbrev main_call29_v4 : Ref sig .tc := ⟨.hbm, 7509, rfl⟩
abbrev main_call29_v5 : Ref sig .tc := ⟨.hbm, 7510, rfl⟩
abbrev main_call29_v6 : Ref sig .tc := ⟨.hbm, 7511, rfl⟩
abbrev main_call29_v7 : Ref sig .tc := ⟨.hbm, 7512, rfl⟩
abbrev main_call29_v8 : Ref sig .tc := ⟨.hbm, 7513, rfl⟩
abbrev main_call29_c : Ref sig .tc := ⟨.hbm, 7514, rfl⟩
abbrev main_call29_v9 : Ref sig .tc := ⟨.hbm, 7515, rfl⟩
abbrev main_call29_v10 : Ref sig .tc := ⟨.hbm, 7516, rfl⟩
abbrev main_call29_c_0 : Ref sig .tc := ⟨.hbm, 7517, rfl⟩
abbrev main_call29_v11 : Ref sig .tc := ⟨.hbm, 7518, rfl⟩
abbrev main_call29_v12 : Ref sig .tc := ⟨.hbm, 7519, rfl⟩
abbrev main_call29_v13 : Ref sig .tc := ⟨.hbm, 7520, rfl⟩
abbrev main_call29_v14 : Ref sig .tc := ⟨.hbm, 7521, rfl⟩
abbrev main_call29_call0_v0 : Ref sig .tc := ⟨.hbm, 7522, rfl⟩
abbrev main_call29_call0_c : Ref sig .tc := ⟨.hbm, 7523, rfl⟩
abbrev main_call29_call0_v1 : Ref sig .tc := ⟨.hbm, 7524, rfl⟩
abbrev main_call29_call0_v2 : Ref sig .tc := ⟨.hbm, 7525, rfl⟩
abbrev main_call29_call0_v3 : Ref sig .tc := ⟨.hbm, 7526, rfl⟩
abbrev main_call29_call0_v4 : Ref sig .tc := ⟨.hbm, 7527, rfl⟩
abbrev main_call29_call0_v5 : Ref sig .tc := ⟨.hbm, 7528, rfl⟩
abbrev main_call29_call0_v6 : Ref sig .tc := ⟨.hbm, 7529, rfl⟩
abbrev main_call29_call0_c_0 : Ref sig .tc := ⟨.hbm, 7530, rfl⟩
abbrev main_call29_call0_v7 : Ref sig .tc := ⟨.hbm, 7531, rfl⟩
abbrev main_call29_call0_v8 : Ref sig .tc := ⟨.hbm, 7532, rfl⟩
abbrev main_call29_call0_c_1 : Ref sig .tc := ⟨.hbm, 7533, rfl⟩
abbrev main_call29_call0_v9 : Ref sig .tc := ⟨.hbm, 7534, rfl⟩
abbrev main_call29_call0_v10 : Ref sig .tc := ⟨.hbm, 7535, rfl⟩
abbrev main_call29_call0_v11 : Ref sig .tc := ⟨.hbm, 7536, rfl⟩
abbrev main_call29_call0_v12 : Ref sig .tc := ⟨.hbm, 7537, rfl⟩
abbrev main_call29_call0_v13 : Ref sig .tc := ⟨.hbm, 7538, rfl⟩
abbrev main_call29_call0_c_2 : Ref sig .tc := ⟨.hbm, 7539, rfl⟩
abbrev main_call29_call0_v14 : Ref sig .tc := ⟨.hbm, 7540, rfl⟩
abbrev main_call29_call0_v15 : Ref sig .tc := ⟨.hbm, 7541, rfl⟩
abbrev main_call29_call0_c_3 : Ref sig .tc := ⟨.hbm, 7542, rfl⟩
abbrev main_call29_call0_v16 : Ref sig .tc := ⟨.hbm, 7543, rfl⟩
abbrev main_call29_call0_v17 : Ref sig .tc := ⟨.hbm, 7544, rfl⟩
abbrev main_call29_call0_v18 : Ref sig .tc := ⟨.hbm, 7545, rfl⟩
abbrev main_call29_call0_v19 : Ref sig .tc := ⟨.hbm, 7546, rfl⟩
abbrev main_call29_call0_v20 : Ref sig .tc := ⟨.hbm, 7547, rfl⟩
abbrev main_call29_call0_c_4 : Ref sig .tc := ⟨.hbm, 7548, rfl⟩
abbrev main_call29_call0_v21 : Ref sig .tc := ⟨.hbm, 7549, rfl⟩
abbrev main_call29_call0_v22 : Ref sig .tc := ⟨.hbm, 7550, rfl⟩
abbrev main_call29_call0_c_5 : Ref sig .tc := ⟨.hbm, 7551, rfl⟩
abbrev main_call29_call0_v23 : Ref sig .tc := ⟨.hbm, 7552, rfl⟩
abbrev main_call29_call0_v24 : Ref sig .tc := ⟨.hbm, 7553, rfl⟩
abbrev main_call29_call0_v25 : Ref sig .tc := ⟨.hbm, 7554, rfl⟩
abbrev main_call29_call0_v26 : Ref sig .tc := ⟨.hbm, 7555, rfl⟩
abbrev main_call29_call0_v27 : Ref sig .tc := ⟨.hbm, 7556, rfl⟩
abbrev main_call29_call0_c_6 : Ref sig .tc := ⟨.hbm, 7557, rfl⟩
abbrev main_call29_call0_v28 : Ref sig .tc := ⟨.hbm, 7558, rfl⟩
abbrev main_call29_call0_v29 : Ref sig .tc := ⟨.hbm, 7559, rfl⟩
abbrev main_call29_call0_c_7 : Ref sig .tc := ⟨.hbm, 7560, rfl⟩
abbrev main_call29_call0_v30 : Ref sig .tc := ⟨.hbm, 7561, rfl⟩
abbrev main_call29_call0_v31 : Ref sig .tc := ⟨.hbm, 7562, rfl⟩
abbrev main_call29_call0_v32 : Ref sig .tc := ⟨.hbm, 7563, rfl⟩
abbrev main_call29_call0_v33 : Ref sig .tc := ⟨.hbm, 7564, rfl⟩
abbrev main_call29_call0_v34 : Ref sig .tc := ⟨.hbm, 7565, rfl⟩
abbrev main_call29_call0_v35 : Ref sig .tc := ⟨.hbm, 7566, rfl⟩
abbrev main_call29_call0_v36 : Ref sig .tc := ⟨.hbm, 7567, rfl⟩
abbrev main_call29_call0_v37 : Ref sig .tc := ⟨.hbm, 7568, rfl⟩
abbrev main_call29_call0_c_8 : Ref sig .tc := ⟨.hbm, 7569, rfl⟩
abbrev main_call29_call0_v38 : Ref sig .tc := ⟨.hbm, 7570, rfl⟩
abbrev main_call29_call0_v39 : Ref sig .tc := ⟨.hbm, 7571, rfl⟩
abbrev main_call29_call0_v40 : Ref sig .tc := ⟨.hbm, 7572, rfl⟩
abbrev main_call29_call0_c_9 : Ref sig .tc := ⟨.hbm, 7573, rfl⟩
abbrev main_call29_call0_v41 : Ref sig .tc := ⟨.hbm, 7574, rfl⟩
abbrev main_call29_call0_v42 : Ref sig .tc := ⟨.hbm, 7575, rfl⟩
abbrev main_call29_call0_c_10 : Ref sig .tc := ⟨.hbm, 7576, rfl⟩
abbrev main_call29_call0_v43 : Ref sig .tc := ⟨.hbm, 7577, rfl⟩
abbrev main_call29_call0_v44 : Ref sig .tc := ⟨.hbm, 7578, rfl⟩
abbrev main_call29_call0_v45 : Ref sig .tc := ⟨.hbm, 7579, rfl⟩
abbrev main_call29_call0_v46 : Ref sig .tc := ⟨.hbm, 7580, rfl⟩
abbrev main_call29_call0_v47 : Ref sig .tc := ⟨.hbm, 7581, rfl⟩
abbrev main_call29_call0_c_11 : Ref sig .tc := ⟨.hbm, 7582, rfl⟩
abbrev main_call29_call0_v48 : Ref sig .tc := ⟨.hbm, 7583, rfl⟩
abbrev main_call29_call0_v49 : Ref sig .tc := ⟨.hbm, 7584, rfl⟩
abbrev main_call29_call0_c_12 : Ref sig .tc := ⟨.hbm, 7585, rfl⟩
abbrev main_call29_call0_v50 : Ref sig .tc := ⟨.hbm, 7586, rfl⟩
abbrev main_call29_call0_v51 : Ref sig .tc := ⟨.hbm, 7587, rfl⟩
abbrev main_call29_call0_v52 : Ref sig .tc := ⟨.hbm, 7588, rfl⟩
abbrev main_call29_call0_v53 : Ref sig .tc := ⟨.hbm, 7589, rfl⟩
abbrev main_call29_call0_v54 : Ref sig .tc := ⟨.hbm, 7590, rfl⟩
abbrev main_call29_call0_c_13 : Ref sig .tc := ⟨.hbm, 7591, rfl⟩
abbrev main_call29_call0_v55 : Ref sig .tc := ⟨.hbm, 7592, rfl⟩
abbrev main_call29_call0_v56 : Ref sig .tc := ⟨.hbm, 7593, rfl⟩
abbrev main_call29_call0_c_14 : Ref sig .tc := ⟨.hbm, 7594, rfl⟩
abbrev main_call29_call0_v57 : Ref sig .tc := ⟨.hbm, 7595, rfl⟩
abbrev main_call29_call0_v58 : Ref sig .tc := ⟨.hbm, 7596, rfl⟩
abbrev main_call29_call0_v59 : Ref sig .tc := ⟨.hbm, 7597, rfl⟩
abbrev main_call29_call0_v60 : Ref sig .tc := ⟨.hbm, 7598, rfl⟩
abbrev main_call29_call0_v61 : Ref sig .tc := ⟨.hbm, 7599, rfl⟩
abbrev main_call29_call0_c_15 : Ref sig .tc := ⟨.hbm, 7600, rfl⟩
abbrev main_call29_call0_v62 : Ref sig .tc := ⟨.hbm, 7601, rfl⟩
abbrev main_call29_call0_v63 : Ref sig .tc := ⟨.hbm, 7602, rfl⟩
abbrev main_call29_call0_c_16 : Ref sig .tc := ⟨.hbm, 7603, rfl⟩
abbrev main_call29_call0_v64 : Ref sig .tc := ⟨.hbm, 7604, rfl⟩
abbrev main_call29_call0_v65 : Ref sig .tc := ⟨.hbm, 7605, rfl⟩
abbrev main_call29_call0_v66 : Ref sig .tc := ⟨.hbm, 7606, rfl⟩
abbrev main_call29_call0_v67 : Ref sig .tc := ⟨.hbm, 7607, rfl⟩
abbrev main_call29_call0_v68 : Ref sig .tc := ⟨.hbm, 7608, rfl⟩
abbrev main_call29_call0_v69 : Ref sig .tc := ⟨.hbm, 7609, rfl⟩
abbrev main_call29_call0_v70 : Ref sig .tc := ⟨.hbm, 7610, rfl⟩
abbrev main_call29_call0_v71 : Ref sig .tc := ⟨.hbm, 7611, rfl⟩
abbrev main_call29_call0_c_17 : Ref sig .tc := ⟨.hbm, 7612, rfl⟩
abbrev main_call29_call0_v72 : Ref sig .tc := ⟨.hbm, 7613, rfl⟩
abbrev main_call29_call0_v73 : Ref sig .tc := ⟨.hbm, 7614, rfl⟩
abbrev main_call29_call0_v74 : Ref sig .tc := ⟨.hbm, 7615, rfl⟩
abbrev main_call29_call0_c_18 : Ref sig .tc := ⟨.hbm, 7616, rfl⟩
abbrev main_call29_call0_v75 : Ref sig .tc := ⟨.hbm, 7617, rfl⟩
abbrev main_call29_call0_v76 : Ref sig .tc := ⟨.hbm, 7618, rfl⟩
abbrev main_call29_call0_c_19 : Ref sig .tc := ⟨.hbm, 7619, rfl⟩
abbrev main_call29_call0_v77 : Ref sig .tc := ⟨.hbm, 7620, rfl⟩
abbrev main_call29_call0_v78 : Ref sig .tc := ⟨.hbm, 7621, rfl⟩
abbrev main_call29_call0_v79 : Ref sig .tc := ⟨.hbm, 7622, rfl⟩
abbrev main_call29_call0_v80 : Ref sig .tc := ⟨.hbm, 7623, rfl⟩
abbrev main_call29_call0_v81 : Ref sig .tc := ⟨.hbm, 7624, rfl⟩
abbrev main_call29_call0_c_20 : Ref sig .tc := ⟨.hbm, 7625, rfl⟩
abbrev main_call29_call0_v82 : Ref sig .tc := ⟨.hbm, 7626, rfl⟩
abbrev main_call29_call0_v83 : Ref sig .tc := ⟨.hbm, 7627, rfl⟩
abbrev main_call29_call0_c_21 : Ref sig .tc := ⟨.hbm, 7628, rfl⟩
abbrev main_call29_call0_v84 : Ref sig .tc := ⟨.hbm, 7629, rfl⟩
abbrev main_call29_call0_v85 : Ref sig .tc := ⟨.hbm, 7630, rfl⟩
abbrev main_call29_call0_v86 : Ref sig .tc := ⟨.hbm, 7631, rfl⟩
abbrev main_call29_call0_v87 : Ref sig .tc := ⟨.hbm, 7632, rfl⟩
abbrev main_call29_call0_v88 : Ref sig .tc := ⟨.hbm, 7633, rfl⟩
abbrev main_call29_call0_c_22 : Ref sig .tc := ⟨.hbm, 7634, rfl⟩
abbrev main_call29_call0_v89 : Ref sig .tc := ⟨.hbm, 7635, rfl⟩
abbrev main_call29_call0_v90 : Ref sig .tc := ⟨.hbm, 7636, rfl⟩
abbrev main_call29_call0_c_23 : Ref sig .tc := ⟨.hbm, 7637, rfl⟩
abbrev main_call29_call0_v91 : Ref sig .tc := ⟨.hbm, 7638, rfl⟩
abbrev main_call29_call0_v92 : Ref sig .tc := ⟨.hbm, 7639, rfl⟩
abbrev main_call29_call0_v93 : Ref sig .tc := ⟨.hbm, 7640, rfl⟩
abbrev main_call29_call0_v94 : Ref sig .tc := ⟨.hbm, 7641, rfl⟩
abbrev main_call29_call0_v95 : Ref sig .tc := ⟨.hbm, 7642, rfl⟩
abbrev main_call29_call0_c_24 : Ref sig .tc := ⟨.hbm, 7643, rfl⟩
abbrev main_call29_call0_v96 : Ref sig .tc := ⟨.hbm, 7644, rfl⟩
abbrev main_call29_call0_v97 : Ref sig .tc := ⟨.hbm, 7645, rfl⟩
abbrev main_call29_call0_c_25 : Ref sig .tc := ⟨.hbm, 7646, rfl⟩
abbrev main_call29_call0_v98 : Ref sig .tc := ⟨.hbm, 7647, rfl⟩
abbrev main_call29_call0_v99 : Ref sig .tc := ⟨.hbm, 7648, rfl⟩
abbrev main_call29_call0_v100 : Ref sig .tc := ⟨.hbm, 7649, rfl⟩
abbrev main_call29_call0_v101 : Ref sig .tc := ⟨.hbm, 7650, rfl⟩
abbrev main_call29_call0_v102 : Ref sig .tc := ⟨.hbm, 7651, rfl⟩
abbrev main_call29_call0_v103 : Ref sig .tc := ⟨.hbm, 7652, rfl⟩
abbrev main_call29_call0_v104 : Ref sig .tc := ⟨.hbm, 7653, rfl⟩
abbrev main_call29_call0_v105 : Ref sig .tc := ⟨.hbm, 7654, rfl⟩
abbrev main_call29_call0_c_26 : Ref sig .tc := ⟨.hbm, 7655, rfl⟩
abbrev main_call29_call0_v106 : Ref sig .tc := ⟨.hbm, 7656, rfl⟩
abbrev main_call29_call0_v107 : Ref sig .tc := ⟨.hbm, 7657, rfl⟩
abbrev main_call29_call0_v108 : Ref sig .tc := ⟨.hbm, 7658, rfl⟩
abbrev main_call29_call0_c_27 : Ref sig .tc := ⟨.hbm, 7659, rfl⟩
abbrev main_call29_call0_v109 : Ref sig .tc := ⟨.hbm, 7660, rfl⟩
abbrev main_call29_call0_v110 : Ref sig .tc := ⟨.hbm, 7661, rfl⟩
abbrev main_call29_call0_c_28 : Ref sig .tc := ⟨.hbm, 7662, rfl⟩
abbrev main_call29_call0_v111 : Ref sig .tc := ⟨.hbm, 7663, rfl⟩
abbrev main_call29_call0_v112 : Ref sig .tc := ⟨.hbm, 7664, rfl⟩
abbrev main_call29_call0_v113 : Ref sig .tc := ⟨.hbm, 7665, rfl⟩
abbrev main_call29_call0_v114 : Ref sig .tc := ⟨.hbm, 7666, rfl⟩
abbrev main_call29_call0_v115 : Ref sig .tc := ⟨.hbm, 7667, rfl⟩
abbrev main_call29_call0_c_29 : Ref sig .tc := ⟨.hbm, 7668, rfl⟩
abbrev main_call29_call0_v116 : Ref sig .tc := ⟨.hbm, 7669, rfl⟩
abbrev main_call29_call0_v117 : Ref sig .tc := ⟨.hbm, 7670, rfl⟩
abbrev main_call29_call0_c_30 : Ref sig .tc := ⟨.hbm, 7671, rfl⟩
abbrev main_call29_call0_v118 : Ref sig .tc := ⟨.hbm, 7672, rfl⟩
abbrev main_call29_call0_v119 : Ref sig .tc := ⟨.hbm, 7673, rfl⟩
abbrev main_call29_call0_v120 : Ref sig .tc := ⟨.hbm, 7674, rfl⟩
abbrev main_call29_call0_v121 : Ref sig .tc := ⟨.hbm, 7675, rfl⟩
abbrev main_call29_call0_v122 : Ref sig .tc := ⟨.hbm, 7676, rfl⟩
abbrev main_call29_call0_c_31 : Ref sig .tc := ⟨.hbm, 7677, rfl⟩
abbrev main_call29_call0_v123 : Ref sig .tc := ⟨.hbm, 7678, rfl⟩
abbrev main_call29_call0_v124 : Ref sig .tc := ⟨.hbm, 7679, rfl⟩
abbrev main_call29_call0_c_32 : Ref sig .tc := ⟨.hbm, 7680, rfl⟩
abbrev main_call29_call0_v125 : Ref sig .tc := ⟨.hbm, 7681, rfl⟩
abbrev main_call29_call0_v126 : Ref sig .tc := ⟨.hbm, 7682, rfl⟩
abbrev main_call29_call0_v127 : Ref sig .tc := ⟨.hbm, 7683, rfl⟩
abbrev main_call29_call0_v128 : Ref sig .tc := ⟨.hbm, 7684, rfl⟩
abbrev main_call29_call0_v129 : Ref sig .tc := ⟨.hbm, 7685, rfl⟩
abbrev main_call29_call0_c_33 : Ref sig .tc := ⟨.hbm, 7686, rfl⟩
abbrev main_call29_call0_v130 : Ref sig .tc := ⟨.hbm, 7687, rfl⟩
abbrev main_call29_call0_v131 : Ref sig .tc := ⟨.hbm, 7688, rfl⟩
abbrev main_call29_call0_c_34 : Ref sig .tc := ⟨.hbm, 7689, rfl⟩
abbrev main_call29_call0_v132 : Ref sig .tc := ⟨.hbm, 7690, rfl⟩
abbrev main_call29_call0_v133 : Ref sig .tc := ⟨.hbm, 7691, rfl⟩
abbrev main_call29_call0_v134 : Ref sig .tc := ⟨.hbm, 7692, rfl⟩
abbrev main_call29_call0_v135 : Ref sig .tc := ⟨.hbm, 7693, rfl⟩
abbrev main_call29_call0_v136 : Ref sig .tc := ⟨.hbm, 7694, rfl⟩
abbrev main_call29_call0_v137 : Ref sig .tc := ⟨.hbm, 7695, rfl⟩
abbrev main_call29_call0_v138 : Ref sig .tc := ⟨.hbm, 7696, rfl⟩
abbrev main_call29_call0_v139 : Ref sig .tc := ⟨.hbm, 7697, rfl⟩
abbrev main_call29_call0_c_35 : Ref sig .tc := ⟨.hbm, 7698, rfl⟩
abbrev main_call29_call0_v140 : Ref sig .tc := ⟨.hbm, 7699, rfl⟩
abbrev main_call29_call0_v141 : Ref sig .tc := ⟨.hbm, 7700, rfl⟩
abbrev main_call29_call0_v142 : Ref sig .tc := ⟨.hbm, 7701, rfl⟩
abbrev main_call29_call0_c_36 : Ref sig .tc := ⟨.hbm, 7702, rfl⟩
abbrev main_call29_call0_v143 : Ref sig .tc := ⟨.hbm, 7703, rfl⟩
abbrev main_call29_call0_v144 : Ref sig .tc := ⟨.hbm, 7704, rfl⟩
abbrev main_call29_call0_c_37 : Ref sig .tc := ⟨.hbm, 7705, rfl⟩
abbrev main_call29_call0_v145 : Ref sig .tc := ⟨.hbm, 7706, rfl⟩
abbrev main_call29_call0_v146 : Ref sig .tc := ⟨.hbm, 7707, rfl⟩
abbrev main_call29_call0_v147 : Ref sig .tc := ⟨.hbm, 7708, rfl⟩
abbrev main_call29_call0_v148 : Ref sig .tc := ⟨.hbm, 7709, rfl⟩
abbrev main_call29_call0_v149 : Ref sig .tc := ⟨.hbm, 7710, rfl⟩
abbrev main_call29_call0_c_38 : Ref sig .tc := ⟨.hbm, 7711, rfl⟩
abbrev main_call29_call0_v150 : Ref sig .tc := ⟨.hbm, 7712, rfl⟩
abbrev main_call29_call0_v151 : Ref sig .tc := ⟨.hbm, 7713, rfl⟩
abbrev main_call29_call0_c_39 : Ref sig .tc := ⟨.hbm, 7714, rfl⟩
abbrev main_call29_call0_v152 : Ref sig .tc := ⟨.hbm, 7715, rfl⟩
abbrev main_call29_call0_v153 : Ref sig .tc := ⟨.hbm, 7716, rfl⟩
abbrev main_call29_call0_v154 : Ref sig .tc := ⟨.hbm, 7717, rfl⟩
abbrev main_call29_call0_v155 : Ref sig .tc := ⟨.hbm, 7718, rfl⟩
abbrev main_call29_call0_v156 : Ref sig .tc := ⟨.hbm, 7719, rfl⟩
abbrev main_call29_call0_c_40 : Ref sig .tc := ⟨.hbm, 7720, rfl⟩
abbrev main_call29_call0_v157 : Ref sig .tc := ⟨.hbm, 7721, rfl⟩
abbrev main_call29_call0_v158 : Ref sig .tc := ⟨.hbm, 7722, rfl⟩
abbrev main_call29_call0_c_41 : Ref sig .tc := ⟨.hbm, 7723, rfl⟩
abbrev main_call29_call0_v159 : Ref sig .tc := ⟨.hbm, 7724, rfl⟩
abbrev main_call29_call0_v160 : Ref sig .tc := ⟨.hbm, 7725, rfl⟩
abbrev main_call29_call0_v161 : Ref sig .tc := ⟨.hbm, 7726, rfl⟩
abbrev main_call29_call0_v162 : Ref sig .tc := ⟨.hbm, 7727, rfl⟩
abbrev main_call29_call0_v163 : Ref sig .tc := ⟨.hbm, 7728, rfl⟩
abbrev main_call29_call0_c_42 : Ref sig .tc := ⟨.hbm, 7729, rfl⟩
abbrev main_call29_call0_v164 : Ref sig .tc := ⟨.hbm, 7730, rfl⟩
abbrev main_call29_call0_v165 : Ref sig .tc := ⟨.hbm, 7731, rfl⟩
abbrev main_call29_call0_c_43 : Ref sig .tc := ⟨.hbm, 7732, rfl⟩
abbrev main_call29_call0_v166 : Ref sig .tc := ⟨.hbm, 7733, rfl⟩
abbrev main_call29_call0_v167 : Ref sig .tc := ⟨.hbm, 7734, rfl⟩
abbrev main_call29_call0_v168 : Ref sig .tc := ⟨.hbm, 7735, rfl⟩
abbrev main_call29_call0_v169 : Ref sig .tc := ⟨.hbm, 7736, rfl⟩
abbrev main_call29_call0_v170 : Ref sig .tc := ⟨.hbm, 7737, rfl⟩
abbrev main_call29_v15_0 : Ref sig .tc := ⟨.hbm, 7738, rfl⟩
abbrev main_call29_call0_v172 : Ref sig .tc := ⟨.hbm, 7739, rfl⟩
abbrev main_call29_call0_v173 : Ref sig .tc := ⟨.hbm, 7740, rfl⟩
abbrev main_call29_call0_c_44 : Ref sig .tc := ⟨.hbm, 7741, rfl⟩
abbrev main_call29_call0_v174 : Ref sig .tc := ⟨.hbm, 7742, rfl⟩
abbrev main_call29_v15_1 : Ref sig .tc := ⟨.hbm, 7743, rfl⟩
abbrev main_call29_v16 : Ref sig .tc := ⟨.hbm, 7744, rfl⟩
abbrev main_call29_c_1 : Ref sig .tc := ⟨.hbm, 7745, rfl⟩
abbrev main_call29_v17 : Ref sig .tc := ⟨.hbm, 7746, rfl⟩
abbrev main_call29_v18 : Ref sig .tc := ⟨.hbm, 7747, rfl⟩
abbrev main_call29_c_2 : Ref sig .tc := ⟨.hbm, 7748, rfl⟩
abbrev main_call29_v19 : Ref sig .tc := ⟨.hbm, 7749, rfl⟩
abbrev main_call29_v20 : Ref sig .tc := ⟨.hbm, 7750, rfl⟩
abbrev main_call29_v21 : Ref sig .tc := ⟨.hbm, 7751, rfl⟩
abbrev main_call29_cst : Ref sig .tc := ⟨.hbm, 7752, rfl⟩
abbrev main_call29_v22 : Ref sig .tc := ⟨.hbm, 7753, rfl⟩
abbrev main_call29_v23 : Ref sig .tc := ⟨.hbm, 7754, rfl⟩
abbrev main_call29_v24 : Ref sig .tc := ⟨.hbm, 7755, rfl⟩
abbrev main_call29_v25 : Ref sig .tc := ⟨.hbm, 7756, rfl⟩
abbrev main_call29_v26 : Ref sig .tc := ⟨.hbm, 7757, rfl⟩
abbrev main_call29_v27 : Ref sig .tc := ⟨.hbm, 7758, rfl⟩
abbrev main_call29_v28 : Ref sig .tc := ⟨.hbm, 7759, rfl⟩
abbrev main_call29_v29 : Ref sig .tc := ⟨.hbm, 7760, rfl⟩
abbrev main_v96 : Ref sig .tc := ⟨.hbm, 7761, rfl⟩
abbrev main_v97 : Ref sig .tc := ⟨.hbm, 7762, rfl⟩
abbrev main_v98 : Ref sig .tc := ⟨.hbm, 7763, rfl⟩
abbrev main_v99 : Ref sig .tc := ⟨.hbm, 7764, rfl⟩
abbrev main_v100 : Ref sig .tc := ⟨.hbm, 7765, rfl⟩
abbrev main_v101 : Ref sig .tc := ⟨.hbm, 7766, rfl⟩
abbrev main_v102 : Ref sig .tc := ⟨.hbm, 7767, rfl⟩
abbrev main_v103 : Ref sig .tc := ⟨.hbm, 7768, rfl⟩
abbrev main_v104 : Ref sig .tc := ⟨.hbm, 7769, rfl⟩
abbrev main_v105 : Ref sig .tc := ⟨.hbm, 7770, rfl⟩
abbrev main_v106 : Ref sig .tc := ⟨.hbm, 7771, rfl⟩
abbrev main_v107 : Ref sig .tc := ⟨.hbm, 7772, rfl⟩
abbrev main_v108 : Ref sig .tc := ⟨.hbm, 7773, rfl⟩
abbrev main_v109 : Ref sig .tc := ⟨.hbm, 7774, rfl⟩
abbrev main_v110 : Ref sig .tc := ⟨.hbm, 7775, rfl⟩
abbrev main_v111 : Ref sig .tc := ⟨.hbm, 7776, rfl⟩
abbrev main_v112 : Ref sig .tc := ⟨.hbm, 7777, rfl⟩
abbrev main_v113 : Ref sig .tc := ⟨.hbm, 7778, rfl⟩
abbrev main_v114 : Ref sig .tc := ⟨.hbm, 7779, rfl⟩
abbrev main_v115 : Ref sig .tc := ⟨.hbm, 7780, rfl⟩
abbrev main_v116 : Ref sig .tc := ⟨.hbm, 7781, rfl⟩
abbrev main_v117 : Ref sig .tc := ⟨.hbm, 7782, rfl⟩
abbrev main_v118 : Ref sig .tc := ⟨.hbm, 7783, rfl⟩
abbrev main_v119 : Ref sig .tc := ⟨.hbm, 7784, rfl⟩
abbrev main_v120 : Ref sig .tc := ⟨.hbm, 7785, rfl⟩
abbrev main_v121 : Ref sig .tc := ⟨.hbm, 7786, rfl⟩
abbrev main_cst_21 : Ref sig .tc := ⟨.hbm, 7787, rfl⟩
abbrev main_v122 : Ref sig .tc := ⟨.hbm, 7788, rfl⟩
abbrev main_v123 : Ref sig .tc := ⟨.hbm, 7789, rfl⟩
abbrev main_v124 : Ref sig .tc := ⟨.hbm, 7790, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x32768 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32768 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "inv_step" => some ((67108864 / 13421773 : ℝ) : EReal)
  | _ => none
-- ==== ReferenceIdeal.lean ====
abbrev S8x32768 : Shape := ⟨2, ![8, 32768]⟩
abbrev S32768x4 : Shape := ⟨2, ![32768, 4]⟩
abbrev S_ : Shape := ⟨0, ![]⟩
abbrev S1 : Shape := ⟨1, ![1]⟩
abbrev S2 : Shape := ⟨1, ![2]⟩
abbrev S32768 : Shape := ⟨1, ![32768]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S8x32768x4 : Shape := ⟨3, ![8, 32768, 4]⟩
abbrev S1x32768 : Shape := ⟨2, ![1, 32768]⟩
abbrev S32768x1 : Shape := ⟨2, ![32768, 1]⟩
abbrev S32768x2 : Shape := ⟨2, ![32768, 2]⟩
abbrev S1x32768x4 : Shape := ⟨3, ![1, 32768, 4]⟩
abbrev S8 : Shape := ⟨1, ![8]⟩
abbrev S32768x3 : Shape := ⟨2, ![32768, 3]⟩
abbrev S1x32768x1 : Shape := ⟨3, ![1, 32768, 1]⟩
abbrev S1x1x1 : Shape := ⟨3, ![1, 1, 1]⟩
abbrev S8x32768x1 : Shape := ⟨3, ![8, 32768, 1]⟩
abbrev S8x32768x1x1 : Shape := ⟨4, ![8, 32768, 1, 1]⟩
abbrev S1x1x1x1 : Shape := ⟨4, ![1, 1, 1, 1]⟩
abbrev S8x1 : Shape := ⟨2, ![8, 1]⟩

abbrev nBuf : Space → Nat
  | .hbm => 1112
  | .vmem => 0
  | .smem => 0
  | _ => 0

abbrev hbmTy0_0 (i : Nat) : BufTy := match i % 128 with
  | 0 => ⟨S8x32768, .i32⟩
  | 1 => ⟨S32768x4, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .i32⟩
  | 13 => ⟨S_, .i32⟩
  | 14 => ⟨S32768x4, .f32⟩
  | 15 => ⟨S_, .i32⟩
  | 16 => ⟨S_, .i32⟩
  | 17 => ⟨S2, .i32⟩
  | 18 => ⟨S8x32768, .i32⟩
  | 19 => ⟨S_, .i32⟩
  | 20 => ⟨S_, .i1⟩
  | 21 => ⟨S_, .i32⟩
  | 22 => ⟨S_, .i32⟩
  | 23 => ⟨S32768, .i32⟩
  | 24 => ⟨S1, .i32⟩
  | 25 => ⟨S_, .i32⟩
  | 26 => ⟨S1, .i32⟩
  | 27 => ⟨S_, .i32⟩
  | 28 => ⟨S3, .i64⟩
  | 29 => ⟨S_, .i64⟩
  | 30 => ⟨S3, .i64⟩
  | 31 => ⟨S3, .i64⟩
  | 32 => ⟨S_, .i64⟩
  | 33 => ⟨S3, .i64⟩
  | 34 => ⟨S3, .i64⟩
  | 35 => ⟨S3, .i32⟩
  | 36 => ⟨S3, .i32⟩
  | 37 => ⟨S_, .i32⟩
  | 38 => ⟨S_, .i32⟩
  | 39 => ⟨S_, .i32⟩
  | 40 => ⟨S3, .i32⟩
  | 41 => ⟨S3, .i32⟩
  | 42 => ⟨S3, .i32⟩
  | 43 => ⟨S3, .i32⟩
  | 44 => ⟨S3, .i32⟩
  | 45 => ⟨S_, .i32⟩
  | 46 => ⟨S3, .i32⟩
  | 47 => ⟨S3, .i32⟩
  | 48 => ⟨S_, .i32⟩
  | 49 => ⟨S3, .i32⟩
  | 50 => ⟨S3, .i32⟩
  | 51 => ⟨S3, .i32⟩
  | 52 => ⟨S3, .i32⟩
  | 53 => ⟨S3, .i32⟩
  | 54 => ⟨S_, .i32⟩
  | 55 => ⟨S3, .i32⟩
  | 56 => ⟨S3, .i32⟩
  | 57 => ⟨S_, .i32⟩
  | 58 => ⟨S3, .i32⟩
  | 59 => ⟨S3, .i32⟩
  | 60 => ⟨S3, .i32⟩
  | 61 => ⟨S3, .i32⟩
  | 62 => ⟨S3, .i32⟩
  | 63 => ⟨S_, .i32⟩
  | 64 => ⟨S3, .i32⟩
  | 65 => ⟨S3, .i32⟩
  | 66 => ⟨S_, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S_, .i32⟩
  | 76 => ⟨S3, .i32⟩
  | 77 => ⟨S3, .i32⟩
  | 78 => ⟨S3, .i32⟩
  | 79 => ⟨S3, .i32⟩
  | 80 => ⟨S3, .i32⟩
  | 81 => ⟨S3, .i32⟩
  | 82 => ⟨S3, .i32⟩
  | 83 => ⟨S3, .i32⟩
  | 84 => ⟨S_, .i32⟩
  | 85 => ⟨S3, .i32⟩
  | 86 => ⟨S3, .i32⟩
  | 87 => ⟨S3, .i32⟩
  | 88 => ⟨S_, .i32⟩
  | 89 => ⟨S3, .i32⟩
  | 90 => ⟨S3, .i32⟩
  | 91 => ⟨S_, .i32⟩
  | 92 => ⟨S3, .i32⟩
  | 93 => ⟨S3, .i32⟩
  | 94 => ⟨S3, .i32⟩
  | 95 => ⟨S3, .i32⟩
  | 96 => ⟨S3, .i32⟩
  | 97 => ⟨S_, .i32⟩
  | 98 => ⟨S3, .i32⟩
  | 99 => ⟨S3, .i32⟩
  | 100 => ⟨S_, .i32⟩
  | 101 => ⟨S3, .i32⟩
  | 102 => ⟨S3, .i32⟩
  | 103 => ⟨S3, .i32⟩
  | 104 => ⟨S3, .i32⟩
  | 105 => ⟨S3, .i32⟩
  | 106 => ⟨S_, .i32⟩
  | 107 => ⟨S3, .i32⟩
  | 108 => ⟨S3, .i32⟩
  | 109 => ⟨S_, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S_, .i32⟩
  | 119 => ⟨S3, .i32⟩
  | 120 => ⟨S3, .i32⟩
  | 121 => ⟨S3, .i32⟩
  | 122 => ⟨S3, .i32⟩
  | 123 => ⟨S3, .i32⟩
  | 124 => ⟨S3, .i32⟩
  | 125 => ⟨S3, .i32⟩
  | 126 => ⟨S3, .i32⟩
  | 127 => ⟨S_, .i32⟩
  | _ => ⟨S8x32768, .i32⟩

abbrev hbmTy0_1 (i : Nat) : BufTy := match i % 128 with
  | 0 => ⟨S3, .i32⟩
  | 1 => ⟨S3, .i32⟩
  | 2 => ⟨S3, .i32⟩
  | 3 => ⟨S_, .i32⟩
  | 4 => ⟨S3, .i32⟩
  | 5 => ⟨S3, .i32⟩
  | 6 => ⟨S_, .i32⟩
  | 7 => ⟨S3, .i32⟩
  | 8 => ⟨S3, .i32⟩
  | 9 => ⟨S3, .i32⟩
  | 10 => ⟨S3, .i32⟩
  | 11 => ⟨S3, .i32⟩
  | 12 => ⟨S_, .i32⟩
  | 13 => ⟨S3, .i32⟩
  | 14 => ⟨S3, .i32⟩
  | 15 => ⟨S_, .i32⟩
  | 16 => ⟨S3, .i32⟩
  | 17 => ⟨S3, .i32⟩
  | 18 => ⟨S3, .i32⟩
  | 19 => ⟨S3, .i32⟩
  | 20 => ⟨S3, .i32⟩
  | 21 => ⟨S_, .i32⟩
  | 22 => ⟨S3, .i32⟩
  | 23 => ⟨S3, .i32⟩
  | 24 => ⟨S_, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S_, .i32⟩
  | 34 => ⟨S3, .i32⟩
  | 35 => ⟨S3, .i32⟩
  | 36 => ⟨S3, .i32⟩
  | 37 => ⟨S3, .i32⟩
  | 38 => ⟨S3, .i32⟩
  | 39 => ⟨S3, .i32⟩
  | 40 => ⟨S3, .i32⟩
  | 41 => ⟨S3, .i32⟩
  | 42 => ⟨S_, .i32⟩
  | 43 => ⟨S3, .i32⟩
  | 44 => ⟨S3, .i32⟩
  | 45 => ⟨S3, .i32⟩
  | 46 => ⟨S_, .i32⟩
  | 47 => ⟨S3, .i32⟩
  | 48 => ⟨S3, .i32⟩
  | 49 => ⟨S_, .i32⟩
  | 50 => ⟨S3, .i32⟩
  | 51 => ⟨S3, .i32⟩
  | 52 => ⟨S3, .i32⟩
  | 53 => ⟨S3, .i32⟩
  | 54 => ⟨S3, .i32⟩
  | 55 => ⟨S_, .i32⟩
  | 56 => ⟨S3, .i32⟩
  | 57 => ⟨S3, .i32⟩
  | 58 => ⟨S_, .i32⟩
  | 59 => ⟨S3, .i32⟩
  | 60 => ⟨S3, .i32⟩
  | 61 => ⟨S3, .i32⟩
  | 62 => ⟨S3, .i32⟩
  | 63 => ⟨S3, .i32⟩
  | 64 => ⟨S_, .i32⟩
  | 65 => ⟨S3, .i32⟩
  | 66 => ⟨S3, .i32⟩
  | 67 => ⟨S_, .i32⟩
  | 68 => ⟨S3, .i32⟩
  | 69 => ⟨S3, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S_, .i32⟩
  | 77 => ⟨S3, .i32⟩
  | 78 => ⟨S3, .i32⟩
  | 79 => ⟨S3, .i32⟩
  | 80 => ⟨S3, .i32⟩
  | 81 => ⟨S3, .i32⟩
  | 82 => ⟨S3, .i32⟩
  | 83 => ⟨S3, .i32⟩
  | 84 => ⟨S3, .i32⟩
  | 85 => ⟨S_, .i32⟩
  | 86 => ⟨S3, .i32⟩
  | 87 => ⟨S3, .i32⟩
  | 88 => ⟨S3, .i32⟩
  | 89 => ⟨S_, .i32⟩
  | 90 => ⟨S3, .i32⟩
  | 91 => ⟨S3, .i32⟩
  | 92 => ⟨S_, .i32⟩
  | 93 => ⟨S3, .i32⟩
  | 94 => ⟨S3, .i32⟩
  | 95 => ⟨S3, .i32⟩
  | 96 => ⟨S3, .i32⟩
  | 97 => ⟨S3, .i32⟩
  | 98 => ⟨S_, .i32⟩
  | 99 => ⟨S3, .i32⟩
  | 100 => ⟨S3, .i32⟩
  | 101 => ⟨S_, .i32⟩
  | 102 => ⟨S3, .i32⟩
  | 103 => ⟨S3, .i32⟩
  | 104 => ⟨S3, .i32⟩
  | 105 => ⟨S3, .i32⟩
  | 106 => ⟨S3, .i32⟩
  | 107 => ⟨S_, .i32⟩
  | 108 => ⟨S3, .i32⟩
  | 109 => ⟨S3, .i32⟩
  | 110 => ⟨S_, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S_, .i32⟩
  | 120 => ⟨S3, .i32⟩
  | 121 => ⟨S3, .i32⟩
  | 122 => ⟨S3, .i32⟩
  | 123 => ⟨S3, .i32⟩
  | 124 => ⟨S3, .i32⟩
  | 125 => ⟨S3, .i32⟩
  | 126 => ⟨S3, .i32⟩
  | 127 => ⟨S3, .i32⟩
  | _ => ⟨S8x32768, .i32⟩

abbrev hbmTy0_2 (i : Nat) : BufTy := match i % 128 with
  | 0 => ⟨S_, .i32⟩
  | 1 => ⟨S3, .i32⟩
  | 2 => ⟨S3, .i32⟩
  | 3 => ⟨S3x1, .i32⟩
  | 4 => ⟨S3x1, .i32⟩
  | 5 => ⟨S3x2, .i32⟩
  | 6 => ⟨S1x2, .i32⟩
  | 7 => ⟨S2, .i32⟩
  | 8 => ⟨S1x2, .i32⟩
  | 9 => ⟨S2, .i32⟩
  | 10 => ⟨S1x2, .i32⟩
  | 11 => ⟨S2, .i32⟩
  | 12 => ⟨S_, .f32⟩
  | 13 => ⟨S8x32768x4, .f32⟩
  | 14 => ⟨S32768, .i32⟩
  | 15 => ⟨S1x32768, .i32⟩
  | 16 => ⟨S32768, .i32⟩
  | 17 => ⟨S_, .i32⟩
  | 18 => ⟨S32768, .i32⟩
  | 19 => ⟨S32768, .i1⟩
  | 20 => ⟨S_, .i32⟩
  | 21 => ⟨S32768, .i32⟩
  | 22 => ⟨S32768, .i32⟩
  | 23 => ⟨S32768, .i32⟩
  | 24 => ⟨S_, .i32⟩
  | 25 => ⟨S32768, .i32⟩
  | 26 => ⟨S32768, .i1⟩
  | 27 => ⟨S_, .i32⟩
  | 28 => ⟨S32768, .i32⟩
  | 29 => ⟨S32768, .i32⟩
  | 30 => ⟨S32768, .i32⟩
  | 31 => ⟨S32768x1, .i32⟩
  | 32 => ⟨S32768x1, .i32⟩
  | 33 => ⟨S32768x2, .i32⟩
  | 34 => ⟨S_, .f32⟩
  | 35 => ⟨S8x32768, .f32⟩
  | 36 => ⟨S8x32768x4, .f32⟩
  | 37 => ⟨S1x32768x4, .f32⟩
  | 38 => ⟨S8x32768x4, .f32⟩
  | 39 => ⟨S8x32768x4, .f32⟩
  | 40 => ⟨S_, .f32⟩
  | 41 => ⟨S8, .f32⟩
  | 42 => ⟨S_, .f32⟩
  | 43 => ⟨S_, .f32⟩
  | 44 => ⟨S_, .f32⟩
  | 45 => ⟨S8, .f32⟩
  | 46 => ⟨S8x32768x4, .f32⟩
  | 47 => ⟨S8x32768x4, .f32⟩
  | 48 => ⟨S8x32768x4, .f32⟩
  | 49 => ⟨S_, .f32⟩
  | 50 => ⟨S8x32768x4, .f32⟩
  | 51 => ⟨S8x32768x4, .f32⟩
  | 52 => ⟨S1x32768, .i32⟩
  | 53 => ⟨S32768, .i32⟩
  | 54 => ⟨S_, .i32⟩
  | 55 => ⟨S32768, .i32⟩
  | 56 => ⟨S32768, .i1⟩
  | 57 => ⟨S_, .i32⟩
  | 58 => ⟨S32768, .i32⟩
  | 59 => ⟨S32768, .i32⟩
  | 60 => ⟨S32768, .i32⟩
  | 61 => ⟨S_, .i32⟩
  | 62 => ⟨S32768, .i32⟩
  | 63 => ⟨S32768, .i1⟩
  | 64 => ⟨S_, .i32⟩
  | 65 => ⟨S32768, .i32⟩
  | 66 => ⟨S32768, .i32⟩
  | 67 => ⟨S32768, .i32⟩
  | 68 => ⟨S_, .i32⟩
  | 69 => ⟨S32768x1, .i32⟩
  | 70 => ⟨S32768x1, .i32⟩
  | 71 => ⟨S32768x1, .i32⟩
  | 72 => ⟨S32768x3, .i32⟩
  | 73 => ⟨S1x32768, .f32⟩
  | 74 => ⟨S1x32768x1, .f32⟩
  | 75 => ⟨S8x32768x4, .f32⟩
  | 76 => ⟨S8x32768x4, .f32⟩
  | 77 => ⟨S_, .f32⟩
  | 78 => ⟨S8x32768x4, .f32⟩
  | 79 => ⟨S_, .f32⟩
  | 80 => ⟨S8x32768x4, .f32⟩
  | 81 => ⟨S8x32768x4, .f32⟩
  | 82 => ⟨S1x32768, .i32⟩
  | 83 => ⟨S32768, .i32⟩
  | 84 => ⟨S_, .i32⟩
  | 85 => ⟨S32768, .i32⟩
  | 86 => ⟨S32768, .i1⟩
  | 87 => ⟨S_, .i32⟩
  | 88 => ⟨S32768, .i32⟩
  | 89 => ⟨S32768, .i32⟩
  | 90 => ⟨S32768, .i32⟩
  | 91 => ⟨S_, .i32⟩
  | 92 => ⟨S32768, .i32⟩
  | 93 => ⟨S32768, .i1⟩
  | 94 => ⟨S_, .i32⟩
  | 95 => ⟨S32768, .i32⟩
  | 96 => ⟨S32768, .i32⟩
  | 97 => ⟨S32768, .i32⟩
  | 98 => ⟨S_, .i32⟩
  | 99 => ⟨S32768, .i32⟩
  | 100 => ⟨S32768, .i32⟩
  | 101 => ⟨S32768x1, .i32⟩
  | 102 => ⟨S32768x1, .i32⟩
  | 103 => ⟨S32768x1, .i32⟩
  | 104 => ⟨S32768x3, .i32⟩
  | 105 => ⟨S_, .f32⟩
  | 106 => ⟨S32768, .f32⟩
  | 107 => ⟨S8x32768x4, .f32⟩
  | 108 => ⟨S8x32768x4, .f32⟩
  | 109 => ⟨S_, .f32⟩
  | 110 => ⟨S_, .f32⟩
  | 111 => ⟨S_, .f32⟩
  | 112 => ⟨S1x1x1, .f32⟩
  | 113 => ⟨S1x1x1, .f32⟩
  | 114 => ⟨S1, .i32⟩
  | 115 => ⟨S_, .i32⟩
  | 116 => ⟨S1, .i32⟩
  | 117 => ⟨S_, .i32⟩
  | 118 => ⟨S8x32768x4, .i64⟩
  | 119 => ⟨S8x32768x4, .i64⟩
  | 120 => ⟨S8x32768x4, .i64⟩
  | 121 => ⟨S_, .i64⟩
  | 122 => ⟨S8x32768x4, .i64⟩
  | 123 => ⟨S8x32768x4, .i64⟩
  | 124 => ⟨S_, .i64⟩
  | 125 => ⟨S8x32768x4, .i64⟩
  | 126 => ⟨S8x32768x4, .i64⟩
  | 127 => ⟨S_, .i64⟩
  | _ => ⟨S8x32768, .i32⟩

abbrev hbmTy0_3 (i : Nat) : BufTy := match i % 128 with
  | 0 => ⟨S8x32768x4, .i64⟩
  | 1 => ⟨S8x32768x4, .i64⟩
  | 2 => ⟨S8x32768x4, .i64⟩
  | 3 => ⟨S8x32768x4, .i64⟩
  | 4 => ⟨S_, .i64⟩
  | 5 => ⟨S8x32768x4, .i64⟩
  | 6 => ⟨S8x32768x4, .i64⟩
  | 7 => ⟨S8x32768x4, .i32⟩
  | 8 => ⟨S8x32768x4, .i32⟩
  | 9 => ⟨S_, .i32⟩
  | 10 => ⟨S_, .i32⟩
  | 11 => ⟨S_, .i32⟩
  | 12 => ⟨S8x32768x4, .i32⟩
  | 13 => ⟨S8x32768x4, .i32⟩
  | 14 => ⟨S8x32768x4, .i32⟩
  | 15 => ⟨S8x32768x4, .i32⟩
  | 16 => ⟨S8x32768x4, .i32⟩
  | 17 => ⟨S_, .i32⟩
  | 18 => ⟨S8x32768x4, .i32⟩
  | 19 => ⟨S8x32768x4, .i32⟩
  | 20 => ⟨S_, .i32⟩
  | 21 => ⟨S8x32768x4, .i32⟩
  | 22 => ⟨S8x32768x4, .i32⟩
  | 23 => ⟨S8x32768x4, .i32⟩
  | 24 => ⟨S8x32768x4, .i32⟩
  | 25 => ⟨S8x32768x4, .i32⟩
  | 26 => ⟨S_, .i32⟩
  | 27 => ⟨S8x32768x4, .i32⟩
  | 28 => ⟨S8x32768x4, .i32⟩
  | 29 => ⟨S_, .i32⟩
  | 30 => ⟨S8x32768x4, .i32⟩
  | 31 => ⟨S8x32768x4, .i32⟩
  | 32 => ⟨S8x32768x4, .i32⟩
  | 33 => ⟨S8x32768x4, .i32⟩
  | 34 => ⟨S8x32768x4, .i32⟩
  | 35 => ⟨S_, .i32⟩
  | 36 => ⟨S8x32768x4, .i32⟩
  | 37 => ⟨S8x32768x4, .i32⟩
  | 38 => ⟨S_, .i32⟩
  | 39 => ⟨S8x32768x4, .i32⟩
  | 40 => ⟨S8x32768x4, .i32⟩
  | 41 => ⟨S8x32768x4, .i32⟩
  | 42 => ⟨S8x32768x4, .i32⟩
  | 43 => ⟨S8x32768x4, .i32⟩
  | 44 => ⟨S_, .i32⟩
  | 45 => ⟨S8x32768x4, .i32⟩
  | 46 => ⟨S8x32768x4, .i32⟩
  | 47 => ⟨S_, .i32⟩
  | 48 => ⟨S8x32768x4, .i32⟩
  | 49 => ⟨S8x32768x4, .i32⟩
  | 50 => ⟨S8x32768x4, .i32⟩
  | 51 => ⟨S8x32768x4, .i32⟩
  | 52 => ⟨S8x32768x4, .i32⟩
  | 53 => ⟨S8x32768x4, .i32⟩
  | 54 => ⟨S8x32768x4, .i32⟩
  | 55 => ⟨S8x32768x4, .i32⟩
  | 56 => ⟨S_, .i32⟩
  | 57 => ⟨S8x32768x4, .i32⟩
  | 58 => ⟨S8x32768x4, .i32⟩
  | 59 => ⟨S8x32768x4, .i32⟩
  | 60 => ⟨S_, .i32⟩
  | 61 => ⟨S8x32768x4, .i32⟩
  | 62 => ⟨S8x32768x4, .i32⟩
  | 63 => ⟨S_, .i32⟩
  | 64 => ⟨S8x32768x4, .i32⟩
  | 65 => ⟨S8x32768x4, .i32⟩
  | 66 => ⟨S8x32768x4, .i32⟩
  | 67 => ⟨S8x32768x4, .i32⟩
  | 68 => ⟨S8x32768x4, .i32⟩
  | 69 => ⟨S_, .i32⟩
  | 70 => ⟨S8x32768x4, .i32⟩
  | 71 => ⟨S8x32768x4, .i32⟩
  | 72 => ⟨S_, .i32⟩
  | 73 => ⟨S8x32768x4, .i32⟩
  | 74 => ⟨S8x32768x4, .i32⟩
  | 75 => ⟨S8x32768x4, .i32⟩
  | 76 => ⟨S8x32768x4, .i32⟩
  | 77 => ⟨S8x32768x4, .i32⟩
  | 78 => ⟨S_, .i32⟩
  | 79 => ⟨S8x32768x4, .i32⟩
  | 80 => ⟨S8x32768x4, .i32⟩
  | 81 => ⟨S_, .i32⟩
  | 82 => ⟨S8x32768x4, .i32⟩
  | 83 => ⟨S8x32768x4, .i32⟩
  | 84 => ⟨S8x32768x4, .i32⟩
  | 85 => ⟨S8x32768x4, .i32⟩
  | 86 => ⟨S8x32768x4, .i32⟩
  | 87 => ⟨S_, .i32⟩
  | 88 => ⟨S8x32768x4, .i32⟩
  | 89 => ⟨S8x32768x4, .i32⟩
  | 90 => ⟨S_, .i32⟩
  | 91 => ⟨S8x32768x4, .i32⟩
  | 92 => ⟨S8x32768x4, .i32⟩
  | 93 => ⟨S8x32768x4, .i32⟩
  | 94 => ⟨S8x32768x4, .i32⟩
  | 95 => ⟨S8x32768x4, .i32⟩
  | 96 => ⟨S8x32768x4, .i32⟩
  | 97 => ⟨S8x32768x4, .i32⟩
  | 98 => ⟨S8x32768x4, .i32⟩
  | 99 => ⟨S_, .i32⟩
  | 100 => ⟨S8x32768x4, .i32⟩
  | 101 => ⟨S8x32768x4, .i32⟩
  | 102 => ⟨S8x32768x4, .i32⟩
  | 103 => ⟨S_, .i32⟩
  | 104 => ⟨S8x32768x4, .i32⟩
  | 105 => ⟨S8x32768x4, .i32⟩
  | 106 => ⟨S_, .i32⟩
  | 107 => ⟨S8x32768x4, .i32⟩
  | 108 => ⟨S8x32768x4, .i32⟩
  | 109 => ⟨S8x32768x4, .i32⟩
  | 110 => ⟨S8x32768x4, .i32⟩
  | 111 => ⟨S8x32768x4, .i32⟩
  | 112 => ⟨S_, .i32⟩
  | 113 => ⟨S8x32768x4, .i32⟩
  | 114 => ⟨S8x32768x4, .i32⟩
  | 115 => ⟨S_, .i32⟩
  | 116 => ⟨S8x32768x4, .i32⟩
  | 117 => ⟨S8x32768x4, .i32⟩
  | 118 => ⟨S8x32768x4, .i32⟩
  | 119 => ⟨S8x32768x4, .i32⟩
  | 120 => ⟨S8x32768x4, .i32⟩
  | 121 => ⟨S_, .i32⟩
  | 122 => ⟨S8x32768x4, .i32⟩
  | 123 => ⟨S8x32768x4, .i32⟩
  | 124 => ⟨S_, .i32⟩
  | 125 => ⟨S8x32768x4, .i32⟩
  | 126 => ⟨S8x32768x4, .i32⟩
  | 127 => ⟨S8x32768x4, .i32⟩
  | _ => ⟨S8x32768, .i32⟩

abbrev hbmTy0_4 (i : Nat) : BufTy := match i % 128 with
  | 0 => ⟨S8x32768x4, .i32⟩
  | 1 => ⟨S8x32768x4, .i32⟩
  | 2 => ⟨S_, .i32⟩
  | 3 => ⟨S8x32768x4, .i32⟩
  | 4 => ⟨S8x32768x4, .i32⟩
  | 5 => ⟨S_, .i32⟩
  | 6 => ⟨S8x32768x4, .i32⟩
  | 7 => ⟨S8x32768x4, .i32⟩
  | 8 => ⟨S8x32768x4, .i32⟩
  | 9 => ⟨S8x32768x4, .i32⟩
  | 10 => ⟨S8x32768x4, .i32⟩
  | 11 => ⟨S8x32768x4, .i32⟩
  | 12 => ⟨S8x32768x4, .i32⟩
  | 13 => ⟨S8x32768x4, .i32⟩
  | 14 => ⟨S_, .i32⟩
  | 15 => ⟨S8x32768x4, .i32⟩
  | 16 => ⟨S8x32768x4, .i32⟩
  | 17 => ⟨S8x32768x4, .i32⟩
  | 18 => ⟨S_, .i32⟩
  | 19 => ⟨S8x32768x4, .i32⟩
  | 20 => ⟨S8x32768x4, .i32⟩
  | 21 => ⟨S_, .i32⟩
  | 22 => ⟨S8x32768x4, .i32⟩
  | 23 => ⟨S8x32768x4, .i32⟩
  | 24 => ⟨S8x32768x4, .i32⟩
  | 25 => ⟨S8x32768x4, .i32⟩
  | 26 => ⟨S8x32768x4, .i32⟩
  | 27 => ⟨S_, .i32⟩
  | 28 => ⟨S8x32768x4, .i32⟩
  | 29 => ⟨S8x32768x4, .i32⟩
  | 30 => ⟨S_, .i32⟩
  | 31 => ⟨S8x32768x4, .i32⟩
  | 32 => ⟨S8x32768x4, .i32⟩
  | 33 => ⟨S8x32768x4, .i32⟩
  | 34 => ⟨S8x32768x4, .i32⟩
  | 35 => ⟨S8x32768x4, .i32⟩
  | 36 => ⟨S_, .i32⟩
  | 37 => ⟨S8x32768x4, .i32⟩
  | 38 => ⟨S8x32768x4, .i32⟩
  | 39 => ⟨S_, .i32⟩
  | 40 => ⟨S8x32768x4, .i32⟩
  | 41 => ⟨S8x32768x4, .i32⟩
  | 42 => ⟨S8x32768x4, .i32⟩
  | 43 => ⟨S8x32768x4, .i32⟩
  | 44 => ⟨S8x32768x4, .i32⟩
  | 45 => ⟨S_, .i32⟩
  | 46 => ⟨S8x32768x4, .i32⟩
  | 47 => ⟨S8x32768x4, .i32⟩
  | 48 => ⟨S_, .i32⟩
  | 49 => ⟨S8x32768x4, .i32⟩
  | 50 => ⟨S8x32768x4, .i32⟩
  | 51 => ⟨S8x32768x4, .i32⟩
  | 52 => ⟨S8x32768x4, .i32⟩
  | 53 => ⟨S8x32768x4, .i32⟩
  | 54 => ⟨S8x32768x4, .i32⟩
  | 55 => ⟨S8x32768x4, .i32⟩
  | 56 => ⟨S8x32768x4, .i32⟩
  | 57 => ⟨S_, .i32⟩
  | 58 => ⟨S8x32768x4, .i32⟩
  | 59 => ⟨S8x32768x4, .i32⟩
  | 60 => ⟨S8x32768x4, .i32⟩
  | 61 => ⟨S_, .i32⟩
  | 62 => ⟨S8x32768x4, .i32⟩
  | 63 => ⟨S8x32768x4, .i32⟩
  | 64 => ⟨S_, .i32⟩
  | 65 => ⟨S8x32768x4, .i32⟩
  | 66 => ⟨S8x32768x4, .i32⟩
  | 67 => ⟨S8x32768x4, .i32⟩
  | 68 => ⟨S8x32768x4, .i32⟩
  | 69 => ⟨S8x32768x4, .i32⟩
  | 70 => ⟨S_, .i32⟩
  | 71 => ⟨S8x32768x4, .i32⟩
  | 72 => ⟨S8x32768x4, .i32⟩
  | 73 => ⟨S_, .i32⟩
  | 74 => ⟨S8x32768x4, .i32⟩
  | 75 => ⟨S8x32768x4, .i32⟩
  | 76 => ⟨S8x32768x4, .i32⟩
  | 77 => ⟨S8x32768x4, .i32⟩
  | 78 => ⟨S8x32768x4, .i32⟩
  | 79 => ⟨S_, .i32⟩
  | 80 => ⟨S8x32768x4, .i32⟩
  | 81 => ⟨S8x32768x4, .i32⟩
  | 82 => ⟨S_, .i32⟩
  | 83 => ⟨S8x32768x4, .i32⟩
  | 84 => ⟨S8x32768x4, .i32⟩
  | 85 => ⟨S8x32768x4, .i32⟩
  | 86 => ⟨S8x32768x4, .i32⟩
  | 87 => ⟨S8x32768x4, .i32⟩
  | 88 => ⟨S_, .i32⟩
  | 89 => ⟨S8x32768x4, .i32⟩
  | 90 => ⟨S8x32768x4, .i32⟩
  | 91 => ⟨S_, .i32⟩
  | 92 => ⟨S8x32768x4, .i32⟩
  | 93 => ⟨S8x32768x4, .i32⟩
  | 94 => ⟨S8x32768x4, .i32⟩
  | 95 => ⟨S8x32768x4, .i32⟩
  | 96 => ⟨S8x32768x4, .i32⟩
  | 97 => ⟨S8x32768x4, .i32⟩
  | 98 => ⟨S8x32768x4, .i32⟩
  | 99 => ⟨S8x32768x4, .i32⟩
  | 100 => ⟨S_, .i32⟩
  | 101 => ⟨S8x32768x4, .i32⟩
  | 102 => ⟨S8x32768x4, .i32⟩
  | 103 => ⟨S8x32768x4, .i32⟩
  | 104 => ⟨S_, .i32⟩
  | 105 => ⟨S8x32768x4, .i32⟩
  | 106 => ⟨S8x32768x4, .i32⟩
  | 107 => ⟨S_, .i32⟩
  | 108 => ⟨S8x32768x4, .i32⟩
  | 109 => ⟨S8x32768x4, .i32⟩
  | 110 => ⟨S8x32768x4, .f32⟩
  | 111 => ⟨S_, .f32⟩
  | 112 => ⟨S8x32768x4, .f32⟩
  | 113 => ⟨S8x32768x4, .f32⟩
  | 114 => ⟨S1x1x1, .f32⟩
  | 115 => ⟨S8x32768x4, .f32⟩
  | 116 => ⟨S8x32768x4, .f32⟩
  | 117 => ⟨S8x32768x4, .f32⟩
  | 118 => ⟨S8x32768x4, .f32⟩
  | 119 => ⟨S8x32768x4, .f32⟩
  | 120 => ⟨S8x32768x4, .f32⟩
  | 121 => ⟨S8x32768x4, .f32⟩
  | 122 => ⟨S8x32768x4, .f32⟩
  | 123 => ⟨S8x32768x4, .f32⟩
  | 124 => ⟨S8x32768x4, .f32⟩
  | 125 => ⟨S8x32768x4, .f32⟩
  | 126 => ⟨S8x32768x4, .i32⟩
  | 127 => ⟨S_, .f32⟩
  | _ => ⟨S8x32768, .i32⟩

abbrev hbmTy0_5 (i : Nat) : BufTy := match i % 128 with
  | 0 => ⟨S_, .i32⟩
  | 1 => ⟨S8x32768, .f32⟩
  | 2 => ⟨S8x32768, .i32⟩
  | 3 => ⟨S_, .f32⟩
  | 4 => ⟨S8x32768, .f32⟩
  | 5 => ⟨S_, .f32⟩
  | 6 => ⟨S8x32768, .f32⟩
  | 7 => ⟨S8x32768, .f32⟩
  | 8 => ⟨S8x32768x1, .f32⟩
  | 9 => ⟨S8x32768x4, .f32⟩
  | 10 => ⟨S8x32768x4, .f32⟩
  | 11 => ⟨S8x32768x4, .f32⟩
  | 12 => ⟨S_, .f32⟩
  | 13 => ⟨S8x32768, .f32⟩
  | 14 => ⟨S8x32768x1, .f32⟩
  | 15 => ⟨S8x32768x1, .f32⟩
  | 16 => ⟨S8x32768x4, .f32⟩
  | 17 => ⟨S8x32768x4, .f32⟩
  | 18 => ⟨S8x32768x1, .i32⟩
  | 19 => ⟨S_, .i32⟩
  | 20 => ⟨S8x32768x1, .i32⟩
  | 21 => ⟨S8x32768x1, .i1⟩
  | 22 => ⟨S_, .i32⟩
  | 23 => ⟨S8x32768x1, .i32⟩
  | 24 => ⟨S8x32768x1, .i32⟩
  | 25 => ⟨S8x32768x1, .i32⟩
  | 26 => ⟨S8x32768x1x1, .i32⟩
  | 27 => ⟨S1, .i32⟩
  | 28 => ⟨S_, .i32⟩
  | 29 => ⟨S8x32768x1x1, .i32⟩
  | 30 => ⟨S8x32768x1x1, .i1⟩
  | 31 => ⟨S1x1x1x1, .i32⟩
  | 32 => ⟨S8x32768x1x1, .i32⟩
  | 33 => ⟨S8x32768x1x1, .i1⟩
  | 34 => ⟨S8x32768x1x1, .i1⟩
  | 35 => ⟨S_, .i1⟩
  | 36 => ⟨S8x32768x1, .i1⟩
  | 37 => ⟨S8x32768x1, .f32⟩
  | 38 => ⟨S_, .f32⟩
  | 39 => ⟨S8x32768x1, .f32⟩
  | 40 => ⟨S8x32768x1, .f32⟩
  | 41 => ⟨S8x32768, .f32⟩
  | 42 => ⟨S_, .f32⟩
  | 43 => ⟨S8, .f32⟩
  | 44 => ⟨S_, .f32⟩
  | 45 => ⟨S8x32768x4, .f32⟩
  | 46 => ⟨S32768, .i32⟩
  | 47 => ⟨S1x32768, .i32⟩
  | 48 => ⟨S32768, .i32⟩
  | 49 => ⟨S_, .i32⟩
  | 50 => ⟨S32768, .i32⟩
  | 51 => ⟨S32768, .i1⟩
  | 52 => ⟨S_, .i32⟩
  | 53 => ⟨S32768, .i32⟩
  | 54 => ⟨S32768, .i32⟩
  | 55 => ⟨S32768, .i32⟩
  | 56 => ⟨S_, .i32⟩
  | 57 => ⟨S32768, .i32⟩
  | 58 => ⟨S32768, .i1⟩
  | 59 => ⟨S_, .i32⟩
  | 60 => ⟨S32768, .i32⟩
  | 61 => ⟨S32768, .i32⟩
  | 62 => ⟨S32768, .i32⟩
  | 63 => ⟨S32768x1, .i32⟩
  | 64 => ⟨S32768x1, .i32⟩
  | 65 => ⟨S32768x2, .i32⟩
  | 66 => ⟨S_, .f32⟩
  | 67 => ⟨S8x32768, .f32⟩
  | 68 => ⟨S8x32768x4, .f32⟩
  | 69 => ⟨S1x32768x4, .f32⟩
  | 70 => ⟨S8x32768x4, .f32⟩
  | 71 => ⟨S8x32768x4, .f32⟩
  | 72 => ⟨S_, .f32⟩
  | 73 => ⟨S8, .f32⟩
  | 74 => ⟨S_, .f32⟩
  | 75 => ⟨S_, .f32⟩
  | 76 => ⟨S_, .f32⟩
  | 77 => ⟨S8, .f32⟩
  | 78 => ⟨S8x32768x4, .f32⟩
  | 79 => ⟨S8x32768x4, .f32⟩
  | 80 => ⟨S8x32768x4, .f32⟩
  | 81 => ⟨S_, .f32⟩
  | 82 => ⟨S8x32768x4, .f32⟩
  | 83 => ⟨S8x32768x4, .f32⟩
  | 84 => ⟨S1x32768, .i32⟩
  | 85 => ⟨S32768, .i32⟩
  | 86 => ⟨S_, .i32⟩
  | 87 => ⟨S32768, .i32⟩
  | 88 => ⟨S32768, .i1⟩
  | 89 => ⟨S_, .i32⟩
  | 90 => ⟨S32768, .i32⟩
  | 91 => ⟨S32768, .i32⟩
  | 92 => ⟨S32768, .i32⟩
  | 93 => ⟨S_, .i32⟩
  | 94 => ⟨S32768, .i32⟩
  | 95 => ⟨S32768, .i1⟩
  | 96 => ⟨S_, .i32⟩
  | 97 => ⟨S32768, .i32⟩
  | 98 => ⟨S32768, .i32⟩
  | 99 => ⟨S32768, .i32⟩
  | 100 => ⟨S_, .i32⟩
  | 101 => ⟨S32768x1, .i32⟩
  | 102 => ⟨S32768x1, .i32⟩
  | 103 => ⟨S32768x1, .i32⟩
  | 104 => ⟨S32768x3, .i32⟩
  | 105 => ⟨S1x32768, .f32⟩
  | 106 => ⟨S1x32768x1, .f32⟩
  | 107 => ⟨S8x32768x4, .f32⟩
  | 108 => ⟨S8x32768x4, .f32⟩
  | 109 => ⟨S_, .f32⟩
  | 110 => ⟨S8x32768x4, .f32⟩
  | 111 => ⟨S_, .f32⟩
  | 112 => ⟨S8x32768x4, .f32⟩
  | 113 => ⟨S8x32768x4, .f32⟩
  | 114 => ⟨S1x32768, .i32⟩
  | 115 => ⟨S32768, .i32⟩
  | 116 => ⟨S_, .i32⟩
  | 117 => ⟨S32768, .i32⟩
  | 118 => ⟨S32768, .i1⟩
  | 119 => ⟨S_, .i32⟩
  | 120 => ⟨S32768, .i32⟩
  | 121 => ⟨S32768, .i32⟩
  | 122 => ⟨S32768, .i32⟩
  | 123 => ⟨S_, .i32⟩
  | 124 => ⟨S32768, .i32⟩
  | 125 => ⟨S32768, .i1⟩
  | 126 => ⟨S_, .i32⟩
  | 127 => ⟨S32768, .i32⟩
  | _ => ⟨S8x32768, .i32⟩

abbrev hbmTy0_6 (i : Nat) : BufTy := match i % 128 with
  | 0 => ⟨S32768, .i32⟩
  | 1 => ⟨S32768, .i32⟩
  | 2 => ⟨S_, .i32⟩
  | 3 => ⟨S32768, .i32⟩
  | 4 => ⟨S32768, .i32⟩
  | 5 => ⟨S32768x1, .i32⟩
  | 6 => ⟨S32768x1, .i32⟩
  | 7 => ⟨S32768x1, .i32⟩
  | 8 => ⟨S32768x3, .i32⟩
  | 9 => ⟨S_, .f32⟩
  | 10 => ⟨S32768, .f32⟩
  | 11 => ⟨S8x32768x4, .f32⟩
  | 12 => ⟨S8x32768x4, .f32⟩
  | 13 => ⟨S_, .f32⟩
  | 14 => ⟨S8x32768, .f32⟩
  | 15 => ⟨S_, .f32⟩
  | 16 => ⟨S8x32768, .f32⟩
  | 17 => ⟨S8x32768, .f32⟩
  | 18 => ⟨S8x32768x1, .f32⟩
  | 19 => ⟨S8x32768x4, .f32⟩
  | 20 => ⟨S8x32768x4, .f32⟩
  | 21 => ⟨S8x32768x4, .f32⟩
  | 22 => ⟨S_, .f32⟩
  | 23 => ⟨S8x32768, .f32⟩
  | 24 => ⟨S8x32768x1, .f32⟩
  | 25 => ⟨S8x32768x1, .f32⟩
  | 26 => ⟨S8x32768x4, .f32⟩
  | 27 => ⟨S8x32768x4, .f32⟩
  | 28 => ⟨S8x32768x1, .i32⟩
  | 29 => ⟨S_, .i32⟩
  | 30 => ⟨S8x32768x1, .i32⟩
  | 31 => ⟨S8x32768x1, .i1⟩
  | 32 => ⟨S_, .i32⟩
  | 33 => ⟨S8x32768x1, .i32⟩
  | 34 => ⟨S8x32768x1, .i32⟩
  | 35 => ⟨S8x32768x1, .i32⟩
  | 36 => ⟨S8x32768x1x1, .i32⟩
  | 37 => ⟨S1, .i32⟩
  | 38 => ⟨S_, .i32⟩
  | 39 => ⟨S8x32768x1x1, .i32⟩
  | 40 => ⟨S8x32768x1x1, .i1⟩
  | 41 => ⟨S1x1x1x1, .i32⟩
  | 42 => ⟨S8x32768x1x1, .i32⟩
  | 43 => ⟨S8x32768x1x1, .i1⟩
  | 44 => ⟨S8x32768x1x1, .i1⟩
  | 45 => ⟨S_, .i1⟩
  | 46 => ⟨S8x32768x1, .i1⟩
  | 47 => ⟨S8x32768x1, .f32⟩
  | 48 => ⟨S_, .f32⟩
  | 49 => ⟨S8x32768x1, .f32⟩
  | 50 => ⟨S8x32768x1, .f32⟩
  | 51 => ⟨S8x32768, .f32⟩
  | 52 => ⟨S_, .f32⟩
  | 53 => ⟨S8, .f32⟩
  | 54 => ⟨S1x32768x4, .f32⟩
  | 55 => ⟨S8x32768x4, .f32⟩
  | 56 => ⟨S8x32768x4, .f32⟩
  | 57 => ⟨S_, .f32⟩
  | 58 => ⟨S8, .f32⟩
  | 59 => ⟨S1x32768x4, .f32⟩
  | 60 => ⟨S8x32768x4, .f32⟩
  | 61 => ⟨S8x32768x4, .f32⟩
  | 62 => ⟨S_, .f32⟩
  | 63 => ⟨S8, .f32⟩
  | 64 => ⟨S8, .f32⟩
  | 65 => ⟨S8, .f32⟩
  | 66 => ⟨S8, .f32⟩
  | 67 => ⟨S8, .f32⟩
  | 68 => ⟨S_, .f32⟩
  | 69 => ⟨S_, .f32⟩
  | 70 => ⟨S_, .f32⟩
  | 71 => ⟨S_, .f32⟩
  | 72 => ⟨S1, .f32⟩
  | 73 => ⟨S1, .f32⟩
  | 74 => ⟨S1, .i32⟩
  | 75 => ⟨S_, .i32⟩
  | 76 => ⟨S1, .i32⟩
  | 77 => ⟨S_, .i32⟩
  | 78 => ⟨S8, .i64⟩
  | 79 => ⟨S_, .i64⟩
  | 80 => ⟨S8, .i64⟩
  | 81 => ⟨S8, .i64⟩
  | 82 => ⟨S_, .i64⟩
  | 83 => ⟨S8, .i64⟩
  | 84 => ⟨S8, .i64⟩
  | 85 => ⟨S8, .i32⟩
  | 86 => ⟨S8, .i32⟩
  | 87 => ⟨S_, .i32⟩
  | 88 => ⟨S_, .i32⟩
  | 89 => ⟨S_, .i32⟩
  | 90 => ⟨S8, .i32⟩
  | 91 => ⟨S8, .i32⟩
  | 92 => ⟨S8, .i32⟩
  | 93 => ⟨S8, .i32⟩
  | 94 => ⟨S8, .i32⟩
  | 95 => ⟨S_, .i32⟩
  | 96 => ⟨S8, .i32⟩
  | 97 => ⟨S8, .i32⟩
  | 98 => ⟨S_, .i32⟩
  | 99 => ⟨S8, .i32⟩
  | 100 => ⟨S8, .i32⟩
  | 101 => ⟨S8, .i32⟩
  | 102 => ⟨S8, .i32⟩
  | 103 => ⟨S8, .i32⟩
  | 104 => ⟨S_, .i32⟩
  | 105 => ⟨S8, .i32⟩
  | 106 => ⟨S8, .i32⟩
  | 107 => ⟨S_, .i32⟩
  | 108 => ⟨S8, .i32⟩
  | 109 => ⟨S8, .i32⟩
  | 110 => ⟨S8, .i32⟩
  | 111 => ⟨S8, .i32⟩
  | 112 => ⟨S8, .i32⟩
  | 113 => ⟨S_, .i32⟩
  | 114 => ⟨S8, .i32⟩
  | 115 => ⟨S8, .i32⟩
  | 116 => ⟨S_, .i32⟩
  | 117 => ⟨S8, .i32⟩
  | 118 => ⟨S8, .i32⟩
  | 119 => ⟨S8, .i32⟩
  | 120 => ⟨S8, .i32⟩
  | 121 => ⟨S8, .i32⟩
  | 122 => ⟨S_, .i32⟩
  | 123 => ⟨S8, .i32⟩
  | 124 => ⟨S8, .i32⟩
  | 125 => ⟨S_, .i32⟩
  | 126 => ⟨S8, .i32⟩
  | 127 => ⟨S8, .i32⟩
  | _ => ⟨S8x32768, .i32⟩

abbrev hbmTy0_7 (i : Nat) : BufTy := match i % 128 with
  | 0 => ⟨S8, .i32⟩
  | 1 => ⟨S8, .i32⟩
  | 2 => ⟨S8, .i32⟩
  | 3 => ⟨S8, .i32⟩
  | 4 => ⟨S8, .i32⟩
  | 5 => ⟨S8, .i32⟩
  | 6 => ⟨S_, .i32⟩
  | 7 => ⟨S8, .i32⟩
  | 8 => ⟨S8, .i32⟩
  | 9 => ⟨S8, .i32⟩
  | 10 => ⟨S_, .i32⟩
  | 11 => ⟨S8, .i32⟩
  | 12 => ⟨S8, .i32⟩
  | 13 => ⟨S_, .i32⟩
  | 14 => ⟨S8, .i32⟩
  | 15 => ⟨S8, .i32⟩
  | 16 => ⟨S8, .i32⟩
  | 17 => ⟨S8, .i32⟩
  | 18 => ⟨S8, .i32⟩
  | 19 => ⟨S_, .i32⟩
  | 20 => ⟨S8, .i32⟩
  | 21 => ⟨S8, .i32⟩
  | 22 => ⟨S_, .i32⟩
  | 23 => ⟨S8, .i32⟩
  | 24 => ⟨S8, .i32⟩
  | 25 => ⟨S8, .i32⟩
  | 26 => ⟨S8, .i32⟩
  | 27 => ⟨S8, .i32⟩
  | 28 => ⟨S_, .i32⟩
  | 29 => ⟨S8, .i32⟩
  | 30 => ⟨S8, .i32⟩
  | 31 => ⟨S_, .i32⟩
  | 32 => ⟨S8, .i32⟩
  | 33 => ⟨S8, .i32⟩
  | 34 => ⟨S8, .i32⟩
  | 35 => ⟨S8, .i32⟩
  | 36 => ⟨S8, .i32⟩
  | 37 => ⟨S_, .i32⟩
  | 38 => ⟨S8, .i32⟩
  | 39 => ⟨S8, .i32⟩
  | 40 => ⟨S_, .i32⟩
  | 41 => ⟨S8, .i32⟩
  | 42 => ⟨S8, .i32⟩
  | 43 => ⟨S8, .i32⟩
  | 44 => ⟨S8, .i32⟩
  | 45 => ⟨S8, .i32⟩
  | 46 => ⟨S8, .i32⟩
  | 47 => ⟨S8, .i32⟩
  | 48 => ⟨S8, .i32⟩
  | 49 => ⟨S_, .i32⟩
  | 50 => ⟨S8, .i32⟩
  | 51 => ⟨S8, .i32⟩
  | 52 => ⟨S8, .i32⟩
  | 53 => ⟨S_, .i32⟩
  | 54 => ⟨S8, .i32⟩
  | 55 => ⟨S8, .i32⟩
  | 56 => ⟨S_, .i32⟩
  | 57 => ⟨S8, .i32⟩
  | 58 => ⟨S8, .i32⟩
  | 59 => ⟨S8, .i32⟩
  | 60 => ⟨S8, .i32⟩
  | 61 => ⟨S8, .i32⟩
  | 62 => ⟨S_, .i32⟩
  | 63 => ⟨S8, .i32⟩
  | 64 => ⟨S8, .i32⟩
  | 65 => ⟨S_, .i32⟩
  | 66 => ⟨S8, .i32⟩
  | 67 => ⟨S8, .i32⟩
  | 68 => ⟨S8, .i32⟩
  | 69 => ⟨S8, .i32⟩
  | 70 => ⟨S8, .i32⟩
  | 71 => ⟨S_, .i32⟩
  | 72 => ⟨S8, .i32⟩
  | 73 => ⟨S8, .i32⟩
  | 74 => ⟨S_, .i32⟩
  | 75 => ⟨S8, .i32⟩
  | 76 => ⟨S8, .i32⟩
  | 77 => ⟨S8, .i32⟩
  | 78 => ⟨S8, .i32⟩
  | 79 => ⟨S8, .i32⟩
  | 80 => ⟨S_, .i32⟩
  | 81 => ⟨S8, .i32⟩
  | 82 => ⟨S8, .i32⟩
  | 83 => ⟨S_, .i32⟩
  | 84 => ⟨S8, .i32⟩
  | 85 => ⟨S8, .i32⟩
  | 86 => ⟨S8, .i32⟩
  | 87 => ⟨S8, .i32⟩
  | 88 => ⟨S8, .i32⟩
  | 89 => ⟨S8, .i32⟩
  | 90 => ⟨S8, .i32⟩
  | 91 => ⟨S8, .i32⟩
  | 92 => ⟨S_, .i32⟩
  | 93 => ⟨S8, .i32⟩
  | 94 => ⟨S8, .i32⟩
  | 95 => ⟨S8, .i32⟩
  | 96 => ⟨S_, .i32⟩
  | 97 => ⟨S8, .i32⟩
  | 98 => ⟨S8, .i32⟩
  | 99 => ⟨S_, .i32⟩
  | 100 => ⟨S8, .i32⟩
  | 101 => ⟨S8, .i32⟩
  | 102 => ⟨S8, .i32⟩
  | 103 => ⟨S8, .i32⟩
  | 104 => ⟨S8, .i32⟩
  | 105 => ⟨S_, .i32⟩
  | 106 => ⟨S8, .i32⟩
  | 107 => ⟨S8, .i32⟩
  | 108 => ⟨S_, .i32⟩
  | 109 => ⟨S8, .i32⟩
  | 110 => ⟨S8, .i32⟩
  | 111 => ⟨S8, .i32⟩
  | 112 => ⟨S8, .i32⟩
  | 113 => ⟨S8, .i32⟩
  | 114 => ⟨S_, .i32⟩
  | 115 => ⟨S8, .i32⟩
  | 116 => ⟨S8, .i32⟩
  | 117 => ⟨S_, .i32⟩
  | 118 => ⟨S8, .i32⟩
  | 119 => ⟨S8, .i32⟩
  | 120 => ⟨S8, .i32⟩
  | 121 => ⟨S8, .i32⟩
  | 122 => ⟨S8, .i32⟩
  | 123 => ⟨S_, .i32⟩
  | 124 => ⟨S8, .i32⟩
  | 125 => ⟨S8, .i32⟩
  | 126 => ⟨S_, .i32⟩
  | 127 => ⟨S8, .i32⟩
  | _ => ⟨S8x32768, .i32⟩

abbrev hbmTy0_8 (i : Nat) : BufTy := match i % 128 with
  | 0 => ⟨S8, .i32⟩
  | 1 => ⟨S8, .i32⟩
  | 2 => ⟨S8, .i32⟩
  | 3 => ⟨S8, .i32⟩
  | 4 => ⟨S8, .i32⟩
  | 5 => ⟨S8, .i32⟩
  | 6 => ⟨S8, .i32⟩
  | 7 => ⟨S_, .i32⟩
  | 8 => ⟨S8, .i32⟩
  | 9 => ⟨S8, .i32⟩
  | 10 => ⟨S8, .i32⟩
  | 11 => ⟨S_, .i32⟩
  | 12 => ⟨S8, .i32⟩
  | 13 => ⟨S8, .i32⟩
  | 14 => ⟨S_, .i32⟩
  | 15 => ⟨S8, .i32⟩
  | 16 => ⟨S8, .i32⟩
  | 17 => ⟨S8, .i32⟩
  | 18 => ⟨S8, .i32⟩
  | 19 => ⟨S8, .i32⟩
  | 20 => ⟨S_, .i32⟩
  | 21 => ⟨S8, .i32⟩
  | 22 => ⟨S8, .i32⟩
  | 23 => ⟨S_, .i32⟩
  | 24 => ⟨S8, .i32⟩
  | 25 => ⟨S8, .i32⟩
  | 26 => ⟨S8, .i32⟩
  | 27 => ⟨S8, .i32⟩
  | 28 => ⟨S8, .i32⟩
  | 29 => ⟨S_, .i32⟩
  | 30 => ⟨S8, .i32⟩
  | 31 => ⟨S8, .i32⟩
  | 32 => ⟨S_, .i32⟩
  | 33 => ⟨S8, .i32⟩
  | 34 => ⟨S8, .i32⟩
  | 35 => ⟨S8, .i32⟩
  | 36 => ⟨S8, .i32⟩
  | 37 => ⟨S8, .i32⟩
  | 38 => ⟨S_, .i32⟩
  | 39 => ⟨S8, .i32⟩
  | 40 => ⟨S8, .i32⟩
  | 41 => ⟨S_, .i32⟩
  | 42 => ⟨S8, .i32⟩
  | 43 => ⟨S8, .i32⟩
  | 44 => ⟨S8, .i32⟩
  | 45 => ⟨S8, .i32⟩
  | 46 => ⟨S8, .i32⟩
  | 47 => ⟨S8, .i32⟩
  | 48 => ⟨S8, .i32⟩
  | 49 => ⟨S8, .i32⟩
  | 50 => ⟨S_, .i32⟩
  | 51 => ⟨S8, .i32⟩
  | 52 => ⟨S8, .i32⟩
  | 53 => ⟨S8, .i32⟩
  | 54 => ⟨S_, .i32⟩
  | 55 => ⟨S8, .i32⟩
  | 56 => ⟨S8, .i32⟩
  | 57 => ⟨S_, .i32⟩
  | 58 => ⟨S8, .i32⟩
  | 59 => ⟨S8, .i32⟩
  | 60 => ⟨S8, .f32⟩
  | 61 => ⟨S_, .f32⟩
  | 62 => ⟨S8, .f32⟩
  | 63 => ⟨S8, .f32⟩
  | 64 => ⟨S1, .f32⟩
  | 65 => ⟨S8, .f32⟩
  | 66 => ⟨S8, .f32⟩
  | 67 => ⟨S8, .f32⟩
  | 68 => ⟨S8, .f32⟩
  | 69 => ⟨S8, .f32⟩
  | 70 => ⟨S8, .f32⟩
  | 71 => ⟨S8, .i1⟩
  | 72 => ⟨S8, .f32⟩
  | 73 => ⟨S8x32768, .f32⟩
  | 74 => ⟨S8x1, .f32⟩
  | 75 => ⟨S8x32768, .f32⟩
  | 76 => ⟨S8x32768, .f32⟩
  | 77 => ⟨S8x32768, .f32⟩
  | 78 => ⟨S8x1, .f32⟩
  | 79 => ⟨S_, .f32⟩
  | 80 => ⟨S8x1, .f32⟩
  | 81 => ⟨S8x1, .f32⟩
  | 82 => ⟨S8x32768, .f32⟩
  | 83 => ⟨S8x32768, .f32⟩
  | 84 => ⟨S8x32768, .f32⟩
  | 85 => ⟨S8x32768, .i32⟩
  | 86 => ⟨S_, .i32⟩
  | 87 => ⟨S_, .i32⟩
  | _ => ⟨S8x32768, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S8x32768, .i32⟩

abbrev bufTy : (tb : Table) → Fin (tcTables nBuf tb) → BufTy
  | .hbm, ⟨i, _⟩ => hbmTy i
  | _, _ => ⟨S8x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_c_3 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_while0c_c_8 : Ref sig .tc := ⟨.hbm, 19, rfl⟩
abbrev main_while0c_v8 : Ref sig .tc := ⟨.hbm, 20, rfl⟩
abbrev main_while0b_c_8 : Ref sig .tc := ⟨.hbm, 21, rfl⟩
abbrev main_while0b_v8 : Ref sig .tc := ⟨.hbm, 22, rfl⟩
abbrev main_while0b_v9 : Ref sig .tc := ⟨.hbm, 23, rfl⟩
abbrev main_while0b_call0_v0 : Ref sig .tc := ⟨.hbm, 24, rfl⟩
abbrev main_while0b_call0_v1 : Ref sig .tc := ⟨.hbm, 25, rfl⟩
abbrev main_while0b_call0_v2 : Ref sig .tc := ⟨.hbm, 26, rfl⟩
abbrev main_while0b_call0_v3 : Ref sig .tc := ⟨.hbm, 27, rfl⟩
abbrev main_while0b_call0_v4 : Ref sig .tc := ⟨.hbm, 28, rfl⟩
abbrev main_while0b_call0_c : Ref sig .tc := ⟨.hbm, 29, rfl⟩
abbrev main_while0b_call0_v5 : Ref sig .tc := ⟨.hbm, 30, rfl⟩
abbrev main_while0b_call0_v6 : Ref sig .tc := ⟨.hbm, 31, rfl⟩
abbrev main_while0b_call0_c_0 : Ref sig .tc := ⟨.hbm, 32, rfl⟩
abbrev main_while0b_call0_v7 : Ref sig .tc := ⟨.hbm, 33, rfl⟩
abbrev main_while0b_call0_v8 : Ref sig .tc := ⟨.hbm, 34, rfl⟩
abbrev main_while0b_call0_v9 : Ref sig .tc := ⟨.hbm, 35, rfl⟩
abbrev main_while0b_call0_v10 : Ref sig .tc := ⟨.hbm, 36, rfl⟩
abbrev main_while0b_call0_call0_v0 : Ref sig .tc := ⟨.hbm, 37, rfl⟩
abbrev main_while0b_call0_call0_c : Ref sig .tc := ⟨.hbm, 38, rfl⟩
abbrev main_while0b_call0_call0_v1 : Ref sig .tc := ⟨.hbm, 39, rfl⟩
abbrev main_while0b_call0_call0_v2 : Ref sig .tc := ⟨.hbm, 40, rfl⟩
abbrev main_while0b_call0_call0_v3 : Ref sig .tc := ⟨.hbm, 41, rfl⟩
abbrev main_while0b_call0_call0_v4 : Ref sig .tc := ⟨.hbm, 42, rfl⟩
abbrev main_while0b_call0_call0_v5 : Ref sig .tc := ⟨.hbm, 43, rfl⟩
abbrev main_while0b_call0_call0_v6 : Ref sig .tc := ⟨.hbm, 44, rfl⟩
abbrev main_while0b_call0_call0_c_0 : Ref sig .tc := ⟨.hbm, 45, rfl⟩
abbrev main_while0b_call0_call0_v7 : Ref sig .tc := ⟨.hbm, 46, rfl⟩
abbrev main_while0b_call0_call0_v8 : Ref sig .tc := ⟨.hbm, 47, rfl⟩
abbrev main_while0b_call0_call0_c_1 : Ref sig .tc := ⟨.hbm, 48, rfl⟩
abbrev main_while0b_call0_call0_v9 : Ref sig .tc := ⟨.hbm, 49, rfl⟩
abbrev main_while0b_call0_call0_v10 : Ref sig .tc := ⟨.hbm, 50, rfl⟩
abbrev main_while0b_call0_call0_v11 : Ref sig .tc := ⟨.hbm, 51, rfl⟩
abbrev main_while0b_call0_call0_v12 : Ref sig .tc := ⟨.hbm, 52, rfl⟩
abbrev main_while0b_call0_call0_v13 : Ref sig .tc := ⟨.hbm, 53, rfl⟩
abbrev main_while0b_call0_call0_c_2 : Ref sig .tc := ⟨.hbm, 54, rfl⟩
abbrev main_while0b_call0_call0_v14 : Ref sig .tc := ⟨.hbm, 55, rfl⟩
abbrev main_while0b_call0_call0_v15 : Ref sig .tc := ⟨.hbm, 56, rfl⟩
abbrev main_while0b_call0_call0_c_3 : Ref sig .tc := ⟨.hbm, 57, rfl⟩
abbrev main_while0b_call0_call0_v16 : Ref sig .tc := ⟨.hbm, 58, rfl⟩
abbrev main_while0b_call0_call0_v17 : Ref sig .tc := ⟨.hbm, 59, rfl⟩
abbrev main_while0b_call0_call0_v18 : Ref sig .tc := ⟨.hbm, 60, rfl⟩
abbrev main_while0b_call0_call0_v19 : Ref sig .tc := ⟨.hbm, 61, rfl⟩
abbrev main_while0b_call0_call0_v20 : Ref sig .tc := ⟨.hbm, 62, rfl⟩
abbrev main_while0b_call0_call0_c_4 : Ref sig .tc := ⟨.hbm, 63, rfl⟩
abbrev main_while0b_call0_call0_v21 : Ref sig .tc := ⟨.hbm, 64, rfl⟩
abbrev main_while0b_call0_call0_v22 : Ref sig .tc := ⟨.hbm, 65, rfl⟩
abbrev main_while0b_call0_call0_c_5 : Ref sig .tc := ⟨.hbm, 66, rfl⟩
abbrev main_while0b_call0_call0_v23 : Ref sig .tc := ⟨.hbm, 67, rfl⟩
abbrev main_while0b_call0_call0_v24 : Ref sig .tc := ⟨.hbm, 68, rfl⟩
abbrev main_while0b_call0_call0_v25 : Ref sig .tc := ⟨.hbm, 69, rfl⟩
abbrev main_while0b_call0_call0_v26 : Ref sig .tc := ⟨.hbm, 70, rfl⟩
abbrev main_while0b_call0_call0_v27 : Ref sig .tc := ⟨.hbm, 71, rfl⟩
abbrev main_while0b_call0_call0_c_6 : Ref sig .tc := ⟨.hbm, 72, rfl⟩
abbrev main_while0b_call0_call0_v28 : Ref sig .tc := ⟨.hbm, 73, rfl⟩
abbrev main_while0b_call0_call0_v29 : Ref sig .tc := ⟨.hbm, 74, rfl⟩
abbrev main_while0b_call0_call0_c_7 : Ref sig .tc := ⟨.hbm, 75, rfl⟩
abbrev main_while0b_call0_call0_v30 : Ref sig .tc := ⟨.hbm, 76, rfl⟩
abbrev main_while0b_call0_call0_v31 : Ref sig .tc := ⟨.hbm, 77, rfl⟩
abbrev main_while0b_call0_call0_v32 : Ref sig .tc := ⟨.hbm, 78, rfl⟩
abbrev main_while0b_call0_call0_v33 : Ref sig .tc := ⟨.hbm, 79, rfl⟩
abbrev main_while0b_call0_call0_v34 : Ref sig .tc := ⟨.hbm, 80, rfl⟩
abbrev main_while0b_call0_call0_v35 : Ref sig .tc := ⟨.hbm, 81, rfl⟩
abbrev main_while0b_call0_call0_v36 : Ref sig .tc := ⟨.hbm, 82, rfl⟩
abbrev main_while0b_call0_call0_v37 : Ref sig .tc := ⟨.hbm, 83, rfl⟩
abbrev main_while0b_call0_call0_c_8 : Ref sig .tc := ⟨.hbm, 84, rfl⟩
abbrev main_while0b_call0_call0_v38 : Ref sig .tc := ⟨.hbm, 85, rfl⟩
abbrev main_while0b_call0_call0_v39 : Ref sig .tc := ⟨.hbm, 86, rfl⟩
abbrev main_while0b_call0_call0_v40 : Ref sig .tc := ⟨.hbm, 87, rfl⟩
abbrev main_while0b_call0_call0_c_9 : Ref sig .tc := ⟨.hbm, 88, rfl⟩
abbrev main_while0b_call0_call0_v41 : Ref sig .tc := ⟨.hbm, 89, rfl⟩
abbrev main_while0b_call0_call0_v42 : Ref sig .tc := ⟨.hbm, 90, rfl⟩
abbrev main_while0b_call0_call0_c_10 : Ref sig .tc := ⟨.hbm, 91, rfl⟩
abbrev main_while0b_call0_call0_v43 : Ref sig .tc := ⟨.hbm, 92, rfl⟩
abbrev main_while0b_call0_call0_v44 : Ref sig .tc := ⟨.hbm, 93, rfl⟩
abbrev main_while0b_call0_call0_v45 : Ref sig .tc := ⟨.hbm, 94, rfl⟩
abbrev main_while0b_call0_call0_v46 : Ref sig .tc := ⟨.hbm, 95, rfl⟩
abbrev main_while0b_call0_call0_v47 : Ref sig .tc := ⟨.hbm, 96, rfl⟩
abbrev main_while0b_call0_call0_c_11 : Ref sig .tc := ⟨.hbm, 97, rfl⟩
abbrev main_while0b_call0_call0_v48 : Ref sig .tc := ⟨.hbm, 98, rfl⟩
abbrev main_while0b_call0_call0_v49 : Ref sig .tc := ⟨.hbm, 99, rfl⟩
abbrev main_while0b_call0_call0_c_12 : Ref sig .tc := ⟨.hbm, 100, rfl⟩
abbrev main_while0b_call0_call0_v50 : Ref sig .tc := ⟨.hbm, 101, rfl⟩
abbrev main_while0b_call0_call0_v51 : Ref sig .tc := ⟨.hbm, 102, rfl⟩
abbrev main_while0b_call0_call0_v52 : Ref sig .tc := ⟨.hbm, 103, rfl⟩
abbrev main_while0b_call0_call0_v53 : Ref sig .tc := ⟨.hbm, 104, rfl⟩
abbrev main_while0b_call0_call0_v54 : Ref sig .tc := ⟨.hbm, 105, rfl⟩
abbrev main_while0b_call0_call0_c_13 : Ref sig .tc := ⟨.hbm, 106, rfl⟩
abbrev main_while0b_call0_call0_v55 : Ref sig .tc := ⟨.hbm, 107, rfl⟩
abbrev main_while0b_call0_call0_v56 : Ref sig .tc := ⟨.hbm, 108, rfl⟩
abbrev main_while0b_call0_call0_c_14 : Ref sig .tc := ⟨.hbm, 109, rfl⟩
abbrev main_while0b_call0_call0_v57 : Ref sig .tc := ⟨.hbm, 110, rfl⟩
abbrev main_while0b_call0_call0_v58 : Ref sig .tc := ⟨.hbm, 111, rfl⟩
abbrev main_while0b_call0_call0_v59 : Ref sig .tc := ⟨.hbm, 112, rfl⟩
abbrev main_while0b_call0_call0_v60 : Ref sig .tc := ⟨.hbm, 113, rfl⟩
abbrev main_while0b_call0_call0_v61 : Ref sig .tc := ⟨.hbm, 114, rfl⟩
abbrev main_while0b_call0_call0_c_15 : Ref sig .tc := ⟨.hbm, 115, rfl⟩
abbrev main_while0b_call0_call0_v62 : Ref sig .tc := ⟨.hbm, 116, rfl⟩
abbrev main_while0b_call0_call0_v63 : Ref sig .tc := ⟨.hbm, 117, rfl⟩
abbrev main_while0b_call0_call0_c_16 : Ref sig .tc := ⟨.hbm, 118, rfl⟩
abbrev main_while0b_call0_call0_v64 : Ref sig .tc := ⟨.hbm, 119, rfl⟩
abbrev main_while0b_call0_call0_v65 : Ref sig .tc := ⟨.hbm, 120, rfl⟩
abbrev main_while0b_call0_call0_v66 : Ref sig .tc := ⟨.hbm, 121, rfl⟩
abbrev main_while0b_call0_call0_v67 : Ref sig .tc := ⟨.hbm, 122, rfl⟩
abbrev main_while0b_call0_call0_v68 : Ref sig .tc := ⟨.hbm, 123, rfl⟩
abbrev main_while0b_call0_call0_v69 : Ref sig .tc := ⟨.hbm, 124, rfl⟩
abbrev main_while0b_call0_call0_v70 : Ref sig .tc := ⟨.hbm, 125, rfl⟩
abbrev main_while0b_call0_call0_v71 : Ref sig .tc := ⟨.hbm, 126, rfl⟩
abbrev main_while0b_call0_call0_c_17 : Ref sig .tc := ⟨.hbm, 127, rfl⟩
abbrev main_while0b_call0_call0_v72 : Ref sig .tc := ⟨.hbm, 128, rfl⟩
abbrev main_while0b_call0_call0_v73 : Ref sig .tc := ⟨.hbm, 129, rfl⟩
abbrev main_while0b_call0_call0_v74 : Ref sig .tc := ⟨.hbm, 130, rfl⟩
abbrev main_while0b_call0_call0_c_18 : Ref sig .tc := ⟨.hbm, 131, rfl⟩
abbrev main_while0b_call0_call0_v75 : Ref sig .tc := ⟨.hbm, 132, rfl⟩
abbrev main_while0b_call0_call0_v76 : Ref sig .tc := ⟨.hbm, 133, rfl⟩
abbrev main_while0b_call0_call0_c_19 : Ref sig .tc := ⟨.hbm, 134, rfl⟩
abbrev main_while0b_call0_call0_v77 : Ref sig .tc := ⟨.hbm, 135, rfl⟩
abbrev main_while0b_call0_call0_v78 : Ref sig .tc := ⟨.hbm, 136, rfl⟩
abbrev main_while0b_call0_call0_v79 : Ref sig .tc := ⟨.hbm, 137, rfl⟩
abbrev main_while0b_call0_call0_v80 : Ref sig .tc := ⟨.hbm, 138, rfl⟩
abbrev main_while0b_call0_call0_v81 : Ref sig .tc := ⟨.hbm, 139, rfl⟩
abbrev main_while0b_call0_call0_c_20 : Ref sig .tc := ⟨.hbm, 140, rfl⟩
abbrev main_while0b_call0_call0_v82 : Ref sig .tc := ⟨.hbm, 141, rfl⟩
abbrev main_while0b_call0_call0_v83 : Ref sig .tc := ⟨.hbm, 142, rfl⟩
abbrev main_while0b_call0_call0_c_21 : Ref sig .tc := ⟨.hbm, 143, rfl⟩
abbrev main_while0b_call0_call0_v84 : Ref sig .tc := ⟨.hbm, 144, rfl⟩
abbrev main_while0b_call0_call0_v85 : Ref sig .tc := ⟨.hbm, 145, rfl⟩
abbrev main_while0b_call0_call0_v86 : Ref sig .tc := ⟨.hbm, 146, rfl⟩
abbrev main_while0b_call0_call0_v87 : Ref sig .tc := ⟨.hbm, 147, rfl⟩
abbrev main_while0b_call0_call0_v88 : Ref sig .tc := ⟨.hbm, 148, rfl⟩
abbrev main_while0b_call0_call0_c_22 : Ref sig .tc := ⟨.hbm, 149, rfl⟩
abbrev main_while0b_call0_call0_v89 : Ref sig .tc := ⟨.hbm, 150, rfl⟩
abbrev main_while0b_call0_call0_v90 : Ref sig .tc := ⟨.hbm, 151, rfl⟩
abbrev main_while0b_call0_call0_c_23 : Ref sig .tc := ⟨.hbm, 152, rfl⟩
abbrev main_while0b_call0_call0_v91 : Ref sig .tc := ⟨.hbm, 153, rfl⟩
abbrev main_while0b_call0_call0_v92 : Ref sig .tc := ⟨.hbm, 154, rfl⟩
abbrev main_while0b_call0_call0_v93 : Ref sig .tc := ⟨.hbm, 155, rfl⟩
abbrev main_while0b_call0_call0_v94 : Ref sig .tc := ⟨.hbm, 156, rfl⟩
abbrev main_while0b_call0_call0_v95 : Ref sig .tc := ⟨.hbm, 157, rfl⟩
abbrev main_while0b_call0_call0_c_24 : Ref sig .tc := ⟨.hbm, 158, rfl⟩
abbrev main_while0b_call0_call0_v96 : Ref sig .tc := ⟨.hbm, 159, rfl⟩
abbrev main_while0b_call0_call0_v97 : Ref sig .tc := ⟨.hbm, 160, rfl⟩
abbrev main_while0b_call0_call0_c_25 : Ref sig .tc := ⟨.hbm, 161, rfl⟩
abbrev main_while0b_call0_call0_v98 : Ref sig .tc := ⟨.hbm, 162, rfl⟩
abbrev main_while0b_call0_call0_v99 : Ref sig .tc := ⟨.hbm, 163, rfl⟩
abbrev main_while0b_call0_call0_v100 : Ref sig .tc := ⟨.hbm, 164, rfl⟩
abbrev main_while0b_call0_call0_v101 : Ref sig .tc := ⟨.hbm, 165, rfl⟩
abbrev main_while0b_call0_call0_v102 : Ref sig .tc := ⟨.hbm, 166, rfl⟩
abbrev main_while0b_call0_call0_v103 : Ref sig .tc := ⟨.hbm, 167, rfl⟩
abbrev main_while0b_call0_call0_v104 : Ref sig .tc := ⟨.hbm, 168, rfl⟩
abbrev main_while0b_call0_call0_v105 : Ref sig .tc := ⟨.hbm, 169, rfl⟩
abbrev main_while0b_call0_call0_c_26 : Ref sig .tc := ⟨.hbm, 170, rfl⟩
abbrev main_while0b_call0_call0_v106 : Ref sig .tc := ⟨.hbm, 171, rfl⟩
abbrev main_while0b_call0_call0_v107 : Ref sig .tc := ⟨.hbm, 172, rfl⟩
abbrev main_while0b_call0_call0_v108 : Ref sig .tc := ⟨.hbm, 173, rfl⟩
abbrev main_while0b_call0_call0_c_27 : Ref sig .tc := ⟨.hbm, 174, rfl⟩
abbrev main_while0b_call0_call0_v109 : Ref sig .tc := ⟨.hbm, 175, rfl⟩
abbrev main_while0b_call0_call0_v110 : Ref sig .tc := ⟨.hbm, 176, rfl⟩
abbrev main_while0b_call0_call0_c_28 : Ref sig .tc := ⟨.hbm, 177, rfl⟩
abbrev main_while0b_call0_call0_v111 : Ref sig .tc := ⟨.hbm, 178, rfl⟩
abbrev main_while0b_call0_call0_v112 : Ref sig .tc := ⟨.hbm, 179, rfl⟩
abbrev main_while0b_call0_call0_v113 : Ref sig .tc := ⟨.hbm, 180, rfl⟩
abbrev main_while0b_call0_call0_v114 : Ref sig .tc := ⟨.hbm, 181, rfl⟩
abbrev main_while0b_call0_call0_v115 : Ref sig .tc := ⟨.hbm, 182, rfl⟩
abbrev main_while0b_call0_call0_c_29 : Ref sig .tc := ⟨.hbm, 183, rfl⟩
abbrev main_while0b_call0_call0_v116 : Ref sig .tc := ⟨.hbm, 184, rfl⟩
abbrev main_while0b_call0_call0_v117 : Ref sig .tc := ⟨.hbm, 185, rfl⟩
abbrev main_while0b_call0_call0_c_30 : Ref sig .tc := ⟨.hbm, 186, rfl⟩
abbrev main_while0b_call0_call0_v118 : Ref sig .tc := ⟨.hbm, 187, rfl⟩
abbrev main_while0b_call0_call0_v119 : Ref sig .tc := ⟨.hbm, 188, rfl⟩
abbrev main_while0b_call0_call0_v120 : Ref sig .tc := ⟨.hbm, 189, rfl⟩
abbrev main_while0b_call0_call0_v121 : Ref sig .tc := ⟨.hbm, 190, rfl⟩
abbrev main_while0b_call0_call0_v122 : Ref sig .tc := ⟨.hbm, 191, rfl⟩
abbrev main_while0b_call0_call0_c_31 : Ref sig .tc := ⟨.hbm, 192, rfl⟩
abbrev main_while0b_call0_call0_v123 : Ref sig .tc := ⟨.hbm, 193, rfl⟩
abbrev main_while0b_call0_call0_v124 : Ref sig .tc := ⟨.hbm, 194, rfl⟩
abbrev main_while0b_call0_call0_c_32 : Ref sig .tc := ⟨.hbm, 195, rfl⟩
abbrev main_while0b_call0_call0_v125 : Ref sig .tc := ⟨.hbm, 196, rfl⟩
abbrev main_while0b_call0_call0_v126 : Ref sig .tc := ⟨.hbm, 197, rfl⟩
abbrev main_while0b_call0_call0_v127 : Ref sig .tc := ⟨.hbm, 198, rfl⟩
abbrev main_while0b_call0_call0_v128 : Ref sig .tc := ⟨.hbm, 199, rfl⟩
abbrev main_while0b_call0_call0_v129 : Ref sig .tc := ⟨.hbm, 200, rfl⟩
abbrev main_while0b_call0_call0_c_33 : Ref sig .tc := ⟨.hbm, 201, rfl⟩
abbrev main_while0b_call0_call0_v130 : Ref sig .tc := ⟨.hbm, 202, rfl⟩
abbrev main_while0b_call0_call0_v131 : Ref sig .tc := ⟨.hbm, 203, rfl⟩
abbrev main_while0b_call0_call0_c_34 : Ref sig .tc := ⟨.hbm, 204, rfl⟩
abbrev main_while0b_call0_call0_v132 : Ref sig .tc := ⟨.hbm, 205, rfl⟩
abbrev main_while0b_call0_call0_v133 : Ref sig .tc := ⟨.hbm, 206, rfl⟩
abbrev main_while0b_call0_call0_v134 : Ref sig .tc := ⟨.hbm, 207, rfl⟩
abbrev main_while0b_call0_call0_v135 : Ref sig .tc := ⟨.hbm, 208, rfl⟩
abbrev main_while0b_call0_call0_v136 : Ref sig .tc := ⟨.hbm, 209, rfl⟩
abbrev main_while0b_call0_call0_v137 : Ref sig .tc := ⟨.hbm, 210, rfl⟩
abbrev main_while0b_call0_call0_v138 : Ref sig .tc := ⟨.hbm, 211, rfl⟩
abbrev main_while0b_call0_call0_v139 : Ref sig .tc := ⟨.hbm, 212, rfl⟩
abbrev main_while0b_call0_call0_c_35 : Ref sig .tc := ⟨.hbm, 213, rfl⟩
abbrev main_while0b_call0_call0_v140 : Ref sig .tc := ⟨.hbm, 214, rfl⟩
abbrev main_while0b_call0_call0_v141 : Ref sig .tc := ⟨.hbm, 215, rfl⟩
abbrev main_while0b_call0_call0_v142 : Ref sig .tc := ⟨.hbm, 216, rfl⟩
abbrev main_while0b_call0_call0_c_36 : Ref sig .tc := ⟨.hbm, 217, rfl⟩
abbrev main_while0b_call0_call0_v143 : Ref sig .tc := ⟨.hbm, 218, rfl⟩
abbrev main_while0b_call0_call0_v144 : Ref sig .tc := ⟨.hbm, 219, rfl⟩
abbrev main_while0b_call0_call0_c_37 : Ref sig .tc := ⟨.hbm, 220, rfl⟩
abbrev main_while0b_call0_call0_v145 : Ref sig .tc := ⟨.hbm, 221, rfl⟩
abbrev main_while0b_call0_call0_v146 : Ref sig .tc := ⟨.hbm, 222, rfl⟩
abbrev main_while0b_call0_call0_v147 : Ref sig .tc := ⟨.hbm, 223, rfl⟩
abbrev main_while0b_call0_call0_v148 : Ref sig .tc := ⟨.hbm, 224, rfl⟩
abbrev main_while0b_call0_call0_v149 : Ref sig .tc := ⟨.hbm, 225, rfl⟩
abbrev main_while0b_call0_call0_c_38 : Ref sig .tc := ⟨.hbm, 226, rfl⟩
abbrev main_while0b_call0_call0_v150 : Ref sig .tc := ⟨.hbm, 227, rfl⟩
abbrev main_while0b_call0_call0_v151 : Ref sig .tc := ⟨.hbm, 228, rfl⟩
abbrev main_while0b_call0_call0_c_39 : Ref sig .tc := ⟨.hbm, 229, rfl⟩
abbrev main_while0b_call0_call0_v152 : Ref sig .tc := ⟨.hbm, 230, rfl⟩
abbrev main_while0b_call0_call0_v153 : Ref sig .tc := ⟨.hbm, 231, rfl⟩
abbrev main_while0b_call0_call0_v154 : Ref sig .tc := ⟨.hbm, 232, rfl⟩
abbrev main_while0b_call0_call0_v155 : Ref sig .tc := ⟨.hbm, 233, rfl⟩
abbrev main_while0b_call0_call0_v156 : Ref sig .tc := ⟨.hbm, 234, rfl⟩
abbrev main_while0b_call0_call0_c_40 : Ref sig .tc := ⟨.hbm, 235, rfl⟩
abbrev main_while0b_call0_call0_v157 : Ref sig .tc := ⟨.hbm, 236, rfl⟩
abbrev main_while0b_call0_call0_v158 : Ref sig .tc := ⟨.hbm, 237, rfl⟩
abbrev main_while0b_call0_call0_c_41 : Ref sig .tc := ⟨.hbm, 238, rfl⟩
abbrev main_while0b_call0_call0_v159 : Ref sig .tc := ⟨.hbm, 239, rfl⟩
abbrev main_while0b_call0_call0_v160 : Ref sig .tc := ⟨.hbm, 240, rfl⟩
abbrev main_while0b_call0_call0_v161 : Ref sig .tc := ⟨.hbm, 241, rfl⟩
abbrev main_while0b_call0_call0_v162 : Ref sig .tc := ⟨.hbm, 242, rfl⟩
abbrev main_while0b_call0_call0_v163 : Ref sig .tc := ⟨.hbm, 243, rfl⟩
abbrev main_while0b_call0_call0_c_42 : Ref sig .tc := ⟨.hbm, 244, rfl⟩
abbrev main_while0b_call0_call0_v164 : Ref sig .tc := ⟨.hbm, 245, rfl⟩
abbrev main_while0b_call0_call0_v165 : Ref sig .tc := ⟨.hbm, 246, rfl⟩
abbrev main_while0b_call0_call0_c_43 : Ref sig .tc := ⟨.hbm, 247, rfl⟩
abbrev main_while0b_call0_call0_v166 : Ref sig .tc := ⟨.hbm, 248, rfl⟩
abbrev main_while0b_call0_call0_v167 : Ref sig .tc := ⟨.hbm, 249, rfl⟩
abbrev main_while0b_call0_call0_v168 : Ref sig .tc := ⟨.hbm, 250, rfl⟩
abbrev main_while0b_call0_call0_v169 : Ref sig .tc := ⟨.hbm, 251, rfl⟩
abbrev main_while0b_call0_call0_v170 : Ref sig .tc := ⟨.hbm, 252, rfl⟩
abbrev main_while0b_call0_v11_0 : Ref sig .tc := ⟨.hbm, 253, rfl⟩
abbrev main_while0b_call0_call0_v172 : Ref sig .tc := ⟨.hbm, 254, rfl⟩
abbrev main_while0b_call0_call0_v173 : Ref sig .tc := ⟨.hbm, 255, rfl⟩
abbrev main_while0b_call0_call0_c_44 : Ref sig .tc := ⟨.hbm, 256, rfl⟩
abbrev main_while0b_call0_call0_v174 : Ref sig .tc := ⟨.hbm, 257, rfl⟩
abbrev main_while0b_call0_v11_1 : Ref sig .tc := ⟨.hbm, 258, rfl⟩
abbrev main_while0b_call0_v12 : Ref sig .tc := ⟨.hbm, 259, rfl⟩
abbrev main_while0b_call0_v13 : Ref sig .tc := ⟨.hbm, 260, rfl⟩
abbrev main_while0b_v10 : Ref sig .tc := ⟨.hbm, 261, rfl⟩
abbrev main_while0b_v11 : Ref sig .tc := ⟨.hbm, 262, rfl⟩
abbrev main_while0b_v12 : Ref sig .tc := ⟨.hbm, 263, rfl⟩
abbrev main_while0b_v13 : Ref sig .tc := ⟨.hbm, 264, rfl⟩
abbrev main_while0b_v14 : Ref sig .tc := ⟨.hbm, 265, rfl⟩
abbrev main_while0b_v15 : Ref sig .tc := ⟨.hbm, 266, rfl⟩
abbrev main_while0b_v16 : Ref sig .tc := ⟨.hbm, 267, rfl⟩
abbrev main_while0b_cst : Ref sig .tc := ⟨.hbm, 268, rfl⟩
abbrev main_while0b_v17 : Ref sig .tc := ⟨.hbm, 269, rfl⟩
abbrev main_while0b_v18 : Ref sig .tc := ⟨.hbm, 270, rfl⟩
abbrev main_while0b_v19 : Ref sig .tc := ⟨.hbm, 271, rfl⟩
abbrev main_while0b_v20 : Ref sig .tc := ⟨.hbm, 272, rfl⟩
abbrev main_while0b_c_9 : Ref sig .tc := ⟨.hbm, 273, rfl⟩
abbrev main_while0b_v21 : Ref sig .tc := ⟨.hbm, 274, rfl⟩
abbrev main_while0b_v22 : Ref sig .tc := ⟨.hbm, 275, rfl⟩
abbrev main_while0b_c_10 : Ref sig .tc := ⟨.hbm, 276, rfl⟩
abbrev main_while0b_v23 : Ref sig .tc := ⟨.hbm, 277, rfl⟩
abbrev main_while0b_v24 : Ref sig .tc := ⟨.hbm, 278, rfl⟩
abbrev main_while0b_v25 : Ref sig .tc := ⟨.hbm, 279, rfl⟩
abbrev main_while0b_c_11 : Ref sig .tc := ⟨.hbm, 280, rfl⟩
abbrev main_while0b_v26 : Ref sig .tc := ⟨.hbm, 281, rfl⟩
abbrev main_while0b_v27 : Ref sig .tc := ⟨.hbm, 282, rfl⟩
abbrev main_while0b_c_12 : Ref sig .tc := ⟨.hbm, 283, rfl⟩
abbrev main_while0b_v28 : Ref sig .tc := ⟨.hbm, 284, rfl⟩
abbrev main_while0b_v29 : Ref sig .tc := ⟨.hbm, 285, rfl⟩
abbrev main_while0b_v30 : Ref sig .tc := ⟨.hbm, 286, rfl⟩
abbrev main_while0b_v31 : Ref sig .tc := ⟨.hbm, 287, rfl⟩
abbrev main_while0b_v32 : Ref sig .tc := ⟨.hbm, 288, rfl⟩
abbrev main_while0b_v33 : Ref sig .tc := ⟨.hbm, 289, rfl⟩
abbrev main_while0b_cst_13 : Ref sig .tc := ⟨.hbm, 290, rfl⟩
abbrev main_while0b_v34 : Ref sig .tc := ⟨.hbm, 291, rfl⟩
abbrev main_while0b_v35 : Ref sig .tc := ⟨.hbm, 292, rfl⟩
abbrev main_while0b_v36 : Ref sig .tc := ⟨.hbm, 293, rfl⟩
abbrev main_while0b_v37 : Ref sig .tc := ⟨.hbm, 294, rfl⟩
abbrev main_while0b_v38 : Ref sig .tc := ⟨.hbm, 295, rfl⟩
abbrev main_while0b_cst_14 : Ref sig .tc := ⟨.hbm, 296, rfl⟩
abbrev main_while0b_v39 : Ref sig .tc := ⟨.hbm, 297, rfl⟩
abbrev main_while0b_cst_15 : Ref sig .tc := ⟨.hbm, 298, rfl⟩
abbrev main_while0b_v40 : Ref sig .tc := ⟨.hbm, 299, rfl⟩
abbrev main_while0b_cst_16 : Ref sig .tc := ⟨.hbm, 300, rfl⟩
abbrev main_while0b_v41 : Ref sig .tc := ⟨.hbm, 301, rfl⟩
abbrev main_while0b_v42 : Ref sig .tc := ⟨.hbm, 302, rfl⟩
abbrev main_while0b_v43 : Ref sig .tc := ⟨.hbm, 303, rfl⟩
abbrev main_while0b_v44 : Ref sig .tc := ⟨.hbm, 304, rfl⟩
abbrev main_while0b_cst_17 : Ref sig .tc := ⟨.hbm, 305, rfl⟩
abbrev main_while0b_v45 : Ref sig .tc := ⟨.hbm, 306, rfl⟩
abbrev main_while0b_v46 : Ref sig .tc := ⟨.hbm, 307, rfl⟩
abbrev main_while0b_v47 : Ref sig .tc := ⟨.hbm, 308, rfl⟩
abbrev main_while0b_v48 : Ref sig .tc := ⟨.hbm, 309, rfl⟩
abbrev main_while0b_c_18 : Ref sig .tc := ⟨.hbm, 310, rfl⟩
abbrev main_while0b_v49 : Ref sig .tc := ⟨.hbm, 311, rfl⟩
abbrev main_while0b_v50 : Ref sig .tc := ⟨.hbm, 312, rfl⟩
abbrev main_while0b_c_19 : Ref sig .tc := ⟨.hbm, 313, rfl⟩
abbrev main_while0b_v51 : Ref sig .tc := ⟨.hbm, 314, rfl⟩
abbrev main_while0b_v52 : Ref sig .tc := ⟨.hbm, 315, rfl⟩
abbrev main_while0b_v53 : Ref sig .tc := ⟨.hbm, 316, rfl⟩
abbrev main_while0b_c_20 : Ref sig .tc := ⟨.hbm, 317, rfl⟩
abbrev main_while0b_v54 : Ref sig .tc := ⟨.hbm, 318, rfl⟩
abbrev main_while0b_v55 : Ref sig .tc := ⟨.hbm, 319, rfl⟩
abbrev main_while0b_c_21 : Ref sig .tc := ⟨.hbm, 320, rfl⟩
abbrev main_while0b_v56 : Ref sig .tc := ⟨.hbm, 321, rfl⟩
abbrev main_while0b_v57 : Ref sig .tc := ⟨.hbm, 322, rfl⟩
abbrev main_while0b_v58 : Ref sig .tc := ⟨.hbm, 323, rfl⟩
abbrev main_while0b_c_22 : Ref sig .tc := ⟨.hbm, 324, rfl⟩
abbrev main_while0b_v59 : Ref sig .tc := ⟨.hbm, 325, rfl⟩
abbrev main_while0b_v60 : Ref sig .tc := ⟨.hbm, 326, rfl⟩
abbrev main_while0b_v61 : Ref sig .tc := ⟨.hbm, 327, rfl⟩
abbrev main_while0b_v62 : Ref sig .tc := ⟨.hbm, 328, rfl⟩
abbrev main_while0b_v63 : Ref sig .tc := ⟨.hbm, 329, rfl⟩
abbrev main_while0b_v64 : Ref sig .tc := ⟨.hbm, 330, rfl⟩
abbrev main_while0b_v65 : Ref sig .tc := ⟨.hbm, 331, rfl⟩
abbrev main_while0b_v66 : Ref sig .tc := ⟨.hbm, 332, rfl⟩
abbrev main_while0b_cst_23 : Ref sig .tc := ⟨.hbm, 333, rfl⟩
abbrev main_while0b_v67 : Ref sig .tc := ⟨.hbm, 334, rfl⟩
abbrev main_while0b_cst_24 : Ref sig .tc := ⟨.hbm, 335, rfl⟩
abbrev main_while0b_v68 : Ref sig .tc := ⟨.hbm, 336, rfl⟩
abbrev main_while0b_v69 : Ref sig .tc := ⟨.hbm, 337, rfl⟩
abbrev main_while0b_v70 : Ref sig .tc := ⟨.hbm, 338, rfl⟩
abbrev main_while0b_v71 : Ref sig .tc := ⟨.hbm, 339, rfl⟩
abbrev main_while0b_c_25 : Ref sig .tc := ⟨.hbm, 340, rfl⟩
abbrev main_while0b_v72 : Ref sig .tc := ⟨.hbm, 341, rfl⟩
abbrev main_while0b_v73 : Ref sig .tc := ⟨.hbm, 342, rfl⟩
abbrev main_while0b_c_26 : Ref sig .tc := ⟨.hbm, 343, rfl⟩
abbrev main_while0b_v74 : Ref sig .tc := ⟨.hbm, 344, rfl⟩
abbrev main_while0b_v75 : Ref sig .tc := ⟨.hbm, 345, rfl⟩
abbrev main_while0b_v76 : Ref sig .tc := ⟨.hbm, 346, rfl⟩
abbrev main_while0b_c_27 : Ref sig .tc := ⟨.hbm, 347, rfl⟩
abbrev main_while0b_v77 : Ref sig .tc := ⟨.hbm, 348, rfl⟩
abbrev main_while0b_v78 : Ref sig .tc := ⟨.hbm, 349, rfl⟩
abbrev main_while0b_c_28 : Ref sig .tc := ⟨.hbm, 350, rfl⟩
abbrev main_while0b_v79 : Ref sig .tc := ⟨.hbm, 351, rfl⟩
abbrev main_while0b_v80 : Ref sig .tc := ⟨.hbm, 352, rfl⟩
abbrev main_while0b_v81 : Ref sig .tc := ⟨.hbm, 353, rfl⟩
abbrev main_while0b_c_29 : Ref sig .tc := ⟨.hbm, 354, rfl⟩
abbrev main_while0b_v82 : Ref sig .tc := ⟨.hbm, 355, rfl⟩
abbrev main_while0b_v83 : Ref sig .tc := ⟨.hbm, 356, rfl⟩
abbrev main_while0b_v84 : Ref sig .tc := ⟨.hbm, 357, rfl⟩
abbrev main_while0b_v85 : Ref sig .tc := ⟨.hbm, 358, rfl⟩
abbrev main_while0b_v86 : Ref sig .tc := ⟨.hbm, 359, rfl⟩
abbrev main_while0b_v87 : Ref sig .tc := ⟨.hbm, 360, rfl⟩
abbrev main_while0b_cst_30 : Ref sig .tc := ⟨.hbm, 361, rfl⟩
abbrev main_while0b_v88 : Ref sig .tc := ⟨.hbm, 362, rfl⟩
abbrev main_while0b_v89 : Ref sig .tc := ⟨.hbm, 363, rfl⟩
abbrev main_while0b_v90 : Ref sig .tc := ⟨.hbm, 364, rfl⟩
abbrev main_while0b_call1_cst : Ref sig .tc := ⟨.hbm, 365, rfl⟩
abbrev main_while0b_call1_cst_0 : Ref sig .tc := ⟨.hbm, 366, rfl⟩
abbrev main_while0b_call1_call0_v0 : Ref sig .tc := ⟨.hbm, 367, rfl⟩
abbrev main_while0b_call1_call0_v1 : Ref sig .tc := ⟨.hbm, 368, rfl⟩
abbrev main_while0b_call1_call0_v2 : Ref sig .tc := ⟨.hbm, 369, rfl⟩
abbrev main_while0b_call1_call0_v3 : Ref sig .tc := ⟨.hbm, 370, rfl⟩
abbrev main_while0b_call1_call0_v4 : Ref sig .tc := ⟨.hbm, 371, rfl⟩
abbrev main_while0b_call1_call0_v5 : Ref sig .tc := ⟨.hbm, 372, rfl⟩
abbrev main_while0b_call1_call0_v6 : Ref sig .tc := ⟨.hbm, 373, rfl⟩
abbrev main_while0b_call1_call0_v7 : Ref sig .tc := ⟨.hbm, 374, rfl⟩
abbrev main_while0b_call1_call0_v8 : Ref sig .tc := ⟨.hbm, 375, rfl⟩
abbrev main_while0b_call1_call0_v9 : Ref sig .tc := ⟨.hbm, 376, rfl⟩
abbrev main_while0b_call1_call0_c : Ref sig .tc := ⟨.hbm, 377, rfl⟩
abbrev main_while0b_call1_call0_v10 : Ref sig .tc := ⟨.hbm, 378, rfl⟩
abbrev main_while0b_call1_call0_v11 : Ref sig .tc := ⟨.hbm, 379, rfl⟩
abbrev main_while0b_call1_call0_c_0 : Ref sig .tc := ⟨.hbm, 380, rfl⟩
abbrev main_while0b_call1_call0_v12 : Ref sig .tc := ⟨.hbm, 381, rfl⟩
abbrev main_while0b_call1_call0_v13 : Ref sig .tc := ⟨.hbm, 382, rfl⟩
abbrev main_while0b_call1_call0_c_1 : Ref sig .tc := ⟨.hbm, 383, rfl⟩
abbrev main_while0b_call1_call0_v14 : Ref sig .tc := ⟨.hbm, 384, rfl⟩
abbrev main_while0b_call1_call0_v15 : Ref sig .tc := ⟨.hbm, 385, rfl⟩
abbrev main_while0b_call1_call0_v16 : Ref sig .tc := ⟨.hbm, 386, rfl⟩
abbrev main_while0b_call1_call0_v17 : Ref sig .tc := ⟨.hbm, 387, rfl⟩
abbrev main_while0b_call1_call0_c_2 : Ref sig .tc := ⟨.hbm, 388, rfl⟩
abbrev main_while0b_call1_call0_v18 : Ref sig .tc := ⟨.hbm, 389, rfl⟩
abbrev main_while0b_call1_call0_v19 : Ref sig .tc := ⟨.hbm, 390, rfl⟩
abbrev main_while0b_call1_call0_v20 : Ref sig .tc := ⟨.hbm, 391, rfl⟩
abbrev main_while0b_call1_call0_v21 : Ref sig .tc := ⟨.hbm, 392, rfl⟩
abbrev main_while0b_call1_call0_call0_v0 : Ref sig .tc := ⟨.hbm, 393, rfl⟩
abbrev main_while0b_call1_call0_call0_c : Ref sig .tc := ⟨.hbm, 394, rfl⟩
abbrev main_while0b_call1_call0_call0_v1 : Ref sig .tc := ⟨.hbm, 395, rfl⟩
abbrev main_while0b_call1_call0_call0_v2 : Ref sig .tc := ⟨.hbm, 396, rfl⟩
abbrev main_while0b_call1_call0_call0_v3 : Ref sig .tc := ⟨.hbm, 397, rfl⟩
abbrev main_while0b_call1_call0_call0_v4 : Ref sig .tc := ⟨.hbm, 398, rfl⟩
abbrev main_while0b_call1_call0_call0_v5 : Ref sig .tc := ⟨.hbm, 399, rfl⟩
abbrev main_while0b_call1_call0_call0_v6 : Ref sig .tc := ⟨.hbm, 400, rfl⟩
abbrev main_while0b_call1_call0_call0_c_0 : Ref sig .tc := ⟨.hbm, 401, rfl⟩
abbrev main_while0b_call1_call0_call0_v7 : Ref sig .tc := ⟨.hbm, 402, rfl⟩
abbrev main_while0b_call1_call0_call0_v8 : Ref sig .tc := ⟨.hbm, 403, rfl⟩
abbrev main_while0b_call1_call0_call0_c_1 : Ref sig .tc := ⟨.hbm, 404, rfl⟩
abbrev main_while0b_call1_call0_call0_v9 : Ref sig .tc := ⟨.hbm, 405, rfl⟩
abbrev main_while0b_call1_call0_call0_v10 : Ref sig .tc := ⟨.hbm, 406, rfl⟩
abbrev main_while0b_call1_call0_call0_v11 : Ref sig .tc := ⟨.hbm, 407, rfl⟩
abbrev main_while0b_call1_call0_call0_v12 : Ref sig .tc := ⟨.hbm, 408, rfl⟩
abbrev main_while0b_call1_call0_call0_v13 : Ref sig .tc := ⟨.hbm, 409, rfl⟩
abbrev main_while0b_call1_call0_call0_c_2 : Ref sig .tc := ⟨.hbm, 410, rfl⟩
abbrev main_while0b_call1_call0_call0_v14 : Ref sig .tc := ⟨.hbm, 411, rfl⟩
abbrev main_while0b_call1_call0_call0_v15 : Ref sig .tc := ⟨.hbm, 412, rfl⟩
abbrev main_while0b_call1_call0_call0_c_3 : Ref sig .tc := ⟨.hbm, 413, rfl⟩
abbrev main_while0b_call1_call0_call0_v16 : Ref sig .tc := ⟨.hbm, 414, rfl⟩
abbrev main_while0b_call1_call0_call0_v17 : Ref sig .tc := ⟨.hbm, 415, rfl⟩
abbrev main_while0b_call1_call0_call0_v18 : Ref sig .tc := ⟨.hbm, 416, rfl⟩
abbrev main_while0b_call1_call0_call0_v19 : Ref sig .tc := ⟨.hbm, 417, rfl⟩
abbrev main_while0b_call1_call0_call0_v20 : Ref sig .tc := ⟨.hbm, 418, rfl⟩
abbrev main_while0b_call1_call0_call0_c_4 : Ref sig .tc := ⟨.hbm, 419, rfl⟩
abbrev main_while0b_call1_call0_call0_v21 : Ref sig .tc := ⟨.hbm, 420, rfl⟩
abbrev main_while0b_call1_call0_call0_v22 : Ref sig .tc := ⟨.hbm, 421, rfl⟩
abbrev main_while0b_call1_call0_call0_c_5 : Ref sig .tc := ⟨.hbm, 422, rfl⟩
abbrev main_while0b_call1_call0_call0_v23 : Ref sig .tc := ⟨.hbm, 423, rfl⟩
abbrev main_while0b_call1_call0_call0_v24 : Ref sig .tc := ⟨.hbm, 424, rfl⟩
abbrev main_while0b_call1_call0_call0_v25 : Ref sig .tc := ⟨.hbm, 425, rfl⟩
abbrev main_while0b_call1_call0_call0_v26 : Ref sig .tc := ⟨.hbm, 426, rfl⟩
abbrev main_while0b_call1_call0_call0_v27 : Ref sig .tc := ⟨.hbm, 427, rfl⟩
abbrev main_while0b_call1_call0_call0_c_6 : Ref sig .tc := ⟨.hbm, 428, rfl⟩
abbrev main_while0b_call1_call0_call0_v28 : Ref sig .tc := ⟨.hbm, 429, rfl⟩
abbrev main_while0b_call1_call0_call0_v29 : Ref sig .tc := ⟨.hbm, 430, rfl⟩
abbrev main_while0b_call1_call0_call0_c_7 : Ref sig .tc := ⟨.hbm, 431, rfl⟩
abbrev main_while0b_call1_call0_call0_v30 : Ref sig .tc := ⟨.hbm, 432, rfl⟩
abbrev main_while0b_call1_call0_call0_v31 : Ref sig .tc := ⟨.hbm, 433, rfl⟩
abbrev main_while0b_call1_call0_call0_v32 : Ref sig .tc := ⟨.hbm, 434, rfl⟩
abbrev main_while0b_call1_call0_call0_v33 : Ref sig .tc := ⟨.hbm, 435, rfl⟩
abbrev main_while0b_call1_call0_call0_v34 : Ref sig .tc := ⟨.hbm, 436, rfl⟩
abbrev main_while0b_call1_call0_call0_v35 : Ref sig .tc := ⟨.hbm, 437, rfl⟩
abbrev main_while0b_call1_call0_call0_v36 : Ref sig .tc := ⟨.hbm, 438, rfl⟩
abbrev main_while0b_call1_call0_call0_v37 : Ref sig .tc := ⟨.hbm, 439, rfl⟩
abbrev main_while0b_call1_call0_call0_c_8 : Ref sig .tc := ⟨.hbm, 440, rfl⟩
abbrev main_while0b_call1_call0_call0_v38 : Ref sig .tc := ⟨.hbm, 441, rfl⟩
abbrev main_while0b_call1_call0_call0_v39 : Ref sig .tc := ⟨.hbm, 442, rfl⟩
abbrev main_while0b_call1_call0_call0_v40 : Ref sig .tc := ⟨.hbm, 443, rfl⟩
abbrev main_while0b_call1_call0_call0_c_9 : Ref sig .tc := ⟨.hbm, 444, rfl⟩
abbrev main_while0b_call1_call0_call0_v41 : Ref sig .tc := ⟨.hbm, 445, rfl⟩
abbrev main_while0b_call1_call0_call0_v42 : Ref sig .tc := ⟨.hbm, 446, rfl⟩
abbrev main_while0b_call1_call0_call0_c_10 : Ref sig .tc := ⟨.hbm, 447, rfl⟩
abbrev main_while0b_call1_call0_call0_v43 : Ref sig .tc := ⟨.hbm, 448, rfl⟩
abbrev main_while0b_call1_call0_call0_v44 : Ref sig .tc := ⟨.hbm, 449, rfl⟩
abbrev main_while0b_call1_call0_call0_v45 : Ref sig .tc := ⟨.hbm, 450, rfl⟩
abbrev main_while0b_call1_call0_call0_v46 : Ref sig .tc := ⟨.hbm, 451, rfl⟩
abbrev main_while0b_call1_call0_call0_v47 : Ref sig .tc := ⟨.hbm, 452, rfl⟩
abbrev main_while0b_call1_call0_call0_c_11 : Ref sig .tc := ⟨.hbm, 453, rfl⟩
abbrev main_while0b_call1_call0_call0_v48 : Ref sig .tc := ⟨.hbm, 454, rfl⟩
abbrev main_while0b_call1_call0_call0_v49 : Ref sig .tc := ⟨.hbm, 455, rfl⟩
abbrev main_while0b_call1_call0_call0_c_12 : Ref sig .tc := ⟨.hbm, 456, rfl⟩
abbrev main_while0b_call1_call0_call0_v50 : Ref sig .tc := ⟨.hbm, 457, rfl⟩
abbrev main_while0b_call1_call0_call0_v51 : Ref sig .tc := ⟨.hbm, 458, rfl⟩
abbrev main_while0b_call1_call0_call0_v52 : Ref sig .tc := ⟨.hbm, 459, rfl⟩
abbrev main_while0b_call1_call0_call0_v53 : Ref sig .tc := ⟨.hbm, 460, rfl⟩
abbrev main_while0b_call1_call0_call0_v54 : Ref sig .tc := ⟨.hbm, 461, rfl⟩
abbrev main_while0b_call1_call0_call0_c_13 : Ref sig .tc := ⟨.hbm, 462, rfl⟩
abbrev main_while0b_call1_call0_call0_v55 : Ref sig .tc := ⟨.hbm, 463, rfl⟩
abbrev main_while0b_call1_call0_call0_v56 : Ref sig .tc := ⟨.hbm, 464, rfl⟩
abbrev main_while0b_call1_call0_call0_c_14 : Ref sig .tc := ⟨.hbm, 465, rfl⟩
abbrev main_while0b_call1_call0_call0_v57 : Ref sig .tc := ⟨.hbm, 466, rfl⟩
abbrev main_while0b_call1_call0_call0_v58 : Ref sig .tc := ⟨.hbm, 467, rfl⟩
abbrev main_while0b_call1_call0_call0_v59 : Ref sig .tc := ⟨.hbm, 468, rfl⟩
abbrev main_while0b_call1_call0_call0_v60 : Ref sig .tc := ⟨.hbm, 469, rfl⟩
abbrev main_while0b_call1_call0_call0_v61 : Ref sig .tc := ⟨.hbm, 470, rfl⟩
abbrev main_while0b_call1_call0_call0_c_15 : Ref sig .tc := ⟨.hbm, 471, rfl⟩
abbrev main_while0b_call1_call0_call0_v62 : Ref sig .tc := ⟨.hbm, 472, rfl⟩
abbrev main_while0b_call1_call0_call0_v63 : Ref sig .tc := ⟨.hbm, 473, rfl⟩
abbrev main_while0b_call1_call0_call0_c_16 : Ref sig .tc := ⟨.hbm, 474, rfl⟩
abbrev main_while0b_call1_call0_call0_v64 : Ref sig .tc := ⟨.hbm, 475, rfl⟩
abbrev main_while0b_call1_call0_call0_v65 : Ref sig .tc := ⟨.hbm, 476, rfl⟩
abbrev main_while0b_call1_call0_call0_v66 : Ref sig .tc := ⟨.hbm, 477, rfl⟩
abbrev main_while0b_call1_call0_call0_v67 : Ref sig .tc := ⟨.hbm, 478, rfl⟩
abbrev main_while0b_call1_call0_call0_v68 : Ref sig .tc := ⟨.hbm, 479, rfl⟩
abbrev main_while0b_call1_call0_call0_v69 : Ref sig .tc := ⟨.hbm, 480, rfl⟩
abbrev main_while0b_call1_call0_call0_v70 : Ref sig .tc := ⟨.hbm, 481, rfl⟩
abbrev main_while0b_call1_call0_call0_v71 : Ref sig .tc := ⟨.hbm, 482, rfl⟩
abbrev main_while0b_call1_call0_call0_c_17 : Ref sig .tc := ⟨.hbm, 483, rfl⟩
abbrev main_while0b_call1_call0_call0_v72 : Ref sig .tc := ⟨.hbm, 484, rfl⟩
abbrev main_while0b_call1_call0_call0_v73 : Ref sig .tc := ⟨.hbm, 485, rfl⟩
abbrev main_while0b_call1_call0_call0_v74 : Ref sig .tc := ⟨.hbm, 486, rfl⟩
abbrev main_while0b_call1_call0_call0_c_18 : Ref sig .tc := ⟨.hbm, 487, rfl⟩
abbrev main_while0b_call1_call0_call0_v75 : Ref sig .tc := ⟨.hbm, 488, rfl⟩
abbrev main_while0b_call1_call0_call0_v76 : Ref sig .tc := ⟨.hbm, 489, rfl⟩
abbrev main_while0b_call1_call0_call0_c_19 : Ref sig .tc := ⟨.hbm, 490, rfl⟩
abbrev main_while0b_call1_call0_call0_v77 : Ref sig .tc := ⟨.hbm, 491, rfl⟩
abbrev main_while0b_call1_call0_call0_v78 : Ref sig .tc := ⟨.hbm, 492, rfl⟩
abbrev main_while0b_call1_call0_call0_v79 : Ref sig .tc := ⟨.hbm, 493, rfl⟩
abbrev main_while0b_call1_call0_call0_v80 : Ref sig .tc := ⟨.hbm, 494, rfl⟩
abbrev main_while0b_call1_call0_call0_v81 : Ref sig .tc := ⟨.hbm, 495, rfl⟩
abbrev main_while0b_call1_call0_call0_c_20 : Ref sig .tc := ⟨.hbm, 496, rfl⟩
abbrev main_while0b_call1_call0_call0_v82 : Ref sig .tc := ⟨.hbm, 497, rfl⟩
abbrev main_while0b_call1_call0_call0_v83 : Ref sig .tc := ⟨.hbm, 498, rfl⟩
abbrev main_while0b_call1_call0_call0_c_21 : Ref sig .tc := ⟨.hbm, 499, rfl⟩
abbrev main_while0b_call1_call0_call0_v84 : Ref sig .tc := ⟨.hbm, 500, rfl⟩
abbrev main_while0b_call1_call0_call0_v85 : Ref sig .tc := ⟨.hbm, 501, rfl⟩
abbrev main_while0b_call1_call0_call0_v86 : Ref sig .tc := ⟨.hbm, 502, rfl⟩
abbrev main_while0b_call1_call0_call0_v87 : Ref sig .tc := ⟨.hbm, 503, rfl⟩
abbrev main_while0b_call1_call0_call0_v88 : Ref sig .tc := ⟨.hbm, 504, rfl⟩
abbrev main_while0b_call1_call0_call0_c_22 : Ref sig .tc := ⟨.hbm, 505, rfl⟩
abbrev main_while0b_call1_call0_call0_v89 : Ref sig .tc := ⟨.hbm, 506, rfl⟩
abbrev main_while0b_call1_call0_call0_v90 : Ref sig .tc := ⟨.hbm, 507, rfl⟩
abbrev main_while0b_call1_call0_call0_c_23 : Ref sig .tc := ⟨.hbm, 508, rfl⟩
abbrev main_while0b_call1_call0_call0_v91 : Ref sig .tc := ⟨.hbm, 509, rfl⟩
abbrev main_while0b_call1_call0_call0_v92 : Ref sig .tc := ⟨.hbm, 510, rfl⟩
abbrev main_while0b_call1_call0_call0_v93 : Ref sig .tc := ⟨.hbm, 511, rfl⟩
abbrev main_while0b_call1_call0_call0_v94 : Ref sig .tc := ⟨.hbm, 512, rfl⟩
abbrev main_while0b_call1_call0_call0_v95 : Ref sig .tc := ⟨.hbm, 513, rfl⟩
abbrev main_while0b_call1_call0_call0_c_24 : Ref sig .tc := ⟨.hbm, 514, rfl⟩
abbrev main_while0b_call1_call0_call0_v96 : Ref sig .tc := ⟨.hbm, 515, rfl⟩
abbrev main_while0b_call1_call0_call0_v97 : Ref sig .tc := ⟨.hbm, 516, rfl⟩
abbrev main_while0b_call1_call0_call0_c_25 : Ref sig .tc := ⟨.hbm, 517, rfl⟩
abbrev main_while0b_call1_call0_call0_v98 : Ref sig .tc := ⟨.hbm, 518, rfl⟩
abbrev main_while0b_call1_call0_call0_v99 : Ref sig .tc := ⟨.hbm, 519, rfl⟩
abbrev main_while0b_call1_call0_call0_v100 : Ref sig .tc := ⟨.hbm, 520, rfl⟩
abbrev main_while0b_call1_call0_call0_v101 : Ref sig .tc := ⟨.hbm, 521, rfl⟩
abbrev main_while0b_call1_call0_call0_v102 : Ref sig .tc := ⟨.hbm, 522, rfl⟩
abbrev main_while0b_call1_call0_call0_v103 : Ref sig .tc := ⟨.hbm, 523, rfl⟩
abbrev main_while0b_call1_call0_call0_v104 : Ref sig .tc := ⟨.hbm, 524, rfl⟩
abbrev main_while0b_call1_call0_call0_v105 : Ref sig .tc := ⟨.hbm, 525, rfl⟩
abbrev main_while0b_call1_call0_call0_c_26 : Ref sig .tc := ⟨.hbm, 526, rfl⟩
abbrev main_while0b_call1_call0_call0_v106 : Ref sig .tc := ⟨.hbm, 527, rfl⟩
abbrev main_while0b_call1_call0_call0_v107 : Ref sig .tc := ⟨.hbm, 528, rfl⟩
abbrev main_while0b_call1_call0_call0_v108 : Ref sig .tc := ⟨.hbm, 529, rfl⟩
abbrev main_while0b_call1_call0_call0_c_27 : Ref sig .tc := ⟨.hbm, 530, rfl⟩
abbrev main_while0b_call1_call0_call0_v109 : Ref sig .tc := ⟨.hbm, 531, rfl⟩
abbrev main_while0b_call1_call0_call0_v110 : Ref sig .tc := ⟨.hbm, 532, rfl⟩
abbrev main_while0b_call1_call0_call0_c_28 : Ref sig .tc := ⟨.hbm, 533, rfl⟩
abbrev main_while0b_call1_call0_call0_v111 : Ref sig .tc := ⟨.hbm, 534, rfl⟩
abbrev main_while0b_call1_call0_call0_v112 : Ref sig .tc := ⟨.hbm, 535, rfl⟩
abbrev main_while0b_call1_call0_call0_v113 : Ref sig .tc := ⟨.hbm, 536, rfl⟩
abbrev main_while0b_call1_call0_call0_v114 : Ref sig .tc := ⟨.hbm, 537, rfl⟩
abbrev main_while0b_call1_call0_call0_v115 : Ref sig .tc := ⟨.hbm, 538, rfl⟩
abbrev main_while0b_call1_call0_call0_c_29 : Ref sig .tc := ⟨.hbm, 539, rfl⟩
abbrev main_while0b_call1_call0_call0_v116 : Ref sig .tc := ⟨.hbm, 540, rfl⟩
abbrev main_while0b_call1_call0_call0_v117 : Ref sig .tc := ⟨.hbm, 541, rfl⟩
abbrev main_while0b_call1_call0_call0_c_30 : Ref sig .tc := ⟨.hbm, 542, rfl⟩
abbrev main_while0b_call1_call0_call0_v118 : Ref sig .tc := ⟨.hbm, 543, rfl⟩
abbrev main_while0b_call1_call0_call0_v119 : Ref sig .tc := ⟨.hbm, 544, rfl⟩
abbrev main_while0b_call1_call0_call0_v120 : Ref sig .tc := ⟨.hbm, 545, rfl⟩
abbrev main_while0b_call1_call0_call0_v121 : Ref sig .tc := ⟨.hbm, 546, rfl⟩
abbrev main_while0b_call1_call0_call0_v122 : Ref sig .tc := ⟨.hbm, 547, rfl⟩
abbrev main_while0b_call1_call0_call0_c_31 : Ref sig .tc := ⟨.hbm, 548, rfl⟩
abbrev main_while0b_call1_call0_call0_v123 : Ref sig .tc := ⟨.hbm, 549, rfl⟩
abbrev main_while0b_call1_call0_call0_v124 : Ref sig .tc := ⟨.hbm, 550, rfl⟩
abbrev main_while0b_call1_call0_call0_c_32 : Ref sig .tc := ⟨.hbm, 551, rfl⟩
abbrev main_while0b_call1_call0_call0_v125 : Ref sig .tc := ⟨.hbm, 552, rfl⟩
abbrev main_while0b_call1_call0_call0_v126 : Ref sig .tc := ⟨.hbm, 553, rfl⟩
abbrev main_while0b_call1_call0_call0_v127 : Ref sig .tc := ⟨.hbm, 554, rfl⟩
abbrev main_while0b_call1_call0_call0_v128 : Ref sig .tc := ⟨.hbm, 555, rfl⟩
abbrev main_while0b_call1_call0_call0_v129 : Ref sig .tc := ⟨.hbm, 556, rfl⟩
abbrev main_while0b_call1_call0_call0_c_33 : Ref sig .tc := ⟨.hbm, 557, rfl⟩
abbrev main_while0b_call1_call0_call0_v130 : Ref sig .tc := ⟨.hbm, 558, rfl⟩
abbrev main_while0b_call1_call0_call0_v131 : Ref sig .tc := ⟨.hbm, 559, rfl⟩
abbrev main_while0b_call1_call0_call0_c_34 : Ref sig .tc := ⟨.hbm, 560, rfl⟩
abbrev main_while0b_call1_call0_call0_v132 : Ref sig .tc := ⟨.hbm, 561, rfl⟩
abbrev main_while0b_call1_call0_call0_v133 : Ref sig .tc := ⟨.hbm, 562, rfl⟩
abbrev main_while0b_call1_call0_call0_v134 : Ref sig .tc := ⟨.hbm, 563, rfl⟩
abbrev main_while0b_call1_call0_call0_v135 : Ref sig .tc := ⟨.hbm, 564, rfl⟩
abbrev main_while0b_call1_call0_call0_v136 : Ref sig .tc := ⟨.hbm, 565, rfl⟩
abbrev main_while0b_call1_call0_call0_v137 : Ref sig .tc := ⟨.hbm, 566, rfl⟩
abbrev main_while0b_call1_call0_call0_v138 : Ref sig .tc := ⟨.hbm, 567, rfl⟩
abbrev main_while0b_call1_call0_call0_v139 : Ref sig .tc := ⟨.hbm, 568, rfl⟩
abbrev main_while0b_call1_call0_call0_c_35 : Ref sig .tc := ⟨.hbm, 569, rfl⟩
abbrev main_while0b_call1_call0_call0_v140 : Ref sig .tc := ⟨.hbm, 570, rfl⟩
abbrev main_while0b_call1_call0_call0_v141 : Ref sig .tc := ⟨.hbm, 571, rfl⟩
abbrev main_while0b_call1_call0_call0_v142 : Ref sig .tc := ⟨.hbm, 572, rfl⟩
abbrev main_while0b_call1_call0_call0_c_36 : Ref sig .tc := ⟨.hbm, 573, rfl⟩
abbrev main_while0b_call1_call0_call0_v143 : Ref sig .tc := ⟨.hbm, 574, rfl⟩
abbrev main_while0b_call1_call0_call0_v144 : Ref sig .tc := ⟨.hbm, 575, rfl⟩
abbrev main_while0b_call1_call0_call0_c_37 : Ref sig .tc := ⟨.hbm, 576, rfl⟩
abbrev main_while0b_call1_call0_call0_v145 : Ref sig .tc := ⟨.hbm, 577, rfl⟩
abbrev main_while0b_call1_call0_call0_v146 : Ref sig .tc := ⟨.hbm, 578, rfl⟩
abbrev main_while0b_call1_call0_call0_v147 : Ref sig .tc := ⟨.hbm, 579, rfl⟩
abbrev main_while0b_call1_call0_call0_v148 : Ref sig .tc := ⟨.hbm, 580, rfl⟩
abbrev main_while0b_call1_call0_call0_v149 : Ref sig .tc := ⟨.hbm, 581, rfl⟩
abbrev main_while0b_call1_call0_call0_c_38 : Ref sig .tc := ⟨.hbm, 582, rfl⟩
abbrev main_while0b_call1_call0_call0_v150 : Ref sig .tc := ⟨.hbm, 583, rfl⟩
abbrev main_while0b_call1_call0_call0_v151 : Ref sig .tc := ⟨.hbm, 584, rfl⟩
abbrev main_while0b_call1_call0_call0_c_39 : Ref sig .tc := ⟨.hbm, 585, rfl⟩
abbrev main_while0b_call1_call0_call0_v152 : Ref sig .tc := ⟨.hbm, 586, rfl⟩
abbrev main_while0b_call1_call0_call0_v153 : Ref sig .tc := ⟨.hbm, 587, rfl⟩
abbrev main_while0b_call1_call0_call0_v154 : Ref sig .tc := ⟨.hbm, 588, rfl⟩
abbrev main_while0b_call1_call0_call0_v155 : Ref sig .tc := ⟨.hbm, 589, rfl⟩
abbrev main_while0b_call1_call0_call0_v156 : Ref sig .tc := ⟨.hbm, 590, rfl⟩
abbrev main_while0b_call1_call0_call0_c_40 : Ref sig .tc := ⟨.hbm, 591, rfl⟩
abbrev main_while0b_call1_call0_call0_v157 : Ref sig .tc := ⟨.hbm, 592, rfl⟩
abbrev main_while0b_call1_call0_call0_v158 : Ref sig .tc := ⟨.hbm, 593, rfl⟩
abbrev main_while0b_call1_call0_call0_c_41 : Ref sig .tc := ⟨.hbm, 594, rfl⟩
abbrev main_while0b_call1_call0_call0_v159 : Ref sig .tc := ⟨.hbm, 595, rfl⟩
abbrev main_while0b_call1_call0_call0_v160 : Ref sig .tc := ⟨.hbm, 596, rfl⟩
abbrev main_while0b_call1_call0_call0_v161 : Ref sig .tc := ⟨.hbm, 597, rfl⟩
abbrev main_while0b_call1_call0_call0_v162 : Ref sig .tc := ⟨.hbm, 598, rfl⟩
abbrev main_while0b_call1_call0_call0_v163 : Ref sig .tc := ⟨.hbm, 599, rfl⟩
abbrev main_while0b_call1_call0_call0_c_42 : Ref sig .tc := ⟨.hbm, 600, rfl⟩
abbrev main_while0b_call1_call0_call0_v164 : Ref sig .tc := ⟨.hbm, 601, rfl⟩
abbrev main_while0b_call1_call0_call0_v165 : Ref sig .tc := ⟨.hbm, 602, rfl⟩
abbrev main_while0b_call1_call0_call0_c_43 : Ref sig .tc := ⟨.hbm, 603, rfl⟩
abbrev main_while0b_call1_call0_call0_v166 : Ref sig .tc := ⟨.hbm, 604, rfl⟩
abbrev main_while0b_call1_call0_call0_v167 : Ref sig .tc := ⟨.hbm, 605, rfl⟩
abbrev main_while0b_call1_call0_call0_v168 : Ref sig .tc := ⟨.hbm, 606, rfl⟩
abbrev main_while0b_call1_call0_call0_v169 : Ref sig .tc := ⟨.hbm, 607, rfl⟩
abbrev main_while0b_call1_call0_call0_v170 : Ref sig .tc := ⟨.hbm, 608, rfl⟩
abbrev main_while0b_call1_call0_v22_0 : Ref sig .tc := ⟨.hbm, 609, rfl⟩
abbrev main_while0b_call1_call0_call0_v172 : Ref sig .tc := ⟨.hbm, 610, rfl⟩
abbrev main_while0b_call1_call0_call0_v173 : Ref sig .tc := ⟨.hbm, 611, rfl⟩
abbrev main_while0b_call1_call0_call0_c_44 : Ref sig .tc := ⟨.hbm, 612, rfl⟩
abbrev main_while0b_call1_call0_call0_v174 : Ref sig .tc := ⟨.hbm, 613, rfl⟩
abbrev main_while0b_call1_call0_v22_1 : Ref sig .tc := ⟨.hbm, 614, rfl⟩
abbrev main_while0b_call1_call0_v23 : Ref sig .tc := ⟨.hbm, 615, rfl⟩
abbrev main_while0b_call1_call0_c_3 : Ref sig .tc := ⟨.hbm, 616, rfl⟩
abbrev main_while0b_call1_call0_v24 : Ref sig .tc := ⟨.hbm, 617, rfl⟩
abbrev main_while0b_call1_call0_v25 : Ref sig .tc := ⟨.hbm, 618, rfl⟩
abbrev main_while0b_call1_call0_c_4 : Ref sig .tc := ⟨.hbm, 619, rfl⟩
abbrev main_while0b_call1_call0_v26 : Ref sig .tc := ⟨.hbm, 620, rfl⟩
abbrev main_while0b_call1_call0_v27 : Ref sig .tc := ⟨.hbm, 621, rfl⟩
abbrev main_while0b_call1_call0_v28 : Ref sig .tc := ⟨.hbm, 622, rfl⟩
abbrev main_while0b_call1_call0_cst : Ref sig .tc := ⟨.hbm, 623, rfl⟩
abbrev main_while0b_call1_call0_v29 : Ref sig .tc := ⟨.hbm, 624, rfl⟩
abbrev main_while0b_call1_call0_v30 : Ref sig .tc := ⟨.hbm, 625, rfl⟩
abbrev main_while0b_call1_call0_v31 : Ref sig .tc := ⟨.hbm, 626, rfl⟩
abbrev main_while0b_call1_call0_v32 : Ref sig .tc := ⟨.hbm, 627, rfl⟩
abbrev main_while0b_call1_call0_v33 : Ref sig .tc := ⟨.hbm, 628, rfl⟩
abbrev main_while0b_call1_call0_v34 : Ref sig .tc := ⟨.hbm, 629, rfl⟩
abbrev main_while0b_call1_call0_v35 : Ref sig .tc := ⟨.hbm, 630, rfl⟩
abbrev main_while0b_call1_call0_v36 : Ref sig .tc := ⟨.hbm, 631, rfl⟩
abbrev main_while0b_call1_v0 : Ref sig .tc := ⟨.hbm, 632, rfl⟩
abbrev main_while0b_call1_v1 : Ref sig .tc := ⟨.hbm, 633, rfl⟩
abbrev main_while0b_call1_v2 : Ref sig .tc := ⟨.hbm, 634, rfl⟩
abbrev main_while0b_call1_v3 : Ref sig .tc := ⟨.hbm, 635, rfl⟩
abbrev main_while0b_v91 : Ref sig .tc := ⟨.hbm, 636, rfl⟩
abbrev main_while0b_v92 : Ref sig .tc := ⟨.hbm, 637, rfl⟩
abbrev main_while0b_call2_v0 : Ref sig .tc := ⟨.hbm, 638, rfl⟩
abbrev main_while0b_call2_cst : Ref sig .tc := ⟨.hbm, 639, rfl⟩
abbrev main_while0b_call2_c : Ref sig .tc := ⟨.hbm, 640, rfl⟩
abbrev main_while0b_call2_v1_0 : Ref sig .tc := ⟨.hbm, 641, rfl⟩
abbrev main_while0b_v93 : Ref sig .tc := ⟨.hbm, 642, rfl⟩
abbrev main_while0b_call3_cst : Ref sig .tc := ⟨.hbm, 643, rfl⟩
abbrev main_while0b_call3_v0 : Ref sig .tc := ⟨.hbm, 644, rfl⟩
abbrev main_while0b_call3_cst_0 : Ref sig .tc := ⟨.hbm, 645, rfl⟩
abbrev main_while0b_call3_v1 : Ref sig .tc := ⟨.hbm, 646, rfl⟩
abbrev main_while0b_call3_v2 : Ref sig .tc := ⟨.hbm, 647, rfl⟩
abbrev main_while0b_call3_v3 : Ref sig .tc := ⟨.hbm, 648, rfl⟩
abbrev main_while0b_call3_v4 : Ref sig .tc := ⟨.hbm, 649, rfl⟩
abbrev main_while0b_call3_v5 : Ref sig .tc := ⟨.hbm, 650, rfl⟩
abbrev main_while0b_call3_v6 : Ref sig .tc := ⟨.hbm, 651, rfl⟩
abbrev main_while0b_call3_cst_1 : Ref sig .tc := ⟨.hbm, 652, rfl⟩
abbrev main_while0b_call3_v7 : Ref sig .tc := ⟨.hbm, 653, rfl⟩
abbrev main_while0b_call3_v8 : Ref sig .tc := ⟨.hbm, 654, rfl⟩
abbrev main_while0b_call3_v9 : Ref sig .tc := ⟨.hbm, 655, rfl⟩
abbrev main_while0b_call3_v10 : Ref sig .tc := ⟨.hbm, 656, rfl⟩
abbrev main_while0b_v94 : Ref sig .tc := ⟨.hbm, 657, rfl⟩
abbrev main_while0b_v95 : Ref sig .tc := ⟨.hbm, 658, rfl⟩
abbrev main_while0b_call4_c : Ref sig .tc := ⟨.hbm, 659, rfl⟩
abbrev main_while0b_call4_v0 : Ref sig .tc := ⟨.hbm, 660, rfl⟩
abbrev main_while0b_call4_v1 : Ref sig .tc := ⟨.hbm, 661, rfl⟩
abbrev main_while0b_call4_c_0 : Ref sig .tc := ⟨.hbm, 662, rfl⟩
abbrev main_while0b_call4_v2 : Ref sig .tc := ⟨.hbm, 663, rfl⟩
abbrev main_while0b_call4_v3 : Ref sig .tc := ⟨.hbm, 664, rfl⟩
abbrev main_while0b_call4_v4 : Ref sig .tc := ⟨.hbm, 665, rfl⟩
abbrev main_while0b_call4_v5 : Ref sig .tc := ⟨.hbm, 666, rfl⟩
abbrev main_while0b_call4_c_1 : Ref sig .tc := ⟨.hbm, 667, rfl⟩
abbrev main_while0b_call4_c_2 : Ref sig .tc := ⟨.hbm, 668, rfl⟩
abbrev main_while0b_call4_v6 : Ref sig .tc := ⟨.hbm, 669, rfl⟩
abbrev main_while0b_call4_v7 : Ref sig .tc := ⟨.hbm, 670, rfl⟩
abbrev main_while0b_call4_v8 : Ref sig .tc := ⟨.hbm, 671, rfl⟩
abbrev main_while0b_call4_v9 : Ref sig .tc := ⟨.hbm, 672, rfl⟩
abbrev main_while0b_call4_v10 : Ref sig .tc := ⟨.hbm, 673, rfl⟩
abbrev main_while0b_call4_v11 : Ref sig .tc := ⟨.hbm, 674, rfl⟩
abbrev main_while0b_call4_c_3 : Ref sig .tc := ⟨.hbm, 675, rfl⟩
abbrev main_while0b_call4_v12 : Ref sig .tc := ⟨.hbm, 676, rfl⟩
abbrev main_while0b_call4_v13 : Ref sig .tc := ⟨.hbm, 677, rfl⟩
abbrev main_while0b_call4_cst : Ref sig .tc := ⟨.hbm, 678, rfl⟩
abbrev main_while0b_call4_v14 : Ref sig .tc := ⟨.hbm, 679, rfl⟩
abbrev main_while0b_v96 : Ref sig .tc := ⟨.hbm, 680, rfl⟩
abbrev main_while0b_v97 : Ref sig .tc := ⟨.hbm, 681, rfl⟩
abbrev main_while0b_cst_31 : Ref sig .tc := ⟨.hbm, 682, rfl⟩
abbrev main_while0b_v98 : Ref sig .tc := ⟨.hbm, 683, rfl⟩
abbrev main_while0b_cst_32 : Ref sig .tc := ⟨.hbm, 684, rfl⟩
abbrev main_while0b_v99 : Ref sig .tc := ⟨.hbm, 685, rfl⟩
abbrev main_while0b_v100 : Ref sig .tc := ⟨.hbm, 686, rfl⟩
abbrev main_while0b_v101 : Ref sig .tc := ⟨.hbm, 687, rfl⟩
abbrev main_while0b_v102 : Ref sig .tc := ⟨.hbm, 688, rfl⟩
abbrev main_while0b_c_33 : Ref sig .tc := ⟨.hbm, 689, rfl⟩
abbrev main_while0b_v103 : Ref sig .tc := ⟨.hbm, 690, rfl⟩
abbrev main_while0b_v104 : Ref sig .tc := ⟨.hbm, 691, rfl⟩
abbrev main_while0b_c_34 : Ref sig .tc := ⟨.hbm, 692, rfl⟩
abbrev main_while0b_v105 : Ref sig .tc := ⟨.hbm, 693, rfl⟩
abbrev main_while0b_v106 : Ref sig .tc := ⟨.hbm, 694, rfl⟩
abbrev main_while0b_v107 : Ref sig .tc := ⟨.hbm, 695, rfl⟩
abbrev main_while0b_c_35 : Ref sig .tc := ⟨.hbm, 696, rfl⟩
abbrev main_while0b_v108 : Ref sig .tc := ⟨.hbm, 697, rfl⟩
abbrev main_while0b_v109 : Ref sig .tc := ⟨.hbm, 698, rfl⟩
abbrev main_while0b_c_36 : Ref sig .tc := ⟨.hbm, 699, rfl⟩
abbrev main_while0b_v110 : Ref sig .tc := ⟨.hbm, 700, rfl⟩
abbrev main_while0b_v111 : Ref sig .tc := ⟨.hbm, 701, rfl⟩
abbrev main_while0b_v112 : Ref sig .tc := ⟨.hbm, 702, rfl⟩
abbrev main_while0b_v113 : Ref sig .tc := ⟨.hbm, 703, rfl⟩
abbrev main_while0b_v114 : Ref sig .tc := ⟨.hbm, 704, rfl⟩
abbrev main_while0b_v115 : Ref sig .tc := ⟨.hbm, 705, rfl⟩
abbrev main_while0b_cst_37 : Ref sig .tc := ⟨.hbm, 706, rfl⟩
abbrev main_while0b_v116 : Ref sig .tc := ⟨.hbm, 707, rfl⟩
abbrev main_while0b_v117 : Ref sig .tc := ⟨.hbm, 708, rfl⟩
abbrev main_while0b_v118 : Ref sig .tc := ⟨.hbm, 709, rfl⟩
abbrev main_while0b_v119 : Ref sig .tc := ⟨.hbm, 710, rfl⟩
abbrev main_while0b_v120 : Ref sig .tc := ⟨.hbm, 711, rfl⟩
abbrev main_while0b_cst_38 : Ref sig .tc := ⟨.hbm, 712, rfl⟩
abbrev main_while0b_v121 : Ref sig .tc := ⟨.hbm, 713, rfl⟩
abbrev main_while0b_cst_39 : Ref sig .tc := ⟨.hbm, 714, rfl⟩
abbrev main_while0b_v122 : Ref sig .tc := ⟨.hbm, 715, rfl⟩
abbrev main_while0b_cst_40 : Ref sig .tc := ⟨.hbm, 716, rfl⟩
abbrev main_while0b_v123 : Ref sig .tc := ⟨.hbm, 717, rfl⟩
abbrev main_while0b_v124 : Ref sig .tc := ⟨.hbm, 718, rfl⟩
abbrev main_while0b_v125 : Ref sig .tc := ⟨.hbm, 719, rfl⟩
abbrev main_while0b_v126 : Ref sig .tc := ⟨.hbm, 720, rfl⟩
abbrev main_while0b_cst_41 : Ref sig .tc := ⟨.hbm, 721, rfl⟩
abbrev main_while0b_v127 : Ref sig .tc := ⟨.hbm, 722, rfl⟩
abbrev main_while0b_v128 : Ref sig .tc := ⟨.hbm, 723, rfl⟩
abbrev main_while0b_v129 : Ref sig .tc := ⟨.hbm, 724, rfl⟩
abbrev main_while0b_v130 : Ref sig .tc := ⟨.hbm, 725, rfl⟩
abbrev main_while0b_c_42 : Ref sig .tc := ⟨.hbm, 726, rfl⟩
abbrev main_while0b_v131 : Ref sig .tc := ⟨.hbm, 727, rfl⟩
abbrev main_while0b_v132 : Ref sig .tc := ⟨.hbm, 728, rfl⟩
abbrev main_while0b_c_43 : Ref sig .tc := ⟨.hbm, 729, rfl⟩
abbrev main_while0b_v133 : Ref sig .tc := ⟨.hbm, 730, rfl⟩
abbrev main_while0b_v134 : Ref sig .tc := ⟨.hbm, 731, rfl⟩
abbrev main_while0b_v135 : Ref sig .tc := ⟨.hbm, 732, rfl⟩
abbrev main_while0b_c_44 : Ref sig .tc := ⟨.hbm, 733, rfl⟩
abbrev main_while0b_v136 : Ref sig .tc := ⟨.hbm, 734, rfl⟩
abbrev main_while0b_v137 : Ref sig .tc := ⟨.hbm, 735, rfl⟩
abbrev main_while0b_c_45 : Ref sig .tc := ⟨.hbm, 736, rfl⟩
abbrev main_while0b_v138 : Ref sig .tc := ⟨.hbm, 737, rfl⟩
abbrev main_while0b_v139 : Ref sig .tc := ⟨.hbm, 738, rfl⟩
abbrev main_while0b_v140 : Ref sig .tc := ⟨.hbm, 739, rfl⟩
abbrev main_while0b_c_46 : Ref sig .tc := ⟨.hbm, 740, rfl⟩
abbrev main_while0b_v141 : Ref sig .tc := ⟨.hbm, 741, rfl⟩
abbrev main_while0b_v142 : Ref sig .tc := ⟨.hbm, 742, rfl⟩
abbrev main_while0b_v143 : Ref sig .tc := ⟨.hbm, 743, rfl⟩
abbrev main_while0b_v144 : Ref sig .tc := ⟨.hbm, 744, rfl⟩
abbrev main_while0b_v145 : Ref sig .tc := ⟨.hbm, 745, rfl⟩
abbrev main_while0b_v146 : Ref sig .tc := ⟨.hbm, 746, rfl⟩
abbrev main_while0b_v147 : Ref sig .tc := ⟨.hbm, 747, rfl⟩
abbrev main_while0b_v148 : Ref sig .tc := ⟨.hbm, 748, rfl⟩
abbrev main_while0b_cst_47 : Ref sig .tc := ⟨.hbm, 749, rfl⟩
abbrev main_while0b_v149 : Ref sig .tc := ⟨.hbm, 750, rfl⟩
abbrev main_while0b_cst_48 : Ref sig .tc := ⟨.hbm, 751, rfl⟩
abbrev main_while0b_v150 : Ref sig .tc := ⟨.hbm, 752, rfl⟩
abbrev main_while0b_v151 : Ref sig .tc := ⟨.hbm, 753, rfl⟩
abbrev main_while0b_v152 : Ref sig .tc := ⟨.hbm, 754, rfl⟩
abbrev main_while0b_v153 : Ref sig .tc := ⟨.hbm, 755, rfl⟩
abbrev main_while0b_c_49 : Ref sig .tc := ⟨.hbm, 756, rfl⟩
abbrev main_while0b_v154 : Ref sig .tc := ⟨.hbm, 757, rfl⟩
abbrev main_while0b_v155 : Ref sig .tc := ⟨.hbm, 758, rfl⟩
abbrev main_while0b_c_50 : Ref sig .tc := ⟨.hbm, 759, rfl⟩
abbrev main_while0b_v156 : Ref sig .tc := ⟨.hbm, 760, rfl⟩
abbrev main_while0b_v157 : Ref sig .tc := ⟨.hbm, 761, rfl⟩
abbrev main_while0b_v158 : Ref sig .tc := ⟨.hbm, 762, rfl⟩
abbrev main_while0b_c_51 : Ref sig .tc := ⟨.hbm, 763, rfl⟩
abbrev main_while0b_v159 : Ref sig .tc := ⟨.hbm, 764, rfl⟩
abbrev main_while0b_v160 : Ref sig .tc := ⟨.hbm, 765, rfl⟩
abbrev main_while0b_c_52 : Ref sig .tc := ⟨.hbm, 766, rfl⟩
abbrev main_while0b_v161 : Ref sig .tc := ⟨.hbm, 767, rfl⟩
abbrev main_while0b_v162 : Ref sig .tc := ⟨.hbm, 768, rfl⟩
abbrev main_while0b_v163 : Ref sig .tc := ⟨.hbm, 769, rfl⟩
abbrev main_while0b_c_53 : Ref sig .tc := ⟨.hbm, 770, rfl⟩
abbrev main_while0b_v164 : Ref sig .tc := ⟨.hbm, 771, rfl⟩
abbrev main_while0b_v165 : Ref sig .tc := ⟨.hbm, 772, rfl⟩
abbrev main_while0b_v166 : Ref sig .tc := ⟨.hbm, 773, rfl⟩
abbrev main_while0b_v167 : Ref sig .tc := ⟨.hbm, 774, rfl⟩
abbrev main_while0b_v168 : Ref sig .tc := ⟨.hbm, 775, rfl⟩
abbrev main_while0b_v169 : Ref sig .tc := ⟨.hbm, 776, rfl⟩
abbrev main_while0b_cst_54 : Ref sig .tc := ⟨.hbm, 777, rfl⟩
abbrev main_while0b_v170 : Ref sig .tc := ⟨.hbm, 778, rfl⟩
abbrev main_while0b_v171 : Ref sig .tc := ⟨.hbm, 779, rfl⟩
abbrev main_while0b_v172 : Ref sig .tc := ⟨.hbm, 780, rfl⟩
abbrev main_while0b_call5_cst : Ref sig .tc := ⟨.hbm, 781, rfl⟩
abbrev main_while0b_call5_v0 : Ref sig .tc := ⟨.hbm, 782, rfl⟩
abbrev main_while0b_call5_cst_0 : Ref sig .tc := ⟨.hbm, 783, rfl⟩
abbrev main_while0b_call5_v1 : Ref sig .tc := ⟨.hbm, 784, rfl⟩
abbrev main_while0b_call5_v2 : Ref sig .tc := ⟨.hbm, 785, rfl⟩
abbrev main_while0b_call5_v3 : Ref sig .tc := ⟨.hbm, 786, rfl⟩
abbrev main_while0b_call5_v4 : Ref sig .tc := ⟨.hbm, 787, rfl⟩
abbrev main_while0b_call5_v5 : Ref sig .tc := ⟨.hbm, 788, rfl⟩
abbrev main_while0b_call5_v6 : Ref sig .tc := ⟨.hbm, 789, rfl⟩
abbrev main_while0b_call5_cst_1 : Ref sig .tc := ⟨.hbm, 790, rfl⟩
abbrev main_while0b_call5_v7 : Ref sig .tc := ⟨.hbm, 791, rfl⟩
abbrev main_while0b_call5_v8 : Ref sig .tc := ⟨.hbm, 792, rfl⟩
abbrev main_while0b_call5_v9 : Ref sig .tc := ⟨.hbm, 793, rfl⟩
abbrev main_while0b_call5_v10 : Ref sig .tc := ⟨.hbm, 794, rfl⟩
abbrev main_while0b_v173 : Ref sig .tc := ⟨.hbm, 795, rfl⟩
abbrev main_while0b_v174 : Ref sig .tc := ⟨.hbm, 796, rfl⟩
abbrev main_while0b_call6_c : Ref sig .tc := ⟨.hbm, 797, rfl⟩
abbrev main_while0b_call6_v0 : Ref sig .tc := ⟨.hbm, 798, rfl⟩
abbrev main_while0b_call6_v1 : Ref sig .tc := ⟨.hbm, 799, rfl⟩
abbrev main_while0b_call6_c_0 : Ref sig .tc := ⟨.hbm, 800, rfl⟩
abbrev main_while0b_call6_v2 : Ref sig .tc := ⟨.hbm, 801, rfl⟩
abbrev main_while0b_call6_v3 : Ref sig .tc := ⟨.hbm, 802, rfl⟩
abbrev main_while0b_call6_v4 : Ref sig .tc := ⟨.hbm, 803, rfl⟩
abbrev main_while0b_call6_v5 : Ref sig .tc := ⟨.hbm, 804, rfl⟩
abbrev main_while0b_call6_c_1 : Ref sig .tc := ⟨.hbm, 805, rfl⟩
abbrev main_while0b_call6_c_2 : Ref sig .tc := ⟨.hbm, 806, rfl⟩
abbrev main_while0b_call6_v6 : Ref sig .tc := ⟨.hbm, 807, rfl⟩
abbrev main_while0b_call6_v7 : Ref sig .tc := ⟨.hbm, 808, rfl⟩
abbrev main_while0b_call6_v8 : Ref sig .tc := ⟨.hbm, 809, rfl⟩
abbrev main_while0b_call6_v9 : Ref sig .tc := ⟨.hbm, 810, rfl⟩
abbrev main_while0b_call6_v10 : Ref sig .tc := ⟨.hbm, 811, rfl⟩
abbrev main_while0b_call6_v11 : Ref sig .tc := ⟨.hbm, 812, rfl⟩
abbrev main_while0b_call6_c_3 : Ref sig .tc := ⟨.hbm, 813, rfl⟩
abbrev main_while0b_call6_v12 : Ref sig .tc := ⟨.hbm, 814, rfl⟩
abbrev main_while0b_call6_v13 : Ref sig .tc := ⟨.hbm, 815, rfl⟩
abbrev main_while0b_call6_cst : Ref sig .tc := ⟨.hbm, 816, rfl⟩
abbrev main_while0b_call6_v14 : Ref sig .tc := ⟨.hbm, 817, rfl⟩
abbrev main_while0b_v175 : Ref sig .tc := ⟨.hbm, 818, rfl⟩
abbrev main_while0b_v176 : Ref sig .tc := ⟨.hbm, 819, rfl⟩
abbrev main_while0b_cst_55 : Ref sig .tc := ⟨.hbm, 820, rfl⟩
abbrev main_while0b_v177 : Ref sig .tc := ⟨.hbm, 821, rfl⟩
abbrev main_while0b_v178 : Ref sig .tc := ⟨.hbm, 822, rfl⟩
abbrev main_while0b_v179 : Ref sig .tc := ⟨.hbm, 823, rfl⟩
abbrev main_while0b_v180 : Ref sig .tc := ⟨.hbm, 824, rfl⟩
abbrev main_while0b_cst_56 : Ref sig .tc := ⟨.hbm, 825, rfl⟩
abbrev main_while0b_v181 : Ref sig .tc := ⟨.hbm, 826, rfl⟩
abbrev main_while0b_v182 : Ref sig .tc := ⟨.hbm, 827, rfl⟩
abbrev main_while0b_v183 : Ref sig .tc := ⟨.hbm, 828, rfl⟩
abbrev main_while0b_v184 : Ref sig .tc := ⟨.hbm, 829, rfl⟩
abbrev main_while0b_cst_57 : Ref sig .tc := ⟨.hbm, 830, rfl⟩
abbrev main_while0b_v185 : Ref sig .tc := ⟨.hbm, 831, rfl⟩
abbrev main_while0b_v186 : Ref sig .tc := ⟨.hbm, 832, rfl⟩
abbrev main_while0b_v187 : Ref sig .tc := ⟨.hbm, 833, rfl⟩
abbrev main_while0b_v188 : Ref sig .tc := ⟨.hbm, 834, rfl⟩
abbrev main_while0b_v189 : Ref sig .tc := ⟨.hbm, 835, rfl⟩
abbrev main_while0b_cst_58 : Ref sig .tc := ⟨.hbm, 836, rfl⟩
abbrev main_while0b_cst_59 : Ref sig .tc := ⟨.hbm, 837, rfl⟩
abbrev main_while0b_call7_v0 : Ref sig .tc := ⟨.hbm, 838, rfl⟩
abbrev main_while0b_call7_v1 : Ref sig .tc := ⟨.hbm, 839, rfl⟩
abbrev main_while0b_call7_v2 : Ref sig .tc := ⟨.hbm, 840, rfl⟩
abbrev main_while0b_call7_v3 : Ref sig .tc := ⟨.hbm, 841, rfl⟩
abbrev main_while0b_call7_v4 : Ref sig .tc := ⟨.hbm, 842, rfl⟩
abbrev main_while0b_call7_v5 : Ref sig .tc := ⟨.hbm, 843, rfl⟩
abbrev main_while0b_call7_v6 : Ref sig .tc := ⟨.hbm, 844, rfl⟩
abbrev main_while0b_call7_v7 : Ref sig .tc := ⟨.hbm, 845, rfl⟩
abbrev main_while0b_call7_v8 : Ref sig .tc := ⟨.hbm, 846, rfl⟩
abbrev main_while0b_call7_c : Ref sig .tc := ⟨.hbm, 847, rfl⟩
abbrev main_while0b_call7_v9 : Ref sig .tc := ⟨.hbm, 848, rfl⟩
abbrev main_while0b_call7_v10 : Ref sig .tc := ⟨.hbm, 849, rfl⟩
abbrev main_while0b_call7_c_0 : Ref sig .tc := ⟨.hbm, 850, rfl⟩
abbrev main_while0b_call7_v11 : Ref sig .tc := ⟨.hbm, 851, rfl⟩
abbrev main_while0b_call7_v12 : Ref sig .tc := ⟨.hbm, 852, rfl⟩
abbrev main_while0b_call7_v13 : Ref sig .tc := ⟨.hbm, 853, rfl⟩
abbrev main_while0b_call7_v14 : Ref sig .tc := ⟨.hbm, 854, rfl⟩
abbrev main_while0b_call7_call0_v0 : Ref sig .tc := ⟨.hbm, 855, rfl⟩
abbrev main_while0b_call7_call0_c : Ref sig .tc := ⟨.hbm, 856, rfl⟩
abbrev main_while0b_call7_call0_v1 : Ref sig .tc := ⟨.hbm, 857, rfl⟩
abbrev main_while0b_call7_call0_v2 : Ref sig .tc := ⟨.hbm, 858, rfl⟩
abbrev main_while0b_call7_call0_v3 : Ref sig .tc := ⟨.hbm, 859, rfl⟩
abbrev main_while0b_call7_call0_v4 : Ref sig .tc := ⟨.hbm, 860, rfl⟩
abbrev main_while0b_call7_call0_v5 : Ref sig .tc := ⟨.hbm, 861, rfl⟩
abbrev main_while0b_call7_call0_v6 : Ref sig .tc := ⟨.hbm, 862, rfl⟩
abbrev main_while0b_call7_call0_c_0 : Ref sig .tc := ⟨.hbm, 863, rfl⟩
abbrev main_while0b_call7_call0_v7 : Ref sig .tc := ⟨.hbm, 864, rfl⟩
abbrev main_while0b_call7_call0_v8 : Ref sig .tc := ⟨.hbm, 865, rfl⟩
abbrev main_while0b_call7_call0_c_1 : Ref sig .tc := ⟨.hbm, 866, rfl⟩
abbrev main_while0b_call7_call0_v9 : Ref sig .tc := ⟨.hbm, 867, rfl⟩
abbrev main_while0b_call7_call0_v10 : Ref sig .tc := ⟨.hbm, 868, rfl⟩
abbrev main_while0b_call7_call0_v11 : Ref sig .tc := ⟨.hbm, 869, rfl⟩
abbrev main_while0b_call7_call0_v12 : Ref sig .tc := ⟨.hbm, 870, rfl⟩
abbrev main_while0b_call7_call0_v13 : Ref sig .tc := ⟨.hbm, 871, rfl⟩
abbrev main_while0b_call7_call0_c_2 : Ref sig .tc := ⟨.hbm, 872, rfl⟩
abbrev main_while0b_call7_call0_v14 : Ref sig .tc := ⟨.hbm, 873, rfl⟩
abbrev main_while0b_call7_call0_v15 : Ref sig .tc := ⟨.hbm, 874, rfl⟩
abbrev main_while0b_call7_call0_c_3 : Ref sig .tc := ⟨.hbm, 875, rfl⟩
abbrev main_while0b_call7_call0_v16 : Ref sig .tc := ⟨.hbm, 876, rfl⟩
abbrev main_while0b_call7_call0_v17 : Ref sig .tc := ⟨.hbm, 877, rfl⟩
abbrev main_while0b_call7_call0_v18 : Ref sig .tc := ⟨.hbm, 878, rfl⟩
abbrev main_while0b_call7_call0_v19 : Ref sig .tc := ⟨.hbm, 879, rfl⟩
abbrev main_while0b_call7_call0_v20 : Ref sig .tc := ⟨.hbm, 880, rfl⟩
abbrev main_while0b_call7_call0_c_4 : Ref sig .tc := ⟨.hbm, 881, rfl⟩
abbrev main_while0b_call7_call0_v21 : Ref sig .tc := ⟨.hbm, 882, rfl⟩
abbrev main_while0b_call7_call0_v22 : Ref sig .tc := ⟨.hbm, 883, rfl⟩
abbrev main_while0b_call7_call0_c_5 : Ref sig .tc := ⟨.hbm, 884, rfl⟩
abbrev main_while0b_call7_call0_v23 : Ref sig .tc := ⟨.hbm, 885, rfl⟩
abbrev main_while0b_call7_call0_v24 : Ref sig .tc := ⟨.hbm, 886, rfl⟩
abbrev main_while0b_call7_call0_v25 : Ref sig .tc := ⟨.hbm, 887, rfl⟩
abbrev main_while0b_call7_call0_v26 : Ref sig .tc := ⟨.hbm, 888, rfl⟩
abbrev main_while0b_call7_call0_v27 : Ref sig .tc := ⟨.hbm, 889, rfl⟩
abbrev main_while0b_call7_call0_c_6 : Ref sig .tc := ⟨.hbm, 890, rfl⟩
abbrev main_while0b_call7_call0_v28 : Ref sig .tc := ⟨.hbm, 891, rfl⟩
abbrev main_while0b_call7_call0_v29 : Ref sig .tc := ⟨.hbm, 892, rfl⟩
abbrev main_while0b_call7_call0_c_7 : Ref sig .tc := ⟨.hbm, 893, rfl⟩
abbrev main_while0b_call7_call0_v30 : Ref sig .tc := ⟨.hbm, 894, rfl⟩
abbrev main_while0b_call7_call0_v31 : Ref sig .tc := ⟨.hbm, 895, rfl⟩
abbrev main_while0b_call7_call0_v32 : Ref sig .tc := ⟨.hbm, 896, rfl⟩
abbrev main_while0b_call7_call0_v33 : Ref sig .tc := ⟨.hbm, 897, rfl⟩
abbrev main_while0b_call7_call0_v34 : Ref sig .tc := ⟨.hbm, 898, rfl⟩
abbrev main_while0b_call7_call0_v35 : Ref sig .tc := ⟨.hbm, 899, rfl⟩
abbrev main_while0b_call7_call0_v36 : Ref sig .tc := ⟨.hbm, 900, rfl⟩
abbrev main_while0b_call7_call0_v37 : Ref sig .tc := ⟨.hbm, 901, rfl⟩
abbrev main_while0b_call7_call0_c_8 : Ref sig .tc := ⟨.hbm, 902, rfl⟩
abbrev main_while0b_call7_call0_v38 : Ref sig .tc := ⟨.hbm, 903, rfl⟩
abbrev main_while0b_call7_call0_v39 : Ref sig .tc := ⟨.hbm, 904, rfl⟩
abbrev main_while0b_call7_call0_v40 : Ref sig .tc := ⟨.hbm, 905, rfl⟩
abbrev main_while0b_call7_call0_c_9 : Ref sig .tc := ⟨.hbm, 906, rfl⟩
abbrev main_while0b_call7_call0_v41 : Ref sig .tc := ⟨.hbm, 907, rfl⟩
abbrev main_while0b_call7_call0_v42 : Ref sig .tc := ⟨.hbm, 908, rfl⟩
abbrev main_while0b_call7_call0_c_10 : Ref sig .tc := ⟨.hbm, 909, rfl⟩
abbrev main_while0b_call7_call0_v43 : Ref sig .tc := ⟨.hbm, 910, rfl⟩
abbrev main_while0b_call7_call0_v44 : Ref sig .tc := ⟨.hbm, 911, rfl⟩
abbrev main_while0b_call7_call0_v45 : Ref sig .tc := ⟨.hbm, 912, rfl⟩
abbrev main_while0b_call7_call0_v46 : Ref sig .tc := ⟨.hbm, 913, rfl⟩
abbrev main_while0b_call7_call0_v47 : Ref sig .tc := ⟨.hbm, 914, rfl⟩
abbrev main_while0b_call7_call0_c_11 : Ref sig .tc := ⟨.hbm, 915, rfl⟩
abbrev main_while0b_call7_call0_v48 : Ref sig .tc := ⟨.hbm, 916, rfl⟩
abbrev main_while0b_call7_call0_v49 : Ref sig .tc := ⟨.hbm, 917, rfl⟩
abbrev main_while0b_call7_call0_c_12 : Ref sig .tc := ⟨.hbm, 918, rfl⟩
abbrev main_while0b_call7_call0_v50 : Ref sig .tc := ⟨.hbm, 919, rfl⟩
abbrev main_while0b_call7_call0_v51 : Ref sig .tc := ⟨.hbm, 920, rfl⟩
abbrev main_while0b_call7_call0_v52 : Ref sig .tc := ⟨.hbm, 921, rfl⟩
abbrev main_while0b_call7_call0_v53 : Ref sig .tc := ⟨.hbm, 922, rfl⟩
abbrev main_while0b_call7_call0_v54 : Ref sig .tc := ⟨.hbm, 923, rfl⟩
abbrev main_while0b_call7_call0_c_13 : Ref sig .tc := ⟨.hbm, 924, rfl⟩
abbrev main_while0b_call7_call0_v55 : Ref sig .tc := ⟨.hbm, 925, rfl⟩
abbrev main_while0b_call7_call0_v56 : Ref sig .tc := ⟨.hbm, 926, rfl⟩
abbrev main_while0b_call7_call0_c_14 : Ref sig .tc := ⟨.hbm, 927, rfl⟩
abbrev main_while0b_call7_call0_v57 : Ref sig .tc := ⟨.hbm, 928, rfl⟩
abbrev main_while0b_call7_call0_v58 : Ref sig .tc := ⟨.hbm, 929, rfl⟩
abbrev main_while0b_call7_call0_v59 : Ref sig .tc := ⟨.hbm, 930, rfl⟩
abbrev main_while0b_call7_call0_v60 : Ref sig .tc := ⟨.hbm, 931, rfl⟩
abbrev main_while0b_call7_call0_v61 : Ref sig .tc := ⟨.hbm, 932, rfl⟩
abbrev main_while0b_call7_call0_c_15 : Ref sig .tc := ⟨.hbm, 933, rfl⟩
abbrev main_while0b_call7_call0_v62 : Ref sig .tc := ⟨.hbm, 934, rfl⟩
abbrev main_while0b_call7_call0_v63 : Ref sig .tc := ⟨.hbm, 935, rfl⟩
abbrev main_while0b_call7_call0_c_16 : Ref sig .tc := ⟨.hbm, 936, rfl⟩
abbrev main_while0b_call7_call0_v64 : Ref sig .tc := ⟨.hbm, 937, rfl⟩
abbrev main_while0b_call7_call0_v65 : Ref sig .tc := ⟨.hbm, 938, rfl⟩
abbrev main_while0b_call7_call0_v66 : Ref sig .tc := ⟨.hbm, 939, rfl⟩
abbrev main_while0b_call7_call0_v67 : Ref sig .tc := ⟨.hbm, 940, rfl⟩
abbrev main_while0b_call7_call0_v68 : Ref sig .tc := ⟨.hbm, 941, rfl⟩
abbrev main_while0b_call7_call0_v69 : Ref sig .tc := ⟨.hbm, 942, rfl⟩
abbrev main_while0b_call7_call0_v70 : Ref sig .tc := ⟨.hbm, 943, rfl⟩
abbrev main_while0b_call7_call0_v71 : Ref sig .tc := ⟨.hbm, 944, rfl⟩
abbrev main_while0b_call7_call0_c_17 : Ref sig .tc := ⟨.hbm, 945, rfl⟩
abbrev main_while0b_call7_call0_v72 : Ref sig .tc := ⟨.hbm, 946, rfl⟩
abbrev main_while0b_call7_call0_v73 : Ref sig .tc := ⟨.hbm, 947, rfl⟩
abbrev main_while0b_call7_call0_v74 : Ref sig .tc := ⟨.hbm, 948, rfl⟩
abbrev main_while0b_call7_call0_c_18 : Ref sig .tc := ⟨.hbm, 949, rfl⟩
abbrev main_while0b_call7_call0_v75 : Ref sig .tc := ⟨.hbm, 950, rfl⟩
abbrev main_while0b_call7_call0_v76 : Ref sig .tc := ⟨.hbm, 951, rfl⟩
abbrev main_while0b_call7_call0_c_19 : Ref sig .tc := ⟨.hbm, 952, rfl⟩
abbrev main_while0b_call7_call0_v77 : Ref sig .tc := ⟨.hbm, 953, rfl⟩
abbrev main_while0b_call7_call0_v78 : Ref sig .tc := ⟨.hbm, 954, rfl⟩
abbrev main_while0b_call7_call0_v79 : Ref sig .tc := ⟨.hbm, 955, rfl⟩
abbrev main_while0b_call7_call0_v80 : Ref sig .tc := ⟨.hbm, 956, rfl⟩
abbrev main_while0b_call7_call0_v81 : Ref sig .tc := ⟨.hbm, 957, rfl⟩
abbrev main_while0b_call7_call0_c_20 : Ref sig .tc := ⟨.hbm, 958, rfl⟩
abbrev main_while0b_call7_call0_v82 : Ref sig .tc := ⟨.hbm, 959, rfl⟩
abbrev main_while0b_call7_call0_v83 : Ref sig .tc := ⟨.hbm, 960, rfl⟩
abbrev main_while0b_call7_call0_c_21 : Ref sig .tc := ⟨.hbm, 961, rfl⟩
abbrev main_while0b_call7_call0_v84 : Ref sig .tc := ⟨.hbm, 962, rfl⟩
abbrev main_while0b_call7_call0_v85 : Ref sig .tc := ⟨.hbm, 963, rfl⟩
abbrev main_while0b_call7_call0_v86 : Ref sig .tc := ⟨.hbm, 964, rfl⟩
abbrev main_while0b_call7_call0_v87 : Ref sig .tc := ⟨.hbm, 965, rfl⟩
abbrev main_while0b_call7_call0_v88 : Ref sig .tc := ⟨.hbm, 966, rfl⟩
abbrev main_while0b_call7_call0_c_22 : Ref sig .tc := ⟨.hbm, 967, rfl⟩
abbrev main_while0b_call7_call0_v89 : Ref sig .tc := ⟨.hbm, 968, rfl⟩
abbrev main_while0b_call7_call0_v90 : Ref sig .tc := ⟨.hbm, 969, rfl⟩
abbrev main_while0b_call7_call0_c_23 : Ref sig .tc := ⟨.hbm, 970, rfl⟩
abbrev main_while0b_call7_call0_v91 : Ref sig .tc := ⟨.hbm, 971, rfl⟩
abbrev main_while0b_call7_call0_v92 : Ref sig .tc := ⟨.hbm, 972, rfl⟩
abbrev main_while0b_call7_call0_v93 : Ref sig .tc := ⟨.hbm, 973, rfl⟩
abbrev main_while0b_call7_call0_v94 : Ref sig .tc := ⟨.hbm, 974, rfl⟩
abbrev main_while0b_call7_call0_v95 : Ref sig .tc := ⟨.hbm, 975, rfl⟩
abbrev main_while0b_call7_call0_c_24 : Ref sig .tc := ⟨.hbm, 976, rfl⟩
abbrev main_while0b_call7_call0_v96 : Ref sig .tc := ⟨.hbm, 977, rfl⟩
abbrev main_while0b_call7_call0_v97 : Ref sig .tc := ⟨.hbm, 978, rfl⟩
abbrev main_while0b_call7_call0_c_25 : Ref sig .tc := ⟨.hbm, 979, rfl⟩
abbrev main_while0b_call7_call0_v98 : Ref sig .tc := ⟨.hbm, 980, rfl⟩
abbrev main_while0b_call7_call0_v99 : Ref sig .tc := ⟨.hbm, 981, rfl⟩
abbrev main_while0b_call7_call0_v100 : Ref sig .tc := ⟨.hbm, 982, rfl⟩
abbrev main_while0b_call7_call0_v101 : Ref sig .tc := ⟨.hbm, 983, rfl⟩
abbrev main_while0b_call7_call0_v102 : Ref sig .tc := ⟨.hbm, 984, rfl⟩
abbrev main_while0b_call7_call0_v103 : Ref sig .tc := ⟨.hbm, 985, rfl⟩
abbrev main_while0b_call7_call0_v104 : Ref sig .tc := ⟨.hbm, 986, rfl⟩
abbrev main_while0b_call7_call0_v105 : Ref sig .tc := ⟨.hbm, 987, rfl⟩
abbrev main_while0b_call7_call0_c_26 : Ref sig .tc := ⟨.hbm, 988, rfl⟩
abbrev main_while0b_call7_call0_v106 : Ref sig .tc := ⟨.hbm, 989, rfl⟩
abbrev main_while0b_call7_call0_v107 : Ref sig .tc := ⟨.hbm, 990, rfl⟩
abbrev main_while0b_call7_call0_v108 : Ref sig .tc := ⟨.hbm, 991, rfl⟩
abbrev main_while0b_call7_call0_c_27 : Ref sig .tc := ⟨.hbm, 992, rfl⟩
abbrev main_while0b_call7_call0_v109 : Ref sig .tc := ⟨.hbm, 993, rfl⟩
abbrev main_while0b_call7_call0_v110 : Ref sig .tc := ⟨.hbm, 994, rfl⟩
abbrev main_while0b_call7_call0_c_28 : Ref sig .tc := ⟨.hbm, 995, rfl⟩
abbrev main_while0b_call7_call0_v111 : Ref sig .tc := ⟨.hbm, 996, rfl⟩
abbrev main_while0b_call7_call0_v112 : Ref sig .tc := ⟨.hbm, 997, rfl⟩
abbrev main_while0b_call7_call0_v113 : Ref sig .tc := ⟨.hbm, 998, rfl⟩
abbrev main_while0b_call7_call0_v114 : Ref sig .tc := ⟨.hbm, 999, rfl⟩
abbrev main_while0b_call7_call0_v115 : Ref sig .tc := ⟨.hbm, 1000, rfl⟩
abbrev main_while0b_call7_call0_c_29 : Ref sig .tc := ⟨.hbm, 1001, rfl⟩
abbrev main_while0b_call7_call0_v116 : Ref sig .tc := ⟨.hbm, 1002, rfl⟩
abbrev main_while0b_call7_call0_v117 : Ref sig .tc := ⟨.hbm, 1003, rfl⟩
abbrev main_while0b_call7_call0_c_30 : Ref sig .tc := ⟨.hbm, 1004, rfl⟩
abbrev main_while0b_call7_call0_v118 : Ref sig .tc := ⟨.hbm, 1005, rfl⟩
abbrev main_while0b_call7_call0_v119 : Ref sig .tc := ⟨.hbm, 1006, rfl⟩
abbrev main_while0b_call7_call0_v120 : Ref sig .tc := ⟨.hbm, 1007, rfl⟩
abbrev main_while0b_call7_call0_v121 : Ref sig .tc := ⟨.hbm, 1008, rfl⟩
abbrev main_while0b_call7_call0_v122 : Ref sig .tc := ⟨.hbm, 1009, rfl⟩
abbrev main_while0b_call7_call0_c_31 : Ref sig .tc := ⟨.hbm, 1010, rfl⟩
abbrev main_while0b_call7_call0_v123 : Ref sig .tc := ⟨.hbm, 1011, rfl⟩
abbrev main_while0b_call7_call0_v124 : Ref sig .tc := ⟨.hbm, 1012, rfl⟩
abbrev main_while0b_call7_call0_c_32 : Ref sig .tc := ⟨.hbm, 1013, rfl⟩
abbrev main_while0b_call7_call0_v125 : Ref sig .tc := ⟨.hbm, 1014, rfl⟩
abbrev main_while0b_call7_call0_v126 : Ref sig .tc := ⟨.hbm, 1015, rfl⟩
abbrev main_while0b_call7_call0_v127 : Ref sig .tc := ⟨.hbm, 1016, rfl⟩
abbrev main_while0b_call7_call0_v128 : Ref sig .tc := ⟨.hbm, 1017, rfl⟩
abbrev main_while0b_call7_call0_v129 : Ref sig .tc := ⟨.hbm, 1018, rfl⟩
abbrev main_while0b_call7_call0_c_33 : Ref sig .tc := ⟨.hbm, 1019, rfl⟩
abbrev main_while0b_call7_call0_v130 : Ref sig .tc := ⟨.hbm, 1020, rfl⟩
abbrev main_while0b_call7_call0_v131 : Ref sig .tc := ⟨.hbm, 1021, rfl⟩
abbrev main_while0b_call7_call0_c_34 : Ref sig .tc := ⟨.hbm, 1022, rfl⟩
abbrev main_while0b_call7_call0_v132 : Ref sig .tc := ⟨.hbm, 1023, rfl⟩
abbrev main_while0b_call7_call0_v133 : Ref sig .tc := ⟨.hbm, 1024, rfl⟩
abbrev main_while0b_call7_call0_v134 : Ref sig .tc := ⟨.hbm, 1025, rfl⟩
abbrev main_while0b_call7_call0_v135 : Ref sig .tc := ⟨.hbm, 1026, rfl⟩
abbrev main_while0b_call7_call0_v136 : Ref sig .tc := ⟨.hbm, 1027, rfl⟩
abbrev main_while0b_call7_call0_v137 : Ref sig .tc := ⟨.hbm, 1028, rfl⟩
abbrev main_while0b_call7_call0_v138 : Ref sig .tc := ⟨.hbm, 1029, rfl⟩
abbrev main_while0b_call7_call0_v139 : Ref sig .tc := ⟨.hbm, 1030, rfl⟩
abbrev main_while0b_call7_call0_c_35 : Ref sig .tc := ⟨.hbm, 1031, rfl⟩
abbrev main_while0b_call7_call0_v140 : Ref sig .tc := ⟨.hbm, 1032, rfl⟩
abbrev main_while0b_call7_call0_v141 : Ref sig .tc := ⟨.hbm, 1033, rfl⟩
abbrev main_while0b_call7_call0_v142 : Ref sig .tc := ⟨.hbm, 1034, rfl⟩
abbrev main_while0b_call7_call0_c_36 : Ref sig .tc := ⟨.hbm, 1035, rfl⟩
abbrev main_while0b_call7_call0_v143 : Ref sig .tc := ⟨.hbm, 1036, rfl⟩
abbrev main_while0b_call7_call0_v144 : Ref sig .tc := ⟨.hbm, 1037, rfl⟩
abbrev main_while0b_call7_call0_c_37 : Ref sig .tc := ⟨.hbm, 1038, rfl⟩
abbrev main_while0b_call7_call0_v145 : Ref sig .tc := ⟨.hbm, 1039, rfl⟩
abbrev main_while0b_call7_call0_v146 : Ref sig .tc := ⟨.hbm, 1040, rfl⟩
abbrev main_while0b_call7_call0_v147 : Ref sig .tc := ⟨.hbm, 1041, rfl⟩
abbrev main_while0b_call7_call0_v148 : Ref sig .tc := ⟨.hbm, 1042, rfl⟩
abbrev main_while0b_call7_call0_v149 : Ref sig .tc := ⟨.hbm, 1043, rfl⟩
abbrev main_while0b_call7_call0_c_38 : Ref sig .tc := ⟨.hbm, 1044, rfl⟩
abbrev main_while0b_call7_call0_v150 : Ref sig .tc := ⟨.hbm, 1045, rfl⟩
abbrev main_while0b_call7_call0_v151 : Ref sig .tc := ⟨.hbm, 1046, rfl⟩
abbrev main_while0b_call7_call0_c_39 : Ref sig .tc := ⟨.hbm, 1047, rfl⟩
abbrev main_while0b_call7_call0_v152 : Ref sig .tc := ⟨.hbm, 1048, rfl⟩
abbrev main_while0b_call7_call0_v153 : Ref sig .tc := ⟨.hbm, 1049, rfl⟩
abbrev main_while0b_call7_call0_v154 : Ref sig .tc := ⟨.hbm, 1050, rfl⟩
abbrev main_while0b_call7_call0_v155 : Ref sig .tc := ⟨.hbm, 1051, rfl⟩
abbrev main_while0b_call7_call0_v156 : Ref sig .tc := ⟨.hbm, 1052, rfl⟩
abbrev main_while0b_call7_call0_c_40 : Ref sig .tc := ⟨.hbm, 1053, rfl⟩
abbrev main_while0b_call7_call0_v157 : Ref sig .tc := ⟨.hbm, 1054, rfl⟩
abbrev main_while0b_call7_call0_v158 : Ref sig .tc := ⟨.hbm, 1055, rfl⟩
abbrev main_while0b_call7_call0_c_41 : Ref sig .tc := ⟨.hbm, 1056, rfl⟩
abbrev main_while0b_call7_call0_v159 : Ref sig .tc := ⟨.hbm, 1057, rfl⟩
abbrev main_while0b_call7_call0_v160 : Ref sig .tc := ⟨.hbm, 1058, rfl⟩
abbrev main_while0b_call7_call0_v161 : Ref sig .tc := ⟨.hbm, 1059, rfl⟩
abbrev main_while0b_call7_call0_v162 : Ref sig .tc := ⟨.hbm, 1060, rfl⟩
abbrev main_while0b_call7_call0_v163 : Ref sig .tc := ⟨.hbm, 1061, rfl⟩
abbrev main_while0b_call7_call0_c_42 : Ref sig .tc := ⟨.hbm, 1062, rfl⟩
abbrev main_while0b_call7_call0_v164 : Ref sig .tc := ⟨.hbm, 1063, rfl⟩
abbrev main_while0b_call7_call0_v165 : Ref sig .tc := ⟨.hbm, 1064, rfl⟩
abbrev main_while0b_call7_call0_c_43 : Ref sig .tc := ⟨.hbm, 1065, rfl⟩
abbrev main_while0b_call7_call0_v166 : Ref sig .tc := ⟨.hbm, 1066, rfl⟩
abbrev main_while0b_call7_call0_v167 : Ref sig .tc := ⟨.hbm, 1067, rfl⟩
abbrev main_while0b_call7_call0_v168 : Ref sig .tc := ⟨.hbm, 1068, rfl⟩
abbrev main_while0b_call7_call0_v169 : Ref sig .tc := ⟨.hbm, 1069, rfl⟩
abbrev main_while0b_call7_call0_v170 : Ref sig .tc := ⟨.hbm, 1070, rfl⟩
abbrev main_while0b_call7_v15_0 : Ref sig .tc := ⟨.hbm, 1071, rfl⟩
abbrev main_while0b_call7_call0_v172 : Ref sig .tc := ⟨.hbm, 1072, rfl⟩
abbrev main_while0b_call7_call0_v173 : Ref sig .tc := ⟨.hbm, 1073, rfl⟩
abbrev main_while0b_call7_call0_c_44 : Ref sig .tc := ⟨.hbm, 1074, rfl⟩
abbrev main_while0b_call7_call0_v174 : Ref sig .tc := ⟨.hbm, 1075, rfl⟩
abbrev main_while0b_call7_v15_1 : Ref sig .tc := ⟨.hbm, 1076, rfl⟩
abbrev main_while0b_call7_v16 : Ref sig .tc := ⟨.hbm, 1077, rfl⟩
abbrev main_while0b_call7_c_1 : Ref sig .tc := ⟨.hbm, 1078, rfl⟩
abbrev main_while0b_call7_v17 : Ref sig .tc := ⟨.hbm, 1079, rfl⟩
abbrev main_while0b_call7_v18 : Ref sig .tc := ⟨.hbm, 1080, rfl⟩
abbrev main_while0b_call7_c_2 : Ref sig .tc := ⟨.hbm, 1081, rfl⟩
abbrev main_while0b_call7_v19 : Ref sig .tc := ⟨.hbm, 1082, rfl⟩
abbrev main_while0b_call7_v20 : Ref sig .tc := ⟨.hbm, 1083, rfl⟩
abbrev main_while0b_call7_v21 : Ref sig .tc := ⟨.hbm, 1084, rfl⟩
abbrev main_while0b_call7_cst : Ref sig .tc := ⟨.hbm, 1085, rfl⟩
abbrev main_while0b_call7_v22 : Ref sig .tc := ⟨.hbm, 1086, rfl⟩
abbrev main_while0b_call7_v23 : Ref sig .tc := ⟨.hbm, 1087, rfl⟩
abbrev main_while0b_call7_v24 : Ref sig .tc := ⟨.hbm, 1088, rfl⟩
abbrev main_while0b_call7_v25 : Ref sig .tc := ⟨.hbm, 1089, rfl⟩
abbrev main_while0b_call7_v26 : Ref sig .tc := ⟨.hbm, 1090, rfl⟩
abbrev main_while0b_call7_v27 : Ref sig .tc := ⟨.hbm, 1091, rfl⟩
abbrev main_while0b_call7_v28 : Ref sig .tc := ⟨.hbm, 1092, rfl⟩
abbrev main_while0b_call7_v29 : Ref sig .tc := ⟨.hbm, 1093, rfl⟩
abbrev main_while0b_v190 : Ref sig .tc := ⟨.hbm, 1094, rfl⟩
abbrev main_while0b_v191 : Ref sig .tc := ⟨.hbm, 1095, rfl⟩
abbrev main_while0b_v192 : Ref sig .tc := ⟨.hbm, 1096, rfl⟩
abbrev main_while0b_v193 : Ref sig .tc := ⟨.hbm, 1097, rfl⟩
abbrev main_while0b_v194 : Ref sig .tc := ⟨.hbm, 1098, rfl⟩
abbrev main_while0b_v195 : Ref sig .tc := ⟨.hbm, 1099, rfl⟩
abbrev main_while0b_v196 : Ref sig .tc := ⟨.hbm, 1100, rfl⟩
abbrev main_while0b_v197 : Ref sig .tc := ⟨.hbm, 1101, rfl⟩
abbrev main_while0b_v198 : Ref sig .tc := ⟨.hbm, 1102, rfl⟩
abbrev main_while0b_cst_60 : Ref sig .tc := ⟨.hbm, 1103, rfl⟩
abbrev main_while0b_v199 : Ref sig .tc := ⟨.hbm, 1104, rfl⟩
abbrev main_while0b_v200 : Ref sig .tc := ⟨.hbm, 1105, rfl⟩
abbrev main_while0b_v201 : Ref sig .tc := ⟨.hbm, 1106, rfl⟩
abbrev main_while0b_v202 : Ref sig .tc := ⟨.hbm, 1107, rfl⟩
abbrev main_while0b_v203 : Ref sig .tc := ⟨.hbm, 1108, rfl⟩
abbrev main_while0b_v204 : Ref sig .tc := ⟨.hbm, 1109, rfl⟩
abbrev main_while0b_c_61 : Ref sig .tc := ⟨.hbm, 1110, rfl⟩
abbrev main_while0b_v205 : Ref sig .tc := ⟨.hbm, 1111, rfl⟩

abbrev nD : Nat := 1
abbrev τ : Topo := Topo.v7x

variable {F : FTy → Type} [FloatOps F]

abbrev main_while0_count : Scf.Loop 32 := ⟨0#32, 10#32, 1#32⟩
-- ==== Proof.Lines.lean ====
/- A line of host operations in which every operation writes a buffer numbered above everything read or written before
   it. What such a line leaves behind satisfies each of its operations as an equation. -/
module

public import Idealize.ShloMosaic.Lib.StableHlo.Run

@[expose] public section

noncomputable section

namespace Cert.Lines

open Idealize.ShloMosaic Idealize.ShloMosaic.StableHlo

variable {τ : Topo} {sig : RefSig} {Val : EltTy → Type}

/-- The contents of a typed reference. -/
abbrev rd {T : BufTy} (M : Valuation τ sig Val) (x : TRef sig T) : T.Contents Val := x.ofBuf (M (Proc.devRef .tc x.ref))

/-- The number a buffer has in its table. -/
abbrev num (b : DevRef τ sig) : Nat := b.idx.val

/-- The operation writes buffer `n` only, from buffers of smaller numbers. -/
structure Fresh (op : HloOp τ sig Val) (n : Nat) : Prop where
  writes : ∀ b ∈ op.writes, num b = n
  congr : ∀ M M' : Valuation τ sig Val, (∀ b, num b < n → M b = M' b) → ∀ b ∈ op.writes, op.result M b = op.result M' b

/-- The operations write the buffers from `n` on, one after the other. -/
def Line : List (HloOp τ sig Val) → Nat → Prop
  | [], _ => True
  | op :: ops, n => Fresh op n ∧ Line ops (n + 1)

/-- The operation, run from `M`, changes nothing: its equation holds in `M`. -/
def Holds (M : Valuation τ sig Val) (op : HloOp τ sig Val) : Prop := op.result M = M

theorem result_kept {op : HloOp τ sig Val} {n : Nat} (h : Fresh op n) (V : Valuation τ sig Val) (b : DevRef τ sig) (hb : num b ≠ n) :
    op.result V b = V b := op.result_of_not_mem V fun hm => hb (h.writes b hm)

/-- A line leaves the buffers of smaller numbers alone. -/
theorem after_kept : ∀ {ops : List (HloOp τ sig Val)} {n : Nat}, Line ops n → ∀ (V : Valuation τ sig Val) (b : DevRef τ sig),
    num b < n → after ops V b = V b
  | [], _, _, _, _, _ => rfl
  | op :: ops, n, h, V, b, hb => by
    rw [after_cons, after_kept h.2 _ _ (Nat.lt_succ_of_lt hb), result_kept h.1 _ _ (Nat.ne_of_lt hb)]

theorem line_append : ∀ {k l : List (HloOp τ sig Val)} {n : Nat}, Line k n → Line l (n + k.length) → Line (k ++ l) n
  | [], _, _, _, h => h
  | op :: k, l, n, hk, hl => ⟨hk.1, line_append hk.2 (by
      have e : n + (op :: k).length = n + 1 + k.length := by simp only [List.length_cons]; omega
      exact e ▸ hl)⟩

/-- The same with the length of the first list given. -/
theorem line_append_of {k l : List (HloOp τ sig Val)} {n a : Nat} (ha : k.length = a) (hk : Line k n) (hl : Line l (n + a)) :
    Line (k ++ l) n := by subst ha; exact line_append hk hl

/-- Every operation of a line holds as an equation in what the line leaves. -/
theorem after_holds : ∀ {ops : List (HloOp τ sig Val)} {n : Nat}, Line ops n → ∀ V : Valuation τ sig Val,
    ops.Forall (Holds (after ops V))
  | [], _, _, _ => trivial
  | op :: ops, n, h, V => by
    refine (List.forall_cons _ _ _).mpr ⟨?_, after_holds h.2 _⟩
    funext b
    by_cases hb : b ∈ op.writes
    · have hn := h.1.writes b hb
      rw [h.1.congr _ V (fun b' hb' => ?_) b hb, after_cons, after_kept h.2 _ _ (by omega)]
      rw [after_cons, after_kept h.2 _ _ (by omega), result_kept h.1 _ _ (Nat.ne_of_lt hb')]
    · rw [op.result_of_not_mem _ hb]

/-! ### Each kind of operation -/

section Kinds

variable {x a b c y : Ref sig .tc} {n : Nat}

theorem fresh_of (op : HloOp τ sig Val) (hw : op.writes = {(Proc.devRef .tc y : DevRef τ sig)}) (hy : num (Proc.devRef (τ := τ) .tc y) = n)
    (h : ∀ M M' : Valuation τ sig Val, (∀ b, num b < n → M b = M' b) → op.result M (Proc.devRef .tc y) = op.result M' (Proc.devRef .tc y)) :
    Fresh op n where
  writes b hb := by rw [hw] at hb; cases Finset.mem_singleton.mp hb; exact hy
  congr M M' hM b hb := by rw [hw] at hb; cases Finset.mem_singleton.mp hb; exact h M M' hM

theorem fresh_nullary (v : y.ty.Contents Val) (hy) (h : num (Proc.devRef (τ := τ) .tc y) = n) :
    Fresh (nullary (τ := τ) y v hy) n :=
  fresh_of _ rfl h fun M M' _ => by rw [nullary_result, nullary_result]

theorem fresh_unary (f : x.ty.Contents Val → y.ty.Contents Val) (hx hy)
    (h : num (Proc.devRef (τ := τ) .tc y) = n) (h0 : num (Proc.devRef (τ := τ) .tc x) < n) :
    Fresh (unary (τ := τ) x y f hx hy) n :=
  fresh_of _ rfl h fun M M' hM => by rw [unary_result, unary_result, hM _ h0]

theorem fresh_binary (f : a.ty.Contents Val → b.ty.Contents Val → y.ty.Contents Val) (ha hb hy)
    (h : num (Proc.devRef (τ := τ) .tc y) = n) (h0 : num (Proc.devRef (τ := τ) .tc a) < n) (h1 : num (Proc.devRef (τ := τ) .tc b) < n) :
    Fresh (binary (τ := τ) a b y f ha hb hy) n :=
  fresh_of _ rfl h fun M M' hM => by rw [binary_result, binary_result, hM _ h0, hM _ h1]

theorem fresh_ternary (f : c.ty.Contents Val → a.ty.Contents Val → b.ty.Contents Val → y.ty.Contents Val) (hc ha hb hy)
    (h : num (Proc.devRef (τ := τ) .tc y) = n) (h0 : num (Proc.devRef (τ := τ) .tc c) < n) (h1 : num (Proc.devRef (τ := τ) .tc a) < n)
    (h2 : num (Proc.devRef (τ := τ) .tc b) < n) :
    Fresh (ternary (τ := τ) c a b y f hc ha hb hy) n :=
  fresh_of _ rfl h fun M M' hM => by rw [ternary_result, ternary_result, hM _ h0, hM _ h1, hM _ h2]

theorem fresh_reshape (he hn hx hy) (h : num (Proc.devRef (τ := τ) .tc y) = n) (h0 : num (Proc.devRef (τ := τ) .tc x) < n) :
    Fresh (reshape (τ := τ) (Val := Val) x y he hn hx hy) n :=
  fresh_of _ rfl h fun M M' hM => by rw [reshape_result, reshape_result, hM _ h0]

theorem fresh_nary {m : Nat} (xs : Fin m → Ref sig .tc) (f : ((k : Fin m) → (xs k).ty.Contents Val) → y.ty.Contents Val) (hxs hy)
    (h : num (Proc.devRef (τ := τ) .tc y) = n) (h0 : ∀ k, num (Proc.devRef (τ := τ) .tc (xs k)) < n) :
    Fresh (nary (τ := τ) xs y f hxs hy) n :=
  fresh_of _ rfl h fun M M' hM => by
    rw [nary_result, nary_result]; exact congrArg f (funext fun k => hM _ (h0 k))

end Kinds

/-! ### The equations -/

section Equations

variable {Tx Ta Tb Tc Ty : BufTy} {M : Valuation τ sig Val}

theorem eq_nullary {y : Ref sig .tc} {v : y.ty.Contents Val} {hy} (h : Holds M (nullary y v hy)) : M (Proc.devRef .tc y) = v :=
  (congrFun h _).symm.trans (nullary_result ..)
theorem eq_unary {x y : Ref sig .tc} {f : x.ty.Contents Val → y.ty.Contents Val} {hx hy} (h : Holds M (unary x y f hx hy)) :
    M (Proc.devRef .tc y) = f (M (Proc.devRef .tc x)) := (congrFun h _).symm.trans (unary_result ..)
theorem eq_binary {a b y : Ref sig .tc} {f : a.ty.Contents Val → b.ty.Contents Val → y.ty.Contents Val} {ha hb hy}
    (h : Holds M (binary a b y f ha hb hy)) : M (Proc.devRef .tc y) = f (M (Proc.devRef .tc a)) (M (Proc.devRef .tc b)) :=
  (congrFun h _).symm.trans (binary_result ..)
theorem eq_ternary {c a b y : Ref sig .tc} {f : c.ty.Contents Val → a.ty.Contents Val → b.ty.Contents Val → y.ty.Contents Val} {hc ha hb hy}
    (h : Holds M (ternary c a b y f hc ha hb hy)) :
    M (Proc.devRef .tc y) = f (M (Proc.devRef .tc c)) (M (Proc.devRef .tc a)) (M (Proc.devRef .tc b)) :=
  (congrFun h _).symm.trans (ternary_result ..)
theorem eq_reshape {x y : Ref sig .tc} {he hn hx hy} (h : Holds M (reshape x y he hn hx hy)) :
    M (Proc.devRef .tc y) = fun i => he ▸ shapeCast y.ty.shape (M (Proc.devRef .tc x)) hn i :=
  (congrFun h _).symm.trans (reshape_result ..)
theorem eq_nary {m : Nat} {xs : Fin m → Ref sig .tc} {y : Ref sig .tc} {f : ((k : Fin m) → (xs k).ty.Contents Val) → y.ty.Contents Val} {hxs hy}
    (h : Holds M (nary xs y f hxs hy)) : M (Proc.devRef .tc y) = f (fun k => M (Proc.devRef .tc (xs k))) :=
  (congrFun h _).symm.trans (nary_result ..)

theorem rd_toBuf (y : TRef sig Ty) (v : Ty.Contents Val) (h : M (Proc.devRef .tc y.ref) = y.toBuf v) : rd M y = v := by
  unfold rd; rw [h]; exact TRef.ofBuf_toBuf ..

theorem rd_nullary {y : TRef sig Ty} {v : Ty.Contents Val} (h : Holds M (TRef.nullary y v)) : rd M y = v :=
  rd_toBuf y v (eq_nullary h)
theorem rd_unary {x : TRef sig Tx} {y : TRef sig Ty} {f : Tx.Contents Val → Ty.Contents Val} (h : Holds M (TRef.unary x y f)) :
    rd M y = f (rd M x) := rd_toBuf y _ (eq_unary h)
theorem rd_binary {a : TRef sig Ta} {b : TRef sig Tb} {y : TRef sig Ty} {f : Ta.Contents Val → Tb.Contents Val → Ty.Contents Val}
    (h : Holds M (TRef.binary a b y f)) : rd M y = f (rd M a) (rd M b) := rd_toBuf y _ (eq_binary h)
theorem rd_ternary {c : TRef sig Tc} {a : TRef sig Ta} {b : TRef sig Tb} {y : TRef sig Ty}
    {f : Tc.Contents Val → Ta.Contents Val → Tb.Contents Val → Ty.Contents Val}
    (h : Holds M (TRef.ternary c a b y f)) : rd M y = f (rd M c) (rd M a) (rd M b) := rd_toBuf y _ (eq_ternary h)
theorem reshape_cast {S T : Shape} {t : EltTy} {U W : BufTy} (hU : U = ⟨S, t⟩) (hW : W = ⟨T, t⟩) (u : U.Contents Val)
    (he : U.elt = W.elt) (hn : U.shape.ShapeCasts W.shape) (h : S.ShapeCasts T) :
    cast (congrArg (fun X : BufTy => X.Contents Val) hW) (fun i => he ▸ shapeCast W.shape u hn i : W.Contents Val)
      = shapeCast T (cast (congrArg (fun X : BufTy => X.Contents Val) hU) u : (⟨S, t⟩ : BufTy).Contents Val) h := by
  subst hU; subst hW; rfl

theorem rd_reshape {S T : Shape} {t : EltTy} {x : TRef sig ⟨S, t⟩} {y : TRef sig ⟨T, t⟩} {hn : S.ShapeCasts T}
    (h : Holds M (TRef.reshape x y (rfl : t = t) hn)) : rd M y = shapeCast T (rd M x) hn := by
  unfold rd TRef.ofBuf
  rw [eq_reshape h]
  exact reshape_cast x.ty_eq y.ty_eq _ _ _ _

end Equations

end Cert.Lines

end
-- ==== Proof.Rng.lean ====
/- The random bits of the program: the 20-round counter hash, the split of a key in three, the uniform numbers of a key
   and the Gumbel noise made from them. Each is given as the line of operations that computes it, over any buffers, and
   as a function; what a line leaves is the function of what it starts from. -/
module

public import proofs.«01_k».proof.Proof.Lines
public import Idealize.ShloMosaic.PureOps

@[expose] public section

set_option maxRecDepth 16384

noncomputable section

namespace Cert.Rng

open Idealize.ShloMosaic Idealize.ShloMosaic.StableHlo Cert.Lines

variable {F : FTy → Type} [FloatOps F]

/-! ### The shapes -/

abbrev S_ : Shape := ⟨0, ![]⟩
abbrev S1 : Shape := ⟨1, ![1]⟩
abbrev S2 : Shape := ⟨1, ![2]⟩
abbrev S3 : Shape := ⟨1, ![3]⟩
abbrev S8 : Shape := ⟨1, ![8]⟩
abbrev S3x1 : Shape := ⟨2, ![3, 1]⟩
abbrev S3x2 : Shape := ⟨2, ![3, 2]⟩
abbrev S1x1x1 : Shape := ⟨3, ![1, 1, 1]⟩
abbrev S8x32768x4 : Shape := ⟨3, ![8, 32768, 4]⟩

theorem slices_S2_S1_0 : S2.Slices ![0] S1 := by decide
theorem slices_S2_S1_1 : S2.Slices ![1] S1 := by decide
theorem shapeCasts_S1_S_ : S1.ShapeCasts S_ := by decide
theorem natLt_32_64 : 32 < 64 := by decide
theorem bcast_S_S1 : S_.BroadcastsInDim S1 (![] : Fin 0 → Fin S1.rank) := by decide
theorem bcast_S_S3 : S_.BroadcastsInDim S3 (![] : Fin 0 → Fin S3.rank) := by decide
theorem bcast_S_S8 : S_.BroadcastsInDim S8 (![] : Fin 0 → Fin S8.rank) := by decide
theorem bcast_S_S1x1x1 : S_.BroadcastsInDim S1x1x1 (![] : Fin 0 → Fin S1x1x1.rank) := by decide
theorem bcast_S_S8x32768x4 : S_.BroadcastsInDim S8x32768x4 (![] : Fin 0 → Fin S8x32768x4.rank) := by decide
theorem bcast_S3_S3x1_0 : S3.BroadcastsInDim S3x1 (![0] : Fin 1 → Fin S3x1.rank) := by decide
theorem bcast_S1_S8_0 : S1.BroadcastsInDim S8 (![0] : Fin 1 → Fin S8.rank) := by decide
theorem bcast_S1x1x1_S8x32768x4_0_1_2 : S1x1x1.BroadcastsInDim S8x32768x4 (![0, 1, 2] : Fin 3 → Fin S8x32768x4.rank) := by decide
theorem concatenates_S3x1_S3x1_S3x2_d1 : Shape.Concatenates [S3x1, S3x1] S3x2 1 := by decide

/-! ### The hash, as a function -/

section Hash

variable {S : Shape} (hb : S_.BroadcastsInDim S (![] : Fin 0 → Fin S.rank))

/-- A word at every index. -/
def all (n : BitVec 32) : IVec S 32 := broadcastInDim S ![] hb (constantI S_ 32 n)

/-- One round: add the second word into the first, rotate the second (by `r`, where `r + r' = 32`) and mix it with the sum. -/
def mix (r r' : BitVec 32) (p : IVec S 32 × IVec S 32) : IVec S 32 × IVec S 32 :=
  (addi p.1 p.2, xori (addi p.1 p.2) (ori (Host.shli p.2 (all hb r)) (Host.shrui p.2 (all hb r'))))

/-- The key words added after four rounds. -/
def inject (k k' : IVec S_ 32) (n : BitVec 32) (p : IVec S 32 × IVec S 32) : IVec S 32 × IVec S 32 :=
  (addi p.1 (broadcastInDim S ![] hb k), addi (addi p.2 (broadcastInDim S ![] hb k')) (all hb n))

/-- Four rounds by the rotations `r`, then the key words. -/
def block (r : Fin 4 → BitVec 32 × BitVec 32) (k k' : IVec S_ 32) (n : BitVec 32) (p : IVec S 32 × IVec S 32) :
    IVec S 32 × IVec S 32 :=
  inject hb k k' n (mix hb (r 3).1 (r 3).2 (mix hb (r 2).1 (r 2).2 (mix hb (r 1).1 (r 1).2 (mix hb (r 0).1 (r 0).2 p))))

def rotA : Fin 4 → BitVec 32 × BitVec 32 := ![(13#32, 19#32), (15#32, 17#32), (26#32, 6#32), (6#32, 26#32)]
def rotB : Fin 4 → BitVec 32 × BitVec 32 := ![(17#32, 15#32), (29#32, 3#32), (16#32, 16#32), (24#32, 8#32)]

/-- The third key word. -/
def key2 (k0 k1 : IVec S_ 32) : IVec S_ 32 := xori (xori k0 k1) (constantI S_ 32 466688986#32)

/-- The hash of the counter words `x0`, `x1` under the key words `k0`, `k1`. -/
def threefry (k0 k1 : IVec S_ 32) (x0 x1 : IVec S 32) : IVec S 32 × IVec S 32 :=
  block hb rotA (key2 k0 k1) k0 5#32 (block hb rotB k1 (key2 k0 k1) 4#32 (block hb rotA k0 k1 3#32
    (block hb rotB (key2 k0 k1) k0 2#32 (block hb rotA k1 (key2 k0 k1) 1#32
      (addi x0 (broadcastInDim S ![] hb k0), addi x1 (broadcastInDim S ![] hb k1))))))

end Hash

/-! ### The hash, as a line -/

section HashLine

variable {τ : Topo} {sig : RefSig} {S : Shape} (hb : S_.BroadcastsInDim S (![] : Fin 0 → Fin S.rank))

/-- The buffers of one round. -/
structure Mix (sig : RefSig) (S : Shape) where
  sum : TRef sig ⟨S, .i32⟩
  c : TRef sig ⟨S_, .i32⟩
  b : TRef sig ⟨S, .i32⟩
  l : TRef sig ⟨S, .i32⟩
  c' : TRef sig ⟨S_, .i32⟩
  b' : TRef sig ⟨S, .i32⟩
  r : TRef sig ⟨S, .i32⟩
  o : TRef sig ⟨S, .i32⟩
  y : TRef sig ⟨S, .i32⟩

def mixOps (r r' : BitVec 32) (x0 x1 : TRef sig ⟨S, .i32⟩) (φ : Mix sig S) : List (HloOp τ sig (Elt F)) :=
  [TRef.binary x0 x1 φ.sum addi,
   TRef.nullary φ.c (constantI S_ 32 r),
   TRef.unary φ.c φ.b (broadcastInDim S ![] hb),
   TRef.binary x1 φ.b φ.l Host.shli,
   TRef.nullary φ.c' (constantI S_ 32 r'),
   TRef.unary φ.c' φ.b' (broadcastInDim S ![] hb),
   TRef.binary x1 φ.b' φ.r Host.shrui,
   TRef.binary φ.l φ.r φ.o ori,
   TRef.binary φ.sum φ.o φ.y xori]

theorem mix_line {M : Valuation τ sig (Elt F)} {r r' : BitVec 32} {x0 x1 : TRef sig ⟨S, .i32⟩} {φ : Mix sig S}
    (h : (mixOps hb r r' x0 x1 φ).Forall (Holds M)) : (rd M φ.sum, rd M φ.y) = mix hb r r' (rd M x0, rd M x1) := by
  obtain ⟨h0, h1, h2, h3, h4, h5, h6, h7, h8⟩ := h
  rw [rd_binary h8, rd_binary h7, rd_binary h6, rd_unary h5, rd_nullary h4, rd_binary h3, rd_unary h2, rd_nullary h1, rd_binary h0]
  rfl

/-- The buffers of the key words' addition. -/
structure Inject (sig : RefSig) (S : Shape) where
  b0 : TRef sig ⟨S, .i32⟩
  y0 : TRef sig ⟨S, .i32⟩
  b1 : TRef sig ⟨S, .i32⟩
  t : TRef sig ⟨S, .i32⟩
  c : TRef sig ⟨S_, .i32⟩
  b : TRef sig ⟨S, .i32⟩
  y1 : TRef sig ⟨S, .i32⟩

def injectOps (k k' : TRef sig ⟨S_, .i32⟩) (n : BitVec 32) (x0 x1 : TRef sig ⟨S, .i32⟩) (φ : Inject sig S) :
    List (HloOp τ sig (Elt F)) :=
  [TRef.unary k φ.b0 (broadcastInDim S ![] hb),
   TRef.binary x0 φ.b0 φ.y0 addi,
   TRef.unary k' φ.b1 (broadcastInDim S ![] hb),
   TRef.binary x1 φ.b1 φ.t addi,
   TRef.nullary φ.c (constantI S_ 32 n),
   TRef.unary φ.c φ.b (broadcastInDim S ![] hb),
   TRef.binary φ.t φ.b φ.y1 addi]

theorem inject_line {M : Valuation τ sig (Elt F)} {k k' : TRef sig ⟨S_, .i32⟩} {n : BitVec 32} {x0 x1 : TRef sig ⟨S, .i32⟩}
    {φ : Inject sig S} (h : (injectOps hb k k' n x0 x1 φ).Forall (Holds M)) :
    (rd M φ.y0, rd M φ.y1) = inject hb (rd M k) (rd M k') n (rd M x0, rd M x1) := by
  obtain ⟨h0, h1, h2, h3, h4, h5, h6⟩ := h
  rw [rd_binary h6, rd_unary h5, rd_nullary h4, rd_binary h3, rd_unary h2, rd_binary h1, rd_unary h0]
  rfl

/-- The buffers of four rounds and the addition after them. -/
structure Block (sig : RefSig) (S : Shape) where
  m0 : Mix sig S
  m1 : Mix sig S
  m2 : Mix sig S
  m3 : Mix sig S
  i : Inject sig S

def blockOps (r : Fin 4 → BitVec 32 × BitVec 32) (k k' : TRef sig ⟨S_, .i32⟩) (n : BitVec 32) (x0 x1 : TRef sig ⟨S, .i32⟩)
    (φ : Block sig S) : List (HloOp τ sig (Elt F)) :=
  mixOps hb (r 0).1 (r 0).2 x0 x1 φ.m0 ++ (mixOps hb (r 1).1 (r 1).2 φ.m0.sum φ.m0.y φ.m1
    ++ (mixOps hb (r 2).1 (r 2).2 φ.m1.sum φ.m1.y φ.m2 ++ (mixOps hb (r 3).1 (r 3).2 φ.m2.sum φ.m2.y φ.m3
      ++ injectOps hb k k' n φ.m3.sum φ.m3.y φ.i)))

theorem block_line {M : Valuation τ sig (Elt F)} {r : Fin 4 → BitVec 32 × BitVec 32} {k k' : TRef sig ⟨S_, .i32⟩} {n : BitVec 32}
    {x0 x1 : TRef sig ⟨S, .i32⟩} {φ : Block sig S} (h : (blockOps hb r k k' n x0 x1 φ).Forall (Holds M)) :
    (rd M φ.i.y0, rd M φ.i.y1) = block hb r (rd M k) (rd M k') n (rd M x0, rd M x1) := by
  simp only [blockOps, List.forall_append] at h
  obtain ⟨h0, h1, h2, h3, h4⟩ := h
  rw [inject_line hb h4, mix_line hb h3, mix_line hb h2, mix_line hb h1, mix_line hb h0, block]

/-- The buffers of the whole hash. -/
structure Threefry (sig : RefSig) (S : Shape) where
  v0 : TRef sig ⟨S_, .i32⟩
  c : TRef sig ⟨S_, .i32⟩
  v1 : TRef sig ⟨S_, .i32⟩
  v2 : TRef sig ⟨S, .i32⟩
  v3 : TRef sig ⟨S, .i32⟩
  v4 : TRef sig ⟨S, .i32⟩
  v5 : TRef sig ⟨S, .i32⟩
  b0 : Block sig S
  b1 : Block sig S
  b2 : Block sig S
  b3 : Block sig S
  b4 : Block sig S

def threefryOps (k0 k1 : TRef sig ⟨S_, .i32⟩) (x0 x1 : TRef sig ⟨S, .i32⟩) (φ : Threefry sig S) : List (HloOp τ sig (Elt F)) :=
  [TRef.binary k0 k1 φ.v0 xori,
   TRef.nullary φ.c (constantI S_ 32 466688986#32),
   TRef.binary φ.v0 φ.c φ.v1 xori,
   TRef.unary k0 φ.v2 (broadcastInDim S ![] hb),
   TRef.binary x0 φ.v2 φ.v3 addi,
   TRef.unary k1 φ.v4 (broadcastInDim S ![] hb),
   TRef.binary x1 φ.v4 φ.v5 addi]
  ++ (blockOps hb rotA k1 φ.v1 1#32 φ.v3 φ.v5 φ.b0 ++ (blockOps hb rotB φ.v1 k0 2#32 φ.b0.i.y0 φ.b0.i.y1 φ.b1
    ++ (blockOps hb rotA k0 k1 3#32 φ.b1.i.y0 φ.b1.i.y1 φ.b2 ++ (blockOps hb rotB k1 φ.v1 4#32 φ.b2.i.y0 φ.b2.i.y1 φ.b3
      ++ blockOps hb rotA φ.v1 k0 5#32 φ.b3.i.y0 φ.b3.i.y1 φ.b4))))

theorem threefry_line {M : Valuation τ sig (Elt F)} {k0 k1 : TRef sig ⟨S_, .i32⟩} {x0 x1 : TRef sig ⟨S, .i32⟩} {φ : Threefry sig S}
    (h : (threefryOps hb k0 k1 x0 x1 φ).Forall (Holds M)) :
    (rd M φ.b4.i.y0, rd M φ.b4.i.y1) = threefry hb (rd M k0) (rd M k1) (rd M x0) (rd M x1) := by
  simp only [threefryOps, List.forall_append] at h
  obtain ⟨⟨h0, h1, h2, h3, h4, h5, h6⟩, b0, b1, b2, b3, b4⟩ := h
  rw [block_line hb b4, block_line hb b3, block_line hb b2, block_line hb b1, block_line hb b0, rd_binary h6, rd_unary h5,
    rd_binary h4, rd_unary h3, rd_binary h2, rd_nullary h1, rd_binary h0]
  rfl

end HashLine

/-! ### The functions of a key -/

def key0 (k : IVec S2 32) : IVec S_ 32 := shapeCast S_ (extractStridedSlice S1 ![0] k slices_S2_S1_0) shapeCasts_S1_S_
def key1 (k : IVec S2 32) : IVec S_ 32 := shapeCast S_ (extractStridedSlice S1 ![1] k slices_S2_S1_1) shapeCasts_S1_S_

/-- The upper and the lower words of 64-bit counters, hashed under the key `k`. -/
def hash {S : Shape} (hb : S_.BroadcastsInDim S (![] : Fin 0 → Fin S.rank)) (k : IVec S2 32) (n : IVec S 64) :
    IVec S 32 × IVec S 32 :=
  threefry hb (key0 k) (key1 k) (trunci 32 (Host.shrui n (broadcastInDim S ![] hb (constantI S_ 64 32#64))) natLt_32_64)
    (trunci 32 n natLt_32_64)

/-- The three keys a key splits into, as rows. -/
def split (k : IVec S2 32) : IVec S3x2 32 :=
  concatenate S3x2 1
    [⟨S3x1, broadcastInDim S3x1 ![0] bcast_S3_S3x1_0
        (hash bcast_S_S3 k (muli (broadcastInDim S3 ![] bcast_S_S3 (constantI S_ 64 1#64)) (iotaInDim S3 64 0))).1⟩,
     ⟨S3x1, broadcastInDim S3x1 ![0] bcast_S3_S3x1_0
        (hash bcast_S_S3 k (muli (broadcastInDim S3 ![] bcast_S_S3 (constantI S_ 64 1#64)) (iotaInDim S3 64 0))).2⟩]
    concatenates_S3x1_S3x1_S3x2_d1

/-- The number of an entry of the noise, in row-major order. -/
def counters : IVec S8x32768x4 64 :=
  addi (addi (muli (broadcastInDim S8x32768x4 ![] bcast_S_S8x32768x4 (constantI S_ 64 131072#64)) (iotaInDim S8x32768x4 64 0))
      (muli (broadcastInDim S8x32768x4 ![] bcast_S_S8x32768x4 (constantI S_ 64 4#64)) (iotaInDim S8x32768x4 64 1)))
    (muli (broadcastInDim S8x32768x4 ![] bcast_S_S8x32768x4 (constantI S_ 64 1#64)) (iotaInDim S8x32768x4 64 2))

/-- The number of a chain. -/
def counters8 : IVec S8 64 := muli (broadcastInDim S8 ![] bcast_S_S8 (constantI S_ 64 1#64)) (iotaInDim S8 64 0)

/-! ### Their lines -/

section KeyLines

variable {τ : Topo} {sig : RefSig}

/-- The buffers of the split of a key. -/
structure Split (sig : RefSig) where
  v0 : TRef sig ⟨S1, .i32⟩
  v1 : TRef sig ⟨S_, .i32⟩
  v2 : TRef sig ⟨S1, .i32⟩
  v3 : TRef sig ⟨S_, .i32⟩
  v4 : TRef sig ⟨S3, .i64⟩
  c : TRef sig ⟨S_, .i64⟩
  v5 : TRef sig ⟨S3, .i64⟩
  v6 : TRef sig ⟨S3, .i64⟩
  c_0 : TRef sig ⟨S_, .i64⟩
  v7 : TRef sig ⟨S3, .i64⟩
  v8 : TRef sig ⟨S3, .i64⟩
  v9 : TRef sig ⟨S3, .i32⟩
  v10 : TRef sig ⟨S3, .i32⟩
  call0 : Threefry sig S3
  v12 : TRef sig ⟨S3x1, .i32⟩
  v13 : TRef sig ⟨S3x1, .i32⟩
  v14 : TRef sig ⟨S3x2, .i32⟩

def splitOps (arg0 : TRef sig ⟨S2, .i32⟩) (φ : Split sig) : List (HloOp τ sig (Elt F)) :=
  [
    TRef.unary arg0 φ.v0 (extractStridedSlice S1 ![0] · slices_S2_S1_0),
    TRef.reshape φ.v0 φ.v1 (rfl : (.i32 : EltTy) = .i32) shapeCasts_S1_S_,
    TRef.unary arg0 φ.v2 (extractStridedSlice S1 ![1] · slices_S2_S1_1),
    TRef.reshape φ.v2 φ.v3 (rfl : (.i32 : EltTy) = .i32) shapeCasts_S1_S_,
    TRef.nullary φ.v4 (iotaInDim S3 64 0),
    TRef.nullary φ.c (constantI S_ 64 1#64),
    TRef.unary φ.c φ.v5 (broadcastInDim S3 ![] bcast_S_S3),
    TRef.binary φ.v5 φ.v4 φ.v6 muli,
    TRef.nullary φ.c_0 (constantI S_ 64 32#64),
    TRef.unary φ.c_0 φ.v7 (broadcastInDim S3 ![] bcast_S_S3),
    TRef.binary φ.v6 φ.v7 φ.v8 Host.shrui,
    TRef.unary φ.v6 φ.v9 (trunci 32 · natLt_32_64),
    TRef.unary φ.v8 φ.v10 (trunci 32 · natLt_32_64)]
  ++ (threefryOps bcast_S_S3 φ.v1 φ.v3 φ.v10 φ.v9 φ.call0
  ++ [
    TRef.unary φ.call0.b4.i.y0 φ.v12 (broadcastInDim S3x1 ![0] bcast_S3_S3x1_0),
    TRef.unary φ.call0.b4.i.y1 φ.v13 (broadcastInDim S3x1 ![0] bcast_S3_S3x1_0),
    TRef.binary φ.v12 φ.v13 φ.v14 (fun a b => concatenate S3x2 1 [⟨S3x1, a⟩, ⟨S3x1, b⟩] concatenates_S3x1_S3x1_S3x2_d1)])

theorem split_line {M : Valuation τ sig (Elt F)} {arg0 : TRef sig ⟨S2, .i32⟩} {φ : Split sig}
    (h : (splitOps arg0 φ).Forall (Holds M)) : rd M φ.v14 = split (rd M arg0) := by
  simp only [splitOps, List.forall_append] at h
  obtain ⟨⟨h0, h1, h2, h3, h4, h5, h6, h7, h8, h9, h10, h11, h12⟩, t, ⟨h13, h14, h15⟩⟩ := h
  have e0 := congrArg Prod.fst (threefry_line bcast_S_S3 t)
  have e1 := congrArg Prod.snd (threefry_line bcast_S_S3 t)
  dsimp only at e0 e1
  rw [rd_binary h15, rd_unary h14, rd_unary h13, e0, e1, rd_unary h12, rd_unary h11, rd_binary h10, rd_unary h9, rd_nullary h8, rd_binary h7, rd_unary h6, rd_nullary h5, rd_nullary h4, rd_reshape h3, rd_unary h2, rd_reshape h1, rd_unary h0]
  rfl

/-- The buffers of the uniform numbers of all entries. -/
structure Uniform (sig : RefSig) where
  v0 : TRef sig ⟨S_, .f32⟩
  v1 : TRef sig ⟨S1x1x1, .f32⟩
  v2 : TRef sig ⟨S1x1x1, .f32⟩
  v3 : TRef sig ⟨S1, .i32⟩
  v4 : TRef sig ⟨S_, .i32⟩
  v5 : TRef sig ⟨S1, .i32⟩
  v6 : TRef sig ⟨S_, .i32⟩
  v7 : TRef sig ⟨S8x32768x4, .i64⟩
  v8 : TRef sig ⟨S8x32768x4, .i64⟩
  v9 : TRef sig ⟨S8x32768x4, .i64⟩
  c : TRef sig ⟨S_, .i64⟩
  v10 : TRef sig ⟨S8x32768x4, .i64⟩
  v11 : TRef sig ⟨S8x32768x4, .i64⟩
  c_0 : TRef sig ⟨S_, .i64⟩
  v12 : TRef sig ⟨S8x32768x4, .i64⟩
  v13 : TRef sig ⟨S8x32768x4, .i64⟩
  c_1 : TRef sig ⟨S_, .i64⟩
  v14 : TRef sig ⟨S8x32768x4, .i64⟩
  v15 : TRef sig ⟨S8x32768x4, .i64⟩
  v16 : TRef sig ⟨S8x32768x4, .i64⟩
  v17 : TRef sig ⟨S8x32768x4, .i64⟩
  c_2 : TRef sig ⟨S_, .i64⟩
  v18 : TRef sig ⟨S8x32768x4, .i64⟩
  v19 : TRef sig ⟨S8x32768x4, .i64⟩
  v20 : TRef sig ⟨S8x32768x4, .i32⟩
  v21 : TRef sig ⟨S8x32768x4, .i32⟩
  call0 : Threefry sig S8x32768x4
  v23 : TRef sig ⟨S8x32768x4, .i32⟩
  c_3 : TRef sig ⟨S_, .i32⟩
  v24 : TRef sig ⟨S8x32768x4, .i32⟩
  v25 : TRef sig ⟨S8x32768x4, .i32⟩
  c_4 : TRef sig ⟨S_, .i32⟩
  v26 : TRef sig ⟨S8x32768x4, .i32⟩
  v27 : TRef sig ⟨S8x32768x4, .i32⟩
  v28 : TRef sig ⟨S8x32768x4, .f32⟩
  cst : TRef sig ⟨S_, .f32⟩
  v29 : TRef sig ⟨S8x32768x4, .f32⟩
  v30 : TRef sig ⟨S8x32768x4, .f32⟩
  v31 : TRef sig ⟨S1x1x1, .f32⟩
  v32 : TRef sig ⟨S8x32768x4, .f32⟩
  v33 : TRef sig ⟨S8x32768x4, .f32⟩
  v34 : TRef sig ⟨S8x32768x4, .f32⟩
  v35 : TRef sig ⟨S8x32768x4, .f32⟩
  v36 : TRef sig ⟨S8x32768x4, .f32⟩
  v37 : TRef sig ⟨S8x32768x4, .f32⟩

def uniformOps (arg0 : TRef sig ⟨S2, .i32⟩) (arg1 arg2 : TRef sig ⟨S_, .f32⟩) (φ : Uniform sig) : List (HloOp τ sig (Elt F)) :=
  [
    TRef.unary arg1 φ.v0 id,
    TRef.unary arg2 φ.v1 (broadcastInDim S1x1x1 ![] bcast_S_S1x1x1),
    TRef.unary φ.v0 φ.v2 (broadcastInDim S1x1x1 ![] bcast_S_S1x1x1),
    TRef.unary arg0 φ.v3 (extractStridedSlice S1 ![0] · slices_S2_S1_0),
    TRef.reshape φ.v3 φ.v4 (rfl : (.i32 : EltTy) = .i32) shapeCasts_S1_S_,
    TRef.unary arg0 φ.v5 (extractStridedSlice S1 ![1] · slices_S2_S1_1),
    TRef.reshape φ.v5 φ.v6 (rfl : (.i32 : EltTy) = .i32) shapeCasts_S1_S_,
    TRef.nullary φ.v7 (iotaInDim S8x32768x4 64 0),
    TRef.nullary φ.v8 (iotaInDim S8x32768x4 64 1),
    TRef.nullary φ.v9 (iotaInDim S8x32768x4 64 2),
    TRef.nullary φ.c (constantI S_ 64 131072#64),
    TRef.unary φ.c φ.v10 (broadcastInDim S8x32768x4 ![] bcast_S_S8x32768x4),
    TRef.binary φ.v10 φ.v7 φ.v11 muli,
    TRef.nullary φ.c_0 (constantI S_ 64 4#64),
    TRef.unary φ.c_0 φ.v12 (broadcastInDim S8x32768x4 ![] bcast_S_S8x32768x4),
    TRef.binary φ.v12 φ.v8 φ.v13 muli,
    TRef.nullary φ.c_1 (constantI S_ 64 1#64),
    TRef.unary φ.c_1 φ.v14 (broadcastInDim S8x32768x4 ![] bcast_S_S8x32768x4),
    TRef.binary φ.v14 φ.v9 φ.v15 muli,
    TRef.binary φ.v11 φ.v13 φ.v16 addi,
    TRef.binary φ.v16 φ.v15 φ.v17 addi,
    TRef.nullary φ.c_2 (constantI S_ 64 32#64),
    TRef.unary φ.c_2 φ.v18 (broadcastInDim S8x32768x4 ![] bcast_S_S8x32768x4),
    TRef.binary φ.v17 φ.v18 φ.v19 Host.shrui,
    TRef.unary φ.v17 φ.v20 (trunci 32 · natLt_32_64),
    TRef.unary φ.v19 φ.v21 (trunci 32 · natLt_32_64)]
  ++ (threefryOps bcast_S_S8x32768x4 φ.v4 φ.v6 φ.v21 φ.v20 φ.call0
  ++ [
    TRef.binary φ.call0.b4.i.y0 φ.call0.b4.i.y1 φ.v23 xori,
    TRef.nullary φ.c_3 (constantI S_ 32 9#32),
    TRef.unary φ.c_3 φ.v24 (broadcastInDim S8x32768x4 ![] bcast_S_S8x32768x4),
    TRef.binary φ.v23 φ.v24 φ.v25 Host.shrui,
    TRef.nullary φ.c_4 (constantI S_ 32 1065353216#32),
    TRef.unary φ.c_4 φ.v26 (broadcastInDim S8x32768x4 ![] bcast_S_S8x32768x4),
    TRef.binary φ.v25 φ.v26 φ.v27 ori,
    TRef.unary φ.v27 φ.v28 (bitcastToFloat .f32),
    TRef.nullary φ.cst (constant S_ .f32 0x3F800000#32),
    TRef.unary φ.cst φ.v29 (broadcastInDim S8x32768x4 ![] bcast_S_S8x32768x4),
    TRef.binary φ.v28 φ.v29 φ.v30 subf,
    TRef.binary φ.v2 φ.v1 φ.v31 subf,
    TRef.unary φ.v31 φ.v32 (broadcastInDim S8x32768x4 ![0, 1, 2] bcast_S1x1x1_S8x32768x4_0_1_2),
    TRef.binary φ.v30 φ.v32 φ.v33 mulf,
    TRef.unary φ.v1 φ.v34 (broadcastInDim S8x32768x4 ![0, 1, 2] bcast_S1x1x1_S8x32768x4_0_1_2),
    TRef.binary φ.v33 φ.v34 φ.v35 addf,
    TRef.unary φ.v1 φ.v36 (broadcastInDim S8x32768x4 ![0, 1, 2] bcast_S1x1x1_S8x32768x4_0_1_2),
    TRef.binary φ.v36 φ.v35 φ.v37 maximumf])

/-- The uniform number in `[lo, hi)` (`lo` and `hi` the two scalars) of every entry of the noise under the key `k`. -/
def uniform (k : IVec S2 32) (lo hi : FVec F S_ .f32) : FVec F S8x32768x4 .f32 :=
  maximumf (broadcastInDim S8x32768x4 ![0, 1, 2] bcast_S1x1x1_S8x32768x4_0_1_2 (broadcastInDim S1x1x1 ![] bcast_S_S1x1x1 hi))
    (addf (mulf (subf (bitcastToFloat .f32 (ori (Host.shrui (xori (hash bcast_S_S8x32768x4 k counters).1 (hash bcast_S_S8x32768x4 k counters).2)
          (all bcast_S_S8x32768x4 9#32)) (all bcast_S_S8x32768x4 1065353216#32)))
        (broadcastInDim S8x32768x4 ![] bcast_S_S8x32768x4 (constant S_ .f32 0x3F800000#32)))
      (broadcastInDim S8x32768x4 ![0, 1, 2] bcast_S1x1x1_S8x32768x4_0_1_2
        (subf (broadcastInDim S1x1x1 ![] bcast_S_S1x1x1 lo) (broadcastInDim S1x1x1 ![] bcast_S_S1x1x1 hi))))
      (broadcastInDim S8x32768x4 ![0, 1, 2] bcast_S1x1x1_S8x32768x4_0_1_2 (broadcastInDim S1x1x1 ![] bcast_S_S1x1x1 hi)))

theorem uniform_line {M : Valuation τ sig (Elt F)} {arg0 : TRef sig ⟨S2, .i32⟩} {arg1 arg2 : TRef sig ⟨S_, .f32⟩} {φ : Uniform sig}
    (h : (uniformOps arg0 arg1 arg2 φ).Forall (Holds M)) : rd M φ.v37 = uniform (rd M arg0) (rd M arg1) (rd M arg2) := by
  simp only [uniformOps, List.forall_append] at h
  obtain ⟨⟨h0, h1, h2, h3, h4, h5, h6, h7, h8, h9, h10, h11, h12, h13, h14, h15, h16, h17, h18, h19, h20, h21, h22, h23, h24, h25⟩, t, ⟨h26, h27, h28, h29, h30, h31, h32, h33, h34, h35, h36, h37, h38, h39, h40, h41, h42, h43⟩⟩ := h
  have e0 := congrArg Prod.fst (threefry_line bcast_S_S8x32768x4 t)
  have e1 := congrArg Prod.snd (threefry_line bcast_S_S8x32768x4 t)
  dsimp only at e0 e1
  rw [rd_binary h43, rd_unary h42, rd_binary h41, rd_unary h40, rd_binary h39, rd_unary h38, rd_binary h37, rd_binary h36, rd_unary h35, rd_nullary h34, rd_unary h33, rd_binary h32, rd_unary h31, rd_nullary h30, rd_binary h29, rd_unary h28, rd_nullary h27, rd_binary h26, e0, e1, rd_unary h25, rd_unary h24, rd_binary h23, rd_unary h22, rd_nullary h21, rd_binary h20, rd_binary h19, rd_binary h18, rd_unary h17, rd_nullary h16, rd_binary h15, rd_unary h14, rd_nullary h13, rd_binary h12, rd_unary h11, rd_nullary h10, rd_nullary h9, rd_nullary h8, rd_nullary h7, rd_reshape h6, rd_unary h5, rd_reshape h4, rd_unary h3, rd_unary h2, rd_unary h1, rd_unary h0]
  rfl

/-- The buffers of the Gumbel noise of all entries. -/
structure Gumbel (sig : RefSig) where
  cst : TRef sig ⟨S_, .f32⟩
  cst_0 : TRef sig ⟨S_, .f32⟩
  call0 : Uniform sig
  v1 : TRef sig ⟨S8x32768x4, .f32⟩
  v2 : TRef sig ⟨S8x32768x4, .f32⟩
  v3 : TRef sig ⟨S8x32768x4, .f32⟩
  v4 : TRef sig ⟨S8x32768x4, .f32⟩

def gumbelOps (arg0 : TRef sig ⟨S2, .i32⟩) (φ : Gumbel sig) : List (HloOp τ sig (Elt F)) :=
  [
    TRef.nullary φ.cst (constant S_ .f32 0x3F800000#32),
    TRef.nullary φ.cst_0 (constant S_ .f32 0x00800000#32)]
  ++ (uniformOps arg0 φ.cst φ.cst_0 φ.call0
  ++ [
    TRef.unary φ.call0.v37 φ.v1 Host.log,
    TRef.unary φ.v1 φ.v2 Host.negf,
    TRef.unary φ.v2 φ.v3 Host.log,
    TRef.unary φ.v3 φ.v4 Host.negf])

/-- The Gumbel noise of every entry under the key `k`. -/
def gumbel (k : IVec S2 32) : FVec F S8x32768x4 .f32 :=
  Host.negf (Host.log (Host.negf (Host.log (uniform k (constant S_ .f32 0x3F800000#32) (constant S_ .f32 0x00800000#32)))))

theorem gumbel_line {M : Valuation τ sig (Elt F)} {arg0 : TRef sig ⟨S2, .i32⟩} {φ : Gumbel sig}
    (h : (gumbelOps arg0 φ).Forall (Holds M)) : rd M φ.v4 = gumbel (rd M arg0) := by
  simp only [gumbelOps, List.forall_append] at h
  obtain ⟨⟨h0, h1⟩, t, ⟨h2, h3, h4, h5⟩⟩ := h
  rw [rd_unary h5, rd_unary h4, rd_unary h3, rd_unary h2, uniform_line t, rd_nullary h1, rd_nullary h0]
  rfl

/-- The buffers of eight uniform numbers. -/
structure Uniform8 (sig : RefSig) where
  v0 : TRef sig ⟨S_, .f32⟩
  v1 : TRef sig ⟨S_, .f32⟩
  v2 : TRef sig ⟨S1, .f32⟩
  v3 : TRef sig ⟨S1, .f32⟩
  v4 : TRef sig ⟨S1, .i32⟩
  v5 : TRef sig ⟨S_, .i32⟩
  v6 : TRef sig ⟨S1, .i32⟩
  v7 : TRef sig ⟨S_, .i32⟩
  v8 : TRef sig ⟨S8, .i64⟩
  c : TRef sig ⟨S_, .i64⟩
  v9 : TRef sig ⟨S8, .i64⟩
  v10 : TRef sig ⟨S8, .i64⟩
  c_0 : TRef sig ⟨S_, .i64⟩
  v11 : TRef sig ⟨S8, .i64⟩
  v12 : TRef sig ⟨S8, .i64⟩
  v13 : TRef sig ⟨S8, .i32⟩
  v14 : TRef sig ⟨S8, .i32⟩
  call0 : Threefry sig S8
  v16 : TRef sig ⟨S8, .i32⟩
  c_1 : TRef sig ⟨S_, .i32⟩
  v17 : TRef sig ⟨S8, .i32⟩
  v18 : TRef sig ⟨S8, .i32⟩
  c_2 : TRef sig ⟨S_, .i32⟩
  v19 : TRef sig ⟨S8, .i32⟩
  v20 : TRef sig ⟨S8, .i32⟩
  v21 : TRef sig ⟨S8, .f32⟩
  cst : TRef sig ⟨S_, .f32⟩
  v22 : TRef sig ⟨S8, .f32⟩
  v23 : TRef sig ⟨S8, .f32⟩
  v24 : TRef sig ⟨S1, .f32⟩
  v25 : TRef sig ⟨S8, .f32⟩
  v26 : TRef sig ⟨S8, .f32⟩
  v27 : TRef sig ⟨S8, .f32⟩
  v28 : TRef sig ⟨S8, .f32⟩
  v29 : TRef sig ⟨S8, .f32⟩
  v30 : TRef sig ⟨S8, .f32⟩

def uniform8Ops (arg0 : TRef sig ⟨S2, .i32⟩) (arg1 arg2 : TRef sig ⟨S_, .f32⟩) (φ : Uniform8 sig) : List (HloOp τ sig (Elt F)) :=
  [
    TRef.unary arg1 φ.v0 id,
    TRef.unary arg2 φ.v1 id,
    TRef.unary φ.v0 φ.v2 (broadcastInDim S1 ![] bcast_S_S1),
    TRef.unary φ.v1 φ.v3 (broadcastInDim S1 ![] bcast_S_S1),
    TRef.unary arg0 φ.v4 (extractStridedSlice S1 ![0] · slices_S2_S1_0),
    TRef.reshape φ.v4 φ.v5 (rfl : (.i32 : EltTy) = .i32) shapeCasts_S1_S_,
    TRef.unary arg0 φ.v6 (extractStridedSlice S1 ![1] · slices_S2_S1_1),
    TRef.reshape φ.v6 φ.v7 (rfl : (.i32 : EltTy) = .i32) shapeCasts_S1_S_,
    TRef.nullary φ.v8 (iotaInDim S8 64 0),
    TRef.nullary φ.c (constantI S_ 64 1#64),
    TRef.unary φ.c φ.v9 (broadcastInDim S8 ![] bcast_S_S8),
    TRef.binary φ.v9 φ.v8 φ.v10 muli,
    TRef.nullary φ.c_0 (constantI S_ 64 32#64),
    TRef.unary φ.c_0 φ.v11 (broadcastInDim S8 ![] bcast_S_S8),
    TRef.binary φ.v10 φ.v11 φ.v12 Host.shrui,
    TRef.unary φ.v10 φ.v13 (trunci 32 · natLt_32_64),
    TRef.unary φ.v12 φ.v14 (trunci 32 · natLt_32_64)]
  ++ (threefryOps bcast_S_S8 φ.v5 φ.v7 φ.v14 φ.v13 φ.call0
  ++ [
    TRef.binary φ.call0.b4.i.y0 φ.call0.b4.i.y1 φ.v16 xori,
    TRef.nullary φ.c_1 (constantI S_ 32 9#32),
    TRef.unary φ.c_1 φ.v17 (broadcastInDim S8 ![] bcast_S_S8),
    TRef.binary φ.v16 φ.v17 φ.v18 Host.shrui,
    TRef.nullary φ.c_2 (constantI S_ 32 1065353216#32),
    TRef.unary φ.c_2 φ.v19 (broadcastInDim S8 ![] bcast_S_S8),
    TRef.binary φ.v18 φ.v19 φ.v20 ori,
    TRef.unary φ.v20 φ.v21 (bitcastToFloat .f32),
    TRef.nullary φ.cst (constant S_ .f32 0x3F800000#32),
    TRef.unary φ.cst φ.v22 (broadcastInDim S8 ![] bcast_S_S8),
    TRef.binary φ.v21 φ.v22 φ.v23 subf,
    TRef.binary φ.v3 φ.v2 φ.v24 subf,
    TRef.unary φ.v24 φ.v25 (broadcastInDim S8 ![0] bcast_S1_S8_0),
    TRef.binary φ.v23 φ.v25 φ.v26 mulf,
    TRef.unary φ.v2 φ.v27 (broadcastInDim S8 ![0] bcast_S1_S8_0),
    TRef.binary φ.v26 φ.v27 φ.v28 addf,
    TRef.unary φ.v2 φ.v29 (broadcastInDim S8 ![0] bcast_S1_S8_0),
    TRef.binary φ.v29 φ.v28 φ.v30 maximumf])

/-- One uniform number per chain under the key `k`. -/
def uniform8 (k : IVec S2 32) (lo hi : FVec F S_ .f32) : FVec F S8 .f32 :=
  maximumf (broadcastInDim S8 ![0] bcast_S1_S8_0 (broadcastInDim S1 ![] bcast_S_S1 lo))
    (addf (mulf (subf (bitcastToFloat .f32 (ori (Host.shrui (xori (hash bcast_S_S8 k counters8).1 (hash bcast_S_S8 k counters8).2)
          (all bcast_S_S8 9#32)) (all bcast_S_S8 1065353216#32)))
        (broadcastInDim S8 ![] bcast_S_S8 (constant S_ .f32 0x3F800000#32)))
      (broadcastInDim S8 ![0] bcast_S1_S8_0
        (subf (broadcastInDim S1 ![] bcast_S_S1 hi) (broadcastInDim S1 ![] bcast_S_S1 lo))))
      (broadcastInDim S8 ![0] bcast_S1_S8_0 (broadcastInDim S1 ![] bcast_S_S1 lo)))

theorem uniform8_line {M : Valuation τ sig (Elt F)} {arg0 : TRef sig ⟨S2, .i32⟩} {arg1 arg2 : TRef sig ⟨S_, .f32⟩} {φ : Uniform8 sig}
    (h : (uniform8Ops arg0 arg1 arg2 φ).Forall (Holds M)) : rd M φ.v30 = uniform8 (rd M arg0) (rd M arg1) (rd M arg2) := by
  simp only [uniform8Ops, List.forall_append] at h
  obtain ⟨⟨h0, h1, h2, h3, h4, h5, h6, h7, h8, h9, h10, h11, h12, h13, h14, h15, h16⟩, t, ⟨h17, h18, h19, h20, h21, h22, h23, h24, h25, h26, h27, h28, h29, h30, h31, h32, h33, h34⟩⟩ := h
  have e0 := congrArg Prod.fst (threefry_line bcast_S_S8 t)
  have e1 := congrArg Prod.snd (threefry_line bcast_S_S8 t)
  dsimp only at e0 e1
  rw [rd_binary h34, rd_unary h33, rd_binary h32, rd_unary h31, rd_binary h30, rd_unary h29, rd_binary h28, rd_binary h27, rd_unary h26, rd_nullary h25, rd_unary h24, rd_binary h23, rd_unary h22, rd_nullary h21, rd_binary h20, rd_unary h19, rd_nullary h18, rd_binary h17, e0, e1, rd_unary h16, rd_unary h15, rd_binary h14, rd_unary h13, rd_nullary h12, rd_binary h11, rd_unary h10, rd_nullary h9, rd_nullary h8, rd_reshape h7, rd_unary h6, rd_reshape h5, rd_unary h4, rd_unary h3, rd_unary h2, rd_unary h1, rd_unary h0]
  rfl

end KeyLines

end Cert.Rng

end
-- ==== Proof.RngLine.lean ====
/- Where the lines of the random bits write: with their buffers numbered one after the other, each is a line in the sense
   of `Lines.Line`. -/
module

public import proofs.«01_k».proof.Proof.Rng

@[expose] public section

set_option maxRecDepth 16384

noncomputable section

namespace Cert.Rng

open Idealize.ShloMosaic Idealize.ShloMosaic.StableHlo Cert.Lines

variable {F : FTy → Type} [FloatOps F]

variable {τ : Topo} {sig : RefSig} {S : Shape}

/-- The buffers are numbered from `n` on. -/
def Mix.From (τ : Topo) (φ : Mix sig S) (n : Nat) : Prop :=
  num (Proc.devRef (τ := τ) .tc φ.sum.ref) = n + 0 ∧ num (Proc.devRef (τ := τ) .tc φ.c.ref) = n + 1 ∧ num (Proc.devRef (τ := τ) .tc φ.b.ref) = n + 2 ∧ num (Proc.devRef (τ := τ) .tc φ.l.ref) = n + 3 ∧ num (Proc.devRef (τ := τ) .tc φ.c'.ref) = n + 4 ∧ num (Proc.devRef (τ := τ) .tc φ.b'.ref) = n + 5 ∧ num (Proc.devRef (τ := τ) .tc φ.r.ref) = n + 6 ∧ num (Proc.devRef (τ := τ) .tc φ.o.ref) = n + 7 ∧ num (Proc.devRef (τ := τ) .tc φ.y.ref) = n + 8

instance Mix.decidable_from (φ : Mix sig S) (n : Nat) : Decidable (φ.From τ n) := inferInstanceAs (Decidable (_ ∧ _))

/-- The buffers are numbered from `n` on. -/
def Inject.From (τ : Topo) (φ : Inject sig S) (n : Nat) : Prop :=
  num (Proc.devRef (τ := τ) .tc φ.b0.ref) = n + 0 ∧ num (Proc.devRef (τ := τ) .tc φ.y0.ref) = n + 1 ∧ num (Proc.devRef (τ := τ) .tc φ.b1.ref) = n + 2 ∧ num (Proc.devRef (τ := τ) .tc φ.t.ref) = n + 3 ∧ num (Proc.devRef (τ := τ) .tc φ.c.ref) = n + 4 ∧ num (Proc.devRef (τ := τ) .tc φ.b.ref) = n + 5 ∧ num (Proc.devRef (τ := τ) .tc φ.y1.ref) = n + 6

instance Inject.decidable_from (φ : Inject sig S) (n : Nat) : Decidable (φ.From τ n) := inferInstanceAs (Decidable (_ ∧ _))

/-- The buffers are numbered from `n` on. -/
def Block.From (τ : Topo) (φ : Block sig S) (n : Nat) : Prop :=
  φ.m0.From τ (n + 0) ∧ φ.m1.From τ (n + 9) ∧ φ.m2.From τ (n + 18) ∧ φ.m3.From τ (n + 27) ∧ φ.i.From τ (n + 36)

instance Block.decidable_from (φ : Block sig S) (n : Nat) : Decidable (φ.From τ n) := inferInstanceAs (Decidable (_ ∧ _))

/-- The buffers are numbered from `n` on. -/
def Threefry.From (τ : Topo) (φ : Threefry sig S) (n : Nat) : Prop :=
  num (Proc.devRef (τ := τ) .tc φ.v0.ref) = n + 0 ∧ num (Proc.devRef (τ := τ) .tc φ.c.ref) = n + 1 ∧ num (Proc.devRef (τ := τ) .tc φ.v1.ref) = n + 2 ∧ num (Proc.devRef (τ := τ) .tc φ.v2.ref) = n + 3 ∧ num (Proc.devRef (τ := τ) .tc φ.v3.ref) = n + 4 ∧ num (Proc.devRef (τ := τ) .tc φ.v4.ref) = n + 5 ∧ num (Proc.devRef (τ := τ) .tc φ.v5.ref) = n + 6 ∧ φ.b0.From τ (n + 7) ∧ φ.b1.From τ (n + 50) ∧ φ.b2.From τ (n + 93) ∧ φ.b3.From τ (n + 136) ∧ φ.b4.From τ (n + 179)

instance Threefry.decidable_from (φ : Threefry sig S) (n : Nat) : Decidable (φ.From τ n) := inferInstanceAs (Decidable (_ ∧ _))

/-- The buffers are numbered from `n` on. -/
def Split.From (τ : Topo) (φ : Split sig) (n : Nat) : Prop :=
  num (Proc.devRef (τ := τ) .tc φ.v0.ref) = n + 0 ∧ num (Proc.devRef (τ := τ) .tc φ.v1.ref) = n + 1 ∧ num (Proc.devRef (τ := τ) .tc φ.v2.ref) = n + 2 ∧ num (Proc.devRef (τ := τ) .tc φ.v3.ref) = n + 3 ∧ num (Proc.devRef (τ := τ) .tc φ.v4.ref) = n + 4 ∧ num (Proc.devRef (τ := τ) .tc φ.c.ref) = n + 5 ∧ num (Proc.devRef (τ := τ) .tc φ.v5.ref) = n + 6 ∧ num (Proc.devRef (τ := τ) .tc φ.v6.ref) = n + 7 ∧ num (Proc.devRef (τ := τ) .tc φ.c_0.ref) = n + 8 ∧ num (Proc.devRef (τ := τ) .tc φ.v7.ref) = n + 9 ∧ num (Proc.devRef (τ := τ) .tc φ.v8.ref) = n + 10 ∧ num (Proc.devRef (τ := τ) .tc φ.v9.ref) = n + 11 ∧ num (Proc.devRef (τ := τ) .tc φ.v10.ref) = n + 12 ∧ φ.call0.From τ (n + 13) ∧ num (Proc.devRef (τ := τ) .tc φ.v12.ref) = n + 235 ∧ num (Proc.devRef (τ := τ) .tc φ.v13.ref) = n + 236 ∧ num (Proc.devRef (τ := τ) .tc φ.v14.ref) = n + 237

instance Split.decidable_from (φ : Split sig) (n : Nat) : Decidable (φ.From τ n) := inferInstanceAs (Decidable (_ ∧ _))

/-- The buffers are numbered from `n` on. -/
def Uniform.From (τ : Topo) (φ : Uniform sig) (n : Nat) : Prop :=
  num (Proc.devRef (τ := τ) .tc φ.v0.ref) = n + 0 ∧ num (Proc.devRef (τ := τ) .tc φ.v1.ref) = n + 1 ∧ num (Proc.devRef (τ := τ) .tc φ.v2.ref) = n + 2 ∧ num (Proc.devRef (τ := τ) .tc φ.v3.ref) = n + 3 ∧ num (Proc.devRef (τ := τ) .tc φ.v4.ref) = n + 4 ∧ num (Proc.devRef (τ := τ) .tc φ.v5.ref) = n + 5 ∧ num (Proc.devRef (τ := τ) .tc φ.v6.ref) = n + 6 ∧ num (Proc.devRef (τ := τ) .tc φ.v7.ref) = n + 7 ∧ num (Proc.devRef (τ := τ) .tc φ.v8.ref) = n + 8 ∧ num (Proc.devRef (τ := τ) .tc φ.v9.ref) = n + 9 ∧ num (Proc.devRef (τ := τ) .tc φ.c.ref) = n + 10 ∧ num (Proc.devRef (τ := τ) .tc φ.v10.ref) = n + 11 ∧ num (Proc.devRef (τ := τ) .tc φ.v11.ref) = n + 12 ∧ num (Proc.devRef (τ := τ) .tc φ.c_0.ref) = n + 13 ∧ num (Proc.devRef (τ := τ) .tc φ.v12.ref) = n + 14 ∧ num (Proc.devRef (τ := τ) .tc φ.v13.ref) = n + 15 ∧ num (Proc.devRef (τ := τ) .tc φ.c_1.ref) = n + 16 ∧ num (Proc.devRef (τ := τ) .tc φ.v14.ref) = n + 17 ∧ num (Proc.devRef (τ := τ) .tc φ.v15.ref) = n + 18 ∧ num (Proc.devRef (τ := τ) .tc φ.v16.ref) = n + 19 ∧ num (Proc.devRef (τ := τ) .tc φ.v17.ref) = n + 20 ∧ num (Proc.devRef (τ := τ) .tc φ.c_2.ref) = n + 21 ∧ num (Proc.devRef (τ := τ) .tc φ.v18.ref) = n + 22 ∧ num (Proc.devRef (τ := τ) .tc φ.v19.ref) = n + 23 ∧ num (Proc.devRef (τ := τ) .tc φ.v20.ref) = n + 24 ∧ num (Proc.devRef (τ := τ) .tc φ.v21.ref) = n + 25 ∧ φ.call0.From τ (n + 26) ∧ num (Proc.devRef (τ := τ) .tc φ.v23.ref) = n + 248 ∧ num (Proc.devRef (τ := τ) .tc φ.c_3.ref) = n + 249 ∧ num (Proc.devRef (τ := τ) .tc φ.v24.ref) = n + 250 ∧ num (Proc.devRef (τ := τ) .tc φ.v25.ref) = n + 251 ∧ num (Proc.devRef (τ := τ) .tc φ.c_4.ref) = n + 252 ∧ num (Proc.devRef (τ := τ) .tc φ.v26.ref) = n + 253 ∧ num (Proc.devRef (τ := τ) .tc φ.v27.ref) = n + 254 ∧ num (Proc.devRef (τ := τ) .tc φ.v28.ref) = n + 255 ∧ num (Proc.devRef (τ := τ) .tc φ.cst.ref) = n + 256 ∧ num (Proc.devRef (τ := τ) .tc φ.v29.ref) = n + 257 ∧ num (Proc.devRef (τ := τ) .tc φ.v30.ref) = n + 258 ∧ num (Proc.devRef (τ := τ) .tc φ.v31.ref) = n + 259 ∧ num (Proc.devRef (τ := τ) .tc φ.v32.ref) = n + 260 ∧ num (Proc.devRef (τ := τ) .tc φ.v33.ref) = n + 261 ∧ num (Proc.devRef (τ := τ) .tc φ.v34.ref) = n + 262 ∧ num (Proc.devRef (τ := τ) .tc φ.v35.ref) = n + 263 ∧ num (Proc.devRef (τ := τ) .tc φ.v36.ref) = n + 264 ∧ num (Proc.devRef (τ := τ) .tc φ.v37.ref) = n + 265

instance Uniform.decidable_from (φ : Uniform sig) (n : Nat) : Decidable (φ.From τ n) := inferInstanceAs (Decidable (_ ∧ _))

/-- The buffers are numbered from `n` on. -/
def Gumbel.From (τ : Topo) (φ : Gumbel sig) (n : Nat) : Prop :=
  num (Proc.devRef (τ := τ) .tc φ.cst.ref) = n + 0 ∧ num (Proc.devRef (τ := τ) .tc φ.cst_0.ref) = n + 1 ∧ φ.call0.From τ (n + 2) ∧ num (Proc.devRef (τ := τ) .tc φ.v1.ref) = n + 268 ∧ num (Proc.devRef (τ := τ) .tc φ.v2.ref) = n + 269 ∧ num (Proc.devRef (τ := τ) .tc φ.v3.ref) = n + 270 ∧ num (Proc.devRef (τ := τ) .tc φ.v4.ref) = n + 271

instance Gumbel.decidable_from (φ : Gumbel sig) (n : Nat) : Decidable (φ.From τ n) := inferInstanceAs (Decidable (_ ∧ _))

/-- The buffers are numbered from `n` on. -/
def Uniform8.From (τ : Topo) (φ : Uniform8 sig) (n : Nat) : Prop :=
  num (Proc.devRef (τ := τ) .tc φ.v0.ref) = n + 0 ∧ num (Proc.devRef (τ := τ) .tc φ.v1.ref) = n + 1 ∧ num (Proc.devRef (τ := τ) .tc φ.v2.ref) = n + 2 ∧ num (Proc.devRef (τ := τ) .tc φ.v3.ref) = n + 3 ∧ num (Proc.devRef (τ := τ) .tc φ.v4.ref) = n + 4 ∧ num (Proc.devRef (τ := τ) .tc φ.v5.ref) = n + 5 ∧ num (Proc.devRef (τ := τ) .tc φ.v6.ref) = n + 6 ∧ num (Proc.devRef (τ := τ) .tc φ.v7.ref) = n + 7 ∧ num (Proc.devRef (τ := τ) .tc φ.v8.ref) = n + 8 ∧ num (Proc.devRef (τ := τ) .tc φ.c.ref) = n + 9 ∧ num (Proc.devRef (τ := τ) .tc φ.v9.ref) = n + 10 ∧ num (Proc.devRef (τ := τ) .tc φ.v10.ref) = n + 11 ∧ num (Proc.devRef (τ := τ) .tc φ.c_0.ref) = n + 12 ∧ num (Proc.devRef (τ := τ) .tc φ.v11.ref) = n + 13 ∧ num (Proc.devRef (τ := τ) .tc φ.v12.ref) = n + 14 ∧ num (Proc.devRef (τ := τ) .tc φ.v13.ref) = n + 15 ∧ num (Proc.devRef (τ := τ) .tc φ.v14.ref) = n + 16 ∧ φ.call0.From τ (n + 17) ∧ num (Proc.devRef (τ := τ) .tc φ.v16.ref) = n + 239 ∧ num (Proc.devRef (τ := τ) .tc φ.c_1.ref) = n + 240 ∧ num (Proc.devRef (τ := τ) .tc φ.v17.ref) = n + 241 ∧ num (Proc.devRef (τ := τ) .tc φ.v18.ref) = n + 242 ∧ num (Proc.devRef (τ := τ) .tc φ.c_2.ref) = n + 243 ∧ num (Proc.devRef (τ := τ) .tc φ.v19.ref) = n + 244 ∧ num (Proc.devRef (τ := τ) .tc φ.v20.ref) = n + 245 ∧ num (Proc.devRef (τ := τ) .tc φ.v21.ref) = n + 246 ∧ num (Proc.devRef (τ := τ) .tc φ.cst.ref) = n + 247 ∧ num (Proc.devRef (τ := τ) .tc φ.v22.ref) = n + 248 ∧ num (Proc.devRef (τ := τ) .tc φ.v23.ref) = n + 249 ∧ num (Proc.devRef (τ := τ) .tc φ.v24.ref) = n + 250 ∧ num (Proc.devRef (τ := τ) .tc φ.v25.ref) = n + 251 ∧ num (Proc.devRef (τ := τ) .tc φ.v26.ref) = n + 252 ∧ num (Proc.devRef (τ := τ) .tc φ.v27.ref) = n + 253 ∧ num (Proc.devRef (τ := τ) .tc φ.v28.ref) = n + 254 ∧ num (Proc.devRef (τ := τ) .tc φ.v29.ref) = n + 255 ∧ num (Proc.devRef (τ := τ) .tc φ.v30.ref) = n + 256

instance Uniform8.decidable_from (φ : Uniform8 sig) (n : Nat) : Decidable (φ.From τ n) := inferInstanceAs (Decidable (_ ∧ _))

theorem num_lt {a n j k : Nat} (h : a = n + j) (hj : j < k) : a < n + k := by omega

theorem mix_fresh (hb : S_.BroadcastsInDim S (![] : Fin 0 → Fin S.rank)) {r r' : BitVec 32} {x0 x1 : TRef sig ⟨S, .i32⟩} {φ : Mix sig S} {n : Nat}
    (h0 : num (Proc.devRef (τ := τ) .tc x0.ref) < n) (h1 : num (Proc.devRef (τ := τ) .tc x1.ref) < n) (h : φ.From τ n) :
    Line (mixOps hb r r' x0 x1 φ : List (HloOp τ sig (Elt F))) n :=
  ⟨fresh_binary _ _ _ _  h.1 (Nat.lt_add_right 0 h0) (Nat.lt_add_right 0 h1),
      fresh_nullary _ _  h.2.1,
      fresh_unary _ _ _  h.2.2.1 (num_lt (n := n) (j := 1) (k := 2) h.2.1 (by decide)),
      fresh_binary _ _ _ _  h.2.2.2.1 (Nat.lt_add_right 3 h1) (num_lt (n := n) (j := 2) (k := 3) h.2.2.1 (by decide)),
      fresh_nullary _ _  h.2.2.2.2.1,
      fresh_unary _ _ _  h.2.2.2.2.2.1 (num_lt (n := n) (j := 4) (k := 5) h.2.2.2.2.1 (by decide)),
      fresh_binary _ _ _ _  h.2.2.2.2.2.2.1 (Nat.lt_add_right 6 h1) (num_lt (n := n) (j := 5) (k := 6) h.2.2.2.2.2.1 (by decide)),
      fresh_binary _ _ _ _  h.2.2.2.2.2.2.2.1 (num_lt (n := n) (j := 3) (k := 7) h.2.2.2.1 (by decide)) (num_lt (n := n) (j := 6) (k := 7) h.2.2.2.2.2.2.1 (by decide)),
      fresh_binary _ _ _ _  h.2.2.2.2.2.2.2.2 (num_lt (n := n) (j := 0) (k := 8) h.1 (by decide)) (num_lt (n := n) (j := 7) (k := 8) h.2.2.2.2.2.2.2.1 (by decide)),
      trivial⟩

theorem inject_fresh (hb : S_.BroadcastsInDim S (![] : Fin 0 → Fin S.rank)) {k k' : TRef sig ⟨S_, .i32⟩} {m : BitVec 32} {x0 x1 : TRef sig ⟨S, .i32⟩} {φ : Inject sig S} {n : Nat}
    (hk : num (Proc.devRef (τ := τ) .tc k.ref) < n) (hk' : num (Proc.devRef (τ := τ) .tc k'.ref) < n) (h0 : num (Proc.devRef (τ := τ) .tc x0.ref) < n) (h1 : num (Proc.devRef (τ := τ) .tc x1.ref) < n) (h : φ.From τ n) :
    Line (injectOps hb k k' m x0 x1 φ : List (HloOp τ sig (Elt F))) n :=
  ⟨fresh_unary _ _ _  h.1 (Nat.lt_add_right 0 hk),
      fresh_binary _ _ _ _  h.2.1 (Nat.lt_add_right 1 h0) (num_lt (n := n) (j := 0) (k := 1) h.1 (by decide)),
      fresh_unary _ _ _  h.2.2.1 (Nat.lt_add_right 2 hk'),
      fresh_binary _ _ _ _  h.2.2.2.1 (Nat.lt_add_right 3 h1) (num_lt (n := n) (j := 2) (k := 3) h.2.2.1 (by decide)),
      fresh_nullary _ _  h.2.2.2.2.1,
      fresh_unary _ _ _  h.2.2.2.2.2.1 (num_lt (n := n) (j := 4) (k := 5) h.2.2.2.2.1 (by decide)),
      fresh_binary _ _ _ _  h.2.2.2.2.2.2 (num_lt (n := n) (j := 3) (k := 6) h.2.2.2.1 (by decide)) (num_lt (n := n) (j := 5) (k := 6) h.2.2.2.2.2.1 (by decide)),
      trivial⟩

theorem block_fresh (hb : S_.BroadcastsInDim S (![] : Fin 0 → Fin S.rank)) {r : Fin 4 → BitVec 32 × BitVec 32} {k k' : TRef sig ⟨S_, .i32⟩} {m : BitVec 32} {x0 x1 : TRef sig ⟨S, .i32⟩} {φ : Block sig S} {n : Nat}
    (hk : num (Proc.devRef (τ := τ) .tc k.ref) < n) (hk' : num (Proc.devRef (τ := τ) .tc k'.ref) < n) (h0 : num (Proc.devRef (τ := τ) .tc x0.ref) < n) (h1 : num (Proc.devRef (τ := τ) .tc x1.ref) < n) (h : φ.From τ n) :
    Line (blockOps hb r k k' m x0 x1 φ : List (HloOp τ sig (Elt F))) n :=
  line_append_of (a := 9) rfl
    (mix_fresh _ (Nat.lt_add_right 0 h0) (Nat.lt_add_right 0 h1) h.1)
    (line_append_of (a := 9) rfl
    (mix_fresh _ (num_lt (n := n) (j := 0) (k := 9) h.1.1 (by decide)) (num_lt (n := n) (j := 8) (k := 9) h.1.2.2.2.2.2.2.2.2 (by decide)) h.2.1)
    (line_append_of (a := 9) rfl
    (mix_fresh _ (num_lt (n := n) (j := 9) (k := 18) h.2.1.1 (by decide)) (num_lt (n := n) (j := 17) (k := 18) h.2.1.2.2.2.2.2.2.2.2 (by decide)) h.2.2.1)
    (line_append_of (a := 9) rfl
    (mix_fresh _ (num_lt (n := n) (j := 18) (k := 27) h.2.2.1.1 (by decide)) (num_lt (n := n) (j := 26) (k := 27) h.2.2.1.2.2.2.2.2.2.2.2 (by decide)) h.2.2.2.1)
    ((inject_fresh _ (Nat.lt_add_right 36 hk) (Nat.lt_add_right 36 hk') (num_lt (n := n) (j := 27) (k := 36) h.2.2.2.1.1 (by decide)) (num_lt (n := n) (j := 35) (k := 36) h.2.2.2.1.2.2.2.2.2.2.2.2 (by decide)) h.2.2.2.2)))))

theorem threefry_fresh (hb : S_.BroadcastsInDim S (![] : Fin 0 → Fin S.rank)) {k0 k1 : TRef sig ⟨S_, .i32⟩} {x0 x1 : TRef sig ⟨S, .i32⟩} {φ : Threefry sig S} {n : Nat}
    (hk : num (Proc.devRef (τ := τ) .tc k0.ref) < n) (hk' : num (Proc.devRef (τ := τ) .tc k1.ref) < n) (h0 : num (Proc.devRef (τ := τ) .tc x0.ref) < n) (h1 : num (Proc.devRef (τ := τ) .tc x1.ref) < n) (h : φ.From τ n) :
    Line (threefryOps hb k0 k1 x0 x1 φ : List (HloOp τ sig (Elt F))) n :=
  line_append_of (a := 7) rfl
    ⟨fresh_binary _ _ _ _  h.1 (Nat.lt_add_right 0 hk) (Nat.lt_add_right 0 hk'),
      fresh_nullary _ _  h.2.1,
      fresh_binary _ _ _ _  h.2.2.1 (num_lt (n := n) (j := 0) (k := 2) h.1 (by decide)) (num_lt (n := n) (j := 1) (k := 2) h.2.1 (by decide)),
      fresh_unary _ _ _  h.2.2.2.1 (Nat.lt_add_right 3 hk),
      fresh_binary _ _ _ _  h.2.2.2.2.1 (Nat.lt_add_right 4 h0) (num_lt (n := n) (j := 3) (k := 4) h.2.2.2.1 (by decide)),
      fresh_unary _ _ _  h.2.2.2.2.2.1 (Nat.lt_add_right 5 hk'),
      fresh_binary _ _ _ _  h.2.2.2.2.2.2.1 (Nat.lt_add_right 6 h1) (num_lt (n := n) (j := 5) (k := 6) h.2.2.2.2.2.1 (by decide)),
      trivial⟩
    (line_append_of (a := 43) rfl
    (block_fresh _ (Nat.lt_add_right 7 hk') (num_lt (n := n) (j := 2) (k := 7) h.2.2.1 (by decide)) (num_lt (n := n) (j := 4) (k := 7) h.2.2.2.2.1 (by decide)) (num_lt (n := n) (j := 6) (k := 7) h.2.2.2.2.2.2.1 (by decide)) h.2.2.2.2.2.2.2.1)
    (line_append_of (a := 43) rfl
    (block_fresh _ (num_lt (n := n) (j := 2) (k := 50) h.2.2.1 (by decide)) (Nat.lt_add_right 50 hk) (num_lt (n := n) (j := 44) (k := 50) h.2.2.2.2.2.2.2.1.2.2.2.2.2.1 (by decide)) (num_lt (n := n) (j := 49) (k := 50) h.2.2.2.2.2.2.2.1.2.2.2.2.2.2.2.2.2.2 (by decide)) h.2.2.2.2.2.2.2.2.1)
    (line_append_of (a := 43) rfl
    (block_fresh _ (Nat.lt_add_right 93 hk) (Nat.lt_add_right 93 hk') (num_lt (n := n) (j := 87) (k := 93) h.2.2.2.2.2.2.2.2.1.2.2.2.2.2.1 (by decide)) (num_lt (n := n) (j := 92) (k := 93) h.2.2.2.2.2.2.2.2.1.2.2.2.2.2.2.2.2.2.2 (by decide)) h.2.2.2.2.2.2.2.2.2.1)
    (line_append_of (a := 43) rfl
    (block_fresh _ (Nat.lt_add_right 136 hk') (num_lt (n := n) (j := 2) (k := 136) h.2.2.1 (by decide)) (num_lt (n := n) (j := 130) (k := 136) h.2.2.2.2.2.2.2.2.2.1.2.2.2.2.2.1 (by decide)) (num_lt (n := n) (j := 135) (k := 136) h.2.2.2.2.2.2.2.2.2.1.2.2.2.2.2.2.2.2.2.2 (by decide)) h.2.2.2.2.2.2.2.2.2.2.1)
    ((block_fresh _ (num_lt (n := n) (j := 2) (k := 179) h.2.2.1 (by decide)) (Nat.lt_add_right 179 hk) (num_lt (n := n) (j := 173) (k := 179) h.2.2.2.2.2.2.2.2.2.2.1.2.2.2.2.2.1 (by decide)) (num_lt (n := n) (j := 178) (k := 179) h.2.2.2.2.2.2.2.2.2.2.1.2.2.2.2.2.2.2.2.2.2 (by decide)) h.2.2.2.2.2.2.2.2.2.2.2))))))

theorem split_fresh {arg0 : TRef sig ⟨S2, .i32⟩} {φ : Split sig} {n : Nat}
    (h0 : num (Proc.devRef (τ := τ) .tc arg0.ref) < n) (h : φ.From τ n) :
    Line (splitOps arg0 φ : List (HloOp τ sig (Elt F))) n :=
  line_append_of (a := 13) rfl
    ⟨fresh_unary _ _ _  h.1 (Nat.lt_add_right 0 h0),
      fresh_reshape _ _ _ _  h.2.1 (num_lt (n := n) (j := 0) (k := 1) h.1 (by decide)),
      fresh_unary _ _ _  h.2.2.1 (Nat.lt_add_right 2 h0),
      fresh_reshape _ _ _ _  h.2.2.2.1 (num_lt (n := n) (j := 2) (k := 3) h.2.2.1 (by decide)),
      fresh_nullary _ _  h.2.2.2.2.1,
      fresh_nullary _ _  h.2.2.2.2.2.1,
      fresh_unary _ _ _  h.2.2.2.2.2.2.1 (num_lt (n := n) (j := 5) (k := 6) h.2.2.2.2.2.1 (by decide)),
      fresh_binary _ _ _ _  h.2.2.2.2.2.2.2.1 (num_lt (n := n) (j := 6) (k := 7) h.2.2.2.2.2.2.1 (by decide)) (num_lt (n := n) (j := 4) (k := 7) h.2.2.2.2.1 (by decide)),
      fresh_nullary _ _  h.2.2.2.2.2.2.2.2.1,
      fresh_unary _ _ _  h.2.2.2.2.2.2.2.2.2.1 (num_lt (n := n) (j := 8) (k := 9) h.2.2.2.2.2.2.2.2.1 (by decide)),
      fresh_binary _ _ _ _  h.2.2.2.2.2.2.2.2.2.2.1 (num_lt (n := n) (j := 7) (k := 10) h.2.2.2.2.2.2.2.1 (by decide)) (num_lt (n := n) (j := 9) (k := 10) h.2.2.2.2.2.2.2.2.2.1 (by decide)),
      fresh_unary _ _ _  h.2.2.2.2.2.2.2.2.2.2.2.1 (num_lt (n := n) (j := 7) (k := 11) h.2.2.2.2.2.2.2.1 (by decide)),
      fresh_unary _ _ _  h.2.2.2.2.2.2.2.2.2.2.2.2.1 (num_lt (n := n) (j := 10) (k := 12) h.2.2.2.2.2.2.2.2.2.2.1 (by decide)),
      trivial⟩
    (line_append_of (a := 222) rfl
    (threefry_fresh _ (num_lt (n := n) (j := 1) (k := 13) h.2.1 (by decide)) (num_lt (n := n) (j := 3) (k := 13) h.2.2.2.1 (by decide)) (num_lt (n := n) (j := 12) (k := 13) h.2.2.2.2.2.2.2.2.2.2.2.2.1 (by decide)) (num_lt (n := n) (j := 11) (k := 13) h.2.2.2.2.2.2.2.2.2.2.2.1 (by decide)) h.2.2.2.2.2.2.2.2.2.2.2.2.2.1)
    (⟨fresh_unary _ _ _  h.2.2.2.2.2.2.2.2.2.2.2.2.2.2.1 (num_lt (n := n) (j := 229) (k := 235) h.2.2.2.2.2.2.2.2.2.2.2.2.2.1.2.2.2.2.2.2.2.2.2.2.2.2.2.2.2.2.1 (by decide)),
      fresh_unary _ _ _  h.2.2.2.2.2.2.2.2.2.2.2.2.2.2.2.1 (num_lt (n := n) (j := 234) (k := 236) h.2.2.2.2.2.2.2.2.2.2.2.2.2.1.2.2.2.2.2.2.2.2.2.2.2.2.2.2.2.2.2.2.2.2.2 (by decide)),
      fresh_binary _ _ _ _  h.2.2.2.2.2.2.2.2.2.2.2.2.2.2.2.2 (num_lt (n := n) (j := 235) (k := 237) h.2.2.2.2.2.2.2.2.2.2.2.2.2.2.1 (by decide)) (num_lt (n := n) (j := 236) (k := 237) h.2.2.2.2.2.2.2.2.2.2.2.2.2.2.2.1 (by decide)),
      trivial⟩))

theorem uniform_fresh {arg0 : TRef sig ⟨S2, .i32⟩} {arg1 arg2 : TRef sig ⟨S_, .f32⟩} {φ : Uniform sig} {n : Nat}
    (h0 : num (Proc.devRef (τ := τ) .tc arg0.ref) < n) (h1 : num (Proc.devRef (τ := τ) .tc arg1.ref) < n) (h2 : num (Proc.devRef (τ := τ) .tc arg2.ref) < n) (h : φ.From τ n) :
    Line (uniformOps arg0 arg1 arg2 φ : List (HloOp τ sig (Elt F))) n :=
  line_append_of (a := 26) rfl
    ⟨fresh_unary _ _ _  h.1 (Nat.lt_add_right 0 h1),
      fresh_unary _ _ _  h.2.1 (Nat.lt_add_right 1 h2),
      fresh_unary _ _ _  h.2.2.1 (num_lt (n := n) (j := 0) (k := 2) h.1 (by decide)),
      fresh_unary _ _ _  h.2.2.2.1 (Nat.lt_add_right 3 h0),
      fresh_reshape _ _ _ _  h.2.2.2.2.1 (num_lt (n := n) (j := 3) (k := 4) h.2.2.2.1 (by decide)),
      fresh_unary _ _ _  h.2.2.2.2.2.1 (Nat.lt_add_right 5 h0),
      fresh_reshape _ _ _ _  h.2.2.2.2.2.2.1 (num_lt (n := n) (j := 5) (k := 6) h.2.2.2.2.2.1 (by decide)),
      fresh_nullary _ _  h.2.2.2.2.2.2.2.1,
      fresh_nullary _ _  h.2.2.2.2.2.2.2.2.1,
      fresh_nullary _ _  h.2.2.2.2.2.2.2.2.2.1,
      fresh_nullary _ _  h.2.2.2.2.2.2.2.2.2.2.1,
      fresh_unary _ _ _  h.2.2.2.2.2.2.2.2.2.2.2.1 (num_lt (n := n) (j := 10) (k := 11) h.2.2.2.2.2.2.2.2.2.2.1 (by decide)),
      fresh_binary _ _ _ _  h.2.2.2.2.2.2.2.2.2.2.2.2.1 (num_lt (n := n) (j := 11) (k := 12) h.2.2.2.2.2.2.2.2.2.2.2.1 (by decide)) (num_lt (n := n) (j := 7) (k := 12) h.2.2.2.2.2.2.2.1 (by decide)),
      fresh_nullary _ _  h.2.2.2.2.2.2.2.2.2.2.2.2.2.1,
      fresh_unary _ _ _  h.2.2.2.2.2.2.2.2.2.2.2.2.2.2.1 (num_lt (n := n) (j := 13) (k := 14) h.2.2.2.2.2.2.2.2.2.2.2.2.2.1 (by decide)),
      fresh_binary _ _ _ _  h.2.2.2.2.2.2.2.2.2.2.2.2.2.2.2.1 (num_lt (n := n) (j := 14) (k := 15) h.2.2.2.2.2.2.2.2.2.2.2.2.2.2.1 (by decide)) (num_lt (n := n) (j := 8) (k := 15) h.2.2.2.2.2.2.2.2.1 (by decide)),
      fresh_nullary _ _  h.2.2.2.2.2.2.2.2.2.2.2.2.2.2.2.2.1,
      fresh_unary _ _ _  h.2.2.2.2.2.2.2.2.2.2.2.2.2.2.2.2.2.1 (num_lt (n := n) (j := 16) (k := 17) h.2.2.2.2.2.2.2.2.2.2.2.2.2.2.2.2.1 (by decide)),
      fresh_binary _ _ _ _  h.2.2.2.2.2.2.2.2.2.2.2.2.2.2.2.2.2.2.1 (num_lt (n := n) (j := 17) (k := 18) h.2.2.2.2.2.2.2.2.2.2.2.2.2.2.2.2.2.1 (by decide)) (num_lt (n := n) (j := 9) (k := 18) h.2.2.2.2.2.2.2.2.2.1 (by decide)),
      fresh_binary _ _ _ _  h.2.2.2.2.2.2.2.2.2.2.2.2.2.2.2.2.2.2.2.1 (num_lt (n := n) (j := 12) (k := 19) h.2.2.2.2.2.2.2.2.2.2.2.2.1 (by decide)) (num_lt (n := n) (j := 15) (k := 19) h.2.2.2.2.2.2.2.2.2.2.2.2.2.2.2.1 (by decide)),
      fresh_binary _ _ _ _  h.2.2.2.2.2.2.2.2.2.2.2.2.2.2.2.2.2.2.2.2.1 (num_lt (n := n) (j := 19) (k := 20) h.2.2.2.2.2.2.2.2.2.2.2.2.2.2.2.2.2.2.2.1 (by decide)) (num_lt (n := n) (j := 18) (k := 20) h.2.2.2.2.2.2.2.2.2.2.2.2.2.2.2.2.2.2.1 (by decide)),
      fresh_nullary _ _  h.2.2.2.2.2.2.2.2.2.2.2.2.2.2.2.2.2.2.2.2.2.1,
      fresh_unary _ _ _  h.2.2.2.2.2.2.2.2.2.2.2.2.2.2.2.2.2.2.2.2.2.2.1 (num_lt (n := n) (j := 21) (k := 22) h.2.2.2.2.2.2.2.2.2.2.2.2.2.2.2.2.2.2.2.2.2.1 (by decide)),
      fresh_binary _ _ _ _  h.2.2.2.2.2.2.2.2.2.2.2.2.2.2.2.2.2.2.2.2.2.2.2.1 (num_lt (n := n) (j := 20) (k := 23) h.2.2.2.2.2.2.2.2.2.2.2.2.2.2.2.2.2.2.2.2.1 (by decide)) (num_lt (n := n) (j := 22) (k := 23) h.2.2.2.2.2.2.2.2.2.2.2.2.2.2.2.2.2.2.2.2.2.2.1 (by decide)),
      fresh_unary _ _ _  h.2.2.2.2.2.2.2.2.2.2.2.2.2.2.2.2.2.2.2.2.2.2.2.2.1 (num_lt (n := n) (j := 20) (k := 24) h.2.2.2.2.2.2.2.2.2.2.2.2.2.2.2.2.2.2.2.2.1 (by decide)),
      fresh_unary _ _ _  h.2.2.2.2.2.2.2.2.2.2.2.2.2.2.2.2.2.2.2.2.2.2.2.2.2.1 (num_lt (n := n) (j := 23) (k := 25) h.2.2.2.2.2.2.2.2.2.2.2.2.2.2.2.2.2.2.2.2.2.2.2.1 (by decide)),
      trivial⟩
    (line_append_of (a := 222) rfl
    (threefry_fresh _ (num_lt (n := n) (j := 4) (k := 26) h.2.2.2.2.1 (by decide)) (num_lt (n := n) (j := 6) (k := 26) h.2.2.2.2.2.2.1 (by decide)) (num_lt (n := n) (j := 25) (k := 26) h.2.2.2.2.2.2.2.2.2.2.2.2.2.2.2.2.2.2.2.2.2.2.2.2.2.1 (by decide)) (num_lt (n := n) (j := 24) (k := 26) h.2.2.2.2.2.2.2.2.2.2.2.2.2.2.2.2.2.2.2.2.2.2.2.2.1 (by decide)) h.2.2.2.2.2.2.2.2.2.2.2.2.2.2.2.2.2.2.2.2.2.2.2.2.2.2.1)
    (⟨fresh_binary _ _ _ _  h.2.2.2.2.2.2.2.2.2.2.2.2.2.2.2.2.2.2.2.2.2.2.2.2.2.2.2.1 (num_lt (n := n) (j := 242) (k := 248) h.2.2.2.2.2.2.2.2.2.2.2.2.2.2.2.2.2.2.2.2.2.2.2.2.2.2.1.2.2.2.2.2.2.2.2.2.2.2.2.2.2.2.2.1 (by decide)) (num_lt (n := n) (j := 247) (k := 248) h.2.2.2.2.2.2.2.2.2.2.2.2.2.2.2.2.2.2.2.2.2.2.2.2.2.2.1.2.2.2.2.2.2.2.2.2.2.2.2.2.2.2.2.2.2.2.2.2 (by decide)),
      fresh_nullary _ _  h.2.2.2.2.2.2.2.2.2.2.2.2.2.2.2.2.2.2.2.2.2.2.2.2.2.2.2.2.1,
      fresh_unary _ _ _  h.2.2.2.2.2.2.2.2.2.2.2.2.2.2.2.2.2.2.2.2.2.2.2.2.2.2.2.2.2.1 (num_lt (n := n) (j := 249) (k := 250) h.2.2.2.2.2.2.2.2.2.2.2.2.2.2.2.2.2.2.2.2.2.2.2.2.2.2.2.2.1 (by decide)),
      fresh_binary _ _ _ _  h.2.2.2.2.2.2.2.2.2.2.2.2.2.2.2.2.2.2.2.2.2.2.2.2.2.2.2.2.2.2.1 (num_lt (n := n) (j := 248) (k := 251) h.2.2.2.2.2.2.2.2.2.2.2.2.2.2.2.2.2.2.2.2.2.2.2.2.2.2.2.1 (by decide)) (num_lt (n := n) (j := 250) (k := 251) h.2.2.2.2.2.2.2.2.2.2.2.2.2.2.2.2.2.2.2.2.2.2.2.2.2.2.2.2.2.1 (by decide)),
      fresh_nullary _ _  h.2.2.2.2.2.2.2.2.2.2.2.2.2.2.2.2.2.2.2.2.2.2.2.2.2.2.2.2.2.2.2.1,
      fresh_unary _ _ _  h.2.2.2.2.2.2.2.2.2.2.2.2.2.2.2.2.2.2.2.2.2.2.2.2.2.2.2.2.2.2.2.2.1 (num_lt (n := n) (j := 252) (k := 253) h.2.2.2.2.2.2.2.2.2.2.2.2.2.2.2.2.2.2.2.2.2.2.2.2.2.2.2.2.2.2.2.1 (by decide)),
      fresh_binary _ _ _ _  h.2.2.2.2.2.2.2.2.2.2.2.2.2.2.2.2.2.2.2.2.2.2.2.2.2.2.2.2.2.2.2.2.2.1 (num_lt (n := n) (j := 251) (k := 254) h.2.2.2.2.2.2.2.2.2.2.2.2.2.2.2.2.2.2.2.2.2.2.2.2.2.2.2.2.2.2.1 (by decide)) (num_lt (n := n) (j := 253) (k := 254) h.2.2.2.2.2.2.2.2.2.2.2.2.2.2.2.2.2.2.2.2.2.2.2.2.2.2.2.2.2.2.2.2.1 (by decide)),
      fresh_unary _ _ _  h.2.2.2.2.2.2.2.2.2.2.2.2.2.2.2.2.2.2.2.2.2.2.2.2.2.2.2.2.2.2.2.2.2.2.1 (num_lt (n := n) (j := 254) (k := 255) h.2.2.2.2.2.2.2.2.2.2.2.2.2.2.2.2.2.2.2.2.2.2.2.2.2.2.2.2.2.2.2.2.2.1 (by decide)),
      fresh_nullary _ _  h.2.2.2.2.2.2.2.2.2.2.2.2.2.2.2.2.2.2.2.2.2.2.2.2.2.2.2.2.2.2.2.2.2.2.2.1,
      fresh_unary _ _ _  h.2.2.2.2.2.2.2.2.2.2.2.2.2.2.2.2.2.2.2.2.2.2.2.2.2.2.2.2.2.2.2.2.2.2.2.2.1 (num_lt (n := n) (j := 256) (k := 257) h.2.2.2.2.2.2.2.2.2.2.2.2.2.2.2.2.2.2.2.2.2.2.2.2.2.2.2.2.2.2.2.2.2.2.2.1 (by decide)),
      fresh_binary _ _ _ _  h.2.2.2.2.2.2.2.2.2.2.2.2.2.2.2.2.2.2.2.2.2.2.2.2.2.2.2.2.2.2.2.2.2.2.2.2.2.1 (num_lt (n := n) (j := 255) (k := 258) h.2.2.2.2.2.2.2.2.2.2.2.2.2.2.2.2.2.2.2.2.2.2.2.2.2.2.2.2.2.2.2.2.2.2.1 (by decide)) (num_lt (n := n) (j := 257) (k := 258) h.2.2.2.2.2.2.2.2.2.2.2.2.2.2.2.2.2.2.2.2.2.2.2.2.2.2.2.2.2.2.2.2.2.2.2.2.1 (by decide)),
      fresh_binary _ _ _ _  h.2.2.2.2.2.2.2.2.2.2.2.2.2.2.2.2.2.2.2.2.2.2.2.2.2.2.2.2.2.2.2.2.2.2.2.2.2.2.1 (num_lt (n := n) (j := 2) (k := 259) h.2.2.1 (by decide)) (num_lt (n := n) (j := 1) (k := 259) h.2.1 (by decide)),
      fresh_unary _ _ _  h.2.2.2.2.2.2.2.2.2.2.2.2.2.2.2.2.2.2.2.2.2.2.2.2.2.2.2.2.2.2.2.2.2.2.2.2.2.2.2.1 (num_lt (n := n) (j := 259) (k := 260) h.2.2.2.2.2.2.2.2.2.2.2.2.2.2.2.2.2.2.2.2.2.2.2.2.2.2.2.2.2.2.2.2.2.2.2.2.2.2.1 (by decide)),
      fresh_binary _ _ _ _  h.2.2.2.2.2.2.2.2.2.2.2.2.2.2.2.2.2.2.2.2.2.2.2.2.2.2.2.2.2.2.2.2.2.2.2.2.2.2.2.2.1 (num_lt (n := n) (j := 258) (k := 261) h.2.2.2.2.2.2.2.2.2.2.2.2.2.2.2.2.2.2.2.2.2.2.2.2.2.2.2.2.2.2.2.2.2.2.2.2.2.1 (by decide)) (num_lt (n := n) (j := 260) (k := 261) h.2.2.2.2.2.2.2.2.2.2.2.2.2.2.2.2.2.2.2.2.2.2.2.2.2.2.2.2.2.2.2.2.2.2.2.2.2.2.2.1 (by decide)),
      fresh_unary _ _ _  h.2.2.2.2.2.2.2.2.2.2.2.2.2.2.2.2.2.2.2.2.2.2.2.2.2.2.2.2.2.2.2.2.2.2.2.2.2.2.2.2.2.1 (num_lt (n := n) (j := 1) (k := 262) h.2.1 (by decide)),
      fresh_binary _ _ _ _  h.2.2.2.2.2.2.2.2.2.2.2.2.2.2.2.2.2.2.2.2.2.2.2.2.2.2.2.2.2.2.2.2.2.2.2.2.2.2.2.2.2.2.1 (num_lt (n := n) (j := 261) (k := 263) h.2.2.2.2.2.2.2.2.2.2.2.2.2.2.2.2.2.2.2.2.2.2.2.2.2.2.2.2.2.2.2.2.2.2.2.2.2.2.2.2.1 (by decide)) (num_lt (n := n) (j := 262) (k := 263) h.2.2.2.2.2.2.2.2.2.2.2.2.2.2.2.2.2.2.2.2.2.2.2.2.2.2.2.2.2.2.2.2.2.2.2.2.2.2.2.2.2.1 (by decide)),
      fresh_unary _ _ _  h.2.2.2.2.2.2.2.2.2.2.2.2.2.2.2.2.2.2.2.2.2.2.2.2.2.2.2.2.2.2.2.2.2.2.2.2.2.2.2.2.2.2.2.1 (num_lt (n := n) (j := 1) (k := 264) h.2.1 (by decide)),
      fresh_binary _ _ _ _  h.2.2.2.2.2.2.2.2.2.2.2.2.2.2.2.2.2.2.2.2.2.2.2.2.2.2.2.2.2.2.2.2.2.2.2.2.2.2.2.2.2.2.2.2 (num_lt (n := n) (j := 264) (k := 265) h.2.2.2.2.2.2.2.2.2.2.2.2.2.2.2.2.2.2.2.2.2.2.2.2.2.2.2.2.2.2.2.2.2.2.2.2.2.2.2.2.2.2.2.1 (by decide)) (num_lt (n := n) (j := 263) (k := 265) h.2.2.2.2.2.2.2.2.2.2.2.2.2.2.2.2.2.2.2.2.2.2.2.2.2.2.2.2.2.2.2.2.2.2.2.2.2.2.2.2.2.2.1 (by decide)),
      trivial⟩))

theorem gumbel_fresh {arg0 : TRef sig ⟨S2, .i32⟩} {φ : Gumbel sig} {n : Nat}
    (h0 : num (Proc.devRef (τ := τ) .tc arg0.ref) < n) (h : φ.From τ n) :
    Line (gumbelOps arg0 φ : List (HloOp τ sig (Elt F))) n :=
  line_append_of (a := 2) rfl
    ⟨fresh_nullary _ _  h.1,
      fresh_nullary _ _  h.2.1,
      trivial⟩
    (line_append_of (a := 266) rfl
    (uniform_fresh (Nat.lt_add_right 2 h0) (num_lt (n := n) (j := 0) (k := 2) h.1 (by decide)) (num_lt (n := n) (j := 1) (k := 2) h.2.1 (by decide)) h.2.2.1)
    (⟨fresh_unary _ _ _  h.2.2.2.1 (num_lt (n := n) (j := 267) (k := 268) h.2.2.1.2.2.2.2.2.2.2.2.2.2.2.2.2.2.2.2.2.2.2.2.2.2.2.2.2.2.2.2.2.2.2.2.2.2.2.2.2.2.2.2.2.2.2.2 (by decide)),
      fresh_unary _ _ _  h.2.2.2.2.1 (num_lt (n := n) (j := 268) (k := 269) h.2.2.2.1 (by decide)),
      fresh_unary _ _ _  h.2.2.2.2.2.1 (num_lt (n := n) (j := 269) (k := 270) h.2.2.2.2.1 (by decide)),
      fresh_unary _ _ _  h.2.2.2.2.2.2 (num_lt (n := n) (j := 270) (k := 271) h.2.2.2.2.2.1 (by decide)),
      trivial⟩))

theorem uniform8_fresh {arg0 : TRef sig ⟨S2, .i32⟩} {arg1 arg2 : TRef sig ⟨S_, .f32⟩} {φ : Uniform8 sig} {n : Nat}
    (h0 : num (Proc.devRef (τ := τ) .tc arg0.ref) < n) (h1 : num (Proc.devRef (τ := τ) .tc arg1.ref) < n) (h2 : num (Proc.devRef (τ := τ) .tc arg2.ref) < n) (h : φ.From τ n) :
    Line (uniform8Ops arg0 arg1 arg2 φ : List (HloOp τ sig (Elt F))) n :=
  line_append_of (a := 17) rfl
    ⟨fresh_unary _ _ _  h.1 (Nat.lt_add_right 0 h1),
      fresh_unary _ _ _  h.2.1 (Nat.lt_add_right 1 h2),
      fresh_unary _ _ _  h.2.2.1 (num_lt (n := n) (j := 0) (k := 2) h.1 (by decide)),
      fresh_unary _ _ _  h.2.2.2.1 (num_lt (n := n) (j := 1) (k := 3) h.2.1 (by decide)),
      fresh_unary _ _ _  h.2.2.2.2.1 (Nat.lt_add_right 4 h0),
      fresh_reshape _ _ _ _  h.2.2.2.2.2.1 (num_lt (n := n) (j := 4) (k := 5) h.2.2.2.2.1 (by decide)),
      fresh_unary _ _ _  h.2.2.2.2.2.2.1 (Nat.lt_add_right 6 h0),
      fresh_reshape _ _ _ _  h.2.2.2.2.2.2.2.1 (num_lt (n := n) (j := 6) (k := 7) h.2.2.2.2.2.2.1 (by decide)),
      fresh_nullary _ _  h.2.2.2.2.2.2.2.2.1,
      fresh_nullary _ _  h.2.2.2.2.2.2.2.2.2.1,
      fresh_unary _ _ _  h.2.2.2.2.2.2.2.2.2.2.1 (num_lt (n := n) (j := 9) (k := 10) h.2.2.2.2.2.2.2.2.2.1 (by decide)),
      fresh_binary _ _ _ _  h.2.2.2.2.2.2.2.2.2.2.2.1 (num_lt (n := n) (j := 10) (k := 11) h.2.2.2.2.2.2.2.2.2.2.1 (by decide)) (num_lt (n := n) (j := 8) (k := 11) h.2.2.2.2.2.2.2.2.1 (by decide)),
      fresh_nullary _ _  h.2.2.2.2.2.2.2.2.2.2.2.2.1,
      fresh_unary _ _ _  h.2.2.2.2.2.2.2.2.2.2.2.2.2.1 (num_lt (n := n) (j := 12) (k := 13) h.2.2.2.2.2.2.2.2.2.2.2.2.1 (by decide)),
      fresh_binary _ _ _ _  h.2.2.2.2.2.2.2.2.2.2.2.2.2.2.1 (num_lt (n := n) (j := 11) (k := 14) h.2.2.2.2.2.2.2.2.2.2.2.1 (by decide)) (num_lt (n := n) (j := 13) (k := 14) h.2.2.2.2.2.2.2.2.2.2.2.2.2.1 (by decide)),
      fresh_unary _ _ _  h.2.2.2.2.2.2.2.2.2.2.2.2.2.2.2.1 (num_lt (n := n) (j := 11) (k := 15) h.2.2.2.2.2.2.2.2.2.2.2.1 (by decide)),
      fresh_unary _ _ _  h.2.2.2.2.2.2.2.2.2.2.2.2.2.2.2.2.1 (num_lt (n := n) (j := 14) (k := 16) h.2.2.2.2.2.2.2.2.2.2.2.2.2.2.1 (by decide)),
      trivial⟩
    (line_append_of (a := 222) rfl
    (threefry_fresh _ (num_lt (n := n) (j := 5) (k := 17) h.2.2.2.2.2.1 (by decide)) (num_lt (n := n) (j := 7) (k := 17) h.2.2.2.2.2.2.2.1 (by decide)) (num_lt (n := n) (j := 16) (k := 17) h.2.2.2.2.2.2.2.2.2.2.2.2.2.2.2.2.1 (by decide)) (num_lt (n := n) (j := 15) (k := 17) h.2.2.2.2.2.2.2.2.2.2.2.2.2.2.2.1 (by decide)) h.2.2.2.2.2.2.2.2.2.2.2.2.2.2.2.2.2.1)
    (⟨fresh_binary _ _ _ _  h.2.2.2.2.2.2.2.2.2.2.2.2.2.2.2.2.2.2.1 (num_lt (n := n) (j := 233) (k := 239) h.2.2.2.2.2.2.2.2.2.2.2.2.2.2.2.2.2.1.2.2.2.2.2.2.2.2.2.2.2.2.2.2.2.2.1 (by decide)) (num_lt (n := n) (j := 238) (k := 239) h.2.2.2.2.2.2.2.2.2.2.2.2.2.2.2.2.2.1.2.2.2.2.2.2.2.2.2.2.2.2.2.2.2.2.2.2.2.2.2 (by decide)),
      fresh_nullary _ _  h.2.2.2.2.2.2.2.2.2.2.2.2.2.2.2.2.2.2.2.1,
      fresh_unary _ _ _  h.2.2.2.2.2.2.2.2.2.2.2.2.2.2.2.2.2.2.2.2.1 (num_lt (n := n) (j := 240) (k := 241) h.2.2.2.2.2.2.2.2.2.2.2.2.2.2.2.2.2.2.2.1 (by decide)),
      fresh_binary _ _ _ _  h.2.2.2.2.2.2.2.2.2.2.2.2.2.2.2.2.2.2.2.2.2.1 (num_lt (n := n) (j := 239) (k := 242) h.2.2.2.2.2.2.2.2.2.2.2.2.2.2.2.2.2.2.1 (by decide)) (num_lt (n := n) (j := 241) (k := 242) h.2.2.2.2.2.2.2.2.2.2.2.2.2.2.2.2.2.2.2.2.1 (by decide)),
      fresh_nullary _ _  h.2.2.2.2.2.2.2.2.2.2.2.2.2.2.2.2.2.2.2.2.2.2.1,
      fresh_unary _ _ _  h.2.2.2.2.2.2.2.2.2.2.2.2.2.2.2.2.2.2.2.2.2.2.2.1 (num_lt (n := n) (j := 243) (k := 244) h.2.2.2.2.2.2.2.2.2.2.2.2.2.2.2.2.2.2.2.2.2.2.1 (by decide)),
      fresh_binary _ _ _ _  h.2.2.2.2.2.2.2.2.2.2.2.2.2.2.2.2.2.2.2.2.2.2.2.2.1 (num_lt (n := n) (j := 242) (k := 245) h.2.2.2.2.2.2.2.2.2.2.2.2.2.2.2.2.2.2.2.2.2.1 (by decide)) (num_lt (n := n) (j := 244) (k := 245) h.2.2.2.2.2.2.2.2.2.2.2.2.2.2.2.2.2.2.2.2.2.2.2.1 (by decide)),
      fresh_unary _ _ _  h.2.2.2.2.2.2.2.2.2.2.2.2.2.2.2.2.2.2.2.2.2.2.2.2.2.1 (num_lt (n := n) (j := 245) (k := 246) h.2.2.2.2.2.2.2.2.2.2.2.2.2.2.2.2.2.2.2.2.2.2.2.2.1 (by decide)),
      fresh_nullary _ _  h.2.2.2.2.2.2.2.2.2.2.2.2.2.2.2.2.2.2.2.2.2.2.2.2.2.2.1,
      fresh_unary _ _ _  h.2.2.2.2.2.2.2.2.2.2.2.2.2.2.2.2.2.2.2.2.2.2.2.2.2.2.2.1 (num_lt (n := n) (j := 247) (k := 248) h.2.2.2.2.2.2.2.2.2.2.2.2.2.2.2.2.2.2.2.2.2.2.2.2.2.2.1 (by decide)),
      fresh_binary _ _ _ _  h.2.2.2.2.2.2.2.2.2.2.2.2.2.2.2.2.2.2.2.2.2.2.2.2.2.2.2.2.1 (num_lt (n := n) (j := 246) (k := 249) h.2.2.2.2.2.2.2.2.2.2.2.2.2.2.2.2.2.2.2.2.2.2.2.2.2.1 (by decide)) (num_lt (n := n) (j := 248) (k := 249) h.2.2.2.2.2.2.2.2.2.2.2.2.2.2.2.2.2.2.2.2.2.2.2.2.2.2.2.1 (by decide)),
      fresh_binary _ _ _ _  h.2.2.2.2.2.2.2.2.2.2.2.2.2.2.2.2.2.2.2.2.2.2.2.2.2.2.2.2.2.1 (num_lt (n := n) (j := 3) (k := 250) h.2.2.2.1 (by decide)) (num_lt (n := n) (j := 2) (k := 250) h.2.2.1 (by decide)),
      fresh_unary _ _ _  h.2.2.2.2.2.2.2.2.2.2.2.2.2.2.2.2.2.2.2.2.2.2.2.2.2.2.2.2.2.2.1 (num_lt (n := n) (j := 250) (k := 251) h.2.2.2.2.2.2.2.2.2.2.2.2.2.2.2.2.2.2.2.2.2.2.2.2.2.2.2.2.2.1 (by decide)),
      fresh_binary _ _ _ _  h.2.2.2.2.2.2.2.2.2.2.2.2.2.2.2.2.2.2.2.2.2.2.2.2.2.2.2.2.2.2.2.1 (num_lt (n := n) (j := 249) (k := 252) h.2.2.2.2.2.2.2.2.2.2.2.2.2.2.2.2.2.2.2.2.2.2.2.2.2.2.2.2.1 (by decide)) (num_lt (n := n) (j := 251) (k := 252) h.2.2.2.2.2.2.2.2.2.2.2.2.2.2.2.2.2.2.2.2.2.2.2.2.2.2.2.2.2.2.1 (by decide)),
      fresh_unary _ _ _  h.2.2.2.2.2.2.2.2.2.2.2.2.2.2.2.2.2.2.2.2.2.2.2.2.2.2.2.2.2.2.2.2.1 (num_lt (n := n) (j := 2) (k := 253) h.2.2.1 (by decide)),
      fresh_binary _ _ _ _  h.2.2.2.2.2.2.2.2.2.2.2.2.2.2.2.2.2.2.2.2.2.2.2.2.2.2.2.2.2.2.2.2.2.1 (num_lt (n := n) (j := 252) (k := 254) h.2.2.2.2.2.2.2.2.2.2.2.2.2.2.2.2.2.2.2.2.2.2.2.2.2.2.2.2.2.2.2.1 (by decide)) (num_lt (n := n) (j := 253) (k := 254) h.2.2.2.2.2.2.2.2.2.2.2.2.2.2.2.2.2.2.2.2.2.2.2.2.2.2.2.2.2.2.2.2.1 (by decide)),
      fresh_unary _ _ _  h.2.2.2.2.2.2.2.2.2.2.2.2.2.2.2.2.2.2.2.2.2.2.2.2.2.2.2.2.2.2.2.2.2.2.1 (num_lt (n := n) (j := 2) (k := 255) h.2.2.1 (by decide)),
      fresh_binary _ _ _ _  h.2.2.2.2.2.2.2.2.2.2.2.2.2.2.2.2.2.2.2.2.2.2.2.2.2.2.2.2.2.2.2.2.2.2.2 (num_lt (n := n) (j := 255) (k := 256) h.2.2.2.2.2.2.2.2.2.2.2.2.2.2.2.2.2.2.2.2.2.2.2.2.2.2.2.2.2.2.2.2.2.2.1 (by decide)) (num_lt (n := n) (j := 254) (k := 256) h.2.2.2.2.2.2.2.2.2.2.2.2.2.2.2.2.2.2.2.2.2.2.2.2.2.2.2.2.2.2.2.2.2.1 (by decide)),
      trivial⟩))

end Cert.Rng

end
-- ==== Proof.Draw.lean ====
/- One draw of the chain: the key is split in three, the first part is the next key, the second gives the Gumbel noise, the
   third the uniform numbers of the acceptance. -/
module

public import proofs.«01_k».proof.Proof.RngLine

@[expose] public section

set_option maxRecDepth 16384

noncomputable section

namespace Cert.Rng

open Idealize.ShloMosaic Idealize.ShloMosaic.StableHlo Cert.Lines

variable {F : FTy → Type} [FloatOps F]

abbrev S1x2 : Shape := ⟨2, ![1, 2]⟩
theorem slices_S3x2_S1x2_0_0 : S3x2.Slices ![0, 0] S1x2 := by decide
theorem slices_S3x2_S1x2_1_0 : S3x2.Slices ![1, 0] S1x2 := by decide
theorem slices_S3x2_S1x2_2_0 : S3x2.Slices ![2, 0] S1x2 := by decide
theorem shapeCasts_S1x2_S2 : S1x2.ShapeCasts S2 := by decide
theorem concatenates_S1_S1_S2_d0 : Shape.Concatenates [S1, S1] S2 0 := by decide

/-- The key of the seed 42: its high and its low word. -/
def seed : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- The next key. -/
def next (k : IVec S2 32) : IVec S2 32 := shapeCast S2 (extractStridedSlice S1x2 ![0, 0] (split k) slices_S3x2_S1x2_0_0) shapeCasts_S1x2_S2
/-- The key of the Gumbel noise. -/
def noiseKey (k : IVec S2 32) : IVec S2 32 := shapeCast S2 (extractStridedSlice S1x2 ![1, 0] (split k) slices_S3x2_S1x2_1_0) shapeCasts_S1x2_S2
/-- The key of the acceptance. -/
def acceptKey (k : IVec S2 32) : IVec S2 32 := shapeCast S2 (extractStridedSlice S1x2 ![2, 0] (split k) slices_S3x2_S1x2_2_0) shapeCasts_S1x2_S2

/-- The key before step `j`. -/
def key : Nat → IVec S2 32
  | 0 => seed
  | j + 1 => next (key j)

/-- The Gumbel noise of step `j`. -/
def noiseOf (F : FTy → Type) [FloatOps F] (j : Nat) : FVec F S8x32768x4 .f32 := gumbel (noiseKey (key j))
/-- The uniform numbers of step `j`. -/
def acceptOf (F : FTy → Type) [FloatOps F] (j : Nat) : FVec F S8 .f32 :=
  uniform8 (acceptKey (key j)) (constant S_ .f32 0x00000000#32) (constant S_ .f32 0x3F800000#32)

variable {τ : Topo} {sig : RefSig}

/-- The buffers of one draw. -/
structure Draw (sig : RefSig) where
  s : Split sig
  v8 : TRef sig ⟨S1x2, .i32⟩
  v9 : TRef sig ⟨S2, .i32⟩
  v10 : TRef sig ⟨S1x2, .i32⟩
  v11 : TRef sig ⟨S2, .i32⟩
  v12 : TRef sig ⟨S1x2, .i32⟩
  v13 : TRef sig ⟨S2, .i32⟩
  g : Gumbel sig
  lo : TRef sig ⟨S_, .f32⟩
  hi : TRef sig ⟨S_, .f32⟩
  u : Uniform8 sig

/-- The three parts of a key that was split. -/
def rowOps (φ : Draw sig) : List (HloOp τ sig (Elt F)) :=
  [TRef.unary φ.s.v14 φ.v8 (extractStridedSlice S1x2 ![0, 0] · slices_S3x2_S1x2_0_0),
    TRef.reshape φ.v8 φ.v9 (rfl : (.i32 : EltTy) = .i32) shapeCasts_S1x2_S2,
    TRef.unary φ.s.v14 φ.v10 (extractStridedSlice S1x2 ![1, 0] · slices_S3x2_S1x2_1_0),
    TRef.reshape φ.v10 φ.v11 (rfl : (.i32 : EltTy) = .i32) shapeCasts_S1x2_S2,
    TRef.unary φ.s.v14 φ.v12 (extractStridedSlice S1x2 ![2, 0] · slices_S3x2_S1x2_2_0),
    TRef.reshape φ.v12 φ.v13 (rfl : (.i32 : EltTy) = .i32) shapeCasts_S1x2_S2]

/-- The bounds of the uniform numbers. -/
def boundOps (φ : Draw sig) : List (HloOp τ sig (Elt F)) :=
  [TRef.nullary φ.lo (constant S_ .f32 0x00000000#32), TRef.nullary φ.hi (constant S_ .f32 0x3F800000#32)]

/-- The operations of one draw from the key `k`. -/
def drawOps (k : TRef sig ⟨S2, .i32⟩) (φ : Draw sig) : List (HloOp τ sig (Elt F)) :=
  splitOps k φ.s ++ (rowOps φ ++ (gumbelOps φ.v11 φ.g ++ (boundOps φ ++ uniform8Ops φ.v13 φ.lo φ.hi φ.u)))

/-- What one draw leaves. -/
theorem draw_line {M : Valuation τ sig (Elt F)} {k : TRef sig ⟨S2, .i32⟩} {φ : Draw sig} (h : (drawOps k φ).Forall (Holds M)) :
    rd M φ.v9 = next (rd M k) ∧ rd M φ.g.v4 = gumbel (noiseKey (rd M k))
      ∧ rd M φ.u.v30 = uniform8 (acceptKey (rd M k)) (constant S_ .f32 0x00000000#32) (constant S_ .f32 0x3F800000#32) := by
  simp only [drawOps, List.forall_append] at h
  obtain ⟨hs, ⟨h0, h1, h2, h3, h4, h5⟩, hg, ⟨h6, h7⟩, hu⟩ := h
  rw [rd_reshape h1, rd_unary h0, gumbel_line hg, rd_reshape h3, rd_unary h2, uniform8_line hu, rd_reshape h5, rd_unary h4,
    rd_nullary h6, rd_nullary h7, split_line hs]
  exact ⟨rfl, rfl, rfl⟩

/-- The buffers are numbered from `n` on. -/
def Draw.From (τ : Topo) (φ : Draw sig) (n : Nat) : Prop :=
  φ.s.From τ n ∧ num (Proc.devRef (τ := τ) .tc φ.v8.ref) = n + 238 ∧ num (Proc.devRef (τ := τ) .tc φ.v9.ref) = n + 239
    ∧ num (Proc.devRef (τ := τ) .tc φ.v10.ref) = n + 240 ∧ num (Proc.devRef (τ := τ) .tc φ.v11.ref) = n + 241
    ∧ num (Proc.devRef (τ := τ) .tc φ.v12.ref) = n + 242 ∧ num (Proc.devRef (τ := τ) .tc φ.v13.ref) = n + 243
    ∧ φ.g.From τ (n + 244) ∧ num (Proc.devRef (τ := τ) .tc φ.lo.ref) = n + 516 ∧ num (Proc.devRef (τ := τ) .tc φ.hi.ref) = n + 517
    ∧ φ.u.From τ (n + 518)

instance Draw.decidable_from (φ : Draw sig) (n : Nat) : Decidable (φ.From τ n) := inferInstanceAs (Decidable (_ ∧ _))

theorem draw_fresh {k : TRef sig ⟨S2, .i32⟩} {φ : Draw sig} {n : Nat} (hk : num (Proc.devRef (τ := τ) .tc k.ref) < n)
    (hs : num (Proc.devRef (τ := τ) .tc φ.s.v14.ref) = n + 237) (h : φ.From τ n) :
    Line (drawOps k φ : List (HloOp τ sig (Elt F))) n := by
  obtain ⟨s, a8, a9, a10, a11, a12, a13, g, al, ah, u⟩ := h
  exact line_append_of (a := 238) rfl (split_fresh hk s)
    (line_append_of (a := 6) rfl
      ⟨fresh_unary _ _ _ a8 (num_lt (k := 238) hs (by decide)), fresh_reshape _ _ _ _ a9 (num_lt (k := 239) a8 (by decide)),
        fresh_unary _ _ _ a10 (num_lt (k := 240) hs (by decide)), fresh_reshape _ _ _ _ a11 (num_lt (k := 241) a10 (by decide)),
        fresh_unary _ _ _ a12 (num_lt (k := 242) hs (by decide)), fresh_reshape _ _ _ _ a13 (num_lt (k := 243) a12 (by decide)), trivial⟩
      (line_append_of (a := 272) rfl (gumbel_fresh (num_lt (k := 244) a11 (by decide)) g)
        (line_append_of (a := 2) rfl ⟨fresh_nullary _ _ al, fresh_nullary _ _ ah, trivial⟩
          (uniform8_fresh (num_lt (k := 518) a13 (by decide)) (num_lt (k := 518) al (by decide)) (num_lt (k := 518) ah (by decide)) u))))

end Cert.Rng

end
-- ==== Proof.FloatLine0.lean ====
/- Draws 0 and 1 of the host code before the kernel call, as lines of operations. -/
module

public import proofs.«01_k».proof.Proof.FloatDraws
public import proofs.«01_k».proof.Proof.Gen.Kernel.Launch.Ops01
public import proofs.«01_k».proof.Proof.Gen.Kernel.Launch.Ops02
public import proofs.«01_k».proof.Proof.Gen.Kernel.Launch.Ops03
public import proofs.«01_k».proof.Proof.Gen.Kernel.Launch.Ops04
public import proofs.«01_k».proof.Proof.Gen.Kernel.Launch.Ops05
public import proofs.«01_k».proof.Proof.Gen.Kernel.Launch.Ops06

@[expose] public section

set_option maxRecDepth 33880

noncomputable section

namespace Cert.FloatHost

open Cert.Kernel Cert.Kernel.Gen Cert.Lines Idealize.ShloMosaic Idealize.ShloMosaic.StableHlo

variable {F : FTy → Type} [FloatOps F]

set_option maxHeartbeats 1000000 in
/-- Draw 0 of the host code. -/
theorem ops0 : (hostOps0_1 ++ (hostOps0_2 ++ (hostOps0_3 ++ (hostOps0_4 ++ hostOps0_5))) : List (HloOp τ sig (Elt F)))
    = Rng.drawOps (.of main_v6) draw0 := rfl
theorem line0 : Line (Rng.drawOps (.of main_v6) draw0 : List (HloOp τ sig (Elt F))) 12 :=
  Rng.draw_fresh (by decide) rfl (by decide +kernel)

set_option maxHeartbeats 1000000 in
/-- Draw 1 of the host code. -/
theorem ops1 : (hostOps0_6 ++ (hostOps0_7 ++ (hostOps0_8 ++ (hostOps0_9 ++ hostOps0_10))) : List (HloOp τ sig (Elt F)))
    = Rng.drawOps draw0.v9 draw1 := rfl
theorem line1 : Line (Rng.drawOps draw0.v9 draw1 : List (HloOp τ sig (Elt F))) 787 :=
  Rng.draw_fresh (by decide) rfl (by decide +kernel)

end Cert.FloatHost

end

end
-- ==== Proof.FloatLine1.lean ====
/- Draws 2 and 3 of the host code before the kernel call, as lines of operations. -/
module

public import proofs.«01_k».proof.Proof.FloatDraws
public import proofs.«01_k».proof.Proof.Gen.Kernel.Launch.Ops07
public import proofs.«01_k».proof.Proof.Gen.Kernel.Launch.Ops08
public import proofs.«01_k».proof.Proof.Gen.Kernel.Launch.Ops09
public import proofs.«01_k».proof.Proof.Gen.Kernel.Launch.Ops10
public import proofs.«01_k».proof.Proof.Gen.Kernel.Launch.Ops11
public import proofs.«01_k».proof.Proof.Gen.Kernel.Launch.Ops12

@[expose] public section

set_option maxRecDepth 33880

noncomputable section

namespace Cert.FloatHost

open Cert.Kernel Cert.Kernel.Gen Cert.Lines Idealize.ShloMosaic Idealize.ShloMosaic.StableHlo

variable {F : FTy → Type} [FloatOps F]

set_option maxHeartbeats 1000000 in
/-- Draw 2 of the host code. -/
theorem ops2 : (hostOps0_11 ++ (hostOps0_12 ++ (hostOps0_13 ++ (hostOps0_14 ++ hostOps0_15))) : List (HloOp τ sig (Elt F)))
    = Rng.drawOps draw1.v9 draw2 := rfl
theorem line2 : Line (Rng.drawOps draw1.v9 draw2 : List (HloOp τ sig (Elt F))) 1562 :=
  Rng.draw_fresh (by decide) rfl (by decide +kernel)

set_option maxHeartbeats 1000000 in
/-- Draw 3 of the host code. -/
theorem ops3 : (hostOps0_16 ++ (hostOps0_17 ++ (hostOps0_18 ++ (hostOps0_19 ++ hostOps0_20))) : List (HloOp τ sig (Elt F)))
    = Rng.drawOps draw2.v9 draw3 := rfl
theorem line3 : Line (Rng.drawOps draw2.v9 draw3 : List (HloOp τ sig (Elt F))) 2337 :=
  Rng.draw_fresh (by decide) rfl (by decide +kernel)

end Cert.FloatHost

end

end
-- ==== Proof.FloatLine2.lean ====
/- Draws 4 and 5 of the host code before the kernel call, as lines of operations. -/
module

public import proofs.«01_k».proof.Proof.FloatDraws
public import proofs.«01_k».proof.Proof.Gen.Kernel.Launch.Ops13
public import proofs.«01_k».proof.Proof.Gen.Kernel.Launch.Ops14
public import proofs.«01_k».proof.Proof.Gen.Kernel.Launch.Ops15
public import proofs.«01_k».proof.Proof.Gen.Kernel.Launch.Ops16
public import proofs.«01_k».proof.Proof.Gen.Kernel.Launch.Ops17
public import proofs.«01_k».proof.Proof.Gen.Kernel.Launch.Ops18

@[expose] public section

set_option maxRecDepth 33880

noncomputable section

namespace Cert.FloatHost

open Cert.Kernel Cert.Kernel.Gen Cert.Lines Idealize.ShloMosaic Idealize.ShloMosaic.StableHlo

variable {F : FTy → Type} [FloatOps F]

set_option maxHeartbeats 1000000 in
/-- Draw 4 of the host code. -/
theorem ops4 : (hostOps0_21 ++ (hostOps0_22 ++ (hostOps0_23 ++ (hostOps0_24 ++ hostOps0_25))) : List (HloOp τ sig (Elt F)))
    = Rng.drawOps draw3.v9 draw4 := rfl
theorem line4 : Line (Rng.drawOps draw3.v9 draw4 : List (HloOp τ sig (Elt F))) 3112 :=
  Rng.draw_fresh (by decide) rfl (by decide +kernel)

set_option maxHeartbeats 1000000 in
/-- Draw 5 of the host code. -/
theorem ops5 : (hostOps0_26 ++ (hostOps0_27 ++ (hostOps0_28 ++ (hostOps0_29 ++ hostOps0_30))) : List (HloOp τ sig (Elt F)))
    = Rng.drawOps draw4.v9 draw5 := rfl
theorem line5 : Line (Rng.drawOps draw4.v9 draw5 : List (HloOp τ sig (Elt F))) 3887 :=
  Rng.draw_fresh (by decide) rfl (by decide +kernel)

end Cert.FloatHost

end

end
-- ==== Proof.FloatLine3.lean ====
/- Draws 6 and 7 of the host code before the kernel call, as lines of operations. -/
module

public import proofs.«01_k».proof.Proof.FloatDraws
public import proofs.«01_k».proof.Proof.Gen.Kernel.Launch.Ops19
public import proofs.«01_k».proof.Proof.Gen.Kernel.Launch.Ops20
public import proofs.«01_k».proof.Proof.Gen.Kernel.Launch.Ops21
public import proofs.«01_k».proof.Proof.Gen.Kernel.Launch.Ops22
public import proofs.«01_k».proof.Proof.Gen.Kernel.Launch.Ops23
public import proofs.«01_k».proof.Proof.Gen.Kernel.Launch.Ops24

@[expose] public section

set_option maxRecDepth 33880

noncomputable section

namespace Cert.FloatHost

open Cert.Kernel Cert.Kernel.Gen Cert.Lines Idealize.ShloMosaic Idealize.ShloMosaic.StableHlo

variable {F : FTy → Type} [FloatOps F]

set_option maxHeartbeats 1000000 in
/-- Draw 6 of the host code. -/
theorem ops6 : (hostOps0_31 ++ (hostOps0_32 ++ (hostOps0_33 ++ (hostOps0_34 ++ hostOps0_35))) : List (HloOp τ sig (Elt F)))
    = Rng.drawOps draw5.v9 draw6 := rfl
theorem line6 : Line (Rng.drawOps draw5.v9 draw6 : List (HloOp τ sig (Elt F))) 4662 :=
  Rng.draw_fresh (by decide) rfl (by decide +kernel)

set_option maxHeartbeats 1000000 in
/-- Draw 7 of the host code. -/
theorem ops7 : (hostOps0_36 ++ (hostOps0_37 ++ (hostOps0_38 ++ (hostOps0_39 ++ hostOps0_40))) : List (HloOp τ sig (Elt F)))
    = Rng.drawOps draw6.v9 draw7 := rfl
theorem line7 : Line (Rng.drawOps draw6.v9 draw7 : List (HloOp τ sig (Elt F))) 5437 :=
  Rng.draw_fresh (by decide) rfl (by decide +kernel)

end Cert.FloatHost

end

end
-- ==== Proof.FloatLine4.lean ====
/- Draws 8 and 9 of the host code before the kernel call, as lines of operations. -/
module

public import proofs.«01_k».proof.Proof.FloatDraws
public import proofs.«01_k».proof.Proof.Gen.Kernel.Launch.Ops25
public import proofs.«01_k».proof.Proof.Gen.Kernel.Launch.Ops26
public import proofs.«01_k».proof.Proof.Gen.Kernel.Launch.Ops27
public import proofs.«01_k».proof.Proof.Gen.Kernel.Launch.Ops28
public import proofs.«01_k».proof.Proof.Gen.Kernel.Launch.Ops29
public import proofs.«01_k».proof.Proof.Gen.Kernel.Launch.Ops30

@[expose] public section

set_option maxRecDepth 33880

noncomputable section

namespace Cert.FloatHost

open Cert.Kernel Cert.Kernel.Gen Cert.Lines Idealize.ShloMosaic Idealize.ShloMosaic.StableHlo

variable {F : FTy → Type} [FloatOps F]

set_option maxHeartbeats 1000000 in
/-- Draw 8 of the host code. -/
theorem ops8 : (hostOps0_41 ++ (hostOps0_42 ++ (hostOps0_43 ++ (hostOps0_44 ++ hostOps0_45))) : List (HloOp τ sig (Elt F)))
    = Rng.drawOps draw7.v9 draw8 := rfl
theorem line8 : Line (Rng.drawOps draw7.v9 draw8 : List (HloOp τ sig (Elt F))) 6212 :=
  Rng.draw_fresh (by decide) rfl (by decide +kernel)

set_option maxHeartbeats 1000000 in
/-- Draw 9 of the host code. -/
theorem ops9 : (hostOps0_46 ++ (hostOps0_47 ++ (hostOps0_48 ++ (hostOps0_49 ++ hostOps0_50))) : List (HloOp τ sig (Elt F)))
    = Rng.drawOps draw8.v9 draw9 := rfl
theorem line9 : Line (Rng.drawOps draw8.v9 draw9 : List (HloOp τ sig (Elt F))) 6987 :=
  Rng.draw_fresh (by decide) rfl (by decide +kernel)

end Cert.FloatHost

end

end
-- ==== Proof.FloatHost.lean ====
/- The host code before the kernel call as one line of operations. -/
module

public import proofs.«01_k».proof.Proof.FloatLine0
public import proofs.«01_k».proof.Proof.FloatLine1
public import proofs.«01_k».proof.Proof.FloatLine2
public import proofs.«01_k».proof.Proof.FloatLine3
public import proofs.«01_k».proof.Proof.FloatLine4
public import proofs.«01_k».proof.Proof.Gen.Kernel.Launch.Ops01
public import proofs.«01_k».proof.Proof.Gen.Kernel.Launch.Ops30

@[expose] public section

set_option maxRecDepth 33880

noncomputable section

namespace Cert.FloatHost

open Cert.Kernel Cert.Kernel.Gen Cert.Lines Idealize.ShloMosaic Idealize.ShloMosaic.StableHlo

variable {F : FTy → Type} [FloatOps F]

theorem regroup {α : Type} {a b c d e r l : List α} (h : a ++ (b ++ (c ++ (d ++ e))) = l) :
    a ++ (b ++ (c ++ (d ++ (e ++ r)))) = l ++ r := by subst h; simp only [List.append_assoc]

/-- The host code before the kernel call. -/
abbrev hostOps : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51]

/-- It is the seed, ten draws and the layout of the kernel's operands. -/
theorem hostOps_eq : (hostOps : List (HloOp τ sig (Elt F))) = hostOps0 ++ (Rng.drawOps (.of main_v6) draw0
    ++ (Rng.drawOps draw0.v9 draw1
    ++ (Rng.drawOps draw1.v9 draw2
    ++ (Rng.drawOps draw2.v9 draw3
    ++ (Rng.drawOps draw3.v9 draw4
    ++ (Rng.drawOps draw4.v9 draw5
    ++ (Rng.drawOps draw5.v9 draw6
    ++ (Rng.drawOps draw6.v9 draw7
    ++ (Rng.drawOps draw7.v9 draw8
    ++ (Rng.drawOps draw8.v9 draw9
    ++ hostOps0_51)))))))))) := by
  simp only [hostOps, List.flatten_cons, List.flatten_nil]
  exact congrArg _ ((regroup ops0).trans (congrArg _ ((regroup ops1).trans (congrArg _ ((regroup ops2).trans (congrArg _ ((regroup ops3).trans (congrArg _ ((regroup ops4).trans (congrArg _ ((regroup ops5).trans (congrArg _ ((regroup ops6).trans (congrArg _ ((regroup ops7).trans (congrArg _ ((regroup ops8).trans (congrArg _ ((regroup ops9).trans (congrArg _ (List.append_nil _)))))))))))))))))))))

/-- The seed writes the buffers 2 to 11. -/
theorem head : Line (hostOps0 : List (HloOp τ sig (Elt F))) 2 := by
  repeat' apply And.intro
  all_goals first
    | exact fresh_unary _ _ _ rfl (by decide)
    | exact fresh_nullary _ _ rfl
    | exact fresh_binary _ _ _ _ rfl (by decide) (by decide)
    | exact fresh_reshape _ _ _ _ rfl (by decide)
    | exact fresh_nary _ _ _ _ rfl (by decide)
    | trivial

/-- The layout of the operands writes the buffers 7762 to 7789. -/
theorem tail : Line (hostOps0_51 : List (HloOp τ sig (Elt F))) 7762 := by
  repeat' apply And.intro
  all_goals first
    | exact fresh_unary _ _ _ rfl (by decide)
    | exact fresh_nullary _ _ rfl
    | exact fresh_binary _ _ _ _ rfl (by decide) (by decide)
    | exact fresh_reshape _ _ _ _ rfl (by decide)
    | exact fresh_nary _ _ _ _ rfl (by decide)
    | trivial

/-- The host code writes each buffer once, in the order of their numbers. -/
theorem hostOps_line : Line (hostOps : List (HloOp τ sig (Elt F))) 2 := by
  rw [hostOps_eq]
  exact line_append_of (a := 10) rfl head (line_append_of (a := 775) rfl line0 (line_append_of (a := 775) rfl line1 (line_append_of (a := 775) rfl line2 (line_append_of (a := 775) rfl line3 (line_append_of (a := 775) rfl line4 (line_append_of (a := 775) rfl line5 (line_append_of (a := 775) rfl line6 (line_append_of (a := 775) rfl line7 (line_append_of (a := 775) rfl line8 (line_append_of (a := 775) rfl line9 (tail)))))))))))

end Cert.FloatHost

end

end
-- ==== Proof.FloatRunA.lean ====
/- The run of the kernel body at the first grid point, where it copies its argument into the result first.
   This is the set-up of the launch, kept here because the facts `V_main_arg0` and `V_main_arg1` have proofs of their own: the host
   code before the call is some eight thousand operations long, and is read as one line. -/
module

public import proofs.«01_k».proof.Proof.FloatRuns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple IN CASE A (`scf.if` 0 taken: points 0): on whole staging memrefs — the inputs' at their contents,
    the FORGOTTEN outputs' (4) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1x4x8x32768 .f32) (harg1 : arg1.IsWhole) (arg2 : Memref sig .tc .vmem S1x8x1 .f32) (harg2 : arg2.IsWhole) (arg3 : Memref sig .tc .vmem S8x32768 .f32) (harg3 : arg3.IsWhole) (arg4 : Memref sig .tc .vmem S8x32768 .i32) (harg4 : arg4.IsWhole) (arg5 : Memref sig .tc .vmem S8x32768 .i32) (harg5 : arg5.IsWhole) (hc0 : cond0_0 i)
    (x0 : Vec F S1x4x8x32768 .f32) (x1 : Vec F S1x8x1 .f32) (x2 : Vec F S8x32768 .f32) (x3 : Vec F S8x32768 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)) -∗ K ⟨⟩))
          ⊢ wp frame (wpE (defs₀ (F := F)) Variants.none c none) E (cc0__step_kernel i arg1 harg1 arg2 harg2 arg3 harg3 arg4 harg4 arg5 harg5) K := by
    intro E K
    simp only [cc0__step_kernel_eq_skeleton]; unfold cc0__step_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _, _; isplitr; swap; · iexact H4
    ipureintro; rfl

end Cert.Kernel.Gen

end
-- ==== Proof.FloatRunB.lean ====
/- The run of the kernel body at a later grid point, where it goes on from the result of the point before.
   This is the set-up of the launch, kept here because the facts `V_main_arg0` and `V_main_arg1` have proofs of their own: the host
   code before the call is some eight thousand operations long, and is read as one line. -/
module

public import proofs.«01_k».proof.Proof.FloatRunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple IN CASE B (`scf.if` 0 not taken: points 1, 2, … 9: 9 of 10): on whole staging memrefs — the inputs' at their contents,
    the FORGOTTEN outputs' (4) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1x4x8x32768 .f32) (harg1 : arg1.IsWhole) (arg2 : Memref sig .tc .vmem S1x8x1 .f32) (harg2 : arg2.IsWhole) (arg3 : Memref sig .tc .vmem S8x32768 .f32) (harg3 : arg3.IsWhole) (arg4 : Memref sig .tc .vmem S8x32768 .i32) (harg4 : arg4.IsWhole) (arg5 : Memref sig .tc .vmem S8x32768 .i32) (harg5 : arg5.IsWhole) (hc0 : ¬cond0_0 i)
    (x0 : Vec F S1x4x8x32768 .f32) (x1 : Vec F S1x8x1 .f32) (x2 : Vec F S8x32768 .f32) (x3 : Vec F S8x32768 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)) -∗ K ⟨⟩))
          ⊢ wp frame (wpE (defs₀ (F := F)) Variants.none c none) E (cc0__step_kernel i arg1 harg1 arg2 harg2 arg3 harg3 arg4 harg4 arg5 harg5) K := by
    intro E K
    simp only [cc0__step_kernel_eq_skeleton]; unfold cc0__step_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _, _; isplitr; swap; · iexact H4
    ipureintro; rfl

end Cert.Kernel.Gen

end
-- ==== Proof.FloatFrame.lean ====
/- What each grid point leaves in the result block, the run of the whole program, and its frame.
   This is the set-up of the launch, kept here because the facts `V_main_arg0` and `V_main_arg1` have proofs of their own: the host
   code before the call is some eight thousand operations long, and is read as one line. -/
module

public import proofs.«01_k».proof.Proof.FloatRunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the contents the kernel call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 10 := lt_of_lt_of_eq t.isLt (show cfg0.N = 10 from N_0)
  by_cases h0 : t.val % 10 = 0
  · iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_⟩) (run_main m ρ)
  · have h3 := Pipeline.RDat.FramePost.arr_in h c 3 rfl
    rw [Pipeline.Dat.toRForget_A, A_eq m c 3] at h3
    exact h3.trans (V_main_arg0 m c)
  · exact ((h c).2 main_arg1 (Pipeline.mem_restRefs_of main_arg1 (by decide) (by decide))).trans (V_main_arg1 m c)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Gen

end
-- ==== Proof.IdealDraws.lean ====
/- The buffers of the ten draws of random numbers in the host code before the kernel call. -/
module

public import proofs.«01_k».proof.Proof.Draw
public import proofs.«01_k».proof.Proof.Gen.KernelIdeal

@[expose] public section

set_option maxRecDepth 33880

noncomputable section

namespace Cert.IdealHost

open Cert.KernelIdeal Cert.KernelIdeal.Gen Cert.Lines Idealize.ShloMosaic Idealize.ShloMosaic.StableHlo

/-- The buffers of `fn_threefry2x32`, grouped by rounds. -/
noncomputable abbrev hash3 (φ : fn_threefry2x32.Bufs) : Rng.Threefry sig Rng.S3 :=
  ⟨φ.v0, φ.c, φ.v1, φ.v2, φ.v3, φ.v4, φ.v5, ⟨⟨φ.v6, φ.c_0, φ.v7, φ.v8, φ.c_1, φ.v9, φ.v10, φ.v11, φ.v12⟩, ⟨φ.v13, φ.c_2, φ.v14, φ.v15, φ.c_3, φ.v16, φ.v17, φ.v18, φ.v19⟩, ⟨φ.v20, φ.c_4, φ.v21, φ.v22, φ.c_5, φ.v23, φ.v24, φ.v25, φ.v26⟩, ⟨φ.v27, φ.c_6, φ.v28, φ.v29, φ.c_7, φ.v30, φ.v31, φ.v32, φ.v33⟩, ⟨φ.v34, φ.v35, φ.v36, φ.v37, φ.c_8, φ.v38, φ.v39⟩⟩, ⟨⟨φ.v40, φ.c_9, φ.v41, φ.v42, φ.c_10, φ.v43, φ.v44, φ.v45, φ.v46⟩, ⟨φ.v47, φ.c_11, φ.v48, φ.v49, φ.c_12, φ.v50, φ.v51, φ.v52, φ.v53⟩, ⟨φ.v54, φ.c_13, φ.v55, φ.v56, φ.c_14, φ.v57, φ.v58, φ.v59, φ.v60⟩, ⟨φ.v61, φ.c_15, φ.v62, φ.v63, φ.c_16, φ.v64, φ.v65, φ.v66, φ.v67⟩, ⟨φ.v68, φ.v69, φ.v70, φ.v71, φ.c_17, φ.v72, φ.v73⟩⟩, ⟨⟨φ.v74, φ.c_18, φ.v75, φ.v76, φ.c_19, φ.v77, φ.v78, φ.v79, φ.v80⟩, ⟨φ.v81, φ.c_20, φ.v82, φ.v83, φ.c_21, φ.v84, φ.v85, φ.v86, φ.v87⟩, ⟨φ.v88, φ.c_22, φ.v89, φ.v90, φ.c_23, φ.v91, φ.v92, φ.v93, φ.v94⟩, ⟨φ.v95, φ.c_24, φ.v96, φ.v97, φ.c_25, φ.v98, φ.v99, φ.v100, φ.v101⟩, ⟨φ.v102, φ.v103, φ.v104, φ.v105, φ.c_26, φ.v106, φ.v107⟩⟩, ⟨⟨φ.v108, φ.c_27, φ.v109, φ.v110, φ.c_28, φ.v111, φ.v112, φ.v113, φ.v114⟩, ⟨φ.v115, φ.c_29, φ.v116, φ.v117, φ.c_30, φ.v118, φ.v119, φ.v120, φ.v121⟩, ⟨φ.v122, φ.c_31, φ.v123, φ.v124, φ.c_32, φ.v125, φ.v126, φ.v127, φ.v128⟩, ⟨φ.v129, φ.c_33, φ.v130, φ.v131, φ.c_34, φ.v132, φ.v133, φ.v134, φ.v135⟩, ⟨φ.v136, φ.v137, φ.v138, φ.v139, φ.c_35, φ.v140, φ.v141⟩⟩, ⟨⟨φ.v142, φ.c_36, φ.v143, φ.v144, φ.c_37, φ.v145, φ.v146, φ.v147, φ.v148⟩, ⟨φ.v149, φ.c_38, φ.v150, φ.v151, φ.c_39, φ.v152, φ.v153, φ.v154, φ.v155⟩, ⟨φ.v156, φ.c_40, φ.v157, φ.v158, φ.c_41, φ.v159, φ.v160, φ.v161, φ.v162⟩, ⟨φ.v163, φ.c_42, φ.v164, φ.v165, φ.c_43, φ.v166, φ.v167, φ.v168, φ.v169⟩, ⟨φ.v170, φ.v171, φ.v172, φ.v173, φ.c_44, φ.v174, φ.v175⟩⟩⟩

/-- The buffers of `fn_threefry2x32_0`, grouped by rounds. -/
noncomputable abbrev hashN (φ : fn_threefry2x32_0.Bufs) : Rng.Threefry sig Rng.S8x32768x4 :=
  ⟨φ.v0, φ.c, φ.v1, φ.v2, φ.v3, φ.v4, φ.v5, ⟨⟨φ.v6, φ.c_0, φ.v7, φ.v8, φ.c_1, φ.v9, φ.v10, φ.v11, φ.v12⟩, ⟨φ.v13, φ.c_2, φ.v14, φ.v15, φ.c_3, φ.v16, φ.v17, φ.v18, φ.v19⟩, ⟨φ.v20, φ.c_4, φ.v21, φ.v22, φ.c_5, φ.v23, φ.v24, φ.v25, φ.v26⟩, ⟨φ.v27, φ.c_6, φ.v28, φ.v29, φ.c_7, φ.v30, φ.v31, φ.v32, φ.v33⟩, ⟨φ.v34, φ.v35, φ.v36, φ.v37, φ.c_8, φ.v38, φ.v39⟩⟩, ⟨⟨φ.v40, φ.c_9, φ.v41, φ.v42, φ.c_10, φ.v43, φ.v44, φ.v45, φ.v46⟩, ⟨φ.v47, φ.c_11, φ.v48, φ.v49, φ.c_12, φ.v50, φ.v51, φ.v52, φ.v53⟩, ⟨φ.v54, φ.c_13, φ.v55, φ.v56, φ.c_14, φ.v57, φ.v58, φ.v59, φ.v60⟩, ⟨φ.v61, φ.c_15, φ.v62, φ.v63, φ.c_16, φ.v64, φ.v65, φ.v66, φ.v67⟩, ⟨φ.v68, φ.v69, φ.v70, φ.v71, φ.c_17, φ.v72, φ.v73⟩⟩, ⟨⟨φ.v74, φ.c_18, φ.v75, φ.v76, φ.c_19, φ.v77, φ.v78, φ.v79, φ.v80⟩, ⟨φ.v81, φ.c_20, φ.v82, φ.v83, φ.c_21, φ.v84, φ.v85, φ.v86, φ.v87⟩, ⟨φ.v88, φ.c_22, φ.v89, φ.v90, φ.c_23, φ.v91, φ.v92, φ.v93, φ.v94⟩, ⟨φ.v95, φ.c_24, φ.v96, φ.v97, φ.c_25, φ.v98, φ.v99, φ.v100, φ.v101⟩, ⟨φ.v102, φ.v103, φ.v104, φ.v105, φ.c_26, φ.v106, φ.v107⟩⟩, ⟨⟨φ.v108, φ.c_27, φ.v109, φ.v110, φ.c_28, φ.v111, φ.v112, φ.v113, φ.v114⟩, ⟨φ.v115, φ.c_29, φ.v116, φ.v117, φ.c_30, φ.v118, φ.v119, φ.v120, φ.v121⟩, ⟨φ.v122, φ.c_31, φ.v123, φ.v124, φ.c_32, φ.v125, φ.v126, φ.v127, φ.v128⟩, ⟨φ.v129, φ.c_33, φ.v130, φ.v131, φ.c_34, φ.v132, φ.v133, φ.v134, φ.v135⟩, ⟨φ.v136, φ.v137, φ.v138, φ.v139, φ.c_35, φ.v140, φ.v141⟩⟩, ⟨⟨φ.v142, φ.c_36, φ.v143, φ.v144, φ.c_37, φ.v145, φ.v146, φ.v147, φ.v148⟩, ⟨φ.v149, φ.c_38, φ.v150, φ.v151, φ.c_39, φ.v152, φ.v153, φ.v154, φ.v155⟩, ⟨φ.v156, φ.c_40, φ.v157, φ.v158, φ.c_41, φ.v159, φ.v160, φ.v161, φ.v162⟩, ⟨φ.v163, φ.c_42, φ.v164, φ.v165, φ.c_43, φ.v166, φ.v167, φ.v168, φ.v169⟩, ⟨φ.v170, φ.v171, φ.v172, φ.v173, φ.c_44, φ.v174, φ.v175⟩⟩⟩

/-- The buffers of `fn_threefry2x32_2`, grouped by rounds. -/
noncomputable abbrev hash8 (φ : fn_threefry2x32_2.Bufs) : Rng.Threefry sig Rng.S8 :=
  ⟨φ.v0, φ.c, φ.v1, φ.v2, φ.v3, φ.v4, φ.v5, ⟨⟨φ.v6, φ.c_0, φ.v7, φ.v8, φ.c_1, φ.v9, φ.v10, φ.v11, φ.v12⟩, ⟨φ.v13, φ.c_2, φ.v14, φ.v15, φ.c_3, φ.v16, φ.v17, φ.v18, φ.v19⟩, ⟨φ.v20, φ.c_4, φ.v21, φ.v22, φ.c_5, φ.v23, φ.v24, φ.v25, φ.v26⟩, ⟨φ.v27, φ.c_6, φ.v28, φ.v29, φ.c_7, φ.v30, φ.v31, φ.v32, φ.v33⟩, ⟨φ.v34, φ.v35, φ.v36, φ.v37, φ.c_8, φ.v38, φ.v39⟩⟩, ⟨⟨φ.v40, φ.c_9, φ.v41, φ.v42, φ.c_10, φ.v43, φ.v44, φ.v45, φ.v46⟩, ⟨φ.v47, φ.c_11, φ.v48, φ.v49, φ.c_12, φ.v50, φ.v51, φ.v52, φ.v53⟩, ⟨φ.v54, φ.c_13, φ.v55, φ.v56, φ.c_14, φ.v57, φ.v58, φ.v59, φ.v60⟩, ⟨φ.v61, φ.c_15, φ.v62, φ.v63, φ.c_16, φ.v64, φ.v65, φ.v66, φ.v67⟩, ⟨φ.v68, φ.v69, φ.v70, φ.v71, φ.c_17, φ.v72, φ.v73⟩⟩, ⟨⟨φ.v74, φ.c_18, φ.v75, φ.v76, φ.c_19, φ.v77, φ.v78, φ.v79, φ.v80⟩, ⟨φ.v81, φ.c_20, φ.v82, φ.v83, φ.c_21, φ.v84, φ.v85, φ.v86, φ.v87⟩, ⟨φ.v88, φ.c_22, φ.v89, φ.v90, φ.c_23, φ.v91, φ.v92, φ.v93, φ.v94⟩, ⟨φ.v95, φ.c_24, φ.v96, φ.v97, φ.c_25, φ.v98, φ.v99, φ.v100, φ.v101⟩, ⟨φ.v102, φ.v103, φ.v104, φ.v105, φ.c_26, φ.v106, φ.v107⟩⟩, ⟨⟨φ.v108, φ.c_27, φ.v109, φ.v110, φ.c_28, φ.v111, φ.v112, φ.v113, φ.v114⟩, ⟨φ.v115, φ.c_29, φ.v116, φ.v117, φ.c_30, φ.v118, φ.v119, φ.v120, φ.v121⟩, ⟨φ.v122, φ.c_31, φ.v123, φ.v124, φ.c_32, φ.v125, φ.v126, φ.v127, φ.v128⟩, ⟨φ.v129, φ.c_33, φ.v130, φ.v131, φ.c_34, φ.v132, φ.v133, φ.v134, φ.v135⟩, ⟨φ.v136, φ.v137, φ.v138, φ.v139, φ.c_35, φ.v140, φ.v141⟩⟩, ⟨⟨φ.v142, φ.c_36, φ.v143, φ.v144, φ.c_37, φ.v145, φ.v146, φ.v147, φ.v148⟩, ⟨φ.v149, φ.c_38, φ.v150, φ.v151, φ.c_39, φ.v152, φ.v153, φ.v154, φ.v155⟩, ⟨φ.v156, φ.c_40, φ.v157, φ.v158, φ.c_41, φ.v159, φ.v160, φ.v161, φ.v162⟩, ⟨φ.v163, φ.c_42, φ.v164, φ.v165, φ.c_43, φ.v166, φ.v167, φ.v168, φ.v169⟩, ⟨φ.v170, φ.v171, φ.v172, φ.v173, φ.c_44, φ.v174, φ.v175⟩⟩⟩

noncomputable abbrev split (φ : fn_threefry_split.Bufs) : Rng.Split sig := ⟨φ.v0, φ.v1, φ.v2, φ.v3, φ.v4, φ.c, φ.v5, φ.v6, φ.c_0, φ.v7, φ.v8, φ.v9, φ.v10, hash3 φ.call0, φ.v12, φ.v13, φ.v14⟩

noncomputable abbrev splitB (φ : fn_threefry_split_3.Bufs) : Rng.Split sig := ⟨φ.v0, φ.v1, φ.v2, φ.v3, φ.v4, φ.c, φ.v5, φ.v6, φ.c_0, φ.v7, φ.v8, φ.v9, φ.v10, hash3 φ.call0, φ.v12, φ.v13, φ.v14⟩

noncomputable abbrev uni (φ : fn_uniform.Bufs) : Rng.Uniform sig := ⟨φ.v0, φ.v1, φ.v2, φ.v3, φ.v4, φ.v5, φ.v6, φ.v7, φ.v8, φ.v9, φ.c, φ.v10, φ.v11, φ.c_0, φ.v12, φ.v13, φ.c_1, φ.v14, φ.v15, φ.v16, φ.v17, φ.c_2, φ.v18, φ.v19, φ.v20, φ.v21, hashN φ.call0, φ.v23, φ.c_3, φ.v24, φ.v25, φ.c_4, φ.v26, φ.v27, φ.v28, φ.cst, φ.v29, φ.v30, φ.v31, φ.v32, φ.v33, φ.v34, φ.v35, φ.v36, φ.v37⟩

noncomputable abbrev gum (φ : fn_gumbel.Bufs) : Rng.Gumbel sig := ⟨φ.cst, φ.cst_0, uni φ.call0, φ.v1, φ.v2, φ.v3, φ.v4⟩

noncomputable abbrev acc (φ : fn_uniform_1.Bufs) : Rng.Uniform8 sig := ⟨φ.v0, φ.v1, φ.v2, φ.v3, φ.v4, φ.v5, φ.v6, φ.v7, φ.v8, φ.c, φ.v9, φ.v10, φ.c_0, φ.v11, φ.v12, φ.v13, φ.v14, hash8 φ.call0, φ.v16, φ.c_1, φ.v17, φ.v18, φ.c_2, φ.v19, φ.v20, φ.v21, φ.cst, φ.v22, φ.v23, φ.v24, φ.v25, φ.v26, φ.v27, φ.v28, φ.v29, φ.v30⟩

/-- The buffers of draw 0. -/
abbrev draw0 : Rng.Draw sig :=
  ⟨split main_call0, .of main_v8, .of main_v9, .of main_v10, .of main_v11, .of main_v12, .of main_v13, gum main_call1,
    .of main_cst, .of main_cst_2, acc main_call2⟩

/-- The buffers of draw 1. -/
abbrev draw1 : Rng.Draw sig :=
  ⟨splitB main_call3, .of main_v17, .of main_v18, .of main_v19, .of main_v20, .of main_v21, .of main_v22, gum main_call4,
    .of main_cst_3, .of main_cst_4, acc main_call5⟩

/-- The buffers of draw 2. -/
abbrev draw2 : Rng.Draw sig :=
  ⟨splitB main_call6, .of main_v26, .of main_v27, .of main_v28, .of main_v29, .of main_v30, .of main_v31, gum main_call7,
    .of main_cst_5, .of main_cst_6, acc main_call8⟩

/-- The buffers of draw 3. -/
abbrev draw3 : Rng.Draw sig :=
  ⟨splitB main_call9, .of main_v35, .of main_v36, .of main_v37, .of main_v38, .of main_v39, .of main_v40, gum main_call10,
    .of main_cst_7, .of main_cst_8, acc main_call11⟩

/-- The buffers of draw 4. -/
abbrev draw4 : Rng.Draw sig :=
  ⟨splitB main_call12, .of main_v44, .of main_v45, .of main_v46, .of main_v47, .of main_v48, .of main_v49, gum main_call13,
    .of main_cst_9, .of main_cst_10, acc main_call14⟩

/-- The buffers of draw 5. -/
abbrev draw5 : Rng.Draw sig :=
  ⟨splitB main_call15, .of main_v53, .of main_v54, .of main_v55, .of main_v56, .of main_v57, .of main_v58, gum main_call16,
    .of main_cst_11, .of main_cst_12, acc main_call17⟩

/-- The buffers of draw 6. -/
abbrev draw6 : Rng.Draw sig :=
  ⟨splitB main_call18, .of main_v62, .of main_v63, .of main_v64, .of main_v65, .of main_v66, .of main_v67, gum main_call19,
    .of main_cst_13, .of main_cst_14, acc main_call20⟩

/-- The buffers of draw 7. -/
abbrev draw7 : Rng.Draw sig :=
  ⟨splitB main_call21, .of main_v71, .of main_v72, .of main_v73, .of main_v74, .of main_v75, .of main_v76, gum main_call22,
    .of main_cst_15, .of main_cst_16, acc main_call23⟩

/-- The buffers of draw 8. -/
abbrev draw8 : Rng.Draw sig :=
  ⟨splitB main_call24, .of main_v80, .of main_v81, .of main_v82, .of main_v83, .of main_v84, .of main_v85, gum main_call25,
    .of main_cst_17, .of main_cst_18, acc main_call26⟩

/-- The buffers of draw 9. -/
abbrev draw9 : Rng.Draw sig :=
  ⟨splitB main_call27, .of main_v89, .of main_v90, .of main_v91, .of main_v92, .of main_v93, .of main_v94, gum main_call28,
    .of main_cst_19, .of main_cst_20, acc main_call29⟩

end Cert.IdealHost

end

end
-- ==== Proof.IdealLine0.lean ====
/- Draws 0 and 1 of the host code before the kernel call, as lines of operations. -/
module

public import proofs.«01_k».proof.Proof.Gen.KernelIdeal.Launch.Ops01
public import proofs.«01_k».proof.Proof.Gen.KernelIdeal.Launch.Ops02
public import proofs.«01_k».proof.Proof.Gen.KernelIdeal.Launch.Ops03
public import proofs.«01_k».proof.Proof.Gen.KernelIdeal.Launch.Ops04
public import proofs.«01_k».proof.Proof.Gen.KernelIdeal.Launch.Ops05
public import proofs.«01_k».proof.Proof.Gen.KernelIdeal.Launch.Ops06
public import proofs.«01_k».proof.Proof.IdealDraws

@[expose] public section

set_option maxRecDepth 33880

noncomputable section

namespace Cert.IdealHost

open Cert.KernelIdeal Cert.KernelIdeal.Gen Cert.Lines Idealize.ShloMosaic Idealize.ShloMosaic.StableHlo

variable {F : FTy → Type} [FloatOps F] [Named F]

set_option maxHeartbeats 1000000 in
/-- Draw 0 of the host code. -/
theorem ops0 : (hostOps0_1 ++ (hostOps0_2 ++ (hostOps0_3 ++ (hostOps0_4 ++ hostOps0_5))) : List (HloOp τ sig (Elt F)))
    = Rng.drawOps (.of main_v6) draw0 := rfl
theorem line0 : Line (Rng.drawOps (.of main_v6) draw0 : List (HloOp τ sig (Elt F))) 12 :=
  Rng.draw_fresh (by decide) rfl (by decide +kernel)

set_option maxHeartbeats 1000000 in
/-- Draw 1 of the host code. -/
theorem ops1 : (hostOps0_6 ++ (hostOps0_7 ++ (hostOps0_8 ++ (hostOps0_9 ++ hostOps0_10))) : List (HloOp τ sig (Elt F)))
    = Rng.drawOps draw0.v9 draw1 := rfl
theorem line1 : Line (Rng.drawOps draw0.v9 draw1 : List (HloOp τ sig (Elt F))) 787 :=
  Rng.draw_fresh (by decide) rfl (by decide +kernel)

end Cert.IdealHost

end

end
-- ==== Proof.IdealLine1.lean ====
/- Draws 2 and 3 of the host code before the kernel call, as lines of operations. -/
module

public import proofs.«01_k».proof.Proof.Gen.KernelIdeal.Launch.Ops07
public import proofs.«01_k».proof.Proof.Gen.KernelIdeal.Launch.Ops08
public import proofs.«01_k».proof.Proof.Gen.KernelIdeal.Launch.Ops09
public import proofs.«01_k».proof.Proof.Gen.KernelIdeal.Launch.Ops10
public import proofs.«01_k».proof.Proof.Gen.KernelIdeal.Launch.Ops11
public import proofs.«01_k».proof.Proof.Gen.KernelIdeal.Launch.Ops12
public import proofs.«01_k».proof.Proof.IdealDraws

@[expose] public section

set_option maxRecDepth 33880

noncomputable section

namespace Cert.IdealHost

open Cert.KernelIdeal Cert.KernelIdeal.Gen Cert.Lines Idealize.ShloMosaic Idealize.ShloMosaic.StableHlo

variable {F : FTy → Type} [FloatOps F] [Named F]

set_option maxHeartbeats 1000000 in
/-- Draw 2 of the host code. -/
theorem ops2 : (hostOps0_11 ++ (hostOps0_12 ++ (hostOps0_13 ++ (hostOps0_14 ++ hostOps0_15))) : List (HloOp τ sig (Elt F)))
    = Rng.drawOps draw1.v9 draw2 := rfl
theorem line2 : Line (Rng.drawOps draw1.v9 draw2 : List (HloOp τ sig (Elt F))) 1562 :=
  Rng.draw_fresh (by decide) rfl (by decide +kernel)

set_option maxHeartbeats 1000000 in
/-- Draw 3 of the host code. -/
theorem ops3 : (hostOps0_16 ++ (hostOps0_17 ++ (hostOps0_18 ++ (hostOps0_19 ++ hostOps0_20))) : List (HloOp τ sig (Elt F)))
    = Rng.drawOps draw2.v9 draw3 := rfl
theorem line3 : Line (Rng.drawOps draw2.v9 draw3 : List (HloOp τ sig (Elt F))) 2337 :=
  Rng.draw_fresh (by decide) rfl (by decide +kernel)

end Cert.IdealHost

end

end
-- ==== Proof.IdealLine2.lean ====
/- Draws 4 and 5 of the host code before the kernel call, as lines of operations. -/
module

public import proofs.«01_k».proof.Proof.Gen.KernelIdeal.Launch.Ops13
public import proofs.«01_k».proof.Proof.Gen.KernelIdeal.Launch.Ops14
public import proofs.«01_k».proof.Proof.Gen.KernelIdeal.Launch.Ops15
public import proofs.«01_k».proof.Proof.Gen.KernelIdeal.Launch.Ops16
public import proofs.«01_k».proof.Proof.Gen.KernelIdeal.Launch.Ops17
public import proofs.«01_k».proof.Proof.Gen.KernelIdeal.Launch.Ops18
public import proofs.«01_k».proof.Proof.IdealDraws

@[expose] public section

set_option maxRecDepth 33880

noncomputable section

namespace Cert.IdealHost

open Cert.KernelIdeal Cert.KernelIdeal.Gen Cert.Lines Idealize.ShloMosaic Idealize.ShloMosaic.StableHlo

variable {F : FTy → Type} [FloatOps F] [Named F]

set_option maxHeartbeats 1000000 in
/-- Draw 4 of the host code. -/
theorem ops4 : (hostOps0_21 ++ (hostOps0_22 ++ (hostOps0_23 ++ (hostOps0_24 ++ hostOps0_25))) : List (HloOp τ sig (Elt F)))
    = Rng.drawOps draw3.v9 draw4 := rfl
theorem line4 : Line (Rng.drawOps draw3.v9 draw4 : List (HloOp τ sig (Elt F))) 3112 :=
  Rng.draw_fresh (by decide) rfl (by decide +kernel)

set_option maxHeartbeats 1000000 in
/-- Draw 5 of the host code. -/
theorem ops5 : (hostOps0_26 ++ (hostOps0_27 ++ (hostOps0_28 ++ (hostOps0_29 ++ hostOps0_30))) : List (HloOp τ sig (Elt F)))
    = Rng.drawOps draw4.v9 draw5 := rfl
theorem line5 : Line (Rng.drawOps draw4.v9 draw5 : List (HloOp τ sig (Elt F))) 3887 :=
  Rng.draw_fresh (by decide) rfl (by decide +kernel)

end Cert.IdealHost

end

end
-- ==== Proof.IdealLine3.lean ====
/- Draws 6 and 7 of the host code before the kernel call, as lines of operations. -/
module

public import proofs.«01_k».proof.Proof.Gen.KernelIdeal.Launch.Ops19
public import proofs.«01_k».proof.Proof.Gen.KernelIdeal.Launch.Ops20
public import proofs.«01_k».proof.Proof.Gen.KernelIdeal.Launch.Ops21
public import proofs.«01_k».proof.Proof.Gen.KernelIdeal.Launch.Ops22
public import proofs.«01_k».proof.Proof.Gen.KernelIdeal.Launch.Ops23
public import proofs.«01_k».proof.Proof.Gen.KernelIdeal.Launch.Ops24
public import proofs.«01_k».proof.Proof.IdealDraws

@[expose] public section

set_option maxRecDepth 33880

noncomputable section

namespace Cert.IdealHost

open Cert.KernelIdeal Cert.KernelIdeal.Gen Cert.Lines Idealize.ShloMosaic Idealize.ShloMosaic.StableHlo

variable {F : FTy → Type} [FloatOps F] [Named F]

set_option maxHeartbeats 1000000 in
/-- Draw 6 of the host code. -/
theorem ops6 : (hostOps0_31 ++ (hostOps0_32 ++ (hostOps0_33 ++ (hostOps0_34 ++ hostOps0_35))) : List (HloOp τ sig (Elt F)))
    = Rng.drawOps draw5.v9 draw6 := rfl
theorem line6 : Line (Rng.drawOps draw5.v9 draw6 : List (HloOp τ sig (Elt F))) 4662 :=
  Rng.draw_fresh (by decide) rfl (by decide +kernel)

set_option maxHeartbeats 1000000 in
/-- Draw 7 of the host code. -/
theorem ops7 : (hostOps0_36 ++ (hostOps0_37 ++ (hostOps0_38 ++ (hostOps0_39 ++ hostOps0_40))) : List (HloOp τ sig (Elt F)))
    = Rng.drawOps draw6.v9 draw7 := rfl
theorem line7 : Line (Rng.drawOps draw6.v9 draw7 : List (HloOp τ sig (Elt F))) 5437 :=
  Rng.draw_fresh (by decide) rfl (by decide +kernel)

end Cert.IdealHost

end

end
-- ==== Proof.IdealLine4.lean ====
/- Draws 8 and 9 of the host code before the kernel call, as lines of operations. -/
module

public import proofs.«01_k».proof.Proof.Gen.KernelIdeal.Launch.Ops25
public import proofs.«01_k».proof.Proof.Gen.KernelIdeal.Launch.Ops26
public import proofs.«01_k».proof.Proof.Gen.KernelIdeal.Launch.Ops27
public import proofs.«01_k».proof.Proof.Gen.KernelIdeal.Launch.Ops28
public import proofs.«01_k».proof.Proof.Gen.KernelIdeal.Launch.Ops29
public import proofs.«01_k».proof.Proof.Gen.KernelIdeal.Launch.Ops30
public import proofs.«01_k».proof.Proof.IdealDraws

@[expose] public section

set_option maxRecDepth 33880

noncomputable section

namespace Cert.IdealHost

open Cert.KernelIdeal Cert.KernelIdeal.Gen Cert.Lines Idealize.ShloMosaic Idealize.ShloMosaic.StableHlo

variable {F : FTy → Type} [FloatOps F] [Named F]

set_option maxHeartbeats 1000000 in
/-- Draw 8 of the host code. -/
theorem ops8 : (hostOps0_41 ++ (hostOps0_42 ++ (hostOps0_43 ++ (hostOps0_44 ++ hostOps0_45))) : List (HloOp τ sig (Elt F)))
    = Rng.drawOps draw7.v9 draw8 := rfl
theorem line8 : Line (Rng.drawOps draw7.v9 draw8 : List (HloOp τ sig (Elt F))) 6212 :=
  Rng.draw_fresh (by decide) rfl (by decide +kernel)

set_option maxHeartbeats 1000000 in
/-- Draw 9 of the host code. -/
theorem ops9 : (hostOps0_46 ++ (hostOps0_47 ++ (hostOps0_48 ++ (hostOps0_49 ++ hostOps0_50))) : List (HloOp τ sig (Elt F)))
    = Rng.drawOps draw8.v9 draw9 := rfl
theorem line9 : Line (Rng.drawOps draw8.v9 draw9 : List (HloOp τ sig (Elt F))) 6987 :=
  Rng.draw_fresh (by decide) rfl (by decide +kernel)

end Cert.IdealHost

end

end
-- ==== Proof.IdealHost.lean ====
/- The host code before the kernel call as one line of operations. -/
module

public import proofs.«01_k».proof.Proof.IdealLine0
public import proofs.«01_k».proof.Proof.IdealLine1
public import proofs.«01_k».proof.Proof.IdealLine2
public import proofs.«01_k».proof.Proof.IdealLine3
public import proofs.«01_k».proof.Proof.IdealLine4
public import proofs.«01_k».proof.Proof.Gen.KernelIdeal.Launch.Ops01
public import proofs.«01_k».proof.Proof.Gen.KernelIdeal.Launch.Ops30

@[expose] public section

set_option maxRecDepth 33880

noncomputable section

namespace Cert.IdealHost

open Cert.KernelIdeal Cert.KernelIdeal.Gen Cert.Lines Idealize.ShloMosaic Idealize.ShloMosaic.StableHlo

variable {F : FTy → Type} [FloatOps F] [Named F]

theorem regroup {α : Type} {a b c d e r l : List α} (h : a ++ (b ++ (c ++ (d ++ e))) = l) :
    a ++ (b ++ (c ++ (d ++ (e ++ r)))) = l ++ r := by subst h; simp only [List.append_assoc]

/-- The host code before the kernel call. -/
abbrev hostOps : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51]

/-- It is the seed, ten draws and the layout of the kernel's operands. -/
theorem hostOps_eq : (hostOps : List (HloOp τ sig (Elt F))) = hostOps0 ++ (Rng.drawOps (.of main_v6) draw0
    ++ (Rng.drawOps draw0.v9 draw1
    ++ (Rng.drawOps draw1.v9 draw2
    ++ (Rng.drawOps draw2.v9 draw3
    ++ (Rng.drawOps draw3.v9 draw4
    ++ (Rng.drawOps draw4.v9 draw5
    ++ (Rng.drawOps draw5.v9 draw6
    ++ (Rng.drawOps draw6.v9 draw7
    ++ (Rng.drawOps draw7.v9 draw8
    ++ (Rng.drawOps draw8.v9 draw9
    ++ hostOps0_51)))))))))) := by
  simp only [hostOps, List.flatten_cons, List.flatten_nil]
  exact congrArg _ ((regroup ops0).trans (congrArg _ ((regroup ops1).trans (congrArg _ ((regroup ops2).trans (congrArg _ ((regroup ops3).trans (congrArg _ ((regroup ops4).trans (congrArg _ ((regroup ops5).trans (congrArg _ ((regroup ops6).trans (congrArg _ ((regroup ops7).trans (congrArg _ ((regroup ops8).trans (congrArg _ ((regroup ops9).trans (congrArg _ (List.append_nil _)))))))))))))))))))))

/-- The seed writes the buffers 2 to 11. -/
theorem head : Line (hostOps0 : List (HloOp τ sig (Elt F))) 2 := by
  repeat' apply And.intro
  all_goals first
    | exact fresh_unary _ _ _ rfl (by decide)
    | exact fresh_nullary _ _ rfl
    | exact fresh_binary _ _ _ _ rfl (by decide) (by decide)
    | exact fresh_reshape _ _ _ _ rfl (by decide)
    | exact fresh_nary _ _ _ _ rfl (by decide)
    | trivial

/-- The layout of the operands writes the buffers 7762 to 7789. -/
theorem tail : Line (hostOps0_51 : List (HloOp τ sig (Elt F))) 7762 := by
  repeat' apply And.intro
  all_goals first
    | exact fresh_unary _ _ _ rfl (by decide)
    | exact fresh_nullary _ _ rfl
    | exact fresh_binary _ _ _ _ rfl (by decide) (by decide)
    | exact fresh_reshape _ _ _ _ rfl (by decide)
    | exact fresh_nary _ _ _ _ rfl (by decide)
    | trivial

/-- The host code writes each buffer once, in the order of their numbers. -/
theorem hostOps_line : Line (hostOps : List (HloOp τ sig (Elt F))) 2 := by
  rw [hostOps_eq]
  exact line_append_of (a := 10) rfl head (line_append_of (a := 775) rfl line0 (line_append_of (a := 775) rfl line1 (line_append_of (a := 775) rfl line2 (line_append_of (a := 775) rfl line3 (line_append_of (a := 775) rfl line4 (line_append_of (a := 775) rfl line5 (line_append_of (a := 775) rfl line6 (line_append_of (a := 775) rfl line7 (line_append_of (a := 775) rfl line8 (line_append_of (a := 775) rfl line9 (tail)))))))))))

end Cert.IdealHost

end

end
-- ==== Proof.IdealRuns.lean ====
/- What the runs of the kernel body share: the host lines up to the kernel call, the contents the call finds, the blocks its
   windows read, and the branch condition.
   This is the set-up of the launch, kept here because the facts `V_main_arg0` and `V_main_arg1` have proofs of their own: the host code
   before the call is some eight thousand operations long, and is read as one line. -/
module

public import proofs.«01_k».proof.Proof.IdealHost
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`, `hostOps0_21`, `hostOps0_22`, `hostOps0_23`, `hostOps0_24`, `hostOps0_25`, `hostOps0_26`, `hostOps0_27`, `hostOps0_28`, `hostOps0_29`, `hostOps0_30`, `hostOps0_31`, `hostOps0_32`, `hostOps0_33`, `hostOps0_34`, `hostOps0_35`, `hostOps0_36`, `hostOps0_37`, `hostOps0_38`, `hostOps0_39`, `hostOps0_40`, `hostOps0_41`, `hostOps0_42`, `hostOps0_43`, `hostOps0_44`, `hostOps0_45`, `hostOps0_46`, `hostOps0_47`, `hostOps0_48`, `hostOps0_49`, `hostOps0_50`, `hostOps0_51`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh⟩) main_chain

/-- No host operation before the region writes `main_arg0`: the region finds it as launched. -/
theorem V_main_arg0 (c : Dev nD) : V m c main_arg0 = m ((c : Thread nD τ).loc main_arg0) :=
  Lines.after_kept Cert.IdealHost.hostOps_line _ _ (by decide)
/-- No host operation before the region writes `main_arg1`: the region finds it as launched. -/
theorem V_main_arg1 (c : Dev nD) : V m c main_arg1 = m ((c : Thread nD τ).loc main_arg1) :=
  Lines.after_kept Cert.IdealHost.hostOps_line _ _ (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 3).trans (((dats 0 c).arrAt_in 3 rfl _).trans ((hA c 3).trans (V_main_arg0 m c))),
      ((h c).2 main_arg1 (Pipeline.mem_restRefs_of main_arg1 (by decide) (by decide))).trans (V_main_arg1 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-! ## The kernel body on any staging memrefs: a subtype the run finds -/

/-- One staging buffer of output window 4, through which its contents are stated (`View.read_writes_of_cover`: the
    choice does not matter). -/
abbrev VO0_4 : View sig .tc .vmem S8x32768 .i32 := (Memref.whole cc0_stg4_0 : Memref sig .tc .vmem S8x32768 .i32).view
/-- Each window's current staging memref at point `t`, spelled as the pipeline passes it (`bodyAt0`), and its wholeness. -/
abbrev ms0_0 (t : Fin cfg0.N) : Memref sig .tc .vmem S1x4x8x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x32768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x32768 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x32768 .i32 := win0_4.stage (cfg0.slots t 4)
abbrev hs0_4 (t : Fin cfg0.N) : (ms0_4 t).IsWhole := hstage0_4 ((cfg0.slots t 4).cast nbuf0_4)

end Cert.KernelIdeal.Gen

end
-- ==== Proof.IdealRunA.lean ====
/- The run of the kernel body at the first grid point, where it copies its argument into the result first.
   This is the set-up of the launch, kept here because the facts `V_main_arg0` and `V_main_arg1` have proofs of their own: the host code
   before the call is some eight thousand operations long, and is read as one line. -/
module

public import proofs.«01_k».proof.Proof.IdealRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x4x8x32768 .f32) (harg1 : arg1.IsWhole) (arg2 : Memref sig .tc .vmem S1x8x1 .f32) (harg2 : arg2.IsWhole) (arg3 : Memref sig .tc .vmem S8x32768 .f32) (harg3 : arg3.IsWhole) (arg4 : Memref sig .tc .vmem S8x32768 .i32) (harg4 : arg4.IsWhole) (arg5 : Memref sig .tc .vmem S8x32768 .i32) (harg5 : arg5.IsWhole) (hc0 : cond0_0 i)
    (x0 : Vec F S1x4x8x32768 .f32) (x1 : Vec F S1x8x1 .f32) (x2 : Vec F S8x32768 .f32) (x3 : Vec F S8x32768 .i32) :
    { L4 : List (View.Piece (Elt F) S8x32768 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__step_kernel i arg1 harg1 arg2 harg2 arg3 harg3 arg4 harg4 arg5 harg5) K } := by
  refine ⟨?_, fun E K => ?run⟩
  case run =>
    simp only [cc0__step_kernel_eq_skeleton]; unfold cc0__step_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Gen

end
-- ==== Proof.IdealRunB.lean ====
/- The run of the kernel body at a later grid point, where it goes on from the result of the point before.
   This is the set-up of the launch, kept here because the facts `V_main_arg0` and `V_main_arg1` have proofs of their own: the host code
   before the call is some eight thousand operations long, and is read as one line. -/
module

public import proofs.«01_k».proof.Proof.IdealRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE B (`scf.if` 0 not taken: points 1, 2, … 9: 9 of 10), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x4x8x32768 .f32) (harg1 : arg1.IsWhole) (arg2 : Memref sig .tc .vmem S1x8x1 .f32) (harg2 : arg2.IsWhole) (arg3 : Memref sig .tc .vmem S8x32768 .f32) (harg3 : arg3.IsWhole) (arg4 : Memref sig .tc .vmem S8x32768 .i32) (harg4 : arg4.IsWhole) (arg5 : Memref sig .tc .vmem S8x32768 .i32) (harg5 : arg5.IsWhole) (hc0 : ¬cond0_0 i)
    (x0 : Vec F S1x4x8x32768 .f32) (x1 : Vec F S1x8x1 .f32) (x2 : Vec F S8x32768 .f32) (x3 : Vec F S8x32768 .i32) (xo4 : Vec F S8x32768 .i32) :
    { L4 : List (View.Piece (Elt F) S8x32768 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__step_kernel i arg1 harg1 arg2 harg2 arg3 harg3 arg4 harg4 arg5 harg5) K } := by
  refine ⟨?_, fun E K => ?run⟩
  case run =>
    simp only [cc0__step_kernel_eq_skeleton]; unfold cc0__step_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Gen

end
-- ==== Proof.IdealFrame.lean ====
/- What each grid point leaves in the result block, the run of the whole program, and its frame.
   This is the set-up of the launch, kept here because the facts `V_main_arg0` and `V_main_arg1` have proofs of their own: the host code
   before the call is some eight thousand operations long, and is read as one line. -/
module

public import proofs.«01_k».proof.Proof.IdealRunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 4 tile its block (2 stores of `S8x32768`), so they cover it. -/
theorem cover0_A_4 (c : Dev nD) (i : grid0.Coords) (arg1 : Memref sig .tc .vmem S1x4x8x32768 .f32) (harg1 : arg1.IsWhole) (arg2 : Memref sig .tc .vmem S1x8x1 .f32) (harg2 : arg2.IsWhole) (arg3 : Memref sig .tc .vmem S8x32768 .f32) (harg3 : arg3.IsWhole) (arg4 : Memref sig .tc .vmem S8x32768 .i32) (harg4 : arg4.IsWhole) (arg5 : Memref sig .tc .vmem S8x32768 .i32) (harg5 : arg5.IsWhole) (hc0 : cond0_0 i)
    (x0 : Vec F S1x4x8x32768 .f32) (x1 : Vec F S1x8x1 .f32) (x2 : Vec F S8x32768 .f32) (x3 : Vec F S8x32768 .i32) (y : S8x32768.Idx) :
    ∃ pc ∈ (kernelRun0_A c i arg1 harg1 arg2 harg2 arg3 harg3 arg4 harg4 arg5 harg5 hc0 x0 x1 x2 x3).1, y ∈ pc.1.set :=
  View.cover_of_tiledL (kernelRun0_A c i arg1 harg1 arg2 harg2 arg3 harg3 arg4 harg4 arg5 harg5 hc0 x0 x1 x2 x3).1 S8x32768.size (by sl_kernel_rfl) y

/-- What case A leaves in output 4's staging buffer: its pieces read back over junk. -/
def out0_A_4 (c : Dev nD) (i : grid0.Coords) (arg1 : Memref sig .tc .vmem S1x4x8x32768 .f32) (harg1 : arg1.IsWhole) (arg2 : Memref sig .tc .vmem S1x8x1 .f32) (harg2 : arg2.IsWhole) (arg3 : Memref sig .tc .vmem S8x32768 .f32) (harg3 : arg3.IsWhole) (arg4 : Memref sig .tc .vmem S8x32768 .i32) (harg4 : arg4.IsWhole) (arg5 : Memref sig .tc .vmem S8x32768 .i32) (harg5 : arg5.IsWhole) (hc0 : cond0_0 i)
    (x0 : Vec F S1x4x8x32768 .f32) (x1 : Vec F S1x8x1 .f32) (x2 : Vec F S8x32768 .f32) (x3 : Vec F S8x32768 .i32) : Vec F S8x32768 .i32 :=
  VO0_4.read (Elt F) (VO0_4.writes (Elt F) VO0_4.junk (kernelRun0_A c i arg1 harg1 arg2 harg2 arg3 harg3 arg4 harg4 arg5 harg5 hc0 x0 x1 x2 x3).1)

/-- Case B's pieces for output 4 tile its block (1 store of `S8x32768`), so they cover it. -/
theorem cover0_B_4 (c : Dev nD) (i : grid0.Coords) (arg1 : Memref sig .tc .vmem S1x4x8x32768 .f32) (harg1 : arg1.IsWhole) (arg2 : Memref sig .tc .vmem S1x8x1 .f32) (harg2 : arg2.IsWhole) (arg3 : Memref sig .tc .vmem S8x32768 .f32) (harg3 : arg3.IsWhole) (arg4 : Memref sig .tc .vmem S8x32768 .i32) (harg4 : arg4.IsWhole) (arg5 : Memref sig .tc .vmem S8x32768 .i32) (harg5 : arg5.IsWhole) (hc0 : ¬cond0_0 i)
    (x0 : Vec F S1x4x8x32768 .f32) (x1 : Vec F S1x8x1 .f32) (x2 : Vec F S8x32768 .f32) (x3 : Vec F S8x32768 .i32) (xo4 : Vec F S8x32768 .i32) (y : S8x32768.Idx) :
    ∃ pc ∈ (kernelRun0_B c i arg1 harg1 arg2 harg2 arg3 harg3 arg4 harg4 arg5 harg5 hc0 x0 x1 x2 x3 xo4).1, y ∈ pc.1.set :=
  View.cover_of_tiledL (kernelRun0_B c i arg1 harg1 arg2 harg2 arg3 harg3 arg4 harg4 arg5 harg5 hc0 x0 x1 x2 x3 xo4).1 S8x32768.size (by sl_kernel_rfl) y

/-- What case B leaves in output 4's staging buffer: its pieces read back over junk. -/
def out0_B_4 (c : Dev nD) (i : grid0.Coords) (arg1 : Memref sig .tc .vmem S1x4x8x32768 .f32) (harg1 : arg1.IsWhole) (arg2 : Memref sig .tc .vmem S1x8x1 .f32) (harg2 : arg2.IsWhole) (arg3 : Memref sig .tc .vmem S8x32768 .f32) (harg3 : arg3.IsWhole) (arg4 : Memref sig .tc .vmem S8x32768 .i32) (harg4 : arg4.IsWhole) (arg5 : Memref sig .tc .vmem S8x32768 .i32) (harg5 : arg5.IsWhole) (hc0 : ¬cond0_0 i)
    (x0 : Vec F S1x4x8x32768 .f32) (x1 : Vec F S1x8x1 .f32) (x2 : Vec F S8x32768 .f32) (x3 : Vec F S8x32768 .i32) (xo4 : Vec F S8x32768 .i32) : Vec F S8x32768 .i32 :=
  VO0_4.read (Elt F) (VO0_4.writes (Elt F) VO0_4.junk (kernelRun0_B c i arg1 harg1 arg2 harg2 arg3 harg3 arg4 harg4 arg5 harg5 hc0 x0 x1 x2 x3 xo4).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x32768 .i32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 10 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- `outsAt0` at a point of case A: that case's contents. -/
theorem outsAt0_A (c : Dev nD) (t : Fin cfg0.N) (h0 : t.val % 10 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 10 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

/-- The proof data's arrays are the contents the kernel call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point of case B output 4's current staging buffer holds what the body left at the point before: the point is
    not the first, the buffer was not written back between (`flush0_4`), the window is live and uncut (Lib/Pipeline/Frame.lean
    `Dat.before_out_kept`). -/
theorem before0_4_B (c : Dev nD) (t : Fin cfg0.N) (h0 : ¬t.val % 10 = 0) (d) :
    (dats m 0 c).before 4 t d = (outsAt0 m c (t.val - 1) (Nat.lt_of_le_of_lt (Nat.sub_le _ _) t.isLt)) := by
  have hN : t.val < 10 := lt_of_lt_of_eq t.isLt (show cfg0.N = 10 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 10 := lt_of_lt_of_eq t.isLt (show cfg0.N = 10 from N_0)
  by_cases h0 : t.val % 10 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.Spec.lean ====
/- The mathematics of one Metropolis-adjusted step on categorical variables, over the extended reals, as both programs
   compute it: the logits of a proposal, the class it picks, the log-probabilities of the move and of its reverse, the
   difference of the energies, and the choice between the proposal and the state. Everything is a function of plain
   coordinates: a row `b` of the eight chains, a variable `d`, a class `c`. -/
module

public import Idealize.ShloMosaic.PureOps.Ideal

@[expose] public section

noncomputable section

namespace Cert.Spec

open Idealize.ShloMosaic

/-- The entry of a table of four classes that the word `k` names: the words 0, 1, 2 name the first three, any other word the last. -/
def pick {α : Type} (k : BitVec 32) (f : Fin 4 → α) : α :=
  if k = 0#32 then f 0 else if k = 1#32 then f 1 else if k = 2#32 then f 2 else f 3

/-- The word that names class `c`. -/
def word (c : Fin 4) : BitVec 32 := BitVec.ofNat 32 c.val

/-- The class of the largest entry, the first one of several: a later entry is taken only if it is strictly larger. -/
def best (f : Fin 4 → EReal) : BitVec 32 :=
  let m1 := if f 0 < f 1 then f 1 else f 0
  let m2 := if m1 < f 2 then f 2 else m1
  if m2 < f 3 then 3#32 else if m1 < f 2 then 2#32 else if f 0 < f 1 then 1#32 else 0#32

/-- The largest of four entries. -/
def top (f : Fin 4 → EReal) : EReal := max (max (f 0) (f 1)) (max (f 2) (f 3))

/-- The logarithm of the softmax of four entries, shifted by the largest. -/
def logSoftmax (f : Fin 4 → EReal) (c : Fin 4) : EReal :=
  (f c - top f)
    - Ideal.log (((Ideal.exp (f 0 - top f) + Ideal.exp (f 1 - top f)) + Ideal.exp (f 2 - top f)) + Ideal.exp (f 3 - top f))

variable {D : ℕ}

/-- Half a weight: the gradient of the linear energy over the temperature 2. -/
def half (w : EReal) : EReal := w * ((1 / 2 : ℝ) : EReal)

/-- The change of half the energy when variable `d` goes from the class `y` to the class `c`. -/
def change (W : Fin D → Fin 4 → EReal) (d : Fin D) (y : BitVec 32) (c : Fin 4) : EReal :=
  half (W d c) - pick y fun e => half (W d e)

/-- One over the step size: the float32 number nearest 0.2 is 13421773 / 2^26. -/
def invStep : EReal := ((67108864 / 13421773 : ℝ) : EReal)

/-- The logits of a proposal from the classes `Y`: the change, less the step-size term except in row 0 at the class held there. -/
def logit (W : Fin D → Fin 4 → EReal) (Y : Fin D → BitVec 32) (b : Fin 8) (d : Fin D) (c : Fin 4) : EReal :=
  if b = 0 ∧ Y d = word c then change W d (Y d) c else change W d (Y d) c - invStep

/-- The proposed classes: the largest of logit plus noise. -/
def propose (W : Fin D → Fin 4 → EReal) (g : Fin 8 → Fin D → Fin 4 → EReal) (X : Fin 8 → Fin D → BitVec 32) (b : Fin 8) (d : Fin D) : BitVec 32 :=
  best fun c => logit W (X 0) b d c + g b d c

/-- The log-probability of going to `Z` in row `b`, from logits at the classes `Y`. -/
def logProb (W : Fin D → Fin 4 → EReal) (Y : Fin D → BitVec 32) (Z : Fin 8 → Fin D → BitVec 32) (b : Fin 8) : EReal :=
  ∑ d : Fin D, pick (Z b d) (logSoftmax (logit W Y b d))

/-- The linear energy of the classes `Y`. -/
def energy (W : Fin D → Fin 4 → EReal) (Y : Fin D → BitVec 32) : EReal := ∑ d : Fin D, pick (Y d) (W d)

/-- The logarithm of the acceptance ratio of row `b` for going from `X` to `Z`. -/
def logAccept (W : Fin D → Fin 4 → EReal) (X Z : Fin 8 → Fin D → BitVec 32) (b : Fin 8) : EReal :=
  ((energy W (Z 0) - energy W (X 0)) + logProb W (Z 0) X b) - logProb W (X 0) Z b

/-- One step: the proposal where the acceptance ratio exceeds the uniform draw, the state elsewhere. -/
def step (W : Fin D → Fin 4 → EReal) (g : Fin 8 → Fin D → Fin 4 → EReal) (u : Fin 8 → EReal) (X : Fin 8 → Fin D → BitVec 32)
    (b : Fin 8) (d : Fin D) : BitVec 32 :=
  if u b < Ideal.exp (logAccept W X (propose W g X) b) then propose W g X b d else X b d

/-- The proposal is a class. -/
theorem best_class (f : Fin 4 → EReal) : (best f).toNat < 4 := by
  unfold best
  dsimp only
  repeat' first | split | (show (_ : ℕ) < 4; simp)

/-- A step from classes leads to classes. -/
theorem step_class (W : Fin D → Fin 4 → EReal) (g : Fin 8 → Fin D → Fin 4 → EReal) (u : Fin 8 → EReal) (X : Fin 8 → Fin D → BitVec 32)
    (h : ∀ b d, (X b d).toNat < 4) (b : Fin 8) (d : Fin D) : (step W g u X b d).toNat < 4 := by
  unfold step
  split
  · exact best_class _
  · exact h b d

/-- Of a word that is a class, `pick` takes the entry at that class. -/
theorem pick_word {α : Type} (f : Fin 4 → α) (c : Fin 4) : pick (word c) f = f c := by
  fin_cases c <;> simp [pick, word]

/-- A word below four is the word of a class. -/
theorem exists_word {k : BitVec 32} (h : k.toNat < 4) : ∃ c : Fin 4, k = word c :=
  ⟨⟨k.toNat, h⟩, by apply BitVec.eq_of_toNat_eq; simp [word]⟩

/-- Different classes have different words. -/
theorem word_inj {a b : Fin 4} : word a = word b ↔ a = b := by
  revert a b; decide

end Cert.Spec
-- ==== Proof.Scalars.lean ====
/- Small facts of the scalar operations at the ideal instance that both programs use: a select under a comparison is a
   choice, and the value of the float word 1/2. -/
module

public import proofs.«01_k».proof.Proof.Spec
public import Idealize.ShloMosaic.Lib.Pointwise

@[expose] public section

noncomputable section

namespace Cert.Scalars

open Cert.Spec Idealize.ShloMosaic

/-- A select under an equality test of two words. -/
theorem select_eq {α : Type} {w : ℕ} (a b : BitVec w) (p q : α) :
    Scalar.select (IntOp.cmpi .eq a b) p q = if a = b then p else q := by
  by_cases h : a = b
  · simp [Scalar.select, IntOp.cmpi, h]
  · have e : (a == b) = false := beq_eq_false_iff_ne.2 h
    simp [Scalar.select, IntOp.cmpi, h, e]

/-- A select under the conjunction of two equality tests. -/
theorem select_and {α : Type} {w v : ℕ} (a b : BitVec w) (c d : BitVec v) (p q : α) :
    Scalar.select (IntOp.andi (IntOp.cmpi .eq a b) (IntOp.cmpi .eq c d)) p q = if a = b ∧ c = d then p else q := by
  have e : ∀ {n : ℕ} (s t : BitVec n), (s == t) = decide (s = t) := fun s t => by
    by_cases h : s = t
    · simp [h]
    · rw [beq_eq_false_iff_ne.2 h, decide_eq_false h]
  simp only [Scalar.select, IntOp.cmpi, IntOp.andi, e]
  by_cases h : a = b <;> by_cases h' : c = d <;> simp [h, h']

/-- A select under an ordered greater-than of two extended reals. -/
theorem select_gt {α : Type} (a b : EReal) (p q : α) :
    Scalar.select (FloatOps.cmpf (F := Ideal) (φ := .f32) .ogt a b) p q = if b < a then p else q := by
  by_cases h : b < a <;> simp [Scalar.select, Ideal.cmpf_def, Ideal.cmp, h]

/-- The same with the comparison written out. -/
theorem select_gt' {α : Type} (a b : EReal) (p q : α) :
    Scalar.select (Ideal.cmp .ogt a b) p q = if b < a then p else q := select_gt a b p q

/-- The float word of one half. -/
theorem ofBits_half : Ideal.ofBits .f32 0x3F000000#32 = ((1 / 2 : ℝ) : EReal) := by
  simp [Ideal.ofBits, Ideal.ieee]
  rw [← EReal.coe_mul]
  norm_num

/-- The choice among four values by three tests is `pick`. -/
theorem pick_of {α : Type} (k : BitVec 32) (f : Fin 4 → α) :
    (if k = 0#32 then f 0 else if k = 1#32 then f 1 else if k = 2#32 then f 2 else f 3) = pick k f := rfl

end Cert.Scalars
-- ==== Proof.KernelStep.lean ====
/- What the kernel's body computes at one grid point, as a function of its blocks: one step of the specification. -/
module

public import proofs.«01_k».proof.Proof.Scalars
public import proofs.«01_k».proof.Proof.Gen.KernelIdeal.Skeleton
public import Idealize.ShloMosaic.Lib.Pointwise

@[expose] public section

set_option maxRecDepth 16384

noncomputable section

namespace Cert.KernelStep

open Cert.KernelIdeal Cert.KernelIdeal.Gen Cert.Spec Cert.Scalars Idealize.ShloMosaic Idealize.ShloMosaic.Pointwise

/-- The named constant of the step size. -/
theorem named_step : Named.named (F := Ideal) κ "inv_step" (φ := .f32) 0x40A00000#32 = invStep :=
  IdealRules.named_const.ideal_named_scalar _ _ _ _ rfl

/-! ### The halved weights and the change of half the energy -/

theorem half0 (w : Vec Ideal S1x32768 .f32) (d : Fin 32768) : k0_pay9 (F := Ideal) w (ix2 0 d) = half (w (ix2 0 d)) := by
  pointwise [k0_pay9, k0_pay5]
  rw [ofBits_half]; rfl

theorem half1 (w : Vec Ideal S1x32768 .f32) (d : Fin 32768) : k0_pay10 (F := Ideal) w (ix2 0 d) = half (w (ix2 0 d)) := half0 w d
theorem half2 (w : Vec Ideal S1x32768 .f32) (d : Fin 32768) : k0_pay11 (F := Ideal) w (ix2 0 d) = half (w (ix2 0 d)) := half0 w d
theorem half3 (w : Vec Ideal S1x32768 .f32) (d : Fin 32768) : k0_pay12 (F := Ideal) w (ix2 0 d) = half (w (ix2 0 d)) := half0 w d

/-- The four weight rows, as a table. -/
def table (w0 w1 w2 w3 : Vec Ideal S1x32768 .f32) (d : Fin 32768) : Fin 4 → EReal :=
  ![w0 (ix2 0 d), w1 (ix2 0 d), w2 (ix2 0 d), w3 (ix2 0 d)]

/-- The four noise planes, as a table. -/
def noise (g0 g1 g2 g3 : Vec Ideal S1x1x8x32768 .f32) (b : Fin 8) (d : Fin 32768) : Fin 4 → EReal :=
  ![g0 (ix4 0 0 b d), g1 (ix4 0 0 b d), g2 (ix4 0 0 b d), g3 (ix4 0 0 b d)]

variable (x : Vec Ideal S8x32768 .i32) (w0 w1 w2 w3 : Vec Ideal S1x32768 .f32) (g0 g1 g2 g3 : Vec Ideal S1x1x8x32768 .f32)
  (u : Vec Ideal S1x8x1 .f32)

/-- The half weight at the class held in row 0. -/
theorem own_at (d : Fin 32768) :
    k0_pay13 (F := Ideal) x w0 w1 w2 w3 (ix2 0 d) = pick (x (ix2 0 d)) fun c => half (table w0 w1 w2 w3 d c) := by
  pointwise [k0_pay13, k0_pay3, k0_pay2, half0, half1, half2, half3]
  simp only [select_eq]
  rfl

theorem change0 (d : Fin 32768) : k0_pay14 (F := Ideal) x w0 w1 w2 w3 (ix2 0 d) = change (table w0 w1 w2 w3) d (x (ix2 0 d)) 0 := by
  pointwise [k0_pay14, half0, own_at]
  rfl
theorem change1 (d : Fin 32768) : k0_pay15 (F := Ideal) x w0 w1 w2 w3 (ix2 0 d) = change (table w0 w1 w2 w3) d (x (ix2 0 d)) 1 := by
  pointwise [k0_pay15, half1, own_at]
  rfl
theorem change2 (d : Fin 32768) : k0_pay16 (F := Ideal) x w0 w1 w2 w3 (ix2 0 d) = change (table w0 w1 w2 w3) d (x (ix2 0 d)) 2 := by
  pointwise [k0_pay16, half2, own_at]
  rfl
theorem change3 (d : Fin 32768) : k0_pay17 (F := Ideal) x w0 w1 w2 w3 (ix2 0 d) = change (table w0 w1 w2 w3) d (x (ix2 0 d)) 3 := by
  pointwise [k0_pay17, half3, own_at]
  rfl

/-- Which row is row 0, as the kernel asks it of the row's number. -/
theorem row_zero (b : Fin 8) : (BitVec.ofNat 32 b.val = 0#32) = (b = 0) := by
  revert b; decide

/-! ### The logits at the current classes -/

theorem logit0 (y : IVec S1x32768 32) (v : FVec Ideal S1x32768 .f32) (b : Fin 8) (d : Fin 32768) :
    k0_pay18 (F := Ideal) y k0_pay4 v (ix2 b d) = if b = 0 ∧ y (ix2 0 d) = word 0 then v (ix2 0 d) else v (ix2 0 d) - invStep := by
  pointwise [k0_pay18, k0_pay4]
  simp only [select_and, named_step, row_zero]
  rfl
theorem logit1 (y : IVec S1x32768 32) (v : FVec Ideal S1x32768 .f32) (b : Fin 8) (d : Fin 32768) :
    k0_pay19 (F := Ideal) y k0_pay4 v (ix2 b d) = if b = 0 ∧ y (ix2 0 d) = word 1 then v (ix2 0 d) else v (ix2 0 d) - invStep := by
  pointwise [k0_pay19, k0_pay4]
  simp only [select_and, named_step, row_zero]
  rfl
theorem logit2 (y : IVec S1x32768 32) (v : FVec Ideal S1x32768 .f32) (b : Fin 8) (d : Fin 32768) :
    k0_pay20 (F := Ideal) y k0_pay4 v (ix2 b d) = if b = 0 ∧ y (ix2 0 d) = word 2 then v (ix2 0 d) else v (ix2 0 d) - invStep := by
  pointwise [k0_pay20, k0_pay4]
  simp only [select_and, named_step, row_zero]
  rfl
theorem logit3 (y : IVec S1x32768 32) (v : FVec Ideal S1x32768 .f32) (b : Fin 8) (d : Fin 32768) :
    k0_pay21 (F := Ideal) y k0_pay4 v (ix2 b d) = if b = 0 ∧ y (ix2 0 d) = word 3 then v (ix2 0 d) else v (ix2 0 d) - invStep := by
  pointwise [k0_pay21, k0_pay4]
  simp only [select_and, named_step, row_zero]
  rfl

/-- The current classes of row 0, read from the block. -/
theorem row0_at (d : Fin 32768) : k0_pay3 (F := Ideal) x (ix2 0 d) = x (ix2 0 d) := by
  pointwise [k0_pay3, k0_pay2]

/-- The four logit planes, as a table. -/
def planes (l0 l1 l2 l3 : FVec Ideal S8x32768 .f32) (b : Fin 8) (d : Fin 32768) : Fin 4 → EReal :=
  ![l0 (ix2 b d), l1 (ix2 b d), l2 (ix2 b d), l3 (ix2 b d)]

/-- The logit planes that the body computes hold the logits of the specification. -/
theorem planes_logit (b : Fin 8) (d : Fin 32768) :
    planes (k0_pay18 (F := Ideal) (k0_pay3 (F := Ideal) x) k0_pay4 (k0_pay14 x w0 w1 w2 w3)) (k0_pay19 (F := Ideal) (k0_pay3 (F := Ideal) x) k0_pay4 (k0_pay15 x w0 w1 w2 w3))
        (k0_pay20 (F := Ideal) (k0_pay3 (F := Ideal) x) k0_pay4 (k0_pay16 x w0 w1 w2 w3)) (k0_pay21 (F := Ideal) (k0_pay3 (F := Ideal) x) k0_pay4 (k0_pay17 x w0 w1 w2 w3)) b d
      = logit (table w0 w1 w2 w3) (fun d => x (ix2 0 d)) b d := by
  funext c
  fin_cases c
  · exact (logit0 ..).trans (by rw [row0_at, change0]; rfl)
  · exact (logit1 ..).trans (by rw [row0_at, change1]; rfl)
  · exact (logit2 ..).trans (by rw [row0_at, change2]; rfl)
  · exact (logit3 ..).trans (by rw [row0_at, change3]; rfl)

/-! ### The proposal -/

/-- The chain of strict comparisons takes the first largest entry. -/
theorem best_at (l0 l1 l2 l3 : FVec Ideal S8x32768 .f32) (b : Fin 8) (d : Fin 32768) :
    k0_pay22 (F := Ideal) l0 l1 l2 l3 g0 g1 g2 g3 (ix2 b d) = best fun c => planes l0 l1 l2 l3 b d c + noise g0 g1 g2 g3 b d c := by
  pointwise [k0_pay22]
  rfl

/-- Row 0 of the proposal. -/
theorem row0_pay34 (z : IVec S8x32768 32) (d : Fin 32768) : k0_pay34 z (ix2 0 d) = z (ix2 0 d) := by
  pointwise [k0_pay34]

/-! ### The log-probability of the proposal -/

theorem lsm0 (l0 l1 l2 l3 : FVec Ideal S8x32768 .f32) (b : Fin 8) (d : Fin 32768) :
    k0_pay29 (F := Ideal) l0 l1 l2 l3 (ix2 b d) = logSoftmax (planes l0 l1 l2 l3 b d) 0 := by
  pointwise [k0_pay29, k0_pay24, k0_pay25, k0_pay26, k0_pay27, k0_pay28, k0_pay23]
  rfl
theorem lsm1 (l0 l1 l2 l3 : FVec Ideal S8x32768 .f32) (b : Fin 8) (d : Fin 32768) :
    k0_pay30 (F := Ideal) l0 l1 l2 l3 (ix2 b d) = logSoftmax (planes l0 l1 l2 l3 b d) 1 := by
  pointwise [k0_pay30, k0_pay24, k0_pay25, k0_pay26, k0_pay27, k0_pay28, k0_pay23]
  rfl
theorem lsm2 (l0 l1 l2 l3 : FVec Ideal S8x32768 .f32) (b : Fin 8) (d : Fin 32768) :
    k0_pay31 (F := Ideal) l0 l1 l2 l3 (ix2 b d) = logSoftmax (planes l0 l1 l2 l3 b d) 2 := by
  pointwise [k0_pay31, k0_pay24, k0_pay25, k0_pay26, k0_pay27, k0_pay28, k0_pay23]
  rfl
theorem lsm3 (l0 l1 l2 l3 : FVec Ideal S8x32768 .f32) (b : Fin 8) (d : Fin 32768) :
    k0_pay32 (F := Ideal) l0 l1 l2 l3 (ix2 b d) = logSoftmax (planes l0 l1 l2 l3 b d) 3 := by
  pointwise [k0_pay32, k0_pay24, k0_pay25, k0_pay26, k0_pay27, k0_pay28, k0_pay23]
  rfl

/-- The forward log-probability: the sum over the variables of the log-softmax at the proposed class. -/
theorem forward_at (z : IVec S8x32768 32) (l0 l1 l2 l3 : FVec Ideal S8x32768 .f32) (b : Fin 8) :
    k0_pay33 (F := Ideal) z (k0_pay29 l0 l1 l2 l3) (k0_pay30 l0 l1 l2 l3) (k0_pay31 l0 l1 l2 l3) (k0_pay32 l0 l1 l2 l3) 0#32 (ix2 b 0)
      = ∑ d : Fin 32768, pick (z (ix2 b d)) (logSoftmax (planes l0 l1 l2 l3 b d)) := by
  pointwise [k0_pay33, lsm0, lsm1, lsm2, lsm3]
  simp only [select_eq]
  rfl

/-! ### The log-probability of the reverse move -/

/-- Half the weight at the class proposed in row 0. -/
theorem own_delta (z : IVec S8x32768 32) (d : Fin 32768) :
    k0_pay35 (F := Ideal) (k0_pay9 w0) (k0_pay10 w1) (k0_pay11 w2) (k0_pay12 w3) z (ix2 0 d) = pick (z (ix2 0 d)) fun c => half (table w0 w1 w2 w3 d c) := by
  pointwise [k0_pay35, row0_pay34, half0, half1, half2, half3]
  simp only [select_eq]
  rfl

/-- The reverse log-probability: the same sum at the current classes, with the logits taken at the proposal. -/
theorem reverse_at (z : IVec S8x32768 32) (b : Fin 8) :
    k0_pay44 (F := Ideal) (k0_pay2 (F := Ideal) x) k0_pay4 (k0_pay34 z)
        (k0_pay36 (k0_pay9 w0) (k0_pay10 w1) (k0_pay11 w2) (k0_pay12 w3) z) (k0_pay37 (k0_pay9 w0) (k0_pay10 w1) (k0_pay11 w2) (k0_pay12 w3) z)
        (k0_pay38 (k0_pay9 w0) (k0_pay10 w1) (k0_pay11 w2) (k0_pay12 w3) z) (k0_pay39 (k0_pay9 w0) (k0_pay10 w1) (k0_pay11 w2) (k0_pay12 w3) z)
        (k0_pay40 (k0_pay9 w0) (k0_pay10 w1) (k0_pay11 w2) (k0_pay12 w3) z) (k0_pay41 (k0_pay9 w0) (k0_pay10 w1) (k0_pay11 w2) (k0_pay12 w3) z)
        (k0_pay42 k0_pay4 (k0_pay9 w0) (k0_pay10 w1) (k0_pay11 w2) (k0_pay12 w3) z) (k0_pay43 k0_pay4 z) (ix1 b)
      = ∑ d : Fin 32768, pick (x (ix2 b d)) (logSoftmax (logit (table w0 w1 w2 w3) (fun d => z (ix2 0 d)) b d)) := by
  pointwise [k0_pay44, k0_pay2, k0_pay4, k0_pay36, k0_pay37, k0_pay38, k0_pay39, k0_pay40, k0_pay41, k0_pay42, k0_pay43, own_delta, row0_pay34, half0, half1, half2, half3]
  simp only [select_and, named_step, row_zero, select_eq]
  rfl

/-! ### The step -/

/-- What the body stores, of the block `x` it found, the weight rows, the noise planes and the uniform draws. -/
def stored : IVec S8x32768 32 :=
  let l0 := k0_pay18 (F := Ideal) (k0_pay3 (F := Ideal) x) k0_pay4 (k0_pay14 x w0 w1 w2 w3)
  let l1 := k0_pay19 (F := Ideal) (k0_pay3 (F := Ideal) x) k0_pay4 (k0_pay15 x w0 w1 w2 w3)
  let l2 := k0_pay20 (F := Ideal) (k0_pay3 (F := Ideal) x) k0_pay4 (k0_pay16 x w0 w1 w2 w3)
  let l3 := k0_pay21 (F := Ideal) (k0_pay3 (F := Ideal) x) k0_pay4 (k0_pay17 x w0 w1 w2 w3)
  let z := k0_pay22 (F := Ideal) l0 l1 l2 l3 g0 g1 g2 g3
  k0_pay1 (F := Ideal) (k0_pay2 (F := Ideal) x) (k0_pay3 (F := Ideal) x) (k0_pay5 w0) (k0_pay6 w1) (k0_pay7 w2) (k0_pay8 w3) z
    (k0_pay33 z (k0_pay29 l0 l1 l2 l3) (k0_pay30 l0 l1 l2 l3) (k0_pay31 l0 l1 l2 l3) (k0_pay32 l0 l1 l2 l3) 0#32)
    (k0_pay34 z)
    (k0_pay44 (F := Ideal) (k0_pay2 (F := Ideal) x) k0_pay4 (k0_pay34 z)
        (k0_pay36 (k0_pay9 w0) (k0_pay10 w1) (k0_pay11 w2) (k0_pay12 w3) z) (k0_pay37 (k0_pay9 w0) (k0_pay10 w1) (k0_pay11 w2) (k0_pay12 w3) z)
        (k0_pay38 (k0_pay9 w0) (k0_pay10 w1) (k0_pay11 w2) (k0_pay12 w3) z) (k0_pay39 (k0_pay9 w0) (k0_pay10 w1) (k0_pay11 w2) (k0_pay12 w3) z)
        (k0_pay40 (k0_pay9 w0) (k0_pay10 w1) (k0_pay11 w2) (k0_pay12 w3) z) (k0_pay41 (k0_pay9 w0) (k0_pay10 w1) (k0_pay11 w2) (k0_pay12 w3) z)
        (k0_pay42 k0_pay4 (k0_pay9 w0) (k0_pay10 w1) (k0_pay11 w2) (k0_pay12 w3) z) (k0_pay43 k0_pay4 z))
    u

/-- The last payload, read at an entry: the choice by the acceptance ratio. -/
theorem choice_at (z : IVec S8x32768 32) (fw : FVec Ideal S8x1 .f32) (rv : FVec Ideal S8 .f32) (b : Fin 8) (d : Fin 32768) :
    k0_pay1 (F := Ideal) (k0_pay2 (F := Ideal) x) (k0_pay3 (F := Ideal) x) (k0_pay5 w0) (k0_pay6 w1) (k0_pay7 w2) (k0_pay8 w3) z fw (k0_pay34 z) rv u (ix2 b d)
      = if u (ix3 0 b 0) < Ideal.exp (((energy (table w0 w1 w2 w3) (fun d => z (ix2 0 d)) - energy (table w0 w1 w2 w3) fun d => x (ix2 0 d)) + rv (ix1 b)) - fw (ix2 b 0))
        then z (ix2 b d) else x (ix2 b d) := by
  pointwise [k0_pay1, k0_pay2, k0_pay5, k0_pay6, k0_pay7, k0_pay8, row0_at, row0_pay34]
  simp only [select_eq, select_gt, select_gt']
  rfl

/-- The body's store is one step of the specification. -/
theorem stored_at (b : Fin 8) (d : Fin 32768) :
    stored x w0 w1 w2 w3 g0 g1 g2 g3 u (ix2 b d)
      = step (table w0 w1 w2 w3) (noise g0 g1 g2 g3) (fun b => u (ix3 0 b 0)) (fun b d => x (ix2 b d)) b d := by
  unfold stored
  rw [choice_at]
  rw [forward_at, reverse_at]
  simp only [best_at, planes_logit]
  rfl

end Cert.KernelStep
-- ==== Proof.KernelBody.lean ====
/- What the kernel's body leaves in the result's block at one grid point: one step from the classes it finds. -/
module

public import proofs.«01_k».proof.Proof.IdealFrame
public import proofs.«01_k».proof.Proof.KernelStep
public import Idealize.ShloMosaic.Lib.Pipeline.Value

@[expose] public section

set_option maxRecDepth 16384

noncomputable section

namespace Cert.KernelBody

open Cert.KernelIdeal Cert.KernelIdeal.Gen Cert.KernelStep Idealize.ShloMosaic Idealize.ShloMosaic.TcCoe Idealize.ShloMosaic.Tactic

theorem hz : (![0, 0] : Fin 2 → Nat) = fun _ => 0 := funext fun a => by fin_cases a <;> rfl
theorem hz3 : (![0, 0, 0] : Fin 3 → Nat) = fun _ => 0 := funext fun a => by fin_cases a <;> rfl

/-- One step from the classes `y`, with the blocks' noise planes, uniform numbers and weight rows. -/
abbrev stepOf (x0 : Vec Ideal S1x4x8x32768 .f32) (x1 : Vec Ideal S1x8x1 .f32) (x2 : Vec Ideal S8x32768 .f32) (y : Vec Ideal S8x32768 .i32) : IVec S8x32768 32 :=
  stored y (View.ld x2 (Rect.unit ![0, 0] S1x32768.size inb_S8x32768_S1x32768_0_0)) (View.ld x2 (Rect.unit ![1, 0] S1x32768.size inb_S8x32768_S1x32768_1_0))
    (View.ld x2 (Rect.unit ![2, 0] S1x32768.size inb_S8x32768_S1x32768_2_0)) (View.ld x2 (Rect.unit ![3, 0] S1x32768.size inb_S8x32768_S1x32768_3_0))
    (View.ld x0 (Rect.unit ![0, 0, 0, 0] S1x1x8x32768.size inb_S1x4x8x32768_S1x1x8x32768_0_0_0_0))
    (View.ld x0 (Rect.unit ![0, 1, 0, 0] S1x1x8x32768.size inb_S1x4x8x32768_S1x1x8x32768_0_1_0_0))
    (View.ld x0 (Rect.unit ![0, 2, 0, 0] S1x1x8x32768.size inb_S1x4x8x32768_S1x1x8x32768_0_2_0_0))
    (View.ld x0 (Rect.unit ![0, 3, 0, 0] S1x1x8x32768.size inb_S1x4x8x32768_S1x1x8x32768_0_3_0_0)) x1

/-- At a later point the body steps from what the point before left. -/
theorem out_B (c : Dev nD) (i : grid0.Coords) (arg1 : Memref sig .tc .vmem S1x4x8x32768 .f32) (harg1 : arg1.IsWhole) (arg2 : Memref sig .tc .vmem S1x8x1 .f32) (harg2 : arg2.IsWhole)
    (arg3 : Memref sig .tc .vmem S8x32768 .f32) (harg3 : arg3.IsWhole) (arg4 : Memref sig .tc .vmem S8x32768 .i32) (harg4 : arg4.IsWhole)
    (arg5 : Memref sig .tc .vmem S8x32768 .i32) (harg5 : arg5.IsWhole) (hc0 : ¬cond0_0 i)
    (x0 : Vec Ideal S1x4x8x32768 .f32) (x1 : Vec Ideal S1x8x1 .f32) (x2 : Vec Ideal S8x32768 .f32) (x3 : Vec Ideal S8x32768 .i32) (xo4 : Vec Ideal S8x32768 .i32) :
    out0_B_4 c i arg1 harg1 arg2 harg2 arg3 harg3 arg4 harg4 arg5 harg5 hc0 x0 x1 x2 x3 xo4 = stepOf x0 x1 x2 xo4 := by
  unfold out0_B_4
  rw [View.read_writes_eq_canon _ _ _ (cover0_B_4 c i arg1 harg1 arg2 harg2 arg3 harg3 arg4 harg4 arg5 harg5 hc0 x0 x1 x2 x3 xo4)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S8x32768) hz, View.ld_unit_zero (S := S1x8x1) hz3, shapeCast_self]
  rfl

/-- At the first point the body steps from the classes it is given. -/
theorem out_A (c : Dev nD) (i : grid0.Coords) (arg1 : Memref sig .tc .vmem S1x4x8x32768 .f32) (harg1 : arg1.IsWhole) (arg2 : Memref sig .tc .vmem S1x8x1 .f32) (harg2 : arg2.IsWhole)
    (arg3 : Memref sig .tc .vmem S8x32768 .f32) (harg3 : arg3.IsWhole) (arg4 : Memref sig .tc .vmem S8x32768 .i32) (harg4 : arg4.IsWhole)
    (arg5 : Memref sig .tc .vmem S8x32768 .i32) (harg5 : arg5.IsWhole) (hc0 : cond0_0 i)
    (x0 : Vec Ideal S1x4x8x32768 .f32) (x1 : Vec Ideal S1x8x1 .f32) (x2 : Vec Ideal S8x32768 .f32) (x3 : Vec Ideal S8x32768 .i32) :
    out0_A_4 c i arg1 harg1 arg2 harg2 arg3 harg3 arg4 harg4 arg5 harg5 hc0 x0 x1 x2 x3 = stepOf x0 x1 x2 x3 := by
  unfold out0_A_4
  rw [View.read_writes_eq_canon _ _ _ (cover0_A_4 c i arg1 harg1 arg2 harg2 arg3 harg3 arg4 harg4 arg5 harg5 hc0 x0 x1 x2 x3)]
  unfold kernelRun0_A
  dsimp only
  sl_unfold_words
  rw [View.canon_cons_unit_zero (S := S8x32768) hz, View.readCov_unit_zero (S := S8x32768) _ hz]
  simp only [View.readAt_eq_ld, harg1.read_unread, harg2.read_unread, harg3.read_unread, harg4.read_unread, harg5.read_unread, View.ld_unit_zero (S := S8x32768) hz, View.ld_unit_zero (S := S1x8x1) hz3, shapeCast_self]
  rfl

/-- A weight row, read at a variable. -/
theorem row_at (x2 : Vec Ideal S8x32768 .f32) (k : Fin 8) (h : ∀ a, (![k.val, 0] : Fin 2 → Nat) a + (![1, 32768] : Fin 2 → Nat) a ≤ S8x32768.size a) (d : Fin 32768) :
    View.ld x2 (Rect.unit ![k.val, 0] S1x32768.size h) (ix2 0 d) = x2 (ix2 k d) := by
  refine congrArg x2 (funext fun a => Fin.ext ?_)
  match a with
  | ⟨0, _⟩ => show k.val + 1 * 0 = k.val; omega
  | ⟨1, _⟩ => show 0 + 1 * d.val = d.val; omega

/-- A noise plane, read at a row and a variable. -/
theorem plane_at (x0 : Vec Ideal S1x4x8x32768 .f32) (k : Fin 4) (h : ∀ a, (![0, k.val, 0, 0] : Fin 4 → Nat) a + (![1, 1, 8, 32768] : Fin 4 → Nat) a ≤ S1x4x8x32768.size a)
    (b : Fin 8) (d : Fin 32768) :
    View.ld x0 (Rect.unit ![0, k.val, 0, 0] S1x1x8x32768.size h) (ix4 0 0 b d) = x0 (ix4 0 k b d) := by
  refine congrArg x0 (funext fun a => Fin.ext ?_)
  match a with
  | ⟨0, _⟩ => rfl
  | ⟨1, _⟩ => show k.val + 1 * 0 = k.val; omega
  | ⟨2, _⟩ => show 0 + 1 * b.val = b.val; omega
  | ⟨3, _⟩ => show 0 + 1 * d.val = d.val; omega

/-- The step, coordinate by coordinate. -/
theorem stepOf_at (x0 : Vec Ideal S1x4x8x32768 .f32) (x1 : Vec Ideal S1x8x1 .f32) (x2 : Vec Ideal S8x32768 .f32) (y : Vec Ideal S8x32768 .i32) (b : Fin 8) (d : Fin 32768) :
    stepOf x0 x1 x2 y (ix2 b d)
      = Spec.step (fun d (c : Fin 4) => x2 (ix2 (c.castLE (by decide)) d)) (fun b d c => x0 (ix4 0 c b d)) (fun b => x1 (ix3 0 b 0)) (fun b d => y (ix2 b d)) b d := by
  unfold stepOf
  rw [stored_at]
  have et : ∀ d, table (View.ld x2 (Rect.unit ![0, 0] S1x32768.size inb_S8x32768_S1x32768_0_0)) (View.ld x2 (Rect.unit ![1, 0] S1x32768.size inb_S8x32768_S1x32768_1_0))
      (View.ld x2 (Rect.unit ![2, 0] S1x32768.size inb_S8x32768_S1x32768_2_0)) (View.ld x2 (Rect.unit ![3, 0] S1x32768.size inb_S8x32768_S1x32768_3_0)) d
      = fun c : Fin 4 => x2 (ix2 (c.castLE (by decide)) d) := fun d => by
    funext c
    match c with
    | ⟨0, _⟩ => exact row_at x2 0 _ d
    | ⟨1, _⟩ => exact row_at x2 1 _ d
    | ⟨2, _⟩ => exact row_at x2 2 _ d
    | ⟨3, _⟩ => exact row_at x2 3 _ d
  have en : ∀ b d, noise (View.ld x0 (Rect.unit ![0, 0, 0, 0] S1x1x8x32768.size inb_S1x4x8x32768_S1x1x8x32768_0_0_0_0))
      (View.ld x0 (Rect.unit ![0, 1, 0, 0] S1x1x8x32768.size inb_S1x4x8x32768_S1x1x8x32768_0_1_0_0))
      (View.ld x0 (Rect.unit ![0, 2, 0, 0] S1x1x8x32768.size inb_S1x4x8x32768_S1x1x8x32768_0_2_0_0))
      (View.ld x0 (Rect.unit ![0, 3, 0, 0] S1x1x8x32768.size inb_S1x4x8x32768_S1x1x8x32768_0_3_0_0)) b d
      = fun c => x0 (ix4 0 c b d) := fun b d => by
    funext c
    match c with
    | ⟨0, _⟩ => exact plane_at x0 0 _ b d
    | ⟨1, _⟩ => exact plane_at x0 1 _ b d
    | ⟨2, _⟩ => exact plane_at x0 2 _ b d
    | ⟨3, _⟩ => exact plane_at x0 3 _ b d
  rw [show table _ _ _ _ = _ from funext et, show noise _ _ _ _ = _ from funext fun b => funext (en b)]

end Cert.KernelBody

end
-- ==== Proof.IdealValue.lean ====
/- The run of the whole program with the array it returns named.
   This is the set-up of the launch, kept here because the facts `V_main_arg0` and `V_main_arg1` have proofs of their own: the host code
   before the call is some eight thousand operations long, and is read as one line. -/
module

public import proofs.«01_k».proof.Proof.IdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## The arrays after the run -/

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v124) = (dats m 0 c).arrAt 4 cfg0.N :=
  (h c).1 4

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v124) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post4 m r h c,
      kept_main_arg0 m r h c,
      kept_main_arg1 m r h c⟩)
    (run_main m ρ)

end Cert.KernelIdeal.Value

end
-- ==== Proof.Chain.lean ====
/- The ten steps: what both programs return, as a function of the weights and of the classes they start from. -/
module

public import proofs.«01_k».proof.Proof.Spec
public import proofs.«01_k».proof.Proof.Draw
public import Idealize.ShloMosaic.Lib.Pointwise

@[expose] public section

noncomputable section

namespace Cert.Spec

open Idealize.ShloMosaic

/-- The Gumbel noise of step `j`, coordinate by coordinate. -/
abbrev gumbels (j : Nat) (b : Fin 8) (d : Fin 32768) (c : Fin 4) : EReal := Rng.noiseOf Ideal j (ix3 b d c)

/-- The uniform numbers of step `j`, row by row. -/
abbrev uniforms (j : Nat) (b : Fin 8) : EReal := Rng.acceptOf Ideal j (ix1 b)

/-- The classes before step `k`. -/
def chain (W : Fin 32768 → Fin 4 → EReal) (X : Fin 8 → Fin 32768 → BitVec 32) : Nat → Fin 8 → Fin 32768 → BitVec 32
  | 0 => X
  | k + 1 => step W (gumbels k) (uniforms k) (chain W X k)

/-- They are classes, if those at the start are. -/
theorem chain_class (W : Fin 32768 → Fin 4 → EReal) (X : Fin 8 → Fin 32768 → BitVec 32) (h : ∀ b d, (X b d).toNat < 4) :
    ∀ k b d, (chain W X k b d).toNat < 4
  | 0 => h
  | k + 1 => step_class W _ _ _ (chain_class W X h k)

end Cert.Spec

end
-- ==== Proof.KernelArray.lean ====
/- The array the kernel returns: the classes after ten steps, given what its operands hold. -/
module

public import proofs.«01_k».proof.Proof.KernelBody
public import proofs.«01_k».proof.Proof.IdealValue
public import proofs.«01_k».proof.Proof.Chain

@[expose] public section

set_option maxRecDepth 16384

noncomputable section

namespace Cert.KernelArray

open Cert.KernelIdeal Cert.KernelIdeal.Gen Cert.KernelBody Idealize.ShloMosaic Idealize.ShloMosaic.TcCoe Idealize.SL.Sem
open Idealize.ShloMosaic.Pipeline (Dat)

variable (m : (ℓ : Loc nD τ sig) → Buf (Elt Ideal) ℓ) (c : Dev nD)

theorem points : cfg0.N = 10 := N_0

/-- Which block of each operand a point reads. -/
theorem index0 : ∀ t : Fin cfg0.N, win0_0.index t 0 = t.val ∧ win0_0.index t 1 = 0 ∧ win0_0.index t 2 = 0 ∧ win0_0.index t 3 = 0 := by
  intro t; rcases fin_N0 t with rfl | rfl | rfl | rfl | rfl | rfl | rfl | rfl | rfl | rfl <;> decide
theorem index1 : ∀ t : Fin cfg0.N, win0_1.index t 0 = t.val ∧ win0_1.index t 1 = 0 ∧ win0_1.index t 2 = 0 := by
  intro t; rcases fin_N0 t with rfl | rfl | rfl | rfl | rfl | rfl | rfl | rfl | rfl | rfl <;> decide
theorem index2 : ∀ t : Fin cfg0.N, win0_2.index t 0 = 0 ∧ win0_2.index t 1 = 0 := by
  intro t; rcases fin_N0 t with rfl | rfl | rfl | rfl | rfl | rfl | rfl | rfl | rfl | rfl <;> decide
theorem index3 : ∀ t : Fin cfg0.N, win0_3.index t 0 = 0 ∧ win0_3.index t 1 = 0 := by
  intro t; rcases fin_N0 t with rfl | rfl | rfl | rfl | rfl | rfl | rfl | rfl | rfl | rfl <;> decide

/-- The point's number. -/
abbrev at10 (t : Fin cfg0.N) : Fin 10 := ⟨t.val, points ▸ t.isLt⟩

/-- The core's buffers, whatever they hold. -/
abbrev Buffers (c : Dev nD) : Type := (b : Ref sig .tc) → Buf (Elt Ideal) ((c : Thread nD τ).loc b)

variable {c}

/-- The block of operand `w` at point `t`, cut out of its array. -/
def piece (M : Buffers c) (w : Fin cfg0.W) (t : Fin cfg0.N) : ((cfg0.win w).xblock (cfg0.grid.coords t)).Idx → Elt Ideal (cfg0.win w).elt :=
  ((cfg0.win w).blk t).view.read (Elt Ideal) (M (Pipeline.arrRef spec0 w))

/-! ### The blocks, coordinate by coordinate -/

theorem block0 (M : Buffers c) (t : Fin cfg0.N) (k : Fin 4) (b : Fin 8) (d : Fin 32768) :
    (piece M 0 t : Vec Ideal S1x4x8x32768 .f32) (ix4 0 k b d) = M main_v108 (ix4 (at10 t) k b d) := by
  obtain ⟨h0, h1, h2, h3⟩ := index0 t
  unfold piece
  rw [View.read_apply]
  refine congrArg (M main_v108) (funext fun a => Fin.ext ?_)
  match a with
  | ⟨0, _⟩ => show win0_0.index t 0 * 1 + 1 * 0 = t.val; rw [h0]; omega
  | ⟨1, _⟩ => show win0_0.index t 1 * 4 + 1 * k.val = k.val; rw [h1]; omega
  | ⟨2, _⟩ => show win0_0.index t 2 * 8 + 1 * b.val = b.val; rw [h2]; omega
  | ⟨3, _⟩ => show win0_0.index t 3 * 32768 + 1 * d.val = d.val; rw [h3]; omega

theorem block1 (M : Buffers c) (t : Fin cfg0.N) (b : Fin 8) :
    (piece M 1 t : Vec Ideal S1x8x1 .f32) (ix3 0 b 0) = M main_v120 (ix3 (at10 t) b 0) := by
  obtain ⟨h0, h1, h2⟩ := index1 t
  unfold piece
  rw [View.read_apply]
  refine congrArg (M main_v120) (funext fun a => Fin.ext ?_)
  match a with
  | ⟨0, _⟩ => show win0_1.index t 0 * 1 + 1 * 0 = t.val; rw [h0]; omega
  | ⟨1, _⟩ => show win0_1.index t 1 * 8 + 1 * b.val = b.val; rw [h1]; omega
  | ⟨2, _⟩ => show win0_1.index t 2 * 1 + 1 * 0 = 0; rw [h2]

theorem block2 (M : Buffers c) (t : Fin cfg0.N) (k : Fin 8) (d : Fin 32768) :
    (piece M 2 t : Vec Ideal S8x32768 .f32) (ix2 k d) = M main_v123 (ix2 k d) := by
  obtain ⟨h0, h1⟩ := index2 t
  unfold piece
  rw [View.read_apply]
  refine congrArg (M main_v123) (funext fun a => Fin.ext ?_)
  match a with
  | ⟨0, _⟩ => show win0_2.index t 0 * 8 + 1 * k.val = k.val; rw [h0]; omega
  | ⟨1, _⟩ => show win0_2.index t 1 * 32768 + 1 * d.val = d.val; rw [h1]; omega

theorem block3 (M : Buffers c) (t : Fin cfg0.N) (b : Fin 8) (d : Fin 32768) :
    (piece M 3 t : Vec Ideal S8x32768 .i32) (ix2 b d) = M main_arg0 (ix2 b d) := by
  obtain ⟨h0, h1⟩ := index3 t
  unfold piece
  rw [View.read_apply]
  refine congrArg (M main_arg0) (funext fun a => Fin.ext ?_)
  match a with
  | ⟨0, _⟩ => show win0_3.index t 0 * 8 + 1 * b.val = b.val; rw [h0]; omega
  | ⟨1, _⟩ => show win0_3.index t 1 * 32768 + 1 * d.val = d.val; rw [h1]; omega

/-- What the operands hold: the noise, the uniform numbers and the weights, each in the layout the kernel reads, and the classes. -/
structure Operands (M : Buffers c) (W : Fin 32768 → Fin 4 → EReal) (X : Fin 8 → Fin 32768 → BitVec 32) : Prop where
  noise : ∀ (t : Fin 10) (k : Fin 4) (b : Fin 8) (d : Fin 32768), M main_v108 (ix4 t k b d) = Spec.gumbels t.val b d k
  uniform : ∀ (t : Fin 10) (b : Fin 8), M main_v120 (ix3 t b 0) = Spec.uniforms t.val b
  weight : ∀ (k : Fin 4) (d : Fin 32768), M main_v123 (ix2 (k.castLE (by decide)) d) = W d k
  classes : ∀ (b : Fin 8) (d : Fin 32768), M main_arg0 (ix2 b d) = X b d

variable {M : Buffers c} {W : Fin 32768 → Fin 4 → EReal} {X : Fin 8 → Fin 32768 → BitVec 32}

/-- One point is one step of the chain. -/
theorem point (h : Operands M W X) (t : Fin cfg0.N) (y : Vec Ideal S8x32768 .i32) (Y : Fin 8 → Fin 32768 → BitVec 32)
    (hy : (fun b d => y (ix2 b d)) = Y) (b : Fin 8) (d : Fin 32768) :
    stepOf (piece M 0 t) (piece M 1 t) (piece M 2 t) y (ix2 b d) = Spec.step W (Spec.gumbels t.val) (Spec.uniforms t.val) Y b d := by
  rw [stepOf_at, hy]
  simp only [block0, block1, block2, h.noise, h.uniform, h.weight]

variable {m}

/-- What the result's block holds after each point. -/
theorem outsAt_eq (hM : ∀ w t, iblk m c w t = piece M w t) (h : Operands M W X) : ∀ (n : ℕ) (hn : n < cfg0.N),
    (fun b d => outsAt0 m c n hn (ix2 b d)) = Spec.chain W X (n + 1)
  | 0, hn => by
    funext b d
    rw [show outsAt0 m c 0 hn = _ from outsAt0_A m c ⟨0, hn⟩ rfl, out_A]
    simp only [hM]
    exact point h ⟨0, hn⟩ _ _ (funext fun b => funext fun d => (block3 M ⟨0, hn⟩ b d).trans (h.classes b d)) b d
  | n + 1, hn => by
    have hN : cfg0.N = 10 := points
    have hB : ¬(⟨n + 1, hn⟩ : Fin cfg0.N).val % 10 = 0 := by dsimp only; omega
    funext b d
    rw [show outsAt0 m c (n + 1) hn = _ from outsAt0_B m c ⟨n + 1, hn⟩ hB, out_B]
    simp only [hM]
    exact point h ⟨n + 1, hn⟩ _ _ (outsAt_eq hM h n (Nat.lt_of_succ_lt hn)) b d

/-- The result: what the last point leaves. -/
abbrev result (m : (ℓ : Loc nD τ sig) → Buf (Elt Ideal) ℓ) (c : Dev nD) : Buf (Elt Ideal) ((c : Thread nD τ).loc main_v124) :=
  outsAt0 m c 9 (by rw [points]; decide)

/-- The one write-back, at the last point, writes it. -/
theorem flushed_eq (t : Fin cfg0.N) (hf : (cfg0.win 4).flush t = true) :
    (dats m 0 c).flushed 4 t = ((cfg0.win 4).blk t).view.read (Elt Ideal) (result m c) := by
  have hN : cfg0.N = 10 := points
  have h9 : t.val = 9 := by have := (flush0_4 t).mp hf; have := t.isLt; omega
  obtain rfl : t = t0_9 := Fin.ext h9
  show (cfg0.win 4).cut (grid0.coords t0_9) ((dats m 0 c).after 4 t0_9) = _
  rw [after0_4]
  have hz' : (fun a => win0_4.index t0_9 a * main_v124.ty.shape.size a) = fun _ => 0 := funext fun a => by fin_cases a <;> decide
  exact (Memref.read_access_unit_zero (Elt Ideal) main_v124 hz' (fun a => by rw [congrFun hz' a]; simp) (result m c)).symm

/-- So the result array ends holding it. -/
theorem final : (dats m 0 c).arrAt 4 cfg0.N = result m c :=
  (dats m 0 c).arrAt_eq_of_cover 4 (result m c) flushed_eq fun i =>
    ⟨t0_9, (flush0_4 t0_9).mpr rfl, by
      show i ∈ ((View.whole main_v124).slice (win0_4.rect t0_9)).set
      rw [View.set_slice_whole, Rect.mem_set_unit]
      intro a
      have h0 : (i 0 : Nat) < 8 := (i 0).isLt
      have h1 : (i 1 : Nat) < 32768 := (i 1).isLt
      match a with
      | ⟨0, _⟩ => show win0_4.index t0_9 0 * win0_4.size 0 ≤ (i 0 : Nat) ∧ (i 0 : Nat) < win0_4.index t0_9 0 * win0_4.size 0 + win0_4.xsize (grid0.coords t0_9) 0
                  rw [show win0_4.index t0_9 0 * win0_4.size 0 = 0 from by decide +kernel, show win0_4.xsize (grid0.coords t0_9) 0 = 8 from by decide +kernel]; omega
      | ⟨1, _⟩ => show win0_4.index t0_9 1 * win0_4.size 1 ≤ (i 1 : Nat) ∧ (i 1 : Nat) < win0_4.index t0_9 1 * win0_4.size 1 + win0_4.xsize (grid0.coords t0_9) 1
                  rw [show win0_4.index t0_9 1 * win0_4.size 1 = 0 from by decide +kernel, show win0_4.xsize (grid0.coords t0_9) 1 = 32768 from by decide +kernel]; omega⟩

/-- The returned array, coordinate by coordinate. -/
theorem final_at (hM : ∀ w t, iblk m c w t = piece M w t) (h : Operands M W X) (b : Fin 8) (d : Fin 32768) :
    result m c (ix2 b d) = Spec.chain W X 10 b d :=
  congrFun (congrFun (outsAt_eq hM h 9 _) b) d

end Cert.KernelArray

end
-- ==== Proof.KernelHost.lean ====
/- What the host code hands to the kernel call: the noise of the ten draws, their uniform numbers and the weights, each in the
   layout the kernel reads. -/
module

public import proofs.«01_k».proof.Proof.KernelArray
public import proofs.«01_k».proof.Proof.IdealHost

@[expose] public section

set_option maxRecDepth 33880

noncomputable section

namespace Cert.KernelHost

open Cert.KernelIdeal Cert.KernelIdeal.Gen Cert.Lines Cert.IdealHost Idealize.ShloMosaic Idealize.ShloMosaic.StableHlo Idealize.ShloMosaic.TcCoe

variable {M : Valuation τ sig (Elt Ideal)}

/-- One draw goes from the key of a step to the next key, the step's noise and its uniform numbers. -/
theorem draw_of {k : TRef sig ⟨S2, .i32⟩} {φ : Rng.Draw sig} {j : Nat} (h : (Rng.drawOps k φ).Forall (Holds M)) (hk : rd M k = Rng.key j) :
    rd M φ.v9 = Rng.key (j + 1) ∧ rd M φ.g.v4 = Rng.noiseOf Ideal j ∧ rd M φ.u.v30 = Rng.acceptOf Ideal j := by
  obtain ⟨a, b, c⟩ := Rng.draw_line h
  rw [a, b, c, hk]
  exact ⟨rfl, rfl, rfl⟩

/-- The first key is the key of the seed. -/
theorem read_seed (h : (hostOps0 : List (HloOp τ sig (Elt Ideal))).Forall (Holds M)) : M (Proc.devRef .tc main_v6) = Rng.seed := by
  obtain ⟨h0, h1, h2, h3, h4, h5, h6, h7, h8, h9⟩ := h
  rw [eq_binary h9, eq_unary h8, eq_unary h7, eq_binary h6, eq_nullary h5, eq_unary h4, eq_unary h3, eq_binary h2, eq_nullary h1, eq_nullary h0]
  rfl

/-- Ten arrays of noise, stacked along a new first axis and turned so that the classes come second. -/
theorem stack_noise (f : Fin 10 → FVec Ideal S8x32768x4 .f32) (h) (t : Fin 10) (k : Fin 4) (b : Fin 8) (d : Fin 32768) :
    transpose S10x4x8x32768 [0, 3, 1, 2] (concatenate S10x8x32768x4 0 (List.ofFn fun n : Fin 10 =>
      (⟨S1x8x32768x4, broadcastInDim S1x8x32768x4 ![1, 2, 3] bcast_S8x32768x4_S1x8x32768x4_1_2_3 (f n)⟩ : (s : Shape) × (s.Idx → EReal))) h)
      transposes_S10x8x32768x4_S10x4x8x32768_0_3_1_2 (ix4 t k b d) = f t (ix3 b d k) := by
  generalize hf : (fun n : Fin 10 => broadcastInDim S1x8x32768x4 ![1, 2, 3] bcast_S8x32768x4_S1x8x32768x4_1_2_3 (f n)) = g
  have e := concatenate_ofFn_unit_apply (t := S10x8x32768x4) 0 g (by subst hf; exact h) rfl rfl (ix4 t b d k) t rfl (ix4 0 b d k) (fun a ha => by
    match a with
    | ⟨0, _⟩ => exact absurd rfl ha
    | ⟨1, _⟩ => rfl
    | ⟨2, _⟩ => rfl
    | ⟨3, _⟩ => rfl)
  subst hf
  refine Eq.trans ?_ (e.trans ?_)
  · generalize concatenate _ _ _ _ = y
    pointwise
  · pointwise

/-- The same of ten pieces written out. -/
theorem stack_noise_list (f : Fin 10 → FVec Ideal S8x32768x4 .f32) {x0 x1 x2 x3 x4 x5 x6 x7 x8 x9 : FVec Ideal S1x8x32768x4 .f32}
    (h0 : x0 = broadcastInDim S1x8x32768x4 ![1, 2, 3] bcast_S8x32768x4_S1x8x32768x4_1_2_3 (f 0))
    (h1 : x1 = broadcastInDim S1x8x32768x4 ![1, 2, 3] bcast_S8x32768x4_S1x8x32768x4_1_2_3 (f 1))
    (h2 : x2 = broadcastInDim S1x8x32768x4 ![1, 2, 3] bcast_S8x32768x4_S1x8x32768x4_1_2_3 (f 2))
    (h3 : x3 = broadcastInDim S1x8x32768x4 ![1, 2, 3] bcast_S8x32768x4_S1x8x32768x4_1_2_3 (f 3))
    (h4 : x4 = broadcastInDim S1x8x32768x4 ![1, 2, 3] bcast_S8x32768x4_S1x8x32768x4_1_2_3 (f 4))
    (h5 : x5 = broadcastInDim S1x8x32768x4 ![1, 2, 3] bcast_S8x32768x4_S1x8x32768x4_1_2_3 (f 5))
    (h6 : x6 = broadcastInDim S1x8x32768x4 ![1, 2, 3] bcast_S8x32768x4_S1x8x32768x4_1_2_3 (f 6))
    (h7 : x7 = broadcastInDim S1x8x32768x4 ![1, 2, 3] bcast_S8x32768x4_S1x8x32768x4_1_2_3 (f 7))
    (h8 : x8 = broadcastInDim S1x8x32768x4 ![1, 2, 3] bcast_S8x32768x4_S1x8x32768x4_1_2_3 (f 8))
    (h9 : x9 = broadcastInDim S1x8x32768x4 ![1, 2, 3] bcast_S8x32768x4_S1x8x32768x4_1_2_3 (f 9))
    (h) (t : Fin 10) (k : Fin 4) (b : Fin 8) (d : Fin 32768) :
    transpose S10x4x8x32768 [0, 3, 1, 2] (concatenate S10x8x32768x4 0 [⟨S1x8x32768x4, x0⟩, ⟨S1x8x32768x4, x1⟩, ⟨S1x8x32768x4, x2⟩, ⟨S1x8x32768x4, x3⟩, ⟨S1x8x32768x4, x4⟩, ⟨S1x8x32768x4, x5⟩, ⟨S1x8x32768x4, x6⟩, ⟨S1x8x32768x4, x7⟩, ⟨S1x8x32768x4, x8⟩, ⟨S1x8x32768x4, x9⟩] h)
      transposes_S10x8x32768x4_S10x4x8x32768_0_3_1_2 (ix4 t k b d) = f t (ix3 b d k) := by
  subst h0 h1 h2 h3 h4 h5 h6 h7 h8 h9
  exact stack_noise f h t k b d

/-- Ten rows of uniform numbers, stacked, with a last axis of extent 1. -/
theorem stack_uniform (f : Fin 10 → FVec Ideal S8 .f32) (h) (t : Fin 10) (b : Fin 8) :
    shapeCast S10x8x1 (concatenate S10x8 0 (List.ofFn fun n : Fin 10 =>
      (⟨S1x8, broadcastInDim S1x8 ![1] bcast_S8_S1x8_1 (f n)⟩ : (s : Shape) × (s.Idx → EReal))) h)
      shapeCasts_S10x8_S10x8x1 (ix3 t b 0) = f t (ix1 b) := by
  generalize hf : (fun n : Fin 10 => broadcastInDim S1x8 ![1] bcast_S8_S1x8_1 (f n)) = g
  have e := concatenate_ofFn_unit_apply (t := S10x8) 0 g (by subst hf; exact h) rfl rfl (ix2 t b) t rfl (ix2 0 b) (fun a ha => by
    match a with
    | ⟨0, _⟩ => exact absurd rfl ha
    | ⟨1, _⟩ => rfl)
  subst hf
  refine Eq.trans ?_ (e.trans ?_)
  · generalize concatenate _ _ _ _ = y
    pointwise
  · pointwise

/-- The same of ten pieces written out. -/
theorem stack_uniform_list (f : Fin 10 → FVec Ideal S8 .f32) {x0 x1 x2 x3 x4 x5 x6 x7 x8 x9 : FVec Ideal S1x8 .f32}
    (h0 : x0 = broadcastInDim S1x8 ![1] bcast_S8_S1x8_1 (f 0))
    (h1 : x1 = broadcastInDim S1x8 ![1] bcast_S8_S1x8_1 (f 1))
    (h2 : x2 = broadcastInDim S1x8 ![1] bcast_S8_S1x8_1 (f 2))
    (h3 : x3 = broadcastInDim S1x8 ![1] bcast_S8_S1x8_1 (f 3))
    (h4 : x4 = broadcastInDim S1x8 ![1] bcast_S8_S1x8_1 (f 4))
    (h5 : x5 = broadcastInDim S1x8 ![1] bcast_S8_S1x8_1 (f 5))
    (h6 : x6 = broadcastInDim S1x8 ![1] bcast_S8_S1x8_1 (f 6))
    (h7 : x7 = broadcastInDim S1x8 ![1] bcast_S8_S1x8_1 (f 7))
    (h8 : x8 = broadcastInDim S1x8 ![1] bcast_S8_S1x8_1 (f 8))
    (h9 : x9 = broadcastInDim S1x8 ![1] bcast_S8_S1x8_1 (f 9))
    (h) (t : Fin 10) (b : Fin 8) :
    shapeCast S10x8x1 (concatenate S10x8 0 [⟨S1x8, x0⟩, ⟨S1x8, x1⟩, ⟨S1x8, x2⟩, ⟨S1x8, x3⟩, ⟨S1x8, x4⟩, ⟨S1x8, x5⟩, ⟨S1x8, x6⟩, ⟨S1x8, x7⟩, ⟨S1x8, x8⟩, ⟨S1x8, x9⟩] h) shapeCasts_S10x8_S10x8x1 (ix3 t b 0) = f t (ix1 b) := by
  subst h0 h1 h2 h3 h4 h5 h6 h7 h8 h9
  exact stack_uniform f h t b

/-- The weights, turned, with four rows of zeros below. -/
theorem pad_weights (W : FVec Ideal S32768x4 .f32) (z : FVec Ideal S4x32768 .f32) (k : Fin 4) (d : Fin 32768) :
    concatenate S8x32768 0 [⟨S4x32768, transpose S4x32768 [1, 0] W transposes_S32768x4_S4x32768_1_0⟩, ⟨S4x32768, z⟩]
      concatenates_S4x32768_S4x32768_S8x32768_d0 (ix2 (k.castLE (by decide)) d) = W (ix2 d k) := by
  have hk : (k.castLE (by decide : 4 ≤ 8) : Fin 8).val < 4 := k.isLt
  pointwise
  exact dif_pos hk

/-- The operands, read off the last part of the host code. -/
theorem read_tail (h : (hostOps0_51 : List (HloOp τ sig (Elt Ideal))).Forall (Holds M)) (f : Fin 10 → FVec Ideal S8x32768x4 .f32) (u : Fin 10 → FVec Ideal S8 .f32)
    (f0 : M (Proc.devRef .tc main_v14) = f 0) (f1 : M (Proc.devRef .tc main_v23) = f 1) (f2 : M (Proc.devRef .tc main_v32) = f 2)
    (f3 : M (Proc.devRef .tc main_v41) = f 3) (f4 : M (Proc.devRef .tc main_v50) = f 4) (f5 : M (Proc.devRef .tc main_v59) = f 5)
    (f6 : M (Proc.devRef .tc main_v68) = f 6) (f7 : M (Proc.devRef .tc main_v77) = f 7) (f8 : M (Proc.devRef .tc main_v86) = f 8)
    (f9 : M (Proc.devRef .tc main_v95) = f 9)
    (u0 : M (Proc.devRef .tc main_v15) = u 0) (u1 : M (Proc.devRef .tc main_v24) = u 1) (u2 : M (Proc.devRef .tc main_v33) = u 2)
    (u3 : M (Proc.devRef .tc main_v42) = u 3) (u4 : M (Proc.devRef .tc main_v51) = u 4) (u5 : M (Proc.devRef .tc main_v60) = u 5)
    (u6 : M (Proc.devRef .tc main_v69) = u 6) (u7 : M (Proc.devRef .tc main_v78) = u 7) (u8 : M (Proc.devRef .tc main_v87) = u 8)
    (u9 : M (Proc.devRef .tc main_v96) = u 9) :
    (∀ (t : Fin 10) (k : Fin 4) (b : Fin 8) (d : Fin 32768), M (Proc.devRef .tc main_v108) (ix4 t k b d) = f t (ix3 b d k))
      ∧ (∀ (t : Fin 10) (b : Fin 8), M (Proc.devRef .tc main_v120) (ix3 t b 0) = u t (ix1 b))
      ∧ ∀ (k : Fin 4) (d : Fin 32768), M (Proc.devRef .tc main_v123) (ix2 (k.castLE (by decide)) d) = M (Proc.devRef .tc main_arg1) (ix2 d k) := by
  obtain ⟨h0, h1, h2, h3, h4, h5, h6, h7, h8, h9, h10, h11, h12, h13, h14, h15, h16, h17, h18, h19, h20, h21, h22, h23, h24, h25, h26, h27⟩ := h
  refine ⟨fun t k b d => ?_, fun t b => ?_, fun k d => ?_⟩
  · have e : M (Proc.devRef .tc main_v107) = concatenate S10x8x32768x4 0 [⟨S1x8x32768x4, M (Proc.devRef .tc main_v97)⟩, ⟨S1x8x32768x4, M (Proc.devRef .tc main_v98)⟩,
        ⟨S1x8x32768x4, M (Proc.devRef .tc main_v99)⟩, ⟨S1x8x32768x4, M (Proc.devRef .tc main_v100)⟩, ⟨S1x8x32768x4, M (Proc.devRef .tc main_v101)⟩,
        ⟨S1x8x32768x4, M (Proc.devRef .tc main_v102)⟩, ⟨S1x8x32768x4, M (Proc.devRef .tc main_v103)⟩, ⟨S1x8x32768x4, M (Proc.devRef .tc main_v104)⟩,
        ⟨S1x8x32768x4, M (Proc.devRef .tc main_v105)⟩, ⟨S1x8x32768x4, M (Proc.devRef .tc main_v106)⟩]
        concatenates_S1x8x32768x4_S1x8x32768x4_S1x8x32768x4_S1x8x32768x4_S1x8x32768x4_S1x8x32768x4_S1x8x32768x4_S1x8x32768x4_S1x8x32768x4_S1x8x32768x4_S10x8x32768x4_d0 := eq_nary h10
    rw [eq_unary h11, e]
    exact stack_noise_list f ((eq_unary h0).trans (congrArg _ f0)) ((eq_unary h1).trans (congrArg _ f1)) ((eq_unary h2).trans (congrArg _ f2)) ((eq_unary h3).trans (congrArg _ f3)) ((eq_unary h4).trans (congrArg _ f4)) ((eq_unary h5).trans (congrArg _ f5)) ((eq_unary h6).trans (congrArg _ f6)) ((eq_unary h7).trans (congrArg _ f7)) ((eq_unary h8).trans (congrArg _ f8)) ((eq_unary h9).trans (congrArg _ f9)) _ t k b d
  · have e : M (Proc.devRef .tc main_v119) = concatenate S10x8 0 [⟨S1x8, M (Proc.devRef .tc main_v109)⟩, ⟨S1x8, M (Proc.devRef .tc main_v110)⟩,
        ⟨S1x8, M (Proc.devRef .tc main_v111)⟩, ⟨S1x8, M (Proc.devRef .tc main_v112)⟩, ⟨S1x8, M (Proc.devRef .tc main_v113)⟩,
        ⟨S1x8, M (Proc.devRef .tc main_v114)⟩, ⟨S1x8, M (Proc.devRef .tc main_v115)⟩, ⟨S1x8, M (Proc.devRef .tc main_v116)⟩,
        ⟨S1x8, M (Proc.devRef .tc main_v117)⟩, ⟨S1x8, M (Proc.devRef .tc main_v118)⟩]
        concatenates_S1x8_S1x8_S1x8_S1x8_S1x8_S1x8_S1x8_S1x8_S1x8_S1x8_S10x8_d0 := eq_nary h22
    have e' : M (Proc.devRef .tc main_v120) = shapeCast S10x8x1 (M (Proc.devRef .tc main_v119)) shapeCasts_S10x8_S10x8x1 := eq_reshape h23
    rw [e', e]
    exact stack_uniform_list u ((eq_unary h12).trans (congrArg _ u0)) ((eq_unary h13).trans (congrArg _ u1)) ((eq_unary h14).trans (congrArg _ u2)) ((eq_unary h15).trans (congrArg _ u3)) ((eq_unary h16).trans (congrArg _ u4)) ((eq_unary h17).trans (congrArg _ u5)) ((eq_unary h18).trans (congrArg _ u6)) ((eq_unary h19).trans (congrArg _ u7)) ((eq_unary h20).trans (congrArg _ u8)) ((eq_unary h21).trans (congrArg _ u9)) _ t b
  · rw [eq_binary h27, eq_unary h24]
    exact pad_weights _ _ k d

/-- What the operands hold, whenever every operation of the host code holds as an equation. -/
theorem operands_of {c : Dev nD} (h : (hostOps : List (HloOp τ sig (Elt Ideal))).Forall (Holds M)) :
    KernelArray.Operands (c := c) (fun b => M (Proc.devRef .tc b)) (fun d k => M (Proc.devRef .tc main_arg1) (ix2 d k))
      (fun b d => M (Proc.devRef .tc main_arg0) (ix2 b d)) := by
  rw [hostOps_eq] at h
  simp only [List.forall_append] at h
  obtain ⟨hh, d0, d1, d2, d3, d4, d5, d6, d7, d8, d9, ht⟩ := h
  obtain ⟨k1, g0, a0⟩ := draw_of (j := 0) d0 (read_seed hh)
  obtain ⟨k2, g1, a1⟩ := draw_of d1 k1
  obtain ⟨k3, g2, a2⟩ := draw_of d2 k2
  obtain ⟨k4, g3, a3⟩ := draw_of d3 k3
  obtain ⟨k5, g4, a4⟩ := draw_of d4 k4
  obtain ⟨k6, g5, a5⟩ := draw_of d5 k5
  obtain ⟨k7, g6, a6⟩ := draw_of d6 k6
  obtain ⟨k8, g7, a7⟩ := draw_of d7 k7
  obtain ⟨k9, g8, a8⟩ := draw_of d8 k8
  obtain ⟨_, g9, a9⟩ := draw_of d9 k9
  obtain ⟨n, u, w⟩ := read_tail ht (fun t => Rng.noiseOf Ideal t.val) (fun t => Rng.acceptOf Ideal t.val) g0 g1 g2 g3 g4 g5 g6 g7 g8 g9 a0 a1 a2 a3 a4 a5 a6 a7 a8 a9
  exact ⟨n, u, w, fun _ _ => rfl⟩

end Cert.KernelHost

end
-- ==== Proof.KernelValue.lean ====
/- The kernel's run: its result is the classes after ten steps. -/
module

public import proofs.«01_k».proof.Proof.KernelHost

@[expose] public section

set_option maxRecDepth 33880

noncomputable section

namespace Cert.KernelValue

open Cert.KernelIdeal Cert.KernelIdeal.Gen Cert.Lines Cert.IdealHost Idealize.ShloMosaic Idealize.ShloMosaic.StableHlo Idealize.ShloMosaic.TcCoe Idealize.SL.Sem

variable (m : (ℓ : Loc nD τ sig) → Buf (Elt Ideal) ℓ) (ρ : Dev nD → PrngReg)

/-- The blocks are cut out of what the host code leaves. -/
theorem iblk_eq (c : Dev nD) (w : Fin cfg0.W) (t : Fin cfg0.N) : iblk m c w t = KernelArray.piece (c := c) (fun b => V m c b) w t := by
  unfold iblk KernelArray.piece; rfl

/-- What the operands hold when the kernel is called, in terms of the arguments. -/
theorem operands (c : Dev nD) : KernelArray.Operands (c := c) (fun b => V m c b)
    (fun d k => m ((c : Thread nD τ).loc main_arg1) (ix2 d k)) (fun b d => m ((c : Thread nD τ).loc main_arg0) (ix2 b d)) := by
  have h := KernelHost.operands_of (c := c) (after_holds (hostOps_line (F := Ideal)) fun b => m (c, b))
  exact ⟨h.noise, h.uniform, fun k d => (h.weight k d).trans (congrFun (V_main_arg1 m c) _), fun b d => congrFun (V_main_arg0 m c) _⟩

/-- The kernel returns this array, and its arguments are unchanged. -/
theorem run : θ_run (defs (F := Ideal)) (onTc (τ := τ) (main (F := Ideal))) ⟨m, fun _ => 0, ρ⟩ fun r => ∀ c : Dev nD,
      r.2.mem ((c : Thread nD τ).loc main_v124) = KernelArray.result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans KernelArray.final, (h c).2⟩) (Cert.KernelIdeal.Value.run_blocks m ρ)

/-- The array, coordinate by coordinate. -/
theorem result_at (c : Dev nD) (b : Fin 8) (d : Fin 32768) : KernelArray.result m c (ix2 b d)
    = Spec.chain (fun d k => m ((c : Thread nD τ).loc main_arg1) (ix2 d k)) (fun b d => m ((c : Thread nD τ).loc main_arg0) (ix2 b d)) 10 b d :=
  KernelArray.final_at (iblk_eq m c) (operands m c) b d

end Cert.KernelValue

end
-- ==== Proof.Tame.lean ====
/- Operations of the host code that touch tensor buffers only and allocate nothing, and the operation of four operands. -/
module

public import proofs.«01_k».proof.Proof.RngLine

@[expose] public section

noncomputable section

namespace Cert.Lines

open Idealize.ShloMosaic Idealize.ShloMosaic.StableHlo

section Kinds

variable {τ : Topo} {sig : RefSig} {Val : EltTy → Type} {a b c e x y : Ref sig .tc}

/-- The operation touches tensor buffers only and allocates nothing. -/
abbrev Tame (op : HloOp τ sig Val) : Prop := op.bufs ⊆ tcRefs τ sig ∧ op.fresh = ∅

theorem tame_nullary (v : y.ty.Contents Val) (hy) : Tame (nullary (τ := τ) y v hy) := ⟨nullary_bufs_sub .., rfl⟩
theorem tame_unary (f : x.ty.Contents Val → y.ty.Contents Val) (hx hy) : Tame (unary (τ := τ) x y f hx hy) := ⟨unary_bufs_sub .., rfl⟩
theorem tame_reshape (he hn hx hy) : Tame (reshape (τ := τ) (Val := Val) x y he hn hx hy) := ⟨reshape_bufs_sub .., rfl⟩
theorem tame_binary (f : a.ty.Contents Val → b.ty.Contents Val → y.ty.Contents Val) (ha hb hy) :
    Tame (binary (τ := τ) a b y f ha hb hy) := ⟨binary_bufs_sub .., rfl⟩
theorem tame_ternary (f : c.ty.Contents Val → a.ty.Contents Val → b.ty.Contents Val → y.ty.Contents Val) (hc ha hb hy) :
    Tame (ternary (τ := τ) c a b y f hc ha hb hy) := ⟨ternary_bufs_sub .., rfl⟩
theorem tame_quaternary (f : a.ty.Contents Val → b.ty.Contents Val → c.ty.Contents Val → e.ty.Contents Val → y.ty.Contents Val) (ha hb hc he hy) :
    Tame (quaternary (τ := τ) a b c e y f ha hb hc he hy) := ⟨quaternary_bufs_sub .., rfl⟩
theorem tame_nary {m : Nat} (xs : Fin m → Ref sig .tc) (f : ((k : Fin m) → (xs k).ty.Contents Val) → y.ty.Contents Val) (hxs hy) :
    Tame (nary (τ := τ) xs y f hxs hy) := ⟨nary_bufs_sub .., rfl⟩

theorem tame_append {k l : List (HloOp τ sig Val)} (hk : k.Forall Tame) (hl : l.Forall Tame) : (k ++ l).Forall Tame :=
  List.forall_append.mpr ⟨hk, hl⟩

theorem fresh_quaternary {n : Nat} (f : a.ty.Contents Val → b.ty.Contents Val → c.ty.Contents Val → e.ty.Contents Val → y.ty.Contents Val)
    (ha hb hc he hy) (h : num (Proc.devRef (τ := τ) .tc y) = n) (h0 : num (Proc.devRef (τ := τ) .tc a) < n)
    (h1 : num (Proc.devRef (τ := τ) .tc b) < n) (h2 : num (Proc.devRef (τ := τ) .tc c) < n) (h3 : num (Proc.devRef (τ := τ) .tc e) < n) :
    Fresh (quaternary (τ := τ) a b c e y f ha hb hc he hy) n :=
  fresh_of _ rfl h fun M M' hM => by rw [quaternary_result, quaternary_result, hM _ h0, hM _ h1, hM _ h2, hM _ h3]

theorem eq_quaternary {M : Valuation τ sig Val}
    {f : a.ty.Contents Val → b.ty.Contents Val → c.ty.Contents Val → e.ty.Contents Val → y.ty.Contents Val} {ha hb hc he hy}
    (h : Holds M (quaternary a b c e y f ha hb hc he hy)) :
    M (Proc.devRef .tc y) = f (M (Proc.devRef .tc a)) (M (Proc.devRef .tc b)) (M (Proc.devRef .tc c)) (M (Proc.devRef .tc e)) :=
  (congrFun h _).symm.trans (quaternary_result ..)

theorem rd_quaternary {Ta Tb Tc Te Ty : BufTy} {M : Valuation τ sig Val} {a : TRef sig Ta} {b : TRef sig Tb} {c : TRef sig Tc} {e : TRef sig Te}
    {y : TRef sig Ty} {f : Ta.Contents Val → Tb.Contents Val → Tc.Contents Val → Te.Contents Val → Ty.Contents Val}
    (h : Holds M (TRef.quaternary a b c e y f)) : rd M y = f (rd M a) (rd M b) (rd M c) (rd M e) := rd_toBuf y _ (eq_quaternary h)

end Kinds

end Cert.Lines

namespace Cert.Rng

open Idealize.ShloMosaic Idealize.ShloMosaic.StableHlo Cert.Lines

variable {F : FTy → Type} [FloatOps F] {τ : Topo} {sig : RefSig} {S : Shape} (hb : S_.BroadcastsInDim S (![] : Fin 0 → Fin S.rank))

theorem mix_tame (r r' : BitVec 32) (x0 x1 : TRef sig ⟨S, .i32⟩) (φ : Mix sig S) :
    (mixOps hb r r' x0 x1 φ : List (HloOp τ sig (Elt F))).Forall Tame :=
  ⟨tame_binary .., tame_nullary .., tame_unary .., tame_binary .., tame_nullary .., tame_unary .., tame_binary .., tame_binary .., tame_binary ..⟩

theorem inject_tame (k k' : TRef sig ⟨S_, .i32⟩) (n : BitVec 32) (x0 x1 : TRef sig ⟨S, .i32⟩) (φ : Inject sig S) :
    (injectOps hb k k' n x0 x1 φ : List (HloOp τ sig (Elt F))).Forall Tame :=
  ⟨tame_unary .., tame_binary .., tame_unary .., tame_binary .., tame_nullary .., tame_unary .., tame_binary ..⟩

theorem block_tame (r : Fin 4 → BitVec 32 × BitVec 32) (k k' : TRef sig ⟨S_, .i32⟩) (n : BitVec 32) (x0 x1 : TRef sig ⟨S, .i32⟩)
    (φ : Block sig S) : (blockOps hb r k k' n x0 x1 φ : List (HloOp τ sig (Elt F))).Forall Tame :=
  tame_append (mix_tame ..) (tame_append (mix_tame ..) (tame_append (mix_tame ..) (tame_append (mix_tame ..) (inject_tame ..))))

theorem threefry_tame (k0 k1 : TRef sig ⟨S_, .i32⟩) (x0 x1 : TRef sig ⟨S, .i32⟩) (φ : Threefry sig S) :
    (threefryOps hb k0 k1 x0 x1 φ : List (HloOp τ sig (Elt F))).Forall Tame :=
  tame_append ⟨tame_binary .., tame_nullary .., tame_binary .., tame_unary .., tame_binary .., tame_unary .., tame_binary ..⟩
    (tame_append (block_tame ..) (tame_append (block_tame ..) (tame_append (block_tame ..) (tame_append (block_tame ..) (block_tame ..)))))

theorem split_tame (arg0 : TRef sig ⟨S2, .i32⟩) (φ : Split sig) : (splitOps arg0 φ : List (HloOp τ sig (Elt F))).Forall Tame :=
  tame_append ⟨tame_unary .., tame_reshape .., tame_unary .., tame_reshape .., tame_nullary .., tame_nullary .., tame_unary .., tame_binary .., tame_nullary .., tame_unary .., tame_binary .., tame_unary .., tame_unary ..⟩
    (tame_append (threefry_tame ..) ⟨tame_unary .., tame_unary .., tame_binary ..⟩)

theorem uniform_tame (arg0 : TRef sig ⟨S2, .i32⟩) (arg1 arg2 : TRef sig ⟨S_, .f32⟩) (φ : Uniform sig) :
    (uniformOps arg0 arg1 arg2 φ : List (HloOp τ sig (Elt F))).Forall Tame :=
  tame_append ⟨tame_unary .., tame_unary .., tame_unary .., tame_unary .., tame_reshape .., tame_unary .., tame_reshape .., tame_nullary .., tame_nullary .., tame_nullary .., tame_nullary .., tame_unary .., tame_binary .., tame_nullary .., tame_unary .., tame_binary .., tame_nullary .., tame_unary .., tame_binary .., tame_binary .., tame_binary .., tame_nullary .., tame_unary .., tame_binary .., tame_unary .., tame_unary ..⟩
    (tame_append (threefry_tame ..) ⟨tame_binary .., tame_nullary .., tame_unary .., tame_binary .., tame_nullary .., tame_unary .., tame_binary .., tame_unary .., tame_nullary .., tame_unary .., tame_binary .., tame_binary .., tame_unary .., tame_binary .., tame_unary .., tame_binary .., tame_unary .., tame_binary ..⟩)

theorem gumbel_tame (arg0 : TRef sig ⟨S2, .i32⟩) (φ : Gumbel sig) : (gumbelOps arg0 φ : List (HloOp τ sig (Elt F))).Forall Tame :=
  tame_append ⟨tame_nullary .., tame_nullary ..⟩ (tame_append (uniform_tame ..) ⟨tame_unary .., tame_unary .., tame_unary .., tame_unary ..⟩)

theorem uniform8_tame (arg0 : TRef sig ⟨S2, .i32⟩) (arg1 arg2 : TRef sig ⟨S_, .f32⟩) (φ : Uniform8 sig) :
    (uniform8Ops arg0 arg1 arg2 φ : List (HloOp τ sig (Elt F))).Forall Tame :=
  tame_append ⟨tame_unary .., tame_unary .., tame_unary .., tame_unary .., tame_unary .., tame_reshape .., tame_unary .., tame_reshape .., tame_nullary .., tame_nullary .., tame_unary .., tame_binary .., tame_nullary .., tame_unary .., tame_binary .., tame_unary .., tame_unary ..⟩
    (tame_append (threefry_tame ..) ⟨tame_binary .., tame_nullary .., tame_unary .., tame_binary .., tame_nullary .., tame_unary .., tame_binary .., tame_unary .., tame_nullary .., tame_unary .., tame_binary .., tame_binary .., tame_unary .., tame_binary .., tame_unary .., tame_binary .., tame_unary .., tame_binary ..⟩)

end Cert.Rng

end

end
-- ==== Proof.RefOps.lean ====
/- The operations of the reference program, stretch by stretch, and the program as the chain of its stretches. -/
module

public import proofs.«01_k».proof.Proof.Tame
public import proofs.«01_k».proof.Proof.Gen.ReferenceIdeal
public import Idealize.ShloMosaic.Lib.Pipeline.Regions
public import Idealize.ShloMosaic.Lib.StableHlo.RunLoop
public import Idealize.ShloMosaic.Lib.Scf.ExitTest
public import Idealize.ShloMosaic.Lib.Scf.Counter

@[expose] public section

set_option maxRecDepth 16384

noncomputable section

namespace Cert.Ref

open Cert.ReferenceIdeal Cert.ReferenceIdeal.Gen Cert.Lines Idealize.ShloMosaic Idealize.ShloMosaic.StableHlo
open Idealize.ShloMosaic.TcCoe Idealize.SL Idealize.SL.RA Idealize.SL.BI
open scoped Idealize.SL.BI
open Idealize.SL.BI.BIBase Idealize.SL.Sem

variable {F : FTy → Type} [FloatOps F]

/-- The buffers of `fn_threefry2x32`, grouped by rounds. -/
noncomputable abbrev hash3 (φ : fn_threefry2x32.Bufs) : Rng.Threefry sig Rng.S3 :=
  ⟨φ.v0, φ.c, φ.v1, φ.v2, φ.v3, φ.v4, φ.v5, ⟨⟨φ.v6, φ.c_0, φ.v7, φ.v8, φ.c_1, φ.v9, φ.v10, φ.v11, φ.v12⟩, ⟨φ.v13, φ.c_2, φ.v14, φ.v15, φ.c_3, φ.v16, φ.v17, φ.v18, φ.v19⟩, ⟨φ.v20, φ.c_4, φ.v21, φ.v22, φ.c_5, φ.v23, φ.v24, φ.v25, φ.v26⟩, ⟨φ.v27, φ.c_6, φ.v28, φ.v29, φ.c_7, φ.v30, φ.v31, φ.v32, φ.v33⟩, ⟨φ.v34, φ.v35, φ.v36, φ.v37, φ.c_8, φ.v38, φ.v39⟩⟩, ⟨⟨φ.v40, φ.c_9, φ.v41, φ.v42, φ.c_10, φ.v43, φ.v44, φ.v45, φ.v46⟩, ⟨φ.v47, φ.c_11, φ.v48, φ.v49, φ.c_12, φ.v50, φ.v51, φ.v52, φ.v53⟩, ⟨φ.v54, φ.c_13, φ.v55, φ.v56, φ.c_14, φ.v57, φ.v58, φ.v59, φ.v60⟩, ⟨φ.v61, φ.c_15, φ.v62, φ.v63, φ.c_16, φ.v64, φ.v65, φ.v66, φ.v67⟩, ⟨φ.v68, φ.v69, φ.v70, φ.v71, φ.c_17, φ.v72, φ.v73⟩⟩, ⟨⟨φ.v74, φ.c_18, φ.v75, φ.v76, φ.c_19, φ.v77, φ.v78, φ.v79, φ.v80⟩, ⟨φ.v81, φ.c_20, φ.v82, φ.v83, φ.c_21, φ.v84, φ.v85, φ.v86, φ.v87⟩, ⟨φ.v88, φ.c_22, φ.v89, φ.v90, φ.c_23, φ.v91, φ.v92, φ.v93, φ.v94⟩, ⟨φ.v95, φ.c_24, φ.v96, φ.v97, φ.c_25, φ.v98, φ.v99, φ.v100, φ.v101⟩, ⟨φ.v102, φ.v103, φ.v104, φ.v105, φ.c_26, φ.v106, φ.v107⟩⟩, ⟨⟨φ.v108, φ.c_27, φ.v109, φ.v110, φ.c_28, φ.v111, φ.v112, φ.v113, φ.v114⟩, ⟨φ.v115, φ.c_29, φ.v116, φ.v117, φ.c_30, φ.v118, φ.v119, φ.v120, φ.v121⟩, ⟨φ.v122, φ.c_31, φ.v123, φ.v124, φ.c_32, φ.v125, φ.v126, φ.v127, φ.v128⟩, ⟨φ.v129, φ.c_33, φ.v130, φ.v131, φ.c_34, φ.v132, φ.v133, φ.v134, φ.v135⟩, ⟨φ.v136, φ.v137, φ.v138, φ.v139, φ.c_35, φ.v140, φ.v141⟩⟩, ⟨⟨φ.v142, φ.c_36, φ.v143, φ.v144, φ.c_37, φ.v145, φ.v146, φ.v147, φ.v148⟩, ⟨φ.v149, φ.c_38, φ.v150, φ.v151, φ.c_39, φ.v152, φ.v153, φ.v154, φ.v155⟩, ⟨φ.v156, φ.c_40, φ.v157, φ.v158, φ.c_41, φ.v159, φ.v160, φ.v161, φ.v162⟩, ⟨φ.v163, φ.c_42, φ.v164, φ.v165, φ.c_43, φ.v166, φ.v167, φ.v168, φ.v169⟩, ⟨φ.v170, φ.v171, φ.v172, φ.v173, φ.c_44, φ.v174, φ.v175⟩⟩⟩

/-- The buffers of `fn_threefry2x32_0`, grouped by rounds. -/
noncomputable abbrev hashN (φ : fn_threefry2x32_0.Bufs) : Rng.Threefry sig Rng.S8x32768x4 :=
  ⟨φ.v0, φ.c, φ.v1, φ.v2, φ.v3, φ.v4, φ.v5, ⟨⟨φ.v6, φ.c_0, φ.v7, φ.v8, φ.c_1, φ.v9, φ.v10, φ.v11, φ.v12⟩, ⟨φ.v13, φ.c_2, φ.v14, φ.v15, φ.c_3, φ.v16, φ.v17, φ.v18, φ.v19⟩, ⟨φ.v20, φ.c_4, φ.v21, φ.v22, φ.c_5, φ.v23, φ.v24, φ.v25, φ.v26⟩, ⟨φ.v27, φ.c_6, φ.v28, φ.v29, φ.c_7, φ.v30, φ.v31, φ.v32, φ.v33⟩, ⟨φ.v34, φ.v35, φ.v36, φ.v37, φ.c_8, φ.v38, φ.v39⟩⟩, ⟨⟨φ.v40, φ.c_9, φ.v41, φ.v42, φ.c_10, φ.v43, φ.v44, φ.v45, φ.v46⟩, ⟨φ.v47, φ.c_11, φ.v48, φ.v49, φ.c_12, φ.v50, φ.v51, φ.v52, φ.v53⟩, ⟨φ.v54, φ.c_13, φ.v55, φ.v56, φ.c_14, φ.v57, φ.v58, φ.v59, φ.v60⟩, ⟨φ.v61, φ.c_15, φ.v62, φ.v63, φ.c_16, φ.v64, φ.v65, φ.v66, φ.v67⟩, ⟨φ.v68, φ.v69, φ.v70, φ.v71, φ.c_17, φ.v72, φ.v73⟩⟩, ⟨⟨φ.v74, φ.c_18, φ.v75, φ.v76, φ.c_19, φ.v77, φ.v78, φ.v79, φ.v80⟩, ⟨φ.v81, φ.c_20, φ.v82, φ.v83, φ.c_21, φ.v84, φ.v85, φ.v86, φ.v87⟩, ⟨φ.v88, φ.c_22, φ.v89, φ.v90, φ.c_23, φ.v91, φ.v92, φ.v93, φ.v94⟩, ⟨φ.v95, φ.c_24, φ.v96, φ.v97, φ.c_25, φ.v98, φ.v99, φ.v100, φ.v101⟩, ⟨φ.v102, φ.v103, φ.v104, φ.v105, φ.c_26, φ.v106, φ.v107⟩⟩, ⟨⟨φ.v108, φ.c_27, φ.v109, φ.v110, φ.c_28, φ.v111, φ.v112, φ.v113, φ.v114⟩, ⟨φ.v115, φ.c_29, φ.v116, φ.v117, φ.c_30, φ.v118, φ.v119, φ.v120, φ.v121⟩, ⟨φ.v122, φ.c_31, φ.v123, φ.v124, φ.c_32, φ.v125, φ.v126, φ.v127, φ.v128⟩, ⟨φ.v129, φ.c_33, φ.v130, φ.v131, φ.c_34, φ.v132, φ.v133, φ.v134, φ.v135⟩, ⟨φ.v136, φ.v137, φ.v138, φ.v139, φ.c_35, φ.v140, φ.v141⟩⟩, ⟨⟨φ.v142, φ.c_36, φ.v143, φ.v144, φ.c_37, φ.v145, φ.v146, φ.v147, φ.v148⟩, ⟨φ.v149, φ.c_38, φ.v150, φ.v151, φ.c_39, φ.v152, φ.v153, φ.v154, φ.v155⟩, ⟨φ.v156, φ.c_40, φ.v157, φ.v158, φ.c_41, φ.v159, φ.v160, φ.v161, φ.v162⟩, ⟨φ.v163, φ.c_42, φ.v164, φ.v165, φ.c_43, φ.v166, φ.v167, φ.v168, φ.v169⟩, ⟨φ.v170, φ.v171, φ.v172, φ.v173, φ.c_44, φ.v174, φ.v175⟩⟩⟩

/-- The buffers of `fn_threefry2x32_2`, grouped by rounds. -/
noncomputable abbrev hash8 (φ : fn_threefry2x32_2.Bufs) : Rng.Threefry sig Rng.S8 :=
  ⟨φ.v0, φ.c, φ.v1, φ.v2, φ.v3, φ.v4, φ.v5, ⟨⟨φ.v6, φ.c_0, φ.v7, φ.v8, φ.c_1, φ.v9, φ.v10, φ.v11, φ.v12⟩, ⟨φ.v13, φ.c_2, φ.v14, φ.v15, φ.c_3, φ.v16, φ.v17, φ.v18, φ.v19⟩, ⟨φ.v20, φ.c_4, φ.v21, φ.v22, φ.c_5, φ.v23, φ.v24, φ.v25, φ.v26⟩, ⟨φ.v27, φ.c_6, φ.v28, φ.v29, φ.c_7, φ.v30, φ.v31, φ.v32, φ.v33⟩, ⟨φ.v34, φ.v35, φ.v36, φ.v37, φ.c_8, φ.v38, φ.v39⟩⟩, ⟨⟨φ.v40, φ.c_9, φ.v41, φ.v42, φ.c_10, φ.v43, φ.v44, φ.v45, φ.v46⟩, ⟨φ.v47, φ.c_11, φ.v48, φ.v49, φ.c_12, φ.v50, φ.v51, φ.v52, φ.v53⟩, ⟨φ.v54, φ.c_13, φ.v55, φ.v56, φ.c_14, φ.v57, φ.v58, φ.v59, φ.v60⟩, ⟨φ.v61, φ.c_15, φ.v62, φ.v63, φ.c_16, φ.v64, φ.v65, φ.v66, φ.v67⟩, ⟨φ.v68, φ.v69, φ.v70, φ.v71, φ.c_17, φ.v72, φ.v73⟩⟩, ⟨⟨φ.v74, φ.c_18, φ.v75, φ.v76, φ.c_19, φ.v77, φ.v78, φ.v79, φ.v80⟩, ⟨φ.v81, φ.c_20, φ.v82, φ.v83, φ.c_21, φ.v84, φ.v85, φ.v86, φ.v87⟩, ⟨φ.v88, φ.c_22, φ.v89, φ.v90, φ.c_23, φ.v91, φ.v92, φ.v93, φ.v94⟩, ⟨φ.v95, φ.c_24, φ.v96, φ.v97, φ.c_25, φ.v98, φ.v99, φ.v100, φ.v101⟩, ⟨φ.v102, φ.v103, φ.v104, φ.v105, φ.c_26, φ.v106, φ.v107⟩⟩, ⟨⟨φ.v108, φ.c_27, φ.v109, φ.v110, φ.c_28, φ.v111, φ.v112, φ.v113, φ.v114⟩, ⟨φ.v115, φ.c_29, φ.v116, φ.v117, φ.c_30, φ.v118, φ.v119, φ.v120, φ.v121⟩, ⟨φ.v122, φ.c_31, φ.v123, φ.v124, φ.c_32, φ.v125, φ.v126, φ.v127, φ.v128⟩, ⟨φ.v129, φ.c_33, φ.v130, φ.v131, φ.c_34, φ.v132, φ.v133, φ.v134, φ.v135⟩, ⟨φ.v136, φ.v137, φ.v138, φ.v139, φ.c_35, φ.v140, φ.v141⟩⟩, ⟨⟨φ.v142, φ.c_36, φ.v143, φ.v144, φ.c_37, φ.v145, φ.v146, φ.v147, φ.v148⟩, ⟨φ.v149, φ.c_38, φ.v150, φ.v151, φ.c_39, φ.v152, φ.v153, φ.v154, φ.v155⟩, ⟨φ.v156, φ.c_40, φ.v157, φ.v158, φ.c_41, φ.v159, φ.v160, φ.v161, φ.v162⟩, ⟨φ.v163, φ.c_42, φ.v164, φ.v165, φ.c_43, φ.v166, φ.v167, φ.v168, φ.v169⟩, ⟨φ.v170, φ.v171, φ.v172, φ.v173, φ.c_44, φ.v174, φ.v175⟩⟩⟩

noncomputable abbrev split (φ : fn_threefry_split.Bufs) : Rng.Split sig := ⟨φ.v0, φ.v1, φ.v2, φ.v3, φ.v4, φ.c, φ.v5, φ.v6, φ.c_0, φ.v7, φ.v8, φ.v9, φ.v10, hash3 φ.call0, φ.v12, φ.v13, φ.v14⟩

noncomputable abbrev uni (φ : fn_uniform.Bufs) : Rng.Uniform sig := ⟨φ.v0, φ.v1, φ.v2, φ.v3, φ.v4, φ.v5, φ.v6, φ.v7, φ.v8, φ.v9, φ.c, φ.v10, φ.v11, φ.c_0, φ.v12, φ.v13, φ.c_1, φ.v14, φ.v15, φ.v16, φ.v17, φ.c_2, φ.v18, φ.v19, φ.v20, φ.v21, hashN φ.call0, φ.v23, φ.c_3, φ.v24, φ.v25, φ.c_4, φ.v26, φ.v27, φ.v28, φ.cst, φ.v29, φ.v30, φ.v31, φ.v32, φ.v33, φ.v34, φ.v35, φ.v36, φ.v37⟩

noncomputable abbrev gum (φ : fn_gumbel.Bufs) : Rng.Gumbel sig := ⟨φ.cst, φ.cst_0, uni φ.call0, φ.v1, φ.v2, φ.v3, φ.v4⟩

noncomputable abbrev acc (φ : fn_uniform_1.Bufs) : Rng.Uniform8 sig := ⟨φ.v0, φ.v1, φ.v2, φ.v3, φ.v4, φ.v5, φ.v6, φ.v7, φ.v8, φ.c, φ.v9, φ.v10, φ.c_0, φ.v11, φ.v12, φ.v13, φ.v14, hash8 φ.call0, φ.v16, φ.c_1, φ.v17, φ.v18, φ.c_2, φ.v19, φ.v20, φ.v21, φ.cst, φ.v22, φ.v23, φ.v24, φ.v25, φ.v26, φ.v27, φ.v28, φ.v29, φ.v30⟩

/-- The operations of the choice of the largest entry. -/
abbrev argmaxOps (arg0 : TRef sig ⟨S8x32768x4, .f32⟩) (φ : fn_argmax.Bufs) : List (HloOp τ sig (Elt F)) :=
  [ StableHlo.TRef.nullary φ.v0 (iotaInDim S8x32768x4 32 2),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S8x32768x4_S8x32768_d2 h_S_ j).1),
    StableHlo.TRef.quaternary arg0 φ.v0 φ.cst φ.c φ.v1_1 (fun x y u v j => (Host.argReduce reducer_argmax_f32_i32 x y u v reducesTo_S8x32768x4_S8x32768_d2 h_S_ j).2) ]
theorem argmax_tame (arg0 : TRef sig ⟨S8x32768x4, .f32⟩) (φ : fn_argmax.Bufs) : (argmaxOps arg0 φ : List (HloOp τ sig (Elt F))).Forall Tame :=
  ⟨tame_nullary .., tame_nullary .., tame_nullary .., tame_quaternary .., tame_quaternary ..⟩

/-- The operations of the logarithm of the softmax. -/
abbrev softmaxOps (arg0 : TRef sig ⟨S8x32768x4, .f32⟩) (φ : fn_log_softmax.Bufs) : List (HloOp τ sig (Elt F)) :=
  [ StableHlo.TRef.nullary φ.cst (constant S_ .f32 0xFF800000#32),
    StableHlo.TRef.binary arg0 φ.cst φ.v0 (fun x v => Host.reduce FloatOps.maximumf x v reducesTo_S8x32768x4_S8x32768_d2 h_S_),
    StableHlo.TRef.nullary φ.cst_0 (constant S_ .f32 0xFF800000#32),
    StableHlo.TRef.unary φ.cst_0 φ.v1 (broadcastInDim S8x32768 ![] bcast_S_S8x32768),
    StableHlo.TRef.binary φ.v1 φ.v0 φ.v2 maximumf,
    StableHlo.TRef.unary φ.v2 φ.v3 (broadcastInDim S8x32768x1 ![0, 1] bcast_S8x32768_S8x32768x1_0_1),
    StableHlo.TRef.unary φ.v3 φ.v4 (broadcastInDim S8x32768x4 ![0, 1, 2] bcast_S8x32768x1_S8x32768x4_0_1_2),
    StableHlo.TRef.binary arg0 φ.v4 φ.v5 subf,
    StableHlo.TRef.unary φ.v5 φ.v6 Host.exp,
    StableHlo.TRef.nullary φ.cst_1 (constant S_ .f32 0x00000000#32),
    StableHlo.TRef.binary φ.v6 φ.cst_1 φ.v7 (fun x v => Host.reduceAdd x v reducesTo_S8x32768x4_S8x32768_d2 h_S_),
    StableHlo.TRef.unary φ.v7 φ.v8 (broadcastInDim S8x32768x1 ![0, 1] bcast_S8x32768_S8x32768x1_0_1),
    StableHlo.TRef.unary φ.v8 φ.v9 Host.log,
    StableHlo.TRef.unary φ.v9 φ.v10 (broadcastInDim S8x32768x4 ![0, 1, 2] bcast_S8x32768x1_S8x32768x4_0_1_2),
    StableHlo.TRef.binary φ.v5 φ.v10 φ.v11 subf ]
theorem softmax_tame (arg0 : TRef sig ⟨S8x32768x4, .f32⟩) (φ : fn_log_softmax.Bufs) : (softmaxOps arg0 φ : List (HloOp τ sig (Elt F))).Forall Tame :=
  ⟨tame_nullary .., tame_binary .., tame_nullary .., tame_unary .., tame_binary .., tame_unary .., tame_unary .., tame_binary .., tame_unary .., tame_nullary .., tame_binary .., tame_unary .., tame_unary .., tame_unary .., tame_binary ..⟩

/-- The operations of the choice of an entry by its class. -/
abbrev takeOps (arg0 : TRef sig ⟨S8x32768x4, .f32⟩) (arg1 : TRef sig ⟨S8x32768x1, .i32⟩) (φ : fn_take_along_axis.Bufs) : List (HloOp τ sig (Elt F)) :=
  [ StableHlo.TRef.nullary φ.c (constantI S_ 32 0#32),
    StableHlo.TRef.unary φ.c φ.v0 (broadcastInDim S8x32768x1 ![] bcast_S_S8x32768x1),
    StableHlo.TRef.binary arg1 φ.v0 φ.v1 (cmpi .slt),
    StableHlo.TRef.nullary φ.c_0 (constantI S_ 32 4#32),
    StableHlo.TRef.unary φ.c_0 φ.v2 (broadcastInDim S8x32768x1 ![] bcast_S_S8x32768x1),
    StableHlo.TRef.binary arg1 φ.v2 φ.v3 addi,
    StableHlo.TRef.ternary φ.v1 φ.v3 arg1 φ.v4 select,
    StableHlo.TRef.reshape φ.v4 φ.v5 (rfl : (.i32 : EltTy) = .i32) shapeCasts_S8x32768x1_S8x32768x1x1,
    StableHlo.TRef.nullary φ.c_1 (constantI S1 32 3#32),
    StableHlo.TRef.nullary φ.c_2 (constantI S_ 32 0#32),
    StableHlo.TRef.unary φ.c_2 φ.v6 (broadcastInDim S8x32768x1x1 ![] bcast_S_S8x32768x1x1),
    StableHlo.TRef.binary φ.v5 φ.v6 φ.v7 (cmpi .sge),
    StableHlo.TRef.unary φ.c_1 φ.v8 (broadcastInDim S1x1x1x1 ![3] bcast_S1_S1x1x1x1_3),
    StableHlo.TRef.unary φ.v8 φ.v9 (broadcastInDim S8x32768x1x1 ![0, 1, 2, 3] bcast_S1x1x1x1_S8x32768x1x1_0_1_2_3),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S8x32768x1x1_S8x32768x1_d3 h_S_),
    StableHlo.TRef.binary arg0 φ.v5 φ.v13 (fun x i => Host.gather gather_S8x32768x4_S8x32768x1x1_S8x32768x1_n_2_01_01_2_3_111 x i),
    StableHlo.TRef.nullary φ.cst (constant S_ .f32 0x7FC00000#32),
    StableHlo.TRef.unary φ.cst φ.v14 (broadcastInDim S8x32768x1 ![] bcast_S_S8x32768x1),
    StableHlo.TRef.ternary φ.v12 φ.v13 φ.v14 φ.v15 select ]
theorem take_tame (arg0 : TRef sig ⟨S8x32768x4, .f32⟩) (arg1 : TRef sig ⟨S8x32768x1, .i32⟩) (φ : fn_take_along_axis.Bufs) : (takeOps arg0 arg1 φ : List (HloOp τ sig (Elt F))).Forall Tame :=
  ⟨tame_nullary .., tame_unary .., tame_binary .., tame_nullary .., tame_unary .., tame_binary .., tame_ternary .., tame_reshape .., tame_nullary .., tame_nullary .., tame_unary .., tame_binary .., tame_unary .., tame_unary .., tame_binary .., tame_binary .., tame_nullary .., tame_binary .., tame_binary .., tame_nullary .., tame_unary .., tame_ternary ..⟩

/-- The operations before the loop. -/
abbrev entryOps : List (HloOp τ sig (Elt F)) :=
  [ StableHlo.nullary main_c (constantI S_ 32 42#32),
    StableHlo.nullary main_c_0 (constantI S_ 32 32#32),
    StableHlo.binary main_c main_c_0 main_v0 (Host.shrui : (⟨S_, .i32⟩ : BufTy).Contents (Elt F) → (⟨S_, .i32⟩ : BufTy).Contents (Elt F) → (⟨S_, .i32⟩ : BufTy).Contents (Elt F)),
    StableHlo.unary main_v0 main_v1 (id : (⟨S_, .i32⟩ : BufTy).Contents (Elt F) → (⟨S_, .i32⟩ : BufTy).Contents (Elt F)),
    StableHlo.unary main_v1 main_v2 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v3 (andi : (⟨S_, .i32⟩ : BufTy).Contents (Elt F) → (⟨S_, .i32⟩ : BufTy).Contents (Elt F) → (⟨S_, .i32⟩ : BufTy).Contents (Elt F)),
    StableHlo.unary main_v3 main_v4 (id : (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_c_2 (constantI S_ 32 0#32),
    StableHlo.nullary main_c_3 (constantI S_ 32 0#32),
    StableHlo.unary main_arg1 main_v7_0 id,
    StableHlo.unary main_c_3 main_v7_1 id,
    StableHlo.unary main_c_2 main_v7_2 id,
    StableHlo.unary main_v6 main_v7_3 id,
    StableHlo.unary main_arg0 main_v7_4 id ]
theorem entry_tame : (entryOps : List (HloOp τ sig (Elt F))).Forall Tame :=
  ⟨tame_nullary .., tame_nullary .., tame_binary .., tame_unary .., tame_unary .., tame_nullary .., tame_binary .., tame_unary .., tame_unary .., tame_binary .., tame_nullary .., tame_nullary .., tame_unary .., tame_unary .., tame_unary .., tame_unary .., tame_unary ..⟩

/-- 3 operations of the loop body. -/
abbrev own0 : List (HloOp τ sig (Elt F)) :=
  [ StableHlo.nullary main_while0b_c_8 (constantI S_ 32 1#32),
    StableHlo.binary main_v7_2 main_while0b_c_8 main_while0b_v8 (addi : (⟨S_, .i32⟩ : BufTy).Contents (Elt F) → (⟨S_, .i32⟩ : BufTy).Contents (Elt F) → (⟨S_, .i32⟩ : BufTy).Contents (Elt F)),
    StableHlo.nullary main_while0b_v9 (iotaInDim S32768 32 0) ]
theorem own0_tame : (own0 : List (HloOp τ sig (Elt F))).Forall Tame :=
  ⟨tame_nullary .., tame_binary .., tame_nullary ..⟩

/-- 103 operations of the loop body. -/
abbrev own1 : List (HloOp τ sig (Elt F)) :=
  [ StableHlo.unary main_while0b_v10 main_while0b_v11 ((extractStridedSlice S1x2 ![0, 0] · slices_S3x2_S1x2_0_0) : (⟨S3x2, .i32⟩ : BufTy).Contents (Elt F) → (⟨S1x2, .i32⟩ : BufTy).Contents (Elt F)),
    StableHlo.reshape main_while0b_v11 main_while0b_v12 (rfl : (.i32 : EltTy) = .i32) shapeCasts_S1x2_S2,
    StableHlo.unary main_while0b_v10 main_while0b_v13 ((extractStridedSlice S1x2 ![1, 0] · slices_S3x2_S1x2_1_0) : (⟨S3x2, .i32⟩ : BufTy).Contents (Elt F) → (⟨S1x2, .i32⟩ : BufTy).Contents (Elt F)),
    StableHlo.reshape main_while0b_v13 main_while0b_v14 (rfl : (.i32 : EltTy) = .i32) shapeCasts_S1x2_S2,
    StableHlo.unary main_while0b_v10 main_while0b_v15 ((extractStridedSlice S1x2 ![2, 0] · slices_S3x2_S1x2_2_0) : (⟨S3x2, .i32⟩ : BufTy).Contents (Elt F) → (⟨S1x2, .i32⟩ : BufTy).Contents (Elt F)),
    StableHlo.reshape main_while0b_v15 main_while0b_v16 (rfl : (.i32 : EltTy) = .i32) shapeCasts_S1x2_S2,
    StableHlo.nullary main_while0b_cst (constant S_ .f32 0x00000000#32),
    StableHlo.unary main_while0b_cst main_while0b_v17 (broadcastInDim S8x32768x4 ![] bcast_S_S8x32768x4 : (⟨S_, .f32⟩ : BufTy).Contents (Elt F) → (⟨S8x32768x4, .f32⟩ : BufTy).Contents (Elt F)),
    StableHlo.nullary main_while0b_v18 (iotaInDim S32768 32 0),
    StableHlo.unary main_v7_4 main_while0b_v19 ((extractStridedSlice S1x32768 ![0, 0] · slices_S8x32768_S1x32768_0_0) : (⟨S8x32768, .i32⟩ : BufTy).Contents (Elt F) → (⟨S1x32768, .i32⟩ : BufTy).Contents (Elt F)),
    StableHlo.reshape main_while0b_v19 main_while0b_v20 (rfl : (.i32 : EltTy) = .i32) shapeCasts_S1x32768_S32768,
    StableHlo.nullary main_while0b_c_9 (constantI S_ 32 0#32),
    StableHlo.unary main_while0b_c_9 main_while0b_v21 (broadcastInDim S32768 ![] bcast_S_S32768 : (⟨S_, .i32⟩ : BufTy).Contents (Elt F) → (⟨S32768, .i32⟩ : BufTy).Contents (Elt F)),
    StableHlo.binary main_while0b_v18 main_while0b_v21 main_while0b_v22 (cmpi .slt : (⟨S32768, .i32⟩ : BufTy).Contents (Elt F) → (⟨S32768, .i32⟩ : BufTy).Contents (Elt F) → (⟨S32768, .i1⟩ : BufTy).Contents (Elt F)),
    StableHlo.nullary main_while0b_c_10 (constantI S_ 32 32768#32),
    StableHlo.unary main_while0b_c_10 main_while0b_v23 (broadcastInDim S32768 ![] bcast_S_S32768 : (⟨S_, .i32⟩ : BufTy).Contents (Elt F) → (⟨S32768, .i32⟩ : BufTy).Contents (Elt F)),
    StableHlo.binary main_while0b_v18 main_while0b_v23 main_while0b_v24 (addi : (⟨S32768, .i32⟩ : BufTy).Contents (Elt F) → (⟨S32768, .i32⟩ : BufTy).Contents (Elt F) → (⟨S32768, .i32⟩ : BufTy).Contents (Elt F)),
    StableHlo.ternary main_while0b_v22 main_while0b_v24 main_while0b_v18 main_while0b_v25 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_while0b_c_11 (constantI S_ 32 0#32),
    StableHlo.unary main_while0b_c_11 main_while0b_v26 (broadcastInDim S32768 ![] bcast_S_S32768 : (⟨S_, .i32⟩ : BufTy).Contents (Elt F) → (⟨S32768, .i32⟩ : BufTy).Contents (Elt F)),
    StableHlo.binary main_while0b_v20 main_while0b_v26 main_while0b_v27 (cmpi .slt : (⟨S32768, .i32⟩ : BufTy).Contents (Elt F) → (⟨S32768, .i32⟩ : BufTy).Contents (Elt F) → (⟨S32768, .i1⟩ : BufTy).Contents (Elt F)),
    StableHlo.nullary main_while0b_c_12 (constantI S_ 32 4#32),
    StableHlo.unary main_while0b_c_12 main_while0b_v28 (broadcastInDim S32768 ![] bcast_S_S32768 : (⟨S_, .i32⟩ : BufTy).Contents (Elt F) → (⟨S32768, .i32⟩ : BufTy).Contents (Elt F)),
    StableHlo.binary main_while0b_v20 main_while0b_v28 main_while0b_v29 (addi : (⟨S32768, .i32⟩ : BufTy).Contents (Elt F) → (⟨S32768, .i32⟩ : BufTy).Contents (Elt F) → (⟨S32768, .i32⟩ : BufTy).Contents (Elt F)),
    StableHlo.ternary main_while0b_v27 main_while0b_v29 main_while0b_v20 main_while0b_v30 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_while0b_v25 main_while0b_v31 (broadcastInDim S32768x1 ![0] bcast_S32768_S32768x1_0 : (⟨S32768, .i32⟩ : BufTy).Contents (Elt F) → (⟨S32768x1, .i32⟩ : BufTy).Contents (Elt F)),
    StableHlo.unary main_while0b_v30 main_while0b_v32 (broadcastInDim S32768x1 ![0] bcast_S32768_S32768x1_0 : (⟨S32768, .i32⟩ : BufTy).Contents (Elt F) → (⟨S32768x1, .i32⟩ : BufTy).Contents (Elt F)),
    StableHlo.binary main_while0b_v31 main_while0b_v32 main_while0b_v33 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.nullary main_while0b_cst_13 (constant S_ .f32 0x3F800000#32),
    StableHlo.unary main_while0b_cst_13 main_while0b_v34 (broadcastInDim S8x32768 ![] bcast_S_S8x32768 : (⟨S_, .f32⟩ : BufTy).Contents (Elt F) → (⟨S8x32768, .f32⟩ : BufTy).Contents (Elt F)),
    StableHlo.ternary main_while0b_v17 main_while0b_v33 main_while0b_v34 main_while0b_v35 ((fun x i u => Host.scatter scatter_S8x32768x4_S32768x2_S8x32768_0_12_12_1 (fun _ b => b) x i u) : (⟨S8x32768x4, .f32⟩ : BufTy).Contents (Elt F) → (⟨S32768x2, .i32⟩ : BufTy).Contents (Elt F) → (⟨S8x32768, .f32⟩ : BufTy).Contents (Elt F) → (⟨S8x32768x4, .f32⟩ : BufTy).Contents (Elt F)),
    StableHlo.unary main_v7_0 main_while0b_v36 (broadcastInDim S1x32768x4 ![1, 2] bcast_S32768x4_S1x32768x4_1_2 : (⟨S32768x4, .f32⟩ : BufTy).Contents (Elt F) → (⟨S1x32768x4, .f32⟩ : BufTy).Contents (Elt F)),
    StableHlo.unary main_while0b_v36 main_while0b_v37 (broadcastInDim S8x32768x4 ![0, 1, 2] bcast_S1x32768x4_S8x32768x4_0_1_2 : (⟨S1x32768x4, .f32⟩ : BufTy).Contents (Elt F) → (⟨S8x32768x4, .f32⟩ : BufTy).Contents (Elt F)),
    StableHlo.binary main_while0b_v35 main_while0b_v37 main_while0b_v38 (mulf : (⟨S8x32768x4, .f32⟩ : BufTy).Contents (Elt F) → (⟨S8x32768x4, .f32⟩ : BufTy).Contents (Elt F) → (⟨S8x32768x4, .f32⟩ : BufTy).Contents (Elt F)),
    StableHlo.nullary main_while0b_cst_14 (constant S_ .f32 0x00000000#32),
    StableHlo.binary main_while0b_v38 main_while0b_cst_14 main_while0b_v39 ((fun x v => Host.reduceAdd x v reducesTo_S8x32768x4_S8_d1_2 h_S_) : (⟨S8x32768x4, .f32⟩ : BufTy).Contents (Elt F) → (⟨S_, .f32⟩ : BufTy).Contents (Elt F) → (⟨S8, .f32⟩ : BufTy).Contents (Elt F)),
    StableHlo.nullary main_while0b_cst_15 (constant S_ .f32 0x00000000#32),
    StableHlo.binary main_while0b_v39 main_while0b_cst_15 main_while0b_v40 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_while0b_cst_16 (constant S_ .f32 0x3F800000#32),
    StableHlo.unary main_while0b_cst_16 main_while0b_v41 (broadcastInDim S8 ![] bcast_S_S8 : (⟨S_, .f32⟩ : BufTy).Contents (Elt F) → (⟨S8, .f32⟩ : BufTy).Contents (Elt F)),
    StableHlo.unary main_while0b_v41 main_while0b_v42 (broadcastInDim S8x32768x4 ![0] bcast_S8_S8x32768x4_0 : (⟨S8, .f32⟩ : BufTy).Contents (Elt F) → (⟨S8x32768x4, .f32⟩ : BufTy).Contents (Elt F)),
    StableHlo.unary main_while0b_v36 main_while0b_v43 (broadcastInDim S8x32768x4 ![0, 1, 2] bcast_S1x32768x4_S8x32768x4_0_1_2 : (⟨S1x32768x4, .f32⟩ : BufTy).Contents (Elt F) → (⟨S8x32768x4, .f32⟩ : BufTy).Contents (Elt F)),
    StableHlo.binary main_while0b_v42 main_while0b_v43 main_while0b_v44 (mulf : (⟨S8x32768x4, .f32⟩ : BufTy).Contents (Elt F) → (⟨S8x32768x4, .f32⟩ : BufTy).Contents (Elt F) → (⟨S8x32768x4, .f32⟩ : BufTy).Contents (Elt F)),
    StableHlo.nullary main_while0b_cst_17 (constant S_ .f32 0x40000000#32),
    StableHlo.unary main_while0b_cst_17 main_while0b_v45 (broadcastInDim S8x32768x4 ![] bcast_S_S8x32768x4 : (⟨S_, .f32⟩ : BufTy).Contents (Elt F) → (⟨S8x32768x4, .f32⟩ : BufTy).Contents (Elt F)),
    StableHlo.binary main_while0b_v44 main_while0b_v45 main_while0b_v46 (Host.divf : (⟨S8x32768x4, .f32⟩ : BufTy).Contents (Elt F) → (⟨S8x32768x4, .f32⟩ : BufTy).Contents (Elt F) → (⟨S8x32768x4, .f32⟩ : BufTy).Contents (Elt F)),
    StableHlo.unary main_v7_4 main_while0b_v47 ((extractStridedSlice S1x32768 ![0, 0] · slices_S8x32768_S1x32768_0_0) : (⟨S8x32768, .i32⟩ : BufTy).Contents (Elt F) → (⟨S1x32768, .i32⟩ : BufTy).Contents (Elt F)),
    StableHlo.reshape main_while0b_v47 main_while0b_v48 (rfl : (.i32 : EltTy) = .i32) shapeCasts_S1x32768_S32768,
    StableHlo.nullary main_while0b_c_18 (constantI S_ 32 0#32),
    StableHlo.unary main_while0b_c_18 main_while0b_v49 (broadcastInDim S32768 ![] bcast_S_S32768 : (⟨S_, .i32⟩ : BufTy).Contents (Elt F) → (⟨S32768, .i32⟩ : BufTy).Contents (Elt F)),
    StableHlo.binary main_while0b_v9 main_while0b_v49 main_while0b_v50 (cmpi .slt : (⟨S32768, .i32⟩ : BufTy).Contents (Elt F) → (⟨S32768, .i32⟩ : BufTy).Contents (Elt F) → (⟨S32768, .i1⟩ : BufTy).Contents (Elt F)),
    StableHlo.nullary main_while0b_c_19 (constantI S_ 32 32768#32),
    StableHlo.unary main_while0b_c_19 main_while0b_v51 (broadcastInDim S32768 ![] bcast_S_S32768 : (⟨S_, .i32⟩ : BufTy).Contents (Elt F) → (⟨S32768, .i32⟩ : BufTy).Contents (Elt F)),
    StableHlo.binary main_while0b_v9 main_while0b_v51 main_while0b_v52 (addi : (⟨S32768, .i32⟩ : BufTy).Contents (Elt F) → (⟨S32768, .i32⟩ : BufTy).Contents (Elt F) → (⟨S32768, .i32⟩ : BufTy).Contents (Elt F)),
    StableHlo.ternary main_while0b_v50 main_while0b_v52 main_while0b_v9 main_while0b_v53 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_while0b_c_20 (constantI S_ 32 0#32),
    StableHlo.unary main_while0b_c_20 main_while0b_v54 (broadcastInDim S32768 ![] bcast_S_S32768 : (⟨S_, .i32⟩ : BufTy).Contents (Elt F) → (⟨S32768, .i32⟩ : BufTy).Contents (Elt F)),
    StableHlo.binary main_while0b_v48 main_while0b_v54 main_while0b_v55 (cmpi .slt : (⟨S32768, .i32⟩ : BufTy).Contents (Elt F) → (⟨S32768, .i32⟩ : BufTy).Contents (Elt F) → (⟨S32768, .i1⟩ : BufTy).Contents (Elt F)),
    StableHlo.nullary main_while0b_c_21 (constantI S_ 32 4#32),
    StableHlo.unary main_while0b_c_21 main_while0b_v56 (broadcastInDim S32768 ![] bcast_S_S32768 : (⟨S_, .i32⟩ : BufTy).Contents (Elt F) → (⟨S32768, .i32⟩ : BufTy).Contents (Elt F)),
    StableHlo.binary main_while0b_v48 main_while0b_v56 main_while0b_v57 (addi : (⟨S32768, .i32⟩ : BufTy).Contents (Elt F) → (⟨S32768, .i32⟩ : BufTy).Contents (Elt F) → (⟨S32768, .i32⟩ : BufTy).Contents (Elt F)),
    StableHlo.ternary main_while0b_v55 main_while0b_v57 main_while0b_v48 main_while0b_v58 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_while0b_c_22 (constantI S_ 32 0#32),
    StableHlo.unary main_while0b_c_22 main_while0b_v59 (broadcastInDim S32768x1 ![] bcast_S_S32768x1 : (⟨S_, .i32⟩ : BufTy).Contents (Elt F) → (⟨S32768x1, .i32⟩ : BufTy).Contents (Elt F)),
    StableHlo.unary main_while0b_v53 main_while0b_v60 (broadcastInDim S32768x1 ![0] bcast_S32768_S32768x1_0 : (⟨S32768, .i32⟩ : BufTy).Contents (Elt F) → (⟨S32768x1, .i32⟩ : BufTy).Contents (Elt F)),
    StableHlo.unary main_while0b_v58 main_while0b_v61 (broadcastInDim S32768x1 ![0] bcast_S32768_S32768x1_0 : (⟨S32768, .i32⟩ : BufTy).Contents (Elt F) → (⟨S32768x1, .i32⟩ : BufTy).Contents (Elt F)),
    StableHlo.nary ![main_while0b_v59, main_while0b_v60, main_while0b_v61] main_while0b_v62 (fun u => (concatenate S32768x3 1 [⟨S32768x1, (u 0 : (⟨S32768x1, .i32⟩ : BufTy).Contents (Elt F))⟩, ⟨S32768x1, (u 1 : (⟨S32768x1, .i32⟩ : BufTy).Contents (Elt F))⟩, ⟨S32768x1, (u 2 : (⟨S32768x1, .i32⟩ : BufTy).Contents (Elt F))⟩] concatenates_S32768x1_S32768x1_S32768x1_S32768x3_d1 : (⟨S32768x3, .i32⟩ : BufTy).Contents (Elt F))),
    StableHlo.binary main_while0b_v46 main_while0b_v62 main_while0b_v63 ((fun x i => Host.gather gather_S8x32768x4_S32768x3_S1x32768_0_12_n_n_012_1_111 x i) : (⟨S8x32768x4, .f32⟩ : BufTy).Contents (Elt F) → (⟨S32768x3, .i32⟩ : BufTy).Contents (Elt F) → (⟨S1x32768, .f32⟩ : BufTy).Contents (Elt F)),
    StableHlo.unary main_while0b_v63 main_while0b_v64 (broadcastInDim S1x32768x1 ![0, 1] bcast_S1x32768_S1x32768x1_0_1 : (⟨S1x32768, .f32⟩ : BufTy).Contents (Elt F) → (⟨S1x32768x1, .f32⟩ : BufTy).Contents (Elt F)),
    StableHlo.unary main_while0b_v64 main_while0b_v65 (broadcastInDim S8x32768x4 ![0, 1, 2] bcast_S1x32768x1_S8x32768x4_0_1_2 : (⟨S1x32768x1, .f32⟩ : BufTy).Contents (Elt F) → (⟨S8x32768x4, .f32⟩ : BufTy).Contents (Elt F)),
    StableHlo.binary main_while0b_v46 main_while0b_v65 main_while0b_v66 (subf : (⟨S8x32768x4, .f32⟩ : BufTy).Contents (Elt F) → (⟨S8x32768x4, .f32⟩ : BufTy).Contents (Elt F) → (⟨S8x32768x4, .f32⟩ : BufTy).Contents (Elt F)),
    StableHlo.nullary main_while0b_cst_23 (constant S_ .f32 0x3F800000#32),
    StableHlo.unary main_while0b_cst_23 main_while0b_v67 (broadcastInDim S8x32768x4 ![] bcast_S_S8x32768x4 : (⟨S_, .f32⟩ : BufTy).Contents (Elt F) → (⟨S8x32768x4, .f32⟩ : BufTy).Contents (Elt F)),
    StableHlo.nullary main_while0b_cst_24 (constant S_ .f32 0x3E4CCCCD#32),
    StableHlo.unary main_while0b_cst_24 main_while0b_v68 (broadcastInDim S8x32768x4 ![] bcast_S_S8x32768x4 : (⟨S_, .f32⟩ : BufTy).Contents (Elt F) → (⟨S8x32768x4, .f32⟩ : BufTy).Contents (Elt F)),
    StableHlo.binary main_while0b_v67 main_while0b_v68 main_while0b_v69 (Host.divf : (⟨S8x32768x4, .f32⟩ : BufTy).Contents (Elt F) → (⟨S8x32768x4, .f32⟩ : BufTy).Contents (Elt F) → (⟨S8x32768x4, .f32⟩ : BufTy).Contents (Elt F)),
    StableHlo.unary main_v7_4 main_while0b_v70 ((extractStridedSlice S1x32768 ![0, 0] · slices_S8x32768_S1x32768_0_0) : (⟨S8x32768, .i32⟩ : BufTy).Contents (Elt F) → (⟨S1x32768, .i32⟩ : BufTy).Contents (Elt F)),
    StableHlo.reshape main_while0b_v70 main_while0b_v71 (rfl : (.i32 : EltTy) = .i32) shapeCasts_S1x32768_S32768,
    StableHlo.nullary main_while0b_c_25 (constantI S_ 32 0#32),
    StableHlo.unary main_while0b_c_25 main_while0b_v72 (broadcastInDim S32768 ![] bcast_S_S32768 : (⟨S_, .i32⟩ : BufTy).Contents (Elt F) → (⟨S32768, .i32⟩ : BufTy).Contents (Elt F)),
    StableHlo.binary main_while0b_v9 main_while0b_v72 main_while0b_v73 (cmpi .slt : (⟨S32768, .i32⟩ : BufTy).Contents (Elt F) → (⟨S32768, .i32⟩ : BufTy).Contents (Elt F) → (⟨S32768, .i1⟩ : BufTy).Contents (Elt F)),
    StableHlo.nullary main_while0b_c_26 (constantI S_ 32 32768#32),
    StableHlo.unary main_while0b_c_26 main_while0b_v74 (broadcastInDim S32768 ![] bcast_S_S32768 : (⟨S_, .i32⟩ : BufTy).Contents (Elt F) → (⟨S32768, .i32⟩ : BufTy).Contents (Elt F)),
    StableHlo.binary main_while0b_v9 main_while0b_v74 main_while0b_v75 (addi : (⟨S32768, .i32⟩ : BufTy).Contents (Elt F) → (⟨S32768, .i32⟩ : BufTy).Contents (Elt F) → (⟨S32768, .i32⟩ : BufTy).Contents (Elt F)),
    StableHlo.ternary main_while0b_v73 main_while0b_v75 main_while0b_v9 main_while0b_v76 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_while0b_c_27 (constantI S_ 32 0#32),
    StableHlo.unary main_while0b_c_27 main_while0b_v77 (broadcastInDim S32768 ![] bcast_S_S32768 : (⟨S_, .i32⟩ : BufTy).Contents (Elt F) → (⟨S32768, .i32⟩ : BufTy).Contents (Elt F)),
    StableHlo.binary main_while0b_v71 main_while0b_v77 main_while0b_v78 (cmpi .slt : (⟨S32768, .i32⟩ : BufTy).Contents (Elt F) → (⟨S32768, .i32⟩ : BufTy).Contents (Elt F) → (⟨S32768, .i1⟩ : BufTy).Contents (Elt F)),
    StableHlo.nullary main_while0b_c_28 (constantI S_ 32 4#32),
    StableHlo.unary main_while0b_c_28 main_while0b_v79 (broadcastInDim S32768 ![] bcast_S_S32768 : (⟨S_, .i32⟩ : BufTy).Contents (Elt F) → (⟨S32768, .i32⟩ : BufTy).Contents (Elt F)),
    StableHlo.binary main_while0b_v71 main_while0b_v79 main_while0b_v80 (addi : (⟨S32768, .i32⟩ : BufTy).Contents (Elt F) → (⟨S32768, .i32⟩ : BufTy).Contents (Elt F) → (⟨S32768, .i32⟩ : BufTy).Contents (Elt F)),
    StableHlo.ternary main_while0b_v78 main_while0b_v80 main_while0b_v71 main_while0b_v81 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_while0b_c_29 (constantI S_ 32 0#32),
    StableHlo.unary main_while0b_c_29 main_while0b_v82 (broadcastInDim S32768 ![] bcast_S_S32768 : (⟨S_, .i32⟩ : BufTy).Contents (Elt F) → (⟨S32768, .i32⟩ : BufTy).Contents (Elt F)),
    StableHlo.unary main_while0b_v82 main_while0b_v83 (id : (⟨S32768, .i32⟩ : BufTy).Contents (Elt F) → (⟨S32768, .i32⟩ : BufTy).Contents (Elt F)),
    StableHlo.unary main_while0b_v83 main_while0b_v84 (broadcastInDim S32768x1 ![0] bcast_S32768_S32768x1_0 : (⟨S32768, .i32⟩ : BufTy).Contents (Elt F) → (⟨S32768x1, .i32⟩ : BufTy).Contents (Elt F)),
    StableHlo.unary main_while0b_v76 main_while0b_v85 (broadcastInDim S32768x1 ![0] bcast_S32768_S32768x1_0 : (⟨S32768, .i32⟩ : BufTy).Contents (Elt F) → (⟨S32768x1, .i32⟩ : BufTy).Contents (Elt F)),
    StableHlo.unary main_while0b_v81 main_while0b_v86 (broadcastInDim S32768x1 ![0] bcast_S32768_S32768x1_0 : (⟨S32768, .i32⟩ : BufTy).Contents (Elt F) → (⟨S32768x1, .i32⟩ : BufTy).Contents (Elt F)),
    StableHlo.nary ![main_while0b_v84, main_while0b_v85, main_while0b_v86] main_while0b_v87 (fun u => (concatenate S32768x3 1 [⟨S32768x1, (u 0 : (⟨S32768x1, .i32⟩ : BufTy).Contents (Elt F))⟩, ⟨S32768x1, (u 1 : (⟨S32768x1, .i32⟩ : BufTy).Contents (Elt F))⟩, ⟨S32768x1, (u 2 : (⟨S32768x1, .i32⟩ : BufTy).Contents (Elt F))⟩] concatenates_S32768x1_S32768x1_S32768x1_S32768x3_d1 : (⟨S32768x3, .i32⟩ : BufTy).Contents (Elt F))),
    StableHlo.nullary main_while0b_cst_30 (constant S_ .f32 0x00000000#32),
    StableHlo.unary main_while0b_cst_30 main_while0b_v88 (broadcastInDim S32768 ![] bcast_S_S32768 : (⟨S_, .f32⟩ : BufTy).Contents (Elt F) → (⟨S32768, .f32⟩ : BufTy).Contents (Elt F)),
    StableHlo.ternary main_while0b_v69 main_while0b_v87 main_while0b_v88 main_while0b_v89 ((fun x i u => Host.scatter scatter_S8x32768x4_S32768x3_S32768_n_012_012_1 (fun _ b => b) x i u) : (⟨S8x32768x4, .f32⟩ : BufTy).Contents (Elt F) → (⟨S32768x3, .i32⟩ : BufTy).Contents (Elt F) → (⟨S32768, .f32⟩ : BufTy).Contents (Elt F) → (⟨S8x32768x4, .f32⟩ : BufTy).Contents (Elt F)),
    StableHlo.binary main_while0b_v66 main_while0b_v89 main_while0b_v90 (subf : (⟨S8x32768x4, .f32⟩ : BufTy).Contents (Elt F) → (⟨S8x32768x4, .f32⟩ : BufTy).Contents (Elt F) → (⟨S8x32768x4, .f32⟩ : BufTy).Contents (Elt F)) ]
theorem own1_tame : (own1 : List (HloOp τ sig (Elt F))).Forall Tame :=
  ⟨tame_unary .., tame_reshape .., tame_unary .., tame_reshape .., tame_unary .., tame_reshape .., tame_nullary .., tame_unary .., tame_nullary .., tame_unary .., tame_reshape .., tame_nullary .., tame_unary .., tame_binary .., tame_nullary .., tame_unary .., tame_binary .., tame_ternary .., tame_nullary .., tame_unary .., tame_binary .., tame_nullary .., tame_unary .., tame_binary .., tame_ternary .., tame_unary .., tame_unary .., tame_binary .., tame_nullary .., tame_unary .., tame_ternary .., tame_unary .., tame_unary .., tame_binary .., tame_nullary .., tame_binary .., tame_nullary .., tame_binary .., tame_nullary .., tame_unary .., tame_unary .., tame_unary .., tame_binary .., tame_nullary .., tame_unary .., tame_binary .., tame_unary .., tame_reshape .., tame_nullary .., tame_unary .., tame_binary .., tame_nullary .., tame_unary .., tame_binary .., tame_ternary .., tame_nullary .., tame_unary .., tame_binary .., tame_nullary .., tame_unary .., tame_binary .., tame_ternary .., tame_nullary .., tame_unary .., tame_unary .., tame_unary .., tame_nary .., tame_binary .., tame_unary .., tame_unary .., tame_binary .., tame_nullary .., tame_unary .., tame_nullary .., tame_unary .., tame_binary .., tame_unary .., tame_reshape .., tame_nullary .., tame_unary .., tame_binary .., tame_nullary .., tame_unary .., tame_binary .., tame_ternary .., tame_nullary .., tame_unary .., tame_binary .., tame_nullary .., tame_unary .., tame_binary .., tame_ternary .., tame_nullary .., tame_unary .., tame_unary .., tame_unary .., tame_unary .., tame_unary .., tame_nary .., tame_nullary .., tame_unary .., tame_ternary .., tame_binary ..⟩

/-- 1 operations of the loop body. -/
abbrev own2 : List (HloOp τ sig (Elt F)) :=
  [ StableHlo.binary main_while0b_v91 main_while0b_v90 main_while0b_v92 (addf : (⟨S8x32768x4, .f32⟩ : BufTy).Contents (Elt F) → (⟨S8x32768x4, .f32⟩ : BufTy).Contents (Elt F) → (⟨S8x32768x4, .f32⟩ : BufTy).Contents (Elt F)) ]
theorem own2_tame : (own2 : List (HloOp τ sig (Elt F))).Forall Tame :=
  (tame_binary ..)

/-- 1 operations of the loop body. -/
abbrev own3 : List (HloOp τ sig (Elt F)) :=
  [ StableHlo.unary main_while0b_v93 main_while0b_v95 (broadcastInDim S8x32768x1 ![0, 1] bcast_S8x32768_S8x32768x1_0_1 : (⟨S8x32768, .i32⟩ : BufTy).Contents (Elt F) → (⟨S8x32768x1, .i32⟩ : BufTy).Contents (Elt F)) ]
theorem own3_tame : (own3 : List (HloOp τ sig (Elt F))).Forall Tame :=
  (tame_unary ..)

/-- 100 operations of the loop body. -/
abbrev own4 : List (HloOp τ sig (Elt F)) :=
  [ StableHlo.reshape main_while0b_v96 main_while0b_v97 (rfl : (.f32 : EltTy) = .f32) shapeCasts_S8x32768x1_S8x32768,
    StableHlo.nullary main_while0b_cst_31 (constant S_ .f32 0x00000000#32),
    StableHlo.binary main_while0b_v97 main_while0b_cst_31 main_while0b_v98 ((fun x v => Host.reduceAdd x v reducesTo_S8x32768_S8_d1 h_S_) : (⟨S8x32768, .f32⟩ : BufTy).Contents (Elt F) → (⟨S_, .f32⟩ : BufTy).Contents (Elt F) → (⟨S8, .f32⟩ : BufTy).Contents (Elt F)),
    StableHlo.nullary main_while0b_cst_32 (constant S_ .f32 0x00000000#32),
    StableHlo.unary main_while0b_cst_32 main_while0b_v99 (broadcastInDim S8x32768x4 ![] bcast_S_S8x32768x4 : (⟨S_, .f32⟩ : BufTy).Contents (Elt F) → (⟨S8x32768x4, .f32⟩ : BufTy).Contents (Elt F)),
    StableHlo.nullary main_while0b_v100 (iotaInDim S32768 32 0),
    StableHlo.unary main_while0b_v93 main_while0b_v101 ((extractStridedSlice S1x32768 ![0, 0] · slices_S8x32768_S1x32768_0_0) : (⟨S8x32768, .i32⟩ : BufTy).Contents (Elt F) → (⟨S1x32768, .i32⟩ : BufTy).Contents (Elt F)),
    StableHlo.reshape main_while0b_v101 main_while0b_v102 (rfl : (.i32 : EltTy) = .i32) shapeCasts_S1x32768_S32768,
    StableHlo.nullary main_while0b_c_33 (constantI S_ 32 0#32),
    StableHlo.unary main_while0b_c_33 main_while0b_v103 (broadcastInDim S32768 ![] bcast_S_S32768 : (⟨S_, .i32⟩ : BufTy).Contents (Elt F) → (⟨S32768, .i32⟩ : BufTy).Contents (Elt F)),
    StableHlo.binary main_while0b_v100 main_while0b_v103 main_while0b_v104 (cmpi .slt : (⟨S32768, .i32⟩ : BufTy).Contents (Elt F) → (⟨S32768, .i32⟩ : BufTy).Contents (Elt F) → (⟨S32768, .i1⟩ : BufTy).Contents (Elt F)),
    StableHlo.nullary main_while0b_c_34 (constantI S_ 32 32768#32),
    StableHlo.unary main_while0b_c_34 main_while0b_v105 (broadcastInDim S32768 ![] bcast_S_S32768 : (⟨S_, .i32⟩ : BufTy).Contents (Elt F) → (⟨S32768, .i32⟩ : BufTy).Contents (Elt F)),
    StableHlo.binary main_while0b_v100 main_while0b_v105 main_while0b_v106 (addi : (⟨S32768, .i32⟩ : BufTy).Contents (Elt F) → (⟨S32768, .i32⟩ : BufTy).Contents (Elt F) → (⟨S32768, .i32⟩ : BufTy).Contents (Elt F)),
    StableHlo.ternary main_while0b_v104 main_while0b_v106 main_while0b_v100 main_while0b_v107 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_while0b_c_35 (constantI S_ 32 0#32),
    StableHlo.unary main_while0b_c_35 main_while0b_v108 (broadcastInDim S32768 ![] bcast_S_S32768 : (⟨S_, .i32⟩ : BufTy).Contents (Elt F) → (⟨S32768, .i32⟩ : BufTy).Contents (Elt F)),
    StableHlo.binary main_while0b_v102 main_while0b_v108 main_while0b_v109 (cmpi .slt : (⟨S32768, .i32⟩ : BufTy).Contents (Elt F) → (⟨S32768, .i32⟩ : BufTy).Contents (Elt F) → (⟨S32768, .i1⟩ : BufTy).Contents (Elt F)),
    StableHlo.nullary main_while0b_c_36 (constantI S_ 32 4#32),
    StableHlo.unary main_while0b_c_36 main_while0b_v110 (broadcastInDim S32768 ![] bcast_S_S32768 : (⟨S_, .i32⟩ : BufTy).Contents (Elt F) → (⟨S32768, .i32⟩ : BufTy).Contents (Elt F)),
    StableHlo.binary main_while0b_v102 main_while0b_v110 main_while0b_v111 (addi : (⟨S32768, .i32⟩ : BufTy).Contents (Elt F) → (⟨S32768, .i32⟩ : BufTy).Contents (Elt F) → (⟨S32768, .i32⟩ : BufTy).Contents (Elt F)),
    StableHlo.ternary main_while0b_v109 main_while0b_v111 main_while0b_v102 main_while0b_v112 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_while0b_v107 main_while0b_v113 (broadcastInDim S32768x1 ![0] bcast_S32768_S32768x1_0 : (⟨S32768, .i32⟩ : BufTy).Contents (Elt F) → (⟨S32768x1, .i32⟩ : BufTy).Contents (Elt F)),
    StableHlo.unary main_while0b_v112 main_while0b_v114 (broadcastInDim S32768x1 ![0] bcast_S32768_S32768x1_0 : (⟨S32768, .i32⟩ : BufTy).Contents (Elt F) → (⟨S32768x1, .i32⟩ : BufTy).Contents (Elt F)),
    StableHlo.binary main_while0b_v113 main_while0b_v114 main_while0b_v115 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.nullary main_while0b_cst_37 (constant S_ .f32 0x3F800000#32),
    StableHlo.unary main_while0b_cst_37 main_while0b_v116 (broadcastInDim S8x32768 ![] bcast_S_S8x32768 : (⟨S_, .f32⟩ : BufTy).Contents (Elt F) → (⟨S8x32768, .f32⟩ : BufTy).Contents (Elt F)),
    StableHlo.ternary main_while0b_v99 main_while0b_v115 main_while0b_v116 main_while0b_v117 ((fun x i u => Host.scatter scatter_S8x32768x4_S32768x2_S8x32768_0_12_12_1 (fun _ b => b) x i u) : (⟨S8x32768x4, .f32⟩ : BufTy).Contents (Elt F) → (⟨S32768x2, .i32⟩ : BufTy).Contents (Elt F) → (⟨S8x32768, .f32⟩ : BufTy).Contents (Elt F) → (⟨S8x32768x4, .f32⟩ : BufTy).Contents (Elt F)),
    StableHlo.unary main_v7_0 main_while0b_v118 (broadcastInDim S1x32768x4 ![1, 2] bcast_S32768x4_S1x32768x4_1_2 : (⟨S32768x4, .f32⟩ : BufTy).Contents (Elt F) → (⟨S1x32768x4, .f32⟩ : BufTy).Contents (Elt F)),
    StableHlo.unary main_while0b_v118 main_while0b_v119 (broadcastInDim S8x32768x4 ![0, 1, 2] bcast_S1x32768x4_S8x32768x4_0_1_2 : (⟨S1x32768x4, .f32⟩ : BufTy).Contents (Elt F) → (⟨S8x32768x4, .f32⟩ : BufTy).Contents (Elt F)),
    StableHlo.binary main_while0b_v117 main_while0b_v119 main_while0b_v120 (mulf : (⟨S8x32768x4, .f32⟩ : BufTy).Contents (Elt F) → (⟨S8x32768x4, .f32⟩ : BufTy).Contents (Elt F) → (⟨S8x32768x4, .f32⟩ : BufTy).Contents (Elt F)),
    StableHlo.nullary main_while0b_cst_38 (constant S_ .f32 0x00000000#32),
    StableHlo.binary main_while0b_v120 main_while0b_cst_38 main_while0b_v121 ((fun x v => Host.reduceAdd x v reducesTo_S8x32768x4_S8_d1_2 h_S_) : (⟨S8x32768x4, .f32⟩ : BufTy).Contents (Elt F) → (⟨S_, .f32⟩ : BufTy).Contents (Elt F) → (⟨S8, .f32⟩ : BufTy).Contents (Elt F)),
    StableHlo.nullary main_while0b_cst_39 (constant S_ .f32 0x00000000#32),
    StableHlo.binary main_while0b_v121 main_while0b_cst_39 main_while0b_v122 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_while0b_cst_40 (constant S_ .f32 0x3F800000#32),
    StableHlo.unary main_while0b_cst_40 main_while0b_v123 (broadcastInDim S8 ![] bcast_S_S8 : (⟨S_, .f32⟩ : BufTy).Contents (Elt F) → (⟨S8, .f32⟩ : BufTy).Contents (Elt F)),
    StableHlo.unary main_while0b_v123 main_while0b_v124 (broadcastInDim S8x32768x4 ![0] bcast_S8_S8x32768x4_0 : (⟨S8, .f32⟩ : BufTy).Contents (Elt F) → (⟨S8x32768x4, .f32⟩ : BufTy).Contents (Elt F)),
    StableHlo.unary main_while0b_v118 main_while0b_v125 (broadcastInDim S8x32768x4 ![0, 1, 2] bcast_S1x32768x4_S8x32768x4_0_1_2 : (⟨S1x32768x4, .f32⟩ : BufTy).Contents (Elt F) → (⟨S8x32768x4, .f32⟩ : BufTy).Contents (Elt F)),
    StableHlo.binary main_while0b_v124 main_while0b_v125 main_while0b_v126 (mulf : (⟨S8x32768x4, .f32⟩ : BufTy).Contents (Elt F) → (⟨S8x32768x4, .f32⟩ : BufTy).Contents (Elt F) → (⟨S8x32768x4, .f32⟩ : BufTy).Contents (Elt F)),
    StableHlo.nullary main_while0b_cst_41 (constant S_ .f32 0x40000000#32),
    StableHlo.unary main_while0b_cst_41 main_while0b_v127 (broadcastInDim S8x32768x4 ![] bcast_S_S8x32768x4 : (⟨S_, .f32⟩ : BufTy).Contents (Elt F) → (⟨S8x32768x4, .f32⟩ : BufTy).Contents (Elt F)),
    StableHlo.binary main_while0b_v126 main_while0b_v127 main_while0b_v128 (Host.divf : (⟨S8x32768x4, .f32⟩ : BufTy).Contents (Elt F) → (⟨S8x32768x4, .f32⟩ : BufTy).Contents (Elt F) → (⟨S8x32768x4, .f32⟩ : BufTy).Contents (Elt F)),
    StableHlo.unary main_while0b_v93 main_while0b_v129 ((extractStridedSlice S1x32768 ![0, 0] · slices_S8x32768_S1x32768_0_0) : (⟨S8x32768, .i32⟩ : BufTy).Contents (Elt F) → (⟨S1x32768, .i32⟩ : BufTy).Contents (Elt F)),
    StableHlo.reshape main_while0b_v129 main_while0b_v130 (rfl : (.i32 : EltTy) = .i32) shapeCasts_S1x32768_S32768,
    StableHlo.nullary main_while0b_c_42 (constantI S_ 32 0#32),
    StableHlo.unary main_while0b_c_42 main_while0b_v131 (broadcastInDim S32768 ![] bcast_S_S32768 : (⟨S_, .i32⟩ : BufTy).Contents (Elt F) → (⟨S32768, .i32⟩ : BufTy).Contents (Elt F)),
    StableHlo.binary main_while0b_v9 main_while0b_v131 main_while0b_v132 (cmpi .slt : (⟨S32768, .i32⟩ : BufTy).Contents (Elt F) → (⟨S32768, .i32⟩ : BufTy).Contents (Elt F) → (⟨S32768, .i1⟩ : BufTy).Contents (Elt F)),
    StableHlo.nullary main_while0b_c_43 (constantI S_ 32 32768#32),
    StableHlo.unary main_while0b_c_43 main_while0b_v133 (broadcastInDim S32768 ![] bcast_S_S32768 : (⟨S_, .i32⟩ : BufTy).Contents (Elt F) → (⟨S32768, .i32⟩ : BufTy).Contents (Elt F)),
    StableHlo.binary main_while0b_v9 main_while0b_v133 main_while0b_v134 (addi : (⟨S32768, .i32⟩ : BufTy).Contents (Elt F) → (⟨S32768, .i32⟩ : BufTy).Contents (Elt F) → (⟨S32768, .i32⟩ : BufTy).Contents (Elt F)),
    StableHlo.ternary main_while0b_v132 main_while0b_v134 main_while0b_v9 main_while0b_v135 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_while0b_c_44 (constantI S_ 32 0#32),
    StableHlo.unary main_while0b_c_44 main_while0b_v136 (broadcastInDim S32768 ![] bcast_S_S32768 : (⟨S_, .i32⟩ : BufTy).Contents (Elt F) → (⟨S32768, .i32⟩ : BufTy).Contents (Elt F)),
    StableHlo.binary main_while0b_v130 main_while0b_v136 main_while0b_v137 (cmpi .slt : (⟨S32768, .i32⟩ : BufTy).Contents (Elt F) → (⟨S32768, .i32⟩ : BufTy).Contents (Elt F) → (⟨S32768, .i1⟩ : BufTy).Contents (Elt F)),
    StableHlo.nullary main_while0b_c_45 (constantI S_ 32 4#32),
    StableHlo.unary main_while0b_c_45 main_while0b_v138 (broadcastInDim S32768 ![] bcast_S_S32768 : (⟨S_, .i32⟩ : BufTy).Contents (Elt F) → (⟨S32768, .i32⟩ : BufTy).Contents (Elt F)),
    StableHlo.binary main_while0b_v130 main_while0b_v138 main_while0b_v139 (addi : (⟨S32768, .i32⟩ : BufTy).Contents (Elt F) → (⟨S32768, .i32⟩ : BufTy).Contents (Elt F) → (⟨S32768, .i32⟩ : BufTy).Contents (Elt F)),
    StableHlo.ternary main_while0b_v137 main_while0b_v139 main_while0b_v130 main_while0b_v140 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_while0b_c_46 (constantI S_ 32 0#32),
    StableHlo.unary main_while0b_c_46 main_while0b_v141 (broadcastInDim S32768x1 ![] bcast_S_S32768x1 : (⟨S_, .i32⟩ : BufTy).Contents (Elt F) → (⟨S32768x1, .i32⟩ : BufTy).Contents (Elt F)),
    StableHlo.unary main_while0b_v135 main_while0b_v142 (broadcastInDim S32768x1 ![0] bcast_S32768_S32768x1_0 : (⟨S32768, .i32⟩ : BufTy).Contents (Elt F) → (⟨S32768x1, .i32⟩ : BufTy).Contents (Elt F)),
    StableHlo.unary main_while0b_v140 main_while0b_v143 (broadcastInDim S32768x1 ![0] bcast_S32768_S32768x1_0 : (⟨S32768, .i32⟩ : BufTy).Contents (Elt F) → (⟨S32768x1, .i32⟩ : BufTy).Contents (Elt F)),
    StableHlo.nary ![main_while0b_v141, main_while0b_v142, main_while0b_v143] main_while0b_v144 (fun u => (concatenate S32768x3 1 [⟨S32768x1, (u 0 : (⟨S32768x1, .i32⟩ : BufTy).Contents (Elt F))⟩, ⟨S32768x1, (u 1 : (⟨S32768x1, .i32⟩ : BufTy).Contents (Elt F))⟩, ⟨S32768x1, (u 2 : (⟨S32768x1, .i32⟩ : BufTy).Contents (Elt F))⟩] concatenates_S32768x1_S32768x1_S32768x1_S32768x3_d1 : (⟨S32768x3, .i32⟩ : BufTy).Contents (Elt F))),
    StableHlo.binary main_while0b_v46 main_while0b_v144 main_while0b_v145 ((fun x i => Host.gather gather_S8x32768x4_S32768x3_S1x32768_0_12_n_n_012_1_111 x i) : (⟨S8x32768x4, .f32⟩ : BufTy).Contents (Elt F) → (⟨S32768x3, .i32⟩ : BufTy).Contents (Elt F) → (⟨S1x32768, .f32⟩ : BufTy).Contents (Elt F)),
    StableHlo.unary main_while0b_v145 main_while0b_v146 (broadcastInDim S1x32768x1 ![0, 1] bcast_S1x32768_S1x32768x1_0_1 : (⟨S1x32768, .f32⟩ : BufTy).Contents (Elt F) → (⟨S1x32768x1, .f32⟩ : BufTy).Contents (Elt F)),
    StableHlo.unary main_while0b_v146 main_while0b_v147 (broadcastInDim S8x32768x4 ![0, 1, 2] bcast_S1x32768x1_S8x32768x4_0_1_2 : (⟨S1x32768x1, .f32⟩ : BufTy).Contents (Elt F) → (⟨S8x32768x4, .f32⟩ : BufTy).Contents (Elt F)),
    StableHlo.binary main_while0b_v128 main_while0b_v147 main_while0b_v148 (subf : (⟨S8x32768x4, .f32⟩ : BufTy).Contents (Elt F) → (⟨S8x32768x4, .f32⟩ : BufTy).Contents (Elt F) → (⟨S8x32768x4, .f32⟩ : BufTy).Contents (Elt F)),
    StableHlo.nullary main_while0b_cst_47 (constant S_ .f32 0x3F800000#32),
    StableHlo.unary main_while0b_cst_47 main_while0b_v149 (broadcastInDim S8x32768x4 ![] bcast_S_S8x32768x4 : (⟨S_, .f32⟩ : BufTy).Contents (Elt F) → (⟨S8x32768x4, .f32⟩ : BufTy).Contents (Elt F)),
    StableHlo.nullary main_while0b_cst_48 (constant S_ .f32 0x3E4CCCCD#32),
    StableHlo.unary main_while0b_cst_48 main_while0b_v150 (broadcastInDim S8x32768x4 ![] bcast_S_S8x32768x4 : (⟨S_, .f32⟩ : BufTy).Contents (Elt F) → (⟨S8x32768x4, .f32⟩ : BufTy).Contents (Elt F)),
    StableHlo.binary main_while0b_v149 main_while0b_v150 main_while0b_v151 (Host.divf : (⟨S8x32768x4, .f32⟩ : BufTy).Contents (Elt F) → (⟨S8x32768x4, .f32⟩ : BufTy).Contents (Elt F) → (⟨S8x32768x4, .f32⟩ : BufTy).Contents (Elt F)),
    StableHlo.unary main_while0b_v93 main_while0b_v152 ((extractStridedSlice S1x32768 ![0, 0] · slices_S8x32768_S1x32768_0_0) : (⟨S8x32768, .i32⟩ : BufTy).Contents (Elt F) → (⟨S1x32768, .i32⟩ : BufTy).Contents (Elt F)),
    StableHlo.reshape main_while0b_v152 main_while0b_v153 (rfl : (.i32 : EltTy) = .i32) shapeCasts_S1x32768_S32768,
    StableHlo.nullary main_while0b_c_49 (constantI S_ 32 0#32),
    StableHlo.unary main_while0b_c_49 main_while0b_v154 (broadcastInDim S32768 ![] bcast_S_S32768 : (⟨S_, .i32⟩ : BufTy).Contents (Elt F) → (⟨S32768, .i32⟩ : BufTy).Contents (Elt F)),
    StableHlo.binary main_while0b_v9 main_while0b_v154 main_while0b_v155 (cmpi .slt : (⟨S32768, .i32⟩ : BufTy).Contents (Elt F) → (⟨S32768, .i32⟩ : BufTy).Contents (Elt F) → (⟨S32768, .i1⟩ : BufTy).Contents (Elt F)),
    StableHlo.nullary main_while0b_c_50 (constantI S_ 32 32768#32),
    StableHlo.unary main_while0b_c_50 main_while0b_v156 (broadcastInDim S32768 ![] bcast_S_S32768 : (⟨S_, .i32⟩ : BufTy).Contents (Elt F) → (⟨S32768, .i32⟩ : BufTy).Contents (Elt F)),
    StableHlo.binary main_while0b_v9 main_while0b_v156 main_while0b_v157 (addi : (⟨S32768, .i32⟩ : BufTy).Contents (Elt F) → (⟨S32768, .i32⟩ : BufTy).Contents (Elt F) → (⟨S32768, .i32⟩ : BufTy).Contents (Elt F)),
    StableHlo.ternary main_while0b_v155 main_while0b_v157 main_while0b_v9 main_while0b_v158 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_while0b_c_51 (constantI S_ 32 0#32),
    StableHlo.unary main_while0b_c_51 main_while0b_v159 (broadcastInDim S32768 ![] bcast_S_S32768 : (⟨S_, .i32⟩ : BufTy).Contents (Elt F) → (⟨S32768, .i32⟩ : BufTy).Contents (Elt F)),
    StableHlo.binary main_while0b_v153 main_while0b_v159 main_while0b_v160 (cmpi .slt : (⟨S32768, .i32⟩ : BufTy).Contents (Elt F) → (⟨S32768, .i32⟩ : BufTy).Contents (Elt F) → (⟨S32768, .i1⟩ : BufTy).Contents (Elt F)),
    StableHlo.nullary main_while0b_c_52 (constantI S_ 32 4#32),
    StableHlo.unary main_while0b_c_52 main_while0b_v161 (broadcastInDim S32768 ![] bcast_S_S32768 : (⟨S_, .i32⟩ : BufTy).Contents (Elt F) → (⟨S32768, .i32⟩ : BufTy).Contents (Elt F)),
    StableHlo.binary main_while0b_v153 main_while0b_v161 main_while0b_v162 (addi : (⟨S32768, .i32⟩ : BufTy).Contents (Elt F) → (⟨S32768, .i32⟩ : BufTy).Contents (Elt F) → (⟨S32768, .i32⟩ : BufTy).Contents (Elt F)),
    StableHlo.ternary main_while0b_v160 main_while0b_v162 main_while0b_v153 main_while0b_v163 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_while0b_c_53 (constantI S_ 32 0#32),
    StableHlo.unary main_while0b_c_53 main_while0b_v164 (broadcastInDim S32768 ![] bcast_S_S32768 : (⟨S_, .i32⟩ : BufTy).Contents (Elt F) → (⟨S32768, .i32⟩ : BufTy).Contents (Elt F)),
    StableHlo.unary main_while0b_v164 main_while0b_v165 (id : (⟨S32768, .i32⟩ : BufTy).Contents (Elt F) → (⟨S32768, .i32⟩ : BufTy).Contents (Elt F)),
    StableHlo.unary main_while0b_v165 main_while0b_v166 (broadcastInDim S32768x1 ![0] bcast_S32768_S32768x1_0 : (⟨S32768, .i32⟩ : BufTy).Contents (Elt F) → (⟨S32768x1, .i32⟩ : BufTy).Contents (Elt F)),
    StableHlo.unary main_while0b_v158 main_while0b_v167 (broadcastInDim S32768x1 ![0] bcast_S32768_S32768x1_0 : (⟨S32768, .i32⟩ : BufTy).Contents (Elt F) → (⟨S32768x1, .i32⟩ : BufTy).Contents (Elt F)),
    StableHlo.unary main_while0b_v163 main_while0b_v168 (broadcastInDim S32768x1 ![0] bcast_S32768_S32768x1_0 : (⟨S32768, .i32⟩ : BufTy).Contents (Elt F) → (⟨S32768x1, .i32⟩ : BufTy).Contents (Elt F)),
    StableHlo.nary ![main_while0b_v166, main_while0b_v167, main_while0b_v168] main_while0b_v169 (fun u => (concatenate S32768x3 1 [⟨S32768x1, (u 0 : (⟨S32768x1, .i32⟩ : BufTy).Contents (Elt F))⟩, ⟨S32768x1, (u 1 : (⟨S32768x1, .i32⟩ : BufTy).Contents (Elt F))⟩, ⟨S32768x1, (u 2 : (⟨S32768x1, .i32⟩ : BufTy).Contents (Elt F))⟩] concatenates_S32768x1_S32768x1_S32768x1_S32768x3_d1 : (⟨S32768x3, .i32⟩ : BufTy).Contents (Elt F))),
    StableHlo.nullary main_while0b_cst_54 (constant S_ .f32 0x00000000#32),
    StableHlo.unary main_while0b_cst_54 main_while0b_v170 (broadcastInDim S32768 ![] bcast_S_S32768 : (⟨S_, .f32⟩ : BufTy).Contents (Elt F) → (⟨S32768, .f32⟩ : BufTy).Contents (Elt F)),
    StableHlo.ternary main_while0b_v151 main_while0b_v169 main_while0b_v170 main_while0b_v171 ((fun x i u => Host.scatter scatter_S8x32768x4_S32768x3_S32768_n_012_012_1 (fun _ b => b) x i u) : (⟨S8x32768x4, .f32⟩ : BufTy).Contents (Elt F) → (⟨S32768x3, .i32⟩ : BufTy).Contents (Elt F) → (⟨S32768, .f32⟩ : BufTy).Contents (Elt F) → (⟨S8x32768x4, .f32⟩ : BufTy).Contents (Elt F)),
    StableHlo.binary main_while0b_v148 main_while0b_v171 main_while0b_v172 (subf : (⟨S8x32768x4, .f32⟩ : BufTy).Contents (Elt F) → (⟨S8x32768x4, .f32⟩ : BufTy).Contents (Elt F) → (⟨S8x32768x4, .f32⟩ : BufTy).Contents (Elt F)) ]
theorem own4_tame : (own4 : List (HloOp τ sig (Elt F))).Forall Tame :=
  ⟨tame_reshape .., tame_nullary .., tame_binary .., tame_nullary .., tame_unary .., tame_nullary .., tame_unary .., tame_reshape .., tame_nullary .., tame_unary .., tame_binary .., tame_nullary .., tame_unary .., tame_binary .., tame_ternary .., tame_nullary .., tame_unary .., tame_binary .., tame_nullary .., tame_unary .., tame_binary .., tame_ternary .., tame_unary .., tame_unary .., tame_binary .., tame_nullary .., tame_unary .., tame_ternary .., tame_unary .., tame_unary .., tame_binary .., tame_nullary .., tame_binary .., tame_nullary .., tame_binary .., tame_nullary .., tame_unary .., tame_unary .., tame_unary .., tame_binary .., tame_nullary .., tame_unary .., tame_binary .., tame_unary .., tame_reshape .., tame_nullary .., tame_unary .., tame_binary .., tame_nullary .., tame_unary .., tame_binary .., tame_ternary .., tame_nullary .., tame_unary .., tame_binary .., tame_nullary .., tame_unary .., tame_binary .., tame_ternary .., tame_nullary .., tame_unary .., tame_unary .., tame_unary .., tame_nary .., tame_binary .., tame_unary .., tame_unary .., tame_binary .., tame_nullary .., tame_unary .., tame_nullary .., tame_unary .., tame_binary .., tame_unary .., tame_reshape .., tame_nullary .., tame_unary .., tame_binary .., tame_nullary .., tame_unary .., tame_binary .., tame_ternary .., tame_nullary .., tame_unary .., tame_binary .., tame_nullary .., tame_unary .., tame_binary .., tame_ternary .., tame_nullary .., tame_unary .., tame_unary .., tame_unary .., tame_unary .., tame_unary .., tame_nary .., tame_nullary .., tame_unary .., tame_ternary .., tame_binary ..⟩

/-- 1 operations of the loop body. -/
abbrev own5 : List (HloOp τ sig (Elt F)) :=
  [ StableHlo.unary main_v7_4 main_while0b_v174 (broadcastInDim S8x32768x1 ![0, 1] bcast_S8x32768_S8x32768x1_0_1 : (⟨S8x32768, .i32⟩ : BufTy).Contents (Elt F) → (⟨S8x32768x1, .i32⟩ : BufTy).Contents (Elt F)) ]
theorem own5_tame : (own5 : List (HloOp τ sig (Elt F))).Forall Tame :=
  (tame_unary ..)

/-- 19 operations of the loop body. -/
abbrev own6 : List (HloOp τ sig (Elt F)) :=
  [ StableHlo.reshape main_while0b_v175 main_while0b_v176 (rfl : (.f32 : EltTy) = .f32) shapeCasts_S8x32768x1_S8x32768,
    StableHlo.nullary main_while0b_cst_55 (constant S_ .f32 0x00000000#32),
    StableHlo.binary main_while0b_v176 main_while0b_cst_55 main_while0b_v177 ((fun x v => Host.reduceAdd x v reducesTo_S8x32768_S8_d1 h_S_) : (⟨S8x32768, .f32⟩ : BufTy).Contents (Elt F) → (⟨S_, .f32⟩ : BufTy).Contents (Elt F) → (⟨S8, .f32⟩ : BufTy).Contents (Elt F)),
    StableHlo.unary main_v7_0 main_while0b_v178 (broadcastInDim S1x32768x4 ![1, 2] bcast_S32768x4_S1x32768x4_1_2 : (⟨S32768x4, .f32⟩ : BufTy).Contents (Elt F) → (⟨S1x32768x4, .f32⟩ : BufTy).Contents (Elt F)),
    StableHlo.unary main_while0b_v178 main_while0b_v179 (broadcastInDim S8x32768x4 ![0, 1, 2] bcast_S1x32768x4_S8x32768x4_0_1_2 : (⟨S1x32768x4, .f32⟩ : BufTy).Contents (Elt F) → (⟨S8x32768x4, .f32⟩ : BufTy).Contents (Elt F)),
    StableHlo.binary main_while0b_v117 main_while0b_v179 main_while0b_v180 (mulf : (⟨S8x32768x4, .f32⟩ : BufTy).Contents (Elt F) → (⟨S8x32768x4, .f32⟩ : BufTy).Contents (Elt F) → (⟨S8x32768x4, .f32⟩ : BufTy).Contents (Elt F)),
    StableHlo.nullary main_while0b_cst_56 (constant S_ .f32 0x00000000#32),
    StableHlo.binary main_while0b_v180 main_while0b_cst_56 main_while0b_v181 ((fun x v => Host.reduceAdd x v reducesTo_S8x32768x4_S8_d1_2 h_S_) : (⟨S8x32768x4, .f32⟩ : BufTy).Contents (Elt F) → (⟨S_, .f32⟩ : BufTy).Contents (Elt F) → (⟨S8, .f32⟩ : BufTy).Contents (Elt F)),
    StableHlo.unary main_v7_0 main_while0b_v182 (broadcastInDim S1x32768x4 ![1, 2] bcast_S32768x4_S1x32768x4_1_2 : (⟨S32768x4, .f32⟩ : BufTy).Contents (Elt F) → (⟨S1x32768x4, .f32⟩ : BufTy).Contents (Elt F)),
    StableHlo.unary main_while0b_v182 main_while0b_v183 (broadcastInDim S8x32768x4 ![0, 1, 2] bcast_S1x32768x4_S8x32768x4_0_1_2 : (⟨S1x32768x4, .f32⟩ : BufTy).Contents (Elt F) → (⟨S8x32768x4, .f32⟩ : BufTy).Contents (Elt F)),
    StableHlo.binary main_while0b_v35 main_while0b_v183 main_while0b_v184 (mulf : (⟨S8x32768x4, .f32⟩ : BufTy).Contents (Elt F) → (⟨S8x32768x4, .f32⟩ : BufTy).Contents (Elt F) → (⟨S8x32768x4, .f32⟩ : BufTy).Contents (Elt F)),
    StableHlo.nullary main_while0b_cst_57 (constant S_ .f32 0x00000000#32),
    StableHlo.binary main_while0b_v184 main_while0b_cst_57 main_while0b_v185 ((fun x v => Host.reduceAdd x v reducesTo_S8x32768x4_S8_d1_2 h_S_) : (⟨S8x32768x4, .f32⟩ : BufTy).Contents (Elt F) → (⟨S_, .f32⟩ : BufTy).Contents (Elt F) → (⟨S8, .f32⟩ : BufTy).Contents (Elt F)),
    StableHlo.binary main_while0b_v181 main_while0b_v185 main_while0b_v186 (subf : (⟨S8, .f32⟩ : BufTy).Contents (Elt F) → (⟨S8, .f32⟩ : BufTy).Contents (Elt F) → (⟨S8, .f32⟩ : BufTy).Contents (Elt F)),
    StableHlo.binary main_while0b_v186 main_while0b_v177 main_while0b_v187 (addf : (⟨S8, .f32⟩ : BufTy).Contents (Elt F) → (⟨S8, .f32⟩ : BufTy).Contents (Elt F) → (⟨S8, .f32⟩ : BufTy).Contents (Elt F)),
    StableHlo.binary main_while0b_v187 main_while0b_v98 main_while0b_v188 (subf : (⟨S8, .f32⟩ : BufTy).Contents (Elt F) → (⟨S8, .f32⟩ : BufTy).Contents (Elt F) → (⟨S8, .f32⟩ : BufTy).Contents (Elt F)),
    StableHlo.unary main_while0b_v188 main_while0b_v189 (Host.exp : (⟨S8, .f32⟩ : BufTy).Contents (Elt F) → (⟨S8, .f32⟩ : BufTy).Contents (Elt F)),
    StableHlo.nullary main_while0b_cst_58 (constant S_ .f32 0x00000000#32),
    StableHlo.nullary main_while0b_cst_59 (constant S_ .f32 0x3F800000#32) ]
theorem own6_tame : (own6 : List (HloOp τ sig (Elt F))).Forall Tame :=
  ⟨tame_reshape .., tame_nullary .., tame_binary .., tame_unary .., tame_unary .., tame_binary .., tame_nullary .., tame_binary .., tame_unary .., tame_unary .., tame_binary .., tame_nullary .., tame_binary .., tame_binary .., tame_binary .., tame_binary .., tame_unary .., tame_nullary .., tame_nullary ..⟩

/-- 17 operations of the loop body. -/
abbrev own7 : List (HloOp τ sig (Elt F)) :=
  [ StableHlo.binary main_while0b_v189 main_while0b_v190 main_while0b_v191 (cmpf .ogt : (⟨S8, .f32⟩ : BufTy).Contents (Elt F) → (⟨S8, .f32⟩ : BufTy).Contents (Elt F) → (⟨S8, .i1⟩ : BufTy).Contents (Elt F)),
    StableHlo.unary main_while0b_v191 main_while0b_v192 (uitofp .f32 : (⟨S8, .i1⟩ : BufTy).Contents (Elt F) → (⟨S8, .f32⟩ : BufTy).Contents (Elt F)),
    StableHlo.unary main_while0b_v93 main_while0b_v193 (sitofp .f32 : (⟨S8x32768, .i32⟩ : BufTy).Contents (Elt F) → (⟨S8x32768, .f32⟩ : BufTy).Contents (Elt F)),
    StableHlo.unary main_while0b_v192 main_while0b_v194 (broadcastInDim S8x1 ![0] bcast_S8_S8x1_0 : (⟨S8, .f32⟩ : BufTy).Contents (Elt F) → (⟨S8x1, .f32⟩ : BufTy).Contents (Elt F)),
    StableHlo.unary main_while0b_v194 main_while0b_v195 (broadcastInDim S8x32768 ![0, 1] bcast_S8x1_S8x32768_0_1 : (⟨S8x1, .f32⟩ : BufTy).Contents (Elt F) → (⟨S8x32768, .f32⟩ : BufTy).Contents (Elt F)),
    StableHlo.binary main_while0b_v193 main_while0b_v195 main_while0b_v196 (mulf : (⟨S8x32768, .f32⟩ : BufTy).Contents (Elt F) → (⟨S8x32768, .f32⟩ : BufTy).Contents (Elt F) → (⟨S8x32768, .f32⟩ : BufTy).Contents (Elt F)),
    StableHlo.unary main_v7_4 main_while0b_v197 (sitofp .f32 : (⟨S8x32768, .i32⟩ : BufTy).Contents (Elt F) → (⟨S8x32768, .f32⟩ : BufTy).Contents (Elt F)),
    StableHlo.unary main_while0b_v192 main_while0b_v198 (broadcastInDim S8x1 ![0] bcast_S8_S8x1_0 : (⟨S8, .f32⟩ : BufTy).Contents (Elt F) → (⟨S8x1, .f32⟩ : BufTy).Contents (Elt F)),
    StableHlo.nullary main_while0b_cst_60 (constant S_ .f32 0x3F800000#32),
    StableHlo.unary main_while0b_cst_60 main_while0b_v199 (broadcastInDim S8x1 ![] bcast_S_S8x1 : (⟨S_, .f32⟩ : BufTy).Contents (Elt F) → (⟨S8x1, .f32⟩ : BufTy).Contents (Elt F)),
    StableHlo.binary main_while0b_v199 main_while0b_v198 main_while0b_v200 (subf : (⟨S8x1, .f32⟩ : BufTy).Contents (Elt F) → (⟨S8x1, .f32⟩ : BufTy).Contents (Elt F) → (⟨S8x1, .f32⟩ : BufTy).Contents (Elt F)),
    StableHlo.unary main_while0b_v200 main_while0b_v201 (broadcastInDim S8x32768 ![0, 1] bcast_S8x1_S8x32768_0_1 : (⟨S8x1, .f32⟩ : BufTy).Contents (Elt F) → (⟨S8x32768, .f32⟩ : BufTy).Contents (Elt F)),
    StableHlo.binary main_while0b_v197 main_while0b_v201 main_while0b_v202 (mulf : (⟨S8x32768, .f32⟩ : BufTy).Contents (Elt F) → (⟨S8x32768, .f32⟩ : BufTy).Contents (Elt F) → (⟨S8x32768, .f32⟩ : BufTy).Contents (Elt F)),
    StableHlo.binary main_while0b_v196 main_while0b_v202 main_while0b_v203 (addf : (⟨S8x32768, .f32⟩ : BufTy).Contents (Elt F) → (⟨S8x32768, .f32⟩ : BufTy).Contents (Elt F) → (⟨S8x32768, .f32⟩ : BufTy).Contents (Elt F)),
    StableHlo.unary main_while0b_v203 main_while0b_v204 (fptosi 32 : (⟨S8x32768, .f32⟩ : BufTy).Contents (Elt F) → (⟨S8x32768, .i32⟩ : BufTy).Contents (Elt F)),
    StableHlo.nullary main_while0b_c_61 (constantI S_ 32 1#32),
    StableHlo.binary main_v7_1 main_while0b_c_61 main_while0b_v205 (addi : (⟨S_, .i32⟩ : BufTy).Contents (Elt F) → (⟨S_, .i32⟩ : BufTy).Contents (Elt F) → (⟨S_, .i32⟩ : BufTy).Contents (Elt F)) ]
theorem own7_tame : (own7 : List (HloOp τ sig (Elt F))).Forall Tame :=
  ⟨tame_binary .., tame_unary .., tame_unary .., tame_unary .., tame_unary .., tame_binary .., tame_unary .., tame_unary .., tame_nullary .., tame_unary .., tame_binary .., tame_unary .., tame_binary .., tame_binary .., tame_unary .., tame_nullary .., tame_binary ..⟩

/-- 4 operations of the loop body. -/
abbrev own8 : List (HloOp τ sig (Elt F)) :=
  [ StableHlo.unary main_while0b_v205 main_v7_1 id,
    StableHlo.unary main_while0b_v8 main_v7_2 id,
    StableHlo.unary main_while0b_v12 main_v7_3 id,
    StableHlo.unary main_while0b_v204 main_v7_4 id ]
theorem own8_tame : (own8 : List (HloOp τ sig (Elt F))).Forall Tame :=
  ⟨tame_unary .., tame_unary .., tame_unary .., tame_unary ..⟩

theorem main_chain (c : Dev nD) : main (F := F) c = (Pipeline.chain [StableHlo.seq entryOps, HostLoop.enter 0] : Prog (TpuEff nD τ sig (Elt F) (HostLoop.Sig (Pipeline.Sig Λ₀ (Fin 0) fun p => (pcfgs (F := F) p).Adm) 1) .tc) PUnit) := by
  rewrite [StableHlo.chain_seq_cons, Pipeline.chain_cons]
  chain_rfl

set_option maxHeartbeats 4000000 in
/-- The loop body is the chain of its stretches. -/
theorem body_chain : main_while0_body (F := F) = (Pipeline.chain [
    StableHlo.seq (own0),
    StableHlo.seq (Rng.splitOps (.of main_v7_3) (split main_while0b_call0)),
    StableHlo.seq (own1),
    StableHlo.seq (Rng.gumbelOps (.of main_while0b_v14) (gum main_while0b_call1)),
    StableHlo.seq (own2),
    StableHlo.seq (argmaxOps (.of main_while0b_v92) main_while0b_call2),
    StableHlo.seq (softmaxOps (.of main_while0b_v90) main_while0b_call3),
    StableHlo.seq (own3),
    StableHlo.seq (takeOps (.of main_while0b_v94) (.of main_while0b_v95) main_while0b_call4),
    StableHlo.seq (own4),
    StableHlo.seq (softmaxOps (.of main_while0b_v172) main_while0b_call5),
    StableHlo.seq (own5),
    StableHlo.seq (takeOps (.of main_while0b_v173) (.of main_while0b_v174) main_while0b_call6),
    StableHlo.seq (own6),
    StableHlo.seq (Rng.uniform8Ops (.of main_while0b_v16) (.of main_while0b_cst_58) (.of main_while0b_cst_59) (acc main_while0b_call7)),
    StableHlo.seq (own7),
    StableHlo.seq (own8)] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, StableHlo.chain_seq_cons]
  chain_rfl

/-- The stretches of the loop body. -/
abbrev bodyItems : List (List (HloOp τ sig (Elt F))) :=
  [ own0,
    Rng.splitOps (.of main_v7_3) (split main_while0b_call0),
    own1,
    Rng.gumbelOps (.of main_while0b_v14) (gum main_while0b_call1),
    own2,
    argmaxOps (.of main_while0b_v92) main_while0b_call2,
    softmaxOps (.of main_while0b_v90) main_while0b_call3,
    own3,
    takeOps (.of main_while0b_v94) (.of main_while0b_v95) main_while0b_call4,
    own4,
    softmaxOps (.of main_while0b_v172) main_while0b_call5,
    own5,
    takeOps (.of main_while0b_v173) (.of main_while0b_v174) main_while0b_call6,
    own6,
    Rng.uniform8Ops (.of main_while0b_v16) (.of main_while0b_cst_58) (.of main_while0b_cst_59) (acc main_while0b_call7),
    own7,
    own8 ]

theorem plain_cons {ops : List (HloOp τ sig (Elt F))} {rest : List (List (HloOp τ sig (Elt F)))} (h : ops.Forall Tame) (hr : Plain rest) :
    Plain (ops :: rest) := fun o ho => by
  rcases List.mem_cons.mp ho with rfl | ho
  · exact ⟨fun op hop => (List.forall_iff_forall_mem.mp h op hop).1, fun op hop => (List.forall_iff_forall_mem.mp h op hop).2⟩
  · exact hr o ho

theorem plain_body : Plain (bodyItems : List (List (HloOp τ sig (Elt F)))) :=
  plain_cons own0_tame <| plain_cons (Rng.split_tame ..) <| plain_cons own1_tame <| plain_cons (Rng.gumbel_tame ..) <| plain_cons own2_tame <| plain_cons (argmax_tame ..) <| plain_cons (softmax_tame ..) <| plain_cons own3_tame <| plain_cons (take_tame ..) <| plain_cons own4_tame <| plain_cons (softmax_tame ..) <| plain_cons own5_tame <| plain_cons (take_tame ..) <| plain_cons own6_tame <| plain_cons (Rng.uniform8_tame ..) <| plain_cons own7_tame <| plain_cons own8_tame <| Plain.nil
theorem plain_entry : Plain ([entryOps] : List (List (HloOp τ sig (Elt F)))) := plain_cons entry_tame Plain.nil

end Cert.Ref

end

end
-- ==== Proof.RefLine.lean ====
/- The loop body of the reference as a line of operations: each writes the next buffer, from earlier ones. -/
module

public import proofs.«01_k».proof.Proof.RefOps
public import Idealize.ShloMosaic.Lib.Pipeline.Regions
public import Idealize.ShloMosaic.Lib.StableHlo.RunLoop
public import Idealize.ShloMosaic.Lib.Scf.ExitTest
public import Idealize.ShloMosaic.Lib.Scf.Counter

@[expose] public section

set_option maxRecDepth 16384

noncomputable section

namespace Cert.Ref

open Cert.ReferenceIdeal Cert.ReferenceIdeal.Gen Cert.Lines Idealize.ShloMosaic Idealize.ShloMosaic.StableHlo
open Idealize.ShloMosaic.TcCoe Idealize.SL Idealize.SL.RA Idealize.SL.BI
open scoped Idealize.SL.BI
open Idealize.SL.BI.BIBase Idealize.SL.Sem

variable {F : FTy → Type} [FloatOps F]

theorem line0 : Line (own0 : List (HloOp τ sig (Elt F))) 21 :=
  ⟨fresh_nullary _ _ rfl,
    fresh_binary _ _ _ _ rfl (by decide) (by decide),
    fresh_nullary _ _ rfl, trivial⟩

theorem line1 : Line (Rng.splitOps (.of main_v7_3) (split main_while0b_call0) : List (HloOp τ sig (Elt F))) 24 :=
  Rng.split_fresh (by decide) (by decide +kernel)

theorem line2 : Line (own1 : List (HloOp τ sig (Elt F))) 262 :=
  ⟨fresh_unary _ _ _ rfl (by decide),
    fresh_reshape _ _ _ _ rfl (by decide),
    fresh_unary _ _ _ rfl (by decide),
    fresh_reshape _ _ _ _ rfl (by decide),
    fresh_unary _ _ _ rfl (by decide),
    fresh_reshape _ _ _ _ rfl (by decide),
    fresh_nullary _ _ rfl,
    fresh_unary _ _ _ rfl (by decide),
    fresh_nullary _ _ rfl,
    fresh_unary _ _ _ rfl (by decide),
    fresh_reshape _ _ _ _ rfl (by decide),
    fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_unary _ _ _ rfl (by decide),
    fresh_unary _ _ _ rfl (by decide),
    fresh_binary _ _ _ _ rfl (by decide) (by decide),
    fresh_nullary _ _ rfl,
    fresh_unary _ _ _ rfl (by decide),
    fresh_ternary _ _ _ _ _ rfl (by decide) (by decide) (by decide),
    fresh_unary _ _ _ rfl (by decide),
    fresh_unary _ _ _ rfl (by decide),
    fresh_binary _ _ _ _ rfl (by decide) (by decide),
    fresh_nullary _ _ rfl,
    fresh_binary _ _ _ _ rfl (by decide) (by decide),
    fresh_nullary _ _ rfl,
    fresh_binary _ _ _ _ rfl (by decide) (by decide),
    fresh_nullary _ _ rfl,
    fresh_unary _ _ _ rfl (by decide),
    fresh_unary _ _ _ rfl (by decide),
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_unary _ _ _ rfl (by decide),
    fresh_reshape _ _ _ _ rfl (by decide),
    fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_nullary _ _ rfl,
    fresh_unary _ _ _ rfl (by decide),
    fresh_unary _ _ _ rfl (by decide),
    fresh_unary _ _ _ rfl (by decide),
    fresh_nary _ _ _ _ rfl (by decide),
    fresh_binary _ _ _ _ rfl (by decide) (by decide),
    fresh_unary _ _ _ rfl (by decide),
    fresh_unary _ _ _ rfl (by decide),
    fresh_binary _ _ _ _ rfl (by decide) (by decide),
    fresh_nullary _ _ rfl,
    fresh_unary _ _ _ rfl (by decide),
    fresh_nullary _ _ rfl,
    fresh_unary _ _ _ rfl (by decide),
    fresh_binary _ _ _ _ rfl (by decide) (by decide),
    fresh_unary _ _ _ rfl (by decide),
    fresh_reshape _ _ _ _ rfl (by decide),
    fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_nullary _ _ rfl,
    fresh_unary _ _ _ rfl (by decide),
    fresh_unary _ _ _ rfl (by decide),
    fresh_unary _ _ _ rfl (by decide),
    fresh_unary _ _ _ rfl (by decide),
    fresh_unary _ _ _ rfl (by decide),
    fresh_nary _ _ _ _ rfl (by decide),
    fresh_nullary _ _ rfl,
    fresh_unary _ _ _ rfl (by decide),
    fresh_ternary _ _ _ _ _ rfl (by decide) (by decide) (by decide),
    fresh_binary _ _ _ _ rfl (by decide) (by decide), trivial⟩

theorem line3 : Line (Rng.gumbelOps (.of main_while0b_v14) (gum main_while0b_call1) : List (HloOp τ sig (Elt F))) 365 :=
  Rng.gumbel_fresh (by decide) (by decide +kernel)

theorem line4 : Line (own2 : List (HloOp τ sig (Elt F))) 637 :=
  ⟨fresh_binary _ _ _ _ rfl (by decide) (by decide), trivial⟩

theorem line5 : Line (argmaxOps (.of main_while0b_v92) main_while0b_call2 : List (HloOp τ sig (Elt F))) 638 :=
  ⟨fresh_nullary _ _ rfl,
    fresh_nullary _ _ rfl,
    fresh_nullary _ _ rfl,
    fresh_quaternary _ _ _ _ _ _ rfl (by decide) (by decide) (by decide) (by decide),
    fresh_quaternary _ _ _ _ _ _ rfl (by decide) (by decide) (by decide) (by decide), trivial⟩

theorem line6 : Line (softmaxOps (.of main_while0b_v90) main_while0b_call3 : List (HloOp τ sig (Elt F))) 643 :=
  ⟨fresh_nullary _ _ rfl,
    fresh_binary _ _ _ _ rfl (by decide) (by decide),
    fresh_nullary _ _ rfl,
    fresh_unary _ _ _ rfl (by decide),
    fresh_binary _ _ _ _ rfl (by decide) (by decide),
    fresh_unary _ _ _ rfl (by decide),
    fresh_unary _ _ _ rfl (by decide),
    fresh_binary _ _ _ _ rfl (by decide) (by decide),
    fresh_unary _ _ _ rfl (by decide),
    fresh_nullary _ _ rfl,
    fresh_binary _ _ _ _ rfl (by decide) (by decide),
    fresh_unary _ _ _ rfl (by decide),
    fresh_unary _ _ _ rfl (by decide),
    fresh_unary _ _ _ rfl (by decide),
    fresh_binary _ _ _ _ rfl (by decide) (by decide), trivial⟩

theorem line7 : Line (own3 : List (HloOp τ sig (Elt F))) 658 :=
  ⟨fresh_unary _ _ _ rfl (by decide), trivial⟩

theorem line8 : Line (takeOps (.of main_while0b_v94) (.of main_while0b_v95) main_while0b_call4 : List (HloOp τ sig (Elt F))) 659 :=
  ⟨fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_reshape _ _ _ _ rfl (by decide),
    fresh_nullary _ _ rfl,
    fresh_nullary _ _ rfl,
    fresh_unary _ _ _ rfl (by decide),
    fresh_binary _ _ _ _ rfl (by decide) (by decide),
    fresh_unary _ _ _ rfl (by decide),
    fresh_unary _ _ _ rfl (by decide),
    fresh_binary _ _ _ _ rfl (by decide) (by decide),
    fresh_binary _ _ _ _ rfl (by decide) (by decide),
    fresh_nullary _ _ rfl,
    fresh_binary _ _ _ _ rfl (by decide) (by decide),
    fresh_binary _ _ _ _ rfl (by decide) (by decide),
    fresh_nullary _ _ rfl,
    fresh_unary _ _ _ rfl (by decide),
    fresh_ternary _ _ _ _ _ rfl (by decide) (by decide) (by decide), trivial⟩

theorem line9 : Line (own4 : List (HloOp τ sig (Elt F))) 681 :=
  ⟨fresh_reshape _ _ _ _ rfl (by decide),
    fresh_nullary _ _ rfl,
    fresh_binary _ _ _ _ rfl (by decide) (by decide),
    fresh_nullary _ _ rfl,
    fresh_unary _ _ _ rfl (by decide),
    fresh_nullary _ _ rfl,
    fresh_unary _ _ _ rfl (by decide),
    fresh_reshape _ _ _ _ rfl (by decide),
    fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_unary _ _ _ rfl (by decide),
    fresh_unary _ _ _ rfl (by decide),
    fresh_binary _ _ _ _ rfl (by decide) (by decide),
    fresh_nullary _ _ rfl,
    fresh_unary _ _ _ rfl (by decide),
    fresh_ternary _ _ _ _ _ rfl (by decide) (by decide) (by decide),
    fresh_unary _ _ _ rfl (by decide),
    fresh_unary _ _ _ rfl (by decide),
    fresh_binary _ _ _ _ rfl (by decide) (by decide),
    fresh_nullary _ _ rfl,
    fresh_binary _ _ _ _ rfl (by decide) (by decide),
    fresh_nullary _ _ rfl,
    fresh_binary _ _ _ _ rfl (by decide) (by decide),
    fresh_nullary _ _ rfl,
    fresh_unary _ _ _ rfl (by decide),
    fresh_unary _ _ _ rfl (by decide),
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_unary _ _ _ rfl (by decide),
    fresh_reshape _ _ _ _ rfl (by decide),
    fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_nullary _ _ rfl,
    fresh_unary _ _ _ rfl (by decide),
    fresh_unary _ _ _ rfl (by decide),
    fresh_unary _ _ _ rfl (by decide),
    fresh_nary _ _ _ _ rfl (by decide),
    fresh_binary _ _ _ _ rfl (by decide) (by decide),
    fresh_unary _ _ _ rfl (by decide),
    fresh_unary _ _ _ rfl (by decide),
    fresh_binary _ _ _ _ rfl (by decide) (by decide),
    fresh_nullary _ _ rfl,
    fresh_unary _ _ _ rfl (by decide),
    fresh_nullary _ _ rfl,
    fresh_unary _ _ _ rfl (by decide),
    fresh_binary _ _ _ _ rfl (by decide) (by decide),
    fresh_unary _ _ _ rfl (by decide),
    fresh_reshape _ _ _ _ rfl (by decide),
    fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_nullary _ _ rfl,
    fresh_unary _ _ _ rfl (by decide),
    fresh_unary _ _ _ rfl (by decide),
    fresh_unary _ _ _ rfl (by decide),
    fresh_unary _ _ _ rfl (by decide),
    fresh_unary _ _ _ rfl (by decide),
    fresh_nary _ _ _ _ rfl (by decide),
    fresh_nullary _ _ rfl,
    fresh_unary _ _ _ rfl (by decide),
    fresh_ternary _ _ _ _ _ rfl (by decide) (by decide) (by decide),
    fresh_binary _ _ _ _ rfl (by decide) (by decide), trivial⟩

theorem line10 : Line (softmaxOps (.of main_while0b_v172) main_while0b_call5 : List (HloOp τ sig (Elt F))) 781 :=
  ⟨fresh_nullary _ _ rfl,
    fresh_binary _ _ _ _ rfl (by decide) (by decide),
    fresh_nullary _ _ rfl,
    fresh_unary _ _ _ rfl (by decide),
    fresh_binary _ _ _ _ rfl (by decide) (by decide),
    fresh_unary _ _ _ rfl (by decide),
    fresh_unary _ _ _ rfl (by decide),
    fresh_binary _ _ _ _ rfl (by decide) (by decide),
    fresh_unary _ _ _ rfl (by decide),
    fresh_nullary _ _ rfl,
    fresh_binary _ _ _ _ rfl (by decide) (by decide),
    fresh_unary _ _ _ rfl (by decide),
    fresh_unary _ _ _ rfl (by decide),
    fresh_unary _ _ _ rfl (by decide),
    fresh_binary _ _ _ _ rfl (by decide) (by decide), trivial⟩

theorem line11 : Line (own5 : List (HloOp τ sig (Elt F))) 796 :=
  ⟨fresh_unary _ _ _ rfl (by decide), trivial⟩

theorem line12 : Line (takeOps (.of main_while0b_v173) (.of main_while0b_v174) main_while0b_call6 : List (HloOp τ sig (Elt F))) 797 :=
  ⟨fresh_nullary _ _ rfl,
    fresh_unary _ _ _ rfl (by decide),
    fresh_binary _ _ _ _ rfl (by decide) (by decide),
    fresh_nullary _ _ rfl,
    fresh_unary _ _ _ rfl (by decide),
    fresh_binary _ _ _ _ rfl (by decide) (by decide),
    fresh_ternary _ _ _ _ _ rfl (by decide) (by decide) (by decide),
    fresh_reshape _ _ _ _ rfl (by decide),
    fresh_nullary _ _ rfl,
    fresh_nullary _ _ rfl,
    fresh_unary _ _ _ rfl (by decide),
    fresh_binary _ _ _ _ rfl (by decide) (by decide),
    fresh_unary _ _ _ rfl (by decide),
    fresh_unary _ _ _ rfl (by decide),
    fresh_binary _ _ _ _ rfl (by decide) (by decide),
    fresh_binary _ _ _ _ rfl (by decide) (by decide),
    fresh_nullary _ _ rfl,
    fresh_binary _ _ _ _ rfl (by decide) (by decide),
    fresh_binary _ _ _ _ rfl (by decide) (by decide),
    fresh_nullary _ _ rfl,
    fresh_unary _ _ _ rfl (by decide),
    fresh_ternary _ _ _ _ _ rfl (by decide) (by decide) (by decide), trivial⟩

theorem line13 : Line (own6 : List (HloOp τ sig (Elt F))) 819 :=
  ⟨fresh_reshape _ _ _ _ rfl (by decide),
    fresh_nullary _ _ rfl,
    fresh_binary _ _ _ _ rfl (by decide) (by decide),
    fresh_unary _ _ _ rfl (by decide),
    fresh_unary _ _ _ rfl (by decide),
    fresh_binary _ _ _ _ rfl (by decide) (by decide),
    fresh_nullary _ _ rfl,
    fresh_binary _ _ _ _ rfl (by decide) (by decide),
    fresh_unary _ _ _ rfl (by decide),
    fresh_unary _ _ _ rfl (by decide),
    fresh_binary _ _ _ _ rfl (by decide) (by decide),
    fresh_nullary _ _ rfl,
    fresh_binary _ _ _ _ rfl (by decide) (by decide),
    fresh_binary _ _ _ _ rfl (by decide) (by decide),
    fresh_binary _ _ _ _ rfl (by decide) (by decide),
    fresh_binary _ _ _ _ rfl (by decide) (by decide),
    fresh_unary _ _ _ rfl (by decide),
    fresh_nullary _ _ rfl,
    fresh_nullary _ _ rfl, trivial⟩

theorem line14 : Line (Rng.uniform8Ops (.of main_while0b_v16) (.of main_while0b_cst_58) (.of main_while0b_cst_59) (acc main_while0b_call7) : List (HloOp τ sig (Elt F))) 838 :=
  Rng.uniform8_fresh (by decide) (by decide) (by decide) (by decide +kernel)

theorem line15 : Line (own7 : List (HloOp τ sig (Elt F))) 1095 :=
  ⟨fresh_binary _ _ _ _ rfl (by decide) (by decide),
    fresh_unary _ _ _ rfl (by decide),
    fresh_unary _ _ _ rfl (by decide),
    fresh_unary _ _ _ rfl (by decide),
    fresh_unary _ _ _ rfl (by decide),
    fresh_binary _ _ _ _ rfl (by decide) (by decide),
    fresh_unary _ _ _ rfl (by decide),
    fresh_unary _ _ _ rfl (by decide),
    fresh_nullary _ _ rfl,
    fresh_unary _ _ _ rfl (by decide),
    fresh_binary _ _ _ _ rfl (by decide) (by decide),
    fresh_unary _ _ _ rfl (by decide),
    fresh_binary _ _ _ _ rfl (by decide) (by decide),
    fresh_binary _ _ _ _ rfl (by decide) (by decide),
    fresh_unary _ _ _ rfl (by decide),
    fresh_nullary _ _ rfl,
    fresh_binary _ _ _ _ rfl (by decide) (by decide), trivial⟩

/-- The operations of the loop body but the four copies at its end. -/
abbrev bodyOps : List (HloOp τ sig (Elt F)) :=
  own0 ++ (Rng.splitOps (.of main_v7_3) (split main_while0b_call0) ++ (own1 ++ (Rng.gumbelOps (.of main_while0b_v14) (gum main_while0b_call1) ++ (own2 ++ (argmaxOps (.of main_while0b_v92) main_while0b_call2 ++ (softmaxOps (.of main_while0b_v90) main_while0b_call3 ++ (own3 ++ (takeOps (.of main_while0b_v94) (.of main_while0b_v95) main_while0b_call4 ++ (own4 ++ (softmaxOps (.of main_while0b_v172) main_while0b_call5 ++ (own5 ++ (takeOps (.of main_while0b_v173) (.of main_while0b_v174) main_while0b_call6 ++ (own6 ++ (Rng.uniform8Ops (.of main_while0b_v16) (.of main_while0b_cst_58) (.of main_while0b_cst_59) (acc main_while0b_call7) ++ (own7)))))))))))))))

theorem body_line : Line (bodyOps : List (HloOp τ sig (Elt F))) 21 :=
  line_append_of (a := 3) rfl line0 <| line_append_of (a := 238) rfl line1 <| line_append_of (a := 103) rfl line2 <| line_append_of (a := 272) rfl line3 <| line_append_of (a := 1) rfl line4 <| line_append_of (a := 5) rfl line5 <| line_append_of (a := 15) rfl line6 <| line_append_of (a := 1) rfl line7 <| line_append_of (a := 22) rfl line8 <| line_append_of (a := 100) rfl line9 <| line_append_of (a := 15) rfl line10 <| line_append_of (a := 1) rfl line11 <| line_append_of (a := 22) rfl line12 <| line_append_of (a := 19) rfl line13 <| line_append_of (a := 257) rfl line14 <| line15

theorem after_body (V : Valuation τ sig (Elt F)) : afterL bodyItems V = after own8 (after bodyOps V) := by
  simp only [bodyItems, bodyOps, afterL_cons, afterL_nil, after_append]

end Cert.Ref

end

end
-- ==== Proof.RefRun.lean ====
/- The run of the reference program: ten trips of the loop body, and what each trip carries to the next. -/
module

public import proofs.«01_k».proof.Proof.RefLine
public import Idealize.ShloMosaic.Lib.StableHlo.RunRead
public import Idealize.ShloMosaic.Lib.Pipeline.Regions
public import Idealize.ShloMosaic.Lib.StableHlo.RunLoop
public import Idealize.ShloMosaic.Lib.Scf.ExitTest
public import Idealize.ShloMosaic.Lib.Scf.Counter

@[expose] public section

set_option maxRecDepth 16384

noncomputable section

namespace Cert.Ref

open Cert.ReferenceIdeal Cert.ReferenceIdeal.Gen Cert.Lines Idealize.ShloMosaic Idealize.ShloMosaic.StableHlo
open Idealize.ShloMosaic.TcCoe Idealize.SL Idealize.SL.RA Idealize.SL.BI
open scoped Idealize.SL.BI
open Idealize.SL.BI.BIBase Idealize.SL.Sem

variable {F : FTy → Type} [FloatOps F]

open Idealize.SL.BI.Laws Idealize.SL.ProofMode Idealize.ShloMosaic.Tactic
open Idealize.ShloMosaic.Pipeline (ucRefs sub_ucRefs)

/-- The operations of the loop's condition. -/
abbrev condOps : List (HloOp τ sig (Elt F)) :=
  [ StableHlo.nullary main_while0c_c_8 (constantI S_ 32 10#32),
    StableHlo.binary main_v7_1 main_while0c_c_8 main_while0c_v8 (cmpi .slt : (⟨S_, .i32⟩ : BufTy).Contents (Elt F) → (⟨S_, .i32⟩ : BufTy).Contents (Elt F) → (⟨S_, .i1⟩ : BufTy).Contents (Elt F)) ]

/-- The condition changes no buffer before its own. -/
theorem cond_kept (V : Valuation τ sig (Elt F)) (b : DevRef τ sig) (hb : num b < 19) : after condOps V b = V b :=
  after_kept (ops := condOps) (n := 19) ⟨fresh_nullary _ _ rfl, fresh_binary _ _ _ _ rfl (by decide) (by decide), trivial⟩ V b hb

/-- What the four copies at the end of the loop body leave in the carried buffers. -/
theorem copies (M : Valuation τ sig (Elt F)) :
    after own8 M (Proc.devRef .tc main_v7_0) = M (Proc.devRef .tc main_v7_0)
      ∧ after own8 M (Proc.devRef .tc main_v7_1) = M (Proc.devRef .tc main_while0b_v205)
      ∧ after own8 M (Proc.devRef .tc main_v7_3) = M (Proc.devRef .tc main_while0b_v12)
      ∧ after own8 M (Proc.devRef .tc main_v7_4) = M (Proc.devRef .tc main_while0b_v204) := by
  refine ⟨?_, ?_, ?_, ?_⟩ <;> · after_reads_simp; try rfl

/-- The four copies change the arguments not. -/
theorem copies_args (M : Valuation τ sig (Elt F)) :
    after own8 M (Proc.devRef .tc main_arg0) = M (Proc.devRef .tc main_arg0)
      ∧ after own8 M (Proc.devRef .tc main_arg1) = M (Proc.devRef .tc main_arg1) := by
  refine ⟨?_, ?_⟩ <;> · after_reads_simp; try rfl

/-- The loop body adds one to the counter. -/
theorem body_counter (X : Valuation τ sig (Elt F)) :
    afterL bodyItems X (Proc.devRef .tc main_v7_1) = addi (X (Proc.devRef .tc main_v7_1)) (constantI S_ 32 1#32) := by
  rw [after_body, (copies _).2.1]
  have h := after_holds body_line X
  simp only [bodyOps, List.forall_append] at h
  obtain ⟨_, _, _, _, _, _, _, _, _, _, _, _, _, _, _, ⟨h0, h1, h2, h3, h4, h5, h6, h7, h8, h9, h10, h11, h12, h13, h14, h15, h16⟩⟩ := h
  rw [eq_binary h16, eq_nullary h15, after_kept body_line X _ (by decide)]

variable (m : (ℓ : Loc nD τ sig) → Buf (Elt F) ℓ) (ρ : Dev nD → PrngReg)

/-- The buffers before trip `k`. -/
abbrev atK (k : ℕ) (c : Dev nD) : Valuation τ sig (Elt F) := atTrip condOps bodyItems (entryContents [entryOps] m) k c

theorem counter (c : Dev nD) : ∀ k, atK m k c (Proc.devRef .tc main_v7_1) = fun _ => Scf.iv 0#32 1#32 k
  | 0 => by
    rw [show atK m 0 c = entryContents [entryOps] m c from rfl, Scf.iv_zero]
    simp only [entryContents, afterL_cons, afterL_nil]
    after_reads_simp
    rfl
  | k + 1 => by
    rw [show atK m (k + 1) c = afterL bodyItems (after condOps (atK m k c)) from rfl, body_counter, cond_kept _ _ (by decide),
      counter c k, Scf.iv_succ]
    rfl

set_option backward.isDefEq.respectTransparency.types false in
/-- The condition's answer before trip `k` is whether `k` is below ten. -/
theorem cond_spec : CondSpec (pcfgs (F := F)) defs₀ loops (main_while0_cond (F := F)) condOps bodyItems (entryContents [entryOps] m) 10 := by
  intro k hk c bd
  have hctr := counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v7_1 HostLoop.idx0)
        (HloOp.result _ (atK m k c) main_while0c_c_8 HostLoop.idx0) = 1#1) (k < 10)
    rw [nullary_result_ne _ _ _ _ (by decide), nullary_result, hctr]
    exact Scf.cmpi_slt_iv_ub_iff (lb := 0#32) (ub := 10#32) (st := 1#32) (by decide) (show k ≤ Scf.trips 0#32 10#32 1#32 from hk)
  isplitl [Hb]; · iexact Hb
  rw [after_cons, after_cons, after_nil]; iexact Hh

set_option maxRecDepth 100000 in
/-- Every run of the reference ends with the buffers after ten trips. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps [entryOps] bodyItems [] 10 m c (Proc.devRef .tc b)) :=
  run_loop (pcfgs (F := F)) defs₀ loops main 0 main_while0_cond main_while0_body rfl [entryOps] bodyItems [] condOps
    plain_entry plain_body Plain.nil (fun c => by rw [main_chain]; rfl) (by rw [body_chain]; rfl) 10 m ρ (cond_spec m)

/-- The arguments are as they were before every trip. -/
theorem args_kept (c : Dev nD) : ∀ k, atK m k c (Proc.devRef .tc main_arg0) = launchContents m c (Proc.devRef .tc main_arg0)
    ∧ atK m k c (Proc.devRef .tc main_arg1) = launchContents m c (Proc.devRef .tc main_arg1)
  | 0 => by
    simp only [atK, atTrip_zero, entryContents, afterL_cons, afterL_nil]
    constructor <;> · after_reads_simp
  | k + 1 => by
    have ih := args_kept c k
    rw [show atK m (k + 1) c = afterL bodyItems (after condOps (atK m k c)) from rfl, after_body, (copies_args _).1, (copies_args _).2,
      after_kept body_line _ _ (by decide), after_kept body_line _ _ (by decide), cond_kept _ _ (by decide), cond_kept _ _ (by decide)]
    exact ih

end Cert.Ref

end

end
-- ==== Proof.RefDefs.lean ====
/- The tensors of one step of the reference, each as a function of the weights `W`, the classes `x` and the two draws:
   the same operations that the loop body runs, in the same order, named by what they are. -/
module

public import proofs.«01_k».proof.Proof.Gen.ReferenceIdeal

@[expose] public section

set_option maxRecDepth 16384

noncomputable section

namespace Cert.RefStep

open Cert.ReferenceIdeal Cert.ReferenceIdeal.Gen Idealize.ShloMosaic

variable {F : FTy → Type} [FloatOps F]

/-- Indices of an axis of length `n`, a negative one counted from the end. -/
def wrapped (n : BitVec 32) (i : IVec S32768 32) : IVec S32768 32 :=
  select (cmpi .slt i (broadcastInDim S32768 ![] bcast_S_S32768 (constantI S_ 32 0#32)))
    (addi i (broadcastInDim S32768 ![] bcast_S_S32768 (constantI S_ 32 n))) i

/-- The classes of chain 0. -/
def row0 (x : IVec S8x32768 32) : IVec S32768 32 :=
  shapeCast S32768 (extractStridedSlice S1x32768 ![0, 0] x slices_S8x32768_S1x32768_0_0) shapeCasts_S1x32768_S32768

/-- One column of indices. -/
def column (i : IVec S32768 32) : IVec S32768x1 32 := broadcastInDim S32768x1 ![0] bcast_S32768_S32768x1_0 i

/-- The variables' numbers. -/
def vars : IVec S32768x1 32 := column (wrapped 32768#32 (iotaInDim S32768 32 0))

/-- The classes of chain 0 as indices. -/
def held0 (x : IVec S8x32768 32) : IVec S32768x1 32 := column (wrapped 4#32 (row0 x))

/-- A variable and the class chain 0 holds there. -/
def pairs (x : IVec S8x32768 32) : IVec S32768x2 32 :=
  concatenate S32768x2 1 [⟨S32768x1, vars⟩, ⟨S32768x1, held0 x⟩] concatenates_S32768x1_S32768x1_S32768x2_d1

/-- A row, a variable and the class chain 0 holds there. -/
def triples (z : IVec S32768x1 32) (x : IVec S8x32768 32) : IVec S32768x3 32 :=
  concatenate S32768x3 1 [⟨S32768x1, z⟩, ⟨S32768x1, vars⟩, ⟨S32768x1, held0 x⟩] concatenates_S32768x1_S32768x1_S32768x1_S32768x3_d1

/-- The one-hot table of chain 0's classes, the same in every row. -/
def hot (x : IVec S8x32768 32) : FVec F S8x32768x4 .f32 :=
  Host.scatter scatter_S8x32768x4_S32768x2_S8x32768_0_12_12_1 (fun _ b => b)
    (broadcastInDim S8x32768x4 ![] bcast_S_S8x32768x4 (constant S_ .f32 0x00000000#32)) (pairs x)
    (broadcastInDim S8x32768 ![] bcast_S_S8x32768 (constant S_ .f32 0x3F800000#32))

/-- The weights, repeated in every row. -/
def spread (W : FVec F S32768x4 .f32) : FVec F S8x32768x4 .f32 :=
  broadcastInDim S8x32768x4 ![0, 1, 2] bcast_S1x32768x4_S8x32768x4_0_1_2 (broadcastInDim S1x32768x4 ![1, 2] bcast_S32768x4_S1x32768x4_1_2 W)

/-- The linear energy. -/
def energy (W : FVec F S32768x4 .f32) (x : IVec S8x32768 32) : FVec F S8 .f32 :=
  Host.reduceAdd (mulf (hot x) (spread W)) (constant S_ .f32 0x00000000#32) reducesTo_S8x32768x4_S8_d1_2 h_S_

/-- The gradient of the energy over the temperature. -/
def grad (W : FVec F S32768x4 .f32) : FVec F S8x32768x4 .f32 :=
  Host.divf (mulf (broadcastInDim S8x32768x4 ![0] bcast_S8_S8x32768x4_0 (broadcastInDim S8 ![] bcast_S_S8 (constant S_ .f32 0x3F800000#32))) (spread W))
    (broadcastInDim S8x32768x4 ![] bcast_S_S8x32768x4 (constant S_ .f32 0x40000000#32))

/-- The gradient at the classes of chain 0, for every class. -/
def held (g : FVec F S8x32768x4 .f32) (x : IVec S8x32768 32) : FVec F S8x32768x4 .f32 :=
  broadcastInDim S8x32768x4 ![0, 1, 2] bcast_S1x32768x1_S8x32768x4_0_1_2 (broadcastInDim S1x32768x1 ![0, 1] bcast_S1x32768_S1x32768x1_0_1
    (Host.gather gather_S8x32768x4_S32768x3_S1x32768_0_12_n_n_012_1_111 g
      (triples (broadcastInDim S32768x1 ![] bcast_S_S32768x1 (constantI S_ 32 0#32)) x)))

/-- One over the step size, and 0 at the classes of chain 0 in row 0. -/
def sizes (x : IVec S8x32768 32) : FVec F S8x32768x4 .f32 :=
  Host.scatter scatter_S8x32768x4_S32768x3_S32768_n_012_012_1 (fun _ b => b)
    (Host.divf (broadcastInDim S8x32768x4 ![] bcast_S_S8x32768x4 (constant S_ .f32 0x3F800000#32))
      (broadcastInDim S8x32768x4 ![] bcast_S_S8x32768x4 (constant S_ .f32 0x3E4CCCCD#32)))
    (triples (column (broadcastInDim S32768 ![] bcast_S_S32768 (constantI S_ 32 0#32))) x)
    (broadcastInDim S32768 ![] bcast_S_S32768 (constant S_ .f32 0x00000000#32))

/-- The logits at the classes `x`. -/
def logits (W : FVec F S32768x4 .f32) (x : IVec S8x32768 32) : FVec F S8x32768x4 .f32 :=
  subf (subf (grad W) (held (grad W) x)) (sizes x)

/-- The class of the largest entry. -/
def argmax (l : FVec F S8x32768x4 .f32) : IVec S8x32768 32 := fun j =>
  (Host.argReduce reducer_argmax_f32_i32 l (iotaInDim S8x32768x4 32 2) (constant S_ .f32 0xFF800000#32) (constantI S_ 32 0#32)
    reducesTo_S8x32768x4_S8x32768_d2 h_S_ j).2

/-- The entries less the largest one. -/
def shifted (l : FVec F S8x32768x4 .f32) : FVec F S8x32768x4 .f32 :=
  subf l (broadcastInDim S8x32768x4 ![0, 1, 2] bcast_S8x32768x1_S8x32768x4_0_1_2 (broadcastInDim S8x32768x1 ![0, 1] bcast_S8x32768_S8x32768x1_0_1
    (maximumf (broadcastInDim S8x32768 ![] bcast_S_S8x32768 (constant S_ .f32 0xFF800000#32))
      (Host.reduce FloatOps.maximumf l (constant S_ .f32 0xFF800000#32) reducesTo_S8x32768x4_S8x32768_d2 h_S_))))

/-- The logarithm of the softmax. -/
def logSoftmax (l : FVec F S8x32768x4 .f32) : FVec F S8x32768x4 .f32 :=
  subf (shifted l) (broadcastInDim S8x32768x4 ![0, 1, 2] bcast_S8x32768x1_S8x32768x4_0_1_2 (Host.log
    (broadcastInDim S8x32768x1 ![0, 1] bcast_S8x32768_S8x32768x1_0_1
      (Host.reduceAdd (Host.exp (shifted l)) (constant S_ .f32 0x00000000#32) reducesTo_S8x32768x4_S8x32768_d2 h_S_))))

/-- The classes as indices of the last axis, a negative one counted from the end. -/
def classIdx (y : IVec S8x32768x1 32) : IVec S8x32768x1x1 32 :=
  shapeCast S8x32768x1x1 (select (cmpi .slt y (broadcastInDim S8x32768x1 ![] bcast_S_S8x32768x1 (constantI S_ 32 0#32)))
    (addi y (broadcastInDim S8x32768x1 ![] bcast_S_S8x32768x1 (constantI S_ 32 4#32))) y) shapeCasts_S8x32768x1_S8x32768x1x1

/-- Which indices lie within the last axis. -/
def inside (i : IVec S8x32768x1x1 32) : IVec S8x32768x1 1 :=
  Host.reduce IntOp.andi (andi (cmpi .sge i (broadcastInDim S8x32768x1x1 ![] bcast_S_S8x32768x1x1 (constantI S_ 32 0#32)))
      (cmpi .sle i (broadcastInDim S8x32768x1x1 ![0, 1, 2, 3] bcast_S1x1x1x1_S8x32768x1x1_0_1_2_3
        (broadcastInDim S1x1x1x1 ![3] bcast_S1_S1x1x1x1_3 (constantI S1 32 3#32)))))
    (constantI S_ 1 1#1) reducesTo_S8x32768x1x1_S8x32768x1_d3 h_S_

/-- The entry of the last axis that the class names. -/
def take (p : FVec F S8x32768x4 .f32) (y : IVec S8x32768x1 32) : FVec F S8x32768x1 .f32 :=
  select (inside (classIdx y)) (Host.gather gather_S8x32768x4_S8x32768x1x1_S8x32768x1_n_2_01_01_2_3_111 p (classIdx y))
    (broadcastInDim S8x32768x1 ![] bcast_S_S8x32768x1 (constant S_ .f32 0x7FC00000#32))

/-- The log-probability of the classes `z`, by the logits `l`. -/
def logProb (l : FVec F S8x32768x4 .f32) (z : IVec S8x32768 32) : FVec F S8 .f32 :=
  Host.reduceAdd (shapeCast S8x32768 (take (logSoftmax l) (broadcastInDim S8x32768x1 ![0, 1] bcast_S8x32768_S8x32768x1_0_1 z)) shapeCasts_S8x32768x1_S8x32768)
    (constant S_ .f32 0x00000000#32) reducesTo_S8x32768_S8_d1 h_S_

/-- The acceptance ratio for going from `x` to `z`. -/
def ratio (W : FVec F S32768x4 .f32) (x z : IVec S8x32768 32) : FVec F S8 .f32 :=
  Host.exp (subf (addf (subf (energy W z) (energy W x)) (logProb (logits W z) x)) (logProb (logits W x) z))

/-- The acceptance, as the numbers 1 and 0. -/
def accepted (r u : FVec F S8 .f32) : FVec F S8 .f32 := uitofp .f32 (cmpf .ogt r u)

/-- The mixture of the proposal and the state by the acceptance. -/
def mixed (a : FVec F S8 .f32) (z x : IVec S8x32768 32) : IVec S8x32768 32 :=
  fptosi 32 (addf
    (mulf (sitofp .f32 z : FVec F S8x32768 .f32) (broadcastInDim S8x32768 ![0, 1] bcast_S8x1_S8x32768_0_1 (broadcastInDim S8x1 ![0] bcast_S8_S8x1_0 a)))
    (mulf (sitofp .f32 x : FVec F S8x32768 .f32) (broadcastInDim S8x32768 ![0, 1] bcast_S8x1_S8x32768_0_1
      (subf (broadcastInDim S8x1 ![] bcast_S_S8x1 (constant S_ .f32 0x3F800000#32)) (broadcastInDim S8x1 ![0] bcast_S8_S8x1_0 a)))))

/-- The proposal. -/
def proposal (W : FVec F S32768x4 .f32) (g : FVec F S8x32768x4 .f32) (x : IVec S8x32768 32) : IVec S8x32768 32 := argmax (addf g (logits W x))

/-- One step. -/
def step (W : FVec F S32768x4 .f32) (g : FVec F S8x32768x4 .f32) (u : FVec F S8 .f32) (x : IVec S8x32768 32) : IVec S8x32768 32 :=
  mixed (accepted (ratio W x (proposal W g x)) u) (proposal W g x) x

end Cert.RefStep

end
-- ==== Proof.RefRead.lean ====
/- Reading the loop body: what each stretch leaves, as a function of what it found. -/
module

public import proofs.«01_k».proof.Proof.RefLine
public import proofs.«01_k».proof.Proof.RefDefs
public import proofs.«01_k».proof.Proof.Draw

@[expose] public section

set_option maxRecDepth 16384

noncomputable section

namespace Cert.RefStep

open Cert.Ref Cert.ReferenceIdeal Cert.ReferenceIdeal.Gen Cert.Lines Idealize.ShloMosaic Idealize.ShloMosaic.StableHlo
open Idealize.ShloMosaic.TcCoe

variable {F : FTy → Type} [FloatOps F]

/-- The next key. -/
theorem read_next {M : Valuation τ sig (Elt F)} (h : (own1 : List (HloOp τ sig (Elt F))).Forall (Holds M)) :
    M (Proc.devRef .tc main_while0b_v12) = shapeCast S2 (extractStridedSlice S1x2 ![0, 0] (M (Proc.devRef .tc main_while0b_v10)) slices_S3x2_S1x2_0_0) shapeCasts_S1x2_S2 := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102⟩ := h
  have e1 : M (Proc.devRef .tc main_while0b_v12) = shapeCast S2 (M (Proc.devRef .tc main_while0b_v11)) shapeCasts_S1x2_S2 := eq_reshape h1
  rw [e1, eq_unary h0]

/-- The key of the noise. -/
theorem read_noiseKey {M : Valuation τ sig (Elt F)} (h : (own1 : List (HloOp τ sig (Elt F))).Forall (Holds M)) :
    M (Proc.devRef .tc main_while0b_v14) = shapeCast S2 (extractStridedSlice S1x2 ![1, 0] (M (Proc.devRef .tc main_while0b_v10)) slices_S3x2_S1x2_1_0) shapeCasts_S1x2_S2 := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102⟩ := h
  have e3 : M (Proc.devRef .tc main_while0b_v14) = shapeCast S2 (M (Proc.devRef .tc main_while0b_v13)) shapeCasts_S1x2_S2 := eq_reshape h3
  rw [e3, eq_unary h2]

/-- The key of the acceptance. -/
theorem read_acceptKey {M : Valuation τ sig (Elt F)} (h : (own1 : List (HloOp τ sig (Elt F))).Forall (Holds M)) :
    M (Proc.devRef .tc main_while0b_v16) = shapeCast S2 (extractStridedSlice S1x2 ![2, 0] (M (Proc.devRef .tc main_while0b_v10)) slices_S3x2_S1x2_2_0) shapeCasts_S1x2_S2 := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102⟩ := h
  have e5 : M (Proc.devRef .tc main_while0b_v16) = shapeCast S2 (M (Proc.devRef .tc main_while0b_v15)) shapeCasts_S1x2_S2 := eq_reshape h5
  rw [e5, eq_unary h4]

/-- The one-hot table of the state. -/
theorem read_hot {M : Valuation τ sig (Elt F)} (h : (own1 : List (HloOp τ sig (Elt F))).Forall (Holds M)) :
    M (Proc.devRef .tc main_while0b_v35) = hot (M (Proc.devRef .tc main_v7_4)) := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102⟩ := h
  have e10 : M (Proc.devRef .tc main_while0b_v20) = shapeCast S32768 (M (Proc.devRef .tc main_while0b_v19)) shapeCasts_S1x32768_S32768 := eq_reshape h10
  rw [eq_ternary h30, eq_unary h29, eq_nullary h28, eq_binary h27, eq_unary h26, eq_unary h25, eq_ternary h24, eq_binary h23, eq_unary h22, eq_nullary h21, eq_binary h20, eq_unary h19, eq_nullary h18, eq_ternary h17, eq_binary h16, eq_unary h15, eq_nullary h14, eq_binary h13, eq_unary h12, eq_nullary h11, e10, eq_unary h9, eq_nullary h8, eq_unary h7, eq_nullary h6]
  rfl

/-- The gradient. -/
theorem read_grad {M : Valuation τ sig (Elt F)} (h : (own1 : List (HloOp τ sig (Elt F))).Forall (Holds M)) :
    M (Proc.devRef .tc main_while0b_v46) = grad (M (Proc.devRef .tc main_v7_0)) := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102⟩ := h
  rw [eq_binary h45, eq_unary h44, eq_nullary h43, eq_binary h42, eq_unary h41, eq_unary h40, eq_unary h39, eq_nullary h38, eq_unary h31]
  rfl

/-- The logits at the state. -/
theorem read_logits {M : Valuation τ sig (Elt F)} (h : (own1 : List (HloOp τ sig (Elt F))).Forall (Holds M)) (hi : M (Proc.devRef .tc main_while0b_v9) = iotaInDim S32768 32 0) :
    M (Proc.devRef .tc main_while0b_v90) = logits (M (Proc.devRef .tc main_v7_0)) (M (Proc.devRef .tc main_v7_4)) := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102⟩ := h
  have e47 : M (Proc.devRef .tc main_while0b_v48) = shapeCast S32768 (M (Proc.devRef .tc main_while0b_v47)) shapeCasts_S1x32768_S32768 := eq_reshape h47
  have e66 : M (Proc.devRef .tc main_while0b_v62) = concatenate S32768x3 1 [⟨S32768x1, M (Proc.devRef .tc main_while0b_v59)⟩, ⟨S32768x1, M (Proc.devRef .tc main_while0b_v60)⟩, ⟨S32768x1, M (Proc.devRef .tc main_while0b_v61)⟩] concatenates_S32768x1_S32768x1_S32768x1_S32768x3_d1 := eq_nary h66
  have e77 : M (Proc.devRef .tc main_while0b_v71) = shapeCast S32768 (M (Proc.devRef .tc main_while0b_v70)) shapeCasts_S1x32768_S32768 := eq_reshape h77
  have e98 : M (Proc.devRef .tc main_while0b_v87) = concatenate S32768x3 1 [⟨S32768x1, M (Proc.devRef .tc main_while0b_v84)⟩, ⟨S32768x1, M (Proc.devRef .tc main_while0b_v85)⟩, ⟨S32768x1, M (Proc.devRef .tc main_while0b_v86)⟩] concatenates_S32768x1_S32768x1_S32768x1_S32768x3_d1 := eq_nary h98
  rw [eq_binary h102, eq_ternary h101, eq_unary h100, eq_nullary h99, e98, eq_unary h97, eq_unary h96, eq_unary h95, eq_unary h94, eq_unary h93, eq_nullary h92, eq_ternary h91, eq_binary h90, eq_unary h89, eq_nullary h88, eq_binary h87, eq_unary h86, eq_nullary h85, eq_ternary h84, eq_binary h83, eq_unary h82, eq_nullary h81, eq_binary h80, eq_unary h79, eq_nullary h78, e77, eq_unary h76, eq_binary h75, eq_unary h74, eq_nullary h73, eq_unary h72, eq_nullary h71, eq_binary h70, eq_unary h69, eq_unary h68, eq_binary h67, e66, eq_unary h65, eq_unary h64, eq_unary h63, eq_nullary h62, eq_ternary h61, eq_binary h60, eq_unary h59, eq_nullary h58, eq_binary h57, eq_unary h56, eq_nullary h55, eq_ternary h54, eq_binary h53, eq_unary h52, eq_nullary h51, eq_binary h50, eq_unary h49, eq_nullary h48, e47, eq_unary h46, eq_binary h45, eq_unary h44, eq_nullary h43, eq_binary h42, eq_unary h41, eq_unary h40, eq_unary h39, eq_nullary h38, eq_unary h31, hi]
  rfl

/-- The sum of the entries taken for the proposal. -/
theorem read_forward {M : Valuation τ sig (Elt F)} (h : (own4 : List (HloOp τ sig (Elt F))).Forall (Holds M)) :
    M (Proc.devRef .tc main_while0b_v98) = Host.reduceAdd (shapeCast S8x32768 (M (Proc.devRef .tc main_while0b_v96)) shapeCasts_S8x32768x1_S8x32768) (constant S_ .f32 0x00000000#32) reducesTo_S8x32768_S8_d1 h_S_ := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99⟩ := h
  have e0 : M (Proc.devRef .tc main_while0b_v97) = shapeCast S8x32768 (M (Proc.devRef .tc main_while0b_v96)) shapeCasts_S8x32768x1_S8x32768 := eq_reshape h0
  rw [eq_binary h2, eq_nullary h1, e0]

/-- The one-hot table of the proposal. -/
theorem read_hot_proposal {M : Valuation τ sig (Elt F)} (h : (own4 : List (HloOp τ sig (Elt F))).Forall (Holds M)) :
    M (Proc.devRef .tc main_while0b_v117) = hot (M (Proc.devRef .tc main_while0b_v93)) := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99⟩ := h
  have e7 : M (Proc.devRef .tc main_while0b_v102) = shapeCast S32768 (M (Proc.devRef .tc main_while0b_v101)) shapeCasts_S1x32768_S32768 := eq_reshape h7
  rw [eq_ternary h27, eq_unary h26, eq_nullary h25, eq_binary h24, eq_unary h23, eq_unary h22, eq_ternary h21, eq_binary h20, eq_unary h19, eq_nullary h18, eq_binary h17, eq_unary h16, eq_nullary h15, eq_ternary h14, eq_binary h13, eq_unary h12, eq_nullary h11, eq_binary h10, eq_unary h9, eq_nullary h8, e7, eq_unary h6, eq_nullary h5, eq_unary h4, eq_nullary h3]
  rfl

/-- The logits at the proposal. -/
theorem read_logits_proposal {M : Valuation τ sig (Elt F)} (h : (own4 : List (HloOp τ sig (Elt F))).Forall (Holds M)) (hi : M (Proc.devRef .tc main_while0b_v9) = iotaInDim S32768 32 0) (hg : M (Proc.devRef .tc main_while0b_v46) = grad (M (Proc.devRef .tc main_v7_0))) :
    M (Proc.devRef .tc main_while0b_v172) = logits (M (Proc.devRef .tc main_v7_0)) (M (Proc.devRef .tc main_while0b_v93)) := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99⟩ := h
  have e44 : M (Proc.devRef .tc main_while0b_v130) = shapeCast S32768 (M (Proc.devRef .tc main_while0b_v129)) shapeCasts_S1x32768_S32768 := eq_reshape h44
  have e63 : M (Proc.devRef .tc main_while0b_v144) = concatenate S32768x3 1 [⟨S32768x1, M (Proc.devRef .tc main_while0b_v141)⟩, ⟨S32768x1, M (Proc.devRef .tc main_while0b_v142)⟩, ⟨S32768x1, M (Proc.devRef .tc main_while0b_v143)⟩] concatenates_S32768x1_S32768x1_S32768x1_S32768x3_d1 := eq_nary h63
  have e74 : M (Proc.devRef .tc main_while0b_v153) = shapeCast S32768 (M (Proc.devRef .tc main_while0b_v152)) shapeCasts_S1x32768_S32768 := eq_reshape h74
  have e95 : M (Proc.devRef .tc main_while0b_v169) = concatenate S32768x3 1 [⟨S32768x1, M (Proc.devRef .tc main_while0b_v166)⟩, ⟨S32768x1, M (Proc.devRef .tc main_while0b_v167)⟩, ⟨S32768x1, M (Proc.devRef .tc main_while0b_v168)⟩] concatenates_S32768x1_S32768x1_S32768x1_S32768x3_d1 := eq_nary h95
  rw [eq_binary h99, eq_ternary h98, eq_unary h97, eq_nullary h96, e95, eq_unary h94, eq_unary h93, eq_unary h92, eq_unary h91, eq_unary h90, eq_nullary h89, eq_ternary h88, eq_binary h87, eq_unary h86, eq_nullary h85, eq_binary h84, eq_unary h83, eq_nullary h82, eq_ternary h81, eq_binary h80, eq_unary h79, eq_nullary h78, eq_binary h77, eq_unary h76, eq_nullary h75, e74, eq_unary h73, eq_binary h72, eq_unary h71, eq_nullary h70, eq_unary h69, eq_nullary h68, eq_binary h67, eq_unary h66, eq_unary h65, eq_binary h64, e63, eq_unary h62, eq_unary h61, eq_unary h60, eq_nullary h59, eq_ternary h58, eq_binary h57, eq_unary h56, eq_nullary h55, eq_binary h54, eq_unary h53, eq_nullary h52, eq_ternary h51, eq_binary h50, eq_unary h49, eq_nullary h48, eq_binary h47, eq_unary h46, eq_nullary h45, e44, eq_unary h43, eq_binary h42, eq_unary h41, eq_nullary h40, eq_binary h39, eq_unary h38, eq_unary h37, eq_unary h36, eq_nullary h35, eq_unary h28, hi, hg]
  rfl

/-- The acceptance ratio. -/
theorem read_ratio {M : Valuation τ sig (Elt F)} (h : (own6 : List (HloOp τ sig (Elt F))).Forall (Holds M)) :
    M (Proc.devRef .tc main_while0b_v189) = Host.exp (subf (addf
      (subf (Host.reduceAdd (mulf (M (Proc.devRef .tc main_while0b_v117)) (spread (M (Proc.devRef .tc main_v7_0)))) (constant S_ .f32 0x00000000#32) reducesTo_S8x32768x4_S8_d1_2 h_S_)
        (Host.reduceAdd (mulf (M (Proc.devRef .tc main_while0b_v35)) (spread (M (Proc.devRef .tc main_v7_0)))) (constant S_ .f32 0x00000000#32) reducesTo_S8x32768x4_S8_d1_2 h_S_))
      (Host.reduceAdd (shapeCast S8x32768 (M (Proc.devRef .tc main_while0b_v175)) shapeCasts_S8x32768x1_S8x32768) (constant S_ .f32 0x00000000#32) reducesTo_S8x32768_S8_d1 h_S_))
      (M (Proc.devRef .tc main_while0b_v98))) := by
  obtain ⟨h0, h1, h2, h3, h4, h5, h6, h7, h8, h9, h10, h11, h12, h13, h14, h15, h16, h17, h18⟩ := h
  have e0 : M (Proc.devRef .tc main_while0b_v176) = shapeCast S8x32768 (M (Proc.devRef .tc main_while0b_v175)) shapeCasts_S8x32768x1_S8x32768 := eq_reshape h0
  rw [eq_unary h16, eq_binary h15, eq_binary h14, eq_binary h13, eq_binary h12, eq_nullary h11, eq_binary h10, eq_unary h9, eq_unary h8, eq_binary h7, eq_nullary h6, eq_binary h5, eq_unary h4, eq_unary h3, eq_binary h2, eq_nullary h1, e0]
  rfl

/-- The lower bound of the uniform draw. -/
theorem read_lo {M : Valuation τ sig (Elt F)} (h : (own6 : List (HloOp τ sig (Elt F))).Forall (Holds M)) :
    M (Proc.devRef .tc main_while0b_cst_58) = constant S_ .f32 0x00000000#32 := by
  obtain ⟨h0, h1, h2, h3, h4, h5, h6, h7, h8, h9, h10, h11, h12, h13, h14, h15, h16, h17, h18⟩ := h
  rw [eq_nullary h17]

/-- The upper bound of the uniform draw. -/
theorem read_hi {M : Valuation τ sig (Elt F)} (h : (own6 : List (HloOp τ sig (Elt F))).Forall (Holds M)) :
    M (Proc.devRef .tc main_while0b_cst_59) = constant S_ .f32 0x3F800000#32 := by
  obtain ⟨h0, h1, h2, h3, h4, h5, h6, h7, h8, h9, h10, h11, h12, h13, h14, h15, h16, h17, h18⟩ := h
  rw [eq_nullary h18]

/-- The next state. -/
theorem read_mixed {M : Valuation τ sig (Elt F)} (h : (own7 : List (HloOp τ sig (Elt F))).Forall (Holds M)) :
    M (Proc.devRef .tc main_while0b_v204) = mixed (accepted (M (Proc.devRef .tc main_while0b_v189)) (M (Proc.devRef .tc main_while0b_v190))) (M (Proc.devRef .tc main_while0b_v93)) (M (Proc.devRef .tc main_v7_4)) := by
  obtain ⟨h0, h1, h2, h3, h4, h5, h6, h7, h8, h9, h10, h11, h12, h13, h14, h15, h16⟩ := h
  rw [eq_unary h14, eq_binary h13, eq_binary h12, eq_unary h11, eq_binary h10, eq_unary h9, eq_nullary h8, eq_unary h7, eq_unary h6, eq_binary h5, eq_unary h4, eq_unary h3, eq_unary h2, eq_unary h1, eq_binary h0]
  rfl

/-- The class of the largest entry. -/
theorem read_argmax {M : Valuation τ sig (Elt F)} {a : TRef sig ⟨S8x32768x4, .f32⟩} {φ : fn_argmax.Bufs}
    (h : (argmaxOps a φ : List (HloOp τ sig (Elt F))).Forall (Holds M)) : rd M φ.v1_1 = argmax (rd M a) := by
  obtain ⟨h0, h1, h2, h3, h4⟩ := h
  rw [rd_quaternary h4, rd_nullary h2, rd_nullary h1, rd_nullary h0]
  rfl

/-- The logarithm of the softmax. -/
theorem read_softmax {M : Valuation τ sig (Elt F)} {a : TRef sig ⟨S8x32768x4, .f32⟩} {φ : fn_log_softmax.Bufs}
    (h : (softmaxOps a φ : List (HloOp τ sig (Elt F))).Forall (Holds M)) : rd M φ.v11 = logSoftmax (rd M a) := by
  obtain ⟨h0, h1, h2, h3, h4, h5, h6, h7, h8, h9, h10, h11, h12, h13, h14⟩ := h
  rw [rd_binary h14, rd_unary h13, rd_unary h12, rd_unary h11, rd_binary h10, rd_nullary h9, rd_unary h8, rd_binary h7, rd_unary h6, rd_unary h5,
    rd_binary h4, rd_unary h3, rd_nullary h2, rd_binary h1, rd_nullary h0]
  rfl

/-- The entries that the classes name. -/
theorem read_take {M : Valuation τ sig (Elt F)} {a : TRef sig ⟨S8x32768x4, .f32⟩} {b : TRef sig ⟨S8x32768x1, .i32⟩} {φ : fn_take_along_axis.Bufs}
    (h : (takeOps a b φ : List (HloOp τ sig (Elt F))).Forall (Holds M)) : rd M φ.v15 = take (rd M a) (rd M b) := by
  obtain ⟨h0, h1, h2, h3, h4, h5, h6, h7, h8, h9, h10, h11, h12, h13, h14, h15, h16, h17, h18, h19, h20, h21⟩ := h
  rw [rd_ternary h21, rd_unary h20, rd_nullary h19, rd_binary h18, rd_binary h17, rd_nullary h16, rd_binary h15, rd_binary h14, rd_unary h13, rd_unary h12,
    rd_binary h11, rd_unary h10, rd_nullary h9, rd_nullary h8, rd_reshape h7, rd_ternary h6, rd_binary h5, rd_unary h4, rd_nullary h3, rd_binary h2,
    rd_unary h1, rd_nullary h0]
  rfl

/-- What the loop body leaves: the next key, and the next state, one step on. -/
theorem read_body (V : Valuation τ sig (Elt F)) :
    after bodyOps V (Proc.devRef .tc main_while0b_v12) = Rng.next (V (Proc.devRef .tc main_v7_3))
      ∧ after bodyOps V (Proc.devRef .tc main_while0b_v204)
        = step (V (Proc.devRef .tc main_v7_0)) (Rng.gumbel (Rng.noiseKey (V (Proc.devRef .tc main_v7_3))))
          (Rng.uniform8 (Rng.acceptKey (V (Proc.devRef .tc main_v7_3))) (constant S_ .f32 0x00000000#32) (constant S_ .f32 0x3F800000#32))
          (V (Proc.devRef .tc main_v7_4)) := by
  have kW := after_kept body_line V (Proc.devRef .tc main_v7_0) (by decide)
  have kK := after_kept body_line V (Proc.devRef .tc main_v7_3) (by decide)
  have kX := after_kept body_line V (Proc.devRef .tc main_v7_4) (by decide)
  have h := after_holds body_line V
  rw [← kW, ← kK, ← kX]
  generalize after bodyOps V = M at h ⊢
  simp only [bodyOps, List.forall_append] at h
  obtain ⟨⟨_, _, h9⟩, hs, h1, hg, h2, ha, hl, h3, ht, h4, hl', h5, ht', h6, hu, h7⟩ := h
  have h9' : M (Proc.devRef .tc main_while0b_v9) = iotaInDim S32768 32 0 := eq_nullary h9
  have es : M (Proc.devRef .tc main_while0b_v10) = Rng.split (M (Proc.devRef .tc main_v7_3)) := Rng.split_line hs
  have eg : M (Proc.devRef .tc main_while0b_v91) = Rng.gumbel (M (Proc.devRef .tc main_while0b_v14)) := Rng.gumbel_line hg
  have eu : M (Proc.devRef .tc main_while0b_v190)
      = Rng.uniform8 (M (Proc.devRef .tc main_while0b_v16)) (M (Proc.devRef .tc main_while0b_cst_58)) (M (Proc.devRef .tc main_while0b_cst_59)) := Rng.uniform8_line hu
  have ea : M (Proc.devRef .tc main_while0b_v93) = argmax (M (Proc.devRef .tc main_while0b_v92)) := read_argmax ha
  have el : M (Proc.devRef .tc main_while0b_v94) = logSoftmax (M (Proc.devRef .tc main_while0b_v90)) := read_softmax hl
  have et : M (Proc.devRef .tc main_while0b_v96) = take (M (Proc.devRef .tc main_while0b_v94)) (M (Proc.devRef .tc main_while0b_v95)) := read_take ht
  have el' : M (Proc.devRef .tc main_while0b_v173) = logSoftmax (M (Proc.devRef .tc main_while0b_v172)) := read_softmax hl'
  have et' : M (Proc.devRef .tc main_while0b_v175) = take (M (Proc.devRef .tc main_while0b_v173)) (M (Proc.devRef .tc main_while0b_v174)) := read_take ht'
  have e2 : M (Proc.devRef .tc main_while0b_v92) = addf (M (Proc.devRef .tc main_while0b_v91)) (M (Proc.devRef .tc main_while0b_v90)) := eq_binary h2
  have e3 : M (Proc.devRef .tc main_while0b_v95) = broadcastInDim S8x32768x1 ![0, 1] bcast_S8x32768_S8x32768x1_0_1 (M (Proc.devRef .tc main_while0b_v93)) := eq_unary h3
  have e5 : M (Proc.devRef .tc main_while0b_v174) = broadcastInDim S8x32768x1 ![0, 1] bcast_S8x32768_S8x32768x1_0_1 (M (Proc.devRef .tc main_v7_4)) := eq_unary h5
  refine ⟨?_, ?_⟩
  · rw [read_next h1, es]; rfl
  · rw [read_mixed h7, eu, read_lo h6, read_hi h6, read_ratio h6, et', el', read_logits_proposal h4 h9' (read_grad h1), e5, read_forward h4,
      read_hot_proposal h4, read_hot h1, et, el, e3, ea, e2, eg, read_logits h1 h9', read_noiseKey h1, read_acceptKey h1, es]
    rfl

end Cert.RefStep

end
-- ==== Proof.RefIndex.lean ====
/- The indexed reads and writes of the reference, read at an entry: the one-hot table, the gradient at the held classes,
   the step-size term, and the entry that a class names. The classes are the words 0 to 3, so that no index is clamped,
   wrapped or dropped. -/
module

public import proofs.«01_k».proof.Proof.RefDefs
public import proofs.«01_k».proof.Proof.Scalars
public import Idealize.ShloMosaic.Lib.Pointwise
public import Idealize.ShloMosaic.Lib.Routing.OpsSet
public import Idealize.ShloMosaic.Lib.Routing.OpsPair
public import Idealize.ShloMosaic.Lib.StableHlo.Predicate

@[expose] public section

set_option maxRecDepth 16384

noncomputable section

namespace Cert.RefStep

open Cert.ReferenceIdeal Cert.ReferenceIdeal.Gen Cert.Spec Cert.Scalars Idealize.ShloMosaic Idealize.ShloMosaic.Pointwise

variable {F : FTy → Type} [FloatOps F]

/-! ### The index words -/

/-- An index that is not negative is not wrapped. -/
theorem wrapped_at (n : BitVec 32) (i : IVec S32768 32) (d : Fin 32768) (h : (i (ix1 d)).toNat < 2 ^ 31) : wrapped n i (ix1 d) = i (ix1 d) := by
  pointwise [wrapped]
  exact Routing.wrap_of_lt _ _ h

theorem vars_at (d : Fin 32768) (e : Fin 1) : vars (ix2 d e) = BitVec.ofNat 32 d.val := by
  have hd := d.isLt
  pointwise [vars, column]
  rw [wrapped_at]
  · pointwise
  · pointwise
    rw [BitVec.toNat_ofNat]; omega

theorem row0_at (x : IVec S8x32768 32) (d : Fin 32768) : row0 x (ix1 d) = x (ix2 0 d) := by
  pointwise [row0]

variable (x : IVec S8x32768 32) (hx : ∀ d, (x (ix2 0 d)).toNat < 4)
include hx

theorem held0_at (d : Fin 32768) (e : Fin 1) : held0 x (ix2 d e) = x (ix2 0 d) := by
  have h := hx d
  pointwise [held0, column]
  rw [wrapped_at, row0_at]
  rw [row0_at]; omega

theorem pairs_var (d : Fin 32768) : (pairs x (ix2 d 0)).toInt = (d.val : Int) := by
  have hd := d.isLt
  pointwise [pairs, vars_at]
  rw [StableHlo.Predicate.toInt_ofNat_small _ (by omega)]

theorem pairs_class (d : Fin 32768) : (pairs x (ix2 d 1)).toInt = ((x (ix2 0 d)).toNat : Int) := by
  have h := hx d
  pointwise [pairs]
  rw [held0_at x hx, StableHlo.Predicate.toInt_eq_toNat_of_lt (by omega)]

variable (z : IVec S32768x1 32) (hz : ∀ d e, z (ix2 d e) = 0#32)
include hz

theorem triples_row (d : Fin 32768) : (triples z x (ix2 d 0)).toInt = 0 := by
  pointwise [triples, hz]
  rfl
theorem triples_var (d : Fin 32768) : (triples z x (ix2 d 1)).toInt = (d.val : Int) := by
  have hd := d.isLt
  pointwise [triples, vars_at]
  rw [StableHlo.Predicate.toInt_ofNat_small _ (by omega)]
theorem triples_class (d : Fin 32768) : (triples z x (ix2 d 2)).toInt = ((x (ix2 0 d)).toNat : Int) := by
  have h := hx d
  pointwise [triples]
  rw [held0_at x hx, StableHlo.Predicate.toInt_eq_toNat_of_lt (by omega)]

end Cert.RefStep

end
-- ==== Proof.RefScatter.lean ====
/- Where the writes of the reference land, and which entries its reads take. -/
module

public import proofs.«01_k».proof.Proof.RefIndex

@[expose] public section

set_option maxRecDepth 16384

noncomputable section

namespace Cert.RefStep

open Cert.ReferenceIdeal Cert.ReferenceIdeal.Gen Cert.Spec Cert.Scalars Idealize.ShloMosaic Idealize.ShloMosaic.Pointwise

variable {F : FTy → Type} [FloatOps F]

/-! ### Writing the one-hot table -/

abbrev hotDims : ScatterDims S8x32768x4 S32768x2 S8x32768 := scatter_S8x32768x4_S32768x2_S8x32768_0_12_12_1

theorem hot_start0 (i : IVec S32768x2 32) (b : Fin 8) (d : Fin 32768) : hotDims.start (ix2 b d) i 0 = 0 := rfl
theorem hot_start1 (i : IVec S32768x2 32) (b : Fin 8) (d : Fin 32768) : hotDims.start (ix2 b d) i 1 = (i (ix2 d 0)).toInt :=
  congrArg (fun k => (i k).toInt) (funext fun a => by match a with | ⟨0, _⟩ => rfl | ⟨1, _⟩ => rfl)
theorem hot_start2 (i : IVec S32768x2 32) (b : Fin 8) (d : Fin 32768) : hotDims.start (ix2 b d) i 2 = (i (ix2 d 1)).toInt :=
  congrArg (fun k => (i k).toInt) (funext fun a => by match a with | ⟨0, _⟩ => rfl | ⟨1, _⟩ => rfl)
theorem hot_window0 (b : Fin 8) (d : Fin 32768) : hotDims.window (ix2 b d) 0 = b.val := rfl
theorem hot_window1 (b : Fin 8) (d : Fin 32768) : hotDims.window (ix2 b d) 1 = 0 := rfl
theorem hot_window2 (b : Fin 8) (d : Fin 32768) : hotDims.window (ix2 b d) 2 = 0 := rfl

/-- Update `(b, d)` lands at row `b`, variable `d`, at the class held there. -/
theorem hot_lands (x : IVec S8x32768 32) (hx : ∀ d, (x (ix2 0 d)).toNat < 4) (b b' : Fin 8) (d d' : Fin 32768) (c : Fin 4) :
    hotDims.resultIdx? (ix2 b d) (pairs x) = some (ix3 b' d' c) ↔ b = b' ∧ d = d' ∧ (x (ix2 0 d)).toNat = c.val := by
  rw [Routing.resultIdx?_eq_some]
  have e0 := hot_start0 (pairs x) b d
  have e1 := (hot_start1 (pairs x) b d).trans (pairs_var x hx d)
  have e2 := (hot_start2 (pairs x) b d).trans (pairs_class x hx d)
  have w0 := hot_window0 b d
  have w1 := hot_window1 b d
  have w2 := hot_window2 b d
  constructor
  · intro h
    have h0 := h 0
    have h1 := h 1
    have h2 := h 2
    rw [e0, w0] at h0
    rw [e1, w1] at h1
    rw [e2, w2] at h2
    change (0 : Int) + (b.val : Int) = (b'.val : Int) at h0
    change (d.val : Int) + ((0 : Nat) : Int) = (d'.val : Int) at h1
    change ((x (ix2 0 d)).toNat : Int) + ((0 : Nat) : Int) = (c.val : Int) at h2
    exact ⟨Fin.ext (by omega), Fin.ext (by omega), by omega⟩
  · rintro ⟨rfl, rfl, h⟩ a
    match a with
    | ⟨0, _⟩ => exact (congrArg₂ (fun (p : Int) (q : Nat) => p + q) e0 w0).trans (by simp)
    | ⟨1, _⟩ => exact (congrArg₂ (fun (p : Int) (q : Nat) => p + q) e1 w1).trans (by simp)
    | ⟨2, _⟩ => exact (congrArg₂ (fun (p : Int) (q : Nat) => p + q) e2 w2).trans (by simp [h])

/-- The word of a class, by its number. -/
theorem toNat_eq_iff (k : BitVec 32) (c : Fin 4) : k.toNat = c.val ↔ k = word c := by
  have hc := c.isLt
  constructor
  · intro h; apply BitVec.eq_of_toNat_eq; rw [h, word, BitVec.toNat_ofNat]; omega
  · rintro rfl; rw [word, BitVec.toNat_ofNat]; omega

/-- The float word of one. -/
theorem ofBits_one : Ideal.ofBits .f32 0x3F800000#32 = 1 := by
  simp [Ideal.ofBits, Ideal.ieee]
  rw [← EReal.coe_mul]
  norm_num

/-- The one-hot table: 1 at the class held in row 0, 0 elsewhere. -/
theorem hot_at (x : IVec S8x32768 32) (hx : ∀ d, (x (ix2 0 d)).toNat < 4) (b : Fin 8) (d : Fin 32768) (c : Fin 4) :
    hot (F := Ideal) x (ix3 b d c) = if x (ix2 0 d) = word c then 1 else 0 := by
  unfold hot
  split
  · next h =>
    refine Routing.scatter_set_hit hotDims _ _ _ _ _ (fun k _ => ?_) (ix2 b d) ((hot_lands x hx b b d d c).2 ⟨rfl, rfl, (toNat_eq_iff _ _).2 h⟩)
    rw [eq_ix2 k]
    pointwise
  · next h =>
    refine (Routing.scatter_set_miss hotDims _ _ _ _ fun k hk => h ?_).trans ?_
    · rw [eq_ix2 k] at hk
      have q := (hot_lands x hx (k 0) b (k 1) d c).1 hk
      rw [← q.2.1]
      exact (toNat_eq_iff _ _).1 q.2.2
    · pointwise

/-! ### The step-size term -/

abbrev sizeDims : ScatterDims S8x32768x4 S32768x3 S32768 := scatter_S8x32768x4_S32768x3_S32768_n_012_012_1

theorem size_start (i : IVec S32768x3 32) (d : Fin 32768) (a : Fin 3) : sizeDims.start (ix1 d) i a = (i (ix2 d a)).toInt := by
  match a with
  | ⟨0, _⟩ => exact congrArg (fun k => (i k).toInt) (funext fun a => by match a with | ⟨0, _⟩ => rfl | ⟨1, _⟩ => rfl)
  | ⟨1, _⟩ => exact congrArg (fun k => (i k).toInt) (funext fun a => by match a with | ⟨0, _⟩ => rfl | ⟨1, _⟩ => rfl)
  | ⟨2, _⟩ => exact congrArg (fun k => (i k).toInt) (funext fun a => by match a with | ⟨0, _⟩ => rfl | ⟨1, _⟩ => rfl)
theorem size_window (d : Fin 32768) (a : Fin 3) : sizeDims.window (ix1 d) a = 0 := by
  match a with
  | ⟨0, _⟩ => rfl
  | ⟨1, _⟩ => rfl
  | ⟨2, _⟩ => rfl

/-- Update `d` lands in row 0, at variable `d` and the class held there. -/
theorem size_lands (z : IVec S32768x1 32) (hz : ∀ d e, z (ix2 d e) = 0#32) (x : IVec S8x32768 32) (hx : ∀ d, (x (ix2 0 d)).toNat < 4)
    (b : Fin 8) (d d' : Fin 32768) (c : Fin 4) :
    sizeDims.resultIdx? (ix1 d) (triples z x) = some (ix3 b d' c) ↔ b = 0 ∧ d = d' ∧ (x (ix2 0 d)).toNat = c.val := by
  rw [Routing.resultIdx?_eq_some]
  have e0 := (size_start (triples z x) d 0).trans (triples_row x hx z hz d)
  have e1 := (size_start (triples z x) d 1).trans (triples_var x hx z hz d)
  have e2 := (size_start (triples z x) d 2).trans (triples_class x hx z hz d)
  have w0 := size_window d 0
  have w1 := size_window d 1
  have w2 := size_window d 2
  constructor
  · intro h
    have h0 := h 0
    have h1 := h 1
    have h2 := h 2
    rw [e0, w0] at h0
    rw [e1, w1] at h1
    rw [e2, w2] at h2
    change (0 : Int) + ((0 : Nat) : Int) = (b.val : Int) at h0
    change (d.val : Int) + ((0 : Nat) : Int) = (d'.val : Int) at h1
    change ((x (ix2 0 d)).toNat : Int) + ((0 : Nat) : Int) = (c.val : Int) at h2
    exact ⟨Fin.ext (by change b.val = 0; omega), Fin.ext (by omega), by omega⟩
  · rintro ⟨rfl, rfl, h⟩ a
    match a with
    | ⟨0, _⟩ => exact (congrArg₂ (fun (p : Int) (q : Nat) => p + q) e0 w0).trans (by simp)
    | ⟨1, _⟩ => exact (congrArg₂ (fun (p : Int) (q : Nat) => p + q) e1 w1).trans (by simp)
    | ⟨2, _⟩ => exact (congrArg₂ (fun (p : Int) (q : Nat) => p + q) e2 w2).trans (by simp [h])

/-- The float word nearest 0.2. -/
theorem ofBits_size : Ideal.ofBits .f32 0x3E4CCCCD#32 = ((13421773 / 67108864 : ℝ) : EReal) := by
  simp [Ideal.ofBits, Ideal.ieee]
  rw [← EReal.coe_mul]
  norm_num

/-- One over the step size. -/
theorem inv_size : Ideal.div 1 (Ideal.ofBits .f32 0x3E4CCCCD#32) = invStep := by
  rw [ofBits_size, Ideal.div_coe (by norm_num), invStep, one_mul]
  norm_num

/-- The step-size term: 0 in row 0 at the class held there, one over the step size elsewhere. -/
theorem sizes_at (x : IVec S8x32768 32) (hx : ∀ d, (x (ix2 0 d)).toNat < 4) (b : Fin 8) (d : Fin 32768) (c : Fin 4) :
    sizes (F := Ideal) x (ix3 b d c) = if b = 0 ∧ x (ix2 0 d) = word c then 0 else invStep := by
  have hz : ∀ (d : Fin 32768) (e : Fin 1), column (broadcastInDim S32768 ![] bcast_S_S32768 (constantI S_ 32 0#32)) (ix2 d e) = 0#32 := fun d e => by
    pointwise [column]
  unfold sizes
  split
  · next h =>
    refine Routing.scatter_set_hit sizeDims _ _ _ _ _ (fun k _ => ?_) (ix1 d) ((size_lands _ hz x hx b d d c).2 ⟨h.1, rfl, (toNat_eq_iff _ _).2 h.2⟩)
    rw [eq_ix1 k]
    pointwise
  · next h =>
    refine (Routing.scatter_set_miss sizeDims _ _ _ _ fun k hk => h ?_).trans ?_
    · rw [eq_ix1 k] at hk
      have q := (size_lands _ hz x hx b (k 0) d c).1 hk
      rw [← q.2.1]
      exact ⟨q.1, (toNat_eq_iff _ _).1 q.2.2⟩
    · pointwise
      exact inv_size

/-! ### The entries read -/

/-- `pick` at a class is the entry at its number. -/
theorem pick_lt {α : Type} (k : BitVec 32) (h : k.toNat < 4) (f : Fin 4 → α) : pick k f = f ⟨k.toNat, h⟩ := by
  obtain ⟨c, rfl⟩ := exists_word h
  rw [pick_word]
  exact congrArg f (Fin.ext ((toNat_eq_iff _ _).2 rfl).symm)

abbrev heldDims : GatherDims S8x32768x4 S32768x3 S1x32768 := gather_S8x32768x4_S32768x3_S1x32768_0_12_n_n_012_1_111

theorem held_start0 (i : IVec S32768x3 32) (d : Fin 32768) : heldDims.start (ix2 0 d) i 0 = min (i (ix2 d 0)).toInt.toNat (8 - 1) :=
  congrArg (fun k => min (i k).toInt.toNat (8 - 1)) (funext fun a => by match a with | ⟨0, _⟩ => rfl | ⟨1, _⟩ => rfl)
theorem held_start1 (i : IVec S32768x3 32) (d : Fin 32768) : heldDims.start (ix2 0 d) i 1 = min (i (ix2 d 1)).toInt.toNat (32768 - 1) :=
  congrArg (fun k => min (i k).toInt.toNat (32768 - 1)) (funext fun a => by match a with | ⟨0, _⟩ => rfl | ⟨1, _⟩ => rfl)
theorem held_start2 (i : IVec S32768x3 32) (d : Fin 32768) : heldDims.start (ix2 0 d) i 2 = min (i (ix2 d 2)).toInt.toNat (4 - 1) :=
  congrArg (fun k => min (i k).toInt.toNat (4 - 1)) (funext fun a => by match a with | ⟨0, _⟩ => rfl | ⟨1, _⟩ => rfl)

/-- The gather reads row 0 at the variable and its class. -/
theorem held_reads (i : IVec S32768x3 32) (d : Fin 32768) (c : Fin 4) (h0 : (i (ix2 d 0)).toInt = 0) (h1 : (i (ix2 d 1)).toInt = (d.val : Int))
    (h2 : (i (ix2 d 2)).toInt = (c.val : Int)) : heldDims.operandIdx (ix2 0 d) i = ix3 0 d c := by
  have hd := d.isLt
  have hc := c.isLt
  have e0 := held_start0 i d
  have e1 := held_start1 i d
  have e2 := held_start2 i d
  rw [h0] at e0
  rw [h1] at e1
  rw [h2] at e2
  funext a
  apply Fin.ext
  match a with
  | ⟨0, _⟩ => exact (congrArg (fun n : Nat => n + 0 + 0) e0).trans rfl
  | ⟨1, _⟩ =>
    refine (congrArg (fun n : Nat => n + 0 + 0) e1).trans ?_
    change min ((d.val : Int)).toNat (32768 - 1) + 0 + 0 = d.val
    omega
  | ⟨2, _⟩ =>
    refine (congrArg (fun n : Nat => n + 0 + 0) e2).trans ?_
    change min ((c.val : Int)).toNat (4 - 1) + 0 + 0 = c.val
    omega

/-- The gradient at the class held in row 0. -/
theorem held_at (g : FVec F S8x32768x4 .f32) (x : IVec S8x32768 32) (hx : ∀ d, (x (ix2 0 d)).toNat < 4) (b : Fin 8) (d : Fin 32768) (c : Fin 4) :
    held g x (ix3 b d c) = pick (x (ix2 0 d)) fun e => g (ix3 0 d e) := by
  have hz : ∀ (d : Fin 32768) (e : Fin 1), broadcastInDim S32768x1 ![] bcast_S_S32768x1 (constantI S_ 32 0#32) (ix2 d e) = 0#32 := fun d e => by
    pointwise
  rw [pick_lt _ (hx d)]
  unfold held
  pointwise
  exact congrArg g (held_reads _ d ⟨(x (ix2 0 d)).toNat, hx d⟩ (triples_row x hx _ hz d) (triples_var x hx _ hz d) (triples_class x hx _ hz d))

/-- The classes as indices. -/
theorem classIdx_at (y : IVec S8x32768x1 32) (b : Fin 8) (d : Fin 32768) (h : (y (ix3 b d 0)).toNat < 4) : classIdx y (ix4 b d 0 0) = y (ix3 b d 0) := by
  pointwise [classIdx]
  exact Routing.wrap_of_lt _ _ (by omega)

/-- A class lies within the last axis. -/
theorem inside_at (i : IVec S8x32768x1x1 32) (b : Fin 8) (d : Fin 32768) (h : (i (ix4 b d 0 0)).toNat < 4) : inside i (ix3 b d 0) = 1#1 := by
  pointwise [inside]
  rw [Finset.univ_unique, Finset.fold_singleton]
  change IntOp.andi (IntOp.andi (IntOp.cmpi .sge (i (ix4 b d 0 0)) 0#32) (IntOp.cmpi .sle (i (ix4 b d 0 0)) 3#32)) 1#1 = 1#1
  obtain ⟨c, hc⟩ := exists_word h
  rw [hc]
  clear hc h i
  revert c
  decide

/-- The entry of the last axis that a class names. -/
theorem take_at (p : FVec F S8x32768x4 .f32) (y : IVec S8x32768x1 32) (b : Fin 8) (d : Fin 32768) (h : (y (ix3 b d 0)).toNat < 4) :
    take p y (ix3 b d 0) = pick (y (ix3 b d 0)) fun e => p (ix3 b d e) := by
  have hi := classIdx_at y b d h
  rw [pick_lt _ h]
  unfold take
  show Scalar.select (inside (classIdx y) (ix3 b d 0)) _ _ = _
  rw [inside_at _ b d (by rw [hi]; exact h)]
  show p _ = p _
  refine congrArg p (funext fun a => Fin.ext ?_)
  match a with
  | ⟨0, _⟩ => exact Nat.zero_add _
  | ⟨1, _⟩ => exact Nat.zero_add _
  | ⟨2, _⟩ =>
    have e : gather_S8x32768x4_S8x32768x1x1_S8x32768x1_n_2_01_01_2_3_111.start (ix3 b d 0) (classIdx y) 2 = min (classIdx y (ix4 b d 0 0)).toInt.toNat (4 - 1) :=
      congrArg (fun k => min (classIdx y k).toInt.toNat _) (funext fun a => by match a with | ⟨0, _⟩ => rfl | ⟨1, _⟩ => rfl | ⟨2, _⟩ => rfl | ⟨3, _⟩ => rfl)
    rw [hi, StableHlo.Predicate.toInt_eq_toNat_of_lt (by omega)] at e
    refine (congrArg (fun n : Nat => n + 0 + 0) e).trans ?_
    change min (((y (ix3 b d 0)).toNat : Int)).toNat (4 - 1) + 0 + 0 = (y (ix3 b d 0)).toNat
    omega

end Cert.RefStep

end
-- ==== Proof.RefArgmax.lean ====
/- The choice of the largest entry in the reference: a fold over the four classes in their order, a later one taken only if
   it is strictly larger. -/
module

public import proofs.«01_k».proof.Proof.RefDefs
public import proofs.«01_k».proof.Proof.Scalars
public import Idealize.ShloMosaic.PureOps.Ideal.Laws
public import Idealize.ShloMosaic.Lib.Pointwise

@[expose] public section

set_option maxRecDepth 16384

noncomputable section

namespace Cert.RefStep

open Cert.ReferenceIdeal Cert.ReferenceIdeal.Gen Cert.Spec Cert.Scalars Idealize.ShloMosaic Idealize.ShloMosaic.Pointwise

/-- One step of the choice: a later entry is taken if it is strictly larger. -/
theorem choose (v e : EReal) (i k : BitVec 32) (h : i.slt k = true) :
    reducer_argmax_f32_i32 (F := Ideal) (v, i) (e, k) = (if v < e then e else v, if v < e then k else i) := by
  simp only [reducer_argmax_f32_i32, Ideal.cmpf_def, Ideal.cmp, IntOp.ori, IntOp.andi, IntOp.cmpi, Scalar.select, h]
  rcases lt_trichotomy v e with q | q | q
  · simp [q, q.le, not_lt_of_gt q, q.ne]
  · simp [q]
  · simp [q, not_lt_of_gt q, q.ne']

/-- The first step replaces the least value. -/
theorem choose_first (e : EReal) : reducer_argmax_f32_i32 (F := Ideal) (⊥, 0#32) (e, 0#32) = (e, 0#32) := by
  simp [reducer_argmax_f32_i32, Ideal.cmpf_def, Ideal.cmp, IntOp.ori, IntOp.andi, IntOp.cmpi, Scalar.select]

/-- The four steps. -/
theorem choose_four (e : Fin 4 → EReal) :
    (reducer_argmax_f32_i32 (F := Ideal) (reducer_argmax_f32_i32 (F := Ideal) (reducer_argmax_f32_i32 (F := Ideal)
      (reducer_argmax_f32_i32 (F := Ideal) (⊥, 0#32) (e 0, 0#32)) (e 1, 1#32)) (e 2, 2#32)) (e 3, 3#32)).2 = best e := by
  rw [choose_first]
  rw [choose (e 0) (e 1) 0#32 1#32 (by decide)]
  rw [choose _ (e 2) _ 2#32 (by split <;> decide)]
  rw [choose _ (e 3) _ 3#32 (by
    generalize (if e 0 < e 1 then e 1 else e 0) = m
    repeat' split
    all_goals decide)]
  rfl

/-- The float word of minus infinity. -/
theorem ofBits_bot : Ideal.ofBits .f32 0xFF800000#32 = ⊥ := by
  simp [Ideal.ofBits, Ideal.ieee]

/-- The position of an entry in the order of the table. -/
abbrev place (b : Fin 8) (d : Fin 32768) (c : Fin 4) : Fin S8x32768x4.numel := S8x32768x4.rowMajor (ix3 b d c)

theorem place_val (b : Fin 8) (d : Fin 32768) (c : Fin 4) : (place b d c).val = (b.val * 32768 + d.val) * 4 + c.val :=
  Shape.rowMajor_val_three _

/-- The last axis dropped from an entry's place. -/
theorem drop_at (b : Fin 8) (d : Fin 32768) (c : Fin 4) : reducesTo_S8x32768x4_S8x32768_d2.drop (ix3 b d c) = ix2 b d := by
  funext a
  match a with
  | ⟨0, _⟩ => rfl
  | ⟨1, _⟩ => rfl

/-- The entries that are folded for row `b`, variable `d`, are those of the four classes, in their order. -/
theorem fiber (b : Fin 8) (d : Fin 32768) :
    ((List.finRange S8x32768x4.numel).filter fun n => reducesTo_S8x32768x4_S8x32768_d2.drop (S8x32768x4.rowMajor.symm n) = ix2 b d)
      = (List.finRange 4).map (place b d) := by
  have p4 : ((List.finRange 4).map (place b d)).Pairwise (· < ·) := by
    rw [List.pairwise_map]
    refine (List.pairwise_lt_finRange 4).imp fun {c e} h => ?_
    rw [Fin.lt_def, place_val, place_val]
    have := Fin.lt_def.1 h
    omega
  have pn : ((List.finRange S8x32768x4.numel).filter fun n => reducesTo_S8x32768x4_S8x32768_d2.drop (S8x32768x4.rowMajor.symm n) = ix2 b d).Pairwise (· < ·) :=
    (List.pairwise_lt_finRange _).filter _
  refine List.Perm.eq_of_pairwise (le := (· < ·)) (fun _ _ _ _ h h' => absurd h' (not_lt_of_gt h)) pn p4 ?_
  refine (List.perm_ext_iff_of_nodup (pn.imp fun h => ne_of_lt h) (p4.imp fun h => ne_of_lt h)).2 fun n => ?_
  simp only [List.mem_filter, List.mem_finRange, true_and, decide_eq_true_eq, List.mem_map]
  constructor
  · intro h
    obtain ⟨b', d', c, e⟩ : ∃ (b' : Fin 8) (d' : Fin 32768) (c : Fin 4), S8x32768x4.rowMajor.symm n = ix3 b' d' c :=
      ⟨_, _, _, eq_ix3 _⟩
    rw [e, drop_at] at h
    have h0 : b' = b := congrFun h 0
    have h1 : d' = d := congrFun h 1
    refine ⟨c, ?_⟩
    rw [← h0, ← h1, place, ← e, Equiv.apply_symm_apply]
  · rintro ⟨c, rfl⟩
    rw [place, Equiv.symm_apply_apply, drop_at]

/-- The arg max over the classes is the first class at which the largest value stands. -/
theorem argmax_at (l : FVec Ideal S8x32768x4 .f32) (b : Fin 8) (d : Fin 32768) :
    argmax l (ix2 b d) = best fun c => l (ix3 b d c) := by
  unfold argmax
  rw [Ideal.argReduce_eq_reduce2]
  unfold Host.reduce2
  dsimp only
  rw [fiber, List.foldl_map]
  simp only [place, Equiv.symm_apply_apply]
  have i0 : ∀ c : Fin 4, iotaInDim S8x32768x4 32 2 (ix3 b d c) = word c := fun _ => rfl
  have c0 : constant (F := Ideal) S_ .f32 0xFF800000#32 (Shape.Idx.first h_S_) = (⊥ : EReal) := ofBits_bot
  have n0 : constantI S_ 32 0#32 (Shape.Idx.first h_S_) = 0#32 := rfl
  have f4 : List.finRange 4 = [0, 1, 2, 3] := rfl
  rw [c0, n0, f4]
  simp only [List.foldl_cons, List.foldl_nil, i0]
  exact choose_four fun c => l (ix3 b d c)

end Cert.RefStep

end
-- ==== Proof.RefSoft.lean ====
/- The reference's logits and its log-softmax at an index, over the extended reals. -/
module

public import proofs.«01_k».proof.Proof.RefScatter
public import proofs.«01_k».proof.Proof.RefArgmax

@[expose] public section

set_option maxRecDepth 16384

noncomputable section

namespace Cert.RefStep

open Cert.ReferenceIdeal Cert.ReferenceIdeal.Gen Cert.Spec Cert.Scalars Idealize.ShloMosaic Idealize.ShloMosaic.Pointwise

/-- The weights, variable by variable and class by class. -/
abbrev weights (W : FVec Ideal S32768x4 .f32) (d : Fin 32768) (c : Fin 4) : EReal := W (ix2 d c)

theorem spread_at (W : FVec Ideal S32768x4 .f32) (b : Fin 8) (d : Fin 32768) (c : Fin 4) : spread W (ix3 b d c) = W (ix2 d c) := by
  pointwise [spread]

/-- The float word of two. -/
theorem ofBits_two : Ideal.ofBits .f32 0x40000000#32 = ((2 : ℝ) : EReal) := by
  simp [Ideal.ofBits, Ideal.ieee]
  rw [← EReal.coe_mul]
  norm_num

/-- The gradient is half the weight. -/
theorem grad_at (W : FVec Ideal S32768x4 .f32) (b : Fin 8) (d : Fin 32768) (c : Fin 4) : grad W (ix3 b d c) = half (W (ix2 d c)) := by
  pointwise [grad, spread_at]
  rw [ofBits_two, Ideal.div, if_neg (by norm_num), ← EReal.coe_inv, half]
  norm_num

/-- The logits. -/
theorem logits_at (W : FVec Ideal S32768x4 .f32) (x : IVec S8x32768 32) (hx : ∀ d, (x (ix2 0 d)).toNat < 4) (b : Fin 8) (d : Fin 32768) (c : Fin 4) :
    logits W x (ix3 b d c) = logit (weights W) (fun d => x (ix2 0 d)) b d c := by
  show (grad W (ix3 b d c) - held (grad W) x (ix3 b d c)) - sizes x (ix3 b d c) = _
  rw [grad_at, held_at _ x hx, sizes_at x hx, logit, change]
  simp only [grad_at]
  split
  · rw [sub_zero]
  · rfl

/-- The largest of four entries, folded from minus infinity. -/
theorem fold_four (f : Fin 4 → EReal) : (Finset.univ : Finset (Fin 4)).fold max ⊥ f = top f := by
  rw [show (Finset.univ : Finset (Fin 4)) = {0, 1, 2, 3} from rfl, Finset.fold_insert (by decide), Finset.fold_insert (by decide),
    Finset.fold_insert (by decide), Finset.fold_singleton, max_bot_right, top, max_assoc]

/-- The largest of the four classes, started at minus infinity. -/
theorem largest_at (l : FVec Ideal S8x32768x4 .f32) (b : Fin 8) (d : Fin 32768) :
    Host.reduce FloatOps.maximumf l (constant S_ .f32 0xFF800000#32) reducesTo_S8x32768x4_S8x32768_d2 h_S_ (ix2 b d) = top fun e => l (ix3 b d e) := by
  have h : S8x32768x4.Reduces [2] S8x32768 := by decide
  have e : ∀ c : Fin 4, h.lift (ix2 b d) c = ix3 b d c := fun c => by
    funext a
    match a with
    | ⟨0, _⟩ => rfl
    | ⟨1, _⟩ => rfl
    | ⟨2, _⟩ => rfl
  have c0 : constant (F := Ideal) S_ .f32 0xFF800000#32 (Shape.Idx.first h_S_) = (⊥ : EReal) := ofBits_bot
  rw [Host.reduce_eq_fold_single FloatOps.maximumf l _ reducesTo_S8x32768x4_S8x32768_d2 h h_S_ (ix2 b d), c0]
  rw [show l ∘ h.lift (ix2 b d) = fun c : Fin 4 => l (ix3 b d c) from funext fun c => congrArg l (e c)]
  exact fold_four _

/-- The entries less the numbers `M`, not below minus infinity. -/
def lessBy (l : FVec Ideal S8x32768x4 .f32) (M : FVec Ideal S8x32768 .f32) : FVec Ideal S8x32768x4 .f32 :=
  subf l (broadcastInDim S8x32768x4 ![0, 1, 2] bcast_S8x32768x1_S8x32768x4_0_1_2 (broadcastInDim S8x32768x1 ![0, 1] bcast_S8x32768_S8x32768x1_0_1
    (maximumf (broadcastInDim S8x32768 ![] bcast_S_S8x32768 (constant S_ .f32 0xFF800000#32)) M)))

/-- They are those entries. -/
theorem lessBy_at (l : FVec Ideal S8x32768x4 .f32) (M : FVec Ideal S8x32768 .f32) (b : Fin 8) (d : Fin 32768) (c : Fin 4) :
    lessBy l M (ix3 b d c) = l (ix3 b d c) - M (ix2 b d) := by
  pointwise [lessBy]
  rw [ofBits_bot, max_bot_left]

/-- The entries less the largest. -/
theorem shifted_at (l : FVec Ideal S8x32768x4 .f32) (b : Fin 8) (d : Fin 32768) (c : Fin 4) :
    shifted l (ix3 b d c) = l (ix3 b d c) - top fun e => l (ix3 b d e) :=
  (lessBy_at l _ b d c).trans (congrArg (l (ix3 b d c) - ·) (largest_at l b d))

/-- The logarithm of the softmax. -/
theorem logSoftmax_at (l : FVec Ideal S8x32768x4 .f32) (b : Fin 8) (d : Fin 32768) (c : Fin 4) :
    logSoftmax l (ix3 b d c) = Spec.logSoftmax (fun e => l (ix3 b d e)) c := by
  pointwise [logSoftmax, shifted_at]
  rw [Spec.logSoftmax, Fin.sum_univ_four]

/-- The linear energy: its sum over the classes keeps the class that is held. -/
theorem energy_at (W : FVec Ideal S32768x4 .f32) (x : IVec S8x32768 32) (hx : ∀ d, (x (ix2 0 d)).toNat < 4) (b : Fin 8) :
    energy W x (ix1 b) = Spec.energy (weights W) (fun d => x (ix2 0 d)) := by
  pointwise [energy, spread_at]
  simp only [hot_at x hx]
  refine Finset.sum_congr rfl fun e _ => ?_
  obtain ⟨c, hc⟩ := exists_word (hx e)
  simp only [hc, word_inj, pick_word, ite_mul, one_mul, zero_mul, Finset.sum_ite_eq, Finset.mem_univ, if_true]

/-- The log-probability of the classes `z`. -/
theorem logProb_at (l : FVec Ideal S8x32768x4 .f32) (z : IVec S8x32768 32) (hz : ∀ b d, (z (ix2 b d)).toNat < 4) (b : Fin 8) :
    logProb l z (ix1 b) = ∑ d, pick (z (ix2 b d)) (Spec.logSoftmax fun e => l (ix3 b d e)) := by
  pointwise [logProb]
  refine Finset.sum_congr rfl fun e _ => ?_
  have r : broadcastInDim S8x32768x1 ![0, 1] bcast_S8x32768_S8x32768x1_0_1 z (ix3 b e 0) = z (ix2 b e) := by pointwise
  rw [take_at _ _ b e (by rw [r]; exact hz b e), r]
  simp only [logSoftmax_at]

end Cert.RefStep

end
-- ==== Proof.RefMix.lean ====
/- The reference's mixture of the proposal and the state: with an acceptance of 1 it is the proposal, with 0 the state. -/
module

public import proofs.«01_k».proof.Proof.RefIndex

@[expose] public section

set_option maxRecDepth 16384

noncomputable section

namespace Cert.RefStep

open Cert.ReferenceIdeal Cert.ReferenceIdeal.Gen Cert.Spec Cert.Scalars Idealize.ShloMosaic Idealize.ShloMosaic.Pointwise

/-- A word that goes to the extended reals and back is the word again. -/
theorem word_and_back (k : BitVec 32) : Ideal.fptosi 32 ((k.toInt : ℝ) : EReal) = k := by
  rw [Ideal.fptosi, Ideal.toIntClamped_coe, Int.floor_intCast, Int.ceil_intCast, ite_self]
  have h := BitVec.le_toInt k
  have h' := BitVec.toInt_lt (x := k)
  rw [max_eq_right (le_min (by norm_num) (by norm_num at h ⊢; omega)), min_eq_right (by norm_num at h' ⊢; omega), BitVec.ofInt_toInt]

/-- The mixture. -/
theorem mixed_at (r u : FVec Ideal S8 .f32) (z x : IVec S8x32768 32) (hz : ∀ b d, (z (ix2 b d)).toNat < 4) (hx : ∀ b d, (x (ix2 b d)).toNat < 4)
    (b : Fin 8) (d : Fin 32768) :
    mixed (accepted r u) z x (ix2 b d) = if u (ix1 b) < r (ix1 b) then z (ix2 b d) else x (ix2 b d) := by
  pointwise [mixed, accepted]
  by_cases h : u (ix1 b) < r (ix1 b)
  · have e : FloatOps.uitofp (F := Ideal) .f32 (BitVec.ofBool true) = (1 : EReal) := by
      show (((1#1 : BitVec 1).toNat : ℝ) : EReal) = 1
      norm_num
    simp only [h, decide_true, if_true]
    rw [e, mul_one, show (1 : EReal) - 1 = 0 from EReal.sub_self (EReal.coe_ne_top 1) (EReal.coe_ne_bot 1), mul_zero, add_zero]
    exact word_and_back _
  · have e : FloatOps.uitofp (F := Ideal) .f32 (BitVec.ofBool false) = (0 : EReal) := by
      show (((0#1 : BitVec 1).toNat : ℝ) : EReal) = 0
      norm_num
    simp only [h, decide_false, if_false]
    rw [e, mul_zero, sub_zero, mul_one, zero_add]
    exact word_and_back _

end Cert.RefStep

end
-- ==== Proof.RefStep.lean ====
/- One step of the reference is one step of the specification. -/
module

public import proofs.«01_k».proof.Proof.RefSoft
public import proofs.«01_k».proof.Proof.RefMix

@[expose] public section

set_option maxRecDepth 16384

noncomputable section

namespace Cert.RefStep

open Cert.ReferenceIdeal Cert.ReferenceIdeal.Gen Cert.Spec Cert.Scalars Idealize.ShloMosaic Idealize.ShloMosaic.Pointwise

variable (W : FVec Ideal S32768x4 .f32) (g : FVec Ideal S8x32768x4 .f32) (u : FVec Ideal S8 .f32) (x z : IVec S8x32768 32)

/-- The noise, coordinate by coordinate. -/
abbrev noises (b : Fin 8) (d : Fin 32768) (c : Fin 4) : EReal := g (ix3 b d c)

/-- A table of words, row by row. -/
abbrev rows (b : Fin 8) (d : Fin 32768) : BitVec 32 := x (ix2 b d)

/-- The proposal. -/
theorem proposal_at (hx : ∀ b d, (x (ix2 b d)).toNat < 4) (b : Fin 8) (d : Fin 32768) :
    proposal W g x (ix2 b d) = propose (weights W) (noises g) (rows x) b d := by
  unfold proposal
  rw [argmax_at, propose]
  refine congrArg best (funext fun c => ?_)
  show g (ix3 b d c) + logits W x (ix3 b d c) = _
  rw [logits_at W x (hx 0), add_comm]

/-- The logarithm of the acceptance ratio, under the exponential. -/
theorem ratio_at (hx : ∀ b d, (x (ix2 b d)).toNat < 4) (hz : ∀ b d, (z (ix2 b d)).toNat < 4) (b : Fin 8) :
    ratio W x z (ix1 b) = Ideal.exp (logAccept (weights W) (rows x) (rows z) b) := by
  have e : ratio W x z (ix1 b)
      = Ideal.exp (((energy W z (ix1 b) - energy W x (ix1 b)) + logProb (logits W z) x (ix1 b)) - logProb (logits W x) z (ix1 b)) := by
    unfold ratio
    generalize energy W z = p
    generalize energy W x = q
    generalize logProb (logits W z) x = r
    generalize logProb (logits W x) z = s
    rfl
  rw [e, energy_at W z (hz 0), energy_at W x (hx 0), logProb_at _ x hx, logProb_at _ z hz]
  simp only [logits_at W x (hx 0), logits_at W z (hz 0)]
  rfl

/-- One step. -/
theorem step_at (hx : ∀ b d, (x (ix2 b d)).toNat < 4) (b : Fin 8) (d : Fin 32768) :
    step W g u x (ix2 b d) = Spec.step (weights W) (noises g) (fun b => u (ix1 b)) (rows x) b d := by
  have hp : ∀ b d, (proposal W g x (ix2 b d)).toNat < 4 := fun b d => by
    rw [proposal_at W g x hx]
    exact best_class _
  have e : rows (proposal W g x) = propose (weights W) (noises g) (rows x) := funext fun b => funext fun d => proposal_at W g x hx b d
  unfold step
  rw [mixed_at _ _ _ _ hp hx, ratio_at W x _ hx hp, e, proposal_at W g x hx, Spec.step]

end Cert.RefStep

end
-- ==== Proof.RefValue.lean ====
/- What the reference returns: the classes after ten steps. -/
module

public import proofs.«01_k».proof.Proof.RefRun
public import proofs.«01_k».proof.Proof.RefRead
public import proofs.«01_k».proof.Proof.RefStep
public import proofs.«01_k».proof.Proof.Chain
public import Idealize.ShloMosaic.Adequacy
public import Idealize.ShloMosaic.Init

@[expose] public section

set_option maxRecDepth 16384

noncomputable section

namespace Cert.Ref

open Cert.ReferenceIdeal Cert.ReferenceIdeal.Gen Cert.Lines Idealize.ShloMosaic Idealize.ShloMosaic.StableHlo
open Idealize.ShloMosaic.TcCoe Idealize.SL.Sem

variable {F : FTy → Type} [FloatOps F] (m : (ℓ : Loc nD τ sig) → Buf (Elt F) ℓ) (ρ : Dev nD → PrngReg)

/-- The array of the classes before step `k`. -/
def states (W : FVec F S32768x4 .f32) (x : IVec S8x32768 32) : ℕ → IVec S8x32768 32
  | 0 => x
  | k + 1 => RefStep.step W (Rng.noiseOf F k) (Rng.acceptOf F k) (states W x k)

/-- What the loop carries before trip `k`: the weights, the key, the classes. -/
theorem carried (c : Dev nD) : ∀ k, atK m k c (Proc.devRef .tc main_v7_0) = launchContents m c (Proc.devRef .tc main_arg1)
    ∧ atK m k c (Proc.devRef .tc main_v7_3) = Rng.key k
    ∧ atK m k c (Proc.devRef .tc main_v7_4) = states (launchContents m c (Proc.devRef .tc main_arg1)) (launchContents m c (Proc.devRef .tc main_arg0)) k
  | 0 => by
    simp only [atK, atTrip_zero, entryContents, afterL_cons, afterL_nil]
    refine ⟨?_, ?_, ?_⟩
    · after_reads_simp
      try rfl
    · after_reads_simp
      try rfl
    · after_reads_simp
      try rfl
  | k + 1 => by
    obtain ⟨h0, h3, h4⟩ := carried c k
    obtain ⟨e3, e4⟩ := RefStep.read_body (after condOps (atK m k c))
    rw [show atK m (k + 1) c = afterL bodyItems (after condOps (atK m k c)) from rfl, after_body, (copies _).1, (copies _).2.2.1, (copies _).2.2.2,
      e3, e4, after_kept body_line _ _ (by decide), cond_kept _ _ (by decide), cond_kept _ _ (by decide), cond_kept _ _ (by decide), h0, h3, h4]
    exact ⟨rfl, rfl, rfl⟩

/-- After the last trip only the condition is asked once more. -/
theorem final_eq (c : Dev nD) (b : DevRef τ sig) (hb : num b < 19) : finalContents condOps [entryOps] bodyItems [] 10 m c b = atK m 10 c b := by
  show after condOps (atK m 10 c) b = _
  exact cond_kept _ _ hb

/-- Every run of the reference ends with the classes after ten steps, with its arguments as they were and no semaphore counting. -/
theorem run_states : θ_run (defs (F := F)) (onTc (τ := τ) (main (F := F))) ⟨m, fun _ => 0, ρ⟩ (fun r => (∀ c : Dev nD,
      r.2.mem ((c.tc : Thread nD τ).loc main_v7_4)
          = states (m ((c.tc : Thread nD τ).loc main_arg1)) (m ((c.tc : Thread nD τ).loc main_arg0)) 10
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h c main_v7_4 rfl).trans (final_eq m c _ (by decide))).trans (carried m c 10).2.2,
      ((h c main_arg0 rfl).trans (final_eq m c _ (by decide))).trans (args_kept m c 10).1,
      ((h c main_arg1 rfl).trans (final_eq m c _ (by decide))).trans (args_kept m c 10).2⟩,
    Idealize.ShloMosaic.sem_eq_zero_of_no_sems (by decide) r.2⟩) (run_fold m ρ)

/-- The classes before step `k`, coordinate by coordinate. -/
theorem states_at (W : FVec Ideal S32768x4 .f32) (x : IVec S8x32768 32) (hx : ∀ b d, (x (ix2 b d)).toNat < 4) :
    ∀ k, RefStep.rows (states W x k) = Spec.chain (RefStep.weights W) (RefStep.rows x) k
  | 0 => rfl
  | k + 1 => by
    have ih := states_at W x hx k
    have hk : ∀ b d, (states W x k (ix2 b d)).toNat < 4 := fun b d => by
      rw [show states W x k (ix2 b d) = RefStep.rows (states W x k) b d from rfl, ih]
      exact Spec.chain_class _ _ hx k b d
    funext b d
    show RefStep.step W _ _ (states W x k) (ix2 b d) = _
    rw [RefStep.step_at _ _ _ _ hk, ih, Spec.chain]

end Cert.Ref

end
-- ==== Proof.Classes.lean ====
/- The precondition, read entry by entry: every class is 0, 1, 2 or 3. -/
module

public import proofs.«01_k».proof.Proof.Gen.Pre_classes
public import Idealize.ShloMosaic.Lib.Affine
public import Idealize.ShloMosaic.Lib.ReduceAll
public import Idealize.ShloMosaic.PureOps.Ideal

@[expose] public section

noncomputable section

namespace Cert.Classes

open Cert.Pre_classes Idealize.ShloMosaic

/-- A signed word between 0 and 3 is below 4. -/
theorem class_of_between (a : BitVec 32) (h : IntOp.andi (IntOp.cmpi .sge a 0#32) (IntOp.cmpi .sle a 3#32) = 1#1) : a.toNat < 4 := by
  have h' := IntOp.andi_eq_one.mp h
  have h0 := IntOp.cmpi_sge.1 h'.1
  have h3 := IntOp.cmpi_sle.1 h'.2
  have e0 : (0#32 : BitVec 32).toInt = 0 := by decide
  have e3 : (3#32 : BitVec 32).toInt = 3 := by decide
  have ea := BitVec.toInt_eq_toNat_cond a
  have := a.isLt
  rw [e0] at h0
  rw [e3] at h3
  split at ea <;> omega

/-- The precondition says it of every entry. -/
theorem class_of_pre {x : IVec S8x32768 32} {W : FVec Ideal S32768x4 .f32} (h : Cert.Pre_classes.fn (F := Ideal) x W = fun _ => 1#1) (i : S8x32768.Idx) :
    (x i).toNat < 4 :=
  class_of_between _ (Host.reduce_andi_all _ _ _ _ _ (congrFun h (Shape.Idx.first Gen.h_S_)) i)

end Cert.Classes

end
-- ==== Proof.lean ====
/- The proof of the certificate's claims. Each program runs and leaves its arguments and its semaphores alone; the kernel with
   the named literal is the kernel; and over the extended reals the kernel and the reference return the same classes, since each
   returns what ten steps of the chain of `Spec` make of its arguments. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_classes
public import proofs.«01_k».proof.Proof.FloatFrame
public import proofs.«01_k».proof.Proof.KernelValue
public import proofs.«01_k».proof.Proof.RefValue
public import proofs.«01_k».proof.Proof.Classes
public import Idealize.ShloMosaic.Adequacy
public import Idealize.ShloMosaic.Init

@[expose] public section

noncomputable section

namespace Cert.Proof

open Idealize.ShloMosaic Idealize.SL.Sem

/-- The kernel runs, and leaves its arguments and its semaphores alone. -/
theorem frame_kernel : Cert.quiescent_Kernel (hKernel := Cert.Kernel.Gen.facts) := fun m g _ =>
  Cert.Kernel.Gen.frame m g

/-- So does the kernel with the named literal. -/
theorem frame_ideal : Cert.quiescent_KernelIdeal (hKernelIdeal := Cert.KernelIdeal.Gen.facts) := fun m g _ =>
  Cert.KernelIdeal.Gen.frame m g

/-- So does the reference. -/
theorem frame_reference : Cert.quiescent_ReferenceIdeal (hReferenceIdeal := Cert.ReferenceIdeal.Gen.facts) := fun m g _ =>
  (θ_run Cert.ReferenceIdeal.defs _ _).mono (fun _ h => ⟨fun c => (h.1 c).2, h.2⟩) (Cert.Ref.run_states m g)

/-- The named literal is the literal, and the value it names is the one stated. -/
theorem preserved : Cert.preserves_Kernel_KernelIdeal :=
  IdealRules.named_const.statement Cert.KernelIdeal.κ "inv_step" .f32 0x40A00000#32 ((67108864 / 13421773 : ℝ) : EReal) rfl

/-- Two arrays of classes are equal when they are at every row and variable. -/
theorem classes_ext {x y : IVec Cert.Pre_classes.S8x32768 32} (h : ∀ (b : Fin 8) (d : Fin 32768), x (ix2 b d) = y (ix2 b d)) : x = y :=
  funext fun i => by
    have e : i = ix2 (i 0) (i 1) := funext fun a => by
      match a with
      | ⟨0, _⟩ => rfl
      | ⟨1, _⟩ => rfl
    rw [e]; exact h _ _

/-- The kernel's result is the reference's after ten steps. -/
theorem results (m : (ℓ : Loc Cert.KernelIdeal.nD Cert.KernelIdeal.τ Cert.KernelIdeal.sig) → Buf (Elt Ideal) ℓ) (c : Dev Cert.KernelIdeal.nD)
    (x : IVec Cert.Pre_classes.S8x32768 32) (W : FVec Ideal Cert.Pre_classes.S32768x4 .f32)
    (hx : m ((c.tc : Thread Cert.KernelIdeal.nD Cert.KernelIdeal.τ).loc Cert.KernelIdeal.main_arg0) = x)
    (hW : m ((c.tc : Thread Cert.KernelIdeal.nD Cert.KernelIdeal.τ).loc Cert.KernelIdeal.main_arg1) = W)
    (hc : ∀ b d, (x (ix2 b d)).toNat < 4) :
    (Cert.Ref.states W x 10 : IVec Cert.Pre_classes.S8x32768 32) = Cert.KernelArray.result m c :=
  classes_ext fun b d => by
    rw [Cert.KernelValue.result_at m c b d, hx, hW]
    exact congrFun (congrFun (Cert.Ref.states_at W x hc 10) b) d

/-- Over the extended reals the kernel and the reference return the same. -/
theorem equal : Cert.algebraic_KernelIdeal_ReferenceIdeal_pre_classes (hKernelIdeal := Cert.KernelIdeal.Gen.facts)
    (hReferenceIdeal := Cert.ReferenceIdeal.Gen.facts) (hPre_classes := Cert.Pre_classes.Gen.facts) := fun m g m' g' hp ha =>
  ⟨fun c => Cert.KernelArray.result m c, Cert.KernelValue.run m g,
    (θ_run Cert.ReferenceIdeal.defs _ _).mono (fun _ h c => ⟨(h.1 c).1.trans
      (results m c _ _ (ha c).1.symm (ha c).2.symm fun b d => by
        rw [(ha c).1]; exact Cert.Classes.class_of_pre (hp c) (ix2 b d)), (h.1 c).2⟩) (Cert.Ref.run_states m' g')⟩

/-- Everything the certificate claims. -/
theorem claim : Cert.Claim :=
  ⟨Cert.Kernel.Gen.facts, Cert.KernelIdeal.Gen.facts, Cert.ReferenceIdeal.Gen.facts, Cert.Pre_classes.Gen.facts,
    frame_kernel, frame_ideal, fun m g _ => Cert.KernelIdeal.Gen.frame m g, frame_reference, fun m g _ => frame_reference m g trivial, preserved, equal⟩

end Cert.Proof

end
